-- ==== Defs.lean ====
def Pre_Kernel [hPre_sorted_by_token : Cert.Pre_sorted_by_token.Facts] (m : (ℓ : Loc Cert.Kernel.nD Cert.Kernel.τ Cert.Kernel.sig) → Buf (Elt Bits) ℓ) : Prop :=
  ∀ c : Dev Cert.Kernel.nD,
    (Cert.Pre_sorted_by_token.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_sorted_by_token : Cert.Pre_sorted_by_token.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_by_token.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_by_token [hPre_sorted_by_token : Cert.Pre_sorted_by_token.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_by_token.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_sorted_by_token : Cert.Pre_sorted_by_token.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_sorted_by_token : Cert.Pre_sorted_by_token.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_sorted_by_token [hReferenceIdeal : Cert.ReferenceIdeal.Facts] [hPre_sorted_by_token : Cert.Pre_sorted_by_token.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_by_token m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_sorted_by_token : Cert.Pre_sorted_by_token.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_sorted_by_token : Cert.Pre_sorted_by_token.Facts),
    quiescent_Kernel (hKernel := hKernel) (hPre_sorted_by_token := hPre_sorted_by_token)
    ∧ quiescent_KernelIdeal (hKernelIdeal := hKernelIdeal) (hPre_sorted_by_token := hPre_sorted_by_token)
    ∧ quiescent_ReferenceIdeal (hReferenceIdeal := hReferenceIdeal)
    ∧ quiescent_ReferenceIdeal_pre_sorted_by_token (hReferenceIdeal := hReferenceIdeal) (hPre_sorted_by_token := hPre_sorted_by_token)
    ∧ preserves_Kernel_KernelIdeal
    ∧ algebraic_KernelIdeal_ReferenceIdeal (hKernelIdeal := hKernelIdeal) (hReferenceIdeal := hReferenceIdeal) (hPre_sorted_by_token := hPre_sorted_by_token)
-- ==== Pre_sorted_by_token.lean ====
abbrev S2x1024x12288 : Shape := ⟨3, ![2, 1024, 12288]⟩
abbrev S2x1024 : Shape := ⟨2, ![2, 1024]⟩
abbrev S2048 : Shape := ⟨1, ![2048]⟩
abbrev S2049 : Shape := ⟨1, ![2049]⟩
abbrev S_ : Shape := ⟨0, ![]⟩
abbrev S2048x1 : Shape := ⟨2, ![2048, 1]⟩
abbrev S1 : Shape := ⟨1, ![1]⟩
abbrev S32 : Shape := ⟨1, ![32]⟩

class Facts : Prop where
  bcast_S_S2x1024 : S_.BroadcastsInDim S2x1024 (![] : Fin 0 → Fin S2x1024.rank)
  natLt_1_32 : 1 < 32
  reducesTo_S2x1024_S_d0_1 : S2x1024.ReducesTo [0, 1] S_
  h_S_ : 0 < S_.numel
  shapeCasts_S2x1024_S2048 : S2x1024.ShapeCasts S2048
  bcast_S_S2048 : S_.BroadcastsInDim S2048 (![] : Fin 0 → Fin S2048.rank)
  bcast_S2048_S2048x1_0 : S2048.BroadcastsInDim S2048x1 (![0] : Fin 1 → Fin S2048x1.rank)
  slices_S2049_S2048_0 : S2049.Slices ![0] S2048
  slices_S2049_S2048_1 : S2049.Slices ![1] S2048
  slices_S2049_S1_1 : S2049.Slices ![1] S1
  shapeCasts_S1_S_ : S1.ShapeCasts S_
  bcast_S_S32 : S_.BroadcastsInDim S32 (![] : Fin 0 → Fin S32.rank)
  slicesBy_S2049_S32_0s64 : S2049.SlicesBy (![0] : Fin 1 → Nat) ![64] S32
  slicesBy_S2049_S32_64s64 : S2049.SlicesBy (![64] : Fin 1 → Nat) ![64] S32
  reducesTo_S32_S_d0 : S32.ReducesTo [0] S_
  gather_S2048_S2048x1_S2048_n_0_n_n_0_1_1_wf : GatherDims.WF S2048 S2048x1 S2048 [] [0] [] [0] [] 1 ![1]

variable [Facts]

def gather_S2048_S2048x1_S2048_n_0_n_n_0_1_1 : GatherDims S2048 S2048x1 S2048 where
  offsetDims := []
  collapsedSliceDims := [0]
  operandBatchingDims := []
  startIndicesBatchingDims := []
  startIndexMap := [0]
  indexVectorDim := 1
  sliceSizes := ![1]
  wf := gather_S2048_S2048x1_S2048_n_0_n_n_0_1_1_wf
def fn_where {F : FTy → Type} [FloatOps F] (arg0 : IVec S32 1) (arg1 : IVec S_ 32) (arg2 : IVec S_ 32) : IVec S32 32 :=
  let v0 : IVec S_ 32 := id arg2
  let v1 : IVec S32 32 := broadcastInDim S32 ![] bcast_S_S32 arg1
  let v2 : IVec S32 32 := broadcastInDim S32 ![] bcast_S_S32 v0
  let v3 : IVec S32 32 := select arg0 v1 v2
  v3

def fn_part3 {F : FTy → Type} [FloatOps F] (main_v17 : IVec S2048 1) (main_v23 : IVec S2048 1) (main_v35 : IVec S2048 1) (main_v38 : IVec S_ 1) (main_v45 : IVec S32 32) (main_v48 : IVec S32 1) (main_v53 : IVec S32 32) (main_c_16 : IVec S_ 32) : IVec S2048 1 :=
  let main_v54 : IVec S32 32 := broadcastInDim S32 ![] bcast_S_S32 main_c_16
  let main_v55 : IVec S32 32 := muli main_v53 main_v54
  let main_v56 : IVec S32 32 := addi main_v45 main_v55
  let main_c_17 : IVec S_ 32 := constantI S_ 32 2048#32
  let main_v57 : IVec S32 32 := broadcastInDim S32 ![] bcast_S_S32 main_c_17
  let main_v58 : IVec S32 1 := cmpi .sle main_v56 main_v57
  let main_v59 : IVec S32 1 := ori main_v48 main_v58
  let main_v60 : IVec S2048 1 := andi main_v17 main_v23
  let main_v61 : IVec S2048 1 := andi main_v60 main_v35
  let main_v62 : IVec S2048 1 := broadcastInDim S2048 ![] bcast_S_S2048 main_v38
  let main_v63 : IVec S2048 1 := andi main_v61 main_v62
  let main_c_18 : IVec S_ 1 := constantI S_ 1 1#1
  let main_v64 : IVec S_ 1 := (fun x v => Host.reduce IntOp.andi x v reducesTo_S32_S_d0 h_S_) main_v59 main_c_18
  let main_v65 : IVec S2048 1 := broadcastInDim S2048 ![] bcast_S_S2048 main_v64
  let main_v66 : IVec S2048 1 := andi main_v63 main_v65
  main_v66

def fn_part2 {F : FTy → Type} [FloatOps F] (main_arg4 : IVec S2049 32) (main_v4 : IVec S_ 32) (main_v17 : IVec S2048 1) (main_v23 : IVec S2048 1) (main_v35 : IVec S2048 1) (main_v36 : IVec S1 32) : IVec S2048 1 :=
  let main_v37 : IVec S_ 32 := shapeCast S_ main_v36 shapeCasts_S1_S_
  let main_v38 : IVec S_ 1 := cmpi .sle main_v4 main_v37
  let main_v39 : IVec S32 32 := iotaInDim S32 32 0
  let main_c_10 : IVec S_ 32 := constantI S_ 32 0#32
  let main_v40 : IVec S32 32 := broadcastInDim S32 ![] bcast_S_S32 main_c_10
  let main_v41 : IVec S32 1 := cmpi .eq main_v39 main_v40
  let main_c_11 : IVec S_ 32 := constantI S_ 32 1#32
  let main_v42 : IVec S_ 32 := subi main_v4 main_c_11
  let main_c_12 : IVec S_ 32 := constantI S_ 32 0#32
  let main_v43 : IVec S32 32 := fn_where (F := F) main_v41 main_v42 main_c_12
  let main_v44 : IVec S32 32 := (Host.slice S32 ![0] ![64] · slicesBy_S2049_S32_0s64) main_arg4
  let main_v45 : IVec S32 32 := maxsi main_v44 main_v43
  let main_v46 : IVec S32 32 := (Host.slice S32 ![64] ![64] · slicesBy_S2049_S32_64s64) main_arg4
  let main_c_13 : IVec S_ 32 := constantI S_ 32 2048#32
  let main_v47 : IVec S32 32 := broadcastInDim S32 ![] bcast_S_S32 main_c_13
  let main_v48 : IVec S32 1 := cmpi .sge main_v46 main_v47
  let main_v49 : IVec S32 32 := subi main_v46 main_v45
  let main_c_14 : IVec S_ 32 := constantI S_ 32 7#32
  let main_v50 : IVec S32 32 := broadcastInDim S32 ![] bcast_S_S32 main_c_14
  let main_v51 : IVec S32 32 := addi main_v49 main_v50
  let main_c_15 : IVec S_ 32 := constantI S_ 32 3#32
  let main_v52 : IVec S32 32 := broadcastInDim S32 ![] bcast_S_S32 main_c_15
  let main_v53 : IVec S32 32 := Host.shrsi main_v51 main_v52
  let main_c_16 : IVec S_ 32 := constantI S_ 32 8#32
  fn_part3 (F := F) main_v17 main_v23 main_v35 main_v38 main_v45 main_v48 main_v53 main_c_16

def fn_part1 {F : FTy → Type} [FloatOps F] (main_arg4 : IVec S2049 32) (main_v0 : IVec S2048 32) (main_v4 : IVec S_ 32) (main_v12 : IVec S2048 32) (main_v17 : IVec S2048 1) : IVec S2048 1 :=
  let main_c_5 : IVec S_ 32 := constantI S_ 32 1#32
  let main_v18 : IVec S_ 32 := subi main_v4 main_c_5
  let main_v19 : IVec S2048 32 := broadcastInDim S2048 ![] bcast_S_S2048 main_v18
  let main_v20 : IVec S2048 1 := cmpi .sge main_v0 main_v19
  let main_c_6 : IVec S_ 32 := constantI S_ 32 0#32
  let main_v21 : IVec S2048 32 := broadcastInDim S2048 ![] bcast_S_S2048 main_c_6
  let main_v22 : IVec S2048 1 := cmpi .eq main_v12 main_v21
  let main_v23 : IVec S2048 1 := ori main_v20 main_v22
  let main_v24 : IVec S2048 32 := (extractStridedSlice S2048 ![0] · slices_S2049_S2048_0) main_arg4
  let main_v25 : IVec S2048 32 := (extractStridedSlice S2048 ![1] · slices_S2049_S2048_1) main_arg4
  let main_c_7 : IVec S_ 32 := constantI S_ 32 0#32
  let main_v26 : IVec S2048 32 := broadcastInDim S2048 ![] bcast_S_S2048 main_c_7
  let main_v27 : IVec S2048 1 := cmpi .sge main_v24 main_v26
  let main_c_8 : IVec S_ 32 := constantI S_ 32 2048#32
  let main_v28 : IVec S2048 32 := broadcastInDim S2048 ![] bcast_S_S2048 main_c_8
  let main_v29 : IVec S2048 1 := cmpi .sle main_v25 main_v28
  let main_v30 : IVec S2048 1 := andi main_v27 main_v29
  let main_v31 : IVec S2048 1 := cmpi .slt main_v24 main_v25
  let main_c_9 : IVec S_ 32 := constantI S_ 32 2048#32
  let main_v32 : IVec S2048 32 := broadcastInDim S2048 ![] bcast_S_S2048 main_c_9
  let main_v33 : IVec S2048 1 := cmpi .eq main_v25 main_v32
  let main_v34 : IVec S2048 1 := ori main_v31 main_v33
  let main_v35 : IVec S2048 1 := andi main_v30 main_v34
  let main_v36 : IVec S1 32 := (extractStridedSlice S1 ![1] · slices_S2049_S1_1) main_arg4
  fn_part2 (F := F) main_arg4 main_v4 main_v17 main_v23 main_v35 main_v36

def fn {F : FTy → Type} [FloatOps F] (main_arg0 : FVec F S2x1024x12288 .fp8e5m2) (main_arg1 : FVec F S2x1024 .f32) (main_arg2 : IVec S2x1024 32) (main_arg3 : IVec S2048 32) (main_arg4 : IVec S2049 32) : IVec S2048 1 :=
  let main_v0 : IVec S2048 32 := iotaInDim S2048 32 0
  let main_c : IVec S_ 32 := constantI S_ 32 0#32
  let main_v1 : IVec S2x1024 32 := broadcastInDim S2x1024 ![] bcast_S_S2x1024 main_c
  let main_v2 : IVec S2x1024 1 := cmpi .eq main_arg2 main_v1
  let main_v3 : IVec S2x1024 32 := (extui 32 · natLt_1_32) main_v2
  let main_c_0 : IVec S_ 32 := constantI S_ 32 0#32
  let main_v4 : IVec S_ 32 := (fun x v => Host.reduce IntOp.addi x v reducesTo_S2x1024_S_d0_1 h_S_) main_v3 main_c_0
  let main_v5 : IVec S2048 32 := shapeCast S2048 main_arg2 shapeCasts_S2x1024_S2048
  let main_c_1 : IVec S_ 32 := constantI S_ 32 0#32
  let main_v6 : IVec S2048 32 := broadcastInDim S2048 ![] bcast_S_S2048 main_c_1
  let main_v7 : IVec S2048 1 := cmpi .slt main_arg3 main_v6
  let main_c_2 : IVec S_ 32 := constantI S_ 32 2048#32
  let main_v8 : IVec S2048 32 := broadcastInDim S2048 ![] bcast_S_S2048 main_c_2
  let main_v9 : IVec S2048 32 := addi main_arg3 main_v8
  let main_v10 : IVec S2048 32 := select main_v7 main_v9 main_arg3
  let main_v11 : IVec S2048x1 32 := broadcastInDim S2048x1 ![0] bcast_S2048_S2048x1_0 main_v10
  let main_v12 : IVec S2048 32 := (fun x i => Host.gather gather_S2048_S2048x1_S2048_n_0_n_n_0_1_1 x i) main_v5 main_v11
  let main_c_3 : IVec S_ 32 := constantI S_ 32 0#32
  let main_v13 : IVec S2048 32 := broadcastInDim S2048 ![] bcast_S_S2048 main_c_3
  let main_v14 : IVec S2048 1 := cmpi .sge main_arg3 main_v13
  let main_c_4 : IVec S_ 32 := constantI S_ 32 2048#32
  let main_v15 : IVec S2048 32 := broadcastInDim S2048 ![] bcast_S_S2048 main_c_4
  let main_v16 : IVec S2048 1 := cmpi .slt main_arg3 main_v15
  let main_v17 : IVec S2048 1 := andi main_v14 main_v16
  fn_part1 (F := F) main_arg4 main_v0 main_v4 main_v12 main_v17
-- ==== Kernel.lean ====
abbrev S2x1024x12288 : Shape := ⟨3, ![2, 1024, 12288]⟩
abbrev S2x1024 : Shape := ⟨2, ![2, 1024]⟩
abbrev S2048 : Shape := ⟨1, ![2048]⟩
abbrev S2049 : Shape := ⟨1, ![2049]⟩
abbrev S16x128 : Shape := ⟨2, ![16, 128]⟩
abbrev S256x96x8x128 : Shape := ⟨4, ![256, 96, 8, 128]⟩
abbrev S2x2048x3072 : Shape := ⟨3, ![2, 2048, 3072]⟩
abbrev S256x24x8x128 : Shape := ⟨4, ![256, 24, 8, 128]⟩
abbrev S4x9x24x8x128 : Shape := ⟨5, ![4, 9, 24, 8, 128]⟩
abbrev S8x24x8x128 : Shape := ⟨4, ![8, 24, 8, 128]⟩
abbrev S2048x128 : Shape := ⟨2, ![2048, 128]⟩
abbrev S2x17x128 : Shape := ⟨3, ![2, 17, 128]⟩
abbrev S2176 : Shape := ⟨1, ![2176]⟩
abbrev S2x8 : Shape := ⟨2, ![2, 8]⟩
abbrev S4 : Shape := ⟨1, ![4]⟩
abbrev S_ : Shape := ⟨0, ![]⟩
abbrev S1x1 : Shape := ⟨2, ![1, 1]⟩
abbrev S1x256x3072 : Shape := ⟨3, ![1, 256, 3072]⟩
abbrev S256x3072 : Shape := ⟨2, ![256, 3072]⟩
abbrev S1 : Shape := ⟨1, ![1]⟩
abbrev S1x16x128 : Shape := ⟨3, ![1, 16, 128]⟩
abbrev S1x128 : Shape := ⟨2, ![1, 128]⟩
abbrev S1x1x128 : Shape := ⟨3, ![1, 1, 128]⟩
abbrev S128 : Shape := ⟨1, ![128]⟩
abbrev S128x128 : Shape := ⟨2, ![128, 128]⟩
abbrev S1x2x1024 : Shape := ⟨3, ![1, 2, 1024]⟩
abbrev S1x1x1 : Shape := ⟨3, ![1, 1, 1]⟩
abbrev S32x128 : Shape := ⟨2, ![32, 128]⟩
abbrev S1x32x128 : Shape := ⟨3, ![1, 32, 128]⟩
abbrev S4x8x128 : Shape := ⟨3, ![4, 8, 128]⟩
abbrev S4x1x8x128 : Shape := ⟨4, ![4, 1, 8, 128]⟩
abbrev S1x8x24x8x128 : Shape := ⟨5, ![1, 8, 24, 8, 128]⟩
abbrev S9x24x8x128 : Shape := ⟨4, ![9, 24, 8, 128]⟩
abbrev S1x9x24x8x128 : Shape := ⟨5, ![1, 9, 24, 8, 128]⟩
abbrev S8x128 : Shape := ⟨2, ![8, 128]⟩
abbrev S49152x128 : Shape := ⟨2, ![49152, 128]⟩
abbrev S6912x128 : Shape := ⟨2, ![6912, 128]⟩
abbrev S256x8x96x128 : Shape := ⟨4, ![256, 8, 96, 128]⟩
abbrev S2048x12288 : Shape := ⟨2, ![2048, 12288]⟩

abbrev nBuf : Space → Nat
  | .hbm => 9
  | .vmem => 9
  | .smem => 3
  | _ => 0

abbrev bufTy : (tb : Table) → Fin (tcTables nBuf tb) → BufTy
  | .hbm, ⟨0, _⟩ => ⟨S2x1024x12288, .fp8e5m2⟩
  | .hbm, ⟨1, _⟩ => ⟨S2x1024, .f32⟩
  | .hbm, ⟨2, _⟩ => ⟨S2x1024, .i32⟩
  | .hbm, ⟨3, _⟩ => ⟨S2048, .i32⟩
  | .hbm, ⟨4, _⟩ => ⟨S2049, .i32⟩
  | .hbm, ⟨5, _⟩ => ⟨S16x128, .i32⟩
  | .hbm, ⟨6, _⟩ => ⟨S256x96x8x128, .f32⟩
  | .hbm, ⟨7, _⟩ => ⟨S256x8x96x128, .f32⟩
  | .hbm, ⟨8, _⟩ => ⟨S2048x12288, .f32⟩
  | .local _ .vmem, ⟨0, _⟩ => ⟨S16x128, .i32⟩
  | .local _ .vmem, ⟨1, _⟩ => ⟨S2x1024, .i32⟩
  | .local _ .vmem, ⟨2, _⟩ => ⟨S2x1024, .f32⟩
  | .local _ .vmem, ⟨3, _⟩ => ⟨S2x2048x3072, .fp8e5m2⟩
  | .local _ .vmem, ⟨4, _⟩ => ⟨S256x24x8x128, .f32⟩
  | .local _ .vmem, ⟨5, _⟩ => ⟨S4x9x24x8x128, .f32⟩
  | .local _ .vmem, ⟨6, _⟩ => ⟨S8x24x8x128, .f32⟩
  | .local _ .vmem, ⟨7, _⟩ => ⟨S2048x128, .f32⟩
  | .local _ .vmem, ⟨8, _⟩ => ⟨S2x17x128, .i32⟩
  | .local _ .smem, ⟨0, _⟩ => ⟨S2049, .i32⟩
  | .local _ .smem, ⟨1, _⟩ => ⟨S2176, .i32⟩
  | .local _ .smem, ⟨2, _⟩ => ⟨S2176, .i32⟩
  | _, _ => ⟨S2x1024x12288, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_stg0_0 : Ref sig .tc := ⟨.smem, 0, rfl⟩
abbrev cc0_scratch6 : Ref sig .tc := ⟨.smem, 1, rfl⟩
abbrev cc0_scratch7 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

@[reducible] def k0_t1_loop : Scf.Loop 32 :=
  let c0_i32_50 : BitVec 32 := 0#32
  let c12_i32 : BitVec 32 := 12#32
  let v48 : BitVec 32 := Scalar.addi c0_i32_50 c12_i32
  let c1_i32_51 : BitVec 32 := 1#32
  ⟨c0_i32_50, v48, c1_i32_51⟩
def k0_off1 (arg19 : BitVec 32) (arg20 : BitVec 32) : Fin 1 → Nat :=
  let v497 : BitVec 32 := Scalar.addi arg19 arg20
  let c0_i32_402 : BitVec 32 := 0#32
  let v499 : BitVec 1 := Scalar.cmpi .sgt v497 c0_i32_402
  let v500 : BitVec 32 := Scalar.extui v499
  let c0_i32_403 : BitVec 32 := 0#32
  let v501 : BitVec 1 := Scalar.cmpi .slt v497 c0_i32_403
  let v502 : BitVec 32 := Scalar.extui v501
  let v503 : BitVec 32 := Scalar.subi v500 v502
  let c2_i32_401 : BitVec 32 := 2#32
  let c0_i32_404 : BitVec 32 := 0#32
  let v504 : BitVec 1 := Scalar.cmpi .sgt c2_i32_401 c0_i32_404
  let v505 : BitVec 32 := Scalar.extui v504
  let c0_i32_405 : BitVec 32 := 0#32
  let v506 : BitVec 1 := Scalar.cmpi .slt c2_i32_401 c0_i32_405
  let v507 : BitVec 32 := Scalar.extui v506
  let v508 : BitVec 32 := Scalar.subi v505 v507
  let v509 : BitVec 1 := Scalar.cmpi .ne v503 v508
  let v510 : BitVec 32 := Scalar.remsi v497 c2_i32_401
  let c0_i32_406 : BitVec 32 := 0#32
  let v511 : BitVec 1 := Scalar.cmpi .ne v510 c0_i32_406
  let v512 : BitVec 1 := Scalar.andi v509 v511
  let v498 : BitVec 32 := Scalar.divsi v497 c2_i32_401
  let c1_i32_407 : BitVec 32 := 1#32
  let v513 : BitVec 32 := Scalar.subi v498 c1_i32_407
  let v514 : BitVec 32 := Scalar.select v512 v513 v498
  let v515 : Index := Scalar.indexCast v514
  ![v515.toNat]

def k0_chk1 (arg19 : BitVec 32) (arg20 : BitVec 32) : Prop :=
  (∀ a, (k0_off1 arg19 arg20) a + S1.size a ≤ S2049.size a)
theorem k0_off1_inb : ∀ (arg19 : BitVec 32) (arg20 : BitVec 32) (k0_hw1 : k0_chk1 arg19 arg20), ∀ a, (k0_off1 arg19 arg20) a + S1.size a ≤ S2049.size a := fun arg19 arg20 k0_hw1 => k0_hw1

@[reducible] def k0_t2_loop (v49_0 : BitVec 32) : Scf.Loop 32 :=
  let c0_i32_69 : BitVec 32 := 0#32
  let c15_i32 : BitVec 32 := 15#32
  let v79 : BitVec 32 := Scalar.addi v49_0 c15_i32
  let c0_i32_63 : BitVec 32 := 0#32
  let v81 : BitVec 1 := Scalar.cmpi .sgt v79 c0_i32_63
  let v82 : BitVec 32 := Scalar.extui v81
  let c0_i32_64 : BitVec 32 := 0#32
  let v83 : BitVec 1 := Scalar.cmpi .slt v79 c0_i32_64
  let v84 : BitVec 32 := Scalar.extui v83
  let v85 : BitVec 32 := Scalar.subi v82 v84
  let c16_i32 : BitVec 32 := 16#32
  let c0_i32_65 : BitVec 32 := 0#32
  let v86 : BitVec 1 := Scalar.cmpi .sgt c16_i32 c0_i32_65
  let v87 : BitVec 32 := Scalar.extui v86
  let c0_i32_66 : BitVec 32 := 0#32
  let v88 : BitVec 1 := Scalar.cmpi .slt c16_i32 c0_i32_66
  let v89 : BitVec 32 := Scalar.extui v88
  let v90 : BitVec 32 := Scalar.subi v87 v89
  let v91 : BitVec 1 := Scalar.cmpi .ne v85 v90
  let v92 : BitVec 32 := Scalar.remsi v79 c16_i32
  let c0_i32_67 : BitVec 32 := 0#32
  let v93 : BitVec 1 := Scalar.cmpi .ne v92 c0_i32_67
  let v94 : BitVec 1 := Scalar.andi v91 v93
  let v80 : BitVec 32 := Scalar.divsi v79 c16_i32
  let c1_i32_68 : BitVec 32 := 1#32
  let v95 : BitVec 32 := Scalar.subi v80 c1_i32_68
  let v96 : BitVec 32 := Scalar.select v94 v95 v80
  let v98 : BitVec 32 := Scalar.subi v96 c0_i32_69
  let c1_i32_70 : BitVec 32 := 1#32
  let v100 : BitVec 32 := Scalar.divsi v98 c1_i32_70
  let v101 : BitVec 32 := Scalar.muli v100 c1_i32_70
  let v102 : BitVec 32 := Scalar.addi c0_i32_69 v101
  let c1_i32_71 : BitVec 32 := 1#32
  ⟨c0_i32_69, v102, c1_i32_71⟩

def k0_off2 (v49_0 : BitVec 32) (k0_t2 : Fin (k0_t2_loop v49_0).trips) (c0_i32_402 : BitVec 32) : Fin 1 → Nat :=
  let c0_i32_69 : BitVec 32 := 0#32
  let c1_i32_71 : BitVec 32 := 1#32
  let arg18 : BitVec 32 := Scf.iv c0_i32_69 c1_i32_71 k0_t2
  let c16_i32_401 : BitVec 32 := 16#32
  let v497 : BitVec 32 := Scalar.muli arg18 c16_i32_401
  let v498 : BitVec 32 := Scalar.addi v497 c0_i32_402
  let v499 : Index := Scalar.indexCast v498
  ![v499.toNat]
@[reducible] def k0_t3_loop (v49_0 : BitVec 32) : Scf.Loop 32 :=
  let c0_i32_69 : BitVec 32 := 0#32
  let c15_i32 : BitVec 32 := 15#32
  let v79 : BitVec 32 := Scalar.addi v49_0 c15_i32
  let c0_i32_63 : BitVec 32 := 0#32
  let v81 : BitVec 1 := Scalar.cmpi .sgt v79 c0_i32_63
  let v82 : BitVec 32 := Scalar.extui v81
  let c0_i32_64 : BitVec 32 := 0#32
  let v83 : BitVec 1 := Scalar.cmpi .slt v79 c0_i32_64
  let v84 : BitVec 32 := Scalar.extui v83
  let v85 : BitVec 32 := Scalar.subi v82 v84
  let c16_i32 : BitVec 32 := 16#32
  let c0_i32_65 : BitVec 32 := 0#32
  let v86 : BitVec 1 := Scalar.cmpi .sgt c16_i32 c0_i32_65
  let v87 : BitVec 32 := Scalar.extui v86
  let c0_i32_66 : BitVec 32 := 0#32
  let v88 : BitVec 1 := Scalar.cmpi .slt c16_i32 c0_i32_66
  let v89 : BitVec 32 := Scalar.extui v88
  let v90 : BitVec 32 := Scalar.subi v87 v89
  let v91 : BitVec 1 := Scalar.cmpi .ne v85 v90
  let v92 : BitVec 32 := Scalar.remsi v79 c16_i32
  let c0_i32_67 : BitVec 32 := 0#32
  let v93 : BitVec 1 := Scalar.cmpi .ne v92 c0_i32_67
  let v94 : BitVec 1 := Scalar.andi v91 v93
  let v80 : BitVec 32 := Scalar.divsi v79 c16_i32
  let c1_i32_68 : BitVec 32 := 1#32
  let v95 : BitVec 32 := Scalar.subi v80 c1_i32_68
  let v96 : BitVec 32 := Scalar.select v94 v95 v80
  let v98 : BitVec 32 := Scalar.subi v96 c0_i32_69
  let c1_i32_70 : BitVec 32 := 1#32
  let v100 : BitVec 32 := Scalar.divsi v98 c1_i32_70
  let v101 : BitVec 32 := Scalar.muli v100 c1_i32_70
  let v102 : BitVec 32 := Scalar.addi c0_i32_69 v101
  let v99 : BitVec 32 := Scalar.addi c0_i32_69 v98
  let c1_i32_72 : BitVec 32 := 1#32
  ⟨v102, v99, c1_i32_72⟩
def k0_off3 (v49_0 : BitVec 32) (k0_t3 : Fin (k0_t3_loop v49_0).trips) (c0_i32_402 : BitVec 32) : Fin 1 → Nat :=
  let c0_i32_69 : BitVec 32 := 0#32
  let c15_i32 : BitVec 32 := 15#32
  let v79 : BitVec 32 := Scalar.addi v49_0 c15_i32
  let c0_i32_63 : BitVec 32 := 0#32
  let v81 : BitVec 1 := Scalar.cmpi .sgt v79 c0_i32_63
  let v82 : BitVec 32 := Scalar.extui v81
  let c0_i32_64 : BitVec 32 := 0#32
  let v83 : BitVec 1 := Scalar.cmpi .slt v79 c0_i32_64
  let v84 : BitVec 32 := Scalar.extui v83
  let v85 : BitVec 32 := Scalar.subi v82 v84
  let c16_i32 : BitVec 32 := 16#32
  let c0_i32_65 : BitVec 32 := 0#32
  let v86 : BitVec 1 := Scalar.cmpi .sgt c16_i32 c0_i32_65
  let v87 : BitVec 32 := Scalar.extui v86
  let c0_i32_66 : BitVec 32 := 0#32
  let v88 : BitVec 1 := Scalar.cmpi .slt c16_i32 c0_i32_66
  let v89 : BitVec 32 := Scalar.extui v88
  let v90 : BitVec 32 := Scalar.subi v87 v89
  let v91 : BitVec 1 := Scalar.cmpi .ne v85 v90
  let v92 : BitVec 32 := Scalar.remsi v79 c16_i32
  let c0_i32_67 : BitVec 32 := 0#32
  let v93 : BitVec 1 := Scalar.cmpi .ne v92 c0_i32_67
  let v94 : BitVec 1 := Scalar.andi v91 v93
  let v80 : BitVec 32 := Scalar.divsi v79 c16_i32
  let c1_i32_68 : BitVec 32 := 1#32
  let v95 : BitVec 32 := Scalar.subi v80 c1_i32_68
  let v96 : BitVec 32 := Scalar.select v94 v95 v80
  let v98 : BitVec 32 := Scalar.subi v96 c0_i32_69
  let c1_i32_70 : BitVec 32 := 1#32
  let v100 : BitVec 32 := Scalar.divsi v98 c1_i32_70
  let v101 : BitVec 32 := Scalar.muli v100 c1_i32_70
  let v102 : BitVec 32 := Scalar.addi c0_i32_69 v101
  let c1_i32_72 : BitVec 32 := 1#32
  let arg18 : BitVec 32 := Scf.iv v102 c1_i32_72 k0_t3
  let c16_i32_401 : BitVec 32 := 16#32
  let v497 : BitVec 32 := Scalar.muli arg18 c16_i32_401
  let v498 : BitVec 32 := Scalar.addi v497 c0_i32_402
  let v499 : Index := Scalar.indexCast v498
  ![v499.toNat]
@[reducible] def k0_t4_loop : Scf.Loop 32 :=
  let c0_i32_379 : BitVec 32 := 0#32
  let c4_i32_380 : BitVec 32 := 4#32
  let v473 : BitVec 32 := Scalar.addi c0_i32_379 c4_i32_380
  let c1_i32_381 : BitVec 32 := 1#32
  ⟨c0_i32_379, v473, c1_i32_381⟩
def k0_cond1 (k0_t4 : Fin k0_t4_loop.trips) : BitVec 1 :=
  let c0_i32_379 : BitVec 32 := 0#32
  let c1_i32_381 : BitVec 32 := 1#32
  let arg18 : BitVec 32 := Scf.iv c0_i32_379 c1_i32_381 k0_t4
  let c1_i32_402 : BitVec 32 := 1#32
  let v498 : BitVec 32 := Scalar.addi arg18 c1_i32_402
  let c4_i32_403 : BitVec 32 := 4#32
  let v499 : BitVec 1 := Scalar.cmpi .slt v498 c4_i32_403
  let v500 : BitVec 32 := Scalar.extui v499
  let c0_i32_404 : BitVec 32 := 0#32
  let v501 : BitVec 1 := Scalar.cmpi .ne v500 c0_i32_404
  v501

def k0_off4 (k0_t4 : Fin k0_t4_loop.trips) : Fin 2 → Nat :=
  let c1_i32_491 : BitVec 32 := 1#32
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v581 : BitVec 32 := Scalar.subi c1_i32_491 v497
  let c0_i32_494 : BitVec 32 := 0#32
  ![v581.toNat, 0]
def k0_off5 (k0_t4 : Fin k0_t4_loop.trips) : Fin 3 → Nat :=
  let c1_i32_491 : BitVec 32 := 1#32
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v581 : BitVec 32 := Scalar.subi c1_i32_491 v497
  let c0_i32_495 : BitVec 32 := 0#32
  let c0_i32_496 : BitVec 32 := 0#32
  ![v581.toNat, 0, 0]
def k0_off6 (k0_t4 : Fin k0_t4_loop.trips) : Fin 3 → Nat :=
  let c0_i32_493 : BitVec 32 := 0#32
  let c0_i32_497 : BitVec 32 := 0#32
  let c0_i32_379 : BitVec 32 := 0#32
  let c1_i32_381 : BitVec 32 := 1#32
  let arg18 : BitVec 32 := Scf.iv c0_i32_379 c1_i32_381 k0_t4
  let c1_i32_490 : BitVec 32 := 1#32
  let v580 : BitVec 32 := Scalar.addi arg18 c1_i32_490
  let c3072_i32_492 : BitVec 32 := 3072#32
  let v582 : BitVec 32 := Scalar.muli v580 c3072_i32_492
  ![0, 0, v582.toNat]
def k0_off7 (k0_t4 : Fin k0_t4_loop.trips) : Fin 2 → Nat :=
  let c1_i32_499 : BitVec 32 := 1#32
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v590 : BitVec 32 := Scalar.subi c1_i32_499 v497
  let c1_i32_502 : BitVec 32 := 1#32
  ![v590.toNat, 1]
def k0_off8 (k0_t4 : Fin k0_t4_loop.trips) : Fin 3 → Nat :=
  let c1_i32_499 : BitVec 32 := 1#32
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v590 : BitVec 32 := Scalar.subi c1_i32_499 v497
  let c256_i32_503 : BitVec 32 := 256#32
  let c0_i32_504 : BitVec 32 := 0#32
  ![v590.toNat, 256, 0]
def k0_off9 (k0_t4 : Fin k0_t4_loop.trips) : Fin 3 → Nat :=
  let c0_i32_501 : BitVec 32 := 0#32
  let c256_i32_505 : BitVec 32 := 256#32
  let c0_i32_379 : BitVec 32 := 0#32
  let c1_i32_381 : BitVec 32 := 1#32
  let arg18 : BitVec 32 := Scf.iv c0_i32_379 c1_i32_381 k0_t4
  let c1_i32_498 : BitVec 32 := 1#32
  let v589 : BitVec 32 := Scalar.addi arg18 c1_i32_498
  let c3072_i32_500 : BitVec 32 := 3072#32
  let v591 : BitVec 32 := Scalar.muli v589 c3072_i32_500
  ![0, 256, v591.toNat]
def k0_off10 (k0_t4 : Fin k0_t4_loop.trips) : Fin 2 → Nat :=
  let c1_i32_507 : BitVec 32 := 1#32
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v599 : BitVec 32 := Scalar.subi c1_i32_507 v497
  let c2_i32_510 : BitVec 32 := 2#32
  ![v599.toNat, 2]
def k0_off11 (k0_t4 : Fin k0_t4_loop.trips) : Fin 3 → Nat :=
  let c1_i32_507 : BitVec 32 := 1#32
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v599 : BitVec 32 := Scalar.subi c1_i32_507 v497
  let c512_i32_511 : BitVec 32 := 512#32
  let c0_i32_512 : BitVec 32 := 0#32
  ![v599.toNat, 512, 0]
def k0_off12 (k0_t4 : Fin k0_t4_loop.trips) : Fin 3 → Nat :=
  let c0_i32_509 : BitVec 32 := 0#32
  let c512_i32_513 : BitVec 32 := 512#32
  let c0_i32_379 : BitVec 32 := 0#32
  let c1_i32_381 : BitVec 32 := 1#32
  let arg18 : BitVec 32 := Scf.iv c0_i32_379 c1_i32_381 k0_t4
  let c1_i32_506 : BitVec 32 := 1#32
  let v598 : BitVec 32 := Scalar.addi arg18 c1_i32_506
  let c3072_i32_508 : BitVec 32 := 3072#32
  let v600 : BitVec 32 := Scalar.muli v598 c3072_i32_508
  ![0, 512, v600.toNat]
def k0_off13 (k0_t4 : Fin k0_t4_loop.trips) : Fin 2 → Nat :=
  let c1_i32_515 : BitVec 32 := 1#32
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v608 : BitVec 32 := Scalar.subi c1_i32_515 v497
  let c3_i32_518 : BitVec 32 := 3#32
  ![v608.toNat, 3]
def k0_off14 (k0_t4 : Fin k0_t4_loop.trips) : Fin 3 → Nat :=
  let c1_i32_515 : BitVec 32 := 1#32
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v608 : BitVec 32 := Scalar.subi c1_i32_515 v497
  let c768_i32_519 : BitVec 32 := 768#32
  let c0_i32_520 : BitVec 32 := 0#32
  ![v608.toNat, 768, 0]
def k0_off15 (k0_t4 : Fin k0_t4_loop.trips) : Fin 3 → Nat :=
  let c0_i32_517 : BitVec 32 := 0#32
  let c768_i32_521 : BitVec 32 := 768#32
  let c0_i32_379 : BitVec 32 := 0#32
  let c1_i32_381 : BitVec 32 := 1#32
  let arg18 : BitVec 32 := Scf.iv c0_i32_379 c1_i32_381 k0_t4
  let c1_i32_514 : BitVec 32 := 1#32
  let v607 : BitVec 32 := Scalar.addi arg18 c1_i32_514
  let c3072_i32_516 : BitVec 32 := 3072#32
  let v609 : BitVec 32 := Scalar.muli v607 c3072_i32_516
  ![0, 768, v609.toNat]
def k0_off16 (k0_t4 : Fin k0_t4_loop.trips) : Fin 2 → Nat :=
  let c1_i32_523 : BitVec 32 := 1#32
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v617 : BitVec 32 := Scalar.subi c1_i32_523 v497
  let c4_i32_526 : BitVec 32 := 4#32
  ![v617.toNat, 4]
def k0_off17 (k0_t4 : Fin k0_t4_loop.trips) : Fin 3 → Nat :=
  let c1_i32_523 : BitVec 32 := 1#32
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v617 : BitVec 32 := Scalar.subi c1_i32_523 v497
  let c1024_i32_527 : BitVec 32 := 1024#32
  let c0_i32_528 : BitVec 32 := 0#32
  ![v617.toNat, 1024, 0]
def k0_off18 (k0_t4 : Fin k0_t4_loop.trips) : Fin 3 → Nat :=
  let c1_i32_525 : BitVec 32 := 1#32
  let c0_i32_529 : BitVec 32 := 0#32
  let c0_i32_379 : BitVec 32 := 0#32
  let c1_i32_381 : BitVec 32 := 1#32
  let arg18 : BitVec 32 := Scf.iv c0_i32_379 c1_i32_381 k0_t4
  let c1_i32_522 : BitVec 32 := 1#32
  let v616 : BitVec 32 := Scalar.addi arg18 c1_i32_522
  let c3072_i32_524 : BitVec 32 := 3072#32
  let v618 : BitVec 32 := Scalar.muli v616 c3072_i32_524
  ![1, 0, v618.toNat]
def k0_off19 (k0_t4 : Fin k0_t4_loop.trips) : Fin 2 → Nat :=
  let c1_i32_531 : BitVec 32 := 1#32
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v626 : BitVec 32 := Scalar.subi c1_i32_531 v497
  let c5_i32_534 : BitVec 32 := 5#32
  ![v626.toNat, 5]
def k0_off20 (k0_t4 : Fin k0_t4_loop.trips) : Fin 3 → Nat :=
  let c1_i32_531 : BitVec 32 := 1#32
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v626 : BitVec 32 := Scalar.subi c1_i32_531 v497
  let c1280_i32_535 : BitVec 32 := 1280#32
  let c0_i32_536 : BitVec 32 := 0#32
  ![v626.toNat, 1280, 0]
def k0_off21 (k0_t4 : Fin k0_t4_loop.trips) : Fin 3 → Nat :=
  let c1_i32_533 : BitVec 32 := 1#32
  let c256_i32_537 : BitVec 32 := 256#32
  let c0_i32_379 : BitVec 32 := 0#32
  let c1_i32_381 : BitVec 32 := 1#32
  let arg18 : BitVec 32 := Scf.iv c0_i32_379 c1_i32_381 k0_t4
  let c1_i32_530 : BitVec 32 := 1#32
  let v625 : BitVec 32 := Scalar.addi arg18 c1_i32_530
  let c3072_i32_532 : BitVec 32 := 3072#32
  let v627 : BitVec 32 := Scalar.muli v625 c3072_i32_532
  ![1, 256, v627.toNat]
def k0_off22 (k0_t4 : Fin k0_t4_loop.trips) : Fin 2 → Nat :=
  let c1_i32_539 : BitVec 32 := 1#32
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v635 : BitVec 32 := Scalar.subi c1_i32_539 v497
  let c6_i32_542 : BitVec 32 := 6#32
  ![v635.toNat, 6]
def k0_off23 (k0_t4 : Fin k0_t4_loop.trips) : Fin 3 → Nat :=
  let c1_i32_539 : BitVec 32 := 1#32
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v635 : BitVec 32 := Scalar.subi c1_i32_539 v497
  let c1536_i32_543 : BitVec 32 := 1536#32
  let c0_i32_544 : BitVec 32 := 0#32
  ![v635.toNat, 1536, 0]
def k0_off24 (k0_t4 : Fin k0_t4_loop.trips) : Fin 3 → Nat :=
  let c1_i32_541 : BitVec 32 := 1#32
  let c512_i32_545 : BitVec 32 := 512#32
  let c0_i32_379 : BitVec 32 := 0#32
  let c1_i32_381 : BitVec 32 := 1#32
  let arg18 : BitVec 32 := Scf.iv c0_i32_379 c1_i32_381 k0_t4
  let c1_i32_538 : BitVec 32 := 1#32
  let v634 : BitVec 32 := Scalar.addi arg18 c1_i32_538
  let c3072_i32_540 : BitVec 32 := 3072#32
  let v636 : BitVec 32 := Scalar.muli v634 c3072_i32_540
  ![1, 512, v636.toNat]
def k0_off25 (k0_t4 : Fin k0_t4_loop.trips) : Fin 2 → Nat :=
  let c1_i32_547 : BitVec 32 := 1#32
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v644 : BitVec 32 := Scalar.subi c1_i32_547 v497
  let c7_i32_550 : BitVec 32 := 7#32
  ![v644.toNat, 7]
def k0_off26 (k0_t4 : Fin k0_t4_loop.trips) : Fin 3 → Nat :=
  let c1_i32_547 : BitVec 32 := 1#32
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v644 : BitVec 32 := Scalar.subi c1_i32_547 v497
  let c1792_i32_551 : BitVec 32 := 1792#32
  let c0_i32_552 : BitVec 32 := 0#32
  ![v644.toNat, 1792, 0]
def k0_off27 (k0_t4 : Fin k0_t4_loop.trips) : Fin 3 → Nat :=
  let c1_i32_549 : BitVec 32 := 1#32
  let c768_i32_553 : BitVec 32 := 768#32
  let c0_i32_379 : BitVec 32 := 0#32
  let c1_i32_381 : BitVec 32 := 1#32
  let arg18 : BitVec 32 := Scf.iv c0_i32_379 c1_i32_381 k0_t4
  let c1_i32_546 : BitVec 32 := 1#32
  let v643 : BitVec 32 := Scalar.addi arg18 c1_i32_546
  let c3072_i32_548 : BitVec 32 := 3072#32
  let v645 : BitVec 32 := Scalar.muli v643 c3072_i32_548
  ![1, 768, v645.toNat]
@[reducible] def k0_t5_loop (v49_0 : BitVec 32) : Scf.Loop 32 :=
  let c64_i32 : BitVec 32 := 64#32
  let v50 : BitVec 32 := Scalar.addi v49_0 c64_i32
  let c1_i32_52 : BitVec 32 := 1#32
  let v51 : BitVec 32 := Scalar.subi v50 c1_i32_52
  let c0_i32_54 : BitVec 32 := 0#32
  let v53 : BitVec 1 := Scalar.cmpi .sgt v51 c0_i32_54
  let v54 : BitVec 32 := Scalar.extui v53
  let c0_i32_55 : BitVec 32 := 0#32
  let v55 : BitVec 1 := Scalar.cmpi .slt v51 c0_i32_55
  let v56 : BitVec 32 := Scalar.extui v55
  let v57 : BitVec 32 := Scalar.subi v54 v56
  let c64_i32_53 : BitVec 32 := 64#32
  let c0_i32_56 : BitVec 32 := 0#32
  let v58 : BitVec 1 := Scalar.cmpi .sgt c64_i32_53 c0_i32_56
  let v59 : BitVec 32 := Scalar.extui v58
  let c0_i32_57 : BitVec 32 := 0#32
  let v60 : BitVec 1 := Scalar.cmpi .slt c64_i32_53 c0_i32_57
  let v61 : BitVec 32 := Scalar.extui v60
  let v62 : BitVec 32 := Scalar.subi v59 v61
  let v63 : BitVec 1 := Scalar.cmpi .ne v57 v62
  let v64 : BitVec 32 := Scalar.remsi v51 c64_i32_53
  let c0_i32_58 : BitVec 32 := 0#32
  let v65 : BitVec 1 := Scalar.cmpi .ne v64 c0_i32_58
  let v66 : BitVec 1 := Scalar.andi v63 v65
  let v52 : BitVec 32 := Scalar.divsi v51 c64_i32_53
  let c1_i32_59 : BitVec 32 := 1#32
  let v67 : BitVec 32 := Scalar.subi v52 c1_i32_59
  let v68 : BitVec 32 := Scalar.select v66 v67 v52
  let c32_i32_405 : BitVec 32 := 32#32
  let v502 : BitVec 32 := Scalar.subi c32_i32_405 v68
  let c1_i32_407 : BitVec 32 := 1#32
  let v504 : BitVec 32 := Scalar.divsi v502 c1_i32_407
  let v505 : BitVec 32 := Scalar.muli v504 c1_i32_407
  let v506 : BitVec 32 := Scalar.addi v68 v505
  let c1_i32_408 : BitVec 32 := 1#32
  ⟨v68, v506, c1_i32_408⟩
def k0_off28 (v49_0 : BitVec 32) (k0_t4 : Fin k0_t4_loop.trips) (k0_t5 : Fin (k0_t5_loop v49_0).trips) : Fin 4 → Nat :=
  let c64_i32 : BitVec 32 := 64#32
  let v50 : BitVec 32 := Scalar.addi v49_0 c64_i32
  let c1_i32_52 : BitVec 32 := 1#32
  let v51 : BitVec 32 := Scalar.subi v50 c1_i32_52
  let c0_i32_54 : BitVec 32 := 0#32
  let v53 : BitVec 1 := Scalar.cmpi .sgt v51 c0_i32_54
  let v54 : BitVec 32 := Scalar.extui v53
  let c0_i32_55 : BitVec 32 := 0#32
  let v55 : BitVec 1 := Scalar.cmpi .slt v51 c0_i32_55
  let v56 : BitVec 32 := Scalar.extui v55
  let v57 : BitVec 32 := Scalar.subi v54 v56
  let c64_i32_53 : BitVec 32 := 64#32
  let c0_i32_56 : BitVec 32 := 0#32
  let v58 : BitVec 1 := Scalar.cmpi .sgt c64_i32_53 c0_i32_56
  let v59 : BitVec 32 := Scalar.extui v58
  let c0_i32_57 : BitVec 32 := 0#32
  let v60 : BitVec 1 := Scalar.cmpi .slt c64_i32_53 c0_i32_57
  let v61 : BitVec 32 := Scalar.extui v60
  let v62 : BitVec 32 := Scalar.subi v59 v61
  let v63 : BitVec 1 := Scalar.cmpi .ne v57 v62
  let v64 : BitVec 32 := Scalar.remsi v51 c64_i32_53
  let c0_i32_58 : BitVec 32 := 0#32
  let v65 : BitVec 1 := Scalar.cmpi .ne v64 c0_i32_58
  let v66 : BitVec 1 := Scalar.andi v63 v65
  let v52 : BitVec 32 := Scalar.divsi v51 c64_i32_53
  let c1_i32_59 : BitVec 32 := 1#32
  let v67 : BitVec 32 := Scalar.subi v52 c1_i32_59
  let v68 : BitVec 32 := Scalar.select v66 v67 v52
  let c1_i32_408 : BitVec 32 := 1#32
  let arg19 : BitVec 32 := Scf.iv v68 c1_i32_408 k0_t5
  let c8_i32_490 : BitVec 32 := 8#32
  let v580 : BitVec 32 := Scalar.muli arg19 c8_i32_490
  let c0_i32_379 : BitVec 32 := 0#32
  let c1_i32_381 : BitVec 32 := 1#32
  let arg18 : BitVec 32 := Scf.iv c0_i32_379 c1_i32_381 k0_t4
  let c24_i32_491 : BitVec 32 := 24#32
  let v581 : BitVec 32 := Scalar.muli arg18 c24_i32_491
  let c0_i32_492 : BitVec 32 := 0#32
  let c0_i32_493 : BitVec 32 := 0#32
  ![v580.toNat, v581.toNat, 0, 0]
@[reducible] def k0_t6_loop (v49_0 : BitVec 32) : Scf.Loop 32 :=
  let c64_i32 : BitVec 32 := 64#32
  let v50 : BitVec 32 := Scalar.addi v49_0 c64_i32
  let c1_i32_52 : BitVec 32 := 1#32
  let v51 : BitVec 32 := Scalar.subi v50 c1_i32_52
  let c0_i32_54 : BitVec 32 := 0#32
  let v53 : BitVec 1 := Scalar.cmpi .sgt v51 c0_i32_54
  let v54 : BitVec 32 := Scalar.extui v53
  let c0_i32_55 : BitVec 32 := 0#32
  let v55 : BitVec 1 := Scalar.cmpi .slt v51 c0_i32_55
  let v56 : BitVec 32 := Scalar.extui v55
  let v57 : BitVec 32 := Scalar.subi v54 v56
  let c64_i32_53 : BitVec 32 := 64#32
  let c0_i32_56 : BitVec 32 := 0#32
  let v58 : BitVec 1 := Scalar.cmpi .sgt c64_i32_53 c0_i32_56
  let v59 : BitVec 32 := Scalar.extui v58
  let c0_i32_57 : BitVec 32 := 0#32
  let v60 : BitVec 1 := Scalar.cmpi .slt c64_i32_53 c0_i32_57
  let v61 : BitVec 32 := Scalar.extui v60
  let v62 : BitVec 32 := Scalar.subi v59 v61
  let v63 : BitVec 1 := Scalar.cmpi .ne v57 v62
  let v64 : BitVec 32 := Scalar.remsi v51 c64_i32_53
  let c0_i32_58 : BitVec 32 := 0#32
  let v65 : BitVec 1 := Scalar.cmpi .ne v64 c0_i32_58
  let v66 : BitVec 1 := Scalar.andi v63 v65
  let v52 : BitVec 32 := Scalar.divsi v51 c64_i32_53
  let c1_i32_59 : BitVec 32 := 1#32
  let v67 : BitVec 32 := Scalar.subi v52 c1_i32_59
  let v68 : BitVec 32 := Scalar.select v66 v67 v52
  let c32_i32_405 : BitVec 32 := 32#32
  let v502 : BitVec 32 := Scalar.subi c32_i32_405 v68
  let c1_i32_407 : BitVec 32 := 1#32
  let v504 : BitVec 32 := Scalar.divsi v502 c1_i32_407
  let v505 : BitVec 32 := Scalar.muli v504 c1_i32_407
  let v506 : BitVec 32 := Scalar.addi v68 v505
  let v503 : BitVec 32 := Scalar.addi v68 v502
  let c1_i32_409 : BitVec 32 := 1#32
  ⟨v506, v503, c1_i32_409⟩
def k0_off29 (v49_0 : BitVec 32) (k0_t4 : Fin k0_t4_loop.trips) (k0_t6 : Fin (k0_t6_loop v49_0).trips) : Fin 4 → Nat :=
  let c64_i32 : BitVec 32 := 64#32
  let v50 : BitVec 32 := Scalar.addi v49_0 c64_i32
  let c1_i32_52 : BitVec 32 := 1#32
  let v51 : BitVec 32 := Scalar.subi v50 c1_i32_52
  let c0_i32_54 : BitVec 32 := 0#32
  let v53 : BitVec 1 := Scalar.cmpi .sgt v51 c0_i32_54
  let v54 : BitVec 32 := Scalar.extui v53
  let c0_i32_55 : BitVec 32 := 0#32
  let v55 : BitVec 1 := Scalar.cmpi .slt v51 c0_i32_55
  let v56 : BitVec 32 := Scalar.extui v55
  let v57 : BitVec 32 := Scalar.subi v54 v56
  let c64_i32_53 : BitVec 32 := 64#32
  let c0_i32_56 : BitVec 32 := 0#32
  let v58 : BitVec 1 := Scalar.cmpi .sgt c64_i32_53 c0_i32_56
  let v59 : BitVec 32 := Scalar.extui v58
  let c0_i32_57 : BitVec 32 := 0#32
  let v60 : BitVec 1 := Scalar.cmpi .slt c64_i32_53 c0_i32_57
  let v61 : BitVec 32 := Scalar.extui v60
  let v62 : BitVec 32 := Scalar.subi v59 v61
  let v63 : BitVec 1 := Scalar.cmpi .ne v57 v62
  let v64 : BitVec 32 := Scalar.remsi v51 c64_i32_53
  let c0_i32_58 : BitVec 32 := 0#32
  let v65 : BitVec 1 := Scalar.cmpi .ne v64 c0_i32_58
  let v66 : BitVec 1 := Scalar.andi v63 v65
  let v52 : BitVec 32 := Scalar.divsi v51 c64_i32_53
  let c1_i32_59 : BitVec 32 := 1#32
  let v67 : BitVec 32 := Scalar.subi v52 c1_i32_59
  let v68 : BitVec 32 := Scalar.select v66 v67 v52
  let c32_i32_405 : BitVec 32 := 32#32
  let v502 : BitVec 32 := Scalar.subi c32_i32_405 v68
  let c1_i32_407 : BitVec 32 := 1#32
  let v504 : BitVec 32 := Scalar.divsi v502 c1_i32_407
  let v505 : BitVec 32 := Scalar.muli v504 c1_i32_407
  let v506 : BitVec 32 := Scalar.addi v68 v505
  let c1_i32_409 : BitVec 32 := 1#32
  let arg19 : BitVec 32 := Scf.iv v506 c1_i32_409 k0_t6
  let c8_i32_490 : BitVec 32 := 8#32
  let v580 : BitVec 32 := Scalar.muli arg19 c8_i32_490
  let c0_i32_379 : BitVec 32 := 0#32
  let c1_i32_381 : BitVec 32 := 1#32
  let arg18 : BitVec 32 := Scf.iv c0_i32_379 c1_i32_381 k0_t4
  let c24_i32_491 : BitVec 32 := 24#32
  let v581 : BitVec 32 := Scalar.muli arg18 c24_i32_491
  let c0_i32_492 : BitVec 32 := 0#32
  let c0_i32_493 : BitVec 32 := 0#32
  ![v580.toNat, v581.toNat, 0, 0]
def k0_off30 (k0_t4 : Fin k0_t4_loop.trips) : Fin 2 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let c0_i32_411 : BitVec 32 := 0#32
  ![v497.toNat, 0]
def k0_off31 (k0_t4 : Fin k0_t4_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let c0_i32_412 : BitVec 32 := 0#32
  let c0_i32_413 : BitVec 32 := 0#32
  ![v497.toNat, 0, 0]
def k0_off32 (k0_t4 : Fin k0_t4_loop.trips) : Fin 3 → Nat :=
  let c0_i32_410 : BitVec 32 := 0#32
  let c0_i32_414 : BitVec 32 := 0#32
  let c0_i32_379 : BitVec 32 := 0#32
  let c1_i32_381 : BitVec 32 := 1#32
  let arg18 : BitVec 32 := Scf.iv c0_i32_379 c1_i32_381 k0_t4
  let c3072_i32 : BitVec 32 := 3072#32
  let v509 : BitVec 32 := Scalar.muli arg18 c3072_i32
  ![0, 0, v509.toNat]
@[reducible] def k0_t7_loop : Scf.Loop 32 :=
  let c0_i32_415 : BitVec 32 := 0#32
  let c8_i32_416 : BitVec 32 := 8#32
  let v516 : BitVec 32 := Scalar.addi c0_i32_415 c8_i32_416
  let c1_i32_417 : BitVec 32 := 1#32
  ⟨c0_i32_415, v516, c1_i32_417⟩
def k0_mult1 (k0_t7 : Fin k0_t7_loop.trips) : BitVec 32 :=
  let c0_i32_415 : BitVec 32 := 0#32
  let c1_i32_417 : BitVec 32 := 1#32
  let arg19 : BitVec 32 := Scf.iv c0_i32_415 c1_i32_417 k0_t7
  let c32_i32_490 : BitVec 32 := 32#32
  let v580 : BitVec 32 := Scalar.muli arg19 c32_i32_490
  v580
def k0_off33 (k0_t7 : Fin k0_t7_loop.trips) : Fin 2 → Nat :=
  let c0_i32_415 : BitVec 32 := 0#32
  let c1_i32_417 : BitVec 32 := 1#32
  let arg19 : BitVec 32 := Scf.iv c0_i32_415 c1_i32_417 k0_t7
  let c32_i32_490 : BitVec 32 := 32#32
  let v580 : BitVec 32 := Scalar.muli arg19 c32_i32_490
  let v581 : BitVec 32 := v580
  let v582 : Index := Scalar.indexCast v581
  let c0_491 : Index := 0#32
  ![v582.toNat, 0]
def k0_off34 (k0_t4 : Fin k0_t4_loop.trips) (k0_t7 : Fin k0_t7_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v584 : Index := Scalar.indexCast v497
  let c0_i32_415 : BitVec 32 := 0#32
  let c1_i32_417 : BitVec 32 := 1#32
  let arg19 : BitVec 32 := Scf.iv c0_i32_415 c1_i32_417 k0_t7
  let c32_i32_490 : BitVec 32 := 32#32
  let v580 : BitVec 32 := Scalar.muli arg19 c32_i32_490
  let v581 : BitVec 32 := v580
  let v585 : Index := Scalar.indexCast v581
  let c0_492 : Index := 0#32
  ![v584.toNat, v585.toNat, 0]
def k0_off35 (k0_t7 : Fin k0_t7_loop.trips) : Fin 4 → Nat :=
  let c0_i32_415 : BitVec 32 := 0#32
  let c1_i32_417 : BitVec 32 := 1#32
  let arg19 : BitVec 32 := Scf.iv c0_i32_415 c1_i32_417 k0_t7
  let c4_i32_493 : BitVec 32 := 4#32
  let v591 : BitVec 32 := Scalar.muli arg19 c4_i32_493
  let v592 : Index := Scalar.indexCast v591
  let c0_494 : Index := 0#32
  let c0_495 : Index := 0#32
  let c0_496 : Index := 0#32
  ![v592.toNat, 0, 0, 0]
def k0_off36 (k0_t4 : Fin k0_t4_loop.trips) (k0_t7 : Fin k0_t7_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v596 : Index := Scalar.indexCast v497
  let c0_i32_415 : BitVec 32 := 0#32
  let c1_i32_417 : BitVec 32 := 1#32
  let arg19 : BitVec 32 := Scf.iv c0_i32_415 c1_i32_417 k0_t7
  let c32_i32_490 : BitVec 32 := 32#32
  let v580 : BitVec 32 := Scalar.muli arg19 c32_i32_490
  let v581 : BitVec 32 := v580
  let v597 : Index := Scalar.indexCast v581
  let c128_497 : Index := 128#32
  ![v596.toNat, v597.toNat, 128]
def k0_off37 (k0_t7 : Fin k0_t7_loop.trips) : Fin 4 → Nat :=
  let c0_i32_415 : BitVec 32 := 0#32
  let c1_i32_417 : BitVec 32 := 1#32
  let arg19 : BitVec 32 := Scf.iv c0_i32_415 c1_i32_417 k0_t7
  let c4_i32_498 : BitVec 32 := 4#32
  let v603 : BitVec 32 := Scalar.muli arg19 c4_i32_498
  let v604 : Index := Scalar.indexCast v603
  let c1_499 : Index := 1#32
  let c0_500 : Index := 0#32
  let c0_501 : Index := 0#32
  ![v604.toNat, 1, 0, 0]
def k0_off38 (k0_t4 : Fin k0_t4_loop.trips) (k0_t7 : Fin k0_t7_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v608 : Index := Scalar.indexCast v497
  let c0_i32_415 : BitVec 32 := 0#32
  let c1_i32_417 : BitVec 32 := 1#32
  let arg19 : BitVec 32 := Scf.iv c0_i32_415 c1_i32_417 k0_t7
  let c32_i32_490 : BitVec 32 := 32#32
  let v580 : BitVec 32 := Scalar.muli arg19 c32_i32_490
  let v581 : BitVec 32 := v580
  let v609 : Index := Scalar.indexCast v581
  let c256_502 : Index := 256#32
  ![v608.toNat, v609.toNat, 256]
def k0_off39 (k0_t7 : Fin k0_t7_loop.trips) : Fin 4 → Nat :=
  let c0_i32_415 : BitVec 32 := 0#32
  let c1_i32_417 : BitVec 32 := 1#32
  let arg19 : BitVec 32 := Scf.iv c0_i32_415 c1_i32_417 k0_t7
  let c4_i32_503 : BitVec 32 := 4#32
  let v615 : BitVec 32 := Scalar.muli arg19 c4_i32_503
  let v616 : Index := Scalar.indexCast v615
  let c2 : Index := 2#32
  let c0_504 : Index := 0#32
  let c0_505 : Index := 0#32
  ![v616.toNat, 2, 0, 0]
def k0_off40 (k0_t4 : Fin k0_t4_loop.trips) (k0_t7 : Fin k0_t7_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v620 : Index := Scalar.indexCast v497
  let c0_i32_415 : BitVec 32 := 0#32
  let c1_i32_417 : BitVec 32 := 1#32
  let arg19 : BitVec 32 := Scf.iv c0_i32_415 c1_i32_417 k0_t7
  let c32_i32_490 : BitVec 32 := 32#32
  let v580 : BitVec 32 := Scalar.muli arg19 c32_i32_490
  let v581 : BitVec 32 := v580
  let v621 : Index := Scalar.indexCast v581
  let c384_506 : Index := 384#32
  ![v620.toNat, v621.toNat, 384]
def k0_off41 (k0_t7 : Fin k0_t7_loop.trips) : Fin 4 → Nat :=
  let c0_i32_415 : BitVec 32 := 0#32
  let c1_i32_417 : BitVec 32 := 1#32
  let arg19 : BitVec 32 := Scf.iv c0_i32_415 c1_i32_417 k0_t7
  let c4_i32_507 : BitVec 32 := 4#32
  let v627 : BitVec 32 := Scalar.muli arg19 c4_i32_507
  let v628 : Index := Scalar.indexCast v627
  let c3 : Index := 3#32
  let c0_508 : Index := 0#32
  let c0_509 : Index := 0#32
  ![v628.toNat, 3, 0, 0]
def k0_off42 (k0_t4 : Fin k0_t4_loop.trips) (k0_t7 : Fin k0_t7_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v632 : Index := Scalar.indexCast v497
  let c0_i32_415 : BitVec 32 := 0#32
  let c1_i32_417 : BitVec 32 := 1#32
  let arg19 : BitVec 32 := Scf.iv c0_i32_415 c1_i32_417 k0_t7
  let c32_i32_490 : BitVec 32 := 32#32
  let v580 : BitVec 32 := Scalar.muli arg19 c32_i32_490
  let v581 : BitVec 32 := v580
  let v633 : Index := Scalar.indexCast v581
  let c512_510 : Index := 512#32
  ![v632.toNat, v633.toNat, 512]
def k0_off43 (k0_t7 : Fin k0_t7_loop.trips) : Fin 4 → Nat :=
  let c0_i32_415 : BitVec 32 := 0#32
  let c1_i32_417 : BitVec 32 := 1#32
  let arg19 : BitVec 32 := Scf.iv c0_i32_415 c1_i32_417 k0_t7
  let c4_i32_511 : BitVec 32 := 4#32
  let v639 : BitVec 32 := Scalar.muli arg19 c4_i32_511
  let v640 : Index := Scalar.indexCast v639
  let c4 : Index := 4#32
  let c0_512 : Index := 0#32
  let c0_513 : Index := 0#32
  ![v640.toNat, 4, 0, 0]
def k0_off44 (k0_t4 : Fin k0_t4_loop.trips) (k0_t7 : Fin k0_t7_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v644 : Index := Scalar.indexCast v497
  let c0_i32_415 : BitVec 32 := 0#32
  let c1_i32_417 : BitVec 32 := 1#32
  let arg19 : BitVec 32 := Scf.iv c0_i32_415 c1_i32_417 k0_t7
  let c32_i32_490 : BitVec 32 := 32#32
  let v580 : BitVec 32 := Scalar.muli arg19 c32_i32_490
  let v581 : BitVec 32 := v580
  let v645 : Index := Scalar.indexCast v581
  let c640_514 : Index := 640#32
  ![v644.toNat, v645.toNat, 640]
def k0_off45 (k0_t7 : Fin k0_t7_loop.trips) : Fin 4 → Nat :=
  let c0_i32_415 : BitVec 32 := 0#32
  let c1_i32_417 : BitVec 32 := 1#32
  let arg19 : BitVec 32 := Scf.iv c0_i32_415 c1_i32_417 k0_t7
  let c4_i32_515 : BitVec 32 := 4#32
  let v651 : BitVec 32 := Scalar.muli arg19 c4_i32_515
  let v652 : Index := Scalar.indexCast v651
  let c5 : Index := 5#32
  let c0_516 : Index := 0#32
  let c0_517 : Index := 0#32
  ![v652.toNat, 5, 0, 0]
def k0_off46 (k0_t4 : Fin k0_t4_loop.trips) (k0_t7 : Fin k0_t7_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v656 : Index := Scalar.indexCast v497
  let c0_i32_415 : BitVec 32 := 0#32
  let c1_i32_417 : BitVec 32 := 1#32
  let arg19 : BitVec 32 := Scf.iv c0_i32_415 c1_i32_417 k0_t7
  let c32_i32_490 : BitVec 32 := 32#32
  let v580 : BitVec 32 := Scalar.muli arg19 c32_i32_490
  let v581 : BitVec 32 := v580
  let v657 : Index := Scalar.indexCast v581
  let c768_518 : Index := 768#32
  ![v656.toNat, v657.toNat, 768]
def k0_off47 (k0_t7 : Fin k0_t7_loop.trips) : Fin 4 → Nat :=
  let c0_i32_415 : BitVec 32 := 0#32
  let c1_i32_417 : BitVec 32 := 1#32
  let arg19 : BitVec 32 := Scf.iv c0_i32_415 c1_i32_417 k0_t7
  let c4_i32_519 : BitVec 32 := 4#32
  let v663 : BitVec 32 := Scalar.muli arg19 c4_i32_519
  let v664 : Index := Scalar.indexCast v663
  let c6 : Index := 6#32
  let c0_520 : Index := 0#32
  let c0_521 : Index := 0#32
  ![v664.toNat, 6, 0, 0]
def k0_off48 (k0_t4 : Fin k0_t4_loop.trips) (k0_t7 : Fin k0_t7_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v668 : Index := Scalar.indexCast v497
  let c0_i32_415 : BitVec 32 := 0#32
  let c1_i32_417 : BitVec 32 := 1#32
  let arg19 : BitVec 32 := Scf.iv c0_i32_415 c1_i32_417 k0_t7
  let c32_i32_490 : BitVec 32 := 32#32
  let v580 : BitVec 32 := Scalar.muli arg19 c32_i32_490
  let v581 : BitVec 32 := v580
  let v669 : Index := Scalar.indexCast v581
  let c896_522 : Index := 896#32
  ![v668.toNat, v669.toNat, 896]
def k0_off49 (k0_t7 : Fin k0_t7_loop.trips) : Fin 4 → Nat :=
  let c0_i32_415 : BitVec 32 := 0#32
  let c1_i32_417 : BitVec 32 := 1#32
  let arg19 : BitVec 32 := Scf.iv c0_i32_415 c1_i32_417 k0_t7
  let c4_i32_523 : BitVec 32 := 4#32
  let v675 : BitVec 32 := Scalar.muli arg19 c4_i32_523
  let v676 : Index := Scalar.indexCast v675
  let c7 : Index := 7#32
  let c0_524 : Index := 0#32
  let c0_525 : Index := 0#32
  ![v676.toNat, 7, 0, 0]
def k0_off50 (k0_t4 : Fin k0_t4_loop.trips) (k0_t7 : Fin k0_t7_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v680 : Index := Scalar.indexCast v497
  let c0_i32_415 : BitVec 32 := 0#32
  let c1_i32_417 : BitVec 32 := 1#32
  let arg19 : BitVec 32 := Scf.iv c0_i32_415 c1_i32_417 k0_t7
  let c32_i32_490 : BitVec 32 := 32#32
  let v580 : BitVec 32 := Scalar.muli arg19 c32_i32_490
  let v581 : BitVec 32 := v580
  let v681 : Index := Scalar.indexCast v581
  let c1024_526 : Index := 1024#32
  ![v680.toNat, v681.toNat, 1024]
def k0_off51 (k0_t7 : Fin k0_t7_loop.trips) : Fin 4 → Nat :=
  let c0_i32_415 : BitVec 32 := 0#32
  let c1_i32_417 : BitVec 32 := 1#32
  let arg19 : BitVec 32 := Scf.iv c0_i32_415 c1_i32_417 k0_t7
  let c4_i32_527 : BitVec 32 := 4#32
  let v687 : BitVec 32 := Scalar.muli arg19 c4_i32_527
  let v688 : Index := Scalar.indexCast v687
  let c8 : Index := 8#32
  let c0_528 : Index := 0#32
  let c0_529 : Index := 0#32
  ![v688.toNat, 8, 0, 0]
def k0_off52 (k0_t4 : Fin k0_t4_loop.trips) (k0_t7 : Fin k0_t7_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v692 : Index := Scalar.indexCast v497
  let c0_i32_415 : BitVec 32 := 0#32
  let c1_i32_417 : BitVec 32 := 1#32
  let arg19 : BitVec 32 := Scf.iv c0_i32_415 c1_i32_417 k0_t7
  let c32_i32_490 : BitVec 32 := 32#32
  let v580 : BitVec 32 := Scalar.muli arg19 c32_i32_490
  let v581 : BitVec 32 := v580
  let v693 : Index := Scalar.indexCast v581
  let c1152_530 : Index := 1152#32
  ![v692.toNat, v693.toNat, 1152]
def k0_off53 (k0_t7 : Fin k0_t7_loop.trips) : Fin 4 → Nat :=
  let c0_i32_415 : BitVec 32 := 0#32
  let c1_i32_417 : BitVec 32 := 1#32
  let arg19 : BitVec 32 := Scf.iv c0_i32_415 c1_i32_417 k0_t7
  let c4_i32_531 : BitVec 32 := 4#32
  let v699 : BitVec 32 := Scalar.muli arg19 c4_i32_531
  let v700 : Index := Scalar.indexCast v699
  let c9 : Index := 9#32
  let c0_532 : Index := 0#32
  let c0_533 : Index := 0#32
  ![v700.toNat, 9, 0, 0]
def k0_off54 (k0_t4 : Fin k0_t4_loop.trips) (k0_t7 : Fin k0_t7_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v704 : Index := Scalar.indexCast v497
  let c0_i32_415 : BitVec 32 := 0#32
  let c1_i32_417 : BitVec 32 := 1#32
  let arg19 : BitVec 32 := Scf.iv c0_i32_415 c1_i32_417 k0_t7
  let c32_i32_490 : BitVec 32 := 32#32
  let v580 : BitVec 32 := Scalar.muli arg19 c32_i32_490
  let v581 : BitVec 32 := v580
  let v705 : Index := Scalar.indexCast v581
  let c1280_534 : Index := 1280#32
  ![v704.toNat, v705.toNat, 1280]
def k0_off55 (k0_t7 : Fin k0_t7_loop.trips) : Fin 4 → Nat :=
  let c0_i32_415 : BitVec 32 := 0#32
  let c1_i32_417 : BitVec 32 := 1#32
  let arg19 : BitVec 32 := Scf.iv c0_i32_415 c1_i32_417 k0_t7
  let c4_i32_535 : BitVec 32 := 4#32
  let v711 : BitVec 32 := Scalar.muli arg19 c4_i32_535
  let v712 : Index := Scalar.indexCast v711
  let c10 : Index := 10#32
  let c0_536 : Index := 0#32
  let c0_537 : Index := 0#32
  ![v712.toNat, 10, 0, 0]
def k0_off56 (k0_t4 : Fin k0_t4_loop.trips) (k0_t7 : Fin k0_t7_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v716 : Index := Scalar.indexCast v497
  let c0_i32_415 : BitVec 32 := 0#32
  let c1_i32_417 : BitVec 32 := 1#32
  let arg19 : BitVec 32 := Scf.iv c0_i32_415 c1_i32_417 k0_t7
  let c32_i32_490 : BitVec 32 := 32#32
  let v580 : BitVec 32 := Scalar.muli arg19 c32_i32_490
  let v581 : BitVec 32 := v580
  let v717 : Index := Scalar.indexCast v581
  let c1408_538 : Index := 1408#32
  ![v716.toNat, v717.toNat, 1408]
def k0_off57 (k0_t7 : Fin k0_t7_loop.trips) : Fin 4 → Nat :=
  let c0_i32_415 : BitVec 32 := 0#32
  let c1_i32_417 : BitVec 32 := 1#32
  let arg19 : BitVec 32 := Scf.iv c0_i32_415 c1_i32_417 k0_t7
  let c4_i32_539 : BitVec 32 := 4#32
  let v723 : BitVec 32 := Scalar.muli arg19 c4_i32_539
  let v724 : Index := Scalar.indexCast v723
  let c11 : Index := 11#32
  let c0_540 : Index := 0#32
  let c0_541 : Index := 0#32
  ![v724.toNat, 11, 0, 0]
def k0_off58 (k0_t4 : Fin k0_t4_loop.trips) (k0_t7 : Fin k0_t7_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v728 : Index := Scalar.indexCast v497
  let c0_i32_415 : BitVec 32 := 0#32
  let c1_i32_417 : BitVec 32 := 1#32
  let arg19 : BitVec 32 := Scf.iv c0_i32_415 c1_i32_417 k0_t7
  let c32_i32_490 : BitVec 32 := 32#32
  let v580 : BitVec 32 := Scalar.muli arg19 c32_i32_490
  let v581 : BitVec 32 := v580
  let v729 : Index := Scalar.indexCast v581
  let c1536_542 : Index := 1536#32
  ![v728.toNat, v729.toNat, 1536]
def k0_off59 (k0_t7 : Fin k0_t7_loop.trips) : Fin 4 → Nat :=
  let c0_i32_415 : BitVec 32 := 0#32
  let c1_i32_417 : BitVec 32 := 1#32
  let arg19 : BitVec 32 := Scf.iv c0_i32_415 c1_i32_417 k0_t7
  let c4_i32_543 : BitVec 32 := 4#32
  let v735 : BitVec 32 := Scalar.muli arg19 c4_i32_543
  let v736 : Index := Scalar.indexCast v735
  let c12 : Index := 12#32
  let c0_544 : Index := 0#32
  let c0_545 : Index := 0#32
  ![v736.toNat, 12, 0, 0]
def k0_off60 (k0_t4 : Fin k0_t4_loop.trips) (k0_t7 : Fin k0_t7_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v740 : Index := Scalar.indexCast v497
  let c0_i32_415 : BitVec 32 := 0#32
  let c1_i32_417 : BitVec 32 := 1#32
  let arg19 : BitVec 32 := Scf.iv c0_i32_415 c1_i32_417 k0_t7
  let c32_i32_490 : BitVec 32 := 32#32
  let v580 : BitVec 32 := Scalar.muli arg19 c32_i32_490
  let v581 : BitVec 32 := v580
  let v741 : Index := Scalar.indexCast v581
  let c1664_546 : Index := 1664#32
  ![v740.toNat, v741.toNat, 1664]
def k0_off61 (k0_t7 : Fin k0_t7_loop.trips) : Fin 4 → Nat :=
  let c0_i32_415 : BitVec 32 := 0#32
  let c1_i32_417 : BitVec 32 := 1#32
  let arg19 : BitVec 32 := Scf.iv c0_i32_415 c1_i32_417 k0_t7
  let c4_i32_547 : BitVec 32 := 4#32
  let v747 : BitVec 32 := Scalar.muli arg19 c4_i32_547
  let v748 : Index := Scalar.indexCast v747
  let c13 : Index := 13#32
  let c0_548 : Index := 0#32
  let c0_549 : Index := 0#32
  ![v748.toNat, 13, 0, 0]
def k0_off62 (k0_t4 : Fin k0_t4_loop.trips) (k0_t7 : Fin k0_t7_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v752 : Index := Scalar.indexCast v497
  let c0_i32_415 : BitVec 32 := 0#32
  let c1_i32_417 : BitVec 32 := 1#32
  let arg19 : BitVec 32 := Scf.iv c0_i32_415 c1_i32_417 k0_t7
  let c32_i32_490 : BitVec 32 := 32#32
  let v580 : BitVec 32 := Scalar.muli arg19 c32_i32_490
  let v581 : BitVec 32 := v580
  let v753 : Index := Scalar.indexCast v581
  let c1792_550 : Index := 1792#32
  ![v752.toNat, v753.toNat, 1792]
def k0_off63 (k0_t7 : Fin k0_t7_loop.trips) : Fin 4 → Nat :=
  let c0_i32_415 : BitVec 32 := 0#32
  let c1_i32_417 : BitVec 32 := 1#32
  let arg19 : BitVec 32 := Scf.iv c0_i32_415 c1_i32_417 k0_t7
  let c4_i32_551 : BitVec 32 := 4#32
  let v759 : BitVec 32 := Scalar.muli arg19 c4_i32_551
  let v760 : Index := Scalar.indexCast v759
  let c14 : Index := 14#32
  let c0_552 : Index := 0#32
  let c0_553 : Index := 0#32
  ![v760.toNat, 14, 0, 0]
def k0_off64 (k0_t4 : Fin k0_t4_loop.trips) (k0_t7 : Fin k0_t7_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v764 : Index := Scalar.indexCast v497
  let c0_i32_415 : BitVec 32 := 0#32
  let c1_i32_417 : BitVec 32 := 1#32
  let arg19 : BitVec 32 := Scf.iv c0_i32_415 c1_i32_417 k0_t7
  let c32_i32_490 : BitVec 32 := 32#32
  let v580 : BitVec 32 := Scalar.muli arg19 c32_i32_490
  let v581 : BitVec 32 := v580
  let v765 : Index := Scalar.indexCast v581
  let c1920_554 : Index := 1920#32
  ![v764.toNat, v765.toNat, 1920]
def k0_off65 (k0_t7 : Fin k0_t7_loop.trips) : Fin 4 → Nat :=
  let c0_i32_415 : BitVec 32 := 0#32
  let c1_i32_417 : BitVec 32 := 1#32
  let arg19 : BitVec 32 := Scf.iv c0_i32_415 c1_i32_417 k0_t7
  let c4_i32_555 : BitVec 32 := 4#32
  let v771 : BitVec 32 := Scalar.muli arg19 c4_i32_555
  let v772 : Index := Scalar.indexCast v771
  let c15 : Index := 15#32
  let c0_556 : Index := 0#32
  let c0_557 : Index := 0#32
  ![v772.toNat, 15, 0, 0]
def k0_off66 (k0_t4 : Fin k0_t4_loop.trips) (k0_t7 : Fin k0_t7_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v776 : Index := Scalar.indexCast v497
  let c0_i32_415 : BitVec 32 := 0#32
  let c1_i32_417 : BitVec 32 := 1#32
  let arg19 : BitVec 32 := Scf.iv c0_i32_415 c1_i32_417 k0_t7
  let c32_i32_490 : BitVec 32 := 32#32
  let v580 : BitVec 32 := Scalar.muli arg19 c32_i32_490
  let v581 : BitVec 32 := v580
  let v777 : Index := Scalar.indexCast v581
  let c2048 : Index := 2048#32
  ![v776.toNat, v777.toNat, 2048]
def k0_off67 (k0_t7 : Fin k0_t7_loop.trips) : Fin 4 → Nat :=
  let c0_i32_415 : BitVec 32 := 0#32
  let c1_i32_417 : BitVec 32 := 1#32
  let arg19 : BitVec 32 := Scf.iv c0_i32_415 c1_i32_417 k0_t7
  let c4_i32_558 : BitVec 32 := 4#32
  let v783 : BitVec 32 := Scalar.muli arg19 c4_i32_558
  let v784 : Index := Scalar.indexCast v783
  let c16_559 : Index := 16#32
  let c0_560 : Index := 0#32
  let c0_561 : Index := 0#32
  ![v784.toNat, 16, 0, 0]
def k0_off68 (k0_t4 : Fin k0_t4_loop.trips) (k0_t7 : Fin k0_t7_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v788 : Index := Scalar.indexCast v497
  let c0_i32_415 : BitVec 32 := 0#32
  let c1_i32_417 : BitVec 32 := 1#32
  let arg19 : BitVec 32 := Scf.iv c0_i32_415 c1_i32_417 k0_t7
  let c32_i32_490 : BitVec 32 := 32#32
  let v580 : BitVec 32 := Scalar.muli arg19 c32_i32_490
  let v581 : BitVec 32 := v580
  let v789 : Index := Scalar.indexCast v581
  let c2176 : Index := 2176#32
  ![v788.toNat, v789.toNat, 2176]
def k0_off69 (k0_t7 : Fin k0_t7_loop.trips) : Fin 4 → Nat :=
  let c0_i32_415 : BitVec 32 := 0#32
  let c1_i32_417 : BitVec 32 := 1#32
  let arg19 : BitVec 32 := Scf.iv c0_i32_415 c1_i32_417 k0_t7
  let c4_i32_562 : BitVec 32 := 4#32
  let v795 : BitVec 32 := Scalar.muli arg19 c4_i32_562
  let v796 : Index := Scalar.indexCast v795
  let c17 : Index := 17#32
  let c0_563 : Index := 0#32
  let c0_564 : Index := 0#32
  ![v796.toNat, 17, 0, 0]
def k0_off70 (k0_t4 : Fin k0_t4_loop.trips) (k0_t7 : Fin k0_t7_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v800 : Index := Scalar.indexCast v497
  let c0_i32_415 : BitVec 32 := 0#32
  let c1_i32_417 : BitVec 32 := 1#32
  let arg19 : BitVec 32 := Scf.iv c0_i32_415 c1_i32_417 k0_t7
  let c32_i32_490 : BitVec 32 := 32#32
  let v580 : BitVec 32 := Scalar.muli arg19 c32_i32_490
  let v581 : BitVec 32 := v580
  let v801 : Index := Scalar.indexCast v581
  let c2304 : Index := 2304#32
  ![v800.toNat, v801.toNat, 2304]
def k0_off71 (k0_t7 : Fin k0_t7_loop.trips) : Fin 4 → Nat :=
  let c0_i32_415 : BitVec 32 := 0#32
  let c1_i32_417 : BitVec 32 := 1#32
  let arg19 : BitVec 32 := Scf.iv c0_i32_415 c1_i32_417 k0_t7
  let c4_i32_565 : BitVec 32 := 4#32
  let v807 : BitVec 32 := Scalar.muli arg19 c4_i32_565
  let v808 : Index := Scalar.indexCast v807
  let c18 : Index := 18#32
  let c0_566 : Index := 0#32
  let c0_567 : Index := 0#32
  ![v808.toNat, 18, 0, 0]
def k0_off72 (k0_t4 : Fin k0_t4_loop.trips) (k0_t7 : Fin k0_t7_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v812 : Index := Scalar.indexCast v497
  let c0_i32_415 : BitVec 32 := 0#32
  let c1_i32_417 : BitVec 32 := 1#32
  let arg19 : BitVec 32 := Scf.iv c0_i32_415 c1_i32_417 k0_t7
  let c32_i32_490 : BitVec 32 := 32#32
  let v580 : BitVec 32 := Scalar.muli arg19 c32_i32_490
  let v581 : BitVec 32 := v580
  let v813 : Index := Scalar.indexCast v581
  let c2432 : Index := 2432#32
  ![v812.toNat, v813.toNat, 2432]
def k0_off73 (k0_t7 : Fin k0_t7_loop.trips) : Fin 4 → Nat :=
  let c0_i32_415 : BitVec 32 := 0#32
  let c1_i32_417 : BitVec 32 := 1#32
  let arg19 : BitVec 32 := Scf.iv c0_i32_415 c1_i32_417 k0_t7
  let c4_i32_568 : BitVec 32 := 4#32
  let v819 : BitVec 32 := Scalar.muli arg19 c4_i32_568
  let v820 : Index := Scalar.indexCast v819
  let c19 : Index := 19#32
  let c0_569 : Index := 0#32
  let c0_570 : Index := 0#32
  ![v820.toNat, 19, 0, 0]
def k0_off74 (k0_t4 : Fin k0_t4_loop.trips) (k0_t7 : Fin k0_t7_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v824 : Index := Scalar.indexCast v497
  let c0_i32_415 : BitVec 32 := 0#32
  let c1_i32_417 : BitVec 32 := 1#32
  let arg19 : BitVec 32 := Scf.iv c0_i32_415 c1_i32_417 k0_t7
  let c32_i32_490 : BitVec 32 := 32#32
  let v580 : BitVec 32 := Scalar.muli arg19 c32_i32_490
  let v581 : BitVec 32 := v580
  let v825 : Index := Scalar.indexCast v581
  let c2560 : Index := 2560#32
  ![v824.toNat, v825.toNat, 2560]
def k0_off75 (k0_t7 : Fin k0_t7_loop.trips) : Fin 4 → Nat :=
  let c0_i32_415 : BitVec 32 := 0#32
  let c1_i32_417 : BitVec 32 := 1#32
  let arg19 : BitVec 32 := Scf.iv c0_i32_415 c1_i32_417 k0_t7
  let c4_i32_571 : BitVec 32 := 4#32
  let v831 : BitVec 32 := Scalar.muli arg19 c4_i32_571
  let v832 : Index := Scalar.indexCast v831
  let c20 : Index := 20#32
  let c0_572 : Index := 0#32
  let c0_573 : Index := 0#32
  ![v832.toNat, 20, 0, 0]
def k0_off76 (k0_t4 : Fin k0_t4_loop.trips) (k0_t7 : Fin k0_t7_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v836 : Index := Scalar.indexCast v497
  let c0_i32_415 : BitVec 32 := 0#32
  let c1_i32_417 : BitVec 32 := 1#32
  let arg19 : BitVec 32 := Scf.iv c0_i32_415 c1_i32_417 k0_t7
  let c32_i32_490 : BitVec 32 := 32#32
  let v580 : BitVec 32 := Scalar.muli arg19 c32_i32_490
  let v581 : BitVec 32 := v580
  let v837 : Index := Scalar.indexCast v581
  let c2688 : Index := 2688#32
  ![v836.toNat, v837.toNat, 2688]
def k0_off77 (k0_t7 : Fin k0_t7_loop.trips) : Fin 4 → Nat :=
  let c0_i32_415 : BitVec 32 := 0#32
  let c1_i32_417 : BitVec 32 := 1#32
  let arg19 : BitVec 32 := Scf.iv c0_i32_415 c1_i32_417 k0_t7
  let c4_i32_574 : BitVec 32 := 4#32
  let v843 : BitVec 32 := Scalar.muli arg19 c4_i32_574
  let v844 : Index := Scalar.indexCast v843
  let c21 : Index := 21#32
  let c0_575 : Index := 0#32
  let c0_576 : Index := 0#32
  ![v844.toNat, 21, 0, 0]
def k0_off78 (k0_t4 : Fin k0_t4_loop.trips) (k0_t7 : Fin k0_t7_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v848 : Index := Scalar.indexCast v497
  let c0_i32_415 : BitVec 32 := 0#32
  let c1_i32_417 : BitVec 32 := 1#32
  let arg19 : BitVec 32 := Scf.iv c0_i32_415 c1_i32_417 k0_t7
  let c32_i32_490 : BitVec 32 := 32#32
  let v580 : BitVec 32 := Scalar.muli arg19 c32_i32_490
  let v581 : BitVec 32 := v580
  let v849 : Index := Scalar.indexCast v581
  let c2816 : Index := 2816#32
  ![v848.toNat, v849.toNat, 2816]
def k0_off79 (k0_t7 : Fin k0_t7_loop.trips) : Fin 4 → Nat :=
  let c0_i32_415 : BitVec 32 := 0#32
  let c1_i32_417 : BitVec 32 := 1#32
  let arg19 : BitVec 32 := Scf.iv c0_i32_415 c1_i32_417 k0_t7
  let c4_i32_577 : BitVec 32 := 4#32
  let v855 : BitVec 32 := Scalar.muli arg19 c4_i32_577
  let v856 : Index := Scalar.indexCast v855
  let c22 : Index := 22#32
  let c0_578 : Index := 0#32
  let c0_579 : Index := 0#32
  ![v856.toNat, 22, 0, 0]
def k0_off80 (k0_t4 : Fin k0_t4_loop.trips) (k0_t7 : Fin k0_t7_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v860 : Index := Scalar.indexCast v497
  let c0_i32_415 : BitVec 32 := 0#32
  let c1_i32_417 : BitVec 32 := 1#32
  let arg19 : BitVec 32 := Scf.iv c0_i32_415 c1_i32_417 k0_t7
  let c32_i32_490 : BitVec 32 := 32#32
  let v580 : BitVec 32 := Scalar.muli arg19 c32_i32_490
  let v581 : BitVec 32 := v580
  let v861 : Index := Scalar.indexCast v581
  let c2944 : Index := 2944#32
  ![v860.toNat, v861.toNat, 2944]
def k0_off81 (k0_t7 : Fin k0_t7_loop.trips) : Fin 4 → Nat :=
  let c0_i32_415 : BitVec 32 := 0#32
  let c1_i32_417 : BitVec 32 := 1#32
  let arg19 : BitVec 32 := Scf.iv c0_i32_415 c1_i32_417 k0_t7
  let c4_i32_580 : BitVec 32 := 4#32
  let v867 : BitVec 32 := Scalar.muli arg19 c4_i32_580
  let v868 : Index := Scalar.indexCast v867
  let c23 : Index := 23#32
  let c0_581 : Index := 0#32
  let c0_582 : Index := 0#32
  ![v868.toNat, 23, 0, 0]
def k0_off82 (k0_t4 : Fin k0_t4_loop.trips) : Fin 2 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let c1_i32_421 : BitVec 32 := 1#32
  ![v497.toNat, 1]
def k0_off83 (k0_t4 : Fin k0_t4_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let c256_i32_422 : BitVec 32 := 256#32
  let c0_i32_423 : BitVec 32 := 0#32
  ![v497.toNat, 256, 0]
def k0_off84 (k0_t4 : Fin k0_t4_loop.trips) : Fin 3 → Nat :=
  let c0_i32_420 : BitVec 32 := 0#32
  let c256_i32_424 : BitVec 32 := 256#32
  let c0_i32_379 : BitVec 32 := 0#32
  let c1_i32_381 : BitVec 32 := 1#32
  let arg18 : BitVec 32 := Scf.iv c0_i32_379 c1_i32_381 k0_t4
  let c3072_i32_419 : BitVec 32 := 3072#32
  let v517 : BitVec 32 := Scalar.muli arg18 c3072_i32_419
  ![0, 256, v517.toNat]
@[reducible] def k0_t8_loop : Scf.Loop 32 :=
  let c8_i32_425 : BitVec 32 := 8#32
  let c8_i32_426 : BitVec 32 := 8#32
  let v524 : BitVec 32 := Scalar.addi c8_i32_425 c8_i32_426
  let c1_i32_427 : BitVec 32 := 1#32
  ⟨c8_i32_425, v524, c1_i32_427⟩
def k0_mult2 (k0_t8 : Fin k0_t8_loop.trips) : BitVec 32 :=
  let c8_i32_425 : BitVec 32 := 8#32
  let c1_i32_427 : BitVec 32 := 1#32
  let arg19 : BitVec 32 := Scf.iv c8_i32_425 c1_i32_427 k0_t8
  let c32_i32_490 : BitVec 32 := 32#32
  let v580 : BitVec 32 := Scalar.muli arg19 c32_i32_490
  v580
def k0_off85 (k0_t8 : Fin k0_t8_loop.trips) : Fin 2 → Nat :=
  let c8_i32_425 : BitVec 32 := 8#32
  let c1_i32_427 : BitVec 32 := 1#32
  let arg19 : BitVec 32 := Scf.iv c8_i32_425 c1_i32_427 k0_t8
  let c32_i32_490 : BitVec 32 := 32#32
  let v580 : BitVec 32 := Scalar.muli arg19 c32_i32_490
  let v581 : BitVec 32 := v580
  let v582 : Index := Scalar.indexCast v581
  let c0_491 : Index := 0#32
  ![v582.toNat, 0]
def k0_off86 (k0_t4 : Fin k0_t4_loop.trips) (k0_t8 : Fin k0_t8_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v584 : Index := Scalar.indexCast v497
  let c8_i32_425 : BitVec 32 := 8#32
  let c1_i32_427 : BitVec 32 := 1#32
  let arg19 : BitVec 32 := Scf.iv c8_i32_425 c1_i32_427 k0_t8
  let c32_i32_490 : BitVec 32 := 32#32
  let v580 : BitVec 32 := Scalar.muli arg19 c32_i32_490
  let v581 : BitVec 32 := v580
  let v585 : Index := Scalar.indexCast v581
  let c0_492 : Index := 0#32
  ![v584.toNat, v585.toNat, 0]
def k0_off87 (k0_t8 : Fin k0_t8_loop.trips) : Fin 4 → Nat :=
  let c8_i32_425 : BitVec 32 := 8#32
  let c1_i32_427 : BitVec 32 := 1#32
  let arg19 : BitVec 32 := Scf.iv c8_i32_425 c1_i32_427 k0_t8
  let c4_i32_493 : BitVec 32 := 4#32
  let v591 : BitVec 32 := Scalar.muli arg19 c4_i32_493
  let v592 : Index := Scalar.indexCast v591
  let c0_494 : Index := 0#32
  let c0_495 : Index := 0#32
  let c0_496 : Index := 0#32
  ![v592.toNat, 0, 0, 0]
def k0_off88 (k0_t4 : Fin k0_t4_loop.trips) (k0_t8 : Fin k0_t8_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v596 : Index := Scalar.indexCast v497
  let c8_i32_425 : BitVec 32 := 8#32
  let c1_i32_427 : BitVec 32 := 1#32
  let arg19 : BitVec 32 := Scf.iv c8_i32_425 c1_i32_427 k0_t8
  let c32_i32_490 : BitVec 32 := 32#32
  let v580 : BitVec 32 := Scalar.muli arg19 c32_i32_490
  let v581 : BitVec 32 := v580
  let v597 : Index := Scalar.indexCast v581
  let c128_497 : Index := 128#32
  ![v596.toNat, v597.toNat, 128]
def k0_off89 (k0_t8 : Fin k0_t8_loop.trips) : Fin 4 → Nat :=
  let c8_i32_425 : BitVec 32 := 8#32
  let c1_i32_427 : BitVec 32 := 1#32
  let arg19 : BitVec 32 := Scf.iv c8_i32_425 c1_i32_427 k0_t8
  let c4_i32_498 : BitVec 32 := 4#32
  let v603 : BitVec 32 := Scalar.muli arg19 c4_i32_498
  let v604 : Index := Scalar.indexCast v603
  let c1_499 : Index := 1#32
  let c0_500 : Index := 0#32
  let c0_501 : Index := 0#32
  ![v604.toNat, 1, 0, 0]
def k0_off90 (k0_t4 : Fin k0_t4_loop.trips) (k0_t8 : Fin k0_t8_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v608 : Index := Scalar.indexCast v497
  let c8_i32_425 : BitVec 32 := 8#32
  let c1_i32_427 : BitVec 32 := 1#32
  let arg19 : BitVec 32 := Scf.iv c8_i32_425 c1_i32_427 k0_t8
  let c32_i32_490 : BitVec 32 := 32#32
  let v580 : BitVec 32 := Scalar.muli arg19 c32_i32_490
  let v581 : BitVec 32 := v580
  let v609 : Index := Scalar.indexCast v581
  let c256_502 : Index := 256#32
  ![v608.toNat, v609.toNat, 256]
def k0_off91 (k0_t8 : Fin k0_t8_loop.trips) : Fin 4 → Nat :=
  let c8_i32_425 : BitVec 32 := 8#32
  let c1_i32_427 : BitVec 32 := 1#32
  let arg19 : BitVec 32 := Scf.iv c8_i32_425 c1_i32_427 k0_t8
  let c4_i32_503 : BitVec 32 := 4#32
  let v615 : BitVec 32 := Scalar.muli arg19 c4_i32_503
  let v616 : Index := Scalar.indexCast v615
  let c2 : Index := 2#32
  let c0_504 : Index := 0#32
  let c0_505 : Index := 0#32
  ![v616.toNat, 2, 0, 0]
def k0_off92 (k0_t4 : Fin k0_t4_loop.trips) (k0_t8 : Fin k0_t8_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v620 : Index := Scalar.indexCast v497
  let c8_i32_425 : BitVec 32 := 8#32
  let c1_i32_427 : BitVec 32 := 1#32
  let arg19 : BitVec 32 := Scf.iv c8_i32_425 c1_i32_427 k0_t8
  let c32_i32_490 : BitVec 32 := 32#32
  let v580 : BitVec 32 := Scalar.muli arg19 c32_i32_490
  let v581 : BitVec 32 := v580
  let v621 : Index := Scalar.indexCast v581
  let c384_506 : Index := 384#32
  ![v620.toNat, v621.toNat, 384]
def k0_off93 (k0_t8 : Fin k0_t8_loop.trips) : Fin 4 → Nat :=
  let c8_i32_425 : BitVec 32 := 8#32
  let c1_i32_427 : BitVec 32 := 1#32
  let arg19 : BitVec 32 := Scf.iv c8_i32_425 c1_i32_427 k0_t8
  let c4_i32_507 : BitVec 32 := 4#32
  let v627 : BitVec 32 := Scalar.muli arg19 c4_i32_507
  let v628 : Index := Scalar.indexCast v627
  let c3 : Index := 3#32
  let c0_508 : Index := 0#32
  let c0_509 : Index := 0#32
  ![v628.toNat, 3, 0, 0]
def k0_off94 (k0_t4 : Fin k0_t4_loop.trips) (k0_t8 : Fin k0_t8_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v632 : Index := Scalar.indexCast v497
  let c8_i32_425 : BitVec 32 := 8#32
  let c1_i32_427 : BitVec 32 := 1#32
  let arg19 : BitVec 32 := Scf.iv c8_i32_425 c1_i32_427 k0_t8
  let c32_i32_490 : BitVec 32 := 32#32
  let v580 : BitVec 32 := Scalar.muli arg19 c32_i32_490
  let v581 : BitVec 32 := v580
  let v633 : Index := Scalar.indexCast v581
  let c512_510 : Index := 512#32
  ![v632.toNat, v633.toNat, 512]
def k0_off95 (k0_t8 : Fin k0_t8_loop.trips) : Fin 4 → Nat :=
  let c8_i32_425 : BitVec 32 := 8#32
  let c1_i32_427 : BitVec 32 := 1#32
  let arg19 : BitVec 32 := Scf.iv c8_i32_425 c1_i32_427 k0_t8
  let c4_i32_511 : BitVec 32 := 4#32
  let v639 : BitVec 32 := Scalar.muli arg19 c4_i32_511
  let v640 : Index := Scalar.indexCast v639
  let c4 : Index := 4#32
  let c0_512 : Index := 0#32
  let c0_513 : Index := 0#32
  ![v640.toNat, 4, 0, 0]
def k0_off96 (k0_t4 : Fin k0_t4_loop.trips) (k0_t8 : Fin k0_t8_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v644 : Index := Scalar.indexCast v497
  let c8_i32_425 : BitVec 32 := 8#32
  let c1_i32_427 : BitVec 32 := 1#32
  let arg19 : BitVec 32 := Scf.iv c8_i32_425 c1_i32_427 k0_t8
  let c32_i32_490 : BitVec 32 := 32#32
  let v580 : BitVec 32 := Scalar.muli arg19 c32_i32_490
  let v581 : BitVec 32 := v580
  let v645 : Index := Scalar.indexCast v581
  let c640_514 : Index := 640#32
  ![v644.toNat, v645.toNat, 640]
def k0_off97 (k0_t8 : Fin k0_t8_loop.trips) : Fin 4 → Nat :=
  let c8_i32_425 : BitVec 32 := 8#32
  let c1_i32_427 : BitVec 32 := 1#32
  let arg19 : BitVec 32 := Scf.iv c8_i32_425 c1_i32_427 k0_t8
  let c4_i32_515 : BitVec 32 := 4#32
  let v651 : BitVec 32 := Scalar.muli arg19 c4_i32_515
  let v652 : Index := Scalar.indexCast v651
  let c5 : Index := 5#32
  let c0_516 : Index := 0#32
  let c0_517 : Index := 0#32
  ![v652.toNat, 5, 0, 0]
def k0_off98 (k0_t4 : Fin k0_t4_loop.trips) (k0_t8 : Fin k0_t8_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v656 : Index := Scalar.indexCast v497
  let c8_i32_425 : BitVec 32 := 8#32
  let c1_i32_427 : BitVec 32 := 1#32
  let arg19 : BitVec 32 := Scf.iv c8_i32_425 c1_i32_427 k0_t8
  let c32_i32_490 : BitVec 32 := 32#32
  let v580 : BitVec 32 := Scalar.muli arg19 c32_i32_490
  let v581 : BitVec 32 := v580
  let v657 : Index := Scalar.indexCast v581
  let c768_518 : Index := 768#32
  ![v656.toNat, v657.toNat, 768]
def k0_off99 (k0_t8 : Fin k0_t8_loop.trips) : Fin 4 → Nat :=
  let c8_i32_425 : BitVec 32 := 8#32
  let c1_i32_427 : BitVec 32 := 1#32
  let arg19 : BitVec 32 := Scf.iv c8_i32_425 c1_i32_427 k0_t8
  let c4_i32_519 : BitVec 32 := 4#32
  let v663 : BitVec 32 := Scalar.muli arg19 c4_i32_519
  let v664 : Index := Scalar.indexCast v663
  let c6 : Index := 6#32
  let c0_520 : Index := 0#32
  let c0_521 : Index := 0#32
  ![v664.toNat, 6, 0, 0]
def k0_off100 (k0_t4 : Fin k0_t4_loop.trips) (k0_t8 : Fin k0_t8_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v668 : Index := Scalar.indexCast v497
  let c8_i32_425 : BitVec 32 := 8#32
  let c1_i32_427 : BitVec 32 := 1#32
  let arg19 : BitVec 32 := Scf.iv c8_i32_425 c1_i32_427 k0_t8
  let c32_i32_490 : BitVec 32 := 32#32
  let v580 : BitVec 32 := Scalar.muli arg19 c32_i32_490
  let v581 : BitVec 32 := v580
  let v669 : Index := Scalar.indexCast v581
  let c896_522 : Index := 896#32
  ![v668.toNat, v669.toNat, 896]
def k0_off101 (k0_t8 : Fin k0_t8_loop.trips) : Fin 4 → Nat :=
  let c8_i32_425 : BitVec 32 := 8#32
  let c1_i32_427 : BitVec 32 := 1#32
  let arg19 : BitVec 32 := Scf.iv c8_i32_425 c1_i32_427 k0_t8
  let c4_i32_523 : BitVec 32 := 4#32
  let v675 : BitVec 32 := Scalar.muli arg19 c4_i32_523
  let v676 : Index := Scalar.indexCast v675
  let c7 : Index := 7#32
  let c0_524 : Index := 0#32
  let c0_525 : Index := 0#32
  ![v676.toNat, 7, 0, 0]
def k0_off102 (k0_t4 : Fin k0_t4_loop.trips) (k0_t8 : Fin k0_t8_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v680 : Index := Scalar.indexCast v497
  let c8_i32_425 : BitVec 32 := 8#32
  let c1_i32_427 : BitVec 32 := 1#32
  let arg19 : BitVec 32 := Scf.iv c8_i32_425 c1_i32_427 k0_t8
  let c32_i32_490 : BitVec 32 := 32#32
  let v580 : BitVec 32 := Scalar.muli arg19 c32_i32_490
  let v581 : BitVec 32 := v580
  let v681 : Index := Scalar.indexCast v581
  let c1024_526 : Index := 1024#32
  ![v680.toNat, v681.toNat, 1024]
def k0_off103 (k0_t8 : Fin k0_t8_loop.trips) : Fin 4 → Nat :=
  let c8_i32_425 : BitVec 32 := 8#32
  let c1_i32_427 : BitVec 32 := 1#32
  let arg19 : BitVec 32 := Scf.iv c8_i32_425 c1_i32_427 k0_t8
  let c4_i32_527 : BitVec 32 := 4#32
  let v687 : BitVec 32 := Scalar.muli arg19 c4_i32_527
  let v688 : Index := Scalar.indexCast v687
  let c8 : Index := 8#32
  let c0_528 : Index := 0#32
  let c0_529 : Index := 0#32
  ![v688.toNat, 8, 0, 0]
def k0_off104 (k0_t4 : Fin k0_t4_loop.trips) (k0_t8 : Fin k0_t8_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v692 : Index := Scalar.indexCast v497
  let c8_i32_425 : BitVec 32 := 8#32
  let c1_i32_427 : BitVec 32 := 1#32
  let arg19 : BitVec 32 := Scf.iv c8_i32_425 c1_i32_427 k0_t8
  let c32_i32_490 : BitVec 32 := 32#32
  let v580 : BitVec 32 := Scalar.muli arg19 c32_i32_490
  let v581 : BitVec 32 := v580
  let v693 : Index := Scalar.indexCast v581
  let c1152_530 : Index := 1152#32
  ![v692.toNat, v693.toNat, 1152]
def k0_off105 (k0_t8 : Fin k0_t8_loop.trips) : Fin 4 → Nat :=
  let c8_i32_425 : BitVec 32 := 8#32
  let c1_i32_427 : BitVec 32 := 1#32
  let arg19 : BitVec 32 := Scf.iv c8_i32_425 c1_i32_427 k0_t8
  let c4_i32_531 : BitVec 32 := 4#32
  let v699 : BitVec 32 := Scalar.muli arg19 c4_i32_531
  let v700 : Index := Scalar.indexCast v699
  let c9 : Index := 9#32
  let c0_532 : Index := 0#32
  let c0_533 : Index := 0#32
  ![v700.toNat, 9, 0, 0]
def k0_off106 (k0_t4 : Fin k0_t4_loop.trips) (k0_t8 : Fin k0_t8_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v704 : Index := Scalar.indexCast v497
  let c8_i32_425 : BitVec 32 := 8#32
  let c1_i32_427 : BitVec 32 := 1#32
  let arg19 : BitVec 32 := Scf.iv c8_i32_425 c1_i32_427 k0_t8
  let c32_i32_490 : BitVec 32 := 32#32
  let v580 : BitVec 32 := Scalar.muli arg19 c32_i32_490
  let v581 : BitVec 32 := v580
  let v705 : Index := Scalar.indexCast v581
  let c1280_534 : Index := 1280#32
  ![v704.toNat, v705.toNat, 1280]
def k0_off107 (k0_t8 : Fin k0_t8_loop.trips) : Fin 4 → Nat :=
  let c8_i32_425 : BitVec 32 := 8#32
  let c1_i32_427 : BitVec 32 := 1#32
  let arg19 : BitVec 32 := Scf.iv c8_i32_425 c1_i32_427 k0_t8
  let c4_i32_535 : BitVec 32 := 4#32
  let v711 : BitVec 32 := Scalar.muli arg19 c4_i32_535
  let v712 : Index := Scalar.indexCast v711
  let c10 : Index := 10#32
  let c0_536 : Index := 0#32
  let c0_537 : Index := 0#32
  ![v712.toNat, 10, 0, 0]
def k0_off108 (k0_t4 : Fin k0_t4_loop.trips) (k0_t8 : Fin k0_t8_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v716 : Index := Scalar.indexCast v497
  let c8_i32_425 : BitVec 32 := 8#32
  let c1_i32_427 : BitVec 32 := 1#32
  let arg19 : BitVec 32 := Scf.iv c8_i32_425 c1_i32_427 k0_t8
  let c32_i32_490 : BitVec 32 := 32#32
  let v580 : BitVec 32 := Scalar.muli arg19 c32_i32_490
  let v581 : BitVec 32 := v580
  let v717 : Index := Scalar.indexCast v581
  let c1408_538 : Index := 1408#32
  ![v716.toNat, v717.toNat, 1408]
def k0_off109 (k0_t8 : Fin k0_t8_loop.trips) : Fin 4 → Nat :=
  let c8_i32_425 : BitVec 32 := 8#32
  let c1_i32_427 : BitVec 32 := 1#32
  let arg19 : BitVec 32 := Scf.iv c8_i32_425 c1_i32_427 k0_t8
  let c4_i32_539 : BitVec 32 := 4#32
  let v723 : BitVec 32 := Scalar.muli arg19 c4_i32_539
  let v724 : Index := Scalar.indexCast v723
  let c11 : Index := 11#32
  let c0_540 : Index := 0#32
  let c0_541 : Index := 0#32
  ![v724.toNat, 11, 0, 0]
def k0_off110 (k0_t4 : Fin k0_t4_loop.trips) (k0_t8 : Fin k0_t8_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v728 : Index := Scalar.indexCast v497
  let c8_i32_425 : BitVec 32 := 8#32
  let c1_i32_427 : BitVec 32 := 1#32
  let arg19 : BitVec 32 := Scf.iv c8_i32_425 c1_i32_427 k0_t8
  let c32_i32_490 : BitVec 32 := 32#32
  let v580 : BitVec 32 := Scalar.muli arg19 c32_i32_490
  let v581 : BitVec 32 := v580
  let v729 : Index := Scalar.indexCast v581
  let c1536_542 : Index := 1536#32
  ![v728.toNat, v729.toNat, 1536]
def k0_off111 (k0_t8 : Fin k0_t8_loop.trips) : Fin 4 → Nat :=
  let c8_i32_425 : BitVec 32 := 8#32
  let c1_i32_427 : BitVec 32 := 1#32
  let arg19 : BitVec 32 := Scf.iv c8_i32_425 c1_i32_427 k0_t8
  let c4_i32_543 : BitVec 32 := 4#32
  let v735 : BitVec 32 := Scalar.muli arg19 c4_i32_543
  let v736 : Index := Scalar.indexCast v735
  let c12 : Index := 12#32
  let c0_544 : Index := 0#32
  let c0_545 : Index := 0#32
  ![v736.toNat, 12, 0, 0]
def k0_off112 (k0_t4 : Fin k0_t4_loop.trips) (k0_t8 : Fin k0_t8_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v740 : Index := Scalar.indexCast v497
  let c8_i32_425 : BitVec 32 := 8#32
  let c1_i32_427 : BitVec 32 := 1#32
  let arg19 : BitVec 32 := Scf.iv c8_i32_425 c1_i32_427 k0_t8
  let c32_i32_490 : BitVec 32 := 32#32
  let v580 : BitVec 32 := Scalar.muli arg19 c32_i32_490
  let v581 : BitVec 32 := v580
  let v741 : Index := Scalar.indexCast v581
  let c1664_546 : Index := 1664#32
  ![v740.toNat, v741.toNat, 1664]
def k0_off113 (k0_t8 : Fin k0_t8_loop.trips) : Fin 4 → Nat :=
  let c8_i32_425 : BitVec 32 := 8#32
  let c1_i32_427 : BitVec 32 := 1#32
  let arg19 : BitVec 32 := Scf.iv c8_i32_425 c1_i32_427 k0_t8
  let c4_i32_547 : BitVec 32 := 4#32
  let v747 : BitVec 32 := Scalar.muli arg19 c4_i32_547
  let v748 : Index := Scalar.indexCast v747
  let c13 : Index := 13#32
  let c0_548 : Index := 0#32
  let c0_549 : Index := 0#32
  ![v748.toNat, 13, 0, 0]
def k0_off114 (k0_t4 : Fin k0_t4_loop.trips) (k0_t8 : Fin k0_t8_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v752 : Index := Scalar.indexCast v497
  let c8_i32_425 : BitVec 32 := 8#32
  let c1_i32_427 : BitVec 32 := 1#32
  let arg19 : BitVec 32 := Scf.iv c8_i32_425 c1_i32_427 k0_t8
  let c32_i32_490 : BitVec 32 := 32#32
  let v580 : BitVec 32 := Scalar.muli arg19 c32_i32_490
  let v581 : BitVec 32 := v580
  let v753 : Index := Scalar.indexCast v581
  let c1792_550 : Index := 1792#32
  ![v752.toNat, v753.toNat, 1792]
def k0_off115 (k0_t8 : Fin k0_t8_loop.trips) : Fin 4 → Nat :=
  let c8_i32_425 : BitVec 32 := 8#32
  let c1_i32_427 : BitVec 32 := 1#32
  let arg19 : BitVec 32 := Scf.iv c8_i32_425 c1_i32_427 k0_t8
  let c4_i32_551 : BitVec 32 := 4#32
  let v759 : BitVec 32 := Scalar.muli arg19 c4_i32_551
  let v760 : Index := Scalar.indexCast v759
  let c14 : Index := 14#32
  let c0_552 : Index := 0#32
  let c0_553 : Index := 0#32
  ![v760.toNat, 14, 0, 0]
def k0_off116 (k0_t4 : Fin k0_t4_loop.trips) (k0_t8 : Fin k0_t8_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v764 : Index := Scalar.indexCast v497
  let c8_i32_425 : BitVec 32 := 8#32
  let c1_i32_427 : BitVec 32 := 1#32
  let arg19 : BitVec 32 := Scf.iv c8_i32_425 c1_i32_427 k0_t8
  let c32_i32_490 : BitVec 32 := 32#32
  let v580 : BitVec 32 := Scalar.muli arg19 c32_i32_490
  let v581 : BitVec 32 := v580
  let v765 : Index := Scalar.indexCast v581
  let c1920_554 : Index := 1920#32
  ![v764.toNat, v765.toNat, 1920]
def k0_off117 (k0_t8 : Fin k0_t8_loop.trips) : Fin 4 → Nat :=
  let c8_i32_425 : BitVec 32 := 8#32
  let c1_i32_427 : BitVec 32 := 1#32
  let arg19 : BitVec 32 := Scf.iv c8_i32_425 c1_i32_427 k0_t8
  let c4_i32_555 : BitVec 32 := 4#32
  let v771 : BitVec 32 := Scalar.muli arg19 c4_i32_555
  let v772 : Index := Scalar.indexCast v771
  let c15 : Index := 15#32
  let c0_556 : Index := 0#32
  let c0_557 : Index := 0#32
  ![v772.toNat, 15, 0, 0]
def k0_off118 (k0_t4 : Fin k0_t4_loop.trips) (k0_t8 : Fin k0_t8_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v776 : Index := Scalar.indexCast v497
  let c8_i32_425 : BitVec 32 := 8#32
  let c1_i32_427 : BitVec 32 := 1#32
  let arg19 : BitVec 32 := Scf.iv c8_i32_425 c1_i32_427 k0_t8
  let c32_i32_490 : BitVec 32 := 32#32
  let v580 : BitVec 32 := Scalar.muli arg19 c32_i32_490
  let v581 : BitVec 32 := v580
  let v777 : Index := Scalar.indexCast v581
  let c2048 : Index := 2048#32
  ![v776.toNat, v777.toNat, 2048]
def k0_off119 (k0_t8 : Fin k0_t8_loop.trips) : Fin 4 → Nat :=
  let c8_i32_425 : BitVec 32 := 8#32
  let c1_i32_427 : BitVec 32 := 1#32
  let arg19 : BitVec 32 := Scf.iv c8_i32_425 c1_i32_427 k0_t8
  let c4_i32_558 : BitVec 32 := 4#32
  let v783 : BitVec 32 := Scalar.muli arg19 c4_i32_558
  let v784 : Index := Scalar.indexCast v783
  let c16_559 : Index := 16#32
  let c0_560 : Index := 0#32
  let c0_561 : Index := 0#32
  ![v784.toNat, 16, 0, 0]
def k0_off120 (k0_t4 : Fin k0_t4_loop.trips) (k0_t8 : Fin k0_t8_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v788 : Index := Scalar.indexCast v497
  let c8_i32_425 : BitVec 32 := 8#32
  let c1_i32_427 : BitVec 32 := 1#32
  let arg19 : BitVec 32 := Scf.iv c8_i32_425 c1_i32_427 k0_t8
  let c32_i32_490 : BitVec 32 := 32#32
  let v580 : BitVec 32 := Scalar.muli arg19 c32_i32_490
  let v581 : BitVec 32 := v580
  let v789 : Index := Scalar.indexCast v581
  let c2176 : Index := 2176#32
  ![v788.toNat, v789.toNat, 2176]
def k0_off121 (k0_t8 : Fin k0_t8_loop.trips) : Fin 4 → Nat :=
  let c8_i32_425 : BitVec 32 := 8#32
  let c1_i32_427 : BitVec 32 := 1#32
  let arg19 : BitVec 32 := Scf.iv c8_i32_425 c1_i32_427 k0_t8
  let c4_i32_562 : BitVec 32 := 4#32
  let v795 : BitVec 32 := Scalar.muli arg19 c4_i32_562
  let v796 : Index := Scalar.indexCast v795
  let c17 : Index := 17#32
  let c0_563 : Index := 0#32
  let c0_564 : Index := 0#32
  ![v796.toNat, 17, 0, 0]
def k0_off122 (k0_t4 : Fin k0_t4_loop.trips) (k0_t8 : Fin k0_t8_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v800 : Index := Scalar.indexCast v497
  let c8_i32_425 : BitVec 32 := 8#32
  let c1_i32_427 : BitVec 32 := 1#32
  let arg19 : BitVec 32 := Scf.iv c8_i32_425 c1_i32_427 k0_t8
  let c32_i32_490 : BitVec 32 := 32#32
  let v580 : BitVec 32 := Scalar.muli arg19 c32_i32_490
  let v581 : BitVec 32 := v580
  let v801 : Index := Scalar.indexCast v581
  let c2304 : Index := 2304#32
  ![v800.toNat, v801.toNat, 2304]
def k0_off123 (k0_t8 : Fin k0_t8_loop.trips) : Fin 4 → Nat :=
  let c8_i32_425 : BitVec 32 := 8#32
  let c1_i32_427 : BitVec 32 := 1#32
  let arg19 : BitVec 32 := Scf.iv c8_i32_425 c1_i32_427 k0_t8
  let c4_i32_565 : BitVec 32 := 4#32
  let v807 : BitVec 32 := Scalar.muli arg19 c4_i32_565
  let v808 : Index := Scalar.indexCast v807
  let c18 : Index := 18#32
  let c0_566 : Index := 0#32
  let c0_567 : Index := 0#32
  ![v808.toNat, 18, 0, 0]
def k0_off124 (k0_t4 : Fin k0_t4_loop.trips) (k0_t8 : Fin k0_t8_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v812 : Index := Scalar.indexCast v497
  let c8_i32_425 : BitVec 32 := 8#32
  let c1_i32_427 : BitVec 32 := 1#32
  let arg19 : BitVec 32 := Scf.iv c8_i32_425 c1_i32_427 k0_t8
  let c32_i32_490 : BitVec 32 := 32#32
  let v580 : BitVec 32 := Scalar.muli arg19 c32_i32_490
  let v581 : BitVec 32 := v580
  let v813 : Index := Scalar.indexCast v581
  let c2432 : Index := 2432#32
  ![v812.toNat, v813.toNat, 2432]
def k0_off125 (k0_t8 : Fin k0_t8_loop.trips) : Fin 4 → Nat :=
  let c8_i32_425 : BitVec 32 := 8#32
  let c1_i32_427 : BitVec 32 := 1#32
  let arg19 : BitVec 32 := Scf.iv c8_i32_425 c1_i32_427 k0_t8
  let c4_i32_568 : BitVec 32 := 4#32
  let v819 : BitVec 32 := Scalar.muli arg19 c4_i32_568
  let v820 : Index := Scalar.indexCast v819
  let c19 : Index := 19#32
  let c0_569 : Index := 0#32
  let c0_570 : Index := 0#32
  ![v820.toNat, 19, 0, 0]
def k0_off126 (k0_t4 : Fin k0_t4_loop.trips) (k0_t8 : Fin k0_t8_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v824 : Index := Scalar.indexCast v497
  let c8_i32_425 : BitVec 32 := 8#32
  let c1_i32_427 : BitVec 32 := 1#32
  let arg19 : BitVec 32 := Scf.iv c8_i32_425 c1_i32_427 k0_t8
  let c32_i32_490 : BitVec 32 := 32#32
  let v580 : BitVec 32 := Scalar.muli arg19 c32_i32_490
  let v581 : BitVec 32 := v580
  let v825 : Index := Scalar.indexCast v581
  let c2560 : Index := 2560#32
  ![v824.toNat, v825.toNat, 2560]
def k0_off127 (k0_t8 : Fin k0_t8_loop.trips) : Fin 4 → Nat :=
  let c8_i32_425 : BitVec 32 := 8#32
  let c1_i32_427 : BitVec 32 := 1#32
  let arg19 : BitVec 32 := Scf.iv c8_i32_425 c1_i32_427 k0_t8
  let c4_i32_571 : BitVec 32 := 4#32
  let v831 : BitVec 32 := Scalar.muli arg19 c4_i32_571
  let v832 : Index := Scalar.indexCast v831
  let c20 : Index := 20#32
  let c0_572 : Index := 0#32
  let c0_573 : Index := 0#32
  ![v832.toNat, 20, 0, 0]
def k0_off128 (k0_t4 : Fin k0_t4_loop.trips) (k0_t8 : Fin k0_t8_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v836 : Index := Scalar.indexCast v497
  let c8_i32_425 : BitVec 32 := 8#32
  let c1_i32_427 : BitVec 32 := 1#32
  let arg19 : BitVec 32 := Scf.iv c8_i32_425 c1_i32_427 k0_t8
  let c32_i32_490 : BitVec 32 := 32#32
  let v580 : BitVec 32 := Scalar.muli arg19 c32_i32_490
  let v581 : BitVec 32 := v580
  let v837 : Index := Scalar.indexCast v581
  let c2688 : Index := 2688#32
  ![v836.toNat, v837.toNat, 2688]
def k0_off129 (k0_t8 : Fin k0_t8_loop.trips) : Fin 4 → Nat :=
  let c8_i32_425 : BitVec 32 := 8#32
  let c1_i32_427 : BitVec 32 := 1#32
  let arg19 : BitVec 32 := Scf.iv c8_i32_425 c1_i32_427 k0_t8
  let c4_i32_574 : BitVec 32 := 4#32
  let v843 : BitVec 32 := Scalar.muli arg19 c4_i32_574
  let v844 : Index := Scalar.indexCast v843
  let c21 : Index := 21#32
  let c0_575 : Index := 0#32
  let c0_576 : Index := 0#32
  ![v844.toNat, 21, 0, 0]
def k0_off130 (k0_t4 : Fin k0_t4_loop.trips) (k0_t8 : Fin k0_t8_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v848 : Index := Scalar.indexCast v497
  let c8_i32_425 : BitVec 32 := 8#32
  let c1_i32_427 : BitVec 32 := 1#32
  let arg19 : BitVec 32 := Scf.iv c8_i32_425 c1_i32_427 k0_t8
  let c32_i32_490 : BitVec 32 := 32#32
  let v580 : BitVec 32 := Scalar.muli arg19 c32_i32_490
  let v581 : BitVec 32 := v580
  let v849 : Index := Scalar.indexCast v581
  let c2816 : Index := 2816#32
  ![v848.toNat, v849.toNat, 2816]
def k0_off131 (k0_t8 : Fin k0_t8_loop.trips) : Fin 4 → Nat :=
  let c8_i32_425 : BitVec 32 := 8#32
  let c1_i32_427 : BitVec 32 := 1#32
  let arg19 : BitVec 32 := Scf.iv c8_i32_425 c1_i32_427 k0_t8
  let c4_i32_577 : BitVec 32 := 4#32
  let v855 : BitVec 32 := Scalar.muli arg19 c4_i32_577
  let v856 : Index := Scalar.indexCast v855
  let c22 : Index := 22#32
  let c0_578 : Index := 0#32
  let c0_579 : Index := 0#32
  ![v856.toNat, 22, 0, 0]
def k0_off132 (k0_t4 : Fin k0_t4_loop.trips) (k0_t8 : Fin k0_t8_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v860 : Index := Scalar.indexCast v497
  let c8_i32_425 : BitVec 32 := 8#32
  let c1_i32_427 : BitVec 32 := 1#32
  let arg19 : BitVec 32 := Scf.iv c8_i32_425 c1_i32_427 k0_t8
  let c32_i32_490 : BitVec 32 := 32#32
  let v580 : BitVec 32 := Scalar.muli arg19 c32_i32_490
  let v581 : BitVec 32 := v580
  let v861 : Index := Scalar.indexCast v581
  let c2944 : Index := 2944#32
  ![v860.toNat, v861.toNat, 2944]
def k0_off133 (k0_t8 : Fin k0_t8_loop.trips) : Fin 4 → Nat :=
  let c8_i32_425 : BitVec 32 := 8#32
  let c1_i32_427 : BitVec 32 := 1#32
  let arg19 : BitVec 32 := Scf.iv c8_i32_425 c1_i32_427 k0_t8
  let c4_i32_580 : BitVec 32 := 4#32
  let v867 : BitVec 32 := Scalar.muli arg19 c4_i32_580
  let v868 : Index := Scalar.indexCast v867
  let c23 : Index := 23#32
  let c0_581 : Index := 0#32
  let c0_582 : Index := 0#32
  ![v868.toNat, 23, 0, 0]
def k0_off134 (k0_t4 : Fin k0_t4_loop.trips) : Fin 2 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let c2_i32_431 : BitVec 32 := 2#32
  ![v497.toNat, 2]
def k0_off135 (k0_t4 : Fin k0_t4_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let c512_i32_432 : BitVec 32 := 512#32
  let c0_i32_433 : BitVec 32 := 0#32
  ![v497.toNat, 512, 0]
def k0_off136 (k0_t4 : Fin k0_t4_loop.trips) : Fin 3 → Nat :=
  let c0_i32_430 : BitVec 32 := 0#32
  let c512_i32_434 : BitVec 32 := 512#32
  let c0_i32_379 : BitVec 32 := 0#32
  let c1_i32_381 : BitVec 32 := 1#32
  let arg18 : BitVec 32 := Scf.iv c0_i32_379 c1_i32_381 k0_t4
  let c3072_i32_429 : BitVec 32 := 3072#32
  let v525 : BitVec 32 := Scalar.muli arg18 c3072_i32_429
  ![0, 512, v525.toNat]
@[reducible] def k0_t9_loop : Scf.Loop 32 :=
  let c16_i32_435 : BitVec 32 := 16#32
  let c8_i32_436 : BitVec 32 := 8#32
  let v532 : BitVec 32 := Scalar.addi c16_i32_435 c8_i32_436
  let c1_i32_437 : BitVec 32 := 1#32
  ⟨c16_i32_435, v532, c1_i32_437⟩
def k0_mult3 (k0_t9 : Fin k0_t9_loop.trips) : BitVec 32 :=
  let c16_i32_435 : BitVec 32 := 16#32
  let c1_i32_437 : BitVec 32 := 1#32
  let arg19 : BitVec 32 := Scf.iv c16_i32_435 c1_i32_437 k0_t9
  let c32_i32_490 : BitVec 32 := 32#32
  let v580 : BitVec 32 := Scalar.muli arg19 c32_i32_490
  v580
def k0_off137 (k0_t9 : Fin k0_t9_loop.trips) : Fin 2 → Nat :=
  let c16_i32_435 : BitVec 32 := 16#32
  let c1_i32_437 : BitVec 32 := 1#32
  let arg19 : BitVec 32 := Scf.iv c16_i32_435 c1_i32_437 k0_t9
  let c32_i32_490 : BitVec 32 := 32#32
  let v580 : BitVec 32 := Scalar.muli arg19 c32_i32_490
  let v581 : BitVec 32 := v580
  let v582 : Index := Scalar.indexCast v581
  let c0_491 : Index := 0#32
  ![v582.toNat, 0]
def k0_off138 (k0_t4 : Fin k0_t4_loop.trips) (k0_t9 : Fin k0_t9_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v584 : Index := Scalar.indexCast v497
  let c16_i32_435 : BitVec 32 := 16#32
  let c1_i32_437 : BitVec 32 := 1#32
  let arg19 : BitVec 32 := Scf.iv c16_i32_435 c1_i32_437 k0_t9
  let c32_i32_490 : BitVec 32 := 32#32
  let v580 : BitVec 32 := Scalar.muli arg19 c32_i32_490
  let v581 : BitVec 32 := v580
  let v585 : Index := Scalar.indexCast v581
  let c0_492 : Index := 0#32
  ![v584.toNat, v585.toNat, 0]
def k0_off139 (k0_t9 : Fin k0_t9_loop.trips) : Fin 4 → Nat :=
  let c16_i32_435 : BitVec 32 := 16#32
  let c1_i32_437 : BitVec 32 := 1#32
  let arg19 : BitVec 32 := Scf.iv c16_i32_435 c1_i32_437 k0_t9
  let c4_i32_493 : BitVec 32 := 4#32
  let v591 : BitVec 32 := Scalar.muli arg19 c4_i32_493
  let v592 : Index := Scalar.indexCast v591
  let c0_494 : Index := 0#32
  let c0_495 : Index := 0#32
  let c0_496 : Index := 0#32
  ![v592.toNat, 0, 0, 0]
def k0_off140 (k0_t4 : Fin k0_t4_loop.trips) (k0_t9 : Fin k0_t9_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v596 : Index := Scalar.indexCast v497
  let c16_i32_435 : BitVec 32 := 16#32
  let c1_i32_437 : BitVec 32 := 1#32
  let arg19 : BitVec 32 := Scf.iv c16_i32_435 c1_i32_437 k0_t9
  let c32_i32_490 : BitVec 32 := 32#32
  let v580 : BitVec 32 := Scalar.muli arg19 c32_i32_490
  let v581 : BitVec 32 := v580
  let v597 : Index := Scalar.indexCast v581
  let c128_497 : Index := 128#32
  ![v596.toNat, v597.toNat, 128]
def k0_off141 (k0_t9 : Fin k0_t9_loop.trips) : Fin 4 → Nat :=
  let c16_i32_435 : BitVec 32 := 16#32
  let c1_i32_437 : BitVec 32 := 1#32
  let arg19 : BitVec 32 := Scf.iv c16_i32_435 c1_i32_437 k0_t9
  let c4_i32_498 : BitVec 32 := 4#32
  let v603 : BitVec 32 := Scalar.muli arg19 c4_i32_498
  let v604 : Index := Scalar.indexCast v603
  let c1_499 : Index := 1#32
  let c0_500 : Index := 0#32
  let c0_501 : Index := 0#32
  ![v604.toNat, 1, 0, 0]
def k0_off142 (k0_t4 : Fin k0_t4_loop.trips) (k0_t9 : Fin k0_t9_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v608 : Index := Scalar.indexCast v497
  let c16_i32_435 : BitVec 32 := 16#32
  let c1_i32_437 : BitVec 32 := 1#32
  let arg19 : BitVec 32 := Scf.iv c16_i32_435 c1_i32_437 k0_t9
  let c32_i32_490 : BitVec 32 := 32#32
  let v580 : BitVec 32 := Scalar.muli arg19 c32_i32_490
  let v581 : BitVec 32 := v580
  let v609 : Index := Scalar.indexCast v581
  let c256_502 : Index := 256#32
  ![v608.toNat, v609.toNat, 256]
def k0_off143 (k0_t9 : Fin k0_t9_loop.trips) : Fin 4 → Nat :=
  let c16_i32_435 : BitVec 32 := 16#32
  let c1_i32_437 : BitVec 32 := 1#32
  let arg19 : BitVec 32 := Scf.iv c16_i32_435 c1_i32_437 k0_t9
  let c4_i32_503 : BitVec 32 := 4#32
  let v615 : BitVec 32 := Scalar.muli arg19 c4_i32_503
  let v616 : Index := Scalar.indexCast v615
  let c2 : Index := 2#32
  let c0_504 : Index := 0#32
  let c0_505 : Index := 0#32
  ![v616.toNat, 2, 0, 0]
def k0_off144 (k0_t4 : Fin k0_t4_loop.trips) (k0_t9 : Fin k0_t9_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v620 : Index := Scalar.indexCast v497
  let c16_i32_435 : BitVec 32 := 16#32
  let c1_i32_437 : BitVec 32 := 1#32
  let arg19 : BitVec 32 := Scf.iv c16_i32_435 c1_i32_437 k0_t9
  let c32_i32_490 : BitVec 32 := 32#32
  let v580 : BitVec 32 := Scalar.muli arg19 c32_i32_490
  let v581 : BitVec 32 := v580
  let v621 : Index := Scalar.indexCast v581
  let c384_506 : Index := 384#32
  ![v620.toNat, v621.toNat, 384]
def k0_off145 (k0_t9 : Fin k0_t9_loop.trips) : Fin 4 → Nat :=
  let c16_i32_435 : BitVec 32 := 16#32
  let c1_i32_437 : BitVec 32 := 1#32
  let arg19 : BitVec 32 := Scf.iv c16_i32_435 c1_i32_437 k0_t9
  let c4_i32_507 : BitVec 32 := 4#32
  let v627 : BitVec 32 := Scalar.muli arg19 c4_i32_507
  let v628 : Index := Scalar.indexCast v627
  let c3 : Index := 3#32
  let c0_508 : Index := 0#32
  let c0_509 : Index := 0#32
  ![v628.toNat, 3, 0, 0]
def k0_off146 (k0_t4 : Fin k0_t4_loop.trips) (k0_t9 : Fin k0_t9_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v632 : Index := Scalar.indexCast v497
  let c16_i32_435 : BitVec 32 := 16#32
  let c1_i32_437 : BitVec 32 := 1#32
  let arg19 : BitVec 32 := Scf.iv c16_i32_435 c1_i32_437 k0_t9
  let c32_i32_490 : BitVec 32 := 32#32
  let v580 : BitVec 32 := Scalar.muli arg19 c32_i32_490
  let v581 : BitVec 32 := v580
  let v633 : Index := Scalar.indexCast v581
  let c512_510 : Index := 512#32
  ![v632.toNat, v633.toNat, 512]
def k0_off147 (k0_t9 : Fin k0_t9_loop.trips) : Fin 4 → Nat :=
  let c16_i32_435 : BitVec 32 := 16#32
  let c1_i32_437 : BitVec 32 := 1#32
  let arg19 : BitVec 32 := Scf.iv c16_i32_435 c1_i32_437 k0_t9
  let c4_i32_511 : BitVec 32 := 4#32
  let v639 : BitVec 32 := Scalar.muli arg19 c4_i32_511
  let v640 : Index := Scalar.indexCast v639
  let c4 : Index := 4#32
  let c0_512 : Index := 0#32
  let c0_513 : Index := 0#32
  ![v640.toNat, 4, 0, 0]
def k0_off148 (k0_t4 : Fin k0_t4_loop.trips) (k0_t9 : Fin k0_t9_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v644 : Index := Scalar.indexCast v497
  let c16_i32_435 : BitVec 32 := 16#32
  let c1_i32_437 : BitVec 32 := 1#32
  let arg19 : BitVec 32 := Scf.iv c16_i32_435 c1_i32_437 k0_t9
  let c32_i32_490 : BitVec 32 := 32#32
  let v580 : BitVec 32 := Scalar.muli arg19 c32_i32_490
  let v581 : BitVec 32 := v580
  let v645 : Index := Scalar.indexCast v581
  let c640_514 : Index := 640#32
  ![v644.toNat, v645.toNat, 640]
def k0_off149 (k0_t9 : Fin k0_t9_loop.trips) : Fin 4 → Nat :=
  let c16_i32_435 : BitVec 32 := 16#32
  let c1_i32_437 : BitVec 32 := 1#32
  let arg19 : BitVec 32 := Scf.iv c16_i32_435 c1_i32_437 k0_t9
  let c4_i32_515 : BitVec 32 := 4#32
  let v651 : BitVec 32 := Scalar.muli arg19 c4_i32_515
  let v652 : Index := Scalar.indexCast v651
  let c5 : Index := 5#32
  let c0_516 : Index := 0#32
  let c0_517 : Index := 0#32
  ![v652.toNat, 5, 0, 0]
def k0_off150 (k0_t4 : Fin k0_t4_loop.trips) (k0_t9 : Fin k0_t9_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v656 : Index := Scalar.indexCast v497
  let c16_i32_435 : BitVec 32 := 16#32
  let c1_i32_437 : BitVec 32 := 1#32
  let arg19 : BitVec 32 := Scf.iv c16_i32_435 c1_i32_437 k0_t9
  let c32_i32_490 : BitVec 32 := 32#32
  let v580 : BitVec 32 := Scalar.muli arg19 c32_i32_490
  let v581 : BitVec 32 := v580
  let v657 : Index := Scalar.indexCast v581
  let c768_518 : Index := 768#32
  ![v656.toNat, v657.toNat, 768]
def k0_off151 (k0_t9 : Fin k0_t9_loop.trips) : Fin 4 → Nat :=
  let c16_i32_435 : BitVec 32 := 16#32
  let c1_i32_437 : BitVec 32 := 1#32
  let arg19 : BitVec 32 := Scf.iv c16_i32_435 c1_i32_437 k0_t9
  let c4_i32_519 : BitVec 32 := 4#32
  let v663 : BitVec 32 := Scalar.muli arg19 c4_i32_519
  let v664 : Index := Scalar.indexCast v663
  let c6 : Index := 6#32
  let c0_520 : Index := 0#32
  let c0_521 : Index := 0#32
  ![v664.toNat, 6, 0, 0]
def k0_off152 (k0_t4 : Fin k0_t4_loop.trips) (k0_t9 : Fin k0_t9_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v668 : Index := Scalar.indexCast v497
  let c16_i32_435 : BitVec 32 := 16#32
  let c1_i32_437 : BitVec 32 := 1#32
  let arg19 : BitVec 32 := Scf.iv c16_i32_435 c1_i32_437 k0_t9
  let c32_i32_490 : BitVec 32 := 32#32
  let v580 : BitVec 32 := Scalar.muli arg19 c32_i32_490
  let v581 : BitVec 32 := v580
  let v669 : Index := Scalar.indexCast v581
  let c896_522 : Index := 896#32
  ![v668.toNat, v669.toNat, 896]
def k0_off153 (k0_t9 : Fin k0_t9_loop.trips) : Fin 4 → Nat :=
  let c16_i32_435 : BitVec 32 := 16#32
  let c1_i32_437 : BitVec 32 := 1#32
  let arg19 : BitVec 32 := Scf.iv c16_i32_435 c1_i32_437 k0_t9
  let c4_i32_523 : BitVec 32 := 4#32
  let v675 : BitVec 32 := Scalar.muli arg19 c4_i32_523
  let v676 : Index := Scalar.indexCast v675
  let c7 : Index := 7#32
  let c0_524 : Index := 0#32
  let c0_525 : Index := 0#32
  ![v676.toNat, 7, 0, 0]
def k0_off154 (k0_t4 : Fin k0_t4_loop.trips) (k0_t9 : Fin k0_t9_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v680 : Index := Scalar.indexCast v497
  let c16_i32_435 : BitVec 32 := 16#32
  let c1_i32_437 : BitVec 32 := 1#32
  let arg19 : BitVec 32 := Scf.iv c16_i32_435 c1_i32_437 k0_t9
  let c32_i32_490 : BitVec 32 := 32#32
  let v580 : BitVec 32 := Scalar.muli arg19 c32_i32_490
  let v581 : BitVec 32 := v580
  let v681 : Index := Scalar.indexCast v581
  let c1024_526 : Index := 1024#32
  ![v680.toNat, v681.toNat, 1024]
def k0_off155 (k0_t9 : Fin k0_t9_loop.trips) : Fin 4 → Nat :=
  let c16_i32_435 : BitVec 32 := 16#32
  let c1_i32_437 : BitVec 32 := 1#32
  let arg19 : BitVec 32 := Scf.iv c16_i32_435 c1_i32_437 k0_t9
  let c4_i32_527 : BitVec 32 := 4#32
  let v687 : BitVec 32 := Scalar.muli arg19 c4_i32_527
  let v688 : Index := Scalar.indexCast v687
  let c8 : Index := 8#32
  let c0_528 : Index := 0#32
  let c0_529 : Index := 0#32
  ![v688.toNat, 8, 0, 0]
def k0_off156 (k0_t4 : Fin k0_t4_loop.trips) (k0_t9 : Fin k0_t9_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v692 : Index := Scalar.indexCast v497
  let c16_i32_435 : BitVec 32 := 16#32
  let c1_i32_437 : BitVec 32 := 1#32
  let arg19 : BitVec 32 := Scf.iv c16_i32_435 c1_i32_437 k0_t9
  let c32_i32_490 : BitVec 32 := 32#32
  let v580 : BitVec 32 := Scalar.muli arg19 c32_i32_490
  let v581 : BitVec 32 := v580
  let v693 : Index := Scalar.indexCast v581
  let c1152_530 : Index := 1152#32
  ![v692.toNat, v693.toNat, 1152]
def k0_off157 (k0_t9 : Fin k0_t9_loop.trips) : Fin 4 → Nat :=
  let c16_i32_435 : BitVec 32 := 16#32
  let c1_i32_437 : BitVec 32 := 1#32
  let arg19 : BitVec 32 := Scf.iv c16_i32_435 c1_i32_437 k0_t9
  let c4_i32_531 : BitVec 32 := 4#32
  let v699 : BitVec 32 := Scalar.muli arg19 c4_i32_531
  let v700 : Index := Scalar.indexCast v699
  let c9 : Index := 9#32
  let c0_532 : Index := 0#32
  let c0_533 : Index := 0#32
  ![v700.toNat, 9, 0, 0]
def k0_off158 (k0_t4 : Fin k0_t4_loop.trips) (k0_t9 : Fin k0_t9_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v704 : Index := Scalar.indexCast v497
  let c16_i32_435 : BitVec 32 := 16#32
  let c1_i32_437 : BitVec 32 := 1#32
  let arg19 : BitVec 32 := Scf.iv c16_i32_435 c1_i32_437 k0_t9
  let c32_i32_490 : BitVec 32 := 32#32
  let v580 : BitVec 32 := Scalar.muli arg19 c32_i32_490
  let v581 : BitVec 32 := v580
  let v705 : Index := Scalar.indexCast v581
  let c1280_534 : Index := 1280#32
  ![v704.toNat, v705.toNat, 1280]
def k0_off159 (k0_t9 : Fin k0_t9_loop.trips) : Fin 4 → Nat :=
  let c16_i32_435 : BitVec 32 := 16#32
  let c1_i32_437 : BitVec 32 := 1#32
  let arg19 : BitVec 32 := Scf.iv c16_i32_435 c1_i32_437 k0_t9
  let c4_i32_535 : BitVec 32 := 4#32
  let v711 : BitVec 32 := Scalar.muli arg19 c4_i32_535
  let v712 : Index := Scalar.indexCast v711
  let c10 : Index := 10#32
  let c0_536 : Index := 0#32
  let c0_537 : Index := 0#32
  ![v712.toNat, 10, 0, 0]
def k0_off160 (k0_t4 : Fin k0_t4_loop.trips) (k0_t9 : Fin k0_t9_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v716 : Index := Scalar.indexCast v497
  let c16_i32_435 : BitVec 32 := 16#32
  let c1_i32_437 : BitVec 32 := 1#32
  let arg19 : BitVec 32 := Scf.iv c16_i32_435 c1_i32_437 k0_t9
  let c32_i32_490 : BitVec 32 := 32#32
  let v580 : BitVec 32 := Scalar.muli arg19 c32_i32_490
  let v581 : BitVec 32 := v580
  let v717 : Index := Scalar.indexCast v581
  let c1408_538 : Index := 1408#32
  ![v716.toNat, v717.toNat, 1408]
def k0_off161 (k0_t9 : Fin k0_t9_loop.trips) : Fin 4 → Nat :=
  let c16_i32_435 : BitVec 32 := 16#32
  let c1_i32_437 : BitVec 32 := 1#32
  let arg19 : BitVec 32 := Scf.iv c16_i32_435 c1_i32_437 k0_t9
  let c4_i32_539 : BitVec 32 := 4#32
  let v723 : BitVec 32 := Scalar.muli arg19 c4_i32_539
  let v724 : Index := Scalar.indexCast v723
  let c11 : Index := 11#32
  let c0_540 : Index := 0#32
  let c0_541 : Index := 0#32
  ![v724.toNat, 11, 0, 0]
def k0_off162 (k0_t4 : Fin k0_t4_loop.trips) (k0_t9 : Fin k0_t9_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v728 : Index := Scalar.indexCast v497
  let c16_i32_435 : BitVec 32 := 16#32
  let c1_i32_437 : BitVec 32 := 1#32
  let arg19 : BitVec 32 := Scf.iv c16_i32_435 c1_i32_437 k0_t9
  let c32_i32_490 : BitVec 32 := 32#32
  let v580 : BitVec 32 := Scalar.muli arg19 c32_i32_490
  let v581 : BitVec 32 := v580
  let v729 : Index := Scalar.indexCast v581
  let c1536_542 : Index := 1536#32
  ![v728.toNat, v729.toNat, 1536]
def k0_off163 (k0_t9 : Fin k0_t9_loop.trips) : Fin 4 → Nat :=
  let c16_i32_435 : BitVec 32 := 16#32
  let c1_i32_437 : BitVec 32 := 1#32
  let arg19 : BitVec 32 := Scf.iv c16_i32_435 c1_i32_437 k0_t9
  let c4_i32_543 : BitVec 32 := 4#32
  let v735 : BitVec 32 := Scalar.muli arg19 c4_i32_543
  let v736 : Index := Scalar.indexCast v735
  let c12 : Index := 12#32
  let c0_544 : Index := 0#32
  let c0_545 : Index := 0#32
  ![v736.toNat, 12, 0, 0]
def k0_off164 (k0_t4 : Fin k0_t4_loop.trips) (k0_t9 : Fin k0_t9_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v740 : Index := Scalar.indexCast v497
  let c16_i32_435 : BitVec 32 := 16#32
  let c1_i32_437 : BitVec 32 := 1#32
  let arg19 : BitVec 32 := Scf.iv c16_i32_435 c1_i32_437 k0_t9
  let c32_i32_490 : BitVec 32 := 32#32
  let v580 : BitVec 32 := Scalar.muli arg19 c32_i32_490
  let v581 : BitVec 32 := v580
  let v741 : Index := Scalar.indexCast v581
  let c1664_546 : Index := 1664#32
  ![v740.toNat, v741.toNat, 1664]
def k0_off165 (k0_t9 : Fin k0_t9_loop.trips) : Fin 4 → Nat :=
  let c16_i32_435 : BitVec 32 := 16#32
  let c1_i32_437 : BitVec 32 := 1#32
  let arg19 : BitVec 32 := Scf.iv c16_i32_435 c1_i32_437 k0_t9
  let c4_i32_547 : BitVec 32 := 4#32
  let v747 : BitVec 32 := Scalar.muli arg19 c4_i32_547
  let v748 : Index := Scalar.indexCast v747
  let c13 : Index := 13#32
  let c0_548 : Index := 0#32
  let c0_549 : Index := 0#32
  ![v748.toNat, 13, 0, 0]
def k0_off166 (k0_t4 : Fin k0_t4_loop.trips) (k0_t9 : Fin k0_t9_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v752 : Index := Scalar.indexCast v497
  let c16_i32_435 : BitVec 32 := 16#32
  let c1_i32_437 : BitVec 32 := 1#32
  let arg19 : BitVec 32 := Scf.iv c16_i32_435 c1_i32_437 k0_t9
  let c32_i32_490 : BitVec 32 := 32#32
  let v580 : BitVec 32 := Scalar.muli arg19 c32_i32_490
  let v581 : BitVec 32 := v580
  let v753 : Index := Scalar.indexCast v581
  let c1792_550 : Index := 1792#32
  ![v752.toNat, v753.toNat, 1792]
def k0_off167 (k0_t9 : Fin k0_t9_loop.trips) : Fin 4 → Nat :=
  let c16_i32_435 : BitVec 32 := 16#32
  let c1_i32_437 : BitVec 32 := 1#32
  let arg19 : BitVec 32 := Scf.iv c16_i32_435 c1_i32_437 k0_t9
  let c4_i32_551 : BitVec 32 := 4#32
  let v759 : BitVec 32 := Scalar.muli arg19 c4_i32_551
  let v760 : Index := Scalar.indexCast v759
  let c14 : Index := 14#32
  let c0_552 : Index := 0#32
  let c0_553 : Index := 0#32
  ![v760.toNat, 14, 0, 0]
def k0_off168 (k0_t4 : Fin k0_t4_loop.trips) (k0_t9 : Fin k0_t9_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v764 : Index := Scalar.indexCast v497
  let c16_i32_435 : BitVec 32 := 16#32
  let c1_i32_437 : BitVec 32 := 1#32
  let arg19 : BitVec 32 := Scf.iv c16_i32_435 c1_i32_437 k0_t9
  let c32_i32_490 : BitVec 32 := 32#32
  let v580 : BitVec 32 := Scalar.muli arg19 c32_i32_490
  let v581 : BitVec 32 := v580
  let v765 : Index := Scalar.indexCast v581
  let c1920_554 : Index := 1920#32
  ![v764.toNat, v765.toNat, 1920]
def k0_off169 (k0_t9 : Fin k0_t9_loop.trips) : Fin 4 → Nat :=
  let c16_i32_435 : BitVec 32 := 16#32
  let c1_i32_437 : BitVec 32 := 1#32
  let arg19 : BitVec 32 := Scf.iv c16_i32_435 c1_i32_437 k0_t9
  let c4_i32_555 : BitVec 32 := 4#32
  let v771 : BitVec 32 := Scalar.muli arg19 c4_i32_555
  let v772 : Index := Scalar.indexCast v771
  let c15 : Index := 15#32
  let c0_556 : Index := 0#32
  let c0_557 : Index := 0#32
  ![v772.toNat, 15, 0, 0]
def k0_off170 (k0_t4 : Fin k0_t4_loop.trips) (k0_t9 : Fin k0_t9_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v776 : Index := Scalar.indexCast v497
  let c16_i32_435 : BitVec 32 := 16#32
  let c1_i32_437 : BitVec 32 := 1#32
  let arg19 : BitVec 32 := Scf.iv c16_i32_435 c1_i32_437 k0_t9
  let c32_i32_490 : BitVec 32 := 32#32
  let v580 : BitVec 32 := Scalar.muli arg19 c32_i32_490
  let v581 : BitVec 32 := v580
  let v777 : Index := Scalar.indexCast v581
  let c2048 : Index := 2048#32
  ![v776.toNat, v777.toNat, 2048]
def k0_off171 (k0_t9 : Fin k0_t9_loop.trips) : Fin 4 → Nat :=
  let c16_i32_435 : BitVec 32 := 16#32
  let c1_i32_437 : BitVec 32 := 1#32
  let arg19 : BitVec 32 := Scf.iv c16_i32_435 c1_i32_437 k0_t9
  let c4_i32_558 : BitVec 32 := 4#32
  let v783 : BitVec 32 := Scalar.muli arg19 c4_i32_558
  let v784 : Index := Scalar.indexCast v783
  let c16_559 : Index := 16#32
  let c0_560 : Index := 0#32
  let c0_561 : Index := 0#32
  ![v784.toNat, 16, 0, 0]
def k0_off172 (k0_t4 : Fin k0_t4_loop.trips) (k0_t9 : Fin k0_t9_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v788 : Index := Scalar.indexCast v497
  let c16_i32_435 : BitVec 32 := 16#32
  let c1_i32_437 : BitVec 32 := 1#32
  let arg19 : BitVec 32 := Scf.iv c16_i32_435 c1_i32_437 k0_t9
  let c32_i32_490 : BitVec 32 := 32#32
  let v580 : BitVec 32 := Scalar.muli arg19 c32_i32_490
  let v581 : BitVec 32 := v580
  let v789 : Index := Scalar.indexCast v581
  let c2176 : Index := 2176#32
  ![v788.toNat, v789.toNat, 2176]
def k0_off173 (k0_t9 : Fin k0_t9_loop.trips) : Fin 4 → Nat :=
  let c16_i32_435 : BitVec 32 := 16#32
  let c1_i32_437 : BitVec 32 := 1#32
  let arg19 : BitVec 32 := Scf.iv c16_i32_435 c1_i32_437 k0_t9
  let c4_i32_562 : BitVec 32 := 4#32
  let v795 : BitVec 32 := Scalar.muli arg19 c4_i32_562
  let v796 : Index := Scalar.indexCast v795
  let c17 : Index := 17#32
  let c0_563 : Index := 0#32
  let c0_564 : Index := 0#32
  ![v796.toNat, 17, 0, 0]
def k0_off174 (k0_t4 : Fin k0_t4_loop.trips) (k0_t9 : Fin k0_t9_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v800 : Index := Scalar.indexCast v497
  let c16_i32_435 : BitVec 32 := 16#32
  let c1_i32_437 : BitVec 32 := 1#32
  let arg19 : BitVec 32 := Scf.iv c16_i32_435 c1_i32_437 k0_t9
  let c32_i32_490 : BitVec 32 := 32#32
  let v580 : BitVec 32 := Scalar.muli arg19 c32_i32_490
  let v581 : BitVec 32 := v580
  let v801 : Index := Scalar.indexCast v581
  let c2304 : Index := 2304#32
  ![v800.toNat, v801.toNat, 2304]
def k0_off175 (k0_t9 : Fin k0_t9_loop.trips) : Fin 4 → Nat :=
  let c16_i32_435 : BitVec 32 := 16#32
  let c1_i32_437 : BitVec 32 := 1#32
  let arg19 : BitVec 32 := Scf.iv c16_i32_435 c1_i32_437 k0_t9
  let c4_i32_565 : BitVec 32 := 4#32
  let v807 : BitVec 32 := Scalar.muli arg19 c4_i32_565
  let v808 : Index := Scalar.indexCast v807
  let c18 : Index := 18#32
  let c0_566 : Index := 0#32
  let c0_567 : Index := 0#32
  ![v808.toNat, 18, 0, 0]
def k0_off176 (k0_t4 : Fin k0_t4_loop.trips) (k0_t9 : Fin k0_t9_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v812 : Index := Scalar.indexCast v497
  let c16_i32_435 : BitVec 32 := 16#32
  let c1_i32_437 : BitVec 32 := 1#32
  let arg19 : BitVec 32 := Scf.iv c16_i32_435 c1_i32_437 k0_t9
  let c32_i32_490 : BitVec 32 := 32#32
  let v580 : BitVec 32 := Scalar.muli arg19 c32_i32_490
  let v581 : BitVec 32 := v580
  let v813 : Index := Scalar.indexCast v581
  let c2432 : Index := 2432#32
  ![v812.toNat, v813.toNat, 2432]
def k0_off177 (k0_t9 : Fin k0_t9_loop.trips) : Fin 4 → Nat :=
  let c16_i32_435 : BitVec 32 := 16#32
  let c1_i32_437 : BitVec 32 := 1#32
  let arg19 : BitVec 32 := Scf.iv c16_i32_435 c1_i32_437 k0_t9
  let c4_i32_568 : BitVec 32 := 4#32
  let v819 : BitVec 32 := Scalar.muli arg19 c4_i32_568
  let v820 : Index := Scalar.indexCast v819
  let c19 : Index := 19#32
  let c0_569 : Index := 0#32
  let c0_570 : Index := 0#32
  ![v820.toNat, 19, 0, 0]
def k0_off178 (k0_t4 : Fin k0_t4_loop.trips) (k0_t9 : Fin k0_t9_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v824 : Index := Scalar.indexCast v497
  let c16_i32_435 : BitVec 32 := 16#32
  let c1_i32_437 : BitVec 32 := 1#32
  let arg19 : BitVec 32 := Scf.iv c16_i32_435 c1_i32_437 k0_t9
  let c32_i32_490 : BitVec 32 := 32#32
  let v580 : BitVec 32 := Scalar.muli arg19 c32_i32_490
  let v581 : BitVec 32 := v580
  let v825 : Index := Scalar.indexCast v581
  let c2560 : Index := 2560#32
  ![v824.toNat, v825.toNat, 2560]
def k0_off179 (k0_t9 : Fin k0_t9_loop.trips) : Fin 4 → Nat :=
  let c16_i32_435 : BitVec 32 := 16#32
  let c1_i32_437 : BitVec 32 := 1#32
  let arg19 : BitVec 32 := Scf.iv c16_i32_435 c1_i32_437 k0_t9
  let c4_i32_571 : BitVec 32 := 4#32
  let v831 : BitVec 32 := Scalar.muli arg19 c4_i32_571
  let v832 : Index := Scalar.indexCast v831
  let c20 : Index := 20#32
  let c0_572 : Index := 0#32
  let c0_573 : Index := 0#32
  ![v832.toNat, 20, 0, 0]
def k0_off180 (k0_t4 : Fin k0_t4_loop.trips) (k0_t9 : Fin k0_t9_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v836 : Index := Scalar.indexCast v497
  let c16_i32_435 : BitVec 32 := 16#32
  let c1_i32_437 : BitVec 32 := 1#32
  let arg19 : BitVec 32 := Scf.iv c16_i32_435 c1_i32_437 k0_t9
  let c32_i32_490 : BitVec 32 := 32#32
  let v580 : BitVec 32 := Scalar.muli arg19 c32_i32_490
  let v581 : BitVec 32 := v580
  let v837 : Index := Scalar.indexCast v581
  let c2688 : Index := 2688#32
  ![v836.toNat, v837.toNat, 2688]
def k0_off181 (k0_t9 : Fin k0_t9_loop.trips) : Fin 4 → Nat :=
  let c16_i32_435 : BitVec 32 := 16#32
  let c1_i32_437 : BitVec 32 := 1#32
  let arg19 : BitVec 32 := Scf.iv c16_i32_435 c1_i32_437 k0_t9
  let c4_i32_574 : BitVec 32 := 4#32
  let v843 : BitVec 32 := Scalar.muli arg19 c4_i32_574
  let v844 : Index := Scalar.indexCast v843
  let c21 : Index := 21#32
  let c0_575 : Index := 0#32
  let c0_576 : Index := 0#32
  ![v844.toNat, 21, 0, 0]
def k0_off182 (k0_t4 : Fin k0_t4_loop.trips) (k0_t9 : Fin k0_t9_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v848 : Index := Scalar.indexCast v497
  let c16_i32_435 : BitVec 32 := 16#32
  let c1_i32_437 : BitVec 32 := 1#32
  let arg19 : BitVec 32 := Scf.iv c16_i32_435 c1_i32_437 k0_t9
  let c32_i32_490 : BitVec 32 := 32#32
  let v580 : BitVec 32 := Scalar.muli arg19 c32_i32_490
  let v581 : BitVec 32 := v580
  let v849 : Index := Scalar.indexCast v581
  let c2816 : Index := 2816#32
  ![v848.toNat, v849.toNat, 2816]
def k0_off183 (k0_t9 : Fin k0_t9_loop.trips) : Fin 4 → Nat :=
  let c16_i32_435 : BitVec 32 := 16#32
  let c1_i32_437 : BitVec 32 := 1#32
  let arg19 : BitVec 32 := Scf.iv c16_i32_435 c1_i32_437 k0_t9
  let c4_i32_577 : BitVec 32 := 4#32
  let v855 : BitVec 32 := Scalar.muli arg19 c4_i32_577
  let v856 : Index := Scalar.indexCast v855
  let c22 : Index := 22#32
  let c0_578 : Index := 0#32
  let c0_579 : Index := 0#32
  ![v856.toNat, 22, 0, 0]
def k0_off184 (k0_t4 : Fin k0_t4_loop.trips) (k0_t9 : Fin k0_t9_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v860 : Index := Scalar.indexCast v497
  let c16_i32_435 : BitVec 32 := 16#32
  let c1_i32_437 : BitVec 32 := 1#32
  let arg19 : BitVec 32 := Scf.iv c16_i32_435 c1_i32_437 k0_t9
  let c32_i32_490 : BitVec 32 := 32#32
  let v580 : BitVec 32 := Scalar.muli arg19 c32_i32_490
  let v581 : BitVec 32 := v580
  let v861 : Index := Scalar.indexCast v581
  let c2944 : Index := 2944#32
  ![v860.toNat, v861.toNat, 2944]
def k0_off185 (k0_t9 : Fin k0_t9_loop.trips) : Fin 4 → Nat :=
  let c16_i32_435 : BitVec 32 := 16#32
  let c1_i32_437 : BitVec 32 := 1#32
  let arg19 : BitVec 32 := Scf.iv c16_i32_435 c1_i32_437 k0_t9
  let c4_i32_580 : BitVec 32 := 4#32
  let v867 : BitVec 32 := Scalar.muli arg19 c4_i32_580
  let v868 : Index := Scalar.indexCast v867
  let c23 : Index := 23#32
  let c0_581 : Index := 0#32
  let c0_582 : Index := 0#32
  ![v868.toNat, 23, 0, 0]
def k0_off186 (k0_t4 : Fin k0_t4_loop.trips) : Fin 2 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let c3_i32_441 : BitVec 32 := 3#32
  ![v497.toNat, 3]
def k0_off187 (k0_t4 : Fin k0_t4_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let c768_i32_442 : BitVec 32 := 768#32
  let c0_i32_443 : BitVec 32 := 0#32
  ![v497.toNat, 768, 0]
def k0_off188 (k0_t4 : Fin k0_t4_loop.trips) : Fin 3 → Nat :=
  let c0_i32_440 : BitVec 32 := 0#32
  let c768_i32_444 : BitVec 32 := 768#32
  let c0_i32_379 : BitVec 32 := 0#32
  let c1_i32_381 : BitVec 32 := 1#32
  let arg18 : BitVec 32 := Scf.iv c0_i32_379 c1_i32_381 k0_t4
  let c3072_i32_439 : BitVec 32 := 3072#32
  let v533 : BitVec 32 := Scalar.muli arg18 c3072_i32_439
  ![0, 768, v533.toNat]
@[reducible] def k0_t10_loop : Scf.Loop 32 :=
  let c24_i32 : BitVec 32 := 24#32
  let c8_i32_445 : BitVec 32 := 8#32
  let v540 : BitVec 32 := Scalar.addi c24_i32 c8_i32_445
  let c1_i32_446 : BitVec 32 := 1#32
  ⟨c24_i32, v540, c1_i32_446⟩
def k0_mult4 (k0_t10 : Fin k0_t10_loop.trips) : BitVec 32 :=
  let c24_i32 : BitVec 32 := 24#32
  let c1_i32_446 : BitVec 32 := 1#32
  let arg19 : BitVec 32 := Scf.iv c24_i32 c1_i32_446 k0_t10
  let c32_i32_490 : BitVec 32 := 32#32
  let v580 : BitVec 32 := Scalar.muli arg19 c32_i32_490
  v580
def k0_off189 (k0_t10 : Fin k0_t10_loop.trips) : Fin 2 → Nat :=
  let c24_i32 : BitVec 32 := 24#32
  let c1_i32_446 : BitVec 32 := 1#32
  let arg19 : BitVec 32 := Scf.iv c24_i32 c1_i32_446 k0_t10
  let c32_i32_490 : BitVec 32 := 32#32
  let v580 : BitVec 32 := Scalar.muli arg19 c32_i32_490
  let v581 : BitVec 32 := v580
  let v582 : Index := Scalar.indexCast v581
  let c0_491 : Index := 0#32
  ![v582.toNat, 0]
def k0_off190 (k0_t4 : Fin k0_t4_loop.trips) (k0_t10 : Fin k0_t10_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v584 : Index := Scalar.indexCast v497
  let c24_i32 : BitVec 32 := 24#32
  let c1_i32_446 : BitVec 32 := 1#32
  let arg19 : BitVec 32 := Scf.iv c24_i32 c1_i32_446 k0_t10
  let c32_i32_490 : BitVec 32 := 32#32
  let v580 : BitVec 32 := Scalar.muli arg19 c32_i32_490
  let v581 : BitVec 32 := v580
  let v585 : Index := Scalar.indexCast v581
  let c0_492 : Index := 0#32
  ![v584.toNat, v585.toNat, 0]
def k0_off191 (k0_t10 : Fin k0_t10_loop.trips) : Fin 4 → Nat :=
  let c24_i32 : BitVec 32 := 24#32
  let c1_i32_446 : BitVec 32 := 1#32
  let arg19 : BitVec 32 := Scf.iv c24_i32 c1_i32_446 k0_t10
  let c4_i32_493 : BitVec 32 := 4#32
  let v591 : BitVec 32 := Scalar.muli arg19 c4_i32_493
  let v592 : Index := Scalar.indexCast v591
  let c0_494 : Index := 0#32
  let c0_495 : Index := 0#32
  let c0_496 : Index := 0#32
  ![v592.toNat, 0, 0, 0]
def k0_off192 (k0_t4 : Fin k0_t4_loop.trips) (k0_t10 : Fin k0_t10_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v596 : Index := Scalar.indexCast v497
  let c24_i32 : BitVec 32 := 24#32
  let c1_i32_446 : BitVec 32 := 1#32
  let arg19 : BitVec 32 := Scf.iv c24_i32 c1_i32_446 k0_t10
  let c32_i32_490 : BitVec 32 := 32#32
  let v580 : BitVec 32 := Scalar.muli arg19 c32_i32_490
  let v581 : BitVec 32 := v580
  let v597 : Index := Scalar.indexCast v581
  let c128_497 : Index := 128#32
  ![v596.toNat, v597.toNat, 128]
def k0_off193 (k0_t10 : Fin k0_t10_loop.trips) : Fin 4 → Nat :=
  let c24_i32 : BitVec 32 := 24#32
  let c1_i32_446 : BitVec 32 := 1#32
  let arg19 : BitVec 32 := Scf.iv c24_i32 c1_i32_446 k0_t10
  let c4_i32_498 : BitVec 32 := 4#32
  let v603 : BitVec 32 := Scalar.muli arg19 c4_i32_498
  let v604 : Index := Scalar.indexCast v603
  let c1_499 : Index := 1#32
  let c0_500 : Index := 0#32
  let c0_501 : Index := 0#32
  ![v604.toNat, 1, 0, 0]
def k0_off194 (k0_t4 : Fin k0_t4_loop.trips) (k0_t10 : Fin k0_t10_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v608 : Index := Scalar.indexCast v497
  let c24_i32 : BitVec 32 := 24#32
  let c1_i32_446 : BitVec 32 := 1#32
  let arg19 : BitVec 32 := Scf.iv c24_i32 c1_i32_446 k0_t10
  let c32_i32_490 : BitVec 32 := 32#32
  let v580 : BitVec 32 := Scalar.muli arg19 c32_i32_490
  let v581 : BitVec 32 := v580
  let v609 : Index := Scalar.indexCast v581
  let c256_502 : Index := 256#32
  ![v608.toNat, v609.toNat, 256]
def k0_off195 (k0_t10 : Fin k0_t10_loop.trips) : Fin 4 → Nat :=
  let c24_i32 : BitVec 32 := 24#32
  let c1_i32_446 : BitVec 32 := 1#32
  let arg19 : BitVec 32 := Scf.iv c24_i32 c1_i32_446 k0_t10
  let c4_i32_503 : BitVec 32 := 4#32
  let v615 : BitVec 32 := Scalar.muli arg19 c4_i32_503
  let v616 : Index := Scalar.indexCast v615
  let c2 : Index := 2#32
  let c0_504 : Index := 0#32
  let c0_505 : Index := 0#32
  ![v616.toNat, 2, 0, 0]
def k0_off196 (k0_t4 : Fin k0_t4_loop.trips) (k0_t10 : Fin k0_t10_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v620 : Index := Scalar.indexCast v497
  let c24_i32 : BitVec 32 := 24#32
  let c1_i32_446 : BitVec 32 := 1#32
  let arg19 : BitVec 32 := Scf.iv c24_i32 c1_i32_446 k0_t10
  let c32_i32_490 : BitVec 32 := 32#32
  let v580 : BitVec 32 := Scalar.muli arg19 c32_i32_490
  let v581 : BitVec 32 := v580
  let v621 : Index := Scalar.indexCast v581
  let c384_506 : Index := 384#32
  ![v620.toNat, v621.toNat, 384]
def k0_off197 (k0_t10 : Fin k0_t10_loop.trips) : Fin 4 → Nat :=
  let c24_i32 : BitVec 32 := 24#32
  let c1_i32_446 : BitVec 32 := 1#32
  let arg19 : BitVec 32 := Scf.iv c24_i32 c1_i32_446 k0_t10
  let c4_i32_507 : BitVec 32 := 4#32
  let v627 : BitVec 32 := Scalar.muli arg19 c4_i32_507
  let v628 : Index := Scalar.indexCast v627
  let c3 : Index := 3#32
  let c0_508 : Index := 0#32
  let c0_509 : Index := 0#32
  ![v628.toNat, 3, 0, 0]
def k0_off198 (k0_t4 : Fin k0_t4_loop.trips) (k0_t10 : Fin k0_t10_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v632 : Index := Scalar.indexCast v497
  let c24_i32 : BitVec 32 := 24#32
  let c1_i32_446 : BitVec 32 := 1#32
  let arg19 : BitVec 32 := Scf.iv c24_i32 c1_i32_446 k0_t10
  let c32_i32_490 : BitVec 32 := 32#32
  let v580 : BitVec 32 := Scalar.muli arg19 c32_i32_490
  let v581 : BitVec 32 := v580
  let v633 : Index := Scalar.indexCast v581
  let c512_510 : Index := 512#32
  ![v632.toNat, v633.toNat, 512]
def k0_off199 (k0_t10 : Fin k0_t10_loop.trips) : Fin 4 → Nat :=
  let c24_i32 : BitVec 32 := 24#32
  let c1_i32_446 : BitVec 32 := 1#32
  let arg19 : BitVec 32 := Scf.iv c24_i32 c1_i32_446 k0_t10
  let c4_i32_511 : BitVec 32 := 4#32
  let v639 : BitVec 32 := Scalar.muli arg19 c4_i32_511
  let v640 : Index := Scalar.indexCast v639
  let c4 : Index := 4#32
  let c0_512 : Index := 0#32
  let c0_513 : Index := 0#32
  ![v640.toNat, 4, 0, 0]
def k0_off200 (k0_t4 : Fin k0_t4_loop.trips) (k0_t10 : Fin k0_t10_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v644 : Index := Scalar.indexCast v497
  let c24_i32 : BitVec 32 := 24#32
  let c1_i32_446 : BitVec 32 := 1#32
  let arg19 : BitVec 32 := Scf.iv c24_i32 c1_i32_446 k0_t10
  let c32_i32_490 : BitVec 32 := 32#32
  let v580 : BitVec 32 := Scalar.muli arg19 c32_i32_490
  let v581 : BitVec 32 := v580
  let v645 : Index := Scalar.indexCast v581
  let c640_514 : Index := 640#32
  ![v644.toNat, v645.toNat, 640]
def k0_off201 (k0_t10 : Fin k0_t10_loop.trips) : Fin 4 → Nat :=
  let c24_i32 : BitVec 32 := 24#32
  let c1_i32_446 : BitVec 32 := 1#32
  let arg19 : BitVec 32 := Scf.iv c24_i32 c1_i32_446 k0_t10
  let c4_i32_515 : BitVec 32 := 4#32
  let v651 : BitVec 32 := Scalar.muli arg19 c4_i32_515
  let v652 : Index := Scalar.indexCast v651
  let c5 : Index := 5#32
  let c0_516 : Index := 0#32
  let c0_517 : Index := 0#32
  ![v652.toNat, 5, 0, 0]
def k0_off202 (k0_t4 : Fin k0_t4_loop.trips) (k0_t10 : Fin k0_t10_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v656 : Index := Scalar.indexCast v497
  let c24_i32 : BitVec 32 := 24#32
  let c1_i32_446 : BitVec 32 := 1#32
  let arg19 : BitVec 32 := Scf.iv c24_i32 c1_i32_446 k0_t10
  let c32_i32_490 : BitVec 32 := 32#32
  let v580 : BitVec 32 := Scalar.muli arg19 c32_i32_490
  let v581 : BitVec 32 := v580
  let v657 : Index := Scalar.indexCast v581
  let c768_518 : Index := 768#32
  ![v656.toNat, v657.toNat, 768]
def k0_off203 (k0_t10 : Fin k0_t10_loop.trips) : Fin 4 → Nat :=
  let c24_i32 : BitVec 32 := 24#32
  let c1_i32_446 : BitVec 32 := 1#32
  let arg19 : BitVec 32 := Scf.iv c24_i32 c1_i32_446 k0_t10
  let c4_i32_519 : BitVec 32 := 4#32
  let v663 : BitVec 32 := Scalar.muli arg19 c4_i32_519
  let v664 : Index := Scalar.indexCast v663
  let c6 : Index := 6#32
  let c0_520 : Index := 0#32
  let c0_521 : Index := 0#32
  ![v664.toNat, 6, 0, 0]
def k0_off204 (k0_t4 : Fin k0_t4_loop.trips) (k0_t10 : Fin k0_t10_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v668 : Index := Scalar.indexCast v497
  let c24_i32 : BitVec 32 := 24#32
  let c1_i32_446 : BitVec 32 := 1#32
  let arg19 : BitVec 32 := Scf.iv c24_i32 c1_i32_446 k0_t10
  let c32_i32_490 : BitVec 32 := 32#32
  let v580 : BitVec 32 := Scalar.muli arg19 c32_i32_490
  let v581 : BitVec 32 := v580
  let v669 : Index := Scalar.indexCast v581
  let c896_522 : Index := 896#32
  ![v668.toNat, v669.toNat, 896]
def k0_off205 (k0_t10 : Fin k0_t10_loop.trips) : Fin 4 → Nat :=
  let c24_i32 : BitVec 32 := 24#32
  let c1_i32_446 : BitVec 32 := 1#32
  let arg19 : BitVec 32 := Scf.iv c24_i32 c1_i32_446 k0_t10
  let c4_i32_523 : BitVec 32 := 4#32
  let v675 : BitVec 32 := Scalar.muli arg19 c4_i32_523
  let v676 : Index := Scalar.indexCast v675
  let c7 : Index := 7#32
  let c0_524 : Index := 0#32
  let c0_525 : Index := 0#32
  ![v676.toNat, 7, 0, 0]
def k0_off206 (k0_t4 : Fin k0_t4_loop.trips) (k0_t10 : Fin k0_t10_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v680 : Index := Scalar.indexCast v497
  let c24_i32 : BitVec 32 := 24#32
  let c1_i32_446 : BitVec 32 := 1#32
  let arg19 : BitVec 32 := Scf.iv c24_i32 c1_i32_446 k0_t10
  let c32_i32_490 : BitVec 32 := 32#32
  let v580 : BitVec 32 := Scalar.muli arg19 c32_i32_490
  let v581 : BitVec 32 := v580
  let v681 : Index := Scalar.indexCast v581
  let c1024_526 : Index := 1024#32
  ![v680.toNat, v681.toNat, 1024]
def k0_off207 (k0_t10 : Fin k0_t10_loop.trips) : Fin 4 → Nat :=
  let c24_i32 : BitVec 32 := 24#32
  let c1_i32_446 : BitVec 32 := 1#32
  let arg19 : BitVec 32 := Scf.iv c24_i32 c1_i32_446 k0_t10
  let c4_i32_527 : BitVec 32 := 4#32
  let v687 : BitVec 32 := Scalar.muli arg19 c4_i32_527
  let v688 : Index := Scalar.indexCast v687
  let c8 : Index := 8#32
  let c0_528 : Index := 0#32
  let c0_529 : Index := 0#32
  ![v688.toNat, 8, 0, 0]
def k0_off208 (k0_t4 : Fin k0_t4_loop.trips) (k0_t10 : Fin k0_t10_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v692 : Index := Scalar.indexCast v497
  let c24_i32 : BitVec 32 := 24#32
  let c1_i32_446 : BitVec 32 := 1#32
  let arg19 : BitVec 32 := Scf.iv c24_i32 c1_i32_446 k0_t10
  let c32_i32_490 : BitVec 32 := 32#32
  let v580 : BitVec 32 := Scalar.muli arg19 c32_i32_490
  let v581 : BitVec 32 := v580
  let v693 : Index := Scalar.indexCast v581
  let c1152_530 : Index := 1152#32
  ![v692.toNat, v693.toNat, 1152]
def k0_off209 (k0_t10 : Fin k0_t10_loop.trips) : Fin 4 → Nat :=
  let c24_i32 : BitVec 32 := 24#32
  let c1_i32_446 : BitVec 32 := 1#32
  let arg19 : BitVec 32 := Scf.iv c24_i32 c1_i32_446 k0_t10
  let c4_i32_531 : BitVec 32 := 4#32
  let v699 : BitVec 32 := Scalar.muli arg19 c4_i32_531
  let v700 : Index := Scalar.indexCast v699
  let c9 : Index := 9#32
  let c0_532 : Index := 0#32
  let c0_533 : Index := 0#32
  ![v700.toNat, 9, 0, 0]
def k0_off210 (k0_t4 : Fin k0_t4_loop.trips) (k0_t10 : Fin k0_t10_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v704 : Index := Scalar.indexCast v497
  let c24_i32 : BitVec 32 := 24#32
  let c1_i32_446 : BitVec 32 := 1#32
  let arg19 : BitVec 32 := Scf.iv c24_i32 c1_i32_446 k0_t10
  let c32_i32_490 : BitVec 32 := 32#32
  let v580 : BitVec 32 := Scalar.muli arg19 c32_i32_490
  let v581 : BitVec 32 := v580
  let v705 : Index := Scalar.indexCast v581
  let c1280_534 : Index := 1280#32
  ![v704.toNat, v705.toNat, 1280]
def k0_off211 (k0_t10 : Fin k0_t10_loop.trips) : Fin 4 → Nat :=
  let c24_i32 : BitVec 32 := 24#32
  let c1_i32_446 : BitVec 32 := 1#32
  let arg19 : BitVec 32 := Scf.iv c24_i32 c1_i32_446 k0_t10
  let c4_i32_535 : BitVec 32 := 4#32
  let v711 : BitVec 32 := Scalar.muli arg19 c4_i32_535
  let v712 : Index := Scalar.indexCast v711
  let c10 : Index := 10#32
  let c0_536 : Index := 0#32
  let c0_537 : Index := 0#32
  ![v712.toNat, 10, 0, 0]
def k0_off212 (k0_t4 : Fin k0_t4_loop.trips) (k0_t10 : Fin k0_t10_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v716 : Index := Scalar.indexCast v497
  let c24_i32 : BitVec 32 := 24#32
  let c1_i32_446 : BitVec 32 := 1#32
  let arg19 : BitVec 32 := Scf.iv c24_i32 c1_i32_446 k0_t10
  let c32_i32_490 : BitVec 32 := 32#32
  let v580 : BitVec 32 := Scalar.muli arg19 c32_i32_490
  let v581 : BitVec 32 := v580
  let v717 : Index := Scalar.indexCast v581
  let c1408_538 : Index := 1408#32
  ![v716.toNat, v717.toNat, 1408]
def k0_off213 (k0_t10 : Fin k0_t10_loop.trips) : Fin 4 → Nat :=
  let c24_i32 : BitVec 32 := 24#32
  let c1_i32_446 : BitVec 32 := 1#32
  let arg19 : BitVec 32 := Scf.iv c24_i32 c1_i32_446 k0_t10
  let c4_i32_539 : BitVec 32 := 4#32
  let v723 : BitVec 32 := Scalar.muli arg19 c4_i32_539
  let v724 : Index := Scalar.indexCast v723
  let c11 : Index := 11#32
  let c0_540 : Index := 0#32
  let c0_541 : Index := 0#32
  ![v724.toNat, 11, 0, 0]
def k0_off214 (k0_t4 : Fin k0_t4_loop.trips) (k0_t10 : Fin k0_t10_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v728 : Index := Scalar.indexCast v497
  let c24_i32 : BitVec 32 := 24#32
  let c1_i32_446 : BitVec 32 := 1#32
  let arg19 : BitVec 32 := Scf.iv c24_i32 c1_i32_446 k0_t10
  let c32_i32_490 : BitVec 32 := 32#32
  let v580 : BitVec 32 := Scalar.muli arg19 c32_i32_490
  let v581 : BitVec 32 := v580
  let v729 : Index := Scalar.indexCast v581
  let c1536_542 : Index := 1536#32
  ![v728.toNat, v729.toNat, 1536]
def k0_off215 (k0_t10 : Fin k0_t10_loop.trips) : Fin 4 → Nat :=
  let c24_i32 : BitVec 32 := 24#32
  let c1_i32_446 : BitVec 32 := 1#32
  let arg19 : BitVec 32 := Scf.iv c24_i32 c1_i32_446 k0_t10
  let c4_i32_543 : BitVec 32 := 4#32
  let v735 : BitVec 32 := Scalar.muli arg19 c4_i32_543
  let v736 : Index := Scalar.indexCast v735
  let c12 : Index := 12#32
  let c0_544 : Index := 0#32
  let c0_545 : Index := 0#32
  ![v736.toNat, 12, 0, 0]
def k0_off216 (k0_t4 : Fin k0_t4_loop.trips) (k0_t10 : Fin k0_t10_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v740 : Index := Scalar.indexCast v497
  let c24_i32 : BitVec 32 := 24#32
  let c1_i32_446 : BitVec 32 := 1#32
  let arg19 : BitVec 32 := Scf.iv c24_i32 c1_i32_446 k0_t10
  let c32_i32_490 : BitVec 32 := 32#32
  let v580 : BitVec 32 := Scalar.muli arg19 c32_i32_490
  let v581 : BitVec 32 := v580
  let v741 : Index := Scalar.indexCast v581
  let c1664_546 : Index := 1664#32
  ![v740.toNat, v741.toNat, 1664]
def k0_off217 (k0_t10 : Fin k0_t10_loop.trips) : Fin 4 → Nat :=
  let c24_i32 : BitVec 32 := 24#32
  let c1_i32_446 : BitVec 32 := 1#32
  let arg19 : BitVec 32 := Scf.iv c24_i32 c1_i32_446 k0_t10
  let c4_i32_547 : BitVec 32 := 4#32
  let v747 : BitVec 32 := Scalar.muli arg19 c4_i32_547
  let v748 : Index := Scalar.indexCast v747
  let c13 : Index := 13#32
  let c0_548 : Index := 0#32
  let c0_549 : Index := 0#32
  ![v748.toNat, 13, 0, 0]
def k0_off218 (k0_t4 : Fin k0_t4_loop.trips) (k0_t10 : Fin k0_t10_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v752 : Index := Scalar.indexCast v497
  let c24_i32 : BitVec 32 := 24#32
  let c1_i32_446 : BitVec 32 := 1#32
  let arg19 : BitVec 32 := Scf.iv c24_i32 c1_i32_446 k0_t10
  let c32_i32_490 : BitVec 32 := 32#32
  let v580 : BitVec 32 := Scalar.muli arg19 c32_i32_490
  let v581 : BitVec 32 := v580
  let v753 : Index := Scalar.indexCast v581
  let c1792_550 : Index := 1792#32
  ![v752.toNat, v753.toNat, 1792]
def k0_off219 (k0_t10 : Fin k0_t10_loop.trips) : Fin 4 → Nat :=
  let c24_i32 : BitVec 32 := 24#32
  let c1_i32_446 : BitVec 32 := 1#32
  let arg19 : BitVec 32 := Scf.iv c24_i32 c1_i32_446 k0_t10
  let c4_i32_551 : BitVec 32 := 4#32
  let v759 : BitVec 32 := Scalar.muli arg19 c4_i32_551
  let v760 : Index := Scalar.indexCast v759
  let c14 : Index := 14#32
  let c0_552 : Index := 0#32
  let c0_553 : Index := 0#32
  ![v760.toNat, 14, 0, 0]
def k0_off220 (k0_t4 : Fin k0_t4_loop.trips) (k0_t10 : Fin k0_t10_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v764 : Index := Scalar.indexCast v497
  let c24_i32 : BitVec 32 := 24#32
  let c1_i32_446 : BitVec 32 := 1#32
  let arg19 : BitVec 32 := Scf.iv c24_i32 c1_i32_446 k0_t10
  let c32_i32_490 : BitVec 32 := 32#32
  let v580 : BitVec 32 := Scalar.muli arg19 c32_i32_490
  let v581 : BitVec 32 := v580
  let v765 : Index := Scalar.indexCast v581
  let c1920_554 : Index := 1920#32
  ![v764.toNat, v765.toNat, 1920]
def k0_off221 (k0_t10 : Fin k0_t10_loop.trips) : Fin 4 → Nat :=
  let c24_i32 : BitVec 32 := 24#32
  let c1_i32_446 : BitVec 32 := 1#32
  let arg19 : BitVec 32 := Scf.iv c24_i32 c1_i32_446 k0_t10
  let c4_i32_555 : BitVec 32 := 4#32
  let v771 : BitVec 32 := Scalar.muli arg19 c4_i32_555
  let v772 : Index := Scalar.indexCast v771
  let c15 : Index := 15#32
  let c0_556 : Index := 0#32
  let c0_557 : Index := 0#32
  ![v772.toNat, 15, 0, 0]
def k0_off222 (k0_t4 : Fin k0_t4_loop.trips) (k0_t10 : Fin k0_t10_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v776 : Index := Scalar.indexCast v497
  let c24_i32 : BitVec 32 := 24#32
  let c1_i32_446 : BitVec 32 := 1#32
  let arg19 : BitVec 32 := Scf.iv c24_i32 c1_i32_446 k0_t10
  let c32_i32_490 : BitVec 32 := 32#32
  let v580 : BitVec 32 := Scalar.muli arg19 c32_i32_490
  let v581 : BitVec 32 := v580
  let v777 : Index := Scalar.indexCast v581
  let c2048 : Index := 2048#32
  ![v776.toNat, v777.toNat, 2048]
def k0_off223 (k0_t10 : Fin k0_t10_loop.trips) : Fin 4 → Nat :=
  let c24_i32 : BitVec 32 := 24#32
  let c1_i32_446 : BitVec 32 := 1#32
  let arg19 : BitVec 32 := Scf.iv c24_i32 c1_i32_446 k0_t10
  let c4_i32_558 : BitVec 32 := 4#32
  let v783 : BitVec 32 := Scalar.muli arg19 c4_i32_558
  let v784 : Index := Scalar.indexCast v783
  let c16_559 : Index := 16#32
  let c0_560 : Index := 0#32
  let c0_561 : Index := 0#32
  ![v784.toNat, 16, 0, 0]
def k0_off224 (k0_t4 : Fin k0_t4_loop.trips) (k0_t10 : Fin k0_t10_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v788 : Index := Scalar.indexCast v497
  let c24_i32 : BitVec 32 := 24#32
  let c1_i32_446 : BitVec 32 := 1#32
  let arg19 : BitVec 32 := Scf.iv c24_i32 c1_i32_446 k0_t10
  let c32_i32_490 : BitVec 32 := 32#32
  let v580 : BitVec 32 := Scalar.muli arg19 c32_i32_490
  let v581 : BitVec 32 := v580
  let v789 : Index := Scalar.indexCast v581
  let c2176 : Index := 2176#32
  ![v788.toNat, v789.toNat, 2176]
def k0_off225 (k0_t10 : Fin k0_t10_loop.trips) : Fin 4 → Nat :=
  let c24_i32 : BitVec 32 := 24#32
  let c1_i32_446 : BitVec 32 := 1#32
  let arg19 : BitVec 32 := Scf.iv c24_i32 c1_i32_446 k0_t10
  let c4_i32_562 : BitVec 32 := 4#32
  let v795 : BitVec 32 := Scalar.muli arg19 c4_i32_562
  let v796 : Index := Scalar.indexCast v795
  let c17 : Index := 17#32
  let c0_563 : Index := 0#32
  let c0_564 : Index := 0#32
  ![v796.toNat, 17, 0, 0]
def k0_off226 (k0_t4 : Fin k0_t4_loop.trips) (k0_t10 : Fin k0_t10_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v800 : Index := Scalar.indexCast v497
  let c24_i32 : BitVec 32 := 24#32
  let c1_i32_446 : BitVec 32 := 1#32
  let arg19 : BitVec 32 := Scf.iv c24_i32 c1_i32_446 k0_t10
  let c32_i32_490 : BitVec 32 := 32#32
  let v580 : BitVec 32 := Scalar.muli arg19 c32_i32_490
  let v581 : BitVec 32 := v580
  let v801 : Index := Scalar.indexCast v581
  let c2304 : Index := 2304#32
  ![v800.toNat, v801.toNat, 2304]
def k0_off227 (k0_t10 : Fin k0_t10_loop.trips) : Fin 4 → Nat :=
  let c24_i32 : BitVec 32 := 24#32
  let c1_i32_446 : BitVec 32 := 1#32
  let arg19 : BitVec 32 := Scf.iv c24_i32 c1_i32_446 k0_t10
  let c4_i32_565 : BitVec 32 := 4#32
  let v807 : BitVec 32 := Scalar.muli arg19 c4_i32_565
  let v808 : Index := Scalar.indexCast v807
  let c18 : Index := 18#32
  let c0_566 : Index := 0#32
  let c0_567 : Index := 0#32
  ![v808.toNat, 18, 0, 0]
def k0_off228 (k0_t4 : Fin k0_t4_loop.trips) (k0_t10 : Fin k0_t10_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v812 : Index := Scalar.indexCast v497
  let c24_i32 : BitVec 32 := 24#32
  let c1_i32_446 : BitVec 32 := 1#32
  let arg19 : BitVec 32 := Scf.iv c24_i32 c1_i32_446 k0_t10
  let c32_i32_490 : BitVec 32 := 32#32
  let v580 : BitVec 32 := Scalar.muli arg19 c32_i32_490
  let v581 : BitVec 32 := v580
  let v813 : Index := Scalar.indexCast v581
  let c2432 : Index := 2432#32
  ![v812.toNat, v813.toNat, 2432]
def k0_off229 (k0_t10 : Fin k0_t10_loop.trips) : Fin 4 → Nat :=
  let c24_i32 : BitVec 32 := 24#32
  let c1_i32_446 : BitVec 32 := 1#32
  let arg19 : BitVec 32 := Scf.iv c24_i32 c1_i32_446 k0_t10
  let c4_i32_568 : BitVec 32 := 4#32
  let v819 : BitVec 32 := Scalar.muli arg19 c4_i32_568
  let v820 : Index := Scalar.indexCast v819
  let c19 : Index := 19#32
  let c0_569 : Index := 0#32
  let c0_570 : Index := 0#32
  ![v820.toNat, 19, 0, 0]
def k0_off230 (k0_t4 : Fin k0_t4_loop.trips) (k0_t10 : Fin k0_t10_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v824 : Index := Scalar.indexCast v497
  let c24_i32 : BitVec 32 := 24#32
  let c1_i32_446 : BitVec 32 := 1#32
  let arg19 : BitVec 32 := Scf.iv c24_i32 c1_i32_446 k0_t10
  let c32_i32_490 : BitVec 32 := 32#32
  let v580 : BitVec 32 := Scalar.muli arg19 c32_i32_490
  let v581 : BitVec 32 := v580
  let v825 : Index := Scalar.indexCast v581
  let c2560 : Index := 2560#32
  ![v824.toNat, v825.toNat, 2560]
def k0_off231 (k0_t10 : Fin k0_t10_loop.trips) : Fin 4 → Nat :=
  let c24_i32 : BitVec 32 := 24#32
  let c1_i32_446 : BitVec 32 := 1#32
  let arg19 : BitVec 32 := Scf.iv c24_i32 c1_i32_446 k0_t10
  let c4_i32_571 : BitVec 32 := 4#32
  let v831 : BitVec 32 := Scalar.muli arg19 c4_i32_571
  let v832 : Index := Scalar.indexCast v831
  let c20 : Index := 20#32
  let c0_572 : Index := 0#32
  let c0_573 : Index := 0#32
  ![v832.toNat, 20, 0, 0]
def k0_off232 (k0_t4 : Fin k0_t4_loop.trips) (k0_t10 : Fin k0_t10_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v836 : Index := Scalar.indexCast v497
  let c24_i32 : BitVec 32 := 24#32
  let c1_i32_446 : BitVec 32 := 1#32
  let arg19 : BitVec 32 := Scf.iv c24_i32 c1_i32_446 k0_t10
  let c32_i32_490 : BitVec 32 := 32#32
  let v580 : BitVec 32 := Scalar.muli arg19 c32_i32_490
  let v581 : BitVec 32 := v580
  let v837 : Index := Scalar.indexCast v581
  let c2688 : Index := 2688#32
  ![v836.toNat, v837.toNat, 2688]
def k0_off233 (k0_t10 : Fin k0_t10_loop.trips) : Fin 4 → Nat :=
  let c24_i32 : BitVec 32 := 24#32
  let c1_i32_446 : BitVec 32 := 1#32
  let arg19 : BitVec 32 := Scf.iv c24_i32 c1_i32_446 k0_t10
  let c4_i32_574 : BitVec 32 := 4#32
  let v843 : BitVec 32 := Scalar.muli arg19 c4_i32_574
  let v844 : Index := Scalar.indexCast v843
  let c21 : Index := 21#32
  let c0_575 : Index := 0#32
  let c0_576 : Index := 0#32
  ![v844.toNat, 21, 0, 0]
def k0_off234 (k0_t4 : Fin k0_t4_loop.trips) (k0_t10 : Fin k0_t10_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v848 : Index := Scalar.indexCast v497
  let c24_i32 : BitVec 32 := 24#32
  let c1_i32_446 : BitVec 32 := 1#32
  let arg19 : BitVec 32 := Scf.iv c24_i32 c1_i32_446 k0_t10
  let c32_i32_490 : BitVec 32 := 32#32
  let v580 : BitVec 32 := Scalar.muli arg19 c32_i32_490
  let v581 : BitVec 32 := v580
  let v849 : Index := Scalar.indexCast v581
  let c2816 : Index := 2816#32
  ![v848.toNat, v849.toNat, 2816]
def k0_off235 (k0_t10 : Fin k0_t10_loop.trips) : Fin 4 → Nat :=
  let c24_i32 : BitVec 32 := 24#32
  let c1_i32_446 : BitVec 32 := 1#32
  let arg19 : BitVec 32 := Scf.iv c24_i32 c1_i32_446 k0_t10
  let c4_i32_577 : BitVec 32 := 4#32
  let v855 : BitVec 32 := Scalar.muli arg19 c4_i32_577
  let v856 : Index := Scalar.indexCast v855
  let c22 : Index := 22#32
  let c0_578 : Index := 0#32
  let c0_579 : Index := 0#32
  ![v856.toNat, 22, 0, 0]
def k0_off236 (k0_t4 : Fin k0_t4_loop.trips) (k0_t10 : Fin k0_t10_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v860 : Index := Scalar.indexCast v497
  let c24_i32 : BitVec 32 := 24#32
  let c1_i32_446 : BitVec 32 := 1#32
  let arg19 : BitVec 32 := Scf.iv c24_i32 c1_i32_446 k0_t10
  let c32_i32_490 : BitVec 32 := 32#32
  let v580 : BitVec 32 := Scalar.muli arg19 c32_i32_490
  let v581 : BitVec 32 := v580
  let v861 : Index := Scalar.indexCast v581
  let c2944 : Index := 2944#32
  ![v860.toNat, v861.toNat, 2944]
def k0_off237 (k0_t10 : Fin k0_t10_loop.trips) : Fin 4 → Nat :=
  let c24_i32 : BitVec 32 := 24#32
  let c1_i32_446 : BitVec 32 := 1#32
  let arg19 : BitVec 32 := Scf.iv c24_i32 c1_i32_446 k0_t10
  let c4_i32_580 : BitVec 32 := 4#32
  let v867 : BitVec 32 := Scalar.muli arg19 c4_i32_580
  let v868 : Index := Scalar.indexCast v867
  let c23 : Index := 23#32
  let c0_581 : Index := 0#32
  let c0_582 : Index := 0#32
  ![v868.toNat, 23, 0, 0]
def k0_off238 (k0_t4 : Fin k0_t4_loop.trips) : Fin 2 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let c4_i32_450 : BitVec 32 := 4#32
  ![v497.toNat, 4]
def k0_off239 (k0_t4 : Fin k0_t4_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let c1024_i32_451 : BitVec 32 := 1024#32
  let c0_i32_452 : BitVec 32 := 0#32
  ![v497.toNat, 1024, 0]
def k0_off240 (k0_t4 : Fin k0_t4_loop.trips) : Fin 3 → Nat :=
  let c1_i32_449 : BitVec 32 := 1#32
  let c0_i32_453 : BitVec 32 := 0#32
  let c0_i32_379 : BitVec 32 := 0#32
  let c1_i32_381 : BitVec 32 := 1#32
  let arg18 : BitVec 32 := Scf.iv c0_i32_379 c1_i32_381 k0_t4
  let c3072_i32_448 : BitVec 32 := 3072#32
  let v541 : BitVec 32 := Scalar.muli arg18 c3072_i32_448
  ![1, 0, v541.toNat]
@[reducible] def k0_t11_loop : Scf.Loop 32 :=
  let c32_i32_454 : BitVec 32 := 32#32
  let c8_i32_455 : BitVec 32 := 8#32
  let v548 : BitVec 32 := Scalar.addi c32_i32_454 c8_i32_455
  let c1_i32_456 : BitVec 32 := 1#32
  ⟨c32_i32_454, v548, c1_i32_456⟩
def k0_mult5 (k0_t11 : Fin k0_t11_loop.trips) : BitVec 32 :=
  let c32_i32_454 : BitVec 32 := 32#32
  let c1_i32_456 : BitVec 32 := 1#32
  let arg19 : BitVec 32 := Scf.iv c32_i32_454 c1_i32_456 k0_t11
  let c32_i32_490 : BitVec 32 := 32#32
  let v580 : BitVec 32 := Scalar.muli arg19 c32_i32_490
  v580
def k0_off241 (k0_t11 : Fin k0_t11_loop.trips) : Fin 2 → Nat :=
  let c32_i32_454 : BitVec 32 := 32#32
  let c1_i32_456 : BitVec 32 := 1#32
  let arg19 : BitVec 32 := Scf.iv c32_i32_454 c1_i32_456 k0_t11
  let c32_i32_490 : BitVec 32 := 32#32
  let v580 : BitVec 32 := Scalar.muli arg19 c32_i32_490
  let v581 : BitVec 32 := v580
  let v582 : Index := Scalar.indexCast v581
  let c0_491 : Index := 0#32
  ![v582.toNat, 0]
def k0_off242 (k0_t4 : Fin k0_t4_loop.trips) (k0_t11 : Fin k0_t11_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v584 : Index := Scalar.indexCast v497
  let c32_i32_454 : BitVec 32 := 32#32
  let c1_i32_456 : BitVec 32 := 1#32
  let arg19 : BitVec 32 := Scf.iv c32_i32_454 c1_i32_456 k0_t11
  let c32_i32_490 : BitVec 32 := 32#32
  let v580 : BitVec 32 := Scalar.muli arg19 c32_i32_490
  let v581 : BitVec 32 := v580
  let v585 : Index := Scalar.indexCast v581
  let c0_492 : Index := 0#32
  ![v584.toNat, v585.toNat, 0]
def k0_off243 (k0_t11 : Fin k0_t11_loop.trips) : Fin 4 → Nat :=
  let c32_i32_454 : BitVec 32 := 32#32
  let c1_i32_456 : BitVec 32 := 1#32
  let arg19 : BitVec 32 := Scf.iv c32_i32_454 c1_i32_456 k0_t11
  let c4_i32_493 : BitVec 32 := 4#32
  let v591 : BitVec 32 := Scalar.muli arg19 c4_i32_493
  let v592 : Index := Scalar.indexCast v591
  let c0_494 : Index := 0#32
  let c0_495 : Index := 0#32
  let c0_496 : Index := 0#32
  ![v592.toNat, 0, 0, 0]
def k0_off244 (k0_t4 : Fin k0_t4_loop.trips) (k0_t11 : Fin k0_t11_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v596 : Index := Scalar.indexCast v497
  let c32_i32_454 : BitVec 32 := 32#32
  let c1_i32_456 : BitVec 32 := 1#32
  let arg19 : BitVec 32 := Scf.iv c32_i32_454 c1_i32_456 k0_t11
  let c32_i32_490 : BitVec 32 := 32#32
  let v580 : BitVec 32 := Scalar.muli arg19 c32_i32_490
  let v581 : BitVec 32 := v580
  let v597 : Index := Scalar.indexCast v581
  let c128_497 : Index := 128#32
  ![v596.toNat, v597.toNat, 128]
def k0_off245 (k0_t11 : Fin k0_t11_loop.trips) : Fin 4 → Nat :=
  let c32_i32_454 : BitVec 32 := 32#32
  let c1_i32_456 : BitVec 32 := 1#32
  let arg19 : BitVec 32 := Scf.iv c32_i32_454 c1_i32_456 k0_t11
  let c4_i32_498 : BitVec 32 := 4#32
  let v603 : BitVec 32 := Scalar.muli arg19 c4_i32_498
  let v604 : Index := Scalar.indexCast v603
  let c1_499 : Index := 1#32
  let c0_500 : Index := 0#32
  let c0_501 : Index := 0#32
  ![v604.toNat, 1, 0, 0]
def k0_off246 (k0_t4 : Fin k0_t4_loop.trips) (k0_t11 : Fin k0_t11_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v608 : Index := Scalar.indexCast v497
  let c32_i32_454 : BitVec 32 := 32#32
  let c1_i32_456 : BitVec 32 := 1#32
  let arg19 : BitVec 32 := Scf.iv c32_i32_454 c1_i32_456 k0_t11
  let c32_i32_490 : BitVec 32 := 32#32
  let v580 : BitVec 32 := Scalar.muli arg19 c32_i32_490
  let v581 : BitVec 32 := v580
  let v609 : Index := Scalar.indexCast v581
  let c256_502 : Index := 256#32
  ![v608.toNat, v609.toNat, 256]
def k0_off247 (k0_t11 : Fin k0_t11_loop.trips) : Fin 4 → Nat :=
  let c32_i32_454 : BitVec 32 := 32#32
  let c1_i32_456 : BitVec 32 := 1#32
  let arg19 : BitVec 32 := Scf.iv c32_i32_454 c1_i32_456 k0_t11
  let c4_i32_503 : BitVec 32 := 4#32
  let v615 : BitVec 32 := Scalar.muli arg19 c4_i32_503
  let v616 : Index := Scalar.indexCast v615
  let c2 : Index := 2#32
  let c0_504 : Index := 0#32
  let c0_505 : Index := 0#32
  ![v616.toNat, 2, 0, 0]
def k0_off248 (k0_t4 : Fin k0_t4_loop.trips) (k0_t11 : Fin k0_t11_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v620 : Index := Scalar.indexCast v497
  let c32_i32_454 : BitVec 32 := 32#32
  let c1_i32_456 : BitVec 32 := 1#32
  let arg19 : BitVec 32 := Scf.iv c32_i32_454 c1_i32_456 k0_t11
  let c32_i32_490 : BitVec 32 := 32#32
  let v580 : BitVec 32 := Scalar.muli arg19 c32_i32_490
  let v581 : BitVec 32 := v580
  let v621 : Index := Scalar.indexCast v581
  let c384_506 : Index := 384#32
  ![v620.toNat, v621.toNat, 384]
def k0_off249 (k0_t11 : Fin k0_t11_loop.trips) : Fin 4 → Nat :=
  let c32_i32_454 : BitVec 32 := 32#32
  let c1_i32_456 : BitVec 32 := 1#32
  let arg19 : BitVec 32 := Scf.iv c32_i32_454 c1_i32_456 k0_t11
  let c4_i32_507 : BitVec 32 := 4#32
  let v627 : BitVec 32 := Scalar.muli arg19 c4_i32_507
  let v628 : Index := Scalar.indexCast v627
  let c3 : Index := 3#32
  let c0_508 : Index := 0#32
  let c0_509 : Index := 0#32
  ![v628.toNat, 3, 0, 0]
def k0_off250 (k0_t4 : Fin k0_t4_loop.trips) (k0_t11 : Fin k0_t11_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v632 : Index := Scalar.indexCast v497
  let c32_i32_454 : BitVec 32 := 32#32
  let c1_i32_456 : BitVec 32 := 1#32
  let arg19 : BitVec 32 := Scf.iv c32_i32_454 c1_i32_456 k0_t11
  let c32_i32_490 : BitVec 32 := 32#32
  let v580 : BitVec 32 := Scalar.muli arg19 c32_i32_490
  let v581 : BitVec 32 := v580
  let v633 : Index := Scalar.indexCast v581
  let c512_510 : Index := 512#32
  ![v632.toNat, v633.toNat, 512]
def k0_off251 (k0_t11 : Fin k0_t11_loop.trips) : Fin 4 → Nat :=
  let c32_i32_454 : BitVec 32 := 32#32
  let c1_i32_456 : BitVec 32 := 1#32
  let arg19 : BitVec 32 := Scf.iv c32_i32_454 c1_i32_456 k0_t11
  let c4_i32_511 : BitVec 32 := 4#32
  let v639 : BitVec 32 := Scalar.muli arg19 c4_i32_511
  let v640 : Index := Scalar.indexCast v639
  let c4 : Index := 4#32
  let c0_512 : Index := 0#32
  let c0_513 : Index := 0#32
  ![v640.toNat, 4, 0, 0]
def k0_off252 (k0_t4 : Fin k0_t4_loop.trips) (k0_t11 : Fin k0_t11_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v644 : Index := Scalar.indexCast v497
  let c32_i32_454 : BitVec 32 := 32#32
  let c1_i32_456 : BitVec 32 := 1#32
  let arg19 : BitVec 32 := Scf.iv c32_i32_454 c1_i32_456 k0_t11
  let c32_i32_490 : BitVec 32 := 32#32
  let v580 : BitVec 32 := Scalar.muli arg19 c32_i32_490
  let v581 : BitVec 32 := v580
  let v645 : Index := Scalar.indexCast v581
  let c640_514 : Index := 640#32
  ![v644.toNat, v645.toNat, 640]
def k0_off253 (k0_t11 : Fin k0_t11_loop.trips) : Fin 4 → Nat :=
  let c32_i32_454 : BitVec 32 := 32#32
  let c1_i32_456 : BitVec 32 := 1#32
  let arg19 : BitVec 32 := Scf.iv c32_i32_454 c1_i32_456 k0_t11
  let c4_i32_515 : BitVec 32 := 4#32
  let v651 : BitVec 32 := Scalar.muli arg19 c4_i32_515
  let v652 : Index := Scalar.indexCast v651
  let c5 : Index := 5#32
  let c0_516 : Index := 0#32
  let c0_517 : Index := 0#32
  ![v652.toNat, 5, 0, 0]
def k0_off254 (k0_t4 : Fin k0_t4_loop.trips) (k0_t11 : Fin k0_t11_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v656 : Index := Scalar.indexCast v497
  let c32_i32_454 : BitVec 32 := 32#32
  let c1_i32_456 : BitVec 32 := 1#32
  let arg19 : BitVec 32 := Scf.iv c32_i32_454 c1_i32_456 k0_t11
  let c32_i32_490 : BitVec 32 := 32#32
  let v580 : BitVec 32 := Scalar.muli arg19 c32_i32_490
  let v581 : BitVec 32 := v580
  let v657 : Index := Scalar.indexCast v581
  let c768_518 : Index := 768#32
  ![v656.toNat, v657.toNat, 768]
def k0_off255 (k0_t11 : Fin k0_t11_loop.trips) : Fin 4 → Nat :=
  let c32_i32_454 : BitVec 32 := 32#32
  let c1_i32_456 : BitVec 32 := 1#32
  let arg19 : BitVec 32 := Scf.iv c32_i32_454 c1_i32_456 k0_t11
  let c4_i32_519 : BitVec 32 := 4#32
  let v663 : BitVec 32 := Scalar.muli arg19 c4_i32_519
  let v664 : Index := Scalar.indexCast v663
  let c6 : Index := 6#32
  let c0_520 : Index := 0#32
  let c0_521 : Index := 0#32
  ![v664.toNat, 6, 0, 0]
def k0_off256 (k0_t4 : Fin k0_t4_loop.trips) (k0_t11 : Fin k0_t11_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v668 : Index := Scalar.indexCast v497
  let c32_i32_454 : BitVec 32 := 32#32
  let c1_i32_456 : BitVec 32 := 1#32
  let arg19 : BitVec 32 := Scf.iv c32_i32_454 c1_i32_456 k0_t11
  let c32_i32_490 : BitVec 32 := 32#32
  let v580 : BitVec 32 := Scalar.muli arg19 c32_i32_490
  let v581 : BitVec 32 := v580
  let v669 : Index := Scalar.indexCast v581
  let c896_522 : Index := 896#32
  ![v668.toNat, v669.toNat, 896]
def k0_off257 (k0_t11 : Fin k0_t11_loop.trips) : Fin 4 → Nat :=
  let c32_i32_454 : BitVec 32 := 32#32
  let c1_i32_456 : BitVec 32 := 1#32
  let arg19 : BitVec 32 := Scf.iv c32_i32_454 c1_i32_456 k0_t11
  let c4_i32_523 : BitVec 32 := 4#32
  let v675 : BitVec 32 := Scalar.muli arg19 c4_i32_523
  let v676 : Index := Scalar.indexCast v675
  let c7 : Index := 7#32
  let c0_524 : Index := 0#32
  let c0_525 : Index := 0#32
  ![v676.toNat, 7, 0, 0]
def k0_off258 (k0_t4 : Fin k0_t4_loop.trips) (k0_t11 : Fin k0_t11_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v680 : Index := Scalar.indexCast v497
  let c32_i32_454 : BitVec 32 := 32#32
  let c1_i32_456 : BitVec 32 := 1#32
  let arg19 : BitVec 32 := Scf.iv c32_i32_454 c1_i32_456 k0_t11
  let c32_i32_490 : BitVec 32 := 32#32
  let v580 : BitVec 32 := Scalar.muli arg19 c32_i32_490
  let v581 : BitVec 32 := v580
  let v681 : Index := Scalar.indexCast v581
  let c1024_526 : Index := 1024#32
  ![v680.toNat, v681.toNat, 1024]
def k0_off259 (k0_t11 : Fin k0_t11_loop.trips) : Fin 4 → Nat :=
  let c32_i32_454 : BitVec 32 := 32#32
  let c1_i32_456 : BitVec 32 := 1#32
  let arg19 : BitVec 32 := Scf.iv c32_i32_454 c1_i32_456 k0_t11
  let c4_i32_527 : BitVec 32 := 4#32
  let v687 : BitVec 32 := Scalar.muli arg19 c4_i32_527
  let v688 : Index := Scalar.indexCast v687
  let c8 : Index := 8#32
  let c0_528 : Index := 0#32
  let c0_529 : Index := 0#32
  ![v688.toNat, 8, 0, 0]
def k0_off260 (k0_t4 : Fin k0_t4_loop.trips) (k0_t11 : Fin k0_t11_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v692 : Index := Scalar.indexCast v497
  let c32_i32_454 : BitVec 32 := 32#32
  let c1_i32_456 : BitVec 32 := 1#32
  let arg19 : BitVec 32 := Scf.iv c32_i32_454 c1_i32_456 k0_t11
  let c32_i32_490 : BitVec 32 := 32#32
  let v580 : BitVec 32 := Scalar.muli arg19 c32_i32_490
  let v581 : BitVec 32 := v580
  let v693 : Index := Scalar.indexCast v581
  let c1152_530 : Index := 1152#32
  ![v692.toNat, v693.toNat, 1152]
def k0_off261 (k0_t11 : Fin k0_t11_loop.trips) : Fin 4 → Nat :=
  let c32_i32_454 : BitVec 32 := 32#32
  let c1_i32_456 : BitVec 32 := 1#32
  let arg19 : BitVec 32 := Scf.iv c32_i32_454 c1_i32_456 k0_t11
  let c4_i32_531 : BitVec 32 := 4#32
  let v699 : BitVec 32 := Scalar.muli arg19 c4_i32_531
  let v700 : Index := Scalar.indexCast v699
  let c9 : Index := 9#32
  let c0_532 : Index := 0#32
  let c0_533 : Index := 0#32
  ![v700.toNat, 9, 0, 0]
def k0_off262 (k0_t4 : Fin k0_t4_loop.trips) (k0_t11 : Fin k0_t11_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v704 : Index := Scalar.indexCast v497
  let c32_i32_454 : BitVec 32 := 32#32
  let c1_i32_456 : BitVec 32 := 1#32
  let arg19 : BitVec 32 := Scf.iv c32_i32_454 c1_i32_456 k0_t11
  let c32_i32_490 : BitVec 32 := 32#32
  let v580 : BitVec 32 := Scalar.muli arg19 c32_i32_490
  let v581 : BitVec 32 := v580
  let v705 : Index := Scalar.indexCast v581
  let c1280_534 : Index := 1280#32
  ![v704.toNat, v705.toNat, 1280]
def k0_off263 (k0_t11 : Fin k0_t11_loop.trips) : Fin 4 → Nat :=
  let c32_i32_454 : BitVec 32 := 32#32
  let c1_i32_456 : BitVec 32 := 1#32
  let arg19 : BitVec 32 := Scf.iv c32_i32_454 c1_i32_456 k0_t11
  let c4_i32_535 : BitVec 32 := 4#32
  let v711 : BitVec 32 := Scalar.muli arg19 c4_i32_535
  let v712 : Index := Scalar.indexCast v711
  let c10 : Index := 10#32
  let c0_536 : Index := 0#32
  let c0_537 : Index := 0#32
  ![v712.toNat, 10, 0, 0]
def k0_off264 (k0_t4 : Fin k0_t4_loop.trips) (k0_t11 : Fin k0_t11_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v716 : Index := Scalar.indexCast v497
  let c32_i32_454 : BitVec 32 := 32#32
  let c1_i32_456 : BitVec 32 := 1#32
  let arg19 : BitVec 32 := Scf.iv c32_i32_454 c1_i32_456 k0_t11
  let c32_i32_490 : BitVec 32 := 32#32
  let v580 : BitVec 32 := Scalar.muli arg19 c32_i32_490
  let v581 : BitVec 32 := v580
  let v717 : Index := Scalar.indexCast v581
  let c1408_538 : Index := 1408#32
  ![v716.toNat, v717.toNat, 1408]
def k0_off265 (k0_t11 : Fin k0_t11_loop.trips) : Fin 4 → Nat :=
  let c32_i32_454 : BitVec 32 := 32#32
  let c1_i32_456 : BitVec 32 := 1#32
  let arg19 : BitVec 32 := Scf.iv c32_i32_454 c1_i32_456 k0_t11
  let c4_i32_539 : BitVec 32 := 4#32
  let v723 : BitVec 32 := Scalar.muli arg19 c4_i32_539
  let v724 : Index := Scalar.indexCast v723
  let c11 : Index := 11#32
  let c0_540 : Index := 0#32
  let c0_541 : Index := 0#32
  ![v724.toNat, 11, 0, 0]
def k0_off266 (k0_t4 : Fin k0_t4_loop.trips) (k0_t11 : Fin k0_t11_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v728 : Index := Scalar.indexCast v497
  let c32_i32_454 : BitVec 32 := 32#32
  let c1_i32_456 : BitVec 32 := 1#32
  let arg19 : BitVec 32 := Scf.iv c32_i32_454 c1_i32_456 k0_t11
  let c32_i32_490 : BitVec 32 := 32#32
  let v580 : BitVec 32 := Scalar.muli arg19 c32_i32_490
  let v581 : BitVec 32 := v580
  let v729 : Index := Scalar.indexCast v581
  let c1536_542 : Index := 1536#32
  ![v728.toNat, v729.toNat, 1536]
def k0_off267 (k0_t11 : Fin k0_t11_loop.trips) : Fin 4 → Nat :=
  let c32_i32_454 : BitVec 32 := 32#32
  let c1_i32_456 : BitVec 32 := 1#32
  let arg19 : BitVec 32 := Scf.iv c32_i32_454 c1_i32_456 k0_t11
  let c4_i32_543 : BitVec 32 := 4#32
  let v735 : BitVec 32 := Scalar.muli arg19 c4_i32_543
  let v736 : Index := Scalar.indexCast v735
  let c12 : Index := 12#32
  let c0_544 : Index := 0#32
  let c0_545 : Index := 0#32
  ![v736.toNat, 12, 0, 0]
def k0_off268 (k0_t4 : Fin k0_t4_loop.trips) (k0_t11 : Fin k0_t11_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v740 : Index := Scalar.indexCast v497
  let c32_i32_454 : BitVec 32 := 32#32
  let c1_i32_456 : BitVec 32 := 1#32
  let arg19 : BitVec 32 := Scf.iv c32_i32_454 c1_i32_456 k0_t11
  let c32_i32_490 : BitVec 32 := 32#32
  let v580 : BitVec 32 := Scalar.muli arg19 c32_i32_490
  let v581 : BitVec 32 := v580
  let v741 : Index := Scalar.indexCast v581
  let c1664_546 : Index := 1664#32
  ![v740.toNat, v741.toNat, 1664]
def k0_off269 (k0_t11 : Fin k0_t11_loop.trips) : Fin 4 → Nat :=
  let c32_i32_454 : BitVec 32 := 32#32
  let c1_i32_456 : BitVec 32 := 1#32
  let arg19 : BitVec 32 := Scf.iv c32_i32_454 c1_i32_456 k0_t11
  let c4_i32_547 : BitVec 32 := 4#32
  let v747 : BitVec 32 := Scalar.muli arg19 c4_i32_547
  let v748 : Index := Scalar.indexCast v747
  let c13 : Index := 13#32
  let c0_548 : Index := 0#32
  let c0_549 : Index := 0#32
  ![v748.toNat, 13, 0, 0]
def k0_off270 (k0_t4 : Fin k0_t4_loop.trips) (k0_t11 : Fin k0_t11_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v752 : Index := Scalar.indexCast v497
  let c32_i32_454 : BitVec 32 := 32#32
  let c1_i32_456 : BitVec 32 := 1#32
  let arg19 : BitVec 32 := Scf.iv c32_i32_454 c1_i32_456 k0_t11
  let c32_i32_490 : BitVec 32 := 32#32
  let v580 : BitVec 32 := Scalar.muli arg19 c32_i32_490
  let v581 : BitVec 32 := v580
  let v753 : Index := Scalar.indexCast v581
  let c1792_550 : Index := 1792#32
  ![v752.toNat, v753.toNat, 1792]
def k0_off271 (k0_t11 : Fin k0_t11_loop.trips) : Fin 4 → Nat :=
  let c32_i32_454 : BitVec 32 := 32#32
  let c1_i32_456 : BitVec 32 := 1#32
  let arg19 : BitVec 32 := Scf.iv c32_i32_454 c1_i32_456 k0_t11
  let c4_i32_551 : BitVec 32 := 4#32
  let v759 : BitVec 32 := Scalar.muli arg19 c4_i32_551
  let v760 : Index := Scalar.indexCast v759
  let c14 : Index := 14#32
  let c0_552 : Index := 0#32
  let c0_553 : Index := 0#32
  ![v760.toNat, 14, 0, 0]
def k0_off272 (k0_t4 : Fin k0_t4_loop.trips) (k0_t11 : Fin k0_t11_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v764 : Index := Scalar.indexCast v497
  let c32_i32_454 : BitVec 32 := 32#32
  let c1_i32_456 : BitVec 32 := 1#32
  let arg19 : BitVec 32 := Scf.iv c32_i32_454 c1_i32_456 k0_t11
  let c32_i32_490 : BitVec 32 := 32#32
  let v580 : BitVec 32 := Scalar.muli arg19 c32_i32_490
  let v581 : BitVec 32 := v580
  let v765 : Index := Scalar.indexCast v581
  let c1920_554 : Index := 1920#32
  ![v764.toNat, v765.toNat, 1920]
def k0_off273 (k0_t11 : Fin k0_t11_loop.trips) : Fin 4 → Nat :=
  let c32_i32_454 : BitVec 32 := 32#32
  let c1_i32_456 : BitVec 32 := 1#32
  let arg19 : BitVec 32 := Scf.iv c32_i32_454 c1_i32_456 k0_t11
  let c4_i32_555 : BitVec 32 := 4#32
  let v771 : BitVec 32 := Scalar.muli arg19 c4_i32_555
  let v772 : Index := Scalar.indexCast v771
  let c15 : Index := 15#32
  let c0_556 : Index := 0#32
  let c0_557 : Index := 0#32
  ![v772.toNat, 15, 0, 0]
def k0_off274 (k0_t4 : Fin k0_t4_loop.trips) (k0_t11 : Fin k0_t11_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v776 : Index := Scalar.indexCast v497
  let c32_i32_454 : BitVec 32 := 32#32
  let c1_i32_456 : BitVec 32 := 1#32
  let arg19 : BitVec 32 := Scf.iv c32_i32_454 c1_i32_456 k0_t11
  let c32_i32_490 : BitVec 32 := 32#32
  let v580 : BitVec 32 := Scalar.muli arg19 c32_i32_490
  let v581 : BitVec 32 := v580
  let v777 : Index := Scalar.indexCast v581
  let c2048 : Index := 2048#32
  ![v776.toNat, v777.toNat, 2048]
def k0_off275 (k0_t11 : Fin k0_t11_loop.trips) : Fin 4 → Nat :=
  let c32_i32_454 : BitVec 32 := 32#32
  let c1_i32_456 : BitVec 32 := 1#32
  let arg19 : BitVec 32 := Scf.iv c32_i32_454 c1_i32_456 k0_t11
  let c4_i32_558 : BitVec 32 := 4#32
  let v783 : BitVec 32 := Scalar.muli arg19 c4_i32_558
  let v784 : Index := Scalar.indexCast v783
  let c16_559 : Index := 16#32
  let c0_560 : Index := 0#32
  let c0_561 : Index := 0#32
  ![v784.toNat, 16, 0, 0]
def k0_off276 (k0_t4 : Fin k0_t4_loop.trips) (k0_t11 : Fin k0_t11_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v788 : Index := Scalar.indexCast v497
  let c32_i32_454 : BitVec 32 := 32#32
  let c1_i32_456 : BitVec 32 := 1#32
  let arg19 : BitVec 32 := Scf.iv c32_i32_454 c1_i32_456 k0_t11
  let c32_i32_490 : BitVec 32 := 32#32
  let v580 : BitVec 32 := Scalar.muli arg19 c32_i32_490
  let v581 : BitVec 32 := v580
  let v789 : Index := Scalar.indexCast v581
  let c2176 : Index := 2176#32
  ![v788.toNat, v789.toNat, 2176]
def k0_off277 (k0_t11 : Fin k0_t11_loop.trips) : Fin 4 → Nat :=
  let c32_i32_454 : BitVec 32 := 32#32
  let c1_i32_456 : BitVec 32 := 1#32
  let arg19 : BitVec 32 := Scf.iv c32_i32_454 c1_i32_456 k0_t11
  let c4_i32_562 : BitVec 32 := 4#32
  let v795 : BitVec 32 := Scalar.muli arg19 c4_i32_562
  let v796 : Index := Scalar.indexCast v795
  let c17 : Index := 17#32
  let c0_563 : Index := 0#32
  let c0_564 : Index := 0#32
  ![v796.toNat, 17, 0, 0]
def k0_off278 (k0_t4 : Fin k0_t4_loop.trips) (k0_t11 : Fin k0_t11_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v800 : Index := Scalar.indexCast v497
  let c32_i32_454 : BitVec 32 := 32#32
  let c1_i32_456 : BitVec 32 := 1#32
  let arg19 : BitVec 32 := Scf.iv c32_i32_454 c1_i32_456 k0_t11
  let c32_i32_490 : BitVec 32 := 32#32
  let v580 : BitVec 32 := Scalar.muli arg19 c32_i32_490
  let v581 : BitVec 32 := v580
  let v801 : Index := Scalar.indexCast v581
  let c2304 : Index := 2304#32
  ![v800.toNat, v801.toNat, 2304]
def k0_off279 (k0_t11 : Fin k0_t11_loop.trips) : Fin 4 → Nat :=
  let c32_i32_454 : BitVec 32 := 32#32
  let c1_i32_456 : BitVec 32 := 1#32
  let arg19 : BitVec 32 := Scf.iv c32_i32_454 c1_i32_456 k0_t11
  let c4_i32_565 : BitVec 32 := 4#32
  let v807 : BitVec 32 := Scalar.muli arg19 c4_i32_565
  let v808 : Index := Scalar.indexCast v807
  let c18 : Index := 18#32
  let c0_566 : Index := 0#32
  let c0_567 : Index := 0#32
  ![v808.toNat, 18, 0, 0]
def k0_off280 (k0_t4 : Fin k0_t4_loop.trips) (k0_t11 : Fin k0_t11_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v812 : Index := Scalar.indexCast v497
  let c32_i32_454 : BitVec 32 := 32#32
  let c1_i32_456 : BitVec 32 := 1#32
  let arg19 : BitVec 32 := Scf.iv c32_i32_454 c1_i32_456 k0_t11
  let c32_i32_490 : BitVec 32 := 32#32
  let v580 : BitVec 32 := Scalar.muli arg19 c32_i32_490
  let v581 : BitVec 32 := v580
  let v813 : Index := Scalar.indexCast v581
  let c2432 : Index := 2432#32
  ![v812.toNat, v813.toNat, 2432]
def k0_off281 (k0_t11 : Fin k0_t11_loop.trips) : Fin 4 → Nat :=
  let c32_i32_454 : BitVec 32 := 32#32
  let c1_i32_456 : BitVec 32 := 1#32
  let arg19 : BitVec 32 := Scf.iv c32_i32_454 c1_i32_456 k0_t11
  let c4_i32_568 : BitVec 32 := 4#32
  let v819 : BitVec 32 := Scalar.muli arg19 c4_i32_568
  let v820 : Index := Scalar.indexCast v819
  let c19 : Index := 19#32
  let c0_569 : Index := 0#32
  let c0_570 : Index := 0#32
  ![v820.toNat, 19, 0, 0]
def k0_off282 (k0_t4 : Fin k0_t4_loop.trips) (k0_t11 : Fin k0_t11_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v824 : Index := Scalar.indexCast v497
  let c32_i32_454 : BitVec 32 := 32#32
  let c1_i32_456 : BitVec 32 := 1#32
  let arg19 : BitVec 32 := Scf.iv c32_i32_454 c1_i32_456 k0_t11
  let c32_i32_490 : BitVec 32 := 32#32
  let v580 : BitVec 32 := Scalar.muli arg19 c32_i32_490
  let v581 : BitVec 32 := v580
  let v825 : Index := Scalar.indexCast v581
  let c2560 : Index := 2560#32
  ![v824.toNat, v825.toNat, 2560]
def k0_off283 (k0_t11 : Fin k0_t11_loop.trips) : Fin 4 → Nat :=
  let c32_i32_454 : BitVec 32 := 32#32
  let c1_i32_456 : BitVec 32 := 1#32
  let arg19 : BitVec 32 := Scf.iv c32_i32_454 c1_i32_456 k0_t11
  let c4_i32_571 : BitVec 32 := 4#32
  let v831 : BitVec 32 := Scalar.muli arg19 c4_i32_571
  let v832 : Index := Scalar.indexCast v831
  let c20 : Index := 20#32
  let c0_572 : Index := 0#32
  let c0_573 : Index := 0#32
  ![v832.toNat, 20, 0, 0]
def k0_off284 (k0_t4 : Fin k0_t4_loop.trips) (k0_t11 : Fin k0_t11_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v836 : Index := Scalar.indexCast v497
  let c32_i32_454 : BitVec 32 := 32#32
  let c1_i32_456 : BitVec 32 := 1#32
  let arg19 : BitVec 32 := Scf.iv c32_i32_454 c1_i32_456 k0_t11
  let c32_i32_490 : BitVec 32 := 32#32
  let v580 : BitVec 32 := Scalar.muli arg19 c32_i32_490
  let v581 : BitVec 32 := v580
  let v837 : Index := Scalar.indexCast v581
  let c2688 : Index := 2688#32
  ![v836.toNat, v837.toNat, 2688]
def k0_off285 (k0_t11 : Fin k0_t11_loop.trips) : Fin 4 → Nat :=
  let c32_i32_454 : BitVec 32 := 32#32
  let c1_i32_456 : BitVec 32 := 1#32
  let arg19 : BitVec 32 := Scf.iv c32_i32_454 c1_i32_456 k0_t11
  let c4_i32_574 : BitVec 32 := 4#32
  let v843 : BitVec 32 := Scalar.muli arg19 c4_i32_574
  let v844 : Index := Scalar.indexCast v843
  let c21 : Index := 21#32
  let c0_575 : Index := 0#32
  let c0_576 : Index := 0#32
  ![v844.toNat, 21, 0, 0]
def k0_off286 (k0_t4 : Fin k0_t4_loop.trips) (k0_t11 : Fin k0_t11_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v848 : Index := Scalar.indexCast v497
  let c32_i32_454 : BitVec 32 := 32#32
  let c1_i32_456 : BitVec 32 := 1#32
  let arg19 : BitVec 32 := Scf.iv c32_i32_454 c1_i32_456 k0_t11
  let c32_i32_490 : BitVec 32 := 32#32
  let v580 : BitVec 32 := Scalar.muli arg19 c32_i32_490
  let v581 : BitVec 32 := v580
  let v849 : Index := Scalar.indexCast v581
  let c2816 : Index := 2816#32
  ![v848.toNat, v849.toNat, 2816]
def k0_off287 (k0_t11 : Fin k0_t11_loop.trips) : Fin 4 → Nat :=
  let c32_i32_454 : BitVec 32 := 32#32
  let c1_i32_456 : BitVec 32 := 1#32
  let arg19 : BitVec 32 := Scf.iv c32_i32_454 c1_i32_456 k0_t11
  let c4_i32_577 : BitVec 32 := 4#32
  let v855 : BitVec 32 := Scalar.muli arg19 c4_i32_577
  let v856 : Index := Scalar.indexCast v855
  let c22 : Index := 22#32
  let c0_578 : Index := 0#32
  let c0_579 : Index := 0#32
  ![v856.toNat, 22, 0, 0]
def k0_off288 (k0_t4 : Fin k0_t4_loop.trips) (k0_t11 : Fin k0_t11_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v860 : Index := Scalar.indexCast v497
  let c32_i32_454 : BitVec 32 := 32#32
  let c1_i32_456 : BitVec 32 := 1#32
  let arg19 : BitVec 32 := Scf.iv c32_i32_454 c1_i32_456 k0_t11
  let c32_i32_490 : BitVec 32 := 32#32
  let v580 : BitVec 32 := Scalar.muli arg19 c32_i32_490
  let v581 : BitVec 32 := v580
  let v861 : Index := Scalar.indexCast v581
  let c2944 : Index := 2944#32
  ![v860.toNat, v861.toNat, 2944]
def k0_off289 (k0_t11 : Fin k0_t11_loop.trips) : Fin 4 → Nat :=
  let c32_i32_454 : BitVec 32 := 32#32
  let c1_i32_456 : BitVec 32 := 1#32
  let arg19 : BitVec 32 := Scf.iv c32_i32_454 c1_i32_456 k0_t11
  let c4_i32_580 : BitVec 32 := 4#32
  let v867 : BitVec 32 := Scalar.muli arg19 c4_i32_580
  let v868 : Index := Scalar.indexCast v867
  let c23 : Index := 23#32
  let c0_581 : Index := 0#32
  let c0_582 : Index := 0#32
  ![v868.toNat, 23, 0, 0]
def k0_off290 (k0_t4 : Fin k0_t4_loop.trips) : Fin 2 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let c5_i32_460 : BitVec 32 := 5#32
  ![v497.toNat, 5]
def k0_off291 (k0_t4 : Fin k0_t4_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let c1280_i32_461 : BitVec 32 := 1280#32
  let c0_i32_462 : BitVec 32 := 0#32
  ![v497.toNat, 1280, 0]
def k0_off292 (k0_t4 : Fin k0_t4_loop.trips) : Fin 3 → Nat :=
  let c1_i32_459 : BitVec 32 := 1#32
  let c256_i32_463 : BitVec 32 := 256#32
  let c0_i32_379 : BitVec 32 := 0#32
  let c1_i32_381 : BitVec 32 := 1#32
  let arg18 : BitVec 32 := Scf.iv c0_i32_379 c1_i32_381 k0_t4
  let c3072_i32_458 : BitVec 32 := 3072#32
  let v549 : BitVec 32 := Scalar.muli arg18 c3072_i32_458
  ![1, 256, v549.toNat]
@[reducible] def k0_t12_loop : Scf.Loop 32 :=
  let c40_i32 : BitVec 32 := 40#32
  let c8_i32_464 : BitVec 32 := 8#32
  let v556 : BitVec 32 := Scalar.addi c40_i32 c8_i32_464
  let c1_i32_465 : BitVec 32 := 1#32
  ⟨c40_i32, v556, c1_i32_465⟩
def k0_mult6 (k0_t12 : Fin k0_t12_loop.trips) : BitVec 32 :=
  let c40_i32 : BitVec 32 := 40#32
  let c1_i32_465 : BitVec 32 := 1#32
  let arg19 : BitVec 32 := Scf.iv c40_i32 c1_i32_465 k0_t12
  let c32_i32_490 : BitVec 32 := 32#32
  let v580 : BitVec 32 := Scalar.muli arg19 c32_i32_490
  v580
def k0_off293 (k0_t12 : Fin k0_t12_loop.trips) : Fin 2 → Nat :=
  let c40_i32 : BitVec 32 := 40#32
  let c1_i32_465 : BitVec 32 := 1#32
  let arg19 : BitVec 32 := Scf.iv c40_i32 c1_i32_465 k0_t12
  let c32_i32_490 : BitVec 32 := 32#32
  let v580 : BitVec 32 := Scalar.muli arg19 c32_i32_490
  let v581 : BitVec 32 := v580
  let v582 : Index := Scalar.indexCast v581
  let c0_491 : Index := 0#32
  ![v582.toNat, 0]
def k0_off294 (k0_t4 : Fin k0_t4_loop.trips) (k0_t12 : Fin k0_t12_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v584 : Index := Scalar.indexCast v497
  let c40_i32 : BitVec 32 := 40#32
  let c1_i32_465 : BitVec 32 := 1#32
  let arg19 : BitVec 32 := Scf.iv c40_i32 c1_i32_465 k0_t12
  let c32_i32_490 : BitVec 32 := 32#32
  let v580 : BitVec 32 := Scalar.muli arg19 c32_i32_490
  let v581 : BitVec 32 := v580
  let v585 : Index := Scalar.indexCast v581
  let c0_492 : Index := 0#32
  ![v584.toNat, v585.toNat, 0]
def k0_off295 (k0_t12 : Fin k0_t12_loop.trips) : Fin 4 → Nat :=
  let c40_i32 : BitVec 32 := 40#32
  let c1_i32_465 : BitVec 32 := 1#32
  let arg19 : BitVec 32 := Scf.iv c40_i32 c1_i32_465 k0_t12
  let c4_i32_493 : BitVec 32 := 4#32
  let v591 : BitVec 32 := Scalar.muli arg19 c4_i32_493
  let v592 : Index := Scalar.indexCast v591
  let c0_494 : Index := 0#32
  let c0_495 : Index := 0#32
  let c0_496 : Index := 0#32
  ![v592.toNat, 0, 0, 0]
def k0_off296 (k0_t4 : Fin k0_t4_loop.trips) (k0_t12 : Fin k0_t12_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v596 : Index := Scalar.indexCast v497
  let c40_i32 : BitVec 32 := 40#32
  let c1_i32_465 : BitVec 32 := 1#32
  let arg19 : BitVec 32 := Scf.iv c40_i32 c1_i32_465 k0_t12
  let c32_i32_490 : BitVec 32 := 32#32
  let v580 : BitVec 32 := Scalar.muli arg19 c32_i32_490
  let v581 : BitVec 32 := v580
  let v597 : Index := Scalar.indexCast v581
  let c128_497 : Index := 128#32
  ![v596.toNat, v597.toNat, 128]
def k0_off297 (k0_t12 : Fin k0_t12_loop.trips) : Fin 4 → Nat :=
  let c40_i32 : BitVec 32 := 40#32
  let c1_i32_465 : BitVec 32 := 1#32
  let arg19 : BitVec 32 := Scf.iv c40_i32 c1_i32_465 k0_t12
  let c4_i32_498 : BitVec 32 := 4#32
  let v603 : BitVec 32 := Scalar.muli arg19 c4_i32_498
  let v604 : Index := Scalar.indexCast v603
  let c1_499 : Index := 1#32
  let c0_500 : Index := 0#32
  let c0_501 : Index := 0#32
  ![v604.toNat, 1, 0, 0]
def k0_off298 (k0_t4 : Fin k0_t4_loop.trips) (k0_t12 : Fin k0_t12_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v608 : Index := Scalar.indexCast v497
  let c40_i32 : BitVec 32 := 40#32
  let c1_i32_465 : BitVec 32 := 1#32
  let arg19 : BitVec 32 := Scf.iv c40_i32 c1_i32_465 k0_t12
  let c32_i32_490 : BitVec 32 := 32#32
  let v580 : BitVec 32 := Scalar.muli arg19 c32_i32_490
  let v581 : BitVec 32 := v580
  let v609 : Index := Scalar.indexCast v581
  let c256_502 : Index := 256#32
  ![v608.toNat, v609.toNat, 256]
def k0_off299 (k0_t12 : Fin k0_t12_loop.trips) : Fin 4 → Nat :=
  let c40_i32 : BitVec 32 := 40#32
  let c1_i32_465 : BitVec 32 := 1#32
  let arg19 : BitVec 32 := Scf.iv c40_i32 c1_i32_465 k0_t12
  let c4_i32_503 : BitVec 32 := 4#32
  let v615 : BitVec 32 := Scalar.muli arg19 c4_i32_503
  let v616 : Index := Scalar.indexCast v615
  let c2 : Index := 2#32
  let c0_504 : Index := 0#32
  let c0_505 : Index := 0#32
  ![v616.toNat, 2, 0, 0]
def k0_off300 (k0_t4 : Fin k0_t4_loop.trips) (k0_t12 : Fin k0_t12_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v620 : Index := Scalar.indexCast v497
  let c40_i32 : BitVec 32 := 40#32
  let c1_i32_465 : BitVec 32 := 1#32
  let arg19 : BitVec 32 := Scf.iv c40_i32 c1_i32_465 k0_t12
  let c32_i32_490 : BitVec 32 := 32#32
  let v580 : BitVec 32 := Scalar.muli arg19 c32_i32_490
  let v581 : BitVec 32 := v580
  let v621 : Index := Scalar.indexCast v581
  let c384_506 : Index := 384#32
  ![v620.toNat, v621.toNat, 384]
def k0_off301 (k0_t12 : Fin k0_t12_loop.trips) : Fin 4 → Nat :=
  let c40_i32 : BitVec 32 := 40#32
  let c1_i32_465 : BitVec 32 := 1#32
  let arg19 : BitVec 32 := Scf.iv c40_i32 c1_i32_465 k0_t12
  let c4_i32_507 : BitVec 32 := 4#32
  let v627 : BitVec 32 := Scalar.muli arg19 c4_i32_507
  let v628 : Index := Scalar.indexCast v627
  let c3 : Index := 3#32
  let c0_508 : Index := 0#32
  let c0_509 : Index := 0#32
  ![v628.toNat, 3, 0, 0]
def k0_off302 (k0_t4 : Fin k0_t4_loop.trips) (k0_t12 : Fin k0_t12_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v632 : Index := Scalar.indexCast v497
  let c40_i32 : BitVec 32 := 40#32
  let c1_i32_465 : BitVec 32 := 1#32
  let arg19 : BitVec 32 := Scf.iv c40_i32 c1_i32_465 k0_t12
  let c32_i32_490 : BitVec 32 := 32#32
  let v580 : BitVec 32 := Scalar.muli arg19 c32_i32_490
  let v581 : BitVec 32 := v580
  let v633 : Index := Scalar.indexCast v581
  let c512_510 : Index := 512#32
  ![v632.toNat, v633.toNat, 512]
def k0_off303 (k0_t12 : Fin k0_t12_loop.trips) : Fin 4 → Nat :=
  let c40_i32 : BitVec 32 := 40#32
  let c1_i32_465 : BitVec 32 := 1#32
  let arg19 : BitVec 32 := Scf.iv c40_i32 c1_i32_465 k0_t12
  let c4_i32_511 : BitVec 32 := 4#32
  let v639 : BitVec 32 := Scalar.muli arg19 c4_i32_511
  let v640 : Index := Scalar.indexCast v639
  let c4 : Index := 4#32
  let c0_512 : Index := 0#32
  let c0_513 : Index := 0#32
  ![v640.toNat, 4, 0, 0]
def k0_off304 (k0_t4 : Fin k0_t4_loop.trips) (k0_t12 : Fin k0_t12_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v644 : Index := Scalar.indexCast v497
  let c40_i32 : BitVec 32 := 40#32
  let c1_i32_465 : BitVec 32 := 1#32
  let arg19 : BitVec 32 := Scf.iv c40_i32 c1_i32_465 k0_t12
  let c32_i32_490 : BitVec 32 := 32#32
  let v580 : BitVec 32 := Scalar.muli arg19 c32_i32_490
  let v581 : BitVec 32 := v580
  let v645 : Index := Scalar.indexCast v581
  let c640_514 : Index := 640#32
  ![v644.toNat, v645.toNat, 640]
def k0_off305 (k0_t12 : Fin k0_t12_loop.trips) : Fin 4 → Nat :=
  let c40_i32 : BitVec 32 := 40#32
  let c1_i32_465 : BitVec 32 := 1#32
  let arg19 : BitVec 32 := Scf.iv c40_i32 c1_i32_465 k0_t12
  let c4_i32_515 : BitVec 32 := 4#32
  let v651 : BitVec 32 := Scalar.muli arg19 c4_i32_515
  let v652 : Index := Scalar.indexCast v651
  let c5 : Index := 5#32
  let c0_516 : Index := 0#32
  let c0_517 : Index := 0#32
  ![v652.toNat, 5, 0, 0]
def k0_off306 (k0_t4 : Fin k0_t4_loop.trips) (k0_t12 : Fin k0_t12_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v656 : Index := Scalar.indexCast v497
  let c40_i32 : BitVec 32 := 40#32
  let c1_i32_465 : BitVec 32 := 1#32
  let arg19 : BitVec 32 := Scf.iv c40_i32 c1_i32_465 k0_t12
  let c32_i32_490 : BitVec 32 := 32#32
  let v580 : BitVec 32 := Scalar.muli arg19 c32_i32_490
  let v581 : BitVec 32 := v580
  let v657 : Index := Scalar.indexCast v581
  let c768_518 : Index := 768#32
  ![v656.toNat, v657.toNat, 768]
def k0_off307 (k0_t12 : Fin k0_t12_loop.trips) : Fin 4 → Nat :=
  let c40_i32 : BitVec 32 := 40#32
  let c1_i32_465 : BitVec 32 := 1#32
  let arg19 : BitVec 32 := Scf.iv c40_i32 c1_i32_465 k0_t12
  let c4_i32_519 : BitVec 32 := 4#32
  let v663 : BitVec 32 := Scalar.muli arg19 c4_i32_519
  let v664 : Index := Scalar.indexCast v663
  let c6 : Index := 6#32
  let c0_520 : Index := 0#32
  let c0_521 : Index := 0#32
  ![v664.toNat, 6, 0, 0]
def k0_off308 (k0_t4 : Fin k0_t4_loop.trips) (k0_t12 : Fin k0_t12_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v668 : Index := Scalar.indexCast v497
  let c40_i32 : BitVec 32 := 40#32
  let c1_i32_465 : BitVec 32 := 1#32
  let arg19 : BitVec 32 := Scf.iv c40_i32 c1_i32_465 k0_t12
  let c32_i32_490 : BitVec 32 := 32#32
  let v580 : BitVec 32 := Scalar.muli arg19 c32_i32_490
  let v581 : BitVec 32 := v580
  let v669 : Index := Scalar.indexCast v581
  let c896_522 : Index := 896#32
  ![v668.toNat, v669.toNat, 896]
def k0_off309 (k0_t12 : Fin k0_t12_loop.trips) : Fin 4 → Nat :=
  let c40_i32 : BitVec 32 := 40#32
  let c1_i32_465 : BitVec 32 := 1#32
  let arg19 : BitVec 32 := Scf.iv c40_i32 c1_i32_465 k0_t12
  let c4_i32_523 : BitVec 32 := 4#32
  let v675 : BitVec 32 := Scalar.muli arg19 c4_i32_523
  let v676 : Index := Scalar.indexCast v675
  let c7 : Index := 7#32
  let c0_524 : Index := 0#32
  let c0_525 : Index := 0#32
  ![v676.toNat, 7, 0, 0]
def k0_off310 (k0_t4 : Fin k0_t4_loop.trips) (k0_t12 : Fin k0_t12_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v680 : Index := Scalar.indexCast v497
  let c40_i32 : BitVec 32 := 40#32
  let c1_i32_465 : BitVec 32 := 1#32
  let arg19 : BitVec 32 := Scf.iv c40_i32 c1_i32_465 k0_t12
  let c32_i32_490 : BitVec 32 := 32#32
  let v580 : BitVec 32 := Scalar.muli arg19 c32_i32_490
  let v581 : BitVec 32 := v580
  let v681 : Index := Scalar.indexCast v581
  let c1024_526 : Index := 1024#32
  ![v680.toNat, v681.toNat, 1024]
def k0_off311 (k0_t12 : Fin k0_t12_loop.trips) : Fin 4 → Nat :=
  let c40_i32 : BitVec 32 := 40#32
  let c1_i32_465 : BitVec 32 := 1#32
  let arg19 : BitVec 32 := Scf.iv c40_i32 c1_i32_465 k0_t12
  let c4_i32_527 : BitVec 32 := 4#32
  let v687 : BitVec 32 := Scalar.muli arg19 c4_i32_527
  let v688 : Index := Scalar.indexCast v687
  let c8 : Index := 8#32
  let c0_528 : Index := 0#32
  let c0_529 : Index := 0#32
  ![v688.toNat, 8, 0, 0]
def k0_off312 (k0_t4 : Fin k0_t4_loop.trips) (k0_t12 : Fin k0_t12_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v692 : Index := Scalar.indexCast v497
  let c40_i32 : BitVec 32 := 40#32
  let c1_i32_465 : BitVec 32 := 1#32
  let arg19 : BitVec 32 := Scf.iv c40_i32 c1_i32_465 k0_t12
  let c32_i32_490 : BitVec 32 := 32#32
  let v580 : BitVec 32 := Scalar.muli arg19 c32_i32_490
  let v581 : BitVec 32 := v580
  let v693 : Index := Scalar.indexCast v581
  let c1152_530 : Index := 1152#32
  ![v692.toNat, v693.toNat, 1152]
def k0_off313 (k0_t12 : Fin k0_t12_loop.trips) : Fin 4 → Nat :=
  let c40_i32 : BitVec 32 := 40#32
  let c1_i32_465 : BitVec 32 := 1#32
  let arg19 : BitVec 32 := Scf.iv c40_i32 c1_i32_465 k0_t12
  let c4_i32_531 : BitVec 32 := 4#32
  let v699 : BitVec 32 := Scalar.muli arg19 c4_i32_531
  let v700 : Index := Scalar.indexCast v699
  let c9 : Index := 9#32
  let c0_532 : Index := 0#32
  let c0_533 : Index := 0#32
  ![v700.toNat, 9, 0, 0]
def k0_off314 (k0_t4 : Fin k0_t4_loop.trips) (k0_t12 : Fin k0_t12_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v704 : Index := Scalar.indexCast v497
  let c40_i32 : BitVec 32 := 40#32
  let c1_i32_465 : BitVec 32 := 1#32
  let arg19 : BitVec 32 := Scf.iv c40_i32 c1_i32_465 k0_t12
  let c32_i32_490 : BitVec 32 := 32#32
  let v580 : BitVec 32 := Scalar.muli arg19 c32_i32_490
  let v581 : BitVec 32 := v580
  let v705 : Index := Scalar.indexCast v581
  let c1280_534 : Index := 1280#32
  ![v704.toNat, v705.toNat, 1280]
def k0_off315 (k0_t12 : Fin k0_t12_loop.trips) : Fin 4 → Nat :=
  let c40_i32 : BitVec 32 := 40#32
  let c1_i32_465 : BitVec 32 := 1#32
  let arg19 : BitVec 32 := Scf.iv c40_i32 c1_i32_465 k0_t12
  let c4_i32_535 : BitVec 32 := 4#32
  let v711 : BitVec 32 := Scalar.muli arg19 c4_i32_535
  let v712 : Index := Scalar.indexCast v711
  let c10 : Index := 10#32
  let c0_536 : Index := 0#32
  let c0_537 : Index := 0#32
  ![v712.toNat, 10, 0, 0]
def k0_off316 (k0_t4 : Fin k0_t4_loop.trips) (k0_t12 : Fin k0_t12_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v716 : Index := Scalar.indexCast v497
  let c40_i32 : BitVec 32 := 40#32
  let c1_i32_465 : BitVec 32 := 1#32
  let arg19 : BitVec 32 := Scf.iv c40_i32 c1_i32_465 k0_t12
  let c32_i32_490 : BitVec 32 := 32#32
  let v580 : BitVec 32 := Scalar.muli arg19 c32_i32_490
  let v581 : BitVec 32 := v580
  let v717 : Index := Scalar.indexCast v581
  let c1408_538 : Index := 1408#32
  ![v716.toNat, v717.toNat, 1408]
def k0_off317 (k0_t12 : Fin k0_t12_loop.trips) : Fin 4 → Nat :=
  let c40_i32 : BitVec 32 := 40#32
  let c1_i32_465 : BitVec 32 := 1#32
  let arg19 : BitVec 32 := Scf.iv c40_i32 c1_i32_465 k0_t12
  let c4_i32_539 : BitVec 32 := 4#32
  let v723 : BitVec 32 := Scalar.muli arg19 c4_i32_539
  let v724 : Index := Scalar.indexCast v723
  let c11 : Index := 11#32
  let c0_540 : Index := 0#32
  let c0_541 : Index := 0#32
  ![v724.toNat, 11, 0, 0]
def k0_off318 (k0_t4 : Fin k0_t4_loop.trips) (k0_t12 : Fin k0_t12_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v728 : Index := Scalar.indexCast v497
  let c40_i32 : BitVec 32 := 40#32
  let c1_i32_465 : BitVec 32 := 1#32
  let arg19 : BitVec 32 := Scf.iv c40_i32 c1_i32_465 k0_t12
  let c32_i32_490 : BitVec 32 := 32#32
  let v580 : BitVec 32 := Scalar.muli arg19 c32_i32_490
  let v581 : BitVec 32 := v580
  let v729 : Index := Scalar.indexCast v581
  let c1536_542 : Index := 1536#32
  ![v728.toNat, v729.toNat, 1536]
def k0_off319 (k0_t12 : Fin k0_t12_loop.trips) : Fin 4 → Nat :=
  let c40_i32 : BitVec 32 := 40#32
  let c1_i32_465 : BitVec 32 := 1#32
  let arg19 : BitVec 32 := Scf.iv c40_i32 c1_i32_465 k0_t12
  let c4_i32_543 : BitVec 32 := 4#32
  let v735 : BitVec 32 := Scalar.muli arg19 c4_i32_543
  let v736 : Index := Scalar.indexCast v735
  let c12 : Index := 12#32
  let c0_544 : Index := 0#32
  let c0_545 : Index := 0#32
  ![v736.toNat, 12, 0, 0]
def k0_off320 (k0_t4 : Fin k0_t4_loop.trips) (k0_t12 : Fin k0_t12_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v740 : Index := Scalar.indexCast v497
  let c40_i32 : BitVec 32 := 40#32
  let c1_i32_465 : BitVec 32 := 1#32
  let arg19 : BitVec 32 := Scf.iv c40_i32 c1_i32_465 k0_t12
  let c32_i32_490 : BitVec 32 := 32#32
  let v580 : BitVec 32 := Scalar.muli arg19 c32_i32_490
  let v581 : BitVec 32 := v580
  let v741 : Index := Scalar.indexCast v581
  let c1664_546 : Index := 1664#32
  ![v740.toNat, v741.toNat, 1664]
def k0_off321 (k0_t12 : Fin k0_t12_loop.trips) : Fin 4 → Nat :=
  let c40_i32 : BitVec 32 := 40#32
  let c1_i32_465 : BitVec 32 := 1#32
  let arg19 : BitVec 32 := Scf.iv c40_i32 c1_i32_465 k0_t12
  let c4_i32_547 : BitVec 32 := 4#32
  let v747 : BitVec 32 := Scalar.muli arg19 c4_i32_547
  let v748 : Index := Scalar.indexCast v747
  let c13 : Index := 13#32
  let c0_548 : Index := 0#32
  let c0_549 : Index := 0#32
  ![v748.toNat, 13, 0, 0]
def k0_off322 (k0_t4 : Fin k0_t4_loop.trips) (k0_t12 : Fin k0_t12_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v752 : Index := Scalar.indexCast v497
  let c40_i32 : BitVec 32 := 40#32
  let c1_i32_465 : BitVec 32 := 1#32
  let arg19 : BitVec 32 := Scf.iv c40_i32 c1_i32_465 k0_t12
  let c32_i32_490 : BitVec 32 := 32#32
  let v580 : BitVec 32 := Scalar.muli arg19 c32_i32_490
  let v581 : BitVec 32 := v580
  let v753 : Index := Scalar.indexCast v581
  let c1792_550 : Index := 1792#32
  ![v752.toNat, v753.toNat, 1792]
def k0_off323 (k0_t12 : Fin k0_t12_loop.trips) : Fin 4 → Nat :=
  let c40_i32 : BitVec 32 := 40#32
  let c1_i32_465 : BitVec 32 := 1#32
  let arg19 : BitVec 32 := Scf.iv c40_i32 c1_i32_465 k0_t12
  let c4_i32_551 : BitVec 32 := 4#32
  let v759 : BitVec 32 := Scalar.muli arg19 c4_i32_551
  let v760 : Index := Scalar.indexCast v759
  let c14 : Index := 14#32
  let c0_552 : Index := 0#32
  let c0_553 : Index := 0#32
  ![v760.toNat, 14, 0, 0]
def k0_off324 (k0_t4 : Fin k0_t4_loop.trips) (k0_t12 : Fin k0_t12_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v764 : Index := Scalar.indexCast v497
  let c40_i32 : BitVec 32 := 40#32
  let c1_i32_465 : BitVec 32 := 1#32
  let arg19 : BitVec 32 := Scf.iv c40_i32 c1_i32_465 k0_t12
  let c32_i32_490 : BitVec 32 := 32#32
  let v580 : BitVec 32 := Scalar.muli arg19 c32_i32_490
  let v581 : BitVec 32 := v580
  let v765 : Index := Scalar.indexCast v581
  let c1920_554 : Index := 1920#32
  ![v764.toNat, v765.toNat, 1920]
def k0_off325 (k0_t12 : Fin k0_t12_loop.trips) : Fin 4 → Nat :=
  let c40_i32 : BitVec 32 := 40#32
  let c1_i32_465 : BitVec 32 := 1#32
  let arg19 : BitVec 32 := Scf.iv c40_i32 c1_i32_465 k0_t12
  let c4_i32_555 : BitVec 32 := 4#32
  let v771 : BitVec 32 := Scalar.muli arg19 c4_i32_555
  let v772 : Index := Scalar.indexCast v771
  let c15 : Index := 15#32
  let c0_556 : Index := 0#32
  let c0_557 : Index := 0#32
  ![v772.toNat, 15, 0, 0]
def k0_off326 (k0_t4 : Fin k0_t4_loop.trips) (k0_t12 : Fin k0_t12_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v776 : Index := Scalar.indexCast v497
  let c40_i32 : BitVec 32 := 40#32
  let c1_i32_465 : BitVec 32 := 1#32
  let arg19 : BitVec 32 := Scf.iv c40_i32 c1_i32_465 k0_t12
  let c32_i32_490 : BitVec 32 := 32#32
  let v580 : BitVec 32 := Scalar.muli arg19 c32_i32_490
  let v581 : BitVec 32 := v580
  let v777 : Index := Scalar.indexCast v581
  let c2048 : Index := 2048#32
  ![v776.toNat, v777.toNat, 2048]
def k0_off327 (k0_t12 : Fin k0_t12_loop.trips) : Fin 4 → Nat :=
  let c40_i32 : BitVec 32 := 40#32
  let c1_i32_465 : BitVec 32 := 1#32
  let arg19 : BitVec 32 := Scf.iv c40_i32 c1_i32_465 k0_t12
  let c4_i32_558 : BitVec 32 := 4#32
  let v783 : BitVec 32 := Scalar.muli arg19 c4_i32_558
  let v784 : Index := Scalar.indexCast v783
  let c16_559 : Index := 16#32
  let c0_560 : Index := 0#32
  let c0_561 : Index := 0#32
  ![v784.toNat, 16, 0, 0]
def k0_off328 (k0_t4 : Fin k0_t4_loop.trips) (k0_t12 : Fin k0_t12_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v788 : Index := Scalar.indexCast v497
  let c40_i32 : BitVec 32 := 40#32
  let c1_i32_465 : BitVec 32 := 1#32
  let arg19 : BitVec 32 := Scf.iv c40_i32 c1_i32_465 k0_t12
  let c32_i32_490 : BitVec 32 := 32#32
  let v580 : BitVec 32 := Scalar.muli arg19 c32_i32_490
  let v581 : BitVec 32 := v580
  let v789 : Index := Scalar.indexCast v581
  let c2176 : Index := 2176#32
  ![v788.toNat, v789.toNat, 2176]
def k0_off329 (k0_t12 : Fin k0_t12_loop.trips) : Fin 4 → Nat :=
  let c40_i32 : BitVec 32 := 40#32
  let c1_i32_465 : BitVec 32 := 1#32
  let arg19 : BitVec 32 := Scf.iv c40_i32 c1_i32_465 k0_t12
  let c4_i32_562 : BitVec 32 := 4#32
  let v795 : BitVec 32 := Scalar.muli arg19 c4_i32_562
  let v796 : Index := Scalar.indexCast v795
  let c17 : Index := 17#32
  let c0_563 : Index := 0#32
  let c0_564 : Index := 0#32
  ![v796.toNat, 17, 0, 0]
def k0_off330 (k0_t4 : Fin k0_t4_loop.trips) (k0_t12 : Fin k0_t12_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v800 : Index := Scalar.indexCast v497
  let c40_i32 : BitVec 32 := 40#32
  let c1_i32_465 : BitVec 32 := 1#32
  let arg19 : BitVec 32 := Scf.iv c40_i32 c1_i32_465 k0_t12
  let c32_i32_490 : BitVec 32 := 32#32
  let v580 : BitVec 32 := Scalar.muli arg19 c32_i32_490
  let v581 : BitVec 32 := v580
  let v801 : Index := Scalar.indexCast v581
  let c2304 : Index := 2304#32
  ![v800.toNat, v801.toNat, 2304]
def k0_off331 (k0_t12 : Fin k0_t12_loop.trips) : Fin 4 → Nat :=
  let c40_i32 : BitVec 32 := 40#32
  let c1_i32_465 : BitVec 32 := 1#32
  let arg19 : BitVec 32 := Scf.iv c40_i32 c1_i32_465 k0_t12
  let c4_i32_565 : BitVec 32 := 4#32
  let v807 : BitVec 32 := Scalar.muli arg19 c4_i32_565
  let v808 : Index := Scalar.indexCast v807
  let c18 : Index := 18#32
  let c0_566 : Index := 0#32
  let c0_567 : Index := 0#32
  ![v808.toNat, 18, 0, 0]
def k0_off332 (k0_t4 : Fin k0_t4_loop.trips) (k0_t12 : Fin k0_t12_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v812 : Index := Scalar.indexCast v497
  let c40_i32 : BitVec 32 := 40#32
  let c1_i32_465 : BitVec 32 := 1#32
  let arg19 : BitVec 32 := Scf.iv c40_i32 c1_i32_465 k0_t12
  let c32_i32_490 : BitVec 32 := 32#32
  let v580 : BitVec 32 := Scalar.muli arg19 c32_i32_490
  let v581 : BitVec 32 := v580
  let v813 : Index := Scalar.indexCast v581
  let c2432 : Index := 2432#32
  ![v812.toNat, v813.toNat, 2432]
def k0_off333 (k0_t12 : Fin k0_t12_loop.trips) : Fin 4 → Nat :=
  let c40_i32 : BitVec 32 := 40#32
  let c1_i32_465 : BitVec 32 := 1#32
  let arg19 : BitVec 32 := Scf.iv c40_i32 c1_i32_465 k0_t12
  let c4_i32_568 : BitVec 32 := 4#32
  let v819 : BitVec 32 := Scalar.muli arg19 c4_i32_568
  let v820 : Index := Scalar.indexCast v819
  let c19 : Index := 19#32
  let c0_569 : Index := 0#32
  let c0_570 : Index := 0#32
  ![v820.toNat, 19, 0, 0]
def k0_off334 (k0_t4 : Fin k0_t4_loop.trips) (k0_t12 : Fin k0_t12_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v824 : Index := Scalar.indexCast v497
  let c40_i32 : BitVec 32 := 40#32
  let c1_i32_465 : BitVec 32 := 1#32
  let arg19 : BitVec 32 := Scf.iv c40_i32 c1_i32_465 k0_t12
  let c32_i32_490 : BitVec 32 := 32#32
  let v580 : BitVec 32 := Scalar.muli arg19 c32_i32_490
  let v581 : BitVec 32 := v580
  let v825 : Index := Scalar.indexCast v581
  let c2560 : Index := 2560#32
  ![v824.toNat, v825.toNat, 2560]
def k0_off335 (k0_t12 : Fin k0_t12_loop.trips) : Fin 4 → Nat :=
  let c40_i32 : BitVec 32 := 40#32
  let c1_i32_465 : BitVec 32 := 1#32
  let arg19 : BitVec 32 := Scf.iv c40_i32 c1_i32_465 k0_t12
  let c4_i32_571 : BitVec 32 := 4#32
  let v831 : BitVec 32 := Scalar.muli arg19 c4_i32_571
  let v832 : Index := Scalar.indexCast v831
  let c20 : Index := 20#32
  let c0_572 : Index := 0#32
  let c0_573 : Index := 0#32
  ![v832.toNat, 20, 0, 0]
def k0_off336 (k0_t4 : Fin k0_t4_loop.trips) (k0_t12 : Fin k0_t12_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v836 : Index := Scalar.indexCast v497
  let c40_i32 : BitVec 32 := 40#32
  let c1_i32_465 : BitVec 32 := 1#32
  let arg19 : BitVec 32 := Scf.iv c40_i32 c1_i32_465 k0_t12
  let c32_i32_490 : BitVec 32 := 32#32
  let v580 : BitVec 32 := Scalar.muli arg19 c32_i32_490
  let v581 : BitVec 32 := v580
  let v837 : Index := Scalar.indexCast v581
  let c2688 : Index := 2688#32
  ![v836.toNat, v837.toNat, 2688]
def k0_off337 (k0_t12 : Fin k0_t12_loop.trips) : Fin 4 → Nat :=
  let c40_i32 : BitVec 32 := 40#32
  let c1_i32_465 : BitVec 32 := 1#32
  let arg19 : BitVec 32 := Scf.iv c40_i32 c1_i32_465 k0_t12
  let c4_i32_574 : BitVec 32 := 4#32
  let v843 : BitVec 32 := Scalar.muli arg19 c4_i32_574
  let v844 : Index := Scalar.indexCast v843
  let c21 : Index := 21#32
  let c0_575 : Index := 0#32
  let c0_576 : Index := 0#32
  ![v844.toNat, 21, 0, 0]
def k0_off338 (k0_t4 : Fin k0_t4_loop.trips) (k0_t12 : Fin k0_t12_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v848 : Index := Scalar.indexCast v497
  let c40_i32 : BitVec 32 := 40#32
  let c1_i32_465 : BitVec 32 := 1#32
  let arg19 : BitVec 32 := Scf.iv c40_i32 c1_i32_465 k0_t12
  let c32_i32_490 : BitVec 32 := 32#32
  let v580 : BitVec 32 := Scalar.muli arg19 c32_i32_490
  let v581 : BitVec 32 := v580
  let v849 : Index := Scalar.indexCast v581
  let c2816 : Index := 2816#32
  ![v848.toNat, v849.toNat, 2816]
def k0_off339 (k0_t12 : Fin k0_t12_loop.trips) : Fin 4 → Nat :=
  let c40_i32 : BitVec 32 := 40#32
  let c1_i32_465 : BitVec 32 := 1#32
  let arg19 : BitVec 32 := Scf.iv c40_i32 c1_i32_465 k0_t12
  let c4_i32_577 : BitVec 32 := 4#32
  let v855 : BitVec 32 := Scalar.muli arg19 c4_i32_577
  let v856 : Index := Scalar.indexCast v855
  let c22 : Index := 22#32
  let c0_578 : Index := 0#32
  let c0_579 : Index := 0#32
  ![v856.toNat, 22, 0, 0]
def k0_off340 (k0_t4 : Fin k0_t4_loop.trips) (k0_t12 : Fin k0_t12_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v860 : Index := Scalar.indexCast v497
  let c40_i32 : BitVec 32 := 40#32
  let c1_i32_465 : BitVec 32 := 1#32
  let arg19 : BitVec 32 := Scf.iv c40_i32 c1_i32_465 k0_t12
  let c32_i32_490 : BitVec 32 := 32#32
  let v580 : BitVec 32 := Scalar.muli arg19 c32_i32_490
  let v581 : BitVec 32 := v580
  let v861 : Index := Scalar.indexCast v581
  let c2944 : Index := 2944#32
  ![v860.toNat, v861.toNat, 2944]
def k0_off341 (k0_t12 : Fin k0_t12_loop.trips) : Fin 4 → Nat :=
  let c40_i32 : BitVec 32 := 40#32
  let c1_i32_465 : BitVec 32 := 1#32
  let arg19 : BitVec 32 := Scf.iv c40_i32 c1_i32_465 k0_t12
  let c4_i32_580 : BitVec 32 := 4#32
  let v867 : BitVec 32 := Scalar.muli arg19 c4_i32_580
  let v868 : Index := Scalar.indexCast v867
  let c23 : Index := 23#32
  let c0_581 : Index := 0#32
  let c0_582 : Index := 0#32
  ![v868.toNat, 23, 0, 0]
def k0_off342 (k0_t4 : Fin k0_t4_loop.trips) : Fin 2 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let c6_i32_469 : BitVec 32 := 6#32
  ![v497.toNat, 6]
def k0_off343 (k0_t4 : Fin k0_t4_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let c1536_i32_470 : BitVec 32 := 1536#32
  let c0_i32_471 : BitVec 32 := 0#32
  ![v497.toNat, 1536, 0]
def k0_off344 (k0_t4 : Fin k0_t4_loop.trips) : Fin 3 → Nat :=
  let c1_i32_468 : BitVec 32 := 1#32
  let c512_i32_472 : BitVec 32 := 512#32
  let c0_i32_379 : BitVec 32 := 0#32
  let c1_i32_381 : BitVec 32 := 1#32
  let arg18 : BitVec 32 := Scf.iv c0_i32_379 c1_i32_381 k0_t4
  let c3072_i32_467 : BitVec 32 := 3072#32
  let v557 : BitVec 32 := Scalar.muli arg18 c3072_i32_467
  ![1, 512, v557.toNat]
@[reducible] def k0_t13_loop : Scf.Loop 32 :=
  let c48_i32 : BitVec 32 := 48#32
  let c8_i32_473 : BitVec 32 := 8#32
  let v564 : BitVec 32 := Scalar.addi c48_i32 c8_i32_473
  let c1_i32_474 : BitVec 32 := 1#32
  ⟨c48_i32, v564, c1_i32_474⟩
def k0_mult7 (k0_t13 : Fin k0_t13_loop.trips) : BitVec 32 :=
  let c48_i32 : BitVec 32 := 48#32
  let c1_i32_474 : BitVec 32 := 1#32
  let arg19 : BitVec 32 := Scf.iv c48_i32 c1_i32_474 k0_t13
  let c32_i32_490 : BitVec 32 := 32#32
  let v580 : BitVec 32 := Scalar.muli arg19 c32_i32_490
  v580
def k0_off345 (k0_t13 : Fin k0_t13_loop.trips) : Fin 2 → Nat :=
  let c48_i32 : BitVec 32 := 48#32
  let c1_i32_474 : BitVec 32 := 1#32
  let arg19 : BitVec 32 := Scf.iv c48_i32 c1_i32_474 k0_t13
  let c32_i32_490 : BitVec 32 := 32#32
  let v580 : BitVec 32 := Scalar.muli arg19 c32_i32_490
  let v581 : BitVec 32 := v580
  let v582 : Index := Scalar.indexCast v581
  let c0_491 : Index := 0#32
  ![v582.toNat, 0]
def k0_off346 (k0_t4 : Fin k0_t4_loop.trips) (k0_t13 : Fin k0_t13_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v584 : Index := Scalar.indexCast v497
  let c48_i32 : BitVec 32 := 48#32
  let c1_i32_474 : BitVec 32 := 1#32
  let arg19 : BitVec 32 := Scf.iv c48_i32 c1_i32_474 k0_t13
  let c32_i32_490 : BitVec 32 := 32#32
  let v580 : BitVec 32 := Scalar.muli arg19 c32_i32_490
  let v581 : BitVec 32 := v580
  let v585 : Index := Scalar.indexCast v581
  let c0_492 : Index := 0#32
  ![v584.toNat, v585.toNat, 0]
def k0_off347 (k0_t13 : Fin k0_t13_loop.trips) : Fin 4 → Nat :=
  let c48_i32 : BitVec 32 := 48#32
  let c1_i32_474 : BitVec 32 := 1#32
  let arg19 : BitVec 32 := Scf.iv c48_i32 c1_i32_474 k0_t13
  let c4_i32_493 : BitVec 32 := 4#32
  let v591 : BitVec 32 := Scalar.muli arg19 c4_i32_493
  let v592 : Index := Scalar.indexCast v591
  let c0_494 : Index := 0#32
  let c0_495 : Index := 0#32
  let c0_496 : Index := 0#32
  ![v592.toNat, 0, 0, 0]
def k0_off348 (k0_t4 : Fin k0_t4_loop.trips) (k0_t13 : Fin k0_t13_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v596 : Index := Scalar.indexCast v497
  let c48_i32 : BitVec 32 := 48#32
  let c1_i32_474 : BitVec 32 := 1#32
  let arg19 : BitVec 32 := Scf.iv c48_i32 c1_i32_474 k0_t13
  let c32_i32_490 : BitVec 32 := 32#32
  let v580 : BitVec 32 := Scalar.muli arg19 c32_i32_490
  let v581 : BitVec 32 := v580
  let v597 : Index := Scalar.indexCast v581
  let c128_497 : Index := 128#32
  ![v596.toNat, v597.toNat, 128]
def k0_off349 (k0_t13 : Fin k0_t13_loop.trips) : Fin 4 → Nat :=
  let c48_i32 : BitVec 32 := 48#32
  let c1_i32_474 : BitVec 32 := 1#32
  let arg19 : BitVec 32 := Scf.iv c48_i32 c1_i32_474 k0_t13
  let c4_i32_498 : BitVec 32 := 4#32
  let v603 : BitVec 32 := Scalar.muli arg19 c4_i32_498
  let v604 : Index := Scalar.indexCast v603
  let c1_499 : Index := 1#32
  let c0_500 : Index := 0#32
  let c0_501 : Index := 0#32
  ![v604.toNat, 1, 0, 0]
def k0_off350 (k0_t4 : Fin k0_t4_loop.trips) (k0_t13 : Fin k0_t13_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v608 : Index := Scalar.indexCast v497
  let c48_i32 : BitVec 32 := 48#32
  let c1_i32_474 : BitVec 32 := 1#32
  let arg19 : BitVec 32 := Scf.iv c48_i32 c1_i32_474 k0_t13
  let c32_i32_490 : BitVec 32 := 32#32
  let v580 : BitVec 32 := Scalar.muli arg19 c32_i32_490
  let v581 : BitVec 32 := v580
  let v609 : Index := Scalar.indexCast v581
  let c256_502 : Index := 256#32
  ![v608.toNat, v609.toNat, 256]
def k0_off351 (k0_t13 : Fin k0_t13_loop.trips) : Fin 4 → Nat :=
  let c48_i32 : BitVec 32 := 48#32
  let c1_i32_474 : BitVec 32 := 1#32
  let arg19 : BitVec 32 := Scf.iv c48_i32 c1_i32_474 k0_t13
  let c4_i32_503 : BitVec 32 := 4#32
  let v615 : BitVec 32 := Scalar.muli arg19 c4_i32_503
  let v616 : Index := Scalar.indexCast v615
  let c2 : Index := 2#32
  let c0_504 : Index := 0#32
  let c0_505 : Index := 0#32
  ![v616.toNat, 2, 0, 0]
def k0_off352 (k0_t4 : Fin k0_t4_loop.trips) (k0_t13 : Fin k0_t13_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v620 : Index := Scalar.indexCast v497
  let c48_i32 : BitVec 32 := 48#32
  let c1_i32_474 : BitVec 32 := 1#32
  let arg19 : BitVec 32 := Scf.iv c48_i32 c1_i32_474 k0_t13
  let c32_i32_490 : BitVec 32 := 32#32
  let v580 : BitVec 32 := Scalar.muli arg19 c32_i32_490
  let v581 : BitVec 32 := v580
  let v621 : Index := Scalar.indexCast v581
  let c384_506 : Index := 384#32
  ![v620.toNat, v621.toNat, 384]
def k0_off353 (k0_t13 : Fin k0_t13_loop.trips) : Fin 4 → Nat :=
  let c48_i32 : BitVec 32 := 48#32
  let c1_i32_474 : BitVec 32 := 1#32
  let arg19 : BitVec 32 := Scf.iv c48_i32 c1_i32_474 k0_t13
  let c4_i32_507 : BitVec 32 := 4#32
  let v627 : BitVec 32 := Scalar.muli arg19 c4_i32_507
  let v628 : Index := Scalar.indexCast v627
  let c3 : Index := 3#32
  let c0_508 : Index := 0#32
  let c0_509 : Index := 0#32
  ![v628.toNat, 3, 0, 0]
def k0_off354 (k0_t4 : Fin k0_t4_loop.trips) (k0_t13 : Fin k0_t13_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v632 : Index := Scalar.indexCast v497
  let c48_i32 : BitVec 32 := 48#32
  let c1_i32_474 : BitVec 32 := 1#32
  let arg19 : BitVec 32 := Scf.iv c48_i32 c1_i32_474 k0_t13
  let c32_i32_490 : BitVec 32 := 32#32
  let v580 : BitVec 32 := Scalar.muli arg19 c32_i32_490
  let v581 : BitVec 32 := v580
  let v633 : Index := Scalar.indexCast v581
  let c512_510 : Index := 512#32
  ![v632.toNat, v633.toNat, 512]
def k0_off355 (k0_t13 : Fin k0_t13_loop.trips) : Fin 4 → Nat :=
  let c48_i32 : BitVec 32 := 48#32
  let c1_i32_474 : BitVec 32 := 1#32
  let arg19 : BitVec 32 := Scf.iv c48_i32 c1_i32_474 k0_t13
  let c4_i32_511 : BitVec 32 := 4#32
  let v639 : BitVec 32 := Scalar.muli arg19 c4_i32_511
  let v640 : Index := Scalar.indexCast v639
  let c4 : Index := 4#32
  let c0_512 : Index := 0#32
  let c0_513 : Index := 0#32
  ![v640.toNat, 4, 0, 0]
def k0_off356 (k0_t4 : Fin k0_t4_loop.trips) (k0_t13 : Fin k0_t13_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v644 : Index := Scalar.indexCast v497
  let c48_i32 : BitVec 32 := 48#32
  let c1_i32_474 : BitVec 32 := 1#32
  let arg19 : BitVec 32 := Scf.iv c48_i32 c1_i32_474 k0_t13
  let c32_i32_490 : BitVec 32 := 32#32
  let v580 : BitVec 32 := Scalar.muli arg19 c32_i32_490
  let v581 : BitVec 32 := v580
  let v645 : Index := Scalar.indexCast v581
  let c640_514 : Index := 640#32
  ![v644.toNat, v645.toNat, 640]
def k0_off357 (k0_t13 : Fin k0_t13_loop.trips) : Fin 4 → Nat :=
  let c48_i32 : BitVec 32 := 48#32
  let c1_i32_474 : BitVec 32 := 1#32
  let arg19 : BitVec 32 := Scf.iv c48_i32 c1_i32_474 k0_t13
  let c4_i32_515 : BitVec 32 := 4#32
  let v651 : BitVec 32 := Scalar.muli arg19 c4_i32_515
  let v652 : Index := Scalar.indexCast v651
  let c5 : Index := 5#32
  let c0_516 : Index := 0#32
  let c0_517 : Index := 0#32
  ![v652.toNat, 5, 0, 0]
def k0_off358 (k0_t4 : Fin k0_t4_loop.trips) (k0_t13 : Fin k0_t13_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v656 : Index := Scalar.indexCast v497
  let c48_i32 : BitVec 32 := 48#32
  let c1_i32_474 : BitVec 32 := 1#32
  let arg19 : BitVec 32 := Scf.iv c48_i32 c1_i32_474 k0_t13
  let c32_i32_490 : BitVec 32 := 32#32
  let v580 : BitVec 32 := Scalar.muli arg19 c32_i32_490
  let v581 : BitVec 32 := v580
  let v657 : Index := Scalar.indexCast v581
  let c768_518 : Index := 768#32
  ![v656.toNat, v657.toNat, 768]
def k0_off359 (k0_t13 : Fin k0_t13_loop.trips) : Fin 4 → Nat :=
  let c48_i32 : BitVec 32 := 48#32
  let c1_i32_474 : BitVec 32 := 1#32
  let arg19 : BitVec 32 := Scf.iv c48_i32 c1_i32_474 k0_t13
  let c4_i32_519 : BitVec 32 := 4#32
  let v663 : BitVec 32 := Scalar.muli arg19 c4_i32_519
  let v664 : Index := Scalar.indexCast v663
  let c6 : Index := 6#32
  let c0_520 : Index := 0#32
  let c0_521 : Index := 0#32
  ![v664.toNat, 6, 0, 0]
def k0_off360 (k0_t4 : Fin k0_t4_loop.trips) (k0_t13 : Fin k0_t13_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v668 : Index := Scalar.indexCast v497
  let c48_i32 : BitVec 32 := 48#32
  let c1_i32_474 : BitVec 32 := 1#32
  let arg19 : BitVec 32 := Scf.iv c48_i32 c1_i32_474 k0_t13
  let c32_i32_490 : BitVec 32 := 32#32
  let v580 : BitVec 32 := Scalar.muli arg19 c32_i32_490
  let v581 : BitVec 32 := v580
  let v669 : Index := Scalar.indexCast v581
  let c896_522 : Index := 896#32
  ![v668.toNat, v669.toNat, 896]
def k0_off361 (k0_t13 : Fin k0_t13_loop.trips) : Fin 4 → Nat :=
  let c48_i32 : BitVec 32 := 48#32
  let c1_i32_474 : BitVec 32 := 1#32
  let arg19 : BitVec 32 := Scf.iv c48_i32 c1_i32_474 k0_t13
  let c4_i32_523 : BitVec 32 := 4#32
  let v675 : BitVec 32 := Scalar.muli arg19 c4_i32_523
  let v676 : Index := Scalar.indexCast v675
  let c7 : Index := 7#32
  let c0_524 : Index := 0#32
  let c0_525 : Index := 0#32
  ![v676.toNat, 7, 0, 0]
def k0_off362 (k0_t4 : Fin k0_t4_loop.trips) (k0_t13 : Fin k0_t13_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v680 : Index := Scalar.indexCast v497
  let c48_i32 : BitVec 32 := 48#32
  let c1_i32_474 : BitVec 32 := 1#32
  let arg19 : BitVec 32 := Scf.iv c48_i32 c1_i32_474 k0_t13
  let c32_i32_490 : BitVec 32 := 32#32
  let v580 : BitVec 32 := Scalar.muli arg19 c32_i32_490
  let v581 : BitVec 32 := v580
  let v681 : Index := Scalar.indexCast v581
  let c1024_526 : Index := 1024#32
  ![v680.toNat, v681.toNat, 1024]
def k0_off363 (k0_t13 : Fin k0_t13_loop.trips) : Fin 4 → Nat :=
  let c48_i32 : BitVec 32 := 48#32
  let c1_i32_474 : BitVec 32 := 1#32
  let arg19 : BitVec 32 := Scf.iv c48_i32 c1_i32_474 k0_t13
  let c4_i32_527 : BitVec 32 := 4#32
  let v687 : BitVec 32 := Scalar.muli arg19 c4_i32_527
  let v688 : Index := Scalar.indexCast v687
  let c8 : Index := 8#32
  let c0_528 : Index := 0#32
  let c0_529 : Index := 0#32
  ![v688.toNat, 8, 0, 0]
def k0_off364 (k0_t4 : Fin k0_t4_loop.trips) (k0_t13 : Fin k0_t13_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v692 : Index := Scalar.indexCast v497
  let c48_i32 : BitVec 32 := 48#32
  let c1_i32_474 : BitVec 32 := 1#32
  let arg19 : BitVec 32 := Scf.iv c48_i32 c1_i32_474 k0_t13
  let c32_i32_490 : BitVec 32 := 32#32
  let v580 : BitVec 32 := Scalar.muli arg19 c32_i32_490
  let v581 : BitVec 32 := v580
  let v693 : Index := Scalar.indexCast v581
  let c1152_530 : Index := 1152#32
  ![v692.toNat, v693.toNat, 1152]
def k0_off365 (k0_t13 : Fin k0_t13_loop.trips) : Fin 4 → Nat :=
  let c48_i32 : BitVec 32 := 48#32
  let c1_i32_474 : BitVec 32 := 1#32
  let arg19 : BitVec 32 := Scf.iv c48_i32 c1_i32_474 k0_t13
  let c4_i32_531 : BitVec 32 := 4#32
  let v699 : BitVec 32 := Scalar.muli arg19 c4_i32_531
  let v700 : Index := Scalar.indexCast v699
  let c9 : Index := 9#32
  let c0_532 : Index := 0#32
  let c0_533 : Index := 0#32
  ![v700.toNat, 9, 0, 0]
def k0_off366 (k0_t4 : Fin k0_t4_loop.trips) (k0_t13 : Fin k0_t13_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v704 : Index := Scalar.indexCast v497
  let c48_i32 : BitVec 32 := 48#32
  let c1_i32_474 : BitVec 32 := 1#32
  let arg19 : BitVec 32 := Scf.iv c48_i32 c1_i32_474 k0_t13
  let c32_i32_490 : BitVec 32 := 32#32
  let v580 : BitVec 32 := Scalar.muli arg19 c32_i32_490
  let v581 : BitVec 32 := v580
  let v705 : Index := Scalar.indexCast v581
  let c1280_534 : Index := 1280#32
  ![v704.toNat, v705.toNat, 1280]
def k0_off367 (k0_t13 : Fin k0_t13_loop.trips) : Fin 4 → Nat :=
  let c48_i32 : BitVec 32 := 48#32
  let c1_i32_474 : BitVec 32 := 1#32
  let arg19 : BitVec 32 := Scf.iv c48_i32 c1_i32_474 k0_t13
  let c4_i32_535 : BitVec 32 := 4#32
  let v711 : BitVec 32 := Scalar.muli arg19 c4_i32_535
  let v712 : Index := Scalar.indexCast v711
  let c10 : Index := 10#32
  let c0_536 : Index := 0#32
  let c0_537 : Index := 0#32
  ![v712.toNat, 10, 0, 0]
def k0_off368 (k0_t4 : Fin k0_t4_loop.trips) (k0_t13 : Fin k0_t13_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v716 : Index := Scalar.indexCast v497
  let c48_i32 : BitVec 32 := 48#32
  let c1_i32_474 : BitVec 32 := 1#32
  let arg19 : BitVec 32 := Scf.iv c48_i32 c1_i32_474 k0_t13
  let c32_i32_490 : BitVec 32 := 32#32
  let v580 : BitVec 32 := Scalar.muli arg19 c32_i32_490
  let v581 : BitVec 32 := v580
  let v717 : Index := Scalar.indexCast v581
  let c1408_538 : Index := 1408#32
  ![v716.toNat, v717.toNat, 1408]
def k0_off369 (k0_t13 : Fin k0_t13_loop.trips) : Fin 4 → Nat :=
  let c48_i32 : BitVec 32 := 48#32
  let c1_i32_474 : BitVec 32 := 1#32
  let arg19 : BitVec 32 := Scf.iv c48_i32 c1_i32_474 k0_t13
  let c4_i32_539 : BitVec 32 := 4#32
  let v723 : BitVec 32 := Scalar.muli arg19 c4_i32_539
  let v724 : Index := Scalar.indexCast v723
  let c11 : Index := 11#32
  let c0_540 : Index := 0#32
  let c0_541 : Index := 0#32
  ![v724.toNat, 11, 0, 0]
def k0_off370 (k0_t4 : Fin k0_t4_loop.trips) (k0_t13 : Fin k0_t13_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v728 : Index := Scalar.indexCast v497
  let c48_i32 : BitVec 32 := 48#32
  let c1_i32_474 : BitVec 32 := 1#32
  let arg19 : BitVec 32 := Scf.iv c48_i32 c1_i32_474 k0_t13
  let c32_i32_490 : BitVec 32 := 32#32
  let v580 : BitVec 32 := Scalar.muli arg19 c32_i32_490
  let v581 : BitVec 32 := v580
  let v729 : Index := Scalar.indexCast v581
  let c1536_542 : Index := 1536#32
  ![v728.toNat, v729.toNat, 1536]
def k0_off371 (k0_t13 : Fin k0_t13_loop.trips) : Fin 4 → Nat :=
  let c48_i32 : BitVec 32 := 48#32
  let c1_i32_474 : BitVec 32 := 1#32
  let arg19 : BitVec 32 := Scf.iv c48_i32 c1_i32_474 k0_t13
  let c4_i32_543 : BitVec 32 := 4#32
  let v735 : BitVec 32 := Scalar.muli arg19 c4_i32_543
  let v736 : Index := Scalar.indexCast v735
  let c12 : Index := 12#32
  let c0_544 : Index := 0#32
  let c0_545 : Index := 0#32
  ![v736.toNat, 12, 0, 0]
def k0_off372 (k0_t4 : Fin k0_t4_loop.trips) (k0_t13 : Fin k0_t13_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v740 : Index := Scalar.indexCast v497
  let c48_i32 : BitVec 32 := 48#32
  let c1_i32_474 : BitVec 32 := 1#32
  let arg19 : BitVec 32 := Scf.iv c48_i32 c1_i32_474 k0_t13
  let c32_i32_490 : BitVec 32 := 32#32
  let v580 : BitVec 32 := Scalar.muli arg19 c32_i32_490
  let v581 : BitVec 32 := v580
  let v741 : Index := Scalar.indexCast v581
  let c1664_546 : Index := 1664#32
  ![v740.toNat, v741.toNat, 1664]
def k0_off373 (k0_t13 : Fin k0_t13_loop.trips) : Fin 4 → Nat :=
  let c48_i32 : BitVec 32 := 48#32
  let c1_i32_474 : BitVec 32 := 1#32
  let arg19 : BitVec 32 := Scf.iv c48_i32 c1_i32_474 k0_t13
  let c4_i32_547 : BitVec 32 := 4#32
  let v747 : BitVec 32 := Scalar.muli arg19 c4_i32_547
  let v748 : Index := Scalar.indexCast v747
  let c13 : Index := 13#32
  let c0_548 : Index := 0#32
  let c0_549 : Index := 0#32
  ![v748.toNat, 13, 0, 0]
def k0_off374 (k0_t4 : Fin k0_t4_loop.trips) (k0_t13 : Fin k0_t13_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v752 : Index := Scalar.indexCast v497
  let c48_i32 : BitVec 32 := 48#32
  let c1_i32_474 : BitVec 32 := 1#32
  let arg19 : BitVec 32 := Scf.iv c48_i32 c1_i32_474 k0_t13
  let c32_i32_490 : BitVec 32 := 32#32
  let v580 : BitVec 32 := Scalar.muli arg19 c32_i32_490
  let v581 : BitVec 32 := v580
  let v753 : Index := Scalar.indexCast v581
  let c1792_550 : Index := 1792#32
  ![v752.toNat, v753.toNat, 1792]
def k0_off375 (k0_t13 : Fin k0_t13_loop.trips) : Fin 4 → Nat :=
  let c48_i32 : BitVec 32 := 48#32
  let c1_i32_474 : BitVec 32 := 1#32
  let arg19 : BitVec 32 := Scf.iv c48_i32 c1_i32_474 k0_t13
  let c4_i32_551 : BitVec 32 := 4#32
  let v759 : BitVec 32 := Scalar.muli arg19 c4_i32_551
  let v760 : Index := Scalar.indexCast v759
  let c14 : Index := 14#32
  let c0_552 : Index := 0#32
  let c0_553 : Index := 0#32
  ![v760.toNat, 14, 0, 0]
def k0_off376 (k0_t4 : Fin k0_t4_loop.trips) (k0_t13 : Fin k0_t13_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v764 : Index := Scalar.indexCast v497
  let c48_i32 : BitVec 32 := 48#32
  let c1_i32_474 : BitVec 32 := 1#32
  let arg19 : BitVec 32 := Scf.iv c48_i32 c1_i32_474 k0_t13
  let c32_i32_490 : BitVec 32 := 32#32
  let v580 : BitVec 32 := Scalar.muli arg19 c32_i32_490
  let v581 : BitVec 32 := v580
  let v765 : Index := Scalar.indexCast v581
  let c1920_554 : Index := 1920#32
  ![v764.toNat, v765.toNat, 1920]
def k0_off377 (k0_t13 : Fin k0_t13_loop.trips) : Fin 4 → Nat :=
  let c48_i32 : BitVec 32 := 48#32
  let c1_i32_474 : BitVec 32 := 1#32
  let arg19 : BitVec 32 := Scf.iv c48_i32 c1_i32_474 k0_t13
  let c4_i32_555 : BitVec 32 := 4#32
  let v771 : BitVec 32 := Scalar.muli arg19 c4_i32_555
  let v772 : Index := Scalar.indexCast v771
  let c15 : Index := 15#32
  let c0_556 : Index := 0#32
  let c0_557 : Index := 0#32
  ![v772.toNat, 15, 0, 0]
def k0_off378 (k0_t4 : Fin k0_t4_loop.trips) (k0_t13 : Fin k0_t13_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v776 : Index := Scalar.indexCast v497
  let c48_i32 : BitVec 32 := 48#32
  let c1_i32_474 : BitVec 32 := 1#32
  let arg19 : BitVec 32 := Scf.iv c48_i32 c1_i32_474 k0_t13
  let c32_i32_490 : BitVec 32 := 32#32
  let v580 : BitVec 32 := Scalar.muli arg19 c32_i32_490
  let v581 : BitVec 32 := v580
  let v777 : Index := Scalar.indexCast v581
  let c2048 : Index := 2048#32
  ![v776.toNat, v777.toNat, 2048]
def k0_off379 (k0_t13 : Fin k0_t13_loop.trips) : Fin 4 → Nat :=
  let c48_i32 : BitVec 32 := 48#32
  let c1_i32_474 : BitVec 32 := 1#32
  let arg19 : BitVec 32 := Scf.iv c48_i32 c1_i32_474 k0_t13
  let c4_i32_558 : BitVec 32 := 4#32
  let v783 : BitVec 32 := Scalar.muli arg19 c4_i32_558
  let v784 : Index := Scalar.indexCast v783
  let c16_559 : Index := 16#32
  let c0_560 : Index := 0#32
  let c0_561 : Index := 0#32
  ![v784.toNat, 16, 0, 0]
def k0_off380 (k0_t4 : Fin k0_t4_loop.trips) (k0_t13 : Fin k0_t13_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v788 : Index := Scalar.indexCast v497
  let c48_i32 : BitVec 32 := 48#32
  let c1_i32_474 : BitVec 32 := 1#32
  let arg19 : BitVec 32 := Scf.iv c48_i32 c1_i32_474 k0_t13
  let c32_i32_490 : BitVec 32 := 32#32
  let v580 : BitVec 32 := Scalar.muli arg19 c32_i32_490
  let v581 : BitVec 32 := v580
  let v789 : Index := Scalar.indexCast v581
  let c2176 : Index := 2176#32
  ![v788.toNat, v789.toNat, 2176]
def k0_off381 (k0_t13 : Fin k0_t13_loop.trips) : Fin 4 → Nat :=
  let c48_i32 : BitVec 32 := 48#32
  let c1_i32_474 : BitVec 32 := 1#32
  let arg19 : BitVec 32 := Scf.iv c48_i32 c1_i32_474 k0_t13
  let c4_i32_562 : BitVec 32 := 4#32
  let v795 : BitVec 32 := Scalar.muli arg19 c4_i32_562
  let v796 : Index := Scalar.indexCast v795
  let c17 : Index := 17#32
  let c0_563 : Index := 0#32
  let c0_564 : Index := 0#32
  ![v796.toNat, 17, 0, 0]
def k0_off382 (k0_t4 : Fin k0_t4_loop.trips) (k0_t13 : Fin k0_t13_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v800 : Index := Scalar.indexCast v497
  let c48_i32 : BitVec 32 := 48#32
  let c1_i32_474 : BitVec 32 := 1#32
  let arg19 : BitVec 32 := Scf.iv c48_i32 c1_i32_474 k0_t13
  let c32_i32_490 : BitVec 32 := 32#32
  let v580 : BitVec 32 := Scalar.muli arg19 c32_i32_490
  let v581 : BitVec 32 := v580
  let v801 : Index := Scalar.indexCast v581
  let c2304 : Index := 2304#32
  ![v800.toNat, v801.toNat, 2304]
def k0_off383 (k0_t13 : Fin k0_t13_loop.trips) : Fin 4 → Nat :=
  let c48_i32 : BitVec 32 := 48#32
  let c1_i32_474 : BitVec 32 := 1#32
  let arg19 : BitVec 32 := Scf.iv c48_i32 c1_i32_474 k0_t13
  let c4_i32_565 : BitVec 32 := 4#32
  let v807 : BitVec 32 := Scalar.muli arg19 c4_i32_565
  let v808 : Index := Scalar.indexCast v807
  let c18 : Index := 18#32
  let c0_566 : Index := 0#32
  let c0_567 : Index := 0#32
  ![v808.toNat, 18, 0, 0]
def k0_off384 (k0_t4 : Fin k0_t4_loop.trips) (k0_t13 : Fin k0_t13_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v812 : Index := Scalar.indexCast v497
  let c48_i32 : BitVec 32 := 48#32
  let c1_i32_474 : BitVec 32 := 1#32
  let arg19 : BitVec 32 := Scf.iv c48_i32 c1_i32_474 k0_t13
  let c32_i32_490 : BitVec 32 := 32#32
  let v580 : BitVec 32 := Scalar.muli arg19 c32_i32_490
  let v581 : BitVec 32 := v580
  let v813 : Index := Scalar.indexCast v581
  let c2432 : Index := 2432#32
  ![v812.toNat, v813.toNat, 2432]
def k0_off385 (k0_t13 : Fin k0_t13_loop.trips) : Fin 4 → Nat :=
  let c48_i32 : BitVec 32 := 48#32
  let c1_i32_474 : BitVec 32 := 1#32
  let arg19 : BitVec 32 := Scf.iv c48_i32 c1_i32_474 k0_t13
  let c4_i32_568 : BitVec 32 := 4#32
  let v819 : BitVec 32 := Scalar.muli arg19 c4_i32_568
  let v820 : Index := Scalar.indexCast v819
  let c19 : Index := 19#32
  let c0_569 : Index := 0#32
  let c0_570 : Index := 0#32
  ![v820.toNat, 19, 0, 0]
def k0_off386 (k0_t4 : Fin k0_t4_loop.trips) (k0_t13 : Fin k0_t13_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v824 : Index := Scalar.indexCast v497
  let c48_i32 : BitVec 32 := 48#32
  let c1_i32_474 : BitVec 32 := 1#32
  let arg19 : BitVec 32 := Scf.iv c48_i32 c1_i32_474 k0_t13
  let c32_i32_490 : BitVec 32 := 32#32
  let v580 : BitVec 32 := Scalar.muli arg19 c32_i32_490
  let v581 : BitVec 32 := v580
  let v825 : Index := Scalar.indexCast v581
  let c2560 : Index := 2560#32
  ![v824.toNat, v825.toNat, 2560]
def k0_off387 (k0_t13 : Fin k0_t13_loop.trips) : Fin 4 → Nat :=
  let c48_i32 : BitVec 32 := 48#32
  let c1_i32_474 : BitVec 32 := 1#32
  let arg19 : BitVec 32 := Scf.iv c48_i32 c1_i32_474 k0_t13
  let c4_i32_571 : BitVec 32 := 4#32
  let v831 : BitVec 32 := Scalar.muli arg19 c4_i32_571
  let v832 : Index := Scalar.indexCast v831
  let c20 : Index := 20#32
  let c0_572 : Index := 0#32
  let c0_573 : Index := 0#32
  ![v832.toNat, 20, 0, 0]
def k0_off388 (k0_t4 : Fin k0_t4_loop.trips) (k0_t13 : Fin k0_t13_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v836 : Index := Scalar.indexCast v497
  let c48_i32 : BitVec 32 := 48#32
  let c1_i32_474 : BitVec 32 := 1#32
  let arg19 : BitVec 32 := Scf.iv c48_i32 c1_i32_474 k0_t13
  let c32_i32_490 : BitVec 32 := 32#32
  let v580 : BitVec 32 := Scalar.muli arg19 c32_i32_490
  let v581 : BitVec 32 := v580
  let v837 : Index := Scalar.indexCast v581
  let c2688 : Index := 2688#32
  ![v836.toNat, v837.toNat, 2688]
def k0_off389 (k0_t13 : Fin k0_t13_loop.trips) : Fin 4 → Nat :=
  let c48_i32 : BitVec 32 := 48#32
  let c1_i32_474 : BitVec 32 := 1#32
  let arg19 : BitVec 32 := Scf.iv c48_i32 c1_i32_474 k0_t13
  let c4_i32_574 : BitVec 32 := 4#32
  let v843 : BitVec 32 := Scalar.muli arg19 c4_i32_574
  let v844 : Index := Scalar.indexCast v843
  let c21 : Index := 21#32
  let c0_575 : Index := 0#32
  let c0_576 : Index := 0#32
  ![v844.toNat, 21, 0, 0]
def k0_off390 (k0_t4 : Fin k0_t4_loop.trips) (k0_t13 : Fin k0_t13_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v848 : Index := Scalar.indexCast v497
  let c48_i32 : BitVec 32 := 48#32
  let c1_i32_474 : BitVec 32 := 1#32
  let arg19 : BitVec 32 := Scf.iv c48_i32 c1_i32_474 k0_t13
  let c32_i32_490 : BitVec 32 := 32#32
  let v580 : BitVec 32 := Scalar.muli arg19 c32_i32_490
  let v581 : BitVec 32 := v580
  let v849 : Index := Scalar.indexCast v581
  let c2816 : Index := 2816#32
  ![v848.toNat, v849.toNat, 2816]
def k0_off391 (k0_t13 : Fin k0_t13_loop.trips) : Fin 4 → Nat :=
  let c48_i32 : BitVec 32 := 48#32
  let c1_i32_474 : BitVec 32 := 1#32
  let arg19 : BitVec 32 := Scf.iv c48_i32 c1_i32_474 k0_t13
  let c4_i32_577 : BitVec 32 := 4#32
  let v855 : BitVec 32 := Scalar.muli arg19 c4_i32_577
  let v856 : Index := Scalar.indexCast v855
  let c22 : Index := 22#32
  let c0_578 : Index := 0#32
  let c0_579 : Index := 0#32
  ![v856.toNat, 22, 0, 0]
def k0_off392 (k0_t4 : Fin k0_t4_loop.trips) (k0_t13 : Fin k0_t13_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v860 : Index := Scalar.indexCast v497
  let c48_i32 : BitVec 32 := 48#32
  let c1_i32_474 : BitVec 32 := 1#32
  let arg19 : BitVec 32 := Scf.iv c48_i32 c1_i32_474 k0_t13
  let c32_i32_490 : BitVec 32 := 32#32
  let v580 : BitVec 32 := Scalar.muli arg19 c32_i32_490
  let v581 : BitVec 32 := v580
  let v861 : Index := Scalar.indexCast v581
  let c2944 : Index := 2944#32
  ![v860.toNat, v861.toNat, 2944]
def k0_off393 (k0_t13 : Fin k0_t13_loop.trips) : Fin 4 → Nat :=
  let c48_i32 : BitVec 32 := 48#32
  let c1_i32_474 : BitVec 32 := 1#32
  let arg19 : BitVec 32 := Scf.iv c48_i32 c1_i32_474 k0_t13
  let c4_i32_580 : BitVec 32 := 4#32
  let v867 : BitVec 32 := Scalar.muli arg19 c4_i32_580
  let v868 : Index := Scalar.indexCast v867
  let c23 : Index := 23#32
  let c0_581 : Index := 0#32
  let c0_582 : Index := 0#32
  ![v868.toNat, 23, 0, 0]
def k0_off394 (k0_t4 : Fin k0_t4_loop.trips) : Fin 2 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let c7_i32_478 : BitVec 32 := 7#32
  ![v497.toNat, 7]
def k0_off395 (k0_t4 : Fin k0_t4_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let c1792_i32_479 : BitVec 32 := 1792#32
  let c0_i32_480 : BitVec 32 := 0#32
  ![v497.toNat, 1792, 0]
def k0_off396 (k0_t4 : Fin k0_t4_loop.trips) : Fin 3 → Nat :=
  let c1_i32_477 : BitVec 32 := 1#32
  let c768_i32_481 : BitVec 32 := 768#32
  let c0_i32_379 : BitVec 32 := 0#32
  let c1_i32_381 : BitVec 32 := 1#32
  let arg18 : BitVec 32 := Scf.iv c0_i32_379 c1_i32_381 k0_t4
  let c3072_i32_476 : BitVec 32 := 3072#32
  let v565 : BitVec 32 := Scalar.muli arg18 c3072_i32_476
  ![1, 768, v565.toNat]
@[reducible] def k0_t14_loop : Scf.Loop 32 :=
  let c56_i32 : BitVec 32 := 56#32
  let c8_i32_482 : BitVec 32 := 8#32
  let v572 : BitVec 32 := Scalar.addi c56_i32 c8_i32_482
  let c1_i32_483 : BitVec 32 := 1#32
  ⟨c56_i32, v572, c1_i32_483⟩
def k0_mult8 (k0_t14 : Fin k0_t14_loop.trips) : BitVec 32 :=
  let c56_i32 : BitVec 32 := 56#32
  let c1_i32_483 : BitVec 32 := 1#32
  let arg19 : BitVec 32 := Scf.iv c56_i32 c1_i32_483 k0_t14
  let c32_i32_490 : BitVec 32 := 32#32
  let v580 : BitVec 32 := Scalar.muli arg19 c32_i32_490
  v580
def k0_off397 (k0_t14 : Fin k0_t14_loop.trips) : Fin 2 → Nat :=
  let c56_i32 : BitVec 32 := 56#32
  let c1_i32_483 : BitVec 32 := 1#32
  let arg19 : BitVec 32 := Scf.iv c56_i32 c1_i32_483 k0_t14
  let c32_i32_490 : BitVec 32 := 32#32
  let v580 : BitVec 32 := Scalar.muli arg19 c32_i32_490
  let v581 : BitVec 32 := v580
  let v582 : Index := Scalar.indexCast v581
  let c0_491 : Index := 0#32
  ![v582.toNat, 0]
def k0_off398 (k0_t4 : Fin k0_t4_loop.trips) (k0_t14 : Fin k0_t14_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v584 : Index := Scalar.indexCast v497
  let c56_i32 : BitVec 32 := 56#32
  let c1_i32_483 : BitVec 32 := 1#32
  let arg19 : BitVec 32 := Scf.iv c56_i32 c1_i32_483 k0_t14
  let c32_i32_490 : BitVec 32 := 32#32
  let v580 : BitVec 32 := Scalar.muli arg19 c32_i32_490
  let v581 : BitVec 32 := v580
  let v585 : Index := Scalar.indexCast v581
  let c0_492 : Index := 0#32
  ![v584.toNat, v585.toNat, 0]
def k0_off399 (k0_t14 : Fin k0_t14_loop.trips) : Fin 4 → Nat :=
  let c56_i32 : BitVec 32 := 56#32
  let c1_i32_483 : BitVec 32 := 1#32
  let arg19 : BitVec 32 := Scf.iv c56_i32 c1_i32_483 k0_t14
  let c4_i32_493 : BitVec 32 := 4#32
  let v591 : BitVec 32 := Scalar.muli arg19 c4_i32_493
  let v592 : Index := Scalar.indexCast v591
  let c0_494 : Index := 0#32
  let c0_495 : Index := 0#32
  let c0_496 : Index := 0#32
  ![v592.toNat, 0, 0, 0]
def k0_off400 (k0_t4 : Fin k0_t4_loop.trips) (k0_t14 : Fin k0_t14_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v596 : Index := Scalar.indexCast v497
  let c56_i32 : BitVec 32 := 56#32
  let c1_i32_483 : BitVec 32 := 1#32
  let arg19 : BitVec 32 := Scf.iv c56_i32 c1_i32_483 k0_t14
  let c32_i32_490 : BitVec 32 := 32#32
  let v580 : BitVec 32 := Scalar.muli arg19 c32_i32_490
  let v581 : BitVec 32 := v580
  let v597 : Index := Scalar.indexCast v581
  let c128_497 : Index := 128#32
  ![v596.toNat, v597.toNat, 128]
def k0_off401 (k0_t14 : Fin k0_t14_loop.trips) : Fin 4 → Nat :=
  let c56_i32 : BitVec 32 := 56#32
  let c1_i32_483 : BitVec 32 := 1#32
  let arg19 : BitVec 32 := Scf.iv c56_i32 c1_i32_483 k0_t14
  let c4_i32_498 : BitVec 32 := 4#32
  let v603 : BitVec 32 := Scalar.muli arg19 c4_i32_498
  let v604 : Index := Scalar.indexCast v603
  let c1_499 : Index := 1#32
  let c0_500 : Index := 0#32
  let c0_501 : Index := 0#32
  ![v604.toNat, 1, 0, 0]
def k0_off402 (k0_t4 : Fin k0_t4_loop.trips) (k0_t14 : Fin k0_t14_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v608 : Index := Scalar.indexCast v497
  let c56_i32 : BitVec 32 := 56#32
  let c1_i32_483 : BitVec 32 := 1#32
  let arg19 : BitVec 32 := Scf.iv c56_i32 c1_i32_483 k0_t14
  let c32_i32_490 : BitVec 32 := 32#32
  let v580 : BitVec 32 := Scalar.muli arg19 c32_i32_490
  let v581 : BitVec 32 := v580
  let v609 : Index := Scalar.indexCast v581
  let c256_502 : Index := 256#32
  ![v608.toNat, v609.toNat, 256]
def k0_off403 (k0_t14 : Fin k0_t14_loop.trips) : Fin 4 → Nat :=
  let c56_i32 : BitVec 32 := 56#32
  let c1_i32_483 : BitVec 32 := 1#32
  let arg19 : BitVec 32 := Scf.iv c56_i32 c1_i32_483 k0_t14
  let c4_i32_503 : BitVec 32 := 4#32
  let v615 : BitVec 32 := Scalar.muli arg19 c4_i32_503
  let v616 : Index := Scalar.indexCast v615
  let c2 : Index := 2#32
  let c0_504 : Index := 0#32
  let c0_505 : Index := 0#32
  ![v616.toNat, 2, 0, 0]
def k0_off404 (k0_t4 : Fin k0_t4_loop.trips) (k0_t14 : Fin k0_t14_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v620 : Index := Scalar.indexCast v497
  let c56_i32 : BitVec 32 := 56#32
  let c1_i32_483 : BitVec 32 := 1#32
  let arg19 : BitVec 32 := Scf.iv c56_i32 c1_i32_483 k0_t14
  let c32_i32_490 : BitVec 32 := 32#32
  let v580 : BitVec 32 := Scalar.muli arg19 c32_i32_490
  let v581 : BitVec 32 := v580
  let v621 : Index := Scalar.indexCast v581
  let c384_506 : Index := 384#32
  ![v620.toNat, v621.toNat, 384]
def k0_off405 (k0_t14 : Fin k0_t14_loop.trips) : Fin 4 → Nat :=
  let c56_i32 : BitVec 32 := 56#32
  let c1_i32_483 : BitVec 32 := 1#32
  let arg19 : BitVec 32 := Scf.iv c56_i32 c1_i32_483 k0_t14
  let c4_i32_507 : BitVec 32 := 4#32
  let v627 : BitVec 32 := Scalar.muli arg19 c4_i32_507
  let v628 : Index := Scalar.indexCast v627
  let c3 : Index := 3#32
  let c0_508 : Index := 0#32
  let c0_509 : Index := 0#32
  ![v628.toNat, 3, 0, 0]
def k0_off406 (k0_t4 : Fin k0_t4_loop.trips) (k0_t14 : Fin k0_t14_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v632 : Index := Scalar.indexCast v497
  let c56_i32 : BitVec 32 := 56#32
  let c1_i32_483 : BitVec 32 := 1#32
  let arg19 : BitVec 32 := Scf.iv c56_i32 c1_i32_483 k0_t14
  let c32_i32_490 : BitVec 32 := 32#32
  let v580 : BitVec 32 := Scalar.muli arg19 c32_i32_490
  let v581 : BitVec 32 := v580
  let v633 : Index := Scalar.indexCast v581
  let c512_510 : Index := 512#32
  ![v632.toNat, v633.toNat, 512]
def k0_off407 (k0_t14 : Fin k0_t14_loop.trips) : Fin 4 → Nat :=
  let c56_i32 : BitVec 32 := 56#32
  let c1_i32_483 : BitVec 32 := 1#32
  let arg19 : BitVec 32 := Scf.iv c56_i32 c1_i32_483 k0_t14
  let c4_i32_511 : BitVec 32 := 4#32
  let v639 : BitVec 32 := Scalar.muli arg19 c4_i32_511
  let v640 : Index := Scalar.indexCast v639
  let c4 : Index := 4#32
  let c0_512 : Index := 0#32
  let c0_513 : Index := 0#32
  ![v640.toNat, 4, 0, 0]
def k0_off408 (k0_t4 : Fin k0_t4_loop.trips) (k0_t14 : Fin k0_t14_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v644 : Index := Scalar.indexCast v497
  let c56_i32 : BitVec 32 := 56#32
  let c1_i32_483 : BitVec 32 := 1#32
  let arg19 : BitVec 32 := Scf.iv c56_i32 c1_i32_483 k0_t14
  let c32_i32_490 : BitVec 32 := 32#32
  let v580 : BitVec 32 := Scalar.muli arg19 c32_i32_490
  let v581 : BitVec 32 := v580
  let v645 : Index := Scalar.indexCast v581
  let c640_514 : Index := 640#32
  ![v644.toNat, v645.toNat, 640]
def k0_off409 (k0_t14 : Fin k0_t14_loop.trips) : Fin 4 → Nat :=
  let c56_i32 : BitVec 32 := 56#32
  let c1_i32_483 : BitVec 32 := 1#32
  let arg19 : BitVec 32 := Scf.iv c56_i32 c1_i32_483 k0_t14
  let c4_i32_515 : BitVec 32 := 4#32
  let v651 : BitVec 32 := Scalar.muli arg19 c4_i32_515
  let v652 : Index := Scalar.indexCast v651
  let c5 : Index := 5#32
  let c0_516 : Index := 0#32
  let c0_517 : Index := 0#32
  ![v652.toNat, 5, 0, 0]
def k0_off410 (k0_t4 : Fin k0_t4_loop.trips) (k0_t14 : Fin k0_t14_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v656 : Index := Scalar.indexCast v497
  let c56_i32 : BitVec 32 := 56#32
  let c1_i32_483 : BitVec 32 := 1#32
  let arg19 : BitVec 32 := Scf.iv c56_i32 c1_i32_483 k0_t14
  let c32_i32_490 : BitVec 32 := 32#32
  let v580 : BitVec 32 := Scalar.muli arg19 c32_i32_490
  let v581 : BitVec 32 := v580
  let v657 : Index := Scalar.indexCast v581
  let c768_518 : Index := 768#32
  ![v656.toNat, v657.toNat, 768]
def k0_off411 (k0_t14 : Fin k0_t14_loop.trips) : Fin 4 → Nat :=
  let c56_i32 : BitVec 32 := 56#32
  let c1_i32_483 : BitVec 32 := 1#32
  let arg19 : BitVec 32 := Scf.iv c56_i32 c1_i32_483 k0_t14
  let c4_i32_519 : BitVec 32 := 4#32
  let v663 : BitVec 32 := Scalar.muli arg19 c4_i32_519
  let v664 : Index := Scalar.indexCast v663
  let c6 : Index := 6#32
  let c0_520 : Index := 0#32
  let c0_521 : Index := 0#32
  ![v664.toNat, 6, 0, 0]
def k0_off412 (k0_t4 : Fin k0_t4_loop.trips) (k0_t14 : Fin k0_t14_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v668 : Index := Scalar.indexCast v497
  let c56_i32 : BitVec 32 := 56#32
  let c1_i32_483 : BitVec 32 := 1#32
  let arg19 : BitVec 32 := Scf.iv c56_i32 c1_i32_483 k0_t14
  let c32_i32_490 : BitVec 32 := 32#32
  let v580 : BitVec 32 := Scalar.muli arg19 c32_i32_490
  let v581 : BitVec 32 := v580
  let v669 : Index := Scalar.indexCast v581
  let c896_522 : Index := 896#32
  ![v668.toNat, v669.toNat, 896]
def k0_off413 (k0_t14 : Fin k0_t14_loop.trips) : Fin 4 → Nat :=
  let c56_i32 : BitVec 32 := 56#32
  let c1_i32_483 : BitVec 32 := 1#32
  let arg19 : BitVec 32 := Scf.iv c56_i32 c1_i32_483 k0_t14
  let c4_i32_523 : BitVec 32 := 4#32
  let v675 : BitVec 32 := Scalar.muli arg19 c4_i32_523
  let v676 : Index := Scalar.indexCast v675
  let c7 : Index := 7#32
  let c0_524 : Index := 0#32
  let c0_525 : Index := 0#32
  ![v676.toNat, 7, 0, 0]
def k0_off414 (k0_t4 : Fin k0_t4_loop.trips) (k0_t14 : Fin k0_t14_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v680 : Index := Scalar.indexCast v497
  let c56_i32 : BitVec 32 := 56#32
  let c1_i32_483 : BitVec 32 := 1#32
  let arg19 : BitVec 32 := Scf.iv c56_i32 c1_i32_483 k0_t14
  let c32_i32_490 : BitVec 32 := 32#32
  let v580 : BitVec 32 := Scalar.muli arg19 c32_i32_490
  let v581 : BitVec 32 := v580
  let v681 : Index := Scalar.indexCast v581
  let c1024_526 : Index := 1024#32
  ![v680.toNat, v681.toNat, 1024]
def k0_off415 (k0_t14 : Fin k0_t14_loop.trips) : Fin 4 → Nat :=
  let c56_i32 : BitVec 32 := 56#32
  let c1_i32_483 : BitVec 32 := 1#32
  let arg19 : BitVec 32 := Scf.iv c56_i32 c1_i32_483 k0_t14
  let c4_i32_527 : BitVec 32 := 4#32
  let v687 : BitVec 32 := Scalar.muli arg19 c4_i32_527
  let v688 : Index := Scalar.indexCast v687
  let c8 : Index := 8#32
  let c0_528 : Index := 0#32
  let c0_529 : Index := 0#32
  ![v688.toNat, 8, 0, 0]
def k0_off416 (k0_t4 : Fin k0_t4_loop.trips) (k0_t14 : Fin k0_t14_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v692 : Index := Scalar.indexCast v497
  let c56_i32 : BitVec 32 := 56#32
  let c1_i32_483 : BitVec 32 := 1#32
  let arg19 : BitVec 32 := Scf.iv c56_i32 c1_i32_483 k0_t14
  let c32_i32_490 : BitVec 32 := 32#32
  let v580 : BitVec 32 := Scalar.muli arg19 c32_i32_490
  let v581 : BitVec 32 := v580
  let v693 : Index := Scalar.indexCast v581
  let c1152_530 : Index := 1152#32
  ![v692.toNat, v693.toNat, 1152]
def k0_off417 (k0_t14 : Fin k0_t14_loop.trips) : Fin 4 → Nat :=
  let c56_i32 : BitVec 32 := 56#32
  let c1_i32_483 : BitVec 32 := 1#32
  let arg19 : BitVec 32 := Scf.iv c56_i32 c1_i32_483 k0_t14
  let c4_i32_531 : BitVec 32 := 4#32
  let v699 : BitVec 32 := Scalar.muli arg19 c4_i32_531
  let v700 : Index := Scalar.indexCast v699
  let c9 : Index := 9#32
  let c0_532 : Index := 0#32
  let c0_533 : Index := 0#32
  ![v700.toNat, 9, 0, 0]
def k0_off418 (k0_t4 : Fin k0_t4_loop.trips) (k0_t14 : Fin k0_t14_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v704 : Index := Scalar.indexCast v497
  let c56_i32 : BitVec 32 := 56#32
  let c1_i32_483 : BitVec 32 := 1#32
  let arg19 : BitVec 32 := Scf.iv c56_i32 c1_i32_483 k0_t14
  let c32_i32_490 : BitVec 32 := 32#32
  let v580 : BitVec 32 := Scalar.muli arg19 c32_i32_490
  let v581 : BitVec 32 := v580
  let v705 : Index := Scalar.indexCast v581
  let c1280_534 : Index := 1280#32
  ![v704.toNat, v705.toNat, 1280]
def k0_off419 (k0_t14 : Fin k0_t14_loop.trips) : Fin 4 → Nat :=
  let c56_i32 : BitVec 32 := 56#32
  let c1_i32_483 : BitVec 32 := 1#32
  let arg19 : BitVec 32 := Scf.iv c56_i32 c1_i32_483 k0_t14
  let c4_i32_535 : BitVec 32 := 4#32
  let v711 : BitVec 32 := Scalar.muli arg19 c4_i32_535
  let v712 : Index := Scalar.indexCast v711
  let c10 : Index := 10#32
  let c0_536 : Index := 0#32
  let c0_537 : Index := 0#32
  ![v712.toNat, 10, 0, 0]
def k0_off420 (k0_t4 : Fin k0_t4_loop.trips) (k0_t14 : Fin k0_t14_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v716 : Index := Scalar.indexCast v497
  let c56_i32 : BitVec 32 := 56#32
  let c1_i32_483 : BitVec 32 := 1#32
  let arg19 : BitVec 32 := Scf.iv c56_i32 c1_i32_483 k0_t14
  let c32_i32_490 : BitVec 32 := 32#32
  let v580 : BitVec 32 := Scalar.muli arg19 c32_i32_490
  let v581 : BitVec 32 := v580
  let v717 : Index := Scalar.indexCast v581
  let c1408_538 : Index := 1408#32
  ![v716.toNat, v717.toNat, 1408]
def k0_off421 (k0_t14 : Fin k0_t14_loop.trips) : Fin 4 → Nat :=
  let c56_i32 : BitVec 32 := 56#32
  let c1_i32_483 : BitVec 32 := 1#32
  let arg19 : BitVec 32 := Scf.iv c56_i32 c1_i32_483 k0_t14
  let c4_i32_539 : BitVec 32 := 4#32
  let v723 : BitVec 32 := Scalar.muli arg19 c4_i32_539
  let v724 : Index := Scalar.indexCast v723
  let c11 : Index := 11#32
  let c0_540 : Index := 0#32
  let c0_541 : Index := 0#32
  ![v724.toNat, 11, 0, 0]
def k0_off422 (k0_t4 : Fin k0_t4_loop.trips) (k0_t14 : Fin k0_t14_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v728 : Index := Scalar.indexCast v497
  let c56_i32 : BitVec 32 := 56#32
  let c1_i32_483 : BitVec 32 := 1#32
  let arg19 : BitVec 32 := Scf.iv c56_i32 c1_i32_483 k0_t14
  let c32_i32_490 : BitVec 32 := 32#32
  let v580 : BitVec 32 := Scalar.muli arg19 c32_i32_490
  let v581 : BitVec 32 := v580
  let v729 : Index := Scalar.indexCast v581
  let c1536_542 : Index := 1536#32
  ![v728.toNat, v729.toNat, 1536]
def k0_off423 (k0_t14 : Fin k0_t14_loop.trips) : Fin 4 → Nat :=
  let c56_i32 : BitVec 32 := 56#32
  let c1_i32_483 : BitVec 32 := 1#32
  let arg19 : BitVec 32 := Scf.iv c56_i32 c1_i32_483 k0_t14
  let c4_i32_543 : BitVec 32 := 4#32
  let v735 : BitVec 32 := Scalar.muli arg19 c4_i32_543
  let v736 : Index := Scalar.indexCast v735
  let c12 : Index := 12#32
  let c0_544 : Index := 0#32
  let c0_545 : Index := 0#32
  ![v736.toNat, 12, 0, 0]
def k0_off424 (k0_t4 : Fin k0_t4_loop.trips) (k0_t14 : Fin k0_t14_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v740 : Index := Scalar.indexCast v497
  let c56_i32 : BitVec 32 := 56#32
  let c1_i32_483 : BitVec 32 := 1#32
  let arg19 : BitVec 32 := Scf.iv c56_i32 c1_i32_483 k0_t14
  let c32_i32_490 : BitVec 32 := 32#32
  let v580 : BitVec 32 := Scalar.muli arg19 c32_i32_490
  let v581 : BitVec 32 := v580
  let v741 : Index := Scalar.indexCast v581
  let c1664_546 : Index := 1664#32
  ![v740.toNat, v741.toNat, 1664]
def k0_off425 (k0_t14 : Fin k0_t14_loop.trips) : Fin 4 → Nat :=
  let c56_i32 : BitVec 32 := 56#32
  let c1_i32_483 : BitVec 32 := 1#32
  let arg19 : BitVec 32 := Scf.iv c56_i32 c1_i32_483 k0_t14
  let c4_i32_547 : BitVec 32 := 4#32
  let v747 : BitVec 32 := Scalar.muli arg19 c4_i32_547
  let v748 : Index := Scalar.indexCast v747
  let c13 : Index := 13#32
  let c0_548 : Index := 0#32
  let c0_549 : Index := 0#32
  ![v748.toNat, 13, 0, 0]
def k0_off426 (k0_t4 : Fin k0_t4_loop.trips) (k0_t14 : Fin k0_t14_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v752 : Index := Scalar.indexCast v497
  let c56_i32 : BitVec 32 := 56#32
  let c1_i32_483 : BitVec 32 := 1#32
  let arg19 : BitVec 32 := Scf.iv c56_i32 c1_i32_483 k0_t14
  let c32_i32_490 : BitVec 32 := 32#32
  let v580 : BitVec 32 := Scalar.muli arg19 c32_i32_490
  let v581 : BitVec 32 := v580
  let v753 : Index := Scalar.indexCast v581
  let c1792_550 : Index := 1792#32
  ![v752.toNat, v753.toNat, 1792]
def k0_off427 (k0_t14 : Fin k0_t14_loop.trips) : Fin 4 → Nat :=
  let c56_i32 : BitVec 32 := 56#32
  let c1_i32_483 : BitVec 32 := 1#32
  let arg19 : BitVec 32 := Scf.iv c56_i32 c1_i32_483 k0_t14
  let c4_i32_551 : BitVec 32 := 4#32
  let v759 : BitVec 32 := Scalar.muli arg19 c4_i32_551
  let v760 : Index := Scalar.indexCast v759
  let c14 : Index := 14#32
  let c0_552 : Index := 0#32
  let c0_553 : Index := 0#32
  ![v760.toNat, 14, 0, 0]
def k0_off428 (k0_t4 : Fin k0_t4_loop.trips) (k0_t14 : Fin k0_t14_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v764 : Index := Scalar.indexCast v497
  let c56_i32 : BitVec 32 := 56#32
  let c1_i32_483 : BitVec 32 := 1#32
  let arg19 : BitVec 32 := Scf.iv c56_i32 c1_i32_483 k0_t14
  let c32_i32_490 : BitVec 32 := 32#32
  let v580 : BitVec 32 := Scalar.muli arg19 c32_i32_490
  let v581 : BitVec 32 := v580
  let v765 : Index := Scalar.indexCast v581
  let c1920_554 : Index := 1920#32
  ![v764.toNat, v765.toNat, 1920]
def k0_off429 (k0_t14 : Fin k0_t14_loop.trips) : Fin 4 → Nat :=
  let c56_i32 : BitVec 32 := 56#32
  let c1_i32_483 : BitVec 32 := 1#32
  let arg19 : BitVec 32 := Scf.iv c56_i32 c1_i32_483 k0_t14
  let c4_i32_555 : BitVec 32 := 4#32
  let v771 : BitVec 32 := Scalar.muli arg19 c4_i32_555
  let v772 : Index := Scalar.indexCast v771
  let c15 : Index := 15#32
  let c0_556 : Index := 0#32
  let c0_557 : Index := 0#32
  ![v772.toNat, 15, 0, 0]
def k0_off430 (k0_t4 : Fin k0_t4_loop.trips) (k0_t14 : Fin k0_t14_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v776 : Index := Scalar.indexCast v497
  let c56_i32 : BitVec 32 := 56#32
  let c1_i32_483 : BitVec 32 := 1#32
  let arg19 : BitVec 32 := Scf.iv c56_i32 c1_i32_483 k0_t14
  let c32_i32_490 : BitVec 32 := 32#32
  let v580 : BitVec 32 := Scalar.muli arg19 c32_i32_490
  let v581 : BitVec 32 := v580
  let v777 : Index := Scalar.indexCast v581
  let c2048 : Index := 2048#32
  ![v776.toNat, v777.toNat, 2048]
def k0_off431 (k0_t14 : Fin k0_t14_loop.trips) : Fin 4 → Nat :=
  let c56_i32 : BitVec 32 := 56#32
  let c1_i32_483 : BitVec 32 := 1#32
  let arg19 : BitVec 32 := Scf.iv c56_i32 c1_i32_483 k0_t14
  let c4_i32_558 : BitVec 32 := 4#32
  let v783 : BitVec 32 := Scalar.muli arg19 c4_i32_558
  let v784 : Index := Scalar.indexCast v783
  let c16_559 : Index := 16#32
  let c0_560 : Index := 0#32
  let c0_561 : Index := 0#32
  ![v784.toNat, 16, 0, 0]
def k0_off432 (k0_t4 : Fin k0_t4_loop.trips) (k0_t14 : Fin k0_t14_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v788 : Index := Scalar.indexCast v497
  let c56_i32 : BitVec 32 := 56#32
  let c1_i32_483 : BitVec 32 := 1#32
  let arg19 : BitVec 32 := Scf.iv c56_i32 c1_i32_483 k0_t14
  let c32_i32_490 : BitVec 32 := 32#32
  let v580 : BitVec 32 := Scalar.muli arg19 c32_i32_490
  let v581 : BitVec 32 := v580
  let v789 : Index := Scalar.indexCast v581
  let c2176 : Index := 2176#32
  ![v788.toNat, v789.toNat, 2176]
def k0_off433 (k0_t14 : Fin k0_t14_loop.trips) : Fin 4 → Nat :=
  let c56_i32 : BitVec 32 := 56#32
  let c1_i32_483 : BitVec 32 := 1#32
  let arg19 : BitVec 32 := Scf.iv c56_i32 c1_i32_483 k0_t14
  let c4_i32_562 : BitVec 32 := 4#32
  let v795 : BitVec 32 := Scalar.muli arg19 c4_i32_562
  let v796 : Index := Scalar.indexCast v795
  let c17 : Index := 17#32
  let c0_563 : Index := 0#32
  let c0_564 : Index := 0#32
  ![v796.toNat, 17, 0, 0]
def k0_off434 (k0_t4 : Fin k0_t4_loop.trips) (k0_t14 : Fin k0_t14_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v800 : Index := Scalar.indexCast v497
  let c56_i32 : BitVec 32 := 56#32
  let c1_i32_483 : BitVec 32 := 1#32
  let arg19 : BitVec 32 := Scf.iv c56_i32 c1_i32_483 k0_t14
  let c32_i32_490 : BitVec 32 := 32#32
  let v580 : BitVec 32 := Scalar.muli arg19 c32_i32_490
  let v581 : BitVec 32 := v580
  let v801 : Index := Scalar.indexCast v581
  let c2304 : Index := 2304#32
  ![v800.toNat, v801.toNat, 2304]
def k0_off435 (k0_t14 : Fin k0_t14_loop.trips) : Fin 4 → Nat :=
  let c56_i32 : BitVec 32 := 56#32
  let c1_i32_483 : BitVec 32 := 1#32
  let arg19 : BitVec 32 := Scf.iv c56_i32 c1_i32_483 k0_t14
  let c4_i32_565 : BitVec 32 := 4#32
  let v807 : BitVec 32 := Scalar.muli arg19 c4_i32_565
  let v808 : Index := Scalar.indexCast v807
  let c18 : Index := 18#32
  let c0_566 : Index := 0#32
  let c0_567 : Index := 0#32
  ![v808.toNat, 18, 0, 0]
def k0_off436 (k0_t4 : Fin k0_t4_loop.trips) (k0_t14 : Fin k0_t14_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v812 : Index := Scalar.indexCast v497
  let c56_i32 : BitVec 32 := 56#32
  let c1_i32_483 : BitVec 32 := 1#32
  let arg19 : BitVec 32 := Scf.iv c56_i32 c1_i32_483 k0_t14
  let c32_i32_490 : BitVec 32 := 32#32
  let v580 : BitVec 32 := Scalar.muli arg19 c32_i32_490
  let v581 : BitVec 32 := v580
  let v813 : Index := Scalar.indexCast v581
  let c2432 : Index := 2432#32
  ![v812.toNat, v813.toNat, 2432]
def k0_off437 (k0_t14 : Fin k0_t14_loop.trips) : Fin 4 → Nat :=
  let c56_i32 : BitVec 32 := 56#32
  let c1_i32_483 : BitVec 32 := 1#32
  let arg19 : BitVec 32 := Scf.iv c56_i32 c1_i32_483 k0_t14
  let c4_i32_568 : BitVec 32 := 4#32
  let v819 : BitVec 32 := Scalar.muli arg19 c4_i32_568
  let v820 : Index := Scalar.indexCast v819
  let c19 : Index := 19#32
  let c0_569 : Index := 0#32
  let c0_570 : Index := 0#32
  ![v820.toNat, 19, 0, 0]
def k0_off438 (k0_t4 : Fin k0_t4_loop.trips) (k0_t14 : Fin k0_t14_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v824 : Index := Scalar.indexCast v497
  let c56_i32 : BitVec 32 := 56#32
  let c1_i32_483 : BitVec 32 := 1#32
  let arg19 : BitVec 32 := Scf.iv c56_i32 c1_i32_483 k0_t14
  let c32_i32_490 : BitVec 32 := 32#32
  let v580 : BitVec 32 := Scalar.muli arg19 c32_i32_490
  let v581 : BitVec 32 := v580
  let v825 : Index := Scalar.indexCast v581
  let c2560 : Index := 2560#32
  ![v824.toNat, v825.toNat, 2560]
def k0_off439 (k0_t14 : Fin k0_t14_loop.trips) : Fin 4 → Nat :=
  let c56_i32 : BitVec 32 := 56#32
  let c1_i32_483 : BitVec 32 := 1#32
  let arg19 : BitVec 32 := Scf.iv c56_i32 c1_i32_483 k0_t14
  let c4_i32_571 : BitVec 32 := 4#32
  let v831 : BitVec 32 := Scalar.muli arg19 c4_i32_571
  let v832 : Index := Scalar.indexCast v831
  let c20 : Index := 20#32
  let c0_572 : Index := 0#32
  let c0_573 : Index := 0#32
  ![v832.toNat, 20, 0, 0]
def k0_off440 (k0_t4 : Fin k0_t4_loop.trips) (k0_t14 : Fin k0_t14_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v836 : Index := Scalar.indexCast v497
  let c56_i32 : BitVec 32 := 56#32
  let c1_i32_483 : BitVec 32 := 1#32
  let arg19 : BitVec 32 := Scf.iv c56_i32 c1_i32_483 k0_t14
  let c32_i32_490 : BitVec 32 := 32#32
  let v580 : BitVec 32 := Scalar.muli arg19 c32_i32_490
  let v581 : BitVec 32 := v580
  let v837 : Index := Scalar.indexCast v581
  let c2688 : Index := 2688#32
  ![v836.toNat, v837.toNat, 2688]
def k0_off441 (k0_t14 : Fin k0_t14_loop.trips) : Fin 4 → Nat :=
  let c56_i32 : BitVec 32 := 56#32
  let c1_i32_483 : BitVec 32 := 1#32
  let arg19 : BitVec 32 := Scf.iv c56_i32 c1_i32_483 k0_t14
  let c4_i32_574 : BitVec 32 := 4#32
  let v843 : BitVec 32 := Scalar.muli arg19 c4_i32_574
  let v844 : Index := Scalar.indexCast v843
  let c21 : Index := 21#32
  let c0_575 : Index := 0#32
  let c0_576 : Index := 0#32
  ![v844.toNat, 21, 0, 0]
def k0_off442 (k0_t4 : Fin k0_t4_loop.trips) (k0_t14 : Fin k0_t14_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v848 : Index := Scalar.indexCast v497
  let c56_i32 : BitVec 32 := 56#32
  let c1_i32_483 : BitVec 32 := 1#32
  let arg19 : BitVec 32 := Scf.iv c56_i32 c1_i32_483 k0_t14
  let c32_i32_490 : BitVec 32 := 32#32
  let v580 : BitVec 32 := Scalar.muli arg19 c32_i32_490
  let v581 : BitVec 32 := v580
  let v849 : Index := Scalar.indexCast v581
  let c2816 : Index := 2816#32
  ![v848.toNat, v849.toNat, 2816]
def k0_off443 (k0_t14 : Fin k0_t14_loop.trips) : Fin 4 → Nat :=
  let c56_i32 : BitVec 32 := 56#32
  let c1_i32_483 : BitVec 32 := 1#32
  let arg19 : BitVec 32 := Scf.iv c56_i32 c1_i32_483 k0_t14
  let c4_i32_577 : BitVec 32 := 4#32
  let v855 : BitVec 32 := Scalar.muli arg19 c4_i32_577
  let v856 : Index := Scalar.indexCast v855
  let c22 : Index := 22#32
  let c0_578 : Index := 0#32
  let c0_579 : Index := 0#32
  ![v856.toNat, 22, 0, 0]
def k0_off444 (k0_t4 : Fin k0_t4_loop.trips) (k0_t14 : Fin k0_t14_loop.trips) : Fin 3 → Nat :=
  let c0_i32_379 : BitVec 32 := 0#32
  let c1_i32_381 : BitVec 32 := 1#32
  let arg18 : BitVec 32 := Scf.iv c0_i32_379 c1_i32_381 k0_t4
  let c2_i32_401 : BitVec 32 := 2#32
  let v497 : BitVec 32 := Scalar.remsi arg18 c2_i32_401
  let v860 : Index := Scalar.indexCast v497
  let c56_i32 : BitVec 32 := 56#32
  let c1_i32_483 : BitVec 32 := 1#32
  let arg19 : BitVec 32 := Scf.iv c56_i32 c1_i32_483 k0_t14
  let c32_i32_490 : BitVec 32 := 32#32
  let v580 : BitVec 32 := Scalar.muli arg19 c32_i32_490
  let v581 : BitVec 32 := v580
  let v861 : Index := Scalar.indexCast v581
  let c2944 : Index := 2944#32
  ![v860.toNat, v861.toNat, 2944]
def k0_off445 (k0_t14 : Fin k0_t14_loop.trips) : Fin 4 → Nat :=
  let c56_i32 : BitVec 32 := 56#32
  let c1_i32_483 : BitVec 32 := 1#32
  let arg19 : BitVec 32 := Scf.iv c56_i32 c1_i32_483 k0_t14
  let c4_i32_580 : BitVec 32 := 4#32
  let v867 : BitVec 32 := Scalar.muli arg19 c4_i32_580
  let v868 : Index := Scalar.indexCast v867
  let c23 : Index := 23#32
  let c0_581 : Index := 0#32
  let c0_582 : Index := 0#32
  ![v868.toNat, 23, 0, 0]
@[reducible] def k0_t15_loop (v49_0 : BitVec 32) : Scf.Loop 32 :=
  let c0_i32_485 : BitVec 32 := 0#32
  let c64_i32 : BitVec 32 := 64#32
  let v50 : BitVec 32 := Scalar.addi v49_0 c64_i32
  let c1_i32_52 : BitVec 32 := 1#32
  let v51 : BitVec 32 := Scalar.subi v50 c1_i32_52
  let c0_i32_54 : BitVec 32 := 0#32
  let v53 : BitVec 1 := Scalar.cmpi .sgt v51 c0_i32_54
  let v54 : BitVec 32 := Scalar.extui v53
  let c0_i32_55 : BitVec 32 := 0#32
  let v55 : BitVec 1 := Scalar.cmpi .slt v51 c0_i32_55
  let v56 : BitVec 32 := Scalar.extui v55
  let v57 : BitVec 32 := Scalar.subi v54 v56
  let c64_i32_53 : BitVec 32 := 64#32
  let c0_i32_56 : BitVec 32 := 0#32
  let v58 : BitVec 1 := Scalar.cmpi .sgt c64_i32_53 c0_i32_56
  let v59 : BitVec 32 := Scalar.extui v58
  let c0_i32_57 : BitVec 32 := 0#32
  let v60 : BitVec 1 := Scalar.cmpi .slt c64_i32_53 c0_i32_57
  let v61 : BitVec 32 := Scalar.extui v60
  let v62 : BitVec 32 := Scalar.subi v59 v61
  let v63 : BitVec 1 := Scalar.cmpi .ne v57 v62
  let v64 : BitVec 32 := Scalar.remsi v51 c64_i32_53
  let c0_i32_58 : BitVec 32 := 0#32
  let v65 : BitVec 1 := Scalar.cmpi .ne v64 c0_i32_58
  let v66 : BitVec 1 := Scalar.andi v63 v65
  let v52 : BitVec 32 := Scalar.divsi v51 c64_i32_53
  let c1_i32_59 : BitVec 32 := 1#32
  let v67 : BitVec 32 := Scalar.subi v52 c1_i32_59
  let v68 : BitVec 32 := Scalar.select v66 v67 v52
  let v573 : BitVec 32 := Scalar.subi v68 c0_i32_485
  let c1_i32_487 : BitVec 32 := 1#32
  let v575 : BitVec 32 := Scalar.divsi v573 c1_i32_487
  let v576 : BitVec 32 := Scalar.muli v575 c1_i32_487
  let v577 : BitVec 32 := Scalar.addi c0_i32_485 v576
  let c1_i32_488 : BitVec 32 := 1#32
  ⟨c0_i32_485, v577, c1_i32_488⟩
def k0_off446 (v49_0 : BitVec 32) (k0_t4 : Fin k0_t4_loop.trips) (k0_t15 : Fin (k0_t15_loop v49_0).trips) : Fin 1 → Nat :=
  let c0_i32_379 : BitVec 32 := 0#32
  let c1_i32_381 : BitVec 32 := 1#32
  let arg18 : BitVec 32 := Scf.iv c0_i32_379 c1_i32_381 k0_t4
  let c64_i32 : BitVec 32 := 64#32
  let v50 : BitVec 32 := Scalar.addi v49_0 c64_i32
  let c1_i32_52 : BitVec 32 := 1#32
  let v51 : BitVec 32 := Scalar.subi v50 c1_i32_52
  let c0_i32_54 : BitVec 32 := 0#32
  let v53 : BitVec 1 := Scalar.cmpi .sgt v51 c0_i32_54
  let v54 : BitVec 32 := Scalar.extui v53
  let c0_i32_55 : BitVec 32 := 0#32
  let v55 : BitVec 1 := Scalar.cmpi .slt v51 c0_i32_55
  let v56 : BitVec 32 := Scalar.extui v55
  let v57 : BitVec 32 := Scalar.subi v54 v56
  let c64_i32_53 : BitVec 32 := 64#32
  let c0_i32_56 : BitVec 32 := 0#32
  let v58 : BitVec 1 := Scalar.cmpi .sgt c64_i32_53 c0_i32_56
  let v59 : BitVec 32 := Scalar.extui v58
  let c0_i32_57 : BitVec 32 := 0#32
  let v60 : BitVec 1 := Scalar.cmpi .slt c64_i32_53 c0_i32_57
  let v61 : BitVec 32 := Scalar.extui v60
  let v62 : BitVec 32 := Scalar.subi v59 v61
  let v63 : BitVec 1 := Scalar.cmpi .ne v57 v62
  let v64 : BitVec 32 := Scalar.remsi v51 c64_i32_53
  let c0_i32_58 : BitVec 32 := 0#32
  let v65 : BitVec 1 := Scalar.cmpi .ne v64 c0_i32_58
  let v66 : BitVec 1 := Scalar.andi v63 v65
  let v52 : BitVec 32 := Scalar.divsi v51 c64_i32_53
  let c1_i32_59 : BitVec 32 := 1#32
  let v67 : BitVec 32 := Scalar.subi v52 c1_i32_59
  let v68 : BitVec 32 := Scalar.select v66 v67 v52
  let v580 : BitVec 32 := Scalar.muli arg18 v68
  let c0_i32_485 : BitVec 32 := 0#32
  let c1_i32_488 : BitVec 32 := 1#32
  let arg19 : BitVec 32 := Scf.iv c0_i32_485 c1_i32_488 k0_t15
  let v581 : BitVec 32 := Scalar.addi v580 arg19
  let c4_i32_490 : BitVec 32 := 4#32
  let v582 : BitVec 32 := Scalar.remsi v581 c4_i32_490
  ![v582.toNat]
def k0_cond2 (v49_0 : BitVec 32) (k0_t4 : Fin k0_t4_loop.trips) (k0_t15 : Fin (k0_t15_loop v49_0).trips) : BitVec 1 :=
  let c0_i32_379 : BitVec 32 := 0#32
  let c1_i32_381 : BitVec 32 := 1#32
  let arg18 : BitVec 32 := Scf.iv c0_i32_379 c1_i32_381 k0_t4
  let c64_i32 : BitVec 32 := 64#32
  let v50 : BitVec 32 := Scalar.addi v49_0 c64_i32
  let c1_i32_52 : BitVec 32 := 1#32
  let v51 : BitVec 32 := Scalar.subi v50 c1_i32_52
  let c0_i32_54 : BitVec 32 := 0#32
  let v53 : BitVec 1 := Scalar.cmpi .sgt v51 c0_i32_54
  let v54 : BitVec 32 := Scalar.extui v53
  let c0_i32_55 : BitVec 32 := 0#32
  let v55 : BitVec 1 := Scalar.cmpi .slt v51 c0_i32_55
  let v56 : BitVec 32 := Scalar.extui v55
  let v57 : BitVec 32 := Scalar.subi v54 v56
  let c64_i32_53 : BitVec 32 := 64#32
  let c0_i32_56 : BitVec 32 := 0#32
  let v58 : BitVec 1 := Scalar.cmpi .sgt c64_i32_53 c0_i32_56
  let v59 : BitVec 32 := Scalar.extui v58
  let c0_i32_57 : BitVec 32 := 0#32
  let v60 : BitVec 1 := Scalar.cmpi .slt c64_i32_53 c0_i32_57
  let v61 : BitVec 32 := Scalar.extui v60
  let v62 : BitVec 32 := Scalar.subi v59 v61
  let v63 : BitVec 1 := Scalar.cmpi .ne v57 v62
  let v64 : BitVec 32 := Scalar.remsi v51 c64_i32_53
  let c0_i32_58 : BitVec 32 := 0#32
  let v65 : BitVec 1 := Scalar.cmpi .ne v64 c0_i32_58
  let v66 : BitVec 1 := Scalar.andi v63 v65
  let v52 : BitVec 32 := Scalar.divsi v51 c64_i32_53
  let c1_i32_59 : BitVec 32 := 1#32
  let v67 : BitVec 32 := Scalar.subi v52 c1_i32_59
  let v68 : BitVec 32 := Scalar.select v66 v67 v52
  let v580 : BitVec 32 := Scalar.muli arg18 v68
  let c0_i32_485 : BitVec 32 := 0#32
  let c1_i32_488 : BitVec 32 := 1#32
  let arg19 : BitVec 32 := Scf.iv c0_i32_485 c1_i32_488 k0_t15
  let v581 : BitVec 32 := Scalar.addi v580 arg19
  let c4_i32_491 : BitVec 32 := 4#32
  let v583 : BitVec 1 := Scalar.cmpi .sge v581 c4_i32_491
  let v584 : BitVec 32 := Scalar.extui v583
  let c0_i32_492 : BitVec 32 := 0#32
  let v585 : BitVec 1 := Scalar.cmpi .ne v584 c0_i32_492
  v585

def k0_off447 (v49_0 : BitVec 32) (k0_t4 : Fin k0_t4_loop.trips) (k0_t15 : Fin (k0_t15_loop v49_0).trips) : Fin 4 → Nat :=
  let c0_i32_485 : BitVec 32 := 0#32
  let c1_i32_488 : BitVec 32 := 1#32
  let arg19 : BitVec 32 := Scf.iv c0_i32_485 c1_i32_488 k0_t15
  let c8_i32_527 : BitVec 32 := 8#32
  let v641 : BitVec 32 := Scalar.muli arg19 c8_i32_527
  let c0_i32_379 : BitVec 32 := 0#32
  let c1_i32_381 : BitVec 32 := 1#32
  let arg18 : BitVec 32 := Scf.iv c0_i32_379 c1_i32_381 k0_t4
  let c24_i32_528 : BitVec 32 := 24#32
  let v642 : BitVec 32 := Scalar.muli arg18 c24_i32_528
  let c0_i32_529 : BitVec 32 := 0#32
  let c0_i32_530 : BitVec 32 := 0#32
  ![v641.toNat, v642.toNat, 0, 0]
def k0_off448 (v49_0 : BitVec 32) (k0_t4 : Fin k0_t4_loop.trips) (k0_t15 : Fin (k0_t15_loop v49_0).trips) : Fin 5 → Nat :=
  let c0_i32_379 : BitVec 32 := 0#32
  let c1_i32_381 : BitVec 32 := 1#32
  let arg18 : BitVec 32 := Scf.iv c0_i32_379 c1_i32_381 k0_t4
  let c64_i32 : BitVec 32 := 64#32
  let v50 : BitVec 32 := Scalar.addi v49_0 c64_i32
  let c1_i32_52 : BitVec 32 := 1#32
  let v51 : BitVec 32 := Scalar.subi v50 c1_i32_52
  let c0_i32_54 : BitVec 32 := 0#32
  let v53 : BitVec 1 := Scalar.cmpi .sgt v51 c0_i32_54
  let v54 : BitVec 32 := Scalar.extui v53
  let c0_i32_55 : BitVec 32 := 0#32
  let v55 : BitVec 1 := Scalar.cmpi .slt v51 c0_i32_55
  let v56 : BitVec 32 := Scalar.extui v55
  let v57 : BitVec 32 := Scalar.subi v54 v56
  let c64_i32_53 : BitVec 32 := 64#32
  let c0_i32_56 : BitVec 32 := 0#32
  let v58 : BitVec 1 := Scalar.cmpi .sgt c64_i32_53 c0_i32_56
  let v59 : BitVec 32 := Scalar.extui v58
  let c0_i32_57 : BitVec 32 := 0#32
  let v60 : BitVec 1 := Scalar.cmpi .slt c64_i32_53 c0_i32_57
  let v61 : BitVec 32 := Scalar.extui v60
  let v62 : BitVec 32 := Scalar.subi v59 v61
  let v63 : BitVec 1 := Scalar.cmpi .ne v57 v62
  let v64 : BitVec 32 := Scalar.remsi v51 c64_i32_53
  let c0_i32_58 : BitVec 32 := 0#32
  let v65 : BitVec 1 := Scalar.cmpi .ne v64 c0_i32_58
  let v66 : BitVec 1 := Scalar.andi v63 v65
  let v52 : BitVec 32 := Scalar.divsi v51 c64_i32_53
  let c1_i32_59 : BitVec 32 := 1#32
  let v67 : BitVec 32 := Scalar.subi v52 c1_i32_59
  let v68 : BitVec 32 := Scalar.select v66 v67 v52
  let v580 : BitVec 32 := Scalar.muli arg18 v68
  let c0_i32_485 : BitVec 32 := 0#32
  let c1_i32_488 : BitVec 32 := 1#32
  let arg19 : BitVec 32 := Scf.iv c0_i32_485 c1_i32_488 k0_t15
  let v581 : BitVec 32 := Scalar.addi v580 arg19
  let c4_i32_490 : BitVec 32 := 4#32
  let v582 : BitVec 32 := Scalar.remsi v581 c4_i32_490
  let c0_i32_531 : BitVec 32 := 0#32
  let c0_i32_532 : BitVec 32 := 0#32
  let c0_i32_533 : BitVec 32 := 0#32
  let c0_i32_534 : BitVec 32 := 0#32
  ![v582.toNat, 0, 0, 0, 0]
def k0_off449 (v49_0 : BitVec 32) (k0_t4 : Fin k0_t4_loop.trips) (k0_t15 : Fin (k0_t15_loop v49_0).trips) : Fin 5 → Nat :=
  let c0_i32_379 : BitVec 32 := 0#32
  let c1_i32_381 : BitVec 32 := 1#32
  let arg18 : BitVec 32 := Scf.iv c0_i32_379 c1_i32_381 k0_t4
  let c64_i32 : BitVec 32 := 64#32
  let v50 : BitVec 32 := Scalar.addi v49_0 c64_i32
  let c1_i32_52 : BitVec 32 := 1#32
  let v51 : BitVec 32 := Scalar.subi v50 c1_i32_52
  let c0_i32_54 : BitVec 32 := 0#32
  let v53 : BitVec 1 := Scalar.cmpi .sgt v51 c0_i32_54
  let v54 : BitVec 32 := Scalar.extui v53
  let c0_i32_55 : BitVec 32 := 0#32
  let v55 : BitVec 1 := Scalar.cmpi .slt v51 c0_i32_55
  let v56 : BitVec 32 := Scalar.extui v55
  let v57 : BitVec 32 := Scalar.subi v54 v56
  let c64_i32_53 : BitVec 32 := 64#32
  let c0_i32_56 : BitVec 32 := 0#32
  let v58 : BitVec 1 := Scalar.cmpi .sgt c64_i32_53 c0_i32_56
  let v59 : BitVec 32 := Scalar.extui v58
  let c0_i32_57 : BitVec 32 := 0#32
  let v60 : BitVec 1 := Scalar.cmpi .slt c64_i32_53 c0_i32_57
  let v61 : BitVec 32 := Scalar.extui v60
  let v62 : BitVec 32 := Scalar.subi v59 v61
  let v63 : BitVec 1 := Scalar.cmpi .ne v57 v62
  let v64 : BitVec 32 := Scalar.remsi v51 c64_i32_53
  let c0_i32_58 : BitVec 32 := 0#32
  let v65 : BitVec 1 := Scalar.cmpi .ne v64 c0_i32_58
  let v66 : BitVec 1 := Scalar.andi v63 v65
  let v52 : BitVec 32 := Scalar.divsi v51 c64_i32_53
  let c1_i32_59 : BitVec 32 := 1#32
  let v67 : BitVec 32 := Scalar.subi v52 c1_i32_59
  let v68 : BitVec 32 := Scalar.select v66 v67 v52
  let v580 : BitVec 32 := Scalar.muli arg18 v68
  let c0_i32_485 : BitVec 32 := 0#32
  let c1_i32_488 : BitVec 32 := 1#32
  let arg19 : BitVec 32 := Scf.iv c0_i32_485 c1_i32_488 k0_t15
  let v581 : BitVec 32 := Scalar.addi v580 arg19
  let c4_i32_490 : BitVec 32 := 4#32
  let v582 : BitVec 32 := Scalar.remsi v581 c4_i32_490
  let v642 : Index := Scalar.indexCast v582
  let c0_528 : Index := 0#32
  let c0_529 : Index := 0#32
  let c0_530 : Index := 0#32
  let c0_531 : Index := 0#32
  ![v642.toNat, 0, 0, 0, 0]
def k0_cond3 (v49_0 : BitVec 32) (k0_t15 : Fin (k0_t15_loop v49_0).trips) : BitVec 1 :=
  let c0_i32_485 : BitVec 32 := 0#32
  let c1_i32_488 : BitVec 32 := 1#32
  let arg19 : BitVec 32 := Scf.iv c0_i32_485 c1_i32_488 k0_t15
  let c1_i32_493 : BitVec 32 := 1#32
  let v586 : BitVec 32 := Scalar.addi arg19 c1_i32_493
  let c64_i32_494 : BitVec 32 := 64#32
  let v587 : BitVec 32 := Scalar.muli v586 c64_i32_494
  let v588 : BitVec 1 := Scalar.cmpi .sgt v587 v49_0
  let v589 : BitVec 32 := Scalar.extui v588
  let c0_i32_495 : BitVec 32 := 0#32
  let v590 : BitVec 1 := Scalar.cmpi .ne v589 c0_i32_495
  v590

def k0_off450 (v49_0 : BitVec 32) (k0_t15 : Fin (k0_t15_loop v49_0).trips) : Fin 1 → Nat :=
  let c0_i32_485 : BitVec 32 := 0#32
  let c1_i32_488 : BitVec 32 := 1#32
  let arg19 : BitVec 32 := Scf.iv c0_i32_485 c1_i32_488 k0_t15
  let c64_i32_496 : BitVec 32 := 64#32
  let v591 : BitVec 32 := Scalar.muli arg19 c64_i32_496
  let v592 : Index := Scalar.indexCast v591
  ![v592.toNat]
def k0_off451 (v49_0 : BitVec 32) (k0_t15 : Fin (k0_t15_loop v49_0).trips) : Fin 1 → Nat :=
  let c0_i32_485 : BitVec 32 := 0#32
  let c1_i32_488 : BitVec 32 := 1#32
  let arg19 : BitVec 32 := Scf.iv c0_i32_485 c1_i32_488 k0_t15
  let c1_i32_500 : BitVec 32 := 1#32
  let v598 : BitVec 32 := Scalar.addi arg19 c1_i32_500
  let c64_i32_501 : BitVec 32 := 64#32
  let v599 : BitVec 32 := Scalar.muli v598 c64_i32_501
  let c2048_i32_502 : BitVec 32 := 2048#32
  let v600 : BitVec 32 := Scalar.minsi v599 c2048_i32_502
  let v601 : Index := Scalar.indexCast v600
  ![v601.toNat]
@[reducible] def k0_t16_loop (v49_0 : BitVec 32) (v370 : BitVec 32) (k0_t15 : Fin (k0_t15_loop v49_0).trips) (v593 : BitVec 32) (v602 : BitVec 32) : Scf.Loop 32 :=
  let c0_i32_514 : BitVec 32 := 0#32
  let c0_i32_485 : BitVec 32 := 0#32
  let c1_i32_488 : BitVec 32 := 1#32
  let arg19 : BitVec 32 := Scf.iv c0_i32_485 c1_i32_488 k0_t15
  let c0_i32_497 : BitVec 32 := 0#32
  let v594 : BitVec 1 := Scalar.cmpi .eq arg19 c0_i32_497
  let c1_i32_498 : BitVec 32 := 1#32
  let v595 : BitVec 32 := Scalar.subi v370 c1_i32_498
  let c0_i32_499 : BitVec 32 := 0#32
  let v596 : BitVec 32 := Scalar.select v594 v595 c0_i32_499
  let v597 : BitVec 32 := Scalar.maxsi v593 v596
  let v607 : BitVec 32 := Scalar.subi v602 v597
  let c8_i32_505 : BitVec 32 := 8#32
  let v608 : BitVec 32 := Scalar.addi v607 c8_i32_505
  let c1_i32_506 : BitVec 32 := 1#32
  let v609 : BitVec 32 := Scalar.subi v608 c1_i32_506
  let c0_i32_508 : BitVec 32 := 0#32
  let v611 : BitVec 1 := Scalar.cmpi .sgt v609 c0_i32_508
  let v612 : BitVec 32 := Scalar.extui v611
  let c0_i32_509 : BitVec 32 := 0#32
  let v613 : BitVec 1 := Scalar.cmpi .slt v609 c0_i32_509
  let v614 : BitVec 32 := Scalar.extui v613
  let v615 : BitVec 32 := Scalar.subi v612 v614
  let c8_i32_507 : BitVec 32 := 8#32
  let c0_i32_510 : BitVec 32 := 0#32
  let v616 : BitVec 1 := Scalar.cmpi .sgt c8_i32_507 c0_i32_510
  let v617 : BitVec 32 := Scalar.extui v616
  let c0_i32_511 : BitVec 32 := 0#32
  let v618 : BitVec 1 := Scalar.cmpi .slt c8_i32_507 c0_i32_511
  let v619 : BitVec 32 := Scalar.extui v618
  let v620 : BitVec 32 := Scalar.subi v617 v619
  let v621 : BitVec 1 := Scalar.cmpi .ne v615 v620
  let v622 : BitVec 32 := Scalar.remsi v609 c8_i32_507
  let c0_i32_512 : BitVec 32 := 0#32
  let v623 : BitVec 1 := Scalar.cmpi .ne v622 c0_i32_512
  let v624 : BitVec 1 := Scalar.andi v621 v623
  let v610 : BitVec 32 := Scalar.divsi v609 c8_i32_507
  let c1_i32_513 : BitVec 32 := 1#32
  let v625 : BitVec 32 := Scalar.subi v610 c1_i32_513
  let v626 : BitVec 32 := Scalar.select v624 v625 v610
  let v627 : BitVec 32 := Scalar.subi v626 c0_i32_514
  let c1_i32_515 : BitVec 32 := 1#32
  let v629 : BitVec 32 := Scalar.divsi v627 c1_i32_515
  let v630 : BitVec 32 := Scalar.muli v629 c1_i32_515
  let v631 : BitVec 32 := Scalar.addi c0_i32_514 v630
  let c1_i32_516 : BitVec 32 := 1#32
  ⟨c0_i32_514, v631, c1_i32_516⟩

def k0_off452 (v49_0 : BitVec 32) (v370 : BitVec 32) (k0_t15 : Fin (k0_t15_loop v49_0).trips) (v593 : BitVec 32) (v602 : BitVec 32) (k0_t16 : Fin (k0_t16_loop v49_0 v370 k0_t15 v593 v602).trips) : Fin 1 → Nat :=
  let c0_i32_485 : BitVec 32 := 0#32
  let c1_i32_488 : BitVec 32 := 1#32
  let arg19 : BitVec 32 := Scf.iv c0_i32_485 c1_i32_488 k0_t15
  let c0_i32_497 : BitVec 32 := 0#32
  let v594 : BitVec 1 := Scalar.cmpi .eq arg19 c0_i32_497
  let c1_i32_498 : BitVec 32 := 1#32
  let v595 : BitVec 32 := Scalar.subi v370 c1_i32_498
  let c0_i32_499 : BitVec 32 := 0#32
  let v596 : BitVec 32 := Scalar.select v594 v595 c0_i32_499
  let v597 : BitVec 32 := Scalar.maxsi v593 v596
  let c0_i32_514 : BitVec 32 := 0#32
  let c1_i32_516 : BitVec 32 := 1#32
  let arg21 : BitVec 32 := Scf.iv c0_i32_514 c1_i32_516 k0_t16
  let c8_i32_527 : BitVec 32 := 8#32
  let v641 : BitVec 32 := Scalar.muli arg21 c8_i32_527
  let v642 : BitVec 32 := Scalar.addi v597 v641
  let c0_i32_528 : BitVec 32 := 0#32
  let v643 : BitVec 32 := Scalar.addi v642 c0_i32_528
  let v644 : Index := Scalar.indexCast v643
  ![v644.toNat]
def k0_off453 (v645 : BitVec 32) : Fin 2 → Nat :=
  let c65535_i32 : BitVec 32 := 65535#32
  let v646 : BitVec 32 := Scalar.andi v645 c65535_i32
  let c0_i32_530 : BitVec 32 := 0#32
  let v652 : BitVec 32 := Scalar.addi v646 c0_i32_530
  let v654 : Index := Scalar.indexCast v652
  let c0_531 : Index := 0#32
  ![v654.toNat, 0]

def k0_off454 (v49_0 : BitVec 32) (k0_t4 : Fin k0_t4_loop.trips) (k0_t15 : Fin (k0_t15_loop v49_0).trips) (v650 : BitVec 32) (c0_i32_534 : BitVec 32) : Fin 2 → Nat :=
  let c0_i32_379 : BitVec 32 := 0#32
  let c1_i32_381 : BitVec 32 := 1#32
  let arg18 : BitVec 32 := Scf.iv c0_i32_379 c1_i32_381 k0_t4
  let c64_i32 : BitVec 32 := 64#32
  let v50 : BitVec 32 := Scalar.addi v49_0 c64_i32
  let c1_i32_52 : BitVec 32 := 1#32
  let v51 : BitVec 32 := Scalar.subi v50 c1_i32_52
  let c0_i32_54 : BitVec 32 := 0#32
  let v53 : BitVec 1 := Scalar.cmpi .sgt v51 c0_i32_54
  let v54 : BitVec 32 := Scalar.extui v53
  let c0_i32_55 : BitVec 32 := 0#32
  let v55 : BitVec 1 := Scalar.cmpi .slt v51 c0_i32_55
  let v56 : BitVec 32 := Scalar.extui v55
  let v57 : BitVec 32 := Scalar.subi v54 v56
  let c64_i32_53 : BitVec 32 := 64#32
  let c0_i32_56 : BitVec 32 := 0#32
  let v58 : BitVec 1 := Scalar.cmpi .sgt c64_i32_53 c0_i32_56
  let v59 : BitVec 32 := Scalar.extui v58
  let c0_i32_57 : BitVec 32 := 0#32
  let v60 : BitVec 1 := Scalar.cmpi .slt c64_i32_53 c0_i32_57
  let v61 : BitVec 32 := Scalar.extui v60
  let v62 : BitVec 32 := Scalar.subi v59 v61
  let v63 : BitVec 1 := Scalar.cmpi .ne v57 v62
  let v64 : BitVec 32 := Scalar.remsi v51 c64_i32_53
  let c0_i32_58 : BitVec 32 := 0#32
  let v65 : BitVec 1 := Scalar.cmpi .ne v64 c0_i32_58
  let v66 : BitVec 1 := Scalar.andi v63 v65
  let v52 : BitVec 32 := Scalar.divsi v51 c64_i32_53
  let c1_i32_59 : BitVec 32 := 1#32
  let v67 : BitVec 32 := Scalar.subi v52 c1_i32_59
  let v68 : BitVec 32 := Scalar.select v66 v67 v52
  let v580 : BitVec 32 := Scalar.muli arg18 v68
  let c0_i32_485 : BitVec 32 := 0#32
  let c1_i32_488 : BitVec 32 := 1#32
  let arg19 : BitVec 32 := Scf.iv c0_i32_485 c1_i32_488 k0_t15
  let v581 : BitVec 32 := Scalar.addi v580 arg19
  let c4_i32_490 : BitVec 32 := 4#32
  let v582 : BitVec 32 := Scalar.remsi v581 c4_i32_490
  let c1728_i32 : BitVec 32 := 1728#32
  let v603 : BitVec 32 := Scalar.muli v582 c1728_i32
  let c1536_i32_503 : BitVec 32 := 1536#32
  let v604 : BitVec 32 := Scalar.muli arg19 c1536_i32_503
  let v605 : BitVec 32 := Scalar.subi v603 v604
  let v651 : BitVec 32 := Scalar.addi v650 v605
  let v660 : BitVec 32 := Scalar.addi v651 c0_i32_534
  let v662 : Index := Scalar.indexCast v660
  let c0_535 : Index := 0#32
  ![v662.toNat, 0]

def k0_chk5 (v49_0 : BitVec 32) (k0_t4 : Fin k0_t4_loop.trips) (k0_t15 : Fin (k0_t15_loop v49_0).trips) (v650 : BitVec 32) : Prop :=
  (∀ (r : Fin 3), ∀ a, S8x128.size a = 0 ∨ (k0_off454 v49_0 k0_t4 k0_t15 v650 (BitVec.ofNat 32 (64 * r.val))) a + (![8, 1] : Fin 2 → Nat) a * (S8x128.size a - 1) < S6912x128.size a)
theorem k0_off454_inb : ∀ (v49_0 : BitVec 32) (k0_t4 : Fin k0_t4_loop.trips) (k0_t15 : Fin (k0_t15_loop v49_0).trips) (v650 : BitVec 32) (k0_hw5 : k0_chk5 v49_0 k0_t4 k0_t15 v650), ∀ (r : Fin 3), ∀ a, S8x128.size a = 0 ∨ (k0_off454 v49_0 k0_t4 k0_t15 v650 (BitVec.ofNat 32 (64 * r.val))) a + (![8, 1] : Fin 2 → Nat) a * (S8x128.size a - 1) < S6912x128.size a := fun v49_0 k0_t4 k0_t15 v650 k0_hw5 r => k0_hw5 r

def k0_off455 (v645 : BitVec 32) (c64_i32_536 : BitVec 32) : Fin 2 → Nat :=
  let c65535_i32 : BitVec 32 := 65535#32
  let v646 : BitVec 32 := Scalar.andi v645 c65535_i32
  let v666 : BitVec 32 := Scalar.addi v646 c64_i32_536
  let v668 : Index := Scalar.indexCast v666
  let c0_537 : Index := 0#32
  ![v668.toNat, 0]

def k0_chk4 (v645 : BitVec 32) : Prop :=
  (∀ a, S8x128.size a = 0 ∨ (k0_off453 v645) a + (![8, 1] : Fin 2 → Nat) a * (S8x128.size a - 1) < S49152x128.size a) ∧
  (∀ (r : Fin 2), ∀ a, S8x128.size a = 0 ∨ (k0_off455 v645 (BitVec.ofNat 32 (64 + 64 * r.val))) a + (![8, 1] : Fin 2 → Nat) a * (S8x128.size a - 1) < S49152x128.size a)
theorem k0_off453_inb : ∀ (v645 : BitVec 32) (k0_hw4 : k0_chk4 v645), ∀ a, S8x128.size a = 0 ∨ (k0_off453 v645) a + (![8, 1] : Fin 2 → Nat) a * (S8x128.size a - 1) < S49152x128.size a := fun v645 k0_hw4 => k0_hw4.1
theorem k0_off455_inb : ∀ (v645 : BitVec 32) (k0_hw4 : k0_chk4 v645), ∀ (r : Fin 2), ∀ a, S8x128.size a = 0 ∨ (k0_off455 v645 (BitVec.ofNat 32 (64 + 64 * r.val))) a + (![8, 1] : Fin 2 → Nat) a * (S8x128.size a - 1) < S49152x128.size a := fun v645 k0_hw4 r => k0_hw4.2 r

def k0_off456 (v49_0 : BitVec 32) (v370 : BitVec 32) (k0_t15 : Fin (k0_t15_loop v49_0).trips) (v593 : BitVec 32) (v602 : BitVec 32) (k0_t16 : Fin (k0_t16_loop v49_0 v370 k0_t15 v593 v602).trips) : Fin 1 → Nat :=
  let c0_i32_485 : BitVec 32 := 0#32
  let c1_i32_488 : BitVec 32 := 1#32
  let arg19 : BitVec 32 := Scf.iv c0_i32_485 c1_i32_488 k0_t15
  let c0_i32_497 : BitVec 32 := 0#32
  let v594 : BitVec 1 := Scalar.cmpi .eq arg19 c0_i32_497
  let c1_i32_498 : BitVec 32 := 1#32
  let v595 : BitVec 32 := Scalar.subi v370 c1_i32_498
  let c0_i32_499 : BitVec 32 := 0#32
  let v596 : BitVec 32 := Scalar.select v594 v595 c0_i32_499
  let v597 : BitVec 32 := Scalar.maxsi v593 v596
  let c0_i32_514 : BitVec 32 := 0#32
  let c1_i32_516 : BitVec 32 := 1#32
  let arg21 : BitVec 32 := Scf.iv c0_i32_514 c1_i32_516 k0_t16
  let c8_i32_527 : BitVec 32 := 8#32
  let v641 : BitVec 32 := Scalar.muli arg21 c8_i32_527
  let v642 : BitVec 32 := Scalar.addi v597 v641
  let c1_i32_548 : BitVec 32 := 1#32
  let v694 : BitVec 32 := Scalar.addi v642 c1_i32_548
  let v695 : Index := Scalar.indexCast v694
  ![v695.toNat]
def k0_off457 (v696 : BitVec 32) : Fin 2 → Nat :=
  let c65535_i32_549 : BitVec 32 := 65535#32
  let v697 : BitVec 32 := Scalar.andi v696 c65535_i32_549
  let c0_i32_552 : BitVec 32 := 0#32
  let v703 : BitVec 32 := Scalar.addi v697 c0_i32_552
  let v705 : Index := Scalar.indexCast v703
  let c0_553 : Index := 0#32
  ![v705.toNat, 0]

def k0_off458 (v49_0 : BitVec 32) (k0_t4 : Fin k0_t4_loop.trips) (k0_t15 : Fin (k0_t15_loop v49_0).trips) (v701 : BitVec 32) (c0_i32_556 : BitVec 32) : Fin 2 → Nat :=
  let c0_i32_379 : BitVec 32 := 0#32
  let c1_i32_381 : BitVec 32 := 1#32
  let arg18 : BitVec 32 := Scf.iv c0_i32_379 c1_i32_381 k0_t4
  let c64_i32 : BitVec 32 := 64#32
  let v50 : BitVec 32 := Scalar.addi v49_0 c64_i32
  let c1_i32_52 : BitVec 32 := 1#32
  let v51 : BitVec 32 := Scalar.subi v50 c1_i32_52
  let c0_i32_54 : BitVec 32 := 0#32
  let v53 : BitVec 1 := Scalar.cmpi .sgt v51 c0_i32_54
  let v54 : BitVec 32 := Scalar.extui v53
  let c0_i32_55 : BitVec 32 := 0#32
  let v55 : BitVec 1 := Scalar.cmpi .slt v51 c0_i32_55
  let v56 : BitVec 32 := Scalar.extui v55
  let v57 : BitVec 32 := Scalar.subi v54 v56
  let c64_i32_53 : BitVec 32 := 64#32
  let c0_i32_56 : BitVec 32 := 0#32
  let v58 : BitVec 1 := Scalar.cmpi .sgt c64_i32_53 c0_i32_56
  let v59 : BitVec 32 := Scalar.extui v58
  let c0_i32_57 : BitVec 32 := 0#32
  let v60 : BitVec 1 := Scalar.cmpi .slt c64_i32_53 c0_i32_57
  let v61 : BitVec 32 := Scalar.extui v60
  let v62 : BitVec 32 := Scalar.subi v59 v61
  let v63 : BitVec 1 := Scalar.cmpi .ne v57 v62
  let v64 : BitVec 32 := Scalar.remsi v51 c64_i32_53
  let c0_i32_58 : BitVec 32 := 0#32
  let v65 : BitVec 1 := Scalar.cmpi .ne v64 c0_i32_58
  let v66 : BitVec 1 := Scalar.andi v63 v65
  let v52 : BitVec 32 := Scalar.divsi v51 c64_i32_53
  let c1_i32_59 : BitVec 32 := 1#32
  let v67 : BitVec 32 := Scalar.subi v52 c1_i32_59
  let v68 : BitVec 32 := Scalar.select v66 v67 v52
  let v580 : BitVec 32 := Scalar.muli arg18 v68
  let c0_i32_485 : BitVec 32 := 0#32
  let c1_i32_488 : BitVec 32 := 1#32
  let arg19 : BitVec 32 := Scf.iv c0_i32_485 c1_i32_488 k0_t15
  let v581 : BitVec 32 := Scalar.addi v580 arg19
  let c4_i32_490 : BitVec 32 := 4#32
  let v582 : BitVec 32 := Scalar.remsi v581 c4_i32_490
  let c1728_i32 : BitVec 32 := 1728#32
  let v603 : BitVec 32 := Scalar.muli v582 c1728_i32
  let c1536_i32_503 : BitVec 32 := 1536#32
  let v604 : BitVec 32 := Scalar.muli arg19 c1536_i32_503
  let v605 : BitVec 32 := Scalar.subi v603 v604
  let v702 : BitVec 32 := Scalar.addi v701 v605
  let v711 : BitVec 32 := Scalar.addi v702 c0_i32_556
  let v713 : Index := Scalar.indexCast v711
  let c0_557 : Index := 0#32
  ![v713.toNat, 0]

def k0_chk7 (v49_0 : BitVec 32) (k0_t4 : Fin k0_t4_loop.trips) (k0_t15 : Fin (k0_t15_loop v49_0).trips) (v701 : BitVec 32) : Prop :=
  (∀ (r : Fin 3), ∀ a, S8x128.size a = 0 ∨ (k0_off458 v49_0 k0_t4 k0_t15 v701 (BitVec.ofNat 32 (64 * r.val))) a + (![8, 1] : Fin 2 → Nat) a * (S8x128.size a - 1) < S6912x128.size a)
theorem k0_off458_inb : ∀ (v49_0 : BitVec 32) (k0_t4 : Fin k0_t4_loop.trips) (k0_t15 : Fin (k0_t15_loop v49_0).trips) (v701 : BitVec 32) (k0_hw7 : k0_chk7 v49_0 k0_t4 k0_t15 v701), ∀ (r : Fin 3), ∀ a, S8x128.size a = 0 ∨ (k0_off458 v49_0 k0_t4 k0_t15 v701 (BitVec.ofNat 32 (64 * r.val))) a + (![8, 1] : Fin 2 → Nat) a * (S8x128.size a - 1) < S6912x128.size a := fun v49_0 k0_t4 k0_t15 v701 k0_hw7 r => k0_hw7 r

def k0_off459 (v696 : BitVec 32) (c64_i32_558 : BitVec 32) : Fin 2 → Nat :=
  let c65535_i32_549 : BitVec 32 := 65535#32
  let v697 : BitVec 32 := Scalar.andi v696 c65535_i32_549
  let v717 : BitVec 32 := Scalar.addi v697 c64_i32_558
  let v719 : Index := Scalar.indexCast v717
  let c0_559 : Index := 0#32
  ![v719.toNat, 0]

def k0_chk6 (v696 : BitVec 32) : Prop :=
  (∀ a, S8x128.size a = 0 ∨ (k0_off457 v696) a + (![8, 1] : Fin 2 → Nat) a * (S8x128.size a - 1) < S49152x128.size a) ∧
  (∀ (r : Fin 2), ∀ a, S8x128.size a = 0 ∨ (k0_off459 v696 (BitVec.ofNat 32 (64 + 64 * r.val))) a + (![8, 1] : Fin 2 → Nat) a * (S8x128.size a - 1) < S49152x128.size a)
theorem k0_off457_inb : ∀ (v696 : BitVec 32) (k0_hw6 : k0_chk6 v696), ∀ a, S8x128.size a = 0 ∨ (k0_off457 v696) a + (![8, 1] : Fin 2 → Nat) a * (S8x128.size a - 1) < S49152x128.size a := fun v696 k0_hw6 => k0_hw6.1
theorem k0_off459_inb : ∀ (v696 : BitVec 32) (k0_hw6 : k0_chk6 v696), ∀ (r : Fin 2), ∀ a, S8x128.size a = 0 ∨ (k0_off459 v696 (BitVec.ofNat 32 (64 + 64 * r.val))) a + (![8, 1] : Fin 2 → Nat) a * (S8x128.size a - 1) < S49152x128.size a := fun v696 k0_hw6 r => k0_hw6.2 r

def k0_off460 (v49_0 : BitVec 32) (v370 : BitVec 32) (k0_t15 : Fin (k0_t15_loop v49_0).trips) (v593 : BitVec 32) (v602 : BitVec 32) (k0_t16 : Fin (k0_t16_loop v49_0 v370 k0_t15 v593 v602).trips) : Fin 1 → Nat :=
  let c0_i32_485 : BitVec 32 := 0#32
  let c1_i32_488 : BitVec 32 := 1#32
  let arg19 : BitVec 32 := Scf.iv c0_i32_485 c1_i32_488 k0_t15
  let c0_i32_497 : BitVec 32 := 0#32
  let v594 : BitVec 1 := Scalar.cmpi .eq arg19 c0_i32_497
  let c1_i32_498 : BitVec 32 := 1#32
  let v595 : BitVec 32 := Scalar.subi v370 c1_i32_498
  let c0_i32_499 : BitVec 32 := 0#32
  let v596 : BitVec 32 := Scalar.select v594 v595 c0_i32_499
  let v597 : BitVec 32 := Scalar.maxsi v593 v596
  let c0_i32_514 : BitVec 32 := 0#32
  let c1_i32_516 : BitVec 32 := 1#32
  let arg21 : BitVec 32 := Scf.iv c0_i32_514 c1_i32_516 k0_t16
  let c8_i32_527 : BitVec 32 := 8#32
  let v641 : BitVec 32 := Scalar.muli arg21 c8_i32_527
  let v642 : BitVec 32 := Scalar.addi v597 v641
  let c2_i32_570 : BitVec 32 := 2#32
  let v745 : BitVec 32 := Scalar.addi v642 c2_i32_570
  let v746 : Index := Scalar.indexCast v745
  ![v746.toNat]
def k0_off461 (v747 : BitVec 32) : Fin 2 → Nat :=
  let c65535_i32_571 : BitVec 32 := 65535#32
  let v748 : BitVec 32 := Scalar.andi v747 c65535_i32_571
  let c0_i32_574 : BitVec 32 := 0#32
  let v754 : BitVec 32 := Scalar.addi v748 c0_i32_574
  let v756 : Index := Scalar.indexCast v754
  let c0_575 : Index := 0#32
  ![v756.toNat, 0]

def k0_off462 (v49_0 : BitVec 32) (k0_t4 : Fin k0_t4_loop.trips) (k0_t15 : Fin (k0_t15_loop v49_0).trips) (v752 : BitVec 32) (c0_i32_578 : BitVec 32) : Fin 2 → Nat :=
  let c0_i32_379 : BitVec 32 := 0#32
  let c1_i32_381 : BitVec 32 := 1#32
  let arg18 : BitVec 32 := Scf.iv c0_i32_379 c1_i32_381 k0_t4
  let c64_i32 : BitVec 32 := 64#32
  let v50 : BitVec 32 := Scalar.addi v49_0 c64_i32
  let c1_i32_52 : BitVec 32 := 1#32
  let v51 : BitVec 32 := Scalar.subi v50 c1_i32_52
  let c0_i32_54 : BitVec 32 := 0#32
  let v53 : BitVec 1 := Scalar.cmpi .sgt v51 c0_i32_54
  let v54 : BitVec 32 := Scalar.extui v53
  let c0_i32_55 : BitVec 32 := 0#32
  let v55 : BitVec 1 := Scalar.cmpi .slt v51 c0_i32_55
  let v56 : BitVec 32 := Scalar.extui v55
  let v57 : BitVec 32 := Scalar.subi v54 v56
  let c64_i32_53 : BitVec 32 := 64#32
  let c0_i32_56 : BitVec 32 := 0#32
  let v58 : BitVec 1 := Scalar.cmpi .sgt c64_i32_53 c0_i32_56
  let v59 : BitVec 32 := Scalar.extui v58
  let c0_i32_57 : BitVec 32 := 0#32
  let v60 : BitVec 1 := Scalar.cmpi .slt c64_i32_53 c0_i32_57
  let v61 : BitVec 32 := Scalar.extui v60
  let v62 : BitVec 32 := Scalar.subi v59 v61
  let v63 : BitVec 1 := Scalar.cmpi .ne v57 v62
  let v64 : BitVec 32 := Scalar.remsi v51 c64_i32_53
  let c0_i32_58 : BitVec 32 := 0#32
  let v65 : BitVec 1 := Scalar.cmpi .ne v64 c0_i32_58
  let v66 : BitVec 1 := Scalar.andi v63 v65
  let v52 : BitVec 32 := Scalar.divsi v51 c64_i32_53
  let c1_i32_59 : BitVec 32 := 1#32
  let v67 : BitVec 32 := Scalar.subi v52 c1_i32_59
  let v68 : BitVec 32 := Scalar.select v66 v67 v52
  let v580 : BitVec 32 := Scalar.muli arg18 v68
  let c0_i32_485 : BitVec 32 := 0#32
  let c1_i32_488 : BitVec 32 := 1#32
  let arg19 : BitVec 32 := Scf.iv c0_i32_485 c1_i32_488 k0_t15
  let v581 : BitVec 32 := Scalar.addi v580 arg19
  let c4_i32_490 : BitVec 32 := 4#32
  let v582 : BitVec 32 := Scalar.remsi v581 c4_i32_490
  let c1728_i32 : BitVec 32 := 1728#32
  let v603 : BitVec 32 := Scalar.muli v582 c1728_i32
  let c1536_i32_503 : BitVec 32 := 1536#32
  let v604 : BitVec 32 := Scalar.muli arg19 c1536_i32_503
  let v605 : BitVec 32 := Scalar.subi v603 v604
  let v753 : BitVec 32 := Scalar.addi v752 v605
  let v762 : BitVec 32 := Scalar.addi v753 c0_i32_578
  let v764 : Index := Scalar.indexCast v762
  let c0_579 : Index := 0#32
  ![v764.toNat, 0]

def k0_chk9 (v49_0 : BitVec 32) (k0_t4 : Fin k0_t4_loop.trips) (k0_t15 : Fin (k0_t15_loop v49_0).trips) (v752 : BitVec 32) : Prop :=
  (∀ (r : Fin 3), ∀ a, S8x128.size a = 0 ∨ (k0_off462 v49_0 k0_t4 k0_t15 v752 (BitVec.ofNat 32 (64 * r.val))) a + (![8, 1] : Fin 2 → Nat) a * (S8x128.size a - 1) < S6912x128.size a)
theorem k0_off462_inb : ∀ (v49_0 : BitVec 32) (k0_t4 : Fin k0_t4_loop.trips) (k0_t15 : Fin (k0_t15_loop v49_0).trips) (v752 : BitVec 32) (k0_hw9 : k0_chk9 v49_0 k0_t4 k0_t15 v752), ∀ (r : Fin 3), ∀ a, S8x128.size a = 0 ∨ (k0_off462 v49_0 k0_t4 k0_t15 v752 (BitVec.ofNat 32 (64 * r.val))) a + (![8, 1] : Fin 2 → Nat) a * (S8x128.size a - 1) < S6912x128.size a := fun v49_0 k0_t4 k0_t15 v752 k0_hw9 r => k0_hw9 r

def k0_off463 (v747 : BitVec 32) (c64_i32_580 : BitVec 32) : Fin 2 → Nat :=
  let c65535_i32_571 : BitVec 32 := 65535#32
  let v748 : BitVec 32 := Scalar.andi v747 c65535_i32_571
  let v768 : BitVec 32 := Scalar.addi v748 c64_i32_580
  let v770 : Index := Scalar.indexCast v768
  let c0_581 : Index := 0#32
  ![v770.toNat, 0]

def k0_chk8 (v747 : BitVec 32) : Prop :=
  (∀ a, S8x128.size a = 0 ∨ (k0_off461 v747) a + (![8, 1] : Fin 2 → Nat) a * (S8x128.size a - 1) < S49152x128.size a) ∧
  (∀ (r : Fin 2), ∀ a, S8x128.size a = 0 ∨ (k0_off463 v747 (BitVec.ofNat 32 (64 + 64 * r.val))) a + (![8, 1] : Fin 2 → Nat) a * (S8x128.size a - 1) < S49152x128.size a)
theorem k0_off461_inb : ∀ (v747 : BitVec 32) (k0_hw8 : k0_chk8 v747), ∀ a, S8x128.size a = 0 ∨ (k0_off461 v747) a + (![8, 1] : Fin 2 → Nat) a * (S8x128.size a - 1) < S49152x128.size a := fun v747 k0_hw8 => k0_hw8.1
theorem k0_off463_inb : ∀ (v747 : BitVec 32) (k0_hw8 : k0_chk8 v747), ∀ (r : Fin 2), ∀ a, S8x128.size a = 0 ∨ (k0_off463 v747 (BitVec.ofNat 32 (64 + 64 * r.val))) a + (![8, 1] : Fin 2 → Nat) a * (S8x128.size a - 1) < S49152x128.size a := fun v747 k0_hw8 r => k0_hw8.2 r

def k0_off464 (v49_0 : BitVec 32) (v370 : BitVec 32) (k0_t15 : Fin (k0_t15_loop v49_0).trips) (v593 : BitVec 32) (v602 : BitVec 32) (k0_t16 : Fin (k0_t16_loop v49_0 v370 k0_t15 v593 v602).trips) : Fin 1 → Nat :=
  let c0_i32_485 : BitVec 32 := 0#32
  let c1_i32_488 : BitVec 32 := 1#32
  let arg19 : BitVec 32 := Scf.iv c0_i32_485 c1_i32_488 k0_t15
  let c0_i32_497 : BitVec 32 := 0#32
  let v594 : BitVec 1 := Scalar.cmpi .eq arg19 c0_i32_497
  let c1_i32_498 : BitVec 32 := 1#32
  let v595 : BitVec 32 := Scalar.subi v370 c1_i32_498
  let c0_i32_499 : BitVec 32 := 0#32
  let v596 : BitVec 32 := Scalar.select v594 v595 c0_i32_499
  let v597 : BitVec 32 := Scalar.maxsi v593 v596
  let c0_i32_514 : BitVec 32 := 0#32
  let c1_i32_516 : BitVec 32 := 1#32
  let arg21 : BitVec 32 := Scf.iv c0_i32_514 c1_i32_516 k0_t16
  let c8_i32_527 : BitVec 32 := 8#32
  let v641 : BitVec 32 := Scalar.muli arg21 c8_i32_527
  let v642 : BitVec 32 := Scalar.addi v597 v641
  let c3_i32_592 : BitVec 32 := 3#32
  let v796 : BitVec 32 := Scalar.addi v642 c3_i32_592
  let v797 : Index := Scalar.indexCast v796
  ![v797.toNat]
def k0_off465 (v798 : BitVec 32) : Fin 2 → Nat :=
  let c65535_i32_593 : BitVec 32 := 65535#32
  let v799 : BitVec 32 := Scalar.andi v798 c65535_i32_593
  let c0_i32_596 : BitVec 32 := 0#32
  let v805 : BitVec 32 := Scalar.addi v799 c0_i32_596
  let v807 : Index := Scalar.indexCast v805
  let c0_597 : Index := 0#32
  ![v807.toNat, 0]

def k0_off466 (v49_0 : BitVec 32) (k0_t4 : Fin k0_t4_loop.trips) (k0_t15 : Fin (k0_t15_loop v49_0).trips) (v803 : BitVec 32) (c0_i32_600 : BitVec 32) : Fin 2 → Nat :=
  let c0_i32_379 : BitVec 32 := 0#32
  let c1_i32_381 : BitVec 32 := 1#32
  let arg18 : BitVec 32 := Scf.iv c0_i32_379 c1_i32_381 k0_t4
  let c64_i32 : BitVec 32 := 64#32
  let v50 : BitVec 32 := Scalar.addi v49_0 c64_i32
  let c1_i32_52 : BitVec 32 := 1#32
  let v51 : BitVec 32 := Scalar.subi v50 c1_i32_52
  let c0_i32_54 : BitVec 32 := 0#32
  let v53 : BitVec 1 := Scalar.cmpi .sgt v51 c0_i32_54
  let v54 : BitVec 32 := Scalar.extui v53
  let c0_i32_55 : BitVec 32 := 0#32
  let v55 : BitVec 1 := Scalar.cmpi .slt v51 c0_i32_55
  let v56 : BitVec 32 := Scalar.extui v55
  let v57 : BitVec 32 := Scalar.subi v54 v56
  let c64_i32_53 : BitVec 32 := 64#32
  let c0_i32_56 : BitVec 32 := 0#32
  let v58 : BitVec 1 := Scalar.cmpi .sgt c64_i32_53 c0_i32_56
  let v59 : BitVec 32 := Scalar.extui v58
  let c0_i32_57 : BitVec 32 := 0#32
  let v60 : BitVec 1 := Scalar.cmpi .slt c64_i32_53 c0_i32_57
  let v61 : BitVec 32 := Scalar.extui v60
  let v62 : BitVec 32 := Scalar.subi v59 v61
  let v63 : BitVec 1 := Scalar.cmpi .ne v57 v62
  let v64 : BitVec 32 := Scalar.remsi v51 c64_i32_53
  let c0_i32_58 : BitVec 32 := 0#32
  let v65 : BitVec 1 := Scalar.cmpi .ne v64 c0_i32_58
  let v66 : BitVec 1 := Scalar.andi v63 v65
  let v52 : BitVec 32 := Scalar.divsi v51 c64_i32_53
  let c1_i32_59 : BitVec 32 := 1#32
  let v67 : BitVec 32 := Scalar.subi v52 c1_i32_59
  let v68 : BitVec 32 := Scalar.select v66 v67 v52
  let v580 : BitVec 32 := Scalar.muli arg18 v68
  let c0_i32_485 : BitVec 32 := 0#32
  let c1_i32_488 : BitVec 32 := 1#32
  let arg19 : BitVec 32 := Scf.iv c0_i32_485 c1_i32_488 k0_t15
  let v581 : BitVec 32 := Scalar.addi v580 arg19
  let c4_i32_490 : BitVec 32 := 4#32
  let v582 : BitVec 32 := Scalar.remsi v581 c4_i32_490
  let c1728_i32 : BitVec 32 := 1728#32
  let v603 : BitVec 32 := Scalar.muli v582 c1728_i32
  let c1536_i32_503 : BitVec 32 := 1536#32
  let v604 : BitVec 32 := Scalar.muli arg19 c1536_i32_503
  let v605 : BitVec 32 := Scalar.subi v603 v604
  let v804 : BitVec 32 := Scalar.addi v803 v605
  let v813 : BitVec 32 := Scalar.addi v804 c0_i32_600
  let v815 : Index := Scalar.indexCast v813
  let c0_601 : Index := 0#32
  ![v815.toNat, 0]

def k0_chk11 (v49_0 : BitVec 32) (k0_t4 : Fin k0_t4_loop.trips) (k0_t15 : Fin (k0_t15_loop v49_0).trips) (v803 : BitVec 32) : Prop :=
  (∀ (r : Fin 3), ∀ a, S8x128.size a = 0 ∨ (k0_off466 v49_0 k0_t4 k0_t15 v803 (BitVec.ofNat 32 (64 * r.val))) a + (![8, 1] : Fin 2 → Nat) a * (S8x128.size a - 1) < S6912x128.size a)
theorem k0_off466_inb : ∀ (v49_0 : BitVec 32) (k0_t4 : Fin k0_t4_loop.trips) (k0_t15 : Fin (k0_t15_loop v49_0).trips) (v803 : BitVec 32) (k0_hw11 : k0_chk11 v49_0 k0_t4 k0_t15 v803), ∀ (r : Fin 3), ∀ a, S8x128.size a = 0 ∨ (k0_off466 v49_0 k0_t4 k0_t15 v803 (BitVec.ofNat 32 (64 * r.val))) a + (![8, 1] : Fin 2 → Nat) a * (S8x128.size a - 1) < S6912x128.size a := fun v49_0 k0_t4 k0_t15 v803 k0_hw11 r => k0_hw11 r

def k0_off467 (v798 : BitVec 32) (c64_i32_602 : BitVec 32) : Fin 2 → Nat :=
  let c65535_i32_593 : BitVec 32 := 65535#32
  let v799 : BitVec 32 := Scalar.andi v798 c65535_i32_593
  let v819 : BitVec 32 := Scalar.addi v799 c64_i32_602
  let v821 : Index := Scalar.indexCast v819
  let c0_603 : Index := 0#32
  ![v821.toNat, 0]

def k0_chk10 (v798 : BitVec 32) : Prop :=
  (∀ a, S8x128.size a = 0 ∨ (k0_off465 v798) a + (![8, 1] : Fin 2 → Nat) a * (S8x128.size a - 1) < S49152x128.size a) ∧
  (∀ (r : Fin 2), ∀ a, S8x128.size a = 0 ∨ (k0_off467 v798 (BitVec.ofNat 32 (64 + 64 * r.val))) a + (![8, 1] : Fin 2 → Nat) a * (S8x128.size a - 1) < S49152x128.size a)
theorem k0_off465_inb : ∀ (v798 : BitVec 32) (k0_hw10 : k0_chk10 v798), ∀ a, S8x128.size a = 0 ∨ (k0_off465 v798) a + (![8, 1] : Fin 2 → Nat) a * (S8x128.size a - 1) < S49152x128.size a := fun v798 k0_hw10 => k0_hw10.1
theorem k0_off467_inb : ∀ (v798 : BitVec 32) (k0_hw10 : k0_chk10 v798), ∀ (r : Fin 2), ∀ a, S8x128.size a = 0 ∨ (k0_off467 v798 (BitVec.ofNat 32 (64 + 64 * r.val))) a + (![8, 1] : Fin 2 → Nat) a * (S8x128.size a - 1) < S49152x128.size a := fun v798 k0_hw10 r => k0_hw10.2 r

def k0_off468 (v49_0 : BitVec 32) (v370 : BitVec 32) (k0_t15 : Fin (k0_t15_loop v49_0).trips) (v593 : BitVec 32) (v602 : BitVec 32) (k0_t16 : Fin (k0_t16_loop v49_0 v370 k0_t15 v593 v602).trips) : Fin 1 → Nat :=
  let c0_i32_485 : BitVec 32 := 0#32
  let c1_i32_488 : BitVec 32 := 1#32
  let arg19 : BitVec 32 := Scf.iv c0_i32_485 c1_i32_488 k0_t15
  let c0_i32_497 : BitVec 32 := 0#32
  let v594 : BitVec 1 := Scalar.cmpi .eq arg19 c0_i32_497
  let c1_i32_498 : BitVec 32 := 1#32
  let v595 : BitVec 32 := Scalar.subi v370 c1_i32_498
  let c0_i32_499 : BitVec 32 := 0#32
  let v596 : BitVec 32 := Scalar.select v594 v595 c0_i32_499
  let v597 : BitVec 32 := Scalar.maxsi v593 v596
  let c0_i32_514 : BitVec 32 := 0#32
  let c1_i32_516 : BitVec 32 := 1#32
  let arg21 : BitVec 32 := Scf.iv c0_i32_514 c1_i32_516 k0_t16
  let c8_i32_527 : BitVec 32 := 8#32
  let v641 : BitVec 32 := Scalar.muli arg21 c8_i32_527
  let v642 : BitVec 32 := Scalar.addi v597 v641
  let c4_i32_614 : BitVec 32 := 4#32
  let v847 : BitVec 32 := Scalar.addi v642 c4_i32_614
  let v848 : Index := Scalar.indexCast v847
  ![v848.toNat]
def k0_off469 (v849 : BitVec 32) : Fin 2 → Nat :=
  let c65535_i32_615 : BitVec 32 := 65535#32
  let v850 : BitVec 32 := Scalar.andi v849 c65535_i32_615
  let c0_i32_618 : BitVec 32 := 0#32
  let v856 : BitVec 32 := Scalar.addi v850 c0_i32_618
  let v858 : Index := Scalar.indexCast v856
  let c0_619 : Index := 0#32
  ![v858.toNat, 0]

def k0_off470 (v49_0 : BitVec 32) (k0_t4 : Fin k0_t4_loop.trips) (k0_t15 : Fin (k0_t15_loop v49_0).trips) (v854 : BitVec 32) (c0_i32_622 : BitVec 32) : Fin 2 → Nat :=
  let c0_i32_379 : BitVec 32 := 0#32
  let c1_i32_381 : BitVec 32 := 1#32
  let arg18 : BitVec 32 := Scf.iv c0_i32_379 c1_i32_381 k0_t4
  let c64_i32 : BitVec 32 := 64#32
  let v50 : BitVec 32 := Scalar.addi v49_0 c64_i32
  let c1_i32_52 : BitVec 32 := 1#32
  let v51 : BitVec 32 := Scalar.subi v50 c1_i32_52
  let c0_i32_54 : BitVec 32 := 0#32
  let v53 : BitVec 1 := Scalar.cmpi .sgt v51 c0_i32_54
  let v54 : BitVec 32 := Scalar.extui v53
  let c0_i32_55 : BitVec 32 := 0#32
  let v55 : BitVec 1 := Scalar.cmpi .slt v51 c0_i32_55
  let v56 : BitVec 32 := Scalar.extui v55
  let v57 : BitVec 32 := Scalar.subi v54 v56
  let c64_i32_53 : BitVec 32 := 64#32
  let c0_i32_56 : BitVec 32 := 0#32
  let v58 : BitVec 1 := Scalar.cmpi .sgt c64_i32_53 c0_i32_56
  let v59 : BitVec 32 := Scalar.extui v58
  let c0_i32_57 : BitVec 32 := 0#32
  let v60 : BitVec 1 := Scalar.cmpi .slt c64_i32_53 c0_i32_57
  let v61 : BitVec 32 := Scalar.extui v60
  let v62 : BitVec 32 := Scalar.subi v59 v61
  let v63 : BitVec 1 := Scalar.cmpi .ne v57 v62
  let v64 : BitVec 32 := Scalar.remsi v51 c64_i32_53
  let c0_i32_58 : BitVec 32 := 0#32
  let v65 : BitVec 1 := Scalar.cmpi .ne v64 c0_i32_58
  let v66 : BitVec 1 := Scalar.andi v63 v65
  let v52 : BitVec 32 := Scalar.divsi v51 c64_i32_53
  let c1_i32_59 : BitVec 32 := 1#32
  let v67 : BitVec 32 := Scalar.subi v52 c1_i32_59
  let v68 : BitVec 32 := Scalar.select v66 v67 v52
  let v580 : BitVec 32 := Scalar.muli arg18 v68
  let c0_i32_485 : BitVec 32 := 0#32
  let c1_i32_488 : BitVec 32 := 1#32
  let arg19 : BitVec 32 := Scf.iv c0_i32_485 c1_i32_488 k0_t15
  let v581 : BitVec 32 := Scalar.addi v580 arg19
  let c4_i32_490 : BitVec 32 := 4#32
  let v582 : BitVec 32 := Scalar.remsi v581 c4_i32_490
  let c1728_i32 : BitVec 32 := 1728#32
  let v603 : BitVec 32 := Scalar.muli v582 c1728_i32
  let c1536_i32_503 : BitVec 32 := 1536#32
  let v604 : BitVec 32 := Scalar.muli arg19 c1536_i32_503
  let v605 : BitVec 32 := Scalar.subi v603 v604
  let v855 : BitVec 32 := Scalar.addi v854 v605
  let v864 : BitVec 32 := Scalar.addi v855 c0_i32_622
  let v866 : Index := Scalar.indexCast v864
  let c0_623 : Index := 0#32
  ![v866.toNat, 0]

def k0_chk13 (v49_0 : BitVec 32) (k0_t4 : Fin k0_t4_loop.trips) (k0_t15 : Fin (k0_t15_loop v49_0).trips) (v854 : BitVec 32) : Prop :=
  (∀ (r : Fin 3), ∀ a, S8x128.size a = 0 ∨ (k0_off470 v49_0 k0_t4 k0_t15 v854 (BitVec.ofNat 32 (64 * r.val))) a + (![8, 1] : Fin 2 → Nat) a * (S8x128.size a - 1) < S6912x128.size a)
theorem k0_off470_inb : ∀ (v49_0 : BitVec 32) (k0_t4 : Fin k0_t4_loop.trips) (k0_t15 : Fin (k0_t15_loop v49_0).trips) (v854 : BitVec 32) (k0_hw13 : k0_chk13 v49_0 k0_t4 k0_t15 v854), ∀ (r : Fin 3), ∀ a, S8x128.size a = 0 ∨ (k0_off470 v49_0 k0_t4 k0_t15 v854 (BitVec.ofNat 32 (64 * r.val))) a + (![8, 1] : Fin 2 → Nat) a * (S8x128.size a - 1) < S6912x128.size a := fun v49_0 k0_t4 k0_t15 v854 k0_hw13 r => k0_hw13 r

def k0_off471 (v849 : BitVec 32) (c64_i32_624 : BitVec 32) : Fin 2 → Nat :=
  let c65535_i32_615 : BitVec 32 := 65535#32
  let v850 : BitVec 32 := Scalar.andi v849 c65535_i32_615
  let v870 : BitVec 32 := Scalar.addi v850 c64_i32_624
  let v872 : Index := Scalar.indexCast v870
  let c0_625 : Index := 0#32
  ![v872.toNat, 0]

def k0_chk12 (v849 : BitVec 32) : Prop :=
  (∀ a, S8x128.size a = 0 ∨ (k0_off469 v849) a + (![8, 1] : Fin 2 → Nat) a * (S8x128.size a - 1) < S49152x128.size a) ∧
  (∀ (r : Fin 2), ∀ a, S8x128.size a = 0 ∨ (k0_off471 v849 (BitVec.ofNat 32 (64 + 64 * r.val))) a + (![8, 1] : Fin 2 → Nat) a * (S8x128.size a - 1) < S49152x128.size a)
theorem k0_off469_inb : ∀ (v849 : BitVec 32) (k0_hw12 : k0_chk12 v849), ∀ a, S8x128.size a = 0 ∨ (k0_off469 v849) a + (![8, 1] : Fin 2 → Nat) a * (S8x128.size a - 1) < S49152x128.size a := fun v849 k0_hw12 => k0_hw12.1
theorem k0_off471_inb : ∀ (v849 : BitVec 32) (k0_hw12 : k0_chk12 v849), ∀ (r : Fin 2), ∀ a, S8x128.size a = 0 ∨ (k0_off471 v849 (BitVec.ofNat 32 (64 + 64 * r.val))) a + (![8, 1] : Fin 2 → Nat) a * (S8x128.size a - 1) < S49152x128.size a := fun v849 k0_hw12 r => k0_hw12.2 r

def k0_off472 (v49_0 : BitVec 32) (v370 : BitVec 32) (k0_t15 : Fin (k0_t15_loop v49_0).trips) (v593 : BitVec 32) (v602 : BitVec 32) (k0_t16 : Fin (k0_t16_loop v49_0 v370 k0_t15 v593 v602).trips) : Fin 1 → Nat :=
  let c0_i32_485 : BitVec 32 := 0#32
  let c1_i32_488 : BitVec 32 := 1#32
  let arg19 : BitVec 32 := Scf.iv c0_i32_485 c1_i32_488 k0_t15
  let c0_i32_497 : BitVec 32 := 0#32
  let v594 : BitVec 1 := Scalar.cmpi .eq arg19 c0_i32_497
  let c1_i32_498 : BitVec 32 := 1#32
  let v595 : BitVec 32 := Scalar.subi v370 c1_i32_498
  let c0_i32_499 : BitVec 32 := 0#32
  let v596 : BitVec 32 := Scalar.select v594 v595 c0_i32_499
  let v597 : BitVec 32 := Scalar.maxsi v593 v596
  let c0_i32_514 : BitVec 32 := 0#32
  let c1_i32_516 : BitVec 32 := 1#32
  let arg21 : BitVec 32 := Scf.iv c0_i32_514 c1_i32_516 k0_t16
  let c8_i32_527 : BitVec 32 := 8#32
  let v641 : BitVec 32 := Scalar.muli arg21 c8_i32_527
  let v642 : BitVec 32 := Scalar.addi v597 v641
  let c5_i32_636 : BitVec 32 := 5#32
  let v898 : BitVec 32 := Scalar.addi v642 c5_i32_636
  let v899 : Index := Scalar.indexCast v898
  ![v899.toNat]
def k0_off473 (v900 : BitVec 32) : Fin 2 → Nat :=
  let c65535_i32_637 : BitVec 32 := 65535#32
  let v901 : BitVec 32 := Scalar.andi v900 c65535_i32_637
  let c0_i32_640 : BitVec 32 := 0#32
  let v907 : BitVec 32 := Scalar.addi v901 c0_i32_640
  let v909 : Index := Scalar.indexCast v907
  let c0_641 : Index := 0#32
  ![v909.toNat, 0]

def k0_off474 (v49_0 : BitVec 32) (k0_t4 : Fin k0_t4_loop.trips) (k0_t15 : Fin (k0_t15_loop v49_0).trips) (v905 : BitVec 32) (c0_i32_644 : BitVec 32) : Fin 2 → Nat :=
  let c0_i32_379 : BitVec 32 := 0#32
  let c1_i32_381 : BitVec 32 := 1#32
  let arg18 : BitVec 32 := Scf.iv c0_i32_379 c1_i32_381 k0_t4
  let c64_i32 : BitVec 32 := 64#32
  let v50 : BitVec 32 := Scalar.addi v49_0 c64_i32
  let c1_i32_52 : BitVec 32 := 1#32
  let v51 : BitVec 32 := Scalar.subi v50 c1_i32_52
  let c0_i32_54 : BitVec 32 := 0#32
  let v53 : BitVec 1 := Scalar.cmpi .sgt v51 c0_i32_54
  let v54 : BitVec 32 := Scalar.extui v53
  let c0_i32_55 : BitVec 32 := 0#32
  let v55 : BitVec 1 := Scalar.cmpi .slt v51 c0_i32_55
  let v56 : BitVec 32 := Scalar.extui v55
  let v57 : BitVec 32 := Scalar.subi v54 v56
  let c64_i32_53 : BitVec 32 := 64#32
  let c0_i32_56 : BitVec 32 := 0#32
  let v58 : BitVec 1 := Scalar.cmpi .sgt c64_i32_53 c0_i32_56
  let v59 : BitVec 32 := Scalar.extui v58
  let c0_i32_57 : BitVec 32 := 0#32
  let v60 : BitVec 1 := Scalar.cmpi .slt c64_i32_53 c0_i32_57
  let v61 : BitVec 32 := Scalar.extui v60
  let v62 : BitVec 32 := Scalar.subi v59 v61
  let v63 : BitVec 1 := Scalar.cmpi .ne v57 v62
  let v64 : BitVec 32 := Scalar.remsi v51 c64_i32_53
  let c0_i32_58 : BitVec 32 := 0#32
  let v65 : BitVec 1 := Scalar.cmpi .ne v64 c0_i32_58
  let v66 : BitVec 1 := Scalar.andi v63 v65
  let v52 : BitVec 32 := Scalar.divsi v51 c64_i32_53
  let c1_i32_59 : BitVec 32 := 1#32
  let v67 : BitVec 32 := Scalar.subi v52 c1_i32_59
  let v68 : BitVec 32 := Scalar.select v66 v67 v52
  let v580 : BitVec 32 := Scalar.muli arg18 v68
  let c0_i32_485 : BitVec 32 := 0#32
  let c1_i32_488 : BitVec 32 := 1#32
  let arg19 : BitVec 32 := Scf.iv c0_i32_485 c1_i32_488 k0_t15
  let v581 : BitVec 32 := Scalar.addi v580 arg19
  let c4_i32_490 : BitVec 32 := 4#32
  let v582 : BitVec 32 := Scalar.remsi v581 c4_i32_490
  let c1728_i32 : BitVec 32 := 1728#32
  let v603 : BitVec 32 := Scalar.muli v582 c1728_i32
  let c1536_i32_503 : BitVec 32 := 1536#32
  let v604 : BitVec 32 := Scalar.muli arg19 c1536_i32_503
  let v605 : BitVec 32 := Scalar.subi v603 v604
  let v906 : BitVec 32 := Scalar.addi v905 v605
  let v915 : BitVec 32 := Scalar.addi v906 c0_i32_644
  let v917 : Index := Scalar.indexCast v915
  let c0_645 : Index := 0#32
  ![v917.toNat, 0]

def k0_chk15 (v49_0 : BitVec 32) (k0_t4 : Fin k0_t4_loop.trips) (k0_t15 : Fin (k0_t15_loop v49_0).trips) (v905 : BitVec 32) : Prop :=
  (∀ (r : Fin 3), ∀ a, S8x128.size a = 0 ∨ (k0_off474 v49_0 k0_t4 k0_t15 v905 (BitVec.ofNat 32 (64 * r.val))) a + (![8, 1] : Fin 2 → Nat) a * (S8x128.size a - 1) < S6912x128.size a)
theorem k0_off474_inb : ∀ (v49_0 : BitVec 32) (k0_t4 : Fin k0_t4_loop.trips) (k0_t15 : Fin (k0_t15_loop v49_0).trips) (v905 : BitVec 32) (k0_hw15 : k0_chk15 v49_0 k0_t4 k0_t15 v905), ∀ (r : Fin 3), ∀ a, S8x128.size a = 0 ∨ (k0_off474 v49_0 k0_t4 k0_t15 v905 (BitVec.ofNat 32 (64 * r.val))) a + (![8, 1] : Fin 2 → Nat) a * (S8x128.size a - 1) < S6912x128.size a := fun v49_0 k0_t4 k0_t15 v905 k0_hw15 r => k0_hw15 r

def k0_off475 (v900 : BitVec 32) (c64_i32_646 : BitVec 32) : Fin 2 → Nat :=
  let c65535_i32_637 : BitVec 32 := 65535#32
  let v901 : BitVec 32 := Scalar.andi v900 c65535_i32_637
  let v921 : BitVec 32 := Scalar.addi v901 c64_i32_646
  let v923 : Index := Scalar.indexCast v921
  let c0_647 : Index := 0#32
  ![v923.toNat, 0]

def k0_chk14 (v900 : BitVec 32) : Prop :=
  (∀ a, S8x128.size a = 0 ∨ (k0_off473 v900) a + (![8, 1] : Fin 2 → Nat) a * (S8x128.size a - 1) < S49152x128.size a) ∧
  (∀ (r : Fin 2), ∀ a, S8x128.size a = 0 ∨ (k0_off475 v900 (BitVec.ofNat 32 (64 + 64 * r.val))) a + (![8, 1] : Fin 2 → Nat) a * (S8x128.size a - 1) < S49152x128.size a)
theorem k0_off473_inb : ∀ (v900 : BitVec 32) (k0_hw14 : k0_chk14 v900), ∀ a, S8x128.size a = 0 ∨ (k0_off473 v900) a + (![8, 1] : Fin 2 → Nat) a * (S8x128.size a - 1) < S49152x128.size a := fun v900 k0_hw14 => k0_hw14.1
theorem k0_off475_inb : ∀ (v900 : BitVec 32) (k0_hw14 : k0_chk14 v900), ∀ (r : Fin 2), ∀ a, S8x128.size a = 0 ∨ (k0_off475 v900 (BitVec.ofNat 32 (64 + 64 * r.val))) a + (![8, 1] : Fin 2 → Nat) a * (S8x128.size a - 1) < S49152x128.size a := fun v900 k0_hw14 r => k0_hw14.2 r

def k0_off476 (v49_0 : BitVec 32) (v370 : BitVec 32) (k0_t15 : Fin (k0_t15_loop v49_0).trips) (v593 : BitVec 32) (v602 : BitVec 32) (k0_t16 : Fin (k0_t16_loop v49_0 v370 k0_t15 v593 v602).trips) : Fin 1 → Nat :=
  let c0_i32_485 : BitVec 32 := 0#32
  let c1_i32_488 : BitVec 32 := 1#32
  let arg19 : BitVec 32 := Scf.iv c0_i32_485 c1_i32_488 k0_t15
  let c0_i32_497 : BitVec 32 := 0#32
  let v594 : BitVec 1 := Scalar.cmpi .eq arg19 c0_i32_497
  let c1_i32_498 : BitVec 32 := 1#32
  let v595 : BitVec 32 := Scalar.subi v370 c1_i32_498
  let c0_i32_499 : BitVec 32 := 0#32
  let v596 : BitVec 32 := Scalar.select v594 v595 c0_i32_499
  let v597 : BitVec 32 := Scalar.maxsi v593 v596
  let c0_i32_514 : BitVec 32 := 0#32
  let c1_i32_516 : BitVec 32 := 1#32
  let arg21 : BitVec 32 := Scf.iv c0_i32_514 c1_i32_516 k0_t16
  let c8_i32_527 : BitVec 32 := 8#32
  let v641 : BitVec 32 := Scalar.muli arg21 c8_i32_527
  let v642 : BitVec 32 := Scalar.addi v597 v641
  let c6_i32_658 : BitVec 32 := 6#32
  let v949 : BitVec 32 := Scalar.addi v642 c6_i32_658
  let v950 : Index := Scalar.indexCast v949
  ![v950.toNat]
def k0_off477 (v951 : BitVec 32) : Fin 2 → Nat :=
  let c65535_i32_659 : BitVec 32 := 65535#32
  let v952 : BitVec 32 := Scalar.andi v951 c65535_i32_659
  let c0_i32_662 : BitVec 32 := 0#32
  let v958 : BitVec 32 := Scalar.addi v952 c0_i32_662
  let v960 : Index := Scalar.indexCast v958
  let c0_663 : Index := 0#32
  ![v960.toNat, 0]

def k0_off478 (v49_0 : BitVec 32) (k0_t4 : Fin k0_t4_loop.trips) (k0_t15 : Fin (k0_t15_loop v49_0).trips) (v956 : BitVec 32) (c0_i32_666 : BitVec 32) : Fin 2 → Nat :=
  let c0_i32_379 : BitVec 32 := 0#32
  let c1_i32_381 : BitVec 32 := 1#32
  let arg18 : BitVec 32 := Scf.iv c0_i32_379 c1_i32_381 k0_t4
  let c64_i32 : BitVec 32 := 64#32
  let v50 : BitVec 32 := Scalar.addi v49_0 c64_i32
  let c1_i32_52 : BitVec 32 := 1#32
  let v51 : BitVec 32 := Scalar.subi v50 c1_i32_52
  let c0_i32_54 : BitVec 32 := 0#32
  let v53 : BitVec 1 := Scalar.cmpi .sgt v51 c0_i32_54
  let v54 : BitVec 32 := Scalar.extui v53
  let c0_i32_55 : BitVec 32 := 0#32
  let v55 : BitVec 1 := Scalar.cmpi .slt v51 c0_i32_55
  let v56 : BitVec 32 := Scalar.extui v55
  let v57 : BitVec 32 := Scalar.subi v54 v56
  let c64_i32_53 : BitVec 32 := 64#32
  let c0_i32_56 : BitVec 32 := 0#32
  let v58 : BitVec 1 := Scalar.cmpi .sgt c64_i32_53 c0_i32_56
  let v59 : BitVec 32 := Scalar.extui v58
  let c0_i32_57 : BitVec 32 := 0#32
  let v60 : BitVec 1 := Scalar.cmpi .slt c64_i32_53 c0_i32_57
  let v61 : BitVec 32 := Scalar.extui v60
  let v62 : BitVec 32 := Scalar.subi v59 v61
  let v63 : BitVec 1 := Scalar.cmpi .ne v57 v62
  let v64 : BitVec 32 := Scalar.remsi v51 c64_i32_53
  let c0_i32_58 : BitVec 32 := 0#32
  let v65 : BitVec 1 := Scalar.cmpi .ne v64 c0_i32_58
  let v66 : BitVec 1 := Scalar.andi v63 v65
  let v52 : BitVec 32 := Scalar.divsi v51 c64_i32_53
  let c1_i32_59 : BitVec 32 := 1#32
  let v67 : BitVec 32 := Scalar.subi v52 c1_i32_59
  let v68 : BitVec 32 := Scalar.select v66 v67 v52
  let v580 : BitVec 32 := Scalar.muli arg18 v68
  let c0_i32_485 : BitVec 32 := 0#32
  let c1_i32_488 : BitVec 32 := 1#32
  let arg19 : BitVec 32 := Scf.iv c0_i32_485 c1_i32_488 k0_t15
  let v581 : BitVec 32 := Scalar.addi v580 arg19
  let c4_i32_490 : BitVec 32 := 4#32
  let v582 : BitVec 32 := Scalar.remsi v581 c4_i32_490
  let c1728_i32 : BitVec 32 := 1728#32
  let v603 : BitVec 32 := Scalar.muli v582 c1728_i32
  let c1536_i32_503 : BitVec 32 := 1536#32
  let v604 : BitVec 32 := Scalar.muli arg19 c1536_i32_503
  let v605 : BitVec 32 := Scalar.subi v603 v604
  let v957 : BitVec 32 := Scalar.addi v956 v605
  let v966 : BitVec 32 := Scalar.addi v957 c0_i32_666
  let v968 : Index := Scalar.indexCast v966
  let c0_667 : Index := 0#32
  ![v968.toNat, 0]

def k0_chk17 (v49_0 : BitVec 32) (k0_t4 : Fin k0_t4_loop.trips) (k0_t15 : Fin (k0_t15_loop v49_0).trips) (v956 : BitVec 32) : Prop :=
  (∀ (r : Fin 3), ∀ a, S8x128.size a = 0 ∨ (k0_off478 v49_0 k0_t4 k0_t15 v956 (BitVec.ofNat 32 (64 * r.val))) a + (![8, 1] : Fin 2 → Nat) a * (S8x128.size a - 1) < S6912x128.size a)
theorem k0_off478_inb : ∀ (v49_0 : BitVec 32) (k0_t4 : Fin k0_t4_loop.trips) (k0_t15 : Fin (k0_t15_loop v49_0).trips) (v956 : BitVec 32) (k0_hw17 : k0_chk17 v49_0 k0_t4 k0_t15 v956), ∀ (r : Fin 3), ∀ a, S8x128.size a = 0 ∨ (k0_off478 v49_0 k0_t4 k0_t15 v956 (BitVec.ofNat 32 (64 * r.val))) a + (![8, 1] : Fin 2 → Nat) a * (S8x128.size a - 1) < S6912x128.size a := fun v49_0 k0_t4 k0_t15 v956 k0_hw17 r => k0_hw17 r

def k0_off479 (v951 : BitVec 32) (c64_i32_668 : BitVec 32) : Fin 2 → Nat :=
  let c65535_i32_659 : BitVec 32 := 65535#32
  let v952 : BitVec 32 := Scalar.andi v951 c65535_i32_659
  let v972 : BitVec 32 := Scalar.addi v952 c64_i32_668
  let v974 : Index := Scalar.indexCast v972
  let c0_669 : Index := 0#32
  ![v974.toNat, 0]

def k0_chk16 (v951 : BitVec 32) : Prop :=
  (∀ a, S8x128.size a = 0 ∨ (k0_off477 v951) a + (![8, 1] : Fin 2 → Nat) a * (S8x128.size a - 1) < S49152x128.size a) ∧
  (∀ (r : Fin 2), ∀ a, S8x128.size a = 0 ∨ (k0_off479 v951 (BitVec.ofNat 32 (64 + 64 * r.val))) a + (![8, 1] : Fin 2 → Nat) a * (S8x128.size a - 1) < S49152x128.size a)
theorem k0_off477_inb : ∀ (v951 : BitVec 32) (k0_hw16 : k0_chk16 v951), ∀ a, S8x128.size a = 0 ∨ (k0_off477 v951) a + (![8, 1] : Fin 2 → Nat) a * (S8x128.size a - 1) < S49152x128.size a := fun v951 k0_hw16 => k0_hw16.1
theorem k0_off479_inb : ∀ (v951 : BitVec 32) (k0_hw16 : k0_chk16 v951), ∀ (r : Fin 2), ∀ a, S8x128.size a = 0 ∨ (k0_off479 v951 (BitVec.ofNat 32 (64 + 64 * r.val))) a + (![8, 1] : Fin 2 → Nat) a * (S8x128.size a - 1) < S49152x128.size a := fun v951 k0_hw16 r => k0_hw16.2 r

def k0_off480 (v49_0 : BitVec 32) (v370 : BitVec 32) (k0_t15 : Fin (k0_t15_loop v49_0).trips) (v593 : BitVec 32) (v602 : BitVec 32) (k0_t16 : Fin (k0_t16_loop v49_0 v370 k0_t15 v593 v602).trips) : Fin 1 → Nat :=
  let c0_i32_485 : BitVec 32 := 0#32
  let c1_i32_488 : BitVec 32 := 1#32
  let arg19 : BitVec 32 := Scf.iv c0_i32_485 c1_i32_488 k0_t15
  let c0_i32_497 : BitVec 32 := 0#32
  let v594 : BitVec 1 := Scalar.cmpi .eq arg19 c0_i32_497
  let c1_i32_498 : BitVec 32 := 1#32
  let v595 : BitVec 32 := Scalar.subi v370 c1_i32_498
  let c0_i32_499 : BitVec 32 := 0#32
  let v596 : BitVec 32 := Scalar.select v594 v595 c0_i32_499
  let v597 : BitVec 32 := Scalar.maxsi v593 v596
  let c0_i32_514 : BitVec 32 := 0#32
  let c1_i32_516 : BitVec 32 := 1#32
  let arg21 : BitVec 32 := Scf.iv c0_i32_514 c1_i32_516 k0_t16
  let c8_i32_527 : BitVec 32 := 8#32
  let v641 : BitVec 32 := Scalar.muli arg21 c8_i32_527
  let v642 : BitVec 32 := Scalar.addi v597 v641
  let c7_i32_680 : BitVec 32 := 7#32
  let v1000 : BitVec 32 := Scalar.addi v642 c7_i32_680
  let v1001 : Index := Scalar.indexCast v1000
  ![v1001.toNat]
def k0_off481 (v1002 : BitVec 32) : Fin 2 → Nat :=
  let c65535_i32_681 : BitVec 32 := 65535#32
  let v1003 : BitVec 32 := Scalar.andi v1002 c65535_i32_681
  let c0_i32_684 : BitVec 32 := 0#32
  let v1009 : BitVec 32 := Scalar.addi v1003 c0_i32_684
  let v1011 : Index := Scalar.indexCast v1009
  let c0_685 : Index := 0#32
  ![v1011.toNat, 0]

def k0_off482 (v49_0 : BitVec 32) (k0_t4 : Fin k0_t4_loop.trips) (k0_t15 : Fin (k0_t15_loop v49_0).trips) (v1007 : BitVec 32) (c0_i32_688 : BitVec 32) : Fin 2 → Nat :=
  let c0_i32_379 : BitVec 32 := 0#32
  let c1_i32_381 : BitVec 32 := 1#32
  let arg18 : BitVec 32 := Scf.iv c0_i32_379 c1_i32_381 k0_t4
  let c64_i32 : BitVec 32 := 64#32
  let v50 : BitVec 32 := Scalar.addi v49_0 c64_i32
  let c1_i32_52 : BitVec 32 := 1#32
  let v51 : BitVec 32 := Scalar.subi v50 c1_i32_52
  let c0_i32_54 : BitVec 32 := 0#32
  let v53 : BitVec 1 := Scalar.cmpi .sgt v51 c0_i32_54
  let v54 : BitVec 32 := Scalar.extui v53
  let c0_i32_55 : BitVec 32 := 0#32
  let v55 : BitVec 1 := Scalar.cmpi .slt v51 c0_i32_55
  let v56 : BitVec 32 := Scalar.extui v55
  let v57 : BitVec 32 := Scalar.subi v54 v56
  let c64_i32_53 : BitVec 32 := 64#32
  let c0_i32_56 : BitVec 32 := 0#32
  let v58 : BitVec 1 := Scalar.cmpi .sgt c64_i32_53 c0_i32_56
  let v59 : BitVec 32 := Scalar.extui v58
  let c0_i32_57 : BitVec 32 := 0#32
  let v60 : BitVec 1 := Scalar.cmpi .slt c64_i32_53 c0_i32_57
  let v61 : BitVec 32 := Scalar.extui v60
  let v62 : BitVec 32 := Scalar.subi v59 v61
  let v63 : BitVec 1 := Scalar.cmpi .ne v57 v62
  let v64 : BitVec 32 := Scalar.remsi v51 c64_i32_53
  let c0_i32_58 : BitVec 32 := 0#32
  let v65 : BitVec 1 := Scalar.cmpi .ne v64 c0_i32_58
  let v66 : BitVec 1 := Scalar.andi v63 v65
  let v52 : BitVec 32 := Scalar.divsi v51 c64_i32_53
  let c1_i32_59 : BitVec 32 := 1#32
  let v67 : BitVec 32 := Scalar.subi v52 c1_i32_59
  let v68 : BitVec 32 := Scalar.select v66 v67 v52
  let v580 : BitVec 32 := Scalar.muli arg18 v68
  let c0_i32_485 : BitVec 32 := 0#32
  let c1_i32_488 : BitVec 32 := 1#32
  let arg19 : BitVec 32 := Scf.iv c0_i32_485 c1_i32_488 k0_t15
  let v581 : BitVec 32 := Scalar.addi v580 arg19
  let c4_i32_490 : BitVec 32 := 4#32
  let v582 : BitVec 32 := Scalar.remsi v581 c4_i32_490
  let c1728_i32 : BitVec 32 := 1728#32
  let v603 : BitVec 32 := Scalar.muli v582 c1728_i32
  let c1536_i32_503 : BitVec 32 := 1536#32
  let v604 : BitVec 32 := Scalar.muli arg19 c1536_i32_503
  let v605 : BitVec 32 := Scalar.subi v603 v604
  let v1008 : BitVec 32 := Scalar.addi v1007 v605
  let v1017 : BitVec 32 := Scalar.addi v1008 c0_i32_688
  let v1019 : Index := Scalar.indexCast v1017
  let c0_689 : Index := 0#32
  ![v1019.toNat, 0]

def k0_chk19 (v49_0 : BitVec 32) (k0_t4 : Fin k0_t4_loop.trips) (k0_t15 : Fin (k0_t15_loop v49_0).trips) (v1007 : BitVec 32) : Prop :=
  (∀ (r : Fin 3), ∀ a, S8x128.size a = 0 ∨ (k0_off482 v49_0 k0_t4 k0_t15 v1007 (BitVec.ofNat 32 (64 * r.val))) a + (![8, 1] : Fin 2 → Nat) a * (S8x128.size a - 1) < S6912x128.size a)
theorem k0_off482_inb : ∀ (v49_0 : BitVec 32) (k0_t4 : Fin k0_t4_loop.trips) (k0_t15 : Fin (k0_t15_loop v49_0).trips) (v1007 : BitVec 32) (k0_hw19 : k0_chk19 v49_0 k0_t4 k0_t15 v1007), ∀ (r : Fin 3), ∀ a, S8x128.size a = 0 ∨ (k0_off482 v49_0 k0_t4 k0_t15 v1007 (BitVec.ofNat 32 (64 * r.val))) a + (![8, 1] : Fin 2 → Nat) a * (S8x128.size a - 1) < S6912x128.size a := fun v49_0 k0_t4 k0_t15 v1007 k0_hw19 r => k0_hw19 r

def k0_off483 (v1002 : BitVec 32) (c64_i32_690 : BitVec 32) : Fin 2 → Nat :=
  let c65535_i32_681 : BitVec 32 := 65535#32
  let v1003 : BitVec 32 := Scalar.andi v1002 c65535_i32_681
  let v1023 : BitVec 32 := Scalar.addi v1003 c64_i32_690
  let v1025 : Index := Scalar.indexCast v1023
  let c0_691 : Index := 0#32
  ![v1025.toNat, 0]

def k0_chk18 (v1002 : BitVec 32) : Prop :=
  (∀ a, S8x128.size a = 0 ∨ (k0_off481 v1002) a + (![8, 1] : Fin 2 → Nat) a * (S8x128.size a - 1) < S49152x128.size a) ∧
  (∀ (r : Fin 2), ∀ a, S8x128.size a = 0 ∨ (k0_off483 v1002 (BitVec.ofNat 32 (64 + 64 * r.val))) a + (![8, 1] : Fin 2 → Nat) a * (S8x128.size a - 1) < S49152x128.size a)
theorem k0_off481_inb : ∀ (v1002 : BitVec 32) (k0_hw18 : k0_chk18 v1002), ∀ a, S8x128.size a = 0 ∨ (k0_off481 v1002) a + (![8, 1] : Fin 2 → Nat) a * (S8x128.size a - 1) < S49152x128.size a := fun v1002 k0_hw18 => k0_hw18.1
theorem k0_off483_inb : ∀ (v1002 : BitVec 32) (k0_hw18 : k0_chk18 v1002), ∀ (r : Fin 2), ∀ a, S8x128.size a = 0 ∨ (k0_off483 v1002 (BitVec.ofNat 32 (64 + 64 * r.val))) a + (![8, 1] : Fin 2 → Nat) a * (S8x128.size a - 1) < S49152x128.size a := fun v1002 k0_hw18 r => k0_hw18.2 r

@[reducible] def k0_t17_loop (v49_0 : BitVec 32) (v370 : BitVec 32) (k0_t15 : Fin (k0_t15_loop v49_0).trips) (v593 : BitVec 32) (v602 : BitVec 32) : Scf.Loop 32 :=
  let c0_i32_514 : BitVec 32 := 0#32
  let c0_i32_485 : BitVec 32 := 0#32
  let c1_i32_488 : BitVec 32 := 1#32
  let arg19 : BitVec 32 := Scf.iv c0_i32_485 c1_i32_488 k0_t15
  let c0_i32_497 : BitVec 32 := 0#32
  let v594 : BitVec 1 := Scalar.cmpi .eq arg19 c0_i32_497
  let c1_i32_498 : BitVec 32 := 1#32
  let v595 : BitVec 32 := Scalar.subi v370 c1_i32_498
  let c0_i32_499 : BitVec 32 := 0#32
  let v596 : BitVec 32 := Scalar.select v594 v595 c0_i32_499
  let v597 : BitVec 32 := Scalar.maxsi v593 v596
  let v607 : BitVec 32 := Scalar.subi v602 v597
  let c8_i32_505 : BitVec 32 := 8#32
  let v608 : BitVec 32 := Scalar.addi v607 c8_i32_505
  let c1_i32_506 : BitVec 32 := 1#32
  let v609 : BitVec 32 := Scalar.subi v608 c1_i32_506
  let c0_i32_508 : BitVec 32 := 0#32
  let v611 : BitVec 1 := Scalar.cmpi .sgt v609 c0_i32_508
  let v612 : BitVec 32 := Scalar.extui v611
  let c0_i32_509 : BitVec 32 := 0#32
  let v613 : BitVec 1 := Scalar.cmpi .slt v609 c0_i32_509
  let v614 : BitVec 32 := Scalar.extui v613
  let v615 : BitVec 32 := Scalar.subi v612 v614
  let c8_i32_507 : BitVec 32 := 8#32
  let c0_i32_510 : BitVec 32 := 0#32
  let v616 : BitVec 1 := Scalar.cmpi .sgt c8_i32_507 c0_i32_510
  let v617 : BitVec 32 := Scalar.extui v616
  let c0_i32_511 : BitVec 32 := 0#32
  let v618 : BitVec 1 := Scalar.cmpi .slt c8_i32_507 c0_i32_511
  let v619 : BitVec 32 := Scalar.extui v618
  let v620 : BitVec 32 := Scalar.subi v617 v619
  let v621 : BitVec 1 := Scalar.cmpi .ne v615 v620
  let v622 : BitVec 32 := Scalar.remsi v609 c8_i32_507
  let c0_i32_512 : BitVec 32 := 0#32
  let v623 : BitVec 1 := Scalar.cmpi .ne v622 c0_i32_512
  let v624 : BitVec 1 := Scalar.andi v621 v623
  let v610 : BitVec 32 := Scalar.divsi v609 c8_i32_507
  let c1_i32_513 : BitVec 32 := 1#32
  let v625 : BitVec 32 := Scalar.subi v610 c1_i32_513
  let v626 : BitVec 32 := Scalar.select v624 v625 v610
  let v627 : BitVec 32 := Scalar.subi v626 c0_i32_514
  let c1_i32_515 : BitVec 32 := 1#32
  let v629 : BitVec 32 := Scalar.divsi v627 c1_i32_515
  let v630 : BitVec 32 := Scalar.muli v629 c1_i32_515
  let v631 : BitVec 32 := Scalar.addi c0_i32_514 v630
  let v628 : BitVec 32 := Scalar.addi c0_i32_514 v627
  let c1_i32_517 : BitVec 32 := 1#32
  ⟨v631, v628, c1_i32_517⟩
def k0_off484 (v49_0 : BitVec 32) (v370 : BitVec 32) (k0_t15 : Fin (k0_t15_loop v49_0).trips) (v593 : BitVec 32) (v602 : BitVec 32) (k0_t17 : Fin (k0_t17_loop v49_0 v370 k0_t15 v593 v602).trips) : Fin 1 → Nat :=
  let c0_i32_485 : BitVec 32 := 0#32
  let c1_i32_488 : BitVec 32 := 1#32
  let arg19 : BitVec 32 := Scf.iv c0_i32_485 c1_i32_488 k0_t15
  let c0_i32_497 : BitVec 32 := 0#32
  let v594 : BitVec 1 := Scalar.cmpi .eq arg19 c0_i32_497
  let c1_i32_498 : BitVec 32 := 1#32
  let v595 : BitVec 32 := Scalar.subi v370 c1_i32_498
  let c0_i32_499 : BitVec 32 := 0#32
  let v596 : BitVec 32 := Scalar.select v594 v595 c0_i32_499
  let v597 : BitVec 32 := Scalar.maxsi v593 v596
  let c0_i32_514 : BitVec 32 := 0#32
  let v607 : BitVec 32 := Scalar.subi v602 v597
  let c8_i32_505 : BitVec 32 := 8#32
  let v608 : BitVec 32 := Scalar.addi v607 c8_i32_505
  let c1_i32_506 : BitVec 32 := 1#32
  let v609 : BitVec 32 := Scalar.subi v608 c1_i32_506
  let c0_i32_508 : BitVec 32 := 0#32
  let v611 : BitVec 1 := Scalar.cmpi .sgt v609 c0_i32_508
  let v612 : BitVec 32 := Scalar.extui v611
  let c0_i32_509 : BitVec 32 := 0#32
  let v613 : BitVec 1 := Scalar.cmpi .slt v609 c0_i32_509
  let v614 : BitVec 32 := Scalar.extui v613
  let v615 : BitVec 32 := Scalar.subi v612 v614
  let c8_i32_507 : BitVec 32 := 8#32
  let c0_i32_510 : BitVec 32 := 0#32
  let v616 : BitVec 1 := Scalar.cmpi .sgt c8_i32_507 c0_i32_510
  let v617 : BitVec 32 := Scalar.extui v616
  let c0_i32_511 : BitVec 32 := 0#32
  let v618 : BitVec 1 := Scalar.cmpi .slt c8_i32_507 c0_i32_511
  let v619 : BitVec 32 := Scalar.extui v618
  let v620 : BitVec 32 := Scalar.subi v617 v619
  let v621 : BitVec 1 := Scalar.cmpi .ne v615 v620
  let v622 : BitVec 32 := Scalar.remsi v609 c8_i32_507
  let c0_i32_512 : BitVec 32 := 0#32
  let v623 : BitVec 1 := Scalar.cmpi .ne v622 c0_i32_512
  let v624 : BitVec 1 := Scalar.andi v621 v623
  let v610 : BitVec 32 := Scalar.divsi v609 c8_i32_507
  let c1_i32_513 : BitVec 32 := 1#32
  let v625 : BitVec 32 := Scalar.subi v610 c1_i32_513
  let v626 : BitVec 32 := Scalar.select v624 v625 v610
  let v627 : BitVec 32 := Scalar.subi v626 c0_i32_514
  let c1_i32_515 : BitVec 32 := 1#32
  let v629 : BitVec 32 := Scalar.divsi v627 c1_i32_515
  let v630 : BitVec 32 := Scalar.muli v629 c1_i32_515
  let v631 : BitVec 32 := Scalar.addi c0_i32_514 v630
  let c1_i32_517 : BitVec 32 := 1#32
  let arg21 : BitVec 32 := Scf.iv v631 c1_i32_517 k0_t17
  let c8_i32_527 : BitVec 32 := 8#32
  let v641 : BitVec 32 := Scalar.muli arg21 c8_i32_527
  let v642 : BitVec 32 := Scalar.addi v597 v641
  let c0_i32_528 : BitVec 32 := 0#32
  let v643 : BitVec 32 := Scalar.addi v642 c0_i32_528
  let v644 : Index := Scalar.indexCast v643
  ![v644.toNat]
def k0_off485 (v645 : BitVec 32) : Fin 2 → Nat :=
  let c65535_i32 : BitVec 32 := 65535#32
  let v646 : BitVec 32 := Scalar.andi v645 c65535_i32
  let c0_i32_530 : BitVec 32 := 0#32
  let v652 : BitVec 32 := Scalar.addi v646 c0_i32_530
  let v654 : Index := Scalar.indexCast v652
  let c0_531 : Index := 0#32
  ![v654.toNat, 0]

def k0_off486 (v49_0 : BitVec 32) (k0_t4 : Fin k0_t4_loop.trips) (k0_t15 : Fin (k0_t15_loop v49_0).trips) (v650 : BitVec 32) (c0_i32_534 : BitVec 32) : Fin 2 → Nat :=
  let c0_i32_379 : BitVec 32 := 0#32
  let c1_i32_381 : BitVec 32 := 1#32
  let arg18 : BitVec 32 := Scf.iv c0_i32_379 c1_i32_381 k0_t4
  let c64_i32 : BitVec 32 := 64#32
  let v50 : BitVec 32 := Scalar.addi v49_0 c64_i32
  let c1_i32_52 : BitVec 32 := 1#32
  let v51 : BitVec 32 := Scalar.subi v50 c1_i32_52
  let c0_i32_54 : BitVec 32 := 0#32
  let v53 : BitVec 1 := Scalar.cmpi .sgt v51 c0_i32_54
  let v54 : BitVec 32 := Scalar.extui v53
  let c0_i32_55 : BitVec 32 := 0#32
  let v55 : BitVec 1 := Scalar.cmpi .slt v51 c0_i32_55
  let v56 : BitVec 32 := Scalar.extui v55
  let v57 : BitVec 32 := Scalar.subi v54 v56
  let c64_i32_53 : BitVec 32 := 64#32
  let c0_i32_56 : BitVec 32 := 0#32
  let v58 : BitVec 1 := Scalar.cmpi .sgt c64_i32_53 c0_i32_56
  let v59 : BitVec 32 := Scalar.extui v58
  let c0_i32_57 : BitVec 32 := 0#32
  let v60 : BitVec 1 := Scalar.cmpi .slt c64_i32_53 c0_i32_57
  let v61 : BitVec 32 := Scalar.extui v60
  let v62 : BitVec 32 := Scalar.subi v59 v61
  let v63 : BitVec 1 := Scalar.cmpi .ne v57 v62
  let v64 : BitVec 32 := Scalar.remsi v51 c64_i32_53
  let c0_i32_58 : BitVec 32 := 0#32
  let v65 : BitVec 1 := Scalar.cmpi .ne v64 c0_i32_58
  let v66 : BitVec 1 := Scalar.andi v63 v65
  let v52 : BitVec 32 := Scalar.divsi v51 c64_i32_53
  let c1_i32_59 : BitVec 32 := 1#32
  let v67 : BitVec 32 := Scalar.subi v52 c1_i32_59
  let v68 : BitVec 32 := Scalar.select v66 v67 v52
  let v580 : BitVec 32 := Scalar.muli arg18 v68
  let c0_i32_485 : BitVec 32 := 0#32
  let c1_i32_488 : BitVec 32 := 1#32
  let arg19 : BitVec 32 := Scf.iv c0_i32_485 c1_i32_488 k0_t15
  let v581 : BitVec 32 := Scalar.addi v580 arg19
  let c4_i32_490 : BitVec 32 := 4#32
  let v582 : BitVec 32 := Scalar.remsi v581 c4_i32_490
  let c1728_i32 : BitVec 32 := 1728#32
  let v603 : BitVec 32 := Scalar.muli v582 c1728_i32
  let c1536_i32_503 : BitVec 32 := 1536#32
  let v604 : BitVec 32 := Scalar.muli arg19 c1536_i32_503
  let v605 : BitVec 32 := Scalar.subi v603 v604
  let v651 : BitVec 32 := Scalar.addi v650 v605
  let v660 : BitVec 32 := Scalar.addi v651 c0_i32_534
  let v662 : Index := Scalar.indexCast v660
  let c0_535 : Index := 0#32
  ![v662.toNat, 0]

def k0_chk21 (v49_0 : BitVec 32) (k0_t4 : Fin k0_t4_loop.trips) (k0_t15 : Fin (k0_t15_loop v49_0).trips) (v650 : BitVec 32) : Prop :=
  (∀ (r : Fin 3), ∀ a, S8x128.size a = 0 ∨ (k0_off486 v49_0 k0_t4 k0_t15 v650 (BitVec.ofNat 32 (64 * r.val))) a + (![8, 1] : Fin 2 → Nat) a * (S8x128.size a - 1) < S6912x128.size a)
theorem k0_off486_inb : ∀ (v49_0 : BitVec 32) (k0_t4 : Fin k0_t4_loop.trips) (k0_t15 : Fin (k0_t15_loop v49_0).trips) (v650 : BitVec 32) (k0_hw21 : k0_chk21 v49_0 k0_t4 k0_t15 v650), ∀ (r : Fin 3), ∀ a, S8x128.size a = 0 ∨ (k0_off486 v49_0 k0_t4 k0_t15 v650 (BitVec.ofNat 32 (64 * r.val))) a + (![8, 1] : Fin 2 → Nat) a * (S8x128.size a - 1) < S6912x128.size a := fun v49_0 k0_t4 k0_t15 v650 k0_hw21 r => k0_hw21 r

def k0_off487 (v645 : BitVec 32) (c64_i32_536 : BitVec 32) : Fin 2 → Nat :=
  let c65535_i32 : BitVec 32 := 65535#32
  let v646 : BitVec 32 := Scalar.andi v645 c65535_i32
  let v666 : BitVec 32 := Scalar.addi v646 c64_i32_536
  let v668 : Index := Scalar.indexCast v666
  let c0_537 : Index := 0#32
  ![v668.toNat, 0]

def k0_chk20 (v645 : BitVec 32) : Prop :=
  (∀ a, S8x128.size a = 0 ∨ (k0_off485 v645) a + (![8, 1] : Fin 2 → Nat) a * (S8x128.size a - 1) < S49152x128.size a) ∧
  (∀ (r : Fin 2), ∀ a, S8x128.size a = 0 ∨ (k0_off487 v645 (BitVec.ofNat 32 (64 + 64 * r.val))) a + (![8, 1] : Fin 2 → Nat) a * (S8x128.size a - 1) < S49152x128.size a)
theorem k0_off485_inb : ∀ (v645 : BitVec 32) (k0_hw20 : k0_chk20 v645), ∀ a, S8x128.size a = 0 ∨ (k0_off485 v645) a + (![8, 1] : Fin 2 → Nat) a * (S8x128.size a - 1) < S49152x128.size a := fun v645 k0_hw20 => k0_hw20.1
theorem k0_off487_inb : ∀ (v645 : BitVec 32) (k0_hw20 : k0_chk20 v645), ∀ (r : Fin 2), ∀ a, S8x128.size a = 0 ∨ (k0_off487 v645 (BitVec.ofNat 32 (64 + 64 * r.val))) a + (![8, 1] : Fin 2 → Nat) a * (S8x128.size a - 1) < S49152x128.size a := fun v645 k0_hw20 r => k0_hw20.2 r

def k0_off488 (v49_0 : BitVec 32) (v370 : BitVec 32) (k0_t15 : Fin (k0_t15_loop v49_0).trips) (v593 : BitVec 32) (v602 : BitVec 32) (k0_t17 : Fin (k0_t17_loop v49_0 v370 k0_t15 v593 v602).trips) : Fin 1 → Nat :=
  let c0_i32_485 : BitVec 32 := 0#32
  let c1_i32_488 : BitVec 32 := 1#32
  let arg19 : BitVec 32 := Scf.iv c0_i32_485 c1_i32_488 k0_t15
  let c0_i32_497 : BitVec 32 := 0#32
  let v594 : BitVec 1 := Scalar.cmpi .eq arg19 c0_i32_497
  let c1_i32_498 : BitVec 32 := 1#32
  let v595 : BitVec 32 := Scalar.subi v370 c1_i32_498
  let c0_i32_499 : BitVec 32 := 0#32
  let v596 : BitVec 32 := Scalar.select v594 v595 c0_i32_499
  let v597 : BitVec 32 := Scalar.maxsi v593 v596
  let c0_i32_514 : BitVec 32 := 0#32
  let v607 : BitVec 32 := Scalar.subi v602 v597
  let c8_i32_505 : BitVec 32 := 8#32
  let v608 : BitVec 32 := Scalar.addi v607 c8_i32_505
  let c1_i32_506 : BitVec 32 := 1#32
  let v609 : BitVec 32 := Scalar.subi v608 c1_i32_506
  let c0_i32_508 : BitVec 32 := 0#32
  let v611 : BitVec 1 := Scalar.cmpi .sgt v609 c0_i32_508
  let v612 : BitVec 32 := Scalar.extui v611
  let c0_i32_509 : BitVec 32 := 0#32
  let v613 : BitVec 1 := Scalar.cmpi .slt v609 c0_i32_509
  let v614 : BitVec 32 := Scalar.extui v613
  let v615 : BitVec 32 := Scalar.subi v612 v614
  let c8_i32_507 : BitVec 32 := 8#32
  let c0_i32_510 : BitVec 32 := 0#32
  let v616 : BitVec 1 := Scalar.cmpi .sgt c8_i32_507 c0_i32_510
  let v617 : BitVec 32 := Scalar.extui v616
  let c0_i32_511 : BitVec 32 := 0#32
  let v618 : BitVec 1 := Scalar.cmpi .slt c8_i32_507 c0_i32_511
  let v619 : BitVec 32 := Scalar.extui v618
  let v620 : BitVec 32 := Scalar.subi v617 v619
  let v621 : BitVec 1 := Scalar.cmpi .ne v615 v620
  let v622 : BitVec 32 := Scalar.remsi v609 c8_i32_507
  let c0_i32_512 : BitVec 32 := 0#32
  let v623 : BitVec 1 := Scalar.cmpi .ne v622 c0_i32_512
  let v624 : BitVec 1 := Scalar.andi v621 v623
  let v610 : BitVec 32 := Scalar.divsi v609 c8_i32_507
  let c1_i32_513 : BitVec 32 := 1#32
  let v625 : BitVec 32 := Scalar.subi v610 c1_i32_513
  let v626 : BitVec 32 := Scalar.select v624 v625 v610
  let v627 : BitVec 32 := Scalar.subi v626 c0_i32_514
  let c1_i32_515 : BitVec 32 := 1#32
  let v629 : BitVec 32 := Scalar.divsi v627 c1_i32_515
  let v630 : BitVec 32 := Scalar.muli v629 c1_i32_515
  let v631 : BitVec 32 := Scalar.addi c0_i32_514 v630
  let c1_i32_517 : BitVec 32 := 1#32
  let arg21 : BitVec 32 := Scf.iv v631 c1_i32_517 k0_t17
  let c8_i32_527 : BitVec 32 := 8#32
  let v641 : BitVec 32 := Scalar.muli arg21 c8_i32_527
  let v642 : BitVec 32 := Scalar.addi v597 v641
  let c1_i32_548 : BitVec 32 := 1#32
  let v694 : BitVec 32 := Scalar.addi v642 c1_i32_548
  let v695 : Index := Scalar.indexCast v694
  ![v695.toNat]
def k0_off489 (v696 : BitVec 32) : Fin 2 → Nat :=
  let c65535_i32_549 : BitVec 32 := 65535#32
  let v697 : BitVec 32 := Scalar.andi v696 c65535_i32_549
  let c0_i32_552 : BitVec 32 := 0#32
  let v703 : BitVec 32 := Scalar.addi v697 c0_i32_552
  let v705 : Index := Scalar.indexCast v703
  let c0_553 : Index := 0#32
  ![v705.toNat, 0]

def k0_off490 (v49_0 : BitVec 32) (k0_t4 : Fin k0_t4_loop.trips) (k0_t15 : Fin (k0_t15_loop v49_0).trips) (v701 : BitVec 32) (c0_i32_556 : BitVec 32) : Fin 2 → Nat :=
  let c0_i32_379 : BitVec 32 := 0#32
  let c1_i32_381 : BitVec 32 := 1#32
  let arg18 : BitVec 32 := Scf.iv c0_i32_379 c1_i32_381 k0_t4
  let c64_i32 : BitVec 32 := 64#32
  let v50 : BitVec 32 := Scalar.addi v49_0 c64_i32
  let c1_i32_52 : BitVec 32 := 1#32
  let v51 : BitVec 32 := Scalar.subi v50 c1_i32_52
  let c0_i32_54 : BitVec 32 := 0#32
  let v53 : BitVec 1 := Scalar.cmpi .sgt v51 c0_i32_54
  let v54 : BitVec 32 := Scalar.extui v53
  let c0_i32_55 : BitVec 32 := 0#32
  let v55 : BitVec 1 := Scalar.cmpi .slt v51 c0_i32_55
  let v56 : BitVec 32 := Scalar.extui v55
  let v57 : BitVec 32 := Scalar.subi v54 v56
  let c64_i32_53 : BitVec 32 := 64#32
  let c0_i32_56 : BitVec 32 := 0#32
  let v58 : BitVec 1 := Scalar.cmpi .sgt c64_i32_53 c0_i32_56
  let v59 : BitVec 32 := Scalar.extui v58
  let c0_i32_57 : BitVec 32 := 0#32
  let v60 : BitVec 1 := Scalar.cmpi .slt c64_i32_53 c0_i32_57
  let v61 : BitVec 32 := Scalar.extui v60
  let v62 : BitVec 32 := Scalar.subi v59 v61
  let v63 : BitVec 1 := Scalar.cmpi .ne v57 v62
  let v64 : BitVec 32 := Scalar.remsi v51 c64_i32_53
  let c0_i32_58 : BitVec 32 := 0#32
  let v65 : BitVec 1 := Scalar.cmpi .ne v64 c0_i32_58
  let v66 : BitVec 1 := Scalar.andi v63 v65
  let v52 : BitVec 32 := Scalar.divsi v51 c64_i32_53
  let c1_i32_59 : BitVec 32 := 1#32
  let v67 : BitVec 32 := Scalar.subi v52 c1_i32_59
  let v68 : BitVec 32 := Scalar.select v66 v67 v52
  let v580 : BitVec 32 := Scalar.muli arg18 v68
  let c0_i32_485 : BitVec 32 := 0#32
  let c1_i32_488 : BitVec 32 := 1#32
  let arg19 : BitVec 32 := Scf.iv c0_i32_485 c1_i32_488 k0_t15
  let v581 : BitVec 32 := Scalar.addi v580 arg19
  let c4_i32_490 : BitVec 32 := 4#32
  let v582 : BitVec 32 := Scalar.remsi v581 c4_i32_490
  let c1728_i32 : BitVec 32 := 1728#32
  let v603 : BitVec 32 := Scalar.muli v582 c1728_i32
  let c1536_i32_503 : BitVec 32 := 1536#32
  let v604 : BitVec 32 := Scalar.muli arg19 c1536_i32_503
  let v605 : BitVec 32 := Scalar.subi v603 v604
  let v702 : BitVec 32 := Scalar.addi v701 v605
  let v711 : BitVec 32 := Scalar.addi v702 c0_i32_556
  let v713 : Index := Scalar.indexCast v711
  let c0_557 : Index := 0#32
  ![v713.toNat, 0]

def k0_chk23 (v49_0 : BitVec 32) (k0_t4 : Fin k0_t4_loop.trips) (k0_t15 : Fin (k0_t15_loop v49_0).trips) (v701 : BitVec 32) : Prop :=
  (∀ (r : Fin 3), ∀ a, S8x128.size a = 0 ∨ (k0_off490 v49_0 k0_t4 k0_t15 v701 (BitVec.ofNat 32 (64 * r.val))) a + (![8, 1] : Fin 2 → Nat) a * (S8x128.size a - 1) < S6912x128.size a)
theorem k0_off490_inb : ∀ (v49_0 : BitVec 32) (k0_t4 : Fin k0_t4_loop.trips) (k0_t15 : Fin (k0_t15_loop v49_0).trips) (v701 : BitVec 32) (k0_hw23 : k0_chk23 v49_0 k0_t4 k0_t15 v701), ∀ (r : Fin 3), ∀ a, S8x128.size a = 0 ∨ (k0_off490 v49_0 k0_t4 k0_t15 v701 (BitVec.ofNat 32 (64 * r.val))) a + (![8, 1] : Fin 2 → Nat) a * (S8x128.size a - 1) < S6912x128.size a := fun v49_0 k0_t4 k0_t15 v701 k0_hw23 r => k0_hw23 r

def k0_off491 (v696 : BitVec 32) (c64_i32_558 : BitVec 32) : Fin 2 → Nat :=
  let c65535_i32_549 : BitVec 32 := 65535#32
  let v697 : BitVec 32 := Scalar.andi v696 c65535_i32_549
  let v717 : BitVec 32 := Scalar.addi v697 c64_i32_558
  let v719 : Index := Scalar.indexCast v717
  let c0_559 : Index := 0#32
  ![v719.toNat, 0]

def k0_chk22 (v696 : BitVec 32) : Prop :=
  (∀ a, S8x128.size a = 0 ∨ (k0_off489 v696) a + (![8, 1] : Fin 2 → Nat) a * (S8x128.size a - 1) < S49152x128.size a) ∧
  (∀ (r : Fin 2), ∀ a, S8x128.size a = 0 ∨ (k0_off491 v696 (BitVec.ofNat 32 (64 + 64 * r.val))) a + (![8, 1] : Fin 2 → Nat) a * (S8x128.size a - 1) < S49152x128.size a)
theorem k0_off489_inb : ∀ (v696 : BitVec 32) (k0_hw22 : k0_chk22 v696), ∀ a, S8x128.size a = 0 ∨ (k0_off489 v696) a + (![8, 1] : Fin 2 → Nat) a * (S8x128.size a - 1) < S49152x128.size a := fun v696 k0_hw22 => k0_hw22.1
theorem k0_off491_inb : ∀ (v696 : BitVec 32) (k0_hw22 : k0_chk22 v696), ∀ (r : Fin 2), ∀ a, S8x128.size a = 0 ∨ (k0_off491 v696 (BitVec.ofNat 32 (64 + 64 * r.val))) a + (![8, 1] : Fin 2 → Nat) a * (S8x128.size a - 1) < S49152x128.size a := fun v696 k0_hw22 r => k0_hw22.2 r

def k0_off492 (v49_0 : BitVec 32) (v370 : BitVec 32) (k0_t15 : Fin (k0_t15_loop v49_0).trips) (v593 : BitVec 32) (v602 : BitVec 32) (k0_t17 : Fin (k0_t17_loop v49_0 v370 k0_t15 v593 v602).trips) : Fin 1 → Nat :=
  let c0_i32_485 : BitVec 32 := 0#32
  let c1_i32_488 : BitVec 32 := 1#32
  let arg19 : BitVec 32 := Scf.iv c0_i32_485 c1_i32_488 k0_t15
  let c0_i32_497 : BitVec 32 := 0#32
  let v594 : BitVec 1 := Scalar.cmpi .eq arg19 c0_i32_497
  let c1_i32_498 : BitVec 32 := 1#32
  let v595 : BitVec 32 := Scalar.subi v370 c1_i32_498
  let c0_i32_499 : BitVec 32 := 0#32
  let v596 : BitVec 32 := Scalar.select v594 v595 c0_i32_499
  let v597 : BitVec 32 := Scalar.maxsi v593 v596
  let c0_i32_514 : BitVec 32 := 0#32
  let v607 : BitVec 32 := Scalar.subi v602 v597
  let c8_i32_505 : BitVec 32 := 8#32
  let v608 : BitVec 32 := Scalar.addi v607 c8_i32_505
  let c1_i32_506 : BitVec 32 := 1#32
  let v609 : BitVec 32 := Scalar.subi v608 c1_i32_506
  let c0_i32_508 : BitVec 32 := 0#32
  let v611 : BitVec 1 := Scalar.cmpi .sgt v609 c0_i32_508
  let v612 : BitVec 32 := Scalar.extui v611
  let c0_i32_509 : BitVec 32 := 0#32
  let v613 : BitVec 1 := Scalar.cmpi .slt v609 c0_i32_509
  let v614 : BitVec 32 := Scalar.extui v613
  let v615 : BitVec 32 := Scalar.subi v612 v614
  let c8_i32_507 : BitVec 32 := 8#32
  let c0_i32_510 : BitVec 32 := 0#32
  let v616 : BitVec 1 := Scalar.cmpi .sgt c8_i32_507 c0_i32_510
  let v617 : BitVec 32 := Scalar.extui v616
  let c0_i32_511 : BitVec 32 := 0#32
  let v618 : BitVec 1 := Scalar.cmpi .slt c8_i32_507 c0_i32_511
  let v619 : BitVec 32 := Scalar.extui v618
  let v620 : BitVec 32 := Scalar.subi v617 v619
  let v621 : BitVec 1 := Scalar.cmpi .ne v615 v620
  let v622 : BitVec 32 := Scalar.remsi v609 c8_i32_507
  let c0_i32_512 : BitVec 32 := 0#32
  let v623 : BitVec 1 := Scalar.cmpi .ne v622 c0_i32_512
  let v624 : BitVec 1 := Scalar.andi v621 v623
  let v610 : BitVec 32 := Scalar.divsi v609 c8_i32_507
  let c1_i32_513 : BitVec 32 := 1#32
  let v625 : BitVec 32 := Scalar.subi v610 c1_i32_513
  let v626 : BitVec 32 := Scalar.select v624 v625 v610
  let v627 : BitVec 32 := Scalar.subi v626 c0_i32_514
  let c1_i32_515 : BitVec 32 := 1#32
  let v629 : BitVec 32 := Scalar.divsi v627 c1_i32_515
  let v630 : BitVec 32 := Scalar.muli v629 c1_i32_515
  let v631 : BitVec 32 := Scalar.addi c0_i32_514 v630
  let c1_i32_517 : BitVec 32 := 1#32
  let arg21 : BitVec 32 := Scf.iv v631 c1_i32_517 k0_t17
  let c8_i32_527 : BitVec 32 := 8#32
  let v641 : BitVec 32 := Scalar.muli arg21 c8_i32_527
  let v642 : BitVec 32 := Scalar.addi v597 v641
  let c2_i32_570 : BitVec 32 := 2#32
  let v745 : BitVec 32 := Scalar.addi v642 c2_i32_570
  let v746 : Index := Scalar.indexCast v745
  ![v746.toNat]
def k0_off493 (v747 : BitVec 32) : Fin 2 → Nat :=
  let c65535_i32_571 : BitVec 32 := 65535#32
  let v748 : BitVec 32 := Scalar.andi v747 c65535_i32_571
  let c0_i32_574 : BitVec 32 := 0#32
  let v754 : BitVec 32 := Scalar.addi v748 c0_i32_574
  let v756 : Index := Scalar.indexCast v754
  let c0_575 : Index := 0#32
  ![v756.toNat, 0]

def k0_off494 (v49_0 : BitVec 32) (k0_t4 : Fin k0_t4_loop.trips) (k0_t15 : Fin (k0_t15_loop v49_0).trips) (v752 : BitVec 32) (c0_i32_578 : BitVec 32) : Fin 2 → Nat :=
  let c0_i32_379 : BitVec 32 := 0#32
  let c1_i32_381 : BitVec 32 := 1#32
  let arg18 : BitVec 32 := Scf.iv c0_i32_379 c1_i32_381 k0_t4
  let c64_i32 : BitVec 32 := 64#32
  let v50 : BitVec 32 := Scalar.addi v49_0 c64_i32
  let c1_i32_52 : BitVec 32 := 1#32
  let v51 : BitVec 32 := Scalar.subi v50 c1_i32_52
  let c0_i32_54 : BitVec 32 := 0#32
  let v53 : BitVec 1 := Scalar.cmpi .sgt v51 c0_i32_54
  let v54 : BitVec 32 := Scalar.extui v53
  let c0_i32_55 : BitVec 32 := 0#32
  let v55 : BitVec 1 := Scalar.cmpi .slt v51 c0_i32_55
  let v56 : BitVec 32 := Scalar.extui v55
  let v57 : BitVec 32 := Scalar.subi v54 v56
  let c64_i32_53 : BitVec 32 := 64#32
  let c0_i32_56 : BitVec 32 := 0#32
  let v58 : BitVec 1 := Scalar.cmpi .sgt c64_i32_53 c0_i32_56
  let v59 : BitVec 32 := Scalar.extui v58
  let c0_i32_57 : BitVec 32 := 0#32
  let v60 : BitVec 1 := Scalar.cmpi .slt c64_i32_53 c0_i32_57
  let v61 : BitVec 32 := Scalar.extui v60
  let v62 : BitVec 32 := Scalar.subi v59 v61
  let v63 : BitVec 1 := Scalar.cmpi .ne v57 v62
  let v64 : BitVec 32 := Scalar.remsi v51 c64_i32_53
  let c0_i32_58 : BitVec 32 := 0#32
  let v65 : BitVec 1 := Scalar.cmpi .ne v64 c0_i32_58
  let v66 : BitVec 1 := Scalar.andi v63 v65
  let v52 : BitVec 32 := Scalar.divsi v51 c64_i32_53
  let c1_i32_59 : BitVec 32 := 1#32
  let v67 : BitVec 32 := Scalar.subi v52 c1_i32_59
  let v68 : BitVec 32 := Scalar.select v66 v67 v52
  let v580 : BitVec 32 := Scalar.muli arg18 v68
  let c0_i32_485 : BitVec 32 := 0#32
  let c1_i32_488 : BitVec 32 := 1#32
  let arg19 : BitVec 32 := Scf.iv c0_i32_485 c1_i32_488 k0_t15
  let v581 : BitVec 32 := Scalar.addi v580 arg19
  let c4_i32_490 : BitVec 32 := 4#32
  let v582 : BitVec 32 := Scalar.remsi v581 c4_i32_490
  let c1728_i32 : BitVec 32 := 1728#32
  let v603 : BitVec 32 := Scalar.muli v582 c1728_i32
  let c1536_i32_503 : BitVec 32 := 1536#32
  let v604 : BitVec 32 := Scalar.muli arg19 c1536_i32_503
  let v605 : BitVec 32 := Scalar.subi v603 v604
  let v753 : BitVec 32 := Scalar.addi v752 v605
  let v762 : BitVec 32 := Scalar.addi v753 c0_i32_578
  let v764 : Index := Scalar.indexCast v762
  let c0_579 : Index := 0#32
  ![v764.toNat, 0]

def k0_chk25 (v49_0 : BitVec 32) (k0_t4 : Fin k0_t4_loop.trips) (k0_t15 : Fin (k0_t15_loop v49_0).trips) (v752 : BitVec 32) : Prop :=
  (∀ (r : Fin 3), ∀ a, S8x128.size a = 0 ∨ (k0_off494 v49_0 k0_t4 k0_t15 v752 (BitVec.ofNat 32 (64 * r.val))) a + (![8, 1] : Fin 2 → Nat) a * (S8x128.size a - 1) < S6912x128.size a)
theorem k0_off494_inb : ∀ (v49_0 : BitVec 32) (k0_t4 : Fin k0_t4_loop.trips) (k0_t15 : Fin (k0_t15_loop v49_0).trips) (v752 : BitVec 32) (k0_hw25 : k0_chk25 v49_0 k0_t4 k0_t15 v752), ∀ (r : Fin 3), ∀ a, S8x128.size a = 0 ∨ (k0_off494 v49_0 k0_t4 k0_t15 v752 (BitVec.ofNat 32 (64 * r.val))) a + (![8, 1] : Fin 2 → Nat) a * (S8x128.size a - 1) < S6912x128.size a := fun v49_0 k0_t4 k0_t15 v752 k0_hw25 r => k0_hw25 r

def k0_off495 (v747 : BitVec 32) (c64_i32_580 : BitVec 32) : Fin 2 → Nat :=
  let c65535_i32_571 : BitVec 32 := 65535#32
  let v748 : BitVec 32 := Scalar.andi v747 c65535_i32_571
  let v768 : BitVec 32 := Scalar.addi v748 c64_i32_580
  let v770 : Index := Scalar.indexCast v768
  let c0_581 : Index := 0#32
  ![v770.toNat, 0]

def k0_chk24 (v747 : BitVec 32) : Prop :=
  (∀ a, S8x128.size a = 0 ∨ (k0_off493 v747) a + (![8, 1] : Fin 2 → Nat) a * (S8x128.size a - 1) < S49152x128.size a) ∧
  (∀ (r : Fin 2), ∀ a, S8x128.size a = 0 ∨ (k0_off495 v747 (BitVec.ofNat 32 (64 + 64 * r.val))) a + (![8, 1] : Fin 2 → Nat) a * (S8x128.size a - 1) < S49152x128.size a)
theorem k0_off493_inb : ∀ (v747 : BitVec 32) (k0_hw24 : k0_chk24 v747), ∀ a, S8x128.size a = 0 ∨ (k0_off493 v747) a + (![8, 1] : Fin 2 → Nat) a * (S8x128.size a - 1) < S49152x128.size a := fun v747 k0_hw24 => k0_hw24.1
theorem k0_off495_inb : ∀ (v747 : BitVec 32) (k0_hw24 : k0_chk24 v747), ∀ (r : Fin 2), ∀ a, S8x128.size a = 0 ∨ (k0_off495 v747 (BitVec.ofNat 32 (64 + 64 * r.val))) a + (![8, 1] : Fin 2 → Nat) a * (S8x128.size a - 1) < S49152x128.size a := fun v747 k0_hw24 r => k0_hw24.2 r

def k0_off496 (v49_0 : BitVec 32) (v370 : BitVec 32) (k0_t15 : Fin (k0_t15_loop v49_0).trips) (v593 : BitVec 32) (v602 : BitVec 32) (k0_t17 : Fin (k0_t17_loop v49_0 v370 k0_t15 v593 v602).trips) : Fin 1 → Nat :=
  let c0_i32_485 : BitVec 32 := 0#32
  let c1_i32_488 : BitVec 32 := 1#32
  let arg19 : BitVec 32 := Scf.iv c0_i32_485 c1_i32_488 k0_t15
  let c0_i32_497 : BitVec 32 := 0#32
  let v594 : BitVec 1 := Scalar.cmpi .eq arg19 c0_i32_497
  let c1_i32_498 : BitVec 32 := 1#32
  let v595 : BitVec 32 := Scalar.subi v370 c1_i32_498
  let c0_i32_499 : BitVec 32 := 0#32
  let v596 : BitVec 32 := Scalar.select v594 v595 c0_i32_499
  let v597 : BitVec 32 := Scalar.maxsi v593 v596
  let c0_i32_514 : BitVec 32 := 0#32
  let v607 : BitVec 32 := Scalar.subi v602 v597
  let c8_i32_505 : BitVec 32 := 8#32
  let v608 : BitVec 32 := Scalar.addi v607 c8_i32_505
  let c1_i32_506 : BitVec 32 := 1#32
  let v609 : BitVec 32 := Scalar.subi v608 c1_i32_506
  let c0_i32_508 : BitVec 32 := 0#32
  let v611 : BitVec 1 := Scalar.cmpi .sgt v609 c0_i32_508
  let v612 : BitVec 32 := Scalar.extui v611
  let c0_i32_509 : BitVec 32 := 0#32
  let v613 : BitVec 1 := Scalar.cmpi .slt v609 c0_i32_509
  let v614 : BitVec 32 := Scalar.extui v613
  let v615 : BitVec 32 := Scalar.subi v612 v614
  let c8_i32_507 : BitVec 32 := 8#32
  let c0_i32_510 : BitVec 32 := 0#32
  let v616 : BitVec 1 := Scalar.cmpi .sgt c8_i32_507 c0_i32_510
  let v617 : BitVec 32 := Scalar.extui v616
  let c0_i32_511 : BitVec 32 := 0#32
  let v618 : BitVec 1 := Scalar.cmpi .slt c8_i32_507 c0_i32_511
  let v619 : BitVec 32 := Scalar.extui v618
  let v620 : BitVec 32 := Scalar.subi v617 v619
  let v621 : BitVec 1 := Scalar.cmpi .ne v615 v620
  let v622 : BitVec 32 := Scalar.remsi v609 c8_i32_507
  let c0_i32_512 : BitVec 32 := 0#32
  let v623 : BitVec 1 := Scalar.cmpi .ne v622 c0_i32_512
  let v624 : BitVec 1 := Scalar.andi v621 v623
  let v610 : BitVec 32 := Scalar.divsi v609 c8_i32_507
  let c1_i32_513 : BitVec 32 := 1#32
  let v625 : BitVec 32 := Scalar.subi v610 c1_i32_513
  let v626 : BitVec 32 := Scalar.select v624 v625 v610
  let v627 : BitVec 32 := Scalar.subi v626 c0_i32_514
  let c1_i32_515 : BitVec 32 := 1#32
  let v629 : BitVec 32 := Scalar.divsi v627 c1_i32_515
  let v630 : BitVec 32 := Scalar.muli v629 c1_i32_515
  let v631 : BitVec 32 := Scalar.addi c0_i32_514 v630
  let c1_i32_517 : BitVec 32 := 1#32
  let arg21 : BitVec 32 := Scf.iv v631 c1_i32_517 k0_t17
  let c8_i32_527 : BitVec 32 := 8#32
  let v641 : BitVec 32 := Scalar.muli arg21 c8_i32_527
  let v642 : BitVec 32 := Scalar.addi v597 v641
  let c3_i32_592 : BitVec 32 := 3#32
  let v796 : BitVec 32 := Scalar.addi v642 c3_i32_592
  let v797 : Index := Scalar.indexCast v796
  ![v797.toNat]
def k0_off497 (v798 : BitVec 32) : Fin 2 → Nat :=
  let c65535_i32_593 : BitVec 32 := 65535#32
  let v799 : BitVec 32 := Scalar.andi v798 c65535_i32_593
  let c0_i32_596 : BitVec 32 := 0#32
  let v805 : BitVec 32 := Scalar.addi v799 c0_i32_596
  let v807 : Index := Scalar.indexCast v805
  let c0_597 : Index := 0#32
  ![v807.toNat, 0]

def k0_off498 (v49_0 : BitVec 32) (k0_t4 : Fin k0_t4_loop.trips) (k0_t15 : Fin (k0_t15_loop v49_0).trips) (v803 : BitVec 32) (c0_i32_600 : BitVec 32) : Fin 2 → Nat :=
  let c0_i32_379 : BitVec 32 := 0#32
  let c1_i32_381 : BitVec 32 := 1#32
  let arg18 : BitVec 32 := Scf.iv c0_i32_379 c1_i32_381 k0_t4
  let c64_i32 : BitVec 32 := 64#32
  let v50 : BitVec 32 := Scalar.addi v49_0 c64_i32
  let c1_i32_52 : BitVec 32 := 1#32
  let v51 : BitVec 32 := Scalar.subi v50 c1_i32_52
  let c0_i32_54 : BitVec 32 := 0#32
  let v53 : BitVec 1 := Scalar.cmpi .sgt v51 c0_i32_54
  let v54 : BitVec 32 := Scalar.extui v53
  let c0_i32_55 : BitVec 32 := 0#32
  let v55 : BitVec 1 := Scalar.cmpi .slt v51 c0_i32_55
  let v56 : BitVec 32 := Scalar.extui v55
  let v57 : BitVec 32 := Scalar.subi v54 v56
  let c64_i32_53 : BitVec 32 := 64#32
  let c0_i32_56 : BitVec 32 := 0#32
  let v58 : BitVec 1 := Scalar.cmpi .sgt c64_i32_53 c0_i32_56
  let v59 : BitVec 32 := Scalar.extui v58
  let c0_i32_57 : BitVec 32 := 0#32
  let v60 : BitVec 1 := Scalar.cmpi .slt c64_i32_53 c0_i32_57
  let v61 : BitVec 32 := Scalar.extui v60
  let v62 : BitVec 32 := Scalar.subi v59 v61
  let v63 : BitVec 1 := Scalar.cmpi .ne v57 v62
  let v64 : BitVec 32 := Scalar.remsi v51 c64_i32_53
  let c0_i32_58 : BitVec 32 := 0#32
  let v65 : BitVec 1 := Scalar.cmpi .ne v64 c0_i32_58
  let v66 : BitVec 1 := Scalar.andi v63 v65
  let v52 : BitVec 32 := Scalar.divsi v51 c64_i32_53
  let c1_i32_59 : BitVec 32 := 1#32
  let v67 : BitVec 32 := Scalar.subi v52 c1_i32_59
  let v68 : BitVec 32 := Scalar.select v66 v67 v52
  let v580 : BitVec 32 := Scalar.muli arg18 v68
  let c0_i32_485 : BitVec 32 := 0#32
  let c1_i32_488 : BitVec 32 := 1#32
  let arg19 : BitVec 32 := Scf.iv c0_i32_485 c1_i32_488 k0_t15
  let v581 : BitVec 32 := Scalar.addi v580 arg19
  let c4_i32_490 : BitVec 32 := 4#32
  let v582 : BitVec 32 := Scalar.remsi v581 c4_i32_490
  let c1728_i32 : BitVec 32 := 1728#32
  let v603 : BitVec 32 := Scalar.muli v582 c1728_i32
  let c1536_i32_503 : BitVec 32 := 1536#32
  let v604 : BitVec 32 := Scalar.muli arg19 c1536_i32_503
  let v605 : BitVec 32 := Scalar.subi v603 v604
  let v804 : BitVec 32 := Scalar.addi v803 v605
  let v813 : BitVec 32 := Scalar.addi v804 c0_i32_600
  let v815 : Index := Scalar.indexCast v813
  let c0_601 : Index := 0#32
  ![v815.toNat, 0]

def k0_chk27 (v49_0 : BitVec 32) (k0_t4 : Fin k0_t4_loop.trips) (k0_t15 : Fin (k0_t15_loop v49_0).trips) (v803 : BitVec 32) : Prop :=
  (∀ (r : Fin 3), ∀ a, S8x128.size a = 0 ∨ (k0_off498 v49_0 k0_t4 k0_t15 v803 (BitVec.ofNat 32 (64 * r.val))) a + (![8, 1] : Fin 2 → Nat) a * (S8x128.size a - 1) < S6912x128.size a)
theorem k0_off498_inb : ∀ (v49_0 : BitVec 32) (k0_t4 : Fin k0_t4_loop.trips) (k0_t15 : Fin (k0_t15_loop v49_0).trips) (v803 : BitVec 32) (k0_hw27 : k0_chk27 v49_0 k0_t4 k0_t15 v803), ∀ (r : Fin 3), ∀ a, S8x128.size a = 0 ∨ (k0_off498 v49_0 k0_t4 k0_t15 v803 (BitVec.ofNat 32 (64 * r.val))) a + (![8, 1] : Fin 2 → Nat) a * (S8x128.size a - 1) < S6912x128.size a := fun v49_0 k0_t4 k0_t15 v803 k0_hw27 r => k0_hw27 r

def k0_off499 (v798 : BitVec 32) (c64_i32_602 : BitVec 32) : Fin 2 → Nat :=
  let c65535_i32_593 : BitVec 32 := 65535#32
  let v799 : BitVec 32 := Scalar.andi v798 c65535_i32_593
  let v819 : BitVec 32 := Scalar.addi v799 c64_i32_602
  let v821 : Index := Scalar.indexCast v819
  let c0_603 : Index := 0#32
  ![v821.toNat, 0]

def k0_chk26 (v798 : BitVec 32) : Prop :=
  (∀ a, S8x128.size a = 0 ∨ (k0_off497 v798) a + (![8, 1] : Fin 2 → Nat) a * (S8x128.size a - 1) < S49152x128.size a) ∧
  (∀ (r : Fin 2), ∀ a, S8x128.size a = 0 ∨ (k0_off499 v798 (BitVec.ofNat 32 (64 + 64 * r.val))) a + (![8, 1] : Fin 2 → Nat) a * (S8x128.size a - 1) < S49152x128.size a)
theorem k0_off497_inb : ∀ (v798 : BitVec 32) (k0_hw26 : k0_chk26 v798), ∀ a, S8x128.size a = 0 ∨ (k0_off497 v798) a + (![8, 1] : Fin 2 → Nat) a * (S8x128.size a - 1) < S49152x128.size a := fun v798 k0_hw26 => k0_hw26.1
theorem k0_off499_inb : ∀ (v798 : BitVec 32) (k0_hw26 : k0_chk26 v798), ∀ (r : Fin 2), ∀ a, S8x128.size a = 0 ∨ (k0_off499 v798 (BitVec.ofNat 32 (64 + 64 * r.val))) a + (![8, 1] : Fin 2 → Nat) a * (S8x128.size a - 1) < S49152x128.size a := fun v798 k0_hw26 r => k0_hw26.2 r

def k0_off500 (v49_0 : BitVec 32) (v370 : BitVec 32) (k0_t15 : Fin (k0_t15_loop v49_0).trips) (v593 : BitVec 32) (v602 : BitVec 32) (k0_t17 : Fin (k0_t17_loop v49_0 v370 k0_t15 v593 v602).trips) : Fin 1 → Nat :=
  let c0_i32_485 : BitVec 32 := 0#32
  let c1_i32_488 : BitVec 32 := 1#32
  let arg19 : BitVec 32 := Scf.iv c0_i32_485 c1_i32_488 k0_t15
  let c0_i32_497 : BitVec 32 := 0#32
  let v594 : BitVec 1 := Scalar.cmpi .eq arg19 c0_i32_497
  let c1_i32_498 : BitVec 32 := 1#32
  let v595 : BitVec 32 := Scalar.subi v370 c1_i32_498
  let c0_i32_499 : BitVec 32 := 0#32
  let v596 : BitVec 32 := Scalar.select v594 v595 c0_i32_499
  let v597 : BitVec 32 := Scalar.maxsi v593 v596
  let c0_i32_514 : BitVec 32 := 0#32
  let v607 : BitVec 32 := Scalar.subi v602 v597
  let c8_i32_505 : BitVec 32 := 8#32
  let v608 : BitVec 32 := Scalar.addi v607 c8_i32_505
  let c1_i32_506 : BitVec 32 := 1#32
  let v609 : BitVec 32 := Scalar.subi v608 c1_i32_506
  let c0_i32_508 : BitVec 32 := 0#32
  let v611 : BitVec 1 := Scalar.cmpi .sgt v609 c0_i32_508
  let v612 : BitVec 32 := Scalar.extui v611
  let c0_i32_509 : BitVec 32 := 0#32
  let v613 : BitVec 1 := Scalar.cmpi .slt v609 c0_i32_509
  let v614 : BitVec 32 := Scalar.extui v613
  let v615 : BitVec 32 := Scalar.subi v612 v614
  let c8_i32_507 : BitVec 32 := 8#32
  let c0_i32_510 : BitVec 32 := 0#32
  let v616 : BitVec 1 := Scalar.cmpi .sgt c8_i32_507 c0_i32_510
  let v617 : BitVec 32 := Scalar.extui v616
  let c0_i32_511 : BitVec 32 := 0#32
  let v618 : BitVec 1 := Scalar.cmpi .slt c8_i32_507 c0_i32_511
  let v619 : BitVec 32 := Scalar.extui v618
  let v620 : BitVec 32 := Scalar.subi v617 v619
  let v621 : BitVec 1 := Scalar.cmpi .ne v615 v620
  let v622 : BitVec 32 := Scalar.remsi v609 c8_i32_507
  let c0_i32_512 : BitVec 32 := 0#32
  let v623 : BitVec 1 := Scalar.cmpi .ne v622 c0_i32_512
  let v624 : BitVec 1 := Scalar.andi v621 v623
  let v610 : BitVec 32 := Scalar.divsi v609 c8_i32_507
  let c1_i32_513 : BitVec 32 := 1#32
  let v625 : BitVec 32 := Scalar.subi v610 c1_i32_513
  let v626 : BitVec 32 := Scalar.select v624 v625 v610
  let v627 : BitVec 32 := Scalar.subi v626 c0_i32_514
  let c1_i32_515 : BitVec 32 := 1#32
  let v629 : BitVec 32 := Scalar.divsi v627 c1_i32_515
  let v630 : BitVec 32 := Scalar.muli v629 c1_i32_515
  let v631 : BitVec 32 := Scalar.addi c0_i32_514 v630
  let c1_i32_517 : BitVec 32 := 1#32
  let arg21 : BitVec 32 := Scf.iv v631 c1_i32_517 k0_t17
  let c8_i32_527 : BitVec 32 := 8#32
  let v641 : BitVec 32 := Scalar.muli arg21 c8_i32_527
  let v642 : BitVec 32 := Scalar.addi v597 v641
  let c4_i32_614 : BitVec 32 := 4#32
  let v847 : BitVec 32 := Scalar.addi v642 c4_i32_614
  let v848 : Index := Scalar.indexCast v847
  ![v848.toNat]
def k0_off501 (v849 : BitVec 32) : Fin 2 → Nat :=
  let c65535_i32_615 : BitVec 32 := 65535#32
  let v850 : BitVec 32 := Scalar.andi v849 c65535_i32_615
  let c0_i32_618 : BitVec 32 := 0#32
  let v856 : BitVec 32 := Scalar.addi v850 c0_i32_618
  let v858 : Index := Scalar.indexCast v856
  let c0_619 : Index := 0#32
  ![v858.toNat, 0]

def k0_off502 (v49_0 : BitVec 32) (k0_t4 : Fin k0_t4_loop.trips) (k0_t15 : Fin (k0_t15_loop v49_0).trips) (v854 : BitVec 32) (c0_i32_622 : BitVec 32) : Fin 2 → Nat :=
  let c0_i32_379 : BitVec 32 := 0#32
  let c1_i32_381 : BitVec 32 := 1#32
  let arg18 : BitVec 32 := Scf.iv c0_i32_379 c1_i32_381 k0_t4
  let c64_i32 : BitVec 32 := 64#32
  let v50 : BitVec 32 := Scalar.addi v49_0 c64_i32
  let c1_i32_52 : BitVec 32 := 1#32
  let v51 : BitVec 32 := Scalar.subi v50 c1_i32_52
  let c0_i32_54 : BitVec 32 := 0#32
  let v53 : BitVec 1 := Scalar.cmpi .sgt v51 c0_i32_54
  let v54 : BitVec 32 := Scalar.extui v53
  let c0_i32_55 : BitVec 32 := 0#32
  let v55 : BitVec 1 := Scalar.cmpi .slt v51 c0_i32_55
  let v56 : BitVec 32 := Scalar.extui v55
  let v57 : BitVec 32 := Scalar.subi v54 v56
  let c64_i32_53 : BitVec 32 := 64#32
  let c0_i32_56 : BitVec 32 := 0#32
  let v58 : BitVec 1 := Scalar.cmpi .sgt c64_i32_53 c0_i32_56
  let v59 : BitVec 32 := Scalar.extui v58
  let c0_i32_57 : BitVec 32 := 0#32
  let v60 : BitVec 1 := Scalar.cmpi .slt c64_i32_53 c0_i32_57
  let v61 : BitVec 32 := Scalar.extui v60
  let v62 : BitVec 32 := Scalar.subi v59 v61
  let v63 : BitVec 1 := Scalar.cmpi .ne v57 v62
  let v64 : BitVec 32 := Scalar.remsi v51 c64_i32_53
  let c0_i32_58 : BitVec 32 := 0#32
  let v65 : BitVec 1 := Scalar.cmpi .ne v64 c0_i32_58
  let v66 : BitVec 1 := Scalar.andi v63 v65
  let v52 : BitVec 32 := Scalar.divsi v51 c64_i32_53
  let c1_i32_59 : BitVec 32 := 1#32
  let v67 : BitVec 32 := Scalar.subi v52 c1_i32_59
  let v68 : BitVec 32 := Scalar.select v66 v67 v52
  let v580 : BitVec 32 := Scalar.muli arg18 v68
  let c0_i32_485 : BitVec 32 := 0#32
  let c1_i32_488 : BitVec 32 := 1#32
  let arg19 : BitVec 32 := Scf.iv c0_i32_485 c1_i32_488 k0_t15
  let v581 : BitVec 32 := Scalar.addi v580 arg19
  let c4_i32_490 : BitVec 32 := 4#32
  let v582 : BitVec 32 := Scalar.remsi v581 c4_i32_490
  let c1728_i32 : BitVec 32 := 1728#32
  let v603 : BitVec 32 := Scalar.muli v582 c1728_i32
  let c1536_i32_503 : BitVec 32 := 1536#32
  let v604 : BitVec 32 := Scalar.muli arg19 c1536_i32_503
  let v605 : BitVec 32 := Scalar.subi v603 v604
  let v855 : BitVec 32 := Scalar.addi v854 v605
  let v864 : BitVec 32 := Scalar.addi v855 c0_i32_622
  let v866 : Index := Scalar.indexCast v864
  let c0_623 : Index := 0#32
  ![v866.toNat, 0]

def k0_chk29 (v49_0 : BitVec 32) (k0_t4 : Fin k0_t4_loop.trips) (k0_t15 : Fin (k0_t15_loop v49_0).trips) (v854 : BitVec 32) : Prop :=
  (∀ (r : Fin 3), ∀ a, S8x128.size a = 0 ∨ (k0_off502 v49_0 k0_t4 k0_t15 v854 (BitVec.ofNat 32 (64 * r.val))) a + (![8, 1] : Fin 2 → Nat) a * (S8x128.size a - 1) < S6912x128.size a)
theorem k0_off502_inb : ∀ (v49_0 : BitVec 32) (k0_t4 : Fin k0_t4_loop.trips) (k0_t15 : Fin (k0_t15_loop v49_0).trips) (v854 : BitVec 32) (k0_hw29 : k0_chk29 v49_0 k0_t4 k0_t15 v854), ∀ (r : Fin 3), ∀ a, S8x128.size a = 0 ∨ (k0_off502 v49_0 k0_t4 k0_t15 v854 (BitVec.ofNat 32 (64 * r.val))) a + (![8, 1] : Fin 2 → Nat) a * (S8x128.size a - 1) < S6912x128.size a := fun v49_0 k0_t4 k0_t15 v854 k0_hw29 r => k0_hw29 r

def k0_off503 (v849 : BitVec 32) (c64_i32_624 : BitVec 32) : Fin 2 → Nat :=
  let c65535_i32_615 : BitVec 32 := 65535#32
  let v850 : BitVec 32 := Scalar.andi v849 c65535_i32_615
  let v870 : BitVec 32 := Scalar.addi v850 c64_i32_624
  let v872 : Index := Scalar.indexCast v870
  let c0_625 : Index := 0#32
  ![v872.toNat, 0]

def k0_chk28 (v849 : BitVec 32) : Prop :=
  (∀ a, S8x128.size a = 0 ∨ (k0_off501 v849) a + (![8, 1] : Fin 2 → Nat) a * (S8x128.size a - 1) < S49152x128.size a) ∧
  (∀ (r : Fin 2), ∀ a, S8x128.size a = 0 ∨ (k0_off503 v849 (BitVec.ofNat 32 (64 + 64 * r.val))) a + (![8, 1] : Fin 2 → Nat) a * (S8x128.size a - 1) < S49152x128.size a)
theorem k0_off501_inb : ∀ (v849 : BitVec 32) (k0_hw28 : k0_chk28 v849), ∀ a, S8x128.size a = 0 ∨ (k0_off501 v849) a + (![8, 1] : Fin 2 → Nat) a * (S8x128.size a - 1) < S49152x128.size a := fun v849 k0_hw28 => k0_hw28.1
theorem k0_off503_inb : ∀ (v849 : BitVec 32) (k0_hw28 : k0_chk28 v849), ∀ (r : Fin 2), ∀ a, S8x128.size a = 0 ∨ (k0_off503 v849 (BitVec.ofNat 32 (64 + 64 * r.val))) a + (![8, 1] : Fin 2 → Nat) a * (S8x128.size a - 1) < S49152x128.size a := fun v849 k0_hw28 r => k0_hw28.2 r

def k0_off504 (v49_0 : BitVec 32) (v370 : BitVec 32) (k0_t15 : Fin (k0_t15_loop v49_0).trips) (v593 : BitVec 32) (v602 : BitVec 32) (k0_t17 : Fin (k0_t17_loop v49_0 v370 k0_t15 v593 v602).trips) : Fin 1 → Nat :=
  let c0_i32_485 : BitVec 32 := 0#32
  let c1_i32_488 : BitVec 32 := 1#32
  let arg19 : BitVec 32 := Scf.iv c0_i32_485 c1_i32_488 k0_t15
  let c0_i32_497 : BitVec 32 := 0#32
  let v594 : BitVec 1 := Scalar.cmpi .eq arg19 c0_i32_497
  let c1_i32_498 : BitVec 32 := 1#32
  let v595 : BitVec 32 := Scalar.subi v370 c1_i32_498
  let c0_i32_499 : BitVec 32 := 0#32
  let v596 : BitVec 32 := Scalar.select v594 v595 c0_i32_499
  let v597 : BitVec 32 := Scalar.maxsi v593 v596
  let c0_i32_514 : BitVec 32 := 0#32
  let v607 : BitVec 32 := Scalar.subi v602 v597
  let c8_i32_505 : BitVec 32 := 8#32
  let v608 : BitVec 32 := Scalar.addi v607 c8_i32_505
  let c1_i32_506 : BitVec 32 := 1#32
  let v609 : BitVec 32 := Scalar.subi v608 c1_i32_506
  let c0_i32_508 : BitVec 32 := 0#32
  let v611 : BitVec 1 := Scalar.cmpi .sgt v609 c0_i32_508
  let v612 : BitVec 32 := Scalar.extui v611
  let c0_i32_509 : BitVec 32 := 0#32
  let v613 : BitVec 1 := Scalar.cmpi .slt v609 c0_i32_509
  let v614 : BitVec 32 := Scalar.extui v613
  let v615 : BitVec 32 := Scalar.subi v612 v614
  let c8_i32_507 : BitVec 32 := 8#32
  let c0_i32_510 : BitVec 32 := 0#32
  let v616 : BitVec 1 := Scalar.cmpi .sgt c8_i32_507 c0_i32_510
  let v617 : BitVec 32 := Scalar.extui v616
  let c0_i32_511 : BitVec 32 := 0#32
  let v618 : BitVec 1 := Scalar.cmpi .slt c8_i32_507 c0_i32_511
  let v619 : BitVec 32 := Scalar.extui v618
  let v620 : BitVec 32 := Scalar.subi v617 v619
  let v621 : BitVec 1 := Scalar.cmpi .ne v615 v620
  let v622 : BitVec 32 := Scalar.remsi v609 c8_i32_507
  let c0_i32_512 : BitVec 32 := 0#32
  let v623 : BitVec 1 := Scalar.cmpi .ne v622 c0_i32_512
  let v624 : BitVec 1 := Scalar.andi v621 v623
  let v610 : BitVec 32 := Scalar.divsi v609 c8_i32_507
  let c1_i32_513 : BitVec 32 := 1#32
  let v625 : BitVec 32 := Scalar.subi v610 c1_i32_513
  let v626 : BitVec 32 := Scalar.select v624 v625 v610
  let v627 : BitVec 32 := Scalar.subi v626 c0_i32_514
  let c1_i32_515 : BitVec 32 := 1#32
  let v629 : BitVec 32 := Scalar.divsi v627 c1_i32_515
  let v630 : BitVec 32 := Scalar.muli v629 c1_i32_515
  let v631 : BitVec 32 := Scalar.addi c0_i32_514 v630
  let c1_i32_517 : BitVec 32 := 1#32
  let arg21 : BitVec 32 := Scf.iv v631 c1_i32_517 k0_t17
  let c8_i32_527 : BitVec 32 := 8#32
  let v641 : BitVec 32 := Scalar.muli arg21 c8_i32_527
  let v642 : BitVec 32 := Scalar.addi v597 v641
  let c5_i32_636 : BitVec 32 := 5#32
  let v898 : BitVec 32 := Scalar.addi v642 c5_i32_636
  let v899 : Index := Scalar.indexCast v898
  ![v899.toNat]
def k0_off505 (v900 : BitVec 32) : Fin 2 → Nat :=
  let c65535_i32_637 : BitVec 32 := 65535#32
  let v901 : BitVec 32 := Scalar.andi v900 c65535_i32_637
  let c0_i32_640 : BitVec 32 := 0#32
  let v907 : BitVec 32 := Scalar.addi v901 c0_i32_640
  let v909 : Index := Scalar.indexCast v907
  let c0_641 : Index := 0#32
  ![v909.toNat, 0]

def k0_off506 (v49_0 : BitVec 32) (k0_t4 : Fin k0_t4_loop.trips) (k0_t15 : Fin (k0_t15_loop v49_0).trips) (v905 : BitVec 32) (c0_i32_644 : BitVec 32) : Fin 2 → Nat :=
  let c0_i32_379 : BitVec 32 := 0#32
  let c1_i32_381 : BitVec 32 := 1#32
  let arg18 : BitVec 32 := Scf.iv c0_i32_379 c1_i32_381 k0_t4
  let c64_i32 : BitVec 32 := 64#32
  let v50 : BitVec 32 := Scalar.addi v49_0 c64_i32
  let c1_i32_52 : BitVec 32 := 1#32
  let v51 : BitVec 32 := Scalar.subi v50 c1_i32_52
  let c0_i32_54 : BitVec 32 := 0#32
  let v53 : BitVec 1 := Scalar.cmpi .sgt v51 c0_i32_54
  let v54 : BitVec 32 := Scalar.extui v53
  let c0_i32_55 : BitVec 32 := 0#32
  let v55 : BitVec 1 := Scalar.cmpi .slt v51 c0_i32_55
  let v56 : BitVec 32 := Scalar.extui v55
  let v57 : BitVec 32 := Scalar.subi v54 v56
  let c64_i32_53 : BitVec 32 := 64#32
  let c0_i32_56 : BitVec 32 := 0#32
  let v58 : BitVec 1 := Scalar.cmpi .sgt c64_i32_53 c0_i32_56
  let v59 : BitVec 32 := Scalar.extui v58
  let c0_i32_57 : BitVec 32 := 0#32
  let v60 : BitVec 1 := Scalar.cmpi .slt c64_i32_53 c0_i32_57
  let v61 : BitVec 32 := Scalar.extui v60
  let v62 : BitVec 32 := Scalar.subi v59 v61
  let v63 : BitVec 1 := Scalar.cmpi .ne v57 v62
  let v64 : BitVec 32 := Scalar.remsi v51 c64_i32_53
  let c0_i32_58 : BitVec 32 := 0#32
  let v65 : BitVec 1 := Scalar.cmpi .ne v64 c0_i32_58
  let v66 : BitVec 1 := Scalar.andi v63 v65
  let v52 : BitVec 32 := Scalar.divsi v51 c64_i32_53
  let c1_i32_59 : BitVec 32 := 1#32
  let v67 : BitVec 32 := Scalar.subi v52 c1_i32_59
  let v68 : BitVec 32 := Scalar.select v66 v67 v52
  let v580 : BitVec 32 := Scalar.muli arg18 v68
  let c0_i32_485 : BitVec 32 := 0#32
  let c1_i32_488 : BitVec 32 := 1#32
  let arg19 : BitVec 32 := Scf.iv c0_i32_485 c1_i32_488 k0_t15
  let v581 : BitVec 32 := Scalar.addi v580 arg19
  let c4_i32_490 : BitVec 32 := 4#32
  let v582 : BitVec 32 := Scalar.remsi v581 c4_i32_490
  let c1728_i32 : BitVec 32 := 1728#32
  let v603 : BitVec 32 := Scalar.muli v582 c1728_i32
  let c1536_i32_503 : BitVec 32 := 1536#32
  let v604 : BitVec 32 := Scalar.muli arg19 c1536_i32_503
  let v605 : BitVec 32 := Scalar.subi v603 v604
  let v906 : BitVec 32 := Scalar.addi v905 v605
  let v915 : BitVec 32 := Scalar.addi v906 c0_i32_644
  let v917 : Index := Scalar.indexCast v915
  let c0_645 : Index := 0#32
  ![v917.toNat, 0]

def k0_chk31 (v49_0 : BitVec 32) (k0_t4 : Fin k0_t4_loop.trips) (k0_t15 : Fin (k0_t15_loop v49_0).trips) (v905 : BitVec 32) : Prop :=
  (∀ (r : Fin 3), ∀ a, S8x128.size a = 0 ∨ (k0_off506 v49_0 k0_t4 k0_t15 v905 (BitVec.ofNat 32 (64 * r.val))) a + (![8, 1] : Fin 2 → Nat) a * (S8x128.size a - 1) < S6912x128.size a)
theorem k0_off506_inb : ∀ (v49_0 : BitVec 32) (k0_t4 : Fin k0_t4_loop.trips) (k0_t15 : Fin (k0_t15_loop v49_0).trips) (v905 : BitVec 32) (k0_hw31 : k0_chk31 v49_0 k0_t4 k0_t15 v905), ∀ (r : Fin 3), ∀ a, S8x128.size a = 0 ∨ (k0_off506 v49_0 k0_t4 k0_t15 v905 (BitVec.ofNat 32 (64 * r.val))) a + (![8, 1] : Fin 2 → Nat) a * (S8x128.size a - 1) < S6912x128.size a := fun v49_0 k0_t4 k0_t15 v905 k0_hw31 r => k0_hw31 r

def k0_off507 (v900 : BitVec 32) (c64_i32_646 : BitVec 32) : Fin 2 → Nat :=
  let c65535_i32_637 : BitVec 32 := 65535#32
  let v901 : BitVec 32 := Scalar.andi v900 c65535_i32_637
  let v921 : BitVec 32 := Scalar.addi v901 c64_i32_646
  let v923 : Index := Scalar.indexCast v921
  let c0_647 : Index := 0#32
  ![v923.toNat, 0]

def k0_chk30 (v900 : BitVec 32) : Prop :=
  (∀ a, S8x128.size a = 0 ∨ (k0_off505 v900) a + (![8, 1] : Fin 2 → Nat) a * (S8x128.size a - 1) < S49152x128.size a) ∧
  (∀ (r : Fin 2), ∀ a, S8x128.size a = 0 ∨ (k0_off507 v900 (BitVec.ofNat 32 (64 + 64 * r.val))) a + (![8, 1] : Fin 2 → Nat) a * (S8x128.size a - 1) < S49152x128.size a)
theorem k0_off505_inb : ∀ (v900 : BitVec 32) (k0_hw30 : k0_chk30 v900), ∀ a, S8x128.size a = 0 ∨ (k0_off505 v900) a + (![8, 1] : Fin 2 → Nat) a * (S8x128.size a - 1) < S49152x128.size a := fun v900 k0_hw30 => k0_hw30.1
theorem k0_off507_inb : ∀ (v900 : BitVec 32) (k0_hw30 : k0_chk30 v900), ∀ (r : Fin 2), ∀ a, S8x128.size a = 0 ∨ (k0_off507 v900 (BitVec.ofNat 32 (64 + 64 * r.val))) a + (![8, 1] : Fin 2 → Nat) a * (S8x128.size a - 1) < S49152x128.size a := fun v900 k0_hw30 r => k0_hw30.2 r

def k0_off508 (v49_0 : BitVec 32) (v370 : BitVec 32) (k0_t15 : Fin (k0_t15_loop v49_0).trips) (v593 : BitVec 32) (v602 : BitVec 32) (k0_t17 : Fin (k0_t17_loop v49_0 v370 k0_t15 v593 v602).trips) : Fin 1 → Nat :=
  let c0_i32_485 : BitVec 32 := 0#32
  let c1_i32_488 : BitVec 32 := 1#32
  let arg19 : BitVec 32 := Scf.iv c0_i32_485 c1_i32_488 k0_t15
  let c0_i32_497 : BitVec 32 := 0#32
  let v594 : BitVec 1 := Scalar.cmpi .eq arg19 c0_i32_497
  let c1_i32_498 : BitVec 32 := 1#32
  let v595 : BitVec 32 := Scalar.subi v370 c1_i32_498
  let c0_i32_499 : BitVec 32 := 0#32
  let v596 : BitVec 32 := Scalar.select v594 v595 c0_i32_499
  let v597 : BitVec 32 := Scalar.maxsi v593 v596
  let c0_i32_514 : BitVec 32 := 0#32
  let v607 : BitVec 32 := Scalar.subi v602 v597
  let c8_i32_505 : BitVec 32 := 8#32
  let v608 : BitVec 32 := Scalar.addi v607 c8_i32_505
  let c1_i32_506 : BitVec 32 := 1#32
  let v609 : BitVec 32 := Scalar.subi v608 c1_i32_506
  let c0_i32_508 : BitVec 32 := 0#32
  let v611 : BitVec 1 := Scalar.cmpi .sgt v609 c0_i32_508
  let v612 : BitVec 32 := Scalar.extui v611
  let c0_i32_509 : BitVec 32 := 0#32
  let v613 : BitVec 1 := Scalar.cmpi .slt v609 c0_i32_509
  let v614 : BitVec 32 := Scalar.extui v613
  let v615 : BitVec 32 := Scalar.subi v612 v614
  let c8_i32_507 : BitVec 32 := 8#32
  let c0_i32_510 : BitVec 32 := 0#32
  let v616 : BitVec 1 := Scalar.cmpi .sgt c8_i32_507 c0_i32_510
  let v617 : BitVec 32 := Scalar.extui v616
  let c0_i32_511 : BitVec 32 := 0#32
  let v618 : BitVec 1 := Scalar.cmpi .slt c8_i32_507 c0_i32_511
  let v619 : BitVec 32 := Scalar.extui v618
  let v620 : BitVec 32 := Scalar.subi v617 v619
  let v621 : BitVec 1 := Scalar.cmpi .ne v615 v620
  let v622 : BitVec 32 := Scalar.remsi v609 c8_i32_507
  let c0_i32_512 : BitVec 32 := 0#32
  let v623 : BitVec 1 := Scalar.cmpi .ne v622 c0_i32_512
  let v624 : BitVec 1 := Scalar.andi v621 v623
  let v610 : BitVec 32 := Scalar.divsi v609 c8_i32_507
  let c1_i32_513 : BitVec 32 := 1#32
  let v625 : BitVec 32 := Scalar.subi v610 c1_i32_513
  let v626 : BitVec 32 := Scalar.select v624 v625 v610
  let v627 : BitVec 32 := Scalar.subi v626 c0_i32_514
  let c1_i32_515 : BitVec 32 := 1#32
  let v629 : BitVec 32 := Scalar.divsi v627 c1_i32_515
  let v630 : BitVec 32 := Scalar.muli v629 c1_i32_515
  let v631 : BitVec 32 := Scalar.addi c0_i32_514 v630
  let c1_i32_517 : BitVec 32 := 1#32
  let arg21 : BitVec 32 := Scf.iv v631 c1_i32_517 k0_t17
  let c8_i32_527 : BitVec 32 := 8#32
  let v641 : BitVec 32 := Scalar.muli arg21 c8_i32_527
  let v642 : BitVec 32 := Scalar.addi v597 v641
  let c6_i32_658 : BitVec 32 := 6#32
  let v949 : BitVec 32 := Scalar.addi v642 c6_i32_658
  let v950 : Index := Scalar.indexCast v949
  ![v950.toNat]
def k0_off509 (v951 : BitVec 32) : Fin 2 → Nat :=
  let c65535_i32_659 : BitVec 32 := 65535#32
  let v952 : BitVec 32 := Scalar.andi v951 c65535_i32_659
  let c0_i32_662 : BitVec 32 := 0#32
  let v958 : BitVec 32 := Scalar.addi v952 c0_i32_662
  let v960 : Index := Scalar.indexCast v958
  let c0_663 : Index := 0#32
  ![v960.toNat, 0]

def k0_off510 (v49_0 : BitVec 32) (k0_t4 : Fin k0_t4_loop.trips) (k0_t15 : Fin (k0_t15_loop v49_0).trips) (v956 : BitVec 32) (c0_i32_666 : BitVec 32) : Fin 2 → Nat :=
  let c0_i32_379 : BitVec 32 := 0#32
  let c1_i32_381 : BitVec 32 := 1#32
  let arg18 : BitVec 32 := Scf.iv c0_i32_379 c1_i32_381 k0_t4
  let c64_i32 : BitVec 32 := 64#32
  let v50 : BitVec 32 := Scalar.addi v49_0 c64_i32
  let c1_i32_52 : BitVec 32 := 1#32
  let v51 : BitVec 32 := Scalar.subi v50 c1_i32_52
  let c0_i32_54 : BitVec 32 := 0#32
  let v53 : BitVec 1 := Scalar.cmpi .sgt v51 c0_i32_54
  let v54 : BitVec 32 := Scalar.extui v53
  let c0_i32_55 : BitVec 32 := 0#32
  let v55 : BitVec 1 := Scalar.cmpi .slt v51 c0_i32_55
  let v56 : BitVec 32 := Scalar.extui v55
  let v57 : BitVec 32 := Scalar.subi v54 v56
  let c64_i32_53 : BitVec 32 := 64#32
  let c0_i32_56 : BitVec 32 := 0#32
  let v58 : BitVec 1 := Scalar.cmpi .sgt c64_i32_53 c0_i32_56
  let v59 : BitVec 32 := Scalar.extui v58
  let c0_i32_57 : BitVec 32 := 0#32
  let v60 : BitVec 1 := Scalar.cmpi .slt c64_i32_53 c0_i32_57
  let v61 : BitVec 32 := Scalar.extui v60
  let v62 : BitVec 32 := Scalar.subi v59 v61
  let v63 : BitVec 1 := Scalar.cmpi .ne v57 v62
  let v64 : BitVec 32 := Scalar.remsi v51 c64_i32_53
  let c0_i32_58 : BitVec 32 := 0#32
  let v65 : BitVec 1 := Scalar.cmpi .ne v64 c0_i32_58
  let v66 : BitVec 1 := Scalar.andi v63 v65
  let v52 : BitVec 32 := Scalar.divsi v51 c64_i32_53
  let c1_i32_59 : BitVec 32 := 1#32
  let v67 : BitVec 32 := Scalar.subi v52 c1_i32_59
  let v68 : BitVec 32 := Scalar.select v66 v67 v52
  let v580 : BitVec 32 := Scalar.muli arg18 v68
  let c0_i32_485 : BitVec 32 := 0#32
  let c1_i32_488 : BitVec 32 := 1#32
  let arg19 : BitVec 32 := Scf.iv c0_i32_485 c1_i32_488 k0_t15
  let v581 : BitVec 32 := Scalar.addi v580 arg19
  let c4_i32_490 : BitVec 32 := 4#32
  let v582 : BitVec 32 := Scalar.remsi v581 c4_i32_490
  let c1728_i32 : BitVec 32 := 1728#32
  let v603 : BitVec 32 := Scalar.muli v582 c1728_i32
  let c1536_i32_503 : BitVec 32 := 1536#32
  let v604 : BitVec 32 := Scalar.muli arg19 c1536_i32_503
  let v605 : BitVec 32 := Scalar.subi v603 v604
  let v957 : BitVec 32 := Scalar.addi v956 v605
  let v966 : BitVec 32 := Scalar.addi v957 c0_i32_666
  let v968 : Index := Scalar.indexCast v966
  let c0_667 : Index := 0#32
  ![v968.toNat, 0]

def k0_chk33 (v49_0 : BitVec 32) (k0_t4 : Fin k0_t4_loop.trips) (k0_t15 : Fin (k0_t15_loop v49_0).trips) (v956 : BitVec 32) : Prop :=
  (∀ (r : Fin 3), ∀ a, S8x128.size a = 0 ∨ (k0_off510 v49_0 k0_t4 k0_t15 v956 (BitVec.ofNat 32 (64 * r.val))) a + (![8, 1] : Fin 2 → Nat) a * (S8x128.size a - 1) < S6912x128.size a)
theorem k0_off510_inb : ∀ (v49_0 : BitVec 32) (k0_t4 : Fin k0_t4_loop.trips) (k0_t15 : Fin (k0_t15_loop v49_0).trips) (v956 : BitVec 32) (k0_hw33 : k0_chk33 v49_0 k0_t4 k0_t15 v956), ∀ (r : Fin 3), ∀ a, S8x128.size a = 0 ∨ (k0_off510 v49_0 k0_t4 k0_t15 v956 (BitVec.ofNat 32 (64 * r.val))) a + (![8, 1] : Fin 2 → Nat) a * (S8x128.size a - 1) < S6912x128.size a := fun v49_0 k0_t4 k0_t15 v956 k0_hw33 r => k0_hw33 r

def k0_off511 (v951 : BitVec 32) (c64_i32_668 : BitVec 32) : Fin 2 → Nat :=
  let c65535_i32_659 : BitVec 32 := 65535#32
  let v952 : BitVec 32 := Scalar.andi v951 c65535_i32_659
  let v972 : BitVec 32 := Scalar.addi v952 c64_i32_668
  let v974 : Index := Scalar.indexCast v972
  let c0_669 : Index := 0#32
  ![v974.toNat, 0]

def k0_chk32 (v951 : BitVec 32) : Prop :=
  (∀ a, S8x128.size a = 0 ∨ (k0_off509 v951) a + (![8, 1] : Fin 2 → Nat) a * (S8x128.size a - 1) < S49152x128.size a) ∧
  (∀ (r : Fin 2), ∀ a, S8x128.size a = 0 ∨ (k0_off511 v951 (BitVec.ofNat 32 (64 + 64 * r.val))) a + (![8, 1] : Fin 2 → Nat) a * (S8x128.size a - 1) < S49152x128.size a)
theorem k0_off509_inb : ∀ (v951 : BitVec 32) (k0_hw32 : k0_chk32 v951), ∀ a, S8x128.size a = 0 ∨ (k0_off509 v951) a + (![8, 1] : Fin 2 → Nat) a * (S8x128.size a - 1) < S49152x128.size a := fun v951 k0_hw32 => k0_hw32.1
theorem k0_off511_inb : ∀ (v951 : BitVec 32) (k0_hw32 : k0_chk32 v951), ∀ (r : Fin 2), ∀ a, S8x128.size a = 0 ∨ (k0_off511 v951 (BitVec.ofNat 32 (64 + 64 * r.val))) a + (![8, 1] : Fin 2 → Nat) a * (S8x128.size a - 1) < S49152x128.size a := fun v951 k0_hw32 r => k0_hw32.2 r

def k0_off512 (v49_0 : BitVec 32) (v370 : BitVec 32) (k0_t15 : Fin (k0_t15_loop v49_0).trips) (v593 : BitVec 32) (v602 : BitVec 32) (k0_t17 : Fin (k0_t17_loop v49_0 v370 k0_t15 v593 v602).trips) : Fin 1 → Nat :=
  let c0_i32_485 : BitVec 32 := 0#32
  let c1_i32_488 : BitVec 32 := 1#32
  let arg19 : BitVec 32 := Scf.iv c0_i32_485 c1_i32_488 k0_t15
  let c0_i32_497 : BitVec 32 := 0#32
  let v594 : BitVec 1 := Scalar.cmpi .eq arg19 c0_i32_497
  let c1_i32_498 : BitVec 32 := 1#32
  let v595 : BitVec 32 := Scalar.subi v370 c1_i32_498
  let c0_i32_499 : BitVec 32 := 0#32
  let v596 : BitVec 32 := Scalar.select v594 v595 c0_i32_499
  let v597 : BitVec 32 := Scalar.maxsi v593 v596
  let c0_i32_514 : BitVec 32 := 0#32
  let v607 : BitVec 32 := Scalar.subi v602 v597
  let c8_i32_505 : BitVec 32 := 8#32
  let v608 : BitVec 32 := Scalar.addi v607 c8_i32_505
  let c1_i32_506 : BitVec 32 := 1#32
  let v609 : BitVec 32 := Scalar.subi v608 c1_i32_506
  let c0_i32_508 : BitVec 32 := 0#32
  let v611 : BitVec 1 := Scalar.cmpi .sgt v609 c0_i32_508
  let v612 : BitVec 32 := Scalar.extui v611
  let c0_i32_509 : BitVec 32 := 0#32
  let v613 : BitVec 1 := Scalar.cmpi .slt v609 c0_i32_509
  let v614 : BitVec 32 := Scalar.extui v613
  let v615 : BitVec 32 := Scalar.subi v612 v614
  let c8_i32_507 : BitVec 32 := 8#32
  let c0_i32_510 : BitVec 32 := 0#32
  let v616 : BitVec 1 := Scalar.cmpi .sgt c8_i32_507 c0_i32_510
  let v617 : BitVec 32 := Scalar.extui v616
  let c0_i32_511 : BitVec 32 := 0#32
  let v618 : BitVec 1 := Scalar.cmpi .slt c8_i32_507 c0_i32_511
  let v619 : BitVec 32 := Scalar.extui v618
  let v620 : BitVec 32 := Scalar.subi v617 v619
  let v621 : BitVec 1 := Scalar.cmpi .ne v615 v620
  let v622 : BitVec 32 := Scalar.remsi v609 c8_i32_507
  let c0_i32_512 : BitVec 32 := 0#32
  let v623 : BitVec 1 := Scalar.cmpi .ne v622 c0_i32_512
  let v624 : BitVec 1 := Scalar.andi v621 v623
  let v610 : BitVec 32 := Scalar.divsi v609 c8_i32_507
  let c1_i32_513 : BitVec 32 := 1#32
  let v625 : BitVec 32 := Scalar.subi v610 c1_i32_513
  let v626 : BitVec 32 := Scalar.select v624 v625 v610
  let v627 : BitVec 32 := Scalar.subi v626 c0_i32_514
  let c1_i32_515 : BitVec 32 := 1#32
  let v629 : BitVec 32 := Scalar.divsi v627 c1_i32_515
  let v630 : BitVec 32 := Scalar.muli v629 c1_i32_515
  let v631 : BitVec 32 := Scalar.addi c0_i32_514 v630
  let c1_i32_517 : BitVec 32 := 1#32
  let arg21 : BitVec 32 := Scf.iv v631 c1_i32_517 k0_t17
  let c8_i32_527 : BitVec 32 := 8#32
  let v641 : BitVec 32 := Scalar.muli arg21 c8_i32_527
  let v642 : BitVec 32 := Scalar.addi v597 v641
  let c7_i32_680 : BitVec 32 := 7#32
  let v1000 : BitVec 32 := Scalar.addi v642 c7_i32_680
  let v1001 : Index := Scalar.indexCast v1000
  ![v1001.toNat]

def k0_chk3 (v49_0 : BitVec 32) (v370 : BitVec 32) (k0_t15 : Fin (k0_t15_loop v49_0).trips) (v593 : BitVec 32) (v602 : BitVec 32) : Prop :=
  ((k0_t16_loop v49_0 v370 k0_t15 v593 v602).OK) ∧
  (∀ k0_t16 : Fin (k0_t16_loop v49_0 v370 k0_t15 v593 v602).trips, ∀ a, (k0_off452 v49_0 v370 k0_t15 v593 v602 k0_t16) a + S1.size a ≤ S2176.size a) ∧
  (∀ k0_t16 : Fin (k0_t16_loop v49_0 v370 k0_t15 v593 v602).trips, ∀ a, (k0_off456 v49_0 v370 k0_t15 v593 v602 k0_t16) a + S1.size a ≤ S2176.size a) ∧
  (∀ k0_t16 : Fin (k0_t16_loop v49_0 v370 k0_t15 v593 v602).trips, ∀ a, (k0_off460 v49_0 v370 k0_t15 v593 v602 k0_t16) a + S1.size a ≤ S2176.size a) ∧
  (∀ k0_t16 : Fin (k0_t16_loop v49_0 v370 k0_t15 v593 v602).trips, ∀ a, (k0_off464 v49_0 v370 k0_t15 v593 v602 k0_t16) a + S1.size a ≤ S2176.size a) ∧
  (∀ k0_t16 : Fin (k0_t16_loop v49_0 v370 k0_t15 v593 v602).trips, ∀ a, (k0_off468 v49_0 v370 k0_t15 v593 v602 k0_t16) a + S1.size a ≤ S2176.size a) ∧
  (∀ k0_t16 : Fin (k0_t16_loop v49_0 v370 k0_t15 v593 v602).trips, ∀ a, (k0_off472 v49_0 v370 k0_t15 v593 v602 k0_t16) a + S1.size a ≤ S2176.size a) ∧
  (∀ k0_t16 : Fin (k0_t16_loop v49_0 v370 k0_t15 v593 v602).trips, ∀ a, (k0_off476 v49_0 v370 k0_t15 v593 v602 k0_t16) a + S1.size a ≤ S2176.size a) ∧
  (∀ k0_t16 : Fin (k0_t16_loop v49_0 v370 k0_t15 v593 v602).trips, ∀ a, (k0_off480 v49_0 v370 k0_t15 v593 v602 k0_t16) a + S1.size a ≤ S2176.size a) ∧
  ((k0_t17_loop v49_0 v370 k0_t15 v593 v602).OK) ∧
  (∀ k0_t17 : Fin (k0_t17_loop v49_0 v370 k0_t15 v593 v602).trips, ∀ a, (k0_off484 v49_0 v370 k0_t15 v593 v602 k0_t17) a + S1.size a ≤ S2176.size a) ∧
  (∀ k0_t17 : Fin (k0_t17_loop v49_0 v370 k0_t15 v593 v602).trips, ∀ a, (k0_off488 v49_0 v370 k0_t15 v593 v602 k0_t17) a + S1.size a ≤ S2176.size a) ∧
  (∀ k0_t17 : Fin (k0_t17_loop v49_0 v370 k0_t15 v593 v602).trips, ∀ a, (k0_off492 v49_0 v370 k0_t15 v593 v602 k0_t17) a + S1.size a ≤ S2176.size a) ∧
  (∀ k0_t17 : Fin (k0_t17_loop v49_0 v370 k0_t15 v593 v602).trips, ∀ a, (k0_off496 v49_0 v370 k0_t15 v593 v602 k0_t17) a + S1.size a ≤ S2176.size a) ∧
  (∀ k0_t17 : Fin (k0_t17_loop v49_0 v370 k0_t15 v593 v602).trips, ∀ a, (k0_off500 v49_0 v370 k0_t15 v593 v602 k0_t17) a + S1.size a ≤ S2176.size a) ∧
  (∀ k0_t17 : Fin (k0_t17_loop v49_0 v370 k0_t15 v593 v602).trips, ∀ a, (k0_off504 v49_0 v370 k0_t15 v593 v602 k0_t17) a + S1.size a ≤ S2176.size a) ∧
  (∀ k0_t17 : Fin (k0_t17_loop v49_0 v370 k0_t15 v593 v602).trips, ∀ a, (k0_off508 v49_0 v370 k0_t15 v593 v602 k0_t17) a + S1.size a ≤ S2176.size a) ∧
  (∀ k0_t17 : Fin (k0_t17_loop v49_0 v370 k0_t15 v593 v602).trips, ∀ a, (k0_off512 v49_0 v370 k0_t15 v593 v602 k0_t17) a + S1.size a ≤ S2176.size a)
theorem k0_t16_ok : ∀ (v49_0 : BitVec 32) (v370 : BitVec 32) (k0_t15 : Fin (k0_t15_loop v49_0).trips) (v593 : BitVec 32) (v602 : BitVec 32) (k0_hw3 : k0_chk3 v49_0 v370 k0_t15 v593 v602), (k0_t16_loop v49_0 v370 k0_t15 v593 v602).OK := fun v49_0 v370 k0_t15 v593 v602 k0_hw3 => k0_hw3.1
theorem k0_off452_inb : ∀ (v49_0 : BitVec 32) (v370 : BitVec 32) (k0_t15 : Fin (k0_t15_loop v49_0).trips) (v593 : BitVec 32) (v602 : BitVec 32) (k0_hw3 : k0_chk3 v49_0 v370 k0_t15 v593 v602) (k0_t16 : Fin (k0_t16_loop v49_0 v370 k0_t15 v593 v602).trips), ∀ a, (k0_off452 v49_0 v370 k0_t15 v593 v602 k0_t16) a + S1.size a ≤ S2176.size a := fun v49_0 v370 k0_t15 v593 v602 k0_hw3 k0_t16 => k0_hw3.2.1 k0_t16
theorem k0_off456_inb : ∀ (v49_0 : BitVec 32) (v370 : BitVec 32) (k0_t15 : Fin (k0_t15_loop v49_0).trips) (v593 : BitVec 32) (v602 : BitVec 32) (k0_hw3 : k0_chk3 v49_0 v370 k0_t15 v593 v602) (k0_t16 : Fin (k0_t16_loop v49_0 v370 k0_t15 v593 v602).trips), ∀ a, (k0_off456 v49_0 v370 k0_t15 v593 v602 k0_t16) a + S1.size a ≤ S2176.size a := fun v49_0 v370 k0_t15 v593 v602 k0_hw3 k0_t16 => k0_hw3.2.2.1 k0_t16
theorem k0_off460_inb : ∀ (v49_0 : BitVec 32) (v370 : BitVec 32) (k0_t15 : Fin (k0_t15_loop v49_0).trips) (v593 : BitVec 32) (v602 : BitVec 32) (k0_hw3 : k0_chk3 v49_0 v370 k0_t15 v593 v602) (k0_t16 : Fin (k0_t16_loop v49_0 v370 k0_t15 v593 v602).trips), ∀ a, (k0_off460 v49_0 v370 k0_t15 v593 v602 k0_t16) a + S1.size a ≤ S2176.size a := fun v49_0 v370 k0_t15 v593 v602 k0_hw3 k0_t16 => k0_hw3.2.2.2.1 k0_t16
theorem k0_off464_inb : ∀ (v49_0 : BitVec 32) (v370 : BitVec 32) (k0_t15 : Fin (k0_t15_loop v49_0).trips) (v593 : BitVec 32) (v602 : BitVec 32) (k0_hw3 : k0_chk3 v49_0 v370 k0_t15 v593 v602) (k0_t16 : Fin (k0_t16_loop v49_0 v370 k0_t15 v593 v602).trips), ∀ a, (k0_off464 v49_0 v370 k0_t15 v593 v602 k0_t16) a + S1.size a ≤ S2176.size a := fun v49_0 v370 k0_t15 v593 v602 k0_hw3 k0_t16 => k0_hw3.2.2.2.2.1 k0_t16
theorem k0_off468_inb : ∀ (v49_0 : BitVec 32) (v370 : BitVec 32) (k0_t15 : Fin (k0_t15_loop v49_0).trips) (v593 : BitVec 32) (v602 : BitVec 32) (k0_hw3 : k0_chk3 v49_0 v370 k0_t15 v593 v602) (k0_t16 : Fin (k0_t16_loop v49_0 v370 k0_t15 v593 v602).trips), ∀ a, (k0_off468 v49_0 v370 k0_t15 v593 v602 k0_t16) a + S1.size a ≤ S2176.size a := fun v49_0 v370 k0_t15 v593 v602 k0_hw3 k0_t16 => k0_hw3.2.2.2.2.2.1 k0_t16
theorem k0_off472_inb : ∀ (v49_0 : BitVec 32) (v370 : BitVec 32) (k0_t15 : Fin (k0_t15_loop v49_0).trips) (v593 : BitVec 32) (v602 : BitVec 32) (k0_hw3 : k0_chk3 v49_0 v370 k0_t15 v593 v602) (k0_t16 : Fin (k0_t16_loop v49_0 v370 k0_t15 v593 v602).trips), ∀ a, (k0_off472 v49_0 v370 k0_t15 v593 v602 k0_t16) a + S1.size a ≤ S2176.size a := fun v49_0 v370 k0_t15 v593 v602 k0_hw3 k0_t16 => k0_hw3.2.2.2.2.2.2.1 k0_t16
theorem k0_off476_inb : ∀ (v49_0 : BitVec 32) (v370 : BitVec 32) (k0_t15 : Fin (k0_t15_loop v49_0).trips) (v593 : BitVec 32) (v602 : BitVec 32) (k0_hw3 : k0_chk3 v49_0 v370 k0_t15 v593 v602) (k0_t16 : Fin (k0_t16_loop v49_0 v370 k0_t15 v593 v602).trips), ∀ a, (k0_off476 v49_0 v370 k0_t15 v593 v602 k0_t16) a + S1.size a ≤ S2176.size a := fun v49_0 v370 k0_t15 v593 v602 k0_hw3 k0_t16 => k0_hw3.2.2.2.2.2.2.2.1 k0_t16
theorem k0_off480_inb : ∀ (v49_0 : BitVec 32) (v370 : BitVec 32) (k0_t15 : Fin (k0_t15_loop v49_0).trips) (v593 : BitVec 32) (v602 : BitVec 32) (k0_hw3 : k0_chk3 v49_0 v370 k0_t15 v593 v602) (k0_t16 : Fin (k0_t16_loop v49_0 v370 k0_t15 v593 v602).trips), ∀ a, (k0_off480 v49_0 v370 k0_t15 v593 v602 k0_t16) a + S1.size a ≤ S2176.size a := fun v49_0 v370 k0_t15 v593 v602 k0_hw3 k0_t16 => k0_hw3.2.2.2.2.2.2.2.2.1 k0_t16
theorem k0_t17_ok : ∀ (v49_0 : BitVec 32) (v370 : BitVec 32) (k0_t15 : Fin (k0_t15_loop v49_0).trips) (v593 : BitVec 32) (v602 : BitVec 32) (k0_hw3 : k0_chk3 v49_0 v370 k0_t15 v593 v602), (k0_t17_loop v49_0 v370 k0_t15 v593 v602).OK := fun v49_0 v370 k0_t15 v593 v602 k0_hw3 => k0_hw3.2.2.2.2.2.2.2.2.2.1
theorem k0_off484_inb : ∀ (v49_0 : BitVec 32) (v370 : BitVec 32) (k0_t15 : Fin (k0_t15_loop v49_0).trips) (v593 : BitVec 32) (v602 : BitVec 32) (k0_hw3 : k0_chk3 v49_0 v370 k0_t15 v593 v602) (k0_t17 : Fin (k0_t17_loop v49_0 v370 k0_t15 v593 v602).trips), ∀ a, (k0_off484 v49_0 v370 k0_t15 v593 v602 k0_t17) a + S1.size a ≤ S2176.size a := fun v49_0 v370 k0_t15 v593 v602 k0_hw3 k0_t17 => k0_hw3.2.2.2.2.2.2.2.2.2.2.1 k0_t17
theorem k0_off488_inb : ∀ (v49_0 : BitVec 32) (v370 : BitVec 32) (k0_t15 : Fin (k0_t15_loop v49_0).trips) (v593 : BitVec 32) (v602 : BitVec 32) (k0_hw3 : k0_chk3 v49_0 v370 k0_t15 v593 v602) (k0_t17 : Fin (k0_t17_loop v49_0 v370 k0_t15 v593 v602).trips), ∀ a, (k0_off488 v49_0 v370 k0_t15 v593 v602 k0_t17) a + S1.size a ≤ S2176.size a := fun v49_0 v370 k0_t15 v593 v602 k0_hw3 k0_t17 => k0_hw3.2.2.2.2.2.2.2.2.2.2.2.1 k0_t17
theorem k0_off492_inb : ∀ (v49_0 : BitVec 32) (v370 : BitVec 32) (k0_t15 : Fin (k0_t15_loop v49_0).trips) (v593 : BitVec 32) (v602 : BitVec 32) (k0_hw3 : k0_chk3 v49_0 v370 k0_t15 v593 v602) (k0_t17 : Fin (k0_t17_loop v49_0 v370 k0_t15 v593 v602).trips), ∀ a, (k0_off492 v49_0 v370 k0_t15 v593 v602 k0_t17) a + S1.size a ≤ S2176.size a := fun v49_0 v370 k0_t15 v593 v602 k0_hw3 k0_t17 => k0_hw3.2.2.2.2.2.2.2.2.2.2.2.2.1 k0_t17
theorem k0_off496_inb : ∀ (v49_0 : BitVec 32) (v370 : BitVec 32) (k0_t15 : Fin (k0_t15_loop v49_0).trips) (v593 : BitVec 32) (v602 : BitVec 32) (k0_hw3 : k0_chk3 v49_0 v370 k0_t15 v593 v602) (k0_t17 : Fin (k0_t17_loop v49_0 v370 k0_t15 v593 v602).trips), ∀ a, (k0_off496 v49_0 v370 k0_t15 v593 v602 k0_t17) a + S1.size a ≤ S2176.size a := fun v49_0 v370 k0_t15 v593 v602 k0_hw3 k0_t17 => k0_hw3.2.2.2.2.2.2.2.2.2.2.2.2.2.1 k0_t17
theorem k0_off500_inb : ∀ (v49_0 : BitVec 32) (v370 : BitVec 32) (k0_t15 : Fin (k0_t15_loop v49_0).trips) (v593 : BitVec 32) (v602 : BitVec 32) (k0_hw3 : k0_chk3 v49_0 v370 k0_t15 v593 v602) (k0_t17 : Fin (k0_t17_loop v49_0 v370 k0_t15 v593 v602).trips), ∀ a, (k0_off500 v49_0 v370 k0_t15 v593 v602 k0_t17) a + S1.size a ≤ S2176.size a := fun v49_0 v370 k0_t15 v593 v602 k0_hw3 k0_t17 => k0_hw3.2.2.2.2.2.2.2.2.2.2.2.2.2.2.1 k0_t17
theorem k0_off504_inb : ∀ (v49_0 : BitVec 32) (v370 : BitVec 32) (k0_t15 : Fin (k0_t15_loop v49_0).trips) (v593 : BitVec 32) (v602 : BitVec 32) (k0_hw3 : k0_chk3 v49_0 v370 k0_t15 v593 v602) (k0_t17 : Fin (k0_t17_loop v49_0 v370 k0_t15 v593 v602).trips), ∀ a, (k0_off504 v49_0 v370 k0_t15 v593 v602 k0_t17) a + S1.size a ≤ S2176.size a := fun v49_0 v370 k0_t15 v593 v602 k0_hw3 k0_t17 => k0_hw3.2.2.2.2.2.2.2.2.2.2.2.2.2.2.2.1 k0_t17
theorem k0_off508_inb : ∀ (v49_0 : BitVec 32) (v370 : BitVec 32) (k0_t15 : Fin (k0_t15_loop v49_0).trips) (v593 : BitVec 32) (v602 : BitVec 32) (k0_hw3 : k0_chk3 v49_0 v370 k0_t15 v593 v602) (k0_t17 : Fin (k0_t17_loop v49_0 v370 k0_t15 v593 v602).trips), ∀ a, (k0_off508 v49_0 v370 k0_t15 v593 v602 k0_t17) a + S1.size a ≤ S2176.size a := fun v49_0 v370 k0_t15 v593 v602 k0_hw3 k0_t17 => k0_hw3.2.2.2.2.2.2.2.2.2.2.2.2.2.2.2.2.1 k0_t17
theorem k0_off512_inb : ∀ (v49_0 : BitVec 32) (v370 : BitVec 32) (k0_t15 : Fin (k0_t15_loop v49_0).trips) (v593 : BitVec 32) (v602 : BitVec 32) (k0_hw3 : k0_chk3 v49_0 v370 k0_t15 v593 v602) (k0_t17 : Fin (k0_t17_loop v49_0 v370 k0_t15 v593 v602).trips), ∀ a, (k0_off512 v49_0 v370 k0_t15 v593 v602 k0_t17) a + S1.size a ≤ S2176.size a := fun v49_0 v370 k0_t15 v593 v602 k0_hw3 k0_t17 => k0_hw3.2.2.2.2.2.2.2.2.2.2.2.2.2.2.2.2.2 k0_t17

def k0_off513 (v1002 : BitVec 32) : Fin 2 → Nat :=
  let c65535_i32_681 : BitVec 32 := 65535#32
  let v1003 : BitVec 32 := Scalar.andi v1002 c65535_i32_681
  let c0_i32_684 : BitVec 32 := 0#32
  let v1009 : BitVec 32 := Scalar.addi v1003 c0_i32_684
  let v1011 : Index := Scalar.indexCast v1009
  let c0_685 : Index := 0#32
  ![v1011.toNat, 0]

def k0_off514 (v49_0 : BitVec 32) (k0_t4 : Fin k0_t4_loop.trips) (k0_t15 : Fin (k0_t15_loop v49_0).trips) (v1007 : BitVec 32) (c0_i32_688 : BitVec 32) : Fin 2 → Nat :=
  let c0_i32_379 : BitVec 32 := 0#32
  let c1_i32_381 : BitVec 32 := 1#32
  let arg18 : BitVec 32 := Scf.iv c0_i32_379 c1_i32_381 k0_t4
  let c64_i32 : BitVec 32 := 64#32
  let v50 : BitVec 32 := Scalar.addi v49_0 c64_i32
  let c1_i32_52 : BitVec 32 := 1#32
  let v51 : BitVec 32 := Scalar.subi v50 c1_i32_52
  let c0_i32_54 : BitVec 32 := 0#32
  let v53 : BitVec 1 := Scalar.cmpi .sgt v51 c0_i32_54
  let v54 : BitVec 32 := Scalar.extui v53
  let c0_i32_55 : BitVec 32 := 0#32
  let v55 : BitVec 1 := Scalar.cmpi .slt v51 c0_i32_55
  let v56 : BitVec 32 := Scalar.extui v55
  let v57 : BitVec 32 := Scalar.subi v54 v56
  let c64_i32_53 : BitVec 32 := 64#32
  let c0_i32_56 : BitVec 32 := 0#32
  let v58 : BitVec 1 := Scalar.cmpi .sgt c64_i32_53 c0_i32_56
  let v59 : BitVec 32 := Scalar.extui v58
  let c0_i32_57 : BitVec 32 := 0#32
  let v60 : BitVec 1 := Scalar.cmpi .slt c64_i32_53 c0_i32_57
  let v61 : BitVec 32 := Scalar.extui v60
  let v62 : BitVec 32 := Scalar.subi v59 v61
  let v63 : BitVec 1 := Scalar.cmpi .ne v57 v62
  let v64 : BitVec 32 := Scalar.remsi v51 c64_i32_53
  let c0_i32_58 : BitVec 32 := 0#32
  let v65 : BitVec 1 := Scalar.cmpi .ne v64 c0_i32_58
  let v66 : BitVec 1 := Scalar.andi v63 v65
  let v52 : BitVec 32 := Scalar.divsi v51 c64_i32_53
  let c1_i32_59 : BitVec 32 := 1#32
  let v67 : BitVec 32 := Scalar.subi v52 c1_i32_59
  let v68 : BitVec 32 := Scalar.select v66 v67 v52
  let v580 : BitVec 32 := Scalar.muli arg18 v68
  let c0_i32_485 : BitVec 32 := 0#32
  let c1_i32_488 : BitVec 32 := 1#32
  let arg19 : BitVec 32 := Scf.iv c0_i32_485 c1_i32_488 k0_t15
  let v581 : BitVec 32 := Scalar.addi v580 arg19
  let c4_i32_490 : BitVec 32 := 4#32
  let v582 : BitVec 32 := Scalar.remsi v581 c4_i32_490
  let c1728_i32 : BitVec 32 := 1728#32
  let v603 : BitVec 32 := Scalar.muli v582 c1728_i32
  let c1536_i32_503 : BitVec 32 := 1536#32
  let v604 : BitVec 32 := Scalar.muli arg19 c1536_i32_503
  let v605 : BitVec 32 := Scalar.subi v603 v604
  let v1008 : BitVec 32 := Scalar.addi v1007 v605
  let v1017 : BitVec 32 := Scalar.addi v1008 c0_i32_688
  let v1019 : Index := Scalar.indexCast v1017
  let c0_689 : Index := 0#32
  ![v1019.toNat, 0]

def k0_chk35 (v49_0 : BitVec 32) (k0_t4 : Fin k0_t4_loop.trips) (k0_t15 : Fin (k0_t15_loop v49_0).trips) (v1007 : BitVec 32) : Prop :=
  (∀ (r : Fin 3), ∀ a, S8x128.size a = 0 ∨ (k0_off514 v49_0 k0_t4 k0_t15 v1007 (BitVec.ofNat 32 (64 * r.val))) a + (![8, 1] : Fin 2 → Nat) a * (S8x128.size a - 1) < S6912x128.size a)
theorem k0_off514_inb : ∀ (v49_0 : BitVec 32) (k0_t4 : Fin k0_t4_loop.trips) (k0_t15 : Fin (k0_t15_loop v49_0).trips) (v1007 : BitVec 32) (k0_hw35 : k0_chk35 v49_0 k0_t4 k0_t15 v1007), ∀ (r : Fin 3), ∀ a, S8x128.size a = 0 ∨ (k0_off514 v49_0 k0_t4 k0_t15 v1007 (BitVec.ofNat 32 (64 * r.val))) a + (![8, 1] : Fin 2 → Nat) a * (S8x128.size a - 1) < S6912x128.size a := fun v49_0 k0_t4 k0_t15 v1007 k0_hw35 r => k0_hw35 r

def k0_off515 (v1002 : BitVec 32) (c64_i32_690 : BitVec 32) : Fin 2 → Nat :=
  let c65535_i32_681 : BitVec 32 := 65535#32
  let v1003 : BitVec 32 := Scalar.andi v1002 c65535_i32_681
  let v1023 : BitVec 32 := Scalar.addi v1003 c64_i32_690
  let v1025 : Index := Scalar.indexCast v1023
  let c0_691 : Index := 0#32
  ![v1025.toNat, 0]

def k0_chk34 (v1002 : BitVec 32) : Prop :=
  (∀ a, S8x128.size a = 0 ∨ (k0_off513 v1002) a + (![8, 1] : Fin 2 → Nat) a * (S8x128.size a - 1) < S49152x128.size a) ∧
  (∀ (r : Fin 2), ∀ a, S8x128.size a = 0 ∨ (k0_off515 v1002 (BitVec.ofNat 32 (64 + 64 * r.val))) a + (![8, 1] : Fin 2 → Nat) a * (S8x128.size a - 1) < S49152x128.size a)
theorem k0_off513_inb : ∀ (v1002 : BitVec 32) (k0_hw34 : k0_chk34 v1002), ∀ a, S8x128.size a = 0 ∨ (k0_off513 v1002) a + (![8, 1] : Fin 2 → Nat) a * (S8x128.size a - 1) < S49152x128.size a := fun v1002 k0_hw34 => k0_hw34.1
theorem k0_off515_inb : ∀ (v1002 : BitVec 32) (k0_hw34 : k0_chk34 v1002), ∀ (r : Fin 2), ∀ a, S8x128.size a = 0 ∨ (k0_off515 v1002 (BitVec.ofNat 32 (64 + 64 * r.val))) a + (![8, 1] : Fin 2 → Nat) a * (S8x128.size a - 1) < S49152x128.size a := fun v1002 k0_hw34 r => k0_hw34.2 r

def k0_off516 (v49_0 : BitVec 32) (k0_t4 : Fin k0_t4_loop.trips) (k0_t15 : Fin (k0_t15_loop v49_0).trips) : Fin 1 → Nat :=
  let c0_i32_379 : BitVec 32 := 0#32
  let c1_i32_381 : BitVec 32 := 1#32
  let arg18 : BitVec 32 := Scf.iv c0_i32_379 c1_i32_381 k0_t4
  let c64_i32 : BitVec 32 := 64#32
  let v50 : BitVec 32 := Scalar.addi v49_0 c64_i32
  let c1_i32_52 : BitVec 32 := 1#32
  let v51 : BitVec 32 := Scalar.subi v50 c1_i32_52
  let c0_i32_54 : BitVec 32 := 0#32
  let v53 : BitVec 1 := Scalar.cmpi .sgt v51 c0_i32_54
  let v54 : BitVec 32 := Scalar.extui v53
  let c0_i32_55 : BitVec 32 := 0#32
  let v55 : BitVec 1 := Scalar.cmpi .slt v51 c0_i32_55
  let v56 : BitVec 32 := Scalar.extui v55
  let v57 : BitVec 32 := Scalar.subi v54 v56
  let c64_i32_53 : BitVec 32 := 64#32
  let c0_i32_56 : BitVec 32 := 0#32
  let v58 : BitVec 1 := Scalar.cmpi .sgt c64_i32_53 c0_i32_56
  let v59 : BitVec 32 := Scalar.extui v58
  let c0_i32_57 : BitVec 32 := 0#32
  let v60 : BitVec 1 := Scalar.cmpi .slt c64_i32_53 c0_i32_57
  let v61 : BitVec 32 := Scalar.extui v60
  let v62 : BitVec 32 := Scalar.subi v59 v61
  let v63 : BitVec 1 := Scalar.cmpi .ne v57 v62
  let v64 : BitVec 32 := Scalar.remsi v51 c64_i32_53
  let c0_i32_58 : BitVec 32 := 0#32
  let v65 : BitVec 1 := Scalar.cmpi .ne v64 c0_i32_58
  let v66 : BitVec 1 := Scalar.andi v63 v65
  let v52 : BitVec 32 := Scalar.divsi v51 c64_i32_53
  let c1_i32_59 : BitVec 32 := 1#32
  let v67 : BitVec 32 := Scalar.subi v52 c1_i32_59
  let v68 : BitVec 32 := Scalar.select v66 v67 v52
  let v580 : BitVec 32 := Scalar.muli arg18 v68
  let c0_i32_485 : BitVec 32 := 0#32
  let c1_i32_488 : BitVec 32 := 1#32
  let arg19 : BitVec 32 := Scf.iv c0_i32_485 c1_i32_488 k0_t15
  let v581 : BitVec 32 := Scalar.addi v580 arg19
  let c4_i32_490 : BitVec 32 := 4#32
  let v582 : BitVec 32 := Scalar.remsi v581 c4_i32_490
  ![v582.toNat]
def k0_off517 (v49_0 : BitVec 32) (k0_t4 : Fin k0_t4_loop.trips) (k0_t15 : Fin (k0_t15_loop v49_0).trips) : Fin 4 → Nat :=
  let c0_i32_485 : BitVec 32 := 0#32
  let c1_i32_488 : BitVec 32 := 1#32
  let arg19 : BitVec 32 := Scf.iv c0_i32_485 c1_i32_488 k0_t15
  let c8_i32_518 : BitVec 32 := 8#32
  let v634 : BitVec 32 := Scalar.muli arg19 c8_i32_518
  let c0_i32_379 : BitVec 32 := 0#32
  let c1_i32_381 : BitVec 32 := 1#32
  let arg18 : BitVec 32 := Scf.iv c0_i32_379 c1_i32_381 k0_t4
  let c24_i32_519 : BitVec 32 := 24#32
  let v635 : BitVec 32 := Scalar.muli arg18 c24_i32_519
  let c0_i32_520 : BitVec 32 := 0#32
  let c0_i32_521 : BitVec 32 := 0#32
  ![v634.toNat, v635.toNat, 0, 0]
def k0_off518 (v49_0 : BitVec 32) (k0_t4 : Fin k0_t4_loop.trips) (k0_t15 : Fin (k0_t15_loop v49_0).trips) : Fin 5 → Nat :=
  let c0_i32_379 : BitVec 32 := 0#32
  let c1_i32_381 : BitVec 32 := 1#32
  let arg18 : BitVec 32 := Scf.iv c0_i32_379 c1_i32_381 k0_t4
  let c64_i32 : BitVec 32 := 64#32
  let v50 : BitVec 32 := Scalar.addi v49_0 c64_i32
  let c1_i32_52 : BitVec 32 := 1#32
  let v51 : BitVec 32 := Scalar.subi v50 c1_i32_52
  let c0_i32_54 : BitVec 32 := 0#32
  let v53 : BitVec 1 := Scalar.cmpi .sgt v51 c0_i32_54
  let v54 : BitVec 32 := Scalar.extui v53
  let c0_i32_55 : BitVec 32 := 0#32
  let v55 : BitVec 1 := Scalar.cmpi .slt v51 c0_i32_55
  let v56 : BitVec 32 := Scalar.extui v55
  let v57 : BitVec 32 := Scalar.subi v54 v56
  let c64_i32_53 : BitVec 32 := 64#32
  let c0_i32_56 : BitVec 32 := 0#32
  let v58 : BitVec 1 := Scalar.cmpi .sgt c64_i32_53 c0_i32_56
  let v59 : BitVec 32 := Scalar.extui v58
  let c0_i32_57 : BitVec 32 := 0#32
  let v60 : BitVec 1 := Scalar.cmpi .slt c64_i32_53 c0_i32_57
  let v61 : BitVec 32 := Scalar.extui v60
  let v62 : BitVec 32 := Scalar.subi v59 v61
  let v63 : BitVec 1 := Scalar.cmpi .ne v57 v62
  let v64 : BitVec 32 := Scalar.remsi v51 c64_i32_53
  let c0_i32_58 : BitVec 32 := 0#32
  let v65 : BitVec 1 := Scalar.cmpi .ne v64 c0_i32_58
  let v66 : BitVec 1 := Scalar.andi v63 v65
  let v52 : BitVec 32 := Scalar.divsi v51 c64_i32_53
  let c1_i32_59 : BitVec 32 := 1#32
  let v67 : BitVec 32 := Scalar.subi v52 c1_i32_59
  let v68 : BitVec 32 := Scalar.select v66 v67 v52
  let v580 : BitVec 32 := Scalar.muli arg18 v68
  let c0_i32_485 : BitVec 32 := 0#32
  let c1_i32_488 : BitVec 32 := 1#32
  let arg19 : BitVec 32 := Scf.iv c0_i32_485 c1_i32_488 k0_t15
  let v581 : BitVec 32 := Scalar.addi v580 arg19
  let c4_i32_490 : BitVec 32 := 4#32
  let v582 : BitVec 32 := Scalar.remsi v581 c4_i32_490
  let c0_i32_522 : BitVec 32 := 0#32
  let c0_i32_523 : BitVec 32 := 0#32
  let c0_i32_524 : BitVec 32 := 0#32
  let c0_i32_525 : BitVec 32 := 0#32
  ![v582.toNat, 0, 0, 0, 0]
@[reducible] def k0_t18_loop (v49_0 : BitVec 32) : Scf.Loop 32 :=
  let c0_i32_485 : BitVec 32 := 0#32
  let c64_i32 : BitVec 32 := 64#32
  let v50 : BitVec 32 := Scalar.addi v49_0 c64_i32
  let c1_i32_52 : BitVec 32 := 1#32
  let v51 : BitVec 32 := Scalar.subi v50 c1_i32_52
  let c0_i32_54 : BitVec 32 := 0#32
  let v53 : BitVec 1 := Scalar.cmpi .sgt v51 c0_i32_54
  let v54 : BitVec 32 := Scalar.extui v53
  let c0_i32_55 : BitVec 32 := 0#32
  let v55 : BitVec 1 := Scalar.cmpi .slt v51 c0_i32_55
  let v56 : BitVec 32 := Scalar.extui v55
  let v57 : BitVec 32 := Scalar.subi v54 v56
  let c64_i32_53 : BitVec 32 := 64#32
  let c0_i32_56 : BitVec 32 := 0#32
  let v58 : BitVec 1 := Scalar.cmpi .sgt c64_i32_53 c0_i32_56
  let v59 : BitVec 32 := Scalar.extui v58
  let c0_i32_57 : BitVec 32 := 0#32
  let v60 : BitVec 1 := Scalar.cmpi .slt c64_i32_53 c0_i32_57
  let v61 : BitVec 32 := Scalar.extui v60
  let v62 : BitVec 32 := Scalar.subi v59 v61
  let v63 : BitVec 1 := Scalar.cmpi .ne v57 v62
  let v64 : BitVec 32 := Scalar.remsi v51 c64_i32_53
  let c0_i32_58 : BitVec 32 := 0#32
  let v65 : BitVec 1 := Scalar.cmpi .ne v64 c0_i32_58
  let v66 : BitVec 1 := Scalar.andi v63 v65
  let v52 : BitVec 32 := Scalar.divsi v51 c64_i32_53
  let c1_i32_59 : BitVec 32 := 1#32
  let v67 : BitVec 32 := Scalar.subi v52 c1_i32_59
  let v68 : BitVec 32 := Scalar.select v66 v67 v52
  let v573 : BitVec 32 := Scalar.subi v68 c0_i32_485
  let c1_i32_487 : BitVec 32 := 1#32
  let v575 : BitVec 32 := Scalar.divsi v573 c1_i32_487
  let v576 : BitVec 32 := Scalar.muli v575 c1_i32_487
  let v577 : BitVec 32 := Scalar.addi c0_i32_485 v576
  let v574 : BitVec 32 := Scalar.addi c0_i32_485 v573
  let c1_i32_489 : BitVec 32 := 1#32
  ⟨v577, v574, c1_i32_489⟩
def k0_off519 (v49_0 : BitVec 32) (k0_t4 : Fin k0_t4_loop.trips) (k0_t18 : Fin (k0_t18_loop v49_0).trips) : Fin 1 → Nat :=
  let c0_i32_379 : BitVec 32 := 0#32
  let c1_i32_381 : BitVec 32 := 1#32
  let arg18 : BitVec 32 := Scf.iv c0_i32_379 c1_i32_381 k0_t4
  let c64_i32 : BitVec 32 := 64#32
  let v50 : BitVec 32 := Scalar.addi v49_0 c64_i32
  let c1_i32_52 : BitVec 32 := 1#32
  let v51 : BitVec 32 := Scalar.subi v50 c1_i32_52
  let c0_i32_54 : BitVec 32 := 0#32
  let v53 : BitVec 1 := Scalar.cmpi .sgt v51 c0_i32_54
  let v54 : BitVec 32 := Scalar.extui v53
  let c0_i32_55 : BitVec 32 := 0#32
  let v55 : BitVec 1 := Scalar.cmpi .slt v51 c0_i32_55
  let v56 : BitVec 32 := Scalar.extui v55
  let v57 : BitVec 32 := Scalar.subi v54 v56
  let c64_i32_53 : BitVec 32 := 64#32
  let c0_i32_56 : BitVec 32 := 0#32
  let v58 : BitVec 1 := Scalar.cmpi .sgt c64_i32_53 c0_i32_56
  let v59 : BitVec 32 := Scalar.extui v58
  let c0_i32_57 : BitVec 32 := 0#32
  let v60 : BitVec 1 := Scalar.cmpi .slt c64_i32_53 c0_i32_57
  let v61 : BitVec 32 := Scalar.extui v60
  let v62 : BitVec 32 := Scalar.subi v59 v61
  let v63 : BitVec 1 := Scalar.cmpi .ne v57 v62
  let v64 : BitVec 32 := Scalar.remsi v51 c64_i32_53
  let c0_i32_58 : BitVec 32 := 0#32
  let v65 : BitVec 1 := Scalar.cmpi .ne v64 c0_i32_58
  let v66 : BitVec 1 := Scalar.andi v63 v65
  let v52 : BitVec 32 := Scalar.divsi v51 c64_i32_53
  let c1_i32_59 : BitVec 32 := 1#32
  let v67 : BitVec 32 := Scalar.subi v52 c1_i32_59
  let v68 : BitVec 32 := Scalar.select v66 v67 v52
  let v580 : BitVec 32 := Scalar.muli arg18 v68
  let c0_i32_485 : BitVec 32 := 0#32
  let v573 : BitVec 32 := Scalar.subi v68 c0_i32_485
  let c1_i32_487 : BitVec 32 := 1#32
  let v575 : BitVec 32 := Scalar.divsi v573 c1_i32_487
  let v576 : BitVec 32 := Scalar.muli v575 c1_i32_487
  let v577 : BitVec 32 := Scalar.addi c0_i32_485 v576
  let c1_i32_489 : BitVec 32 := 1#32
  let arg19 : BitVec 32 := Scf.iv v577 c1_i32_489 k0_t18
  let v581 : BitVec 32 := Scalar.addi v580 arg19
  let c4_i32_490 : BitVec 32 := 4#32
  let v582 : BitVec 32 := Scalar.remsi v581 c4_i32_490
  ![v582.toNat]
def k0_cond4 (v49_0 : BitVec 32) (k0_t4 : Fin k0_t4_loop.trips) (k0_t18 : Fin (k0_t18_loop v49_0).trips) : BitVec 1 :=
  let c0_i32_379 : BitVec 32 := 0#32
  let c1_i32_381 : BitVec 32 := 1#32
  let arg18 : BitVec 32 := Scf.iv c0_i32_379 c1_i32_381 k0_t4
  let c64_i32 : BitVec 32 := 64#32
  let v50 : BitVec 32 := Scalar.addi v49_0 c64_i32
  let c1_i32_52 : BitVec 32 := 1#32
  let v51 : BitVec 32 := Scalar.subi v50 c1_i32_52
  let c0_i32_54 : BitVec 32 := 0#32
  let v53 : BitVec 1 := Scalar.cmpi .sgt v51 c0_i32_54
  let v54 : BitVec 32 := Scalar.extui v53
  let c0_i32_55 : BitVec 32 := 0#32
  let v55 : BitVec 1 := Scalar.cmpi .slt v51 c0_i32_55
  let v56 : BitVec 32 := Scalar.extui v55
  let v57 : BitVec 32 := Scalar.subi v54 v56
  let c64_i32_53 : BitVec 32 := 64#32
  let c0_i32_56 : BitVec 32 := 0#32
  let v58 : BitVec 1 := Scalar.cmpi .sgt c64_i32_53 c0_i32_56
  let v59 : BitVec 32 := Scalar.extui v58
  let c0_i32_57 : BitVec 32 := 0#32
  let v60 : BitVec 1 := Scalar.cmpi .slt c64_i32_53 c0_i32_57
  let v61 : BitVec 32 := Scalar.extui v60
  let v62 : BitVec 32 := Scalar.subi v59 v61
  let v63 : BitVec 1 := Scalar.cmpi .ne v57 v62
  let v64 : BitVec 32 := Scalar.remsi v51 c64_i32_53
  let c0_i32_58 : BitVec 32 := 0#32
  let v65 : BitVec 1 := Scalar.cmpi .ne v64 c0_i32_58
  let v66 : BitVec 1 := Scalar.andi v63 v65
  let v52 : BitVec 32 := Scalar.divsi v51 c64_i32_53
  let c1_i32_59 : BitVec 32 := 1#32
  let v67 : BitVec 32 := Scalar.subi v52 c1_i32_59
  let v68 : BitVec 32 := Scalar.select v66 v67 v52
  let v580 : BitVec 32 := Scalar.muli arg18 v68
  let c0_i32_485 : BitVec 32 := 0#32
  let v573 : BitVec 32 := Scalar.subi v68 c0_i32_485
  let c1_i32_487 : BitVec 32 := 1#32
  let v575 : BitVec 32 := Scalar.divsi v573 c1_i32_487
  let v576 : BitVec 32 := Scalar.muli v575 c1_i32_487
  let v577 : BitVec 32 := Scalar.addi c0_i32_485 v576
  let c1_i32_489 : BitVec 32 := 1#32
  let arg19 : BitVec 32 := Scf.iv v577 c1_i32_489 k0_t18
  let v581 : BitVec 32 := Scalar.addi v580 arg19
  let c4_i32_491 : BitVec 32 := 4#32
  let v583 : BitVec 1 := Scalar.cmpi .sge v581 c4_i32_491
  let v584 : BitVec 32 := Scalar.extui v583
  let c0_i32_492 : BitVec 32 := 0#32
  let v585 : BitVec 1 := Scalar.cmpi .ne v584 c0_i32_492
  v585

def k0_off520 (v49_0 : BitVec 32) (k0_t4 : Fin k0_t4_loop.trips) (k0_t18 : Fin (k0_t18_loop v49_0).trips) : Fin 4 → Nat :=
  let c0_i32_485 : BitVec 32 := 0#32
  let c64_i32 : BitVec 32 := 64#32
  let v50 : BitVec 32 := Scalar.addi v49_0 c64_i32
  let c1_i32_52 : BitVec 32 := 1#32
  let v51 : BitVec 32 := Scalar.subi v50 c1_i32_52
  let c0_i32_54 : BitVec 32 := 0#32
  let v53 : BitVec 1 := Scalar.cmpi .sgt v51 c0_i32_54
  let v54 : BitVec 32 := Scalar.extui v53
  let c0_i32_55 : BitVec 32 := 0#32
  let v55 : BitVec 1 := Scalar.cmpi .slt v51 c0_i32_55
  let v56 : BitVec 32 := Scalar.extui v55
  let v57 : BitVec 32 := Scalar.subi v54 v56
  let c64_i32_53 : BitVec 32 := 64#32
  let c0_i32_56 : BitVec 32 := 0#32
  let v58 : BitVec 1 := Scalar.cmpi .sgt c64_i32_53 c0_i32_56
  let v59 : BitVec 32 := Scalar.extui v58
  let c0_i32_57 : BitVec 32 := 0#32
  let v60 : BitVec 1 := Scalar.cmpi .slt c64_i32_53 c0_i32_57
  let v61 : BitVec 32 := Scalar.extui v60
  let v62 : BitVec 32 := Scalar.subi v59 v61
  let v63 : BitVec 1 := Scalar.cmpi .ne v57 v62
  let v64 : BitVec 32 := Scalar.remsi v51 c64_i32_53
  let c0_i32_58 : BitVec 32 := 0#32
  let v65 : BitVec 1 := Scalar.cmpi .ne v64 c0_i32_58
  let v66 : BitVec 1 := Scalar.andi v63 v65
  let v52 : BitVec 32 := Scalar.divsi v51 c64_i32_53
  let c1_i32_59 : BitVec 32 := 1#32
  let v67 : BitVec 32 := Scalar.subi v52 c1_i32_59
  let v68 : BitVec 32 := Scalar.select v66 v67 v52
  let v573 : BitVec 32 := Scalar.subi v68 c0_i32_485
  let c1_i32_487 : BitVec 32 := 1#32
  let v575 : BitVec 32 := Scalar.divsi v573 c1_i32_487
  let v576 : BitVec 32 := Scalar.muli v575 c1_i32_487
  let v577 : BitVec 32 := Scalar.addi c0_i32_485 v576
  let c1_i32_489 : BitVec 32 := 1#32
  let arg19 : BitVec 32 := Scf.iv v577 c1_i32_489 k0_t18
  let c8_i32_527 : BitVec 32 := 8#32
  let v641 : BitVec 32 := Scalar.muli arg19 c8_i32_527
  let c0_i32_379 : BitVec 32 := 0#32
  let c1_i32_381 : BitVec 32 := 1#32
  let arg18 : BitVec 32 := Scf.iv c0_i32_379 c1_i32_381 k0_t4
  let c24_i32_528 : BitVec 32 := 24#32
  let v642 : BitVec 32 := Scalar.muli arg18 c24_i32_528
  let c0_i32_529 : BitVec 32 := 0#32
  let c0_i32_530 : BitVec 32 := 0#32
  ![v641.toNat, v642.toNat, 0, 0]
def k0_off521 (v49_0 : BitVec 32) (k0_t4 : Fin k0_t4_loop.trips) (k0_t18 : Fin (k0_t18_loop v49_0).trips) : Fin 5 → Nat :=
  let c0_i32_379 : BitVec 32 := 0#32
  let c1_i32_381 : BitVec 32 := 1#32
  let arg18 : BitVec 32 := Scf.iv c0_i32_379 c1_i32_381 k0_t4
  let c64_i32 : BitVec 32 := 64#32
  let v50 : BitVec 32 := Scalar.addi v49_0 c64_i32
  let c1_i32_52 : BitVec 32 := 1#32
  let v51 : BitVec 32 := Scalar.subi v50 c1_i32_52
  let c0_i32_54 : BitVec 32 := 0#32
  let v53 : BitVec 1 := Scalar.cmpi .sgt v51 c0_i32_54
  let v54 : BitVec 32 := Scalar.extui v53
  let c0_i32_55 : BitVec 32 := 0#32
  let v55 : BitVec 1 := Scalar.cmpi .slt v51 c0_i32_55
  let v56 : BitVec 32 := Scalar.extui v55
  let v57 : BitVec 32 := Scalar.subi v54 v56
  let c64_i32_53 : BitVec 32 := 64#32
  let c0_i32_56 : BitVec 32 := 0#32
  let v58 : BitVec 1 := Scalar.cmpi .sgt c64_i32_53 c0_i32_56
  let v59 : BitVec 32 := Scalar.extui v58
  let c0_i32_57 : BitVec 32 := 0#32
  let v60 : BitVec 1 := Scalar.cmpi .slt c64_i32_53 c0_i32_57
  let v61 : BitVec 32 := Scalar.extui v60
  let v62 : BitVec 32 := Scalar.subi v59 v61
  let v63 : BitVec 1 := Scalar.cmpi .ne v57 v62
  let v64 : BitVec 32 := Scalar.remsi v51 c64_i32_53
  let c0_i32_58 : BitVec 32 := 0#32
  let v65 : BitVec 1 := Scalar.cmpi .ne v64 c0_i32_58
  let v66 : BitVec 1 := Scalar.andi v63 v65
  let v52 : BitVec 32 := Scalar.divsi v51 c64_i32_53
  let c1_i32_59 : BitVec 32 := 1#32
  let v67 : BitVec 32 := Scalar.subi v52 c1_i32_59
  let v68 : BitVec 32 := Scalar.select v66 v67 v52
  let v580 : BitVec 32 := Scalar.muli arg18 v68
  let c0_i32_485 : BitVec 32 := 0#32
  let v573 : BitVec 32 := Scalar.subi v68 c0_i32_485
  let c1_i32_487 : BitVec 32 := 1#32
  let v575 : BitVec 32 := Scalar.divsi v573 c1_i32_487
  let v576 : BitVec 32 := Scalar.muli v575 c1_i32_487
  let v577 : BitVec 32 := Scalar.addi c0_i32_485 v576
  let c1_i32_489 : BitVec 32 := 1#32
  let arg19 : BitVec 32 := Scf.iv v577 c1_i32_489 k0_t18
  let v581 : BitVec 32 := Scalar.addi v580 arg19
  let c4_i32_490 : BitVec 32 := 4#32
  let v582 : BitVec 32 := Scalar.remsi v581 c4_i32_490
  let c0_i32_531 : BitVec 32 := 0#32
  let c0_i32_532 : BitVec 32 := 0#32
  let c0_i32_533 : BitVec 32 := 0#32
  let c0_i32_534 : BitVec 32 := 0#32
  ![v582.toNat, 0, 0, 0, 0]
def k0_off522 (v49_0 : BitVec 32) (k0_t4 : Fin k0_t4_loop.trips) (k0_t18 : Fin (k0_t18_loop v49_0).trips) : Fin 5 → Nat :=
  let c0_i32_379 : BitVec 32 := 0#32
  let c1_i32_381 : BitVec 32 := 1#32
  let arg18 : BitVec 32 := Scf.iv c0_i32_379 c1_i32_381 k0_t4
  let c64_i32 : BitVec 32 := 64#32
  let v50 : BitVec 32 := Scalar.addi v49_0 c64_i32
  let c1_i32_52 : BitVec 32 := 1#32
  let v51 : BitVec 32 := Scalar.subi v50 c1_i32_52
  let c0_i32_54 : BitVec 32 := 0#32
  let v53 : BitVec 1 := Scalar.cmpi .sgt v51 c0_i32_54
  let v54 : BitVec 32 := Scalar.extui v53
  let c0_i32_55 : BitVec 32 := 0#32
  let v55 : BitVec 1 := Scalar.cmpi .slt v51 c0_i32_55
  let v56 : BitVec 32 := Scalar.extui v55
  let v57 : BitVec 32 := Scalar.subi v54 v56
  let c64_i32_53 : BitVec 32 := 64#32
  let c0_i32_56 : BitVec 32 := 0#32
  let v58 : BitVec 1 := Scalar.cmpi .sgt c64_i32_53 c0_i32_56
  let v59 : BitVec 32 := Scalar.extui v58
  let c0_i32_57 : BitVec 32 := 0#32
  let v60 : BitVec 1 := Scalar.cmpi .slt c64_i32_53 c0_i32_57
  let v61 : BitVec 32 := Scalar.extui v60
  let v62 : BitVec 32 := Scalar.subi v59 v61
  let v63 : BitVec 1 := Scalar.cmpi .ne v57 v62
  let v64 : BitVec 32 := Scalar.remsi v51 c64_i32_53
  let c0_i32_58 : BitVec 32 := 0#32
  let v65 : BitVec 1 := Scalar.cmpi .ne v64 c0_i32_58
  let v66 : BitVec 1 := Scalar.andi v63 v65
  let v52 : BitVec 32 := Scalar.divsi v51 c64_i32_53
  let c1_i32_59 : BitVec 32 := 1#32
  let v67 : BitVec 32 := Scalar.subi v52 c1_i32_59
  let v68 : BitVec 32 := Scalar.select v66 v67 v52
  let v580 : BitVec 32 := Scalar.muli arg18 v68
  let c0_i32_485 : BitVec 32 := 0#32
  let v573 : BitVec 32 := Scalar.subi v68 c0_i32_485
  let c1_i32_487 : BitVec 32 := 1#32
  let v575 : BitVec 32 := Scalar.divsi v573 c1_i32_487
  let v576 : BitVec 32 := Scalar.muli v575 c1_i32_487
  let v577 : BitVec 32 := Scalar.addi c0_i32_485 v576
  let c1_i32_489 : BitVec 32 := 1#32
  let arg19 : BitVec 32 := Scf.iv v577 c1_i32_489 k0_t18
  let v581 : BitVec 32 := Scalar.addi v580 arg19
  let c4_i32_490 : BitVec 32 := 4#32
  let v582 : BitVec 32 := Scalar.remsi v581 c4_i32_490
  let v642 : Index := Scalar.indexCast v582
  let c0_528 : Index := 0#32
  let c0_529 : Index := 0#32
  let c0_530 : Index := 0#32
  let c0_531 : Index := 0#32
  ![v642.toNat, 0, 0, 0, 0]
def k0_cond5 (v49_0 : BitVec 32) (k0_t18 : Fin (k0_t18_loop v49_0).trips) : BitVec 1 :=
  let c0_i32_485 : BitVec 32 := 0#32
  let c64_i32 : BitVec 32 := 64#32
  let v50 : BitVec 32 := Scalar.addi v49_0 c64_i32
  let c1_i32_52 : BitVec 32 := 1#32
  let v51 : BitVec 32 := Scalar.subi v50 c1_i32_52
  let c0_i32_54 : BitVec 32 := 0#32
  let v53 : BitVec 1 := Scalar.cmpi .sgt v51 c0_i32_54
  let v54 : BitVec 32 := Scalar.extui v53
  let c0_i32_55 : BitVec 32 := 0#32
  let v55 : BitVec 1 := Scalar.cmpi .slt v51 c0_i32_55
  let v56 : BitVec 32 := Scalar.extui v55
  let v57 : BitVec 32 := Scalar.subi v54 v56
  let c64_i32_53 : BitVec 32 := 64#32
  let c0_i32_56 : BitVec 32 := 0#32
  let v58 : BitVec 1 := Scalar.cmpi .sgt c64_i32_53 c0_i32_56
  let v59 : BitVec 32 := Scalar.extui v58
  let c0_i32_57 : BitVec 32 := 0#32
  let v60 : BitVec 1 := Scalar.cmpi .slt c64_i32_53 c0_i32_57
  let v61 : BitVec 32 := Scalar.extui v60
  let v62 : BitVec 32 := Scalar.subi v59 v61
  let v63 : BitVec 1 := Scalar.cmpi .ne v57 v62
  let v64 : BitVec 32 := Scalar.remsi v51 c64_i32_53
  let c0_i32_58 : BitVec 32 := 0#32
  let v65 : BitVec 1 := Scalar.cmpi .ne v64 c0_i32_58
  let v66 : BitVec 1 := Scalar.andi v63 v65
  let v52 : BitVec 32 := Scalar.divsi v51 c64_i32_53
  let c1_i32_59 : BitVec 32 := 1#32
  let v67 : BitVec 32 := Scalar.subi v52 c1_i32_59
  let v68 : BitVec 32 := Scalar.select v66 v67 v52
  let v573 : BitVec 32 := Scalar.subi v68 c0_i32_485
  let c1_i32_487 : BitVec 32 := 1#32
  let v575 : BitVec 32 := Scalar.divsi v573 c1_i32_487
  let v576 : BitVec 32 := Scalar.muli v575 c1_i32_487
  let v577 : BitVec 32 := Scalar.addi c0_i32_485 v576
  let c1_i32_489 : BitVec 32 := 1#32
  let arg19 : BitVec 32 := Scf.iv v577 c1_i32_489 k0_t18
  let c1_i32_493 : BitVec 32 := 1#32
  let v586 : BitVec 32 := Scalar.addi arg19 c1_i32_493
  let c64_i32_494 : BitVec 32 := 64#32
  let v587 : BitVec 32 := Scalar.muli v586 c64_i32_494
  let v588 : BitVec 1 := Scalar.cmpi .sgt v587 v49_0
  let v589 : BitVec 32 := Scalar.extui v588
  let c0_i32_495 : BitVec 32 := 0#32
  let v590 : BitVec 1 := Scalar.cmpi .ne v589 c0_i32_495
  v590

def k0_off523 (v49_0 : BitVec 32) (k0_t18 : Fin (k0_t18_loop v49_0).trips) : Fin 1 → Nat :=
  let c0_i32_485 : BitVec 32 := 0#32
  let c64_i32 : BitVec 32 := 64#32
  let v50 : BitVec 32 := Scalar.addi v49_0 c64_i32
  let c1_i32_52 : BitVec 32 := 1#32
  let v51 : BitVec 32 := Scalar.subi v50 c1_i32_52
  let c0_i32_54 : BitVec 32 := 0#32
  let v53 : BitVec 1 := Scalar.cmpi .sgt v51 c0_i32_54
  let v54 : BitVec 32 := Scalar.extui v53
  let c0_i32_55 : BitVec 32 := 0#32
  let v55 : BitVec 1 := Scalar.cmpi .slt v51 c0_i32_55
  let v56 : BitVec 32 := Scalar.extui v55
  let v57 : BitVec 32 := Scalar.subi v54 v56
  let c64_i32_53 : BitVec 32 := 64#32
  let c0_i32_56 : BitVec 32 := 0#32
  let v58 : BitVec 1 := Scalar.cmpi .sgt c64_i32_53 c0_i32_56
  let v59 : BitVec 32 := Scalar.extui v58
  let c0_i32_57 : BitVec 32 := 0#32
  let v60 : BitVec 1 := Scalar.cmpi .slt c64_i32_53 c0_i32_57
  let v61 : BitVec 32 := Scalar.extui v60
  let v62 : BitVec 32 := Scalar.subi v59 v61
  let v63 : BitVec 1 := Scalar.cmpi .ne v57 v62
  let v64 : BitVec 32 := Scalar.remsi v51 c64_i32_53
  let c0_i32_58 : BitVec 32 := 0#32
  let v65 : BitVec 1 := Scalar.cmpi .ne v64 c0_i32_58
  let v66 : BitVec 1 := Scalar.andi v63 v65
  let v52 : BitVec 32 := Scalar.divsi v51 c64_i32_53
  let c1_i32_59 : BitVec 32 := 1#32
  let v67 : BitVec 32 := Scalar.subi v52 c1_i32_59
  let v68 : BitVec 32 := Scalar.select v66 v67 v52
  let v573 : BitVec 32 := Scalar.subi v68 c0_i32_485
  let c1_i32_487 : BitVec 32 := 1#32
  let v575 : BitVec 32 := Scalar.divsi v573 c1_i32_487
  let v576 : BitVec 32 := Scalar.muli v575 c1_i32_487
  let v577 : BitVec 32 := Scalar.addi c0_i32_485 v576
  let c1_i32_489 : BitVec 32 := 1#32
  let arg19 : BitVec 32 := Scf.iv v577 c1_i32_489 k0_t18
  let c64_i32_496 : BitVec 32 := 64#32
  let v591 : BitVec 32 := Scalar.muli arg19 c64_i32_496
  let v592 : Index := Scalar.indexCast v591
  ![v592.toNat]
def k0_off524 (v49_0 : BitVec 32) (k0_t18 : Fin (k0_t18_loop v49_0).trips) : Fin 1 → Nat :=
  let c0_i32_485 : BitVec 32 := 0#32
  let c64_i32 : BitVec 32 := 64#32
  let v50 : BitVec 32 := Scalar.addi v49_0 c64_i32
  let c1_i32_52 : BitVec 32 := 1#32
  let v51 : BitVec 32 := Scalar.subi v50 c1_i32_52
  let c0_i32_54 : BitVec 32 := 0#32
  let v53 : BitVec 1 := Scalar.cmpi .sgt v51 c0_i32_54
  let v54 : BitVec 32 := Scalar.extui v53
  let c0_i32_55 : BitVec 32 := 0#32
  let v55 : BitVec 1 := Scalar.cmpi .slt v51 c0_i32_55
  let v56 : BitVec 32 := Scalar.extui v55
  let v57 : BitVec 32 := Scalar.subi v54 v56
  let c64_i32_53 : BitVec 32 := 64#32
  let c0_i32_56 : BitVec 32 := 0#32
  let v58 : BitVec 1 := Scalar.cmpi .sgt c64_i32_53 c0_i32_56
  let v59 : BitVec 32 := Scalar.extui v58
  let c0_i32_57 : BitVec 32 := 0#32
  let v60 : BitVec 1 := Scalar.cmpi .slt c64_i32_53 c0_i32_57
  let v61 : BitVec 32 := Scalar.extui v60
  let v62 : BitVec 32 := Scalar.subi v59 v61
  let v63 : BitVec 1 := Scalar.cmpi .ne v57 v62
  let v64 : BitVec 32 := Scalar.remsi v51 c64_i32_53
  let c0_i32_58 : BitVec 32 := 0#32
  let v65 : BitVec 1 := Scalar.cmpi .ne v64 c0_i32_58
  let v66 : BitVec 1 := Scalar.andi v63 v65
  let v52 : BitVec 32 := Scalar.divsi v51 c64_i32_53
  let c1_i32_59 : BitVec 32 := 1#32
  let v67 : BitVec 32 := Scalar.subi v52 c1_i32_59
  let v68 : BitVec 32 := Scalar.select v66 v67 v52
  let v573 : BitVec 32 := Scalar.subi v68 c0_i32_485
  let c1_i32_487 : BitVec 32 := 1#32
  let v575 : BitVec 32 := Scalar.divsi v573 c1_i32_487
  let v576 : BitVec 32 := Scalar.muli v575 c1_i32_487
  let v577 : BitVec 32 := Scalar.addi c0_i32_485 v576
  let c1_i32_489 : BitVec 32 := 1#32
  let arg19 : BitVec 32 := Scf.iv v577 c1_i32_489 k0_t18
  let c1_i32_500 : BitVec 32 := 1#32
  let v598 : BitVec 32 := Scalar.addi arg19 c1_i32_500
  let c64_i32_501 : BitVec 32 := 64#32
  let v599 : BitVec 32 := Scalar.muli v598 c64_i32_501
  let c2048_i32_502 : BitVec 32 := 2048#32
  let v600 : BitVec 32 := Scalar.minsi v599 c2048_i32_502
  let v601 : Index := Scalar.indexCast v600
  ![v601.toNat]
@[reducible] def k0_t19_loop (v49_0 : BitVec 32) (v370 : BitVec 32) (k0_t18 : Fin (k0_t18_loop v49_0).trips) (v593 : BitVec 32) (v602 : BitVec 32) : Scf.Loop 32 :=
  let c0_i32_514 : BitVec 32 := 0#32
  let c0_i32_485 : BitVec 32 := 0#32
  let c64_i32 : BitVec 32 := 64#32
  let v50 : BitVec 32 := Scalar.addi v49_0 c64_i32
  let c1_i32_52 : BitVec 32 := 1#32
  let v51 : BitVec 32 := Scalar.subi v50 c1_i32_52
  let c0_i32_54 : BitVec 32 := 0#32
  let v53 : BitVec 1 := Scalar.cmpi .sgt v51 c0_i32_54
  let v54 : BitVec 32 := Scalar.extui v53
  let c0_i32_55 : BitVec 32 := 0#32
  let v55 : BitVec 1 := Scalar.cmpi .slt v51 c0_i32_55
  let v56 : BitVec 32 := Scalar.extui v55
  let v57 : BitVec 32 := Scalar.subi v54 v56
  let c64_i32_53 : BitVec 32 := 64#32
  let c0_i32_56 : BitVec 32 := 0#32
  let v58 : BitVec 1 := Scalar.cmpi .sgt c64_i32_53 c0_i32_56
  let v59 : BitVec 32 := Scalar.extui v58
  let c0_i32_57 : BitVec 32 := 0#32
  let v60 : BitVec 1 := Scalar.cmpi .slt c64_i32_53 c0_i32_57
  let v61 : BitVec 32 := Scalar.extui v60
  let v62 : BitVec 32 := Scalar.subi v59 v61
  let v63 : BitVec 1 := Scalar.cmpi .ne v57 v62
  let v64 : BitVec 32 := Scalar.remsi v51 c64_i32_53
  let c0_i32_58 : BitVec 32 := 0#32
  let v65 : BitVec 1 := Scalar.cmpi .ne v64 c0_i32_58
  let v66 : BitVec 1 := Scalar.andi v63 v65
  let v52 : BitVec 32 := Scalar.divsi v51 c64_i32_53
  let c1_i32_59 : BitVec 32 := 1#32
  let v67 : BitVec 32 := Scalar.subi v52 c1_i32_59
  let v68 : BitVec 32 := Scalar.select v66 v67 v52
  let v573 : BitVec 32 := Scalar.subi v68 c0_i32_485
  let c1_i32_487 : BitVec 32 := 1#32
  let v575 : BitVec 32 := Scalar.divsi v573 c1_i32_487
  let v576 : BitVec 32 := Scalar.muli v575 c1_i32_487
  let v577 : BitVec 32 := Scalar.addi c0_i32_485 v576
  let c1_i32_489 : BitVec 32 := 1#32
  let arg19 : BitVec 32 := Scf.iv v577 c1_i32_489 k0_t18
  let c0_i32_497 : BitVec 32 := 0#32
  let v594 : BitVec 1 := Scalar.cmpi .eq arg19 c0_i32_497
  let c1_i32_498 : BitVec 32 := 1#32
  let v595 : BitVec 32 := Scalar.subi v370 c1_i32_498
  let c0_i32_499 : BitVec 32 := 0#32
  let v596 : BitVec 32 := Scalar.select v594 v595 c0_i32_499
  let v597 : BitVec 32 := Scalar.maxsi v593 v596
  let v607 : BitVec 32 := Scalar.subi v602 v597
  let c8_i32_505 : BitVec 32 := 8#32
  let v608 : BitVec 32 := Scalar.addi v607 c8_i32_505
  let c1_i32_506 : BitVec 32 := 1#32
  let v609 : BitVec 32 := Scalar.subi v608 c1_i32_506
  let c0_i32_508 : BitVec 32 := 0#32
  let v611 : BitVec 1 := Scalar.cmpi .sgt v609 c0_i32_508
  let v612 : BitVec 32 := Scalar.extui v611
  let c0_i32_509 : BitVec 32 := 0#32
  let v613 : BitVec 1 := Scalar.cmpi .slt v609 c0_i32_509
  let v614 : BitVec 32 := Scalar.extui v613
  let v615 : BitVec 32 := Scalar.subi v612 v614
  let c8_i32_507 : BitVec 32 := 8#32
  let c0_i32_510 : BitVec 32 := 0#32
  let v616 : BitVec 1 := Scalar.cmpi .sgt c8_i32_507 c0_i32_510
  let v617 : BitVec 32 := Scalar.extui v616
  let c0_i32_511 : BitVec 32 := 0#32
  let v618 : BitVec 1 := Scalar.cmpi .slt c8_i32_507 c0_i32_511
  let v619 : BitVec 32 := Scalar.extui v618
  let v620 : BitVec 32 := Scalar.subi v617 v619
  let v621 : BitVec 1 := Scalar.cmpi .ne v615 v620
  let v622 : BitVec 32 := Scalar.remsi v609 c8_i32_507
  let c0_i32_512 : BitVec 32 := 0#32
  let v623 : BitVec 1 := Scalar.cmpi .ne v622 c0_i32_512
  let v624 : BitVec 1 := Scalar.andi v621 v623
  let v610 : BitVec 32 := Scalar.divsi v609 c8_i32_507
  let c1_i32_513 : BitVec 32 := 1#32
  let v625 : BitVec 32 := Scalar.subi v610 c1_i32_513
  let v626 : BitVec 32 := Scalar.select v624 v625 v610
  let v627 : BitVec 32 := Scalar.subi v626 c0_i32_514
  let c1_i32_515 : BitVec 32 := 1#32
  let v629 : BitVec 32 := Scalar.divsi v627 c1_i32_515
  let v630 : BitVec 32 := Scalar.muli v629 c1_i32_515
  let v631 : BitVec 32 := Scalar.addi c0_i32_514 v630
  let c1_i32_516 : BitVec 32 := 1#32
  ⟨c0_i32_514, v631, c1_i32_516⟩

def k0_off525 (v49_0 : BitVec 32) (v370 : BitVec 32) (k0_t18 : Fin (k0_t18_loop v49_0).trips) (v593 : BitVec 32) (v602 : BitVec 32) (k0_t19 : Fin (k0_t19_loop v49_0 v370 k0_t18 v593 v602).trips) : Fin 1 → Nat :=
  let c0_i32_485 : BitVec 32 := 0#32
  let c64_i32 : BitVec 32 := 64#32
  let v50 : BitVec 32 := Scalar.addi v49_0 c64_i32
  let c1_i32_52 : BitVec 32 := 1#32
  let v51 : BitVec 32 := Scalar.subi v50 c1_i32_52
  let c0_i32_54 : BitVec 32 := 0#32
  let v53 : BitVec 1 := Scalar.cmpi .sgt v51 c0_i32_54
  let v54 : BitVec 32 := Scalar.extui v53
  let c0_i32_55 : BitVec 32 := 0#32
  let v55 : BitVec 1 := Scalar.cmpi .slt v51 c0_i32_55
  let v56 : BitVec 32 := Scalar.extui v55
  let v57 : BitVec 32 := Scalar.subi v54 v56
  let c64_i32_53 : BitVec 32 := 64#32
  let c0_i32_56 : BitVec 32 := 0#32
  let v58 : BitVec 1 := Scalar.cmpi .sgt c64_i32_53 c0_i32_56
  let v59 : BitVec 32 := Scalar.extui v58
  let c0_i32_57 : BitVec 32 := 0#32
  let v60 : BitVec 1 := Scalar.cmpi .slt c64_i32_53 c0_i32_57
  let v61 : BitVec 32 := Scalar.extui v60
  let v62 : BitVec 32 := Scalar.subi v59 v61
  let v63 : BitVec 1 := Scalar.cmpi .ne v57 v62
  let v64 : BitVec 32 := Scalar.remsi v51 c64_i32_53
  let c0_i32_58 : BitVec 32 := 0#32
  let v65 : BitVec 1 := Scalar.cmpi .ne v64 c0_i32_58
  let v66 : BitVec 1 := Scalar.andi v63 v65
  let v52 : BitVec 32 := Scalar.divsi v51 c64_i32_53
  let c1_i32_59 : BitVec 32 := 1#32
  let v67 : BitVec 32 := Scalar.subi v52 c1_i32_59
  let v68 : BitVec 32 := Scalar.select v66 v67 v52
  let v573 : BitVec 32 := Scalar.subi v68 c0_i32_485
  let c1_i32_487 : BitVec 32 := 1#32
  let v575 : BitVec 32 := Scalar.divsi v573 c1_i32_487
  let v576 : BitVec 32 := Scalar.muli v575 c1_i32_487
  let v577 : BitVec 32 := Scalar.addi c0_i32_485 v576
  let c1_i32_489 : BitVec 32 := 1#32
  let arg19 : BitVec 32 := Scf.iv v577 c1_i32_489 k0_t18
  let c0_i32_497 : BitVec 32 := 0#32
  let v594 : BitVec 1 := Scalar.cmpi .eq arg19 c0_i32_497
  let c1_i32_498 : BitVec 32 := 1#32
  let v595 : BitVec 32 := Scalar.subi v370 c1_i32_498
  let c0_i32_499 : BitVec 32 := 0#32
  let v596 : BitVec 32 := Scalar.select v594 v595 c0_i32_499
  let v597 : BitVec 32 := Scalar.maxsi v593 v596
  let c0_i32_514 : BitVec 32 := 0#32
  let c1_i32_516 : BitVec 32 := 1#32
  let arg21 : BitVec 32 := Scf.iv c0_i32_514 c1_i32_516 k0_t19
  let c8_i32_527 : BitVec 32 := 8#32
  let v641 : BitVec 32 := Scalar.muli arg21 c8_i32_527
  let v642 : BitVec 32 := Scalar.addi v597 v641
  let c0_i32_528 : BitVec 32 := 0#32
  let v643 : BitVec 32 := Scalar.addi v642 c0_i32_528
  let v644 : Index := Scalar.indexCast v643
  ![v644.toNat]
def k0_off526 (v645 : BitVec 32) : Fin 2 → Nat :=
  let c65535_i32 : BitVec 32 := 65535#32
  let v646 : BitVec 32 := Scalar.andi v645 c65535_i32
  let c0_i32_530 : BitVec 32 := 0#32
  let v652 : BitVec 32 := Scalar.addi v646 c0_i32_530
  let v654 : Index := Scalar.indexCast v652
  let c0_531 : Index := 0#32
  ![v654.toNat, 0]

def k0_off527 (v49_0 : BitVec 32) (k0_t4 : Fin k0_t4_loop.trips) (k0_t18 : Fin (k0_t18_loop v49_0).trips) (v650 : BitVec 32) (c0_i32_534 : BitVec 32) : Fin 2 → Nat :=
  let c0_i32_379 : BitVec 32 := 0#32
  let c1_i32_381 : BitVec 32 := 1#32
  let arg18 : BitVec 32 := Scf.iv c0_i32_379 c1_i32_381 k0_t4
  let c64_i32 : BitVec 32 := 64#32
  let v50 : BitVec 32 := Scalar.addi v49_0 c64_i32
  let c1_i32_52 : BitVec 32 := 1#32
  let v51 : BitVec 32 := Scalar.subi v50 c1_i32_52
  let c0_i32_54 : BitVec 32 := 0#32
  let v53 : BitVec 1 := Scalar.cmpi .sgt v51 c0_i32_54
  let v54 : BitVec 32 := Scalar.extui v53
  let c0_i32_55 : BitVec 32 := 0#32
  let v55 : BitVec 1 := Scalar.cmpi .slt v51 c0_i32_55
  let v56 : BitVec 32 := Scalar.extui v55
  let v57 : BitVec 32 := Scalar.subi v54 v56
  let c64_i32_53 : BitVec 32 := 64#32
  let c0_i32_56 : BitVec 32 := 0#32
  let v58 : BitVec 1 := Scalar.cmpi .sgt c64_i32_53 c0_i32_56
  let v59 : BitVec 32 := Scalar.extui v58
  let c0_i32_57 : BitVec 32 := 0#32
  let v60 : BitVec 1 := Scalar.cmpi .slt c64_i32_53 c0_i32_57
  let v61 : BitVec 32 := Scalar.extui v60
  let v62 : BitVec 32 := Scalar.subi v59 v61
  let v63 : BitVec 1 := Scalar.cmpi .ne v57 v62
  let v64 : BitVec 32 := Scalar.remsi v51 c64_i32_53
  let c0_i32_58 : BitVec 32 := 0#32
  let v65 : BitVec 1 := Scalar.cmpi .ne v64 c0_i32_58
  let v66 : BitVec 1 := Scalar.andi v63 v65
  let v52 : BitVec 32 := Scalar.divsi v51 c64_i32_53
  let c1_i32_59 : BitVec 32 := 1#32
  let v67 : BitVec 32 := Scalar.subi v52 c1_i32_59
  let v68 : BitVec 32 := Scalar.select v66 v67 v52
  let v580 : BitVec 32 := Scalar.muli arg18 v68
  let c0_i32_485 : BitVec 32 := 0#32
  let v573 : BitVec 32 := Scalar.subi v68 c0_i32_485
  let c1_i32_487 : BitVec 32 := 1#32
  let v575 : BitVec 32 := Scalar.divsi v573 c1_i32_487
  let v576 : BitVec 32 := Scalar.muli v575 c1_i32_487
  let v577 : BitVec 32 := Scalar.addi c0_i32_485 v576
  let c1_i32_489 : BitVec 32 := 1#32
  let arg19 : BitVec 32 := Scf.iv v577 c1_i32_489 k0_t18
  let v581 : BitVec 32 := Scalar.addi v580 arg19
  let c4_i32_490 : BitVec 32 := 4#32
  let v582 : BitVec 32 := Scalar.remsi v581 c4_i32_490
  let c1728_i32 : BitVec 32 := 1728#32
  let v603 : BitVec 32 := Scalar.muli v582 c1728_i32
  let c1536_i32_503 : BitVec 32 := 1536#32
  let v604 : BitVec 32 := Scalar.muli arg19 c1536_i32_503
  let v605 : BitVec 32 := Scalar.subi v603 v604
  let v651 : BitVec 32 := Scalar.addi v650 v605
  let v660 : BitVec 32 := Scalar.addi v651 c0_i32_534
  let v662 : Index := Scalar.indexCast v660
  let c0_535 : Index := 0#32
  ![v662.toNat, 0]

def k0_chk38 (v49_0 : BitVec 32) (k0_t4 : Fin k0_t4_loop.trips) (k0_t18 : Fin (k0_t18_loop v49_0).trips) (v650 : BitVec 32) : Prop :=
  (∀ (r : Fin 3), ∀ a, S8x128.size a = 0 ∨ (k0_off527 v49_0 k0_t4 k0_t18 v650 (BitVec.ofNat 32 (64 * r.val))) a + (![8, 1] : Fin 2 → Nat) a * (S8x128.size a - 1) < S6912x128.size a)
theorem k0_off527_inb : ∀ (v49_0 : BitVec 32) (k0_t4 : Fin k0_t4_loop.trips) (k0_t18 : Fin (k0_t18_loop v49_0).trips) (v650 : BitVec 32) (k0_hw38 : k0_chk38 v49_0 k0_t4 k0_t18 v650), ∀ (r : Fin 3), ∀ a, S8x128.size a = 0 ∨ (k0_off527 v49_0 k0_t4 k0_t18 v650 (BitVec.ofNat 32 (64 * r.val))) a + (![8, 1] : Fin 2 → Nat) a * (S8x128.size a - 1) < S6912x128.size a := fun v49_0 k0_t4 k0_t18 v650 k0_hw38 r => k0_hw38 r

def k0_off528 (v645 : BitVec 32) (c64_i32_536 : BitVec 32) : Fin 2 → Nat :=
  let c65535_i32 : BitVec 32 := 65535#32
  let v646 : BitVec 32 := Scalar.andi v645 c65535_i32
  let v666 : BitVec 32 := Scalar.addi v646 c64_i32_536
  let v668 : Index := Scalar.indexCast v666
  let c0_537 : Index := 0#32
  ![v668.toNat, 0]

def k0_chk37 (v645 : BitVec 32) : Prop :=
  (∀ a, S8x128.size a = 0 ∨ (k0_off526 v645) a + (![8, 1] : Fin 2 → Nat) a * (S8x128.size a - 1) < S49152x128.size a) ∧
  (∀ (r : Fin 2), ∀ a, S8x128.size a = 0 ∨ (k0_off528 v645 (BitVec.ofNat 32 (64 + 64 * r.val))) a + (![8, 1] : Fin 2 → Nat) a * (S8x128.size a - 1) < S49152x128.size a)
theorem k0_off526_inb : ∀ (v645 : BitVec 32) (k0_hw37 : k0_chk37 v645), ∀ a, S8x128.size a = 0 ∨ (k0_off526 v645) a + (![8, 1] : Fin 2 → Nat) a * (S8x128.size a - 1) < S49152x128.size a := fun v645 k0_hw37 => k0_hw37.1
theorem k0_off528_inb : ∀ (v645 : BitVec 32) (k0_hw37 : k0_chk37 v645), ∀ (r : Fin 2), ∀ a, S8x128.size a = 0 ∨ (k0_off528 v645 (BitVec.ofNat 32 (64 + 64 * r.val))) a + (![8, 1] : Fin 2 → Nat) a * (S8x128.size a - 1) < S49152x128.size a := fun v645 k0_hw37 r => k0_hw37.2 r

def k0_off529 (v49_0 : BitVec 32) (v370 : BitVec 32) (k0_t18 : Fin (k0_t18_loop v49_0).trips) (v593 : BitVec 32) (v602 : BitVec 32) (k0_t19 : Fin (k0_t19_loop v49_0 v370 k0_t18 v593 v602).trips) : Fin 1 → Nat :=
  let c0_i32_485 : BitVec 32 := 0#32
  let c64_i32 : BitVec 32 := 64#32
  let v50 : BitVec 32 := Scalar.addi v49_0 c64_i32
  let c1_i32_52 : BitVec 32 := 1#32
  let v51 : BitVec 32 := Scalar.subi v50 c1_i32_52
  let c0_i32_54 : BitVec 32 := 0#32
  let v53 : BitVec 1 := Scalar.cmpi .sgt v51 c0_i32_54
  let v54 : BitVec 32 := Scalar.extui v53
  let c0_i32_55 : BitVec 32 := 0#32
  let v55 : BitVec 1 := Scalar.cmpi .slt v51 c0_i32_55
  let v56 : BitVec 32 := Scalar.extui v55
  let v57 : BitVec 32 := Scalar.subi v54 v56
  let c64_i32_53 : BitVec 32 := 64#32
  let c0_i32_56 : BitVec 32 := 0#32
  let v58 : BitVec 1 := Scalar.cmpi .sgt c64_i32_53 c0_i32_56
  let v59 : BitVec 32 := Scalar.extui v58
  let c0_i32_57 : BitVec 32 := 0#32
  let v60 : BitVec 1 := Scalar.cmpi .slt c64_i32_53 c0_i32_57
  let v61 : BitVec 32 := Scalar.extui v60
  let v62 : BitVec 32 := Scalar.subi v59 v61
  let v63 : BitVec 1 := Scalar.cmpi .ne v57 v62
  let v64 : BitVec 32 := Scalar.remsi v51 c64_i32_53
  let c0_i32_58 : BitVec 32 := 0#32
  let v65 : BitVec 1 := Scalar.cmpi .ne v64 c0_i32_58
  let v66 : BitVec 1 := Scalar.andi v63 v65
  let v52 : BitVec 32 := Scalar.divsi v51 c64_i32_53
  let c1_i32_59 : BitVec 32 := 1#32
  let v67 : BitVec 32 := Scalar.subi v52 c1_i32_59
  let v68 : BitVec 32 := Scalar.select v66 v67 v52
  let v573 : BitVec 32 := Scalar.subi v68 c0_i32_485
  let c1_i32_487 : BitVec 32 := 1#32
  let v575 : BitVec 32 := Scalar.divsi v573 c1_i32_487
  let v576 : BitVec 32 := Scalar.muli v575 c1_i32_487
  let v577 : BitVec 32 := Scalar.addi c0_i32_485 v576
  let c1_i32_489 : BitVec 32 := 1#32
  let arg19 : BitVec 32 := Scf.iv v577 c1_i32_489 k0_t18
  let c0_i32_497 : BitVec 32 := 0#32
  let v594 : BitVec 1 := Scalar.cmpi .eq arg19 c0_i32_497
  let c1_i32_498 : BitVec 32 := 1#32
  let v595 : BitVec 32 := Scalar.subi v370 c1_i32_498
  let c0_i32_499 : BitVec 32 := 0#32
  let v596 : BitVec 32 := Scalar.select v594 v595 c0_i32_499
  let v597 : BitVec 32 := Scalar.maxsi v593 v596
  let c0_i32_514 : BitVec 32 := 0#32
  let c1_i32_516 : BitVec 32 := 1#32
  let arg21 : BitVec 32 := Scf.iv c0_i32_514 c1_i32_516 k0_t19
  let c8_i32_527 : BitVec 32 := 8#32
  let v641 : BitVec 32 := Scalar.muli arg21 c8_i32_527
  let v642 : BitVec 32 := Scalar.addi v597 v641
  let c1_i32_548 : BitVec 32 := 1#32
  let v694 : BitVec 32 := Scalar.addi v642 c1_i32_548
  let v695 : Index := Scalar.indexCast v694
  ![v695.toNat]
def k0_off530 (v696 : BitVec 32) : Fin 2 → Nat :=
  let c65535_i32_549 : BitVec 32 := 65535#32
  let v697 : BitVec 32 := Scalar.andi v696 c65535_i32_549
  let c0_i32_552 : BitVec 32 := 0#32
  let v703 : BitVec 32 := Scalar.addi v697 c0_i32_552
  let v705 : Index := Scalar.indexCast v703
  let c0_553 : Index := 0#32
  ![v705.toNat, 0]

def k0_off531 (v49_0 : BitVec 32) (k0_t4 : Fin k0_t4_loop.trips) (k0_t18 : Fin (k0_t18_loop v49_0).trips) (v701 : BitVec 32) (c0_i32_556 : BitVec 32) : Fin 2 → Nat :=
  let c0_i32_379 : BitVec 32 := 0#32
  let c1_i32_381 : BitVec 32 := 1#32
  let arg18 : BitVec 32 := Scf.iv c0_i32_379 c1_i32_381 k0_t4
  let c64_i32 : BitVec 32 := 64#32
  let v50 : BitVec 32 := Scalar.addi v49_0 c64_i32
  let c1_i32_52 : BitVec 32 := 1#32
  let v51 : BitVec 32 := Scalar.subi v50 c1_i32_52
  let c0_i32_54 : BitVec 32 := 0#32
  let v53 : BitVec 1 := Scalar.cmpi .sgt v51 c0_i32_54
  let v54 : BitVec 32 := Scalar.extui v53
  let c0_i32_55 : BitVec 32 := 0#32
  let v55 : BitVec 1 := Scalar.cmpi .slt v51 c0_i32_55
  let v56 : BitVec 32 := Scalar.extui v55
  let v57 : BitVec 32 := Scalar.subi v54 v56
  let c64_i32_53 : BitVec 32 := 64#32
  let c0_i32_56 : BitVec 32 := 0#32
  let v58 : BitVec 1 := Scalar.cmpi .sgt c64_i32_53 c0_i32_56
  let v59 : BitVec 32 := Scalar.extui v58
  let c0_i32_57 : BitVec 32 := 0#32
  let v60 : BitVec 1 := Scalar.cmpi .slt c64_i32_53 c0_i32_57
  let v61 : BitVec 32 := Scalar.extui v60
  let v62 : BitVec 32 := Scalar.subi v59 v61
  let v63 : BitVec 1 := Scalar.cmpi .ne v57 v62
  let v64 : BitVec 32 := Scalar.remsi v51 c64_i32_53
  let c0_i32_58 : BitVec 32 := 0#32
  let v65 : BitVec 1 := Scalar.cmpi .ne v64 c0_i32_58
  let v66 : BitVec 1 := Scalar.andi v63 v65
  let v52 : BitVec 32 := Scalar.divsi v51 c64_i32_53
  let c1_i32_59 : BitVec 32 := 1#32
  let v67 : BitVec 32 := Scalar.subi v52 c1_i32_59
  let v68 : BitVec 32 := Scalar.select v66 v67 v52
  let v580 : BitVec 32 := Scalar.muli arg18 v68
  let c0_i32_485 : BitVec 32 := 0#32
  let v573 : BitVec 32 := Scalar.subi v68 c0_i32_485
  let c1_i32_487 : BitVec 32 := 1#32
  let v575 : BitVec 32 := Scalar.divsi v573 c1_i32_487
  let v576 : BitVec 32 := Scalar.muli v575 c1_i32_487
  let v577 : BitVec 32 := Scalar.addi c0_i32_485 v576
  let c1_i32_489 : BitVec 32 := 1#32
  let arg19 : BitVec 32 := Scf.iv v577 c1_i32_489 k0_t18
  let v581 : BitVec 32 := Scalar.addi v580 arg19
  let c4_i32_490 : BitVec 32 := 4#32
  let v582 : BitVec 32 := Scalar.remsi v581 c4_i32_490
  let c1728_i32 : BitVec 32 := 1728#32
  let v603 : BitVec 32 := Scalar.muli v582 c1728_i32
  let c1536_i32_503 : BitVec 32 := 1536#32
  let v604 : BitVec 32 := Scalar.muli arg19 c1536_i32_503
  let v605 : BitVec 32 := Scalar.subi v603 v604
  let v702 : BitVec 32 := Scalar.addi v701 v605
  let v711 : BitVec 32 := Scalar.addi v702 c0_i32_556
  let v713 : Index := Scalar.indexCast v711
  let c0_557 : Index := 0#32
  ![v713.toNat, 0]

def k0_chk40 (v49_0 : BitVec 32) (k0_t4 : Fin k0_t4_loop.trips) (k0_t18 : Fin (k0_t18_loop v49_0).trips) (v701 : BitVec 32) : Prop :=
  (∀ (r : Fin 3), ∀ a, S8x128.size a = 0 ∨ (k0_off531 v49_0 k0_t4 k0_t18 v701 (BitVec.ofNat 32 (64 * r.val))) a + (![8, 1] : Fin 2 → Nat) a * (S8x128.size a - 1) < S6912x128.size a)
theorem k0_off531_inb : ∀ (v49_0 : BitVec 32) (k0_t4 : Fin k0_t4_loop.trips) (k0_t18 : Fin (k0_t18_loop v49_0).trips) (v701 : BitVec 32) (k0_hw40 : k0_chk40 v49_0 k0_t4 k0_t18 v701), ∀ (r : Fin 3), ∀ a, S8x128.size a = 0 ∨ (k0_off531 v49_0 k0_t4 k0_t18 v701 (BitVec.ofNat 32 (64 * r.val))) a + (![8, 1] : Fin 2 → Nat) a * (S8x128.size a - 1) < S6912x128.size a := fun v49_0 k0_t4 k0_t18 v701 k0_hw40 r => k0_hw40 r

def k0_off532 (v696 : BitVec 32) (c64_i32_558 : BitVec 32) : Fin 2 → Nat :=
  let c65535_i32_549 : BitVec 32 := 65535#32
  let v697 : BitVec 32 := Scalar.andi v696 c65535_i32_549
  let v717 : BitVec 32 := Scalar.addi v697 c64_i32_558
  let v719 : Index := Scalar.indexCast v717
  let c0_559 : Index := 0#32
  ![v719.toNat, 0]

def k0_chk39 (v696 : BitVec 32) : Prop :=
  (∀ a, S8x128.size a = 0 ∨ (k0_off530 v696) a + (![8, 1] : Fin 2 → Nat) a * (S8x128.size a - 1) < S49152x128.size a) ∧
  (∀ (r : Fin 2), ∀ a, S8x128.size a = 0 ∨ (k0_off532 v696 (BitVec.ofNat 32 (64 + 64 * r.val))) a + (![8, 1] : Fin 2 → Nat) a * (S8x128.size a - 1) < S49152x128.size a)
theorem k0_off530_inb : ∀ (v696 : BitVec 32) (k0_hw39 : k0_chk39 v696), ∀ a, S8x128.size a = 0 ∨ (k0_off530 v696) a + (![8, 1] : Fin 2 → Nat) a * (S8x128.size a - 1) < S49152x128.size a := fun v696 k0_hw39 => k0_hw39.1
theorem k0_off532_inb : ∀ (v696 : BitVec 32) (k0_hw39 : k0_chk39 v696), ∀ (r : Fin 2), ∀ a, S8x128.size a = 0 ∨ (k0_off532 v696 (BitVec.ofNat 32 (64 + 64 * r.val))) a + (![8, 1] : Fin 2 → Nat) a * (S8x128.size a - 1) < S49152x128.size a := fun v696 k0_hw39 r => k0_hw39.2 r

def k0_off533 (v49_0 : BitVec 32) (v370 : BitVec 32) (k0_t18 : Fin (k0_t18_loop v49_0).trips) (v593 : BitVec 32) (v602 : BitVec 32) (k0_t19 : Fin (k0_t19_loop v49_0 v370 k0_t18 v593 v602).trips) : Fin 1 → Nat :=
  let c0_i32_485 : BitVec 32 := 0#32
  let c64_i32 : BitVec 32 := 64#32
  let v50 : BitVec 32 := Scalar.addi v49_0 c64_i32
  let c1_i32_52 : BitVec 32 := 1#32
  let v51 : BitVec 32 := Scalar.subi v50 c1_i32_52
  let c0_i32_54 : BitVec 32 := 0#32
  let v53 : BitVec 1 := Scalar.cmpi .sgt v51 c0_i32_54
  let v54 : BitVec 32 := Scalar.extui v53
  let c0_i32_55 : BitVec 32 := 0#32
  let v55 : BitVec 1 := Scalar.cmpi .slt v51 c0_i32_55
  let v56 : BitVec 32 := Scalar.extui v55
  let v57 : BitVec 32 := Scalar.subi v54 v56
  let c64_i32_53 : BitVec 32 := 64#32
  let c0_i32_56 : BitVec 32 := 0#32
  let v58 : BitVec 1 := Scalar.cmpi .sgt c64_i32_53 c0_i32_56
  let v59 : BitVec 32 := Scalar.extui v58
  let c0_i32_57 : BitVec 32 := 0#32
  let v60 : BitVec 1 := Scalar.cmpi .slt c64_i32_53 c0_i32_57
  let v61 : BitVec 32 := Scalar.extui v60
  let v62 : BitVec 32 := Scalar.subi v59 v61
  let v63 : BitVec 1 := Scalar.cmpi .ne v57 v62
  let v64 : BitVec 32 := Scalar.remsi v51 c64_i32_53
  let c0_i32_58 : BitVec 32 := 0#32
  let v65 : BitVec 1 := Scalar.cmpi .ne v64 c0_i32_58
  let v66 : BitVec 1 := Scalar.andi v63 v65
  let v52 : BitVec 32 := Scalar.divsi v51 c64_i32_53
  let c1_i32_59 : BitVec 32 := 1#32
  let v67 : BitVec 32 := Scalar.subi v52 c1_i32_59
  let v68 : BitVec 32 := Scalar.select v66 v67 v52
  let v573 : BitVec 32 := Scalar.subi v68 c0_i32_485
  let c1_i32_487 : BitVec 32 := 1#32
  let v575 : BitVec 32 := Scalar.divsi v573 c1_i32_487
  let v576 : BitVec 32 := Scalar.muli v575 c1_i32_487
  let v577 : BitVec 32 := Scalar.addi c0_i32_485 v576
  let c1_i32_489 : BitVec 32 := 1#32
  let arg19 : BitVec 32 := Scf.iv v577 c1_i32_489 k0_t18
  let c0_i32_497 : BitVec 32 := 0#32
  let v594 : BitVec 1 := Scalar.cmpi .eq arg19 c0_i32_497
  let c1_i32_498 : BitVec 32 := 1#32
  let v595 : BitVec 32 := Scalar.subi v370 c1_i32_498
  let c0_i32_499 : BitVec 32 := 0#32
  let v596 : BitVec 32 := Scalar.select v594 v595 c0_i32_499
  let v597 : BitVec 32 := Scalar.maxsi v593 v596
  let c0_i32_514 : BitVec 32 := 0#32
  let c1_i32_516 : BitVec 32 := 1#32
  let arg21 : BitVec 32 := Scf.iv c0_i32_514 c1_i32_516 k0_t19
  let c8_i32_527 : BitVec 32 := 8#32
  let v641 : BitVec 32 := Scalar.muli arg21 c8_i32_527
  let v642 : BitVec 32 := Scalar.addi v597 v641
  let c2_i32_570 : BitVec 32 := 2#32
  let v745 : BitVec 32 := Scalar.addi v642 c2_i32_570
  let v746 : Index := Scalar.indexCast v745
  ![v746.toNat]
def k0_off534 (v747 : BitVec 32) : Fin 2 → Nat :=
  let c65535_i32_571 : BitVec 32 := 65535#32
  let v748 : BitVec 32 := Scalar.andi v747 c65535_i32_571
  let c0_i32_574 : BitVec 32 := 0#32
  let v754 : BitVec 32 := Scalar.addi v748 c0_i32_574
  let v756 : Index := Scalar.indexCast v754
  let c0_575 : Index := 0#32
  ![v756.toNat, 0]

def k0_off535 (v49_0 : BitVec 32) (k0_t4 : Fin k0_t4_loop.trips) (k0_t18 : Fin (k0_t18_loop v49_0).trips) (v752 : BitVec 32) (c0_i32_578 : BitVec 32) : Fin 2 → Nat :=
  let c0_i32_379 : BitVec 32 := 0#32
  let c1_i32_381 : BitVec 32 := 1#32
  let arg18 : BitVec 32 := Scf.iv c0_i32_379 c1_i32_381 k0_t4
  let c64_i32 : BitVec 32 := 64#32
  let v50 : BitVec 32 := Scalar.addi v49_0 c64_i32
  let c1_i32_52 : BitVec 32 := 1#32
  let v51 : BitVec 32 := Scalar.subi v50 c1_i32_52
  let c0_i32_54 : BitVec 32 := 0#32
  let v53 : BitVec 1 := Scalar.cmpi .sgt v51 c0_i32_54
  let v54 : BitVec 32 := Scalar.extui v53
  let c0_i32_55 : BitVec 32 := 0#32
  let v55 : BitVec 1 := Scalar.cmpi .slt v51 c0_i32_55
  let v56 : BitVec 32 := Scalar.extui v55
  let v57 : BitVec 32 := Scalar.subi v54 v56
  let c64_i32_53 : BitVec 32 := 64#32
  let c0_i32_56 : BitVec 32 := 0#32
  let v58 : BitVec 1 := Scalar.cmpi .sgt c64_i32_53 c0_i32_56
  let v59 : BitVec 32 := Scalar.extui v58
  let c0_i32_57 : BitVec 32 := 0#32
  let v60 : BitVec 1 := Scalar.cmpi .slt c64_i32_53 c0_i32_57
  let v61 : BitVec 32 := Scalar.extui v60
  let v62 : BitVec 32 := Scalar.subi v59 v61
  let v63 : BitVec 1 := Scalar.cmpi .ne v57 v62
  let v64 : BitVec 32 := Scalar.remsi v51 c64_i32_53
  let c0_i32_58 : BitVec 32 := 0#32
  let v65 : BitVec 1 := Scalar.cmpi .ne v64 c0_i32_58
  let v66 : BitVec 1 := Scalar.andi v63 v65
  let v52 : BitVec 32 := Scalar.divsi v51 c64_i32_53
  let c1_i32_59 : BitVec 32 := 1#32
  let v67 : BitVec 32 := Scalar.subi v52 c1_i32_59
  let v68 : BitVec 32 := Scalar.select v66 v67 v52
  let v580 : BitVec 32 := Scalar.muli arg18 v68
  let c0_i32_485 : BitVec 32 := 0#32
  let v573 : BitVec 32 := Scalar.subi v68 c0_i32_485
  let c1_i32_487 : BitVec 32 := 1#32
  let v575 : BitVec 32 := Scalar.divsi v573 c1_i32_487
  let v576 : BitVec 32 := Scalar.muli v575 c1_i32_487
  let v577 : BitVec 32 := Scalar.addi c0_i32_485 v576
  let c1_i32_489 : BitVec 32 := 1#32
  let arg19 : BitVec 32 := Scf.iv v577 c1_i32_489 k0_t18
  let v581 : BitVec 32 := Scalar.addi v580 arg19
  let c4_i32_490 : BitVec 32 := 4#32
  let v582 : BitVec 32 := Scalar.remsi v581 c4_i32_490
  let c1728_i32 : BitVec 32 := 1728#32
  let v603 : BitVec 32 := Scalar.muli v582 c1728_i32
  let c1536_i32_503 : BitVec 32 := 1536#32
  let v604 : BitVec 32 := Scalar.muli arg19 c1536_i32_503
  let v605 : BitVec 32 := Scalar.subi v603 v604
  let v753 : BitVec 32 := Scalar.addi v752 v605
  let v762 : BitVec 32 := Scalar.addi v753 c0_i32_578
  let v764 : Index := Scalar.indexCast v762
  let c0_579 : Index := 0#32
  ![v764.toNat, 0]

def k0_chk42 (v49_0 : BitVec 32) (k0_t4 : Fin k0_t4_loop.trips) (k0_t18 : Fin (k0_t18_loop v49_0).trips) (v752 : BitVec 32) : Prop :=
  (∀ (r : Fin 3), ∀ a, S8x128.size a = 0 ∨ (k0_off535 v49_0 k0_t4 k0_t18 v752 (BitVec.ofNat 32 (64 * r.val))) a + (![8, 1] : Fin 2 → Nat) a * (S8x128.size a - 1) < S6912x128.size a)
theorem k0_off535_inb : ∀ (v49_0 : BitVec 32) (k0_t4 : Fin k0_t4_loop.trips) (k0_t18 : Fin (k0_t18_loop v49_0).trips) (v752 : BitVec 32) (k0_hw42 : k0_chk42 v49_0 k0_t4 k0_t18 v752), ∀ (r : Fin 3), ∀ a, S8x128.size a = 0 ∨ (k0_off535 v49_0 k0_t4 k0_t18 v752 (BitVec.ofNat 32 (64 * r.val))) a + (![8, 1] : Fin 2 → Nat) a * (S8x128.size a - 1) < S6912x128.size a := fun v49_0 k0_t4 k0_t18 v752 k0_hw42 r => k0_hw42 r

def k0_off536 (v747 : BitVec 32) (c64_i32_580 : BitVec 32) : Fin 2 → Nat :=
  let c65535_i32_571 : BitVec 32 := 65535#32
  let v748 : BitVec 32 := Scalar.andi v747 c65535_i32_571
  let v768 : BitVec 32 := Scalar.addi v748 c64_i32_580
  let v770 : Index := Scalar.indexCast v768
  let c0_581 : Index := 0#32
  ![v770.toNat, 0]

def k0_chk41 (v747 : BitVec 32) : Prop :=
  (∀ a, S8x128.size a = 0 ∨ (k0_off534 v747) a + (![8, 1] : Fin 2 → Nat) a * (S8x128.size a - 1) < S49152x128.size a) ∧
  (∀ (r : Fin 2), ∀ a, S8x128.size a = 0 ∨ (k0_off536 v747 (BitVec.ofNat 32 (64 + 64 * r.val))) a + (![8, 1] : Fin 2 → Nat) a * (S8x128.size a - 1) < S49152x128.size a)
theorem k0_off534_inb : ∀ (v747 : BitVec 32) (k0_hw41 : k0_chk41 v747), ∀ a, S8x128.size a = 0 ∨ (k0_off534 v747) a + (![8, 1] : Fin 2 → Nat) a * (S8x128.size a - 1) < S49152x128.size a := fun v747 k0_hw41 => k0_hw41.1
theorem k0_off536_inb : ∀ (v747 : BitVec 32) (k0_hw41 : k0_chk41 v747), ∀ (r : Fin 2), ∀ a, S8x128.size a = 0 ∨ (k0_off536 v747 (BitVec.ofNat 32 (64 + 64 * r.val))) a + (![8, 1] : Fin 2 → Nat) a * (S8x128.size a - 1) < S49152x128.size a := fun v747 k0_hw41 r => k0_hw41.2 r

def k0_off537 (v49_0 : BitVec 32) (v370 : BitVec 32) (k0_t18 : Fin (k0_t18_loop v49_0).trips) (v593 : BitVec 32) (v602 : BitVec 32) (k0_t19 : Fin (k0_t19_loop v49_0 v370 k0_t18 v593 v602).trips) : Fin 1 → Nat :=
  let c0_i32_485 : BitVec 32 := 0#32
  let c64_i32 : BitVec 32 := 64#32
  let v50 : BitVec 32 := Scalar.addi v49_0 c64_i32
  let c1_i32_52 : BitVec 32 := 1#32
  let v51 : BitVec 32 := Scalar.subi v50 c1_i32_52
  let c0_i32_54 : BitVec 32 := 0#32
  let v53 : BitVec 1 := Scalar.cmpi .sgt v51 c0_i32_54
  let v54 : BitVec 32 := Scalar.extui v53
  let c0_i32_55 : BitVec 32 := 0#32
  let v55 : BitVec 1 := Scalar.cmpi .slt v51 c0_i32_55
  let v56 : BitVec 32 := Scalar.extui v55
  let v57 : BitVec 32 := Scalar.subi v54 v56
  let c64_i32_53 : BitVec 32 := 64#32
  let c0_i32_56 : BitVec 32 := 0#32
  let v58 : BitVec 1 := Scalar.cmpi .sgt c64_i32_53 c0_i32_56
  let v59 : BitVec 32 := Scalar.extui v58
  let c0_i32_57 : BitVec 32 := 0#32
  let v60 : BitVec 1 := Scalar.cmpi .slt c64_i32_53 c0_i32_57
  let v61 : BitVec 32 := Scalar.extui v60
  let v62 : BitVec 32 := Scalar.subi v59 v61
  let v63 : BitVec 1 := Scalar.cmpi .ne v57 v62
  let v64 : BitVec 32 := Scalar.remsi v51 c64_i32_53
  let c0_i32_58 : BitVec 32 := 0#32
  let v65 : BitVec 1 := Scalar.cmpi .ne v64 c0_i32_58
  let v66 : BitVec 1 := Scalar.andi v63 v65
  let v52 : BitVec 32 := Scalar.divsi v51 c64_i32_53
  let c1_i32_59 : BitVec 32 := 1#32
  let v67 : BitVec 32 := Scalar.subi v52 c1_i32_59
  let v68 : BitVec 32 := Scalar.select v66 v67 v52
  let v573 : BitVec 32 := Scalar.subi v68 c0_i32_485
  let c1_i32_487 : BitVec 32 := 1#32
  let v575 : BitVec 32 := Scalar.divsi v573 c1_i32_487
  let v576 : BitVec 32 := Scalar.muli v575 c1_i32_487
  let v577 : BitVec 32 := Scalar.addi c0_i32_485 v576
  let c1_i32_489 : BitVec 32 := 1#32
  let arg19 : BitVec 32 := Scf.iv v577 c1_i32_489 k0_t18
  let c0_i32_497 : BitVec 32 := 0#32
  let v594 : BitVec 1 := Scalar.cmpi .eq arg19 c0_i32_497
  let c1_i32_498 : BitVec 32 := 1#32
  let v595 : BitVec 32 := Scalar.subi v370 c1_i32_498
  let c0_i32_499 : BitVec 32 := 0#32
  let v596 : BitVec 32 := Scalar.select v594 v595 c0_i32_499
  let v597 : BitVec 32 := Scalar.maxsi v593 v596
  let c0_i32_514 : BitVec 32 := 0#32
  let c1_i32_516 : BitVec 32 := 1#32
  let arg21 : BitVec 32 := Scf.iv c0_i32_514 c1_i32_516 k0_t19
  let c8_i32_527 : BitVec 32 := 8#32
  let v641 : BitVec 32 := Scalar.muli arg21 c8_i32_527
  let v642 : BitVec 32 := Scalar.addi v597 v641
  let c3_i32_592 : BitVec 32 := 3#32
  let v796 : BitVec 32 := Scalar.addi v642 c3_i32_592
  let v797 : Index := Scalar.indexCast v796
  ![v797.toNat]
def k0_off538 (v798 : BitVec 32) : Fin 2 → Nat :=
  let c65535_i32_593 : BitVec 32 := 65535#32
  let v799 : BitVec 32 := Scalar.andi v798 c65535_i32_593
  let c0_i32_596 : BitVec 32 := 0#32
  let v805 : BitVec 32 := Scalar.addi v799 c0_i32_596
  let v807 : Index := Scalar.indexCast v805
  let c0_597 : Index := 0#32
  ![v807.toNat, 0]

def k0_off539 (v49_0 : BitVec 32) (k0_t4 : Fin k0_t4_loop.trips) (k0_t18 : Fin (k0_t18_loop v49_0).trips) (v803 : BitVec 32) (c0_i32_600 : BitVec 32) : Fin 2 → Nat :=
  let c0_i32_379 : BitVec 32 := 0#32
  let c1_i32_381 : BitVec 32 := 1#32
  let arg18 : BitVec 32 := Scf.iv c0_i32_379 c1_i32_381 k0_t4
  let c64_i32 : BitVec 32 := 64#32
  let v50 : BitVec 32 := Scalar.addi v49_0 c64_i32
  let c1_i32_52 : BitVec 32 := 1#32
  let v51 : BitVec 32 := Scalar.subi v50 c1_i32_52
  let c0_i32_54 : BitVec 32 := 0#32
  let v53 : BitVec 1 := Scalar.cmpi .sgt v51 c0_i32_54
  let v54 : BitVec 32 := Scalar.extui v53
  let c0_i32_55 : BitVec 32 := 0#32
  let v55 : BitVec 1 := Scalar.cmpi .slt v51 c0_i32_55
  let v56 : BitVec 32 := Scalar.extui v55
  let v57 : BitVec 32 := Scalar.subi v54 v56
  let c64_i32_53 : BitVec 32 := 64#32
  let c0_i32_56 : BitVec 32 := 0#32
  let v58 : BitVec 1 := Scalar.cmpi .sgt c64_i32_53 c0_i32_56
  let v59 : BitVec 32 := Scalar.extui v58
  let c0_i32_57 : BitVec 32 := 0#32
  let v60 : BitVec 1 := Scalar.cmpi .slt c64_i32_53 c0_i32_57
  let v61 : BitVec 32 := Scalar.extui v60
  let v62 : BitVec 32 := Scalar.subi v59 v61
  let v63 : BitVec 1 := Scalar.cmpi .ne v57 v62
  let v64 : BitVec 32 := Scalar.remsi v51 c64_i32_53
  let c0_i32_58 : BitVec 32 := 0#32
  let v65 : BitVec 1 := Scalar.cmpi .ne v64 c0_i32_58
  let v66 : BitVec 1 := Scalar.andi v63 v65
  let v52 : BitVec 32 := Scalar.divsi v51 c64_i32_53
  let c1_i32_59 : BitVec 32 := 1#32
  let v67 : BitVec 32 := Scalar.subi v52 c1_i32_59
  let v68 : BitVec 32 := Scalar.select v66 v67 v52
  let v580 : BitVec 32 := Scalar.muli arg18 v68
  let c0_i32_485 : BitVec 32 := 0#32
  let v573 : BitVec 32 := Scalar.subi v68 c0_i32_485
  let c1_i32_487 : BitVec 32 := 1#32
  let v575 : BitVec 32 := Scalar.divsi v573 c1_i32_487
  let v576 : BitVec 32 := Scalar.muli v575 c1_i32_487
  let v577 : BitVec 32 := Scalar.addi c0_i32_485 v576
  let c1_i32_489 : BitVec 32 := 1#32
  let arg19 : BitVec 32 := Scf.iv v577 c1_i32_489 k0_t18
  let v581 : BitVec 32 := Scalar.addi v580 arg19
  let c4_i32_490 : BitVec 32 := 4#32
  let v582 : BitVec 32 := Scalar.remsi v581 c4_i32_490
  let c1728_i32 : BitVec 32 := 1728#32
  let v603 : BitVec 32 := Scalar.muli v582 c1728_i32
  let c1536_i32_503 : BitVec 32 := 1536#32
  let v604 : BitVec 32 := Scalar.muli arg19 c1536_i32_503
  let v605 : BitVec 32 := Scalar.subi v603 v604
  let v804 : BitVec 32 := Scalar.addi v803 v605
  let v813 : BitVec 32 := Scalar.addi v804 c0_i32_600
  let v815 : Index := Scalar.indexCast v813
  let c0_601 : Index := 0#32
  ![v815.toNat, 0]

def k0_chk44 (v49_0 : BitVec 32) (k0_t4 : Fin k0_t4_loop.trips) (k0_t18 : Fin (k0_t18_loop v49_0).trips) (v803 : BitVec 32) : Prop :=
  (∀ (r : Fin 3), ∀ a, S8x128.size a = 0 ∨ (k0_off539 v49_0 k0_t4 k0_t18 v803 (BitVec.ofNat 32 (64 * r.val))) a + (![8, 1] : Fin 2 → Nat) a * (S8x128.size a - 1) < S6912x128.size a)
theorem k0_off539_inb : ∀ (v49_0 : BitVec 32) (k0_t4 : Fin k0_t4_loop.trips) (k0_t18 : Fin (k0_t18_loop v49_0).trips) (v803 : BitVec 32) (k0_hw44 : k0_chk44 v49_0 k0_t4 k0_t18 v803), ∀ (r : Fin 3), ∀ a, S8x128.size a = 0 ∨ (k0_off539 v49_0 k0_t4 k0_t18 v803 (BitVec.ofNat 32 (64 * r.val))) a + (![8, 1] : Fin 2 → Nat) a * (S8x128.size a - 1) < S6912x128.size a := fun v49_0 k0_t4 k0_t18 v803 k0_hw44 r => k0_hw44 r

def k0_off540 (v798 : BitVec 32) (c64_i32_602 : BitVec 32) : Fin 2 → Nat :=
  let c65535_i32_593 : BitVec 32 := 65535#32
  let v799 : BitVec 32 := Scalar.andi v798 c65535_i32_593
  let v819 : BitVec 32 := Scalar.addi v799 c64_i32_602
  let v821 : Index := Scalar.indexCast v819
  let c0_603 : Index := 0#32
  ![v821.toNat, 0]

def k0_chk43 (v798 : BitVec 32) : Prop :=
  (∀ a, S8x128.size a = 0 ∨ (k0_off538 v798) a + (![8, 1] : Fin 2 → Nat) a * (S8x128.size a - 1) < S49152x128.size a) ∧
  (∀ (r : Fin 2), ∀ a, S8x128.size a = 0 ∨ (k0_off540 v798 (BitVec.ofNat 32 (64 + 64 * r.val))) a + (![8, 1] : Fin 2 → Nat) a * (S8x128.size a - 1) < S49152x128.size a)
theorem k0_off538_inb : ∀ (v798 : BitVec 32) (k0_hw43 : k0_chk43 v798), ∀ a, S8x128.size a = 0 ∨ (k0_off538 v798) a + (![8, 1] : Fin 2 → Nat) a * (S8x128.size a - 1) < S49152x128.size a := fun v798 k0_hw43 => k0_hw43.1
theorem k0_off540_inb : ∀ (v798 : BitVec 32) (k0_hw43 : k0_chk43 v798), ∀ (r : Fin 2), ∀ a, S8x128.size a = 0 ∨ (k0_off540 v798 (BitVec.ofNat 32 (64 + 64 * r.val))) a + (![8, 1] : Fin 2 → Nat) a * (S8x128.size a - 1) < S49152x128.size a := fun v798 k0_hw43 r => k0_hw43.2 r

def k0_off541 (v49_0 : BitVec 32) (v370 : BitVec 32) (k0_t18 : Fin (k0_t18_loop v49_0).trips) (v593 : BitVec 32) (v602 : BitVec 32) (k0_t19 : Fin (k0_t19_loop v49_0 v370 k0_t18 v593 v602).trips) : Fin 1 → Nat :=
  let c0_i32_485 : BitVec 32 := 0#32
  let c64_i32 : BitVec 32 := 64#32
  let v50 : BitVec 32 := Scalar.addi v49_0 c64_i32
  let c1_i32_52 : BitVec 32 := 1#32
  let v51 : BitVec 32 := Scalar.subi v50 c1_i32_52
  let c0_i32_54 : BitVec 32 := 0#32
  let v53 : BitVec 1 := Scalar.cmpi .sgt v51 c0_i32_54
  let v54 : BitVec 32 := Scalar.extui v53
  let c0_i32_55 : BitVec 32 := 0#32
  let v55 : BitVec 1 := Scalar.cmpi .slt v51 c0_i32_55
  let v56 : BitVec 32 := Scalar.extui v55
  let v57 : BitVec 32 := Scalar.subi v54 v56
  let c64_i32_53 : BitVec 32 := 64#32
  let c0_i32_56 : BitVec 32 := 0#32
  let v58 : BitVec 1 := Scalar.cmpi .sgt c64_i32_53 c0_i32_56
  let v59 : BitVec 32 := Scalar.extui v58
  let c0_i32_57 : BitVec 32 := 0#32
  let v60 : BitVec 1 := Scalar.cmpi .slt c64_i32_53 c0_i32_57
  let v61 : BitVec 32 := Scalar.extui v60
  let v62 : BitVec 32 := Scalar.subi v59 v61
  let v63 : BitVec 1 := Scalar.cmpi .ne v57 v62
  let v64 : BitVec 32 := Scalar.remsi v51 c64_i32_53
  let c0_i32_58 : BitVec 32 := 0#32
  let v65 : BitVec 1 := Scalar.cmpi .ne v64 c0_i32_58
  let v66 : BitVec 1 := Scalar.andi v63 v65
  let v52 : BitVec 32 := Scalar.divsi v51 c64_i32_53
  let c1_i32_59 : BitVec 32 := 1#32
  let v67 : BitVec 32 := Scalar.subi v52 c1_i32_59
  let v68 : BitVec 32 := Scalar.select v66 v67 v52
  let v573 : BitVec 32 := Scalar.subi v68 c0_i32_485
  let c1_i32_487 : BitVec 32 := 1#32
  let v575 : BitVec 32 := Scalar.divsi v573 c1_i32_487
  let v576 : BitVec 32 := Scalar.muli v575 c1_i32_487
  let v577 : BitVec 32 := Scalar.addi c0_i32_485 v576
  let c1_i32_489 : BitVec 32 := 1#32
  let arg19 : BitVec 32 := Scf.iv v577 c1_i32_489 k0_t18
  let c0_i32_497 : BitVec 32 := 0#32
  let v594 : BitVec 1 := Scalar.cmpi .eq arg19 c0_i32_497
  let c1_i32_498 : BitVec 32 := 1#32
  let v595 : BitVec 32 := Scalar.subi v370 c1_i32_498
  let c0_i32_499 : BitVec 32 := 0#32
  let v596 : BitVec 32 := Scalar.select v594 v595 c0_i32_499
  let v597 : BitVec 32 := Scalar.maxsi v593 v596
  let c0_i32_514 : BitVec 32 := 0#32
  let c1_i32_516 : BitVec 32 := 1#32
  let arg21 : BitVec 32 := Scf.iv c0_i32_514 c1_i32_516 k0_t19
  let c8_i32_527 : BitVec 32 := 8#32
  let v641 : BitVec 32 := Scalar.muli arg21 c8_i32_527
  let v642 : BitVec 32 := Scalar.addi v597 v641
  let c4_i32_614 : BitVec 32 := 4#32
  let v847 : BitVec 32 := Scalar.addi v642 c4_i32_614
  let v848 : Index := Scalar.indexCast v847
  ![v848.toNat]
def k0_off542 (v849 : BitVec 32) : Fin 2 → Nat :=
  let c65535_i32_615 : BitVec 32 := 65535#32
  let v850 : BitVec 32 := Scalar.andi v849 c65535_i32_615
  let c0_i32_618 : BitVec 32 := 0#32
  let v856 : BitVec 32 := Scalar.addi v850 c0_i32_618
  let v858 : Index := Scalar.indexCast v856
  let c0_619 : Index := 0#32
  ![v858.toNat, 0]

def k0_off543 (v49_0 : BitVec 32) (k0_t4 : Fin k0_t4_loop.trips) (k0_t18 : Fin (k0_t18_loop v49_0).trips) (v854 : BitVec 32) (c0_i32_622 : BitVec 32) : Fin 2 → Nat :=
  let c0_i32_379 : BitVec 32 := 0#32
  let c1_i32_381 : BitVec 32 := 1#32
  let arg18 : BitVec 32 := Scf.iv c0_i32_379 c1_i32_381 k0_t4
  let c64_i32 : BitVec 32 := 64#32
  let v50 : BitVec 32 := Scalar.addi v49_0 c64_i32
  let c1_i32_52 : BitVec 32 := 1#32
  let v51 : BitVec 32 := Scalar.subi v50 c1_i32_52
  let c0_i32_54 : BitVec 32 := 0#32
  let v53 : BitVec 1 := Scalar.cmpi .sgt v51 c0_i32_54
  let v54 : BitVec 32 := Scalar.extui v53
  let c0_i32_55 : BitVec 32 := 0#32
  let v55 : BitVec 1 := Scalar.cmpi .slt v51 c0_i32_55
  let v56 : BitVec 32 := Scalar.extui v55
  let v57 : BitVec 32 := Scalar.subi v54 v56
  let c64_i32_53 : BitVec 32 := 64#32
  let c0_i32_56 : BitVec 32 := 0#32
  let v58 : BitVec 1 := Scalar.cmpi .sgt c64_i32_53 c0_i32_56
  let v59 : BitVec 32 := Scalar.extui v58
  let c0_i32_57 : BitVec 32 := 0#32
  let v60 : BitVec 1 := Scalar.cmpi .slt c64_i32_53 c0_i32_57
  let v61 : BitVec 32 := Scalar.extui v60
  let v62 : BitVec 32 := Scalar.subi v59 v61
  let v63 : BitVec 1 := Scalar.cmpi .ne v57 v62
  let v64 : BitVec 32 := Scalar.remsi v51 c64_i32_53
  let c0_i32_58 : BitVec 32 := 0#32
  let v65 : BitVec 1 := Scalar.cmpi .ne v64 c0_i32_58
  let v66 : BitVec 1 := Scalar.andi v63 v65
  let v52 : BitVec 32 := Scalar.divsi v51 c64_i32_53
  let c1_i32_59 : BitVec 32 := 1#32
  let v67 : BitVec 32 := Scalar.subi v52 c1_i32_59
  let v68 : BitVec 32 := Scalar.select v66 v67 v52
  let v580 : BitVec 32 := Scalar.muli arg18 v68
  let c0_i32_485 : BitVec 32 := 0#32
  let v573 : BitVec 32 := Scalar.subi v68 c0_i32_485
  let c1_i32_487 : BitVec 32 := 1#32
  let v575 : BitVec 32 := Scalar.divsi v573 c1_i32_487
  let v576 : BitVec 32 := Scalar.muli v575 c1_i32_487
  let v577 : BitVec 32 := Scalar.addi c0_i32_485 v576
  let c1_i32_489 : BitVec 32 := 1#32
  let arg19 : BitVec 32 := Scf.iv v577 c1_i32_489 k0_t18
  let v581 : BitVec 32 := Scalar.addi v580 arg19
  let c4_i32_490 : BitVec 32 := 4#32
  let v582 : BitVec 32 := Scalar.remsi v581 c4_i32_490
  let c1728_i32 : BitVec 32 := 1728#32
  let v603 : BitVec 32 := Scalar.muli v582 c1728_i32
  let c1536_i32_503 : BitVec 32 := 1536#32
  let v604 : BitVec 32 := Scalar.muli arg19 c1536_i32_503
  let v605 : BitVec 32 := Scalar.subi v603 v604
  let v855 : BitVec 32 := Scalar.addi v854 v605
  let v864 : BitVec 32 := Scalar.addi v855 c0_i32_622
  let v866 : Index := Scalar.indexCast v864
  let c0_623 : Index := 0#32
  ![v866.toNat, 0]

def k0_chk46 (v49_0 : BitVec 32) (k0_t4 : Fin k0_t4_loop.trips) (k0_t18 : Fin (k0_t18_loop v49_0).trips) (v854 : BitVec 32) : Prop :=
  (∀ (r : Fin 3), ∀ a, S8x128.size a = 0 ∨ (k0_off543 v49_0 k0_t4 k0_t18 v854 (BitVec.ofNat 32 (64 * r.val))) a + (![8, 1] : Fin 2 → Nat) a * (S8x128.size a - 1) < S6912x128.size a)
theorem k0_off543_inb : ∀ (v49_0 : BitVec 32) (k0_t4 : Fin k0_t4_loop.trips) (k0_t18 : Fin (k0_t18_loop v49_0).trips) (v854 : BitVec 32) (k0_hw46 : k0_chk46 v49_0 k0_t4 k0_t18 v854), ∀ (r : Fin 3), ∀ a, S8x128.size a = 0 ∨ (k0_off543 v49_0 k0_t4 k0_t18 v854 (BitVec.ofNat 32 (64 * r.val))) a + (![8, 1] : Fin 2 → Nat) a * (S8x128.size a - 1) < S6912x128.size a := fun v49_0 k0_t4 k0_t18 v854 k0_hw46 r => k0_hw46 r

def k0_off544 (v849 : BitVec 32) (c64_i32_624 : BitVec 32) : Fin 2 → Nat :=
  let c65535_i32_615 : BitVec 32 := 65535#32
  let v850 : BitVec 32 := Scalar.andi v849 c65535_i32_615
  let v870 : BitVec 32 := Scalar.addi v850 c64_i32_624
  let v872 : Index := Scalar.indexCast v870
  let c0_625 : Index := 0#32
  ![v872.toNat, 0]

def k0_chk45 (v849 : BitVec 32) : Prop :=
  (∀ a, S8x128.size a = 0 ∨ (k0_off542 v849) a + (![8, 1] : Fin 2 → Nat) a * (S8x128.size a - 1) < S49152x128.size a) ∧
  (∀ (r : Fin 2), ∀ a, S8x128.size a = 0 ∨ (k0_off544 v849 (BitVec.ofNat 32 (64 + 64 * r.val))) a + (![8, 1] : Fin 2 → Nat) a * (S8x128.size a - 1) < S49152x128.size a)
theorem k0_off542_inb : ∀ (v849 : BitVec 32) (k0_hw45 : k0_chk45 v849), ∀ a, S8x128.size a = 0 ∨ (k0_off542 v849) a + (![8, 1] : Fin 2 → Nat) a * (S8x128.size a - 1) < S49152x128.size a := fun v849 k0_hw45 => k0_hw45.1
theorem k0_off544_inb : ∀ (v849 : BitVec 32) (k0_hw45 : k0_chk45 v849), ∀ (r : Fin 2), ∀ a, S8x128.size a = 0 ∨ (k0_off544 v849 (BitVec.ofNat 32 (64 + 64 * r.val))) a + (![8, 1] : Fin 2 → Nat) a * (S8x128.size a - 1) < S49152x128.size a := fun v849 k0_hw45 r => k0_hw45.2 r

def k0_off545 (v49_0 : BitVec 32) (v370 : BitVec 32) (k0_t18 : Fin (k0_t18_loop v49_0).trips) (v593 : BitVec 32) (v602 : BitVec 32) (k0_t19 : Fin (k0_t19_loop v49_0 v370 k0_t18 v593 v602).trips) : Fin 1 → Nat :=
  let c0_i32_485 : BitVec 32 := 0#32
  let c64_i32 : BitVec 32 := 64#32
  let v50 : BitVec 32 := Scalar.addi v49_0 c64_i32
  let c1_i32_52 : BitVec 32 := 1#32
  let v51 : BitVec 32 := Scalar.subi v50 c1_i32_52
  let c0_i32_54 : BitVec 32 := 0#32
  let v53 : BitVec 1 := Scalar.cmpi .sgt v51 c0_i32_54
  let v54 : BitVec 32 := Scalar.extui v53
  let c0_i32_55 : BitVec 32 := 0#32
  let v55 : BitVec 1 := Scalar.cmpi .slt v51 c0_i32_55
  let v56 : BitVec 32 := Scalar.extui v55
  let v57 : BitVec 32 := Scalar.subi v54 v56
  let c64_i32_53 : BitVec 32 := 64#32
  let c0_i32_56 : BitVec 32 := 0#32
  let v58 : BitVec 1 := Scalar.cmpi .sgt c64_i32_53 c0_i32_56
  let v59 : BitVec 32 := Scalar.extui v58
  let c0_i32_57 : BitVec 32 := 0#32
  let v60 : BitVec 1 := Scalar.cmpi .slt c64_i32_53 c0_i32_57
  let v61 : BitVec 32 := Scalar.extui v60
  let v62 : BitVec 32 := Scalar.subi v59 v61
  let v63 : BitVec 1 := Scalar.cmpi .ne v57 v62
  let v64 : BitVec 32 := Scalar.remsi v51 c64_i32_53
  let c0_i32_58 : BitVec 32 := 0#32
  let v65 : BitVec 1 := Scalar.cmpi .ne v64 c0_i32_58
  let v66 : BitVec 1 := Scalar.andi v63 v65
  let v52 : BitVec 32 := Scalar.divsi v51 c64_i32_53
  let c1_i32_59 : BitVec 32 := 1#32
  let v67 : BitVec 32 := Scalar.subi v52 c1_i32_59
  let v68 : BitVec 32 := Scalar.select v66 v67 v52
  let v573 : BitVec 32 := Scalar.subi v68 c0_i32_485
  let c1_i32_487 : BitVec 32 := 1#32
  let v575 : BitVec 32 := Scalar.divsi v573 c1_i32_487
  let v576 : BitVec 32 := Scalar.muli v575 c1_i32_487
  let v577 : BitVec 32 := Scalar.addi c0_i32_485 v576
  let c1_i32_489 : BitVec 32 := 1#32
  let arg19 : BitVec 32 := Scf.iv v577 c1_i32_489 k0_t18
  let c0_i32_497 : BitVec 32 := 0#32
  let v594 : BitVec 1 := Scalar.cmpi .eq arg19 c0_i32_497
  let c1_i32_498 : BitVec 32 := 1#32
  let v595 : BitVec 32 := Scalar.subi v370 c1_i32_498
  let c0_i32_499 : BitVec 32 := 0#32
  let v596 : BitVec 32 := Scalar.select v594 v595 c0_i32_499
  let v597 : BitVec 32 := Scalar.maxsi v593 v596
  let c0_i32_514 : BitVec 32 := 0#32
  let c1_i32_516 : BitVec 32 := 1#32
  let arg21 : BitVec 32 := Scf.iv c0_i32_514 c1_i32_516 k0_t19
  let c8_i32_527 : BitVec 32 := 8#32
  let v641 : BitVec 32 := Scalar.muli arg21 c8_i32_527
  let v642 : BitVec 32 := Scalar.addi v597 v641
  let c5_i32_636 : BitVec 32 := 5#32
  let v898 : BitVec 32 := Scalar.addi v642 c5_i32_636
  let v899 : Index := Scalar.indexCast v898
  ![v899.toNat]
def k0_off546 (v900 : BitVec 32) : Fin 2 → Nat :=
  let c65535_i32_637 : BitVec 32 := 65535#32
  let v901 : BitVec 32 := Scalar.andi v900 c65535_i32_637
  let c0_i32_640 : BitVec 32 := 0#32
  let v907 : BitVec 32 := Scalar.addi v901 c0_i32_640
  let v909 : Index := Scalar.indexCast v907
  let c0_641 : Index := 0#32
  ![v909.toNat, 0]

def k0_off547 (v49_0 : BitVec 32) (k0_t4 : Fin k0_t4_loop.trips) (k0_t18 : Fin (k0_t18_loop v49_0).trips) (v905 : BitVec 32) (c0_i32_644 : BitVec 32) : Fin 2 → Nat :=
  let c0_i32_379 : BitVec 32 := 0#32
  let c1_i32_381 : BitVec 32 := 1#32
  let arg18 : BitVec 32 := Scf.iv c0_i32_379 c1_i32_381 k0_t4
  let c64_i32 : BitVec 32 := 64#32
  let v50 : BitVec 32 := Scalar.addi v49_0 c64_i32
  let c1_i32_52 : BitVec 32 := 1#32
  let v51 : BitVec 32 := Scalar.subi v50 c1_i32_52
  let c0_i32_54 : BitVec 32 := 0#32
  let v53 : BitVec 1 := Scalar.cmpi .sgt v51 c0_i32_54
  let v54 : BitVec 32 := Scalar.extui v53
  let c0_i32_55 : BitVec 32 := 0#32
  let v55 : BitVec 1 := Scalar.cmpi .slt v51 c0_i32_55
  let v56 : BitVec 32 := Scalar.extui v55
  let v57 : BitVec 32 := Scalar.subi v54 v56
  let c64_i32_53 : BitVec 32 := 64#32
  let c0_i32_56 : BitVec 32 := 0#32
  let v58 : BitVec 1 := Scalar.cmpi .sgt c64_i32_53 c0_i32_56
  let v59 : BitVec 32 := Scalar.extui v58
  let c0_i32_57 : BitVec 32 := 0#32
  let v60 : BitVec 1 := Scalar.cmpi .slt c64_i32_53 c0_i32_57
  let v61 : BitVec 32 := Scalar.extui v60
  let v62 : BitVec 32 := Scalar.subi v59 v61
  let v63 : BitVec 1 := Scalar.cmpi .ne v57 v62
  let v64 : BitVec 32 := Scalar.remsi v51 c64_i32_53
  let c0_i32_58 : BitVec 32 := 0#32
  let v65 : BitVec 1 := Scalar.cmpi .ne v64 c0_i32_58
  let v66 : BitVec 1 := Scalar.andi v63 v65
  let v52 : BitVec 32 := Scalar.divsi v51 c64_i32_53
  let c1_i32_59 : BitVec 32 := 1#32
  let v67 : BitVec 32 := Scalar.subi v52 c1_i32_59
  let v68 : BitVec 32 := Scalar.select v66 v67 v52
  let v580 : BitVec 32 := Scalar.muli arg18 v68
  let c0_i32_485 : BitVec 32 := 0#32
  let v573 : BitVec 32 := Scalar.subi v68 c0_i32_485
  let c1_i32_487 : BitVec 32 := 1#32
  let v575 : BitVec 32 := Scalar.divsi v573 c1_i32_487
  let v576 : BitVec 32 := Scalar.muli v575 c1_i32_487
  let v577 : BitVec 32 := Scalar.addi c0_i32_485 v576
  let c1_i32_489 : BitVec 32 := 1#32
  let arg19 : BitVec 32 := Scf.iv v577 c1_i32_489 k0_t18
  let v581 : BitVec 32 := Scalar.addi v580 arg19
  let c4_i32_490 : BitVec 32 := 4#32
  let v582 : BitVec 32 := Scalar.remsi v581 c4_i32_490
  let c1728_i32 : BitVec 32 := 1728#32
  let v603 : BitVec 32 := Scalar.muli v582 c1728_i32
  let c1536_i32_503 : BitVec 32 := 1536#32
  let v604 : BitVec 32 := Scalar.muli arg19 c1536_i32_503
  let v605 : BitVec 32 := Scalar.subi v603 v604
  let v906 : BitVec 32 := Scalar.addi v905 v605
  let v915 : BitVec 32 := Scalar.addi v906 c0_i32_644
  let v917 : Index := Scalar.indexCast v915
  let c0_645 : Index := 0#32
  ![v917.toNat, 0]

def k0_chk48 (v49_0 : BitVec 32) (k0_t4 : Fin k0_t4_loop.trips) (k0_t18 : Fin (k0_t18_loop v49_0).trips) (v905 : BitVec 32) : Prop :=
  (∀ (r : Fin 3), ∀ a, S8x128.size a = 0 ∨ (k0_off547 v49_0 k0_t4 k0_t18 v905 (BitVec.ofNat 32 (64 * r.val))) a + (![8, 1] : Fin 2 → Nat) a * (S8x128.size a - 1) < S6912x128.size a)
theorem k0_off547_inb : ∀ (v49_0 : BitVec 32) (k0_t4 : Fin k0_t4_loop.trips) (k0_t18 : Fin (k0_t18_loop v49_0).trips) (v905 : BitVec 32) (k0_hw48 : k0_chk48 v49_0 k0_t4 k0_t18 v905), ∀ (r : Fin 3), ∀ a, S8x128.size a = 0 ∨ (k0_off547 v49_0 k0_t4 k0_t18 v905 (BitVec.ofNat 32 (64 * r.val))) a + (![8, 1] : Fin 2 → Nat) a * (S8x128.size a - 1) < S6912x128.size a := fun v49_0 k0_t4 k0_t18 v905 k0_hw48 r => k0_hw48 r

def k0_off548 (v900 : BitVec 32) (c64_i32_646 : BitVec 32) : Fin 2 → Nat :=
  let c65535_i32_637 : BitVec 32 := 65535#32
  let v901 : BitVec 32 := Scalar.andi v900 c65535_i32_637
  let v921 : BitVec 32 := Scalar.addi v901 c64_i32_646
  let v923 : Index := Scalar.indexCast v921
  let c0_647 : Index := 0#32
  ![v923.toNat, 0]

def k0_chk47 (v900 : BitVec 32) : Prop :=
  (∀ a, S8x128.size a = 0 ∨ (k0_off546 v900) a + (![8, 1] : Fin 2 → Nat) a * (S8x128.size a - 1) < S49152x128.size a) ∧
  (∀ (r : Fin 2), ∀ a, S8x128.size a = 0 ∨ (k0_off548 v900 (BitVec.ofNat 32 (64 + 64 * r.val))) a + (![8, 1] : Fin 2 → Nat) a * (S8x128.size a - 1) < S49152x128.size a)
theorem k0_off546_inb : ∀ (v900 : BitVec 32) (k0_hw47 : k0_chk47 v900), ∀ a, S8x128.size a = 0 ∨ (k0_off546 v900) a + (![8, 1] : Fin 2 → Nat) a * (S8x128.size a - 1) < S49152x128.size a := fun v900 k0_hw47 => k0_hw47.1
theorem k0_off548_inb : ∀ (v900 : BitVec 32) (k0_hw47 : k0_chk47 v900), ∀ (r : Fin 2), ∀ a, S8x128.size a = 0 ∨ (k0_off548 v900 (BitVec.ofNat 32 (64 + 64 * r.val))) a + (![8, 1] : Fin 2 → Nat) a * (S8x128.size a - 1) < S49152x128.size a := fun v900 k0_hw47 r => k0_hw47.2 r

def k0_off549 (v49_0 : BitVec 32) (v370 : BitVec 32) (k0_t18 : Fin (k0_t18_loop v49_0).trips) (v593 : BitVec 32) (v602 : BitVec 32) (k0_t19 : Fin (k0_t19_loop v49_0 v370 k0_t18 v593 v602).trips) : Fin 1 → Nat :=
  let c0_i32_485 : BitVec 32 := 0#32
  let c64_i32 : BitVec 32 := 64#32
  let v50 : BitVec 32 := Scalar.addi v49_0 c64_i32
  let c1_i32_52 : BitVec 32 := 1#32
  let v51 : BitVec 32 := Scalar.subi v50 c1_i32_52
  let c0_i32_54 : BitVec 32 := 0#32
  let v53 : BitVec 1 := Scalar.cmpi .sgt v51 c0_i32_54
  let v54 : BitVec 32 := Scalar.extui v53
  let c0_i32_55 : BitVec 32 := 0#32
  let v55 : BitVec 1 := Scalar.cmpi .slt v51 c0_i32_55
  let v56 : BitVec 32 := Scalar.extui v55
  let v57 : BitVec 32 := Scalar.subi v54 v56
  let c64_i32_53 : BitVec 32 := 64#32
  let c0_i32_56 : BitVec 32 := 0#32
  let v58 : BitVec 1 := Scalar.cmpi .sgt c64_i32_53 c0_i32_56
  let v59 : BitVec 32 := Scalar.extui v58
  let c0_i32_57 : BitVec 32 := 0#32
  let v60 : BitVec 1 := Scalar.cmpi .slt c64_i32_53 c0_i32_57
  let v61 : BitVec 32 := Scalar.extui v60
  let v62 : BitVec 32 := Scalar.subi v59 v61
  let v63 : BitVec 1 := Scalar.cmpi .ne v57 v62
  let v64 : BitVec 32 := Scalar.remsi v51 c64_i32_53
  let c0_i32_58 : BitVec 32 := 0#32
  let v65 : BitVec 1 := Scalar.cmpi .ne v64 c0_i32_58
  let v66 : BitVec 1 := Scalar.andi v63 v65
  let v52 : BitVec 32 := Scalar.divsi v51 c64_i32_53
  let c1_i32_59 : BitVec 32 := 1#32
  let v67 : BitVec 32 := Scalar.subi v52 c1_i32_59
  let v68 : BitVec 32 := Scalar.select v66 v67 v52
  let v573 : BitVec 32 := Scalar.subi v68 c0_i32_485
  let c1_i32_487 : BitVec 32 := 1#32
  let v575 : BitVec 32 := Scalar.divsi v573 c1_i32_487
  let v576 : BitVec 32 := Scalar.muli v575 c1_i32_487
  let v577 : BitVec 32 := Scalar.addi c0_i32_485 v576
  let c1_i32_489 : BitVec 32 := 1#32
  let arg19 : BitVec 32 := Scf.iv v577 c1_i32_489 k0_t18
  let c0_i32_497 : BitVec 32 := 0#32
  let v594 : BitVec 1 := Scalar.cmpi .eq arg19 c0_i32_497
  let c1_i32_498 : BitVec 32 := 1#32
  let v595 : BitVec 32 := Scalar.subi v370 c1_i32_498
  let c0_i32_499 : BitVec 32 := 0#32
  let v596 : BitVec 32 := Scalar.select v594 v595 c0_i32_499
  let v597 : BitVec 32 := Scalar.maxsi v593 v596
  let c0_i32_514 : BitVec 32 := 0#32
  let c1_i32_516 : BitVec 32 := 1#32
  let arg21 : BitVec 32 := Scf.iv c0_i32_514 c1_i32_516 k0_t19
  let c8_i32_527 : BitVec 32 := 8#32
  let v641 : BitVec 32 := Scalar.muli arg21 c8_i32_527
  let v642 : BitVec 32 := Scalar.addi v597 v641
  let c6_i32_658 : BitVec 32 := 6#32
  let v949 : BitVec 32 := Scalar.addi v642 c6_i32_658
  let v950 : Index := Scalar.indexCast v949
  ![v950.toNat]
def k0_off550 (v951 : BitVec 32) : Fin 2 → Nat :=
  let c65535_i32_659 : BitVec 32 := 65535#32
  let v952 : BitVec 32 := Scalar.andi v951 c65535_i32_659
  let c0_i32_662 : BitVec 32 := 0#32
  let v958 : BitVec 32 := Scalar.addi v952 c0_i32_662
  let v960 : Index := Scalar.indexCast v958
  let c0_663 : Index := 0#32
  ![v960.toNat, 0]

def k0_off551 (v49_0 : BitVec 32) (k0_t4 : Fin k0_t4_loop.trips) (k0_t18 : Fin (k0_t18_loop v49_0).trips) (v956 : BitVec 32) (c0_i32_666 : BitVec 32) : Fin 2 → Nat :=
  let c0_i32_379 : BitVec 32 := 0#32
  let c1_i32_381 : BitVec 32 := 1#32
  let arg18 : BitVec 32 := Scf.iv c0_i32_379 c1_i32_381 k0_t4
  let c64_i32 : BitVec 32 := 64#32
  let v50 : BitVec 32 := Scalar.addi v49_0 c64_i32
  let c1_i32_52 : BitVec 32 := 1#32
  let v51 : BitVec 32 := Scalar.subi v50 c1_i32_52
  let c0_i32_54 : BitVec 32 := 0#32
  let v53 : BitVec 1 := Scalar.cmpi .sgt v51 c0_i32_54
  let v54 : BitVec 32 := Scalar.extui v53
  let c0_i32_55 : BitVec 32 := 0#32
  let v55 : BitVec 1 := Scalar.cmpi .slt v51 c0_i32_55
  let v56 : BitVec 32 := Scalar.extui v55
  let v57 : BitVec 32 := Scalar.subi v54 v56
  let c64_i32_53 : BitVec 32 := 64#32
  let c0_i32_56 : BitVec 32 := 0#32
  let v58 : BitVec 1 := Scalar.cmpi .sgt c64_i32_53 c0_i32_56
  let v59 : BitVec 32 := Scalar.extui v58
  let c0_i32_57 : BitVec 32 := 0#32
  let v60 : BitVec 1 := Scalar.cmpi .slt c64_i32_53 c0_i32_57
  let v61 : BitVec 32 := Scalar.extui v60
  let v62 : BitVec 32 := Scalar.subi v59 v61
  let v63 : BitVec 1 := Scalar.cmpi .ne v57 v62
  let v64 : BitVec 32 := Scalar.remsi v51 c64_i32_53
  let c0_i32_58 : BitVec 32 := 0#32
  let v65 : BitVec 1 := Scalar.cmpi .ne v64 c0_i32_58
  let v66 : BitVec 1 := Scalar.andi v63 v65
  let v52 : BitVec 32 := Scalar.divsi v51 c64_i32_53
  let c1_i32_59 : BitVec 32 := 1#32
  let v67 : BitVec 32 := Scalar.subi v52 c1_i32_59
  let v68 : BitVec 32 := Scalar.select v66 v67 v52
  let v580 : BitVec 32 := Scalar.muli arg18 v68
  let c0_i32_485 : BitVec 32 := 0#32
  let v573 : BitVec 32 := Scalar.subi v68 c0_i32_485
  let c1_i32_487 : BitVec 32 := 1#32
  let v575 : BitVec 32 := Scalar.divsi v573 c1_i32_487
  let v576 : BitVec 32 := Scalar.muli v575 c1_i32_487
  let v577 : BitVec 32 := Scalar.addi c0_i32_485 v576
  let c1_i32_489 : BitVec 32 := 1#32
  let arg19 : BitVec 32 := Scf.iv v577 c1_i32_489 k0_t18
  let v581 : BitVec 32 := Scalar.addi v580 arg19
  let c4_i32_490 : BitVec 32 := 4#32
  let v582 : BitVec 32 := Scalar.remsi v581 c4_i32_490
  let c1728_i32 : BitVec 32 := 1728#32
  let v603 : BitVec 32 := Scalar.muli v582 c1728_i32
  let c1536_i32_503 : BitVec 32 := 1536#32
  let v604 : BitVec 32 := Scalar.muli arg19 c1536_i32_503
  let v605 : BitVec 32 := Scalar.subi v603 v604
  let v957 : BitVec 32 := Scalar.addi v956 v605
  let v966 : BitVec 32 := Scalar.addi v957 c0_i32_666
  let v968 : Index := Scalar.indexCast v966
  let c0_667 : Index := 0#32
  ![v968.toNat, 0]

def k0_chk50 (v49_0 : BitVec 32) (k0_t4 : Fin k0_t4_loop.trips) (k0_t18 : Fin (k0_t18_loop v49_0).trips) (v956 : BitVec 32) : Prop :=
  (∀ (r : Fin 3), ∀ a, S8x128.size a = 0 ∨ (k0_off551 v49_0 k0_t4 k0_t18 v956 (BitVec.ofNat 32 (64 * r.val))) a + (![8, 1] : Fin 2 → Nat) a * (S8x128.size a - 1) < S6912x128.size a)
theorem k0_off551_inb : ∀ (v49_0 : BitVec 32) (k0_t4 : Fin k0_t4_loop.trips) (k0_t18 : Fin (k0_t18_loop v49_0).trips) (v956 : BitVec 32) (k0_hw50 : k0_chk50 v49_0 k0_t4 k0_t18 v956), ∀ (r : Fin 3), ∀ a, S8x128.size a = 0 ∨ (k0_off551 v49_0 k0_t4 k0_t18 v956 (BitVec.ofNat 32 (64 * r.val))) a + (![8, 1] : Fin 2 → Nat) a * (S8x128.size a - 1) < S6912x128.size a := fun v49_0 k0_t4 k0_t18 v956 k0_hw50 r => k0_hw50 r

def k0_off552 (v951 : BitVec 32) (c64_i32_668 : BitVec 32) : Fin 2 → Nat :=
  let c65535_i32_659 : BitVec 32 := 65535#32
  let v952 : BitVec 32 := Scalar.andi v951 c65535_i32_659
  let v972 : BitVec 32 := Scalar.addi v952 c64_i32_668
  let v974 : Index := Scalar.indexCast v972
  let c0_669 : Index := 0#32
  ![v974.toNat, 0]

def k0_chk49 (v951 : BitVec 32) : Prop :=
  (∀ a, S8x128.size a = 0 ∨ (k0_off550 v951) a + (![8, 1] : Fin 2 → Nat) a * (S8x128.size a - 1) < S49152x128.size a) ∧
  (∀ (r : Fin 2), ∀ a, S8x128.size a = 0 ∨ (k0_off552 v951 (BitVec.ofNat 32 (64 + 64 * r.val))) a + (![8, 1] : Fin 2 → Nat) a * (S8x128.size a - 1) < S49152x128.size a)
theorem k0_off550_inb : ∀ (v951 : BitVec 32) (k0_hw49 : k0_chk49 v951), ∀ a, S8x128.size a = 0 ∨ (k0_off550 v951) a + (![8, 1] : Fin 2 → Nat) a * (S8x128.size a - 1) < S49152x128.size a := fun v951 k0_hw49 => k0_hw49.1
theorem k0_off552_inb : ∀ (v951 : BitVec 32) (k0_hw49 : k0_chk49 v951), ∀ (r : Fin 2), ∀ a, S8x128.size a = 0 ∨ (k0_off552 v951 (BitVec.ofNat 32 (64 + 64 * r.val))) a + (![8, 1] : Fin 2 → Nat) a * (S8x128.size a - 1) < S49152x128.size a := fun v951 k0_hw49 r => k0_hw49.2 r

def k0_off553 (v49_0 : BitVec 32) (v370 : BitVec 32) (k0_t18 : Fin (k0_t18_loop v49_0).trips) (v593 : BitVec 32) (v602 : BitVec 32) (k0_t19 : Fin (k0_t19_loop v49_0 v370 k0_t18 v593 v602).trips) : Fin 1 → Nat :=
  let c0_i32_485 : BitVec 32 := 0#32
  let c64_i32 : BitVec 32 := 64#32
  let v50 : BitVec 32 := Scalar.addi v49_0 c64_i32
  let c1_i32_52 : BitVec 32 := 1#32
  let v51 : BitVec 32 := Scalar.subi v50 c1_i32_52
  let c0_i32_54 : BitVec 32 := 0#32
  let v53 : BitVec 1 := Scalar.cmpi .sgt v51 c0_i32_54
  let v54 : BitVec 32 := Scalar.extui v53
  let c0_i32_55 : BitVec 32 := 0#32
  let v55 : BitVec 1 := Scalar.cmpi .slt v51 c0_i32_55
  let v56 : BitVec 32 := Scalar.extui v55
  let v57 : BitVec 32 := Scalar.subi v54 v56
  let c64_i32_53 : BitVec 32 := 64#32
  let c0_i32_56 : BitVec 32 := 0#32
  let v58 : BitVec 1 := Scalar.cmpi .sgt c64_i32_53 c0_i32_56
  let v59 : BitVec 32 := Scalar.extui v58
  let c0_i32_57 : BitVec 32 := 0#32
  let v60 : BitVec 1 := Scalar.cmpi .slt c64_i32_53 c0_i32_57
  let v61 : BitVec 32 := Scalar.extui v60
  let v62 : BitVec 32 := Scalar.subi v59 v61
  let v63 : BitVec 1 := Scalar.cmpi .ne v57 v62
  let v64 : BitVec 32 := Scalar.remsi v51 c64_i32_53
  let c0_i32_58 : BitVec 32 := 0#32
  let v65 : BitVec 1 := Scalar.cmpi .ne v64 c0_i32_58
  let v66 : BitVec 1 := Scalar.andi v63 v65
  let v52 : BitVec 32 := Scalar.divsi v51 c64_i32_53
  let c1_i32_59 : BitVec 32 := 1#32
  let v67 : BitVec 32 := Scalar.subi v52 c1_i32_59
  let v68 : BitVec 32 := Scalar.select v66 v67 v52
  let v573 : BitVec 32 := Scalar.subi v68 c0_i32_485
  let c1_i32_487 : BitVec 32 := 1#32
  let v575 : BitVec 32 := Scalar.divsi v573 c1_i32_487
  let v576 : BitVec 32 := Scalar.muli v575 c1_i32_487
  let v577 : BitVec 32 := Scalar.addi c0_i32_485 v576
  let c1_i32_489 : BitVec 32 := 1#32
  let arg19 : BitVec 32 := Scf.iv v577 c1_i32_489 k0_t18
  let c0_i32_497 : BitVec 32 := 0#32
  let v594 : BitVec 1 := Scalar.cmpi .eq arg19 c0_i32_497
  let c1_i32_498 : BitVec 32 := 1#32
  let v595 : BitVec 32 := Scalar.subi v370 c1_i32_498
  let c0_i32_499 : BitVec 32 := 0#32
  let v596 : BitVec 32 := Scalar.select v594 v595 c0_i32_499
  let v597 : BitVec 32 := Scalar.maxsi v593 v596
  let c0_i32_514 : BitVec 32 := 0#32
  let c1_i32_516 : BitVec 32 := 1#32
  let arg21 : BitVec 32 := Scf.iv c0_i32_514 c1_i32_516 k0_t19
  let c8_i32_527 : BitVec 32 := 8#32
  let v641 : BitVec 32 := Scalar.muli arg21 c8_i32_527
  let v642 : BitVec 32 := Scalar.addi v597 v641
  let c7_i32_680 : BitVec 32 := 7#32
  let v1000 : BitVec 32 := Scalar.addi v642 c7_i32_680
  let v1001 : Index := Scalar.indexCast v1000
  ![v1001.toNat]
def k0_off554 (v1002 : BitVec 32) : Fin 2 → Nat :=
  let c65535_i32_681 : BitVec 32 := 65535#32
  let v1003 : BitVec 32 := Scalar.andi v1002 c65535_i32_681
  let c0_i32_684 : BitVec 32 := 0#32
  let v1009 : BitVec 32 := Scalar.addi v1003 c0_i32_684
  let v1011 : Index := Scalar.indexCast v1009
  let c0_685 : Index := 0#32
  ![v1011.toNat, 0]

def k0_off555 (v49_0 : BitVec 32) (k0_t4 : Fin k0_t4_loop.trips) (k0_t18 : Fin (k0_t18_loop v49_0).trips) (v1007 : BitVec 32) (c0_i32_688 : BitVec 32) : Fin 2 → Nat :=
  let c0_i32_379 : BitVec 32 := 0#32
  let c1_i32_381 : BitVec 32 := 1#32
  let arg18 : BitVec 32 := Scf.iv c0_i32_379 c1_i32_381 k0_t4
  let c64_i32 : BitVec 32 := 64#32
  let v50 : BitVec 32 := Scalar.addi v49_0 c64_i32
  let c1_i32_52 : BitVec 32 := 1#32
  let v51 : BitVec 32 := Scalar.subi v50 c1_i32_52
  let c0_i32_54 : BitVec 32 := 0#32
  let v53 : BitVec 1 := Scalar.cmpi .sgt v51 c0_i32_54
  let v54 : BitVec 32 := Scalar.extui v53
  let c0_i32_55 : BitVec 32 := 0#32
  let v55 : BitVec 1 := Scalar.cmpi .slt v51 c0_i32_55
  let v56 : BitVec 32 := Scalar.extui v55
  let v57 : BitVec 32 := Scalar.subi v54 v56
  let c64_i32_53 : BitVec 32 := 64#32
  let c0_i32_56 : BitVec 32 := 0#32
  let v58 : BitVec 1 := Scalar.cmpi .sgt c64_i32_53 c0_i32_56
  let v59 : BitVec 32 := Scalar.extui v58
  let c0_i32_57 : BitVec 32 := 0#32
  let v60 : BitVec 1 := Scalar.cmpi .slt c64_i32_53 c0_i32_57
  let v61 : BitVec 32 := Scalar.extui v60
  let v62 : BitVec 32 := Scalar.subi v59 v61
  let v63 : BitVec 1 := Scalar.cmpi .ne v57 v62
  let v64 : BitVec 32 := Scalar.remsi v51 c64_i32_53
  let c0_i32_58 : BitVec 32 := 0#32
  let v65 : BitVec 1 := Scalar.cmpi .ne v64 c0_i32_58
  let v66 : BitVec 1 := Scalar.andi v63 v65
  let v52 : BitVec 32 := Scalar.divsi v51 c64_i32_53
  let c1_i32_59 : BitVec 32 := 1#32
  let v67 : BitVec 32 := Scalar.subi v52 c1_i32_59
  let v68 : BitVec 32 := Scalar.select v66 v67 v52
  let v580 : BitVec 32 := Scalar.muli arg18 v68
  let c0_i32_485 : BitVec 32 := 0#32
  let v573 : BitVec 32 := Scalar.subi v68 c0_i32_485
  let c1_i32_487 : BitVec 32 := 1#32
  let v575 : BitVec 32 := Scalar.divsi v573 c1_i32_487
  let v576 : BitVec 32 := Scalar.muli v575 c1_i32_487
  let v577 : BitVec 32 := Scalar.addi c0_i32_485 v576
  let c1_i32_489 : BitVec 32 := 1#32
  let arg19 : BitVec 32 := Scf.iv v577 c1_i32_489 k0_t18
  let v581 : BitVec 32 := Scalar.addi v580 arg19
  let c4_i32_490 : BitVec 32 := 4#32
  let v582 : BitVec 32 := Scalar.remsi v581 c4_i32_490
  let c1728_i32 : BitVec 32 := 1728#32
  let v603 : BitVec 32 := Scalar.muli v582 c1728_i32
  let c1536_i32_503 : BitVec 32 := 1536#32
  let v604 : BitVec 32 := Scalar.muli arg19 c1536_i32_503
  let v605 : BitVec 32 := Scalar.subi v603 v604
  let v1008 : BitVec 32 := Scalar.addi v1007 v605
  let v1017 : BitVec 32 := Scalar.addi v1008 c0_i32_688
  let v1019 : Index := Scalar.indexCast v1017
  let c0_689 : Index := 0#32
  ![v1019.toNat, 0]

def k0_chk52 (v49_0 : BitVec 32) (k0_t4 : Fin k0_t4_loop.trips) (k0_t18 : Fin (k0_t18_loop v49_0).trips) (v1007 : BitVec 32) : Prop :=
  (∀ (r : Fin 3), ∀ a, S8x128.size a = 0 ∨ (k0_off555 v49_0 k0_t4 k0_t18 v1007 (BitVec.ofNat 32 (64 * r.val))) a + (![8, 1] : Fin 2 → Nat) a * (S8x128.size a - 1) < S6912x128.size a)
theorem k0_off555_inb : ∀ (v49_0 : BitVec 32) (k0_t4 : Fin k0_t4_loop.trips) (k0_t18 : Fin (k0_t18_loop v49_0).trips) (v1007 : BitVec 32) (k0_hw52 : k0_chk52 v49_0 k0_t4 k0_t18 v1007), ∀ (r : Fin 3), ∀ a, S8x128.size a = 0 ∨ (k0_off555 v49_0 k0_t4 k0_t18 v1007 (BitVec.ofNat 32 (64 * r.val))) a + (![8, 1] : Fin 2 → Nat) a * (S8x128.size a - 1) < S6912x128.size a := fun v49_0 k0_t4 k0_t18 v1007 k0_hw52 r => k0_hw52 r

def k0_off556 (v1002 : BitVec 32) (c64_i32_690 : BitVec 32) : Fin 2 → Nat :=
  let c65535_i32_681 : BitVec 32 := 65535#32
  let v1003 : BitVec 32 := Scalar.andi v1002 c65535_i32_681
  let v1023 : BitVec 32 := Scalar.addi v1003 c64_i32_690
  let v1025 : Index := Scalar.indexCast v1023
  let c0_691 : Index := 0#32
  ![v1025.toNat, 0]

def k0_chk51 (v1002 : BitVec 32) : Prop :=
  (∀ a, S8x128.size a = 0 ∨ (k0_off554 v1002) a + (![8, 1] : Fin 2 → Nat) a * (S8x128.size a - 1) < S49152x128.size a) ∧
  (∀ (r : Fin 2), ∀ a, S8x128.size a = 0 ∨ (k0_off556 v1002 (BitVec.ofNat 32 (64 + 64 * r.val))) a + (![8, 1] : Fin 2 → Nat) a * (S8x128.size a - 1) < S49152x128.size a)
theorem k0_off554_inb : ∀ (v1002 : BitVec 32) (k0_hw51 : k0_chk51 v1002), ∀ a, S8x128.size a = 0 ∨ (k0_off554 v1002) a + (![8, 1] : Fin 2 → Nat) a * (S8x128.size a - 1) < S49152x128.size a := fun v1002 k0_hw51 => k0_hw51.1
theorem k0_off556_inb : ∀ (v1002 : BitVec 32) (k0_hw51 : k0_chk51 v1002), ∀ (r : Fin 2), ∀ a, S8x128.size a = 0 ∨ (k0_off556 v1002 (BitVec.ofNat 32 (64 + 64 * r.val))) a + (![8, 1] : Fin 2 → Nat) a * (S8x128.size a - 1) < S49152x128.size a := fun v1002 k0_hw51 r => k0_hw51.2 r

@[reducible] def k0_t20_loop (v49_0 : BitVec 32) (v370 : BitVec 32) (k0_t18 : Fin (k0_t18_loop v49_0).trips) (v593 : BitVec 32) (v602 : BitVec 32) : Scf.Loop 32 :=
  let c0_i32_514 : BitVec 32 := 0#32
  let c0_i32_485 : BitVec 32 := 0#32
  let c64_i32 : BitVec 32 := 64#32
  let v50 : BitVec 32 := Scalar.addi v49_0 c64_i32
  let c1_i32_52 : BitVec 32 := 1#32
  let v51 : BitVec 32 := Scalar.subi v50 c1_i32_52
  let c0_i32_54 : BitVec 32 := 0#32
  let v53 : BitVec 1 := Scalar.cmpi .sgt v51 c0_i32_54
  let v54 : BitVec 32 := Scalar.extui v53
  let c0_i32_55 : BitVec 32 := 0#32
  let v55 : BitVec 1 := Scalar.cmpi .slt v51 c0_i32_55
  let v56 : BitVec 32 := Scalar.extui v55
  let v57 : BitVec 32 := Scalar.subi v54 v56
  let c64_i32_53 : BitVec 32 := 64#32
  let c0_i32_56 : BitVec 32 := 0#32
  let v58 : BitVec 1 := Scalar.cmpi .sgt c64_i32_53 c0_i32_56
  let v59 : BitVec 32 := Scalar.extui v58
  let c0_i32_57 : BitVec 32 := 0#32
  let v60 : BitVec 1 := Scalar.cmpi .slt c64_i32_53 c0_i32_57
  let v61 : BitVec 32 := Scalar.extui v60
  let v62 : BitVec 32 := Scalar.subi v59 v61
  let v63 : BitVec 1 := Scalar.cmpi .ne v57 v62
  let v64 : BitVec 32 := Scalar.remsi v51 c64_i32_53
  let c0_i32_58 : BitVec 32 := 0#32
  let v65 : BitVec 1 := Scalar.cmpi .ne v64 c0_i32_58
  let v66 : BitVec 1 := Scalar.andi v63 v65
  let v52 : BitVec 32 := Scalar.divsi v51 c64_i32_53
  let c1_i32_59 : BitVec 32 := 1#32
  let v67 : BitVec 32 := Scalar.subi v52 c1_i32_59
  let v68 : BitVec 32 := Scalar.select v66 v67 v52
  let v573 : BitVec 32 := Scalar.subi v68 c0_i32_485
  let c1_i32_487 : BitVec 32 := 1#32
  let v575 : BitVec 32 := Scalar.divsi v573 c1_i32_487
  let v576 : BitVec 32 := Scalar.muli v575 c1_i32_487
  let v577 : BitVec 32 := Scalar.addi c0_i32_485 v576
  let c1_i32_489 : BitVec 32 := 1#32
  let arg19 : BitVec 32 := Scf.iv v577 c1_i32_489 k0_t18
  let c0_i32_497 : BitVec 32 := 0#32
  let v594 : BitVec 1 := Scalar.cmpi .eq arg19 c0_i32_497
  let c1_i32_498 : BitVec 32 := 1#32
  let v595 : BitVec 32 := Scalar.subi v370 c1_i32_498
  let c0_i32_499 : BitVec 32 := 0#32
  let v596 : BitVec 32 := Scalar.select v594 v595 c0_i32_499
  let v597 : BitVec 32 := Scalar.maxsi v593 v596
  let v607 : BitVec 32 := Scalar.subi v602 v597
  let c8_i32_505 : BitVec 32 := 8#32
  let v608 : BitVec 32 := Scalar.addi v607 c8_i32_505
  let c1_i32_506 : BitVec 32 := 1#32
  let v609 : BitVec 32 := Scalar.subi v608 c1_i32_506
  let c0_i32_508 : BitVec 32 := 0#32
  let v611 : BitVec 1 := Scalar.cmpi .sgt v609 c0_i32_508
  let v612 : BitVec 32 := Scalar.extui v611
  let c0_i32_509 : BitVec 32 := 0#32
  let v613 : BitVec 1 := Scalar.cmpi .slt v609 c0_i32_509
  let v614 : BitVec 32 := Scalar.extui v613
  let v615 : BitVec 32 := Scalar.subi v612 v614
  let c8_i32_507 : BitVec 32 := 8#32
  let c0_i32_510 : BitVec 32 := 0#32
  let v616 : BitVec 1 := Scalar.cmpi .sgt c8_i32_507 c0_i32_510
  let v617 : BitVec 32 := Scalar.extui v616
  let c0_i32_511 : BitVec 32 := 0#32
  let v618 : BitVec 1 := Scalar.cmpi .slt c8_i32_507 c0_i32_511
  let v619 : BitVec 32 := Scalar.extui v618
  let v620 : BitVec 32 := Scalar.subi v617 v619
  let v621 : BitVec 1 := Scalar.cmpi .ne v615 v620
  let v622 : BitVec 32 := Scalar.remsi v609 c8_i32_507
  let c0_i32_512 : BitVec 32 := 0#32
  let v623 : BitVec 1 := Scalar.cmpi .ne v622 c0_i32_512
  let v624 : BitVec 1 := Scalar.andi v621 v623
  let v610 : BitVec 32 := Scalar.divsi v609 c8_i32_507
  let c1_i32_513 : BitVec 32 := 1#32
  let v625 : BitVec 32 := Scalar.subi v610 c1_i32_513
  let v626 : BitVec 32 := Scalar.select v624 v625 v610
  let v627 : BitVec 32 := Scalar.subi v626 c0_i32_514
  let c1_i32_515 : BitVec 32 := 1#32
  let v629 : BitVec 32 := Scalar.divsi v627 c1_i32_515
  let v630 : BitVec 32 := Scalar.muli v629 c1_i32_515
  let v631 : BitVec 32 := Scalar.addi c0_i32_514 v630
  let v628 : BitVec 32 := Scalar.addi c0_i32_514 v627
  let c1_i32_517 : BitVec 32 := 1#32
  ⟨v631, v628, c1_i32_517⟩
def k0_off557 (v49_0 : BitVec 32) (v370 : BitVec 32) (k0_t18 : Fin (k0_t18_loop v49_0).trips) (v593 : BitVec 32) (v602 : BitVec 32) (k0_t20 : Fin (k0_t20_loop v49_0 v370 k0_t18 v593 v602).trips) : Fin 1 → Nat :=
  let c0_i32_485 : BitVec 32 := 0#32
  let c64_i32 : BitVec 32 := 64#32
  let v50 : BitVec 32 := Scalar.addi v49_0 c64_i32
  let c1_i32_52 : BitVec 32 := 1#32
  let v51 : BitVec 32 := Scalar.subi v50 c1_i32_52
  let c0_i32_54 : BitVec 32 := 0#32
  let v53 : BitVec 1 := Scalar.cmpi .sgt v51 c0_i32_54
  let v54 : BitVec 32 := Scalar.extui v53
  let c0_i32_55 : BitVec 32 := 0#32
  let v55 : BitVec 1 := Scalar.cmpi .slt v51 c0_i32_55
  let v56 : BitVec 32 := Scalar.extui v55
  let v57 : BitVec 32 := Scalar.subi v54 v56
  let c64_i32_53 : BitVec 32 := 64#32
  let c0_i32_56 : BitVec 32 := 0#32
  let v58 : BitVec 1 := Scalar.cmpi .sgt c64_i32_53 c0_i32_56
  let v59 : BitVec 32 := Scalar.extui v58
  let c0_i32_57 : BitVec 32 := 0#32
  let v60 : BitVec 1 := Scalar.cmpi .slt c64_i32_53 c0_i32_57
  let v61 : BitVec 32 := Scalar.extui v60
  let v62 : BitVec 32 := Scalar.subi v59 v61
  let v63 : BitVec 1 := Scalar.cmpi .ne v57 v62
  let v64 : BitVec 32 := Scalar.remsi v51 c64_i32_53
  let c0_i32_58 : BitVec 32 := 0#32
  let v65 : BitVec 1 := Scalar.cmpi .ne v64 c0_i32_58
  let v66 : BitVec 1 := Scalar.andi v63 v65
  let v52 : BitVec 32 := Scalar.divsi v51 c64_i32_53
  let c1_i32_59 : BitVec 32 := 1#32
  let v67 : BitVec 32 := Scalar.subi v52 c1_i32_59
  let v68 : BitVec 32 := Scalar.select v66 v67 v52
  let v573 : BitVec 32 := Scalar.subi v68 c0_i32_485
  let c1_i32_487 : BitVec 32 := 1#32
  let v575 : BitVec 32 := Scalar.divsi v573 c1_i32_487
  let v576 : BitVec 32 := Scalar.muli v575 c1_i32_487
  let v577 : BitVec 32 := Scalar.addi c0_i32_485 v576
  let c1_i32_489 : BitVec 32 := 1#32
  let arg19 : BitVec 32 := Scf.iv v577 c1_i32_489 k0_t18
  let c0_i32_497 : BitVec 32 := 0#32
  let v594 : BitVec 1 := Scalar.cmpi .eq arg19 c0_i32_497
  let c1_i32_498 : BitVec 32 := 1#32
  let v595 : BitVec 32 := Scalar.subi v370 c1_i32_498
  let c0_i32_499 : BitVec 32 := 0#32
  let v596 : BitVec 32 := Scalar.select v594 v595 c0_i32_499
  let v597 : BitVec 32 := Scalar.maxsi v593 v596
  let c0_i32_514 : BitVec 32 := 0#32
  let v607 : BitVec 32 := Scalar.subi v602 v597
  let c8_i32_505 : BitVec 32 := 8#32
  let v608 : BitVec 32 := Scalar.addi v607 c8_i32_505
  let c1_i32_506 : BitVec 32 := 1#32
  let v609 : BitVec 32 := Scalar.subi v608 c1_i32_506
  let c0_i32_508 : BitVec 32 := 0#32
  let v611 : BitVec 1 := Scalar.cmpi .sgt v609 c0_i32_508
  let v612 : BitVec 32 := Scalar.extui v611
  let c0_i32_509 : BitVec 32 := 0#32
  let v613 : BitVec 1 := Scalar.cmpi .slt v609 c0_i32_509
  let v614 : BitVec 32 := Scalar.extui v613
  let v615 : BitVec 32 := Scalar.subi v612 v614
  let c8_i32_507 : BitVec 32 := 8#32
  let c0_i32_510 : BitVec 32 := 0#32
  let v616 : BitVec 1 := Scalar.cmpi .sgt c8_i32_507 c0_i32_510
  let v617 : BitVec 32 := Scalar.extui v616
  let c0_i32_511 : BitVec 32 := 0#32
  let v618 : BitVec 1 := Scalar.cmpi .slt c8_i32_507 c0_i32_511
  let v619 : BitVec 32 := Scalar.extui v618
  let v620 : BitVec 32 := Scalar.subi v617 v619
  let v621 : BitVec 1 := Scalar.cmpi .ne v615 v620
  let v622 : BitVec 32 := Scalar.remsi v609 c8_i32_507
  let c0_i32_512 : BitVec 32 := 0#32
  let v623 : BitVec 1 := Scalar.cmpi .ne v622 c0_i32_512
  let v624 : BitVec 1 := Scalar.andi v621 v623
  let v610 : BitVec 32 := Scalar.divsi v609 c8_i32_507
  let c1_i32_513 : BitVec 32 := 1#32
  let v625 : BitVec 32 := Scalar.subi v610 c1_i32_513
  let v626 : BitVec 32 := Scalar.select v624 v625 v610
  let v627 : BitVec 32 := Scalar.subi v626 c0_i32_514
  let c1_i32_515 : BitVec 32 := 1#32
  let v629 : BitVec 32 := Scalar.divsi v627 c1_i32_515
  let v630 : BitVec 32 := Scalar.muli v629 c1_i32_515
  let v631 : BitVec 32 := Scalar.addi c0_i32_514 v630
  let c1_i32_517 : BitVec 32 := 1#32
  let arg21 : BitVec 32 := Scf.iv v631 c1_i32_517 k0_t20
  let c8_i32_527 : BitVec 32 := 8#32
  let v641 : BitVec 32 := Scalar.muli arg21 c8_i32_527
  let v642 : BitVec 32 := Scalar.addi v597 v641
  let c0_i32_528 : BitVec 32 := 0#32
  let v643 : BitVec 32 := Scalar.addi v642 c0_i32_528
  let v644 : Index := Scalar.indexCast v643
  ![v644.toNat]
def k0_off558 (v645 : BitVec 32) : Fin 2 → Nat :=
  let c65535_i32 : BitVec 32 := 65535#32
  let v646 : BitVec 32 := Scalar.andi v645 c65535_i32
  let c0_i32_530 : BitVec 32 := 0#32
  let v652 : BitVec 32 := Scalar.addi v646 c0_i32_530
  let v654 : Index := Scalar.indexCast v652
  let c0_531 : Index := 0#32
  ![v654.toNat, 0]

def k0_off559 (v49_0 : BitVec 32) (k0_t4 : Fin k0_t4_loop.trips) (k0_t18 : Fin (k0_t18_loop v49_0).trips) (v650 : BitVec 32) (c0_i32_534 : BitVec 32) : Fin 2 → Nat :=
  let c0_i32_379 : BitVec 32 := 0#32
  let c1_i32_381 : BitVec 32 := 1#32
  let arg18 : BitVec 32 := Scf.iv c0_i32_379 c1_i32_381 k0_t4
  let c64_i32 : BitVec 32 := 64#32
  let v50 : BitVec 32 := Scalar.addi v49_0 c64_i32
  let c1_i32_52 : BitVec 32 := 1#32
  let v51 : BitVec 32 := Scalar.subi v50 c1_i32_52
  let c0_i32_54 : BitVec 32 := 0#32
  let v53 : BitVec 1 := Scalar.cmpi .sgt v51 c0_i32_54
  let v54 : BitVec 32 := Scalar.extui v53
  let c0_i32_55 : BitVec 32 := 0#32
  let v55 : BitVec 1 := Scalar.cmpi .slt v51 c0_i32_55
  let v56 : BitVec 32 := Scalar.extui v55
  let v57 : BitVec 32 := Scalar.subi v54 v56
  let c64_i32_53 : BitVec 32 := 64#32
  let c0_i32_56 : BitVec 32 := 0#32
  let v58 : BitVec 1 := Scalar.cmpi .sgt c64_i32_53 c0_i32_56
  let v59 : BitVec 32 := Scalar.extui v58
  let c0_i32_57 : BitVec 32 := 0#32
  let v60 : BitVec 1 := Scalar.cmpi .slt c64_i32_53 c0_i32_57
  let v61 : BitVec 32 := Scalar.extui v60
  let v62 : BitVec 32 := Scalar.subi v59 v61
  let v63 : BitVec 1 := Scalar.cmpi .ne v57 v62
  let v64 : BitVec 32 := Scalar.remsi v51 c64_i32_53
  let c0_i32_58 : BitVec 32 := 0#32
  let v65 : BitVec 1 := Scalar.cmpi .ne v64 c0_i32_58
  let v66 : BitVec 1 := Scalar.andi v63 v65
  let v52 : BitVec 32 := Scalar.divsi v51 c64_i32_53
  let c1_i32_59 : BitVec 32 := 1#32
  let v67 : BitVec 32 := Scalar.subi v52 c1_i32_59
  let v68 : BitVec 32 := Scalar.select v66 v67 v52
  let v580 : BitVec 32 := Scalar.muli arg18 v68
  let c0_i32_485 : BitVec 32 := 0#32
  let v573 : BitVec 32 := Scalar.subi v68 c0_i32_485
  let c1_i32_487 : BitVec 32 := 1#32
  let v575 : BitVec 32 := Scalar.divsi v573 c1_i32_487
  let v576 : BitVec 32 := Scalar.muli v575 c1_i32_487
  let v577 : BitVec 32 := Scalar.addi c0_i32_485 v576
  let c1_i32_489 : BitVec 32 := 1#32
  let arg19 : BitVec 32 := Scf.iv v577 c1_i32_489 k0_t18
  let v581 : BitVec 32 := Scalar.addi v580 arg19
  let c4_i32_490 : BitVec 32 := 4#32
  let v582 : BitVec 32 := Scalar.remsi v581 c4_i32_490
  let c1728_i32 : BitVec 32 := 1728#32
  let v603 : BitVec 32 := Scalar.muli v582 c1728_i32
  let c1536_i32_503 : BitVec 32 := 1536#32
  let v604 : BitVec 32 := Scalar.muli arg19 c1536_i32_503
  let v605 : BitVec 32 := Scalar.subi v603 v604
  let v651 : BitVec 32 := Scalar.addi v650 v605
  let v660 : BitVec 32 := Scalar.addi v651 c0_i32_534
  let v662 : Index := Scalar.indexCast v660
  let c0_535 : Index := 0#32
  ![v662.toNat, 0]

def k0_chk54 (v49_0 : BitVec 32) (k0_t4 : Fin k0_t4_loop.trips) (k0_t18 : Fin (k0_t18_loop v49_0).trips) (v650 : BitVec 32) : Prop :=
  (∀ (r : Fin 3), ∀ a, S8x128.size a = 0 ∨ (k0_off559 v49_0 k0_t4 k0_t18 v650 (BitVec.ofNat 32 (64 * r.val))) a + (![8, 1] : Fin 2 → Nat) a * (S8x128.size a - 1) < S6912x128.size a)
theorem k0_off559_inb : ∀ (v49_0 : BitVec 32) (k0_t4 : Fin k0_t4_loop.trips) (k0_t18 : Fin (k0_t18_loop v49_0).trips) (v650 : BitVec 32) (k0_hw54 : k0_chk54 v49_0 k0_t4 k0_t18 v650), ∀ (r : Fin 3), ∀ a, S8x128.size a = 0 ∨ (k0_off559 v49_0 k0_t4 k0_t18 v650 (BitVec.ofNat 32 (64 * r.val))) a + (![8, 1] : Fin 2 → Nat) a * (S8x128.size a - 1) < S6912x128.size a := fun v49_0 k0_t4 k0_t18 v650 k0_hw54 r => k0_hw54 r

def k0_off560 (v645 : BitVec 32) (c64_i32_536 : BitVec 32) : Fin 2 → Nat :=
  let c65535_i32 : BitVec 32 := 65535#32
  let v646 : BitVec 32 := Scalar.andi v645 c65535_i32
  let v666 : BitVec 32 := Scalar.addi v646 c64_i32_536
  let v668 : Index := Scalar.indexCast v666
  let c0_537 : Index := 0#32
  ![v668.toNat, 0]

def k0_chk53 (v645 : BitVec 32) : Prop :=
  (∀ a, S8x128.size a = 0 ∨ (k0_off558 v645) a + (![8, 1] : Fin 2 → Nat) a * (S8x128.size a - 1) < S49152x128.size a) ∧
  (∀ (r : Fin 2), ∀ a, S8x128.size a = 0 ∨ (k0_off560 v645 (BitVec.ofNat 32 (64 + 64 * r.val))) a + (![8, 1] : Fin 2 → Nat) a * (S8x128.size a - 1) < S49152x128.size a)
theorem k0_off558_inb : ∀ (v645 : BitVec 32) (k0_hw53 : k0_chk53 v645), ∀ a, S8x128.size a = 0 ∨ (k0_off558 v645) a + (![8, 1] : Fin 2 → Nat) a * (S8x128.size a - 1) < S49152x128.size a := fun v645 k0_hw53 => k0_hw53.1
theorem k0_off560_inb : ∀ (v645 : BitVec 32) (k0_hw53 : k0_chk53 v645), ∀ (r : Fin 2), ∀ a, S8x128.size a = 0 ∨ (k0_off560 v645 (BitVec.ofNat 32 (64 + 64 * r.val))) a + (![8, 1] : Fin 2 → Nat) a * (S8x128.size a - 1) < S49152x128.size a := fun v645 k0_hw53 r => k0_hw53.2 r

def k0_off561 (v49_0 : BitVec 32) (v370 : BitVec 32) (k0_t18 : Fin (k0_t18_loop v49_0).trips) (v593 : BitVec 32) (v602 : BitVec 32) (k0_t20 : Fin (k0_t20_loop v49_0 v370 k0_t18 v593 v602).trips) : Fin 1 → Nat :=
  let c0_i32_485 : BitVec 32 := 0#32
  let c64_i32 : BitVec 32 := 64#32
  let v50 : BitVec 32 := Scalar.addi v49_0 c64_i32
  let c1_i32_52 : BitVec 32 := 1#32
  let v51 : BitVec 32 := Scalar.subi v50 c1_i32_52
  let c0_i32_54 : BitVec 32 := 0#32
  let v53 : BitVec 1 := Scalar.cmpi .sgt v51 c0_i32_54
  let v54 : BitVec 32 := Scalar.extui v53
  let c0_i32_55 : BitVec 32 := 0#32
  let v55 : BitVec 1 := Scalar.cmpi .slt v51 c0_i32_55
  let v56 : BitVec 32 := Scalar.extui v55
  let v57 : BitVec 32 := Scalar.subi v54 v56
  let c64_i32_53 : BitVec 32 := 64#32
  let c0_i32_56 : BitVec 32 := 0#32
  let v58 : BitVec 1 := Scalar.cmpi .sgt c64_i32_53 c0_i32_56
  let v59 : BitVec 32 := Scalar.extui v58
  let c0_i32_57 : BitVec 32 := 0#32
  let v60 : BitVec 1 := Scalar.cmpi .slt c64_i32_53 c0_i32_57
  let v61 : BitVec 32 := Scalar.extui v60
  let v62 : BitVec 32 := Scalar.subi v59 v61
  let v63 : BitVec 1 := Scalar.cmpi .ne v57 v62
  let v64 : BitVec 32 := Scalar.remsi v51 c64_i32_53
  let c0_i32_58 : BitVec 32 := 0#32
  let v65 : BitVec 1 := Scalar.cmpi .ne v64 c0_i32_58
  let v66 : BitVec 1 := Scalar.andi v63 v65
  let v52 : BitVec 32 := Scalar.divsi v51 c64_i32_53
  let c1_i32_59 : BitVec 32 := 1#32
  let v67 : BitVec 32 := Scalar.subi v52 c1_i32_59
  let v68 : BitVec 32 := Scalar.select v66 v67 v52
  let v573 : BitVec 32 := Scalar.subi v68 c0_i32_485
  let c1_i32_487 : BitVec 32 := 1#32
  let v575 : BitVec 32 := Scalar.divsi v573 c1_i32_487
  let v576 : BitVec 32 := Scalar.muli v575 c1_i32_487
  let v577 : BitVec 32 := Scalar.addi c0_i32_485 v576
  let c1_i32_489 : BitVec 32 := 1#32
  let arg19 : BitVec 32 := Scf.iv v577 c1_i32_489 k0_t18
  let c0_i32_497 : BitVec 32 := 0#32
  let v594 : BitVec 1 := Scalar.cmpi .eq arg19 c0_i32_497
  let c1_i32_498 : BitVec 32 := 1#32
  let v595 : BitVec 32 := Scalar.subi v370 c1_i32_498
  let c0_i32_499 : BitVec 32 := 0#32
  let v596 : BitVec 32 := Scalar.select v594 v595 c0_i32_499
  let v597 : BitVec 32 := Scalar.maxsi v593 v596
  let c0_i32_514 : BitVec 32 := 0#32
  let v607 : BitVec 32 := Scalar.subi v602 v597
  let c8_i32_505 : BitVec 32 := 8#32
  let v608 : BitVec 32 := Scalar.addi v607 c8_i32_505
  let c1_i32_506 : BitVec 32 := 1#32
  let v609 : BitVec 32 := Scalar.subi v608 c1_i32_506
  let c0_i32_508 : BitVec 32 := 0#32
  let v611 : BitVec 1 := Scalar.cmpi .sgt v609 c0_i32_508
  let v612 : BitVec 32 := Scalar.extui v611
  let c0_i32_509 : BitVec 32 := 0#32
  let v613 : BitVec 1 := Scalar.cmpi .slt v609 c0_i32_509
  let v614 : BitVec 32 := Scalar.extui v613
  let v615 : BitVec 32 := Scalar.subi v612 v614
  let c8_i32_507 : BitVec 32 := 8#32
  let c0_i32_510 : BitVec 32 := 0#32
  let v616 : BitVec 1 := Scalar.cmpi .sgt c8_i32_507 c0_i32_510
  let v617 : BitVec 32 := Scalar.extui v616
  let c0_i32_511 : BitVec 32 := 0#32
  let v618 : BitVec 1 := Scalar.cmpi .slt c8_i32_507 c0_i32_511
  let v619 : BitVec 32 := Scalar.extui v618
  let v620 : BitVec 32 := Scalar.subi v617 v619
  let v621 : BitVec 1 := Scalar.cmpi .ne v615 v620
  let v622 : BitVec 32 := Scalar.remsi v609 c8_i32_507
  let c0_i32_512 : BitVec 32 := 0#32
  let v623 : BitVec 1 := Scalar.cmpi .ne v622 c0_i32_512
  let v624 : BitVec 1 := Scalar.andi v621 v623
  let v610 : BitVec 32 := Scalar.divsi v609 c8_i32_507
  let c1_i32_513 : BitVec 32 := 1#32
  let v625 : BitVec 32 := Scalar.subi v610 c1_i32_513
  let v626 : BitVec 32 := Scalar.select v624 v625 v610
  let v627 : BitVec 32 := Scalar.subi v626 c0_i32_514
  let c1_i32_515 : BitVec 32 := 1#32
  let v629 : BitVec 32 := Scalar.divsi v627 c1_i32_515
  let v630 : BitVec 32 := Scalar.muli v629 c1_i32_515
  let v631 : BitVec 32 := Scalar.addi c0_i32_514 v630
  let c1_i32_517 : BitVec 32 := 1#32
  let arg21 : BitVec 32 := Scf.iv v631 c1_i32_517 k0_t20
  let c8_i32_527 : BitVec 32 := 8#32
  let v641 : BitVec 32 := Scalar.muli arg21 c8_i32_527
  let v642 : BitVec 32 := Scalar.addi v597 v641
  let c1_i32_548 : BitVec 32 := 1#32
  let v694 : BitVec 32 := Scalar.addi v642 c1_i32_548
  let v695 : Index := Scalar.indexCast v694
  ![v695.toNat]
def k0_off562 (v696 : BitVec 32) : Fin 2 → Nat :=
  let c65535_i32_549 : BitVec 32 := 65535#32
  let v697 : BitVec 32 := Scalar.andi v696 c65535_i32_549
  let c0_i32_552 : BitVec 32 := 0#32
  let v703 : BitVec 32 := Scalar.addi v697 c0_i32_552
  let v705 : Index := Scalar.indexCast v703
  let c0_553 : Index := 0#32
  ![v705.toNat, 0]

def k0_off563 (v49_0 : BitVec 32) (k0_t4 : Fin k0_t4_loop.trips) (k0_t18 : Fin (k0_t18_loop v49_0).trips) (v701 : BitVec 32) (c0_i32_556 : BitVec 32) : Fin 2 → Nat :=
  let c0_i32_379 : BitVec 32 := 0#32
  let c1_i32_381 : BitVec 32 := 1#32
  let arg18 : BitVec 32 := Scf.iv c0_i32_379 c1_i32_381 k0_t4
  let c64_i32 : BitVec 32 := 64#32
  let v50 : BitVec 32 := Scalar.addi v49_0 c64_i32
  let c1_i32_52 : BitVec 32 := 1#32
  let v51 : BitVec 32 := Scalar.subi v50 c1_i32_52
  let c0_i32_54 : BitVec 32 := 0#32
  let v53 : BitVec 1 := Scalar.cmpi .sgt v51 c0_i32_54
  let v54 : BitVec 32 := Scalar.extui v53
  let c0_i32_55 : BitVec 32 := 0#32
  let v55 : BitVec 1 := Scalar.cmpi .slt v51 c0_i32_55
  let v56 : BitVec 32 := Scalar.extui v55
  let v57 : BitVec 32 := Scalar.subi v54 v56
  let c64_i32_53 : BitVec 32 := 64#32
  let c0_i32_56 : BitVec 32 := 0#32
  let v58 : BitVec 1 := Scalar.cmpi .sgt c64_i32_53 c0_i32_56
  let v59 : BitVec 32 := Scalar.extui v58
  let c0_i32_57 : BitVec 32 := 0#32
  let v60 : BitVec 1 := Scalar.cmpi .slt c64_i32_53 c0_i32_57
  let v61 : BitVec 32 := Scalar.extui v60
  let v62 : BitVec 32 := Scalar.subi v59 v61
  let v63 : BitVec 1 := Scalar.cmpi .ne v57 v62
  let v64 : BitVec 32 := Scalar.remsi v51 c64_i32_53
  let c0_i32_58 : BitVec 32 := 0#32
  let v65 : BitVec 1 := Scalar.cmpi .ne v64 c0_i32_58
  let v66 : BitVec 1 := Scalar.andi v63 v65
  let v52 : BitVec 32 := Scalar.divsi v51 c64_i32_53
  let c1_i32_59 : BitVec 32 := 1#32
  let v67 : BitVec 32 := Scalar.subi v52 c1_i32_59
  let v68 : BitVec 32 := Scalar.select v66 v67 v52
  let v580 : BitVec 32 := Scalar.muli arg18 v68
  let c0_i32_485 : BitVec 32 := 0#32
  let v573 : BitVec 32 := Scalar.subi v68 c0_i32_485
  let c1_i32_487 : BitVec 32 := 1#32
  let v575 : BitVec 32 := Scalar.divsi v573 c1_i32_487
  let v576 : BitVec 32 := Scalar.muli v575 c1_i32_487
  let v577 : BitVec 32 := Scalar.addi c0_i32_485 v576
  let c1_i32_489 : BitVec 32 := 1#32
  let arg19 : BitVec 32 := Scf.iv v577 c1_i32_489 k0_t18
  let v581 : BitVec 32 := Scalar.addi v580 arg19
  let c4_i32_490 : BitVec 32 := 4#32
  let v582 : BitVec 32 := Scalar.remsi v581 c4_i32_490
  let c1728_i32 : BitVec 32 := 1728#32
  let v603 : BitVec 32 := Scalar.muli v582 c1728_i32
  let c1536_i32_503 : BitVec 32 := 1536#32
  let v604 : BitVec 32 := Scalar.muli arg19 c1536_i32_503
  let v605 : BitVec 32 := Scalar.subi v603 v604
  let v702 : BitVec 32 := Scalar.addi v701 v605
  let v711 : BitVec 32 := Scalar.addi v702 c0_i32_556
  let v713 : Index := Scalar.indexCast v711
  let c0_557 : Index := 0#32
  ![v713.toNat, 0]

def k0_chk56 (v49_0 : BitVec 32) (k0_t4 : Fin k0_t4_loop.trips) (k0_t18 : Fin (k0_t18_loop v49_0).trips) (v701 : BitVec 32) : Prop :=
  (∀ (r : Fin 3), ∀ a, S8x128.size a = 0 ∨ (k0_off563 v49_0 k0_t4 k0_t18 v701 (BitVec.ofNat 32 (64 * r.val))) a + (![8, 1] : Fin 2 → Nat) a * (S8x128.size a - 1) < S6912x128.size a)
theorem k0_off563_inb : ∀ (v49_0 : BitVec 32) (k0_t4 : Fin k0_t4_loop.trips) (k0_t18 : Fin (k0_t18_loop v49_0).trips) (v701 : BitVec 32) (k0_hw56 : k0_chk56 v49_0 k0_t4 k0_t18 v701), ∀ (r : Fin 3), ∀ a, S8x128.size a = 0 ∨ (k0_off563 v49_0 k0_t4 k0_t18 v701 (BitVec.ofNat 32 (64 * r.val))) a + (![8, 1] : Fin 2 → Nat) a * (S8x128.size a - 1) < S6912x128.size a := fun v49_0 k0_t4 k0_t18 v701 k0_hw56 r => k0_hw56 r

def k0_off564 (v696 : BitVec 32) (c64_i32_558 : BitVec 32) : Fin 2 → Nat :=
  let c65535_i32_549 : BitVec 32 := 65535#32
  let v697 : BitVec 32 := Scalar.andi v696 c65535_i32_549
  let v717 : BitVec 32 := Scalar.addi v697 c64_i32_558
  let v719 : Index := Scalar.indexCast v717
  let c0_559 : Index := 0#32
  ![v719.toNat, 0]

def k0_chk55 (v696 : BitVec 32) : Prop :=
  (∀ a, S8x128.size a = 0 ∨ (k0_off562 v696) a + (![8, 1] : Fin 2 → Nat) a * (S8x128.size a - 1) < S49152x128.size a) ∧
  (∀ (r : Fin 2), ∀ a, S8x128.size a = 0 ∨ (k0_off564 v696 (BitVec.ofNat 32 (64 + 64 * r.val))) a + (![8, 1] : Fin 2 → Nat) a * (S8x128.size a - 1) < S49152x128.size a)
theorem k0_off562_inb : ∀ (v696 : BitVec 32) (k0_hw55 : k0_chk55 v696), ∀ a, S8x128.size a = 0 ∨ (k0_off562 v696) a + (![8, 1] : Fin 2 → Nat) a * (S8x128.size a - 1) < S49152x128.size a := fun v696 k0_hw55 => k0_hw55.1
theorem k0_off564_inb : ∀ (v696 : BitVec 32) (k0_hw55 : k0_chk55 v696), ∀ (r : Fin 2), ∀ a, S8x128.size a = 0 ∨ (k0_off564 v696 (BitVec.ofNat 32 (64 + 64 * r.val))) a + (![8, 1] : Fin 2 → Nat) a * (S8x128.size a - 1) < S49152x128.size a := fun v696 k0_hw55 r => k0_hw55.2 r

def k0_off565 (v49_0 : BitVec 32) (v370 : BitVec 32) (k0_t18 : Fin (k0_t18_loop v49_0).trips) (v593 : BitVec 32) (v602 : BitVec 32) (k0_t20 : Fin (k0_t20_loop v49_0 v370 k0_t18 v593 v602).trips) : Fin 1 → Nat :=
  let c0_i32_485 : BitVec 32 := 0#32
  let c64_i32 : BitVec 32 := 64#32
  let v50 : BitVec 32 := Scalar.addi v49_0 c64_i32
  let c1_i32_52 : BitVec 32 := 1#32
  let v51 : BitVec 32 := Scalar.subi v50 c1_i32_52
  let c0_i32_54 : BitVec 32 := 0#32
  let v53 : BitVec 1 := Scalar.cmpi .sgt v51 c0_i32_54
  let v54 : BitVec 32 := Scalar.extui v53
  let c0_i32_55 : BitVec 32 := 0#32
  let v55 : BitVec 1 := Scalar.cmpi .slt v51 c0_i32_55
  let v56 : BitVec 32 := Scalar.extui v55
  let v57 : BitVec 32 := Scalar.subi v54 v56
  let c64_i32_53 : BitVec 32 := 64#32
  let c0_i32_56 : BitVec 32 := 0#32
  let v58 : BitVec 1 := Scalar.cmpi .sgt c64_i32_53 c0_i32_56
  let v59 : BitVec 32 := Scalar.extui v58
  let c0_i32_57 : BitVec 32 := 0#32
  let v60 : BitVec 1 := Scalar.cmpi .slt c64_i32_53 c0_i32_57
  let v61 : BitVec 32 := Scalar.extui v60
  let v62 : BitVec 32 := Scalar.subi v59 v61
  let v63 : BitVec 1 := Scalar.cmpi .ne v57 v62
  let v64 : BitVec 32 := Scalar.remsi v51 c64_i32_53
  let c0_i32_58 : BitVec 32 := 0#32
  let v65 : BitVec 1 := Scalar.cmpi .ne v64 c0_i32_58
  let v66 : BitVec 1 := Scalar.andi v63 v65
  let v52 : BitVec 32 := Scalar.divsi v51 c64_i32_53
  let c1_i32_59 : BitVec 32 := 1#32
  let v67 : BitVec 32 := Scalar.subi v52 c1_i32_59
  let v68 : BitVec 32 := Scalar.select v66 v67 v52
  let v573 : BitVec 32 := Scalar.subi v68 c0_i32_485
  let c1_i32_487 : BitVec 32 := 1#32
  let v575 : BitVec 32 := Scalar.divsi v573 c1_i32_487
  let v576 : BitVec 32 := Scalar.muli v575 c1_i32_487
  let v577 : BitVec 32 := Scalar.addi c0_i32_485 v576
  let c1_i32_489 : BitVec 32 := 1#32
  let arg19 : BitVec 32 := Scf.iv v577 c1_i32_489 k0_t18
  let c0_i32_497 : BitVec 32 := 0#32
  let v594 : BitVec 1 := Scalar.cmpi .eq arg19 c0_i32_497
  let c1_i32_498 : BitVec 32 := 1#32
  let v595 : BitVec 32 := Scalar.subi v370 c1_i32_498
  let c0_i32_499 : BitVec 32 := 0#32
  let v596 : BitVec 32 := Scalar.select v594 v595 c0_i32_499
  let v597 : BitVec 32 := Scalar.maxsi v593 v596
  let c0_i32_514 : BitVec 32 := 0#32
  let v607 : BitVec 32 := Scalar.subi v602 v597
  let c8_i32_505 : BitVec 32 := 8#32
  let v608 : BitVec 32 := Scalar.addi v607 c8_i32_505
  let c1_i32_506 : BitVec 32 := 1#32
  let v609 : BitVec 32 := Scalar.subi v608 c1_i32_506
  let c0_i32_508 : BitVec 32 := 0#32
  let v611 : BitVec 1 := Scalar.cmpi .sgt v609 c0_i32_508
  let v612 : BitVec 32 := Scalar.extui v611
  let c0_i32_509 : BitVec 32 := 0#32
  let v613 : BitVec 1 := Scalar.cmpi .slt v609 c0_i32_509
  let v614 : BitVec 32 := Scalar.extui v613
  let v615 : BitVec 32 := Scalar.subi v612 v614
  let c8_i32_507 : BitVec 32 := 8#32
  let c0_i32_510 : BitVec 32 := 0#32
  let v616 : BitVec 1 := Scalar.cmpi .sgt c8_i32_507 c0_i32_510
  let v617 : BitVec 32 := Scalar.extui v616
  let c0_i32_511 : BitVec 32 := 0#32
  let v618 : BitVec 1 := Scalar.cmpi .slt c8_i32_507 c0_i32_511
  let v619 : BitVec 32 := Scalar.extui v618
  let v620 : BitVec 32 := Scalar.subi v617 v619
  let v621 : BitVec 1 := Scalar.cmpi .ne v615 v620
  let v622 : BitVec 32 := Scalar.remsi v609 c8_i32_507
  let c0_i32_512 : BitVec 32 := 0#32
  let v623 : BitVec 1 := Scalar.cmpi .ne v622 c0_i32_512
  let v624 : BitVec 1 := Scalar.andi v621 v623
  let v610 : BitVec 32 := Scalar.divsi v609 c8_i32_507
  let c1_i32_513 : BitVec 32 := 1#32
  let v625 : BitVec 32 := Scalar.subi v610 c1_i32_513
  let v626 : BitVec 32 := Scalar.select v624 v625 v610
  let v627 : BitVec 32 := Scalar.subi v626 c0_i32_514
  let c1_i32_515 : BitVec 32 := 1#32
  let v629 : BitVec 32 := Scalar.divsi v627 c1_i32_515
  let v630 : BitVec 32 := Scalar.muli v629 c1_i32_515
  let v631 : BitVec 32 := Scalar.addi c0_i32_514 v630
  let c1_i32_517 : BitVec 32 := 1#32
  let arg21 : BitVec 32 := Scf.iv v631 c1_i32_517 k0_t20
  let c8_i32_527 : BitVec 32 := 8#32
  let v641 : BitVec 32 := Scalar.muli arg21 c8_i32_527
  let v642 : BitVec 32 := Scalar.addi v597 v641
  let c2_i32_570 : BitVec 32 := 2#32
  let v745 : BitVec 32 := Scalar.addi v642 c2_i32_570
  let v746 : Index := Scalar.indexCast v745
  ![v746.toNat]
def k0_off566 (v747 : BitVec 32) : Fin 2 → Nat :=
  let c65535_i32_571 : BitVec 32 := 65535#32
  let v748 : BitVec 32 := Scalar.andi v747 c65535_i32_571
  let c0_i32_574 : BitVec 32 := 0#32
  let v754 : BitVec 32 := Scalar.addi v748 c0_i32_574
  let v756 : Index := Scalar.indexCast v754
  let c0_575 : Index := 0#32
  ![v756.toNat, 0]

def k0_off567 (v49_0 : BitVec 32) (k0_t4 : Fin k0_t4_loop.trips) (k0_t18 : Fin (k0_t18_loop v49_0).trips) (v752 : BitVec 32) (c0_i32_578 : BitVec 32) : Fin 2 → Nat :=
  let c0_i32_379 : BitVec 32 := 0#32
  let c1_i32_381 : BitVec 32 := 1#32
  let arg18 : BitVec 32 := Scf.iv c0_i32_379 c1_i32_381 k0_t4
  let c64_i32 : BitVec 32 := 64#32
  let v50 : BitVec 32 := Scalar.addi v49_0 c64_i32
  let c1_i32_52 : BitVec 32 := 1#32
  let v51 : BitVec 32 := Scalar.subi v50 c1_i32_52
  let c0_i32_54 : BitVec 32 := 0#32
  let v53 : BitVec 1 := Scalar.cmpi .sgt v51 c0_i32_54
  let v54 : BitVec 32 := Scalar.extui v53
  let c0_i32_55 : BitVec 32 := 0#32
  let v55 : BitVec 1 := Scalar.cmpi .slt v51 c0_i32_55
  let v56 : BitVec 32 := Scalar.extui v55
  let v57 : BitVec 32 := Scalar.subi v54 v56
  let c64_i32_53 : BitVec 32 := 64#32
  let c0_i32_56 : BitVec 32 := 0#32
  let v58 : BitVec 1 := Scalar.cmpi .sgt c64_i32_53 c0_i32_56
  let v59 : BitVec 32 := Scalar.extui v58
  let c0_i32_57 : BitVec 32 := 0#32
  let v60 : BitVec 1 := Scalar.cmpi .slt c64_i32_53 c0_i32_57
  let v61 : BitVec 32 := Scalar.extui v60
  let v62 : BitVec 32 := Scalar.subi v59 v61
  let v63 : BitVec 1 := Scalar.cmpi .ne v57 v62
  let v64 : BitVec 32 := Scalar.remsi v51 c64_i32_53
  let c0_i32_58 : BitVec 32 := 0#32
  let v65 : BitVec 1 := Scalar.cmpi .ne v64 c0_i32_58
  let v66 : BitVec 1 := Scalar.andi v63 v65
  let v52 : BitVec 32 := Scalar.divsi v51 c64_i32_53
  let c1_i32_59 : BitVec 32 := 1#32
  let v67 : BitVec 32 := Scalar.subi v52 c1_i32_59
  let v68 : BitVec 32 := Scalar.select v66 v67 v52
  let v580 : BitVec 32 := Scalar.muli arg18 v68
  let c0_i32_485 : BitVec 32 := 0#32
  let v573 : BitVec 32 := Scalar.subi v68 c0_i32_485
  let c1_i32_487 : BitVec 32 := 1#32
  let v575 : BitVec 32 := Scalar.divsi v573 c1_i32_487
  let v576 : BitVec 32 := Scalar.muli v575 c1_i32_487
  let v577 : BitVec 32 := Scalar.addi c0_i32_485 v576
  let c1_i32_489 : BitVec 32 := 1#32
  let arg19 : BitVec 32 := Scf.iv v577 c1_i32_489 k0_t18
  let v581 : BitVec 32 := Scalar.addi v580 arg19
  let c4_i32_490 : BitVec 32 := 4#32
  let v582 : BitVec 32 := Scalar.remsi v581 c4_i32_490
  let c1728_i32 : BitVec 32 := 1728#32
  let v603 : BitVec 32 := Scalar.muli v582 c1728_i32
  let c1536_i32_503 : BitVec 32 := 1536#32
  let v604 : BitVec 32 := Scalar.muli arg19 c1536_i32_503
  let v605 : BitVec 32 := Scalar.subi v603 v604
  let v753 : BitVec 32 := Scalar.addi v752 v605
  let v762 : BitVec 32 := Scalar.addi v753 c0_i32_578
  let v764 : Index := Scalar.indexCast v762
  let c0_579 : Index := 0#32
  ![v764.toNat, 0]

def k0_chk58 (v49_0 : BitVec 32) (k0_t4 : Fin k0_t4_loop.trips) (k0_t18 : Fin (k0_t18_loop v49_0).trips) (v752 : BitVec 32) : Prop :=
  (∀ (r : Fin 3), ∀ a, S8x128.size a = 0 ∨ (k0_off567 v49_0 k0_t4 k0_t18 v752 (BitVec.ofNat 32 (64 * r.val))) a + (![8, 1] : Fin 2 → Nat) a * (S8x128.size a - 1) < S6912x128.size a)
theorem k0_off567_inb : ∀ (v49_0 : BitVec 32) (k0_t4 : Fin k0_t4_loop.trips) (k0_t18 : Fin (k0_t18_loop v49_0).trips) (v752 : BitVec 32) (k0_hw58 : k0_chk58 v49_0 k0_t4 k0_t18 v752), ∀ (r : Fin 3), ∀ a, S8x128.size a = 0 ∨ (k0_off567 v49_0 k0_t4 k0_t18 v752 (BitVec.ofNat 32 (64 * r.val))) a + (![8, 1] : Fin 2 → Nat) a * (S8x128.size a - 1) < S6912x128.size a := fun v49_0 k0_t4 k0_t18 v752 k0_hw58 r => k0_hw58 r

def k0_off568 (v747 : BitVec 32) (c64_i32_580 : BitVec 32) : Fin 2 → Nat :=
  let c65535_i32_571 : BitVec 32 := 65535#32
  let v748 : BitVec 32 := Scalar.andi v747 c65535_i32_571
  let v768 : BitVec 32 := Scalar.addi v748 c64_i32_580
  let v770 : Index := Scalar.indexCast v768
  let c0_581 : Index := 0#32
  ![v770.toNat, 0]

def k0_chk57 (v747 : BitVec 32) : Prop :=
  (∀ a, S8x128.size a = 0 ∨ (k0_off566 v747) a + (![8, 1] : Fin 2 → Nat) a * (S8x128.size a - 1) < S49152x128.size a) ∧
  (∀ (r : Fin 2), ∀ a, S8x128.size a = 0 ∨ (k0_off568 v747 (BitVec.ofNat 32 (64 + 64 * r.val))) a + (![8, 1] : Fin 2 → Nat) a * (S8x128.size a - 1) < S49152x128.size a)
theorem k0_off566_inb : ∀ (v747 : BitVec 32) (k0_hw57 : k0_chk57 v747), ∀ a, S8x128.size a = 0 ∨ (k0_off566 v747) a + (![8, 1] : Fin 2 → Nat) a * (S8x128.size a - 1) < S49152x128.size a := fun v747 k0_hw57 => k0_hw57.1
theorem k0_off568_inb : ∀ (v747 : BitVec 32) (k0_hw57 : k0_chk57 v747), ∀ (r : Fin 2), ∀ a, S8x128.size a = 0 ∨ (k0_off568 v747 (BitVec.ofNat 32 (64 + 64 * r.val))) a + (![8, 1] : Fin 2 → Nat) a * (S8x128.size a - 1) < S49152x128.size a := fun v747 k0_hw57 r => k0_hw57.2 r

def k0_off569 (v49_0 : BitVec 32) (v370 : BitVec 32) (k0_t18 : Fin (k0_t18_loop v49_0).trips) (v593 : BitVec 32) (v602 : BitVec 32) (k0_t20 : Fin (k0_t20_loop v49_0 v370 k0_t18 v593 v602).trips) : Fin 1 → Nat :=
  let c0_i32_485 : BitVec 32 := 0#32
  let c64_i32 : BitVec 32 := 64#32
  let v50 : BitVec 32 := Scalar.addi v49_0 c64_i32
  let c1_i32_52 : BitVec 32 := 1#32
  let v51 : BitVec 32 := Scalar.subi v50 c1_i32_52
  let c0_i32_54 : BitVec 32 := 0#32
  let v53 : BitVec 1 := Scalar.cmpi .sgt v51 c0_i32_54
  let v54 : BitVec 32 := Scalar.extui v53
  let c0_i32_55 : BitVec 32 := 0#32
  let v55 : BitVec 1 := Scalar.cmpi .slt v51 c0_i32_55
  let v56 : BitVec 32 := Scalar.extui v55
  let v57 : BitVec 32 := Scalar.subi v54 v56
  let c64_i32_53 : BitVec 32 := 64#32
  let c0_i32_56 : BitVec 32 := 0#32
  let v58 : BitVec 1 := Scalar.cmpi .sgt c64_i32_53 c0_i32_56
  let v59 : BitVec 32 := Scalar.extui v58
  let c0_i32_57 : BitVec 32 := 0#32
  let v60 : BitVec 1 := Scalar.cmpi .slt c64_i32_53 c0_i32_57
  let v61 : BitVec 32 := Scalar.extui v60
  let v62 : BitVec 32 := Scalar.subi v59 v61
  let v63 : BitVec 1 := Scalar.cmpi .ne v57 v62
  let v64 : BitVec 32 := Scalar.remsi v51 c64_i32_53
  let c0_i32_58 : BitVec 32 := 0#32
  let v65 : BitVec 1 := Scalar.cmpi .ne v64 c0_i32_58
  let v66 : BitVec 1 := Scalar.andi v63 v65
  let v52 : BitVec 32 := Scalar.divsi v51 c64_i32_53
  let c1_i32_59 : BitVec 32 := 1#32
  let v67 : BitVec 32 := Scalar.subi v52 c1_i32_59
  let v68 : BitVec 32 := Scalar.select v66 v67 v52
  let v573 : BitVec 32 := Scalar.subi v68 c0_i32_485
  let c1_i32_487 : BitVec 32 := 1#32
  let v575 : BitVec 32 := Scalar.divsi v573 c1_i32_487
  let v576 : BitVec 32 := Scalar.muli v575 c1_i32_487
  let v577 : BitVec 32 := Scalar.addi c0_i32_485 v576
  let c1_i32_489 : BitVec 32 := 1#32
  let arg19 : BitVec 32 := Scf.iv v577 c1_i32_489 k0_t18
  let c0_i32_497 : BitVec 32 := 0#32
  let v594 : BitVec 1 := Scalar.cmpi .eq arg19 c0_i32_497
  let c1_i32_498 : BitVec 32 := 1#32
  let v595 : BitVec 32 := Scalar.subi v370 c1_i32_498
  let c0_i32_499 : BitVec 32 := 0#32
  let v596 : BitVec 32 := Scalar.select v594 v595 c0_i32_499
  let v597 : BitVec 32 := Scalar.maxsi v593 v596
  let c0_i32_514 : BitVec 32 := 0#32
  let v607 : BitVec 32 := Scalar.subi v602 v597
  let c8_i32_505 : BitVec 32 := 8#32
  let v608 : BitVec 32 := Scalar.addi v607 c8_i32_505
  let c1_i32_506 : BitVec 32 := 1#32
  let v609 : BitVec 32 := Scalar.subi v608 c1_i32_506
  let c0_i32_508 : BitVec 32 := 0#32
  let v611 : BitVec 1 := Scalar.cmpi .sgt v609 c0_i32_508
  let v612 : BitVec 32 := Scalar.extui v611
  let c0_i32_509 : BitVec 32 := 0#32
  let v613 : BitVec 1 := Scalar.cmpi .slt v609 c0_i32_509
  let v614 : BitVec 32 := Scalar.extui v613
  let v615 : BitVec 32 := Scalar.subi v612 v614
  let c8_i32_507 : BitVec 32 := 8#32
  let c0_i32_510 : BitVec 32 := 0#32
  let v616 : BitVec 1 := Scalar.cmpi .sgt c8_i32_507 c0_i32_510
  let v617 : BitVec 32 := Scalar.extui v616
  let c0_i32_511 : BitVec 32 := 0#32
  let v618 : BitVec 1 := Scalar.cmpi .slt c8_i32_507 c0_i32_511
  let v619 : BitVec 32 := Scalar.extui v618
  let v620 : BitVec 32 := Scalar.subi v617 v619
  let v621 : BitVec 1 := Scalar.cmpi .ne v615 v620
  let v622 : BitVec 32 := Scalar.remsi v609 c8_i32_507
  let c0_i32_512 : BitVec 32 := 0#32
  let v623 : BitVec 1 := Scalar.cmpi .ne v622 c0_i32_512
  let v624 : BitVec 1 := Scalar.andi v621 v623
  let v610 : BitVec 32 := Scalar.divsi v609 c8_i32_507
  let c1_i32_513 : BitVec 32 := 1#32
  let v625 : BitVec 32 := Scalar.subi v610 c1_i32_513
  let v626 : BitVec 32 := Scalar.select v624 v625 v610
  let v627 : BitVec 32 := Scalar.subi v626 c0_i32_514
  let c1_i32_515 : BitVec 32 := 1#32
  let v629 : BitVec 32 := Scalar.divsi v627 c1_i32_515
  let v630 : BitVec 32 := Scalar.muli v629 c1_i32_515
  let v631 : BitVec 32 := Scalar.addi c0_i32_514 v630
  let c1_i32_517 : BitVec 32 := 1#32
  let arg21 : BitVec 32 := Scf.iv v631 c1_i32_517 k0_t20
  let c8_i32_527 : BitVec 32 := 8#32
  let v641 : BitVec 32 := Scalar.muli arg21 c8_i32_527
  let v642 : BitVec 32 := Scalar.addi v597 v641
  let c3_i32_592 : BitVec 32 := 3#32
  let v796 : BitVec 32 := Scalar.addi v642 c3_i32_592
  let v797 : Index := Scalar.indexCast v796
  ![v797.toNat]
def k0_off570 (v798 : BitVec 32) : Fin 2 → Nat :=
  let c65535_i32_593 : BitVec 32 := 65535#32
  let v799 : BitVec 32 := Scalar.andi v798 c65535_i32_593
  let c0_i32_596 : BitVec 32 := 0#32
  let v805 : BitVec 32 := Scalar.addi v799 c0_i32_596
  let v807 : Index := Scalar.indexCast v805
  let c0_597 : Index := 0#32
  ![v807.toNat, 0]

def k0_off571 (v49_0 : BitVec 32) (k0_t4 : Fin k0_t4_loop.trips) (k0_t18 : Fin (k0_t18_loop v49_0).trips) (v803 : BitVec 32) (c0_i32_600 : BitVec 32) : Fin 2 → Nat :=
  let c0_i32_379 : BitVec 32 := 0#32
  let c1_i32_381 : BitVec 32 := 1#32
  let arg18 : BitVec 32 := Scf.iv c0_i32_379 c1_i32_381 k0_t4
  let c64_i32 : BitVec 32 := 64#32
  let v50 : BitVec 32 := Scalar.addi v49_0 c64_i32
  let c1_i32_52 : BitVec 32 := 1#32
  let v51 : BitVec 32 := Scalar.subi v50 c1_i32_52
  let c0_i32_54 : BitVec 32 := 0#32
  let v53 : BitVec 1 := Scalar.cmpi .sgt v51 c0_i32_54
  let v54 : BitVec 32 := Scalar.extui v53
  let c0_i32_55 : BitVec 32 := 0#32
  let v55 : BitVec 1 := Scalar.cmpi .slt v51 c0_i32_55
  let v56 : BitVec 32 := Scalar.extui v55
  let v57 : BitVec 32 := Scalar.subi v54 v56
  let c64_i32_53 : BitVec 32 := 64#32
  let c0_i32_56 : BitVec 32 := 0#32
  let v58 : BitVec 1 := Scalar.cmpi .sgt c64_i32_53 c0_i32_56
  let v59 : BitVec 32 := Scalar.extui v58
  let c0_i32_57 : BitVec 32 := 0#32
  let v60 : BitVec 1 := Scalar.cmpi .slt c64_i32_53 c0_i32_57
  let v61 : BitVec 32 := Scalar.extui v60
  let v62 : BitVec 32 := Scalar.subi v59 v61
  let v63 : BitVec 1 := Scalar.cmpi .ne v57 v62
  let v64 : BitVec 32 := Scalar.remsi v51 c64_i32_53
  let c0_i32_58 : BitVec 32 := 0#32
  let v65 : BitVec 1 := Scalar.cmpi .ne v64 c0_i32_58
  let v66 : BitVec 1 := Scalar.andi v63 v65
  let v52 : BitVec 32 := Scalar.divsi v51 c64_i32_53
  let c1_i32_59 : BitVec 32 := 1#32
  let v67 : BitVec 32 := Scalar.subi v52 c1_i32_59
  let v68 : BitVec 32 := Scalar.select v66 v67 v52
  let v580 : BitVec 32 := Scalar.muli arg18 v68
  let c0_i32_485 : BitVec 32 := 0#32
  let v573 : BitVec 32 := Scalar.subi v68 c0_i32_485
  let c1_i32_487 : BitVec 32 := 1#32
  let v575 : BitVec 32 := Scalar.divsi v573 c1_i32_487
  let v576 : BitVec 32 := Scalar.muli v575 c1_i32_487
  let v577 : BitVec 32 := Scalar.addi c0_i32_485 v576
  let c1_i32_489 : BitVec 32 := 1#32
  let arg19 : BitVec 32 := Scf.iv v577 c1_i32_489 k0_t18
  let v581 : BitVec 32 := Scalar.addi v580 arg19
  let c4_i32_490 : BitVec 32 := 4#32
  let v582 : BitVec 32 := Scalar.remsi v581 c4_i32_490
  let c1728_i32 : BitVec 32 := 1728#32
  let v603 : BitVec 32 := Scalar.muli v582 c1728_i32
  let c1536_i32_503 : BitVec 32 := 1536#32
  let v604 : BitVec 32 := Scalar.muli arg19 c1536_i32_503
  let v605 : BitVec 32 := Scalar.subi v603 v604
  let v804 : BitVec 32 := Scalar.addi v803 v605
  let v813 : BitVec 32 := Scalar.addi v804 c0_i32_600
  let v815 : Index := Scalar.indexCast v813
  let c0_601 : Index := 0#32
  ![v815.toNat, 0]

def k0_chk60 (v49_0 : BitVec 32) (k0_t4 : Fin k0_t4_loop.trips) (k0_t18 : Fin (k0_t18_loop v49_0).trips) (v803 : BitVec 32) : Prop :=
  (∀ (r : Fin 3), ∀ a, S8x128.size a = 0 ∨ (k0_off571 v49_0 k0_t4 k0_t18 v803 (BitVec.ofNat 32 (64 * r.val))) a + (![8, 1] : Fin 2 → Nat) a * (S8x128.size a - 1) < S6912x128.size a)
theorem k0_off571_inb : ∀ (v49_0 : BitVec 32) (k0_t4 : Fin k0_t4_loop.trips) (k0_t18 : Fin (k0_t18_loop v49_0).trips) (v803 : BitVec 32) (k0_hw60 : k0_chk60 v49_0 k0_t4 k0_t18 v803), ∀ (r : Fin 3), ∀ a, S8x128.size a = 0 ∨ (k0_off571 v49_0 k0_t4 k0_t18 v803 (BitVec.ofNat 32 (64 * r.val))) a + (![8, 1] : Fin 2 → Nat) a * (S8x128.size a - 1) < S6912x128.size a := fun v49_0 k0_t4 k0_t18 v803 k0_hw60 r => k0_hw60 r

def k0_off572 (v798 : BitVec 32) (c64_i32_602 : BitVec 32) : Fin 2 → Nat :=
  let c65535_i32_593 : BitVec 32 := 65535#32
  let v799 : BitVec 32 := Scalar.andi v798 c65535_i32_593
  let v819 : BitVec 32 := Scalar.addi v799 c64_i32_602
  let v821 : Index := Scalar.indexCast v819
  let c0_603 : Index := 0#32
  ![v821.toNat, 0]

def k0_chk59 (v798 : BitVec 32) : Prop :=
  (∀ a, S8x128.size a = 0 ∨ (k0_off570 v798) a + (![8, 1] : Fin 2 → Nat) a * (S8x128.size a - 1) < S49152x128.size a) ∧
  (∀ (r : Fin 2), ∀ a, S8x128.size a = 0 ∨ (k0_off572 v798 (BitVec.ofNat 32 (64 + 64 * r.val))) a + (![8, 1] : Fin 2 → Nat) a * (S8x128.size a - 1) < S49152x128.size a)
theorem k0_off570_inb : ∀ (v798 : BitVec 32) (k0_hw59 : k0_chk59 v798), ∀ a, S8x128.size a = 0 ∨ (k0_off570 v798) a + (![8, 1] : Fin 2 → Nat) a * (S8x128.size a - 1) < S49152x128.size a := fun v798 k0_hw59 => k0_hw59.1
theorem k0_off572_inb : ∀ (v798 : BitVec 32) (k0_hw59 : k0_chk59 v798), ∀ (r : Fin 2), ∀ a, S8x128.size a = 0 ∨ (k0_off572 v798 (BitVec.ofNat 32 (64 + 64 * r.val))) a + (![8, 1] : Fin 2 → Nat) a * (S8x128.size a - 1) < S49152x128.size a := fun v798 k0_hw59 r => k0_hw59.2 r

def k0_off573 (v49_0 : BitVec 32) (v370 : BitVec 32) (k0_t18 : Fin (k0_t18_loop v49_0).trips) (v593 : BitVec 32) (v602 : BitVec 32) (k0_t20 : Fin (k0_t20_loop v49_0 v370 k0_t18 v593 v602).trips) : Fin 1 → Nat :=
  let c0_i32_485 : BitVec 32 := 0#32
  let c64_i32 : BitVec 32 := 64#32
  let v50 : BitVec 32 := Scalar.addi v49_0 c64_i32
  let c1_i32_52 : BitVec 32 := 1#32
  let v51 : BitVec 32 := Scalar.subi v50 c1_i32_52
  let c0_i32_54 : BitVec 32 := 0#32
  let v53 : BitVec 1 := Scalar.cmpi .sgt v51 c0_i32_54
  let v54 : BitVec 32 := Scalar.extui v53
  let c0_i32_55 : BitVec 32 := 0#32
  let v55 : BitVec 1 := Scalar.cmpi .slt v51 c0_i32_55
  let v56 : BitVec 32 := Scalar.extui v55
  let v57 : BitVec 32 := Scalar.subi v54 v56
  let c64_i32_53 : BitVec 32 := 64#32
  let c0_i32_56 : BitVec 32 := 0#32
  let v58 : BitVec 1 := Scalar.cmpi .sgt c64_i32_53 c0_i32_56
  let v59 : BitVec 32 := Scalar.extui v58
  let c0_i32_57 : BitVec 32 := 0#32
  let v60 : BitVec 1 := Scalar.cmpi .slt c64_i32_53 c0_i32_57
  let v61 : BitVec 32 := Scalar.extui v60
  let v62 : BitVec 32 := Scalar.subi v59 v61
  let v63 : BitVec 1 := Scalar.cmpi .ne v57 v62
  let v64 : BitVec 32 := Scalar.remsi v51 c64_i32_53
  let c0_i32_58 : BitVec 32 := 0#32
  let v65 : BitVec 1 := Scalar.cmpi .ne v64 c0_i32_58
  let v66 : BitVec 1 := Scalar.andi v63 v65
  let v52 : BitVec 32 := Scalar.divsi v51 c64_i32_53
  let c1_i32_59 : BitVec 32 := 1#32
  let v67 : BitVec 32 := Scalar.subi v52 c1_i32_59
  let v68 : BitVec 32 := Scalar.select v66 v67 v52
  let v573 : BitVec 32 := Scalar.subi v68 c0_i32_485
  let c1_i32_487 : BitVec 32 := 1#32
  let v575 : BitVec 32 := Scalar.divsi v573 c1_i32_487
  let v576 : BitVec 32 := Scalar.muli v575 c1_i32_487
  let v577 : BitVec 32 := Scalar.addi c0_i32_485 v576
  let c1_i32_489 : BitVec 32 := 1#32
  let arg19 : BitVec 32 := Scf.iv v577 c1_i32_489 k0_t18
  let c0_i32_497 : BitVec 32 := 0#32
  let v594 : BitVec 1 := Scalar.cmpi .eq arg19 c0_i32_497
  let c1_i32_498 : BitVec 32 := 1#32
  let v595 : BitVec 32 := Scalar.subi v370 c1_i32_498
  let c0_i32_499 : BitVec 32 := 0#32
  let v596 : BitVec 32 := Scalar.select v594 v595 c0_i32_499
  let v597 : BitVec 32 := Scalar.maxsi v593 v596
  let c0_i32_514 : BitVec 32 := 0#32
  let v607 : BitVec 32 := Scalar.subi v602 v597
  let c8_i32_505 : BitVec 32 := 8#32
  let v608 : BitVec 32 := Scalar.addi v607 c8_i32_505
  let c1_i32_506 : BitVec 32 := 1#32
  let v609 : BitVec 32 := Scalar.subi v608 c1_i32_506
  let c0_i32_508 : BitVec 32 := 0#32
  let v611 : BitVec 1 := Scalar.cmpi .sgt v609 c0_i32_508
  let v612 : BitVec 32 := Scalar.extui v611
  let c0_i32_509 : BitVec 32 := 0#32
  let v613 : BitVec 1 := Scalar.cmpi .slt v609 c0_i32_509
  let v614 : BitVec 32 := Scalar.extui v613
  let v615 : BitVec 32 := Scalar.subi v612 v614
  let c8_i32_507 : BitVec 32 := 8#32
  let c0_i32_510 : BitVec 32 := 0#32
  let v616 : BitVec 1 := Scalar.cmpi .sgt c8_i32_507 c0_i32_510
  let v617 : BitVec 32 := Scalar.extui v616
  let c0_i32_511 : BitVec 32 := 0#32
  let v618 : BitVec 1 := Scalar.cmpi .slt c8_i32_507 c0_i32_511
  let v619 : BitVec 32 := Scalar.extui v618
  let v620 : BitVec 32 := Scalar.subi v617 v619
  let v621 : BitVec 1 := Scalar.cmpi .ne v615 v620
  let v622 : BitVec 32 := Scalar.remsi v609 c8_i32_507
  let c0_i32_512 : BitVec 32 := 0#32
  let v623 : BitVec 1 := Scalar.cmpi .ne v622 c0_i32_512
  let v624 : BitVec 1 := Scalar.andi v621 v623
  let v610 : BitVec 32 := Scalar.divsi v609 c8_i32_507
  let c1_i32_513 : BitVec 32 := 1#32
  let v625 : BitVec 32 := Scalar.subi v610 c1_i32_513
  let v626 : BitVec 32 := Scalar.select v624 v625 v610
  let v627 : BitVec 32 := Scalar.subi v626 c0_i32_514
  let c1_i32_515 : BitVec 32 := 1#32
  let v629 : BitVec 32 := Scalar.divsi v627 c1_i32_515
  let v630 : BitVec 32 := Scalar.muli v629 c1_i32_515
  let v631 : BitVec 32 := Scalar.addi c0_i32_514 v630
  let c1_i32_517 : BitVec 32 := 1#32
  let arg21 : BitVec 32 := Scf.iv v631 c1_i32_517 k0_t20
  let c8_i32_527 : BitVec 32 := 8#32
  let v641 : BitVec 32 := Scalar.muli arg21 c8_i32_527
  let v642 : BitVec 32 := Scalar.addi v597 v641
  let c4_i32_614 : BitVec 32 := 4#32
  let v847 : BitVec 32 := Scalar.addi v642 c4_i32_614
  let v848 : Index := Scalar.indexCast v847
  ![v848.toNat]
def k0_off574 (v849 : BitVec 32) : Fin 2 → Nat :=
  let c65535_i32_615 : BitVec 32 := 65535#32
  let v850 : BitVec 32 := Scalar.andi v849 c65535_i32_615
  let c0_i32_618 : BitVec 32 := 0#32
  let v856 : BitVec 32 := Scalar.addi v850 c0_i32_618
  let v858 : Index := Scalar.indexCast v856
  let c0_619 : Index := 0#32
  ![v858.toNat, 0]

def k0_off575 (v49_0 : BitVec 32) (k0_t4 : Fin k0_t4_loop.trips) (k0_t18 : Fin (k0_t18_loop v49_0).trips) (v854 : BitVec 32) (c0_i32_622 : BitVec 32) : Fin 2 → Nat :=
  let c0_i32_379 : BitVec 32 := 0#32
  let c1_i32_381 : BitVec 32 := 1#32
  let arg18 : BitVec 32 := Scf.iv c0_i32_379 c1_i32_381 k0_t4
  let c64_i32 : BitVec 32 := 64#32
  let v50 : BitVec 32 := Scalar.addi v49_0 c64_i32
  let c1_i32_52 : BitVec 32 := 1#32
  let v51 : BitVec 32 := Scalar.subi v50 c1_i32_52
  let c0_i32_54 : BitVec 32 := 0#32
  let v53 : BitVec 1 := Scalar.cmpi .sgt v51 c0_i32_54
  let v54 : BitVec 32 := Scalar.extui v53
  let c0_i32_55 : BitVec 32 := 0#32
  let v55 : BitVec 1 := Scalar.cmpi .slt v51 c0_i32_55
  let v56 : BitVec 32 := Scalar.extui v55
  let v57 : BitVec 32 := Scalar.subi v54 v56
  let c64_i32_53 : BitVec 32 := 64#32
  let c0_i32_56 : BitVec 32 := 0#32
  let v58 : BitVec 1 := Scalar.cmpi .sgt c64_i32_53 c0_i32_56
  let v59 : BitVec 32 := Scalar.extui v58
  let c0_i32_57 : BitVec 32 := 0#32
  let v60 : BitVec 1 := Scalar.cmpi .slt c64_i32_53 c0_i32_57
  let v61 : BitVec 32 := Scalar.extui v60
  let v62 : BitVec 32 := Scalar.subi v59 v61
  let v63 : BitVec 1 := Scalar.cmpi .ne v57 v62
  let v64 : BitVec 32 := Scalar.remsi v51 c64_i32_53
  let c0_i32_58 : BitVec 32 := 0#32
  let v65 : BitVec 1 := Scalar.cmpi .ne v64 c0_i32_58
  let v66 : BitVec 1 := Scalar.andi v63 v65
  let v52 : BitVec 32 := Scalar.divsi v51 c64_i32_53
  let c1_i32_59 : BitVec 32 := 1#32
  let v67 : BitVec 32 := Scalar.subi v52 c1_i32_59
  let v68 : BitVec 32 := Scalar.select v66 v67 v52
  let v580 : BitVec 32 := Scalar.muli arg18 v68
  let c0_i32_485 : BitVec 32 := 0#32
  let v573 : BitVec 32 := Scalar.subi v68 c0_i32_485
  let c1_i32_487 : BitVec 32 := 1#32
  let v575 : BitVec 32 := Scalar.divsi v573 c1_i32_487
  let v576 : BitVec 32 := Scalar.muli v575 c1_i32_487
  let v577 : BitVec 32 := Scalar.addi c0_i32_485 v576
  let c1_i32_489 : BitVec 32 := 1#32
  let arg19 : BitVec 32 := Scf.iv v577 c1_i32_489 k0_t18
  let v581 : BitVec 32 := Scalar.addi v580 arg19
  let c4_i32_490 : BitVec 32 := 4#32
  let v582 : BitVec 32 := Scalar.remsi v581 c4_i32_490
  let c1728_i32 : BitVec 32 := 1728#32
  let v603 : BitVec 32 := Scalar.muli v582 c1728_i32
  let c1536_i32_503 : BitVec 32 := 1536#32
  let v604 : BitVec 32 := Scalar.muli arg19 c1536_i32_503
  let v605 : BitVec 32 := Scalar.subi v603 v604
  let v855 : BitVec 32 := Scalar.addi v854 v605
  let v864 : BitVec 32 := Scalar.addi v855 c0_i32_622
  let v866 : Index := Scalar.indexCast v864
  let c0_623 : Index := 0#32
  ![v866.toNat, 0]

def k0_chk62 (v49_0 : BitVec 32) (k0_t4 : Fin k0_t4_loop.trips) (k0_t18 : Fin (k0_t18_loop v49_0).trips) (v854 : BitVec 32) : Prop :=
  (∀ (r : Fin 3), ∀ a, S8x128.size a = 0 ∨ (k0_off575 v49_0 k0_t4 k0_t18 v854 (BitVec.ofNat 32 (64 * r.val))) a + (![8, 1] : Fin 2 → Nat) a * (S8x128.size a - 1) < S6912x128.size a)
theorem k0_off575_inb : ∀ (v49_0 : BitVec 32) (k0_t4 : Fin k0_t4_loop.trips) (k0_t18 : Fin (k0_t18_loop v49_0).trips) (v854 : BitVec 32) (k0_hw62 : k0_chk62 v49_0 k0_t4 k0_t18 v854), ∀ (r : Fin 3), ∀ a, S8x128.size a = 0 ∨ (k0_off575 v49_0 k0_t4 k0_t18 v854 (BitVec.ofNat 32 (64 * r.val))) a + (![8, 1] : Fin 2 → Nat) a * (S8x128.size a - 1) < S6912x128.size a := fun v49_0 k0_t4 k0_t18 v854 k0_hw62 r => k0_hw62 r

def k0_off576 (v849 : BitVec 32) (c64_i32_624 : BitVec 32) : Fin 2 → Nat :=
  let c65535_i32_615 : BitVec 32 := 65535#32
  let v850 : BitVec 32 := Scalar.andi v849 c65535_i32_615
  let v870 : BitVec 32 := Scalar.addi v850 c64_i32_624
  let v872 : Index := Scalar.indexCast v870
  let c0_625 : Index := 0#32
  ![v872.toNat, 0]

def k0_chk61 (v849 : BitVec 32) : Prop :=
  (∀ a, S8x128.size a = 0 ∨ (k0_off574 v849) a + (![8, 1] : Fin 2 → Nat) a * (S8x128.size a - 1) < S49152x128.size a) ∧
  (∀ (r : Fin 2), ∀ a, S8x128.size a = 0 ∨ (k0_off576 v849 (BitVec.ofNat 32 (64 + 64 * r.val))) a + (![8, 1] : Fin 2 → Nat) a * (S8x128.size a - 1) < S49152x128.size a)
theorem k0_off574_inb : ∀ (v849 : BitVec 32) (k0_hw61 : k0_chk61 v849), ∀ a, S8x128.size a = 0 ∨ (k0_off574 v849) a + (![8, 1] : Fin 2 → Nat) a * (S8x128.size a - 1) < S49152x128.size a := fun v849 k0_hw61 => k0_hw61.1
theorem k0_off576_inb : ∀ (v849 : BitVec 32) (k0_hw61 : k0_chk61 v849), ∀ (r : Fin 2), ∀ a, S8x128.size a = 0 ∨ (k0_off576 v849 (BitVec.ofNat 32 (64 + 64 * r.val))) a + (![8, 1] : Fin 2 → Nat) a * (S8x128.size a - 1) < S49152x128.size a := fun v849 k0_hw61 r => k0_hw61.2 r

def k0_off577 (v49_0 : BitVec 32) (v370 : BitVec 32) (k0_t18 : Fin (k0_t18_loop v49_0).trips) (v593 : BitVec 32) (v602 : BitVec 32) (k0_t20 : Fin (k0_t20_loop v49_0 v370 k0_t18 v593 v602).trips) : Fin 1 → Nat :=
  let c0_i32_485 : BitVec 32 := 0#32
  let c64_i32 : BitVec 32 := 64#32
  let v50 : BitVec 32 := Scalar.addi v49_0 c64_i32
  let c1_i32_52 : BitVec 32 := 1#32
  let v51 : BitVec 32 := Scalar.subi v50 c1_i32_52
  let c0_i32_54 : BitVec 32 := 0#32
  let v53 : BitVec 1 := Scalar.cmpi .sgt v51 c0_i32_54
  let v54 : BitVec 32 := Scalar.extui v53
  let c0_i32_55 : BitVec 32 := 0#32
  let v55 : BitVec 1 := Scalar.cmpi .slt v51 c0_i32_55
  let v56 : BitVec 32 := Scalar.extui v55
  let v57 : BitVec 32 := Scalar.subi v54 v56
  let c64_i32_53 : BitVec 32 := 64#32
  let c0_i32_56 : BitVec 32 := 0#32
  let v58 : BitVec 1 := Scalar.cmpi .sgt c64_i32_53 c0_i32_56
  let v59 : BitVec 32 := Scalar.extui v58
  let c0_i32_57 : BitVec 32 := 0#32
  let v60 : BitVec 1 := Scalar.cmpi .slt c64_i32_53 c0_i32_57
  let v61 : BitVec 32 := Scalar.extui v60
  let v62 : BitVec 32 := Scalar.subi v59 v61
  let v63 : BitVec 1 := Scalar.cmpi .ne v57 v62
  let v64 : BitVec 32 := Scalar.remsi v51 c64_i32_53
  let c0_i32_58 : BitVec 32 := 0#32
  let v65 : BitVec 1 := Scalar.cmpi .ne v64 c0_i32_58
  let v66 : BitVec 1 := Scalar.andi v63 v65
  let v52 : BitVec 32 := Scalar.divsi v51 c64_i32_53
  let c1_i32_59 : BitVec 32 := 1#32
  let v67 : BitVec 32 := Scalar.subi v52 c1_i32_59
  let v68 : BitVec 32 := Scalar.select v66 v67 v52
  let v573 : BitVec 32 := Scalar.subi v68 c0_i32_485
  let c1_i32_487 : BitVec 32 := 1#32
  let v575 : BitVec 32 := Scalar.divsi v573 c1_i32_487
  let v576 : BitVec 32 := Scalar.muli v575 c1_i32_487
  let v577 : BitVec 32 := Scalar.addi c0_i32_485 v576
  let c1_i32_489 : BitVec 32 := 1#32
  let arg19 : BitVec 32 := Scf.iv v577 c1_i32_489 k0_t18
  let c0_i32_497 : BitVec 32 := 0#32
  let v594 : BitVec 1 := Scalar.cmpi .eq arg19 c0_i32_497
  let c1_i32_498 : BitVec 32 := 1#32
  let v595 : BitVec 32 := Scalar.subi v370 c1_i32_498
  let c0_i32_499 : BitVec 32 := 0#32
  let v596 : BitVec 32 := Scalar.select v594 v595 c0_i32_499
  let v597 : BitVec 32 := Scalar.maxsi v593 v596
  let c0_i32_514 : BitVec 32 := 0#32
  let v607 : BitVec 32 := Scalar.subi v602 v597
  let c8_i32_505 : BitVec 32 := 8#32
  let v608 : BitVec 32 := Scalar.addi v607 c8_i32_505
  let c1_i32_506 : BitVec 32 := 1#32
  let v609 : BitVec 32 := Scalar.subi v608 c1_i32_506
  let c0_i32_508 : BitVec 32 := 0#32
  let v611 : BitVec 1 := Scalar.cmpi .sgt v609 c0_i32_508
  let v612 : BitVec 32 := Scalar.extui v611
  let c0_i32_509 : BitVec 32 := 0#32
  let v613 : BitVec 1 := Scalar.cmpi .slt v609 c0_i32_509
  let v614 : BitVec 32 := Scalar.extui v613
  let v615 : BitVec 32 := Scalar.subi v612 v614
  let c8_i32_507 : BitVec 32 := 8#32
  let c0_i32_510 : BitVec 32 := 0#32
  let v616 : BitVec 1 := Scalar.cmpi .sgt c8_i32_507 c0_i32_510
  let v617 : BitVec 32 := Scalar.extui v616
  let c0_i32_511 : BitVec 32 := 0#32
  let v618 : BitVec 1 := Scalar.cmpi .slt c8_i32_507 c0_i32_511
  let v619 : BitVec 32 := Scalar.extui v618
  let v620 : BitVec 32 := Scalar.subi v617 v619
  let v621 : BitVec 1 := Scalar.cmpi .ne v615 v620
  let v622 : BitVec 32 := Scalar.remsi v609 c8_i32_507
  let c0_i32_512 : BitVec 32 := 0#32
  let v623 : BitVec 1 := Scalar.cmpi .ne v622 c0_i32_512
  let v624 : BitVec 1 := Scalar.andi v621 v623
  let v610 : BitVec 32 := Scalar.divsi v609 c8_i32_507
  let c1_i32_513 : BitVec 32 := 1#32
  let v625 : BitVec 32 := Scalar.subi v610 c1_i32_513
  let v626 : BitVec 32 := Scalar.select v624 v625 v610
  let v627 : BitVec 32 := Scalar.subi v626 c0_i32_514
  let c1_i32_515 : BitVec 32 := 1#32
  let v629 : BitVec 32 := Scalar.divsi v627 c1_i32_515
  let v630 : BitVec 32 := Scalar.muli v629 c1_i32_515
  let v631 : BitVec 32 := Scalar.addi c0_i32_514 v630
  let c1_i32_517 : BitVec 32 := 1#32
  let arg21 : BitVec 32 := Scf.iv v631 c1_i32_517 k0_t20
  let c8_i32_527 : BitVec 32 := 8#32
  let v641 : BitVec 32 := Scalar.muli arg21 c8_i32_527
  let v642 : BitVec 32 := Scalar.addi v597 v641
  let c5_i32_636 : BitVec 32 := 5#32
  let v898 : BitVec 32 := Scalar.addi v642 c5_i32_636
  let v899 : Index := Scalar.indexCast v898
  ![v899.toNat]
def k0_off578 (v900 : BitVec 32) : Fin 2 → Nat :=
  let c65535_i32_637 : BitVec 32 := 65535#32
  let v901 : BitVec 32 := Scalar.andi v900 c65535_i32_637
  let c0_i32_640 : BitVec 32 := 0#32
  let v907 : BitVec 32 := Scalar.addi v901 c0_i32_640
  let v909 : Index := Scalar.indexCast v907
  let c0_641 : Index := 0#32
  ![v909.toNat, 0]

def k0_off579 (v49_0 : BitVec 32) (k0_t4 : Fin k0_t4_loop.trips) (k0_t18 : Fin (k0_t18_loop v49_0).trips) (v905 : BitVec 32) (c0_i32_644 : BitVec 32) : Fin 2 → Nat :=
  let c0_i32_379 : BitVec 32 := 0#32
  let c1_i32_381 : BitVec 32 := 1#32
  let arg18 : BitVec 32 := Scf.iv c0_i32_379 c1_i32_381 k0_t4
  let c64_i32 : BitVec 32 := 64#32
  let v50 : BitVec 32 := Scalar.addi v49_0 c64_i32
  let c1_i32_52 : BitVec 32 := 1#32
  let v51 : BitVec 32 := Scalar.subi v50 c1_i32_52
  let c0_i32_54 : BitVec 32 := 0#32
  let v53 : BitVec 1 := Scalar.cmpi .sgt v51 c0_i32_54
  let v54 : BitVec 32 := Scalar.extui v53
  let c0_i32_55 : BitVec 32 := 0#32
  let v55 : BitVec 1 := Scalar.cmpi .slt v51 c0_i32_55
  let v56 : BitVec 32 := Scalar.extui v55
  let v57 : BitVec 32 := Scalar.subi v54 v56
  let c64_i32_53 : BitVec 32 := 64#32
  let c0_i32_56 : BitVec 32 := 0#32
  let v58 : BitVec 1 := Scalar.cmpi .sgt c64_i32_53 c0_i32_56
  let v59 : BitVec 32 := Scalar.extui v58
  let c0_i32_57 : BitVec 32 := 0#32
  let v60 : BitVec 1 := Scalar.cmpi .slt c64_i32_53 c0_i32_57
  let v61 : BitVec 32 := Scalar.extui v60
  let v62 : BitVec 32 := Scalar.subi v59 v61
  let v63 : BitVec 1 := Scalar.cmpi .ne v57 v62
  let v64 : BitVec 32 := Scalar.remsi v51 c64_i32_53
  let c0_i32_58 : BitVec 32 := 0#32
  let v65 : BitVec 1 := Scalar.cmpi .ne v64 c0_i32_58
  let v66 : BitVec 1 := Scalar.andi v63 v65
  let v52 : BitVec 32 := Scalar.divsi v51 c64_i32_53
  let c1_i32_59 : BitVec 32 := 1#32
  let v67 : BitVec 32 := Scalar.subi v52 c1_i32_59
  let v68 : BitVec 32 := Scalar.select v66 v67 v52
  let v580 : BitVec 32 := Scalar.muli arg18 v68
  let c0_i32_485 : BitVec 32 := 0#32
  let v573 : BitVec 32 := Scalar.subi v68 c0_i32_485
  let c1_i32_487 : BitVec 32 := 1#32
  let v575 : BitVec 32 := Scalar.divsi v573 c1_i32_487
  let v576 : BitVec 32 := Scalar.muli v575 c1_i32_487
  let v577 : BitVec 32 := Scalar.addi c0_i32_485 v576
  let c1_i32_489 : BitVec 32 := 1#32
  let arg19 : BitVec 32 := Scf.iv v577 c1_i32_489 k0_t18
  let v581 : BitVec 32 := Scalar.addi v580 arg19
  let c4_i32_490 : BitVec 32 := 4#32
  let v582 : BitVec 32 := Scalar.remsi v581 c4_i32_490
  let c1728_i32 : BitVec 32 := 1728#32
  let v603 : BitVec 32 := Scalar.muli v582 c1728_i32
  let c1536_i32_503 : BitVec 32 := 1536#32
  let v604 : BitVec 32 := Scalar.muli arg19 c1536_i32_503
  let v605 : BitVec 32 := Scalar.subi v603 v604
  let v906 : BitVec 32 := Scalar.addi v905 v605
  let v915 : BitVec 32 := Scalar.addi v906 c0_i32_644
  let v917 : Index := Scalar.indexCast v915
  let c0_645 : Index := 0#32
  ![v917.toNat, 0]

def k0_chk64 (v49_0 : BitVec 32) (k0_t4 : Fin k0_t4_loop.trips) (k0_t18 : Fin (k0_t18_loop v49_0).trips) (v905 : BitVec 32) : Prop :=
  (∀ (r : Fin 3), ∀ a, S8x128.size a = 0 ∨ (k0_off579 v49_0 k0_t4 k0_t18 v905 (BitVec.ofNat 32 (64 * r.val))) a + (![8, 1] : Fin 2 → Nat) a * (S8x128.size a - 1) < S6912x128.size a)
theorem k0_off579_inb : ∀ (v49_0 : BitVec 32) (k0_t4 : Fin k0_t4_loop.trips) (k0_t18 : Fin (k0_t18_loop v49_0).trips) (v905 : BitVec 32) (k0_hw64 : k0_chk64 v49_0 k0_t4 k0_t18 v905), ∀ (r : Fin 3), ∀ a, S8x128.size a = 0 ∨ (k0_off579 v49_0 k0_t4 k0_t18 v905 (BitVec.ofNat 32 (64 * r.val))) a + (![8, 1] : Fin 2 → Nat) a * (S8x128.size a - 1) < S6912x128.size a := fun v49_0 k0_t4 k0_t18 v905 k0_hw64 r => k0_hw64 r

def k0_off580 (v900 : BitVec 32) (c64_i32_646 : BitVec 32) : Fin 2 → Nat :=
  let c65535_i32_637 : BitVec 32 := 65535#32
  let v901 : BitVec 32 := Scalar.andi v900 c65535_i32_637
  let v921 : BitVec 32 := Scalar.addi v901 c64_i32_646
  let v923 : Index := Scalar.indexCast v921
  let c0_647 : Index := 0#32
  ![v923.toNat, 0]

def k0_chk63 (v900 : BitVec 32) : Prop :=
  (∀ a, S8x128.size a = 0 ∨ (k0_off578 v900) a + (![8, 1] : Fin 2 → Nat) a * (S8x128.size a - 1) < S49152x128.size a) ∧
  (∀ (r : Fin 2), ∀ a, S8x128.size a = 0 ∨ (k0_off580 v900 (BitVec.ofNat 32 (64 + 64 * r.val))) a + (![8, 1] : Fin 2 → Nat) a * (S8x128.size a - 1) < S49152x128.size a)
theorem k0_off578_inb : ∀ (v900 : BitVec 32) (k0_hw63 : k0_chk63 v900), ∀ a, S8x128.size a = 0 ∨ (k0_off578 v900) a + (![8, 1] : Fin 2 → Nat) a * (S8x128.size a - 1) < S49152x128.size a := fun v900 k0_hw63 => k0_hw63.1
theorem k0_off580_inb : ∀ (v900 : BitVec 32) (k0_hw63 : k0_chk63 v900), ∀ (r : Fin 2), ∀ a, S8x128.size a = 0 ∨ (k0_off580 v900 (BitVec.ofNat 32 (64 + 64 * r.val))) a + (![8, 1] : Fin 2 → Nat) a * (S8x128.size a - 1) < S49152x128.size a := fun v900 k0_hw63 r => k0_hw63.2 r

def k0_off581 (v49_0 : BitVec 32) (v370 : BitVec 32) (k0_t18 : Fin (k0_t18_loop v49_0).trips) (v593 : BitVec 32) (v602 : BitVec 32) (k0_t20 : Fin (k0_t20_loop v49_0 v370 k0_t18 v593 v602).trips) : Fin 1 → Nat :=
  let c0_i32_485 : BitVec 32 := 0#32
  let c64_i32 : BitVec 32 := 64#32
  let v50 : BitVec 32 := Scalar.addi v49_0 c64_i32
  let c1_i32_52 : BitVec 32 := 1#32
  let v51 : BitVec 32 := Scalar.subi v50 c1_i32_52
  let c0_i32_54 : BitVec 32 := 0#32
  let v53 : BitVec 1 := Scalar.cmpi .sgt v51 c0_i32_54
  let v54 : BitVec 32 := Scalar.extui v53
  let c0_i32_55 : BitVec 32 := 0#32
  let v55 : BitVec 1 := Scalar.cmpi .slt v51 c0_i32_55
  let v56 : BitVec 32 := Scalar.extui v55
  let v57 : BitVec 32 := Scalar.subi v54 v56
  let c64_i32_53 : BitVec 32 := 64#32
  let c0_i32_56 : BitVec 32 := 0#32
  let v58 : BitVec 1 := Scalar.cmpi .sgt c64_i32_53 c0_i32_56
  let v59 : BitVec 32 := Scalar.extui v58
  let c0_i32_57 : BitVec 32 := 0#32
  let v60 : BitVec 1 := Scalar.cmpi .slt c64_i32_53 c0_i32_57
  let v61 : BitVec 32 := Scalar.extui v60
  let v62 : BitVec 32 := Scalar.subi v59 v61
  let v63 : BitVec 1 := Scalar.cmpi .ne v57 v62
  let v64 : BitVec 32 := Scalar.remsi v51 c64_i32_53
  let c0_i32_58 : BitVec 32 := 0#32
  let v65 : BitVec 1 := Scalar.cmpi .ne v64 c0_i32_58
  let v66 : BitVec 1 := Scalar.andi v63 v65
  let v52 : BitVec 32 := Scalar.divsi v51 c64_i32_53
  let c1_i32_59 : BitVec 32 := 1#32
  let v67 : BitVec 32 := Scalar.subi v52 c1_i32_59
  let v68 : BitVec 32 := Scalar.select v66 v67 v52
  let v573 : BitVec 32 := Scalar.subi v68 c0_i32_485
  let c1_i32_487 : BitVec 32 := 1#32
  let v575 : BitVec 32 := Scalar.divsi v573 c1_i32_487
  let v576 : BitVec 32 := Scalar.muli v575 c1_i32_487
  let v577 : BitVec 32 := Scalar.addi c0_i32_485 v576
  let c1_i32_489 : BitVec 32 := 1#32
  let arg19 : BitVec 32 := Scf.iv v577 c1_i32_489 k0_t18
  let c0_i32_497 : BitVec 32 := 0#32
  let v594 : BitVec 1 := Scalar.cmpi .eq arg19 c0_i32_497
  let c1_i32_498 : BitVec 32 := 1#32
  let v595 : BitVec 32 := Scalar.subi v370 c1_i32_498
  let c0_i32_499 : BitVec 32 := 0#32
  let v596 : BitVec 32 := Scalar.select v594 v595 c0_i32_499
  let v597 : BitVec 32 := Scalar.maxsi v593 v596
  let c0_i32_514 : BitVec 32 := 0#32
  let v607 : BitVec 32 := Scalar.subi v602 v597
  let c8_i32_505 : BitVec 32 := 8#32
  let v608 : BitVec 32 := Scalar.addi v607 c8_i32_505
  let c1_i32_506 : BitVec 32 := 1#32
  let v609 : BitVec 32 := Scalar.subi v608 c1_i32_506
  let c0_i32_508 : BitVec 32 := 0#32
  let v611 : BitVec 1 := Scalar.cmpi .sgt v609 c0_i32_508
  let v612 : BitVec 32 := Scalar.extui v611
  let c0_i32_509 : BitVec 32 := 0#32
  let v613 : BitVec 1 := Scalar.cmpi .slt v609 c0_i32_509
  let v614 : BitVec 32 := Scalar.extui v613
  let v615 : BitVec 32 := Scalar.subi v612 v614
  let c8_i32_507 : BitVec 32 := 8#32
  let c0_i32_510 : BitVec 32 := 0#32
  let v616 : BitVec 1 := Scalar.cmpi .sgt c8_i32_507 c0_i32_510
  let v617 : BitVec 32 := Scalar.extui v616
  let c0_i32_511 : BitVec 32 := 0#32
  let v618 : BitVec 1 := Scalar.cmpi .slt c8_i32_507 c0_i32_511
  let v619 : BitVec 32 := Scalar.extui v618
  let v620 : BitVec 32 := Scalar.subi v617 v619
  let v621 : BitVec 1 := Scalar.cmpi .ne v615 v620
  let v622 : BitVec 32 := Scalar.remsi v609 c8_i32_507
  let c0_i32_512 : BitVec 32 := 0#32
  let v623 : BitVec 1 := Scalar.cmpi .ne v622 c0_i32_512
  let v624 : BitVec 1 := Scalar.andi v621 v623
  let v610 : BitVec 32 := Scalar.divsi v609 c8_i32_507
  let c1_i32_513 : BitVec 32 := 1#32
  let v625 : BitVec 32 := Scalar.subi v610 c1_i32_513
  let v626 : BitVec 32 := Scalar.select v624 v625 v610
  let v627 : BitVec 32 := Scalar.subi v626 c0_i32_514
  let c1_i32_515 : BitVec 32 := 1#32
  let v629 : BitVec 32 := Scalar.divsi v627 c1_i32_515
  let v630 : BitVec 32 := Scalar.muli v629 c1_i32_515
  let v631 : BitVec 32 := Scalar.addi c0_i32_514 v630
  let c1_i32_517 : BitVec 32 := 1#32
  let arg21 : BitVec 32 := Scf.iv v631 c1_i32_517 k0_t20
  let c8_i32_527 : BitVec 32 := 8#32
  let v641 : BitVec 32 := Scalar.muli arg21 c8_i32_527
  let v642 : BitVec 32 := Scalar.addi v597 v641
  let c6_i32_658 : BitVec 32 := 6#32
  let v949 : BitVec 32 := Scalar.addi v642 c6_i32_658
  let v950 : Index := Scalar.indexCast v949
  ![v950.toNat]
def k0_off582 (v951 : BitVec 32) : Fin 2 → Nat :=
  let c65535_i32_659 : BitVec 32 := 65535#32
  let v952 : BitVec 32 := Scalar.andi v951 c65535_i32_659
  let c0_i32_662 : BitVec 32 := 0#32
  let v958 : BitVec 32 := Scalar.addi v952 c0_i32_662
  let v960 : Index := Scalar.indexCast v958
  let c0_663 : Index := 0#32
  ![v960.toNat, 0]

def k0_off583 (v49_0 : BitVec 32) (k0_t4 : Fin k0_t4_loop.trips) (k0_t18 : Fin (k0_t18_loop v49_0).trips) (v956 : BitVec 32) (c0_i32_666 : BitVec 32) : Fin 2 → Nat :=
  let c0_i32_379 : BitVec 32 := 0#32
  let c1_i32_381 : BitVec 32 := 1#32
  let arg18 : BitVec 32 := Scf.iv c0_i32_379 c1_i32_381 k0_t4
  let c64_i32 : BitVec 32 := 64#32
  let v50 : BitVec 32 := Scalar.addi v49_0 c64_i32
  let c1_i32_52 : BitVec 32 := 1#32
  let v51 : BitVec 32 := Scalar.subi v50 c1_i32_52
  let c0_i32_54 : BitVec 32 := 0#32
  let v53 : BitVec 1 := Scalar.cmpi .sgt v51 c0_i32_54
  let v54 : BitVec 32 := Scalar.extui v53
  let c0_i32_55 : BitVec 32 := 0#32
  let v55 : BitVec 1 := Scalar.cmpi .slt v51 c0_i32_55
  let v56 : BitVec 32 := Scalar.extui v55
  let v57 : BitVec 32 := Scalar.subi v54 v56
  let c64_i32_53 : BitVec 32 := 64#32
  let c0_i32_56 : BitVec 32 := 0#32
  let v58 : BitVec 1 := Scalar.cmpi .sgt c64_i32_53 c0_i32_56
  let v59 : BitVec 32 := Scalar.extui v58
  let c0_i32_57 : BitVec 32 := 0#32
  let v60 : BitVec 1 := Scalar.cmpi .slt c64_i32_53 c0_i32_57
  let v61 : BitVec 32 := Scalar.extui v60
  let v62 : BitVec 32 := Scalar.subi v59 v61
  let v63 : BitVec 1 := Scalar.cmpi .ne v57 v62
  let v64 : BitVec 32 := Scalar.remsi v51 c64_i32_53
  let c0_i32_58 : BitVec 32 := 0#32
  let v65 : BitVec 1 := Scalar.cmpi .ne v64 c0_i32_58
  let v66 : BitVec 1 := Scalar.andi v63 v65
  let v52 : BitVec 32 := Scalar.divsi v51 c64_i32_53
  let c1_i32_59 : BitVec 32 := 1#32
  let v67 : BitVec 32 := Scalar.subi v52 c1_i32_59
  let v68 : BitVec 32 := Scalar.select v66 v67 v52
  let v580 : BitVec 32 := Scalar.muli arg18 v68
  let c0_i32_485 : BitVec 32 := 0#32
  let v573 : BitVec 32 := Scalar.subi v68 c0_i32_485
  let c1_i32_487 : BitVec 32 := 1#32
  let v575 : BitVec 32 := Scalar.divsi v573 c1_i32_487
  let v576 : BitVec 32 := Scalar.muli v575 c1_i32_487
  let v577 : BitVec 32 := Scalar.addi c0_i32_485 v576
  let c1_i32_489 : BitVec 32 := 1#32
  let arg19 : BitVec 32 := Scf.iv v577 c1_i32_489 k0_t18
  let v581 : BitVec 32 := Scalar.addi v580 arg19
  let c4_i32_490 : BitVec 32 := 4#32
  let v582 : BitVec 32 := Scalar.remsi v581 c4_i32_490
  let c1728_i32 : BitVec 32 := 1728#32
  let v603 : BitVec 32 := Scalar.muli v582 c1728_i32
  let c1536_i32_503 : BitVec 32 := 1536#32
  let v604 : BitVec 32 := Scalar.muli arg19 c1536_i32_503
  let v605 : BitVec 32 := Scalar.subi v603 v604
  let v957 : BitVec 32 := Scalar.addi v956 v605
  let v966 : BitVec 32 := Scalar.addi v957 c0_i32_666
  let v968 : Index := Scalar.indexCast v966
  let c0_667 : Index := 0#32
  ![v968.toNat, 0]

def k0_chk66 (v49_0 : BitVec 32) (k0_t4 : Fin k0_t4_loop.trips) (k0_t18 : Fin (k0_t18_loop v49_0).trips) (v956 : BitVec 32) : Prop :=
  (∀ (r : Fin 3), ∀ a, S8x128.size a = 0 ∨ (k0_off583 v49_0 k0_t4 k0_t18 v956 (BitVec.ofNat 32 (64 * r.val))) a + (![8, 1] : Fin 2 → Nat) a * (S8x128.size a - 1) < S6912x128.size a)
theorem k0_off583_inb : ∀ (v49_0 : BitVec 32) (k0_t4 : Fin k0_t4_loop.trips) (k0_t18 : Fin (k0_t18_loop v49_0).trips) (v956 : BitVec 32) (k0_hw66 : k0_chk66 v49_0 k0_t4 k0_t18 v956), ∀ (r : Fin 3), ∀ a, S8x128.size a = 0 ∨ (k0_off583 v49_0 k0_t4 k0_t18 v956 (BitVec.ofNat 32 (64 * r.val))) a + (![8, 1] : Fin 2 → Nat) a * (S8x128.size a - 1) < S6912x128.size a := fun v49_0 k0_t4 k0_t18 v956 k0_hw66 r => k0_hw66 r

def k0_off584 (v951 : BitVec 32) (c64_i32_668 : BitVec 32) : Fin 2 → Nat :=
  let c65535_i32_659 : BitVec 32 := 65535#32
  let v952 : BitVec 32 := Scalar.andi v951 c65535_i32_659
  let v972 : BitVec 32 := Scalar.addi v952 c64_i32_668
  let v974 : Index := Scalar.indexCast v972
  let c0_669 : Index := 0#32
  ![v974.toNat, 0]

def k0_chk65 (v951 : BitVec 32) : Prop :=
  (∀ a, S8x128.size a = 0 ∨ (k0_off582 v951) a + (![8, 1] : Fin 2 → Nat) a * (S8x128.size a - 1) < S49152x128.size a) ∧
  (∀ (r : Fin 2), ∀ a, S8x128.size a = 0 ∨ (k0_off584 v951 (BitVec.ofNat 32 (64 + 64 * r.val))) a + (![8, 1] : Fin 2 → Nat) a * (S8x128.size a - 1) < S49152x128.size a)
theorem k0_off582_inb : ∀ (v951 : BitVec 32) (k0_hw65 : k0_chk65 v951), ∀ a, S8x128.size a = 0 ∨ (k0_off582 v951) a + (![8, 1] : Fin 2 → Nat) a * (S8x128.size a - 1) < S49152x128.size a := fun v951 k0_hw65 => k0_hw65.1
theorem k0_off584_inb : ∀ (v951 : BitVec 32) (k0_hw65 : k0_chk65 v951), ∀ (r : Fin 2), ∀ a, S8x128.size a = 0 ∨ (k0_off584 v951 (BitVec.ofNat 32 (64 + 64 * r.val))) a + (![8, 1] : Fin 2 → Nat) a * (S8x128.size a - 1) < S49152x128.size a := fun v951 k0_hw65 r => k0_hw65.2 r

def k0_off585 (v49_0 : BitVec 32) (v370 : BitVec 32) (k0_t18 : Fin (k0_t18_loop v49_0).trips) (v593 : BitVec 32) (v602 : BitVec 32) (k0_t20 : Fin (k0_t20_loop v49_0 v370 k0_t18 v593 v602).trips) : Fin 1 → Nat :=
  let c0_i32_485 : BitVec 32 := 0#32
  let c64_i32 : BitVec 32 := 64#32
  let v50 : BitVec 32 := Scalar.addi v49_0 c64_i32
  let c1_i32_52 : BitVec 32 := 1#32
  let v51 : BitVec 32 := Scalar.subi v50 c1_i32_52
  let c0_i32_54 : BitVec 32 := 0#32
  let v53 : BitVec 1 := Scalar.cmpi .sgt v51 c0_i32_54
  let v54 : BitVec 32 := Scalar.extui v53
  let c0_i32_55 : BitVec 32 := 0#32
  let v55 : BitVec 1 := Scalar.cmpi .slt v51 c0_i32_55
  let v56 : BitVec 32 := Scalar.extui v55
  let v57 : BitVec 32 := Scalar.subi v54 v56
  let c64_i32_53 : BitVec 32 := 64#32
  let c0_i32_56 : BitVec 32 := 0#32
  let v58 : BitVec 1 := Scalar.cmpi .sgt c64_i32_53 c0_i32_56
  let v59 : BitVec 32 := Scalar.extui v58
  let c0_i32_57 : BitVec 32 := 0#32
  let v60 : BitVec 1 := Scalar.cmpi .slt c64_i32_53 c0_i32_57
  let v61 : BitVec 32 := Scalar.extui v60
  let v62 : BitVec 32 := Scalar.subi v59 v61
  let v63 : BitVec 1 := Scalar.cmpi .ne v57 v62
  let v64 : BitVec 32 := Scalar.remsi v51 c64_i32_53
  let c0_i32_58 : BitVec 32 := 0#32
  let v65 : BitVec 1 := Scalar.cmpi .ne v64 c0_i32_58
  let v66 : BitVec 1 := Scalar.andi v63 v65
  let v52 : BitVec 32 := Scalar.divsi v51 c64_i32_53
  let c1_i32_59 : BitVec 32 := 1#32
  let v67 : BitVec 32 := Scalar.subi v52 c1_i32_59
  let v68 : BitVec 32 := Scalar.select v66 v67 v52
  let v573 : BitVec 32 := Scalar.subi v68 c0_i32_485
  let c1_i32_487 : BitVec 32 := 1#32
  let v575 : BitVec 32 := Scalar.divsi v573 c1_i32_487
  let v576 : BitVec 32 := Scalar.muli v575 c1_i32_487
  let v577 : BitVec 32 := Scalar.addi c0_i32_485 v576
  let c1_i32_489 : BitVec 32 := 1#32
  let arg19 : BitVec 32 := Scf.iv v577 c1_i32_489 k0_t18
  let c0_i32_497 : BitVec 32 := 0#32
  let v594 : BitVec 1 := Scalar.cmpi .eq arg19 c0_i32_497
  let c1_i32_498 : BitVec 32 := 1#32
  let v595 : BitVec 32 := Scalar.subi v370 c1_i32_498
  let c0_i32_499 : BitVec 32 := 0#32
  let v596 : BitVec 32 := Scalar.select v594 v595 c0_i32_499
  let v597 : BitVec 32 := Scalar.maxsi v593 v596
  let c0_i32_514 : BitVec 32 := 0#32
  let v607 : BitVec 32 := Scalar.subi v602 v597
  let c8_i32_505 : BitVec 32 := 8#32
  let v608 : BitVec 32 := Scalar.addi v607 c8_i32_505
  let c1_i32_506 : BitVec 32 := 1#32
  let v609 : BitVec 32 := Scalar.subi v608 c1_i32_506
  let c0_i32_508 : BitVec 32 := 0#32
  let v611 : BitVec 1 := Scalar.cmpi .sgt v609 c0_i32_508
  let v612 : BitVec 32 := Scalar.extui v611
  let c0_i32_509 : BitVec 32 := 0#32
  let v613 : BitVec 1 := Scalar.cmpi .slt v609 c0_i32_509
  let v614 : BitVec 32 := Scalar.extui v613
  let v615 : BitVec 32 := Scalar.subi v612 v614
  let c8_i32_507 : BitVec 32 := 8#32
  let c0_i32_510 : BitVec 32 := 0#32
  let v616 : BitVec 1 := Scalar.cmpi .sgt c8_i32_507 c0_i32_510
  let v617 : BitVec 32 := Scalar.extui v616
  let c0_i32_511 : BitVec 32 := 0#32
  let v618 : BitVec 1 := Scalar.cmpi .slt c8_i32_507 c0_i32_511
  let v619 : BitVec 32 := Scalar.extui v618
  let v620 : BitVec 32 := Scalar.subi v617 v619
  let v621 : BitVec 1 := Scalar.cmpi .ne v615 v620
  let v622 : BitVec 32 := Scalar.remsi v609 c8_i32_507
  let c0_i32_512 : BitVec 32 := 0#32
  let v623 : BitVec 1 := Scalar.cmpi .ne v622 c0_i32_512
  let v624 : BitVec 1 := Scalar.andi v621 v623
  let v610 : BitVec 32 := Scalar.divsi v609 c8_i32_507
  let c1_i32_513 : BitVec 32 := 1#32
  let v625 : BitVec 32 := Scalar.subi v610 c1_i32_513
  let v626 : BitVec 32 := Scalar.select v624 v625 v610
  let v627 : BitVec 32 := Scalar.subi v626 c0_i32_514
  let c1_i32_515 : BitVec 32 := 1#32
  let v629 : BitVec 32 := Scalar.divsi v627 c1_i32_515
  let v630 : BitVec 32 := Scalar.muli v629 c1_i32_515
  let v631 : BitVec 32 := Scalar.addi c0_i32_514 v630
  let c1_i32_517 : BitVec 32 := 1#32
  let arg21 : BitVec 32 := Scf.iv v631 c1_i32_517 k0_t20
  let c8_i32_527 : BitVec 32 := 8#32
  let v641 : BitVec 32 := Scalar.muli arg21 c8_i32_527
  let v642 : BitVec 32 := Scalar.addi v597 v641
  let c7_i32_680 : BitVec 32 := 7#32
  let v1000 : BitVec 32 := Scalar.addi v642 c7_i32_680
  let v1001 : Index := Scalar.indexCast v1000
  ![v1001.toNat]

def k0_chk36 (v49_0 : BitVec 32) (v370 : BitVec 32) (k0_t18 : Fin (k0_t18_loop v49_0).trips) (v593 : BitVec 32) (v602 : BitVec 32) : Prop :=
  ((k0_t19_loop v49_0 v370 k0_t18 v593 v602).OK) ∧
  (∀ k0_t19 : Fin (k0_t19_loop v49_0 v370 k0_t18 v593 v602).trips, ∀ a, (k0_off525 v49_0 v370 k0_t18 v593 v602 k0_t19) a + S1.size a ≤ S2176.size a) ∧
  (∀ k0_t19 : Fin (k0_t19_loop v49_0 v370 k0_t18 v593 v602).trips, ∀ a, (k0_off529 v49_0 v370 k0_t18 v593 v602 k0_t19) a + S1.size a ≤ S2176.size a) ∧
  (∀ k0_t19 : Fin (k0_t19_loop v49_0 v370 k0_t18 v593 v602).trips, ∀ a, (k0_off533 v49_0 v370 k0_t18 v593 v602 k0_t19) a + S1.size a ≤ S2176.size a) ∧
  (∀ k0_t19 : Fin (k0_t19_loop v49_0 v370 k0_t18 v593 v602).trips, ∀ a, (k0_off537 v49_0 v370 k0_t18 v593 v602 k0_t19) a + S1.size a ≤ S2176.size a) ∧
  (∀ k0_t19 : Fin (k0_t19_loop v49_0 v370 k0_t18 v593 v602).trips, ∀ a, (k0_off541 v49_0 v370 k0_t18 v593 v602 k0_t19) a + S1.size a ≤ S2176.size a) ∧
  (∀ k0_t19 : Fin (k0_t19_loop v49_0 v370 k0_t18 v593 v602).trips, ∀ a, (k0_off545 v49_0 v370 k0_t18 v593 v602 k0_t19) a + S1.size a ≤ S2176.size a) ∧
  (∀ k0_t19 : Fin (k0_t19_loop v49_0 v370 k0_t18 v593 v602).trips, ∀ a, (k0_off549 v49_0 v370 k0_t18 v593 v602 k0_t19) a + S1.size a ≤ S2176.size a) ∧
  (∀ k0_t19 : Fin (k0_t19_loop v49_0 v370 k0_t18 v593 v602).trips, ∀ a, (k0_off553 v49_0 v370 k0_t18 v593 v602 k0_t19) a + S1.size a ≤ S2176.size a) ∧
  ((k0_t20_loop v49_0 v370 k0_t18 v593 v602).OK) ∧
  (∀ k0_t20 : Fin (k0_t20_loop v49_0 v370 k0_t18 v593 v602).trips, ∀ a, (k0_off557 v49_0 v370 k0_t18 v593 v602 k0_t20) a + S1.size a ≤ S2176.size a) ∧
  (∀ k0_t20 : Fin (k0_t20_loop v49_0 v370 k0_t18 v593 v602).trips, ∀ a, (k0_off561 v49_0 v370 k0_t18 v593 v602 k0_t20) a + S1.size a ≤ S2176.size a) ∧
  (∀ k0_t20 : Fin (k0_t20_loop v49_0 v370 k0_t18 v593 v602).trips, ∀ a, (k0_off565 v49_0 v370 k0_t18 v593 v602 k0_t20) a + S1.size a ≤ S2176.size a) ∧
  (∀ k0_t20 : Fin (k0_t20_loop v49_0 v370 k0_t18 v593 v602).trips, ∀ a, (k0_off569 v49_0 v370 k0_t18 v593 v602 k0_t20) a + S1.size a ≤ S2176.size a) ∧
  (∀ k0_t20 : Fin (k0_t20_loop v49_0 v370 k0_t18 v593 v602).trips, ∀ a, (k0_off573 v49_0 v370 k0_t18 v593 v602 k0_t20) a + S1.size a ≤ S2176.size a) ∧
  (∀ k0_t20 : Fin (k0_t20_loop v49_0 v370 k0_t18 v593 v602).trips, ∀ a, (k0_off577 v49_0 v370 k0_t18 v593 v602 k0_t20) a + S1.size a ≤ S2176.size a) ∧
  (∀ k0_t20 : Fin (k0_t20_loop v49_0 v370 k0_t18 v593 v602).trips, ∀ a, (k0_off581 v49_0 v370 k0_t18 v593 v602 k0_t20) a + S1.size a ≤ S2176.size a) ∧
  (∀ k0_t20 : Fin (k0_t20_loop v49_0 v370 k0_t18 v593 v602).trips, ∀ a, (k0_off585 v49_0 v370 k0_t18 v593 v602 k0_t20) a + S1.size a ≤ S2176.size a)
theorem k0_t19_ok : ∀ (v49_0 : BitVec 32) (v370 : BitVec 32) (k0_t18 : Fin (k0_t18_loop v49_0).trips) (v593 : BitVec 32) (v602 : BitVec 32) (k0_hw36 : k0_chk36 v49_0 v370 k0_t18 v593 v602), (k0_t19_loop v49_0 v370 k0_t18 v593 v602).OK := fun v49_0 v370 k0_t18 v593 v602 k0_hw36 => k0_hw36.1
theorem k0_off525_inb : ∀ (v49_0 : BitVec 32) (v370 : BitVec 32) (k0_t18 : Fin (k0_t18_loop v49_0).trips) (v593 : BitVec 32) (v602 : BitVec 32) (k0_hw36 : k0_chk36 v49_0 v370 k0_t18 v593 v602) (k0_t19 : Fin (k0_t19_loop v49_0 v370 k0_t18 v593 v602).trips), ∀ a, (k0_off525 v49_0 v370 k0_t18 v593 v602 k0_t19) a + S1.size a ≤ S2176.size a := fun v49_0 v370 k0_t18 v593 v602 k0_hw36 k0_t19 => k0_hw36.2.1 k0_t19
theorem k0_off529_inb : ∀ (v49_0 : BitVec 32) (v370 : BitVec 32) (k0_t18 : Fin (k0_t18_loop v49_0).trips) (v593 : BitVec 32) (v602 : BitVec 32) (k0_hw36 : k0_chk36 v49_0 v370 k0_t18 v593 v602) (k0_t19 : Fin (k0_t19_loop v49_0 v370 k0_t18 v593 v602).trips), ∀ a, (k0_off529 v49_0 v370 k0_t18 v593 v602 k0_t19) a + S1.size a ≤ S2176.size a := fun v49_0 v370 k0_t18 v593 v602 k0_hw36 k0_t19 => k0_hw36.2.2.1 k0_t19
theorem k0_off533_inb : ∀ (v49_0 : BitVec 32) (v370 : BitVec 32) (k0_t18 : Fin (k0_t18_loop v49_0).trips) (v593 : BitVec 32) (v602 : BitVec 32) (k0_hw36 : k0_chk36 v49_0 v370 k0_t18 v593 v602) (k0_t19 : Fin (k0_t19_loop v49_0 v370 k0_t18 v593 v602).trips), ∀ a, (k0_off533 v49_0 v370 k0_t18 v593 v602 k0_t19) a + S1.size a ≤ S2176.size a := fun v49_0 v370 k0_t18 v593 v602 k0_hw36 k0_t19 => k0_hw36.2.2.2.1 k0_t19
theorem k0_off537_inb : ∀ (v49_0 : BitVec 32) (v370 : BitVec 32) (k0_t18 : Fin (k0_t18_loop v49_0).trips) (v593 : BitVec 32) (v602 : BitVec 32) (k0_hw36 : k0_chk36 v49_0 v370 k0_t18 v593 v602) (k0_t19 : Fin (k0_t19_loop v49_0 v370 k0_t18 v593 v602).trips), ∀ a, (k0_off537 v49_0 v370 k0_t18 v593 v602 k0_t19) a + S1.size a ≤ S2176.size a := fun v49_0 v370 k0_t18 v593 v602 k0_hw36 k0_t19 => k0_hw36.2.2.2.2.1 k0_t19
theorem k0_off541_inb : ∀ (v49_0 : BitVec 32) (v370 : BitVec 32) (k0_t18 : Fin (k0_t18_loop v49_0).trips) (v593 : BitVec 32) (v602 : BitVec 32) (k0_hw36 : k0_chk36 v49_0 v370 k0_t18 v593 v602) (k0_t19 : Fin (k0_t19_loop v49_0 v370 k0_t18 v593 v602).trips), ∀ a, (k0_off541 v49_0 v370 k0_t18 v593 v602 k0_t19) a + S1.size a ≤ S2176.size a := fun v49_0 v370 k0_t18 v593 v602 k0_hw36 k0_t19 => k0_hw36.2.2.2.2.2.1 k0_t19
theorem k0_off545_inb : ∀ (v49_0 : BitVec 32) (v370 : BitVec 32) (k0_t18 : Fin (k0_t18_loop v49_0).trips) (v593 : BitVec 32) (v602 : BitVec 32) (k0_hw36 : k0_chk36 v49_0 v370 k0_t18 v593 v602) (k0_t19 : Fin (k0_t19_loop v49_0 v370 k0_t18 v593 v602).trips), ∀ a, (k0_off545 v49_0 v370 k0_t18 v593 v602 k0_t19) a + S1.size a ≤ S2176.size a := fun v49_0 v370 k0_t18 v593 v602 k0_hw36 k0_t19 => k0_hw36.2.2.2.2.2.2.1 k0_t19
theorem k0_off549_inb : ∀ (v49_0 : BitVec 32) (v370 : BitVec 32) (k0_t18 : Fin (k0_t18_loop v49_0).trips) (v593 : BitVec 32) (v602 : BitVec 32) (k0_hw36 : k0_chk36 v49_0 v370 k0_t18 v593 v602) (k0_t19 : Fin (k0_t19_loop v49_0 v370 k0_t18 v593 v602).trips), ∀ a, (k0_off549 v49_0 v370 k0_t18 v593 v602 k0_t19) a + S1.size a ≤ S2176.size a := fun v49_0 v370 k0_t18 v593 v602 k0_hw36 k0_t19 => k0_hw36.2.2.2.2.2.2.2.1 k0_t19
theorem k0_off553_inb : ∀ (v49_0 : BitVec 32) (v370 : BitVec 32) (k0_t18 : Fin (k0_t18_loop v49_0).trips) (v593 : BitVec 32) (v602 : BitVec 32) (k0_hw36 : k0_chk36 v49_0 v370 k0_t18 v593 v602) (k0_t19 : Fin (k0_t19_loop v49_0 v370 k0_t18 v593 v602).trips), ∀ a, (k0_off553 v49_0 v370 k0_t18 v593 v602 k0_t19) a + S1.size a ≤ S2176.size a := fun v49_0 v370 k0_t18 v593 v602 k0_hw36 k0_t19 => k0_hw36.2.2.2.2.2.2.2.2.1 k0_t19
theorem k0_t20_ok : ∀ (v49_0 : BitVec 32) (v370 : BitVec 32) (k0_t18 : Fin (k0_t18_loop v49_0).trips) (v593 : BitVec 32) (v602 : BitVec 32) (k0_hw36 : k0_chk36 v49_0 v370 k0_t18 v593 v602), (k0_t20_loop v49_0 v370 k0_t18 v593 v602).OK := fun v49_0 v370 k0_t18 v593 v602 k0_hw36 => k0_hw36.2.2.2.2.2.2.2.2.2.1
theorem k0_off557_inb : ∀ (v49_0 : BitVec 32) (v370 : BitVec 32) (k0_t18 : Fin (k0_t18_loop v49_0).trips) (v593 : BitVec 32) (v602 : BitVec 32) (k0_hw36 : k0_chk36 v49_0 v370 k0_t18 v593 v602) (k0_t20 : Fin (k0_t20_loop v49_0 v370 k0_t18 v593 v602).trips), ∀ a, (k0_off557 v49_0 v370 k0_t18 v593 v602 k0_t20) a + S1.size a ≤ S2176.size a := fun v49_0 v370 k0_t18 v593 v602 k0_hw36 k0_t20 => k0_hw36.2.2.2.2.2.2.2.2.2.2.1 k0_t20
theorem k0_off561_inb : ∀ (v49_0 : BitVec 32) (v370 : BitVec 32) (k0_t18 : Fin (k0_t18_loop v49_0).trips) (v593 : BitVec 32) (v602 : BitVec 32) (k0_hw36 : k0_chk36 v49_0 v370 k0_t18 v593 v602) (k0_t20 : Fin (k0_t20_loop v49_0 v370 k0_t18 v593 v602).trips), ∀ a, (k0_off561 v49_0 v370 k0_t18 v593 v602 k0_t20) a + S1.size a ≤ S2176.size a := fun v49_0 v370 k0_t18 v593 v602 k0_hw36 k0_t20 => k0_hw36.2.2.2.2.2.2.2.2.2.2.2.1 k0_t20
theorem k0_off565_inb : ∀ (v49_0 : BitVec 32) (v370 : BitVec 32) (k0_t18 : Fin (k0_t18_loop v49_0).trips) (v593 : BitVec 32) (v602 : BitVec 32) (k0_hw36 : k0_chk36 v49_0 v370 k0_t18 v593 v602) (k0_t20 : Fin (k0_t20_loop v49_0 v370 k0_t18 v593 v602).trips), ∀ a, (k0_off565 v49_0 v370 k0_t18 v593 v602 k0_t20) a + S1.size a ≤ S2176.size a := fun v49_0 v370 k0_t18 v593 v602 k0_hw36 k0_t20 => k0_hw36.2.2.2.2.2.2.2.2.2.2.2.2.1 k0_t20
theorem k0_off569_inb : ∀ (v49_0 : BitVec 32) (v370 : BitVec 32) (k0_t18 : Fin (k0_t18_loop v49_0).trips) (v593 : BitVec 32) (v602 : BitVec 32) (k0_hw36 : k0_chk36 v49_0 v370 k0_t18 v593 v602) (k0_t20 : Fin (k0_t20_loop v49_0 v370 k0_t18 v593 v602).trips), ∀ a, (k0_off569 v49_0 v370 k0_t18 v593 v602 k0_t20) a + S1.size a ≤ S2176.size a := fun v49_0 v370 k0_t18 v593 v602 k0_hw36 k0_t20 => k0_hw36.2.2.2.2.2.2.2.2.2.2.2.2.2.1 k0_t20
theorem k0_off573_inb : ∀ (v49_0 : BitVec 32) (v370 : BitVec 32) (k0_t18 : Fin (k0_t18_loop v49_0).trips) (v593 : BitVec 32) (v602 : BitVec 32) (k0_hw36 : k0_chk36 v49_0 v370 k0_t18 v593 v602) (k0_t20 : Fin (k0_t20_loop v49_0 v370 k0_t18 v593 v602).trips), ∀ a, (k0_off573 v49_0 v370 k0_t18 v593 v602 k0_t20) a + S1.size a ≤ S2176.size a := fun v49_0 v370 k0_t18 v593 v602 k0_hw36 k0_t20 => k0_hw36.2.2.2.2.2.2.2.2.2.2.2.2.2.2.1 k0_t20
theorem k0_off577_inb : ∀ (v49_0 : BitVec 32) (v370 : BitVec 32) (k0_t18 : Fin (k0_t18_loop v49_0).trips) (v593 : BitVec 32) (v602 : BitVec 32) (k0_hw36 : k0_chk36 v49_0 v370 k0_t18 v593 v602) (k0_t20 : Fin (k0_t20_loop v49_0 v370 k0_t18 v593 v602).trips), ∀ a, (k0_off577 v49_0 v370 k0_t18 v593 v602 k0_t20) a + S1.size a ≤ S2176.size a := fun v49_0 v370 k0_t18 v593 v602 k0_hw36 k0_t20 => k0_hw36.2.2.2.2.2.2.2.2.2.2.2.2.2.2.2.1 k0_t20
theorem k0_off581_inb : ∀ (v49_0 : BitVec 32) (v370 : BitVec 32) (k0_t18 : Fin (k0_t18_loop v49_0).trips) (v593 : BitVec 32) (v602 : BitVec 32) (k0_hw36 : k0_chk36 v49_0 v370 k0_t18 v593 v602) (k0_t20 : Fin (k0_t20_loop v49_0 v370 k0_t18 v593 v602).trips), ∀ a, (k0_off581 v49_0 v370 k0_t18 v593 v602 k0_t20) a + S1.size a ≤ S2176.size a := fun v49_0 v370 k0_t18 v593 v602 k0_hw36 k0_t20 => k0_hw36.2.2.2.2.2.2.2.2.2.2.2.2.2.2.2.2.1 k0_t20
theorem k0_off585_inb : ∀ (v49_0 : BitVec 32) (v370 : BitVec 32) (k0_t18 : Fin (k0_t18_loop v49_0).trips) (v593 : BitVec 32) (v602 : BitVec 32) (k0_hw36 : k0_chk36 v49_0 v370 k0_t18 v593 v602) (k0_t20 : Fin (k0_t20_loop v49_0 v370 k0_t18 v593 v602).trips), ∀ a, (k0_off585 v49_0 v370 k0_t18 v593 v602 k0_t20) a + S1.size a ≤ S2176.size a := fun v49_0 v370 k0_t18 v593 v602 k0_hw36 k0_t20 => k0_hw36.2.2.2.2.2.2.2.2.2.2.2.2.2.2.2.2.2 k0_t20

def k0_off586 (v1002 : BitVec 32) : Fin 2 → Nat :=
  let c65535_i32_681 : BitVec 32 := 65535#32
  let v1003 : BitVec 32 := Scalar.andi v1002 c65535_i32_681
  let c0_i32_684 : BitVec 32 := 0#32
  let v1009 : BitVec 32 := Scalar.addi v1003 c0_i32_684
  let v1011 : Index := Scalar.indexCast v1009
  let c0_685 : Index := 0#32
  ![v1011.toNat, 0]

def k0_off587 (v49_0 : BitVec 32) (k0_t4 : Fin k0_t4_loop.trips) (k0_t18 : Fin (k0_t18_loop v49_0).trips) (v1007 : BitVec 32) (c0_i32_688 : BitVec 32) : Fin 2 → Nat :=
  let c0_i32_379 : BitVec 32 := 0#32
  let c1_i32_381 : BitVec 32 := 1#32
  let arg18 : BitVec 32 := Scf.iv c0_i32_379 c1_i32_381 k0_t4
  let c64_i32 : BitVec 32 := 64#32
  let v50 : BitVec 32 := Scalar.addi v49_0 c64_i32
  let c1_i32_52 : BitVec 32 := 1#32
  let v51 : BitVec 32 := Scalar.subi v50 c1_i32_52
  let c0_i32_54 : BitVec 32 := 0#32
  let v53 : BitVec 1 := Scalar.cmpi .sgt v51 c0_i32_54
  let v54 : BitVec 32 := Scalar.extui v53
  let c0_i32_55 : BitVec 32 := 0#32
  let v55 : BitVec 1 := Scalar.cmpi .slt v51 c0_i32_55
  let v56 : BitVec 32 := Scalar.extui v55
  let v57 : BitVec 32 := Scalar.subi v54 v56
  let c64_i32_53 : BitVec 32 := 64#32
  let c0_i32_56 : BitVec 32 := 0#32
  let v58 : BitVec 1 := Scalar.cmpi .sgt c64_i32_53 c0_i32_56
  let v59 : BitVec 32 := Scalar.extui v58
  let c0_i32_57 : BitVec 32 := 0#32
  let v60 : BitVec 1 := Scalar.cmpi .slt c64_i32_53 c0_i32_57
  let v61 : BitVec 32 := Scalar.extui v60
  let v62 : BitVec 32 := Scalar.subi v59 v61
  let v63 : BitVec 1 := Scalar.cmpi .ne v57 v62
  let v64 : BitVec 32 := Scalar.remsi v51 c64_i32_53
  let c0_i32_58 : BitVec 32 := 0#32
  let v65 : BitVec 1 := Scalar.cmpi .ne v64 c0_i32_58
  let v66 : BitVec 1 := Scalar.andi v63 v65
  let v52 : BitVec 32 := Scalar.divsi v51 c64_i32_53
  let c1_i32_59 : BitVec 32 := 1#32
  let v67 : BitVec 32 := Scalar.subi v52 c1_i32_59
  let v68 : BitVec 32 := Scalar.select v66 v67 v52
  let v580 : BitVec 32 := Scalar.muli arg18 v68
  let c0_i32_485 : BitVec 32 := 0#32
  let v573 : BitVec 32 := Scalar.subi v68 c0_i32_485
  let c1_i32_487 : BitVec 32 := 1#32
  let v575 : BitVec 32 := Scalar.divsi v573 c1_i32_487
  let v576 : BitVec 32 := Scalar.muli v575 c1_i32_487
  let v577 : BitVec 32 := Scalar.addi c0_i32_485 v576
  let c1_i32_489 : BitVec 32 := 1#32
  let arg19 : BitVec 32 := Scf.iv v577 c1_i32_489 k0_t18
  let v581 : BitVec 32 := Scalar.addi v580 arg19
  let c4_i32_490 : BitVec 32 := 4#32
  let v582 : BitVec 32 := Scalar.remsi v581 c4_i32_490
  let c1728_i32 : BitVec 32 := 1728#32
  let v603 : BitVec 32 := Scalar.muli v582 c1728_i32
  let c1536_i32_503 : BitVec 32 := 1536#32
  let v604 : BitVec 32 := Scalar.muli arg19 c1536_i32_503
  let v605 : BitVec 32 := Scalar.subi v603 v604
  let v1008 : BitVec 32 := Scalar.addi v1007 v605
  let v1017 : BitVec 32 := Scalar.addi v1008 c0_i32_688
  let v1019 : Index := Scalar.indexCast v1017
  let c0_689 : Index := 0#32
  ![v1019.toNat, 0]

def k0_chk68 (v49_0 : BitVec 32) (k0_t4 : Fin k0_t4_loop.trips) (k0_t18 : Fin (k0_t18_loop v49_0).trips) (v1007 : BitVec 32) : Prop :=
  (∀ (r : Fin 3), ∀ a, S8x128.size a = 0 ∨ (k0_off587 v49_0 k0_t4 k0_t18 v1007 (BitVec.ofNat 32 (64 * r.val))) a + (![8, 1] : Fin 2 → Nat) a * (S8x128.size a - 1) < S6912x128.size a)
theorem k0_off587_inb : ∀ (v49_0 : BitVec 32) (k0_t4 : Fin k0_t4_loop.trips) (k0_t18 : Fin (k0_t18_loop v49_0).trips) (v1007 : BitVec 32) (k0_hw68 : k0_chk68 v49_0 k0_t4 k0_t18 v1007), ∀ (r : Fin 3), ∀ a, S8x128.size a = 0 ∨ (k0_off587 v49_0 k0_t4 k0_t18 v1007 (BitVec.ofNat 32 (64 * r.val))) a + (![8, 1] : Fin 2 → Nat) a * (S8x128.size a - 1) < S6912x128.size a := fun v49_0 k0_t4 k0_t18 v1007 k0_hw68 r => k0_hw68 r

def k0_off588 (v1002 : BitVec 32) (c64_i32_690 : BitVec 32) : Fin 2 → Nat :=
  let c65535_i32_681 : BitVec 32 := 65535#32
  let v1003 : BitVec 32 := Scalar.andi v1002 c65535_i32_681
  let v1023 : BitVec 32 := Scalar.addi v1003 c64_i32_690
  let v1025 : Index := Scalar.indexCast v1023
  let c0_691 : Index := 0#32
  ![v1025.toNat, 0]

def k0_chk67 (v1002 : BitVec 32) : Prop :=
  (∀ a, S8x128.size a = 0 ∨ (k0_off586 v1002) a + (![8, 1] : Fin 2 → Nat) a * (S8x128.size a - 1) < S49152x128.size a) ∧
  (∀ (r : Fin 2), ∀ a, S8x128.size a = 0 ∨ (k0_off588 v1002 (BitVec.ofNat 32 (64 + 64 * r.val))) a + (![8, 1] : Fin 2 → Nat) a * (S8x128.size a - 1) < S49152x128.size a)
theorem k0_off586_inb : ∀ (v1002 : BitVec 32) (k0_hw67 : k0_chk67 v1002), ∀ a, S8x128.size a = 0 ∨ (k0_off586 v1002) a + (![8, 1] : Fin 2 → Nat) a * (S8x128.size a - 1) < S49152x128.size a := fun v1002 k0_hw67 => k0_hw67.1
theorem k0_off588_inb : ∀ (v1002 : BitVec 32) (k0_hw67 : k0_chk67 v1002), ∀ (r : Fin 2), ∀ a, S8x128.size a = 0 ∨ (k0_off588 v1002 (BitVec.ofNat 32 (64 + 64 * r.val))) a + (![8, 1] : Fin 2 → Nat) a * (S8x128.size a - 1) < S49152x128.size a := fun v1002 k0_hw67 r => k0_hw67.2 r

def k0_off589 (v49_0 : BitVec 32) (k0_t4 : Fin k0_t4_loop.trips) (k0_t18 : Fin (k0_t18_loop v49_0).trips) : Fin 1 → Nat :=
  let c0_i32_379 : BitVec 32 := 0#32
  let c1_i32_381 : BitVec 32 := 1#32
  let arg18 : BitVec 32 := Scf.iv c0_i32_379 c1_i32_381 k0_t4
  let c64_i32 : BitVec 32 := 64#32
  let v50 : BitVec 32 := Scalar.addi v49_0 c64_i32
  let c1_i32_52 : BitVec 32 := 1#32
  let v51 : BitVec 32 := Scalar.subi v50 c1_i32_52
  let c0_i32_54 : BitVec 32 := 0#32
  let v53 : BitVec 1 := Scalar.cmpi .sgt v51 c0_i32_54
  let v54 : BitVec 32 := Scalar.extui v53
  let c0_i32_55 : BitVec 32 := 0#32
  let v55 : BitVec 1 := Scalar.cmpi .slt v51 c0_i32_55
  let v56 : BitVec 32 := Scalar.extui v55
  let v57 : BitVec 32 := Scalar.subi v54 v56
  let c64_i32_53 : BitVec 32 := 64#32
  let c0_i32_56 : BitVec 32 := 0#32
  let v58 : BitVec 1 := Scalar.cmpi .sgt c64_i32_53 c0_i32_56
  let v59 : BitVec 32 := Scalar.extui v58
  let c0_i32_57 : BitVec 32 := 0#32
  let v60 : BitVec 1 := Scalar.cmpi .slt c64_i32_53 c0_i32_57
  let v61 : BitVec 32 := Scalar.extui v60
  let v62 : BitVec 32 := Scalar.subi v59 v61
  let v63 : BitVec 1 := Scalar.cmpi .ne v57 v62
  let v64 : BitVec 32 := Scalar.remsi v51 c64_i32_53
  let c0_i32_58 : BitVec 32 := 0#32
  let v65 : BitVec 1 := Scalar.cmpi .ne v64 c0_i32_58
  let v66 : BitVec 1 := Scalar.andi v63 v65
  let v52 : BitVec 32 := Scalar.divsi v51 c64_i32_53
  let c1_i32_59 : BitVec 32 := 1#32
  let v67 : BitVec 32 := Scalar.subi v52 c1_i32_59
  let v68 : BitVec 32 := Scalar.select v66 v67 v52
  let v580 : BitVec 32 := Scalar.muli arg18 v68
  let c0_i32_485 : BitVec 32 := 0#32
  let v573 : BitVec 32 := Scalar.subi v68 c0_i32_485
  let c1_i32_487 : BitVec 32 := 1#32
  let v575 : BitVec 32 := Scalar.divsi v573 c1_i32_487
  let v576 : BitVec 32 := Scalar.muli v575 c1_i32_487
  let v577 : BitVec 32 := Scalar.addi c0_i32_485 v576
  let c1_i32_489 : BitVec 32 := 1#32
  let arg19 : BitVec 32 := Scf.iv v577 c1_i32_489 k0_t18
  let v581 : BitVec 32 := Scalar.addi v580 arg19
  let c4_i32_490 : BitVec 32 := 4#32
  let v582 : BitVec 32 := Scalar.remsi v581 c4_i32_490
  ![v582.toNat]
def k0_off590 (v49_0 : BitVec 32) (k0_t4 : Fin k0_t4_loop.trips) (k0_t18 : Fin (k0_t18_loop v49_0).trips) : Fin 4 → Nat :=
  let c0_i32_485 : BitVec 32 := 0#32
  let c64_i32 : BitVec 32 := 64#32
  let v50 : BitVec 32 := Scalar.addi v49_0 c64_i32
  let c1_i32_52 : BitVec 32 := 1#32
  let v51 : BitVec 32 := Scalar.subi v50 c1_i32_52
  let c0_i32_54 : BitVec 32 := 0#32
  let v53 : BitVec 1 := Scalar.cmpi .sgt v51 c0_i32_54
  let v54 : BitVec 32 := Scalar.extui v53
  let c0_i32_55 : BitVec 32 := 0#32
  let v55 : BitVec 1 := Scalar.cmpi .slt v51 c0_i32_55
  let v56 : BitVec 32 := Scalar.extui v55
  let v57 : BitVec 32 := Scalar.subi v54 v56
  let c64_i32_53 : BitVec 32 := 64#32
  let c0_i32_56 : BitVec 32 := 0#32
  let v58 : BitVec 1 := Scalar.cmpi .sgt c64_i32_53 c0_i32_56
  let v59 : BitVec 32 := Scalar.extui v58
  let c0_i32_57 : BitVec 32 := 0#32
  let v60 : BitVec 1 := Scalar.cmpi .slt c64_i32_53 c0_i32_57
  let v61 : BitVec 32 := Scalar.extui v60
  let v62 : BitVec 32 := Scalar.subi v59 v61
  let v63 : BitVec 1 := Scalar.cmpi .ne v57 v62
  let v64 : BitVec 32 := Scalar.remsi v51 c64_i32_53
  let c0_i32_58 : BitVec 32 := 0#32
  let v65 : BitVec 1 := Scalar.cmpi .ne v64 c0_i32_58
  let v66 : BitVec 1 := Scalar.andi v63 v65
  let v52 : BitVec 32 := Scalar.divsi v51 c64_i32_53
  let c1_i32_59 : BitVec 32 := 1#32
  let v67 : BitVec 32 := Scalar.subi v52 c1_i32_59
  let v68 : BitVec 32 := Scalar.select v66 v67 v52
  let v573 : BitVec 32 := Scalar.subi v68 c0_i32_485
  let c1_i32_487 : BitVec 32 := 1#32
  let v575 : BitVec 32 := Scalar.divsi v573 c1_i32_487
  let v576 : BitVec 32 := Scalar.muli v575 c1_i32_487
  let v577 : BitVec 32 := Scalar.addi c0_i32_485 v576
  let c1_i32_489 : BitVec 32 := 1#32
  let arg19 : BitVec 32 := Scf.iv v577 c1_i32_489 k0_t18
  let c8_i32_518 : BitVec 32 := 8#32
  let v634 : BitVec 32 := Scalar.muli arg19 c8_i32_518
  let c0_i32_379 : BitVec 32 := 0#32
  let c1_i32_381 : BitVec 32 := 1#32
  let arg18 : BitVec 32 := Scf.iv c0_i32_379 c1_i32_381 k0_t4
  let c24_i32_519 : BitVec 32 := 24#32
  let v635 : BitVec 32 := Scalar.muli arg18 c24_i32_519
  let c0_i32_520 : BitVec 32 := 0#32
  let c0_i32_521 : BitVec 32 := 0#32
  ![v634.toNat, v635.toNat, 0, 0]
def k0_off591 (v49_0 : BitVec 32) (k0_t4 : Fin k0_t4_loop.trips) (k0_t18 : Fin (k0_t18_loop v49_0).trips) : Fin 5 → Nat :=
  let c0_i32_379 : BitVec 32 := 0#32
  let c1_i32_381 : BitVec 32 := 1#32
  let arg18 : BitVec 32 := Scf.iv c0_i32_379 c1_i32_381 k0_t4
  let c64_i32 : BitVec 32 := 64#32
  let v50 : BitVec 32 := Scalar.addi v49_0 c64_i32
  let c1_i32_52 : BitVec 32 := 1#32
  let v51 : BitVec 32 := Scalar.subi v50 c1_i32_52
  let c0_i32_54 : BitVec 32 := 0#32
  let v53 : BitVec 1 := Scalar.cmpi .sgt v51 c0_i32_54
  let v54 : BitVec 32 := Scalar.extui v53
  let c0_i32_55 : BitVec 32 := 0#32
  let v55 : BitVec 1 := Scalar.cmpi .slt v51 c0_i32_55
  let v56 : BitVec 32 := Scalar.extui v55
  let v57 : BitVec 32 := Scalar.subi v54 v56
  let c64_i32_53 : BitVec 32 := 64#32
  let c0_i32_56 : BitVec 32 := 0#32
  let v58 : BitVec 1 := Scalar.cmpi .sgt c64_i32_53 c0_i32_56
  let v59 : BitVec 32 := Scalar.extui v58
  let c0_i32_57 : BitVec 32 := 0#32
  let v60 : BitVec 1 := Scalar.cmpi .slt c64_i32_53 c0_i32_57
  let v61 : BitVec 32 := Scalar.extui v60
  let v62 : BitVec 32 := Scalar.subi v59 v61
  let v63 : BitVec 1 := Scalar.cmpi .ne v57 v62
  let v64 : BitVec 32 := Scalar.remsi v51 c64_i32_53
  let c0_i32_58 : BitVec 32 := 0#32
  let v65 : BitVec 1 := Scalar.cmpi .ne v64 c0_i32_58
  let v66 : BitVec 1 := Scalar.andi v63 v65
  let v52 : BitVec 32 := Scalar.divsi v51 c64_i32_53
  let c1_i32_59 : BitVec 32 := 1#32
  let v67 : BitVec 32 := Scalar.subi v52 c1_i32_59
  let v68 : BitVec 32 := Scalar.select v66 v67 v52
  let v580 : BitVec 32 := Scalar.muli arg18 v68
  let c0_i32_485 : BitVec 32 := 0#32
  let v573 : BitVec 32 := Scalar.subi v68 c0_i32_485
  let c1_i32_487 : BitVec 32 := 1#32
  let v575 : BitVec 32 := Scalar.divsi v573 c1_i32_487
  let v576 : BitVec 32 := Scalar.muli v575 c1_i32_487
  let v577 : BitVec 32 := Scalar.addi c0_i32_485 v576
  let c1_i32_489 : BitVec 32 := 1#32
  let arg19 : BitVec 32 := Scf.iv v577 c1_i32_489 k0_t18
  let v581 : BitVec 32 := Scalar.addi v580 arg19
  let c4_i32_490 : BitVec 32 := 4#32
  let v582 : BitVec 32 := Scalar.remsi v581 c4_i32_490
  let c0_i32_522 : BitVec 32 := 0#32
  let c0_i32_523 : BitVec 32 := 0#32
  let c0_i32_524 : BitVec 32 := 0#32
  let c0_i32_525 : BitVec 32 := 0#32
  ![v582.toNat, 0, 0, 0, 0]
@[reducible] def k0_t21_loop (v49_0 : BitVec 32) : Scf.Loop 32 :=
  let c0_i32_397 : BitVec 32 := 0#32
  let c4_i32_395 : BitVec 32 := 4#32
  let c32_i32 : BitVec 32 := 32#32
  let c64_i32 : BitVec 32 := 64#32
  let v50 : BitVec 32 := Scalar.addi v49_0 c64_i32
  let c1_i32_52 : BitVec 32 := 1#32
  let v51 : BitVec 32 := Scalar.subi v50 c1_i32_52
  let c0_i32_54 : BitVec 32 := 0#32
  let v53 : BitVec 1 := Scalar.cmpi .sgt v51 c0_i32_54
  let v54 : BitVec 32 := Scalar.extui v53
  let c0_i32_55 : BitVec 32 := 0#32
  let v55 : BitVec 1 := Scalar.cmpi .slt v51 c0_i32_55
  let v56 : BitVec 32 := Scalar.extui v55
  let v57 : BitVec 32 := Scalar.subi v54 v56
  let c64_i32_53 : BitVec 32 := 64#32
  let c0_i32_56 : BitVec 32 := 0#32
  let v58 : BitVec 1 := Scalar.cmpi .sgt c64_i32_53 c0_i32_56
  let v59 : BitVec 32 := Scalar.extui v58
  let c0_i32_57 : BitVec 32 := 0#32
  let v60 : BitVec 1 := Scalar.cmpi .slt c64_i32_53 c0_i32_57
  let v61 : BitVec 32 := Scalar.extui v60
  let v62 : BitVec 32 := Scalar.subi v59 v61
  let v63 : BitVec 1 := Scalar.cmpi .ne v57 v62
  let v64 : BitVec 32 := Scalar.remsi v51 c64_i32_53
  let c0_i32_58 : BitVec 32 := 0#32
  let v65 : BitVec 1 := Scalar.cmpi .ne v64 c0_i32_58
  let v66 : BitVec 1 := Scalar.andi v63 v65
  let v52 : BitVec 32 := Scalar.divsi v51 c64_i32_53
  let c1_i32_59 : BitVec 32 := 1#32
  let v67 : BitVec 32 := Scalar.subi v52 c1_i32_59
  let v68 : BitVec 32 := Scalar.select v66 v67 v52
  let v490 : BitVec 32 := Scalar.subi c32_i32 v68
  let v491 : BitVec 32 := Scalar.muli c4_i32_395 v490
  let v492 : BitVec 32 := Scalar.subi v491 c0_i32_397
  let c1_i32_398 : BitVec 32 := 1#32
  let v494 : BitVec 32 := Scalar.divsi v492 c1_i32_398
  let v495 : BitVec 32 := Scalar.muli v494 c1_i32_398
  let v496 : BitVec 32 := Scalar.addi c0_i32_397 v495
  let c1_i32_399 : BitVec 32 := 1#32
  ⟨c0_i32_397, v496, c1_i32_399⟩
@[reducible] def k0_t22_loop (v49_0 : BitVec 32) : Scf.Loop 32 :=
  let c0_i32_397 : BitVec 32 := 0#32
  let c4_i32_395 : BitVec 32 := 4#32
  let c32_i32 : BitVec 32 := 32#32
  let c64_i32 : BitVec 32 := 64#32
  let v50 : BitVec 32 := Scalar.addi v49_0 c64_i32
  let c1_i32_52 : BitVec 32 := 1#32
  let v51 : BitVec 32 := Scalar.subi v50 c1_i32_52
  let c0_i32_54 : BitVec 32 := 0#32
  let v53 : BitVec 1 := Scalar.cmpi .sgt v51 c0_i32_54
  let v54 : BitVec 32 := Scalar.extui v53
  let c0_i32_55 : BitVec 32 := 0#32
  let v55 : BitVec 1 := Scalar.cmpi .slt v51 c0_i32_55
  let v56 : BitVec 32 := Scalar.extui v55
  let v57 : BitVec 32 := Scalar.subi v54 v56
  let c64_i32_53 : BitVec 32 := 64#32
  let c0_i32_56 : BitVec 32 := 0#32
  let v58 : BitVec 1 := Scalar.cmpi .sgt c64_i32_53 c0_i32_56
  let v59 : BitVec 32 := Scalar.extui v58
  let c0_i32_57 : BitVec 32 := 0#32
  let v60 : BitVec 1 := Scalar.cmpi .slt c64_i32_53 c0_i32_57
  let v61 : BitVec 32 := Scalar.extui v60
  let v62 : BitVec 32 := Scalar.subi v59 v61
  let v63 : BitVec 1 := Scalar.cmpi .ne v57 v62
  let v64 : BitVec 32 := Scalar.remsi v51 c64_i32_53
  let c0_i32_58 : BitVec 32 := 0#32
  let v65 : BitVec 1 := Scalar.cmpi .ne v64 c0_i32_58
  let v66 : BitVec 1 := Scalar.andi v63 v65
  let v52 : BitVec 32 := Scalar.divsi v51 c64_i32_53
  let c1_i32_59 : BitVec 32 := 1#32
  let v67 : BitVec 32 := Scalar.subi v52 c1_i32_59
  let v68 : BitVec 32 := Scalar.select v66 v67 v52
  let v490 : BitVec 32 := Scalar.subi c32_i32 v68
  let v491 : BitVec 32 := Scalar.muli c4_i32_395 v490
  let v492 : BitVec 32 := Scalar.subi v491 c0_i32_397
  let c1_i32_398 : BitVec 32 := 1#32
  let v494 : BitVec 32 := Scalar.divsi v492 c1_i32_398
  let v495 : BitVec 32 := Scalar.muli v494 c1_i32_398
  let v496 : BitVec 32 := Scalar.addi c0_i32_397 v495
  let v493 : BitVec 32 := Scalar.addi c0_i32_397 v492
  let c1_i32_400 : BitVec 32 := 1#32
  ⟨v496, v493, c1_i32_400⟩

def k0_chk2 (v49_0 : BitVec 32) : Prop :=
  ((k0_t2_loop v49_0).OK) ∧
  (∀ k0_t2 : Fin (k0_t2_loop v49_0).trips, ∀ (r : Fin 16), ∀ a, (k0_off2 v49_0 k0_t2 (BitVec.ofNat 32 r.val)) a + S1.size a ≤ S2049.size a) ∧
  ((k0_t3_loop v49_0).OK) ∧
  (∀ k0_t3 : Fin (k0_t3_loop v49_0).trips, ∀ (r : Fin 16), ∀ a, (k0_off3 v49_0 k0_t3 (BitVec.ofNat 32 r.val)) a + S1.size a ≤ S2049.size a) ∧
  ((k0_t5_loop v49_0).OK) ∧
  (∀ (k0_t4 : Fin k0_t4_loop.trips) (k0_t5 : Fin (k0_t5_loop v49_0).trips), ∀ a, (k0_off28 v49_0 k0_t4 k0_t5) a + S8x24x8x128.size a ≤ S256x96x8x128.size a) ∧
  ((k0_t6_loop v49_0).OK) ∧
  (∀ (k0_t4 : Fin k0_t4_loop.trips) (k0_t6 : Fin (k0_t6_loop v49_0).trips), ∀ a, (k0_off29 v49_0 k0_t4 k0_t6) a + S8x24x8x128.size a ≤ S256x96x8x128.size a) ∧
  ((k0_t15_loop v49_0).OK) ∧
  (∀ (k0_t4 : Fin k0_t4_loop.trips) (k0_t15 : Fin (k0_t15_loop v49_0).trips), ∀ (k0_h2 : k0_cond2 v49_0 k0_t4 k0_t15 = 1#1), ∀ a, (k0_off446 v49_0 k0_t4 k0_t15) a + S1.size a ≤ S4.size a) ∧
  (∀ (k0_t4 : Fin k0_t4_loop.trips) (k0_t15 : Fin (k0_t15_loop v49_0).trips), ∀ (k0_h2 : k0_cond2 v49_0 k0_t4 k0_t15 = 1#1), ∀ a, (k0_off447 v49_0 k0_t4 k0_t15) a + S8x24x8x128.size a ≤ S256x96x8x128.size a) ∧
  (∀ (k0_t4 : Fin k0_t4_loop.trips) (k0_t15 : Fin (k0_t15_loop v49_0).trips), ∀ (k0_h2 : k0_cond2 v49_0 k0_t4 k0_t15 = 1#1), ∀ a, (k0_off448 v49_0 k0_t4 k0_t15) a + S1x8x24x8x128.size a ≤ S4x9x24x8x128.size a) ∧
  (∀ (k0_t4 : Fin k0_t4_loop.trips) (k0_t15 : Fin (k0_t15_loop v49_0).trips), ∀ (k0_h3 : k0_cond3 v49_0 k0_t15 = 1#1), ∀ a, (k0_off449 v49_0 k0_t4 k0_t15) a + S1x9x24x8x128.size a ≤ S4x9x24x8x128.size a) ∧
  (∀ k0_t15 : Fin (k0_t15_loop v49_0).trips, ∀ a, (k0_off450 v49_0 k0_t15) a + S1.size a ≤ S2049.size a) ∧
  (∀ k0_t15 : Fin (k0_t15_loop v49_0).trips, ∀ a, (k0_off451 v49_0 k0_t15) a + S1.size a ≤ S2049.size a) ∧
  (∀ (k0_t4 : Fin k0_t4_loop.trips) (k0_t15 : Fin (k0_t15_loop v49_0).trips), ∀ a, (k0_off516 v49_0 k0_t4 k0_t15) a + S1.size a ≤ S4.size a) ∧
  (∀ (k0_t4 : Fin k0_t4_loop.trips) (k0_t15 : Fin (k0_t15_loop v49_0).trips), ∀ a, (k0_off517 v49_0 k0_t4 k0_t15) a + S8x24x8x128.size a ≤ S256x96x8x128.size a) ∧
  (∀ (k0_t4 : Fin k0_t4_loop.trips) (k0_t15 : Fin (k0_t15_loop v49_0).trips), ∀ a, (k0_off518 v49_0 k0_t4 k0_t15) a + S1x8x24x8x128.size a ≤ S4x9x24x8x128.size a) ∧
  ((k0_t18_loop v49_0).OK) ∧
  (∀ (k0_t4 : Fin k0_t4_loop.trips) (k0_t18 : Fin (k0_t18_loop v49_0).trips), ∀ (k0_h4 : k0_cond4 v49_0 k0_t4 k0_t18 = 1#1), ∀ a, (k0_off519 v49_0 k0_t4 k0_t18) a + S1.size a ≤ S4.size a) ∧
  (∀ (k0_t4 : Fin k0_t4_loop.trips) (k0_t18 : Fin (k0_t18_loop v49_0).trips), ∀ (k0_h4 : k0_cond4 v49_0 k0_t4 k0_t18 = 1#1), ∀ a, (k0_off520 v49_0 k0_t4 k0_t18) a + S8x24x8x128.size a ≤ S256x96x8x128.size a) ∧
  (∀ (k0_t4 : Fin k0_t4_loop.trips) (k0_t18 : Fin (k0_t18_loop v49_0).trips), ∀ (k0_h4 : k0_cond4 v49_0 k0_t4 k0_t18 = 1#1), ∀ a, (k0_off521 v49_0 k0_t4 k0_t18) a + S1x8x24x8x128.size a ≤ S4x9x24x8x128.size a) ∧
  (∀ (k0_t4 : Fin k0_t4_loop.trips) (k0_t18 : Fin (k0_t18_loop v49_0).trips), ∀ (k0_h5 : k0_cond5 v49_0 k0_t18 = 1#1), ∀ a, (k0_off522 v49_0 k0_t4 k0_t18) a + S1x9x24x8x128.size a ≤ S4x9x24x8x128.size a) ∧
  (∀ k0_t18 : Fin (k0_t18_loop v49_0).trips, ∀ a, (k0_off523 v49_0 k0_t18) a + S1.size a ≤ S2049.size a) ∧
  (∀ k0_t18 : Fin (k0_t18_loop v49_0).trips, ∀ a, (k0_off524 v49_0 k0_t18) a + S1.size a ≤ S2049.size a) ∧
  (∀ (k0_t4 : Fin k0_t4_loop.trips) (k0_t18 : Fin (k0_t18_loop v49_0).trips), ∀ a, (k0_off589 v49_0 k0_t4 k0_t18) a + S1.size a ≤ S4.size a) ∧
  (∀ (k0_t4 : Fin k0_t4_loop.trips) (k0_t18 : Fin (k0_t18_loop v49_0).trips), ∀ a, (k0_off590 v49_0 k0_t4 k0_t18) a + S8x24x8x128.size a ≤ S256x96x8x128.size a) ∧
  (∀ (k0_t4 : Fin k0_t4_loop.trips) (k0_t18 : Fin (k0_t18_loop v49_0).trips), ∀ a, (k0_off591 v49_0 k0_t4 k0_t18) a + S1x8x24x8x128.size a ≤ S4x9x24x8x128.size a) ∧
  ((k0_t21_loop v49_0).OK) ∧
  ((k0_t22_loop v49_0).OK)
theorem k0_t2_ok : ∀ (v49_0 : BitVec 32) (k0_hw2 : k0_chk2 v49_0), (k0_t2_loop v49_0).OK := fun v49_0 k0_hw2 => k0_hw2.1
theorem k0_off2_inb : ∀ (v49_0 : BitVec 32) (k0_hw2 : k0_chk2 v49_0) (k0_t2 : Fin (k0_t2_loop v49_0).trips), ∀ (r : Fin 16), ∀ a, (k0_off2 v49_0 k0_t2 (BitVec.ofNat 32 r.val)) a + S1.size a ≤ S2049.size a := fun v49_0 k0_hw2 k0_t2 r => k0_hw2.2.1 k0_t2 r
theorem k0_t3_ok : ∀ (v49_0 : BitVec 32) (k0_hw2 : k0_chk2 v49_0), (k0_t3_loop v49_0).OK := fun v49_0 k0_hw2 => k0_hw2.2.2.1
theorem k0_off3_inb : ∀ (v49_0 : BitVec 32) (k0_hw2 : k0_chk2 v49_0) (k0_t3 : Fin (k0_t3_loop v49_0).trips), ∀ (r : Fin 16), ∀ a, (k0_off3 v49_0 k0_t3 (BitVec.ofNat 32 r.val)) a + S1.size a ≤ S2049.size a := fun v49_0 k0_hw2 k0_t3 r => k0_hw2.2.2.2.1 k0_t3 r
theorem k0_t5_ok : ∀ (v49_0 : BitVec 32) (k0_hw2 : k0_chk2 v49_0), (k0_t5_loop v49_0).OK := fun v49_0 k0_hw2 => k0_hw2.2.2.2.2.1
theorem k0_off28_inb : ∀ (v49_0 : BitVec 32) (k0_hw2 : k0_chk2 v49_0) (k0_t4 : Fin k0_t4_loop.trips) (k0_t5 : Fin (k0_t5_loop v49_0).trips), ∀ a, (k0_off28 v49_0 k0_t4 k0_t5) a + S8x24x8x128.size a ≤ S256x96x8x128.size a := fun v49_0 k0_hw2 k0_t4 k0_t5 => k0_hw2.2.2.2.2.2.1 k0_t4 k0_t5
theorem k0_t6_ok : ∀ (v49_0 : BitVec 32) (k0_hw2 : k0_chk2 v49_0), (k0_t6_loop v49_0).OK := fun v49_0 k0_hw2 => k0_hw2.2.2.2.2.2.2.1
theorem k0_off29_inb : ∀ (v49_0 : BitVec 32) (k0_hw2 : k0_chk2 v49_0) (k0_t4 : Fin k0_t4_loop.trips) (k0_t6 : Fin (k0_t6_loop v49_0).trips), ∀ a, (k0_off29 v49_0 k0_t4 k0_t6) a + S8x24x8x128.size a ≤ S256x96x8x128.size a := fun v49_0 k0_hw2 k0_t4 k0_t6 => k0_hw2.2.2.2.2.2.2.2.1 k0_t4 k0_t6
theorem k0_t15_ok : ∀ (v49_0 : BitVec 32) (k0_hw2 : k0_chk2 v49_0), (k0_t15_loop v49_0).OK := fun v49_0 k0_hw2 => k0_hw2.2.2.2.2.2.2.2.2.1
theorem k0_off446_inb : ∀ (v49_0 : BitVec 32) (k0_hw2 : k0_chk2 v49_0) (k0_t4 : Fin k0_t4_loop.trips) (k0_t15 : Fin (k0_t15_loop v49_0).trips), ∀ (k0_h2 : k0_cond2 v49_0 k0_t4 k0_t15 = 1#1), ∀ a, (k0_off446 v49_0 k0_t4 k0_t15) a + S1.size a ≤ S4.size a := fun v49_0 k0_hw2 k0_t4 k0_t15 k0_h2 => k0_hw2.2.2.2.2.2.2.2.2.2.1 k0_t4 k0_t15 k0_h2
theorem k0_off447_inb : ∀ (v49_0 : BitVec 32) (k0_hw2 : k0_chk2 v49_0) (k0_t4 : Fin k0_t4_loop.trips) (k0_t15 : Fin (k0_t15_loop v49_0).trips), ∀ (k0_h2 : k0_cond2 v49_0 k0_t4 k0_t15 = 1#1), ∀ a, (k0_off447 v49_0 k0_t4 k0_t15) a + S8x24x8x128.size a ≤ S256x96x8x128.size a := fun v49_0 k0_hw2 k0_t4 k0_t15 k0_h2 => k0_hw2.2.2.2.2.2.2.2.2.2.2.1 k0_t4 k0_t15 k0_h2
theorem k0_off448_inb : ∀ (v49_0 : BitVec 32) (k0_hw2 : k0_chk2 v49_0) (k0_t4 : Fin k0_t4_loop.trips) (k0_t15 : Fin (k0_t15_loop v49_0).trips), ∀ (k0_h2 : k0_cond2 v49_0 k0_t4 k0_t15 = 1#1), ∀ a, (k0_off448 v49_0 k0_t4 k0_t15) a + S1x8x24x8x128.size a ≤ S4x9x24x8x128.size a := fun v49_0 k0_hw2 k0_t4 k0_t15 k0_h2 => k0_hw2.2.2.2.2.2.2.2.2.2.2.2.1 k0_t4 k0_t15 k0_h2
theorem k0_off449_inb : ∀ (v49_0 : BitVec 32) (k0_hw2 : k0_chk2 v49_0) (k0_t4 : Fin k0_t4_loop.trips) (k0_t15 : Fin (k0_t15_loop v49_0).trips), ∀ (k0_h3 : k0_cond3 v49_0 k0_t15 = 1#1), ∀ a, (k0_off449 v49_0 k0_t4 k0_t15) a + S1x9x24x8x128.size a ≤ S4x9x24x8x128.size a := fun v49_0 k0_hw2 k0_t4 k0_t15 k0_h3 => k0_hw2.2.2.2.2.2.2.2.2.2.2.2.2.1 k0_t4 k0_t15 k0_h3
theorem k0_off450_inb : ∀ (v49_0 : BitVec 32) (k0_hw2 : k0_chk2 v49_0) (k0_t15 : Fin (k0_t15_loop v49_0).trips), ∀ a, (k0_off450 v49_0 k0_t15) a + S1.size a ≤ S2049.size a := fun v49_0 k0_hw2 k0_t15 => k0_hw2.2.2.2.2.2.2.2.2.2.2.2.2.2.1 k0_t15
theorem k0_off451_inb : ∀ (v49_0 : BitVec 32) (k0_hw2 : k0_chk2 v49_0) (k0_t15 : Fin (k0_t15_loop v49_0).trips), ∀ a, (k0_off451 v49_0 k0_t15) a + S1.size a ≤ S2049.size a := fun v49_0 k0_hw2 k0_t15 => k0_hw2.2.2.2.2.2.2.2.2.2.2.2.2.2.2.1 k0_t15
theorem k0_off516_inb : ∀ (v49_0 : BitVec 32) (k0_hw2 : k0_chk2 v49_0) (k0_t4 : Fin k0_t4_loop.trips) (k0_t15 : Fin (k0_t15_loop v49_0).trips), ∀ a, (k0_off516 v49_0 k0_t4 k0_t15) a + S1.size a ≤ S4.size a := fun v49_0 k0_hw2 k0_t4 k0_t15 => k0_hw2.2.2.2.2.2.2.2.2.2.2.2.2.2.2.2.1 k0_t4 k0_t15
theorem k0_off517_inb : ∀ (v49_0 : BitVec 32) (k0_hw2 : k0_chk2 v49_0) (k0_t4 : Fin k0_t4_loop.trips) (k0_t15 : Fin (k0_t15_loop v49_0).trips), ∀ a, (k0_off517 v49_0 k0_t4 k0_t15) a + S8x24x8x128.size a ≤ S256x96x8x128.size a := fun v49_0 k0_hw2 k0_t4 k0_t15 => k0_hw2.2.2.2.2.2.2.2.2.2.2.2.2.2.2.2.2.1 k0_t4 k0_t15
theorem k0_off518_inb : ∀ (v49_0 : BitVec 32) (k0_hw2 : k0_chk2 v49_0) (k0_t4 : Fin k0_t4_loop.trips) (k0_t15 : Fin (k0_t15_loop v49_0).trips), ∀ a, (k0_off518 v49_0 k0_t4 k0_t15) a + S1x8x24x8x128.size a ≤ S4x9x24x8x128.size a := fun v49_0 k0_hw2 k0_t4 k0_t15 => k0_hw2.2.2.2.2.2.2.2.2.2.2.2.2.2.2.2.2.2.1 k0_t4 k0_t15
theorem k0_t18_ok : ∀ (v49_0 : BitVec 32) (k0_hw2 : k0_chk2 v49_0), (k0_t18_loop v49_0).OK := fun v49_0 k0_hw2 => k0_hw2.2.2.2.2.2.2.2.2.2.2.2.2.2.2.2.2.2.2.1
theorem k0_off519_inb : ∀ (v49_0 : BitVec 32) (k0_hw2 : k0_chk2 v49_0) (k0_t4 : Fin k0_t4_loop.trips) (k0_t18 : Fin (k0_t18_loop v49_0).trips), ∀ (k0_h4 : k0_cond4 v49_0 k0_t4 k0_t18 = 1#1), ∀ a, (k0_off519 v49_0 k0_t4 k0_t18) a + S1.size a ≤ S4.size a := fun v49_0 k0_hw2 k0_t4 k0_t18 k0_h4 => k0_hw2.2.2.2.2.2.2.2.2.2.2.2.2.2.2.2.2.2.2.2.1 k0_t4 k0_t18 k0_h4
theorem k0_off520_inb : ∀ (v49_0 : BitVec 32) (k0_hw2 : k0_chk2 v49_0) (k0_t4 : Fin k0_t4_loop.trips) (k0_t18 : Fin (k0_t18_loop v49_0).trips), ∀ (k0_h4 : k0_cond4 v49_0 k0_t4 k0_t18 = 1#1), ∀ a, (k0_off520 v49_0 k0_t4 k0_t18) a + S8x24x8x128.size a ≤ S256x96x8x128.size a := fun v49_0 k0_hw2 k0_t4 k0_t18 k0_h4 => k0_hw2.2.2.2.2.2.2.2.2.2.2.2.2.2.2.2.2.2.2.2.2.1 k0_t4 k0_t18 k0_h4
theorem k0_off521_inb : ∀ (v49_0 : BitVec 32) (k0_hw2 : k0_chk2 v49_0) (k0_t4 : Fin k0_t4_loop.trips) (k0_t18 : Fin (k0_t18_loop v49_0).trips), ∀ (k0_h4 : k0_cond4 v49_0 k0_t4 k0_t18 = 1#1), ∀ a, (k0_off521 v49_0 k0_t4 k0_t18) a + S1x8x24x8x128.size a ≤ S4x9x24x8x128.size a := fun v49_0 k0_hw2 k0_t4 k0_t18 k0_h4 => k0_hw2.2.2.2.2.2.2.2.2.2.2.2.2.2.2.2.2.2.2.2.2.2.1 k0_t4 k0_t18 k0_h4
theorem k0_off522_inb : ∀ (v49_0 : BitVec 32) (k0_hw2 : k0_chk2 v49_0) (k0_t4 : Fin k0_t4_loop.trips) (k0_t18 : Fin (k0_t18_loop v49_0).trips), ∀ (k0_h5 : k0_cond5 v49_0 k0_t18 = 1#1), ∀ a, (k0_off522 v49_0 k0_t4 k0_t18) a + S1x9x24x8x128.size a ≤ S4x9x24x8x128.size a := fun v49_0 k0_hw2 k0_t4 k0_t18 k0_h5 => k0_hw2.2.2.2.2.2.2.2.2.2.2.2.2.2.2.2.2.2.2.2.2.2.2.1 k0_t4 k0_t18 k0_h5
theorem k0_off523_inb : ∀ (v49_0 : BitVec 32) (k0_hw2 : k0_chk2 v49_0) (k0_t18 : Fin (k0_t18_loop v49_0).trips), ∀ a, (k0_off523 v49_0 k0_t18) a + S1.size a ≤ S2049.size a := fun v49_0 k0_hw2 k0_t18 => k0_hw2.2.2.2.2.2.2.2.2.2.2.2.2.2.2.2.2.2.2.2.2.2.2.2.1 k0_t18
theorem k0_off524_inb : ∀ (v49_0 : BitVec 32) (k0_hw2 : k0_chk2 v49_0) (k0_t18 : Fin (k0_t18_loop v49_0).trips), ∀ a, (k0_off524 v49_0 k0_t18) a + S1.size a ≤ S2049.size a := fun v49_0 k0_hw2 k0_t18 => k0_hw2.2.2.2.2.2.2.2.2.2.2.2.2.2.2.2.2.2.2.2.2.2.2.2.2.1 k0_t18
theorem k0_off589_inb : ∀ (v49_0 : BitVec 32) (k0_hw2 : k0_chk2 v49_0) (k0_t4 : Fin k0_t4_loop.trips) (k0_t18 : Fin (k0_t18_loop v49_0).trips), ∀ a, (k0_off589 v49_0 k0_t4 k0_t18) a + S1.size a ≤ S4.size a := fun v49_0 k0_hw2 k0_t4 k0_t18 => k0_hw2.2.2.2.2.2.2.2.2.2.2.2.2.2.2.2.2.2.2.2.2.2.2.2.2.2.1 k0_t4 k0_t18
theorem k0_off590_inb : ∀ (v49_0 : BitVec 32) (k0_hw2 : k0_chk2 v49_0) (k0_t4 : Fin k0_t4_loop.trips) (k0_t18 : Fin (k0_t18_loop v49_0).trips), ∀ a, (k0_off590 v49_0 k0_t4 k0_t18) a + S8x24x8x128.size a ≤ S256x96x8x128.size a := fun v49_0 k0_hw2 k0_t4 k0_t18 => k0_hw2.2.2.2.2.2.2.2.2.2.2.2.2.2.2.2.2.2.2.2.2.2.2.2.2.2.2.1 k0_t4 k0_t18
theorem k0_off591_inb : ∀ (v49_0 : BitVec 32) (k0_hw2 : k0_chk2 v49_0) (k0_t4 : Fin k0_t4_loop.trips) (k0_t18 : Fin (k0_t18_loop v49_0).trips), ∀ a, (k0_off591 v49_0 k0_t4 k0_t18) a + S1x8x24x8x128.size a ≤ S4x9x24x8x128.size a := fun v49_0 k0_hw2 k0_t4 k0_t18 => k0_hw2.2.2.2.2.2.2.2.2.2.2.2.2.2.2.2.2.2.2.2.2.2.2.2.2.2.2.2.1 k0_t4 k0_t18
theorem k0_t21_ok : ∀ (v49_0 : BitVec 32) (k0_hw2 : k0_chk2 v49_0), (k0_t21_loop v49_0).OK := fun v49_0 k0_hw2 => k0_hw2.2.2.2.2.2.2.2.2.2.2.2.2.2.2.2.2.2.2.2.2.2.2.2.2.2.2.2.2.1
theorem k0_t22_ok : ∀ (v49_0 : BitVec 32) (k0_hw2 : k0_chk2 v49_0), (k0_t22_loop v49_0).OK := fun v49_0 k0_hw2 => k0_hw2.2.2.2.2.2.2.2.2.2.2.2.2.2.2.2.2.2.2.2.2.2.2.2.2.2.2.2.2.2

abbrev stage0_0 : Fin 1 → Memref sig .tc .smem S2049 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x1024x12288 : Shape := ⟨3, ![2, 1024, 12288]⟩
abbrev S2x1024 : Shape := ⟨2, ![2, 1024]⟩
abbrev S2048 : Shape := ⟨1, ![2048]⟩
abbrev S2049 : Shape := ⟨1, ![2049]⟩
abbrev S2048x12288 : Shape := ⟨2, ![2048, 12288]⟩
abbrev S_ : Shape := ⟨0, ![]⟩
abbrev S2048x1 : Shape := ⟨2, ![2048, 1]⟩
abbrev S1x2048 : Shape := ⟨2, ![1, 2048]⟩
abbrev S2049x1 : Shape := ⟨2, ![2049, 1]⟩
abbrev S2049x2048 : Shape := ⟨2, ![2049, 2048]⟩

abbrev nBuf : Space → Nat
  | .hbm => 63
  | .vmem => 2
  | .smem => 0
  | _ => 0

abbrev bufTy : (tb : Table) → Fin (tcTables nBuf tb) → BufTy
  | .hbm, ⟨0, _⟩ => ⟨S2x1024x12288, .fp8e5m2⟩
  | .hbm, ⟨1, _⟩ => ⟨S2x1024, .f32⟩
  | .hbm, ⟨2, _⟩ => ⟨S2x1024, .i32⟩
  | .hbm, ⟨3, _⟩ => ⟨S2048, .i32⟩
  | .hbm, ⟨4, _⟩ => ⟨S2049, .i32⟩
  | .hbm, ⟨5, _⟩ => ⟨S2x1024x12288, .f32⟩
  | .hbm, ⟨6, _⟩ => ⟨S2048x12288, .f32⟩
  | .hbm, ⟨7, _⟩ => ⟨S_, .i32⟩
  | .hbm, ⟨8, _⟩ => ⟨S2048, .i32⟩
  | .hbm, ⟨9, _⟩ => ⟨S2048, .i1⟩
  | .hbm, ⟨10, _⟩ => ⟨S_, .i32⟩
  | .hbm, ⟨11, _⟩ => ⟨S2048, .i32⟩
  | .hbm, ⟨12, _⟩ => ⟨S2048, .i32⟩
  | .hbm, ⟨13, _⟩ => ⟨S2048, .i32⟩
  | .hbm, ⟨14, _⟩ => ⟨S2048x1, .i32⟩
  | .hbm, ⟨15, _⟩ => ⟨S2048x12288, .f32⟩
  | .hbm, ⟨16, _⟩ => ⟨S2048, .f32⟩
  | .hbm, ⟨17, _⟩ => ⟨S_, .i32⟩
  | .hbm, ⟨18, _⟩ => ⟨S2048, .i32⟩
  | .hbm, ⟨19, _⟩ => ⟨S2048, .i1⟩
  | .hbm, ⟨20, _⟩ => ⟨S_, .i32⟩
  | .hbm, ⟨21, _⟩ => ⟨S2048, .i32⟩
  | .hbm, ⟨22, _⟩ => ⟨S2048, .i32⟩
  | .hbm, ⟨23, _⟩ => ⟨S2048, .i32⟩
  | .hbm, ⟨24, _⟩ => ⟨S2048x1, .i32⟩
  | .hbm, ⟨25, _⟩ => ⟨S2048, .f32⟩
  | .hbm, ⟨26, _⟩ => ⟨S2048, .i32⟩
  | .hbm, ⟨27, _⟩ => ⟨S_, .i32⟩
  | .hbm, ⟨28, _⟩ => ⟨S2048, .i32⟩
  | .hbm, ⟨29, _⟩ => ⟨S2048, .i1⟩
  | .hbm, ⟨30, _⟩ => ⟨S_, .i32⟩
  | .hbm, ⟨31, _⟩ => ⟨S2048, .i32⟩
  | .hbm, ⟨32, _⟩ => ⟨S2048, .i32⟩
  | .hbm, ⟨33, _⟩ => ⟨S2048, .i32⟩
  | .hbm, ⟨34, _⟩ => ⟨S2048x1, .i32⟩
  | .hbm, ⟨35, _⟩ => ⟨S2048, .i32⟩
  | .hbm, ⟨36, _⟩ => ⟨S_, .i32⟩
  | .hbm, ⟨37, _⟩ => ⟨S2048, .i32⟩
  | .hbm, ⟨38, _⟩ => ⟨S2048, .i1⟩
  | .hbm, ⟨39, _⟩ => ⟨S2048x1, .i1⟩
  | .hbm, ⟨40, _⟩ => ⟨S2048x1, .f32⟩
  | .hbm, ⟨41, _⟩ => ⟨S2048x12288, .f32⟩
  | .hbm, ⟨42, _⟩ => ⟨S2048x12288, .f32⟩
  | .hbm, ⟨43, _⟩ => ⟨S_, .f32⟩
  | .hbm, ⟨44, _⟩ => ⟨S2048x12288, .i1⟩
  | .hbm, ⟨45, _⟩ => ⟨S2048x12288, .f32⟩
  | .hbm, ⟨46, _⟩ => ⟨S2048x12288, .f32⟩
  | .hbm, ⟨47, _⟩ => ⟨S2048, .i32⟩
  | .hbm, ⟨48, _⟩ => ⟨S1x2048, .i32⟩
  | .hbm, ⟨49, _⟩ => ⟨S2049x1, .i32⟩
  | .hbm, ⟨50, _⟩ => ⟨S2049x2048, .i32⟩
  | .hbm, ⟨51, _⟩ => ⟨S2049x2048, .i32⟩
  | .hbm, ⟨52, _⟩ => ⟨S2049x2048, .i1⟩
  | .hbm, ⟨53, _⟩ => ⟨S2049x2048, .i32⟩
  | .hbm, ⟨54, _⟩ => ⟨S_, .i32⟩
  | .hbm, ⟨55, _⟩ => ⟨S2048, .i32⟩
  | .hbm, ⟨56, _⟩ => ⟨S_, .i32⟩
  | .hbm, ⟨57, _⟩ => ⟨S2048, .i32⟩
  | .hbm, ⟨58, _⟩ => ⟨S2048, .i32⟩
  | .hbm, ⟨59, _⟩ => ⟨S_, .f32⟩
  | .hbm, ⟨60, _⟩ => ⟨S2048x12288, .f32⟩
  | .hbm, ⟨61, _⟩ => ⟨S2048x1, .i32⟩
  | .hbm, ⟨62, _⟩ => ⟨S2048x12288, .f32⟩
  | .local _ .vmem, ⟨0, _⟩ => ⟨S2x1024x12288, .fp8e5m2⟩
  | .local _ .vmem, ⟨1, _⟩ => ⟨S2x1024x12288, .f32⟩
  | _, _ => ⟨S2x1024x12288, .fp8e5m2⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_c_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst : Ref sig .tc := ⟨.hbm, 43, rfl⟩
abbrev main_call0_v0 : Ref sig .tc := ⟨.hbm, 44, rfl⟩
abbrev main_call0_v1 : Ref sig .tc := ⟨.hbm, 45, rfl⟩
abbrev main_v31 : Ref sig .tc := ⟨.hbm, 46, rfl⟩
abbrev main_v32 : Ref sig .tc := ⟨.hbm, 47, rfl⟩
abbrev main_call1_call0_v0 : Ref sig .tc := ⟨.hbm, 48, rfl⟩
abbrev main_call1_call0_v1 : Ref sig .tc := ⟨.hbm, 49, rfl⟩
abbrev main_call1_call0_v2 : Ref sig .tc := ⟨.hbm, 50, rfl⟩
abbrev main_call1_call0_v3 : Ref sig .tc := ⟨.hbm, 51, rfl⟩
abbrev main_call1_call0_v4 : Ref sig .tc := ⟨.hbm, 52, rfl⟩
abbrev main_call1_call0_v5 : Ref sig .tc := ⟨.hbm, 53, rfl⟩
abbrev main_call1_call0_c : Ref sig .tc := ⟨.hbm, 54, rfl⟩
abbrev main_v33 : Ref sig .tc := ⟨.hbm, 55, rfl⟩
abbrev main_c_6 : Ref sig .tc := ⟨.hbm, 56, rfl⟩
abbrev main_v34 : Ref sig .tc := ⟨.hbm, 57, rfl⟩
abbrev main_v35 : Ref sig .tc := ⟨.hbm, 58, rfl⟩
abbrev main_cst_7 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S2x1024x12288 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024x12288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.KernelIdeal.Base.lean ====
module

public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.FrameBody
public import Idealize.ShloMosaic.Lib.Pipeline.FrameSuffix
public import Idealize.ShloMosaic.Lib.Ring
public import Idealize.ShloMosaic.Lib.Exec
public import Idealize.ShloMosaic.Lib.Tactic
public import Idealize.ShloMosaic.Lib.WordCmp
public import Idealize.ShloMosaic.Lib.Batch
public import Idealize.ShloMosaic.Lib.Transfers
-- ==== Proof.KernelIdeal.Words.lean ====
module

public import proofs.«01_k».proof.Proof.KernelIdeal.Base

@[expose] public section

noncomputable section

namespace Cert.KernelIdeal.Emb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]
local notation "𝕄" => MT nD τ sig Unit (Elt F) ℕ (UD sig nD τ) ℕ
variable (𝒱 : Variants) (c : Dev nD)
variable {arg0 : Memref sig .tc .smem S2049 .i32} {harg0 : arg0.IsWhole} {arg1 : Memref sig .tc .vmem S16x128 .i32} {harg1 : arg1.IsWhole} {arg2 : Memref sig .tc .vmem S2x1024 .i32} {harg2 : arg2.IsWhole} {arg3 : Memref sig .tc .vmem S2x1024 .f32} {harg3 : arg3.IsWhole} {arg4 : Memref sig .tc .hbm S2x1024x12288 .fp8e5m2} {harg4 : arg4.IsWhole} {arg5 : Memref sig .tc .hbm S256x96x8x128 .f32} {harg5 : arg5.IsWhole} {arg6 : Memref sig .tc .vmem S2x2048x3072 .fp8e5m2} {harg6 : arg6.IsWhole} {arg7 : Memref sig .tc .vmem S256x24x8x128 .f32} {harg7 : arg7.IsWhole} {arg8 : Memref sig .tc .vmem S4x9x24x8x128 .f32} {harg8 : arg8.IsWhole} {arg9 : Memref sig .tc .vmem S8x24x8x128 .f32} {harg9 : arg9.IsWhole} {arg10 : Memref sig .tc .vmem S2048x128 .f32} {harg10 : arg10.IsWhole} {arg11 : Memref sig .tc .vmem S2x17x128 .i32} {harg11 : arg11.IsWhole} {arg12 : Memref sig .tc .smem S2176 .i32} {harg12 : arg12.IsWhole} {arg13 : Memref sig .tc .smem S2176 .i32} {harg13 : arg13.IsWhole} {arg14 : DmaSems sig S2x8} {arg15 : DmaSems sig S4} {arg16 : DmaSems sig S_} {arg17 : DmaSems sig S_}

/-! # Word arithmetic: the operations of the kernel on small nonnegative words -/

theorem ofNat_toNat {n : ℕ} (h : n < 4294967296) : (BitVec.ofNat 32 n).toNat = n := by
  rw [BitVec.toNat_ofNat]; omega

theorem toInt_small (x : BitVec 32) (h : x.toNat < 2147483648) : x.toInt = x.toNat := by
  rw [BitVec.toInt_eq_toNat_cond]; split <;> omega

theorem msb_small (x : BitVec 32) (h : x.toNat < 2147483648) : x.msb = false := by
  rw [BitVec.msb_eq_false_iff_two_mul_lt]; omega

theorem sle_small (x y : BitVec 32) (hx : x.toNat < 2147483648) (hy : y.toNat < 2147483648) :
    x.sle y = decide (x.toNat ≤ y.toNat) := by
  rw [BitVec.sle_eq_decide, toInt_small x hx, toInt_small y hy]; simp

theorem slt_small (x y : BitVec 32) (hx : x.toNat < 2147483648) (hy : y.toNat < 2147483648) :
    x.slt y = decide (x.toNat < y.toNat) := by
  rw [BitVec.slt_eq_decide, toInt_small x hx, toInt_small y hy]; simp

/-- A conditional on a comparison word. -/
theorem select_ofBool {α : Type} (b : Bool) (x y : α) :
    Scalar.select (BitVec.ofBool b) x y = if b then x else y := by
  cases b <;> rfl

theorem addi_toNat (x y : BitVec 32) (h : x.toNat + y.toNat < 4294967296) :
    (Scalar.addi x y).toNat = x.toNat + y.toNat := by
  show (x + y).toNat = _
  rw [BitVec.toNat_add]; omega

theorem muli_toNat (x y : BitVec 32) (h : x.toNat * y.toNat < 4294967296) :
    (Scalar.muli x y).toNat = x.toNat * y.toNat := by
  show (x * y).toNat = _
  rw [BitVec.toNat_mul]; exact Nat.mod_eq_of_lt h

theorem subi_toNat (x y : BitVec 32) (h : y.toNat ≤ x.toNat) :
    (Scalar.subi x y).toNat = x.toNat - y.toNat := by
  show (x - y).toNat = _
  rw [BitVec.toNat_sub]; have := x.isLt; have := y.isLt; omega

theorem noCorner (x d : BitVec 32) (hx : x.toNat < 2147483648) (h0 : 0 < d.toNat) : ¬ IntOp.SDivCorner x d := by
  rintro (h | ⟨h, _⟩)
  · subst h; simp at h0
  · subst h; revert hx; decide

theorem divsi_toNat (x d : BitVec 32) (hx : x.toNat < 2147483648) (hd : d.toNat < 2147483648) (h0 : 0 < d.toNat) :
    (Scalar.divsi x d).toNat = x.toNat / d.toNat := by
  unfold Scalar.divsi IntOp.divsi
  rw [if_neg]
  · rw [BitVec.sdiv_eq, msb_small x hx, msb_small d hd]; exact BitVec.toNat_udiv
  · exact noCorner x d hx h0

theorem remsi_toNat (x d : BitVec 32) (hx : x.toNat < 2147483648) (hd : d.toNat < 2147483648) (h0 : 0 < d.toNat) :
    (Scalar.remsi x d).toNat = x.toNat % d.toNat := by
  unfold Scalar.remsi IntOp.remsi
  rw [if_neg]
  · rw [BitVec.srem_eq, msb_small x hx, msb_small d hd]; exact BitVec.toNat_umod
  · exact noCorner x d hx h0

/-- The floor division the kernel computes: a truncating quotient, one less where the signs differ and the
remainder is not zero. -/
def fdivW (x d : BitVec 32) : BitVec 32 :=
  Scalar.select (Scalar.andi
      (Scalar.cmpi .ne (Scalar.subi (Scalar.extui (Scalar.cmpi .sgt x 0#32)) (Scalar.extui (Scalar.cmpi .slt x 0#32)))
        (Scalar.subi (Scalar.extui (Scalar.cmpi .sgt d 0#32)) (Scalar.extui (Scalar.cmpi .slt d 0#32))))
      (Scalar.cmpi .ne (Scalar.remsi x d) 0#32))
    (Scalar.subi (Scalar.divsi x d) 1#32) (Scalar.divsi x d)

theorem fdivW_toNat (x d : BitVec 32) (hx : x.toNat < 2147483648) (hd : d.toNat < 2147483648) (h0 : 0 < d.toNat) :
    (fdivW x d).toNat = x.toNat / d.toNat := by
  unfold fdivW
  have hr := remsi_toNat x d hx hd h0
  have e : Scalar.andi
      (Scalar.cmpi .ne (Scalar.subi (Scalar.extui (Scalar.cmpi .sgt x 0#32)) (Scalar.extui (Scalar.cmpi .slt x 0#32)))
        (Scalar.subi (Scalar.extui (Scalar.cmpi .sgt d 0#32)) (Scalar.extui (Scalar.cmpi .slt d 0#32))))
      (Scalar.cmpi .ne (Scalar.remsi x d) 0#32) = 0#1 := by
    have h1 : Scalar.cmpi .slt x 0#32 = 0#1 := by
      show BitVec.ofBool (x.slt 0#32) = _
      rw [slt_small x _ hx (by decide)]; simp
    have h2 : Scalar.cmpi .slt d 0#32 = 0#1 := by
      show BitVec.ofBool (d.slt 0#32) = _
      rw [slt_small d _ hd (by decide)]; simp
    have h3 : Scalar.cmpi .sgt d 0#32 = 1#1 := by
      show BitVec.ofBool ((0#32).slt d) = _
      rw [slt_small _ d (by decide) hd]; simp [h0]
    rw [h1, h2, h3]
    by_cases hz : x.toNat = 0
    · have : Scalar.cmpi .ne (Scalar.remsi x d) 0#32 = 0#1 := by
        have : Scalar.remsi x d = 0#32 := by
          apply BitVec.eq_of_toNat_eq; rw [hr, hz]; simp
        rw [this]; decide
      rw [this]
      show _ &&& 0#1 = 0#1
      simp
    · have h4 : Scalar.cmpi .sgt x 0#32 = 1#1 := by
        show BitVec.ofBool ((0#32).slt x) = _
        rw [slt_small _ x (by decide) hx]
        have : (0#32).toNat < x.toNat := by simp; omega
        rw [decide_eq_true this]; rfl
      rw [h4]
      show Scalar.cmpi .ne (Scalar.subi (Scalar.extui 1#1) (Scalar.extui 0#1)) (Scalar.subi (Scalar.extui 1#1) (Scalar.extui 0#1)) &&& _ = 0#1
      have : Scalar.cmpi .ne (Scalar.subi (Scalar.extui 1#1) (Scalar.extui 0#1)) (Scalar.subi (Scalar.extui 1#1) (Scalar.extui 0#1)) = 0#1 := by decide
      rw [this]; simp
  rw [e]
  exact divsi_toNat x d hx hd h0

/-- A counted loop from zero by ones has as many trips as its upper bound. -/
theorem trips_zero_one (ub : BitVec 32) (h : ub.toNat < 2147483648) : Scf.trips 0#32 ub 1#32 = ub.toNat := by
  unfold Scf.trips
  rw [toInt_small ub h]; simp

theorem trips_self (lb : BitVec 32) : Scf.trips lb lb 1#32 = 0 := by
  unfold Scf.trips; simp

theorem trips_one (lb ub : BitVec 32) (h : ub.toNat < 2147483648) (h' : lb.toNat ≤ ub.toNat) :
    Scf.trips lb ub 1#32 = ub.toNat - lb.toNat := by
  unfold Scf.trips
  rw [toInt_small ub h, toInt_small lb (by omega)]; simp

theorem iv_toNat (lb : BitVec 32) (k : ℕ) (h : lb.toNat + k < 4294967296) : (Scf.iv lb 1#32 k).toNat = lb.toNat + k := by
  unfold Scf.iv
  simp only [BitVec.mul_one]
  rw [BitVec.toNat_add, BitVec.toNat_ofNat]; omega

end Cert.KernelIdeal.Emb
-- ==== Proof.KernelIdeal.Chk.lean ====
module

public import proofs.«01_k».proof.Proof.KernelIdeal.Words

@[expose] public section

noncomputable section

namespace Cert.KernelIdeal.Emb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]
local notation "𝕄" => MT nD τ sig Unit (Elt F) ℕ (UD sig nD τ) ℕ
variable (𝒱 : Variants) (c : Dev nD)
variable {arg0 : Memref sig .tc .smem S2049 .i32} {harg0 : arg0.IsWhole} {arg1 : Memref sig .tc .vmem S16x128 .i32} {harg1 : arg1.IsWhole} {arg2 : Memref sig .tc .vmem S2x1024 .i32} {harg2 : arg2.IsWhole} {arg3 : Memref sig .tc .vmem S2x1024 .f32} {harg3 : arg3.IsWhole} {arg4 : Memref sig .tc .hbm S2x1024x12288 .fp8e5m2} {harg4 : arg4.IsWhole} {arg5 : Memref sig .tc .hbm S256x96x8x128 .f32} {harg5 : arg5.IsWhole} {arg6 : Memref sig .tc .vmem S2x2048x3072 .fp8e5m2} {harg6 : arg6.IsWhole} {arg7 : Memref sig .tc .vmem S256x24x8x128 .f32} {harg7 : arg7.IsWhole} {arg8 : Memref sig .tc .vmem S4x9x24x8x128 .f32} {harg8 : arg8.IsWhole} {arg9 : Memref sig .tc .vmem S8x24x8x128 .f32} {harg9 : arg9.IsWhole} {arg10 : Memref sig .tc .vmem S2048x128 .f32} {harg10 : arg10.IsWhole} {arg11 : Memref sig .tc .vmem S2x17x128 .i32} {harg11 : arg11.IsWhole} {arg12 : Memref sig .tc .smem S2176 .i32} {harg12 : arg12.IsWhole} {arg13 : Memref sig .tc .smem S2176 .i32} {harg13 : arg13.IsWhole} {arg14 : DmaSems sig S2x8} {arg15 : DmaSems sig S4} {arg16 : DmaSems sig S_} {arg17 : DmaSems sig S_}

/-! # The loop bounds and the side conditions that depend on the number of segments alone -/

/-- The bound of a counted loop as printed is the bound itself. -/
theorem bound_eq (lb ub : BitVec 32) (h : ub.toNat < 2147483648) (h' : lb.toNat ≤ ub.toNat) :
    Scalar.addi lb (Scalar.muli (Scalar.divsi (Scalar.subi ub lb) 1#32) 1#32) = ub := by
  apply BitVec.eq_of_toNat_eq
  have h1 := subi_toNat ub lb h'
  have h2 := divsi_toNat (Scalar.subi ub lb) 1#32 (by omega) (by decide) (by decide)
  have h2' : (Scalar.divsi (Scalar.subi ub lb) 1#32).toNat = ub.toNat - lb.toNat := by
    rw [h2, h1]; exact Nat.div_one _
  have h3 := muli_toNat (Scalar.divsi (Scalar.subi ub lb) 1#32) 1#32 (by rw [h2']; simp; omega)
  have h3' : (Scalar.muli (Scalar.divsi (Scalar.subi ub lb) 1#32) 1#32).toNat = ub.toNat - lb.toNat := by
    rw [h3, h2']; exact Nat.mul_one _
  rw [addi_toNat _ _ (by rw [h3']; omega), h3']; omega

/-- The number of blocks of 64 segments, as a word. -/
def nbW (v49 : BitVec 32) : BitVec 32 := fdivW (Scalar.subi (Scalar.addi v49 64#32) 1#32) 64#32

theorem nbW_toNat (v49 : BitVec 32) (h : v49.toNat ≤ 2048) : (nbW v49).toNat = (v49.toNat + 63) / 64 := by
  have h1 := addi_toNat v49 64#32 (by simp; omega)
  have h1' : (Scalar.addi v49 64#32).toNat = v49.toNat + 64 := h1
  have h2 := subi_toNat (Scalar.addi v49 64#32) 1#32 (by rw [h1']; simp)
  have h2' : (Scalar.subi (Scalar.addi v49 64#32) 1#32).toNat = v49.toNat + 63 := by rw [h2, h1']; simp
  unfold nbW
  rw [fdivW_toNat _ _ (by omega) (by decide) (by decide), h2']; rfl

/-- The number of trips of the counting loop, as a word. -/
def ctW (v49 : BitVec 32) : BitVec 32 := fdivW (Scalar.addi v49 15#32) 16#32

theorem ctW_toNat (v49 : BitVec 32) (h : v49.toNat ≤ 2048) : (ctW v49).toNat = (v49.toNat + 15) / 16 := by
  have h1 : (Scalar.addi v49 15#32).toNat = v49.toNat + 15 := addi_toNat v49 15#32 (by simp; omega)
  unfold ctW
  rw [fdivW_toNat _ _ (by omega) (by decide) (by decide), h1]; rfl

theorem t2_loop_eq (v49 : BitVec 32) (h : v49.toNat ≤ 2048) : k0_t2_loop v49 = ⟨0#32, ctW v49, 1#32⟩ := by
  have := bound_eq 0#32 (ctW v49) (by rw [ctW_toNat v49 h]; omega) (Nat.zero_le _)
  exact congrArg (fun x => (⟨0#32, x, 1#32⟩ : Scf.Loop 32)) this

theorem t3_loop_eq (v49 : BitVec 32) (h : v49.toNat ≤ 2048) : k0_t3_loop v49 = ⟨ctW v49, ctW v49, 1#32⟩ := by
  have h1 := bound_eq 0#32 (ctW v49) (by rw [ctW_toNat v49 h]; omega) (Nat.zero_le _)
  have h2 : Scalar.addi 0#32 (Scalar.subi (ctW v49) 0#32) = ctW v49 := by
    show 0#32 + (ctW v49 - 0#32) = _
    simp
  show (⟨_, _, 1#32⟩ : Scf.Loop 32) = _
  exact congrArg₂ (fun x y => (⟨x, y, 1#32⟩ : Scf.Loop 32)) h1 h2

theorem t5_loop_eq (v49 : BitVec 32) (h : v49.toNat ≤ 2048) : k0_t5_loop v49 = ⟨nbW v49, 32#32, 1#32⟩ := by
  have hn := nbW_toNat v49 h
  have := bound_eq (nbW v49) 32#32 (by decide) (by rw [hn]; simp; omega)
  exact congrArg (fun x => (⟨nbW v49, x, 1#32⟩ : Scf.Loop 32)) this

theorem t6_loop_eq (v49 : BitVec 32) (h : v49.toNat ≤ 2048) : k0_t6_loop v49 = ⟨32#32, 32#32, 1#32⟩ := by
  have hn := nbW_toNat v49 h
  have h1 := bound_eq (nbW v49) 32#32 (by decide) (by rw [hn]; simp; omega)
  have h2 : Scalar.addi (nbW v49) (Scalar.subi 32#32 (nbW v49)) = 32#32 := by
    show nbW v49 + (32#32 - nbW v49) = _
    apply BitVec.eq_of_toNat_eq; rw [BitVec.toNat_add, BitVec.toNat_sub, hn]; simp; omega
  exact congrArg₂ (fun x y => (⟨x, y, 1#32⟩ : Scf.Loop 32)) h1 h2

theorem t15_loop_eq (v49 : BitVec 32) (h : v49.toNat ≤ 2048) : k0_t15_loop v49 = ⟨0#32, nbW v49, 1#32⟩ := by
  have := bound_eq 0#32 (nbW v49) (by rw [nbW_toNat v49 h]; omega) (Nat.zero_le _)
  exact congrArg (fun x => (⟨0#32, x, 1#32⟩ : Scf.Loop 32)) this

theorem t18_loop_eq (v49 : BitVec 32) (h : v49.toNat ≤ 2048) : k0_t18_loop v49 = ⟨nbW v49, nbW v49, 1#32⟩ := by
  have h1 := bound_eq 0#32 (nbW v49) (by rw [nbW_toNat v49 h]; omega) (Nat.zero_le _)
  have h2 : Scalar.addi 0#32 (Scalar.subi (nbW v49) 0#32) = nbW v49 := by
    show 0#32 + (nbW v49 - 0#32) = _
    simp
  exact congrArg₂ (fun x y => (⟨x, y, 1#32⟩ : Scf.Loop 32)) h1 h2

theorem loop_ok (lb ub : BitVec 32) (h : ub.toNat < 2147483647) (h' : lb.toNat ≤ ub.toNat) :
    (⟨lb, ub, 1#32⟩ : Scf.Loop 32).OK := by
  refine ⟨by show 0 < (1#32 : BitVec 32).toInt; decide, ?_⟩
  show lb.toInt + (Scf.trips lb ub 1#32 : ℕ) * (1#32 : BitVec 32).toInt < 2 ^ 31
  rw [trips_one lb ub (by omega) h', toInt_small lb (by omega)]
  have : (1#32 : BitVec 32).toInt = 1 := by decide
  rw [this]; push_cast; omega

theorem t2_trips (v49 : BitVec 32) (h : v49.toNat ≤ 2048) : (k0_t2_loop v49).trips = (v49.toNat + 15) / 16 := by
  rw [t2_loop_eq v49 h, ← ctW_toNat v49 h]
  exact trips_zero_one _ (by rw [ctW_toNat v49 h]; omega)
theorem t3_trips (v49 : BitVec 32) (h : v49.toNat ≤ 2048) : (k0_t3_loop v49).trips = 0 := by
  rw [t3_loop_eq v49 h]; exact trips_self _
theorem t5_trips (v49 : BitVec 32) (h : v49.toNat ≤ 2048) : (k0_t5_loop v49).trips = 32 - (v49.toNat + 63) / 64 := by
  rw [t5_loop_eq v49 h, ← nbW_toNat v49 h]
  exact trips_one _ _ (by show (32#32 : BitVec 32).toNat < _; decide) (by rw [nbW_toNat v49 h]; simp; omega)
theorem t6_trips (v49 : BitVec 32) (h : v49.toNat ≤ 2048) : (k0_t6_loop v49).trips = 0 := by
  rw [t6_loop_eq v49 h]; exact trips_self _
theorem t15_trips (v49 : BitVec 32) (h : v49.toNat ≤ 2048) : (k0_t15_loop v49).trips = (v49.toNat + 63) / 64 := by
  rw [t15_loop_eq v49 h, ← nbW_toNat v49 h]
  exact trips_zero_one _ (by rw [nbW_toNat v49 h]; omega)
theorem t18_trips (v49 : BitVec 32) (h : v49.toNat ≤ 2048) : (k0_t18_loop v49).trips = 0 := by
  rw [t18_loop_eq v49 h]; exact trips_self _
theorem t4_trips : k0_t4_loop.trips = 4 := by decide

theorem iv0_toNat (k : ℕ) (h : k < 4294967296) : (Scf.iv 0#32 1#32 k).toNat = k := by
  rw [iv_toNat _ _ (by simpa using h)]; simp

theorem off2_eq (v49 : BitVec 32) (h : v49.toNat ≤ 2048) (t : Fin (k0_t2_loop v49).trips) (r : ℕ) (hr : r < 16) :
    k0_off2 v49 t (BitVec.ofNat 32 r) 0 = t.val * 16 + r := by
  have ht : t.val < 129 := by have := lt_of_lt_of_eq t.isLt (t2_trips v49 h); omega
  show (Scalar.addi (Scalar.muli (Scf.iv 0#32 1#32 t) 16#32) (BitVec.ofNat 32 r)).toNat = _
  have h1 : (Scalar.muli (Scf.iv 0#32 1#32 t) 16#32).toNat = t.val * 16 := by
    rw [muli_toNat _ _ (by rw [iv0_toNat _ (by omega)]; simp; omega), iv0_toNat _ (by omega)]; rfl
  rw [addi_toNat _ _ (by rw [h1, ofNat_toNat (by omega)]; omega), h1, ofNat_toNat (by omega)]

theorem off28_eq (v49 : BitVec 32) (h : v49.toNat ≤ 2048) (k : Fin k0_t4_loop.trips) (t : Fin (k0_t5_loop v49).trips) :
    k0_off28 v49 k t = ![((v49.toNat + 63) / 64 + t.val) * 8, k.val * 24, 0, 0] := by
  have ht := lt_of_lt_of_eq t.isLt (t5_trips v49 h)
  have hk := lt_of_lt_of_eq k.isLt t4_trips
  have h1 : (Scf.iv (nbW v49) 1#32 t).toNat = (v49.toNat + 63) / 64 + t.val := by
    rw [iv_toNat _ _ (by rw [nbW_toNat v49 h]; omega), nbW_toNat v49 h]
  show ![(Scalar.muli (Scf.iv (nbW v49) 1#32 t) 8#32).toNat, (Scalar.muli (Scf.iv 0#32 1#32 k) 24#32).toNat, 0, 0] = _
  rw [muli_toNat _ _ (by rw [h1]; simp; omega), h1, muli_toNat _ _ (by rw [iv0_toNat _ (by omega)]; simp; omega), iv0_toNat _ (by omega)]
  rfl

/-- The ring slot of a block. -/
def ringN (v49 : BitVec 32) (k b : ℕ) : ℕ := (k * ((v49.toNat + 63) / 64) + b) % 4

def stepW (v49 : BitVec 32) (k b : ℕ) : BitVec 32 :=
  Scalar.addi (Scalar.muli (Scf.iv 0#32 1#32 k) (nbW v49)) (Scf.iv 0#32 1#32 b)

theorem stepW_toNat (v49 : BitVec 32) (h : v49.toNat ≤ 2048) (k b : ℕ) (hk : k < 4) (hb : b < 33) :
    (stepW v49 k b).toNat = k * ((v49.toNat + 63) / 64) + b := by
  have hn := nbW_toNat v49 h
  have hm : k * ((v49.toNat + 63) / 64) ≤ 4 * 33 := Nat.mul_le_mul (by omega) (by omega)
  have h1 : (Scalar.muli (Scf.iv 0#32 1#32 k) (nbW v49)).toNat = k * ((v49.toNat + 63) / 64) := by
    rw [muli_toNat _ _ (by rw [iv0_toNat _ (by omega), hn]; omega), iv0_toNat _ (by omega), hn]
  unfold stepW
  rw [addi_toNat _ _ (by rw [h1, iv0_toNat _ (by omega)]; omega), h1, iv0_toNat _ (by omega)]

theorem ringW_toNat (v49 : BitVec 32) (h : v49.toNat ≤ 2048) (k b : ℕ) (hk : k < 4) (hb : b < 33) :
    (Scalar.remsi (stepW v49 k b) 4#32).toNat = ringN v49 k b := by
  have hm : k * ((v49.toNat + 63) / 64) ≤ 4 * 33 := Nat.mul_le_mul (by omega) (by omega)
  have h1 := stepW_toNat v49 h k b hk hb
  rw [remsi_toNat _ _ (by omega) (by decide) (by decide), h1]; rfl

theorem ringN_lt (v49 : BitVec 32) (k b : ℕ) : ringN v49 k b < 4 := Nat.mod_lt _ (by decide)

section offs
variable (v49 : BitVec 32) (h : v49.toNat ≤ 2048) (k : Fin k0_t4_loop.trips) (t : Fin (k0_t15_loop v49).trips)
include h

theorem t15_lt : t.val < (v49.toNat + 63) / 64 := by have ht := lt_of_lt_of_eq t.isLt (t15_trips v49 h); exact ht

theorem off446_eq : k0_off446 v49 k t = ![ringN v49 k t] := by
  have ht := t15_lt v49 h t
  have hk := lt_of_lt_of_eq k.isLt t4_trips
  rw [← ringW_toNat v49 h k t hk (by omega)]; rfl
theorem off516_eq : k0_off516 v49 k t = ![ringN v49 k t] := by
  have ht := t15_lt v49 h t
  have hk := lt_of_lt_of_eq k.isLt t4_trips
  rw [← ringW_toNat v49 h k t hk (by omega)]; rfl
theorem off448_eq : k0_off448 v49 k t = ![ringN v49 k t, 0, 0, 0, 0] := by
  have ht := t15_lt v49 h t
  have hk := lt_of_lt_of_eq k.isLt t4_trips
  rw [← ringW_toNat v49 h k t hk (by omega)]; rfl
theorem off449_eq : k0_off449 v49 k t = ![ringN v49 k t, 0, 0, 0, 0] := by
  have ht := t15_lt v49 h t
  have hk := lt_of_lt_of_eq k.isLt t4_trips
  rw [← ringW_toNat v49 h k t hk (by omega)]; rfl
theorem off518_eq : k0_off518 v49 k t = ![ringN v49 k t, 0, 0, 0, 0] := by
  have ht := t15_lt v49 h t
  have hk := lt_of_lt_of_eq k.isLt t4_trips
  rw [← ringW_toNat v49 h k t hk (by omega)]; rfl
theorem off447_eq : k0_off447 v49 k t = ![t.val * 8, k.val * 24, 0, 0] := by
  have ht := t15_lt v49 h t
  have hk := lt_of_lt_of_eq k.isLt t4_trips
  show ![(Scalar.muli (Scf.iv 0#32 1#32 t) 8#32).toNat, (Scalar.muli (Scf.iv 0#32 1#32 k) 24#32).toNat, 0, 0] = _
  rw [muli_toNat _ _ (by rw [iv0_toNat _ (by omega)]; simp; omega), iv0_toNat _ (by omega), muli_toNat _ _ (by rw [iv0_toNat _ (by omega)]; simp; omega), iv0_toNat _ (by omega)]
  rfl
theorem off517_eq : k0_off517 v49 k t = ![t.val * 8, k.val * 24, 0, 0] := off447_eq v49 h k t
theorem off450_eq : k0_off450 v49 t = ![t.val * 64] := by
  have ht := t15_lt v49 h t
  show ![(Scalar.muli (Scf.iv 0#32 1#32 t) 64#32).toNat] = _
  rw [muli_toNat _ _ (by rw [iv0_toNat _ (by omega)]; simp; omega), iv0_toNat _ (by omega)]; rfl
theorem off451_eq : k0_off451 v49 t = ![(t.val + 1) * 64] := by
  have ht := t15_lt v49 h t
  show ![(Scalar.minsi (Scalar.muli (Scalar.addi (Scf.iv 0#32 1#32 t) 1#32) 64#32) 2048#32).toNat] = _
  have h1 : (Scalar.addi (Scf.iv 0#32 1#32 t) 1#32).toNat = t.val + 1 := by
    rw [addi_toNat _ _ (by rw [iv0_toNat _ (by omega)]; simp; omega), iv0_toNat _ (by omega)]; rfl
  have h2 : (Scalar.muli (Scalar.addi (Scf.iv 0#32 1#32 t) 1#32) 64#32).toNat = (t.val + 1) * 64 := by
    rw [muli_toNat _ _ (by rw [h1]; simp; omega), h1]; rfl
  have h3 : Scalar.minsi (Scalar.muli (Scalar.addi (Scf.iv 0#32 1#32 t) 1#32) 64#32) 2048#32 = Scalar.muli (Scalar.addi (Scf.iv 0#32 1#32 t) 1#32) 64#32 := by
    show (if (Scalar.muli (Scalar.addi (Scf.iv 0#32 1#32 t) 1#32) 64#32).slt 2048#32 then _ else _) = _
    rw [slt_small _ _ (by rw [h2]; omega) (by decide), h2]
    split
    · rfl
    · rename_i hh
      apply BitVec.eq_of_toNat_eq
      rw [h2]
      have : (2048#32).toNat = 2048 := rfl
      simp at hh; omega
  rw [h3, h2]
end offs

theorem t21_loop_eq (v49 : BitVec 32) (h : v49.toNat ≤ 2048) :
    k0_t21_loop v49 = ⟨0#32, Scalar.muli 4#32 (Scalar.subi 32#32 (nbW v49)), 1#32⟩ := by
  have hn := nbW_toNat v49 h
  have h1 := subi_toNat 32#32 (nbW v49) (by rw [hn]; simp; omega)
  have h2 := muli_toNat 4#32 (Scalar.subi 32#32 (nbW v49)) (by rw [h1]; simp; omega)
  have h3 : (Scalar.muli 4#32 (Scalar.subi 32#32 (nbW v49))).toNat ≤ 128 := by rw [h2, h1]; simp; omega
  have := bound_eq 0#32 (Scalar.muli 4#32 (Scalar.subi 32#32 (nbW v49))) (by omega) (Nat.zero_le _)
  exact congrArg (fun x => (⟨0#32, x, 1#32⟩ : Scf.Loop 32)) this

theorem zdW_toNat (v49 : BitVec 32) (h : v49.toNat ≤ 2048) :
    (Scalar.muli 4#32 (Scalar.subi 32#32 (nbW v49))).toNat = 4 * (32 - (v49.toNat + 63) / 64) := by
  have hn := nbW_toNat v49 h
  have h1 := subi_toNat 32#32 (nbW v49) (by rw [hn]; simp; omega)
  have h2 := muli_toNat 4#32 (Scalar.subi 32#32 (nbW v49)) (by rw [h1]; simp; omega)
  rw [h2, h1, hn]; rfl

theorem t22_loop_eq (v49 : BitVec 32) (h : v49.toNat ≤ 2048) :
    k0_t22_loop v49 = ⟨Scalar.muli 4#32 (Scalar.subi 32#32 (nbW v49)), Scalar.muli 4#32 (Scalar.subi 32#32 (nbW v49)), 1#32⟩ := by
  have h3 := zdW_toNat v49 h
  have h1 := bound_eq 0#32 (Scalar.muli 4#32 (Scalar.subi 32#32 (nbW v49))) (by omega) (Nat.zero_le _)
  have h2 : Scalar.addi 0#32 (Scalar.subi (Scalar.muli 4#32 (Scalar.subi 32#32 (nbW v49))) 0#32) = Scalar.muli 4#32 (Scalar.subi 32#32 (nbW v49)) := by
    show 0#32 + (_ - 0#32) = _
    simp
  exact congrArg₂ (fun x y => (⟨x, y, 1#32⟩ : Scf.Loop 32)) h1 h2

theorem t21_trips (v49 : BitVec 32) (h : v49.toNat ≤ 2048) : (k0_t21_loop v49).trips = 4 * (32 - (v49.toNat + 63) / 64) := by
  rw [t21_loop_eq v49 h, ← zdW_toNat v49 h]
  exact trips_zero_one _ (by rw [zdW_toNat v49 h]; omega)
theorem t22_trips (v49 : BitVec 32) (h : v49.toNat ≤ 2048) : (k0_t22_loop v49).trips = 0 := by
  rw [t22_loop_eq v49 h]; exact trips_self _

theorem chk2_ok (v49 : BitVec 32) (h : v49.toNat ≤ 2048) : k0_chk2 v49 := by
  have hn := nbW_toNat v49 h
  have hc := ctW_toNat v49 h
  have no3 : ∀ t : Fin (k0_t3_loop v49).trips, False := fun t => by have := lt_of_lt_of_eq t.isLt (t3_trips v49 h); omega
  have no6 : ∀ t : Fin (k0_t6_loop v49).trips, False := fun t => by have := lt_of_lt_of_eq t.isLt (t6_trips v49 h); omega
  have no18 : ∀ t : Fin (k0_t18_loop v49).trips, False := fun t => by have := lt_of_lt_of_eq t.isLt (t18_trips v49 h); omega
  refine ⟨?_, ?_, ?_, fun t => (no3 t).elim, ?_, ?_, ?_, fun _ t => (no6 t).elim, ?_, ?_, ?_, ?_, ?_, ?_, ?_, ?_, ?_, ?_, ?_, fun _ t => (no18 t).elim, fun _ t => (no18 t).elim, fun _ t => (no18 t).elim, fun _ t => (no18 t).elim, fun t => (no18 t).elim, fun t => (no18 t).elim, fun _ t => (no18 t).elim, fun _ t => (no18 t).elim, fun _ t => (no18 t).elim, ?_, ?_⟩
  · rw [t2_loop_eq v49 h]; exact loop_ok _ _ (by omega) (Nat.zero_le _)
  · intro t r a; fin_cases a
    have ht := lt_of_lt_of_eq t.isLt (t2_trips v49 h)
    show k0_off2 v49 t (BitVec.ofNat 32 r.val) 0 + 1 ≤ 2049
    rw [off2_eq v49 h t r.val r.isLt]; omega
  · rw [t3_loop_eq v49 h]; exact loop_ok _ _ (by omega) (le_refl _)
  · rw [t5_loop_eq v49 h]; exact loop_ok _ _ (by decide) (by rw [hn]; simp; omega)
  · intro k t
    have ht := lt_of_lt_of_eq t.isLt (t5_trips v49 h)
    have hk := lt_of_lt_of_eq k.isLt t4_trips
    rw [off28_eq v49 h k t]
    intro a; fin_cases a <;> simp <;> omega
  · rw [t6_loop_eq v49 h]; exact loop_ok _ _ (by decide) (le_refl _)
  · rw [t15_loop_eq v49 h]; exact loop_ok _ _ (by omega) (Nat.zero_le _)
  · intro k t _
    have := ringN_lt v49 k t
    rw [off446_eq v49 h k t]
    intro a; fin_cases a; simp; omega
  · intro k t _
    have := t15_lt v49 h t
    have hk := lt_of_lt_of_eq k.isLt t4_trips
    rw [off447_eq v49 h k t]
    intro a; fin_cases a <;> simp <;> omega
  · intro k t _
    have := ringN_lt v49 k t
    rw [off448_eq v49 h k t]
    intro a; fin_cases a <;> simp <;> omega
  · intro k t _
    have := ringN_lt v49 k t
    rw [off449_eq v49 h k t]
    intro a; fin_cases a <;> simp <;> omega
  · intro t
    have := t15_lt v49 h t
    rw [off450_eq v49 h t]
    intro a; fin_cases a; simp; omega
  · intro t
    have := t15_lt v49 h t
    rw [off451_eq v49 h t]
    intro a; fin_cases a; simp; omega
  · intro k t
    have := ringN_lt v49 k t
    rw [off516_eq v49 h k t]
    intro a; fin_cases a; simp; omega
  · intro k t
    have := t15_lt v49 h t
    have hk := lt_of_lt_of_eq k.isLt t4_trips
    rw [off517_eq v49 h k t]
    intro a; fin_cases a <;> simp <;> omega
  · intro k t
    have := ringN_lt v49 k t
    rw [off518_eq v49 h k t]
    intro a; fin_cases a <;> simp <;> omega
  · rw [t18_loop_eq v49 h]; exact loop_ok _ _ (by omega) (le_refl _)
  · rw [t21_loop_eq v49 h]; exact loop_ok _ _ (by rw [zdW_toNat v49 h]; omega) (Nat.zero_le _)
  · rw [t22_loop_eq v49 h]; exact loop_ok _ _ (by rw [zdW_toNat v49 h]; omega) (le_refl _)

end Cert.KernelIdeal.Emb
-- ==== Proof.KernelIdeal.Own.lean ====
module

public import proofs.«01_k».proof.Proof.KernelIdeal.Chk

@[expose] public section

noncomputable section

namespace Cert.KernelIdeal.Emb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]
local notation "𝕄" => MT nD τ sig Unit (Elt F) ℕ (UD sig nD τ) ℕ
variable (𝒱 : Variants) (c : Dev nD)
variable {arg0 : Memref sig .tc .smem S2049 .i32} {harg0 : arg0.IsWhole} {arg1 : Memref sig .tc .vmem S16x128 .i32} {harg1 : arg1.IsWhole} {arg2 : Memref sig .tc .vmem S2x1024 .i32} {harg2 : arg2.IsWhole} {arg3 : Memref sig .tc .vmem S2x1024 .f32} {harg3 : arg3.IsWhole} {arg4 : Memref sig .tc .hbm S2x1024x12288 .fp8e5m2} {harg4 : arg4.IsWhole} {arg5 : Memref sig .tc .hbm S256x96x8x128 .f32} {harg5 : arg5.IsWhole} {arg6 : Memref sig .tc .vmem S2x2048x3072 .fp8e5m2} {harg6 : arg6.IsWhole} {arg7 : Memref sig .tc .vmem S256x24x8x128 .f32} {harg7 : arg7.IsWhole} {arg8 : Memref sig .tc .vmem S4x9x24x8x128 .f32} {harg8 : arg8.IsWhole} {arg9 : Memref sig .tc .vmem S8x24x8x128 .f32} {harg9 : arg9.IsWhole} {arg10 : Memref sig .tc .vmem S2048x128 .f32} {harg10 : arg10.IsWhole} {arg11 : Memref sig .tc .vmem S2x17x128 .i32} {harg11 : arg11.IsWhole} {arg12 : Memref sig .tc .smem S2176 .i32} {harg12 : arg12.IsWhole} {arg13 : Memref sig .tc .smem S2176 .i32} {harg13 : arg13.IsWhole} {arg14 : DmaSems sig S2x8} {arg15 : DmaSems sig S4} {arg16 : DmaSems sig S_} {arg17 : DmaSems sig S_}

/-! # Ownership of a region of a buffer, at stated values -/

/-- The weakest precondition of a program of the kernel's core. -/
abbrev WP {α : Type} (p : Prog (TpuEff nD τ sig (Elt F) Λ₀ .tc) α) (Q : α → sProp 𝕄) : sProp 𝕄 :=
  wp frame (wpE (defs₀ (F := F)) 𝒱 (c : Thread nD τ) none) Set.univ p Q

theorem WP_bind {α β : Type} (p : Prog (TpuEff nD τ sig (Elt F) Λ₀ .tc) α) (k : α → Prog (TpuEff nD τ sig (Elt F) Λ₀ .tc) β) (Q : β → sProp 𝕄) :
    WP 𝒱 c (p >>= k) Q = WP 𝒱 c p (fun a => WP 𝒱 c (k a) Q) := wp_bind _ _ _ _ _ _

theorem WP_pure {α : Type} (a : α) (Q : α → sProp 𝕄) : Q a ⊢ WP 𝒱 c (pure a) Q := le_wp_ret _ _ _ _ _

/-- The indices of which `P` holds. -/
def rgn {s : Shape} (P : s.Idx → Prop) : Finset s.Idx := @Finset.filter _ P (Classical.decPred P) Finset.univ

theorem mem_rgn {s : Shape} {P : s.Idx → Prop} {i : s.Idx} : i ∈ rgn P ↔ P i := by
  unfold rgn; rw [@Finset.mem_filter]; simp

variable {sp sp' : Space} {s s' : Shape} {e : EltTy}

/-- The elements of `m` at the indices of which `P` holds, at share `q`, reading `g`. -/
def Has (m : Memref sig .tc sp s e) (P : s.Idx → Prop) (q : PosShare TreeShare) (g : s.Idx → Elt F e) : sProp 𝕄 :=
  iprop(∃ X, ⌜∀ i, P i → m.view.read (Elt F) X i = g i⌝ ∗ (m.view.loc (c : Thread nD τ) ↦[m.view.setOn (rgn P)]{q} X))

/-- All of `m`. -/
abbrev Own (m : Memref sig .tc sp s e) (q : PosShare TreeShare) (g : s.Idx → Elt F e) : sProp 𝕄 := Has c m (fun _ => True) q g
/-- All of `m`, at some contents. -/
abbrev Any (m : Memref sig .tc sp s e) (P : s.Idx → Prop) : sProp 𝕄 := iprop(∃ g, Has c m P fullShare g)

instance Has_storable (m : Memref sig .tc sp s e) (P : s.Idx → Prop) (q : PosShare TreeShare) (g : s.Idx → Elt F e) :
    BI.Storable (upEmb : UEmb _ 𝕄) (Has c m P q g) := by
  unfold Has; infer_instance

variable {c} {m : Memref sig .tc sp s e} {P R S : s.Idx → Prop} {q : PosShare TreeShare} {g g' : s.Idx → Elt F e}

theorem rgn_univ : rgn (fun _ : s.Idx => True) = Finset.univ := by ext i; simp [mem_rgn]

theorem Has.congr (hP : ∀ i, P i ↔ R i) (hg : ∀ i, P i → g i = g' i) : Has c m P q g ⊢ Has c m R q g' := by
  have e : P = R := funext fun i => propext (hP i)
  subst e
  unfold Has
  iintro ⟨%X, %hX, H⟩
  iexists X
  iframe
  ipureintro
  exact fun i hi => (hX i hi).trans (hg i hi)

theorem Own.of_pointsTo (X : BufTy.Contents (Elt F) m.view.ty) :
    (m.view.loc (c : Thread nD τ) ↦[m.view.set]{q} X : sProp 𝕄) ⊢ Own c m q (m.view.read (Elt F) X) := by
  unfold Own Has
  iintro H
  iexists X
  rw [rgn_univ, View.setOn_univ]
  iframe
  ipureintro
  exact fun _ _ => rfl

theorem Own.to_pointsTo : Own c m q g ⊢ (iprop(∃ X, ⌜m.view.read (Elt F) X = g⌝ ∗ (m.view.loc (c : Thread nD τ) ↦[m.view.set]{q} X)) : sProp 𝕄) := by
  unfold Own Has
  iintro ⟨%X, %hX, H⟩
  iexists X
  rw [rgn_univ, View.setOn_univ]
  iframe
  ipureintro
  exact funext fun i => hX i trivial

/-- A part of a region, and the rest. -/
theorem Has.split (hS : ∀ i, P i ↔ (R i ∨ S i)) (hd : ∀ i, R i → ¬ S i) : Has c m P q g ⊢ iprop(Has c m R q g ∗ Has c m S q g) := by
  unfold Has
  iintro ⟨%X, %hX, H⟩
  have e : m.view.setOn (rgn P) = m.view.setOn (rgn R) ∪ m.view.setOn (rgn S) := by
    unfold View.setOn
    rw [← Finset.map_union]
    congr 1
    ext i; rw [Finset.mem_union, mem_rgn, mem_rgn, mem_rgn, hS i]
  have hdj : Disjoint (m.view.setOn (rgn R)) (m.view.setOn (rgn S)) := by
    unfold View.setOn
    rw [Finset.disjoint_map, Finset.disjoint_left]
    intro i hi hj
    exact hd i (mem_rgn.mp hi) (mem_rgn.mp hj)
  rw [e]
  ihave H := (pointsTo_union hdj).1 $$ H
  icases H with ⟨H1, H2⟩
  isplitl [H1]
  · iexists X; iframe; ipureintro; exact fun i hi => hX i ((hS i).mpr (.inl hi))
  · iexists X; iframe; ipureintro; exact fun i hi => hX i ((hS i).mpr (.inr hi))

/-- Two regions with no common index, together. -/
theorem Has.join (hS : ∀ i, P i ↔ (R i ∨ S i)) (hd : ∀ i, R i → ¬ S i) : iprop(Has c m R q g ∗ Has c m S q g) ⊢ Has c m P q g := by
  unfold Has
  iintro ⟨⟨%X, %hX, H1⟩, ⟨%Y, %hY, H2⟩⟩
  have e : m.view.setOn (rgn P) = m.view.setOn (rgn R) ∪ m.view.setOn (rgn S) := by
    unfold View.setOn
    rw [← Finset.map_union]
    congr 1
    ext i; rw [Finset.mem_union, mem_rgn, mem_rgn, mem_rgn, hS i]
  have hdj : Disjoint (m.view.setOn (rgn R)) (m.view.setOn (rgn S)) := by
    unfold View.setOn
    rw [Finset.disjoint_map, Finset.disjoint_left]
    intro i hi hj
    exact hd i (mem_rgn.mp hi) (mem_rgn.mp hj)
  classical
  let Z : BufTy.Contents (Elt F) m.view.ty := fun x => if x ∈ m.view.setOn (rgn R) then X x else Y x
  have hZ1 : ∀ x ∈ m.view.setOn (rgn R), X x = Z x := fun x hx => (if_pos hx).symm
  have hZ2 : ∀ x ∈ m.view.setOn (rgn S), Y x = Z x := fun x hx => (if_neg (fun h => Finset.disjoint_left.mp hdj h hx)).symm
  ihave H1 := (Entails.of_eq (pointsTo_congr hZ1)) $$ H1
  ihave H2 := (Entails.of_eq (pointsTo_congr hZ2)) $$ H2
  iexists Z
  rw [e]
  ihave H := (pointsTo_union (ℓ := m.view.loc (c : Thread nD τ)) (f := Z) (q := q) hdj).2 $$ [H1 H2]
  · isplitl [H1] <;> iassumption
  iframe
  ipureintro
  intro i hi
  rcases (hS i).mp hi with h | h
  · rw [← hX i h]
    exact View.read_congr_at i (hZ1 _ (View.mem_setOn _ |>.mpr (mem_rgn.mpr h))).symm
  · rw [← hY i h]
    exact View.read_congr_at i (hZ2 _ (View.mem_setOn _ |>.mpr (mem_rgn.mpr h))).symm

/-- Two regions, at values of their own. -/
theorem Any.join (hS : ∀ i, P i ↔ (R i ∨ S i)) (hd : ∀ i, R i → ¬ S i) : iprop(Any (F := F) c m R ∗ Any (F := F) c m S) ⊢ Any (F := F) c m P := by
  classical
  iintro ⟨⟨%g1, H1⟩, ⟨%g2, H2⟩⟩
  iexists (fun i => if R i then g1 i else g2 i)
  iapply (Has.join hS hd)
  isplitl [H1]
  · iapply (Has.congr (fun _ => Iff.rfl) (fun i hi => (if_pos hi).symm)) $$ H1
  · iapply (Has.congr (fun _ => Iff.rfl) (fun i hi => (if_neg (fun h => hd i h hi)).symm)) $$ H2

theorem Any.split (hS : ∀ i, P i ↔ (R i ∨ S i)) (hd : ∀ i, R i → ¬ S i) : Any (F := F) c m P ⊢ iprop(Any (F := F) c m R ∗ Any (F := F) c m S) := by
  iintro ⟨%g, H⟩
  ihave H := (Has.split hS hd) $$ H
  icases H with ⟨H1, H2⟩
  isplitl [H1]
  · iexists g; iexact H1
  · iexists g; iexact H2

theorem Elt.nonempty (e : EltTy) : Nonempty (Elt F e) := by
  cases e
  all_goals first
    | exact ⟨(0 : BitVec _)⟩
    | exact ⟨(FloatOps.ofBits .f32 0 : F .f32)⟩
    | exact ⟨(FloatOps.ofBits .bf16 0 : F .bf16)⟩
    | exact ⟨(FloatOps.ofBits .f16 0 : F .f16)⟩
    | exact ⟨(FloatOps.ofBits .fp8e4m3 0 : F .fp8e4m3)⟩
    | exact ⟨(FloatOps.ofBits .fp8e5m2 0 : F .fp8e5m2)⟩

theorem Has.empty (hP : ∀ i, ¬ P i) : (emp : sProp 𝕄) ⊢ Has c m P q g := by
  unfold Has
  iintro _
  obtain ⟨x⟩ := Elt.nonempty (F := F) m.view.ty.elt
  iexists (fun _ => x)
  have e : rgn P = ∅ := by ext i; simp [mem_rgn, hP i]
  rw [e]; unfold View.setOn; rw [Finset.map_empty, pointsTo_empty]
  isplitr
  · ipureintro; exact fun i hi => absurd hi (hP i)
  · iempintro

/-! ## Through slices and reshapes -/

theorem setOn_slice (r : Rect s) {P' : r.shape.Idx → Prop} (hP : ∀ i, P i ↔ ∃ j, P' j ∧ r.emb j = i) :
    (m.view.slice r).setOn (rgn P') = m.view.setOn (rgn P) := by
  unfold View.setOn
  rw [View.emb_slice, ← Finset.map_map]
  congr 1
  ext i
  rw [Finset.mem_map, mem_rgn, hP i]
  constructor
  · rintro ⟨j, hj, rfl⟩; exact ⟨j, mem_rgn.mp hj, rfl⟩
  · rintro ⟨j, hj, rfl⟩; exact ⟨j, mem_rgn.mpr hj, rfl⟩

theorem Has.to_slice (r : Rect s) (hr : ∀ a, r.stride a = 1) {P' : r.shape.Idx → Prop} {g' : r.shape.Idx → Elt F e}
    (hP : ∀ i, P i ↔ ∃ j, P' j ∧ r.emb j = i) (hg : ∀ j, P' j → g (r.emb j) = g' j) : Has c m P q g ⊢ Has c (m.slice r hr) P' q g' := by
  unfold Has
  rw [show (m.slice r hr).view.setOn (rgn P') = m.view.setOn (rgn P) from setOn_slice r hP]
  iintro ⟨%X, %hX, H⟩
  iexists X
  iframe
  ipureintro
  exact fun j hj => (hX (r.emb j) ((hP _).mpr ⟨j, hj, rfl⟩)).trans (hg j hj)

theorem Has.of_slice (r : Rect s) (hr : ∀ a, r.stride a = 1) {P' : r.shape.Idx → Prop} {g' : r.shape.Idx → Elt F e}
    (hP : ∀ i, P i ↔ ∃ j, P' j ∧ r.emb j = i) (hg : ∀ j, P' j → g (r.emb j) = g' j) : Has c (m.slice r hr) P' q g' ⊢ Has c m P q g := by
  unfold Has
  rw [show (m.slice r hr).view.setOn (rgn P') = m.view.setOn (rgn P) from setOn_slice r hP]
  iintro ⟨%X, %hX, H⟩
  iexists X
  iframe
  ipureintro
  intro i hi
  obtain ⟨j, hj, rfl⟩ := (hP i).mp hi
  exact (hX j hj).trans (hg j hj).symm

theorem setOn_reshape (h : s'.numel = s.numel) {P' : s'.Idx → Prop} (hP : ∀ j, P' j ↔ P (Shape.reshapeEquiv h j)) :
    (m.view.reshape s' h).setOn (rgn P') = m.view.setOn (rgn P) := by
  unfold View.setOn
  rw [View.emb_reshape, ← Finset.map_map]
  congr 1
  ext i
  rw [Finset.mem_map, mem_rgn]
  constructor
  · rintro ⟨j, hj, rfl⟩; exact (hP j).mp (mem_rgn.mp hj)
  · intro hi
    refine ⟨(Shape.reshapeEquiv h).symm i, mem_rgn.mpr ((hP _).mpr ?_), ?_⟩
    · rw [Equiv.apply_symm_apply]; exact hi
    · exact Equiv.apply_symm_apply _ _

/-- A memref over the reshaped view holds what the original does. -/
theorem Has.to_reshape (h : s'.numel = s.numel) (hm : (m.view.reshape s' h).Mosaic) {P' : s'.Idx → Prop} {g' : s'.Idx → Elt F e}
    (hP : ∀ j, P' j ↔ P (Shape.reshapeEquiv h j)) (hg : ∀ j, P' j → g (Shape.reshapeEquiv h j) = g' j) :
    Has c m P q g ⊢ Has c (⟨m.view.reshape s' h, hm⟩ : Memref sig .tc sp s' e) P' q g' := by
  unfold Has
  rw [show (⟨m.view.reshape s' h, hm⟩ : Memref sig .tc sp s' e).view.setOn (rgn P') = m.view.setOn (rgn P) from setOn_reshape h hP]
  iintro ⟨%X, %hX, H⟩
  iexists X
  iframe
  ipureintro
  exact fun j hj => (hX _ ((hP _).mp hj)).trans (hg j hj)

theorem Has.of_reshape (h : s'.numel = s.numel) (hm : (m.view.reshape s' h).Mosaic) {P' : s'.Idx → Prop} {g' : s'.Idx → Elt F e}
    (hP : ∀ j, P' j ↔ P (Shape.reshapeEquiv h j)) (hg : ∀ j, P' j → g (Shape.reshapeEquiv h j) = g' j) :
    Has c (⟨m.view.reshape s' h, hm⟩ : Memref sig .tc sp s' e) P' q g' ⊢ Has c m P q g := by
  unfold Has
  rw [show (⟨m.view.reshape s' h, hm⟩ : Memref sig .tc sp s' e).view.setOn (rgn P') = m.view.setOn (rgn P) from setOn_reshape h hP]
  iintro ⟨%X, %hX, H⟩
  iexists X
  iframe
  ipureintro
  intro i hi
  have e : Shape.reshapeEquiv h ((Shape.reshapeEquiv h).symm i) = i := Equiv.apply_symm_apply _ _
  have hj : P' ((Shape.reshapeEquiv h).symm i) := (hP _).mpr (e.symm ▸ hi)
  have := (hX _ hj).trans (hg _ hj).symm
  have e2 : (m.view.reshape s' h).read (Elt F) X ((Shape.reshapeEquiv h).symm i) = m.view.read (Elt F) X (Shape.reshapeEquiv h ((Shape.reshapeEquiv h).symm i)) := rfl
  rw [e] at e2
  rw [← e2]
  exact this.trans (congrArg g e)

/-- A slice with some axes of size one dropped, from the region it covers. -/
theorem Has.to_window (r : Rect s) (hr : ∀ a, r.stride a = 1) (hs : r.shape.Squeezes s')
    (hP : ∀ i, P i ↔ i ∈ r.set) {g' : s'.Idx → Elt F e} (hg : ∀ j, g (r.emb (Shape.reshapeEquiv hs.numel_eq j)) = g' j) :
    Has c m P q g ⊢ Own c ((m.slice r hr).squeeze s' hs) q g' := by
  refine (Has.to_slice r hr (P' := fun _ => True) (g' := fun j => g (r.emb j)) (fun i => ?_) (fun j _ => rfl)).trans ?_
  · rw [hP i, ← Rect.map_emb_univ, Finset.mem_map]; simp
  · exact Has.to_reshape hs.numel_eq _ (fun _ => Iff.rfl) (fun j _ => hg j)

theorem Has.of_window (r : Rect s) (hr : ∀ a, r.stride a = 1) (hs : r.shape.Squeezes s')
    (hP : ∀ i, P i ↔ i ∈ r.set) {g' : s'.Idx → Elt F e} (hg : ∀ j, g (r.emb (Shape.reshapeEquiv hs.numel_eq j)) = g' j) :
    Own c ((m.slice r hr).squeeze s' hs) q g' ⊢ Has c m P q g := by
  refine BIBase.Entails.trans ?_ (Has.of_slice r hr (P' := fun _ => True) (g' := fun j => g (r.emb j)) (fun i => ?_) (fun j _ => rfl))
  · exact Has.of_reshape hs.numel_eq _ (fun _ => Iff.rfl) (fun j _ => hg j)
  · rw [hP i, ← Rect.map_emb_univ, Finset.mem_map]; simp

theorem Has.to_window' (r : Rect s) (hr : ∀ a, r.stride a = 1)
    (hP : ∀ i, P i ↔ i ∈ r.set) {g' : r.shape.Idx → Elt F e} (hg : ∀ j, g (r.emb j) = g' j) :
    Has c m P q g ⊢ Own c (m.slice r hr) q g' := by
  refine (Has.to_slice r hr (P' := fun _ => True) (g' := g') (fun i => ?_) (fun j _ => hg j))
  rw [hP i, ← Rect.map_emb_univ, Finset.mem_map]; simp

theorem Has.of_window' (r : Rect s) (hr : ∀ a, r.stride a = 1)
    (hP : ∀ i, P i ↔ i ∈ r.set) {g' : r.shape.Idx → Elt F e} (hg : ∀ j, g (r.emb j) = g' j) :
    Own c (m.slice r hr) q g' ⊢ Has c m P q g := by
  refine (Has.of_slice r hr (P' := fun _ => True) (g' := g') (fun i => ?_) (fun j _ => hg j))
  rw [hP i, ← Rect.map_emb_univ, Finset.mem_map]; simp

/-! ## Loads and stores -/

theorem set_sub (r : Rect s) (hP : ∀ j, P (r.emb j)) : (m.access r).set ⊆ m.view.setOn (rgn P) := by
  intro x hx
  obtain ⟨j, -, rfl⟩ := Finset.mem_map.mp hx
  exact (View.mem_setOn m.view (x := r.emb j)).mpr (mem_rgn.mpr (hP j))

theorem load_rule {cs : CoreSpace} {m : Memref sig .tc cs s e} {r : Rect s} {hl : m.view.LoadsAt r.toLoadRect} {Q : (r.shape.Idx → Elt F e) → sProp 𝕄}
    (hP : ∀ j, P (r.emb j)) :
    Has c m P q g ⊢ iprop((Has c m P q g -∗ Q (fun j => g (r.emb j))) -∗ WP 𝒱 c (Prog.lift (.load m r.toLoadRect hl)) Q) := by
  unfold Has
  iintro ⟨%X, %hX, H⟩ HQ
  iapply (wp_load_rect 𝒱 (c : Thread nD τ) none Set.univ (m := m) (r := r) (hl := hl) (f := X) (q := q) (set_sub r hP)) $$ H
  iintro H
  iapply (le_wp_ret _ _ _ _ _)
  have e : (m.access r).read (Elt F) X = fun j => g (r.emb j) := funext fun j => hX _ (hP j)
  rw [e]
  iapply HQ
  iexists X
  iframe
  ipureintro
  exact hX

theorem smem_rule {m : Memref sig .tc .smem s e} {r : Rect s} {h1 : r.shape.numel = 1} {hp : e.packing = 1} {Q : Elt F e → sProp 𝕄}
    (hP : ∀ j, P (r.emb j)) (j : r.shape.Idx) :
    Has c m P q g ⊢ iprop((Has c m P q g -∗ Q (g (r.emb j))) -∗ WP 𝒱 c (smemLoad m r h1 hp) Q) := by
  unfold Has
  iintro ⟨%X, %hX, H⟩ HQ
  unfold smemLoad
  iapply (wp_smemLoadElt 𝒱 (c : Thread nD τ) none Set.univ (m := m) (r := r) (f := X) (q := q) (set_sub r hP)) $$ H
  iintro H
  iapply (le_wp_ret _ _ _ _ _)
  have hj : Shape.Idx.first (h1.symm ▸ Nat.one_pos) = j := by
    have : Subsingleton r.shape.Idx := by
      have hc : Fintype.card r.shape.Idx = 1 := by rw [Shape.card_idx, h1]
      exact (Fintype.card_le_one_iff_subsingleton.mp hc.le)
    exact Subsingleton.elim _ _
  have e : (m.access r).read (Elt F) X (Shape.Idx.first (h1.symm ▸ Nat.one_pos)) = g (r.emb j) := by
    rw [hj]; exact hX _ (hP j)
  rw [e]
  iapply HQ
  iexists X
  iframe
  ipureintro
  exact hX

theorem store_rule {cs : CoreSpace} {m : Memref sig .tc cs s e} {r : Rect s} {w : r.shape.Idx → Elt F e} {hx : (m.access r).Stores Finset.univ}
    {hm : (Finset.univ : Finset r.shape.Idx) = Finset.univ ∨ ∀ a, r.stride a = 1} {Q : PUnit → sProp 𝕄}
    (hP : ∀ j, P (r.emb j)) (h1 : ∀ j, g' (r.emb j) = w j) (h2 : ∀ i, P i → (∀ j, r.emb j ≠ i) → g' i = g i) :
    Has c m P fullShare g ⊢ iprop((Has c m P fullShare g' -∗ Q ⟨⟩) -∗ WP 𝒱 c (Prog.lift (.store m r w Finset.univ hx hm)) Q) := by
  unfold Has
  iintro ⟨%X, %hX, H⟩ HQ
  iapply (wp_store 𝒱 (c : Thread nD τ) none Set.univ (m := m) (r := r) (w := w) (Mk := Finset.univ) (hx := hx) (hm := hm) (f := X) (set_sub r hP)) $$ H
  iintro H
  iapply (le_wp_ret _ _ _ _ _)
  iapply HQ
  iexists _
  iframe
  ipureintro
  intro i hi
  by_cases hj : ∃ j, r.emb j = i
  · obtain ⟨j, rfl⟩ := hj
    rw [h1 j]
    exact View.read_slice_write_emb r X w (Finset.mem_univ j)
  · rw [h2 i hi (fun j hh => hj ⟨j, hh⟩), ← hX i hi]
    refine View.read_slice_write_of_not_mem r X w _ ?_
    rw [Finset.mem_map]
    rintro ⟨j, -, hh⟩
    exact hj ⟨j, hh⟩

theorem assume_rule {p : Prop} {d : Decidable p} {Q : PLift p → sProp 𝕄} (h : p) :
    Q ⟨h⟩ ⊢ WP 𝒱 c (Prog.lift (.assume p d)) Q :=
  (le_wp_ret _ _ _ _ _).trans (wp_assume 𝒱 (c : Thread nD τ) none Set.univ h)

/-! ## Copies -/

/-- The counters of the copies. -/
local notation "ECn" => (countersEmb (U := UD sig nD τ) : UEmb Counters 𝕄)

/-- A copy in flight on cell `sm`, delivering `D` when waited for. -/
abbrev Fly (c : Dev nD) (sm : DmaSem sig) (N : ℕ) (D : sProp 𝕄) : sProp 𝕄 :=
  Transfers.Flight (countersEmb (U := UD sig nD τ)) (c : Thread nD τ) (SemLoc.dma sm) () N D
/-- A cell at zero. -/
abbrev Cell (c : Dev nD) (sm : DmaSem sig) : sProp 𝕄 := semVal ((c : Thread nD τ), SemLoc.dma sm) 0

theorem landed {src : Memref sig .tc sp s e} {dst : Memref sig .tc sp' s e} {q : PosShare TreeShare} {g : s.Idx → Elt F e}
    (X : BufTy.Contents (Elt F) src.view.ty) (Y : BufTy.Contents (Elt F) dst.view.ty) (hX : src.view.read (Elt F) X = g) :
    (iprop((dst.view.loc (c : Thread nD τ) ↦[dst.view.set]{fullShare} (dst.view.write (Elt F) Y ((ReadAs.same : ReadAs (Elt F) s e s e).apply (src.view.read (Elt F) X)) Finset.univ))
      ∗ (src.view.loc (c : Thread nD τ) ↦[src.view.set]{q} X)) : sProp 𝕄) ⊢ iprop(Own c dst fullShare g ∗ Own c src q g) := by
  subst hX
  refine BIClass.sep_mono ((Own.of_pointsTo _).trans (Entails.of_eq ?_)) (Own.of_pointsTo _)
  rw [View.read_write_univ]

theorem start_rule {src : Memref sig .tc sp s e} {dst : Memref sig .tc sp' s e} {sm : DmaSem sig}
    {hsrc : src.view.WordExact} {hdst : dst.view.WordExact} {hsem : (DmaTarget.here dst : DmaTarget nD τ sig (.tc : Proc τ) sp' s e).Typed sp (.dma sm)}
    {Q : PUnit → sProp 𝕄} (N : ℕ) (hN : dst.view.dmaCredit = N) (hN0 : 0 < N) {g0 g : s.Idx → Elt F e} :
    iprop(Own c src q g ∗ Own c dst fullShare g0 ∗ Cell c sm)
      ⊢ iprop((Fly c sm N iprop(Own c dst fullShare g ∗ Own c src q g) -∗ Q ⟨⟩)
        -∗ WP 𝒱 c (Prog.lift (.enqueueDma src (.here dst) (.dma sm) hsrc hdst hsem)) Q) := by
  iintro ⟨Hs, Hd, Hv⟩ HQ
  ihave Hs := Own.to_pointsTo $$ Hs
  icases Hs with ⟨%X, %hX, Hs⟩
  ihave Hd := Own.to_pointsTo $$ Hd
  icases Hd with ⟨%Y, %hY, Hd⟩
  iapply (Transfers.wp_dmaLocal (countersEmb (U := UD sig nD τ)) 𝒱 (c : Thread nD τ) none (src := src) (dst := dst) (sm := .dma sm) () N hN hN0 (Finset.Subset.refl _)) $$ [Hs Hd Hv]
  · isplitl [Hs]; · iexact Hs
    isplitl [Hd]; · iexact Hd
    iexact Hv
  iintro HF
  iapply (le_wp_ret _ _ _ _ _)
  iapply HQ
  iapply (Transfers.Flight_mono (countersEmb (U := UD sig nD τ)) (c : Thread nD τ) (landed X Y hX)) $$ HF

theorem wait_rule {srcw : Memref sig .tc sp s e} {dstw : Memref sig .tc sp' s e} {sm : DmaSem sig}
    {hsrc : srcw.view.WordExact} {hdst : dstw.view.WordExact} {Q : PUnit → sProp 𝕄} {N : ℕ} (hN : dstw.view.dmaCredit = N) {D : sProp 𝕄} :
    iprop(Fly c sm N D ∗ (∃ W, owes (c : Thread nD τ) 0 W))
      ⊢ iprop((iprop(D ∗ Cell c sm ∗ (∃ W, owes (c : Thread nD τ) 0 W)) -∗ Q ⟨⟩)
        -∗ WP 𝒱 c (Prog.lift (.waitDma2 sm srcw dstw hsrc hdst)) Q) := by
  iintro ⟨HF, ⟨%W, HO⟩⟩ HQ
  iapply (Transfers.wp_waitLocal (countersEmb (U := UD sig nD τ)) 𝒱 (c : Thread nD τ) none () hN) $$ [HF HO]
  · isplitl [HF]; · iexact HF
    iexact HO
  iintro ⟨HD, Hv, HO⟩
  iapply (le_wp_ret _ _ _ _ _)
  iapply HQ
  iframe
  iexists _
  iexact HO

theorem Fly.mono {sm : DmaSem sig} {N : ℕ} {D D' : sProp 𝕄} (h : D ⊢ D') : Fly c sm N D ⊢ Fly c sm N D' :=
  Transfers.Flight_mono (countersEmb (U := UD sig nD τ)) (c : Thread nD τ) h

/-- A batch of copies on one cell: `k` of them issued, `u` units waited for. -/
abbrev Bat {n : ℕ} (c : Dev nD) (sm : DmaSem sig) (N : ℕ) (D : Fin n → sProp 𝕄) (k u : ℕ) : sProp 𝕄 :=
  Transfers.Batch (countersEmb (U := UD sig nD τ)) (c : Thread nD τ) (SemLoc.dma sm) () N D k u

/-- The thread's record of its waits. -/
abbrev Owes (c : Dev nD) : sProp 𝕄 := iprop(∃ W, owes (c : Thread nD τ) 0 W)

theorem Bat.alloc {n : ℕ} {sm : DmaSem sig} (N : ℕ) (D : Fin n → sProp 𝕄) [∀ t, BI.Storable (upEmb : UEmb _ 𝕄) (D t)] :
    Cell c sm ⊢ iprop(|={Set.univ}=> Bat c sm N D 0 0) :=
  Transfers.batch_alloc' (countersEmb (U := UD sig nD τ)) (c : Thread nD τ) () N D

theorem batch_start_rule {n : ℕ} {D : Fin n → sProp 𝕄} {src : Memref sig .tc sp s e} {dst : Memref sig .tc sp' s e} {sm : DmaSem sig}
    {hsrc : src.view.WordExact} {hdst : dst.view.WordExact} {hsem : (DmaTarget.here dst : DmaTarget nD τ sig (.tc : Proc τ) sp' s e).Typed sp (.dma sm)}
    {Q : PUnit → sProp 𝕄} (N : ℕ) (hN : dst.view.dmaCredit = N) {g0 g : s.Idx → Elt F e} {j u : ℕ} (hj : j < n) (hu : u ≤ j * N)
    (hD : iprop(Own c dst fullShare g ∗ Own c src q g) ⊢ D ⟨j, hj⟩) :
    iprop(Own c src q g ∗ Own c dst fullShare g0 ∗ Bat c sm N D j u)
      ⊢ iprop((Bat c sm N D (j + 1) u -∗ Q ⟨⟩)
        -∗ WP 𝒱 c (Prog.lift (.enqueueDma src (.here dst) (.dma sm) hsrc hdst hsem)) Q) := by
  iintro ⟨Hs, Hd, Hv⟩ HQ
  ihave Hs := Own.to_pointsTo $$ Hs
  icases Hs with ⟨%X, %hX, Hs⟩
  ihave Hd := Own.to_pointsTo $$ Hd
  icases Hd with ⟨%Y, %hY, Hd⟩
  iapply (Transfers.wp_dmaBatch (countersEmb (U := UD sig nD τ)) 𝒱 (c : Thread nD τ) none (src := src) (dst := dst) (sm := .dma sm) () N hN (Finset.Subset.refl _) hj hu
    ((landed X Y hX).trans hD)) $$ [Hs Hd Hv]
  · isplitl [Hs]; · iexact Hs
    isplitl [Hd]; · iexact Hd
    iexact Hv
  iintro HF
  iapply (le_wp_ret _ _ _ _ _)
  iapply HQ
  iexact HF

theorem batch_wait_rule {n : ℕ} {D : Fin n → sProp 𝕄} {srcw : Memref sig .tc sp s e} {dstw : Memref sig .tc sp' s e} {sm : DmaSem sig}
    {hsrc : srcw.view.WordExact} {hdst : dstw.view.WordExact} {Q : PUnit → sProp 𝕄} {N : ℕ} (hN : dstw.view.dmaCredit = N) {u : ℕ} (hu : u + N < N * n) :
    iprop(Bat c sm N D n u ∗ Owes c)
      ⊢ iprop((iprop(Bat c sm N D n (u + N) ∗ Owes c) -∗ Q ⟨⟩)
        -∗ WP 𝒱 c (Prog.lift (.waitDma2 sm srcw dstw hsrc hdst)) Q) := by
  iintro ⟨HF, ⟨%W, HO⟩⟩ HQ
  iapply (Transfers.wp_waitBatch (countersEmb (U := UD sig nD τ)) 𝒱 (c : Thread nD τ) none () hN hu) $$ [HF HO]
  · isplitl [HF]; · iexact HF
    iexact HO
  iintro ⟨HD, HO⟩
  iapply (le_wp_ret _ _ _ _ _)
  iapply HQ
  iframe
  iexists _
  iexact HO

theorem batch_wait_last_rule {n : ℕ} {D : Fin n → sProp 𝕄} {srcw : Memref sig .tc sp s e} {dstw : Memref sig .tc sp' s e} {sm : DmaSem sig}
    {hsrc : srcw.view.WordExact} {hdst : dstw.view.WordExact} {Q : PUnit → sProp 𝕄} {N : ℕ} (hN : dstw.view.dmaCredit = N) (hN0 : 0 < N) {u : ℕ} (hu : u + N = N * n) :
    iprop(Bat c sm N D n u ∗ Owes c)
      ⊢ iprop((iprop(bigSep Finset.univ D ∗ Cell c sm ∗ Owes c) -∗ Q ⟨⟩)
        -∗ WP 𝒱 c (Prog.lift (.waitDma2 sm srcw dstw hsrc hdst)) Q) := by
  iintro ⟨HF, ⟨%W, HO⟩⟩ HQ
  iapply (Transfers.wp_waitBatchLast (countersEmb (U := UD sig nD τ)) 𝒱 (c : Thread nD τ) none () hN hN0 hu) $$ [HF HO]
  · isplitl [HF]; · iexact HF
    iexact HO
  iintro ⟨HD, Hv, HO⟩
  iapply (le_wp_ret _ _ _ _ _)
  iapply HQ
  iframe
  iexists _
  iexact HO

/-- Regions of one buffer gathered: if the pieces are the levels of `key`, together they are all of `P`. -/
theorem Has.gather {n : ℕ} (key : s.Idx → ℕ) (D : Fin n → s.Idx → Prop) (T : Finset (Fin n)) (hD : ∀ j i, D j i → key i = j.val)
    (hP : ∀ i, P i ↔ ∃ j ∈ T, D j i) :
    (bigSep T (fun j => Has c m (D j) q g) : sProp 𝕄) ⊢ Has c m P q g := by
  classical
  induction T using Finset.induction_on generalizing P with
  | empty =>
    rw [bigSep_empty]
    exact Has.empty (fun i hi => by obtain ⟨j, hj, _⟩ := (hP i).mp hi; exact absurd hj (Finset.notMem_empty j))
  | insert a T ha ih =>
    rw [bigSep_insert ha]
    refine (BIClass.sep_mono (BIBase.Entails.rfl) (ih (P := fun i => ∃ j ∈ T, D j i) (fun _ => Iff.rfl))).trans (Has.join (fun i => ?_) (fun i h1 h2 => ?_))
    · rw [hP i]
      constructor
      · rintro ⟨j, hj, h⟩
        rcases Finset.mem_insert.mp hj with rfl | hj
        · exact .inl h
        · exact .inr ⟨j, hj, h⟩
      · rintro (h | ⟨j, hj, h⟩)
        · exact ⟨a, Finset.mem_insert_self _ _, h⟩
        · exact ⟨j, Finset.mem_insert_of_mem hj, h⟩
    · obtain ⟨j, hj, h2⟩ := h2
      have : a = j := Fin.ext ((hD _ _ h1).symm.trans (hD _ _ h2))
      exact ha (this ▸ hj)

end Cert.KernelIdeal.Emb
-- ==== Proof.KernelIdeal.DqProg.lean ====
module

public import proofs.«01_k».proof.Proof.KernelIdeal.Chk

@[expose] public section

noncomputable section

namespace Cert.KernelIdeal.Emb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]
local notation "𝕄" => MT nD τ sig Unit (Elt F) ℕ (UD sig nD τ) ℕ
variable (𝒱 : Variants) (c : Dev nD)
variable {arg0 : Memref sig .tc .smem S2049 .i32} {harg0 : arg0.IsWhole} {arg1 : Memref sig .tc .vmem S16x128 .i32} {harg1 : arg1.IsWhole} {arg2 : Memref sig .tc .vmem S2x1024 .i32} {harg2 : arg2.IsWhole} {arg3 : Memref sig .tc .vmem S2x1024 .f32} {harg3 : arg3.IsWhole} {arg4 : Memref sig .tc .hbm S2x1024x12288 .fp8e5m2} {harg4 : arg4.IsWhole} {arg5 : Memref sig .tc .hbm S256x96x8x128 .f32} {harg5 : arg5.IsWhole} {arg6 : Memref sig .tc .vmem S2x2048x3072 .fp8e5m2} {harg6 : arg6.IsWhole} {arg7 : Memref sig .tc .vmem S256x24x8x128 .f32} {harg7 : arg7.IsWhole} {arg8 : Memref sig .tc .vmem S4x9x24x8x128 .f32} {harg8 : arg8.IsWhole} {arg9 : Memref sig .tc .vmem S8x24x8x128 .f32} {harg9 : arg9.IsWhole} {arg10 : Memref sig .tc .vmem S2048x128 .f32} {harg10 : arg10.IsWhole} {arg11 : Memref sig .tc .vmem S2x17x128 .i32} {harg11 : arg11.IsWhole} {arg12 : Memref sig .tc .smem S2176 .i32} {harg12 : arg12.IsWhole} {arg13 : Memref sig .tc .smem S2176 .i32} {harg13 : arg13.IsWhole} {arg14 : DmaSems sig S2x8} {arg15 : DmaSems sig S4} {arg16 : DmaSems sig S_} {arg17 : DmaSems sig S_}

/-! # The dequantising loops: one trip as a load of scales and 24 column groups -/

/-- The slot of chunk `t4`, as a word. -/
def slotW (t4 : Fin k0_t4_loop.trips) : BitVec 32 := Scalar.remsi (Scf.iv 0#32 1#32 t4) 2#32
/-- The number of the 32-row group, as a word. -/
def grpW (i g : ℕ) : BitVec 32 := Scf.iv (BitVec.ofNat 32 (8 * i)) 1#32 g

theorem slotW_toNat : ∀ t4 : Fin k0_t4_loop.trips, (slotW t4).toNat = t4.val % 2 := by decide +kernel
theorem grp32_toNat : ∀ i < 8, ∀ g < 8, (Scalar.muli (grpW i g) 32#32).toNat = (8 * i + g) * 32 := by decide +kernel
theorem grp4_toNat : ∀ i < 8, ∀ g < 8, (Scalar.muli (grpW i g) 4#32).toNat = (8 * i + g) * 4 := by decide +kernel

def dOffS (i g : ℕ) : Fin 2 → Nat := ![(Scalar.indexCast (Scalar.muli (grpW i g) 32#32) : Index).toNat, 0]
def dOffC (t4 : Fin k0_t4_loop.trips) (i g : ℕ) (j : Fin 24) : Fin 3 → Nat :=
  ![(Scalar.indexCast (slotW t4) : Index).toNat, (Scalar.indexCast (Scalar.muli (grpW i g) 32#32) : Index).toNat, 128 * j.val]
def dOffD (i g : ℕ) (j : Fin 24) : Fin 4 → Nat := ![(Scalar.indexCast (Scalar.muli (grpW i g) 4#32) : Index).toNat, j.val, 0, 0]

theorem dOffS_eq (i : ℕ) (hi : i < 8) (g : ℕ) (hg : g < 8) : dOffS i g = ![(8 * i + g) * 32, 0] := by
  unfold dOffS; exact congrArg (fun x => ![x, 0]) (grp32_toNat i hi g hg)
theorem dOffC_eq (t4 : Fin k0_t4_loop.trips) (i : ℕ) (hi : i < 8) (g : ℕ) (hg : g < 8) (j : Fin 24) :
    dOffC t4 i g j = ![t4.val % 2, (8 * i + g) * 32, 128 * j.val] := by
  show ![(slotW t4).toNat, (Scalar.muli (grpW i g) 32#32).toNat, 128 * j.val] = _; rw [slotW_toNat t4, grp32_toNat i hi g hg]
theorem dOffD_eq (i : ℕ) (hi : i < 8) (g : ℕ) (hg : g < 8) (j : Fin 24) : dOffD i g j = ![(8 * i + g) * 4, j.val, 0, 0] := by
  unfold dOffD; exact congrArg (fun x => ![x, j.val, 0, 0]) (grp4_toNat i hi g hg)

theorem dOffS_inb (i : ℕ) (hi : i < 8) (g : ℕ) (hg : g < 8) : ∀ a, dOffS i g a + S32x128.size a ≤ S2048x128.size a := by
  rw [dOffS_eq i hi g hg]; intro a; fin_cases a
  · show (8 * i + g) * 32 + 32 ≤ 2048; omega
  · show 0 + 128 ≤ 128; omega
theorem dOffC_inb (t4 : Fin k0_t4_loop.trips) (i : ℕ) (hi : i < 8) (g : ℕ) (hg : g < 8) (j : Fin 24) :
    ∀ a, dOffC t4 i g j a + S1x32x128.size a ≤ S2x2048x3072.size a := by
  rw [dOffC_eq t4 i hi g hg]; intro a; have := j.isLt; fin_cases a
  · show t4.val % 2 + 1 ≤ 2; omega
  · show (8 * i + g) * 32 + 32 ≤ 2048; omega
  · show 128 * j.val + 128 ≤ 3072; omega
theorem dOffD_inb (i : ℕ) (hi : i < 8) (g : ℕ) (hg : g < 8) (j : Fin 24) : ∀ a, dOffD i g j a + S4x1x8x128.size a ≤ S256x24x8x128.size a := by
  rw [dOffD_eq i hi g hg]; intro a; have := j.isLt; fin_cases a
  · show (8 * i + g) * 4 + 4 ≤ 256; omega
  · show j.val + 1 ≤ 24; omega
  · show 0 + 8 ≤ 8; omega
  · show 0 + 128 ≤ 128; omega

/-- One column group: 32 rows of codes, converted and scaled. -/
def dqCol (arg6 : Memref sig .tc .vmem S2x2048x3072 .fp8e5m2) (arg7 : Memref sig .tc .vmem S256x24x8x128 .f32)
    (t4 : Fin k0_t4_loop.trips) (i : ℕ) (hi : i < 8) (g : ℕ) (hg : g < 8) (sc : FVec F S32x128 .f32) (j : Fin 24) :
    Prog (TpuEff nD τ sig (Elt F) Λ₀ .tc) PUnit := do
  let x : Vec F S1x32x128 .fp8e5m2 ← Prog.lift (.load arg6 (Rect.unit (s := S2x2048x3072) (dOffC t4 i g j) S1x32x128.size (dOffC_inb t4 i hi g hg j)).toLoadRect (View.loadsAt_vmem h_S1x32x128))
  let _d : Vec F S4x1x8x128 .f32 ← Prog.lift (.load arg7 (Rect.unit (s := S256x24x8x128) (dOffD i g j) S4x1x8x128.size (dOffD_inb i hi g hg j)).toLoadRect (View.loadsAt_vmem h_S4x1x8x128))
  Prog.lift (.store arg7 (Rect.unit (s := S256x24x8x128) (dOffD i g j) S4x1x8x128.size (dOffD_inb i hi g hg j))
    (shapeCast S4x1x8x128 (shapeCast S4x8x128 (mulf (extf .f32 (shapeCast S32x128 x shapeCasts_S1x32x128_S32x128 : FVec F S32x128 .fp8e5m2) bitsLt_fp8e5m2_f32) sc) shapeCasts_S32x128_S4x8x128) shapeCasts_S4x8x128_S4x1x8x128)
    Finset.univ (View.stores_vmem_bits_univ h_S4x1x8x128 rfl) (.inl rfl))

/-- Column groups one after another. -/
def dqCols (arg6 : Memref sig .tc .vmem S2x2048x3072 .fp8e5m2) (arg7 : Memref sig .tc .vmem S256x24x8x128 .f32)
    (t4 : Fin k0_t4_loop.trips) (i : ℕ) (hi : i < 8) (g : ℕ) (hg : g < 8) (sc : FVec F S32x128 .f32) :
    List (Fin 24) → Prog (TpuEff nD τ sig (Elt F) Λ₀ .tc) Unit
  | [] => pure ()
  | j :: l => dqCol arg6 arg7 t4 i hi g hg sc j >>= fun _ => dqCols arg6 arg7 t4 i hi g hg sc l

/-- The 24 column groups in order. -/
def cols24 : List (Fin 24) := [0, 1, 2, 3, 4, 5, 6, 7, 8, 9, 10, 11, 12, 13, 14, 15, 16, 17, 18, 19, 20, 21, 22, 23]

/-- One trip: 32 rows. -/
def dqTrip (arg6 : Memref sig .tc .vmem S2x2048x3072 .fp8e5m2) (arg7 : Memref sig .tc .vmem S256x24x8x128 .f32) (arg10 : Memref sig .tc .vmem S2048x128 .f32)
    (t4 : Fin k0_t4_loop.trips) (i : ℕ) (hi : i < 8) (g : ℕ) (hg : g < 8) : Prog (TpuEff nD τ sig (Elt F) Λ₀ .tc) Unit := do
  let sc : Vec F S32x128 .f32 ← Prog.lift (.load arg10 (Rect.unit (s := S2048x128) (dOffS i g) S32x128.size (dOffS_inb i hi g hg)).toLoadRect (View.loadsAt_vmem h_S32x128))
  dqCols arg6 arg7 t4 i hi g hg sc cols24

set_option maxHeartbeats 4000000 in
set_option maxRecDepth 100000 in
theorem t7_body_eq (t4 : Fin k0_t4_loop.trips) (v497 : BitVec 32) (a b : BitVec 32) (g : Fin k0_t7_loop.trips) :
    k0_t7_body (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 t4 v497 a b g () =
      dqTrip (F := F) arg6 arg7 arg10 t4 0 (by decide) g.val (lt_of_lt_of_eq g.isLt (by decide +kernel)) := by
  unfold k0_t7_body k0_part7 k0_part8 k0_part9 k0_part10 k0_part11 k0_part12 k0_part13 dqTrip dqCols dqCol
  delta cols24; rfl

set_option maxHeartbeats 4000000 in
set_option maxRecDepth 100000 in
theorem t8_body_eq (t4 : Fin k0_t4_loop.trips) (v497 : BitVec 32) (a b : BitVec 32) (g : Fin k0_t8_loop.trips) :
    k0_t8_body (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 t4 v497 a b g () =
      dqTrip (F := F) arg6 arg7 arg10 t4 1 (by decide) g.val (lt_of_lt_of_eq g.isLt (by decide +kernel)) := by
  unfold k0_t8_body k0_part14 k0_part15 k0_part16 k0_part17 k0_part18 k0_part19 k0_part20 dqTrip dqCols dqCol
  delta cols24; rfl

set_option maxHeartbeats 4000000 in
set_option maxRecDepth 100000 in
theorem t9_body_eq (t4 : Fin k0_t4_loop.trips) (v497 : BitVec 32) (a b : BitVec 32) (g : Fin k0_t9_loop.trips) :
    k0_t9_body (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 t4 v497 a b g () =
      dqTrip (F := F) arg6 arg7 arg10 t4 2 (by decide) g.val (lt_of_lt_of_eq g.isLt (by decide +kernel)) := by
  unfold k0_t9_body k0_part21 k0_part22 k0_part23 k0_part24 k0_part25 k0_part26 k0_part27 dqTrip dqCols dqCol
  delta cols24; rfl

set_option maxHeartbeats 4000000 in
set_option maxRecDepth 100000 in
theorem t10_body_eq (t4 : Fin k0_t4_loop.trips) (v497 : BitVec 32) (a b : BitVec 32) (g : Fin k0_t10_loop.trips) :
    k0_t10_body (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 t4 v497 a b g () =
      dqTrip (F := F) arg6 arg7 arg10 t4 3 (by decide) g.val (lt_of_lt_of_eq g.isLt (by decide +kernel)) := by
  unfold k0_t10_body k0_part28 k0_part29 k0_part30 k0_part31 k0_part32 k0_part33 k0_part34 dqTrip dqCols dqCol
  delta cols24; rfl

set_option maxHeartbeats 4000000 in
set_option maxRecDepth 100000 in
theorem t11_body_eq (t4 : Fin k0_t4_loop.trips) (v497 : BitVec 32) (a b : BitVec 32) (g : Fin k0_t11_loop.trips) :
    k0_t11_body (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 t4 v497 a b g () =
      dqTrip (F := F) arg6 arg7 arg10 t4 4 (by decide) g.val (lt_of_lt_of_eq g.isLt (by decide +kernel)) := by
  unfold k0_t11_body k0_part35 k0_part36 k0_part37 k0_part38 k0_part39 k0_part40 k0_part41 dqTrip dqCols dqCol
  delta cols24; rfl

set_option maxHeartbeats 4000000 in
set_option maxRecDepth 100000 in
theorem t12_body_eq (t4 : Fin k0_t4_loop.trips) (v497 : BitVec 32) (a b : BitVec 32) (g : Fin k0_t12_loop.trips) :
    k0_t12_body (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 t4 v497 a b g () =
      dqTrip (F := F) arg6 arg7 arg10 t4 5 (by decide) g.val (lt_of_lt_of_eq g.isLt (by decide +kernel)) := by
  unfold k0_t12_body k0_part42 k0_part43 k0_part44 k0_part45 k0_part46 k0_part47 k0_part48 dqTrip dqCols dqCol
  delta cols24; rfl

set_option maxHeartbeats 4000000 in
set_option maxRecDepth 100000 in
theorem t13_body_eq (t4 : Fin k0_t4_loop.trips) (v497 : BitVec 32) (a b : BitVec 32) (g : Fin k0_t13_loop.trips) :
    k0_t13_body (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 t4 v497 a b g () =
      dqTrip (F := F) arg6 arg7 arg10 t4 6 (by decide) g.val (lt_of_lt_of_eq g.isLt (by decide +kernel)) := by
  unfold k0_t13_body k0_part49 k0_part50 k0_part51 k0_part52 k0_part53 k0_part54 k0_part55 dqTrip dqCols dqCol
  delta cols24; rfl

set_option maxHeartbeats 4000000 in
set_option maxRecDepth 100000 in
theorem t14_body_eq (t4 : Fin k0_t4_loop.trips) (v497 : BitVec 32) (a b : BitVec 32) (g : Fin k0_t14_loop.trips) :
    k0_t14_body (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 t4 v497 a b g () =
      dqTrip (F := F) arg6 arg7 arg10 t4 7 (by decide) g.val (lt_of_lt_of_eq g.isLt (by decide +kernel)) := by
  unfold k0_t14_body k0_part56 k0_part57 k0_part58 k0_part59 k0_part60 k0_part61 k0_part62 dqTrip dqCols dqCol
  delta cols24; rfl

end Cert.KernelIdeal.Emb
-- ==== Proof.KernelIdeal.DqSpec.lean ====
module

public import proofs.«01_k».proof.Proof.KernelIdeal.Own
public import proofs.«01_k».proof.Proof.KernelIdeal.DqProg

public import Idealize.ShloMosaic.Lib.ValueIdxCore

@[expose] public section

noncomputable section

namespace Cert.KernelIdeal.Emb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]
local notation "𝕄" => MT nD τ sig Unit (Elt F) ℕ (UD sig nD τ) ℕ
variable (𝒱 : Variants) (c : Dev nD)
variable {arg0 : Memref sig .tc .smem S2049 .i32} {harg0 : arg0.IsWhole} {arg1 : Memref sig .tc .vmem S16x128 .i32} {harg1 : arg1.IsWhole} {arg2 : Memref sig .tc .vmem S2x1024 .i32} {harg2 : arg2.IsWhole} {arg3 : Memref sig .tc .vmem S2x1024 .f32} {harg3 : arg3.IsWhole} {arg4 : Memref sig .tc .hbm S2x1024x12288 .fp8e5m2} {harg4 : arg4.IsWhole} {arg5 : Memref sig .tc .hbm S256x96x8x128 .f32} {harg5 : arg5.IsWhole} {arg6 : Memref sig .tc .vmem S2x2048x3072 .fp8e5m2} {harg6 : arg6.IsWhole} {arg7 : Memref sig .tc .vmem S256x24x8x128 .f32} {harg7 : arg7.IsWhole} {arg8 : Memref sig .tc .vmem S4x9x24x8x128 .f32} {harg8 : arg8.IsWhole} {arg9 : Memref sig .tc .vmem S8x24x8x128 .f32} {harg9 : arg9.IsWhole} {arg10 : Memref sig .tc .vmem S2048x128 .f32} {harg10 : arg10.IsWhole} {arg11 : Memref sig .tc .vmem S2x17x128 .i32} {harg11 : arg11.IsWhole} {arg12 : Memref sig .tc .smem S2176 .i32} {harg12 : arg12.IsWhole} {arg13 : Memref sig .tc .smem S2176 .i32} {harg13 : arg13.IsWhole} {arg14 : DmaSems sig S2x8} {arg15 : DmaSems sig S4} {arg16 : DmaSems sig S_} {arg17 : DmaSems sig S_}

/-! # What the dequantising loops store -/

theorem loop_rule {σ : Type} (L : Scf.Loop 32) (ok : L.OK) (init : σ) (body : Fin L.trips → σ → Prog (TpuEff nD τ sig (Elt F) Λ₀ .tc) σ)
    (I : ℕ → σ → sProp 𝕄) (hbody : ∀ (k : Fin L.trips) (acc : σ), I k acc ⊢ WP 𝒱 c (body k acc) (I (k.val + 1))) {Q : σ → sProp 𝕄} :
    I 0 init ⊢ iprop((∀ acc, I L.trips acc -∗ Q acc) -∗ WP 𝒱 c (Scf.Loop.for L ok init body) Q) := by
  iintro H HQ
  iapply (Scf.wp_for frame (wpE (defs₀ (F := F)) 𝒱 (c : Thread nD τ) none) Set.univ _ _ _ ok init body I hbody)
  isplitl [H]
  · iexact H
  · iexact HQ

theorem unit_emb {s : Shape} {off size : Fin s.rank → ℕ} {h : ∀ a, off a + size a ≤ s.size a} (y : (Rect.unit (s := s) off size h).shape.Idx) (a : Fin s.rank) :
    ((Rect.unit (s := s) off size h).emb y a : ℕ) = off a + (y a).val := by
  rw [Rect.emb_apply]
  show off a + 1 * (y a).val = _
  rw [one_mul]

theorem unit_emb_of {s : Shape} {off off' size : Fin s.rank → ℕ} (e : off = off') {h : ∀ a, off a + size a ≤ s.size a} (y : (Rect.unit (s := s) off size h).shape.Idx) (a : Fin s.rank) :
    ((Rect.unit (s := s) off size h).emb y a : ℕ) = off' a + (y a).val := by
  subst e; exact unit_emb y a

/-- The row of the tokens that an element of the dequantised buffer belongs to. -/
def dqRow (x : S256x24x8x128.Idx) : Fin 2048 := ⟨8 * (x 0).val + (x 2).val, by
  have h0 : (x 0).val < 256 := (x 0).isLt
  have h2 : (x 2).val < 8 := (x 2).isLt
  omega⟩
/-- The column of the chunk it belongs to. -/
def dqColumn (x : S256x24x8x128.Idx) : Fin 3072 := ⟨128 * (x 1).val + (x 3).val, by
  have h0 : (x 1).val < 24 := (x 1).isLt
  have h2 : (x 3).val < 128 := (x 3).isLt
  omega⟩
def dqLane (x : S256x24x8x128.Idx) : Fin 128 := x 3

/-- The dequantised buffer: the code, converted, times the scale of its row. -/
def dqAt (cv : S2x2048x3072.Idx → F .fp8e5m2) (sb : S2048x128.Idx → F .f32) (slot : Fin 2) : S256x24x8x128.Idx → F .f32 := fun x =>
  FloatOps.mulf (FloatOps.extf .f32 bitsLt_fp8e5m2_f32 (cv (ValueIdx.ix3 slot (dqRow x) (dqColumn x)))) (sb (ValueIdx.ix2 (dqRow x) (dqLane x)))

def slotF (t4 : Fin k0_t4_loop.trips) : Fin 2 := ⟨t4.val % 2, Nat.mod_lt _ (by decide)⟩

/-- The dequantised buffer, known where `D` holds. -/
def DqTo (c : Dev nD) (arg7 : Memref sig .tc .vmem S256x24x8x128 .f32) (val : S256x24x8x128.Idx → F .f32) (D : S256x24x8x128.Idx → Prop) : sProp 𝕄 :=
  iprop(∃ g, ⌜∀ x, D x → g x = val x⌝ ∗ Own c arg7 fullShare (show S256x24x8x128.Idx → Elt F .f32 from g))

theorem DqTo.mono {val : S256x24x8x128.Idx → F .f32} {D D' : S256x24x8x128.Idx → Prop} (h : ∀ x, D' x → D x) :
    DqTo c arg7 val D ⊢ DqTo c arg7 val D' := by
  unfold DqTo
  iintro ⟨%g, %hg, H⟩
  iexists g
  iframe
  ipureintro
  exact fun x hx => hg x (h x hx)

theorem dq_value (t4 : Fin k0_t4_loop.trips) (i : ℕ) (hi : i < 8) (g : ℕ) (hg : g < 8) (j : Fin 24)
    (cv : S2x2048x3072.Idx → F .fp8e5m2) (sb : S2048x128.Idx → F .f32) (y : S4x1x8x128.Idx) :
    dqAt cv sb (slotF t4) ((Rect.unit (s := S256x24x8x128) (dOffD i g j) S4x1x8x128.size (dOffD_inb i hi g hg j)).emb y) =
    (shapeCast S4x1x8x128 (shapeCast S4x8x128 (mulf (extf .f32 (shapeCast S32x128
      (show S1x32x128.Idx → F .fp8e5m2 from fun z => cv ((Rect.unit (s := S2x2048x3072) (dOffC t4 i g j) S1x32x128.size (dOffC_inb t4 i hi g hg j)).emb z))
      shapeCasts_S1x32x128_S32x128 : FVec F S32x128 .fp8e5m2) bitsLt_fp8e5m2_f32)
      (show S32x128.Idx → F .f32 from fun z => sb ((Rect.unit (s := S2048x128) (dOffS i g) S32x128.size (dOffS_inb i hi g hg)).emb z))) shapeCasts_S32x128_S4x8x128) shapeCasts_S4x8x128_S4x1x8x128 : FVec F S4x1x8x128 .f32) y := by
  have hy0 : (y 0).val < 4 := (y 0).isLt
  have hy1 : (y 1).val < 1 := (y 1).isLt
  have hy2 : (y 2).val < 8 := (y 2).isLt
  have hy3 : (y 3).val < 128 := (y 3).isLt
  have e1 : Shape.reshapeEquiv shapeCasts_S32x128_S4x8x128 (Shape.reshapeEquiv shapeCasts_S4x8x128_S4x1x8x128 y)
      = (ValueIdx.ix2 (⟨8 * (y 0).val + (y 2).val, by omega⟩ : Fin 32) (⟨(y 3).val, hy3⟩ : Fin 128) : S32x128.Idx) := by
    rw [Shape.reshapeEquiv_reshapeEquiv]
    apply Shape.reshapeEquiv_eq_of_rowMajor
    rw [Shape.rowMajor_val_two, Shape.rowMajor_val_four]
    show (8 * (y 0).val + (y 2).val) * 128 + (y 3).val = (((y 0).val * 1 + (y 1).val) * 8 + (y 2).val) * 128 + (y 3).val
    omega
  have e2 : ∀ (a : Fin 32) (b : Fin 128), Shape.reshapeEquiv shapeCasts_S1x32x128_S32x128 (ValueIdx.ix2 a b : S32x128.Idx)
      = (ValueIdx.ix3 (0 : Fin 1) a b : S1x32x128.Idx) := by
    intro a b
    apply Shape.reshapeEquiv_eq_of_rowMajor
    rw [Shape.rowMajor_val_two, Shape.rowMajor_val_three]
    show (0 * 32 + a.val) * 128 + b.val = a.val * 128 + b.val
    omega
  show _ = FloatOps.mulf (FloatOps.extf .f32 bitsLt_fp8e5m2_f32 (cv ((Rect.unit (s := S2x2048x3072) (dOffC t4 i g j) S1x32x128.size (dOffC_inb t4 i hi g hg j)).emb (Shape.reshapeEquiv shapeCasts_S1x32x128_S32x128 (Shape.reshapeEquiv shapeCasts_S32x128_S4x8x128 (Shape.reshapeEquiv shapeCasts_S4x8x128_S4x1x8x128 y))))))
    (sb ((Rect.unit (s := S2048x128) (dOffS i g) S32x128.size (dOffS_inb i hi g hg)).emb (Shape.reshapeEquiv shapeCasts_S32x128_S4x8x128 (Shape.reshapeEquiv shapeCasts_S4x8x128_S4x1x8x128 y))))
  rw [e1, e2]
  unfold dqAt
  have hD := dOffD_eq i hi g hg j
  have hC := dOffC_eq t4 i hi g hg j
  have hS := dOffS_eq i hi g hg
  have d0 : ((Rect.unit (s := S256x24x8x128) (dOffD i g j) S4x1x8x128.size (dOffD_inb i hi g hg j)).emb y 0 : ℕ) = (8 * i + g) * 4 + (y 0).val := by
    rw [unit_emb_of hD]; rfl
  have d1 : ((Rect.unit (s := S256x24x8x128) (dOffD i g j) S4x1x8x128.size (dOffD_inb i hi g hg j)).emb y 1 : ℕ) = j.val + (y 1).val := by
    rw [unit_emb_of hD]; rfl
  have d2 : ((Rect.unit (s := S256x24x8x128) (dOffD i g j) S4x1x8x128.size (dOffD_inb i hi g hg j)).emb y 2 : ℕ) = 0 + (y 2).val := by
    rw [unit_emb_of hD]; rfl
  have d3 : ((Rect.unit (s := S256x24x8x128) (dOffD i g j) S4x1x8x128.size (dOffD_inb i hi g hg j)).emb y 3 : ℕ) = 0 + (y 3).val := by
    rw [unit_emb_of hD]; rfl
  refine congrArg₂ FloatOps.mulf (congrArg (fun z => FloatOps.extf .f32 bitsLt_fp8e5m2_f32 (cv z)) ?_) (congrArg sb ?_)
  · funext a
    apply Fin.ext
    rw [unit_emb_of hC]
    fin_cases a
    · show t4.val % 2 = t4.val % 2 + 0; omega
    · show 8 * _ + _ = (8 * i + g) * 32 + (8 * (y 0).val + (y 2).val); rw [d0, d2]; omega
    · show 128 * _ + _ = 128 * j.val + (y 3).val; rw [d1, d3]; omega
  · funext a
    apply Fin.ext
    rw [unit_emb_of hS]
    fin_cases a
    · show 8 * _ + _ = (8 * i + g) * 32 + (8 * (y 0).val + (y 2).val); rw [d0, d2]; omega
    · show _ = 0 + (y 3).val; exact d3

theorem dqCol_spec (t4 : Fin k0_t4_loop.trips) (i : ℕ) (hi : i < 8) (g : ℕ) (hg : g < 8) (j : Fin 24)
    (cv : S2x2048x3072.Idx → F .fp8e5m2) (sb : S2048x128.Idx → F .f32) {q6 : PosShare TreeShare} {P6 : S2x2048x3072.Idx → Prop}
    (hP6 : ∀ x, (x 0).val = t4.val % 2 → (8 * i + g) * 32 ≤ (x 1).val → (x 1).val < (8 * i + g) * 32 + 32 → P6 x)
    {D D' : S256x24x8x128.Idx → Prop} (hD : ∀ x, D' x → D x ∨ ((8 * i + g) * 4 ≤ (x 0).val ∧ (x 0).val < (8 * i + g) * 4 + 4 ∧ (x 1).val = j.val))
    {Q : PUnit → sProp 𝕄} :
    iprop(Has c arg6 P6 q6 cv ∗ DqTo c arg7 (dqAt cv sb (slotF t4)) D)
      ⊢ iprop((iprop(Has c arg6 P6 q6 cv ∗ DqTo c arg7 (dqAt cv sb (slotF t4)) D') -∗ Q ⟨⟩)
        -∗ WP 𝒱 c (dqCol arg6 arg7 t4 i hi g hg (show S32x128.Idx → F .f32 from fun z => sb ((Rect.unit (s := S2048x128) (dOffS i g) S32x128.size (dOffS_inb i hi g hg)).emb z)) j) Q) := by
  classical
  unfold dqCol DqTo
  rw [WP_bind]
  iintro ⟨H6, ⟨%g7, %hg7, H7⟩⟩ HQ
  have hDo := dOffD_eq i hi g hg j
  have hC := dOffC_eq t4 i hi g hg j
  iapply (load_rule 𝒱 (g := cv) (fun y => hP6 _ (by
      rw [unit_emb_of hC]; show t4.val % 2 + (y 0).val = _
      have : (y 0).val < 1 := (y 0).isLt
      omega) (by rw [unit_emb_of hC]; show _ ≤ (8 * i + g) * 32 + (y 1).val; omega) (by
      rw [unit_emb_of hC]; show (8 * i + g) * 32 + (y 1).val < _
      have : (y 1).val < 32 := (y 1).isLt
      omega))) $$ H6
  iintro H6
  rw [WP_bind]
  iapply (load_rule 𝒱 (fun _ => trivial)) $$ H7
  iintro H7
  iapply (store_rule 𝒱 (g' := fun x => if ((8 * i + g) * 4 ≤ (x 0).val ∧ (x 0).val < (8 * i + g) * 4 + 4 ∧ (x 1).val = j.val) then dqAt cv sb (slotF t4) x else g7 x)
    (fun _ => trivial) (fun y => ?_) (fun x _ hx => ?_)) $$ H7
  · have hy0 : (y 0).val < 4 := (y 0).isLt
    have hy1 : (y 1).val < 1 := (y 1).isLt
    rw [if_pos]
    · exact dq_value t4 i hi g hg j cv sb y
    · rw [unit_emb_of hDo, unit_emb_of hDo]
      refine ⟨?_, ?_, ?_⟩
      · show _ ≤ (8 * i + g) * 4 + (y 0).val; omega
      · show (8 * i + g) * 4 + (y 0).val < _; omega
      · show j.val + (y 1).val = _; omega
  · rw [if_neg]
    rintro ⟨h1, h2, h3⟩
    have hx2 : (x 2).val < 8 := (x 2).isLt
    have hx3 : (x 3).val < 128 := (x 3).isLt
    refine hx (ValueIdx.ix4 (⟨(x 0).val - (8 * i + g) * 4, by omega⟩ : Fin 4) (0 : Fin 1) (⟨(x 2).val, hx2⟩ : Fin 8) (⟨(x 3).val, hx3⟩ : Fin 128)) ?_
    funext a
    apply Fin.ext
    rw [unit_emb_of hDo]
    fin_cases a
    · show (8 * i + g) * 4 + ((x 0).val - (8 * i + g) * 4) = (x 0).val; omega
    · show j.val + 0 = (x 1).val; omega
    · show 0 + (x 2).val = (x 2).val; omega
    · show 0 + (x 3).val = (x 3).val; omega
  iintro H7
  iapply HQ
  iframe
  iexists _
  iframe
  ipureintro
  intro x hx
  dsimp only
  by_cases h : ((8 * i + g) * 4 ≤ (x 0).val ∧ (x 0).val < (8 * i + g) * 4 + 4 ∧ (x 1).val = j.val)
  · rw [if_pos h]
  · rw [if_neg h]; exact hg7 x ((hD x hx).resolve_right h)

theorem dqCols_spec (t4 : Fin k0_t4_loop.trips) (i : ℕ) (hi : i < 8) (g : ℕ) (hg : g < 8)
    (cv : S2x2048x3072.Idx → F .fp8e5m2) (sb : S2048x128.Idx → F .f32) {q6 : PosShare TreeShare} {P6 : S2x2048x3072.Idx → Prop}
    (hP6 : ∀ x, (x 0).val = t4.val % 2 → (8 * i + g) * 32 ≤ (x 1).val → (x 1).val < (8 * i + g) * 32 + 32 → P6 x) {Q : Unit → sProp 𝕄} (l : List (Fin 24)) :
    ∀ {D D' : S256x24x8x128.Idx → Prop} (hD : ∀ x, D' x → D x ∨ ((8 * i + g) * 4 ≤ (x 0).val ∧ (x 0).val < (8 * i + g) * 4 + 4 ∧ ∃ j ∈ l, (x 1).val = j.val)),
    iprop(Has c arg6 P6 q6 cv ∗ DqTo c arg7 (dqAt cv sb (slotF t4)) D)
      ⊢ iprop((iprop(Has c arg6 P6 q6 cv ∗ DqTo c arg7 (dqAt cv sb (slotF t4)) D') -∗ Q ())
        -∗ WP 𝒱 c (dqCols arg6 arg7 t4 i hi g hg (show S32x128.Idx → F .f32 from fun z => sb ((Rect.unit (s := S2048x128) (dOffS i g) S32x128.size (dOffS_inb i hi g hg)).emb z)) l) Q) := by
  induction l with
  | nil =>
    intro D D' hD
    unfold dqCols
    iintro ⟨H6, H7⟩ HQ
    iapply (WP_pure 𝒱 c)
    iapply HQ
    iframe
    iapply (DqTo.mono c (fun x hx => (hD x hx).resolve_right (fun h => by obtain ⟨_, _, j, hj, _⟩ := h; exact absurd hj (List.not_mem_nil)))) $$ H7
  | cons j l ih =>
    intro D D' hD
    unfold dqCols
    rw [WP_bind]
    iintro H HQ
    iapply (dqCol_spec 𝒱 c t4 i hi g hg j cv sb hP6 (D' := fun x => D x ∨ ((8 * i + g) * 4 ≤ (x 0).val ∧ (x 0).val < (8 * i + g) * 4 + 4 ∧ (x 1).val = j.val)) (fun x hx => hx)) $$ H
    iintro H
    iapply (ih (D' := D') (fun x hx => by
      rcases hD x hx with h | ⟨h1, h2, j', hj', h3⟩
      · exact .inl (.inl h)
      · rcases List.mem_cons.mp hj' with rfl | hj'
        · exact .inl (.inr ⟨h1, h2, h3⟩)
        · exact .inr ⟨h1, h2, j', hj', h3⟩)) $$ H
    iexact HQ

theorem mem_cols24 : ∀ j : Fin 24, j ∈ cols24 := by decide

theorem dqTrip_spec (t4 : Fin k0_t4_loop.trips) (i : ℕ) (hi : i < 8) (g : ℕ) (hg : g < 8)
    (cv : S2x2048x3072.Idx → F .fp8e5m2) (sb : S2048x128.Idx → F .f32) {q6 q10 : PosShare TreeShare} {P6 : S2x2048x3072.Idx → Prop}
    (hP6 : ∀ x, (x 0).val = t4.val % 2 → (8 * i + g) * 32 ≤ (x 1).val → (x 1).val < (8 * i + g) * 32 + 32 → P6 x) {Q : Unit → sProp 𝕄} :
    iprop(Has c arg6 P6 q6 cv ∗ Own c arg10 q10 sb ∗ DqTo c arg7 (dqAt cv sb (slotF t4)) (fun x => (x 0).val < (8 * i + g) * 4))
      ⊢ iprop((iprop(Has c arg6 P6 q6 cv ∗ Own c arg10 q10 sb ∗ DqTo c arg7 (dqAt cv sb (slotF t4)) (fun x => (x 0).val < (8 * i + (g + 1)) * 4)) -∗ Q ())
        -∗ WP 𝒱 c (dqTrip arg6 arg7 arg10 t4 i hi g hg) Q) := by
  unfold dqTrip
  rw [WP_bind]
  iintro ⟨H6, H10, H7⟩ HQ
  iapply (load_rule 𝒱 (fun _ => trivial)) $$ H10
  iintro H10
  iapply (dqCols_spec 𝒱 c t4 i hi g hg cv sb hP6 cols24 (D' := fun x => (x 0).val < (8 * i + (g + 1)) * 4) (fun x hx => by
    by_cases h : (x 0).val < (8 * i + g) * 4
    · exact .inl h
    · exact .inr ⟨by omega, by omega, ⟨(x 1).val, (x 1).isLt⟩, mem_cols24 _, rfl⟩)) $$ [H6 H7]
  · iframe
  iintro ⟨H6, H7⟩
  iapply HQ
  iframe

/-- All eight trips of a slab's loop. -/
theorem dqLoop_spec (t4 : Fin k0_t4_loop.trips) (i : ℕ) (hi : i < 8) (L : Scf.Loop 32) (hL : L.trips = 8) (ok : L.OK)
    (body : Fin L.trips → Unit → Prog (TpuEff nD τ sig (Elt F) Λ₀ .tc) Unit)
    (hb : ∀ k a, body k a = dqTrip (F := F) arg6 arg7 arg10 t4 i hi k.val (lt_of_lt_of_eq k.isLt hL))
    (cv : S2x2048x3072.Idx → F .fp8e5m2) (sb : S2048x128.Idx → F .f32) {q6 q10 : PosShare TreeShare} {P6 : S2x2048x3072.Idx → Prop}
    (hP6 : ∀ x, (x 0).val = t4.val % 2 → 256 * i ≤ (x 1).val → (x 1).val < 256 * i + 256 → P6 x) {Q : Unit → sProp 𝕄} :
    iprop(Has c arg6 P6 q6 cv ∗ Own c arg10 q10 sb ∗ DqTo c arg7 (dqAt cv sb (slotF t4)) (fun x => (x 0).val < 32 * i))
      ⊢ iprop((iprop(Has c arg6 P6 q6 cv ∗ Own c arg10 q10 sb ∗ DqTo c arg7 (dqAt cv sb (slotF t4)) (fun x => (x 0).val < 32 * (i + 1))) -∗ Q ())
        -∗ WP 𝒱 c (Scf.Loop.for L ok () body) Q) := by
  iintro ⟨H6, H10, H7⟩ HQ
  iapply (loop_rule 𝒱 c L ok () body (fun k _ => iprop(Has c arg6 P6 q6 cv ∗ Own c arg10 q10 sb ∗ DqTo c arg7 (dqAt cv sb (slotF t4)) (fun x => (x 0).val < (8 * i + k) * 4)))
    (fun k a => by
      have hk := lt_of_lt_of_eq k.isLt hL
      rw [hb k a]
      iintro H
      iapply (dqTrip_spec 𝒱 c t4 i hi k.val hk cv sb (fun x h1 h2 h3 => hP6 x h1 (by omega) (by omega))) $$ H
      iintro H
      iexact H)) $$ [H6 H10 H7]
  · iframe
    iapply (DqTo.mono c (fun x hx => by omega)) $$ H7
  iintro %acc ⟨H6, H10, H7⟩
  rw [hL]
  iapply HQ
  iframe
  iapply (DqTo.mono c (fun x hx => by omega)) $$ H7

end Cert.KernelIdeal.Emb
-- ==== Proof.KernelIdeal.TokProg.lean ====
module

public import proofs.«01_k».proof.Proof.KernelIdeal.Chk

@[expose] public section

noncomputable section

namespace Cert.KernelIdeal.Emb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]
local notation "𝕄" => MT nD τ sig Unit (Elt F) ℕ (UD sig nD τ) ℕ
variable (𝒱 : Variants) (c : Dev nD)
variable {arg0 : Memref sig .tc .smem S2049 .i32} {harg0 : arg0.IsWhole} {arg1 : Memref sig .tc .vmem S16x128 .i32} {harg1 : arg1.IsWhole} {arg2 : Memref sig .tc .vmem S2x1024 .i32} {harg2 : arg2.IsWhole} {arg3 : Memref sig .tc .vmem S2x1024 .f32} {harg3 : arg3.IsWhole} {arg4 : Memref sig .tc .hbm S2x1024x12288 .fp8e5m2} {harg4 : arg4.IsWhole} {arg5 : Memref sig .tc .hbm S256x96x8x128 .f32} {harg5 : arg5.IsWhole} {arg6 : Memref sig .tc .vmem S2x2048x3072 .fp8e5m2} {harg6 : arg6.IsWhole} {arg7 : Memref sig .tc .vmem S256x24x8x128 .f32} {harg7 : arg7.IsWhole} {arg8 : Memref sig .tc .vmem S4x9x24x8x128 .f32} {harg8 : arg8.IsWhole} {arg9 : Memref sig .tc .vmem S8x24x8x128 .f32} {harg9 : arg9.IsWhole} {arg10 : Memref sig .tc .vmem S2048x128 .f32} {harg10 : arg10.IsWhole} {arg11 : Memref sig .tc .vmem S2x17x128 .i32} {harg11 : arg11.IsWhole} {arg12 : Memref sig .tc .smem S2176 .i32} {harg12 : arg12.IsWhole} {arg13 : Memref sig .tc .smem S2176 .i32} {harg13 : arg13.IsWhole} {arg14 : DmaSems sig S2x8} {arg15 : DmaSems sig S4} {arg16 : DmaSems sig S_} {arg17 : DmaSems sig S_}

/-! # One sorted position of the accumulation loop, and a trip as eight of them -/

theorem pack32 : EltTy.i32.packing = 1 := rfl

/-- One position: read its source and destination words, then for each of the three column groups add the source rows to
    the carried accumulator (or to zero where a segment begins) and store the sum at the destination rows. -/
def tokStep (arg7 : Memref sig .tc .vmem S256x24x8x128 .f32) (harg7 : arg7.IsWhole) (arg8 : Memref sig .tc .vmem S4x9x24x8x128 .f32) (harg8 : arg8.IsWhole)
    (arg12 : Memref sig .tc .smem S2176 .i32) (arg13 : Memref sig .tc .smem S2176 .i32)
    (v49 : BitVec 32) (t4 : Fin k0_t4_loop.trips) (t15 : Fin (k0_t15_loop v49).trips)
    (op : Fin 1 → Nat) (hop : ∀ a, op a + S1.size a ≤ S2176.size a)
    (acc : FVec F S8x128 .f32 × FVec F S8x128 .f32 × FVec F S8x128 .f32) :
    Prog (TpuEff nD τ sig (Elt F) Λ₀ .tc) (FVec F S8x128 .f32 × FVec F S8x128 .f32 × FVec F S8x128 .f32) := do
  let w : Elt F .i32 ← smemLoad arg12 (Rect.unit (s := S2176) op S1.size hop) numel1_S1 pack32
  have hs : k0_chk4 w := (← Prog.lift (TpuEff.assume (k0_chk4 w) (k0_chk4.dec w))).down
  let d : Elt F .i32 ← smemLoad arg13 (Rect.unit (s := S2176) op S1.size hop) numel1_S1 pack32
  have hd : k0_chk5 v49 t4 t15 d := (← Prog.lift (TpuEff.assume (k0_chk5 v49 t4 t15 d) (k0_chk5.dec v49 t4 t15 d))).down
  let dq : Memref sig .tc .vmem S49152x128 .f32 := arg7.reshape S49152x128 reshapes_S256x24x8x128_S49152x128.1 reshapes_S256x24x8x128_S49152x128.2 harg7.contiguous
  let st : Memref sig .tc .vmem S6912x128 .f32 := arg8.reshape S6912x128 reshapes_S4x9x24x8x128_S6912x128.1 reshapes_S4x9x24x8x128_S6912x128.2 harg8.contiguous
  let x0 : Vec F S8x128 .f32 ← Prog.lift (.load dq (⟨k0_off453 w, S8x128.size, ![8, 1], (k0_off453_inb w hs)⟩ : LoadRect S49152x128) (View.loadsAt_vmem h_S8x128))
  let y0 : FVec F S8x128 .f32 := addf (Scalar.select (Scalar.cmpi .ne (Scalar.shrsi w 31#32) 0#32) acc.1 (broadcast S8x128 (Scalar.ofBits .f32 0x00000000#32))) x0
  let _d0 : Vec F S8x128 .f32 ← Prog.lift (.load st (⟨k0_off454 v49 t4 t15 d 0#32, S8x128.size, ![8, 1], (k0_off454_inb v49 t4 t15 d hd 0)⟩ : LoadRect S6912x128) (View.loadsAt_vmem h_S8x128))
  Prog.lift (.store st ⟨(⟨k0_off454 v49 t4 t15 d 0#32, S8x128.size, ![8, 1], (k0_off454_inb v49 t4 t15 d hd 0)⟩ : LoadRect S6912x128), spos_8_1⟩ (shapeCast S8x128 y0 shapeCasts_S8x128_S8x128) Finset.univ (View.stores_vmem_bits_univ h_S8x128 rfl) (.inl rfl))
  let x1 : Vec F S8x128 .f32 ← Prog.lift (.load dq (⟨k0_off455 w 64#32, S8x128.size, ![8, 1], (k0_off455_inb w hs 0)⟩ : LoadRect S49152x128) (View.loadsAt_vmem h_S8x128))
  let y1 : FVec F S8x128 .f32 := addf (Scalar.select (Scalar.cmpi .ne (Scalar.shrsi w 31#32) 0#32) acc.2.1 (broadcast S8x128 (Scalar.ofBits .f32 0x00000000#32))) x1
  let _d1 : Vec F S8x128 .f32 ← Prog.lift (.load st (⟨k0_off454 v49 t4 t15 d 64#32, S8x128.size, ![8, 1], (k0_off454_inb v49 t4 t15 d hd 1)⟩ : LoadRect S6912x128) (View.loadsAt_vmem h_S8x128))
  Prog.lift (.store st ⟨(⟨k0_off454 v49 t4 t15 d 64#32, S8x128.size, ![8, 1], (k0_off454_inb v49 t4 t15 d hd 1)⟩ : LoadRect S6912x128), spos_8_1⟩ (shapeCast S8x128 y1 shapeCasts_S8x128_S8x128) Finset.univ (View.stores_vmem_bits_univ h_S8x128 rfl) (.inl rfl))
  let x2 : Vec F S8x128 .f32 ← Prog.lift (.load dq (⟨k0_off455 w 128#32, S8x128.size, ![8, 1], (k0_off455_inb w hs 1)⟩ : LoadRect S49152x128) (View.loadsAt_vmem h_S8x128))
  let y2 : FVec F S8x128 .f32 := addf (Scalar.select (Scalar.cmpi .ne (Scalar.shrsi w 31#32) 0#32) acc.2.2 (broadcast S8x128 (Scalar.ofBits .f32 0x00000000#32))) x2
  let _d2 : Vec F S8x128 .f32 ← Prog.lift (.load st (⟨k0_off454 v49 t4 t15 d 128#32, S8x128.size, ![8, 1], (k0_off454_inb v49 t4 t15 d hd 2)⟩ : LoadRect S6912x128) (View.loadsAt_vmem h_S8x128))
  Prog.lift (.store st ⟨(⟨k0_off454 v49 t4 t15 d 128#32, S8x128.size, ![8, 1], (k0_off454_inb v49 t4 t15 d hd 2)⟩ : LoadRect S6912x128), spos_8_1⟩ (shapeCast S8x128 y2 shapeCasts_S8x128_S8x128) Finset.univ (View.stores_vmem_bits_univ h_S8x128 rfl) (.inl rfl))
  pure (y0, y1, y2)

set_option maxHeartbeats 4000000 in
set_option maxRecDepth 100000 in
theorem t16_body_eq (v49 v370 : BitVec 32) (t4 : Fin k0_t4_loop.trips) (t15 : Fin (k0_t15_loop v49).trips) (v593 v597 v602 : BitVec 32)
    (hw3 : k0_chk3 v49 v370 t15 v593 v602) (v605 : BitVec 32) (v606 : FVec F S8x128 .f32) (c0 c1 : BitVec 32)
    (t16 : Fin (k0_t16_loop v49 v370 t15 v593 v602).trips) (a0 a1 a2 : FVec F S8x128 .f32) :
    k0_t16_body (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v49 v370 t4 t15 v593 v597 v602 hw3 v605 v606 c0 c1 t16 (a0, a1, a2) =
        (tokStep (F := F) arg7 harg7 arg8 harg8 arg12 arg13 v49 t4 t15 (k0_off452 v49 v370 t15 v593 v602 t16) (k0_off452_inb v49 v370 t15 v593 v602 hw3 t16) (a0, a1, a2) >>= fun b1 =>
        tokStep (F := F) arg7 harg7 arg8 harg8 arg12 arg13 v49 t4 t15 (k0_off456 v49 v370 t15 v593 v602 t16) (k0_off456_inb v49 v370 t15 v593 v602 hw3 t16) b1 >>= fun b2 =>
        tokStep (F := F) arg7 harg7 arg8 harg8 arg12 arg13 v49 t4 t15 (k0_off460 v49 v370 t15 v593 v602 t16) (k0_off460_inb v49 v370 t15 v593 v602 hw3 t16) b2 >>= fun b3 =>
        tokStep (F := F) arg7 harg7 arg8 harg8 arg12 arg13 v49 t4 t15 (k0_off464 v49 v370 t15 v593 v602 t16) (k0_off464_inb v49 v370 t15 v593 v602 hw3 t16) b3 >>= fun b4 =>
        tokStep (F := F) arg7 harg7 arg8 harg8 arg12 arg13 v49 t4 t15 (k0_off468 v49 v370 t15 v593 v602 t16) (k0_off468_inb v49 v370 t15 v593 v602 hw3 t16) b4 >>= fun b5 =>
        tokStep (F := F) arg7 harg7 arg8 harg8 arg12 arg13 v49 t4 t15 (k0_off472 v49 v370 t15 v593 v602 t16) (k0_off472_inb v49 v370 t15 v593 v602 hw3 t16) b5 >>= fun b6 =>
        tokStep (F := F) arg7 harg7 arg8 harg8 arg12 arg13 v49 t4 t15 (k0_off476 v49 v370 t15 v593 v602 t16) (k0_off476_inb v49 v370 t15 v593 v602 hw3 t16) b6 >>= fun b7 =>
        tokStep (F := F) arg7 harg7 arg8 harg8 arg12 arg13 v49 t4 t15 (k0_off480 v49 v370 t15 v593 v602 t16) (k0_off480_inb v49 v370 t15 v593 v602 hw3 t16) b7 >>= fun b8 => pure b8) := rfl

end Cert.KernelIdeal.Emb
-- ==== Proof.KernelIdeal.TokSpec.lean ====
module

public import proofs.«01_k».proof.Proof.KernelIdeal.DqSpec
public import proofs.«01_k».proof.Proof.KernelIdeal.TokProg

@[expose] public section

noncomputable section

namespace Cert.KernelIdeal.Emb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]
local notation "𝕄" => MT nD τ sig Unit (Elt F) ℕ (UD sig nD τ) ℕ
variable (𝒱 : Variants) (c : Dev nD)
variable {arg0 : Memref sig .tc .smem S2049 .i32} {harg0 : arg0.IsWhole} {arg1 : Memref sig .tc .vmem S16x128 .i32} {harg1 : arg1.IsWhole} {arg2 : Memref sig .tc .vmem S2x1024 .i32} {harg2 : arg2.IsWhole} {arg3 : Memref sig .tc .vmem S2x1024 .f32} {harg3 : arg3.IsWhole} {arg4 : Memref sig .tc .hbm S2x1024x12288 .fp8e5m2} {harg4 : arg4.IsWhole} {arg5 : Memref sig .tc .hbm S256x96x8x128 .f32} {harg5 : arg5.IsWhole} {arg6 : Memref sig .tc .vmem S2x2048x3072 .fp8e5m2} {harg6 : arg6.IsWhole} {arg7 : Memref sig .tc .vmem S256x24x8x128 .f32} {harg7 : arg7.IsWhole} {arg8 : Memref sig .tc .vmem S4x9x24x8x128 .f32} {harg8 : arg8.IsWhole} {arg9 : Memref sig .tc .vmem S8x24x8x128 .f32} {harg9 : arg9.IsWhole} {arg10 : Memref sig .tc .vmem S2048x128 .f32} {harg10 : arg10.IsWhole} {arg11 : Memref sig .tc .vmem S2x17x128 .i32} {harg11 : arg11.IsWhole} {arg12 : Memref sig .tc .smem S2176 .i32} {harg12 : arg12.IsWhole} {arg13 : Memref sig .tc .smem S2176 .i32} {harg13 : arg13.IsWhole} {arg14 : DmaSems sig S2x8} {arg15 : DmaSems sig S4} {arg16 : DmaSems sig S_} {arg17 : DmaSems sig S_}

/-! # What one position of the accumulation loop does -/

section To
variable {sp : Space} {s : Shape} {e : EltTy}

/-- The elements of `m` where `P` holds, known to be `V` where `D` holds as well. -/
def To (c : Dev nD) (m : Memref sig .tc sp s e) (P : s.Idx → Prop) (V : s.Idx → Elt F e) (D : s.Idx → Prop) : sProp 𝕄 :=
  iprop(∃ g, ⌜∀ z, P z → D z → g z = V z⌝ ∗ Has c m P fullShare g)

theorem To.mono {m : Memref sig .tc sp s e} {P D D' : s.Idx → Prop} {V V' : s.Idx → Elt F e} (h : ∀ z, P z → D' z → D z ∧ V z = V' z) :
    To c m P V D ⊢ To c m P V' D' := by
  unfold To
  iintro ⟨%g, %hg, H⟩
  iexists g
  iframe
  ipureintro
  exact fun z hz hd => (hg z hz (h z hz hd).1).trans (h z hz hd).2

theorem To.load {cs : CoreSpace} {m : Memref sig .tc cs s e} {P D : s.Idx → Prop} {V : s.Idx → Elt F e} {r : Rect s} {hl : m.view.LoadsAt r.toLoadRect}
    {Q : (r.shape.Idx → Elt F e) → sProp 𝕄} (hP : ∀ j, P (r.emb j)) :
    To c m P V D ⊢ iprop((∀ v, To c m P V D -∗ Q v) -∗ WP 𝒱 c (Prog.lift (.load m r.toLoadRect hl)) Q) := by
  unfold To
  iintro ⟨%g, %hg, H⟩ HQ
  iapply (load_rule 𝒱 hP) $$ H
  iintro H
  iapply HQ
  iexists g
  iframe
  ipureintro
  exact hg

theorem To.store {cs : CoreSpace} {m : Memref sig .tc cs s e} {P D D' : s.Idx → Prop} {V V' : s.Idx → Elt F e} {r : Rect s} {w : r.shape.Idx → Elt F e}
    {hx : (m.access r).Stores Finset.univ}
    {hm : (Finset.univ : Finset r.shape.Idx) = Finset.univ ∨ ∀ a, r.stride a = 1} {Q : PUnit → sProp 𝕄}
    (hP : ∀ j, P (r.emb j)) (h1 : ∀ j, V' (r.emb j) = w j) (h2 : ∀ z, P z → D' z → (∀ j, r.emb j ≠ z) → D z ∧ V z = V' z) :
    To c m P V D ⊢ iprop((To c m P V' D' -∗ Q ⟨⟩) -∗ WP 𝒱 c (Prog.lift (.store m r w Finset.univ hx hm)) Q) := by
  classical
  unfold To
  iintro ⟨%g, %hg, H⟩ HQ
  iapply (store_rule 𝒱 (g' := fun z => if ∃ j, r.emb j = z then V' z else g z) hP (fun j => by rw [if_pos ⟨j, rfl⟩]; exact h1 j)
    (fun z _ hz => by rw [if_neg]; rintro ⟨j, hj⟩; exact hz j hj)) $$ H
  iintro H
  iapply HQ
  iexists _
  iframe
  ipureintro
  intro z hz hd
  by_cases h : ∃ j, r.emb j = z
  · rw [if_pos h]
  · rw [if_neg h]
    have := h2 z hz hd (fun j hj => h ⟨j, hj⟩)
    exact (hg z hz this.1).trans this.2
end To

/-- The output row, within a slot's 72, that a row of the flat accumulation buffer belongs to. -/
def zRow (z : S6912x128.Idx) : ℕ := (z 0).val % 1728 / 192 * 8 + (z 0).val % 8
/-- The tile, of the chunk's 24. -/
def zTile (z : S6912x128.Idx) : ℕ := (z 0).val % 192 / 8
def zSlot (z : S6912x128.Idx) : ℕ := (z 0).val / 1728

/-- Column group `k` of a row of 24 tiles. -/
def triA (R : ℕ → ℕ → F .f32) (k : ℕ) : FVec F S8x128 .f32 := fun y => R (8 * k + (y 0).val) (y 1).val
def tri (R : ℕ → ℕ → F .f32) : FVec F S8x128 .f32 × FVec F S8x128 .f32 × FVec F S8x128 .f32 := (triA R 0, triA R 1, triA R 2)

/-- Whether a position continues its segment, as the kernel asks. -/
def keepW (w : BitVec 32) : BitVec 1 := Scalar.cmpi .ne (Scalar.shrsi w 31#32) 0#32
/-- The accumulator after one more position. -/
def tokNext (kw : BitVec 1) (R X : ℕ → ℕ → F .f32) : ℕ → ℕ → F .f32 := fun v l =>
  FloatOps.addf (Scalar.select kw (R v l) (Scalar.ofBits .f32 0x00000000#32)) (X v l)

/-- The flat dequantised buffer: token, tile, lane. -/
def dqFlat (X : ℕ → ℕ → ℕ → F .f32) : S49152x128.Idx → Elt F .f32 := fun z => X ((z 0).val / 192 * 8 + (z 0).val % 8) ((z 0).val % 192 / 8) (z 1).val

theorem tri_next (kw : BitVec 1) (R X : ℕ → ℕ → F .f32) (k : ℕ) :
    addf (Scalar.select kw (triA R k) (broadcast S8x128 (Scalar.ofBits .f32 0x00000000#32))) (triA X k) = triA (tokNext kw R X) k := by
  funext y
  show FloatOps.addf ((if kw = 1 then triA R k else _) y) _ = FloatOps.addf (if kw = 1 then _ else _) _
  split <;> rfl

section step
variable {dqm : Memref sig .tc .vmem S49152x128 .f32} {stm : Memref sig .tc .vmem S6912x128 .f32}

/-- One column group of one position. -/
theorem tokCol_spec (k : ℕ) (hk : k < 3) (ring a b ra rb : ℕ) (hb : b < 8) (hring : ring < 4) (hra : ra < 9) (hrb : rb < 8)
    (X : ℕ → ℕ → ℕ → F .f32) (kw : BitVec 1) (R : ℕ → ℕ → F .f32) (V : S6912x128.Idx → Elt F .f32) (D : S6912x128.Idx → Prop) {q7 : PosShare TreeShare}
    {offR : Fin 2 → ℕ} (eR : offR = ![a * 192 + b + 64 * k, 0]) {offW : Fin 2 → ℕ} (eW : offW = ![ring * 1728 + ra * 192 + rb + 64 * k, 0])
    {inR : ∀ x, S8x128.size x = 0 ∨ offR x + (![8, 1] : Fin 2 → Nat) x * (S8x128.size x - 1) < S49152x128.size x}
    {inW : ∀ x, S8x128.size x = 0 ∨ offW x + (![8, 1] : Fin 2 → Nat) x * (S8x128.size x - 1) < S6912x128.size x}
    {hlR : dqm.view.LoadsAt (⟨offR, S8x128.size, ![8, 1], inR⟩ : LoadRect S49152x128)} {hlW : stm.view.LoadsAt (⟨offW, S8x128.size, ![8, 1], inW⟩ : LoadRect S6912x128)}
    {hsW : (stm.access ⟨(⟨offW, S8x128.size, ![8, 1], inW⟩ : LoadRect S6912x128), spos_8_1⟩).Stores Finset.univ}
    {hm : (Finset.univ : Finset (Rect.toLoadRect ⟨(⟨offW, S8x128.size, ![8, 1], inW⟩ : LoadRect S6912x128), spos_8_1⟩).shape.Idx) = Finset.univ ∨ ∀ a, (Rect.toLoadRect ⟨(⟨offW, S8x128.size, ![8, 1], inW⟩ : LoadRect S6912x128), spos_8_1⟩).stride a = 1}
    {β : Type} {K : Vec F S8x128 .f32 → Prog (TpuEff nD τ sig (Elt F) Λ₀ .tc) β} {Q : β → sProp 𝕄} :
    iprop(Own c dqm q7 (dqFlat X) ∗ To c stm (fun z => zSlot z = ring)
        (fun z => if zRow z = 8 * ra + rb ∧ zTile z < 8 * k then tokNext kw R (X (8 * a + b)) (zTile z) (z 1).val else V z) (fun z => (zRow z = 8 * ra + rb ∧ zTile z < 8 * k) ∨ D z))
      ⊢ iprop((iprop(Own c dqm q7 (dqFlat X) ∗ To c stm (fun z => zSlot z = ring)
        (fun z => if zRow z = 8 * ra + rb ∧ zTile z < 8 * (k + 1) then tokNext kw R (X (8 * a + b)) (zTile z) (z 1).val else V z) (fun z => (zRow z = 8 * ra + rb ∧ zTile z < 8 * (k + 1)) ∨ D z))
          -∗ WP 𝒱 c (K (triA (X (8 * a + b)) k)) Q)
        -∗ WP 𝒱 c (Prog.lift (.load dqm (⟨offR, S8x128.size, ![8, 1], inR⟩ : LoadRect S49152x128) hlR) >>= fun x : Vec F S8x128 .f32 =>
            Prog.lift (.load stm (⟨offW, S8x128.size, ![8, 1], inW⟩ : LoadRect S6912x128) hlW) >>= fun _ : Vec F S8x128 .f32 =>
            Prog.lift (.store stm ⟨(⟨offW, S8x128.size, ![8, 1], inW⟩ : LoadRect S6912x128), spos_8_1⟩
              (shapeCast S8x128 (addf (Scalar.select kw (triA R k) (broadcast S8x128 (Scalar.ofBits .f32 0x00000000#32))) x : FVec F S8x128 .f32) shapeCasts_S8x128_S8x128) Finset.univ hsW hm) >>= fun _ => K x) Q) := by
  subst eR eW
  rw [WP_bind]
  iintro ⟨H7, H8⟩ HQ
  iapply (load_rule 𝒱 (m := dqm) (P := fun _ => True) (q := q7) (g := dqFlat X) (r := ⟨⟨![a * 192 + b + 64 * k, 0], S8x128.size, ![8, 1], inR⟩, spos_8_1⟩) (hl := hlR) (fun _ => trivial)) $$ H7
  iintro H7
  have ex : (fun j => dqFlat X ((⟨⟨![a * 192 + b + 64 * k, 0], S8x128.size, ![8, 1], inR⟩, spos_8_1⟩ : Rect S49152x128).emb j)) = (triA (X (8 * a + b)) k : Vec F S8x128 .f32) := by
    funext y
    have hy0 : (y 0).val < 8 := (y 0).isLt
    show X _ _ _ = X (8 * a + b) (8 * k + (y 0).val) (y 1).val
    have e0 : ((⟨⟨![a * 192 + b + 64 * k, 0], S8x128.size, ![8, 1], inR⟩, spos_8_1⟩ : Rect S49152x128).emb y 0 : ℕ) = a * 192 + b + 64 * k + 8 * (y 0).val := rfl
    have e1 : ((⟨⟨![a * 192 + b + 64 * k, 0], S8x128.size, ![8, 1], inR⟩, spos_8_1⟩ : Rect S49152x128).emb y 1 : ℕ) = 0 + 1 * (y 1).val := rfl
    rw [e0, e1]
    have e3 : 0 + 1 * (y 1).val = (y 1).val := by omega
    have e4 : (a * 192 + b + 64 * k + 8 * (y 0).val) / 192 * 8 + (a * 192 + b + 64 * k + 8 * (y 0).val) % 8 = 8 * a + b := by omega
    have e5 : (a * 192 + b + 64 * k + 8 * (y 0).val) % 192 / 8 = 8 * k + (y 0).val := by omega
    rw [e3, e4, e5]
  rw [ex]
  rw [WP_bind]
  have he : ∀ y, ((⟨⟨![ring * 1728 + ra * 192 + rb + 64 * k, 0], S8x128.size, ![8, 1], inW⟩, spos_8_1⟩ : Rect S6912x128).emb y 0 : ℕ) = ring * 1728 + ra * 192 + rb + 64 * k + 8 * (y 0).val := fun _ => rfl
  have he1 : ∀ y, ((⟨⟨![ring * 1728 + ra * 192 + rb + 64 * k, 0], S8x128.size, ![8, 1], inW⟩, spos_8_1⟩ : Rect S6912x128).emb y 1 : ℕ) = 0 + 1 * (y 1).val := fun _ => rfl
  have hslot : ∀ y, zSlot ((⟨⟨![ring * 1728 + ra * 192 + rb + 64 * k, 0], S8x128.size, ![8, 1], inW⟩, spos_8_1⟩ : Rect S6912x128).emb y) = ring := by
    intro y
    have hy0 : (y 0).val < 8 := (y 0).isLt
    unfold zSlot; rw [he]; omega
  have hrow : ∀ y, zRow ((⟨⟨![ring * 1728 + ra * 192 + rb + 64 * k, 0], S8x128.size, ![8, 1], inW⟩, spos_8_1⟩ : Rect S6912x128).emb y) = 8 * ra + rb := by
    intro y
    have hy0 : (y 0).val < 8 := (y 0).isLt
    unfold zRow; rw [he]; omega
  have htile : ∀ y, zTile ((⟨⟨![ring * 1728 + ra * 192 + rb + 64 * k, 0], S8x128.size, ![8, 1], inW⟩, spos_8_1⟩ : Rect S6912x128).emb y) = 8 * k + (y 0).val := by
    intro y
    have hy0 : (y 0).val < 8 := (y 0).isLt
    unfold zTile; rw [he]; omega
  iapply (To.load 𝒱 c (m := stm) (P := fun z => zSlot z = ring) (hl := hlW) (r := ⟨⟨![ring * 1728 + ra * 192 + rb + 64 * k, 0], S8x128.size, ![8, 1], inW⟩, spos_8_1⟩) hslot) $$ H8
  iintro %v H8
  rw [WP_bind]
  iapply (To.store 𝒱 c (P := fun z => zSlot z = ring) (V' := fun z => if zRow z = 8 * ra + rb ∧ zTile z < 8 * (k + 1) then tokNext kw R (X (8 * a + b)) (zTile z) (z 1).val else V z)
    (D' := fun z => (zRow z = 8 * ra + rb ∧ zTile z < 8 * (k + 1)) ∨ D z) hslot (fun y => ?_) (fun z hz hd hn => ?_)) $$ H8
  · have hy0 : (y 0).val < 8 := (y 0).isLt
    show _ = (addf _ _ : FVec F S8x128 .f32) (Shape.reshapeEquiv _ y)
    rw [Shape.reshapeEquiv_self, tri_next]
    dsimp only
    rw [if_pos ⟨hrow y, by rw [htile]; omega⟩, htile, he1]
    show tokNext _ _ _ _ _ = tokNext _ _ _ (8 * k + (y 0).val) (y 1).val
    rw [Nat.zero_add, Nat.one_mul]
  · have key : ¬ (zRow z = 8 * ra + rb ∧ zTile z < 8 * (k + 1) ∧ 8 * k ≤ zTile z) := by
      rintro ⟨h1, h2, h3⟩
      have hz1 : (z 1).val < 128 := (z 1).isLt
      have hz0 : (z 0).val < 6912 := (z 0).isLt
      refine hn (ValueIdx.ix2 (⟨zTile z - 8 * k, by omega⟩ : Fin 8) (⟨(z 1).val, hz1⟩ : Fin 128)) ?_
      funext x
      apply Fin.ext
      fin_cases x
      · show ring * 1728 + ra * 192 + rb + 64 * k + 8 * (zTile z - 8 * k) = (z 0).val
        unfold zSlot at hz; unfold zRow at h1; unfold zTile at h2 h3 ⊢; omega
      · show 0 + 1 * (z 1).val = (z 1).val; omega
    dsimp only at hd ⊢
    by_cases h : zRow z = 8 * ra + rb ∧ zTile z < 8 * k
    · rw [if_pos h, if_pos ⟨h.1, by omega⟩]; exact ⟨.inl h, rfl⟩
    · have h' : ¬ (zRow z = 8 * ra + rb ∧ zTile z < 8 * (k + 1)) := fun h' => by
        by_cases h3 : 8 * k ≤ zTile z
        · exact key ⟨h'.1, h'.2, h3⟩
        · exact h ⟨h'.1, by omega⟩
      rw [if_neg h, if_neg h']
      exact ⟨.inr (hd.resolve_left h'), rfl⟩
  iintro H8
  iapply HQ
  iframe
end step

theorem off453_eq (w : BitVec 32) (a b : ℕ) (hs : (Scalar.andi w 65535#32).toNat = a * 192 + b) : k0_off453 w = ![a * 192 + b + 64 * 0, 0] := by
  show ![(Scalar.addi (Scalar.andi w 65535#32) 0#32).toNat, 0] = _
  have : (Scalar.addi (Scalar.andi w 65535#32) 0#32) = Scalar.andi w 65535#32 := BitVec.add_zero _
  rw [this, hs]; rfl

theorem off455_eq (w : BitVec 32) (a b : ℕ) (ha : a < 256) (hb : b < 8) (hs : (Scalar.andi w 65535#32).toNat = a * 192 + b) (k : ℕ) (hk : k < 3) :
    k0_off455 w (BitVec.ofNat 32 (64 * k)) = ![a * 192 + b + 64 * k, 0] := by
  show ![(Scalar.addi (Scalar.andi w 65535#32) (BitVec.ofNat 32 (64 * k))).toNat, 0] = _
  rw [addi_toNat _ _ (by rw [hs, ofNat_toNat (by omega)]; omega), hs, ofNat_toNat (by omega)]

theorem off454_eq (v49 : BitVec 32) (h : v49.toNat ≤ 2048) (t4 : Fin k0_t4_loop.trips) (t15 : Fin (k0_t15_loop v49).trips) (d : BitVec 32)
    (ra rb : ℕ) (hra : ra < 9) (hrb : rb < 8) (hd : d.toNat = t15.val * 1536 + ra * 192 + rb) (k : ℕ) (hk : k < 3) :
    k0_off454 v49 t4 t15 d (BitVec.ofNat 32 (64 * k)) = ![ringN v49 t4 t15 * 1728 + ra * 192 + rb + 64 * k, 0] := by
  have ht := t15_lt v49 h t15
  have hk4 := lt_of_lt_of_eq t4.isLt t4_trips
  have hr := ringW_toNat v49 h t4 t15 hk4 (by omega)
  have hrl := ringN_lt v49 t4 t15
  have h1 : (Scalar.muli (Scalar.remsi (stepW v49 t4 t15) 4#32) 1728#32).toNat = ringN v49 t4 t15 * 1728 := by
    rw [muli_toNat _ _ (by rw [hr]; simp; omega), hr]; rfl
  have h2 : (Scalar.muli (Scf.iv 0#32 1#32 t15) 1536#32).toNat = t15.val * 1536 := by
    rw [muli_toNat _ _ (by rw [iv0_toNat _ (by omega)]; simp; omega), iv0_toNat _ (by omega)]; rfl
  show ![(Scalar.addi (Scalar.addi d (Scalar.subi (Scalar.muli (Scalar.remsi (stepW v49 t4 t15) 4#32) 1728#32) (Scalar.muli (Scf.iv 0#32 1#32 t15) 1536#32))) (BitVec.ofNat 32 (64 * k))).toNat, 0] = _
  generalize Scalar.muli (Scalar.remsi (stepW v49 t4 t15) 4#32) 1728#32 = A at h1
  generalize Scalar.muli (Scf.iv 0#32 1#32 t15) 1536#32 = B at h2
  have e : (Scalar.addi (Scalar.addi d (Scalar.subi A B)) (BitVec.ofNat 32 (64 * k))).toNat = ringN v49 t4 t15 * 1728 + ra * 192 + rb + 64 * k := by
    show ((d + (A - B)) + BitVec.ofNat 32 (64 * k)).toNat = _
    rw [BitVec.toNat_add, BitVec.toNat_add, BitVec.toNat_sub, h1, h2, hd, ofNat_toNat (by omega)]
    omega
  rw [e]

theorem chk4_ok (w : BitVec 32) (a b : ℕ) (ha : a < 256) (hb : b < 8) (hs : (Scalar.andi w 65535#32).toNat = a * 192 + b) : k0_chk4 w := by
  refine ⟨?_, fun r => ?_⟩
  · rw [off453_eq w a b hs]
    intro x; fin_cases x
    · right; show a * 192 + b + 64 * 0 + 8 * (8 - 1) < 49152; omega
    · right; show 0 + 1 * (128 - 1) < 128; omega
  · have hr := r.isLt
    rw [show 64 + 64 * r.val = 64 * (r.val + 1) by omega, off455_eq w a b ha hb hs (r.val + 1) (by omega)]
    intro x; fin_cases x
    · right; show a * 192 + b + 64 * (r.val + 1) + 8 * (8 - 1) < 49152; omega
    · right; show 0 + 1 * (128 - 1) < 128; omega

theorem chk5_ok (v49 : BitVec 32) (h : v49.toNat ≤ 2048) (t4 : Fin k0_t4_loop.trips) (t15 : Fin (k0_t15_loop v49).trips) (d : BitVec 32)
    (ra rb : ℕ) (hra : ra < 9) (hrb : rb < 8) (hd : d.toNat = t15.val * 1536 + ra * 192 + rb) : k0_chk5 v49 t4 t15 d := by
  intro r
  have hrl := ringN_lt v49 t4 t15
  have hr := r.isLt
  rw [off454_eq v49 h t4 t15 d ra rb hra hrb hd r.val (by omega)]
  intro x; fin_cases x
  · right; show ringN v49 t4 t15 * 1728 + ra * 192 + rb + 64 * r.val + 8 * (8 - 1) < 6912; omega
  · right; show 0 + 1 * (128 - 1) < 128; omega

/-- The flat views of the two buffers. -/
abbrev dqM (arg7 : Memref sig .tc .vmem S256x24x8x128 .f32) (harg7 : arg7.IsWhole) : Memref sig .tc .vmem S49152x128 .f32 :=
  arg7.reshape S49152x128 reshapes_S256x24x8x128_S49152x128.1 reshapes_S256x24x8x128_S49152x128.2 harg7.contiguous
abbrev stM (arg8 : Memref sig .tc .vmem S4x9x24x8x128 .f32) (harg8 : arg8.IsWhole) : Memref sig .tc .vmem S6912x128 .f32 :=
  arg8.reshape S6912x128 reshapes_S4x9x24x8x128_S6912x128.1 reshapes_S4x9x24x8x128_S6912x128.2 harg8.contiguous

/-- Reading one word whose value is known. -/
theorem smem_val {s : Shape} {e : EltTy} {m : Memref sig .tc .smem s e} {r : Rect s} {P : s.Idx → Prop} {q : PosShare TreeShare} {g : s.Idx → Elt F e} {v : Elt F e}
    {h1 : r.shape.numel = 1} {hp : e.packing = 1} {Q : Elt F e → sProp 𝕄}
    (hP : ∀ j, P (r.emb j)) (j : r.shape.Idx) (hv : g (r.emb j) = v) :
    Has c m P q g ⊢ iprop((Has c m P q g -∗ Q v) -∗ WP 𝒱 c (smemLoad m r h1 hp) Q) := by
  subst hv
  exact smem_rule 𝒱 hP j

/-- A table of 2176 words, read at an index. -/
def wordsAt (w : ℕ → BitVec 32) : S2176.Idx → Elt F .i32 := fun i => w (i 0).val

theorem tokStep_spec (v49 : BitVec 32) (h : v49.toNat ≤ 2048) (t4 : Fin k0_t4_loop.trips) (t15 : Fin (k0_t15_loop v49).trips)
    (op : Fin 1 → Nat) (hop : ∀ a, op a + S1.size a ≤ S2176.size a) (p : ℕ) (hp : op 0 = p) (sw dw : ℕ → BitVec 32) (a b ra rb : ℕ)
    (ha : a < 256) (hb : b < 8) (hs : (Scalar.andi (sw p) 65535#32).toNat = a * 192 + b)
    (hra : ra < 9) (hrb : rb < 8) (hd : (dw p).toNat = t15.val * 1536 + ra * 192 + rb)
    (X : ℕ → ℕ → ℕ → F .f32) (R : ℕ → ℕ → F .f32) (V : S6912x128.Idx → Elt F .f32) (D : S6912x128.Idx → Prop) {q7 q12 q13 : PosShare TreeShare}
    {Q : FVec F S8x128 .f32 × FVec F S8x128 .f32 × FVec F S8x128 .f32 → sProp 𝕄} :
    iprop(Own c arg12 q12 (wordsAt sw) ∗ Own c arg13 q13 (wordsAt dw)
        ∗ Own c (dqM arg7 harg7) q7 (dqFlat X) ∗ To c (stM arg8 harg8) (fun z => zSlot z = ringN v49 t4 t15) V D)
      ⊢ iprop((iprop(Own c arg12 q12 (wordsAt sw) ∗ Own c arg13 q13 (wordsAt dw)
        ∗ Own c (dqM arg7 harg7) q7 (dqFlat X) ∗ To c (stM arg8 harg8) (fun z => zSlot z = ringN v49 t4 t15)
          (fun z => if zRow z = 8 * ra + rb then tokNext (keepW (sw p)) R (X (8 * a + b)) (zTile z) (z 1).val else V z) (fun z => zRow z = 8 * ra + rb ∨ D z))
            -∗ Q (tri (tokNext (keepW (sw p)) R (X (8 * a + b)))))
        -∗ WP 𝒱 c (tokStep arg7 harg7 arg8 harg8 arg12 arg13 v49 t4 t15 op hop (tri R)) Q) := by
  unfold tokStep
  dsimp only
  rw [WP_bind]
  iintro ⟨H12, H13, H7, H8⟩ HQ
  have he : ∀ j : S1.Idx, ((Rect.unit (s := S2176) op S1.size hop).emb j 0 : ℕ) = p := by
    intro j
    rw [unit_emb, hp]
    have : (j 0).val < 1 := (j 0).isLt
    omega
  iapply (smem_val 𝒱 c (v := sw p) (fun _ => trivial) (ValueIdx.ix1 (0 : Fin 1)) (congrArg sw (he _))) $$ H12
  iintro H12
  rw [WP_bind]
  have hc4 := chk4_ok (sw p) a b ha hb hs
  iapply (assume_rule 𝒱 hc4)
  rw [WP_bind]
  iapply (smem_val 𝒱 c (v := dw p) (fun _ => trivial) (ValueIdx.ix1 (0 : Fin 1)) (congrArg dw (he _))) $$ H13
  iintro H13
  rw [WP_bind]
  have hc5 := chk5_ok v49 h t4 t15 (dw p) ra rb hra hrb hd
  iapply (assume_rule 𝒱 hc5)
  have hring := ringN_lt v49 t4 t15
  iapply (tokCol_spec 𝒱 c 0 (by decide) (ringN v49 t4 t15) a b ra rb hb hring hra hrb X (keepW (sw p)) R V D
    (off453_eq (sw p) a b hs) (off454_eq v49 h t4 t15 (dw p) ra rb hra hrb hd 0 (by decide))) $$ [H7 H8]
  · iframe
    iapply (To.mono c (fun z hz hd' => ⟨hd'.resolve_left (fun h => by omega), by rw [if_neg (fun h => by omega)]⟩)) $$ H8
  iintro ⟨H7, H8⟩
  iapply (tokCol_spec 𝒱 c 1 (by decide) (ringN v49 t4 t15) a b ra rb hb hring hra hrb X (keepW (sw p)) R V D
    (off455_eq (sw p) a b ha hb hs 1 (by decide)) (off454_eq v49 h t4 t15 (dw p) ra rb hra hrb hd 1 (by decide))) $$ [H7 H8]
  · iframe
  iintro ⟨H7, H8⟩
  iapply (tokCol_spec 𝒱 c 2 (by decide) (ringN v49 t4 t15) a b ra rb hb hring hra hrb X (keepW (sw p)) R V D
    (off455_eq (sw p) a b ha hb hs 2 (by decide)) (off454_eq v49 h t4 t15 (dw p) ra rb hra hrb hd 2 (by decide))) $$ [H7 H8]
  · iframe
  iintro ⟨H7, H8⟩
  iapply (WP_pure 𝒱 c)
  have er : tri (tokNext (keepW (sw p)) R (X (8 * a + b))) =
    (addf (Scalar.select (Scalar.cmpi .ne (Scalar.shrsi (sw p) 31#32) 0#32) (tri R).1 (broadcast S8x128 (FloatOps.ofBits FTy.f32 0#32))) (triA (X (8 * a + b)) 0),
     addf (Scalar.select (Scalar.cmpi .ne (Scalar.shrsi (sw p) 31#32) 0#32) (tri R).2.1 (broadcast S8x128 (FloatOps.ofBits FTy.f32 0#32))) (triA (X (8 * a + b)) 1),
     addf (Scalar.select (Scalar.cmpi .ne (Scalar.shrsi (sw p) 31#32) 0#32) (tri R).2.2 (broadcast S8x128 (FloatOps.ofBits FTy.f32 0#32))) (triA (X (8 * a + b)) 2)) := by
    show (_, _, _) = _
    rw [← tri_next, ← tri_next, ← tri_next]
    rfl
  rw [← er]
  iapply HQ
  iframe
  have ht : ∀ z, zTile z < 8 * (2 + 1) := fun z => by unfold zTile; omega
  iapply (To.mono c (fun z hz hd' => ⟨hd'.imp_left (fun h => ⟨h, ht z⟩), by
    dsimp only
    by_cases h : zRow z = 8 * ra + rb
    · rw [if_pos h, if_pos ⟨h, ht z⟩]
    · rw [if_neg h, if_neg (fun h' => h h'.1)]⟩)) $$ H8

end Cert.KernelIdeal.Emb
-- ==== Proof.KernelIdeal.TokLoop.lean ====
module

public import proofs.«01_k».proof.Proof.KernelIdeal.TokSpec

@[expose] public section

noncomputable section

namespace Cert.KernelIdeal.Emb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]
local notation "𝕄" => MT nD τ sig Unit (Elt F) ℕ (UD sig nD τ) ℕ
variable (𝒱 : Variants) (c : Dev nD)
variable {arg0 : Memref sig .tc .smem S2049 .i32} {harg0 : arg0.IsWhole} {arg1 : Memref sig .tc .vmem S16x128 .i32} {harg1 : arg1.IsWhole} {arg2 : Memref sig .tc .vmem S2x1024 .i32} {harg2 : arg2.IsWhole} {arg3 : Memref sig .tc .vmem S2x1024 .f32} {harg3 : arg3.IsWhole} {arg4 : Memref sig .tc .hbm S2x1024x12288 .fp8e5m2} {harg4 : arg4.IsWhole} {arg5 : Memref sig .tc .hbm S256x96x8x128 .f32} {harg5 : arg5.IsWhole} {arg6 : Memref sig .tc .vmem S2x2048x3072 .fp8e5m2} {harg6 : arg6.IsWhole} {arg7 : Memref sig .tc .vmem S256x24x8x128 .f32} {harg7 : arg7.IsWhole} {arg8 : Memref sig .tc .vmem S4x9x24x8x128 .f32} {harg8 : arg8.IsWhole} {arg9 : Memref sig .tc .vmem S8x24x8x128 .f32} {harg9 : arg9.IsWhole} {arg10 : Memref sig .tc .vmem S2048x128 .f32} {harg10 : arg10.IsWhole} {arg11 : Memref sig .tc .vmem S2x17x128 .i32} {harg11 : arg11.IsWhole} {arg12 : Memref sig .tc .smem S2176 .i32} {harg12 : arg12.IsWhole} {arg13 : Memref sig .tc .smem S2176 .i32} {harg13 : arg13.IsWhole} {arg14 : DmaSems sig S2x8} {arg15 : DmaSems sig S4} {arg16 : DmaSems sig S_} {arg17 : DmaSems sig S_}

/-! # The accumulation loop of one block -/

/-- The first position of a block, as a word. -/
def p0W (v370 : BitVec 32) (b : ℕ) (v593 : BitVec 32) : BitVec 32 :=
  Scalar.maxsi v593 (Scalar.select (Scalar.cmpi .eq (Scf.iv 0#32 1#32 b) 0#32) (Scalar.subi v370 1#32) 0#32)
/-- The number of groups of eight positions, as a word. -/
def trW (v370 : BitVec 32) (b : ℕ) (v593 v602 : BitVec 32) : BitVec 32 :=
  fdivW (Scalar.subi (Scalar.addi (Scalar.subi v602 (p0W v370 b v593)) 8#32) 1#32) 8#32

section trips
variable (v49 v370 : BitVec 32) (t15 : Fin (k0_t15_loop v49).trips) (v593 v602 : BitVec 32) (p0 p1 : ℕ)
  (hp0 : (p0W v370 t15 v593).toNat = p0) (hp1 : v602.toNat = p1) (h01 : p0 ≤ p1) (h1 : p1 ≤ 2048)
include hp0 hp1 h01 h1

theorem trW_toNat : (trW v370 t15 v593 v602).toNat = (p1 - p0 + 7) / 8 := by
  have e1 := subi_toNat v602 (p0W v370 t15 v593) (by omega)
  have e2 : (Scalar.addi (Scalar.subi v602 (p0W v370 t15 v593)) 8#32).toNat = p1 - p0 + 8 := by
    rw [addi_toNat _ _ (by rw [e1]; simp; omega), e1, hp0, hp1]; rfl
  have e3 : (Scalar.subi (Scalar.addi (Scalar.subi v602 (p0W v370 t15 v593)) 8#32) 1#32).toNat = p1 - p0 + 7 := by
    rw [subi_toNat _ _ (by rw [e2]; simp), e2]; rfl
  unfold trW
  rw [fdivW_toNat _ _ (by omega) (by decide) (by decide), e3]; rfl

theorem t16_loop_eq : k0_t16_loop v49 v370 t15 v593 v602 = ⟨0#32, trW v370 t15 v593 v602, 1#32⟩ := by
  have ht := trW_toNat v49 v370 t15 v593 v602 p0 p1 hp0 hp1 h01 h1
  have := bound_eq 0#32 (trW v370 t15 v593 v602) (by omega) (Nat.zero_le _)
  exact congrArg (fun x => (⟨0#32, x, 1#32⟩ : Scf.Loop 32)) this

theorem t17_loop_eq : k0_t17_loop v49 v370 t15 v593 v602 = ⟨trW v370 t15 v593 v602, trW v370 t15 v593 v602, 1#32⟩ := by
  have ht := trW_toNat v49 v370 t15 v593 v602 p0 p1 hp0 hp1 h01 h1
  have h1 := bound_eq 0#32 (trW v370 t15 v593 v602) (by omega) (Nat.zero_le _)
  have h2 : Scalar.addi 0#32 (Scalar.subi (trW v370 t15 v593 v602) 0#32) = trW v370 t15 v593 v602 := by
    show 0#32 + (trW v370 t15 v593 v602 - 0#32) = _
    simp
  exact congrArg₂ (fun x y => (⟨x, y, 1#32⟩ : Scf.Loop 32)) h1 h2

theorem t16_trips : (k0_t16_loop v49 v370 t15 v593 v602).trips = (p1 - p0 + 7) / 8 := by
  have ht := trW_toNat v49 v370 t15 v593 v602 p0 p1 hp0 hp1 h01 h1
  rw [t16_loop_eq v49 v370 t15 v593 v602 p0 p1 hp0 hp1 h01 h1, ← ht]
  exact trips_zero_one _ (by show (trW v370 t15 v593 v602).toNat < _; omega)

theorem t17_trips : (k0_t17_loop v49 v370 t15 v593 v602).trips = 0 := by
  rw [t17_loop_eq v49 v370 t15 v593 v602 p0 p1 hp0 hp1 h01 h1]; exact trips_self _

theorem posW (t : ℕ) (ht : t < (p1 - p0 + 7) / 8) (j : ℕ) (hj : j < 8) :
    (Scalar.addi (Scalar.addi (p0W v370 t15 v593) (Scalar.muli (Scf.iv 0#32 1#32 t) 8#32)) (BitVec.ofNat 32 j)).toNat = p0 + (8 * t + j) := by
  have e1 : (Scalar.muli (Scf.iv 0#32 1#32 t) 8#32).toNat = t * 8 := by
    rw [muli_toNat _ _ (by rw [iv0_toNat _ (by omega)]; simp; omega), iv0_toNat _ (by omega)]; rfl
  have e2 : (Scalar.addi (p0W v370 t15 v593) (Scalar.muli (Scf.iv 0#32 1#32 t) 8#32)).toNat = p0 + t * 8 := by
    rw [addi_toNat _ _ (by rw [e1, hp0]; omega), e1, hp0]
  rw [addi_toNat _ _ (by rw [e2, ofNat_toNat (by omega)]; omega), e2, ofNat_toNat (by omega)]; omega

theorem off452_eq (t : Fin (k0_t16_loop v49 v370 t15 v593 v602).trips) : k0_off452 v49 v370 t15 v593 v602 t = ![p0 + (8 * t.val + 0)] := by
  have ht := lt_of_lt_of_eq t.isLt (t16_trips v49 v370 t15 v593 v602 p0 p1 hp0 hp1 h01 h1)
  rw [← posW v49 v370 t15 v593 v602 p0 p1 hp0 hp1 h01 h1 t ht 0 (by decide)]; rfl
theorem off456_eq (t : Fin (k0_t16_loop v49 v370 t15 v593 v602).trips) : k0_off456 v49 v370 t15 v593 v602 t = ![p0 + (8 * t.val + 1)] := by
  have ht := lt_of_lt_of_eq t.isLt (t16_trips v49 v370 t15 v593 v602 p0 p1 hp0 hp1 h01 h1)
  rw [← posW v49 v370 t15 v593 v602 p0 p1 hp0 hp1 h01 h1 t ht 1 (by decide)]; rfl
theorem off460_eq (t : Fin (k0_t16_loop v49 v370 t15 v593 v602).trips) : k0_off460 v49 v370 t15 v593 v602 t = ![p0 + (8 * t.val + 2)] := by
  have ht := lt_of_lt_of_eq t.isLt (t16_trips v49 v370 t15 v593 v602 p0 p1 hp0 hp1 h01 h1)
  rw [← posW v49 v370 t15 v593 v602 p0 p1 hp0 hp1 h01 h1 t ht 2 (by decide)]; rfl
theorem off464_eq (t : Fin (k0_t16_loop v49 v370 t15 v593 v602).trips) : k0_off464 v49 v370 t15 v593 v602 t = ![p0 + (8 * t.val + 3)] := by
  have ht := lt_of_lt_of_eq t.isLt (t16_trips v49 v370 t15 v593 v602 p0 p1 hp0 hp1 h01 h1)
  rw [← posW v49 v370 t15 v593 v602 p0 p1 hp0 hp1 h01 h1 t ht 3 (by decide)]; rfl
theorem off468_eq (t : Fin (k0_t16_loop v49 v370 t15 v593 v602).trips) : k0_off468 v49 v370 t15 v593 v602 t = ![p0 + (8 * t.val + 4)] := by
  have ht := lt_of_lt_of_eq t.isLt (t16_trips v49 v370 t15 v593 v602 p0 p1 hp0 hp1 h01 h1)
  rw [← posW v49 v370 t15 v593 v602 p0 p1 hp0 hp1 h01 h1 t ht 4 (by decide)]; rfl
theorem off472_eq (t : Fin (k0_t16_loop v49 v370 t15 v593 v602).trips) : k0_off472 v49 v370 t15 v593 v602 t = ![p0 + (8 * t.val + 5)] := by
  have ht := lt_of_lt_of_eq t.isLt (t16_trips v49 v370 t15 v593 v602 p0 p1 hp0 hp1 h01 h1)
  rw [← posW v49 v370 t15 v593 v602 p0 p1 hp0 hp1 h01 h1 t ht 5 (by decide)]; rfl
theorem off476_eq (t : Fin (k0_t16_loop v49 v370 t15 v593 v602).trips) : k0_off476 v49 v370 t15 v593 v602 t = ![p0 + (8 * t.val + 6)] := by
  have ht := lt_of_lt_of_eq t.isLt (t16_trips v49 v370 t15 v593 v602 p0 p1 hp0 hp1 h01 h1)
  rw [← posW v49 v370 t15 v593 v602 p0 p1 hp0 hp1 h01 h1 t ht 6 (by decide)]; rfl
theorem off480_eq (t : Fin (k0_t16_loop v49 v370 t15 v593 v602).trips) : k0_off480 v49 v370 t15 v593 v602 t = ![p0 + (8 * t.val + 7)] := by
  have ht := lt_of_lt_of_eq t.isLt (t16_trips v49 v370 t15 v593 v602 p0 p1 hp0 hp1 h01 h1)
  rw [← posW v49 v370 t15 v593 v602 p0 p1 hp0 hp1 h01 h1 t ht 7 (by decide)]; rfl

theorem pos_inb (n : ℕ) (h : n < p1 + 8) : ∀ a, (![n] : Fin 1 → ℕ) a + S1.size a ≤ S2176.size a := by
  intro a; fin_cases a; show n + 1 ≤ 2176; omega

theorem chk3_ok : k0_chk3 v49 v370 t15 v593 v602 := by
  have htr := trW_toNat v49 v370 t15 v593 v602 p0 p1 hp0 hp1 h01 h1
  have h16 := t16_trips v49 v370 t15 v593 v602 p0 p1 hp0 hp1 h01 h1
  have no17 : ∀ t : Fin (k0_t17_loop v49 v370 t15 v593 v602).trips, False := fun t => by
    have := lt_of_lt_of_eq t.isLt (t17_trips v49 v370 t15 v593 v602 p0 p1 hp0 hp1 h01 h1); omega
  refine ⟨?_, fun t => (off452_eq v49 v370 t15 v593 v602 p0 p1 hp0 hp1 h01 h1 t).symm ▸ pos_inb v49 v370 t15 v593 v602 p0 p1 hp0 hp1 h01 h1 _ (by have := lt_of_lt_of_eq t.isLt h16; omega), fun t => (off456_eq v49 v370 t15 v593 v602 p0 p1 hp0 hp1 h01 h1 t).symm ▸ pos_inb v49 v370 t15 v593 v602 p0 p1 hp0 hp1 h01 h1 _ (by have := lt_of_lt_of_eq t.isLt h16; omega), fun t => (off460_eq v49 v370 t15 v593 v602 p0 p1 hp0 hp1 h01 h1 t).symm ▸ pos_inb v49 v370 t15 v593 v602 p0 p1 hp0 hp1 h01 h1 _ (by have := lt_of_lt_of_eq t.isLt h16; omega), fun t => (off464_eq v49 v370 t15 v593 v602 p0 p1 hp0 hp1 h01 h1 t).symm ▸ pos_inb v49 v370 t15 v593 v602 p0 p1 hp0 hp1 h01 h1 _ (by have := lt_of_lt_of_eq t.isLt h16; omega), fun t => (off468_eq v49 v370 t15 v593 v602 p0 p1 hp0 hp1 h01 h1 t).symm ▸ pos_inb v49 v370 t15 v593 v602 p0 p1 hp0 hp1 h01 h1 _ (by have := lt_of_lt_of_eq t.isLt h16; omega), fun t => (off472_eq v49 v370 t15 v593 v602 p0 p1 hp0 hp1 h01 h1 t).symm ▸ pos_inb v49 v370 t15 v593 v602 p0 p1 hp0 hp1 h01 h1 _ (by have := lt_of_lt_of_eq t.isLt h16; omega), fun t => (off476_eq v49 v370 t15 v593 v602 p0 p1 hp0 hp1 h01 h1 t).symm ▸ pos_inb v49 v370 t15 v593 v602 p0 p1 hp0 hp1 h01 h1 _ (by have := lt_of_lt_of_eq t.isLt h16; omega), fun t => (off480_eq v49 v370 t15 v593 v602 p0 p1 hp0 hp1 h01 h1 t).symm ▸ pos_inb v49 v370 t15 v593 v602 p0 p1 hp0 hp1 h01 h1 _ (by have := lt_of_lt_of_eq t.isLt h16; omega), ?_, ?_⟩
  · rw [t16_loop_eq v49 v370 t15 v593 v602 p0 p1 hp0 hp1 h01 h1]; exact loop_ok _ _ (by omega) (Nat.zero_le _)
  · rw [t17_loop_eq v49 v370 t15 v593 v602 p0 p1 hp0 hp1 h01 h1]; exact loop_ok _ _ (by omega) (le_refl _)
  · refine ⟨fun t => (no17 t).elim, fun t => (no17 t).elim, fun t => (no17 t).elim, fun t => (no17 t).elim, fun t => (no17 t).elim, fun t => (no17 t).elim, fun t => (no17 t).elim, fun t => (no17 t).elim⟩
end trips

/-- The accumulator after `m` positions from `p0`. -/
def accT (sw : ℕ → BitVec 32) (tk : ℕ → ℕ) (X : ℕ → ℕ → ℕ → F .f32) (p0 : ℕ) : ℕ → ℕ → ℕ → F .f32
  | 0 => fun _ _ => Scalar.ofBits .f32 0x00000000#32
  | m + 1 => tokNext (keepW (sw (p0 + m))) (accT sw tk X p0 m) (X (tk (p0 + m)))

/-- A slot of the accumulation buffer after `m` positions. -/
def stV (sw : ℕ → BitVec 32) (tk lc : ℕ → ℕ) (X : ℕ → ℕ → ℕ → F .f32) (p0 : ℕ) (V0 : S6912x128.Idx → Elt F .f32) : ℕ → S6912x128.Idx → Elt F .f32
  | 0 => V0
  | m + 1 => fun z => if zRow z = lc (p0 + m) then accT sw tk X p0 (m + 1) (zTile z) (z 1).val else stV sw tk lc X p0 V0 m z
def stD (lc : ℕ → ℕ) (p0 : ℕ) (D0 : S6912x128.Idx → Prop) : ℕ → S6912x128.Idx → Prop
  | 0 => D0
  | m + 1 => fun z => zRow z = lc (p0 + m) ∨ stD lc p0 D0 m z

/-- What the two words of a position say, for block `b`: the token, and the row within the block's slot. -/
def PosOk (sw dw : ℕ → BitVec 32) (tk lc : ℕ → ℕ) (b q : ℕ) : Prop :=
  tk q < 2048 ∧ (Scalar.andi (sw q) 65535#32).toNat = tk q / 8 * 192 + tk q % 8 ∧ lc q < 72 ∧ (dw q).toNat = b * 1536 + lc q / 8 * 192 + lc q % 8

def TokS (arg7 : Memref sig .tc .vmem S256x24x8x128 .f32) (harg7 : arg7.IsWhole) (arg8 : Memref sig .tc .vmem S4x9x24x8x128 .f32) (harg8 : arg8.IsWhole)
    (arg12 : Memref sig .tc .smem S2176 .i32) (arg13 : Memref sig .tc .smem S2176 .i32) (sw dw : ℕ → BitVec 32) (X : ℕ → ℕ → ℕ → F .f32) (ring : ℕ)
    (V : S6912x128.Idx → Elt F .f32) (D : S6912x128.Idx → Prop) : sProp 𝕄 :=
  iprop(Own c arg12 fullShare (wordsAt sw) ∗ Own c arg13 fullShare (wordsAt dw) ∗ Own c (dqM arg7 harg7) fullShare (dqFlat X) ∗ To c (stM arg8 harg8) (fun z => zSlot z = ring) V D)

theorem tokStep_spec' (v49 : BitVec 32) (h : v49.toNat ≤ 2048) (t4 : Fin k0_t4_loop.trips) (t15 : Fin (k0_t15_loop v49).trips)
    (sw dw : ℕ → BitVec 32) (tk lc : ℕ → ℕ) (X : ℕ → ℕ → ℕ → F .f32) (p0 m : ℕ) (V0 : S6912x128.Idx → Elt F .f32) (D0 : S6912x128.Idx → Prop)
    (hq : PosOk sw dw tk lc t15 (p0 + m)) (op : Fin 1 → Nat) (hop : ∀ a, op a + S1.size a ≤ S2176.size a) (hp : op = ![p0 + m])
    {Q : FVec F S8x128 .f32 × FVec F S8x128 .f32 × FVec F S8x128 .f32 → sProp 𝕄} :
    TokS c arg7 harg7 arg8 harg8 arg12 arg13 sw dw X (ringN v49 t4 t15) (stV sw tk lc X p0 V0 m) (stD lc p0 D0 m)
      ⊢ iprop((TokS c arg7 harg7 arg8 harg8 arg12 arg13 sw dw X (ringN v49 t4 t15) (stV sw tk lc X p0 V0 (m + 1)) (stD lc p0 D0 (m + 1)) -∗ Q (tri (accT sw tk X p0 (m + 1))))
        -∗ WP 𝒱 c (tokStep arg7 harg7 arg8 harg8 arg12 arg13 v49 t4 t15 op hop (tri (accT sw tk X p0 m))) Q) := by
  obtain ⟨h1, h2, h3, h4⟩ := hq
  have e1 : 8 * (tk (p0 + m) / 8) + tk (p0 + m) % 8 = tk (p0 + m) := by omega
  have e2 : 8 * (lc (p0 + m) / 8) + lc (p0 + m) % 8 = lc (p0 + m) := by omega
  have := tokStep_spec 𝒱 c (arg7 := arg7) (harg7 := harg7) (arg8 := arg8) (harg8 := harg8) (arg12 := arg12) (arg13 := arg13) v49 h t4 t15 op hop (p0 + m) (by rw [hp]; rfl) sw dw
    (tk (p0 + m) / 8) (tk (p0 + m) % 8) (lc (p0 + m) / 8) (lc (p0 + m) % 8) (by omega) (by omega) h2 (by omega) (by omega) h4 X (accT sw tk X p0 m)
    (stV sw tk lc X p0 V0 m) (stD lc p0 D0 m) (q7 := fullShare) (q12 := fullShare) (q13 := fullShare) (Q := Q)
  rw [e1, e2] at this
  exact this

theorem tokLoop_spec (v49 : BitVec 32) (h : v49.toNat ≤ 2048) (v370 : BitVec 32) (t4 : Fin k0_t4_loop.trips) (t15 : Fin (k0_t15_loop v49).trips)
    (v593 v597 v602 : BitVec 32) (p0 p1 : ℕ) (hp0 : (p0W v370 t15 v593).toNat = p0) (hp1 : v602.toNat = p1) (h01 : p0 ≤ p1) (h1 : p1 ≤ 2048)
    (hw3 : k0_chk3 v49 v370 t15 v593 v602) (v605 : BitVec 32) (v606 : FVec F S8x128 .f32) (c0 c1 : BitVec 32)
    (sw dw : ℕ → BitVec 32) (tk lc : ℕ → ℕ) (X : ℕ → ℕ → ℕ → F .f32) (V0 : S6912x128.Idx → Elt F .f32) (D0 : S6912x128.Idx → Prop)
    (hq : ∀ q, p0 ≤ q → q < p0 + 8 * ((p1 - p0 + 7) / 8) → PosOk sw dw tk lc t15 q)
    (ok : (k0_t16_loop v49 v370 t15 v593 v602).OK)
    (body : Fin (k0_t16_loop v49 v370 t15 v593 v602).trips → FVec F S8x128 .f32 × FVec F S8x128 .f32 × FVec F S8x128 .f32 → Prog (TpuEff nD τ sig (Elt F) Λ₀ .tc) (FVec F S8x128 .f32 × FVec F S8x128 .f32 × FVec F S8x128 .f32))
    (hb : ∀ t acc, body t acc = k0_t16_body arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v49 v370 t4 t15 v593 v597 v602 hw3 v605 v606 c0 c1 t acc)
    {Q : FVec F S8x128 .f32 × FVec F S8x128 .f32 × FVec F S8x128 .f32 → sProp 𝕄} :
    TokS c arg7 harg7 arg8 harg8 arg12 arg13 sw dw X (ringN v49 t4 t15) V0 D0
      ⊢ iprop((∀ acc, TokS c arg7 harg7 arg8 harg8 arg12 arg13 sw dw X (ringN v49 t4 t15) (stV sw tk lc X p0 V0 (8 * ((p1 - p0 + 7) / 8))) (stD lc p0 D0 (8 * ((p1 - p0 + 7) / 8))) -∗ Q acc)
        -∗ WP 𝒱 c (Scf.Loop.for (k0_t16_loop v49 v370 t15 v593 v602) ok (broadcast S8x128 (Scalar.ofBits .f32 0x00000000#32), broadcast S8x128 (Scalar.ofBits .f32 0x00000000#32), broadcast S8x128 (Scalar.ofBits .f32 0x00000000#32)) body) Q) := by
  have htr := t16_trips v49 v370 t15 v593 v602 p0 p1 hp0 hp1 h01 h1
  iintro H HQ
  iapply (loop_rule 𝒱 c (k0_t16_loop v49 v370 t15 v593 v602) ok _ body
    (fun k acc => iprop(⌜acc = tri (accT sw tk X p0 (8 * k))⌝ ∗ TokS c arg7 harg7 arg8 harg8 arg12 arg13 sw dw X (ringN v49 t4 t15) (stV sw tk lc X p0 V0 (8 * k)) (stD lc p0 D0 (8 * k)))) ?_) $$ [H]
  · intro k acc
    have hk := lt_of_lt_of_eq k.isLt htr
    have hqk : ∀ j, j < 8 → PosOk sw dw tk lc t15 (p0 + (8 * k.val + j)) := fun j hj => hq _ (by omega) (by omega)
    iintro ⟨%ha, H⟩
    subst ha
    rw [hb]
    unfold tri
    rw [t16_body_eq]
    rw [show (triA (accT sw tk X p0 (8 * k.val)) 0, triA (accT sw tk X p0 (8 * k.val)) 1, triA (accT sw tk X p0 (8 * k.val)) 2) = tri (accT sw tk X p0 (8 * k.val)) from rfl]
    rw [WP_bind]
    iapply (tokStep_spec' 𝒱 c v49 h t4 t15 sw dw tk lc X p0 (8 * k.val + 0) V0 D0 (hqk 0 (by decide)) _ _ (off452_eq v49 v370 t15 v593 v602 p0 p1 hp0 hp1 h01 h1 k)) $$ H
    iintro H
    rw [WP_bind]
    iapply (tokStep_spec' 𝒱 c v49 h t4 t15 sw dw tk lc X p0 (8 * k.val + 1) V0 D0 (hqk 1 (by decide)) _ _ (off456_eq v49 v370 t15 v593 v602 p0 p1 hp0 hp1 h01 h1 k)) $$ H
    iintro H
    rw [WP_bind]
    iapply (tokStep_spec' 𝒱 c v49 h t4 t15 sw dw tk lc X p0 (8 * k.val + 2) V0 D0 (hqk 2 (by decide)) _ _ (off460_eq v49 v370 t15 v593 v602 p0 p1 hp0 hp1 h01 h1 k)) $$ H
    iintro H
    rw [WP_bind]
    iapply (tokStep_spec' 𝒱 c v49 h t4 t15 sw dw tk lc X p0 (8 * k.val + 3) V0 D0 (hqk 3 (by decide)) _ _ (off464_eq v49 v370 t15 v593 v602 p0 p1 hp0 hp1 h01 h1 k)) $$ H
    iintro H
    rw [WP_bind]
    iapply (tokStep_spec' 𝒱 c v49 h t4 t15 sw dw tk lc X p0 (8 * k.val + 4) V0 D0 (hqk 4 (by decide)) _ _ (off468_eq v49 v370 t15 v593 v602 p0 p1 hp0 hp1 h01 h1 k)) $$ H
    iintro H
    rw [WP_bind]
    iapply (tokStep_spec' 𝒱 c v49 h t4 t15 sw dw tk lc X p0 (8 * k.val + 5) V0 D0 (hqk 5 (by decide)) _ _ (off472_eq v49 v370 t15 v593 v602 p0 p1 hp0 hp1 h01 h1 k)) $$ H
    iintro H
    rw [WP_bind]
    iapply (tokStep_spec' 𝒱 c v49 h t4 t15 sw dw tk lc X p0 (8 * k.val + 6) V0 D0 (hqk 6 (by decide)) _ _ (off476_eq v49 v370 t15 v593 v602 p0 p1 hp0 hp1 h01 h1 k)) $$ H
    iintro H
    rw [WP_bind]
    iapply (tokStep_spec' 𝒱 c v49 h t4 t15 sw dw tk lc X p0 (8 * k.val + 7) V0 D0 (hqk 7 (by decide)) _ _ (off480_eq v49 v370 t15 v593 v602 p0 p1 hp0 hp1 h01 h1 k)) $$ H
    iintro H
    iapply (WP_pure 𝒱 c)
    isplitr [H]
    · ipureintro; rfl
    · iexact H
  · isplitr [H]
    · ipureintro; rfl
    · iexact H
  iintro %acc ⟨%ha, H⟩
  rw [htr]
  iapply HQ
  iexact H

end Cert.KernelIdeal.Emb
-- ==== Proof.KernelIdeal.Bisect.lean ====
module

public import proofs.«01_k».proof.Proof.KernelIdeal.Words

@[expose] public section

noncomputable section

namespace Cert.KernelIdeal.Emb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]
local notation "𝕄" => MT nD τ sig Unit (Elt F) ℕ (UD sig nD τ) ℕ
variable (𝒱 : Variants) (c : Dev nD)
variable {arg0 : Memref sig .tc .smem S2049 .i32} {harg0 : arg0.IsWhole} {arg1 : Memref sig .tc .vmem S16x128 .i32} {harg1 : arg1.IsWhole} {arg2 : Memref sig .tc .vmem S2x1024 .i32} {harg2 : arg2.IsWhole} {arg3 : Memref sig .tc .vmem S2x1024 .f32} {harg3 : arg3.IsWhole} {arg4 : Memref sig .tc .hbm S2x1024x12288 .fp8e5m2} {harg4 : arg4.IsWhole} {arg5 : Memref sig .tc .hbm S256x96x8x128 .f32} {harg5 : arg5.IsWhole} {arg6 : Memref sig .tc .vmem S2x2048x3072 .fp8e5m2} {harg6 : arg6.IsWhole} {arg7 : Memref sig .tc .vmem S256x24x8x128 .f32} {harg7 : arg7.IsWhole} {arg8 : Memref sig .tc .vmem S4x9x24x8x128 .f32} {harg8 : arg8.IsWhole} {arg9 : Memref sig .tc .vmem S8x24x8x128 .f32} {harg9 : arg9.IsWhole} {arg10 : Memref sig .tc .vmem S2048x128 .f32} {harg10 : arg10.IsWhole} {arg11 : Memref sig .tc .vmem S2x17x128 .i32} {harg11 : arg11.IsWhole} {arg12 : Memref sig .tc .smem S2176 .i32} {harg12 : arg12.IsWhole} {arg13 : Memref sig .tc .smem S2176 .i32} {harg13 : arg13.IsWhole} {arg14 : DmaSems sig S2x8} {arg15 : DmaSems sig S4} {arg16 : DmaSems sig S_} {arg17 : DmaSems sig S_}

/-! # The bisection -/

/-- The first trip index at which the offsets reach 2048. -/
structure IsNu (so : ℕ → BitVec 32) (nu : ℕ) : Prop where
  le : nu ≤ 2048
  lt : ∀ i, i < nu → (so i).toNat < 2048
  ge : ∀ i, nu ≤ i → i ≤ 2048 → 2048 ≤ (so i).toNat
  pos : ∀ i, i ≤ 2048 → (so i).toNat < 2147483648

/-- What the bisection carries before trip `k`. -/
def BisInv (nu k : ℕ) (p : BitVec 32 × BitVec 32) : Prop :=
  p.1.toNat ≤ nu ∧ nu ≤ p.2.toNat ∧ p.2.toNat ≤ 2048 ∧ p.2.toNat - p.1.toNat ≤ 2048 / 2 ^ k

theorem mid_toNat (a b : BitVec 32) (ha : a.toNat ≤ 2048) (hb : b.toNat ≤ 2048) :
    k0_off1 a b 0 = (a.toNat + b.toNat) / 2 := by
  show (fdivW (Scalar.addi a b) 2#32).toNat = _
  have h := addi_toNat a b (by omega)
  rw [fdivW_toNat _ _ (by omega) (by decide) (by decide), h]; rfl

theorem bisect_spec (nu : ℕ) (X0 : BufTy.Contents (Elt F) arg0.view.ty) (so : ℕ → BitVec 32)
    (hso : ∀ i : S2049.Idx, arg0.view.read (Elt F) X0 i = so (i 0).val) (hnu : IsNu so nu) :
    (arg0.view.loc (c : Thread nD τ) ↦[arg0.view.set]{fullShare} X0 : sProp 𝕄)
    ⊢ wp frame (wpE (defs₀ (F := F)) 𝒱 (c : Thread nD τ) none) Set.univ
      (k0_part150 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 0#32 2048#32 0#32 1#32)
      (fun v => iprop(⌜v = BitVec.ofNat 32 nu⌝ ∗ (arg0.view.loc (c : Thread nD τ) ↦[arg0.view.set]{fullShare} X0))) := by
  simp only [k0_part150_eq_skeleton]; unfold k0_part150_skel
  iintro H
  iapply (Scf.wp_for_bind frame (wpE (defs₀ (F := F)) 𝒱 (c : Thread nD τ) none) Set.univ _ _ _ k0_t1_ok _ _
    (fun k acc => iprop(⌜BisInv nu k acc⌝ ∗ (arg0.view.loc (c : Thread nD τ) ↦[arg0.view.set]{fullShare} X0))) ?trip) $$ [H]
  case trip =>
    intro k acc
    obtain ⟨lo, hi⟩ := acc
    unfold k0_t1_body
    iintro ⟨%hI, H⟩
    have hchk : k0_chk1 lo hi := by
      intro i
      obtain ⟨h1, h2, h3, h4⟩ := hI
      have h5 : lo.toNat ≤ 2048 := le_trans h1 hnu.le
      have h6 : hi.toNat ≤ 2048 := h3
      fin_cases i
      show k0_off1 lo hi 0 < 2049
      rw [mid_toNat lo hi h5 h3]; omega
    sl_exec
    sl_step
    iframe
    ipureintro
    unfold bisect_spec.sl.v519 bisect_spec.sl.v520 bisect_spec.sl.v517
    have hr : bisect_spec.sl.r X0 lo hi hchk = so (k0_off1 lo hi 0) := by
      refine (hso _).trans (congrArg so ?_)
      exact Nat.add_zero _
    obtain ⟨h1, h2, h3, h4⟩ := hI
    have h1' : lo.toNat ≤ nu := h1
    have h2' : nu ≤ hi.toNat := h2
    have h3' : hi.toNat ≤ 2048 := h3
    have h4' : hi.toNat - lo.toNat ≤ 2048 / 2 ^ k.val := h4
    have hm := mid_toNat lo hi (by omega) h3'
    have hv : (bisect_spec.sl.v514 lo hi).toNat = k0_off1 lo hi 0 := rfl
    have hp : 2048 / 2 ^ (k.val + 1) = 2048 / 2 ^ k.val / 2 := by rw [pow_succ, Nat.div_div_eq_div_mul]
    have hs := hnu.pos (k0_off1 lo hi 0) (by omega)
    have h8 : (bisect_spec.sl.v518 lo hi).toNat = k0_off1 lo hi 0 + 1 := by
      have := addi_toNat (bisect_spec.sl.v514 lo hi) 1#32 (by rw [hv, hm]; simp; omega)
      rw [hv] at this; exact this
    rw [hr]
    have hc : Scalar.cmpi .sge (so (k0_off1 lo hi 0)) 2048#32 = BitVec.ofBool (decide (2048 ≤ (so (k0_off1 lo hi 0)).toNat)) := by
      show BitVec.ofBool ((2048#32).sle _) = _
      rw [sle_small _ _ (by decide) hs]; rfl
    rw [hc, select_ofBool, select_ofBool]
    have hlt := hnu.lt (k0_off1 lo hi 0)
    have hge := hnu.ge (k0_off1 lo hi 0)
    unfold BisInv
    rw [hp]
    by_cases hd : 2048 ≤ (so (k0_off1 lo hi 0)).toNat
    · simp only [decide_eq_true hd, if_true]
      rw [hv]; omega
    · simp only [decide_eq_false hd, Bool.false_eq_true, if_false]
      rw [h8]; omega
  · iframe
    ipureintro
    exact ⟨Nat.zero_le _, hnu.le, le_refl _, by decide⟩
  · iintro %acc ⟨%hI, H⟩
    obtain ⟨lo, hi⟩ := acc
    have hI' : BisInv nu 12 (lo, hi) := hI
    dsimp only
    sl_step
    iframe
    ipureintro
    obtain ⟨h1, h2, h3, h4⟩ := hI'
    have h4' : hi.toNat - lo.toNat ≤ 0 := h4
    have hle := hnu.le
    apply BitVec.eq_of_toNat_eq
    rw [ofNat_toNat (by omega)]
    show lo.toNat = nu
    have h1' : lo.toNat ≤ nu := h1
    have h2' : nu ≤ hi.toNat := h2
    omega

end Cert.KernelIdeal.Emb
-- ==== Proof.KernelIdeal.Count.lean ====
module

public import proofs.«01_k».proof.Proof.KernelIdeal.Chk
public import proofs.«01_k».proof.Proof.KernelIdeal.Bisect

@[expose] public section

noncomputable section

namespace Cert.KernelIdeal.Emb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]
local notation "𝕄" => MT nD τ sig Unit (Elt F) ℕ (UD sig nD τ) ℕ
variable (𝒱 : Variants) (c : Dev nD)
variable {arg0 : Memref sig .tc .smem S2049 .i32} {harg0 : arg0.IsWhole} {arg1 : Memref sig .tc .vmem S16x128 .i32} {harg1 : arg1.IsWhole} {arg2 : Memref sig .tc .vmem S2x1024 .i32} {harg2 : arg2.IsWhole} {arg3 : Memref sig .tc .vmem S2x1024 .f32} {harg3 : arg3.IsWhole} {arg4 : Memref sig .tc .hbm S2x1024x12288 .fp8e5m2} {harg4 : arg4.IsWhole} {arg5 : Memref sig .tc .hbm S256x96x8x128 .f32} {harg5 : arg5.IsWhole} {arg6 : Memref sig .tc .vmem S2x2048x3072 .fp8e5m2} {harg6 : arg6.IsWhole} {arg7 : Memref sig .tc .vmem S256x24x8x128 .f32} {harg7 : arg7.IsWhole} {arg8 : Memref sig .tc .vmem S4x9x24x8x128 .f32} {harg8 : arg8.IsWhole} {arg9 : Memref sig .tc .vmem S8x24x8x128 .f32} {harg9 : arg9.IsWhole} {arg10 : Memref sig .tc .vmem S2048x128 .f32} {harg10 : arg10.IsWhole} {arg11 : Memref sig .tc .vmem S2x17x128 .i32} {harg11 : arg11.IsWhole} {arg12 : Memref sig .tc .smem S2176 .i32} {harg12 : arg12.IsWhole} {arg13 : Memref sig .tc .smem S2176 .i32} {harg13 : arg13.IsWhole} {arg14 : DmaSems sig S2x8} {arg15 : DmaSems sig S4} {arg16 : DmaSems sig S_} {arg17 : DmaSems sig S_}

/-! # The counting loop: for every position, how many offsets it has reached -/

/-- One less than the number of the first `m` offsets that `x` has reached, as a word. -/
def cntW (so : ℕ → BitVec 32) (x : BitVec 32) : ℕ → BitVec 32
  | 0 => 4294967295#32
  | m + 1 => IntOp.addi (cntW so x m) ((IntOp.cmpi .sge x (so m)).setWidth 32)

theorem count_spec (v49 : BitVec 32) (h49 : v49.toNat ≤ 2048) (hw2 : k0_chk2 v49) (X0 : BufTy.Contents (Elt F) arg0.view.ty) (so : ℕ → BitVec 32)
    (hso : ∀ i : S2049.Idx, arg0.view.read (Elt F) X0 i = so (i 0).val) (v77 : IVec S16x128 32) :
    (arg0.view.loc (c : Thread nD τ) ↦[arg0.view.set]{fullShare} X0 : sProp 𝕄)
    ⊢ wp frame (wpE (defs₀ (F := F)) 𝒱 (c : Thread nD τ) none) Set.univ
      (k0_part153 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v49 hw2 v77 k0_pay439 0#32 1#32)
      (fun v => iprop(⌜∀ i, v i = cntW so (v77 i) ((v49.toNat + 15) / 16 * 16)⌝ ∗ (arg0.view.loc (c : Thread nD τ) ↦[arg0.view.set]{fullShare} X0))) := by
  simp only [k0_part153_eq_skeleton]; unfold k0_part153_skel
  iintro H
  iapply (Scf.wp_for frame (wpE (defs₀ (F := F)) 𝒱 (c : Thread nD τ) none) Set.univ _ _ _ (k0_t2_ok v49 hw2) _ _
    (fun k acc => iprop(⌜∀ i, acc i = cntW so (v77 i) (k * 16)⌝ ∗ (arg0.view.loc (c : Thread nD τ) ↦[arg0.view.set]{fullShare} X0))) ?trip)
  case trip =>
    intro k acc
    unfold k0_t2_body
    iintro ⟨%hI, H⟩
    sl_exec
    sl_step
    iframe
    ipureintro
    have e0 : count_spec.sl.r v49 hw2 X0 k = so (k.val * 16 + 0) :=
      (hso _).trans (congrArg so ((Nat.add_zero _).trans (off2_eq v49 h49 k 0 (by decide))))
    have e1 : count_spec.sl.r_1 v49 hw2 X0 k = so (k.val * 16 + 1) :=
      (hso _).trans (congrArg so ((Nat.add_zero _).trans (off2_eq v49 h49 k 1 (by decide))))
    have e2 : count_spec.sl.r_2 v49 hw2 X0 k = so (k.val * 16 + 2) :=
      (hso _).trans (congrArg so ((Nat.add_zero _).trans (off2_eq v49 h49 k 2 (by decide))))
    have e3 : count_spec.sl.r_3 v49 hw2 X0 k = so (k.val * 16 + 3) :=
      (hso _).trans (congrArg so ((Nat.add_zero _).trans (off2_eq v49 h49 k 3 (by decide))))
    have e4 : count_spec.sl.r_4 v49 hw2 X0 k = so (k.val * 16 + 4) :=
      (hso _).trans (congrArg so ((Nat.add_zero _).trans (off2_eq v49 h49 k 4 (by decide))))
    have e5 : count_spec.sl.r_5 v49 hw2 X0 k = so (k.val * 16 + 5) :=
      (hso _).trans (congrArg so ((Nat.add_zero _).trans (off2_eq v49 h49 k 5 (by decide))))
    have e6 : count_spec.sl.r_6 v49 hw2 X0 k = so (k.val * 16 + 6) :=
      (hso _).trans (congrArg so ((Nat.add_zero _).trans (off2_eq v49 h49 k 6 (by decide))))
    have e7 : count_spec.sl.r_7 v49 hw2 X0 k = so (k.val * 16 + 7) :=
      (hso _).trans (congrArg so ((Nat.add_zero _).trans (off2_eq v49 h49 k 7 (by decide))))
    have e8 : count_spec.sl.r_8 v49 hw2 X0 k = so (k.val * 16 + 8) :=
      (hso _).trans (congrArg so ((Nat.add_zero _).trans (off2_eq v49 h49 k 8 (by decide))))
    have e9 : count_spec.sl.r_9 v49 hw2 X0 k = so (k.val * 16 + 9) :=
      (hso _).trans (congrArg so ((Nat.add_zero _).trans (off2_eq v49 h49 k 9 (by decide))))
    have e10 : count_spec.sl.r_10 v49 hw2 X0 k = so (k.val * 16 + 10) :=
      (hso _).trans (congrArg so ((Nat.add_zero _).trans (off2_eq v49 h49 k 10 (by decide))))
    have e11 : count_spec.sl.r_11 v49 hw2 X0 k = so (k.val * 16 + 11) :=
      (hso _).trans (congrArg so ((Nat.add_zero _).trans (off2_eq v49 h49 k 11 (by decide))))
    have e12 : count_spec.sl.r_12 v49 hw2 X0 k = so (k.val * 16 + 12) :=
      (hso _).trans (congrArg so ((Nat.add_zero _).trans (off2_eq v49 h49 k 12 (by decide))))
    have e13 : count_spec.sl.r_13 v49 hw2 X0 k = so (k.val * 16 + 13) :=
      (hso _).trans (congrArg so ((Nat.add_zero _).trans (off2_eq v49 h49 k 13 (by decide))))
    have e14 : count_spec.sl.r_14 v49 hw2 X0 k = so (k.val * 16 + 14) :=
      (hso _).trans (congrArg so ((Nat.add_zero _).trans (off2_eq v49 h49 k 14 (by decide))))
    have e15 : count_spec.sl.r_15 v49 hw2 X0 k = so (k.val * 16 + 15) :=
      (hso _).trans (congrArg so ((Nat.add_zero _).trans (off2_eq v49 h49 k 15 (by decide))))
    intro i
    show k0_pay440 v77 (k0_pay3 v77 (k0_pay1 v77 acc (count_spec.sl.r v49 hw2 X0 k) (count_spec.sl.r_1 v49 hw2 X0 k) (count_spec.sl.r_2 v49 hw2 X0 k) (count_spec.sl.r_3 v49 hw2 X0 k) (count_spec.sl.r_4 v49 hw2 X0 k)) (k0_pay2 v77 (count_spec.sl.r_5 v49 hw2 X0 k)) (count_spec.sl.r_6 v49 hw2 X0 k) (count_spec.sl.r_7 v49 hw2 X0 k) (count_spec.sl.r_8 v49 hw2 X0 k) (count_spec.sl.r_9 v49 hw2 X0 k) (count_spec.sl.r_10 v49 hw2 X0 k)) (k0_pay4 v77 (count_spec.sl.r_11 v49 hw2 X0 k)) (count_spec.sl.r_12 v49 hw2 X0 k) (count_spec.sl.r_13 v49 hw2 X0 k) (count_spec.sl.r_14 v49 hw2 X0 k) (count_spec.sl.r_15 v49 hw2 X0 k) i = _
    rw [show (k.val + 1) * 16 = k.val * 16 + 16 by omega]
    rw [e0, e1, e2, e3, e4, e5, e6, e7, e8, e9, e10, e11, e12, e13, e14, e15]
    simp only [cntW]
    rw [← hI i]
    rfl
  isplitl [H]
  · iframe
    ipureintro
    intro i; rfl
  · iintro %acc ⟨%hI, H⟩
    iframe
    ipureintro
    intro i
    rw [← t2_trips v49 h49]
    exact hI i

end Cert.KernelIdeal.Emb
-- ==== Proof.KernelIdeal.BlkProg.lean ====
module

public import proofs.«01_k».proof.Proof.KernelIdeal.TokLoop
public import proofs.«01_k».proof.Proof.KernelIdeal.Count

@[expose] public section

noncomputable section

namespace Cert.KernelIdeal.Emb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]
local notation "𝕄" => MT nD τ sig Unit (Elt F) ℕ (UD sig nD τ) ℕ
variable (𝒱 : Variants) (c : Dev nD)
variable {arg0 : Memref sig .tc .smem S2049 .i32} {harg0 : arg0.IsWhole} {arg1 : Memref sig .tc .vmem S16x128 .i32} {harg1 : arg1.IsWhole} {arg2 : Memref sig .tc .vmem S2x1024 .i32} {harg2 : arg2.IsWhole} {arg3 : Memref sig .tc .vmem S2x1024 .f32} {harg3 : arg3.IsWhole} {arg4 : Memref sig .tc .hbm S2x1024x12288 .fp8e5m2} {harg4 : arg4.IsWhole} {arg5 : Memref sig .tc .hbm S256x96x8x128 .f32} {harg5 : arg5.IsWhole} {arg6 : Memref sig .tc .vmem S2x2048x3072 .fp8e5m2} {harg6 : arg6.IsWhole} {arg7 : Memref sig .tc .vmem S256x24x8x128 .f32} {harg7 : arg7.IsWhole} {arg8 : Memref sig .tc .vmem S4x9x24x8x128 .f32} {harg8 : arg8.IsWhole} {arg9 : Memref sig .tc .vmem S8x24x8x128 .f32} {harg9 : arg9.IsWhole} {arg10 : Memref sig .tc .vmem S2048x128 .f32} {harg10 : arg10.IsWhole} {arg11 : Memref sig .tc .vmem S2x17x128 .i32} {harg11 : arg11.IsWhole} {arg12 : Memref sig .tc .smem S2176 .i32} {harg12 : arg12.IsWhole} {arg13 : Memref sig .tc .smem S2176 .i32} {harg13 : arg13.IsWhole} {arg14 : DmaSems sig S2x8} {arg15 : DmaSems sig S4} {arg16 : DmaSems sig S_} {arg17 : DmaSems sig S_}

/-! # The program of one block, restated -/

/-- What a trip of the block loop does: free the ring slot, clear it if the block is the last, find the block's positions,
    accumulate, and start the copy out. -/
def blkProg (arg0 : Memref sig .tc .smem S2049 .i32) (harg0 : arg0.IsWhole) (arg1 : Memref sig .tc .vmem S16x128 .i32) (harg1 : arg1.IsWhole) (arg2 : Memref sig .tc .vmem S2x1024 .i32) (harg2 : arg2.IsWhole) (arg3 : Memref sig .tc .vmem S2x1024 .f32) (harg3 : arg3.IsWhole) (arg4 : Memref sig .tc .hbm S2x1024x12288 .fp8e5m2) (harg4 : arg4.IsWhole) (arg5 : Memref sig .tc .hbm S256x96x8x128 .f32) (harg5 : arg5.IsWhole) (arg6 : Memref sig .tc .vmem S2x2048x3072 .fp8e5m2) (harg6 : arg6.IsWhole) (arg7 : Memref sig .tc .vmem S256x24x8x128 .f32) (harg7 : arg7.IsWhole) (arg8 : Memref sig .tc .vmem S4x9x24x8x128 .f32) (harg8 : arg8.IsWhole) (arg9 : Memref sig .tc .vmem S8x24x8x128 .f32) (harg9 : arg9.IsWhole) (arg10 : Memref sig .tc .vmem S2048x128 .f32) (harg10 : arg10.IsWhole) (arg11 : Memref sig .tc .vmem S2x17x128 .i32) (harg11 : arg11.IsWhole) (arg12 : Memref sig .tc .smem S2176 .i32) (harg12 : arg12.IsWhole) (arg13 : Memref sig .tc .smem S2176 .i32) (harg13 : arg13.IsWhole) (arg14 : DmaSems sig S2x8) (arg15 : DmaSems sig S4) (arg16 : DmaSems sig S_) (arg17 : DmaSems sig S_) (v49 : BitVec 32) (hw2 : k0_chk2 v49) (v370 : BitVec 32) (t4 : Fin k0_t4_loop.trips) (a18 : BitVec 32)
    (t15 : Fin (k0_t15_loop v49).trips) : Prog (TpuEff nD τ sig (Elt F) Λ₀ .tc) (BitVec 32) := do
  k0_part84 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v49 hw2 t4 a18 t15 (Scf.iv 0#32 1#32 t15)
  k0_part86 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v49 hw2 t4 t15 (Scalar.remsi (Scalar.addi (Scalar.muli a18 (nbW v49)) (Scf.iv 0#32 1#32 t15)) 4#32)
  let v593 : Elt F .i32 ← smemLoad arg0 (Rect.unit (s := S2049) (k0_off450 v49 t15) S1.size (k0_off450_inb v49 hw2 t15)) numel1_S1 pack32
  let v602 : Elt F .i32 ← smemLoad arg0 (Rect.unit (s := S2049) (k0_off451 v49 t15) S1.size (k0_off451_inb v49 hw2 t15)) numel1_S1 pack32
  have hw3 : k0_chk3 v49 v370 t15 v593 v602 := (← Prog.lift (TpuEff.assume (k0_chk3 v49 v370 t15 v593 v602) (k0_chk3.dec v49 v370 t15 v593 v602))).down
  let x ← k0_part89 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v49 v370 t4 t15 v593 (p0W v370 t15 v593) v602 hw3 (Scalar.subi (Scalar.muli (Scalar.remsi (Scalar.addi (Scalar.muli a18 (nbW v49)) (Scf.iv 0#32 1#32 t15)) 4#32) 1728#32) (Scalar.muli (Scf.iv 0#32 1#32 t15) 1536#32))
    (broadcast S8x128 (Scalar.ofBits .f32 0x00000000#32)) 0#32 1#32
  k0_part91 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v49 v370 t4 t15 v593 (p0W v370 t15 v593) v602 hw3 (Scalar.subi (Scalar.muli (Scalar.remsi (Scalar.addi (Scalar.muli a18 (nbW v49)) (Scf.iv 0#32 1#32 t15)) 4#32) 1728#32) (Scalar.muli (Scf.iv 0#32 1#32 t15) 1536#32))
      (Scalar.addi 0#32 (Scalar.muli (Scalar.divsi (Scalar.subi (trW v370 t15 v593 v602) 0#32) 1#32) 1#32)) x.1 x.2.1 x.2.2 1#32
  Prog.lift (.enqueueDma ((arg8.slice (Rect.unit (s := S4x9x24x8x128) (k0_off518 v49 t4 t15) S1x8x24x8x128.size (k0_off518_inb v49 hw2 t4 t15)) (fun _ => rfl)).squeeze S8x24x8x128 squeezes_S1x8x24x8x128_S8x24x8x128)
    (.here (arg5.slice (Rect.unit (s := S256x96x8x128) (k0_off517 v49 t4 t15) S8x24x8x128.size (k0_off517_inb v49 hw2 t4 t15)) (fun _ => rfl)))
    (.dma ((arg15.slice (Rect.unit (s := S4) (k0_off516 v49 t4 t15) S1.size (k0_off516_inb v49 hw2 t4 t15))).squeeze S_ squeezes_S1_S_).sem)
    ((View.wordExact_bits rfl).reshape _ _) (View.wordExact_bits rfl) ⟨Or.inl rfl, trivial⟩)
  pure 0#32

/-- The loop over the blocks of one chunk. -/
def blkLoop (arg0 : Memref sig .tc .smem S2049 .i32) (harg0 : arg0.IsWhole) (arg1 : Memref sig .tc .vmem S16x128 .i32) (harg1 : arg1.IsWhole) (arg2 : Memref sig .tc .vmem S2x1024 .i32) (harg2 : arg2.IsWhole) (arg3 : Memref sig .tc .vmem S2x1024 .f32) (harg3 : arg3.IsWhole) (arg4 : Memref sig .tc .hbm S2x1024x12288 .fp8e5m2) (harg4 : arg4.IsWhole) (arg5 : Memref sig .tc .hbm S256x96x8x128 .f32) (harg5 : arg5.IsWhole) (arg6 : Memref sig .tc .vmem S2x2048x3072 .fp8e5m2) (harg6 : arg6.IsWhole) (arg7 : Memref sig .tc .vmem S256x24x8x128 .f32) (harg7 : arg7.IsWhole) (arg8 : Memref sig .tc .vmem S4x9x24x8x128 .f32) (harg8 : arg8.IsWhole) (arg9 : Memref sig .tc .vmem S8x24x8x128 .f32) (harg9 : arg9.IsWhole) (arg10 : Memref sig .tc .vmem S2048x128 .f32) (harg10 : arg10.IsWhole) (arg11 : Memref sig .tc .vmem S2x17x128 .i32) (harg11 : arg11.IsWhole) (arg12 : Memref sig .tc .smem S2176 .i32) (harg12 : arg12.IsWhole) (arg13 : Memref sig .tc .smem S2176 .i32) (harg13 : arg13.IsWhole) (arg14 : DmaSems sig S2x8) (arg15 : DmaSems sig S4) (arg16 : DmaSems sig S_) (arg17 : DmaSems sig S_) (v49 : BitVec 32) (hw2 : k0_chk2 v49) (v370 : BitVec 32) (t4 : Fin k0_t4_loop.trips) (a18 : BitVec 32) : Prog (TpuEff nD τ sig (Elt F) Λ₀ .tc) (BitVec 32) :=
  Scf.Loop.for (k0_t15_loop v49) (k0_t15_ok v49 hw2) 0#32 fun t15 _ => blkProg arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v49 hw2 v370 t4 a18 t15

set_option maxHeartbeats 4000000 in
set_option maxRecDepth 100000 in
theorem part144_eq (v49 : BitVec 32) (hw2 : k0_chk2 v49) (v370 : BitVec 32) (t4 : Fin k0_t4_loop.trips) (a18 : BitVec 32) :
    k0_part144 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v49 hw2 (nbW v49) v370 t4 a18 0#32 0#32 1#32 = blkLoop (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v49 hw2 v370 t4 a18 := by
  unfold k0_part144 blkLoop blkProg k0_part83 k0_part85 k0_part87 k0_part88 k0_part90
  rfl

set_option maxHeartbeats 4000000 in
set_option maxRecDepth 100000 in
theorem part89_eq (v49 v370 : BitVec 32) (t4 : Fin k0_t4_loop.trips) (t15 : Fin (k0_t15_loop v49).trips) (v593 v597 v602 : BitVec 32)
    (hw3 : k0_chk3 v49 v370 t15 v593 v602) (v605 : BitVec 32) (v606 : FVec F S8x128 .f32) (c0 c1 : BitVec 32) :
    k0_part89 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v49 v370 t4 t15 v593 v597 v602 hw3 v605 v606 c0 c1 =
      (Scf.Loop.for (k0_t16_loop v49 v370 t15 v593 v602) (k0_t16_ok v49 v370 t15 v593 v602 hw3) (v606, v606, v606)
        (fun t acc => k0_t16_body (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v49 v370 t4 t15 v593 v597 v602 hw3 v605 v606 c0 c1 t acc) >>= fun x => pure ⟨x.1, x.2.1, x.2.2⟩) := by
  unfold k0_part89
  rfl

theorem mem_unit {s : Shape} {off size : Fin s.rank → ℕ} {h : ∀ a, off a + size a ≤ s.size a} (i : s.Idx) :
    i ∈ (Rect.unit (s := s) off size h).set ↔ ∀ a, off a ≤ (i a).val ∧ (i a).val < off a + size a := by
  rw [← Rect.map_emb_univ, Finset.mem_map]
  constructor
  · rintro ⟨j, -, rfl⟩ a
    have e := unit_emb j a
    have : (j a).val < size a := (j a).isLt
    constructor
    · exact e ▸ Nat.le_add_right _ _
    · have : off a + (j a).val < off a + size a := by omega
      exact e ▸ this
  · intro hi
    refine ⟨fun a => ⟨(i a).val - off a, by show _ < size a; have := hi a; omega⟩, Finset.mem_univ _, ?_⟩
    funext a
    apply Fin.ext
    have e := unit_emb (h := h) (fun a => (⟨(i a).val - off a, by show _ < size a; have := hi a; omega⟩ : Fin (size a))) a
    refine e.trans ?_
    show off a + ((i a).val - off a) = _
    have := hi a
    omega

/-- The semaphore of ring slot `r`. -/
def sem15 (arg15 : DmaSems sig S4) (r : ℕ) (hr : r < 4) : DmaSem sig := arg15.ix (ValueIdx.ix1 (⟨r, hr⟩ : Fin 4))

theorem sem15_eq (arg15 : DmaSems sig S4) {off : Fin 1 → ℕ} {h : ∀ a, off a + S1.size a ≤ S4.size a} (r : ℕ) (hr : r < 4) (e : off = ![r]) :
    ((arg15.slice (Rect.unit (s := S4) off S1.size h)).squeeze S_ squeezes_S1_S_).sem = sem15 arg15 r hr := by
  subst e
  unfold sem15
  refine congrArg arg15.ix ?_
  funext a
  apply Fin.ext
  refine (unit_emb _ a).trans ?_
  fin_cases a
  have h0 : ∀ x : S1.Idx, (x 0).val = 0 := fun x => by have : (x 0).val < 1 := (x 0).isLt; omega
  exact congrArg (r + ·) (h0 _)

/-- The credit of a copy into a window of `m` of a given shape. -/
def cred {sp : Space} {s : Shape} {e : EltTy} (m : Memref sig .tc sp s e) (s' : Shape) : ℕ := sig.dmaCredit .tc _ m.view.buf s' e

theorem cred_pos {sp : Space} {s : Shape} {e : EltTy} (m : Memref sig .tc sp s e) (s' : Shape) (h : 0 < s'.numel) : 0 < cred m s' :=
  sig.dmaCredit_pos .tc _ m.view.buf s' e h

theorem cond2_iff (v49 : BitVec 32) (h : v49.toNat ≤ 2048) (t4 : Fin k0_t4_loop.trips) (t15 : Fin (k0_t15_loop v49).trips) :
    k0_cond2 v49 t4 t15 = 1#1 ↔ 4 ≤ t4.val * ((v49.toNat + 63) / 64) + t15.val := by
  have ht := t15_lt v49 h t15
  have hk := lt_of_lt_of_eq t4.isLt t4_trips
  have hs := stepW_toNat v49 h t4 t15 hk (by omega)
  have hm : t4.val * ((v49.toNat + 63) / 64) ≤ 4 * 33 := Nat.mul_le_mul (by omega) (by omega)
  show Scalar.cmpi .ne (Scalar.extui (Scalar.cmpi .sge (stepW v49 t4 t15) 4#32)) 0#32 = 1#1 ↔ _
  have e : Scalar.cmpi .sge (stepW v49 t4 t15) 4#32 = BitVec.ofBool (decide (4 ≤ t4.val * ((v49.toNat + 63) / 64) + t15.val)) := by
    show BitVec.ofBool ((4#32).sle (stepW v49 t4 t15)) = _
    rw [sle_small _ _ (by decide) (by omega), hs]; rfl
  rw [e]
  by_cases hd : 4 ≤ t4.val * ((v49.toNat + 63) / 64) + t15.val
  · simp [hd]; decide
  · simp [hd]; decide

theorem cond3_iff (v49 : BitVec 32) (h : v49.toNat ≤ 2048) (t15 : Fin (k0_t15_loop v49).trips) :
    k0_cond3 v49 t15 = 1#1 ↔ v49.toNat < (t15.val + 1) * 64 := by
  have ht := t15_lt v49 h t15
  have h1 : (Scalar.addi (Scf.iv 0#32 1#32 t15) 1#32).toNat = t15.val + 1 := by
    rw [addi_toNat _ _ (by rw [iv0_toNat _ (by omega)]; simp; omega), iv0_toNat _ (by omega)]; rfl
  have h2 : (Scalar.muli (Scalar.addi (Scf.iv 0#32 1#32 t15) 1#32) 64#32).toNat = (t15.val + 1) * 64 := by
    rw [muli_toNat _ _ (by rw [h1]; simp; omega), h1]; rfl
  show Scalar.cmpi .ne (Scalar.extui (Scalar.cmpi .sgt (Scalar.muli (Scalar.addi (Scf.iv 0#32 1#32 t15) 1#32) 64#32) v49)) 0#32 = 1#1 ↔ _
  have e : Scalar.cmpi .sgt (Scalar.muli (Scalar.addi (Scf.iv 0#32 1#32 t15) 1#32) 64#32) v49 = BitVec.ofBool (decide (v49.toNat < (t15.val + 1) * 64)) := by
    show BitVec.ofBool (v49.slt (Scalar.muli (Scalar.addi (Scf.iv 0#32 1#32 t15) 1#32) 64#32)) = _
    rw [slt_small _ _ (by omega) (by omega), h2]
  rw [e]
  by_cases hd : v49.toNat < (t15.val + 1) * 64
  · simp [hd]; decide
  · simp [hd]; decide

end Cert.KernelIdeal.Emb
-- ==== Proof.KernelIdeal.BlkSpec.lean ====
module

public import proofs.«01_k».proof.Proof.KernelIdeal.BlkProg

@[expose] public section

noncomputable section

namespace Cert.KernelIdeal.Emb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]
local notation "𝕄" => MT nD τ sig Unit (Elt F) ℕ (UD sig nD τ) ℕ
variable (𝒱 : Variants) (c : Dev nD)
variable {arg0 : Memref sig .tc .smem S2049 .i32} {harg0 : arg0.IsWhole} {arg1 : Memref sig .tc .vmem S16x128 .i32} {harg1 : arg1.IsWhole} {arg2 : Memref sig .tc .vmem S2x1024 .i32} {harg2 : arg2.IsWhole} {arg3 : Memref sig .tc .vmem S2x1024 .f32} {harg3 : arg3.IsWhole} {arg4 : Memref sig .tc .hbm S2x1024x12288 .fp8e5m2} {harg4 : arg4.IsWhole} {arg5 : Memref sig .tc .hbm S256x96x8x128 .f32} {harg5 : arg5.IsWhole} {arg6 : Memref sig .tc .vmem S2x2048x3072 .fp8e5m2} {harg6 : arg6.IsWhole} {arg7 : Memref sig .tc .vmem S256x24x8x128 .f32} {harg7 : arg7.IsWhole} {arg8 : Memref sig .tc .vmem S4x9x24x8x128 .f32} {harg8 : arg8.IsWhole} {arg9 : Memref sig .tc .vmem S8x24x8x128 .f32} {harg9 : arg9.IsWhole} {arg10 : Memref sig .tc .vmem S2048x128 .f32} {harg10 : arg10.IsWhole} {arg11 : Memref sig .tc .vmem S2x17x128 .i32} {harg11 : arg11.IsWhole} {arg12 : Memref sig .tc .smem S2176 .i32} {harg12 : arg12.IsWhole} {arg13 : Memref sig .tc .smem S2176 .i32} {harg13 : arg13.IsWhole} {arg14 : DmaSems sig S2x8} {arg15 : DmaSems sig S4} {arg16 : DmaSems sig S_} {arg17 : DmaSems sig S_}

/-! # The output ring, and one block -/

section To2
variable {sp : Space} {s : Shape} {e : EltTy}

theorem To.of_any {m : Memref sig .tc sp s e} {P : s.Idx → Prop} {V : s.Idx → Elt F e} : Any (F := F) c m P ⊢ To c m P V (fun _ => False) := by
  unfold To
  iintro ⟨%g, H⟩
  iexists g
  iframe
  ipureintro
  exact fun _ _ h => h.elim

theorem To.of_has {m : Memref sig .tc sp s e} {P D : s.Idx → Prop} {V : s.Idx → Elt F e} : Has c m P fullShare V ⊢ To c m P V D := by
  unfold To
  iintro H
  iexists V
  iframe
  ipureintro
  exact fun _ _ _ => rfl

theorem To.to_has {m : Memref sig .tc sp s e} {P D : s.Idx → Prop} {V : s.Idx → Elt F e} (hD : ∀ z, P z → D z) : To c m P V D ⊢ Has c m P fullShare V := by
  unfold To
  iintro ⟨%g, %hg, H⟩
  iapply (Has.congr (fun _ => Iff.rfl) (fun z hz => hg z hz (hD z hz))) $$ H

theorem To.join {m : Memref sig .tc sp s e} {P R S D : s.Idx → Prop} {V : s.Idx → Elt F e} (hS : ∀ i, P i ↔ (R i ∨ S i)) (hd : ∀ i, R i → ¬ S i) :
    iprop(To c m R V D ∗ To c m S V D) ⊢ To c m P V D := by
  classical
  unfold To
  iintro ⟨⟨%g1, %h1, H1⟩, ⟨%g2, %h2, H2⟩⟩
  iexists (fun i => if R i then g1 i else g2 i)
  isplitr [H1 H2]
  · ipureintro
    intro z hz hD
    by_cases h : R z
    · exact (if_pos h).trans (h1 z h hD)
    · exact (if_neg h).trans (h2 z (((hS z).mp hz).resolve_left h) hD)
  · iapply (Has.join hS hd)
    isplitl [H1]
    · iapply (Has.congr (fun _ => Iff.rfl) (fun i hi => (if_pos hi).symm)) $$ H1
    · iapply (Has.congr (fun _ => Iff.rfl) (fun i hi => (if_neg (fun h => hd i h hi)).symm)) $$ H2

theorem To.congr {m : Memref sig .tc sp s e} {P R D : s.Idx → Prop} {V : s.Idx → Elt F e} (hS : ∀ i, P i ↔ R i) : To c m P V D ⊢ To c m R V D := by
  have e : P = R := funext fun i => propext (hS i)
  subst e
  exact BIBase.Entails.rfl

theorem To.empty {m : Memref sig .tc sp s e} {P D : s.Idx → Prop} {V : s.Idx → Elt F e} (hP : ∀ i, ¬ P i) : (emp : sProp 𝕄) ⊢ To c m P V D :=
  (Has.empty (c := c) (m := m) (q := fullShare) (g := V) hP).trans (To.of_has c)

/-- A region written as a window: the contents read off the window, whatever they are elsewhere. -/
theorem To.of_window' {m : Memref sig .tc sp s e} {P D : s.Idx → Prop} {V : s.Idx → Elt F e} (r : Rect s) (hr : ∀ a, r.stride a = 1)
    (hP : ∀ i, P i ↔ i ∈ r.set) {g' : r.shape.Idx → Elt F e} (hg : ∀ j, D (r.emb j) → g' j = V (r.emb j)) :
    Own c (m.slice r hr) fullShare g' ⊢ To c m P V D := by
  classical
  unfold To
  obtain ⟨x0⟩ := Elt.nonempty (F := F) e
  iintro H
  iexists (Function.extend r.emb g' (fun _ => x0))
  isplitr [H]
  · ipureintro
    intro z hz hD
    have hz' := (hP z).mp hz
    rw [← Rect.map_emb_univ, Finset.mem_map] at hz'
    obtain ⟨j, -, rfl⟩ := hz'
    rw [r.emb.injective.extend_apply]
    exact hg j hD
  · iapply (Has.of_window' r hr hP (fun j => r.emb.injective.extend_apply _ _ j)) $$ H
end To2

/-! ## Indices -/

theorem flat8_idx (z : S6912x128.Idx) : Shape.reshapeEquiv reshapes_S4x9x24x8x128_S6912x128.1 z
    = (ValueIdx.ix5 (⟨(z 0).val / 1728, by have : (z 0).val < 6912 := (z 0).isLt; omega⟩ : Fin 4) (⟨(z 0).val % 1728 / 192, by omega⟩ : Fin 9) (⟨(z 0).val % 192 / 8, by omega⟩ : Fin 24)
      (⟨(z 0).val % 8, by omega⟩ : Fin 8) (⟨(z 1).val, (z 1).isLt⟩ : Fin 128) : S4x9x24x8x128.Idx) := by
  apply Shape.reshapeEquiv_eq_of_rowMajor
  rw [Shape.rowMajor_val_five, Shape.rowMajor_val_two]
  show (((((z 0).val / 1728) * 9 + (z 0).val % 1728 / 192) * 24 + (z 0).val % 192 / 8) * 8 + (z 0).val % 8) * 128 + (z 1).val = (z 0).val * 128 + (z 1).val
  omega

theorem flat7_idx (z : S49152x128.Idx) : Shape.reshapeEquiv reshapes_S256x24x8x128_S49152x128.1 z
    = (ValueIdx.ix4 (⟨(z 0).val / 192, by have : (z 0).val < 49152 := (z 0).isLt; omega⟩ : Fin 256) (⟨(z 0).val % 192 / 8, by omega⟩ : Fin 24)
      (⟨(z 0).val % 8, by omega⟩ : Fin 8) (⟨(z 1).val, (z 1).isLt⟩ : Fin 128) : S256x24x8x128.Idx) := by
  apply Shape.reshapeEquiv_eq_of_rowMajor
  rw [Shape.rowMajor_val_four, Shape.rowMajor_val_two]
  show ((((z 0).val / 192) * 24 + (z 0).val % 192 / 8) * 8 + (z 0).val % 8) * 128 + (z 1).val = (z 0).val * 128 + (z 1).val
  omega

theorem sq8_idx (j : S8x24x8x128.Idx) : Shape.reshapeEquiv squeezes_S1x8x24x8x128_S8x24x8x128.numel_eq j
    = (ValueIdx.ix5 (0 : Fin 1) (⟨(j 0).val, (j 0).isLt⟩ : Fin 8) (⟨(j 1).val, (j 1).isLt⟩ : Fin 24) (⟨(j 2).val, (j 2).isLt⟩ : Fin 8) (⟨(j 3).val, (j 3).isLt⟩ : Fin 128) : S1x8x24x8x128.Idx) := by
  apply Shape.reshapeEquiv_eq_of_rowMajor
  rw [Shape.rowMajor_val_five, Shape.rowMajor_val_four]
  show ((((0 * 8 + (j 0).val) * 24 + (j 1).val) * 8 + (j 2).val) * 128 + (j 3).val) = (((j 0).val * 24 + (j 1).val) * 8 + (j 2).val) * 128 + (j 3).val
  omega

/-- A dequantised table laid out as the kernel's buffer. -/
def X4 (X : ℕ → ℕ → ℕ → F .f32) : S256x24x8x128.Idx → Elt F .f32 := fun x => X ((x 0).val * 8 + (x 2).val) (x 1).val (x 3).val
/-- The output laid out as the kernel's buffer. -/
def OutV (O : ℕ → ℕ → ℕ → F .f32) : S256x96x8x128.Idx → Elt F .f32 := fun x => O ((x 0).val * 8 + (x 2).val) (x 1).val (x 3).val

theorem dq_flat (harg7 : arg7.IsWhole) (X : ℕ → ℕ → ℕ → F .f32) : Own c arg7 fullShare (X4 X) ⊢ Own c (dqM arg7 harg7) fullShare (dqFlat X) :=
  Has.to_reshape _ _ (fun _ => Iff.rfl) (fun z _ => by rw [flat7_idx]; rfl)
theorem dq_unflat (harg7 : arg7.IsWhole) (X : ℕ → ℕ → ℕ → F .f32) : Own c (dqM arg7 harg7) fullShare (dqFlat X) ⊢ Own c arg7 fullShare (X4 X) :=
  Has.of_reshape _ _ (fun _ => Iff.rfl) (fun z _ => by rw [flat7_idx]; rfl)

/-! ## The ring -/

def blkP (k b : ℕ) : S256x96x8x128.Idx → Prop := fun z => (z 0).val / 8 = b ∧ (z 1).val / 24 = k
def slotP (r : ℕ) : S4x9x24x8x128.Idx → Prop := fun z => (z 0).val = r
def bodyP (r : ℕ) : S4x9x24x8x128.Idx → Prop := fun z => (z 0).val = r ∧ (z 1).val < 8
def dumpP (r : ℕ) : S4x9x24x8x128.Idx → Prop := fun z => (z 0).val = r ∧ 8 ≤ (z 1).val

/-- A ring slot with no copy under way. -/
def Idle (arg8 : Memref sig .tc .vmem S4x9x24x8x128 .f32) (arg15 : DmaSems sig S4) (r : Fin 4) : sProp 𝕄 :=
  iprop(Cell c (sem15 arg15 r.val r.isLt) ∗ Any (F := F) c arg8 (slotP r.val))
/-- A ring slot whose block is being copied out. -/
def Busy (arg5 : Memref sig .tc .hbm S256x96x8x128 .f32) (arg8 : Memref sig .tc .vmem S4x9x24x8x128 .f32) (arg15 : DmaSems sig S4) (O : ℕ → ℕ → ℕ → F .f32) (G : Prop) (r : Fin 4) (k b : ℕ) : sProp 𝕄 :=
  iprop(Fly c (sem15 arg15 r.val r.isLt) (cred arg5 S8x24x8x128) iprop(To c arg5 (blkP k b) (OutV O) (fun _ => G) ∗ Any (F := F) c arg8 (bodyP r.val)) ∗ Any (F := F) c arg8 (dumpP r.val))

/-- A ring slot once `s` blocks have been started. -/
def Slot (arg5 : Memref sig .tc .hbm S256x96x8x128 .f32) (arg8 : Memref sig .tc .vmem S4x9x24x8x128 .f32) (arg15 : DmaSems sig S4) (O : ℕ → ℕ → ℕ → F .f32) (G : Prop) (nb s : ℕ) (r : Fin 4) : sProp 𝕄 :=
  iprop((⌜s ≤ r.val⌝ ∗ Idle (F := F) c arg8 arg15 r) ∨ (∃ k, ∃ b, ⌜b < nb ∧ k * nb + b < s ∧ s ≤ k * nb + b + 4 ∧ (k * nb + b) % 4 = r.val⌝ ∗ Busy c arg5 arg8 arg15 O G r k b))

def doneP (nb s : ℕ) : S256x96x8x128.Idx → Prop := fun z => (z 0).val / 8 < nb ∧ (z 1).val / 24 * nb + (z 0).val / 8 + 4 < s
def undoneP (nb s : ℕ) : S256x96x8x128.Idx → Prop := fun z => (z 0).val / 8 < nb ∧ s ≤ (z 1).val / 24 * nb + (z 0).val / 8

/-- The ring and the output once `s` blocks have been started. -/
def RingS (arg5 : Memref sig .tc .hbm S256x96x8x128 .f32) (arg8 : Memref sig .tc .vmem S4x9x24x8x128 .f32) (arg15 : DmaSems sig S4) (O : ℕ → ℕ → ℕ → F .f32) (G : Prop) (nb s : ℕ) : sProp 𝕄 :=
  iprop(bigSep Finset.univ (Slot c arg5 arg8 arg15 O G nb s) ∗ To c arg5 (doneP nb s) (OutV O) (fun _ => G) ∗ Any (F := F) c arg5 (undoneP nb s))

theorem step_inj {nb k b k' b' : ℕ} (hb : b < nb) (hb' : b' < nb) (h : k * nb + b = k' * nb + b') : k = k' ∧ b = b' := by
  have e : b = b' := by
    have h1 : (k * nb + b) % nb = b := by rw [Nat.mul_comm, Nat.mul_add_mod, Nat.mod_eq_of_lt hb]
    have h2 : (k' * nb + b') % nb = b' := by rw [Nat.mul_comm, Nat.mul_add_mod, Nat.mod_eq_of_lt hb']
    rw [← h1, ← h2, h]
  subst e
  exact ⟨Nat.eq_of_mul_eq_mul_right (show 0 < nb by omega) (show k * nb = k' * nb by omega), rfl⟩

theorem Slot.step {O : ℕ → ℕ → ℕ → F .f32} {G : Prop} {nb s : ℕ} {r : Fin 4} (h : r.val ≠ s % 4) : Slot c arg5 arg8 arg15 O G nb s r ⊢ Slot c arg5 arg8 arg15 O G nb (s + 1) r := by
  unfold Slot
  iintro H
  icases H with (⟨%h1, H⟩ | ⟨%k, %b, %h1, H⟩)
  · ileft
    iframe
    ipureintro
    have := r.isLt
    omega
  · iright
    iexists k
    iexists b
    iframe
    ipureintro
    obtain ⟨h1, h2, h3, h4⟩ := h1
    exact ⟨h1, by omega, by omega, h4⟩

theorem Slots.step {O : ℕ → ℕ → ℕ → F .f32} {G : Prop} {nb s : ℕ} (T : Finset (Fin 4)) (h : ∀ r ∈ T, r.val ≠ s % 4) :
    (bigSep T (Slot c arg5 arg8 arg15 O G nb s) : sProp 𝕄) ⊢ bigSep T (Slot c arg5 arg8 arg15 O G nb (s + 1)) :=
  bigSep_mono (fun r hr => Slot.step c (h r hr))

theorem slot_split (r : ℕ) : ∀ z : S4x9x24x8x128.Idx, slotP r z ↔ (bodyP r z ∨ dumpP r z) := fun z => by unfold slotP bodyP dumpP; omega
theorem slot_disj (r : ℕ) : ∀ z : S4x9x24x8x128.Idx, bodyP r z → ¬ dumpP r z := fun z => by unfold bodyP dumpP; omega

theorem big_split {I : Type} [Fintype I] [DecidableEq I] (Φ : I → sProp 𝕄) (i : I) : (bigSep Finset.univ Φ : sProp 𝕄) = iprop(Φ i ∗ bigSep (Finset.univ.erase i) Φ) := BI.bigSep_univ_split i

/-- Freeing the slot of step `s`. -/
theorem part84_spec (v49 : BitVec 32) (h : v49.toNat ≤ 2048) (hw2 : k0_chk2 v49) (t4 : Fin k0_t4_loop.trips) (t15 : Fin (k0_t15_loop v49).trips) (a18 a19 : BitVec 32)
    (O : ℕ → ℕ → ℕ → F .f32) (G : Prop) (r : Fin 4) (hr : r.val = ringN v49 t4 t15) {Q : PUnit → sProp 𝕄} :
    iprop(Slot c arg5 arg8 arg15 O G ((v49.toNat + 63) / 64) (t4.val * ((v49.toNat + 63) / 64) + t15.val) r
        ∗ To c arg5 (doneP ((v49.toNat + 63) / 64) (t4.val * ((v49.toNat + 63) / 64) + t15.val)) (OutV O) (fun _ => G) ∗ Owes c)
      ⊢ iprop((iprop(Idle (F := F) c arg8 arg15 r
        ∗ To c arg5 (doneP ((v49.toNat + 63) / 64) (t4.val * ((v49.toNat + 63) / 64) + t15.val + 1)) (OutV O) (fun _ => G) ∗ Owes c) -∗ Q ⟨⟩)
        -∗ WP 𝒱 c (k0_part84 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v49 hw2 t4 a18 t15 a19) Q) := by
  have ht := t15_lt v49 h t15
  have hk := lt_of_lt_of_eq t4.isLt t4_trips
  generalize hnb : (v49.toNat + 63) / 64 = nb at *
  generalize hs : t4.val * nb + t15.val = s at *
  have hr4 : r.val = s % 4 := by rw [hr]; unfold ringN; rw [hnb, hs]
  have hlt := r.isLt
  have hc := cond2_iff v49 h t4 t15
  rw [hnb, hs] at hc
  unfold k0_part84
  dsimp only
  iintro ⟨HS, HD, HO⟩ HQ
  by_cases h4 : 4 ≤ s
  · rw [dif_pos (hc.mpr h4)]
    unfold Slot
    icases HS with (⟨%h1, H⟩ | ⟨%k, %b, %h1, H⟩)
    · exfalso; omega
    · obtain ⟨hb, h2, h3, h5⟩ := h1
      have hj : k * nb + b = s - 4 := by omega
      unfold Busy
      icases H with ⟨HF, Hdump⟩
      rw [WP_bind, sem15_eq arg15 r.val r.isLt (by rw [hr]; exact off446_eq v49 h t4 t15)]
      iapply (wait_rule 𝒱 (c := c) (N := cred arg5 S8x24x8x128) rfl) $$ [HF HO]
      · iframe
      iintro ⟨⟨HB, Hbody⟩, HC, HO⟩
      iapply (WP_pure 𝒱 c)
      iapply HQ
      unfold Idle
      iframe
      isplitl [Hbody Hdump]
      · iapply (Any.join (slot_split r.val) (slot_disj r.val)) $$ [Hbody Hdump]
        isplitl [Hbody]
        · iexact Hbody
        · iexact Hdump
      · iapply (To.join c (R := doneP nb s) (S := blkP k b) (fun z => ?_) (fun z => ?_)) $$ [HD HB]
        · unfold doneP blkP
          constructor
          · rintro ⟨h6, h7⟩
            by_cases h8 : (z 1).val / 24 * nb + (z 0).val / 8 + 4 < s
            · exact .inl ⟨h6, h8⟩
            · have := step_inj (k := (z 1).val / 24) (k' := k) h6 hb (by omega)
              exact .inr ⟨this.2, this.1⟩
          · rintro (⟨h6, h7⟩ | ⟨h6, h7⟩)
            · exact ⟨h6, by omega⟩
            · rw [h6, h7]; exact ⟨hb, by omega⟩
        · unfold doneP blkP
          rintro ⟨h6, h7⟩ ⟨h8, h9⟩
          rw [h8, h9] at h7
          omega
        · iframe
  · rw [dif_neg (fun hh => h4 (hc.mp hh))]
    unfold Slot
    icases HS with (⟨%h1, H⟩ | ⟨%k, %b, %h1, H⟩)
    · iapply (WP_pure 𝒱 c)
      iapply HQ
      iframe
      iapply (To.congr c (fun z => ?_)) $$ HD
      unfold doneP
      constructor
      · rintro ⟨h6, h7⟩; exact ⟨h6, by omega⟩
      · rintro ⟨h6, h7⟩; exact absurd h7 (by omega)
    · obtain ⟨hb, h2, h3, h5⟩ := h1
      exfalso; omega

/-- Clearing the slot when the block is the last. -/
theorem part86_spec (v49 : BitVec 32) (h : v49.toNat ≤ 2048) (hw2 : k0_chk2 v49) (t4 : Fin k0_t4_loop.trips) (t15 : Fin (k0_t15_loop v49).trips) (v582 : BitVec 32) {Q : PUnit → sProp 𝕄} :
    Any (F := F) c arg8 (slotP (ringN v49 t4 t15))
      ⊢ iprop((To c arg8 (slotP (ringN v49 t4 t15)) (fun _ => Scalar.ofBits .f32 0x00000000#32) (fun _ => k0_cond3 v49 t15 = 1#1) -∗ Q ⟨⟩)
        -∗ WP 𝒱 c (k0_part86 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v49 hw2 t4 t15 v582) Q) := by
  unfold k0_part86
  dsimp only
  iintro H HQ
  by_cases hc : k0_cond3 v49 t15 = 1#1
  · rw [dif_pos hc, WP_bind, WP_bind]
    have hin : ∀ (hb : ∀ a, (k0_off449 v49 t4 t15) a + S1x9x24x8x128.size a ≤ S4x9x24x8x128.size a) (j : S1x9x24x8x128.Idx), slotP (ringN v49 t4 t15) ((Rect.unit (s := S4x9x24x8x128) (k0_off449 v49 t4 t15) S1x9x24x8x128.size hb).emb j) := by
      intro hb j
      unfold slotP
      rw [unit_emb_of (off449_eq v49 h t4 t15)]
      show ringN v49 t4 t15 + (j 0).val = _
      have : (j 0).val < 1 := (j 0).isLt
      omega
    ihave H := (To.of_any c (V := fun _ => Scalar.ofBits .f32 0x00000000#32)) $$ H
    iapply (To.load 𝒱 c (P := slotP (ringN v49 t4 t15)) (hin _)) $$ H
    iintro %v H
    iapply (To.store 𝒱 c (P := slotP (ringN v49 t4 t15)) (V' := fun _ => Scalar.ofBits .f32 0x00000000#32) (D' := fun _ => k0_cond3 v49 t15 = 1#1) (hin _) ?_ (fun z hz _ hj => ?_)) $$ H
    · intro j; rfl
    · exfalso
      have hz0 : (z 0).val = ringN v49 t4 t15 := hz
      refine hj (ValueIdx.ix5 (0 : Fin 1) (⟨(z 1).val, (z 1).isLt⟩ : Fin 9) (⟨(z 2).val, (z 2).isLt⟩ : Fin 24) (⟨(z 3).val, (z 3).isLt⟩ : Fin 8) (⟨(z 4).val, (z 4).isLt⟩ : Fin 128)) ?_
      funext a
      apply Fin.ext
      rw [unit_emb_of (off449_eq v49 h t4 t15)]
      fin_cases a
      · show ringN v49 t4 t15 + 0 = (z 0).val; omega
      · show 0 + (z 1).val = (z 1).val; omega
      · show 0 + (z 2).val = (z 2).val; omega
      · show 0 + (z 3).val = (z 3).val; omega
      · show 0 + (z 4).val = (z 4).val; omega
    iintro H
    iapply (WP_pure 𝒱 c)
    iapply HQ
    iexact H
  · rw [dif_neg hc]
    iapply (WP_pure 𝒱 c)
    iapply HQ
    ihave H := (To.of_any c (V := fun _ => Scalar.ofBits .f32 0x00000000#32)) $$ H
    iapply (To.mono c (fun z _ hd => absurd hd hc)) $$ H

theorem loop_zero {σ : Type} (L : Scf.Loop 32) (ok : L.OK) (init : σ) (body : Fin L.trips → σ → Prog (TpuEff nD τ sig (Elt F) Λ₀ .tc) σ) (hL : L.trips = 0) {Q : σ → sProp 𝕄} :
    Q init ⊢ WP 𝒱 c (Scf.Loop.for L ok init body) Q := by
  iintro H
  iapply (loop_rule 𝒱 c L ok init body (fun _ acc => Q acc) (fun k _ => absurd (lt_of_lt_of_eq k.isLt hL) (Nat.not_lt_zero _))) $$ H
  iintro %acc H
  iexact H

theorem part91_spec (v49 v370 : BitVec 32) (t4 : Fin k0_t4_loop.trips) (t15 : Fin (k0_t15_loop v49).trips) (v593 v597 v602 : BitVec 32)
    (hw3 : k0_chk3 v49 v370 t15 v593 v602) (v605 v631 : BitVec 32) (x0 x1 x2 : FVec F S8x128 .f32) (c1 : BitVec 32)
    (hL : (k0_t17_loop v49 v370 t15 v593 v602).trips = 0) {Q : PUnit → sProp 𝕄} :
    Q ⟨⟩ ⊢ WP 𝒱 c (k0_part91 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v49 v370 t4 t15 v593 v597 v602 hw3 v605 v631 x0 x1 x2 c1) Q := by
  unfold k0_part91
  rw [WP_bind]
  iintro H
  iapply (loop_zero 𝒱 c _ _ _ _ hL)
  iapply (WP_pure 𝒱 c)
  iexact H

/-- One trip of the block loop. -/
theorem blk_spec (v49 : BitVec 32) (h : v49.toNat ≤ 2048) (hw2 : k0_chk2 v49) (v370 : BitVec 32) (t4 : Fin k0_t4_loop.trips) (a18 : BitVec 32) (t15 : Fin (k0_t15_loop v49).trips)
    {q0 : PosShare TreeShare} (so : S2049.Idx → Elt F .i32) (w593 w602 : BitVec 32)
    (hs1 : ∀ i : S2049.Idx, (i 0).val = t15.val * 64 → so i = w593) (hs2 : ∀ i : S2049.Idx, (i 0).val = (t15.val + 1) * 64 → so i = w602)
    (p0 p1 : ℕ) (hp0 : (p0W v370 t15 w593).toNat = p0) (hp1 : w602.toNat = p1) (h01 : p0 ≤ p1) (h1 : p1 ≤ 2048)
    (sw dw : ℕ → BitVec 32) (tk lc : ℕ → ℕ) (X : ℕ → ℕ → ℕ → F .f32)
    (hq : ∀ q, p0 ≤ q → q < p0 + 8 * ((p1 - p0 + 7) / 8) → PosOk sw dw tk lc t15 q)
    (O : ℕ → ℕ → ℕ → F .f32) (G : Prop)
    (hout : G → ∀ z : S6912x128.Idx, zRow z < 64 → stD lc p0 (fun _ => k0_cond3 v49 t15 = 1#1) (8 * ((p1 - p0 + 7) / 8)) z
      ∧ stV sw tk lc X p0 (fun _ => Scalar.ofBits .f32 0x00000000#32) (8 * ((p1 - p0 + 7) / 8)) z = O (64 * t15.val + zRow z) (24 * t4.val + zTile z) (z 1).val)
    {Q : BitVec 32 → sProp 𝕄} :
    iprop(Own c arg0 q0 so ∗ Own c arg12 fullShare (wordsAt sw) ∗ Own c arg13 fullShare (wordsAt dw) ∗ Own c arg7 fullShare (X4 X) ∗ Owes c
        ∗ RingS c arg5 arg8 arg15 O G ((v49.toNat + 63) / 64) (t4.val * ((v49.toNat + 63) / 64) + t15.val))
      ⊢ iprop((iprop(Own c arg0 q0 so ∗ Own c arg12 fullShare (wordsAt sw) ∗ Own c arg13 fullShare (wordsAt dw) ∗ Own c arg7 fullShare (X4 X) ∗ Owes c
        ∗ RingS c arg5 arg8 arg15 O G ((v49.toNat + 63) / 64) (t4.val * ((v49.toNat + 63) / 64) + t15.val + 1)) -∗ Q 0#32)
        -∗ WP 𝒱 c (blkProg (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v49 hw2 v370 t4 a18 t15) Q) := by
  classical
  have ht := t15_lt v49 h t15
  have hk := lt_of_lt_of_eq t4.isLt t4_trips
  have hr4 := ringN_lt v49 t4 t15
  let r : Fin 4 := ⟨ringN v49 t4 t15, hr4⟩
  unfold RingS
  rw [big_split _ r, big_split (Slot c arg5 arg8 arg15 O G ((v49.toNat + 63) / 64) (t4.val * ((v49.toNat + 63) / 64) + t15.val + 1)) r]
  unfold blkProg
  iintro ⟨H0, H12, H13, H7, HO, ⟨HS, HR⟩, HD, HU⟩ HQ
  rw [WP_bind]
  iapply (part84_spec 𝒱 c v49 h hw2 t4 t15 a18 _ O G r rfl) $$ [HS HD HO]
  · iframe
  iintro ⟨HI, HD, HO⟩
  unfold Idle
  icases HI with ⟨HC, H8⟩
  rw [WP_bind]
  iapply (part86_spec 𝒱 c v49 h hw2 t4 t15 _) $$ [H8]
  · iexact H8
  iintro H8
  rw [WP_bind]
  iapply (smem_val 𝒱 c (v := w593) (fun _ => trivial) (ValueIdx.ix1 (0 : Fin 1)) (hs1 _ ((unit_emb_of (off450_eq v49 h t15) _ 0).trans rfl))) $$ H0
  iintro H0
  rw [WP_bind]
  iapply (smem_val 𝒱 c (v := w602) (fun _ => trivial) (ValueIdx.ix1 (0 : Fin 1)) (hs2 _ ((unit_emb_of (off451_eq v49 h t15) _ 0).trans rfl))) $$ H0
  iintro H0
  rw [WP_bind]
  iapply (assume_rule 𝒱 (chk3_ok v49 v370 t15 w593 w602 p0 p1 hp0 hp1 h01 h1))
  rw [WP_bind, part89_eq, WP_bind]
  ihave H7 := (dq_flat c harg7 X) $$ H7
  ihave H8 : To c (stM arg8 harg8) (fun z => zSlot z = ringN v49 t4 t15) (fun _ => Scalar.ofBits .f32 0x00000000#32) (fun _ => k0_cond3 v49 t15 = 1#1) $$ [H8]
  · unfold To
    icases H8 with ⟨%g, %hg, H8⟩
    iexists (fun z => g (Shape.reshapeEquiv reshapes_S4x9x24x8x128_S6912x128.1 z))
    isplitr [H8]
    · ipureintro
      intro z hz hd
      refine hg _ ?_ hd
      rw [flat8_idx]
      exact hz
    · iapply (Has.to_reshape _ _ (fun z => by rw [flat8_idx]; exact Iff.rfl) (fun _ _ => rfl)) $$ H8
  iapply (tokLoop_spec (arg0 := arg0) (harg0 := harg0) (arg1 := arg1) (harg1 := harg1) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (arg15 := arg15) (arg16 := arg16) (arg17 := arg17)
    𝒱 c v49 h v370 t4 t15 w593 _ w602 p0 p1 hp0 hp1 h01 h1 _ _ _ _ _ sw dw tk lc X (fun _ => Scalar.ofBits .f32 0x00000000#32) (fun _ => k0_cond3 v49 t15 = 1#1) hq _ _ (fun _ _ => rfl)) $$ [H12 H13 H7 H8]
  · unfold TokS
    iframe
  iintro %acc HT
  iapply (WP_pure 𝒱 c)
  rw [WP_bind]
  iapply (part91_spec 𝒱 c v49 v370 t4 t15 w593 _ w602 _ _ _ _ _ _ _ (t17_trips v49 v370 t15 w593 w602 p0 p1 hp0 hp1 h01 h1))
  unfold TokS
  icases HT with ⟨H12, H13, H7, H8⟩
  ihave H7 := (dq_unflat c harg7 X) $$ H7
  unfold To
  icases H8 with ⟨%g, %hg, H8⟩
  generalize hn : 8 * ((p1 - p0 + 7) / 8) = n at *
  ihave H8 : Has c arg8 (slotP (ringN v49 t4 t15)) fullShare (fun y => g ((Shape.reshapeEquiv reshapes_S4x9x24x8x128_S6912x128.1).symm y)) $$ [H8]
  · iapply (Has.of_reshape _ _ (fun z => by rw [flat8_idx]; exact Iff.rfl) (fun z _ => by rw [Equiv.symm_apply_apply])) $$ H8
  ihave H8 := (Has.split (slot_split (ringN v49 t4 t15)) (slot_disj _)) $$ H8
  icases H8 with ⟨Hbody, Hdump⟩
  ihave HU := (Any.split (R := blkP t4 t15) (S := undoneP ((v49.toNat + 63) / 64) (t4.val * ((v49.toNat + 63) / 64) + t15.val + 1)) (fun z => ?_) (fun z => ?_)) $$ HU
  · unfold undoneP blkP
    constructor
    · rintro ⟨h6, h7⟩
      by_cases h8 : t4.val * ((v49.toNat + 63) / 64) + t15.val + 1 ≤ (z 1).val / 24 * ((v49.toNat + 63) / 64) + (z 0).val / 8
      · exact .inr ⟨h6, h8⟩
      · have := step_inj (k := (z 1).val / 24) (k' := t4.val) h6 ht (by omega)
        exact .inl ⟨this.2, this.1⟩
    · rintro (⟨h6, h7⟩ | ⟨h6, h7⟩)
      · rw [h6, h7]; exact ⟨ht, le_refl _⟩
      · exact ⟨h6, by omega⟩
  · unfold undoneP blkP
    rintro ⟨h6, h7⟩ ⟨h8, h9⟩
    rw [h6, h7] at h9
    omega
  icases HU with ⟨⟨%g5, Hblk⟩, HU⟩
  have emb8 : ∀ (hb : ∀ a, (k0_off518 v49 t4 t15) a + S1x8x24x8x128.size a ≤ S4x9x24x8x128.size a) (z : S4x9x24x8x128.Idx), bodyP (ringN v49 t4 t15) z ↔ z ∈ (Rect.unit (s := S4x9x24x8x128) (k0_off518 v49 t4 t15) S1x8x24x8x128.size hb).set := by
    intro hb z
    rw [mem_unit, off518_eq v49 h t4 t15]
    unfold bodyP
    constructor
    · rintro ⟨h6, h7⟩ a
      fin_cases a
      · show ringN v49 t4 t15 ≤ (z 0).val ∧ (z 0).val < ringN v49 t4 t15 + 1; omega
      · show 0 ≤ (z 1).val ∧ (z 1).val < 0 + 8; omega
      · show 0 ≤ (z 2).val ∧ (z 2).val < 0 + 24; have : (z 2).val < 24 := (z 2).isLt; omega
      · show 0 ≤ (z 3).val ∧ (z 3).val < 0 + 8; have : (z 3).val < 8 := (z 3).isLt; omega
      · show 0 ≤ (z 4).val ∧ (z 4).val < 0 + 128; have : (z 4).val < 128 := (z 4).isLt; omega
    · intro hh
      have h6 : ringN v49 t4 t15 ≤ (z 0).val ∧ (z 0).val < ringN v49 t4 t15 + 1 := hh 0
      have h7 : 0 ≤ (z 1).val ∧ (z 1).val < 0 + 8 := hh 1
      omega
  have emb5 : ∀ (hb : ∀ a, (k0_off517 v49 t4 t15) a + S8x24x8x128.size a ≤ S256x96x8x128.size a) (z : S256x96x8x128.Idx), blkP t4 t15 z ↔ z ∈ (Rect.unit (s := S256x96x8x128) (k0_off517 v49 t4 t15) S8x24x8x128.size hb).set := by
    intro hb z
    rw [mem_unit, off517_eq v49 h t4 t15]
    unfold blkP
    constructor
    · rintro ⟨h6, h7⟩ a
      fin_cases a
      · show t15.val * 8 ≤ (z 0).val ∧ (z 0).val < t15.val * 8 + 8; omega
      · show t4.val * 24 ≤ (z 1).val ∧ (z 1).val < t4.val * 24 + 24; omega
      · show 0 ≤ (z 2).val ∧ (z 2).val < 0 + 8; have : (z 2).val < 8 := (z 2).isLt; omega
      · show 0 ≤ (z 3).val ∧ (z 3).val < 0 + 128; have : (z 3).val < 128 := (z 3).isLt; omega
    · intro hh
      have h6 : t15.val * 8 ≤ (z 0).val ∧ (z 0).val < t15.val * 8 + 8 := hh 0
      have h7 : t4.val * 24 ≤ (z 1).val ∧ (z 1).val < t4.val * 24 + 24 := hh 1
      omega
  have hsm := sem15_eq arg15 (h := k0_off516_inb v49 hw2 t4 t15) r.val r.isLt (off516_eq v49 h t4 t15)
  rw [WP_bind]
  iapply (start_rule 𝒱 (c := c) (q := fullShare) (cred arg5 S8x24x8x128) rfl (cred_pos arg5 _ (by decide))
    (g := fun j => g ((Shape.reshapeEquiv reshapes_S4x9x24x8x128_S6912x128.1).symm ((Rect.unit (s := S4x9x24x8x128) (k0_off518 v49 t4 t15) S1x8x24x8x128.size (k0_off518_inb v49 hw2 t4 t15)).emb (Shape.reshapeEquiv squeezes_S1x8x24x8x128_S8x24x8x128.numel_eq j))))
    (g0 := fun j => g5 ((Rect.unit (s := S256x96x8x128) (k0_off517 v49 t4 t15) S8x24x8x128.size (k0_off517_inb v49 hw2 t4 t15)).emb j))) $$ [Hbody Hblk HC]
  · isplitl [Hbody]
    · iapply (Has.to_window _ _ squeezes_S1x8x24x8x128_S8x24x8x128 (emb8 _) (fun j => rfl)) $$ Hbody
    isplitl [Hblk]
    · iapply (Has.to_window' _ _ (emb5 _) (fun j => rfl)) $$ Hblk
    · rw [hsm]; iexact HC
  iintro HF
  iapply (WP_pure 𝒱 c)
  rw [hsm]
  iapply HQ
  iframe
  isplitl [HF Hdump]
  · unfold Slot
    iright
    iexists t4.val
    iexists t15.val
    isplitr [HF Hdump]
    · ipureintro
      exact ⟨ht, by omega, by omega, rfl⟩
    · unfold Busy
      isplitl [HF]
      · iapply (Fly.mono ?_) $$ HF
        iintro ⟨H1, H2⟩
        isplitl [H1]
        · iapply (To.of_window' c (m := arg5) (V := OutV O) (D := fun _ => G) _ _ (emb5 _) (fun j hG => ?_)) $$ H1
          obtain ⟨z, hz⟩ : ∃ z, z = (Shape.reshapeEquiv reshapes_S4x9x24x8x128_S6912x128.1).symm ((Rect.unit (s := S4x9x24x8x128) (k0_off518 v49 t4 t15) S1x8x24x8x128.size (k0_off518_inb v49 hw2 t4 t15)).emb (Shape.reshapeEquiv squeezes_S1x8x24x8x128_S8x24x8x128.numel_eq j)) := ⟨_, rfl⟩
          have hz' := (Equiv.apply_symm_apply (Shape.reshapeEquiv reshapes_S4x9x24x8x128_S6912x128.1) _).symm.trans (congrArg (Shape.reshapeEquiv reshapes_S4x9x24x8x128_S6912x128.1) hz.symm)
          rw [flat8_idx, sq8_idx] at hz'
          rw [← hz]
          have c0 : ringN v49 t4 t15 + 0 = (z 0).val / 1728 := (unit_emb_of (off518_eq v49 h t4 t15) (h := k0_off518_inb v49 hw2 t4 t15) _ 0).symm.trans (congrArg (fun x => (x 0).val) hz')
          have c1 : 0 + (j 0).val = (z 0).val % 1728 / 192 := (unit_emb_of (off518_eq v49 h t4 t15) (h := k0_off518_inb v49 hw2 t4 t15) _ 1).symm.trans (congrArg (fun x => (x 1).val) hz')
          have c2 : 0 + (j 1).val = (z 0).val % 192 / 8 := (unit_emb_of (off518_eq v49 h t4 t15) (h := k0_off518_inb v49 hw2 t4 t15) _ 2).symm.trans (congrArg (fun x => (x 2).val) hz')
          have c3 : 0 + (j 2).val = (z 0).val % 8 := (unit_emb_of (off518_eq v49 h t4 t15) (h := k0_off518_inb v49 hw2 t4 t15) _ 3).symm.trans (congrArg (fun x => (x 3).val) hz')
          have c4 : 0 + (j 3).val = (z 1).val := (unit_emb_of (off518_eq v49 h t4 t15) (h := k0_off518_inb v49 hw2 t4 t15) _ 4).symm.trans (congrArg (fun x => (x 4).val) hz')
          have j0 : (j 0).val < 8 := (j 0).isLt
          have j2 : (j 2).val < 8 := (j 2).isLt
          have hzr : zRow z = (j 0).val * 8 + (j 2).val := by unfold zRow; omega
          have hzt : zTile z = (j 1).val := by unfold zTile; omega
          have ho := hout hG z (by omega)
          rw [hg z (by unfold zSlot; omega) ho.1, ho.2]
          unfold OutV
          have e0 : ((Rect.unit (s := S256x96x8x128) (k0_off517 v49 t4 t15) S8x24x8x128.size (k0_off517_inb v49 hw2 t4 t15)).emb j 0).val = t15.val * 8 + (j 0).val := unit_emb_of (off517_eq v49 h t4 t15) (h := k0_off517_inb v49 hw2 t4 t15) j 0
          have e1 : ((Rect.unit (s := S256x96x8x128) (k0_off517 v49 t4 t15) S8x24x8x128.size (k0_off517_inb v49 hw2 t4 t15)).emb j 1).val = t4.val * 24 + (j 1).val := unit_emb_of (off517_eq v49 h t4 t15) (h := k0_off517_inb v49 hw2 t4 t15) j 1
          have e2 : ((Rect.unit (s := S256x96x8x128) (k0_off517 v49 t4 t15) S8x24x8x128.size (k0_off517_inb v49 hw2 t4 t15)).emb j 2).val = 0 + (j 2).val := unit_emb_of (off517_eq v49 h t4 t15) (h := k0_off517_inb v49 hw2 t4 t15) j 2
          have e3 : ((Rect.unit (s := S256x96x8x128) (k0_off517 v49 t4 t15) S8x24x8x128.size (k0_off517_inb v49 hw2 t4 t15)).emb j 3).val = 0 + (j 3).val := unit_emb_of (off517_eq v49 h t4 t15) (h := k0_off517_inb v49 hw2 t4 t15) j 3
          rw [e0, e1, e2, e3]
          congr 1 <;> omega
        · iexists (fun y => g ((Shape.reshapeEquiv reshapes_S4x9x24x8x128_S6912x128.1).symm y))
          iapply (Has.of_window (m := arg8) (g := fun y => g ((Shape.reshapeEquiv reshapes_S4x9x24x8x128_S6912x128.1).symm y)) _ _ squeezes_S1x8x24x8x128_S8x24x8x128 (emb8 _) (fun j => rfl)) $$ H2
      · iexists _
        iexact Hdump
  · iapply (Slots.step c (Finset.univ.erase r) (fun r' hr' hh => ?_)) $$ HR
    refine (Finset.mem_erase.mp hr').1 (Fin.ext ?_)
    exact hh

end Cert.KernelIdeal.Emb
-- ==== Proof.KernelIdeal.Slab.lean ====
module

public import proofs.«01_k».proof.Proof.KernelIdeal.BlkSpec

@[expose] public section

noncomputable section

namespace Cert.KernelIdeal.Emb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]
local notation "𝕄" => MT nD τ sig Unit (Elt F) ℕ (UD sig nD τ) ℕ
variable (𝒱 : Variants) (c : Dev nD)
variable {arg0 : Memref sig .tc .smem S2049 .i32} {harg0 : arg0.IsWhole} {arg1 : Memref sig .tc .vmem S16x128 .i32} {harg1 : arg1.IsWhole} {arg2 : Memref sig .tc .vmem S2x1024 .i32} {harg2 : arg2.IsWhole} {arg3 : Memref sig .tc .vmem S2x1024 .f32} {harg3 : arg3.IsWhole} {arg4 : Memref sig .tc .hbm S2x1024x12288 .fp8e5m2} {harg4 : arg4.IsWhole} {arg5 : Memref sig .tc .hbm S256x96x8x128 .f32} {harg5 : arg5.IsWhole} {arg6 : Memref sig .tc .vmem S2x2048x3072 .fp8e5m2} {harg6 : arg6.IsWhole} {arg7 : Memref sig .tc .vmem S256x24x8x128 .f32} {harg7 : arg7.IsWhole} {arg8 : Memref sig .tc .vmem S4x9x24x8x128 .f32} {harg8 : arg8.IsWhole} {arg9 : Memref sig .tc .vmem S8x24x8x128 .f32} {harg9 : arg9.IsWhole} {arg10 : Memref sig .tc .vmem S2048x128 .f32} {harg10 : arg10.IsWhole} {arg11 : Memref sig .tc .vmem S2x17x128 .i32} {harg11 : arg11.IsWhole} {arg12 : Memref sig .tc .smem S2176 .i32} {harg12 : arg12.IsWhole} {arg13 : Memref sig .tc .smem S2176 .i32} {harg13 : arg13.IsWhole} {arg14 : DmaSems sig S2x8} {arg15 : DmaSems sig S4} {arg16 : DmaSems sig S_} {arg17 : DmaSems sig S_}

/-! # The code buffer: one slab's copy in, and its dequantisation -/

/-- The semaphore of slab `i` in the buffer chunk `k` uses. -/
def sem14 (arg14 : DmaSems sig S2x8) (k : ℕ) (i : Fin 8) : DmaSem sig := arg14.ix (ValueIdx.ix2 (⟨k % 2, Nat.mod_lt _ (by decide)⟩ : Fin 2) i)

theorem sem14_eq (arg14 : DmaSems sig S2x8) {off : Fin 2 → ℕ} {h : ∀ a, off a + S1x1.size a ≤ S2x8.size a} (k : ℕ) (i : Fin 8) (e : off = ![k % 2, i.val]) :
    ((arg14.slice (Rect.unit (s := S2x8) off S1x1.size h)).squeeze S_ squeezes_S1x1_S_).sem = sem14 arg14 k i := by
  subst e
  unfold sem14
  refine congrArg arg14.ix ?_
  funext a
  apply Fin.ext
  refine (unit_emb _ a).trans ?_
  have h0 : ∀ x : S1x1.Idx, (x 0).val = 0 := fun x => by have : (x 0).val < 1 := (x 0).isLt; omega
  have h1 : ∀ x : S1x1.Idx, (x 1).val = 0 := fun x => by have : (x 1).val < 1 := (x 1).isLt; omega
  fin_cases a
  · exact congrArg (k % 2 + ·) (h0 _)
  · exact congrArg (i.val + ·) (h1 _)

/-- Slab `i` of the buffer chunk `k` uses. -/
def slabP (k : ℕ) (i : Fin 8) : S2x2048x3072.Idx → Prop := fun x => (x 0).val = k % 2 ∧ (x 1).val / 256 = i.val
/-- The codes of slab `i`. -/
def rowP (i : Fin 8) : S2x1024x12288.Idx → Prop := fun x => (x 0).val * 4 + (x 1).val / 256 = i.val
/-- The codes of slab `i` in the columns of chunk `k`. -/
def regP (k : ℕ) (i : Fin 8) : S2x1024x12288.Idx → Prop := fun x => rowP i x ∧ (x 2).val / 3072 = k
/-- The codes, by row and column. -/
def codesV (cd : ℕ → ℕ → F .fp8e5m2) : S2x1024x12288.Idx → Elt F .fp8e5m2 := fun x => cd ((x 0).val * 1024 + (x 1).val) (x 2).val
/-- The codes of chunk `k`, as its buffer holds them. -/
def chV (cd : ℕ → ℕ → F .fp8e5m2) (k : ℕ) : S2x2048x3072.Idx → Elt F .fp8e5m2 := fun x => cd (x 1).val (k * 3072 + (x 2).val)

def Idle14 (arg6 : Memref sig .tc .vmem S2x2048x3072 .fp8e5m2) (arg14 : DmaSems sig S2x8) (k : ℕ) (i : Fin 8) : sProp 𝕄 :=
  iprop(Cell c (sem14 arg14 k i) ∗ Any (F := F) c arg6 (slabP k i))
def Fly14 (arg4 : Memref sig .tc .hbm S2x1024x12288 .fp8e5m2) (arg6 : Memref sig .tc .vmem S2x2048x3072 .fp8e5m2) (arg14 : DmaSems sig S2x8) (q4 : PosShare TreeShare) (cd : ℕ → ℕ → F .fp8e5m2) (k : ℕ) (i : Fin 8) : sProp 𝕄 :=
  iprop(Fly c (sem14 arg14 k i) (cred arg6 S256x3072) iprop(Has c arg6 (slabP k i) fullShare (chV cd k) ∗ Has c arg4 (regP k i) q4 (codesV cd)))

theorem sq6_idx (j : S256x3072.Idx) : Shape.reshapeEquiv squeezes_S1x256x3072_S256x3072.numel_eq j
    = (ValueIdx.ix3 (0 : Fin 1) (⟨(j 0).val, (j 0).isLt⟩ : Fin 256) (⟨(j 1).val, (j 1).isLt⟩ : Fin 3072) : S1x256x3072.Idx) := by
  apply Shape.reshapeEquiv_eq_of_rowMajor
  rw [Shape.rowMajor_val_three, Shape.rowMajor_val_two]
  show ((0 * 256 + (j 0).val) * 3072 + (j 1).val) = (j 0).val * 3072 + (j 1).val
  omega

theorem slab_mem (k : ℕ) (i : Fin 8) {off : Fin 3 → ℕ} {h : ∀ a, off a + S1x256x3072.size a ≤ S2x2048x3072.size a} (e : off = ![k % 2, 256 * i.val, 0]) (x : S2x2048x3072.Idx) :
    slabP k i x ↔ x ∈ (Rect.unit (s := S2x2048x3072) off S1x256x3072.size h).set := by
  subst e
  rw [mem_unit, Fin.forall_fin_succ, Fin.forall_fin_succ, Fin.forall_fin_succ]
  show _ ↔ (k % 2 ≤ (x 0).val ∧ (x 0).val < k % 2 + 1) ∧ (256 * i.val ≤ (x 1).val ∧ (x 1).val < 256 * i.val + 256) ∧ (0 ≤ (x 2).val ∧ (x 2).val < 0 + 3072) ∧ _
  have h2 : (x 2).val < 3072 := (x 2).isLt
  unfold slabP
  constructor
  · rintro ⟨h1, h3⟩
    exact ⟨by omega, by omega, by omega, fun a => a.elim0⟩
  · rintro ⟨h1, h3, _⟩
    exact ⟨by omega, by omega⟩

theorem reg_mem (k : ℕ) (i : Fin 8) {off : Fin 3 → ℕ} {h : ∀ a, off a + S1x256x3072.size a ≤ S2x1024x12288.size a} (e : off = ![i.val / 4, i.val % 4 * 256, k * 3072]) (x : S2x1024x12288.Idx) :
    regP k i x ↔ x ∈ (Rect.unit (s := S2x1024x12288) off S1x256x3072.size h).set := by
  subst e
  rw [mem_unit, Fin.forall_fin_succ, Fin.forall_fin_succ, Fin.forall_fin_succ]
  show _ ↔ (i.val / 4 ≤ (x 0).val ∧ (x 0).val < i.val / 4 + 1) ∧ (i.val % 4 * 256 ≤ (x 1).val ∧ (x 1).val < i.val % 4 * 256 + 256) ∧ (k * 3072 ≤ (x 2).val ∧ (x 2).val < k * 3072 + 3072) ∧ _
  have h1 : (x 1).val < 1024 := (x 1).isLt
  have h0 : (x 0).val < 2 := (x 0).isLt
  unfold regP rowP
  constructor
  · rintro ⟨h3, h4⟩
    exact ⟨by omega, by omega, by omega, fun a => a.elim0⟩
  · rintro ⟨h3, h4, h5, _⟩
    exact ⟨by omega, by omega⟩

/-- The copy of one slab's codes is started. -/
theorem slab_start (k : ℕ) (i : Fin 8) {offS : Fin 2 → ℕ} {off6 off4 : Fin 3 → ℕ}
    {hS : ∀ a, offS a + S1x1.size a ≤ S2x8.size a} {h6 : ∀ a, off6 a + S1x256x3072.size a ≤ S2x2048x3072.size a} {h4 : ∀ a, off4 a + S1x256x3072.size a ≤ S2x1024x12288.size a}
    (eS : offS = ![k % 2, i.val]) (e6 : off6 = ![k % 2, 256 * i.val, 0]) (e4 : off4 = ![i.val / 4, i.val % 4 * 256, k * 3072])
    {q4 : PosShare TreeShare} (cd : ℕ → ℕ → F .fp8e5m2) {hr4 : ∀ a, (Rect.unit (s := S2x1024x12288) off4 S1x256x3072.size h4).stride a = 1}
    {hr6 : ∀ a, (Rect.unit (s := S2x2048x3072) off6 S1x256x3072.size h6).stride a = 1}
    {hsrc : ((arg4.slice (Rect.unit (s := S2x1024x12288) off4 S1x256x3072.size h4) hr4).squeeze S256x3072 squeezes_S1x256x3072_S256x3072).view.WordExact}
    {hdst : ((arg6.slice (Rect.unit (s := S2x2048x3072) off6 S1x256x3072.size h6) hr6).squeeze S256x3072 squeezes_S1x256x3072_S256x3072).view.WordExact}
    {hsem : (DmaTarget.here ((arg6.slice (Rect.unit (s := S2x2048x3072) off6 S1x256x3072.size h6) hr6).squeeze S256x3072 squeezes_S1x256x3072_S256x3072) : DmaTarget nD τ sig (.tc : Proc τ) .vmem S256x3072 .fp8e5m2).Typed .hbm (.dma ((arg14.slice (Rect.unit (s := S2x8) offS S1x1.size hS)).squeeze S_ squeezes_S1x1_S_).sem)}
    {Q : PUnit → sProp 𝕄} :
    iprop(Idle14 (F := F) c arg6 arg14 k i ∗ Has c arg4 (regP k i) q4 (codesV cd))
      ⊢ iprop((Fly14 c arg4 arg6 arg14 q4 cd k i -∗ Q ⟨⟩)
        -∗ WP 𝒱 c (Prog.lift (.enqueueDma ((arg4.slice (Rect.unit (s := S2x1024x12288) off4 S1x256x3072.size h4) hr4).squeeze S256x3072 squeezes_S1x256x3072_S256x3072)
          (.here ((arg6.slice (Rect.unit (s := S2x2048x3072) off6 S1x256x3072.size h6) hr6).squeeze S256x3072 squeezes_S1x256x3072_S256x3072))
          (.dma ((arg14.slice (Rect.unit (s := S2x8) offS S1x1.size hS)).squeeze S_ squeezes_S1x1_S_).sem) hsrc hdst hsem)) Q) := by
  have hsm := sem14_eq arg14 (h := hS) k i eS
  unfold Idle14 Fly14
  iintro ⟨⟨HC, ⟨%g6, H6⟩⟩, H4⟩ HQ
  iapply (start_rule 𝒱 (c := c) (q := q4)
      (g := show S256x3072.Idx → Elt F .fp8e5m2 from fun j => cd (256 * i.val + (j 0).val) (k * 3072 + (j 1).val))
      (g0 := show S256x3072.Idx → Elt F .fp8e5m2 from fun j => g6 ((Rect.unit (s := S2x2048x3072) off6 S1x256x3072.size h6).emb (Shape.reshapeEquiv squeezes_S1x256x3072_S256x3072.numel_eq j)))
      (cred arg6 S256x3072) rfl (cred_pos _ _ (by decide))) $$ [HC H6 H4]
  · isplitl [H4]
    · iapply (Has.to_window (m := arg4) (Rect.unit (s := S2x1024x12288) off4 S1x256x3072.size h4) hr4 squeezes_S1x256x3072_S256x3072 (reg_mem k i e4) (fun j => ?_)) $$ H4
      unfold codesV
      rw [unit_emb_of e4 (h := h4), unit_emb_of e4 (h := h4), unit_emb_of e4 (h := h4)]
      rw [sq6_idx]
      refine congrArg₂ cd ?_ ?_
      · show (i.val / 4 + 0) * 1024 + (i.val % 4 * 256 + (j 0).val) = _
        omega
      · rfl
    isplitl [H6]
    · iapply (Has.to_window (m := arg6) (Rect.unit (s := S2x2048x3072) off6 S1x256x3072.size h6) hr6 squeezes_S1x256x3072_S256x3072 (slab_mem k i e6) (fun j => rfl)) $$ H6
    · rw [hsm]; iexact HC
  iintro HF
  rw [hsm]
  iapply HQ
  iapply (Fly.mono (c := c) ?_) $$ HF
  iintro ⟨H6, H4⟩
  isplitl [H6]
  · iapply (Has.of_window (m := arg6) (g := chV cd k) (Rect.unit (s := S2x2048x3072) off6 S1x256x3072.size h6) hr6 squeezes_S1x256x3072_S256x3072 (slab_mem k i e6) (fun j => ?_)) $$ H6
    unfold chV
    rw [unit_emb_of e6 (h := h6), unit_emb_of e6 (h := h6)]
    rw [sq6_idx]
    refine congrArg₂ cd ?_ ?_
    · rfl
    · show k * 3072 + (0 + (j 1).val) = _
      omega
  · iapply (Has.of_window (m := arg4) (g := codesV cd) (Rect.unit (s := S2x1024x12288) off4 S1x256x3072.size h4) hr4 squeezes_S1x256x3072_S256x3072 (reg_mem k i e4) (fun j => ?_)) $$ H4
    unfold codesV
    rw [unit_emb_of e4 (h := h4), unit_emb_of e4 (h := h4), unit_emb_of e4 (h := h4)]
    rw [sq6_idx]
    refine congrArg₂ cd ?_ ?_
    · show (i.val / 4 + 0) * 1024 + (i.val % 4 * 256 + (j 0).val) = _
      omega
    · rfl

/-! ## The offsets -/

theorem off4_eq : ∀ t4 : Fin k0_t4_loop.trips, k0_off4 t4 = ![(t4.val + 1) % 2, ((0 : Fin 8)).val] := by decide +kernel
theorem off5_eq : ∀ t4 : Fin k0_t4_loop.trips, k0_off5 t4 = ![(t4.val + 1) % 2, 256 * ((0 : Fin 8)).val, 0] := by decide +kernel
theorem off6_eq : ∀ t4 : Fin k0_t4_loop.trips, k0_off6 t4 = ![((0 : Fin 8)).val / 4, ((0 : Fin 8)).val % 4 * 256, (t4.val + 1) * 3072] := by decide +kernel
theorem off30_eq : ∀ t4 : Fin k0_t4_loop.trips, k0_off30 t4 = ![t4.val % 2, ((0 : Fin 8)).val] := by decide +kernel
theorem off7_eq : ∀ t4 : Fin k0_t4_loop.trips, k0_off7 t4 = ![(t4.val + 1) % 2, ((1 : Fin 8)).val] := by decide +kernel
theorem off8_eq : ∀ t4 : Fin k0_t4_loop.trips, k0_off8 t4 = ![(t4.val + 1) % 2, 256 * ((1 : Fin 8)).val, 0] := by decide +kernel
theorem off9_eq : ∀ t4 : Fin k0_t4_loop.trips, k0_off9 t4 = ![((1 : Fin 8)).val / 4, ((1 : Fin 8)).val % 4 * 256, (t4.val + 1) * 3072] := by decide +kernel
theorem off82_eq : ∀ t4 : Fin k0_t4_loop.trips, k0_off82 t4 = ![t4.val % 2, ((1 : Fin 8)).val] := by decide +kernel
theorem off10_eq : ∀ t4 : Fin k0_t4_loop.trips, k0_off10 t4 = ![(t4.val + 1) % 2, ((2 : Fin 8)).val] := by decide +kernel
theorem off11_eq : ∀ t4 : Fin k0_t4_loop.trips, k0_off11 t4 = ![(t4.val + 1) % 2, 256 * ((2 : Fin 8)).val, 0] := by decide +kernel
theorem off12_eq : ∀ t4 : Fin k0_t4_loop.trips, k0_off12 t4 = ![((2 : Fin 8)).val / 4, ((2 : Fin 8)).val % 4 * 256, (t4.val + 1) * 3072] := by decide +kernel
theorem off134_eq : ∀ t4 : Fin k0_t4_loop.trips, k0_off134 t4 = ![t4.val % 2, ((2 : Fin 8)).val] := by decide +kernel
theorem off13_eq : ∀ t4 : Fin k0_t4_loop.trips, k0_off13 t4 = ![(t4.val + 1) % 2, ((3 : Fin 8)).val] := by decide +kernel
theorem off14_eq : ∀ t4 : Fin k0_t4_loop.trips, k0_off14 t4 = ![(t4.val + 1) % 2, 256 * ((3 : Fin 8)).val, 0] := by decide +kernel
theorem off15_eq : ∀ t4 : Fin k0_t4_loop.trips, k0_off15 t4 = ![((3 : Fin 8)).val / 4, ((3 : Fin 8)).val % 4 * 256, (t4.val + 1) * 3072] := by decide +kernel
theorem off186_eq : ∀ t4 : Fin k0_t4_loop.trips, k0_off186 t4 = ![t4.val % 2, ((3 : Fin 8)).val] := by decide +kernel
theorem off16_eq : ∀ t4 : Fin k0_t4_loop.trips, k0_off16 t4 = ![(t4.val + 1) % 2, ((4 : Fin 8)).val] := by decide +kernel
theorem off17_eq : ∀ t4 : Fin k0_t4_loop.trips, k0_off17 t4 = ![(t4.val + 1) % 2, 256 * ((4 : Fin 8)).val, 0] := by decide +kernel
theorem off18_eq : ∀ t4 : Fin k0_t4_loop.trips, k0_off18 t4 = ![((4 : Fin 8)).val / 4, ((4 : Fin 8)).val % 4 * 256, (t4.val + 1) * 3072] := by decide +kernel
theorem off238_eq : ∀ t4 : Fin k0_t4_loop.trips, k0_off238 t4 = ![t4.val % 2, ((4 : Fin 8)).val] := by decide +kernel
theorem off19_eq : ∀ t4 : Fin k0_t4_loop.trips, k0_off19 t4 = ![(t4.val + 1) % 2, ((5 : Fin 8)).val] := by decide +kernel
theorem off20_eq : ∀ t4 : Fin k0_t4_loop.trips, k0_off20 t4 = ![(t4.val + 1) % 2, 256 * ((5 : Fin 8)).val, 0] := by decide +kernel
theorem off21_eq : ∀ t4 : Fin k0_t4_loop.trips, k0_off21 t4 = ![((5 : Fin 8)).val / 4, ((5 : Fin 8)).val % 4 * 256, (t4.val + 1) * 3072] := by decide +kernel
theorem off290_eq : ∀ t4 : Fin k0_t4_loop.trips, k0_off290 t4 = ![t4.val % 2, ((5 : Fin 8)).val] := by decide +kernel
theorem off22_eq : ∀ t4 : Fin k0_t4_loop.trips, k0_off22 t4 = ![(t4.val + 1) % 2, ((6 : Fin 8)).val] := by decide +kernel
theorem off23_eq : ∀ t4 : Fin k0_t4_loop.trips, k0_off23 t4 = ![(t4.val + 1) % 2, 256 * ((6 : Fin 8)).val, 0] := by decide +kernel
theorem off24_eq : ∀ t4 : Fin k0_t4_loop.trips, k0_off24 t4 = ![((6 : Fin 8)).val / 4, ((6 : Fin 8)).val % 4 * 256, (t4.val + 1) * 3072] := by decide +kernel
theorem off342_eq : ∀ t4 : Fin k0_t4_loop.trips, k0_off342 t4 = ![t4.val % 2, ((6 : Fin 8)).val] := by decide +kernel
theorem off25_eq : ∀ t4 : Fin k0_t4_loop.trips, k0_off25 t4 = ![(t4.val + 1) % 2, ((7 : Fin 8)).val] := by decide +kernel
theorem off26_eq : ∀ t4 : Fin k0_t4_loop.trips, k0_off26 t4 = ![(t4.val + 1) % 2, 256 * ((7 : Fin 8)).val, 0] := by decide +kernel
theorem off27_eq : ∀ t4 : Fin k0_t4_loop.trips, k0_off27 t4 = ![((7 : Fin 8)).val / 4, ((7 : Fin 8)).val % 4 * 256, (t4.val + 1) * 3072] := by decide +kernel
theorem off394_eq : ∀ t4 : Fin k0_t4_loop.trips, k0_off394 t4 = ![t4.val % 2, ((7 : Fin 8)).val] := by decide +kernel

theorem cond1_iff : ∀ t4 : Fin k0_t4_loop.trips, k0_cond1 t4 = 1#1 ↔ t4.val + 1 < 4 := by decide +kernel

/-! ## The eight slabs -/

/-- A statement for each of the eight slabs. -/
def Each8 (Φ : Fin 8 → sProp 𝕄) : sProp 𝕄 := iprop(Φ 0 ∗ Φ 1 ∗ Φ 2 ∗ Φ 3 ∗ Φ 4 ∗ Φ 5 ∗ Φ 6 ∗ Φ 7)

theorem Each8.mono {Φ Ψ : Fin 8 → sProp 𝕄} (h : ∀ i, Φ i ⊢ Ψ i) : Each8 Φ ⊢ Each8 Ψ := by
  unfold Each8
  exact BIClass.sep_mono (h 0) (BIClass.sep_mono (h 1) (BIClass.sep_mono (h 2) (BIClass.sep_mono (h 3) (BIClass.sep_mono (h 4) (BIClass.sep_mono (h 5) (BIClass.sep_mono (h 6) (h 7)))))))

/-- The copy for chunk `k`, if there is such a chunk. -/
def Fl14 (arg4 : Memref sig .tc .hbm S2x1024x12288 .fp8e5m2) (arg6 : Memref sig .tc .vmem S2x2048x3072 .fp8e5m2) (arg14 : DmaSems sig S2x8) (q4 : PosShare TreeShare) (cd : ℕ → ℕ → F .fp8e5m2) (k : ℕ) (i : Fin 8) : sProp 𝕄 :=
  if k < 4 then Fly14 c arg4 arg6 arg14 q4 cd k i else Idle14 (F := F) c arg6 arg14 k i

/-- A slab before chunk `k`. -/
def SlabA (arg4 : Memref sig .tc .hbm S2x1024x12288 .fp8e5m2) (arg6 : Memref sig .tc .vmem S2x2048x3072 .fp8e5m2) (arg14 : DmaSems sig S2x8) (q4 : PosShare TreeShare) (cd : ℕ → ℕ → F .fp8e5m2) (k : ℕ) (i : Fin 8) : sProp 𝕄 :=
  iprop(Fl14 c arg4 arg6 arg14 q4 cd k i ∗ Idle14 (F := F) c arg6 arg14 (k + 1) i ∗ Has c arg4 (fun x => rowP i x ∧ (x 2).val / 3072 ≠ k) q4 (codesV cd))
/-- A slab once the next chunk's copy is under way. -/
def SlabB (arg4 : Memref sig .tc .hbm S2x1024x12288 .fp8e5m2) (arg6 : Memref sig .tc .vmem S2x2048x3072 .fp8e5m2) (arg14 : DmaSems sig S2x8) (q4 : PosShare TreeShare) (cd : ℕ → ℕ → F .fp8e5m2) (k : ℕ) (i : Fin 8) : sProp 𝕄 :=
  iprop(Fl14 c arg4 arg6 arg14 q4 cd k i ∗ Fl14 c arg4 arg6 arg14 q4 cd (k + 1) i ∗ Has c arg4 (fun x => rowP i x ∧ (x 2).val / 3072 ≠ k ∧ (x 2).val / 3072 ≠ k + 1) q4 (codesV cd))

theorem slabA_split (q4 : PosShare TreeShare) (cd : ℕ → ℕ → F .fp8e5m2) (k : ℕ) (i : Fin 8) :
    SlabA c arg4 arg6 arg14 q4 cd k i ⊢ iprop((Idle14 (F := F) c arg6 arg14 (k + 1) i ∗ Has c arg4 (regP (k + 1) i) q4 (codesV cd))
      ∗ Fl14 c arg4 arg6 arg14 q4 cd k i ∗ Has c arg4 (fun x => rowP i x ∧ (x 2).val / 3072 ≠ k ∧ (x 2).val / 3072 ≠ k + 1) q4 (codesV cd)) := by
  unfold SlabA
  iintro ⟨HF, HI, H4⟩
  ihave H4 := (Has.split (R := regP (k + 1) i) (S := fun x => rowP i x ∧ (x 2).val / 3072 ≠ k ∧ (x 2).val / 3072 ≠ k + 1) (fun x => by
    unfold regP
    constructor
    · rintro ⟨h1, h2⟩
      by_cases h3 : (x 2).val / 3072 = k + 1
      · exact .inl ⟨h1, h3⟩
      · exact .inr ⟨h1, h2, h3⟩
    · rintro (⟨h1, h2⟩ | ⟨h1, h2, h3⟩)
      · exact ⟨h1, by omega⟩
      · exact ⟨h1, h2⟩) (fun x h1 h2 => h2.2.2 h1.2)) $$ H4
  icases H4 with ⟨H4, H4'⟩
  iframe

theorem slabA_last (q4 : PosShare TreeShare) (cd : ℕ → ℕ → F .fp8e5m2) (k : ℕ) (hk : ¬ k + 1 < 4) (i : Fin 8) :
    SlabA c arg4 arg6 arg14 q4 cd k i ⊢ SlabB c arg4 arg6 arg14 q4 cd k i := by
  unfold SlabA SlabB
  iintro ⟨HF, HI, H4⟩
  iframe
  isplitl [HI]
  · unfold Fl14
    rw [if_neg hk]
    iexact HI
  · iapply (Has.congr (fun x => ?_) (fun _ _ => rfl)) $$ H4
    have h2 : (x 2).val < 12288 := (x 2).isLt
    constructor
    · rintro ⟨h1, h3⟩; exact ⟨h1, h3, by omega⟩
    · rintro ⟨h1, h3, _⟩; exact ⟨h1, h3⟩

theorem part122_spec (t4 : Fin k0_t4_loop.trips) (a18 v497 : BitVec 32) (q4 : PosShare TreeShare) (cd : ℕ → ℕ → F .fp8e5m2) {Q : PUnit → sProp 𝕄} :
    Each8 (fun i => SlabA c arg4 arg6 arg14 q4 cd t4.val i)
      ⊢ iprop((Each8 (fun i => SlabB c arg4 arg6 arg14 q4 cd t4.val i) -∗ Q ⟨⟩)
        -∗ WP 𝒱 c (k0_part122 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 t4 a18 v497) Q) := by
  by_cases h1 : t4.val + 1 < 4
  · refine (Each8.mono (fun i => slabA_split c q4 cd t4.val i)).trans ?_
    have hc := (cond1_iff t4).mpr h1
    unfold k0_part122
    dsimp only
    rw [dif_pos hc]
    unfold Each8 SlabB
    have hF : ∀ i, Fly14 c arg4 arg6 arg14 q4 cd (t4.val + 1) i ⊢ Fl14 c arg4 arg6 arg14 q4 cd (t4.val + 1) i := fun i => by
      unfold Fl14; rw [if_pos h1]
    iintro ⟨⟨HA0, HR0⟩, ⟨HA1, HR1⟩, ⟨HA2, HR2⟩, ⟨HA3, HR3⟩, ⟨HA4, HR4⟩, ⟨HA5, HR5⟩, ⟨HA6, HR6⟩, ⟨HA7, HR7⟩⟩ HQ
    rw [WP_bind]
    unfold k0_part5
    dsimp only
    rw [WP_bind]
    iapply (slab_start 𝒱 c (t4.val + 1) 0 (off4_eq t4) (off5_eq t4) (off6_eq t4) cd) $$ HA0
    iintro HA0
    ihave HA0 := (hF 0) $$ HA0
    rw [WP_bind]
    iapply (slab_start 𝒱 c (t4.val + 1) 1 (off7_eq t4) (off8_eq t4) (off9_eq t4) cd) $$ HA1
    iintro HA1
    ihave HA1 := (hF 1) $$ HA1
    rw [WP_bind]
    iapply (slab_start 𝒱 c (t4.val + 1) 2 (off10_eq t4) (off11_eq t4) (off12_eq t4) cd) $$ HA2
    iintro HA2
    ihave HA2 := (hF 2) $$ HA2
    iapply (WP_pure 𝒱 c)
    rw [WP_bind]
    unfold k0_part6
    dsimp only
    rw [WP_bind]
    iapply (slab_start 𝒱 c (t4.val + 1) 3 (off13_eq t4) (off14_eq t4) (off15_eq t4) cd) $$ HA3
    iintro HA3
    ihave HA3 := (hF 3) $$ HA3
    rw [WP_bind]
    iapply (slab_start 𝒱 c (t4.val + 1) 4 (off16_eq t4) (off17_eq t4) (off18_eq t4) cd) $$ HA4
    iintro HA4
    ihave HA4 := (hF 4) $$ HA4
    rw [WP_bind]
    iapply (slab_start 𝒱 c (t4.val + 1) 5 (off19_eq t4) (off20_eq t4) (off21_eq t4) cd) $$ HA5
    iintro HA5
    ihave HA5 := (hF 5) $$ HA5
    iapply (WP_pure 𝒱 c)
    rw [WP_bind]
    iapply (slab_start 𝒱 c (t4.val + 1) 6 (off22_eq t4) (off23_eq t4) (off24_eq t4) cd) $$ HA6
    iintro HA6
    ihave HA6 := (hF 6) $$ HA6
    rw [WP_bind]
    iapply (slab_start 𝒱 c (t4.val + 1) 7 (off25_eq t4) (off26_eq t4) (off27_eq t4) cd) $$ HA7
    iintro HA7
    ihave HA7 := (hF 7) $$ HA7
    iapply (WP_pure 𝒱 c)
    iapply HQ
    icases HR0 with ⟨HR0, HS0⟩
    icases HR1 with ⟨HR1, HS1⟩
    icases HR2 with ⟨HR2, HS2⟩
    icases HR3 with ⟨HR3, HS3⟩
    icases HR4 with ⟨HR4, HS4⟩
    icases HR5 with ⟨HR5, HS5⟩
    icases HR6 with ⟨HR6, HS6⟩
    icases HR7 with ⟨HR7, HS7⟩
    isplitl [HA0 HR0 HS0]
    · iframe
    isplitl [HA1 HR1 HS1]
    · iframe
    isplitl [HA2 HR2 HS2]
    · iframe
    isplitl [HA3 HR3 HS3]
    · iframe
    isplitl [HA4 HR4 HS4]
    · iframe
    isplitl [HA5 HR5 HS5]
    · iframe
    isplitl [HA6 HR6 HS6]
    · iframe
    iframe
  · refine (Each8.mono (fun i => slabA_last c q4 cd t4.val h1 i)).trans ?_
    have hc : ¬ k0_cond1 t4 = 1#1 := fun h => h1 ((cond1_iff t4).mp h)
    unfold k0_part122
    dsimp only
    rw [dif_neg hc]
    iintro H HQ
    iapply (WP_pure 𝒱 c)
    iapply HQ
    iexact H

end Cert.KernelIdeal.Emb
-- ==== Proof.KernelIdeal.Chunk.lean ====
module

public import proofs.«01_k».proof.Proof.KernelIdeal.Slab

@[expose] public section

noncomputable section

namespace Cert.KernelIdeal.Emb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]
local notation "𝕄" => MT nD τ sig Unit (Elt F) ℕ (UD sig nD τ) ℕ
variable (𝒱 : Variants) (c : Dev nD)
variable {arg0 : Memref sig .tc .smem S2049 .i32} {harg0 : arg0.IsWhole} {arg1 : Memref sig .tc .vmem S16x128 .i32} {harg1 : arg1.IsWhole} {arg2 : Memref sig .tc .vmem S2x1024 .i32} {harg2 : arg2.IsWhole} {arg3 : Memref sig .tc .vmem S2x1024 .f32} {harg3 : arg3.IsWhole} {arg4 : Memref sig .tc .hbm S2x1024x12288 .fp8e5m2} {harg4 : arg4.IsWhole} {arg5 : Memref sig .tc .hbm S256x96x8x128 .f32} {harg5 : arg5.IsWhole} {arg6 : Memref sig .tc .vmem S2x2048x3072 .fp8e5m2} {harg6 : arg6.IsWhole} {arg7 : Memref sig .tc .vmem S256x24x8x128 .f32} {harg7 : arg7.IsWhole} {arg8 : Memref sig .tc .vmem S4x9x24x8x128 .f32} {harg8 : arg8.IsWhole} {arg9 : Memref sig .tc .vmem S8x24x8x128 .f32} {harg9 : arg9.IsWhole} {arg10 : Memref sig .tc .vmem S2048x128 .f32} {harg10 : arg10.IsWhole} {arg11 : Memref sig .tc .vmem S2x17x128 .i32} {harg11 : arg11.IsWhole} {arg12 : Memref sig .tc .smem S2176 .i32} {harg12 : arg12.IsWhole} {arg13 : Memref sig .tc .smem S2176 .i32} {harg13 : arg13.IsWhole} {arg14 : DmaSems sig S2x8} {arg15 : DmaSems sig S4} {arg16 : DmaSems sig S_} {arg17 : DmaSems sig S_}

/-! # One chunk -/

theorem slab_wait (k : ℕ) (hk : k < 4) (i : Fin 8) {offS : Fin 2 → ℕ} {hS : ∀ a, offS a + S1x1.size a ≤ S2x8.size a} (eS : offS = ![k % 2, i.val])
    {off6 off4 : Fin 3 → ℕ} {h6 : ∀ a, off6 a + S1x256x3072.size a ≤ S2x2048x3072.size a} {h4 : ∀ a, off4 a + S1x256x3072.size a ≤ S2x1024x12288.size a}
    {q4 : PosShare TreeShare} (cd : ℕ → ℕ → F .fp8e5m2) {hr4 : ∀ a, (Rect.unit (s := S2x1024x12288) off4 S1x256x3072.size h4).stride a = 1}
    {hr6 : ∀ a, (Rect.unit (s := S2x2048x3072) off6 S1x256x3072.size h6).stride a = 1}
    {hsrc : ((arg4.slice (Rect.unit (s := S2x1024x12288) off4 S1x256x3072.size h4) hr4).squeeze S256x3072 squeezes_S1x256x3072_S256x3072).view.WordExact}
    {hdst : ((arg6.slice (Rect.unit (s := S2x2048x3072) off6 S1x256x3072.size h6) hr6).squeeze S256x3072 squeezes_S1x256x3072_S256x3072).view.WordExact}
    {Q : PUnit → sProp 𝕄} :
    iprop(SlabB c arg4 arg6 arg14 q4 cd k i ∗ Owes c)
      ⊢ iprop((iprop(Has c arg6 (slabP k i) fullShare (chV cd k) ∗ Owes c ∗ (Any (F := F) c arg6 (slabP k i) -∗ SlabA c arg4 arg6 arg14 q4 cd (k + 1) i)) -∗ Q ⟨⟩)
        -∗ WP 𝒱 c (Prog.lift (.waitDma2 ((arg14.slice (Rect.unit (s := S2x8) offS S1x1.size hS)).squeeze S_ squeezes_S1x1_S_).sem
          ((arg4.slice (Rect.unit (s := S2x1024x12288) off4 S1x256x3072.size h4) hr4).squeeze S256x3072 squeezes_S1x256x3072_S256x3072)
          ((arg6.slice (Rect.unit (s := S2x2048x3072) off6 S1x256x3072.size h6) hr6).squeeze S256x3072 squeezes_S1x256x3072_S256x3072) hsrc hdst)) Q) := by
  rw [sem14_eq arg14 k i eS]
  have hs2 : sem14 arg14 (k + 1 + 1) i = sem14 arg14 k i := by
    unfold sem14
    exact congrArg (fun z => arg14.ix (ValueIdx.ix2 z i)) (Fin.ext (show (k + 1 + 1) % 2 = k % 2 by omega))
  unfold SlabB
  have hF : Fl14 c arg4 arg6 arg14 q4 cd k i ⊢ Fly c (sem14 arg14 k i) (cred arg6 S256x3072) iprop(Has c arg6 (slabP k i) fullShare (chV cd k) ∗ Has c arg4 (regP k i) q4 (codesV cd)) := by
    unfold Fl14 Fly14; rw [if_pos hk]
  iintro ⟨⟨HF, HF', H4⟩, HO⟩ HQ
  ihave HF := hF $$ HF
  iapply (wait_rule 𝒱 (c := c) (N := cred arg6 S256x3072) rfl) $$ [HF HO]
  · iframe
  iintro ⟨⟨H6, H4'⟩, HC, HO⟩
  iapply HQ
  iframe
  iintro ⟨%g6, H6⟩
  unfold SlabA
  isplitl [HF']
  · iexact HF'
  isplitl [HC H6]
  · unfold Idle14
    isplitl [HC]
    · rw [hs2]; iexact HC
    · iexists g6
      iapply (Has.congr (fun x => ?_) (fun _ _ => rfl)) $$ H6
      unfold slabP
      rw [show (k + 1 + 1) % 2 = k % 2 by omega]
  · iapply (Has.join (R := regP k i) (S := fun x => rowP i x ∧ (x 2).val / 3072 ≠ k ∧ (x 2).val / 3072 ≠ k + 1) (fun x => ?_) (fun x h1 h2 => h2.2.1 h1.2)) $$ [H4' H4]
    · unfold regP
      constructor
      · rintro ⟨h1, h2⟩
        by_cases h3 : (x 2).val / 3072 = k
        · exact .inl ⟨h1, h3⟩
        · exact .inr ⟨h1, h3, h2⟩
      · rintro (⟨h1, h2⟩ | ⟨h1, h2, h3⟩)
        · exact ⟨h1, by omega⟩
        · exact ⟨h1, h3⟩
    · isplitl [H4'] <;> iassumption

/-- The scales, laid out as the kernel's buffer. -/
def scV (sc : ℕ → F .f32) : S2048x128.Idx → F .f32 := fun x => sc (x 0).val

/-- The dequantised table of chunk `k`. -/
def dqX (cd : ℕ → ℕ → F .fp8e5m2) (sc : ℕ → F .f32) (k : ℕ) : ℕ → ℕ → ℕ → F .f32 :=
  fun t v l => FloatOps.mulf (FloatOps.extf .f32 bitsLt_fp8e5m2_f32 (cd t (k * 3072 + (128 * v + l)))) (sc t)

theorem dq_all (cd : ℕ → ℕ → F .fp8e5m2) (sc : ℕ → F .f32) (t4 : Fin k0_t4_loop.trips) :
    DqTo c arg7 (dqAt (show S2x2048x3072.Idx → F .fp8e5m2 from chV cd t4.val) (scV sc) (slotF t4)) (fun x => (x 0).val < 32 * (7 + 1)) ⊢ Own c arg7 fullShare (X4 (dqX cd sc t4.val)) := by
  unfold DqTo
  iintro ⟨%g, %hg, H⟩
  iapply (Has.congr (fun _ => Iff.rfl) (fun x _ => ?_)) $$ H
  have h0 : (x 0).val < 256 := (x 0).isLt
  refine (hg x (by omega)).trans ?_
  show FloatOps.mulf (FloatOps.extf .f32 bitsLt_fp8e5m2_f32 (cd (8 * (x 0).val + (x 2).val) (t4.val * 3072 + (128 * (x 1).val + (x 3).val)))) (sc (8 * (x 0).val + (x 2).val)) = _
  rw [Nat.mul_comm 8]
  rfl

theorem slab0_spec (t4 : Fin k0_t4_loop.trips) (a18 v497 : BitVec 32) (q4 q10 : PosShare TreeShare) (cd : ℕ → ℕ → F .fp8e5m2) (sc : ℕ → F .f32) {Q : PUnit → sProp 𝕄} :
    iprop(SlabB c arg4 arg6 arg14 q4 cd t4.val 0 ∗ Owes c ∗ Own c arg10 q10 (scV sc)
        ∗ DqTo c arg7 (dqAt (show S2x2048x3072.Idx → F .fp8e5m2 from chV cd t4.val) (scV sc) (slotF t4)) (fun x => (x 0).val < 32 * 0))
      ⊢ iprop((iprop(SlabA c arg4 arg6 arg14 q4 cd (t4.val + 1) 0 ∗ Owes c ∗ Own c arg10 q10 (scV sc)
        ∗ DqTo c arg7 (dqAt (show S2x2048x3072.Idx → F .fp8e5m2 from chV cd t4.val) (scV sc) (slotF t4)) (fun x => (x 0).val < 32 * (0 + 1))) -∗ Q ⟨⟩)
        -∗ WP 𝒱 c (k0_part127 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 t4 a18) (fun x => WP 𝒱 c (k0_part128 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 t4 v497 x.1 x.2) Q)) := by
  have hk := lt_of_lt_of_eq t4.isLt t4_trips
  iintro ⟨HS, HO, H10, H7⟩ HQ
  unfold k0_part127
  dsimp only
  rw [WP_bind]
  iapply (slab_wait 𝒱 c t4.val hk 0 (off30_eq t4) cd) $$ [HS HO]
  · iframe
  iintro ⟨H6, HO, HS⟩
  iapply (WP_pure 𝒱 c)
  unfold k0_part128
  dsimp only
  rw [WP_bind]
  iapply (dqLoop_spec 𝒱 c (arg6 := arg6) (arg7 := arg7) (arg10 := arg10) t4 0 (by decide) k0_t7_loop (by decide +kernel) k0_t7_ok _ (fun k a => t7_body_eq t4 v497 _ _ k) (show S2x2048x3072.Idx → F .fp8e5m2 from chV cd t4.val) (scV sc)
    (P6 := slabP t4.val 0) (fun x h1 h2 h3 => ⟨h1, by show (x 1).val / 256 = 0; omega⟩)) $$ [H6 H10 H7]
  · iframe
  iintro ⟨H6, H10, H7⟩
  iapply (WP_pure 𝒱 c)
  iapply HQ
  iframe
  iapply HS
  iexists _
  iexact H6

theorem slab1_spec (t4 : Fin k0_t4_loop.trips) (a18 v497 : BitVec 32) (q4 q10 : PosShare TreeShare) (cd : ℕ → ℕ → F .fp8e5m2) (sc : ℕ → F .f32) {Q : PUnit → sProp 𝕄} :
    iprop(SlabB c arg4 arg6 arg14 q4 cd t4.val 1 ∗ Owes c ∗ Own c arg10 q10 (scV sc)
        ∗ DqTo c arg7 (dqAt (show S2x2048x3072.Idx → F .fp8e5m2 from chV cd t4.val) (scV sc) (slotF t4)) (fun x => (x 0).val < 32 * 1))
      ⊢ iprop((iprop(SlabA c arg4 arg6 arg14 q4 cd (t4.val + 1) 1 ∗ Owes c ∗ Own c arg10 q10 (scV sc)
        ∗ DqTo c arg7 (dqAt (show S2x2048x3072.Idx → F .fp8e5m2 from chV cd t4.val) (scV sc) (slotF t4)) (fun x => (x 0).val < 32 * (1 + 1))) -∗ Q ⟨⟩)
        -∗ WP 𝒱 c (k0_part129 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 t4 a18) (fun x => WP 𝒱 c (k0_part130 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 t4 v497 x.1 x.2) Q)) := by
  have hk := lt_of_lt_of_eq t4.isLt t4_trips
  iintro ⟨HS, HO, H10, H7⟩ HQ
  unfold k0_part129
  dsimp only
  rw [WP_bind]
  iapply (slab_wait 𝒱 c t4.val hk 1 (off82_eq t4) cd) $$ [HS HO]
  · iframe
  iintro ⟨H6, HO, HS⟩
  iapply (WP_pure 𝒱 c)
  unfold k0_part130
  dsimp only
  rw [WP_bind]
  iapply (dqLoop_spec 𝒱 c (arg6 := arg6) (arg7 := arg7) (arg10 := arg10) t4 1 (by decide) k0_t8_loop (by decide +kernel) k0_t8_ok _ (fun k a => t8_body_eq t4 v497 _ _ k) (show S2x2048x3072.Idx → F .fp8e5m2 from chV cd t4.val) (scV sc)
    (P6 := slabP t4.val 1) (fun x h1 h2 h3 => ⟨h1, by show (x 1).val / 256 = 1; omega⟩)) $$ [H6 H10 H7]
  · iframe
  iintro ⟨H6, H10, H7⟩
  iapply (WP_pure 𝒱 c)
  iapply HQ
  iframe
  iapply HS
  iexists _
  iexact H6

theorem slab2_spec (t4 : Fin k0_t4_loop.trips) (a18 v497 : BitVec 32) (q4 q10 : PosShare TreeShare) (cd : ℕ → ℕ → F .fp8e5m2) (sc : ℕ → F .f32) {Q : PUnit → sProp 𝕄} :
    iprop(SlabB c arg4 arg6 arg14 q4 cd t4.val 2 ∗ Owes c ∗ Own c arg10 q10 (scV sc)
        ∗ DqTo c arg7 (dqAt (show S2x2048x3072.Idx → F .fp8e5m2 from chV cd t4.val) (scV sc) (slotF t4)) (fun x => (x 0).val < 32 * 2))
      ⊢ iprop((iprop(SlabA c arg4 arg6 arg14 q4 cd (t4.val + 1) 2 ∗ Owes c ∗ Own c arg10 q10 (scV sc)
        ∗ DqTo c arg7 (dqAt (show S2x2048x3072.Idx → F .fp8e5m2 from chV cd t4.val) (scV sc) (slotF t4)) (fun x => (x 0).val < 32 * (2 + 1))) -∗ Q ⟨⟩)
        -∗ WP 𝒱 c (k0_part131 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 t4 a18) (fun x => WP 𝒱 c (k0_part132 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 t4 v497 x.1 x.2) Q)) := by
  have hk := lt_of_lt_of_eq t4.isLt t4_trips
  iintro ⟨HS, HO, H10, H7⟩ HQ
  unfold k0_part131
  dsimp only
  rw [WP_bind]
  iapply (slab_wait 𝒱 c t4.val hk 2 (off134_eq t4) cd) $$ [HS HO]
  · iframe
  iintro ⟨H6, HO, HS⟩
  iapply (WP_pure 𝒱 c)
  unfold k0_part132
  dsimp only
  rw [WP_bind]
  iapply (dqLoop_spec 𝒱 c (arg6 := arg6) (arg7 := arg7) (arg10 := arg10) t4 2 (by decide) k0_t9_loop (by decide +kernel) k0_t9_ok _ (fun k a => t9_body_eq t4 v497 _ _ k) (show S2x2048x3072.Idx → F .fp8e5m2 from chV cd t4.val) (scV sc)
    (P6 := slabP t4.val 2) (fun x h1 h2 h3 => ⟨h1, by show (x 1).val / 256 = 2; omega⟩)) $$ [H6 H10 H7]
  · iframe
  iintro ⟨H6, H10, H7⟩
  iapply (WP_pure 𝒱 c)
  iapply HQ
  iframe
  iapply HS
  iexists _
  iexact H6

theorem slab3_spec (t4 : Fin k0_t4_loop.trips) (a18 v497 : BitVec 32) (q4 q10 : PosShare TreeShare) (cd : ℕ → ℕ → F .fp8e5m2) (sc : ℕ → F .f32) {Q : PUnit → sProp 𝕄} :
    iprop(SlabB c arg4 arg6 arg14 q4 cd t4.val 3 ∗ Owes c ∗ Own c arg10 q10 (scV sc)
        ∗ DqTo c arg7 (dqAt (show S2x2048x3072.Idx → F .fp8e5m2 from chV cd t4.val) (scV sc) (slotF t4)) (fun x => (x 0).val < 32 * 3))
      ⊢ iprop((iprop(SlabA c arg4 arg6 arg14 q4 cd (t4.val + 1) 3 ∗ Owes c ∗ Own c arg10 q10 (scV sc)
        ∗ DqTo c arg7 (dqAt (show S2x2048x3072.Idx → F .fp8e5m2 from chV cd t4.val) (scV sc) (slotF t4)) (fun x => (x 0).val < 32 * (3 + 1))) -∗ Q ⟨⟩)
        -∗ WP 𝒱 c (k0_part133 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 t4 a18) (fun x => WP 𝒱 c (k0_part134 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 t4 v497 x.1 x.2) Q)) := by
  have hk := lt_of_lt_of_eq t4.isLt t4_trips
  iintro ⟨HS, HO, H10, H7⟩ HQ
  unfold k0_part133
  dsimp only
  rw [WP_bind]
  iapply (slab_wait 𝒱 c t4.val hk 3 (off186_eq t4) cd) $$ [HS HO]
  · iframe
  iintro ⟨H6, HO, HS⟩
  iapply (WP_pure 𝒱 c)
  unfold k0_part134
  dsimp only
  rw [WP_bind]
  iapply (dqLoop_spec 𝒱 c (arg6 := arg6) (arg7 := arg7) (arg10 := arg10) t4 3 (by decide) k0_t10_loop (by decide +kernel) k0_t10_ok _ (fun k a => t10_body_eq t4 v497 _ _ k) (show S2x2048x3072.Idx → F .fp8e5m2 from chV cd t4.val) (scV sc)
    (P6 := slabP t4.val 3) (fun x h1 h2 h3 => ⟨h1, by show (x 1).val / 256 = 3; omega⟩)) $$ [H6 H10 H7]
  · iframe
  iintro ⟨H6, H10, H7⟩
  iapply (WP_pure 𝒱 c)
  iapply HQ
  iframe
  iapply HS
  iexists _
  iexact H6

theorem slab4_spec (t4 : Fin k0_t4_loop.trips) (a18 v497 : BitVec 32) (q4 q10 : PosShare TreeShare) (cd : ℕ → ℕ → F .fp8e5m2) (sc : ℕ → F .f32) {Q : PUnit → sProp 𝕄} :
    iprop(SlabB c arg4 arg6 arg14 q4 cd t4.val 4 ∗ Owes c ∗ Own c arg10 q10 (scV sc)
        ∗ DqTo c arg7 (dqAt (show S2x2048x3072.Idx → F .fp8e5m2 from chV cd t4.val) (scV sc) (slotF t4)) (fun x => (x 0).val < 32 * 4))
      ⊢ iprop((iprop(SlabA c arg4 arg6 arg14 q4 cd (t4.val + 1) 4 ∗ Owes c ∗ Own c arg10 q10 (scV sc)
        ∗ DqTo c arg7 (dqAt (show S2x2048x3072.Idx → F .fp8e5m2 from chV cd t4.val) (scV sc) (slotF t4)) (fun x => (x 0).val < 32 * (4 + 1))) -∗ Q ⟨⟩)
        -∗ WP 𝒱 c (k0_part135 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 t4 a18) (fun x => WP 𝒱 c (k0_part136 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 t4 v497 x.1 x.2) Q)) := by
  have hk := lt_of_lt_of_eq t4.isLt t4_trips
  iintro ⟨HS, HO, H10, H7⟩ HQ
  unfold k0_part135
  dsimp only
  rw [WP_bind]
  iapply (slab_wait 𝒱 c t4.val hk 4 (off238_eq t4) cd) $$ [HS HO]
  · iframe
  iintro ⟨H6, HO, HS⟩
  iapply (WP_pure 𝒱 c)
  unfold k0_part136
  dsimp only
  rw [WP_bind]
  iapply (dqLoop_spec 𝒱 c (arg6 := arg6) (arg7 := arg7) (arg10 := arg10) t4 4 (by decide) k0_t11_loop (by decide +kernel) k0_t11_ok _ (fun k a => t11_body_eq t4 v497 _ _ k) (show S2x2048x3072.Idx → F .fp8e5m2 from chV cd t4.val) (scV sc)
    (P6 := slabP t4.val 4) (fun x h1 h2 h3 => ⟨h1, by show (x 1).val / 256 = 4; omega⟩)) $$ [H6 H10 H7]
  · iframe
  iintro ⟨H6, H10, H7⟩
  iapply (WP_pure 𝒱 c)
  iapply HQ
  iframe
  iapply HS
  iexists _
  iexact H6

theorem slab5_spec (t4 : Fin k0_t4_loop.trips) (a18 v497 : BitVec 32) (q4 q10 : PosShare TreeShare) (cd : ℕ → ℕ → F .fp8e5m2) (sc : ℕ → F .f32) {Q : PUnit → sProp 𝕄} :
    iprop(SlabB c arg4 arg6 arg14 q4 cd t4.val 5 ∗ Owes c ∗ Own c arg10 q10 (scV sc)
        ∗ DqTo c arg7 (dqAt (show S2x2048x3072.Idx → F .fp8e5m2 from chV cd t4.val) (scV sc) (slotF t4)) (fun x => (x 0).val < 32 * 5))
      ⊢ iprop((iprop(SlabA c arg4 arg6 arg14 q4 cd (t4.val + 1) 5 ∗ Owes c ∗ Own c arg10 q10 (scV sc)
        ∗ DqTo c arg7 (dqAt (show S2x2048x3072.Idx → F .fp8e5m2 from chV cd t4.val) (scV sc) (slotF t4)) (fun x => (x 0).val < 32 * (5 + 1))) -∗ Q ⟨⟩)
        -∗ WP 𝒱 c (k0_part137 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 t4 a18) (fun x => WP 𝒱 c (k0_part138 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 t4 v497 x.1 x.2) Q)) := by
  have hk := lt_of_lt_of_eq t4.isLt t4_trips
  iintro ⟨HS, HO, H10, H7⟩ HQ
  unfold k0_part137
  dsimp only
  rw [WP_bind]
  iapply (slab_wait 𝒱 c t4.val hk 5 (off290_eq t4) cd) $$ [HS HO]
  · iframe
  iintro ⟨H6, HO, HS⟩
  iapply (WP_pure 𝒱 c)
  unfold k0_part138
  dsimp only
  rw [WP_bind]
  iapply (dqLoop_spec 𝒱 c (arg6 := arg6) (arg7 := arg7) (arg10 := arg10) t4 5 (by decide) k0_t12_loop (by decide +kernel) k0_t12_ok _ (fun k a => t12_body_eq t4 v497 _ _ k) (show S2x2048x3072.Idx → F .fp8e5m2 from chV cd t4.val) (scV sc)
    (P6 := slabP t4.val 5) (fun x h1 h2 h3 => ⟨h1, by show (x 1).val / 256 = 5; omega⟩)) $$ [H6 H10 H7]
  · iframe
  iintro ⟨H6, H10, H7⟩
  iapply (WP_pure 𝒱 c)
  iapply HQ
  iframe
  iapply HS
  iexists _
  iexact H6

theorem slab6_spec (t4 : Fin k0_t4_loop.trips) (a18 v497 : BitVec 32) (q4 q10 : PosShare TreeShare) (cd : ℕ → ℕ → F .fp8e5m2) (sc : ℕ → F .f32) {Q : PUnit → sProp 𝕄} :
    iprop(SlabB c arg4 arg6 arg14 q4 cd t4.val 6 ∗ Owes c ∗ Own c arg10 q10 (scV sc)
        ∗ DqTo c arg7 (dqAt (show S2x2048x3072.Idx → F .fp8e5m2 from chV cd t4.val) (scV sc) (slotF t4)) (fun x => (x 0).val < 32 * 6))
      ⊢ iprop((iprop(SlabA c arg4 arg6 arg14 q4 cd (t4.val + 1) 6 ∗ Owes c ∗ Own c arg10 q10 (scV sc)
        ∗ DqTo c arg7 (dqAt (show S2x2048x3072.Idx → F .fp8e5m2 from chV cd t4.val) (scV sc) (slotF t4)) (fun x => (x 0).val < 32 * (6 + 1))) -∗ Q ⟨⟩)
        -∗ WP 𝒱 c (k0_part139 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 t4 a18) (fun x => WP 𝒱 c (k0_part140 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 t4 v497 x.1 x.2) Q)) := by
  have hk := lt_of_lt_of_eq t4.isLt t4_trips
  iintro ⟨HS, HO, H10, H7⟩ HQ
  unfold k0_part139
  dsimp only
  rw [WP_bind]
  iapply (slab_wait 𝒱 c t4.val hk 6 (off342_eq t4) cd) $$ [HS HO]
  · iframe
  iintro ⟨H6, HO, HS⟩
  iapply (WP_pure 𝒱 c)
  unfold k0_part140
  dsimp only
  rw [WP_bind]
  iapply (dqLoop_spec 𝒱 c (arg6 := arg6) (arg7 := arg7) (arg10 := arg10) t4 6 (by decide) k0_t13_loop (by decide +kernel) k0_t13_ok _ (fun k a => t13_body_eq t4 v497 _ _ k) (show S2x2048x3072.Idx → F .fp8e5m2 from chV cd t4.val) (scV sc)
    (P6 := slabP t4.val 6) (fun x h1 h2 h3 => ⟨h1, by show (x 1).val / 256 = 6; omega⟩)) $$ [H6 H10 H7]
  · iframe
  iintro ⟨H6, H10, H7⟩
  iapply (WP_pure 𝒱 c)
  iapply HQ
  iframe
  iapply HS
  iexists _
  iexact H6

theorem slab7_spec (t4 : Fin k0_t4_loop.trips) (a18 v497 : BitVec 32) (q4 q10 : PosShare TreeShare) (cd : ℕ → ℕ → F .fp8e5m2) (sc : ℕ → F .f32) {Q : PUnit → sProp 𝕄} :
    iprop(SlabB c arg4 arg6 arg14 q4 cd t4.val 7 ∗ Owes c ∗ Own c arg10 q10 (scV sc)
        ∗ DqTo c arg7 (dqAt (show S2x2048x3072.Idx → F .fp8e5m2 from chV cd t4.val) (scV sc) (slotF t4)) (fun x => (x 0).val < 32 * 7))
      ⊢ iprop((iprop(SlabA c arg4 arg6 arg14 q4 cd (t4.val + 1) 7 ∗ Owes c ∗ Own c arg10 q10 (scV sc)
        ∗ DqTo c arg7 (dqAt (show S2x2048x3072.Idx → F .fp8e5m2 from chV cd t4.val) (scV sc) (slotF t4)) (fun x => (x 0).val < 32 * (7 + 1))) -∗ Q ⟨⟩)
        -∗ WP 𝒱 c (k0_part141 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 t4 a18) (fun x => WP 𝒱 c (k0_part142 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 t4 v497 x.1 x.2) Q)) := by
  have hk := lt_of_lt_of_eq t4.isLt t4_trips
  iintro ⟨HS, HO, H10, H7⟩ HQ
  unfold k0_part141
  dsimp only
  rw [WP_bind]
  iapply (slab_wait 𝒱 c t4.val hk 7 (off394_eq t4) cd) $$ [HS HO]
  · iframe
  iintro ⟨H6, HO, HS⟩
  iapply (WP_pure 𝒱 c)
  unfold k0_part142
  dsimp only
  rw [WP_bind]
  iapply (dqLoop_spec 𝒱 c (arg6 := arg6) (arg7 := arg7) (arg10 := arg10) t4 7 (by decide) k0_t14_loop (by decide +kernel) k0_t14_ok _ (fun k a => t14_body_eq t4 v497 _ _ k) (show S2x2048x3072.Idx → F .fp8e5m2 from chV cd t4.val) (scV sc)
    (P6 := slabP t4.val 7) (fun x h1 h2 h3 => ⟨h1, by show (x 1).val / 256 = 7; omega⟩)) $$ [H6 H10 H7]
  · iframe
  iintro ⟨H6, H10, H7⟩
  iapply (WP_pure 𝒱 c)
  iapply HQ
  iframe
  iapply HS
  iexists _
  iexact H6

/-! ## The blocks past the last segment -/

def zeroV : S8x24x8x128.Idx → F .f32 := fun _ => Scalar.ofBits .f32 0x00000000#32
def zP (nb j : ℕ) : S256x96x8x128.Idx → Prop := fun z => (z 0).val / 8 = nb + j % (32 - nb) ∧ (z 1).val / 24 = j / (32 - nb)
def zU (nb n : ℕ) : S256x96x8x128.Idx → Prop := fun z => nb ≤ (z 0).val / 8 ∧ n ≤ (z 1).val / 24 * (32 - nb) + ((z 0).val / 8 - nb)

/-- What the copy of zero block number `j` delivers. -/
def zD (c : Dev nD) (arg5 : Memref sig .tc .hbm S256x96x8x128 .f32) (arg9 : Memref sig .tc .vmem S8x24x8x128 .f32) (X0 : BufTy.Contents (Elt F) arg9.view.ty) (nb : ℕ) (j : Fin (4 * (32 - nb))) : sProp 𝕄 :=
  iprop(Has c arg5 (zP nb j.val) fullShare (fun _ => Scalar.ofBits .f32 0x00000000#32) ∗ (arg9.view.loc (c : Thread nD τ) ↦[arg9.view.set]{Transfers.shareTokN fullShare j.val} X0))

instance zD_storable (c : Dev nD) (arg5 : Memref sig .tc .hbm S256x96x8x128 .f32) (arg9 : Memref sig .tc .vmem S8x24x8x128 .f32) (X0 : BufTy.Contents (Elt F) arg9.view.ty) (nb : ℕ) (j : Fin (4 * (32 - nb))) :
    BI.Storable (upEmb : UEmb _ 𝕄) (zD c arg5 arg9 X0 nb j) := by
  unfold zD; infer_instance

/-- The zero copies once `n` of them have been started. -/
def ZeroS (c : Dev nD) (arg5 : Memref sig .tc .hbm S256x96x8x128 .f32) (arg9 : Memref sig .tc .vmem S8x24x8x128 .f32) (arg16 : DmaSems sig S_) (X0 : BufTy.Contents (Elt F) arg9.view.ty) (nb n : ℕ) : sProp 𝕄 :=
  iprop((⌜32 ≤ nb⌝ ∗ Cell c arg16.sem ∗ (arg9.view.loc (c : Thread nD τ) ↦[arg9.view.set]{fullShare} X0))
    ∨ (⌜nb < 32⌝ ∗ Bat c arg16.sem (cred arg5 S8x24x8x128) (zD c arg5 arg9 X0 nb) n 0
        ∗ (arg9.view.loc (c : Thread nD τ) ↦[arg9.view.set]{Transfers.shareDrop fullShare n} X0) ∗ Any (F := F) c arg5 (zU nb n)))

section
variable {sp sp' : Space} {s : Shape} {e : EltTy}
theorem batch_start_src {n : ℕ} {D : Fin n → sProp 𝕄} {src : Memref sig .tc sp s e} {dst : Memref sig .tc sp' s e} {sm : DmaSem sig} {q : PosShare TreeShare}
    {hsrc : src.view.WordExact} {hdst : dst.view.WordExact} {hsem : (DmaTarget.here dst : DmaTarget nD τ sig (.tc : Proc τ) sp' s e).Typed sp (.dma sm)}
    {Q : PUnit → sProp 𝕄} (N : ℕ) (hN : dst.view.dmaCredit = N) (X : BufTy.Contents (Elt F) src.view.ty) {g0 g : s.Idx → Elt F e} (hX : src.view.read (Elt F) X = g) {j u : ℕ} (hj : j < n) (hu : u ≤ j * N)
    (hD : iprop(Own c dst fullShare g ∗ (src.view.loc (c : Thread nD τ) ↦[src.view.set]{q} X)) ⊢ D ⟨j, hj⟩) :
    iprop((src.view.loc (c : Thread nD τ) ↦[src.view.set]{q} X) ∗ Own c dst fullShare g0 ∗ Bat c sm N D j u)
      ⊢ iprop((Bat c sm N D (j + 1) u -∗ Q ⟨⟩)
        -∗ WP 𝒱 c (Prog.lift (.enqueueDma src (.here dst) (.dma sm) hsrc hdst hsem)) Q) := by
  subst hX
  iintro ⟨Hs, Hd, Hv⟩ HQ
  ihave Hd := Own.to_pointsTo $$ Hd
  icases Hd with ⟨%Y, %hY, Hd⟩
  have hl : (dst.view.loc (c : Thread nD τ) ↦[dst.view.set]{fullShare} (dst.view.write (Elt F) Y ((ReadAs.same : ReadAs (Elt F) s e s e).apply (src.view.read (Elt F) X)) Finset.univ) : sProp 𝕄) ⊢ Own c dst fullShare (src.view.read (Elt F) X) := by
    refine (Own.of_pointsTo _).trans (Entails.of_eq ?_)
    rw [View.read_write_univ]
  iapply (Transfers.wp_dmaBatch (countersEmb (U := UD sig nD τ)) 𝒱 (c : Thread nD τ) none (src := src) (dst := dst) (sm := .dma sm) () N hN (Finset.Subset.refl _) hj hu
    (BIBase.Entails.trans (BIClass.sep_mono hl BIBase.Entails.rfl) hD)) $$ [Hs Hd Hv]
  · isplitl [Hs]; · iexact Hs
    isplitl [Hd]; · iexact Hd
    iexact Hv
  iintro HF
  iapply (le_wp_ret _ _ _ _ _)
  iapply HQ
  iexact HF
end

theorem zdiv {m k t : ℕ} (h : t < m) : (k * m + t) % m = t ∧ (k * m + t) / m = k := by
  constructor
  · rw [Nat.mul_comm, Nat.mul_add_mod, Nat.mod_eq_of_lt h]
  · rw [Nat.mul_comm, Nat.mul_add_div (by omega), Nat.div_eq_of_lt h]; rfl

theorem zP_mem {nb k t : ℕ} (h : t < 32 - nb) {off : Fin 4 → ℕ} {hb : ∀ a, off a + S8x24x8x128.size a ≤ S256x96x8x128.size a} (e : off = ![(nb + t) * 8, k * 24, 0, 0]) (z : S256x96x8x128.Idx) :
    zP nb (k * (32 - nb) + t) z ↔ z ∈ (Rect.unit (s := S256x96x8x128) off S8x24x8x128.size hb).set := by
  subst e
  have hz := zdiv (k := k) h
  rw [mem_unit, Fin.forall_fin_succ, Fin.forall_fin_succ, Fin.forall_fin_succ, Fin.forall_fin_succ]
  show _ ↔ ((nb + t) * 8 ≤ (z 0).val ∧ (z 0).val < (nb + t) * 8 + 8) ∧ (k * 24 ≤ (z 1).val ∧ (z 1).val < k * 24 + 24) ∧ (0 ≤ (z 2).val ∧ (z 2).val < 0 + 8) ∧ (0 ≤ (z 3).val ∧ (z 3).val < 0 + 128) ∧ _
  have h2 : (z 2).val < 8 := (z 2).isLt
  have h3 : (z 3).val < 128 := (z 3).isLt
  unfold zP
  rw [hz.1, hz.2]
  constructor
  · rintro ⟨h4, h5⟩
    exact ⟨by omega, by omega, by omega, by omega, fun a => a.elim0⟩
  · rintro ⟨h4, h5, _⟩
    exact ⟨by omega, by omega⟩

theorem zU_split {nb k t : ℕ} (h : t < 32 - nb) (z : S256x96x8x128.Idx) :
    zU nb (k * (32 - nb) + t) z ↔ (zP nb (k * (32 - nb) + t) z ∨ zU nb (k * (32 - nb) + t + 1) z) := by
  have hz := zdiv (k := k) h
  unfold zU zP
  rw [hz.1, hz.2]
  have h0 : (z 0).val < 256 := (z 0).isLt
  constructor
  · rintro ⟨h1, h2⟩
    by_cases h3 : k * (32 - nb) + t + 1 ≤ (z 1).val / 24 * (32 - nb) + ((z 0).val / 8 - nb)
    · exact .inr ⟨h1, h3⟩
    · have := step_inj (nb := 32 - nb) (k := (z 1).val / 24) (k' := k) (b := (z 0).val / 8 - nb) (b' := t) (by omega) h (by omega)
      exact .inl ⟨by omega, this.1⟩
  · rintro (⟨h1, h2⟩ | ⟨h1, h2⟩)
    · rw [h2, h1]; exact ⟨by omega, by omega⟩
    · exact ⟨h1, by omega⟩

theorem part124_spec (v49 : BitVec 32) (h : v49.toNat ≤ 2048) (hw2 : k0_chk2 v49) (v68 : BitVec 32) (t4 : Fin k0_t4_loop.trips) (a18 c0 c1 : BitVec 32) (X0 : BufTy.Contents (Elt F) arg9.view.ty)
    (hX0 : arg9.view.read (Elt F) X0 = (show S8x24x8x128.Idx → Elt F .f32 from zeroV)) {Q : BitVec 32 → sProp 𝕄} :
    ZeroS c arg5 arg9 arg16 X0 ((v49.toNat + 63) / 64) (t4.val * (32 - (v49.toNat + 63) / 64))
      ⊢ iprop((∀ r, ZeroS c arg5 arg9 arg16 X0 ((v49.toNat + 63) / 64) ((t4.val + 1) * (32 - (v49.toNat + 63) / 64)) -∗ Q r)
        -∗ WP 𝒱 c (k0_part124 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v49 hw2 v68 t4 a18 c0 c1) Q) := by
  have hk := lt_of_lt_of_eq t4.isLt t4_trips
  unfold k0_part124
  dsimp only
  iintro H HQ
  iapply (loop_rule 𝒱 c (k0_t5_loop v49) (k0_t5_ok v49 hw2) c0 _
    (fun t _ => ZeroS c arg5 arg9 arg16 X0 ((v49.toNat + 63) / 64) (t4.val * (32 - (v49.toNat + 63) / 64) + t)) (fun t a => by
      have ht := lt_of_lt_of_eq t.isLt (t5_trips v49 h)
      have e := off28_eq v49 h t4 t
      generalize hnb : (v49.toNat + 63) / 64 = nb at *
      have hj : t4.val * (32 - nb) + t.val < 4 * (32 - nb) := by
        have : (t4.val + 1) * (32 - nb) ≤ 4 * (32 - nb) := Nat.mul_le_mul (by omega) (le_refl _)
        rw [Nat.succ_mul] at this
        omega
      unfold ZeroS
      iintro (⟨%h1, H⟩ | ⟨%h1, HB, H9, H5⟩)
      · exfalso; omega
      · rw [WP_bind]
        ihave H5 := (Any.split (zU_split ht) (fun z h2 h3 => by
          have hz := zdiv (k := t4.val) ht
          unfold zP zU at *
          rw [hz.1, hz.2] at h2
          rw [h2.2, h2.1] at h3
          omega)) $$ H5
        icases H5 with ⟨⟨%g5, H5⟩, H5'⟩
        ihave H9 := (pointsTo_share (PosShare.mem_left_op_right _)).1 $$ H9
        icases H9 with ⟨H9, H9t⟩
        iapply (batch_start_src 𝒱 c (n := 4 * (32 - nb)) (D := zD c arg5 arg9 X0 nb) (src := arg9) (g := show S8x24x8x128.Idx → Elt F .f32 from zeroV) (q := Transfers.shareTokN fullShare (t4.val * (32 - nb) + t.val))
          (g0 := show S8x24x8x128.Idx → Elt F .f32 from fun y => g5 ((Rect.unit (s := S256x96x8x128) (k0_off28 v49 t4 t) S8x24x8x128.size (k0_off28_inb v49 hw2 t4 t)).emb y)) (cred arg5 S8x24x8x128) rfl X0 hX0 hj (Nat.zero_le _) (by
            unfold zD
            refine BIClass.sep_mono ?_ BIBase.Entails.rfl
            exact Has.of_window' (m := arg5) _ (fun _ => rfl) (zP_mem ht e) (fun _ => rfl))) $$ [HB H9t H5]
        · isplitl [H9t]
          · iexact H9t
          isplitl [H5]
          · iapply (Has.to_window' (m := arg5) _ (fun _ => rfl) (zP_mem ht e) (fun _ => rfl)) $$ H5
          · iexact HB
        iintro HB
        iapply (WP_pure 𝒱 c)
        iright
        iframe
        isplitr [H9]
        · ipureintro; exact h1
        · iexact H9)) $$ [H]
  · iexact H
  · iintro %acc H
    iapply HQ
    rw [t5_trips v49 h, ← Nat.succ_mul]
    iexact H

/-! ## The blocks of one chunk -/

/-- What has to be known of the index lists for block `b` of chunk `t4`. -/
def BlkOk (v49 v370 : BitVec 32) (so : S2049.Idx → Elt F .i32) (sw dw : ℕ → BitVec 32) (tk : ℕ → ℕ) (X : ℕ → ℕ → ℕ → F .f32) (O : ℕ → ℕ → ℕ → F .f32) (G : Prop) (t4 : ℕ) (t15 : Fin (k0_t15_loop v49).trips) : Prop :=
  ∃ (w593 w602 : BitVec 32) (p0 p1 : ℕ) (lc : ℕ → ℕ), (∀ i : S2049.Idx, (i 0).val = t15.val * 64 → so i = w593) ∧ (∀ i : S2049.Idx, (i 0).val = (t15.val + 1) * 64 → so i = w602)
    ∧ (p0W v370 t15 w593).toNat = p0 ∧ w602.toNat = p1 ∧ p0 ≤ p1 ∧ p1 ≤ 2048
    ∧ (∀ q, p0 ≤ q → q < p0 + 8 * ((p1 - p0 + 7) / 8) → PosOk sw dw tk lc t15 q)
    ∧ (G → ∀ z : S6912x128.Idx, zRow z < 64 → stD lc p0 (fun _ => k0_cond3 v49 t15 = 1#1) (8 * ((p1 - p0 + 7) / 8)) z
      ∧ stV sw tk lc X p0 (fun _ => Scalar.ofBits .f32 0x00000000#32) (8 * ((p1 - p0 + 7) / 8)) z = O (64 * t15.val + zRow z) (24 * t4 + zTile z) (z 1).val)

theorem blkLoop_spec (v49 : BitVec 32) (h : v49.toNat ≤ 2048) (hw2 : k0_chk2 v49) (v370 : BitVec 32) (t4 : Fin k0_t4_loop.trips) (a18 : BitVec 32)
    {q0 : PosShare TreeShare} (so : S2049.Idx → Elt F .i32) (sw dw : ℕ → BitVec 32) (tk : ℕ → ℕ) (X : ℕ → ℕ → ℕ → F .f32) (O : ℕ → ℕ → ℕ → F .f32) (G : Prop)
    (hok : ∀ t15, BlkOk v49 v370 so sw dw tk X O G t4.val t15) {Q : BitVec 32 → sProp 𝕄} :
    iprop(Own c arg0 q0 so ∗ Own c arg12 fullShare (wordsAt sw) ∗ Own c arg13 fullShare (wordsAt dw) ∗ Own c arg7 fullShare (X4 X) ∗ Owes c
        ∗ RingS c arg5 arg8 arg15 O G ((v49.toNat + 63) / 64) (t4.val * ((v49.toNat + 63) / 64)))
      ⊢ iprop((∀ r, iprop(Own c arg0 q0 so ∗ Own c arg12 fullShare (wordsAt sw) ∗ Own c arg13 fullShare (wordsAt dw) ∗ Own c arg7 fullShare (X4 X) ∗ Owes c
        ∗ RingS c arg5 arg8 arg15 O G ((v49.toNat + 63) / 64) ((t4.val + 1) * ((v49.toNat + 63) / 64))) -∗ Q r)
        -∗ WP 𝒱 c (blkLoop (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v49 hw2 v370 t4 a18) Q) := by
  unfold blkLoop
  iintro H HQ
  iapply (loop_rule 𝒱 c (k0_t15_loop v49) (k0_t15_ok v49 hw2) 0#32 _
    (fun t _ => iprop(Own c arg0 q0 so ∗ Own c arg12 fullShare (wordsAt sw) ∗ Own c arg13 fullShare (wordsAt dw) ∗ Own c arg7 fullShare (X4 X) ∗ Owes c
        ∗ RingS c arg5 arg8 arg15 O G ((v49.toNat + 63) / 64) (t4.val * ((v49.toNat + 63) / 64) + t))) (fun t a => by
      obtain ⟨w593, w602, p0, p1, lc, e1, e2, e3, e4, e5, e6, e7, e8⟩ := hok t
      iintro H
      iapply (blk_spec 𝒱 c v49 h hw2 v370 t4 a18 t so w593 w602 e1 e2 p0 p1 e3 e4 e5 e6 sw dw tk lc X e7 O G e8) $$ H
      iintro H
      iexact H)) $$ [H]
  · iexact H
  · iintro %acc H
    iapply HQ
    rw [t15_trips v49 h, ← Nat.succ_mul]
    iexact H

end Cert.KernelIdeal.Emb
-- ==== Proof.KernelIdeal.ChunkLoop.lean ====
module

public import proofs.«01_k».proof.Proof.KernelIdeal.Chunk

@[expose] public section

noncomputable section

namespace Cert.KernelIdeal.Emb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]
local notation "𝕄" => MT nD τ sig Unit (Elt F) ℕ (UD sig nD τ) ℕ
variable (𝒱 : Variants) (c : Dev nD)
variable {arg0 : Memref sig .tc .smem S2049 .i32} {harg0 : arg0.IsWhole} {arg1 : Memref sig .tc .vmem S16x128 .i32} {harg1 : arg1.IsWhole} {arg2 : Memref sig .tc .vmem S2x1024 .i32} {harg2 : arg2.IsWhole} {arg3 : Memref sig .tc .vmem S2x1024 .f32} {harg3 : arg3.IsWhole} {arg4 : Memref sig .tc .hbm S2x1024x12288 .fp8e5m2} {harg4 : arg4.IsWhole} {arg5 : Memref sig .tc .hbm S256x96x8x128 .f32} {harg5 : arg5.IsWhole} {arg6 : Memref sig .tc .vmem S2x2048x3072 .fp8e5m2} {harg6 : arg6.IsWhole} {arg7 : Memref sig .tc .vmem S256x24x8x128 .f32} {harg7 : arg7.IsWhole} {arg8 : Memref sig .tc .vmem S4x9x24x8x128 .f32} {harg8 : arg8.IsWhole} {arg9 : Memref sig .tc .vmem S8x24x8x128 .f32} {harg9 : arg9.IsWhole} {arg10 : Memref sig .tc .vmem S2048x128 .f32} {harg10 : arg10.IsWhole} {arg11 : Memref sig .tc .vmem S2x17x128 .i32} {harg11 : arg11.IsWhole} {arg12 : Memref sig .tc .smem S2176 .i32} {harg12 : arg12.IsWhole} {arg13 : Memref sig .tc .smem S2176 .i32} {harg13 : arg13.IsWhole} {arg14 : DmaSems sig S2x8} {arg15 : DmaSems sig S4} {arg16 : DmaSems sig S_} {arg17 : DmaSems sig S_}

/-! # The chunk loop, and the last waits -/

/-- The kernel's state before chunk `k`. -/
def ChunkS (c : Dev nD) (arg0 : Memref sig .tc .smem S2049 .i32) (arg4 : Memref sig .tc .hbm S2x1024x12288 .fp8e5m2) (arg5 : Memref sig .tc .hbm S256x96x8x128 .f32) (arg6 : Memref sig .tc .vmem S2x2048x3072 .fp8e5m2)
    (arg7 : Memref sig .tc .vmem S256x24x8x128 .f32) (arg8 : Memref sig .tc .vmem S4x9x24x8x128 .f32) (arg9 : Memref sig .tc .vmem S8x24x8x128 .f32) (arg10 : Memref sig .tc .vmem S2048x128 .f32)
    (arg12 arg13 : Memref sig .tc .smem S2176 .i32) (arg14 : DmaSems sig S2x8) (arg15 : DmaSems sig S4) (arg16 : DmaSems sig S_) (q0 q4 q10 : PosShare TreeShare) (so : S2049.Idx → Elt F .i32) (sw dw : ℕ → BitVec 32)
    (cd : ℕ → ℕ → F .fp8e5m2) (sc : ℕ → F .f32) (O : ℕ → ℕ → ℕ → F .f32) (G : Prop) (X0 : BufTy.Contents (Elt F) arg9.view.ty) (nb k : ℕ) : sProp 𝕄 :=
  iprop(Own c arg0 q0 so ∗ Own c arg12 fullShare (wordsAt sw) ∗ Own c arg13 fullShare (wordsAt dw) ∗ Own c arg10 q10 (scV sc) ∗ Any (F := F) c arg7 (fun _ => True) ∗ Owes c
    ∗ RingS c arg5 arg8 arg15 O G nb (k * nb) ∗ Each8 (fun i => SlabA c arg4 arg6 arg14 q4 cd k i) ∗ ZeroS c arg5 arg9 arg16 X0 nb (k * (32 - nb)))

theorem dq_none (val : S256x24x8x128.Idx → F .f32) : Any (F := F) c arg7 (fun _ => True) ⊢ DqTo c arg7 val (fun x => (x 0).val < 32 * 0) := by
  unfold DqTo
  iintro ⟨%g, H⟩
  iexists g
  iframe
  ipureintro
  intro x hx
  exact absurd hx (by omega)

set_option maxHeartbeats 4000000 in
theorem part170_spec (v49 : BitVec 32) (h : v49.toNat ≤ 2048) (hw2 : k0_chk2 v49) (v370 : BitVec 32) {q0 q4 q10 : PosShare TreeShare} (so : S2049.Idx → Elt F .i32) (sw dw : ℕ → BitVec 32) (tk : ℕ → ℕ)
    (cd : ℕ → ℕ → F .fp8e5m2) (sc : ℕ → F .f32) (O : ℕ → ℕ → ℕ → F .f32) (G : Prop) (X0 : BufTy.Contents (Elt F) arg9.view.ty) (hX0 : arg9.view.read (Elt F) X0 = (show S8x24x8x128.Idx → Elt F .f32 from zeroV))
    (hok : ∀ k, k < 4 → ∀ t15, BlkOk v49 v370 so sw dw tk (dqX cd sc k) O G k t15) {Q : PUnit → sProp 𝕄} :
    ChunkS c arg0 arg4 arg5 arg6 arg7 arg8 arg9 arg10 arg12 arg13 arg14 arg15 arg16 q0 q4 q10 so sw dw cd sc O G X0 ((v49.toNat + 63) / 64) 0
      ⊢ iprop((ChunkS c arg0 arg4 arg5 arg6 arg7 arg8 arg9 arg10 arg12 arg13 arg14 arg15 arg16 q0 q4 q10 so sw dw cd sc O G X0 ((v49.toNat + 63) / 64) 4 -∗ Q ⟨⟩)
        -∗ WP 𝒱 c (k0_part170 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v49 hw2 (nbW v49) v370 0#32 1#32) Q) := by
  unfold k0_part170
  rw [WP_bind]
  iintro H HQ
  iapply (loop_rule 𝒱 c k0_t4_loop k0_t4_ok ⟨⟩ _
    (fun k _ => ChunkS c arg0 arg4 arg5 arg6 arg7 arg8 arg9 arg10 arg12 arg13 arg14 arg15 arg16 q0 q4 q10 so sw dw cd sc O G X0 ((v49.toNat + 63) / 64) k) (fun t4 a => by
      have hk := lt_of_lt_of_eq t4.isLt t4_trips
      simp only [WP_bind]
      unfold ChunkS
      iintro ⟨H0, H12, H13, H10, H7, HO, HR, HS, HZ⟩
      unfold k0_part121
      dsimp only
      iapply (WP_pure 𝒱 c)
      iapply (part122_spec 𝒱 c t4 _ _ q4 cd) $$ HS
      iintro HS
      unfold k0_part123
      dsimp only
      iapply (WP_pure 𝒱 c)
      iapply (part124_spec 𝒱 c v49 h hw2 _ t4 _ _ _ X0 hX0) $$ HZ
      iintro %r HZ
      unfold k0_part125
      dsimp only
      iapply (WP_pure 𝒱 c)
      unfold k0_part126
      dsimp only
      rw [WP_bind]
      iapply (loop_zero 𝒱 c _ _ _ _ (t6_trips v49 h))
      iapply (WP_pure 𝒱 c)
      unfold Each8
      icases HS with ⟨HS0, HS1, HS2, HS3, HS4, HS5, HS6, HS7⟩
      ihave H7 := (dq_none c (dqAt (show S2x2048x3072.Idx → F .fp8e5m2 from chV cd t4.val) (scV sc) (slotF t4))) $$ H7
      iapply (slab0_spec 𝒱 c t4 _ _ q4 q10 cd sc) $$ [HS0 HO H10 H7]
      · iframe
      iintro ⟨HS0, HO, H10, H7⟩
      iapply (slab1_spec 𝒱 c t4 _ _ q4 q10 cd sc) $$ [HS1 HO H10 H7]
      · iframe
      iintro ⟨HS1, HO, H10, H7⟩
      iapply (slab2_spec 𝒱 c t4 _ _ q4 q10 cd sc) $$ [HS2 HO H10 H7]
      · iframe
      iintro ⟨HS2, HO, H10, H7⟩
      iapply (slab3_spec 𝒱 c t4 _ _ q4 q10 cd sc) $$ [HS3 HO H10 H7]
      · iframe
      iintro ⟨HS3, HO, H10, H7⟩
      iapply (slab4_spec 𝒱 c t4 _ _ q4 q10 cd sc) $$ [HS4 HO H10 H7]
      · iframe
      iintro ⟨HS4, HO, H10, H7⟩
      iapply (slab5_spec 𝒱 c t4 _ _ q4 q10 cd sc) $$ [HS5 HO H10 H7]
      · iframe
      iintro ⟨HS5, HO, H10, H7⟩
      iapply (slab6_spec 𝒱 c t4 _ _ q4 q10 cd sc) $$ [HS6 HO H10 H7]
      · iframe
      iintro ⟨HS6, HO, H10, H7⟩
      iapply (slab7_spec 𝒱 c t4 _ _ q4 q10 cd sc) $$ [HS7 HO H10 H7]
      · iframe
      iintro ⟨HS7, HO, H10, H7⟩
      unfold k0_part143
      dsimp only
      iapply (WP_pure 𝒱 c)
      rw [part144_eq]
      ihave H7 := (dq_all c cd sc t4) $$ H7
      iapply (blkLoop_spec 𝒱 c v49 h hw2 v370 t4 _ so sw dw tk (dqX cd sc t4.val) O G (hok t4.val hk)) $$ [H0 H12 H13 H7 HO HR]
      · iframe
      iintro %r2 ⟨H0, H12, H13, H7, HO, HR⟩
      unfold k0_part145
      dsimp only
      iapply (WP_pure 𝒱 c)
      unfold k0_part146
      dsimp only
      rw [WP_bind]
      iapply (loop_zero 𝒱 c _ _ _ _ (t18_trips v49 h))
      iapply (WP_pure 𝒱 c)
      iapply (WP_pure 𝒱 c)
      isplitl [H0]
      · iexact H0
      isplitl [H12]
      · iexact H12
      isplitl [H13]
      · iexact H13
      isplitl [H10]
      · iexact H10
      isplitl [H7]
      · iexists _
        iexact H7
      isplitl [HO]
      · iexact HO
      isplitl [HR]
      · iexact HR
      isplitr [HZ]
      · isplitl [HS0]
        · iexact HS0
        isplitl [HS1]
        · iexact HS1
        isplitl [HS2]
        · iexact HS2
        isplitl [HS3]
        · iexact HS3
        isplitl [HS4]
        · iexact HS4
        isplitl [HS5]
        · iexact HS5
        isplitl [HS6]
        · iexact HS6
        iexact HS7
      · iexact HZ)) $$ [H]
  · iexact H
  · iintro %acc H
    iapply (WP_pure 𝒱 c)
    iapply HQ
    rw [t4_trips]
    iexact H

/-! ## The last waits on the ring -/

theorem drW (v49 : BitVec 32) (h : v49.toNat ≤ 2048) (r : ℕ) (hr : r < 4) :
    Scalar.cmpi .ne (Scalar.extui (Scalar.cmpi .sgt (Scalar.muli 4#32 (nbW v49)) (BitVec.ofNat 32 r)) : BitVec 32) 0#32 = 1#1 ↔ r < 4 * ((v49.toNat + 63) / 64) := by
  have h1 : (Scalar.muli 4#32 (nbW v49)).toNat = 4 * ((v49.toNat + 63) / 64) := by
    rw [muli_toNat _ _ (by rw [nbW_toNat v49 h]; simp; omega), nbW_toNat v49 h]; rfl
  have h2 : (BitVec.ofNat 32 r).toNat = r := by rw [BitVec.toNat_ofNat]; omega
  have e : Scalar.cmpi .sgt (Scalar.muli 4#32 (nbW v49)) (BitVec.ofNat 32 r) = BitVec.ofBool (decide (r < 4 * ((v49.toNat + 63) / 64))) := by
    show BitVec.ofBool ((BitVec.ofNat 32 r).slt (Scalar.muli 4#32 (nbW v49))) = _
    rw [slt_small _ _ (by omega) (by omega), h1, h2]
  rw [e]
  by_cases hd : r < 4 * ((v49.toNat + 63) / 64)
  · simp [hd]; decide
  · simp [hd]; decide

theorem done_last {nb : ℕ} (r : ℕ) (h : nb = 0) (z : S256x96x8x128.Idx) (s s' : ℕ) : doneP nb s z ↔ doneP nb s' z := by
  unfold doneP
  subst h
  constructor <;> exact fun h => absurd h.1 (Nat.not_lt_zero _)

theorem done_next {nb k b r : ℕ} (hb : b < nb) (hr : r < 4) (h2 : k * nb + b < 4 * nb) (h3 : 4 * nb ≤ k * nb + b + 4) (h5 : (k * nb + b) % 4 = r) :
    (∀ z : S256x96x8x128.Idx, doneP nb (4 * nb + r + 1) z ↔ (doneP nb (4 * nb + r) z ∨ blkP k b z)) ∧ (∀ z : S256x96x8x128.Idx, doneP nb (4 * nb + r) z → ¬ blkP k b z) := by
  have hj : k * nb + b + 4 = 4 * nb + r := by omega
  unfold doneP blkP
  refine ⟨fun z => ?_, fun z => ?_⟩
  · constructor
    · rintro ⟨h6, h7⟩
      by_cases h8 : (z 1).val / 24 * nb + (z 0).val / 8 + 4 < 4 * nb + r
      · exact .inl ⟨h6, h8⟩
      · have := step_inj (k := (z 1).val / 24) (k' := k) h6 hb (by omega)
        exact .inr ⟨this.2, this.1⟩
    · rintro (⟨h6, h7⟩ | ⟨h6, h7⟩)
      · exact ⟨h6, by omega⟩
      · rw [h6, h7]; exact ⟨hb, by omega⟩
  · rintro ⟨h6, h7⟩ ⟨h8, h9⟩
    rw [h8, h9] at h7
    omega

theorem drain0_spec (v49 : BitVec 32) (h : v49.toNat ≤ 2048) (O : ℕ → ℕ → ℕ → F .f32) (G : Prop) {Q : PUnit → sProp 𝕄} :
    iprop(Slot c arg5 arg8 arg15 O G ((v49.toNat + 63) / 64) (4 * ((v49.toNat + 63) / 64)) 0 ∗ To c arg5 (doneP ((v49.toNat + 63) / 64) (4 * ((v49.toNat + 63) / 64) + 0)) (OutV O) (fun _ => G) ∗ Owes c)
      ⊢ iprop((iprop(Idle (F := F) c arg8 arg15 0 ∗ To c arg5 (doneP ((v49.toNat + 63) / 64) (4 * ((v49.toNat + 63) / 64) + 0 + 1)) (OutV O) (fun _ => G) ∗ Owes c) -∗ Q ⟨⟩)
        -∗ WP 𝒱 c (k0_part171 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 (nbW v49)) (fun v => WP 𝒱 c (k0_part172 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v) Q)) := by
  have hc := drW v49 h 0 (by decide)
  generalize hnb : (v49.toNat + 63) / 64 = nb at *
  iintro ⟨HS, HD, HO⟩ HQ
  unfold k0_part171
  dsimp only
  iapply (WP_pure 𝒱 c)
  unfold k0_part172
  dsimp only
  unfold Slot
  icases HS with (⟨%h1, H⟩ | ⟨%k, %b, %h1, H⟩)
  · have h1' : 4 * nb ≤ 0 := h1
    have hn : ¬ 0 < 4 * nb := by omega
    rw [if_neg (fun hh => hn (hc.mp hh))]
    iapply (WP_pure 𝒱 c)
    iapply HQ
    iframe
    iapply (To.congr c (fun z => done_last 0 (by omega) z _ _)) $$ HD
  · obtain ⟨hb, h2, h3, h5⟩ := h1
    have hn : 0 < 4 * nb := by omega
    have hD := done_next (r := 0) hb (by decide) h2 h3 h5
    rw [if_pos (hc.mpr hn)]
    unfold Busy
    icases H with ⟨HF, Hdump⟩
    have hsm : ∀ {hh : ∀ a, (![0] : Fin 1 → ℕ) a + S1.size a ≤ S4.size a}, ((arg15.slice (Rect.unit (s := S4) ![0] S1.size hh)).squeeze S_ squeezes_S1_S_).sem = sem15 arg15 (0 : Fin 4).val (Fin.isLt _) :=
      sem15_eq arg15 0 (by decide) rfl
    rw [WP_bind, hsm]
    iapply (wait_rule 𝒱 (c := c) (N := cred arg5 S8x24x8x128) rfl) $$ [HF HO]
    · iframe
    iintro ⟨⟨HB, Hbody⟩, HC, HO⟩
    iapply (WP_pure 𝒱 c)
    iapply HQ
    unfold Idle
    iframe
    isplitl [Hbody Hdump]
    · iapply (Any.join (slot_split 0) (slot_disj 0)) $$ [Hbody Hdump]
      isplitl [Hbody]
      · iexact Hbody
      · iexact Hdump
    · iapply (To.join c hD.1 hD.2) $$ [HD HB]
      iframe

theorem drain1_spec (v49 : BitVec 32) (h : v49.toNat ≤ 2048) (O : ℕ → ℕ → ℕ → F .f32) (G : Prop) {Q : PUnit → sProp 𝕄} :
    iprop(Slot c arg5 arg8 arg15 O G ((v49.toNat + 63) / 64) (4 * ((v49.toNat + 63) / 64)) 1 ∗ To c arg5 (doneP ((v49.toNat + 63) / 64) (4 * ((v49.toNat + 63) / 64) + 1)) (OutV O) (fun _ => G) ∗ Owes c)
      ⊢ iprop((iprop(Idle (F := F) c arg8 arg15 1 ∗ To c arg5 (doneP ((v49.toNat + 63) / 64) (4 * ((v49.toNat + 63) / 64) + 1 + 1)) (OutV O) (fun _ => G) ∗ Owes c) -∗ Q ⟨⟩)
        -∗ WP 𝒱 c (k0_part173 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 (nbW v49)) (fun v => WP 𝒱 c (k0_part174 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v) Q)) := by
  have hc := drW v49 h 1 (by decide)
  generalize hnb : (v49.toNat + 63) / 64 = nb at *
  iintro ⟨HS, HD, HO⟩ HQ
  unfold k0_part173
  dsimp only
  iapply (WP_pure 𝒱 c)
  unfold k0_part174
  dsimp only
  unfold Slot
  icases HS with (⟨%h1, H⟩ | ⟨%k, %b, %h1, H⟩)
  · have h1' : 4 * nb ≤ 1 := h1
    have hn : ¬ 1 < 4 * nb := by omega
    rw [if_neg (fun hh => hn (hc.mp hh))]
    iapply (WP_pure 𝒱 c)
    iapply HQ
    iframe
    iapply (To.congr c (fun z => done_last 1 (by omega) z _ _)) $$ HD
  · obtain ⟨hb, h2, h3, h5⟩ := h1
    have hn : 1 < 4 * nb := by omega
    have hD := done_next (r := 1) hb (by decide) h2 h3 h5
    rw [if_pos (hc.mpr hn)]
    unfold Busy
    icases H with ⟨HF, Hdump⟩
    have hsm : ∀ {hh : ∀ a, (![1] : Fin 1 → ℕ) a + S1.size a ≤ S4.size a}, ((arg15.slice (Rect.unit (s := S4) ![1] S1.size hh)).squeeze S_ squeezes_S1_S_).sem = sem15 arg15 (1 : Fin 4).val (Fin.isLt _) :=
      sem15_eq arg15 1 (by decide) rfl
    rw [WP_bind, hsm]
    iapply (wait_rule 𝒱 (c := c) (N := cred arg5 S8x24x8x128) rfl) $$ [HF HO]
    · iframe
    iintro ⟨⟨HB, Hbody⟩, HC, HO⟩
    iapply (WP_pure 𝒱 c)
    iapply HQ
    unfold Idle
    iframe
    isplitl [Hbody Hdump]
    · iapply (Any.join (slot_split 1) (slot_disj 1)) $$ [Hbody Hdump]
      isplitl [Hbody]
      · iexact Hbody
      · iexact Hdump
    · iapply (To.join c hD.1 hD.2) $$ [HD HB]
      iframe

theorem drain2_spec (v49 : BitVec 32) (h : v49.toNat ≤ 2048) (O : ℕ → ℕ → ℕ → F .f32) (G : Prop) {Q : PUnit → sProp 𝕄} :
    iprop(Slot c arg5 arg8 arg15 O G ((v49.toNat + 63) / 64) (4 * ((v49.toNat + 63) / 64)) 2 ∗ To c arg5 (doneP ((v49.toNat + 63) / 64) (4 * ((v49.toNat + 63) / 64) + 2)) (OutV O) (fun _ => G) ∗ Owes c)
      ⊢ iprop((iprop(Idle (F := F) c arg8 arg15 2 ∗ To c arg5 (doneP ((v49.toNat + 63) / 64) (4 * ((v49.toNat + 63) / 64) + 2 + 1)) (OutV O) (fun _ => G) ∗ Owes c) -∗ Q ⟨⟩)
        -∗ WP 𝒱 c (k0_part175 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 (nbW v49)) (fun v => WP 𝒱 c (k0_part176 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v) Q)) := by
  have hc := drW v49 h 2 (by decide)
  generalize hnb : (v49.toNat + 63) / 64 = nb at *
  iintro ⟨HS, HD, HO⟩ HQ
  unfold k0_part175
  dsimp only
  iapply (WP_pure 𝒱 c)
  unfold k0_part176
  dsimp only
  unfold Slot
  icases HS with (⟨%h1, H⟩ | ⟨%k, %b, %h1, H⟩)
  · have h1' : 4 * nb ≤ 2 := h1
    have hn : ¬ 2 < 4 * nb := by omega
    rw [if_neg (fun hh => hn (hc.mp hh))]
    iapply (WP_pure 𝒱 c)
    iapply HQ
    iframe
    iapply (To.congr c (fun z => done_last 2 (by omega) z _ _)) $$ HD
  · obtain ⟨hb, h2, h3, h5⟩ := h1
    have hn : 2 < 4 * nb := by omega
    have hD := done_next (r := 2) hb (by decide) h2 h3 h5
    rw [if_pos (hc.mpr hn)]
    unfold Busy
    icases H with ⟨HF, Hdump⟩
    have hsm : ∀ {hh : ∀ a, (![2] : Fin 1 → ℕ) a + S1.size a ≤ S4.size a}, ((arg15.slice (Rect.unit (s := S4) ![2] S1.size hh)).squeeze S_ squeezes_S1_S_).sem = sem15 arg15 (2 : Fin 4).val (Fin.isLt _) :=
      sem15_eq arg15 2 (by decide) rfl
    rw [WP_bind, hsm]
    iapply (wait_rule 𝒱 (c := c) (N := cred arg5 S8x24x8x128) rfl) $$ [HF HO]
    · iframe
    iintro ⟨⟨HB, Hbody⟩, HC, HO⟩
    iapply (WP_pure 𝒱 c)
    iapply HQ
    unfold Idle
    iframe
    isplitl [Hbody Hdump]
    · iapply (Any.join (slot_split 2) (slot_disj 2)) $$ [Hbody Hdump]
      isplitl [Hbody]
      · iexact Hbody
      · iexact Hdump
    · iapply (To.join c hD.1 hD.2) $$ [HD HB]
      iframe

theorem drain3_spec (v49 : BitVec 32) (h : v49.toNat ≤ 2048) (O : ℕ → ℕ → ℕ → F .f32) (G : Prop) {Q : PUnit → sProp 𝕄} :
    iprop(Slot c arg5 arg8 arg15 O G ((v49.toNat + 63) / 64) (4 * ((v49.toNat + 63) / 64)) 3 ∗ To c arg5 (doneP ((v49.toNat + 63) / 64) (4 * ((v49.toNat + 63) / 64) + 3)) (OutV O) (fun _ => G) ∗ Owes c)
      ⊢ iprop((iprop(Idle (F := F) c arg8 arg15 3 ∗ To c arg5 (doneP ((v49.toNat + 63) / 64) (4 * ((v49.toNat + 63) / 64) + 3 + 1)) (OutV O) (fun _ => G) ∗ Owes c) -∗ Q ⟨⟩)
        -∗ WP 𝒱 c (k0_part177 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 (nbW v49)) (fun v => WP 𝒱 c (k0_part178 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v) Q)) := by
  have hc := drW v49 h 3 (by decide)
  generalize hnb : (v49.toNat + 63) / 64 = nb at *
  iintro ⟨HS, HD, HO⟩ HQ
  unfold k0_part177
  dsimp only
  iapply (WP_pure 𝒱 c)
  unfold k0_part178
  dsimp only
  unfold Slot
  icases HS with (⟨%h1, H⟩ | ⟨%k, %b, %h1, H⟩)
  · have h1' : 4 * nb ≤ 3 := h1
    have hn : ¬ 3 < 4 * nb := by omega
    rw [if_neg (fun hh => hn (hc.mp hh))]
    iapply (WP_pure 𝒱 c)
    iapply HQ
    iframe
    iapply (To.congr c (fun z => done_last 3 (by omega) z _ _)) $$ HD
  · obtain ⟨hb, h2, h3, h5⟩ := h1
    have hn : 3 < 4 * nb := by omega
    have hD := done_next (r := 3) hb (by decide) h2 h3 h5
    rw [if_pos (hc.mpr hn)]
    unfold Busy
    icases H with ⟨HF, Hdump⟩
    have hsm : ∀ {hh : ∀ a, (![3] : Fin 1 → ℕ) a + S1.size a ≤ S4.size a}, ((arg15.slice (Rect.unit (s := S4) ![3] S1.size hh)).squeeze S_ squeezes_S1_S_).sem = sem15 arg15 (3 : Fin 4).val (Fin.isLt _) :=
      sem15_eq arg15 3 (by decide) rfl
    rw [WP_bind, hsm]
    iapply (wait_rule 𝒱 (c := c) (N := cred arg5 S8x24x8x128) rfl) $$ [HF HO]
    · iframe
    iintro ⟨⟨HB, Hbody⟩, HC, HO⟩
    iapply (WP_pure 𝒱 c)
    iapply HQ
    unfold Idle
    iframe
    isplitl [Hbody Hdump]
    · iapply (Any.join (slot_split 3) (slot_disj 3)) $$ [Hbody Hdump]
      isplitl [Hbody]
      · iexact Hbody
      · iexact Hdump
    · iapply (To.join c hD.1 hD.2) $$ [HD HB]
      iframe

/-! ## The last waits on the zero copies -/

/-- The rest of the output, at zero, with the zero buffer and its semaphore back. -/
def ZeroD (c : Dev nD) (arg5 : Memref sig .tc .hbm S256x96x8x128 .f32) (arg9 : Memref sig .tc .vmem S8x24x8x128 .f32) (arg16 : DmaSems sig S_) (X0 : BufTy.Contents (Elt F) arg9.view.ty) (nb : ℕ) : sProp 𝕄 :=
  iprop(Cell c arg16.sem ∗ (arg9.view.loc (c : Thread nD τ) ↦[arg9.view.set]{fullShare} X0) ∗ Has c arg5 (fun z => nb ≤ (z 0).val / 8) fullShare (fun _ => Scalar.ofBits .f32 0x00000000#32))

theorem zD_gather (X0 : BufTy.Contents (Elt F) arg9.view.ty) (nb : ℕ) (hnb : nb < 32) :
    iprop(bigSep Finset.univ (zD c arg5 arg9 X0 nb) ∗ (arg9.view.loc (c : Thread nD τ) ↦[arg9.view.set]{Transfers.shareDrop fullShare (4 * (32 - nb))} X0))
      ⊢ iprop((arg9.view.loc (c : Thread nD τ) ↦[arg9.view.set]{fullShare} X0) ∗ Has c arg5 (fun z => nb ≤ (z 0).val / 8) fullShare (fun _ => Scalar.ofBits .f32 0x00000000#32)) := by
  have e : (bigSep Finset.univ (zD c arg5 arg9 X0 nb) : sProp 𝕄) ⊢ iprop(bigSep Finset.univ (fun j : Fin (4 * (32 - nb)) => Has c arg5 (zP nb j.val) fullShare (fun _ => Scalar.ofBits .f32 0x00000000#32))
      ∗ bigSep Finset.univ (fun j : Fin (4 * (32 - nb)) => (arg9.view.loc (c : Thread nD τ) ↦[arg9.view.set]{Transfers.shareTok fullShare (4 * (32 - nb)) j} X0))) := by
    exact Entails.of_eq (BI.bigSep_sep Finset.univ _ _)
  iintro ⟨HD, H9⟩
  ihave HD := e $$ HD
  icases HD with ⟨H5, HT⟩
  isplitl [H9 HT]
  · iapply (Transfers.pointsTo_toks_join fullShare (4 * (32 - nb))) $$ [H9 HT]
    isplitl [H9] <;> iassumption
  · iapply (Has.gather (fun z : S256x96x8x128.Idx => (z 1).val / 24 * (32 - nb) + ((z 0).val / 8 - nb)) (fun j z => zP nb j.val z) Finset.univ (fun j z hz => ?_) (fun z => ?_)) $$ H5
    · unfold zP at hz
      rw [hz.2, hz.1, Nat.add_sub_cancel_left, Nat.mul_comm]
      exact Nat.div_add_mod _ _
    · have h0 : (z 0).val < 256 := (z 0).isLt
      have h1 : (z 1).val < 96 := (z 1).isLt
      constructor
      · intro h2
        have hz := zdiv (m := 32 - nb) (k := (z 1).val / 24) (t := (z 0).val / 8 - nb) (by omega)
        have hm : ((z 1).val / 24 + 1) * (32 - nb) ≤ 4 * (32 - nb) := Nat.mul_le_mul (by omega) (le_refl _)
        rw [Nat.succ_mul] at hm
        refine ⟨⟨(z 1).val / 24 * (32 - nb) + ((z 0).val / 8 - nb), by omega⟩, Finset.mem_univ _, ?_⟩
        unfold zP
        rw [hz.1, hz.2]
        exact ⟨by omega, rfl⟩
      · rintro ⟨j, _, hj⟩
        unfold zP at hj
        omega

theorem part180_spec (v49 : BitVec 32) (h : v49.toNat ≤ 2048) (hw2 : k0_chk2 v49) (c0 c1 : BitVec 32) (X0 : BufTy.Contents (Elt F) arg9.view.ty) {Q : PUnit → sProp 𝕄} :
    iprop(ZeroS c arg5 arg9 arg16 X0 ((v49.toNat + 63) / 64) (4 * (32 - (v49.toNat + 63) / 64)) ∗ Owes c)
      ⊢ iprop((iprop(ZeroD c arg5 arg9 arg16 X0 ((v49.toNat + 63) / 64) ∗ Owes c) -∗ Q ⟨⟩)
        -∗ WP 𝒱 c (k0_part180 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v49 hw2 c0 c1) Q) := by
  have ht := t21_trips v49 h
  unfold k0_part180
  dsimp only
  rw [WP_bind]
  iintro ⟨H, HO⟩ HQ
  generalize hnb : (v49.toNat + 63) / 64 = nb at *
  unfold ZeroS ZeroD
  icases H with (⟨%h1, HC, H9⟩ | ⟨%h1, HB, H9, H5⟩)
  · iapply (loop_zero 𝒱 c _ _ _ _ (by rw [ht]; omega))
    iapply (WP_pure 𝒱 c)
    iapply HQ
    iframe
    iapply (Has.empty (fun z hz => by have h0 : (z 0).val < 256 := (z 0).isLt; omega))
    iempintro
  · have hN := cred_pos arg5 S8x24x8x128 (by decide)
    iapply (loop_rule 𝒱 c (k0_t21_loop v49) (k0_t21_ok v49 hw2) ⟨⟩ _
      (fun t _ => iprop((⌜t < 4 * (32 - nb)⌝ ∗ Bat c arg16.sem (cred arg5 S8x24x8x128) (zD c arg5 arg9 X0 nb) (4 * (32 - nb)) (t * cred arg5 S8x24x8x128) ∗ Owes c)
        ∨ (⌜t = 4 * (32 - nb)⌝ ∗ bigSep Finset.univ (zD c arg5 arg9 X0 nb) ∗ Cell c arg16.sem ∗ Owes c))) (fun t a => by
        have htt := lt_of_lt_of_eq t.isLt ht
        iintro (⟨%h2, HB, HO⟩ | ⟨%h2, H⟩)
        · rw [WP_bind]
          by_cases hl : t.val + 1 < 4 * (32 - nb)
          · iapply (batch_wait_rule 𝒱 (c := c) (n := 4 * (32 - nb)) (D := zD c arg5 arg9 X0 nb) (u := t.val * cred arg5 S8x24x8x128) (N := cred arg5 S8x24x8x128) rfl (by
              rw [← Nat.succ_mul, Nat.mul_comm]; exact Nat.mul_lt_mul_of_pos_left hl hN)) $$ [HB HO]
            · iframe
            iintro ⟨HB, HO⟩
            iapply (WP_pure 𝒱 c)
            ileft
            rw [← Nat.succ_mul]
            iframe
            ipureintro
            exact hl
          · iapply (batch_wait_last_rule 𝒱 (c := c) (n := 4 * (32 - nb)) (D := zD c arg5 arg9 X0 nb) (u := t.val * cred arg5 S8x24x8x128) (N := cred arg5 S8x24x8x128) rfl hN (by
              rw [← Nat.succ_mul, Nat.mul_comm]; exact congrArg (cred arg5 S8x24x8x128 * ·) (by show t.val + 1 = _; omega))) $$ [HB HO]
            · iframe
            iintro ⟨HB, HC, HO⟩
            iapply (WP_pure 𝒱 c)
            iright
            iframe
            ipureintro
            omega
        · exfalso; omega)) $$ [HB HO]
    · ileft
      rw [Nat.zero_mul]
      iframe
      ipureintro
      omega
    · iintro %acc (⟨%h2, H⟩ | ⟨%h2, HD, HC, HO⟩)
      · exfalso; omega
      · iapply (WP_pure 𝒱 c)
        iapply HQ
        ihave H := (zD_gather c X0 nb h1) $$ [HD H9]
        · iframe
        icases H with ⟨H9, H5'⟩
        iframe

end Cert.KernelIdeal.Emb
-- ==== Proof.KernelIdeal.Idx.lean ====
module

public import proofs.«01_k».proof.Proof.KernelIdeal.ChunkLoop

@[expose] public section

noncomputable section

namespace Cert.KernelIdeal.Emb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]
local notation "𝕄" => MT nD τ sig Unit (Elt F) ℕ (UD sig nD τ) ℕ
variable (𝒱 : Variants) (c : Dev nD)
variable {arg0 : Memref sig .tc .smem S2049 .i32} {harg0 : arg0.IsWhole} {arg1 : Memref sig .tc .vmem S16x128 .i32} {harg1 : arg1.IsWhole} {arg2 : Memref sig .tc .vmem S2x1024 .i32} {harg2 : arg2.IsWhole} {arg3 : Memref sig .tc .vmem S2x1024 .f32} {harg3 : arg3.IsWhole} {arg4 : Memref sig .tc .hbm S2x1024x12288 .fp8e5m2} {harg4 : arg4.IsWhole} {arg5 : Memref sig .tc .hbm S256x96x8x128 .f32} {harg5 : arg5.IsWhole} {arg6 : Memref sig .tc .vmem S2x2048x3072 .fp8e5m2} {harg6 : arg6.IsWhole} {arg7 : Memref sig .tc .vmem S256x24x8x128 .f32} {harg7 : arg7.IsWhole} {arg8 : Memref sig .tc .vmem S4x9x24x8x128 .f32} {harg8 : arg8.IsWhole} {arg9 : Memref sig .tc .vmem S8x24x8x128 .f32} {harg9 : arg9.IsWhole} {arg10 : Memref sig .tc .vmem S2048x128 .f32} {harg10 : arg10.IsWhole} {arg11 : Memref sig .tc .vmem S2x17x128 .i32} {harg11 : arg11.IsWhole} {arg12 : Memref sig .tc .smem S2176 .i32} {harg12 : arg12.IsWhole} {arg13 : Memref sig .tc .smem S2176 .i32} {harg13 : arg13.IsWhole} {arg14 : DmaSems sig S2x8} {arg15 : DmaSems sig S4} {arg16 : DmaSems sig S_} {arg17 : DmaSems sig S_}

/-! # The index rows and their copies into scalar memory -/

/-- The index words as they lie in vector memory: the source words in plane 0, the destination words in plane 1. -/
def idxV (sw dw : ℕ → BitVec 32) : S2x17x128.Idx → Elt F .i32 := fun x =>
  if (x 0).val = 0 then sw (128 * (x 1).val + (x 2).val) else dw (128 * (x 1).val + (x 2).val)

/-- What one copy of a row of index words brings. -/
def idxD (c : Dev nD) (arg11 : Memref sig .tc .vmem S2x17x128 .i32) (arg12 arg13 : Memref sig .tc .smem S2176 .i32) (sw dw : ℕ → BitVec 32) (j : Fin 34) : sProp 𝕄 :=
  iprop((if j.val % 2 = 0 then Has c arg12 (fun x => (x 0).val / 128 = j.val / 2) fullShare (wordsAt sw) else Has c arg13 (fun x => (x 0).val / 128 = j.val / 2) fullShare (wordsAt dw))
    ∗ Has c arg11 (fun x => 2 * (x 1).val + (x 0).val = j.val) fullShare (idxV sw dw))

instance idxD_storable (c : Dev nD) (arg11 : Memref sig .tc .vmem S2x17x128 .i32) (arg12 arg13 : Memref sig .tc .smem S2176 .i32) (sw dw : ℕ → BitVec 32) (j : Fin 34) :
    BI.Storable (upEmb : UEmb _ 𝕄) (idxD (F := F) c arg11 arg12 arg13 sw dw j) := by
  unfold idxD; split <;> infer_instance

/-- With `j` of the 34 copies started. -/
def IdxS (c : Dev nD) (arg11 : Memref sig .tc .vmem S2x17x128 .i32) (arg12 arg13 : Memref sig .tc .smem S2176 .i32) (arg17 : DmaSems sig S_) (sw dw : ℕ → BitVec 32) (j : ℕ) : sProp 𝕄 :=
  iprop(Bat c arg17.sem (cred arg12 S128) (idxD c arg11 arg12 arg13 sw dw) j 0
    ∗ Any (F := F) c arg12 (fun x => j ≤ 2 * ((x 0).val / 128)) ∗ Any (F := F) c arg13 (fun x => j ≤ 2 * ((x 0).val / 128) + 1)
    ∗ Has c arg11 (fun x => j ≤ 2 * (x 1).val + (x 0).val) fullShare (idxV sw dw))

/-- With all copies started and `k` of them waited for. -/
def IdxW (c : Dev nD) (arg11 : Memref sig .tc .vmem S2x17x128 .i32) (arg12 arg13 : Memref sig .tc .smem S2176 .i32) (arg17 : DmaSems sig S_) (sw dw : ℕ → BitVec 32) (k : ℕ) : sProp 𝕄 :=
  iprop(Bat (n := 34) c arg17.sem (cred arg12 S128) (idxD (F := F) c arg11 arg12 arg13 sw dw) 34 (k * cred arg12 S128) ∗ Owes c)

theorem sq11_idx (j : S128.Idx) : Shape.reshapeEquiv squeezes_S1x1x128_S128.numel_eq j
    = (ValueIdx.ix3 (0 : Fin 1) (0 : Fin 1) (⟨(j 0).val, (j 0).isLt⟩ : Fin 128) : S1x1x128.Idx) := by
  apply Shape.reshapeEquiv_eq_of_rowMajor
  rw [Shape.rowMajor_val_three, Shape.rowMajor_val_one]
  show ((0 * 1 + 0) * 128 + (j 0).val) = (j 0).val
  omega

theorem idx11_mem (p t : ℕ) (hp : p < 2) {off : Fin 3 → ℕ} {h : ∀ a, off a + S1x1x128.size a ≤ S2x17x128.size a} (e : off = ![p, t, 0]) (x : S2x17x128.Idx) :
    (2 * (x 1).val + (x 0).val = 2 * t + p) ↔ x ∈ (Rect.unit (s := S2x17x128) off S1x1x128.size h).set := by
  subst e
  rw [mem_unit, Fin.forall_fin_succ, Fin.forall_fin_succ, Fin.forall_fin_succ]
  show _ ↔ (p ≤ (x 0).val ∧ (x 0).val < p + 1) ∧ (t ≤ (x 1).val ∧ (x 1).val < t + 1) ∧ (0 ≤ (x 2).val ∧ (x 2).val < 0 + 128) ∧ _
  have h0 : (x 0).val < 2 := (x 0).isLt
  have h2 : (x 2).val < 128 := (x 2).isLt
  constructor
  · intro h3
    exact ⟨by omega, by omega, by omega, fun a => a.elim0⟩
  · rintro ⟨h3, h4, h5, _⟩
    omega

theorem idx12_mem (t : ℕ) {off : Fin 1 → ℕ} {h : ∀ a, off a + S128.size a ≤ S2176.size a} (e : off = ![128 * t]) (x : S2176.Idx) :
    ((x 0).val / 128 = t) ↔ x ∈ (Rect.unit (s := S2176) off S128.size h).set := by
  subst e
  rw [mem_unit, Fin.forall_fin_succ]
  show _ ↔ (128 * t ≤ (x 0).val ∧ (x 0).val < 128 * t + 128) ∧ _
  constructor
  · intro h3
    exact ⟨by omega, fun a => a.elim0⟩
  · rintro ⟨h3, _⟩
    omega

/-- One row of plane 0 is sent to scalar memory. -/
theorem idx_start0 (j j' t : ℕ) (ej : j = 2 * t + 0) (ej' : j' = j + 1) (ht : t < 17) {sw dw : ℕ → BitVec 32} {off11 : Fin 3 → ℕ} {off12 : Fin 1 → ℕ}
    {h11 : ∀ a, off11 a + S1x1x128.size a ≤ S2x17x128.size a} {h12 : ∀ a, off12 a + S128.size a ≤ S2176.size a}
    (e11 : off11 = ![0, t, 0]) (e12 : off12 = ![128 * t])
    {hr11 : ∀ a, (Rect.unit (s := S2x17x128) off11 S1x1x128.size h11).stride a = 1} {hr12 : ∀ a, (Rect.unit (s := S2176) off12 S128.size h12).stride a = 1}
    {hsrc : ((arg11.slice (Rect.unit (s := S2x17x128) off11 S1x1x128.size h11) hr11).squeeze S128 squeezes_S1x1x128_S128).view.WordExact}
    {hdst : (arg12.slice (Rect.unit (s := S2176) off12 S128.size h12) hr12).view.WordExact}
    {hsem : (DmaTarget.here (arg12.slice (Rect.unit (s := S2176) off12 S128.size h12) hr12) : DmaTarget nD τ sig (.tc : Proc τ) .smem S128 .i32).Typed .vmem (.dma arg17.sem)}
    {Q : PUnit → sProp 𝕄} :
    IdxS (F := F) c arg11 arg12 arg13 arg17 sw dw j
      ⊢ iprop((IdxS (F := F) c arg11 arg12 arg13 arg17 sw dw j' -∗ Q ⟨⟩)
        -∗ WP 𝒱 c (Prog.lift (.enqueueDma ((arg11.slice (Rect.unit (s := S2x17x128) off11 S1x1x128.size h11) hr11).squeeze S128 squeezes_S1x1x128_S128)
          (.here (arg12.slice (Rect.unit (s := S2176) off12 S128.size h12) hr12)) (.dma arg17.sem) hsrc hdst hsem)) Q) := by
  subst ej'
  have hj : j < 34 := by omega
  have hd : iprop(Own c (arg12.slice (Rect.unit (s := S2176) off12 S128.size h12) hr12) fullShare (show S128.Idx → Elt F .i32 from fun y => sw (128 * t + (y 0).val))
      ∗ Own c ((arg11.slice (Rect.unit (s := S2x17x128) off11 S1x1x128.size h11) hr11).squeeze S128 squeezes_S1x1x128_S128) fullShare (show S128.Idx → Elt F .i32 from fun y => sw (128 * t + (y 0).val)))
      ⊢ idxD (F := F) c arg11 arg12 arg13 sw dw ⟨j, hj⟩ := by
    unfold idxD
    refine BIClass.sep_mono ?_ ?_
    · rw [if_pos (show j % 2 = 0 by omega)]
      refine Has.of_window' (m := arg12) (g := wordsAt sw) (Rect.unit (s := S2176) off12 S128.size h12) hr12 (fun x => ?_) (fun y => ?_)
      · rw [← idx12_mem t e12]
        show (x 0).val / 128 = j / 2 ↔ _
        omega
      · unfold wordsAt
        rw [unit_emb_of e12 (h := h12)]
        rfl
    · refine Has.of_window (m := arg11) (g := idxV sw dw) (Rect.unit (s := S2x17x128) off11 S1x1x128.size h11) hr11 squeezes_S1x1x128_S128 (fun x => ?_) (fun y => ?_)
      · rw [← idx11_mem 0 t (by omega) e11]
        show 2 * (x 1).val + (x 0).val = j ↔ _
        omega
      · unfold idxV
        rw [unit_emb_of e11 (h := h11), unit_emb_of e11 (h := h11), unit_emb_of e11 (h := h11), sq11_idx]
        refine (if_pos (show 0 + 0 = 0 from rfl)).trans ?_
        refine congrArg sw ?_
        show 128 * (t + 0) + (0 + (y 0).val) = _
        omega
  unfold IdxS
  iintro ⟨HB, H12, H13, H11⟩ HQ
  ihave H12 := (Any.split (F := F) (c := c) (m := arg12) (R := fun x => (x 0).val / 128 = t) (S := fun x => j + 1 ≤ 2 * ((x 0).val / 128)) (fun x => by omega) (fun x => by omega)) $$ H12
  icases H12 with ⟨⟨%g, Hd⟩, H12⟩
  ihave H11 := (Has.split (c := c) (m := arg11) (R := fun x => 2 * (x 1).val + (x 0).val = j) (S := fun x => j + 1 ≤ 2 * (x 1).val + (x 0).val) (fun x => by omega) (fun x => by omega)) $$ H11
  icases H11 with ⟨Hs, H11⟩
  iapply (batch_start_rule 𝒱 (c := c) (n := 34) (D := idxD c arg11 arg12 arg13 sw dw) (q := fullShare) (u := 0)
    (g := show S128.Idx → Elt F .i32 from fun y => sw (128 * t + (y 0).val))
    (g0 := show S128.Idx → Elt F .i32 from fun y => g ((Rect.unit (s := S2176) off12 S128.size h12).emb y)) (cred arg12 S128) rfl (j := j) hj (Nat.zero_le _) hd) $$ [HB Hd Hs]
  · isplitl [Hs]
    · iapply (Has.to_window (m := arg11) (Rect.unit (s := S2x17x128) off11 S1x1x128.size h11) hr11 squeezes_S1x1x128_S128 (fun x => ?_) (fun y => ?_)) $$ Hs
      · rw [← idx11_mem 0 t (by omega) e11]
        omega
      · unfold idxV
        rw [unit_emb_of e11 (h := h11), unit_emb_of e11 (h := h11), unit_emb_of e11 (h := h11), sq11_idx]
        refine (if_pos (show 0 + 0 = 0 from rfl)).trans ?_
        refine congrArg sw ?_
        show 128 * (t + 0) + (0 + (y 0).val) = _
        omega
    isplitl [Hd]
    · iapply (Has.to_window' (m := arg12) (Rect.unit (s := S2176) off12 S128.size h12) hr12 (idx12_mem t e12) (fun y => rfl)) $$ Hd
    · iexact HB
  iintro HB
  iapply HQ
  iframe HB H12 H11
  icases H13 with ⟨%g', H⟩
  iexists g'
  iapply (Has.congr (c := c) (fun x => by omega) (fun x _ => rfl)) $$ H

/-- One row of plane 1 is sent to scalar memory. -/
theorem idx_start1 (j j' t : ℕ) (ej : j = 2 * t + 1) (ej' : j' = j + 1) (ht : t < 17) {sw dw : ℕ → BitVec 32} {off11 : Fin 3 → ℕ} {off12 : Fin 1 → ℕ}
    {h11 : ∀ a, off11 a + S1x1x128.size a ≤ S2x17x128.size a} {h12 : ∀ a, off12 a + S128.size a ≤ S2176.size a}
    (e11 : off11 = ![1, t, 0]) (e12 : off12 = ![128 * t])
    {hr11 : ∀ a, (Rect.unit (s := S2x17x128) off11 S1x1x128.size h11).stride a = 1} {hr12 : ∀ a, (Rect.unit (s := S2176) off12 S128.size h12).stride a = 1}
    {hsrc : ((arg11.slice (Rect.unit (s := S2x17x128) off11 S1x1x128.size h11) hr11).squeeze S128 squeezes_S1x1x128_S128).view.WordExact}
    {hdst : (arg13.slice (Rect.unit (s := S2176) off12 S128.size h12) hr12).view.WordExact}
    {hsem : (DmaTarget.here (arg13.slice (Rect.unit (s := S2176) off12 S128.size h12) hr12) : DmaTarget nD τ sig (.tc : Proc τ) .smem S128 .i32).Typed .vmem (.dma arg17.sem)}
    {Q : PUnit → sProp 𝕄} :
    IdxS (F := F) c arg11 arg12 arg13 arg17 sw dw j
      ⊢ iprop((IdxS (F := F) c arg11 arg12 arg13 arg17 sw dw j' -∗ Q ⟨⟩)
        -∗ WP 𝒱 c (Prog.lift (.enqueueDma ((arg11.slice (Rect.unit (s := S2x17x128) off11 S1x1x128.size h11) hr11).squeeze S128 squeezes_S1x1x128_S128)
          (.here (arg13.slice (Rect.unit (s := S2176) off12 S128.size h12) hr12)) (.dma arg17.sem) hsrc hdst hsem)) Q) := by
  subst ej'
  have hj : j < 34 := by omega
  have hd : iprop(Own c (arg13.slice (Rect.unit (s := S2176) off12 S128.size h12) hr12) fullShare (show S128.Idx → Elt F .i32 from fun y => dw (128 * t + (y 0).val))
      ∗ Own c ((arg11.slice (Rect.unit (s := S2x17x128) off11 S1x1x128.size h11) hr11).squeeze S128 squeezes_S1x1x128_S128) fullShare (show S128.Idx → Elt F .i32 from fun y => dw (128 * t + (y 0).val)))
      ⊢ idxD (F := F) c arg11 arg12 arg13 sw dw ⟨j, hj⟩ := by
    unfold idxD
    refine BIClass.sep_mono ?_ ?_
    · rw [if_neg (show ¬ j % 2 = 0 by omega)]
      refine Has.of_window' (m := arg13) (g := wordsAt dw) (Rect.unit (s := S2176) off12 S128.size h12) hr12 (fun x => ?_) (fun y => ?_)
      · rw [← idx12_mem t e12]
        show (x 0).val / 128 = j / 2 ↔ _
        omega
      · unfold wordsAt
        rw [unit_emb_of e12 (h := h12)]
        rfl
    · refine Has.of_window (m := arg11) (g := idxV sw dw) (Rect.unit (s := S2x17x128) off11 S1x1x128.size h11) hr11 squeezes_S1x1x128_S128 (fun x => ?_) (fun y => ?_)
      · rw [← idx11_mem 1 t (by omega) e11]
        show 2 * (x 1).val + (x 0).val = j ↔ _
        omega
      · unfold idxV
        rw [unit_emb_of e11 (h := h11), unit_emb_of e11 (h := h11), unit_emb_of e11 (h := h11), sq11_idx]
        refine (if_neg (show ¬ 1 + 0 = 0 by omega)).trans ?_
        refine congrArg dw ?_
        show 128 * (t + 0) + (0 + (y 0).val) = _
        omega
  unfold IdxS
  iintro ⟨HB, H12, H13, H11⟩ HQ
  ihave H13 := (Any.split (F := F) (c := c) (m := arg13) (R := fun x => (x 0).val / 128 = t) (S := fun x => j + 1 ≤ 2 * ((x 0).val / 128) + 1) (fun x => by omega) (fun x => by omega)) $$ H13
  icases H13 with ⟨⟨%g, Hd⟩, H13⟩
  ihave H11 := (Has.split (c := c) (m := arg11) (R := fun x => 2 * (x 1).val + (x 0).val = j) (S := fun x => j + 1 ≤ 2 * (x 1).val + (x 0).val) (fun x => by omega) (fun x => by omega)) $$ H11
  icases H11 with ⟨Hs, H11⟩
  iapply (batch_start_rule 𝒱 (c := c) (n := 34) (D := idxD c arg11 arg12 arg13 sw dw) (q := fullShare) (u := 0)
    (g := show S128.Idx → Elt F .i32 from fun y => dw (128 * t + (y 0).val))
    (g0 := show S128.Idx → Elt F .i32 from fun y => g ((Rect.unit (s := S2176) off12 S128.size h12).emb y)) (cred arg12 S128) rfl (j := j) hj (Nat.zero_le _) hd) $$ [HB Hd Hs]
  · isplitl [Hs]
    · iapply (Has.to_window (m := arg11) (Rect.unit (s := S2x17x128) off11 S1x1x128.size h11) hr11 squeezes_S1x1x128_S128 (fun x => ?_) (fun y => ?_)) $$ Hs
      · rw [← idx11_mem 1 t (by omega) e11]
        omega
      · unfold idxV
        rw [unit_emb_of e11 (h := h11), unit_emb_of e11 (h := h11), unit_emb_of e11 (h := h11), sq11_idx]
        refine (if_neg (show ¬ 1 + 0 = 0 by omega)).trans ?_
        refine congrArg dw ?_
        show 128 * (t + 0) + (0 + (y 0).val) = _
        omega
    isplitl [Hd]
    · iapply (Has.to_window' (m := arg13) (Rect.unit (s := S2176) off12 S128.size h12) hr12 (idx12_mem t e12) (fun y => rfl)) $$ Hd
    · iexact HB
  iintro HB
  iapply HQ
  iframe HB H13 H11
  icases H12 with ⟨%g', H⟩
  iexists g'
  iapply (Has.congr (c := c) (fun x => by omega) (fun x _ => rfl)) $$ H

/-- One of the copies is waited for, not the last. -/
theorem idx_wait (k k' : ℕ) (e : k' = k + 1) (hk : k' < 34) {sw dw : ℕ → BitVec 32} {srcw : Memref sig .tc .vmem S128 .i32} {dstw : Memref sig .tc .smem S128 .i32} (hN : dstw.view.dmaCredit = cred arg12 S128)
    {hsrc : srcw.view.WordExact} {hdst : dstw.view.WordExact} {Q : PUnit → sProp 𝕄} :
    IdxW (F := F) c arg11 arg12 arg13 arg17 sw dw k
      ⊢ iprop((IdxW (F := F) c arg11 arg12 arg13 arg17 sw dw k' -∗ Q ⟨⟩) -∗ WP 𝒱 c (Prog.lift (.waitDma2 arg17.sem srcw dstw hsrc hdst)) Q) := by
  subst e
  have hp : 0 < cred arg12 S128 := cred_pos arg12 S128 (by decide)
  have hu : k * cred arg12 S128 + cred arg12 S128 < cred arg12 S128 * 34 := by
    rw [← Nat.succ_mul, Nat.mul_comm]
    exact Nat.mul_lt_mul_of_pos_left hk hp
  have hs : (k + 1) * cred arg12 S128 = k * cred arg12 S128 + cred arg12 S128 := Nat.succ_mul _ _
  unfold IdxW
  rw [hs]
  exact batch_wait_rule 𝒱 (c := c) (n := 34) (D := idxD c arg11 arg12 arg13 sw dw) (u := k * cred arg12 S128) hN hu

/-- What the copies bring, together. -/
theorem idx_all (sw dw : ℕ → BitVec 32) : bigSep Finset.univ (idxD (F := F) c arg11 arg12 arg13 sw dw)
    ⊢ iprop(Own c arg12 fullShare (wordsAt sw) ∗ Own c arg13 fullShare (wordsAt dw) ∗ Own c arg11 fullShare (idxV sw dw)) := by
  have h1 : ∀ j : Fin 34, idxD (F := F) c arg11 arg12 arg13 sw dw j ⊢ (iprop(Has c arg12 (fun x => 2 * ((x 0).val / 128) = j.val) fullShare (wordsAt sw)
        ∗ (Has c arg13 (fun x => 2 * ((x 0).val / 128) + 1 = j.val) fullShare (wordsAt dw) ∗ Has c arg11 (fun x => 2 * (x 1).val + (x 0).val = j.val) fullShare (idxV sw dw))) : sProp 𝕄) := by
    intro j
    unfold idxD
    by_cases hj : j.val % 2 = 0
    · rw [if_pos hj]
      iintro ⟨H, H11⟩
      iframe H11
      isplitl [H]
      · iapply (Has.congr (c := c) (fun x => by omega) (fun x _ => rfl)) $$ H
      · iapply (Has.empty (c := c) (fun x => by omega))
        iempintro
    · rw [if_neg hj]
      iintro ⟨H, H11⟩
      iframe H11
      isplitr [H]
      · iapply (Has.empty (c := c) (fun x => by omega))
        iempintro
      · iapply (Has.congr (c := c) (fun x => by omega) (fun x _ => rfl)) $$ H
  refine BIBase.Entails.trans (bigSep_mono (fun j _ => h1 j)) ?_
  rw [bigSep_sep', bigSep_sep']
  refine BIClass.sep_mono ?_ (BIClass.sep_mono ?_ ?_)
  · refine Has.gather (c := c) (fun x : S2176.Idx => 2 * ((x 0).val / 128)) _ _ (fun j x hx => hx) (fun x => ?_)
    have h0 : (x 0).val < 2176 := (x 0).isLt
    exact ⟨fun _ => ⟨⟨2 * ((x 0).val / 128), by omega⟩, Finset.mem_univ _, rfl⟩, fun _ => trivial⟩
  · refine Has.gather (c := c) (fun x : S2176.Idx => 2 * ((x 0).val / 128) + 1) _ _ (fun j x hx => hx) (fun x => ?_)
    have h0 : (x 0).val < 2176 := (x 0).isLt
    exact ⟨fun _ => ⟨⟨2 * ((x 0).val / 128) + 1, by omega⟩, Finset.mem_univ _, rfl⟩, fun _ => trivial⟩
  · refine Has.gather (c := c) (fun x : S2x17x128.Idx => 2 * (x 1).val + (x 0).val) _ _ (fun j x hx => hx) (fun x => ?_)
    have h0 : (x 0).val < 2 := (x 0).isLt
    have h1 : (x 1).val < 17 := (x 1).isLt
    exact ⟨fun _ => ⟨⟨2 * (x 1).val + (x 0).val, by omega⟩, Finset.mem_univ _, rfl⟩, fun _ => trivial⟩

/-- The last copy is waited for. -/
theorem idx_wait_last {sw dw : ℕ → BitVec 32} {srcw : Memref sig .tc .vmem S128 .i32} {dstw : Memref sig .tc .smem S128 .i32} (hN : dstw.view.dmaCredit = cred arg12 S128)
    {hsrc : srcw.view.WordExact} {hdst : dstw.view.WordExact} {Q : PUnit → sProp 𝕄} :
    IdxW (F := F) c arg11 arg12 arg13 arg17 sw dw 33
      ⊢ iprop((iprop(Own c arg12 fullShare (wordsAt sw) ∗ Own c arg13 fullShare (wordsAt dw) ∗ Own c arg11 fullShare (idxV sw dw) ∗ Cell c arg17.sem ∗ Owes c) -∗ Q ⟨⟩)
        -∗ WP 𝒱 c (Prog.lift (.waitDma2 arg17.sem srcw dstw hsrc hdst)) Q) := by
  have hp : 0 < cred arg12 S128 := cred_pos arg12 S128 (by decide)
  have hu : 33 * cred arg12 S128 + cred arg12 S128 = cred arg12 S128 * 34 := by omega
  unfold IdxW
  iintro H HQ
  iapply (batch_wait_last_rule 𝒱 (c := c) (n := 34) (D := idxD c arg11 arg12 arg13 sw dw) (u := 33 * cred arg12 S128) hN hp hu) $$ H
  iintro ⟨HD, HC, HO⟩
  iapply HQ
  ihave HD := (idx_all c sw dw) $$ HD
  icases HD with ⟨H1, H2, H3⟩
  iframe

/-- The source words: the dequantised row of the token, with the mark of a token that adds to the row before it. -/
def srcW (v78 v104 v114 : IVec S16x128 32) : IVec S16x128 32 :=
  ori (addi (muli (shrsi (shapeCast S16x128 v114 shapeCasts_S16x128_S16x128) (broadcast S16x128 3#32)) (broadcast S16x128 192#32)) (andi (shapeCast S16x128 v114 shapeCasts_S16x128_S16x128) (broadcast S16x128 7#32)))
    (select (cmpi .eq v104 (select (cmpi .eq v78 (broadcast S16x128 0#32)) (dynamicRotate 0 1#32 none (dynamicRotate 1 1#32 none v104 rotates_S16x128_d1) rotates_S16x128_d0) (dynamicRotate 1 1#32 none v104 rotates_S16x128_d1)))
      (broadcast S16x128 2147483648#32) (broadcast S16x128 0#32))

/-- The destination words: the row of the result. -/
def dstW (v104 : IVec S16x128 32) : IVec S16x128 32 :=
  addi (muli (shrsi v104 (broadcast S16x128 3#32)) (broadcast S16x128 192#32)) (andi v104 (broadcast S16x128 7#32))

theorem sc11_idx (y : S1x16x128.Idx) : Shape.reshapeEquiv shapeCasts_S16x128_S1x16x128 y
    = (ValueIdx.ix2 (⟨(y 1).val, (y 1).isLt⟩ : Fin 16) (⟨(y 2).val, (y 2).isLt⟩ : Fin 128) : S16x128.Idx) := by
  apply Shape.reshapeEquiv_eq_of_rowMajor
  rw [Shape.rowMajor_val_three, Shape.rowMajor_val_two]
  have h0 : (y 0).val < 1 := (y 0).isLt
  show (y 1).val * 128 + (y 2).val = ((y 0).val * 16 + (y 1).val) * 128 + (y 2).val
  omega

theorem part156_spec (v78 v104 : IVec S16x128 32) (pm : S16x128.Idx → Elt F .i32) {q1 : PosShare TreeShare} (sw dw : ℕ → BitVec 32)
    (hsw : ∀ x : S16x128.Idx, srcW v78 v104 pm x = sw (128 * (x 0).val + (x 1).val)) (hdw : ∀ x : S16x128.Idx, dstW v104 x = dw (128 * (x 0).val + (x 1).val))
    {Q : IVec S1x128 32 → sProp 𝕄} :
    iprop(Own c arg1 q1 pm ∗ Any (F := F) c arg11 (fun _ => True))
      ⊢ iprop((iprop(Own c arg1 q1 pm ∗ ∃ g : S2x17x128.Idx → Elt F .i32, Own c arg11 fullShare (fun x => if (x 1).val < 16 then idxV sw dw x else g x)) -∗ Q (broadcast S1x128 0#32))
        -∗ WP 𝒱 c (k0_part156 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v78 v104) Q) := by
  unfold k0_part156
  dsimp only
  iintro ⟨H1, ⟨%g, H⟩⟩ HQ
  have epm : (fun j => pm ((Rect.unit (s := S16x128) ![0, 0] S16x128.size inb_S16x128_S16x128_0_0).emb j)) = pm := by
    funext j
    congr 1
    funext a
    apply Fin.ext
    rw [unit_emb]
    fin_cases a <;> exact Nat.zero_add _
  rw [WP_bind]
  iapply (load_rule 𝒱 (c := c) (fun _ => trivial)) $$ H1
  iintro H1
  rw [epm]
  rw [WP_bind]
  iapply (load_rule 𝒱 (c := c) (fun _ => trivial)) $$ H
  iintro H
  rw [WP_bind]
  iapply (store_rule 𝒱 (c := c) (g' := fun x => if (x 0).val = 0 ∧ (x 1).val < 16 then idxV sw dw x else g x) (fun _ => trivial) (fun y => ?_) (fun x _ hx => ?_)) $$ H
  · have h0 : (y 0).val < 1 := (y 0).isLt
    have h1 : (y 1).val < 16 := (y 1).isLt
    rw [unit_emb, unit_emb]
    refine (if_pos (show (0 + (y 0).val = 0 ∧ 0 + (y 1).val < 16) by omega)).trans ?_
    unfold idxV
    rw [unit_emb, unit_emb, unit_emb]
    refine (if_pos (show 0 + (y 0).val = 0 by omega)).trans ?_
    have hs := hsw (ValueIdx.ix2 (⟨(y 1).val, (y 1).isLt⟩ : Fin 16) (⟨(y 2).val, (y 2).isLt⟩ : Fin 128) : S16x128.Idx)
    unfold shapeCast
    rw [sc11_idx]
    refine Eq.trans ?_ hs.symm
    refine congrArg sw ?_
    show 128 * (0 + (y 1).val) + (0 + (y 2).val) = _
    rw [Nat.zero_add, Nat.zero_add]
  · refine if_neg (fun hh => hx (ValueIdx.ix3 (0 : Fin 1) (⟨(x 1).val, hh.2⟩ : Fin 16) (⟨(x 2).val, (x 2).isLt⟩ : Fin 128)) ?_)
    funext a
    apply Fin.ext
    rw [unit_emb]
    have h0 := hh.1
    fin_cases a
    · exact h0.symm
    · exact Nat.zero_add _
    · exact Nat.zero_add _
  iintro H
  rw [WP_bind]
  iapply (load_rule 𝒱 (c := c) (fun _ => trivial)) $$ H
  iintro H
  rw [WP_bind]
  iapply (store_rule 𝒱 (c := c) (g' := fun x => if (x 1).val < 16 then idxV sw dw x else g x) (fun _ => trivial) (fun y => ?_) (fun x _ hx => ?_)) $$ H
  · have h0 : (y 0).val < 1 := (y 0).isLt
    have h1 : (y 1).val < 16 := (y 1).isLt
    rw [unit_emb]
    refine (if_pos (show (0 + (y 1).val < 16) by omega)).trans ?_
    unfold idxV
    rw [unit_emb, unit_emb, unit_emb]
    refine (if_neg (show ¬ 1 + (y 0).val = 0 by omega)).trans ?_
    have hs := hdw (ValueIdx.ix2 (⟨(y 1).val, (y 1).isLt⟩ : Fin 16) (⟨(y 2).val, (y 2).isLt⟩ : Fin 128) : S16x128.Idx)
    unfold shapeCast
    rw [sc11_idx]
    refine Eq.trans ?_ hs.symm
    refine congrArg dw ?_
    show 128 * (0 + (y 1).val) + (0 + (y 2).val) = _
    rw [Nat.zero_add, Nat.zero_add]
  · by_cases h1 : (x 1).val < 16
    · have h00 : (x 0).val < 2 := (x 0).isLt
      have h0 : (x 0).val = 0 := by
        by_contra hc
        refine hx (ValueIdx.ix3 (0 : Fin 1) (⟨(x 1).val, h1⟩ : Fin 16) (⟨(x 2).val, (x 2).isLt⟩ : Fin 128)) ?_
        funext a
        apply Fin.ext
        rw [unit_emb]
        fin_cases a
        · show 1 + 0 = (x 0).val
          omega
        · exact Nat.zero_add _
        · exact Nat.zero_add _
      rw [if_pos h1, if_pos ⟨h0, h1⟩]
    · rw [if_neg h1, if_neg (fun hh => h1 hh.2)]
  iintro H
  rw [WP_bind]
  iapply (load_rule 𝒱 (c := c) (fun _ => trivial)) $$ H
  iintro H
  iapply (WP_pure 𝒱 c)
  iapply HQ
  iframe H1
  iexists g
  iexact H

theorem part157_spec (v68 : BitVec 32) (sw dw : ℕ → BitVec 32) (g : S2x17x128.Idx → Elt F .i32) (hs : ∀ p, 2048 ≤ p → sw p = 0#32) (hd : ∀ p, 2048 ≤ p → dw p = Scalar.muli v68 1536#32)
    {Q : PUnit → sProp 𝕄} :
    iprop(Own c arg11 fullShare (fun x => if (x 1).val < 16 then idxV sw dw x else g x)
      ∗ Bat c arg17.sem (cred arg12 S128) (idxD c arg11 arg12 arg13 sw dw) 0 0 ∗ Any (F := F) c arg12 (fun _ => True) ∗ Any (F := F) c arg13 (fun _ => True))
      ⊢ iprop((IdxS (F := F) c arg11 arg12 arg13 arg17 sw dw 6 -∗ Q ⟨⟩)
        -∗ WP 𝒱 c (k0_part157 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v68 (broadcast S1x128 0#32)) Q) := by
  unfold k0_part157
  dsimp only
  iintro ⟨H, HB, ⟨%g12, H12⟩, ⟨%g13, H13⟩⟩ HQ
  rw [WP_bind]
  iapply (store_rule 𝒱 (c := c) (g' := fun x => if (x 1).val < 16 ∨ (x 0).val = 0 then idxV sw dw x else g x) (fun _ => trivial) (fun y => ?_) (fun x _ hx => ?_)) $$ H
  · have h0 : (y 0).val < 1 := (y 0).isLt
    rw [unit_emb, unit_emb]
    refine (if_pos (show (16 + (y 1).val < 16 ∨ 0 + (y 0).val = 0) by omega)).trans ?_
    unfold idxV
    rw [unit_emb, unit_emb, unit_emb]
    refine (if_pos (show 0 + (y 0).val = 0 by omega)).trans ?_
    exact hs _ (show 2048 ≤ 128 * (16 + (y 1).val) + (0 + (y 2).val) by omega)
  · have h17 : (x 1).val < 17 := (x 1).isLt
    by_cases h1 : (x 1).val < 16
    · rw [if_pos h1, if_pos (Or.inl h1)]
    · by_cases h0 : (x 0).val = 0
      · refine absurd ?_ (hx (ValueIdx.ix3 (0 : Fin 1) (0 : Fin 1) (⟨(x 2).val, (x 2).isLt⟩ : Fin 128)))
        funext a
        apply Fin.ext
        rw [unit_emb]
        fin_cases a
        · exact h0.symm
        · show 16 + 0 = (x 1).val
          omega
        · exact Nat.zero_add _
      · rw [if_neg h1, if_neg (fun hh => hh.elim h1 h0)]
  iintro H
  rw [WP_bind]
  iapply (load_rule 𝒱 (c := c) (fun _ => trivial)) $$ H
  iintro H
  rw [WP_bind]
  iapply (store_rule 𝒱 (c := c) (g' := idxV sw dw) (fun _ => trivial) (fun y => ?_) (fun x _ hx => ?_)) $$ H
  · have h0 : (y 0).val < 1 := (y 0).isLt
    unfold idxV
    rw [unit_emb, unit_emb, unit_emb]
    refine (if_neg (show ¬ 1 + (y 0).val = 0 by omega)).trans ?_
    exact hd _ (show 2048 ≤ 128 * (16 + (y 1).val) + (0 + (y 2).val) by omega)
  · have h17 : (x 1).val < 17 := (x 1).isLt
    have h02 : (x 0).val < 2 := (x 0).isLt
    by_cases h1 : (x 1).val < 16 ∨ (x 0).val = 0
    · rw [if_pos h1]
    · refine absurd ?_ (hx (ValueIdx.ix3 (0 : Fin 1) (0 : Fin 1) (⟨(x 2).val, (x 2).isLt⟩ : Fin 128)))
      funext a
      apply Fin.ext
      rw [unit_emb]
      fin_cases a
      · show 1 + 0 = (x 0).val
        omega
      · show 16 + 0 = (x 1).val
        omega
      · exact Nat.zero_add _
  iintro H
  ihave H : IdxS (F := F) c arg11 arg12 arg13 arg17 sw dw 0 $$ [H HB H12 H13]
  · unfold IdxS
    iframe HB
    isplitl [H12]
    · iexists g12
      iapply (Has.congr (c := c) (fun x => ⟨fun _ => Nat.zero_le _, fun _ => trivial⟩) (fun x _ => rfl)) $$ H12
    isplitl [H13]
    · iexists g13
      iapply (Has.congr (c := c) (fun x => ⟨fun _ => Nat.zero_le _, fun _ => trivial⟩) (fun x _ => rfl)) $$ H13
    · iapply (Has.congr (c := c) (fun x => ⟨fun _ => Nat.zero_le _, fun _ => trivial⟩) (fun x _ => rfl)) $$ H
  rw [WP_bind]
  iapply (idx_start0 𝒱 c 0 1 0 rfl rfl (by decide) rfl rfl) $$ H
  iintro H
  rw [WP_bind]
  iapply (idx_start1 𝒱 c 1 2 0 rfl rfl (by decide) rfl rfl) $$ H
  iintro H
  rw [WP_bind]
  iapply (idx_start0 𝒱 c 2 3 1 rfl rfl (by decide) rfl rfl) $$ H
  iintro H
  rw [WP_bind]
  iapply (idx_start1 𝒱 c 3 4 1 rfl rfl (by decide) rfl rfl) $$ H
  iintro H
  rw [WP_bind]
  iapply (idx_start0 𝒱 c 4 5 2 rfl rfl (by decide) rfl rfl) $$ H
  iintro H
  rw [WP_bind]
  iapply (idx_start1 𝒱 c 5 6 2 rfl rfl (by decide) rfl rfl) $$ H
  iintro H
  iapply (WP_pure 𝒱 c)
  iapply HQ
  iexact H

theorem part158_spec (sw dw : ℕ → BitVec 32) {Q : PUnit → sProp 𝕄} :
    IdxS (F := F) c arg11 arg12 arg13 arg17 sw dw 6
      ⊢ iprop((IdxS (F := F) c arg11 arg12 arg13 arg17 sw dw 13 -∗ Q ⟨⟩) -∗ WP 𝒱 c (k0_part158 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17) Q) := by
  unfold k0_part158
  dsimp only
  iintro H HQ
  rw [WP_bind]
  iapply (idx_start0 𝒱 c 6 7 3 rfl rfl (by decide) rfl rfl) $$ H
  iintro H
  rw [WP_bind]
  iapply (idx_start1 𝒱 c 7 8 3 rfl rfl (by decide) rfl rfl) $$ H
  iintro H
  rw [WP_bind]
  iapply (idx_start0 𝒱 c 8 9 4 rfl rfl (by decide) rfl rfl) $$ H
  iintro H
  rw [WP_bind]
  iapply (idx_start1 𝒱 c 9 10 4 rfl rfl (by decide) rfl rfl) $$ H
  iintro H
  rw [WP_bind]
  iapply (idx_start0 𝒱 c 10 11 5 rfl rfl (by decide) rfl rfl) $$ H
  iintro H
  rw [WP_bind]
  iapply (idx_start1 𝒱 c 11 12 5 rfl rfl (by decide) rfl rfl) $$ H
  iintro H
  rw [WP_bind]
  iapply (idx_start0 𝒱 c 12 13 6 rfl rfl (by decide) rfl rfl) $$ H
  iintro H
  iapply (WP_pure 𝒱 c)
  iapply HQ
  iexact H

theorem part159_spec (sw dw : ℕ → BitVec 32) {Q : PUnit → sProp 𝕄} :
    IdxS (F := F) c arg11 arg12 arg13 arg17 sw dw 13
      ⊢ iprop((IdxS (F := F) c arg11 arg12 arg13 arg17 sw dw 21 -∗ Q ⟨⟩) -∗ WP 𝒱 c (k0_part159 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17) Q) := by
  unfold k0_part159
  dsimp only
  iintro H HQ
  rw [WP_bind]
  iapply (idx_start1 𝒱 c 13 14 6 rfl rfl (by decide) rfl rfl) $$ H
  iintro H
  rw [WP_bind]
  iapply (idx_start0 𝒱 c 14 15 7 rfl rfl (by decide) rfl rfl) $$ H
  iintro H
  rw [WP_bind]
  iapply (idx_start1 𝒱 c 15 16 7 rfl rfl (by decide) rfl rfl) $$ H
  iintro H
  rw [WP_bind]
  iapply (idx_start0 𝒱 c 16 17 8 rfl rfl (by decide) rfl rfl) $$ H
  iintro H
  rw [WP_bind]
  iapply (idx_start1 𝒱 c 17 18 8 rfl rfl (by decide) rfl rfl) $$ H
  iintro H
  rw [WP_bind]
  iapply (idx_start0 𝒱 c 18 19 9 rfl rfl (by decide) rfl rfl) $$ H
  iintro H
  rw [WP_bind]
  iapply (idx_start1 𝒱 c 19 20 9 rfl rfl (by decide) rfl rfl) $$ H
  iintro H
  rw [WP_bind]
  iapply (idx_start0 𝒱 c 20 21 10 rfl rfl (by decide) rfl rfl) $$ H
  iintro H
  iapply (WP_pure 𝒱 c)
  iapply HQ
  iexact H

theorem part160_spec (sw dw : ℕ → BitVec 32) {Q : PUnit → sProp 𝕄} :
    IdxS (F := F) c arg11 arg12 arg13 arg17 sw dw 21
      ⊢ iprop((IdxS (F := F) c arg11 arg12 arg13 arg17 sw dw 28 -∗ Q ⟨⟩) -∗ WP 𝒱 c (k0_part160 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17) Q) := by
  unfold k0_part160
  dsimp only
  iintro H HQ
  rw [WP_bind]
  iapply (idx_start1 𝒱 c 21 22 10 rfl rfl (by decide) rfl rfl) $$ H
  iintro H
  rw [WP_bind]
  iapply (idx_start0 𝒱 c 22 23 11 rfl rfl (by decide) rfl rfl) $$ H
  iintro H
  rw [WP_bind]
  iapply (idx_start1 𝒱 c 23 24 11 rfl rfl (by decide) rfl rfl) $$ H
  iintro H
  rw [WP_bind]
  iapply (idx_start0 𝒱 c 24 25 12 rfl rfl (by decide) rfl rfl) $$ H
  iintro H
  rw [WP_bind]
  iapply (idx_start1 𝒱 c 25 26 12 rfl rfl (by decide) rfl rfl) $$ H
  iintro H
  rw [WP_bind]
  iapply (idx_start0 𝒱 c 26 27 13 rfl rfl (by decide) rfl rfl) $$ H
  iintro H
  rw [WP_bind]
  iapply (idx_start1 𝒱 c 27 28 13 rfl rfl (by decide) rfl rfl) $$ H
  iintro H
  iapply (WP_pure 𝒱 c)
  iapply HQ
  iexact H

/-! ## The scales -/

/-- The scale of each row: none where the id is the padding id. -/
def scW (v253 : FVec F S2x1024 .f32) (p : ℕ) : F .f32 :=
  v253 (ValueIdx.ix2 (⟨p / 1024 % 2, Nat.mod_lt _ (by decide)⟩ : Fin 2) (⟨p % 1024, Nat.mod_lt _ (by decide)⟩ : Fin 1024))

theorem row_eq (v253 : FVec F S2x1024 .f32) (m : ℕ) (hm : m < 16) {off : Fin 2 → ℕ} (e : off = ![m / 8, 128 * (m % 8)]) (hs : S2x1024.Slices off S1x128) (y : S128x128.Idx) :
    (transpose S128x128 [1, 0] (broadcastTo S128x128 (shapeCast S1x128 (extractStridedSlice S1x128 off v253 hs) shapeCasts_S1x128_S1x128) broadcasts_S1x128_S128x128) transposes_S128x128_p1_0_S128x128 : FVec F S128x128 .f32) y
      = scW v253 (128 * m + (y 0).val) := by
  subst e
  have h0 : (y 0).val < 128 := (y 0).isLt
  unfold transpose broadcastTo shapeCast extractStridedSlice scW
  rw [show ∀ z : S1x128.Idx, Shape.reshapeEquiv shapeCasts_S1x128_S1x128 z = z from fun z => Shape.reshapeEquiv_eq_of_rowMajor _ rfl]
  refine congrArg v253 ?_
  funext a
  apply Fin.ext
  fin_cases a
  · show m / 8 + 0 = (128 * m + (y 0).val) / 1024 % 2
    omega
  · show 128 * (m % 8) + (y 0).val = (128 * m + (y 0).val) % 1024
    omega

/-- The scales of the first `128 m` rows are in place. -/
def ScS (c : Dev nD) (arg10 : Memref sig .tc .vmem S2048x128 .f32) (sc : ℕ → F .f32) (m : ℕ) : sProp 𝕄 :=
  iprop(∃ g : S2048x128.Idx → Elt F .f32, ⌜∀ x, (x 0).val < 128 * m → g x = scV sc x⌝ ∗ Own c arg10 fullShare g)

theorem sc_load (sc : ℕ → F .f32) (m : ℕ) {r : Rect S2048x128} {hl : arg10.view.LoadsAt r.toLoadRect} {Q : (r.shape.Idx → Elt F .f32) → sProp 𝕄} :
    ScS c arg10 sc m ⊢ iprop((∀ v, ScS c arg10 sc m -∗ Q v) -∗ WP 𝒱 c (Prog.lift (.load arg10 r.toLoadRect hl)) Q) := by
  unfold ScS
  iintro ⟨%g, %hg, H⟩ HQ
  iapply (load_rule 𝒱 (c := c) (fun _ => trivial)) $$ H
  iintro H
  iapply HQ
  iexists g
  iframe
  ipureintro
  exact hg

theorem sc_store (sc : ℕ → F .f32) (m m' : ℕ) (em : m' = m + 1) {off : Fin 2 → ℕ} {h : ∀ a, off a + S128x128.size a ≤ S2048x128.size a} (e : off = ![128 * m, 0])
    {w : S128x128.Idx → Elt F .f32} (hw : ∀ y, w y = sc (128 * m + (y 0).val))
    {hx : (arg10.access (Rect.unit (s := S2048x128) off S128x128.size h)).Stores Finset.univ}
    {hm : (Finset.univ : Finset (Rect.unit (s := S2048x128) off S128x128.size h).shape.Idx) = Finset.univ ∨ ∀ a, (Rect.unit (s := S2048x128) off S128x128.size h).stride a = 1}
    {Q : PUnit → sProp 𝕄} :
    ScS c arg10 sc m ⊢ iprop((ScS c arg10 sc m' -∗ Q ⟨⟩) -∗ WP 𝒱 c (Prog.lift (.store arg10 (Rect.unit (s := S2048x128) off S128x128.size h) w Finset.univ hx hm)) Q) := by
  subst em
  unfold ScS
  iintro ⟨%g, %hg, H⟩ HQ
  iapply (store_rule 𝒱 (c := c) (g' := fun x => if 128 * m ≤ (x 0).val ∧ (x 0).val < 128 * m + 128 then scV sc x else g x) (fun _ => trivial) (fun y => ?_) (fun x _ hx => ?_)) $$ H
  · have h0 : (y 0).val < 128 := (y 0).isLt
    rw [unit_emb_of e (h := h)]
    refine (if_pos (show 128 * m ≤ 128 * m + (y 0).val ∧ 128 * m + (y 0).val < 128 * m + 128 by omega)).trans ?_
    unfold scV
    rw [unit_emb_of e (h := h), hw]
    rfl
  · refine if_neg (fun hh => hx (ValueIdx.ix2 (⟨(x 0).val - 128 * m, by omega⟩ : Fin 128) (⟨(x 1).val, (x 1).isLt⟩ : Fin 128)) ?_)
    funext a
    apply Fin.ext
    rw [unit_emb_of e (h := h)]
    fin_cases a
    · show 128 * m + ((x 0).val - 128 * m) = (x 0).val
      omega
    · exact Nat.zero_add _
  iintro H
  iapply HQ
  iexists _
  iframe H
  ipureintro
  intro x hx
  by_cases h1 : 128 * m ≤ (x 0).val ∧ (x 0).val < 128 * m + 128
  · exact if_pos h1
  · exact (if_neg h1).trans (hg x (by omega))

theorem sc_all (sc : ℕ → F .f32) : ScS c arg10 sc 16 ⊢ Own c arg10 fullShare (scV sc) := by
  unfold ScS
  iintro ⟨%g, %hg, H⟩
  iapply (Has.congr (c := c) (fun x => Iff.rfl) (fun x _ => hg x (show (x 0).val < 2048 from (x 0).isLt))) $$ H

/-- The scales with those of the padding cleared. -/
abbrev clrW (ids : S2x1024.Idx → Elt F .i32) (scl : S2x1024.Idx → Elt F .f32) : FVec F S2x1024 .f32 :=
  select (cmpi .eq (show IVec S2x1024 32 from ids) (broadcast S2x1024 0#32)) (broadcast S2x1024 (Scalar.ofBits .f32 0x00000000#32 : F .f32)) scl

/-- The number of padding tokens, as the kernel counts them. -/
abbrev padW (v250 : IVec S2x1024 1) : BitVec 32 :=
  extractAt ![0, 0, 0] (shapeCast S1x1x1 (multiReductionI .add [1, 2] S1 (shapeCast S1x2x1024 (extui 32 v250 natLt_1_32) shapeCasts_S2x1024_S1x2x1024) 0#32 reduces_S1x2x1024_S1 rfl) shapeCasts_S1_S1x1x1) inpos_S1x1x1_p0_0_0

theorem part161_spec (sw dw : ℕ → BitVec 32) (ids : S2x1024.Idx → Elt F .i32) (scl : S2x1024.Idx → Elt F .f32) {q2 q3 : PosShare TreeShare}
    {Q : (Σ' (v250 : IVec S2x1024 1) (v253 : FVec F S2x1024 .f32), FVec F S128x128 .f32) → sProp 𝕄} :
    iprop(IdxS (F := F) c arg11 arg12 arg13 arg17 sw dw 28 ∗ Own c arg2 q2 ids ∗ Own c arg3 q3 scl ∗ Owes c)
      ⊢ iprop((∀ v257, iprop(⌜∀ y : S128x128.Idx, v257 y = scW (clrW ids scl) (128 * 0 + (y 0).val)⌝ ∗ IdxW (F := F) c arg11 arg12 arg13 arg17 sw dw 0 ∗ Own c arg2 q2 ids ∗ Own c arg3 q3 scl)
          -∗ Q ⟨cmpi .eq (show IVec S2x1024 32 from ids) (broadcast S2x1024 0#32), clrW ids scl, v257⟩)
        -∗ WP 𝒱 c (k0_part161 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17) Q) := by
  have eids : ∀ g : S2x1024.Idx → Elt F .i32, (fun j => g ((Rect.unit (s := S2x1024) ![0, 0] S2x1024.size inb_S2x1024_S2x1024_0_0).emb j)) = g := by
    intro g
    funext j
    congr 1
    funext a
    apply Fin.ext
    rw [unit_emb]
    fin_cases a <;> exact Nat.zero_add _
  have escl : ∀ g : S2x1024.Idx → Elt F .f32, (fun j => g ((Rect.unit (s := S2x1024) ![0, 0] S2x1024.size inb_S2x1024_S2x1024_0_0).emb j)) = g := by
    intro g
    funext j
    congr 1
    funext a
    apply Fin.ext
    rw [unit_emb]
    fin_cases a <;> exact Nat.zero_add _
  unfold k0_part161
  dsimp only
  iintro ⟨H, H2, H3, HO⟩ HQ
  rw [WP_bind]
  iapply (idx_start0 𝒱 c 28 29 14 rfl rfl (by decide) rfl rfl) $$ H
  iintro H
  rw [WP_bind]
  iapply (idx_start1 𝒱 c 29 30 14 rfl rfl (by decide) rfl rfl) $$ H
  iintro H
  rw [WP_bind]
  iapply (idx_start0 𝒱 c 30 31 15 rfl rfl (by decide) rfl rfl) $$ H
  iintro H
  rw [WP_bind]
  iapply (idx_start1 𝒱 c 31 32 15 rfl rfl (by decide) rfl rfl) $$ H
  iintro H
  rw [WP_bind]
  iapply (idx_start0 𝒱 c 32 33 16 rfl rfl (by decide) rfl rfl) $$ H
  iintro H
  rw [WP_bind]
  iapply (idx_start1 𝒱 c 33 34 16 rfl rfl (by decide) rfl rfl) $$ H
  iintro H
  rw [WP_bind]
  iapply (load_rule 𝒱 (c := c) (fun _ => trivial)) $$ H2
  iintro H2
  rw [WP_bind]
  iapply (load_rule 𝒱 (c := c) (fun _ => trivial)) $$ H3
  iintro H3
  iapply (WP_pure 𝒱 c)
  rw [eids, escl]
  iapply HQ
  iframe H2 H3
  isplitr [H HO]
  · ipureintro
    intro y
    exact row_eq (clrW ids scl) 0 (by decide) rfl _ y
  unfold IdxS IdxW
  icases H with ⟨H, H12, H13, H11⟩
  iframe HO
  rw [Nat.zero_mul]
  iexact H

theorem sc128_idx (y : S128x128.Idx) : Shape.reshapeEquiv shapeCasts_S128x128_S128x128 y = y := Shape.reshapeEquiv_eq_of_rowMajor _ rfl

theorem part162_spec (v253 : FVec F S2x1024 .f32) (v257 : FVec F S128x128 .f32) (h257 : ∀ y : S128x128.Idx, v257 y = scW v253 (128 * 0 + (y 0).val)) {Q : FVec F S128x128 .f32 → sProp 𝕄} :
    ScS c arg10 (scW v253) 0
      ⊢ iprop((∀ v, iprop(⌜∀ y : S128x128.Idx, v y = scW v253 (128 * 6 + (y 0).val)⌝ ∗ ScS c arg10 (scW v253) 6) -∗ Q v)
        -∗ WP 𝒱 c (k0_part162 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v253 v257) Q) := by
  unfold k0_part162
  dsimp only
  iintro H HQ
  rw [WP_bind]
  iapply (sc_load 𝒱 c (scW v253) 0) $$ H
  iintro %v0 H
  rw [WP_bind]
  iapply (sc_store 𝒱 c (scW v253) 0 1 rfl rfl (fun y => by
    unfold shapeCast
    rw [sc128_idx]
    exact h257 y)) $$ H
  iintro H
  rw [WP_bind]
  iapply (sc_load 𝒱 c (scW v253) 1) $$ H
  iintro %v1 H
  rw [WP_bind]
  iapply (sc_store 𝒱 c (scW v253) 1 2 rfl rfl (fun y => by
    unfold shapeCast
    rw [sc128_idx]
    exact (row_eq v253 1 (by decide) rfl _) y)) $$ H
  iintro H
  rw [WP_bind]
  iapply (sc_load 𝒱 c (scW v253) 2) $$ H
  iintro %v2 H
  rw [WP_bind]
  iapply (sc_store 𝒱 c (scW v253) 2 3 rfl rfl (fun y => by
    unfold shapeCast
    rw [sc128_idx]
    exact (row_eq v253 2 (by decide) rfl _) y)) $$ H
  iintro H
  rw [WP_bind]
  iapply (sc_load 𝒱 c (scW v253) 3) $$ H
  iintro %v3 H
  rw [WP_bind]
  iapply (sc_store 𝒱 c (scW v253) 3 4 rfl rfl (fun y => by
    unfold shapeCast
    rw [sc128_idx]
    exact (row_eq v253 3 (by decide) rfl _) y)) $$ H
  iintro H
  rw [WP_bind]
  iapply (sc_load 𝒱 c (scW v253) 4) $$ H
  iintro %v4 H
  rw [WP_bind]
  iapply (sc_store 𝒱 c (scW v253) 4 5 rfl rfl (fun y => by
    unfold shapeCast
    rw [sc128_idx]
    exact (row_eq v253 4 (by decide) rfl _) y)) $$ H
  iintro H
  rw [WP_bind]
  iapply (sc_load 𝒱 c (scW v253) 5) $$ H
  iintro %v5 H
  rw [WP_bind]
  iapply (sc_store 𝒱 c (scW v253) 5 6 rfl rfl (fun y => by
    unfold shapeCast
    rw [sc128_idx]
    exact (row_eq v253 5 (by decide) rfl _) y)) $$ H
  iintro H
  iapply (WP_pure 𝒱 c)
  iapply HQ
  iframe H
  ipureintro
  exact row_eq v253 6 (by decide) rfl _

theorem part163_spec (v253 : FVec F S2x1024 .f32) (v257 : FVec F S128x128 .f32) (h257 : ∀ y : S128x128.Idx, v257 y = scW v253 (128 * 6 + (y 0).val)) {Q : FVec F S128x128 .f32 → sProp 𝕄} :
    ScS c arg10 (scW v253) 6
      ⊢ iprop((∀ v, iprop(⌜∀ y : S128x128.Idx, v y = scW v253 (128 * 12 + (y 0).val)⌝ ∗ ScS c arg10 (scW v253) 12) -∗ Q v)
        -∗ WP 𝒱 c (k0_part163 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v253 v257) Q) := by
  unfold k0_part163
  dsimp only
  iintro H HQ
  rw [WP_bind]
  iapply (sc_load 𝒱 c (scW v253) 6) $$ H
  iintro %v6 H
  rw [WP_bind]
  iapply (sc_store 𝒱 c (scW v253) 6 7 rfl rfl (fun y => by
    unfold shapeCast
    rw [sc128_idx]
    exact h257 y)) $$ H
  iintro H
  rw [WP_bind]
  iapply (sc_load 𝒱 c (scW v253) 7) $$ H
  iintro %v7 H
  rw [WP_bind]
  iapply (sc_store 𝒱 c (scW v253) 7 8 rfl rfl (fun y => by
    unfold shapeCast
    rw [sc128_idx]
    exact (row_eq v253 7 (by decide) rfl _) y)) $$ H
  iintro H
  rw [WP_bind]
  iapply (sc_load 𝒱 c (scW v253) 8) $$ H
  iintro %v8 H
  rw [WP_bind]
  iapply (sc_store 𝒱 c (scW v253) 8 9 rfl rfl (fun y => by
    unfold shapeCast
    rw [sc128_idx]
    exact (row_eq v253 8 (by decide) rfl _) y)) $$ H
  iintro H
  rw [WP_bind]
  iapply (sc_load 𝒱 c (scW v253) 9) $$ H
  iintro %v9 H
  rw [WP_bind]
  iapply (sc_store 𝒱 c (scW v253) 9 10 rfl rfl (fun y => by
    unfold shapeCast
    rw [sc128_idx]
    exact (row_eq v253 9 (by decide) rfl _) y)) $$ H
  iintro H
  rw [WP_bind]
  iapply (sc_load 𝒱 c (scW v253) 10) $$ H
  iintro %v10 H
  rw [WP_bind]
  iapply (sc_store 𝒱 c (scW v253) 10 11 rfl rfl (fun y => by
    unfold shapeCast
    rw [sc128_idx]
    exact (row_eq v253 10 (by decide) rfl _) y)) $$ H
  iintro H
  rw [WP_bind]
  iapply (sc_load 𝒱 c (scW v253) 11) $$ H
  iintro %v11 H
  rw [WP_bind]
  iapply (sc_store 𝒱 c (scW v253) 11 12 rfl rfl (fun y => by
    unfold shapeCast
    rw [sc128_idx]
    exact (row_eq v253 11 (by decide) rfl _) y)) $$ H
  iintro H
  iapply (WP_pure 𝒱 c)
  iapply HQ
  iframe H
  ipureintro
  exact row_eq v253 12 (by decide) rfl _

theorem part164_spec (v250 : IVec S2x1024 1) (v253 : FVec F S2x1024 .f32) (v257 : FVec F S128x128 .f32) (h257 : ∀ y : S128x128.Idx, v257 y = scW v253 (128 * 12 + (y 0).val)) (sw dw : ℕ → BitVec 32) {Q : BitVec 32 → sProp 𝕄} :
    iprop(ScS c arg10 (scW v253) 12 ∗ IdxW (F := F) c arg11 arg12 arg13 arg17 sw dw 0)
      ⊢ iprop((iprop(Own c arg10 fullShare (scV (scW v253)) ∗ IdxW (F := F) c arg11 arg12 arg13 arg17 sw dw 2) -∗ Q (padW v250))
        -∗ WP 𝒱 c (k0_part164 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v250 v253 v257) Q) := by
  unfold k0_part164
  dsimp only
  iintro ⟨H, HW⟩ HQ
  rw [WP_bind]
  iapply (sc_load 𝒱 c (scW v253) 12) $$ H
  iintro %v12 H
  rw [WP_bind]
  iapply (sc_store 𝒱 c (scW v253) 12 13 rfl rfl (fun y => by
    unfold shapeCast
    rw [sc128_idx]
    exact h257 y)) $$ H
  iintro H
  rw [WP_bind]
  iapply (sc_load 𝒱 c (scW v253) 13) $$ H
  iintro %v13 H
  rw [WP_bind]
  iapply (sc_store 𝒱 c (scW v253) 13 14 rfl rfl (fun y => by
    unfold shapeCast
    rw [sc128_idx]
    exact (row_eq v253 13 (by decide) rfl _) y)) $$ H
  iintro H
  rw [WP_bind]
  iapply (sc_load 𝒱 c (scW v253) 14) $$ H
  iintro %v14 H
  rw [WP_bind]
  iapply (sc_store 𝒱 c (scW v253) 14 15 rfl rfl (fun y => by
    unfold shapeCast
    rw [sc128_idx]
    exact (row_eq v253 14 (by decide) rfl _) y)) $$ H
  iintro H
  rw [WP_bind]
  iapply (sc_load 𝒱 c (scW v253) 15) $$ H
  iintro %v15 H
  rw [WP_bind]
  iapply (sc_store 𝒱 c (scW v253) 15 16 rfl rfl (fun y => by
    unfold shapeCast
    rw [sc128_idx]
    exact (row_eq v253 15 (by decide) rfl _) y)) $$ H
  iintro H
  rw [WP_bind]
  iapply (idx_wait 𝒱 c 0 1 rfl (by decide) rfl) $$ HW
  iintro HW
  rw [WP_bind]
  iapply (idx_wait 𝒱 c 1 2 rfl (by decide) rfl) $$ HW
  iintro HW
  iapply (WP_pure 𝒱 c)
  iapply HQ
  iframe HW
  iapply (sc_all c (scW v253)) $$ H

theorem part165_spec (sw dw : ℕ → BitVec 32) {Q : PUnit → sProp 𝕄} :
    IdxW (F := F) c arg11 arg12 arg13 arg17 sw dw 2
      ⊢ iprop((IdxW (F := F) c arg11 arg12 arg13 arg17 sw dw 9 -∗ Q ⟨⟩) -∗ WP 𝒱 c (k0_part165 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17) Q) := by
  unfold k0_part165
  dsimp only
  iintro HW HQ
  rw [WP_bind]
  iapply (idx_wait 𝒱 c 2 3 rfl (by decide) rfl) $$ HW
  iintro HW
  rw [WP_bind]
  iapply (idx_wait 𝒱 c 3 4 rfl (by decide) rfl) $$ HW
  iintro HW
  rw [WP_bind]
  iapply (idx_wait 𝒱 c 4 5 rfl (by decide) rfl) $$ HW
  iintro HW
  rw [WP_bind]
  iapply (idx_wait 𝒱 c 5 6 rfl (by decide) rfl) $$ HW
  iintro HW
  rw [WP_bind]
  iapply (idx_wait 𝒱 c 6 7 rfl (by decide) rfl) $$ HW
  iintro HW
  rw [WP_bind]
  iapply (idx_wait 𝒱 c 7 8 rfl (by decide) rfl) $$ HW
  iintro HW
  rw [WP_bind]
  iapply (idx_wait 𝒱 c 8 9 rfl (by decide) rfl) $$ HW
  iintro HW
  iapply (WP_pure 𝒱 c)
  iapply HQ
  iexact HW

theorem part166_spec (sw dw : ℕ → BitVec 32) {Q : PUnit → sProp 𝕄} :
    IdxW (F := F) c arg11 arg12 arg13 arg17 sw dw 9
      ⊢ iprop((IdxW (F := F) c arg11 arg12 arg13 arg17 sw dw 17 -∗ Q ⟨⟩) -∗ WP 𝒱 c (k0_part166 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17) Q) := by
  unfold k0_part166
  dsimp only
  iintro HW HQ
  rw [WP_bind]
  iapply (idx_wait 𝒱 c 9 10 rfl (by decide) rfl) $$ HW
  iintro HW
  rw [WP_bind]
  iapply (idx_wait 𝒱 c 10 11 rfl (by decide) rfl) $$ HW
  iintro HW
  rw [WP_bind]
  iapply (idx_wait 𝒱 c 11 12 rfl (by decide) rfl) $$ HW
  iintro HW
  rw [WP_bind]
  iapply (idx_wait 𝒱 c 12 13 rfl (by decide) rfl) $$ HW
  iintro HW
  rw [WP_bind]
  iapply (idx_wait 𝒱 c 13 14 rfl (by decide) rfl) $$ HW
  iintro HW
  rw [WP_bind]
  iapply (idx_wait 𝒱 c 14 15 rfl (by decide) rfl) $$ HW
  iintro HW
  rw [WP_bind]
  iapply (idx_wait 𝒱 c 15 16 rfl (by decide) rfl) $$ HW
  iintro HW
  rw [WP_bind]
  iapply (idx_wait 𝒱 c 16 17 rfl (by decide) rfl) $$ HW
  iintro HW
  iapply (WP_pure 𝒱 c)
  iapply HQ
  iexact HW

theorem part167_spec (sw dw : ℕ → BitVec 32) {Q : PUnit → sProp 𝕄} :
    IdxW (F := F) c arg11 arg12 arg13 arg17 sw dw 17
      ⊢ iprop((IdxW (F := F) c arg11 arg12 arg13 arg17 sw dw 24 -∗ Q ⟨⟩) -∗ WP 𝒱 c (k0_part167 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17) Q) := by
  unfold k0_part167
  dsimp only
  iintro HW HQ
  rw [WP_bind]
  iapply (idx_wait 𝒱 c 17 18 rfl (by decide) rfl) $$ HW
  iintro HW
  rw [WP_bind]
  iapply (idx_wait 𝒱 c 18 19 rfl (by decide) rfl) $$ HW
  iintro HW
  rw [WP_bind]
  iapply (idx_wait 𝒱 c 19 20 rfl (by decide) rfl) $$ HW
  iintro HW
  rw [WP_bind]
  iapply (idx_wait 𝒱 c 20 21 rfl (by decide) rfl) $$ HW
  iintro HW
  rw [WP_bind]
  iapply (idx_wait 𝒱 c 21 22 rfl (by decide) rfl) $$ HW
  iintro HW
  rw [WP_bind]
  iapply (idx_wait 𝒱 c 22 23 rfl (by decide) rfl) $$ HW
  iintro HW
  rw [WP_bind]
  iapply (idx_wait 𝒱 c 23 24 rfl (by decide) rfl) $$ HW
  iintro HW
  iapply (WP_pure 𝒱 c)
  iapply HQ
  iexact HW

theorem part168_spec (sw dw : ℕ → BitVec 32) {Q : PUnit → sProp 𝕄} :
    IdxW (F := F) c arg11 arg12 arg13 arg17 sw dw 24
      ⊢ iprop((IdxW (F := F) c arg11 arg12 arg13 arg17 sw dw 32 -∗ Q ⟨⟩) -∗ WP 𝒱 c (k0_part168 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17) Q) := by
  unfold k0_part168
  dsimp only
  iintro HW HQ
  rw [WP_bind]
  iapply (idx_wait 𝒱 c 24 25 rfl (by decide) rfl) $$ HW
  iintro HW
  rw [WP_bind]
  iapply (idx_wait 𝒱 c 25 26 rfl (by decide) rfl) $$ HW
  iintro HW
  rw [WP_bind]
  iapply (idx_wait 𝒱 c 26 27 rfl (by decide) rfl) $$ HW
  iintro HW
  rw [WP_bind]
  iapply (idx_wait 𝒱 c 27 28 rfl (by decide) rfl) $$ HW
  iintro HW
  rw [WP_bind]
  iapply (idx_wait 𝒱 c 28 29 rfl (by decide) rfl) $$ HW
  iintro HW
  rw [WP_bind]
  iapply (idx_wait 𝒱 c 29 30 rfl (by decide) rfl) $$ HW
  iintro HW
  rw [WP_bind]
  iapply (idx_wait 𝒱 c 30 31 rfl (by decide) rfl) $$ HW
  iintro HW
  rw [WP_bind]
  iapply (idx_wait 𝒱 c 31 32 rfl (by decide) rfl) $$ HW
  iintro HW
  iapply (WP_pure 𝒱 c)
  iapply HQ
  iexact HW

theorem part169_spec (sw dw : ℕ → BitVec 32) {Q : (Σ' (c0_i32_379 : BitVec 32), BitVec 32) → sProp 𝕄} :
    IdxW (F := F) c arg11 arg12 arg13 arg17 sw dw 32
      ⊢ iprop((iprop(Own c arg12 fullShare (wordsAt sw) ∗ Own c arg13 fullShare (wordsAt dw) ∗ Own c arg11 fullShare (idxV sw dw) ∗ Cell c arg17.sem ∗ Owes c) -∗ Q ⟨0#32, 1#32⟩)
        -∗ WP 𝒱 c (k0_part169 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17) Q) := by
  unfold k0_part169
  dsimp only
  iintro HW HQ
  rw [WP_bind]
  iapply (idx_wait 𝒱 c 32 33 rfl (by decide) rfl) $$ HW
  iintro HW
  rw [WP_bind]
  iapply (idx_wait_last 𝒱 c rfl) $$ HW
  iintro HW
  iapply (WP_pure 𝒱 c)
  iapply HQ
  iexact HW

end Cert.KernelIdeal.Emb
-- ==== Proof.KernelIdeal.Init.lean ====
module

public import proofs.«01_k».proof.Proof.KernelIdeal.Idx

@[expose] public section

noncomputable section

namespace Cert.KernelIdeal.Emb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]
local notation "𝕄" => MT nD τ sig Unit (Elt F) ℕ (UD sig nD τ) ℕ
variable (𝒱 : Variants) (c : Dev nD)
variable {arg0 : Memref sig .tc .smem S2049 .i32} {harg0 : arg0.IsWhole} {arg1 : Memref sig .tc .vmem S16x128 .i32} {harg1 : arg1.IsWhole} {arg2 : Memref sig .tc .vmem S2x1024 .i32} {harg2 : arg2.IsWhole} {arg3 : Memref sig .tc .vmem S2x1024 .f32} {harg3 : arg3.IsWhole} {arg4 : Memref sig .tc .hbm S2x1024x12288 .fp8e5m2} {harg4 : arg4.IsWhole} {arg5 : Memref sig .tc .hbm S256x96x8x128 .f32} {harg5 : arg5.IsWhole} {arg6 : Memref sig .tc .vmem S2x2048x3072 .fp8e5m2} {harg6 : arg6.IsWhole} {arg7 : Memref sig .tc .vmem S256x24x8x128 .f32} {harg7 : arg7.IsWhole} {arg8 : Memref sig .tc .vmem S4x9x24x8x128 .f32} {harg8 : arg8.IsWhole} {arg9 : Memref sig .tc .vmem S8x24x8x128 .f32} {harg9 : arg9.IsWhole} {arg10 : Memref sig .tc .vmem S2048x128 .f32} {harg10 : arg10.IsWhole} {arg11 : Memref sig .tc .vmem S2x17x128 .i32} {harg11 : arg11.IsWhole} {arg12 : Memref sig .tc .smem S2176 .i32} {harg12 : arg12.IsWhole} {arg13 : Memref sig .tc .smem S2176 .i32} {harg13 : arg13.IsWhole} {arg14 : DmaSems sig S2x8} {arg15 : DmaSems sig S4} {arg16 : DmaSems sig S_} {arg17 : DmaSems sig S_}

/-! # The kernel's first parts -/

/-! ## Splitting by a key -/

section
variable {s : Shape}
/-- A region splits into the eight values of a key. -/
theorem each8_split (T : (s.Idx → Prop) → sProp 𝕄) (hs : ∀ P R S : s.Idx → Prop, (∀ x, P x ↔ (R x ∨ S x)) → (∀ x, R x → ¬ S x) → T P ⊢ iprop(T R ∗ T S))
    (P : s.Idx → Prop) (key : s.Idx → ℕ) (hk : ∀ x, P x → key x < 8) : T P ⊢ Each8 (fun i => T (fun x => P x ∧ key x = i.val)) := by
  have st : ∀ n : ℕ, T (fun x => P x ∧ n ≤ key x) ⊢ iprop(T (fun x => P x ∧ key x = n) ∗ T (fun x => P x ∧ n + 1 ≤ key x)) := fun n =>
    hs _ _ _ (fun x => by
      constructor
      · rintro ⟨h, h'⟩
        by_cases e : key x = n
        · exact .inl ⟨h, e⟩
        · exact .inr ⟨h, by omega⟩
      · rintro (⟨h, h'⟩ | ⟨h, h'⟩)
        · exact ⟨h, by omega⟩
        · exact ⟨h, by omega⟩) (fun x h1 h2 => by omega)
  have e0 : P = (fun x => P x ∧ 0 ≤ key x) := funext fun x => propext ⟨fun h => ⟨h, Nat.zero_le _⟩, fun h => h.1⟩
  have e7 : (fun x => P x ∧ 7 ≤ key x) = fun x => P x ∧ key x = 7 := funext fun x => propext ⟨fun h => ⟨h.1, by have := hk x h.1; omega⟩, fun h => ⟨h.1, by omega⟩⟩
  unfold Each8
  exact (Entails.of_eq (congrArg T e0)).trans ((st 0).trans (BIClass.sep_mono BIBase.Entails.rfl ((st 1).trans (BIClass.sep_mono BIBase.Entails.rfl ((st 2).trans (BIClass.sep_mono BIBase.Entails.rfl ((st 3).trans (BIClass.sep_mono BIBase.Entails.rfl ((st 4).trans (BIClass.sep_mono BIBase.Entails.rfl ((st 5).trans (BIClass.sep_mono BIBase.Entails.rfl ((st 6).trans (BIClass.sep_mono BIBase.Entails.rfl (Entails.of_eq (congrArg T e7))))))))))))))))

/-- And is put together from them. -/
theorem each8_join (T : (s.Idx → Prop) → sProp 𝕄) (hs : ∀ P R S : s.Idx → Prop, (∀ x, P x ↔ (R x ∨ S x)) → (∀ x, R x → ¬ S x) → iprop(T R ∗ T S) ⊢ T P)
    (P : s.Idx → Prop) (key : s.Idx → ℕ) (hk : ∀ x, P x → key x < 8) : Each8 (fun i => T (fun x => P x ∧ key x = i.val)) ⊢ T P := by
  have st : ∀ n : ℕ, iprop(T (fun x => P x ∧ key x = n) ∗ T (fun x => P x ∧ n + 1 ≤ key x)) ⊢ T (fun x => P x ∧ n ≤ key x) := fun n =>
    hs _ _ _ (fun x => by
      constructor
      · rintro ⟨h, h'⟩
        by_cases e : key x = n
        · exact .inl ⟨h, e⟩
        · exact .inr ⟨h, by omega⟩
      · rintro (⟨h, h'⟩ | ⟨h, h'⟩)
        · exact ⟨h, by omega⟩
        · exact ⟨h, by omega⟩) (fun x h1 h2 => by omega)
  have e0 : (fun x => P x ∧ 0 ≤ key x) = P := funext fun x => propext ⟨fun h => h.1, fun h => ⟨h, Nat.zero_le _⟩⟩
  have e7 : (fun x => P x ∧ key x = 7) = fun x => P x ∧ 7 ≤ key x := funext fun x => propext ⟨fun h => ⟨h.1, by omega⟩, fun h => ⟨h.1, by have := hk x h.1; omega⟩⟩
  unfold Each8
  refine BIBase.Entails.trans ?_ (Entails.of_eq (congrArg T e0))
  refine (BIClass.sep_mono BIBase.Entails.rfl ((BIClass.sep_mono BIBase.Entails.rfl ((BIClass.sep_mono BIBase.Entails.rfl ((BIClass.sep_mono BIBase.Entails.rfl ((BIClass.sep_mono BIBase.Entails.rfl ((BIClass.sep_mono BIBase.Entails.rfl
    ((BIClass.sep_mono BIBase.Entails.rfl (Entails.of_eq (congrArg T e7))).trans (st 6))).trans (st 5))).trans (st 4))).trans (st 3))).trans (st 2))).trans (st 1))).trans (st 0)
end

/-! ## The first chunk's copies -/

/-- One slab before anything has started. -/
def Pre14 (arg4 : Memref sig .tc .hbm S2x1024x12288 .fp8e5m2) (arg6 : Memref sig .tc .vmem S2x2048x3072 .fp8e5m2) (arg14 : DmaSems sig S2x8) (q4 : PosShare TreeShare) (cd : ℕ → ℕ → F .fp8e5m2) (i : Fin 8) : sProp 𝕄 :=
  iprop(Idle14 (F := F) c arg6 arg14 0 i ∗ Idle14 (F := F) c arg6 arg14 1 i ∗ Has c arg4 (rowP i) q4 (codesV cd))

theorem pre14_split (q4 : PosShare TreeShare) (cd : ℕ → ℕ → F .fp8e5m2) (i : Fin 8) :
    Pre14 c arg4 arg6 arg14 q4 cd i ⊢ iprop((Idle14 (F := F) c arg6 arg14 0 i ∗ Has c arg4 (regP 0 i) q4 (codesV cd))
      ∗ Idle14 (F := F) c arg6 arg14 1 i ∗ Has c arg4 (fun x => rowP i x ∧ (x 2).val / 3072 ≠ 0) q4 (codesV cd)) := by
  unfold Pre14
  iintro ⟨HI, HJ, H4⟩
  ihave H4 := (Has.split (R := regP 0 i) (S := fun x => rowP i x ∧ (x 2).val / 3072 ≠ 0) (fun x => by
    unfold regP
    constructor
    · intro h1
      by_cases h3 : (x 2).val / 3072 = 0
      · exact .inl ⟨h1, h3⟩
      · exact .inr ⟨h1, h3⟩
    · rintro (⟨h1, h2⟩ | ⟨h1, h2⟩)
      · exact h1
      · exact h1) (fun x h1 h2 => h2.2 h1.2)) $$ H4
  icases H4 with ⟨H4, H4'⟩
  iframe

theorem slabA_zero (q4 : PosShare TreeShare) (cd : ℕ → ℕ → F .fp8e5m2) (i : Fin 8) :
    iprop(Fly14 c arg4 arg6 arg14 q4 cd 0 i ∗ Idle14 (F := F) c arg6 arg14 1 i ∗ Has c arg4 (fun x => rowP i x ∧ (x 2).val / 3072 ≠ 0) q4 (codesV cd))
      ⊢ SlabA c arg4 arg6 arg14 q4 cd 0 i := by
  unfold SlabA Fl14
  rw [if_pos (by decide)]

theorem part147_spec (q4 : PosShare TreeShare) (cd : ℕ → ℕ → F .fp8e5m2) {Q : PUnit → sProp 𝕄} :
    iprop(Pre14 c arg4 arg6 arg14 q4 cd 0 ∗ Pre14 c arg4 arg6 arg14 q4 cd 1 ∗ Pre14 c arg4 arg6 arg14 q4 cd 2 ∗ Pre14 c arg4 arg6 arg14 q4 cd 3)
      ⊢ iprop((iprop(SlabA c arg4 arg6 arg14 q4 cd 0 0 ∗ SlabA c arg4 arg6 arg14 q4 cd 0 1 ∗ SlabA c arg4 arg6 arg14 q4 cd 0 2 ∗ SlabA c arg4 arg6 arg14 q4 cd 0 3) -∗ Q ⟨⟩) -∗ WP 𝒱 c (k0_part147 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17) Q) := by
  unfold k0_part147
  dsimp only
  iintro ⟨P0, P1, P2, P3⟩ HQ
  ihave P0 := (pre14_split c q4 cd 0) $$ P0
  icases P0 with ⟨P0, R0⟩
  rw [WP_bind]
  iapply (slab_start 𝒱 c 0 0 rfl rfl rfl cd) $$ P0
  iintro P0
  ihave P0 := (slabA_zero c q4 cd 0) $$ [P0 R0]
  · iframe
  ihave P1 := (pre14_split c q4 cd 1) $$ P1
  icases P1 with ⟨P1, R1⟩
  rw [WP_bind]
  iapply (slab_start 𝒱 c 0 1 rfl rfl rfl cd) $$ P1
  iintro P1
  ihave P1 := (slabA_zero c q4 cd 1) $$ [P1 R1]
  · iframe
  ihave P2 := (pre14_split c q4 cd 2) $$ P2
  icases P2 with ⟨P2, R2⟩
  rw [WP_bind]
  iapply (slab_start 𝒱 c 0 2 rfl rfl rfl cd) $$ P2
  iintro P2
  ihave P2 := (slabA_zero c q4 cd 2) $$ [P2 R2]
  · iframe
  ihave P3 := (pre14_split c q4 cd 3) $$ P3
  icases P3 with ⟨P3, R3⟩
  rw [WP_bind]
  iapply (slab_start 𝒱 c 0 3 rfl rfl rfl cd) $$ P3
  iintro P3
  ihave P3 := (slabA_zero c q4 cd 3) $$ [P3 R3]
  · iframe
  iapply (WP_pure 𝒱 c)
  iapply HQ
  iframe

theorem part148_spec (q4 : PosShare TreeShare) (cd : ℕ → ℕ → F .fp8e5m2) {Q : PUnit → sProp 𝕄} :
    iprop(Pre14 c arg4 arg6 arg14 q4 cd 4 ∗ Pre14 c arg4 arg6 arg14 q4 cd 5 ∗ Pre14 c arg4 arg6 arg14 q4 cd 6 ∗ Pre14 c arg4 arg6 arg14 q4 cd 7)
      ⊢ iprop((iprop(SlabA c arg4 arg6 arg14 q4 cd 0 4 ∗ SlabA c arg4 arg6 arg14 q4 cd 0 5 ∗ SlabA c arg4 arg6 arg14 q4 cd 0 6 ∗ SlabA c arg4 arg6 arg14 q4 cd 0 7) -∗ Q ⟨⟩) -∗ WP 𝒱 c (k0_part148 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17) Q) := by
  unfold k0_part148
  dsimp only
  iintro ⟨P4, P5, P6, P7⟩ HQ
  ihave P4 := (pre14_split c q4 cd 4) $$ P4
  icases P4 with ⟨P4, R4⟩
  rw [WP_bind]
  iapply (slab_start 𝒱 c 0 4 rfl rfl rfl cd) $$ P4
  iintro P4
  ihave P4 := (slabA_zero c q4 cd 4) $$ [P4 R4]
  · iframe
  ihave P5 := (pre14_split c q4 cd 5) $$ P5
  icases P5 with ⟨P5, R5⟩
  rw [WP_bind]
  iapply (slab_start 𝒱 c 0 5 rfl rfl rfl cd) $$ P5
  iintro P5
  ihave P5 := (slabA_zero c q4 cd 5) $$ [P5 R5]
  · iframe
  ihave P6 := (pre14_split c q4 cd 6) $$ P6
  icases P6 with ⟨P6, R6⟩
  rw [WP_bind]
  iapply (slab_start 𝒱 c 0 6 rfl rfl rfl cd) $$ P6
  iintro P6
  ihave P6 := (slabA_zero c q4 cd 6) $$ [P6 R6]
  · iframe
  ihave P7 := (pre14_split c q4 cd 7) $$ P7
  icases P7 with ⟨P7, R7⟩
  rw [WP_bind]
  iapply (slab_start 𝒱 c 0 7 rfl rfl rfl cd) $$ P7
  iintro P7
  ihave P7 := (slabA_zero c q4 cd 7) $$ [P7 R7]
  · iframe
  iapply (WP_pure 𝒱 c)
  iapply HQ
  iframe

/-! ## The scalars -/

theorem part149_spec {Q : (Σ' (c0_i32_49 : BitVec 32) (c2048_i32 : BitVec 32) (c0_i32_50 : BitVec 32), BitVec 32) → sProp 𝕄} :
    Q ⟨0#32, 2048#32, 0#32, 1#32⟩ ⊢ WP 𝒱 c (k0_part149 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17) Q := by
  unfold k0_part149
  dsimp only
  exact WP_pure 𝒱 c _ _

/-- Every position, laid out in rows of 128. -/
def v77V : IVec S16x128 32 := addi (muli (iota .tc S16x128 32 [0] iota_S16x128_d0_w32) (broadcast S16x128 128#32)) (iota .tc S16x128 32 [1] iota_S16x128_d1_w32)
/-- Every position's lane. -/
def v78V : IVec S16x128 32 := iota .tc S16x128 32 [1] iota_S16x128_d1_w32

theorem whole9_emb {h : ∀ a, (![0, 0, 0, 0] : Fin 4 → ℕ) a + S8x24x8x128.size a ≤ S8x24x8x128.size a} (x : S8x24x8x128.Idx) :
    (Rect.unit (s := S8x24x8x128) ![0, 0, 0, 0] S8x24x8x128.size h).emb x = x := by
  funext a
  apply Fin.ext
  refine (unit_emb _ a).trans ?_
  fin_cases a <;> exact Nat.zero_add _

theorem part151_spec (v49 : BitVec 32) (hw2 : k0_chk2 v49)
    {Q : (Σ' (k0_hw2 : k0_chk2 v49) (v68 : BitVec 32) (v77 : IVec S16x128 32) (v78 : IVec S16x128 32) (v79 : BitVec 32) (c16_i32 : BitVec 32) (v80 : BitVec 32) (v85 : BitVec 32), BitVec 32) → sProp 𝕄} :
    Any (F := F) c arg9 (fun _ => True)
      ⊢ iprop((∀ (v79 v80 v85 v87 : BitVec 32), Own c arg9 fullShare (show S8x24x8x128.Idx → Elt F .f32 from zeroV) -∗ Q ⟨hw2, nbW v49, v77V, v78V, v79, 16#32, v80, v85, v87⟩)
        -∗ WP 𝒱 c (k0_part151 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v49) Q) := by
  unfold k0_part151 nbW fdivW v77V v78V
  dsimp only
  iintro ⟨%g, H⟩ HQ
  rw [WP_bind]
  iapply (assume_rule 𝒱 hw2)
  rw [WP_bind]
  iapply (load_rule 𝒱 (c := c) (fun _ => trivial)) $$ H
  iintro H
  rw [WP_bind]
  iapply (store_rule 𝒱 (c := c) (g' := show S8x24x8x128.Idx → Elt F .f32 from zeroV) (fun _ => trivial) (fun j => ?_) (fun i _ hi => ?_)) $$ H
  · rfl
  · exact (hi i (whole9_emb i)).elim
  iintro H
  iapply (WP_pure 𝒱 c)
  iapply HQ
  iexact H

theorem part152_spec (v79 c16 v80 v85 v87 : BitVec 32) {Q : (Σ' (v97 : IVec S16x128 32) (c0_i32_69 : BitVec 32) (v102 : BitVec 32), BitVec 32) → sProp 𝕄} :
    iprop(∀ v102, Q ⟨k0_pay439, 0#32, v102, 1#32⟩) ⊢ WP 𝒱 c (k0_part152 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v79 c16 v80 v85 v87) Q := by
  unfold k0_part152 k0_pay439
  dsimp only
  iintro HQ
  iapply (WP_pure 𝒱 c)
  iapply HQ

theorem part154_spec {Q : BitVec 32 → sProp 𝕄} : Q 1#32 ⊢ WP 𝒱 c (k0_part154 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17) Q := by
  unfold k0_part154
  exact WP_pure 𝒱 c _ _

theorem part155_spec (v49 : BitVec 32) (h : v49.toNat ≤ 2048) (hw2 : k0_chk2 v49) (v77 : IVec S16x128 32) (v102 : BitVec 32) (v103 : IVec S16x128 32) (c1 : BitVec 32) {Q : IVec S16x128 32 → sProp 𝕄} :
    Q v103 ⊢ WP 𝒱 c (k0_part155 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v49 hw2 v77 v102 v103 c1) Q := by
  unfold k0_part155
  iintro HQ
  iapply (loop_zero 𝒱 c _ _ _ _ (t3_trips v49 h))
  iexact HQ

theorem part179_spec (v68 : BitVec 32) {Q : (Σ' (c0_i32_397 : BitVec 32) (v496 : BitVec 32), BitVec 32) → sProp 𝕄} :
    iprop(∀ v496, Q ⟨0#32, v496, 1#32⟩) ⊢ WP 𝒱 c (k0_part179 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v68) Q := by
  unfold k0_part179
  dsimp only
  iintro HQ
  iapply (WP_pure 𝒱 c)
  iapply HQ

theorem part181_spec {Q : BitVec 32 → sProp 𝕄} : Q 1#32 ⊢ WP 𝒱 c (k0_part181 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17) Q := by
  unfold k0_part181
  exact WP_pure 𝒱 c _ _

theorem part182_spec (v49 : BitVec 32) (h : v49.toNat ≤ 2048) (hw2 : k0_chk2 v49) (v496 c1 : BitVec 32) {Q : PUnit → sProp 𝕄} :
    Q ⟨⟩ ⊢ WP 𝒱 c (k0_part182 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v49 hw2 v496 c1) Q := by
  unfold k0_part182
  iintro HQ
  rw [WP_bind]
  iapply (loop_zero 𝒱 c _ _ _ _ (t22_trips v49 h))
  iapply (WP_pure 𝒱 c)
  iexact HQ

end Cert.KernelIdeal.Emb
-- ==== Proof.KernelIdeal.Body.lean ====
module

public import proofs.«01_k».proof.Proof.KernelIdeal.Init

@[expose] public section

noncomputable section

namespace Cert.KernelIdeal.Emb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]
local notation "𝕄" => MT nD τ sig Unit (Elt F) ℕ (UD sig nD τ) ℕ
variable (𝒱 : Variants) (c : Dev nD)
variable {arg0 : Memref sig .tc .smem S2049 .i32} {harg0 : arg0.IsWhole} {arg1 : Memref sig .tc .vmem S16x128 .i32} {harg1 : arg1.IsWhole} {arg2 : Memref sig .tc .vmem S2x1024 .i32} {harg2 : arg2.IsWhole} {arg3 : Memref sig .tc .vmem S2x1024 .f32} {harg3 : arg3.IsWhole} {arg4 : Memref sig .tc .hbm S2x1024x12288 .fp8e5m2} {harg4 : arg4.IsWhole} {arg5 : Memref sig .tc .hbm S256x96x8x128 .f32} {harg5 : arg5.IsWhole} {arg6 : Memref sig .tc .vmem S2x2048x3072 .fp8e5m2} {harg6 : arg6.IsWhole} {arg7 : Memref sig .tc .vmem S256x24x8x128 .f32} {harg7 : arg7.IsWhole} {arg8 : Memref sig .tc .vmem S4x9x24x8x128 .f32} {harg8 : arg8.IsWhole} {arg9 : Memref sig .tc .vmem S8x24x8x128 .f32} {harg9 : arg9.IsWhole} {arg10 : Memref sig .tc .vmem S2048x128 .f32} {harg10 : arg10.IsWhole} {arg11 : Memref sig .tc .vmem S2x17x128 .i32} {harg11 : arg11.IsWhole} {arg12 : Memref sig .tc .smem S2176 .i32} {harg12 : arg12.IsWhole} {arg13 : Memref sig .tc .smem S2176 .i32} {harg13 : arg13.IsWhole} {arg14 : DmaSems sig S2x8} {arg15 : DmaSems sig S4} {arg16 : DmaSems sig S_} {arg17 : DmaSems sig S_}

/-! # The whole kernel -/

/-- For every position, how many segments start at or before it, less one. -/
def v104V (so : ℕ → BitVec 32) (nu : ℕ) : IVec S16x128 32 := fun i => cntW so (v77V i) (((BitVec.ofNat 32 nu).toNat + 15) / 16 * 16)

/-- The facts about the operands the kernel's run rests on. -/
structure Facts (so : ℕ → BitVec 32) (nu : ℕ) (pm : S16x128.Idx → Elt F .i32) (ids : S2x1024.Idx → Elt F .i32) (scl : S2x1024.Idx → Elt F .f32) (cd : ℕ → ℕ → F .fp8e5m2)
    (sw dw : ℕ → BitVec 32) (tk : ℕ → ℕ) (O : ℕ → ℕ → ℕ → F .f32) : Prop where
  hnu : IsNu so nu
  hsw : ∀ x : S16x128.Idx, srcW v78V (v104V so nu) pm x = sw (128 * (x 0).val + (x 1).val)
  hdw : ∀ x : S16x128.Idx, dstW (v104V so nu) x = dw (128 * (x 0).val + (x 1).val)
  hsw0 : ∀ p, 2048 ≤ p → sw p = 0#32
  hdw0 : ∀ p, 2048 ≤ p → dw p = Scalar.muli (nbW (BitVec.ofNat 32 nu)) 1536#32
  hblk : ∀ k, k < 4 → ∀ t15, BlkOk (BitVec.ofNat 32 nu) (padW (cmpi .eq (show IVec S2x1024 32 from ids) (broadcast S2x1024 0#32))) (fun i => so (i 0).val) sw dw tk (dqX cd (scW (clrW ids scl)) k) O True k t15
  hzero : ∀ row, 64 * (((BitVec.ofNat 32 nu).toNat + 63) / 64) ≤ row → ∀ tile lane, O row tile lane = Scalar.ofBits .f32 0x00000000#32

/-! ## The codes and their buffer -/

/-- The codes, the code buffer and its semaphores, whole. -/
def Codes (arg4 : Memref sig .tc .hbm S2x1024x12288 .fp8e5m2) (arg6 : Memref sig .tc .vmem S2x2048x3072 .fp8e5m2) (arg14 : DmaSems sig S2x8) (q4 : PosShare TreeShare) (cd : ℕ → ℕ → F .fp8e5m2) : sProp 𝕄 :=
  iprop(Own c arg4 q4 (codesV cd) ∗ Any (F := F) c arg6 (fun _ => True) ∗ Each8 (fun i => Cell c (sem14 arg14 0 i)) ∗ Each8 (fun i => Cell c (sem14 arg14 1 i)))

theorem key6_lt (x : S2x2048x3072.Idx) : (x 1).val / 256 < 8 := by have : (x 1).val < 2048 := (x 1).isLt; omega
theorem key4_lt (x : S2x1024x12288.Idx) : (x 0).val * 4 + (x 1).val / 256 < 8 := by
  have : (x 0).val < 2 := (x 0).isLt
  have : (x 1).val < 1024 := (x 1).isLt
  omega

theorem any6_split : Any (F := F) c arg6 (fun _ => True) ⊢ iprop(Each8 (fun i => Any (F := F) c arg6 (slabP 0 i)) ∗ Each8 (fun i => Any (F := F) c arg6 (slabP 1 i))) := by
  refine (Any.split (R := fun x : S2x2048x3072.Idx => (x 0).val = 0 % 2) (S := fun x : S2x2048x3072.Idx => (x 0).val = 1 % 2) (fun x => by
    have : (x 0).val < 2 := (x 0).isLt
    constructor
    · intro _; omega
    · intro _; trivial) (fun x h1 h2 => by omega)).trans ?_
  exact BIClass.sep_mono (each8_split (Any (F := F) c arg6) (fun P R S h1 h2 => Any.split h1 h2) _ (fun x => (x 1).val / 256) (fun x _ => key6_lt x))
    (each8_split (Any (F := F) c arg6) (fun P R S h1 h2 => Any.split h1 h2) _ (fun x => (x 1).val / 256) (fun x _ => key6_lt x))

theorem any6_join : iprop(Each8 (fun i => Any (F := F) c arg6 (slabP 0 i)) ∗ Each8 (fun i => Any (F := F) c arg6 (slabP 1 i))) ⊢ Any (F := F) c arg6 (fun _ => True) := by
  refine BIBase.Entails.trans ?_ (Any.join (R := fun x : S2x2048x3072.Idx => (x 0).val = 0 % 2) (S := fun x : S2x2048x3072.Idx => (x 0).val = 1 % 2) (fun x => by
    have : (x 0).val < 2 := (x 0).isLt
    constructor
    · intro _; omega
    · intro _; trivial) (fun x h1 h2 => by omega))
  exact BIClass.sep_mono (each8_join (Any (F := F) c arg6) (fun P R S h1 h2 => Any.join h1 h2) _ (fun x => (x 1).val / 256) (fun x _ => key6_lt x))
    (each8_join (Any (F := F) c arg6) (fun P R S h1 h2 => Any.join h1 h2) _ (fun x => (x 1).val / 256) (fun x _ => key6_lt x))

theorem own4_split (q4 : PosShare TreeShare) (cd : ℕ → ℕ → F .fp8e5m2) : Own c arg4 q4 (codesV cd) ⊢ Each8 (fun i => Has c arg4 (rowP i) q4 (codesV cd)) := by
  refine (each8_split (fun P => Has c arg4 P q4 (codesV cd)) (fun P R S h1 h2 => Has.split h1 h2) (fun _ => True) (fun x => (x 0).val * 4 + (x 1).val / 256) (fun x _ => key4_lt x)).trans ?_
  exact Each8.mono fun i => Has.congr (fun x => ⟨fun h => h.2, fun h => ⟨trivial, h⟩⟩) (fun _ _ => rfl)

theorem own4_join (q4 : PosShare TreeShare) (cd : ℕ → ℕ → F .fp8e5m2) : Each8 (fun i => Has c arg4 (rowP i) q4 (codesV cd)) ⊢ Own c arg4 q4 (codesV cd) := by
  refine BIBase.Entails.trans ?_ (each8_join (fun P => Has c arg4 P q4 (codesV cd)) (fun P R S h1 h2 => Has.join h1 h2) (fun _ => True) (fun x => (x 0).val * 4 + (x 1).val / 256) (fun x _ => key4_lt x))
  exact Each8.mono fun i => Has.congr (fun x => ⟨fun h => ⟨trivial, h⟩, fun h => h.2⟩) (fun _ _ => rfl)

theorem codes_split (q4 : PosShare TreeShare) (cd : ℕ → ℕ → F .fp8e5m2) : Codes c arg4 arg6 arg14 q4 cd ⊢ Each8 (Pre14 c arg4 arg6 arg14 q4 cd) := by
  unfold Codes
  iintro ⟨H4, H6, HC, HD⟩
  ihave H4 := (own4_split c q4 cd) $$ H4
  ihave H6 := (any6_split c) $$ H6
  icases H6 with ⟨HA, HB⟩
  unfold Each8 Pre14 Idle14
  icases H4 with ⟨r0, r1, r2, r3, r4, r5, r6, r7⟩
  icases HC with ⟨c0, c1, c2, c3, c4, c5, c6, c7⟩
  icases HD with ⟨d0, d1, d2, d3, d4, d5, d6, d7⟩
  icases HA with ⟨a0, a1, a2, a3, a4, a5, a6, a7⟩
  icases HB with ⟨b0, b1, b2, b3, b4, b5, b6, b7⟩
  isplitl [r0 c0 d0 a0 b0]
  · isplitl [c0 a0]
    · isplitl [c0]
      · iexact c0
      · iexact a0
    isplitl [d0 b0]
    · isplitl [d0]
      · iexact d0
      · iexact b0
    iexact r0
  isplitl [r1 c1 d1 a1 b1]
  · isplitl [c1 a1]
    · isplitl [c1]
      · iexact c1
      · iexact a1
    isplitl [d1 b1]
    · isplitl [d1]
      · iexact d1
      · iexact b1
    iexact r1
  isplitl [r2 c2 d2 a2 b2]
  · isplitl [c2 a2]
    · isplitl [c2]
      · iexact c2
      · iexact a2
    isplitl [d2 b2]
    · isplitl [d2]
      · iexact d2
      · iexact b2
    iexact r2
  isplitl [r3 c3 d3 a3 b3]
  · isplitl [c3 a3]
    · isplitl [c3]
      · iexact c3
      · iexact a3
    isplitl [d3 b3]
    · isplitl [d3]
      · iexact d3
      · iexact b3
    iexact r3
  isplitl [r4 c4 d4 a4 b4]
  · isplitl [c4 a4]
    · isplitl [c4]
      · iexact c4
      · iexact a4
    isplitl [d4 b4]
    · isplitl [d4]
      · iexact d4
      · iexact b4
    iexact r4
  isplitl [r5 c5 d5 a5 b5]
  · isplitl [c5 a5]
    · isplitl [c5]
      · iexact c5
      · iexact a5
    isplitl [d5 b5]
    · isplitl [d5]
      · iexact d5
      · iexact b5
    iexact r5
  isplitl [r6 c6 d6 a6 b6]
  · isplitl [c6 a6]
    · isplitl [c6]
      · iexact c6
      · iexact a6
    isplitl [d6 b6]
    · isplitl [d6]
      · iexact d6
      · iexact b6
    iexact r6
  isplitl [c7 a7]
  · isplitl [c7]
    · iexact c7
    · iexact a7
  isplitl [d7 b7]
  · isplitl [d7]
    · iexact d7
    · iexact b7
  iexact r7

theorem slabA_end (q4 : PosShare TreeShare) (cd : ℕ → ℕ → F .fp8e5m2) (i : Fin 8) :
    SlabA c arg4 arg6 arg14 q4 cd 4 i ⊢ Pre14 c arg4 arg6 arg14 q4 cd i := by
  unfold SlabA Fl14 Pre14
  rw [if_neg (by decide)]
  iintro ⟨HI, HJ, H4⟩
  isplitl [HI]
  · iexact HI
  isplitl [HJ]
  · iexact HJ
  iapply (Has.congr (fun x => ⟨fun h => h.1, fun h => ⟨h, by have : (x 2).val < 12288 := (x 2).isLt; omega⟩⟩) (fun _ _ => rfl)) $$ H4

theorem codes_join (q4 : PosShare TreeShare) (cd : ℕ → ℕ → F .fp8e5m2) : Each8 (SlabA c arg4 arg6 arg14 q4 cd 4) ⊢ Codes c arg4 arg6 arg14 q4 cd := by
  refine (Each8.mono (slabA_end c q4 cd)).trans ?_
  iintro H
  ihave H' : iprop(Each8 (fun i => Has c arg4 (rowP i) q4 (codesV cd)) ∗ (Each8 (fun i => Any (F := F) c arg6 (slabP 0 i)) ∗ Each8 (fun i => Any (F := F) c arg6 (slabP 1 i)))
      ∗ Each8 (fun i => Cell c (sem14 arg14 0 i)) ∗ Each8 (fun i => Cell c (sem14 arg14 1 i))) $$ [H]
  · unfold Each8 Pre14 Idle14
    icases H with ⟨⟨⟨c0, a0⟩, ⟨d0, b0⟩, r0⟩, ⟨⟨c1, a1⟩, ⟨d1, b1⟩, r1⟩, ⟨⟨c2, a2⟩, ⟨d2, b2⟩, r2⟩, ⟨⟨c3, a3⟩, ⟨d3, b3⟩, r3⟩, ⟨⟨c4, a4⟩, ⟨d4, b4⟩, r4⟩, ⟨⟨c5, a5⟩, ⟨d5, b5⟩, r5⟩, ⟨⟨c6, a6⟩, ⟨d6, b6⟩, r6⟩, ⟨⟨c7, a7⟩, ⟨d7, b7⟩, r7⟩⟩
    isplitl [r0 r1 r2 r3 r4 r5 r6 r7]
    · isplitl [r0]
      · iexact r0
      isplitl [r1]
      · iexact r1
      isplitl [r2]
      · iexact r2
      isplitl [r3]
      · iexact r3
      isplitl [r4]
      · iexact r4
      isplitl [r5]
      · iexact r5
      isplitl [r6]
      · iexact r6
      iexact r7
    isplitl [a0 a1 a2 a3 a4 a5 a6 a7 b0 b1 b2 b3 b4 b5 b6 b7]
    · isplitl [a0 a1 a2 a3 a4 a5 a6 a7]
      · isplitl [a0]
        · iexact a0
        isplitl [a1]
        · iexact a1
        isplitl [a2]
        · iexact a2
        isplitl [a3]
        · iexact a3
        isplitl [a4]
        · iexact a4
        isplitl [a5]
        · iexact a5
        isplitl [a6]
        · iexact a6
        iexact a7
      isplitl [b0]
      · iexact b0
      isplitl [b1]
      · iexact b1
      isplitl [b2]
      · iexact b2
      isplitl [b3]
      · iexact b3
      isplitl [b4]
      · iexact b4
      isplitl [b5]
      · iexact b5
      isplitl [b6]
      · iexact b6
      iexact b7
    isplitl [c0 c1 c2 c3 c4 c5 c6 c7]
    · isplitl [c0]
      · iexact c0
      isplitl [c1]
      · iexact c1
      isplitl [c2]
      · iexact c2
      isplitl [c3]
      · iexact c3
      isplitl [c4]
      · iexact c4
      isplitl [c5]
      · iexact c5
      isplitl [c6]
      · iexact c6
      iexact c7
    isplitl [d0]
    · iexact d0
    isplitl [d1]
    · iexact d1
    isplitl [d2]
    · iexact d2
    isplitl [d3]
    · iexact d3
    isplitl [d4]
    · iexact d4
    isplitl [d5]
    · iexact d5
    isplitl [d6]
    · iexact d6
    iexact d7
  icases H' with ⟨H4, H6, HC, HD⟩
  unfold Codes
  isplitl [H4]
  · iapply (own4_join c q4 cd) $$ H4
  isplitl [H6]
  · iapply (any6_join c) $$ H6
  iframe

/-! ## The ring and the zero blocks -/

/-- The staging ring and its semaphores, whole. -/
def Ring (arg8 : Memref sig .tc .vmem S4x9x24x8x128 .f32) (arg15 : DmaSems sig S4) : sProp 𝕄 :=
  iprop(Any (F := F) c arg8 (fun _ => True) ∗ Cell c (sem15 arg15 0 (by decide)) ∗ Cell c (sem15 arg15 1 (by decide)) ∗ Cell c (sem15 arg15 2 (by decide)) ∗ Cell c (sem15 arg15 3 (by decide)))

theorem any8_split : Any (F := F) c arg8 (fun _ => True) ⊢ iprop(Any (F := F) c arg8 (slotP 0) ∗ Any (F := F) c arg8 (slotP 1) ∗ Any (F := F) c arg8 (slotP 2) ∗ Any (F := F) c arg8 (slotP 3)) := by
  have hl : ∀ x : S4x9x24x8x128.Idx, (x 0).val < 4 := fun x => (x 0).isLt
  unfold slotP
  refine (Any.split (R := fun x : S4x9x24x8x128.Idx => (x 0).val = 0) (S := fun x => 1 ≤ (x 0).val) (fun x => ⟨fun _ => by omega, fun _ => trivial⟩) (fun x h1 h2 => by omega)).trans (BIClass.sep_mono BIBase.Entails.rfl ?_)
  refine (Any.split (R := fun x : S4x9x24x8x128.Idx => (x 0).val = 1) (S := fun x => 2 ≤ (x 0).val) (fun x => ⟨fun _ => by omega, fun h => by omega⟩) (fun x h1 h2 => by omega)).trans (BIClass.sep_mono BIBase.Entails.rfl ?_)
  exact (Any.split (R := fun x : S4x9x24x8x128.Idx => (x 0).val = 2) (S := fun x => (x 0).val = 3) (fun x => ⟨fun _ => by have := hl x; omega, fun h => by omega⟩) (fun x h1 h2 => by omega))

theorem any8_join : iprop(Any (F := F) c arg8 (slotP 0) ∗ Any (F := F) c arg8 (slotP 1) ∗ Any (F := F) c arg8 (slotP 2) ∗ Any (F := F) c arg8 (slotP 3)) ⊢ Any (F := F) c arg8 (fun _ => True) := by
  have hl : ∀ x : S4x9x24x8x128.Idx, (x 0).val < 4 := fun x => (x 0).isLt
  unfold slotP
  refine BIBase.Entails.trans (BIClass.sep_mono BIBase.Entails.rfl ?_) (Any.join (R := fun x : S4x9x24x8x128.Idx => (x 0).val = 0) (S := fun x => 1 ≤ (x 0).val) (fun x => ⟨fun _ => by omega, fun _ => trivial⟩) (fun x h1 h2 => by omega))
  refine BIBase.Entails.trans (BIClass.sep_mono BIBase.Entails.rfl ?_) (Any.join (R := fun x : S4x9x24x8x128.Idx => (x 0).val = 1) (S := fun x => 2 ≤ (x 0).val) (fun x => ⟨fun _ => by omega, fun h => by omega⟩) (fun x h1 h2 => by omega))
  exact (Any.join (R := fun x : S4x9x24x8x128.Idx => (x 0).val = 2) (S := fun x => (x 0).val = 3) (fun x => ⟨fun _ => by have := hl x; omega, fun h => by omega⟩) (fun x h1 h2 => by omega))

theorem univ4 (Φ : Fin 4 → sProp 𝕄) : bigSep Finset.univ Φ = iprop(Φ 0 ∗ Φ 1 ∗ Φ 2 ∗ Φ 3) := by
  rw [show (Finset.univ : Finset (Fin 4)) = insert 0 (insert 1 (insert 2 {3})) from by decide]
  rw [bigSep_insert (by decide), bigSep_insert (by decide), bigSep_insert (by decide), bigSep_singleton]
  rfl

theorem ring_init (O : ℕ → ℕ → ℕ → F .f32) (G : Prop) (nb : ℕ) :
    iprop(Ring (F := F) c arg8 arg15 ∗ Any (F := F) c arg5 (fun z => (z 0).val / 8 < nb)) ⊢ RingS c arg5 arg8 arg15 O G nb 0 := by
  have hI : ∀ r, Idle (F := F) c arg8 arg15 r ⊢ Slot c arg5 arg8 arg15 O G nb 0 r := fun r => by
    unfold Slot
    iintro H
    ileft
    iframe
    ipureintro
    exact Nat.zero_le _
  unfold Ring RingS
  rw [univ4]
  iintro ⟨⟨H8, C0, C1, C2, C3⟩, H5⟩
  ihave H8 := (any8_split c) $$ H8
  icases H8 with ⟨A0, A1, A2, A3⟩
  isplitl [C0 C1 C2 C3 A0 A1 A2 A3]
  · isplitl [C0 A0]
    · iapply (hI 0)
      unfold Idle
      isplitl [C0]
      · iexact C0
      · iexact A0
    isplitl [C1 A1]
    · iapply (hI 1)
      unfold Idle
      isplitl [C1]
      · iexact C1
      · iexact A1
    isplitl [C2 A2]
    · iapply (hI 2)
      unfold Idle
      isplitl [C2]
      · iexact C2
      · iexact A2
    iapply (hI 3)
    unfold Idle
    isplitl [C3]
    · iexact C3
    · iexact A3
  isplitr [H5]
  · iapply (To.empty c (m := arg5) (P := doneP nb 0) (fun z h => by unfold doneP at h; omega))
    iempintro
  icases H5 with ⟨%g, H5⟩
  iexists g
  iapply (Has.congr (fun z => by
    unfold undoneP
    exact ⟨fun h => ⟨h, Nat.zero_le _⟩, fun h => h.1⟩) (fun _ _ => rfl)) $$ H5

theorem ring_end : iprop(Idle (F := F) c arg8 arg15 0 ∗ Idle (F := F) c arg8 arg15 1 ∗ Idle (F := F) c arg8 arg15 2 ∗ Idle (F := F) c arg8 arg15 3) ⊢ Ring (F := F) c arg8 arg15 := by
  unfold Ring Idle
  iintro ⟨⟨C0, A0⟩, ⟨C1, A1⟩, ⟨C2, A2⟩, C3, A3⟩
  isplitl [A0 A1 A2 A3]
  · iapply (any8_join c)
    isplitl [A0]
    · iexact A0
    isplitl [A1]
    · iexact A1
    isplitl [A2]
    · iexact A2
    iexact A3
  isplitl [C0]
  · iexact C0
  isplitl [C1]
  · iexact C1
  isplitl [C2]
  · iexact C2
  iexact C3

theorem zero_init (X0 : BufTy.Contents (Elt F) arg9.view.ty) (nb : ℕ) :
    iprop(Cell c arg16.sem ∗ (arg9.view.loc (c : Thread nD τ) ↦[arg9.view.set]{fullShare} X0) ∗ Any (F := F) c arg5 (fun z => nb ≤ (z 0).val / 8))
      ⊢ iprop(|={Set.univ}=> ZeroS c arg5 arg9 arg16 X0 nb 0) := by
  iintro ⟨HC, H9, H5⟩
  unfold ZeroS
  by_cases h : 32 ≤ nb
  · imodintro
    ileft
    iframe
    ipureintro
    exact h
  · imod (Bat.alloc (c := c) (cred arg5 S8x24x8x128) (zD c arg5 arg9 X0 nb)) $$ HC with HB
    imodintro
    iright
    isplitr
    · ipureintro; omega
    isplitl [HB]
    · iexact HB
    isplitl [H9]
    · iexact H9
    icases H5 with ⟨%g, H5⟩
    iexists g
    iapply (Has.congr (fun z => by
      unfold zU
      exact ⟨fun h => ⟨h, Nat.zero_le _⟩, fun h => h.1⟩) (fun _ _ => rfl)) $$ H5

theorem out_end (O : ℕ → ℕ → ℕ → F .f32) (nb : ℕ) (hz : ∀ row, 64 * nb ≤ row → ∀ tile lane, O row tile lane = Scalar.ofBits .f32 0x00000000#32) :
    iprop(To c arg5 (doneP nb (4 * nb + 3 + 1)) (OutV O) (fun _ => True) ∗ Has c arg5 (fun z => nb ≤ (z 0).val / 8) fullShare (fun _ => Scalar.ofBits .f32 0x00000000#32))
      ⊢ Own c arg5 fullShare (OutV O) := by
  iintro ⟨H1, H2⟩
  ihave H1 := (To.to_has c (fun _ _ => trivial)) $$ H1
  ihave H2 := (Has.congr (R := fun z => nb ≤ (z 0).val / 8) (g' := OutV O) (fun _ => Iff.rfl) (fun z hz' => by
    unfold OutV
    exact (hz _ (by omega) _ _).symm)) $$ H2
  iapply (Has.join (R := doneP nb (4 * nb + 3 + 1)) (S := fun z => nb ≤ (z 0).val / 8) (fun z => by
    have h1 : (z 1).val < 96 := (z 1).isLt
    have h2 : (z 1).val / 24 * nb ≤ 3 * nb := Nat.mul_le_mul_right _ (by omega)
    unfold doneP
    constructor
    · intro _
      by_cases h : (z 0).val / 8 < nb
      · exact .inl ⟨h, by omega⟩
      · exact .inr (by omega)
    · intro _; trivial) (fun z h1 h2 => by
      unfold doneP at h1
      have := h1.1
      omega)) $$ [H1 H2]
  isplitl [H1]
  · iexact H1
  · iexact H2

/-! ## The run -/

theorem own_any {sp : Space} {s : Shape} {e : EltTy} {m : Memref sig .tc sp s e} {g : s.Idx → Elt F e} : Own c m fullShare g ⊢ Any (F := F) c m (fun _ => True) := by
  iintro H
  iexists g
  iexact H

theorem wp_bindW {α β : Type} (p : Prog (TpuEff nD τ sig (Elt F) Λ₀ .tc) α) (k : α → Prog (TpuEff nD τ sig (Elt F) Λ₀ .tc) β) (Q : β → sProp 𝕄) :
    wp frame (wpE (defs₀ (F := F)) 𝒱 (c : Thread nD τ) none) Set.univ (p >>= k) Q = WP 𝒱 c p (fun x => WP 𝒱 c (k x) Q) := WP_bind 𝒱 c p k Q

theorem body_spec (so : ℕ → BitVec 32) (nu : ℕ) (pm : S16x128.Idx → Elt F .i32) (ids : S2x1024.Idx → Elt F .i32) (scl : S2x1024.Idx → Elt F .f32) (cd : ℕ → ℕ → F .fp8e5m2)
    (sw dw : ℕ → BitVec 32) (tk : ℕ → ℕ) (O : ℕ → ℕ → ℕ → F .f32) (hf : Facts so nu pm ids scl cd sw dw tk O)
    (Xs : BufTy.Contents (Elt F) arg0.view.ty) (hso : ∀ i : S2049.Idx, arg0.view.read (Elt F) Xs i = so (i 0).val) {q1 q2 q3 q4 : PosShare TreeShare} {Q : PUnit → sProp 𝕄} :
    iprop((arg0.view.loc (c : Thread nD τ) ↦[arg0.view.set]{fullShare} Xs) ∗ Own c arg1 q1 pm ∗ Own c arg2 q2 ids ∗ Own c arg3 q3 scl ∗ Codes c arg4 arg6 arg14 q4 cd
      ∗ Any (F := F) c arg5 (fun _ => True) ∗ Any (F := F) c arg7 (fun _ => True) ∗ Ring (F := F) c arg8 arg15 ∗ Any (F := F) c arg9 (fun _ => True) ∗ Any (F := F) c arg10 (fun _ => True)
      ∗ Any (F := F) c arg11 (fun _ => True) ∗ Any (F := F) c arg12 (fun _ => True) ∗ Any (F := F) c arg13 (fun _ => True) ∗ Cell c arg16.sem ∗ Cell c arg17.sem ∗ Owes c)
    ⊢ iprop((iprop(Own c arg0 fullShare (fun i => so (i 0).val) ∗ Own c arg1 q1 pm ∗ Own c arg2 q2 ids ∗ Own c arg3 q3 scl ∗ Codes c arg4 arg6 arg14 q4 cd
      ∗ Own c arg5 fullShare (OutV O) ∗ Any (F := F) c arg7 (fun _ => True) ∗ Ring (F := F) c arg8 arg15 ∗ Any (F := F) c arg9 (fun _ => True) ∗ Any (F := F) c arg10 (fun _ => True)
      ∗ Any (F := F) c arg11 (fun _ => True) ∗ Any (F := F) c arg12 (fun _ => True) ∗ Any (F := F) c arg13 (fun _ => True) ∗ Cell c arg16.sem ∗ Cell c arg17.sem ∗ Owes c) -∗ Q ⟨⟩)
      -∗ WP 𝒱 c (cc0_embed_grad (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17) Q) := by
  have hle := hf.hnu.le
  have h49 : (BitVec.ofNat 32 nu).toNat = nu := by rw [BitVec.toNat_ofNat]; omega
  have h : (BitVec.ofNat 32 nu).toNat ≤ 2048 := by rw [h49]; exact hle
  have hw2 := chk2_ok _ h
  unfold cc0_embed_grad
  iintro ⟨H0, H1, H2, H3, H4, H5, H7, H8, H9, H10, H11, H12, H13, C16, C17, HO⟩ HQ
  ihave H4 := (codes_split c q4 cd) $$ H4
  unfold Each8
  icases H4 with ⟨P0, P1, P2, P3, P4, P5, P6, P7⟩
  rw [WP_bind]
  iapply (part147_spec 𝒱 c q4 cd) $$ [P0 P1 P2 P3]
  · iframe
  iintro ⟨P0, P1, P2, P3⟩
  rw [WP_bind]
  iapply (part148_spec 𝒱 c q4 cd) $$ [P4 P5 P6 P7]
  · iframe
  iintro ⟨P4, P5, P6, P7⟩
  rw [WP_bind]
  iapply (part149_spec 𝒱 c)
  dsimp only
  rw [WP_bind]
  iapply (wp_wand _ _ _) $$ [H0]
  · iapply (bisect_spec 𝒱 c nu Xs so hso hf.hnu) $$ H0
  iintro %v ⟨%hv, H0⟩
  subst hv
  rw [WP_bind]
  iapply (part151_spec 𝒱 c (BitVec.ofNat 32 nu) hw2) $$ H9
  iintro %v79 %v80 %v85 %v87 H9
  dsimp only
  rw [WP_bind]
  iapply (part152_spec 𝒱 c)
  iintro %v102
  dsimp only
  rw [WP_bind]
  iapply (wp_wand _ _ _) $$ [H0]
  · iapply (count_spec 𝒱 c (BitVec.ofNat 32 nu) h hw2 Xs so hso v77V) $$ H0
  iintro %v103 ⟨%hv, H0⟩
  have hv' : v103 = v104V so nu := funext hv
  subst hv'
  rw [WP_bind]
  iapply (part154_spec 𝒱 c)
  rw [WP_bind]
  iapply (part155_spec 𝒱 c (BitVec.ofNat 32 nu) h hw2)
  rw [WP_bind]
  iapply (part156_spec 𝒱 c v78V (v104V so nu) pm sw dw hf.hsw hf.hdw) $$ [H1 H11]
  · iframe
  iintro ⟨H1, ⟨%g11, H11⟩⟩
  imod (Bat.alloc (c := c) (cred arg12 S128) (idxD c arg11 arg12 arg13 sw dw)) $$ C17 with C17
  rw [wp_bindW]
  iapply (part157_spec 𝒱 c (nbW (BitVec.ofNat 32 nu)) sw dw g11 hf.hsw0 hf.hdw0) $$ [H11 C17 H12 H13]
  · iframe
  iintro HX
  rw [WP_bind]
  iapply (part158_spec 𝒱 c sw dw) $$ HX
  iintro HX
  rw [WP_bind]
  iapply (part159_spec 𝒱 c sw dw) $$ HX
  iintro HX
  rw [WP_bind]
  iapply (part160_spec 𝒱 c sw dw) $$ HX
  iintro HX
  rw [WP_bind]
  iapply (part161_spec 𝒱 c sw dw ids scl) $$ [HX H2 H3 HO]
  · iframe
  iintro %v257 ⟨%h257, HX, H2, H3⟩
  dsimp only
  rw [WP_bind]
  ihave H10 : ScS c arg10 (scW (clrW ids scl)) 0 $$ [H10]
  · unfold ScS
    icases H10 with ⟨%g, H10⟩
    iexists g
    iframe
    ipureintro
    intro x hx
    exact absurd hx (by omega)
  iapply (part162_spec 𝒱 c (clrW ids scl) v257 h257) $$ H10
  iintro %v299 ⟨%h299, H10⟩
  rw [WP_bind]
  iapply (part163_spec 𝒱 c (clrW ids scl) v299 h299) $$ H10
  iintro %v341 ⟨%h341, H10⟩
  rw [WP_bind]
  iapply (part164_spec 𝒱 c (cmpi .eq (show IVec S2x1024 32 from ids) (broadcast S2x1024 0#32)) (clrW ids scl) v341 h341 sw dw) $$ [H10 HX]
  · iframe
  iintro ⟨H10, HX⟩
  rw [WP_bind]
  iapply (part165_spec 𝒱 c sw dw) $$ HX
  iintro HX
  rw [WP_bind]
  iapply (part166_spec 𝒱 c sw dw) $$ HX
  iintro HX
  rw [WP_bind]
  iapply (part167_spec 𝒱 c sw dw) $$ HX
  iintro HX
  rw [WP_bind]
  iapply (part168_spec 𝒱 c sw dw) $$ HX
  iintro HX
  rw [WP_bind]
  iapply (part169_spec 𝒱 c sw dw) $$ HX
  iintro ⟨H12, H13, H11, C17, HO⟩
  dsimp only
  ihave H9 := (Own.to_pointsTo (c := c)) $$ H9
  icases H9 with ⟨%X0, %hX0, H9⟩
  ihave H5 := (Any.split (R := fun z : S256x96x8x128.Idx => (z 0).val / 8 < ((BitVec.ofNat 32 nu).toNat + 63) / 64) (S := fun z : S256x96x8x128.Idx => ((BitVec.ofNat 32 nu).toNat + 63) / 64 ≤ (z 0).val / 8)
    (fun z => ⟨fun _ => by omega, fun _ => trivial⟩) (fun z h1 h2 => by omega)) $$ H5
  icases H5 with ⟨H5, H5z⟩
  imod (zero_init c X0 (((BitVec.ofNat 32 nu).toNat + 63) / 64)) $$ [C16 H9 H5z] with HZ
  · iframe
  ihave HR := (ring_init c O True (((BitVec.ofNat 32 nu).toNat + 63) / 64)) $$ [H8 H5]
  · iframe
  ihave H0 := ((Own.of_pointsTo (c := c) Xs).trans (Has.congr (g' := fun i : S2049.Idx => so (i 0).val) (fun _ => Iff.rfl) (fun i _ => hso i))) $$ H0
  ihave HS : ChunkS c arg0 arg4 arg5 arg6 arg7 arg8 arg9 arg10 arg12 arg13 arg14 arg15 arg16 fullShare q4 fullShare (fun i => so (i 0).val) sw dw cd (scW (clrW ids scl)) O True X0 (((BitVec.ofNat 32 nu).toNat + 63) / 64) 0 $$ [H0 H12 H13 H10 H7 HO HR P0 P1 P2 P3 P4 P5 P6 P7 HZ]
  · unfold ChunkS Each8
    rw [Nat.zero_mul, Nat.zero_mul]
    iframe
  rw [wp_bindW]
  iapply (part170_spec 𝒱 c (BitVec.ofNat 32 nu) h hw2 _ (fun i => so (i 0).val) sw dw tk cd (scW (clrW ids scl)) O True X0 hX0 hf.hblk) $$ HS
  iintro HS
  unfold ChunkS RingS
  icases HS with ⟨H0, H12, H13, H10, H7, HO, ⟨HR, HD, -⟩, H4, HZ⟩
  ihave HR := (Entails.of_eq (univ4 _)) $$ HR
  icases HR with ⟨S0, S1, S2, S3⟩
  simp only [WP_bind]
  iapply (drain0_spec 𝒱 c (BitVec.ofNat 32 nu) h O True) $$ [S0 HD HO]
  · iframe
  iintro ⟨S0, HD, HO⟩
  iapply (drain1_spec 𝒱 c (BitVec.ofNat 32 nu) h O True) $$ [S1 HD HO]
  · iframe
  iintro ⟨S1, HD, HO⟩
  iapply (drain2_spec 𝒱 c (BitVec.ofNat 32 nu) h O True) $$ [S2 HD HO]
  · iframe
  iintro ⟨S2, HD, HO⟩
  iapply (drain3_spec 𝒱 c (BitVec.ofNat 32 nu) h O True) $$ [S3 HD HO]
  · iframe
  iintro ⟨S3, HD, HO⟩
  iapply (part179_spec 𝒱 c)
  iintro %v496
  dsimp only
  iapply (part180_spec 𝒱 c (BitVec.ofNat 32 nu) h hw2 _ _ X0) $$ [HZ HO]
  · iframe
  iintro ⟨HZ, HO⟩
  iapply (part181_spec 𝒱 c)
  iapply (part182_spec 𝒱 c (BitVec.ofNat 32 nu) h hw2)
  iapply (WP_pure 𝒱 c)
  iapply HQ
  unfold ZeroD
  icases HZ with ⟨C16, H9, H5⟩
  ihave H5 := (out_end c O _ hf.hzero) $$ [HD H5]
  · iframe
  ihave H4 := (codes_join c q4 cd) $$ H4
  ihave H8 := (ring_end c) $$ [S0 S1 S2 S3]
  · iframe
  ihave H9 := ((Own.of_pointsTo (c := c) X0).trans (Has.congr (g' := show S8x24x8x128.Idx → Elt F .f32 from zeroV) (fun _ => Iff.rfl) (fun i _ => congrFun hX0 i))) $$ H9
  ihave H9 := (own_any c) $$ H9
  ihave H10 := (own_any c) $$ H10
  ihave H11 := (own_any c) $$ H11
  ihave H12 := (own_any c) $$ H12
  ihave H13 := (own_any c) $$ H13
  iframe

end Cert.KernelIdeal.Emb
-- ==== Proof.KernelIdeal.Seg.lean ====
module

public import proofs.«01_k».proof.Proof.KernelIdeal.Body

@[expose] public section

noncomputable section

namespace Cert.KernelIdeal.Emb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]
local notation "𝕄" => MT nD τ sig Unit (Elt F) ℕ (UD sig nD τ) ℕ
variable (𝒱 : Variants) (c : Dev nD)
variable {arg0 : Memref sig .tc .smem S2049 .i32} {harg0 : arg0.IsWhole} {arg1 : Memref sig .tc .vmem S16x128 .i32} {harg1 : arg1.IsWhole} {arg2 : Memref sig .tc .vmem S2x1024 .i32} {harg2 : arg2.IsWhole} {arg3 : Memref sig .tc .vmem S2x1024 .f32} {harg3 : arg3.IsWhole} {arg4 : Memref sig .tc .hbm S2x1024x12288 .fp8e5m2} {harg4 : arg4.IsWhole} {arg5 : Memref sig .tc .hbm S256x96x8x128 .f32} {harg5 : arg5.IsWhole} {arg6 : Memref sig .tc .vmem S2x2048x3072 .fp8e5m2} {harg6 : arg6.IsWhole} {arg7 : Memref sig .tc .vmem S256x24x8x128 .f32} {harg7 : arg7.IsWhole} {arg8 : Memref sig .tc .vmem S4x9x24x8x128 .f32} {harg8 : arg8.IsWhole} {arg9 : Memref sig .tc .vmem S8x24x8x128 .f32} {harg9 : arg9.IsWhole} {arg10 : Memref sig .tc .vmem S2048x128 .f32} {harg10 : arg10.IsWhole} {arg11 : Memref sig .tc .vmem S2x17x128 .i32} {harg11 : arg11.IsWhole} {arg12 : Memref sig .tc .smem S2176 .i32} {harg12 : arg12.IsWhole} {arg13 : Memref sig .tc .smem S2176 .i32} {harg13 : arg13.IsWhole} {arg14 : DmaSems sig S2x8} {arg15 : DmaSems sig S4} {arg16 : DmaSems sig S_} {arg17 : DmaSems sig S_}

/-! # Segments of positions: counting the offsets at or below a position -/

/-- How many of the first `m` offsets are at most `p`. -/
def cntN (so : ℕ → BitVec 32) (p : ℕ) : ℕ → ℕ
  | 0 => 0
  | m + 1 => cntN so p m + if (so m).toNat ≤ p then 1 else 0

/-- Where block `b` starts. -/
def P0 (so : ℕ → BitVec 32) (npad b : ℕ) : ℕ := max (so (64 * b)).toNat (if b = 0 then npad - 1 else 0)
/-- Where block `b` ends. -/
def P1 (so : ℕ → BitVec 32) (b : ℕ) : ℕ := (so (64 * (b + 1))).toNat

/-- What the offsets and the number of pads satisfy. -/
structure SegH (so : ℕ → BitVec 32) (nu npad : ℕ) : Prop where
  nuH : IsNu so nu
  inc : ∀ i, i < nu → (so i).toNat < (so (i + 1)).toNat
  top : ∀ i, 1 ≤ i → nu ≤ i → i ≤ 2048 → (so i).toNat = 2048
  padLe : npad ≤ 2048
  pad1 : npad ≤ (so 1).toNat
  tail : ∀ b, 64 * (b + 1) < nu → P0 so npad b ≤ P1 so b → P0 so npad b + 8 * ((P1 so b - P0 so npad b + 7) / 8) ≤ 2048

/-- The segment of a position; past the last position, the first row of the first block not run. -/
def rho (so : ℕ → BitVec 32) (nu q : ℕ) : ℕ := if q < 2048 then cntN so q nu - 1 else 64 * ((nu + 63) / 64)
/-- The row of a position within block `b`. -/
def lcB (so : ℕ → BitVec 32) (nu b q : ℕ) : ℕ := rho so nu q - 64 * b

section
variable {so : ℕ → BitVec 32} {nu npad : ℕ} (h : SegH so nu npad)
include h

theorem seg_add (i k : ℕ) (hk : i + k ≤ nu) : (so i).toNat + k ≤ (so (i + k)).toNat := by
  induction k with
  | zero => simp
  | succ k ih =>
    have h1 := ih (by omega)
    have h2 := h.inc (i + k) (by omega)
    have e : i + (k + 1) = i + k + 1 := by omega
    rw [e]; omega

theorem seg_mono {i j : ℕ} (hij : i ≤ j) (hj : j ≤ nu) : (so i).toNat + (j - i) ≤ (so j).toNat := by
  have := seg_add h i (j - i) (by omega)
  have e : i + (j - i) = j := by omega
  rwa [e] at this

theorem seg_le {i : ℕ} (hi : 1 ≤ i) (h2 : i ≤ 2048) : (so i).toNat ≤ 2048 := by
  by_cases hn : i < nu
  · have := h.nuH.lt i hn; omega
  · rw [h.top i hi (by omega) h2]

theorem cnt_facts (p m : ℕ) (hm : m ≤ nu) : cntN so p m ≤ m ∧ (∀ i, i < cntN so p m → (so i).toNat ≤ p) ∧ (∀ i, cntN so p m ≤ i → i < m → p < (so i).toNat) := by
  induction m with
  | zero => exact ⟨le_refl _, fun i hi => absurd hi (Nat.not_lt_zero _), fun i _ hi => absurd hi (Nat.not_lt_zero _)⟩
  | succ m ih =>
    obtain ⟨h1, h2, h3⟩ := ih (by omega)
    by_cases hs : (so m).toNat ≤ p
    · have e : cntN so p m = m := by
        by_contra hne
        have h4 := h3 (cntN so p m) (le_refl _) (by omega)
        have h5 := seg_mono h (i := cntN so p m) (j := m) (by omega) (by omega)
        omega
      have e' : cntN so p (m + 1) = m + 1 := by simp [cntN, hs, e]
      rw [e']
      refine ⟨le_refl _, fun i hi => ?_, fun i hi hi' => by omega⟩
      by_cases him : i = m
      · rw [him]; exact hs
      · exact h2 i (by omega)
    · have e' : cntN so p (m + 1) = cntN so p m := by simp [cntN, hs]
      rw [e']
      refine ⟨by omega, h2, fun i hi hi' => ?_⟩
      by_cases him : i = m
      · rw [him]; omega
      · exact h3 i hi (by omega)

theorem cnt_hi (p k : ℕ) (hp : p < 2048) (hk : nu + k ≤ 2048) : cntN so p (nu + k) = cntN so p nu := by
  induction k with
  | zero => rfl
  | succ k ih =>
    have h1 := h.nuH.ge (nu + k) (by omega) (by omega)
    have e : nu + (k + 1) = nu + k + 1 := by omega
    rw [e]
    simp only [cntN]
    rw [ih (by omega), if_neg (by omega)]; omega

theorem seg_next {r : ℕ} (hr : r < nu) : (so (r + 1)).toNat ≤ 2048 := seg_le h (by omega) (by have := h.nuH.le; omega)

theorem seg_eq {r q : ℕ} (hr : r < nu) (h1 : (so r).toNat ≤ q) (h2 : q < (so (r + 1)).toNat) : cntN so q nu = r + 1 := by
  obtain ⟨a1, a2, a3⟩ := cnt_facts h q nu (le_refl _)
  by_contra hne
  rcases Nat.lt_or_gt_of_ne hne with hl | hl
  · have := a3 r (by omega) hr; omega
  · have := a2 (r + 1) hl; omega

theorem seg_range {r q : ℕ} (hq : q < 2048) (hc : cntN so q nu = r + 1) : r < nu ∧ (so r).toNat ≤ q ∧ q < (so (r + 1)).toNat := by
  obtain ⟨a1, a2, a3⟩ := cnt_facts h q nu (le_refl _)
  have hr : r < nu := by omega
  refine ⟨hr, a2 r (by omega), ?_⟩
  by_cases hl : r + 1 < nu
  · exact a3 (r + 1) (by omega) hl
  · rw [h.top (r + 1) (by omega) (by omega) (by have := h.nuH.le; omega)]; exact hq

theorem blk_lt {b : ℕ} (hb : b < (nu + 63) / 64) : 64 * b < nu ∧ b < 32 := by
  have := h.nuH.le; omega

theorem P0_lt {b r : ℕ} (hb : b < (nu + 63) / 64) (hr : 64 * b + r < nu) : P0 so npad b < (so (64 * b + r + 1)).toNat := by
  have h1 := seg_mono h (i := 64 * b) (j := 64 * b + r + 1) (by omega) (by omega)
  unfold P0
  apply max_lt
  · omega
  · split
    · rename_i h0
      have h2 := seg_mono h (i := 1) (j := 64 * b + r + 1) (by omega) (by omega)
      have := h.pad1
      have h3 := h.inc 0 (by omega)
      have h4 : 0 + 1 = 1 := rfl
      rw [h4] at h3
      omega
    · omega

theorem P1_ge {b r : ℕ} (hb : b < (nu + 63) / 64) (hr : 64 * b + r < nu) (hr' : r < 64) : (so (64 * b + r + 1)).toNat ≤ P1 so b := by
  have hb' := blk_lt h hb
  unfold P1
  by_cases hn : 64 * (b + 1) ≤ nu
  · have := seg_mono h (i := 64 * b + r + 1) (j := 64 * (b + 1)) (by omega) hn; omega
  · rw [h.top (64 * (b + 1)) (by omega) (by omega) (by omega)]
    exact seg_next h hr

theorem P1_le {b : ℕ} (hb : b < (nu + 63) / 64) : P1 so b ≤ 2048 := seg_le h (by omega) (by have := blk_lt h hb; omega)

theorem P0_le {b : ℕ} (hb : b < (nu + 63) / 64) : P0 so npad b ≤ P1 so b := by
  have hb' := blk_lt h hb
  have h1 := P0_lt h (r := 0) hb hb'.1
  have h2 := P1_ge h (r := 0) hb hb'.1 (by omega)
  omega

/-- A position of block `b` before the end counts an offset of the block. -/
theorem cnt_blk {b q : ℕ} (hb : b < (nu + 63) / 64) (h0 : P0 so npad b ≤ q) : 64 * b + 1 ≤ cntN so q nu := by
  obtain ⟨a1, a2, a3⟩ := cnt_facts h q nu (le_refl _)
  have hb' := blk_lt h hb
  by_contra hl
  have h2 := a3 (64 * b) (by omega) hb'.1
  have h3 : (so (64 * b)).toNat ≤ P0 so npad b := le_max_left _ _
  omega

theorem lc_facts {b q : ℕ} (hb : b < (nu + 63) / 64) (h0 : P0 so npad b ≤ q) (h1 : q < P0 so npad b + 8 * ((P1 so b - P0 so npad b + 7) / 8)) :
    lcB so nu b q < 72 ∧ rho so nu q = 64 * b + lcB so nu b q := by
  have hb' := blk_lt h hb
  have h01 := P0_le h hb
  have hP := P1_le h hb
  unfold lcB rho
  by_cases hq : q < 2048
  · rw [if_pos hq]
    have hc := cnt_blk h hb h0
    obtain ⟨a1, a2, a3⟩ := cnt_facts h q nu (le_refl _)
    refine ⟨?_, by omega⟩
    by_contra hl
    have h2 := a2 (64 * b + 72) (by omega)
    have h3 := seg_mono h (i := 64 * (b + 1)) (j := 64 * b + 72) (by omega) (by omega)
    have h4 : P1 so b = (so (64 * (b + 1))).toNat := rfl
    omega
  · rw [if_neg hq]
    have hn : nu ≤ 64 * (b + 1) := by
      by_contra hl
      have := h.tail b (by omega) h01
      omega
    omega

theorem lc_last {b r : ℕ} (hb : b < (nu + 63) / 64) (hr : 64 * b + r < nu) (hr' : r < 64) :
    lcB so nu b ((so (64 * b + r + 1)).toNat - 1) = r := by
  have h1 := h.inc (64 * b + r) hr
  have h2 := seg_next h hr
  unfold lcB rho
  rw [if_pos (by omega), seg_eq h hr (by omega) (by omega)]; omega

theorem lc_after {b r q : ℕ} (hb : b < (nu + 63) / 64) (h0 : P0 so npad b ≤ q) (hr' : r < 64) (hq : (so (64 * b + r + 1)).toNat ≤ q) : lcB so nu b q ≠ r := by
  unfold lcB rho
  intro e
  by_cases hq2 : q < 2048
  · rw [if_pos hq2] at e
    have hc := cnt_blk h hb h0
    have := seg_range h hq2 (r := 64 * b + r) (by omega)
    omega
  · rw [if_neg hq2] at e
    omega

theorem lc_none {b r q : ℕ} (hb : b < (nu + 63) / 64) (h0 : P0 so npad b ≤ q) (hr' : r < 64) (hr : nu ≤ 64 * b + r) : lcB so nu b q ≠ r := by
  unfold lcB rho
  intro e
  by_cases hq2 : q < 2048
  · rw [if_pos hq2] at e
    have hc := cnt_blk h hb h0
    obtain ⟨a1, a2, a3⟩ := cnt_facts h q nu (le_refl _)
    omega
  · rw [if_neg hq2] at e
    omega
end

/-! # What a slot holds after the positions of a block -/

theorem st_none (sw : ℕ → BitVec 32) (tk lc : ℕ → ℕ) (X : ℕ → ℕ → ℕ → F .f32) (p0 : ℕ) (V0 : S6912x128.Idx → Elt F .f32) (D0 : S6912x128.Idx → Prop) (z : S6912x128.Idx) (m : ℕ)
    (hn : ∀ j, j < m → lc (p0 + j) ≠ zRow z) : stV sw tk lc X p0 V0 m z = V0 z ∧ (D0 z → stD lc p0 D0 m z) := by
  induction m with
  | zero => exact ⟨rfl, fun h => h⟩
  | succ m ih =>
    obtain ⟨h1, h2⟩ := ih fun j hj => hn j (by omega)
    refine ⟨?_, fun h => Or.inr (h2 h)⟩
    show (if zRow z = lc (p0 + m) then _ else _) = _
    rw [if_neg (Ne.symm (hn m (by omega))), h1]

theorem st_last (sw : ℕ → BitVec 32) (tk lc : ℕ → ℕ) (X : ℕ → ℕ → ℕ → F .f32) (p0 : ℕ) (V0 : S6912x128.Idx → Elt F .f32) (D0 : S6912x128.Idx → Prop) (z : S6912x128.Idx) (j m : ℕ)
    (hj : j < m) (he : lc (p0 + j) = zRow z) (hn : ∀ i, j < i → i < m → lc (p0 + i) ≠ zRow z) :
    stV sw tk lc X p0 V0 m z = accT sw tk X p0 (j + 1) (zTile z) (z 1).val ∧ stD lc p0 D0 m z := by
  induction m with
  | zero => exact absurd hj (Nat.not_lt_zero _)
  | succ m ih =>
    by_cases hm : j = m
    · subst hm
      refine ⟨?_, Or.inl he.symm⟩
      show (if zRow z = lc (p0 + j) then _ else _) = _
      rw [if_pos he.symm]
    · obtain ⟨h1, h2⟩ := ih (by omega) fun i hi hi' => hn i hi (by omega)
      refine ⟨?_, Or.inr h2⟩
      show (if zRow z = lc (p0 + m) then _ else _) = _
      rw [if_neg (Ne.symm (hn m (by omega) (by omega))), h1]

end Cert.KernelIdeal.Emb
-- ==== Proof.KernelIdeal.Word.lean ====
module

public import proofs.«01_k».proof.Proof.KernelIdeal.Seg

@[expose] public section

noncomputable section

namespace Cert.KernelIdeal.Emb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]
local notation "𝕄" => MT nD τ sig Unit (Elt F) ℕ (UD sig nD τ) ℕ
variable (𝒱 : Variants) (c : Dev nD)
variable {arg0 : Memref sig .tc .smem S2049 .i32} {harg0 : arg0.IsWhole} {arg1 : Memref sig .tc .vmem S16x128 .i32} {harg1 : arg1.IsWhole} {arg2 : Memref sig .tc .vmem S2x1024 .i32} {harg2 : arg2.IsWhole} {arg3 : Memref sig .tc .vmem S2x1024 .f32} {harg3 : arg3.IsWhole} {arg4 : Memref sig .tc .hbm S2x1024x12288 .fp8e5m2} {harg4 : arg4.IsWhole} {arg5 : Memref sig .tc .hbm S256x96x8x128 .f32} {harg5 : arg5.IsWhole} {arg6 : Memref sig .tc .vmem S2x2048x3072 .fp8e5m2} {harg6 : arg6.IsWhole} {arg7 : Memref sig .tc .vmem S256x24x8x128 .f32} {harg7 : arg7.IsWhole} {arg8 : Memref sig .tc .vmem S4x9x24x8x128 .f32} {harg8 : arg8.IsWhole} {arg9 : Memref sig .tc .vmem S8x24x8x128 .f32} {harg9 : arg9.IsWhole} {arg10 : Memref sig .tc .vmem S2048x128 .f32} {harg10 : arg10.IsWhole} {arg11 : Memref sig .tc .vmem S2x17x128 .i32} {harg11 : arg11.IsWhole} {arg12 : Memref sig .tc .smem S2176 .i32} {harg12 : arg12.IsWhole} {arg13 : Memref sig .tc .smem S2176 .i32} {harg13 : arg13.IsWhole} {arg14 : DmaSems sig S2x8} {arg15 : DmaSems sig S4} {arg16 : DmaSems sig S_} {arg17 : DmaSems sig S_}

/-! # The words of the index rows, and the facts of a run -/

theorem cntW_eq (so : ℕ → BitVec 32) (p : ℕ) (hp : p < 2048) (m : ℕ) (hs : ∀ i, i < m → (so i).toNat < 2147483648) :
    cntW so (BitVec.ofNat 32 p) m + 1#32 = BitVec.ofNat 32 (cntN so p m) := by
  induction m with
  | zero => show (4294967295#32 : BitVec 32) + 1#32 = BitVec.ofNat 32 0; decide
  | succ m ih =>
    have h1 := ih fun i hi => hs i (by omega)
    have h2 : IntOp.cmpi .sge (BitVec.ofNat 32 p) (so m) = BitVec.ofBool (decide ((so m).toNat ≤ p)) := by
      show BitVec.ofBool ((so m).sle (BitVec.ofNat 32 p)) = _
      rw [sle_small _ _ (hs m (by omega)) (by rw [ofNat_toNat (by omega)]; omega), ofNat_toNat (by omega)]
    show cntW so (BitVec.ofNat 32 p) m + (IntOp.cmpi .sge (BitVec.ofNat 32 p) (so m)).setWidth 32 + 1#32 = BitVec.ofNat 32 (cntN so p m + _)
    rw [h2, BitVec.ofNat_add, ← h1]
    have e : ((BitVec.ofBool (decide ((so m).toNat ≤ p))).setWidth 32 : BitVec 32) = BitVec.ofNat 32 (if (so m).toNat ≤ p then 1 else 0) := by
      by_cases hc : (so m).toNat ≤ p
      · rw [if_pos hc, decide_eq_true hc]; rfl
      · rw [if_neg hc, decide_eq_false hc]; rfl
    rw [e, BitVec.add_assoc, BitVec.add_assoc, BitVec.add_comm (BitVec.ofNat 32 _) 1#32]

/-- The place of position `p` in the index rows. -/
def posIx (p : ℕ) : S16x128.Idx := ValueIdx.ix2 (⟨p / 128 % 16, Nat.mod_lt _ (by decide)⟩ : Fin 16) (⟨p % 128, Nat.mod_lt _ (by decide)⟩ : Fin 128)

theorem posIx_of (x : S16x128.Idx) : posIx (128 * (x 0).val + (x 1).val) = x := by
  have h0 : (x 0).val < 16 := (x 0).isLt
  have h1 : (x 1).val < 128 := (x 1).isLt
  funext a; apply Fin.ext; fin_cases a
  · show (128 * (x 0).val + (x 1).val) / 128 % 16 = (x 0).val; omega
  · show (128 * (x 0).val + (x 1).val) % 128 = (x 1).val; omega

theorem v77_eq (p : ℕ) (hp : p < 2048) : v77V (posIx p) = BitVec.ofNat 32 p := by
  show BitVec.ofNat 32 (0 * 16 + p / 128 % 16) * 128#32 + BitVec.ofNat 32 (0 * 128 + p % 128) = _
  apply BitVec.eq_of_toNat_eq
  rw [BitVec.toNat_add, BitVec.toNat_mul, BitVec.toNat_ofNat, BitVec.toNat_ofNat, BitVec.toNat_ofNat, BitVec.toNat_ofNat]
  omega

/-- The source word of a position, as the kernel stores it. -/
def swW (so : ℕ → BitVec 32) (nu : ℕ) (pm : S16x128.Idx → BitVec 32) (p : ℕ) : BitVec 32 := if p < 2048 then srcW v78V (v104V so nu) pm (posIx p) else 0#32
/-- The destination word of a position, as the kernel stores it. -/
def dwW (so : ℕ → BitVec 32) (nu p : ℕ) : BitVec 32 := if p < 2048 then dstW (v104V so nu) (posIx p) else Scalar.muli (nbW (BitVec.ofNat 32 nu)) 1536#32
/-- The token of a position. -/
def tkW (pm : S16x128.Idx → BitVec 32) (p : ℕ) : ℕ := if p < 2048 then (pm (posIx p)).toNat else 0

section
variable {so : ℕ → BitVec 32} {nu npad : ℕ} (h : SegH so nu npad)
include h

theorem v104_eq {p : ℕ} (hp : p < 2048) : v104V so nu (posIx p) + 1#32 = BitVec.ofNat 32 (cntN so p nu) := by
  have hn := h.nuH.le
  show cntW so (v77V (posIx p)) (((BitVec.ofNat 32 nu).toNat + 15) / 16 * 16) + 1#32 = _
  rw [v77_eq p hp, ofNat_toNat (by omega), cntW_eq so p hp _ fun i hi => h.nuH.pos i (by omega)]
  have e : (nu + 15) / 16 * 16 = nu + ((nu + 15) / 16 * 16 - nu) := by omega
  rw [e, cnt_hi h p _ hp (by omega)]

theorem v104_val {p s : ℕ} (hp : p < 2048) (hc : cntN so p nu = s + 1) : v104V so nu (posIx p) = BitVec.ofNat 32 s := by
  have h1 := v104_eq h hp
  rw [hc, BitVec.ofNat_add] at h1
  exact (BitVec.add_left_inj _).mp h1
end

theorem dst_all : ∀ s : Fin 2048, (IntOp.addi (IntOp.muli (IntOp.shrsi .vector (BitVec.ofNat 32 s.val) 3#32) 192#32) (IntOp.andi (BitVec.ofNat 32 s.val) 7#32)).toNat = s.val / 8 * 192 + s.val % 8 := by
  decide +kernel

theorem dst_word {v : IVec S16x128 32} {x : S16x128.Idx} {s : ℕ} (hs : s < 2048) (e : v x = BitVec.ofNat 32 s) : (dstW v x).toNat = s / 8 * 192 + s % 8 := by
  have := dst_all ⟨s, hs⟩
  show (IntOp.addi (IntOp.muli (IntOp.shrsi .vector (v x) 3#32) 192#32) (IntOp.andi (v x) 7#32)).toNat = _
  rw [e]; exact this

theorem sc_self (v : IVec S16x128 32) : (shapeCast S16x128 v shapeCasts_S16x128_S16x128 : IVec S16x128 32) = v := by
  funext x
  show v (Shape.reshapeEquiv shapeCasts_S16x128_S16x128 x) = v x
  exact congrArg v (Shape.reshapeEquiv_eq_of_rowMajor _ rfl)

/-- The word that says whether a position continues its segment. -/
def contW (v78 v104 : IVec S16x128 32) (x : S16x128.Idx) : BitVec 1 :=
  cmpi .eq v104 (select (cmpi .eq v78 (broadcast S16x128 0#32)) (dynamicRotate 0 1#32 none (dynamicRotate 1 1#32 none v104 rotates_S16x128_d1) rotates_S16x128_d0) (dynamicRotate 1 1#32 none v104 rotates_S16x128_d1)) x

theorem src_form (v78 v104 pm : IVec S16x128 32) (x : S16x128.Idx) :
    srcW v78 v104 pm x = IntOp.ori (dstW pm x) (Scalar.select (contW v78 v104 x) 2147483648#32 0#32) := by
  unfold srcW
  rw [sc_self]
  rfl

theorem low_bits (w : BitVec 32) (k : BitVec 1) (hw : w.toNat < 65536) : (Scalar.andi (IntOp.ori w (Scalar.select k 2147483648#32 0#32)) 65535#32).toNat = w.toNat := by
  have e : ∀ k : BitVec 1, (Scalar.select k 2147483648#32 0#32 : BitVec 32) &&& 65535#32 = 0#32 := by decide
  show ((w ||| Scalar.select k 2147483648#32 0#32) &&& 65535#32).toNat = _
  rw [BitVec.and_or_distrib_right, e k, BitVec.or_zero, BitVec.toNat_and]
  show w.toNat &&& (2 ^ 16 - 1) = _
  rw [Nat.and_two_pow_sub_one_eq_mod]; omega

theorem p0_word {so : ℕ → BitVec 32} {b : ℕ} (hb : b < 32) (v370 : BitVec 32) (hv : v370.toNat ≤ 2048) (hs : (so (64 * b)).toNat < 2147483648) :
    (p0W v370 b (so (64 * b))).toNat = P0 so v370.toNat b := by
  unfold p0W P0
  have hiv : Scf.iv 0#32 1#32 b = BitVec.ofNat 32 b := by
    apply BitVec.eq_of_toNat_eq
    rw [iv_toNat _ _ (by simp; omega), ofNat_toNat (n := b) (by omega)]; exact Nat.zero_add _
  rw [hiv]
  have hc : Scalar.cmpi .eq (BitVec.ofNat 32 b) 0#32 = BitVec.ofBool (decide (b = 0)) := by
    show BitVec.ofBool (BitVec.ofNat 32 b == 0#32) = _
    congr 1
    by_cases h0 : b = 0
    · subst h0; rfl
    · rw [decide_eq_false h0]
      apply beq_false_of_ne
      intro e
      have := congrArg BitVec.toNat e
      rw [ofNat_toNat (by omega)] at this
      exact h0 this
  rw [hc, select_ofBool]
  show (if BitVec.slt _ _ then _ else _ : BitVec 32).toNat = _
  by_cases h0 : b = 0
  · rw [decide_eq_true h0, if_pos rfl, if_pos h0]
    by_cases hz : v370.toNat = 0
    · have e : v370 = 0#32 := BitVec.eq_of_toNat_eq hz
      subst e
      have e2 : (Scalar.subi 0#32 1#32).slt (so (64 * b)) = true := by
        rw [BitVec.slt_eq_decide, toInt_small _ hs]
        have : (Scalar.subi 0#32 1#32).toInt = -1 := by decide
        rw [this]; simp; omega
      rw [if_pos e2]; simp
    · have e1 : (Scalar.subi v370 1#32).toNat = v370.toNat - 1 := subi_toNat _ _ (by simp; omega)
      rw [slt_small _ _ (by omega) hs, e1]
      by_cases hlt : v370.toNat - 1 < (so (64 * b)).toNat
      · rw [if_pos (decide_eq_true hlt), max_eq_left (by omega)]
      · rw [if_neg (by simpa using hlt), max_eq_right (by omega), e1]
  · rw [decide_eq_false h0, if_neg Bool.false_ne_true, if_neg h0, max_eq_left (Nat.zero_le _)]
    rw [slt_small _ _ (by decide) hs, show (0#32 : BitVec 32).toNat = 0 from rfl]
    by_cases hlt : 0 < (so (64 * b)).toNat
    · rw [if_pos (decide_eq_true hlt)]
    · have : (so (64 * b)).toNat = 0 := by omega
      rw [this]; rfl

theorem cond3_of {v49 : BitVec 32} (h : v49.toNat ≤ 2048) (t : Fin (k0_t15_loop v49).trips) (hn : v49.toNat < (t.val + 1) * 64) : k0_cond3 v49 t = 1#1 := by
  have ht := t15_lt v49 h t
  have h1 : (Scalar.addi (Scf.iv 0#32 1#32 t.val) 1#32).toNat = t.val + 1 := by
    rw [addi_toNat] <;> rw [iv_toNat _ _ (by simp; omega)] <;> simp <;> omega
  have h2 : (Scalar.muli (Scalar.addi (Scf.iv 0#32 1#32 t.val) 1#32) 64#32).toNat = (t.val + 1) * 64 := by
    rw [muli_toNat] <;> rw [h1] <;> simp <;> omega
  have h3 : Scalar.cmpi .sgt (Scalar.muli (Scalar.addi (Scf.iv 0#32 1#32 t.val) 1#32) 64#32) v49 = 1#1 := by
    show BitVec.ofBool (BitVec.slt _ _) = _
    rw [slt_small _ _ (by omega) (by omega), h2, decide_eq_true hn]; rfl
  unfold k0_cond3
  dsimp only
  rw [h3]; rfl

/-- The array the kernel leaves: each row before the last is its segment's accumulation, from its block's first position; every other row is zero. -/
def OW (so : ℕ → BitVec 32) (nu npad : ℕ) (sw : ℕ → BitVec 32) (tk : ℕ → ℕ) (X : ℕ → ℕ → ℕ → ℕ → F .f32) (row tile lane : ℕ) : F .f32 :=
  if row < nu then accT sw tk (X (tile / 24)) (P0 so npad (row / 64)) ((so (row + 1)).toNat - P0 so npad (row / 64)) (tile % 24) lane
  else Scalar.ofBits .f32 0x00000000#32

theorem facts_of {so : ℕ → BitVec 32} {nu npad : ℕ} {pm : S16x128.Idx → Elt F .i32} {ids : S2x1024.Idx → Elt F .i32} (scl : S2x1024.Idx → Elt F .f32) (cd : ℕ → ℕ → F .fp8e5m2)
    (hn : (padW (cmpi .eq (show IVec S2x1024 32 from ids) (broadcast S2x1024 0#32))).toNat = npad) (h : SegH so nu npad)
    (hpm : ∀ x, (show BitVec 32 from pm x).toNat < 2048) :
    Facts so nu pm ids scl cd (swW so nu pm) (dwW so nu) (tkW pm)
      (OW so nu npad (swW so nu pm) (tkW pm) (fun k => dqX cd (scW (clrW ids scl)) k)) := by
  have hle := h.nuH.le
  have e49 : (BitVec.ofNat 32 nu).toNat = nu := ofNat_toNat (by omega)
  refine ⟨h.nuH, ?_, ?_, ?_, ?_, ?_, ?_⟩
  · intro x
    have h0 : (x 0).val < 16 := (x 0).isLt
    have h1 : (x 1).val < 128 := (x 1).isLt
    unfold swW
    rw [if_pos (by omega), posIx_of]
  · intro x
    have h0 : (x 0).val < 16 := (x 0).isLt
    have h1 : (x 1).val < 128 := (x 1).isLt
    unfold dwW
    rw [if_pos (by omega), posIx_of]
  · intro p hp
    exact if_neg (by omega)
  · intro p hp
    exact if_neg (by omega)
  · intro k hk t
    have ht := t15_lt _ (by omega) t
    rw [e49] at ht
    have hb := blk_lt h ht
    have hs0 := h.nuH.pos (64 * t.val) (by omega)
    refine ⟨so (64 * t.val), so (64 * (t.val + 1)), P0 so npad t.val, P1 so t.val, lcB so nu t.val, ?_, ?_, hn ▸ p0_word (so := so) hb.2 _ (hn.symm ▸ h.padLe) hs0, rfl, P0_le h ht, P1_le h ht, ?_, ?_⟩
    · intro i hi; show so (i 0).val = _; rw [hi, Nat.mul_comm]
    · intro i hi; show so (i 0).val = _; rw [hi, Nat.mul_comm]
    · intro q hq hq'
      obtain ⟨l1, l2⟩ := lc_facts h ht hq hq'
      by_cases hq2 : q < 2048
      · have hc := cnt_blk h ht hq
        have er : cntN so q nu = rho so nu q + 1 := by unfold rho; rw [if_pos hq2]; omega
        have hr := (seg_range h hq2 er).1
        refine ⟨?_, ?_, l1, ?_⟩
        · unfold tkW; rw [if_pos hq2]; exact hpm _
        · unfold swW tkW
          rw [if_pos hq2, if_pos hq2, src_form]
          have hd := dst_word (v := pm) (x := posIx q) (hpm (posIx q)) (BitVec.ofNat_toNat _ _ |>.trans (by simp)).symm
          rw [low_bits _ _ (by rw [hd]; have := hpm (posIx q); omega), hd]
        · unfold dwW
          rw [if_pos hq2, dst_word (by omega) (v104_val h hq2 er), l2]
          omega
      · have er : rho so nu q = 64 * ((nu + 63) / 64) := if_neg hq2
        refine ⟨?_, ?_, l1, ?_⟩
        · unfold tkW; rw [if_neg hq2]; decide
        · unfold swW tkW; rw [if_neg hq2, if_neg hq2]; decide
        · unfold dwW
          rw [if_neg hq2, muli_toNat _ _ (by rw [nbW_toNat _ (by omega), e49]; simp; omega), nbW_toNat _ (by omega), e49]
          show (nu + 63) / 64 * 1536 = _
          omega
    · intro _ z hz
      have hT : zTile z < 24 := by unfold zTile; omega
      have d1 : (24 * k + zTile z) / 24 = k := by omega
      have d2 : (24 * k + zTile z) % 24 = zTile z := by omega
      have d3 : (64 * t.val + zRow z) / 64 = t.val := by omega
      unfold OW
      by_cases hr : 64 * t.val + zRow z < nu
      · rw [if_pos hr, d1, d2, d3]
        have g1 := P0_lt h ht hr
        have g2 := P1_ge h ht hr hz
        obtain ⟨a, b⟩ := st_last (swW so nu pm) (tkW pm) (lcB so nu t.val) (dqX cd (scW (clrW ids scl)) k) (P0 so npad t.val) (fun _ => Scalar.ofBits .f32 0x00000000#32) (fun _ => k0_cond3 (BitVec.ofNat 32 nu) t = 1#1) z
          ((so (64 * t.val + zRow z + 1)).toNat - 1 - P0 so npad t.val) (8 * ((P1 so t.val - P0 so npad t.val + 7) / 8)) (by omega)
          (by rw [show P0 so npad t.val + ((so (64 * t.val + zRow z + 1)).toNat - 1 - P0 so npad t.val) = (so (64 * t.val + zRow z + 1)).toNat - 1 by omega]; exact lc_last h ht hr hz)
          (fun i hi hi' => lc_after h ht (by omega) hz (by omega))
        refine ⟨b, a.trans ?_⟩
        rw [show (so (64 * t.val + zRow z + 1)).toNat - 1 - P0 so npad t.val + 1 = (so (64 * t.val + zRow z + 1)).toNat - P0 so npad t.val by omega]
      · rw [if_neg hr]
        obtain ⟨a, b⟩ := st_none (swW so nu pm) (tkW pm) (lcB so nu t.val) (dqX cd (scW (clrW ids scl)) k) (P0 so npad t.val) (fun _ => Scalar.ofBits .f32 0x00000000#32) (fun _ => k0_cond3 (BitVec.ofNat 32 nu) t = 1#1) z
          (8 * ((P1 so t.val - P0 so npad t.val + 7) / 8)) (fun j hj => lc_none h ht (by omega) hz (by omega))
        exact ⟨b (cond3_of (by omega) t (by omega)), a⟩
  · intro row hrow tile lane
    unfold OW
    rw [if_neg (by omega)]

end Cert.KernelIdeal.Emb
-- ==== Proof.KernelIdeal.Pre.lean ====
module

public import proofs.«01_k».proof.Proof.KernelIdeal.Word
public import proofs.«01_k».proof.Pre_sorted_by_token
public import Idealize.ShloMosaic.PureOps.Reduce

@[expose] public section

noncomputable section

namespace Cert.KernelIdeal.Emb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]
local notation "𝕄" => MT nD τ sig Unit (Elt F) ℕ (UD sig nD τ) ℕ
variable (𝒱 : Variants) (c : Dev nD)
variable {arg0 : Memref sig .tc .smem S2049 .i32} {harg0 : arg0.IsWhole} {arg1 : Memref sig .tc .vmem S16x128 .i32} {harg1 : arg1.IsWhole} {arg2 : Memref sig .tc .vmem S2x1024 .i32} {harg2 : arg2.IsWhole} {arg3 : Memref sig .tc .vmem S2x1024 .f32} {harg3 : arg3.IsWhole} {arg4 : Memref sig .tc .hbm S2x1024x12288 .fp8e5m2} {harg4 : arg4.IsWhole} {arg5 : Memref sig .tc .hbm S256x96x8x128 .f32} {harg5 : arg5.IsWhole} {arg6 : Memref sig .tc .vmem S2x2048x3072 .fp8e5m2} {harg6 : arg6.IsWhole} {arg7 : Memref sig .tc .vmem S256x24x8x128 .f32} {harg7 : arg7.IsWhole} {arg8 : Memref sig .tc .vmem S4x9x24x8x128 .f32} {harg8 : arg8.IsWhole} {arg9 : Memref sig .tc .vmem S8x24x8x128 .f32} {harg9 : arg9.IsWhole} {arg10 : Memref sig .tc .vmem S2048x128 .f32} {harg10 : arg10.IsWhole} {arg11 : Memref sig .tc .vmem S2x17x128 .i32} {harg11 : arg11.IsWhole} {arg12 : Memref sig .tc .smem S2176 .i32} {harg12 : arg12.IsWhole} {arg13 : Memref sig .tc .smem S2176 .i32} {harg13 : arg13.IsWhole} {arg14 : DmaSems sig S2x8} {arg15 : DmaSems sig S4} {arg16 : DmaSems sig S_} {arg17 : DmaSems sig S_}

/-! # What the precondition says of the operands -/

open Cert.Pre_sorted_by_token (fn fn_part1 fn_part2 fn_part3 fn_where)

variable [hP : Cert.Pre_sorted_by_token.Facts]

/-- The offsets, as a list of words. -/
def soW (a4 : S2049.Idx → BitVec 32) (i : ℕ) : BitVec 32 := if h : i < 2049 then a4 (ValueIdx.ix1 (⟨i, h⟩ : Fin 2049)) else 0#32

theorem soW_idx (a4 : S2049.Idx → BitVec 32) (x : S2049.Idx) : a4 x = soW a4 (x 0).val := by
  unfold soW
  rw [dif_pos (show (x 0).val < 2049 from (x 0).isLt)]
  exact congrArg a4 (ValueIdx.eq_ix1 x)

/-- The number of pads, as the precondition counts them. -/
abbrev padP (ids : S2x1024.Idx → BitVec 32) : BitVec 32 :=
  Host.reduce IntOp.addi (extui 32 (cmpi .eq (show IVec S2x1024 32 from ids) (broadcast S2x1024 0#32)) natLt_1_32 : IVec S2x1024 32) (constantI (⟨0, ![]⟩ : Shape) 32 0#32)
    hP.reducesTo_S2x1024_S_d0_1 hP.h_S_ (fun a => a.elim0)

theorem fold_le {α : Type} (l : List α) (f : α → BitVec 32) (hf : ∀ x, (f x).toNat ≤ 1) (r : BitVec 32) (hr : r.toNat + l.length < 4294967296) :
    (l.foldl (fun r n => IntOp.addi r (f n)) r).toNat ≤ r.toNat + l.length := by
  induction l generalizing r with
  | nil => simp
  | cons x l ih =>
    have h1 := hf x
    simp only [List.length_cons] at hr
    have h2 : (IntOp.addi r (f x)).toNat ≤ r.toNat + 1 := by
      show (r + f x).toNat ≤ _
      rw [BitVec.toNat_add]; omega
    have h3 := ih (IntOp.addi r (f x)) (by omega)
    simp only [List.foldl_cons, List.length_cons]
    omega

theorem bit_le (b : BitVec 1) : (b.setWidth 32).toNat ≤ 1 := by
  rw [BitVec.toNat_setWidth]
  have := b.isLt
  omega

theorem padP_le (ids : S2x1024.Idx → BitVec 32) : (padP ids).toNat ≤ 2048 := by
  unfold padP Host.reduce
  have hl : ∀ p : Fin S2x1024.numel → Bool, ((List.finRange S2x1024.numel).filter p).length ≤ 2048 := fun p =>
    (List.length_filter_le _ _).trans (le_of_eq ((List.length_finRange).trans (by decide)))
  refine (fold_le _ _ (fun n => bit_le _) _ ?_).trans ?_
  · have := hl (fun n => decide (hP.reducesTo_S2x1024_S_d0_1.drop (S2x1024.rowMajor.symm n) = fun a => a.elim0))
    show 0 + _ < _
    omega
  · have := hl (fun n => decide (hP.reducesTo_S2x1024_S_d0_1.drop (S2x1024.rowMajor.symm n) = fun a => a.elim0))
    show 0 + _ ≤ _
    omega

theorem padW_eq (ids : S2x1024.Idx → BitVec 32) : padW (cmpi .eq (show IVec S2x1024 32 from ids) (broadcast S2x1024 0#32)) = padP ids := by
  unfold padP
  rw [Host.reduce_eq_fold]
  have e1 : ∀ j, padW (cmpi .eq (show IVec S2x1024 32 from ids) (broadcast S2x1024 0#32))
      = reduceFold reduces_S1x2x1024_S1 IntOp.addi 0#32 (shapeCast S1x2x1024 (extui 32 (cmpi .eq (show IVec S2x1024 32 from ids) (broadcast S2x1024 0#32)) natLt_1_32) shapeCasts_S2x1024_S1x2x1024) j := by
    intro j
    show reduceFold reduces_S1x2x1024_S1 IntOp.addi 0#32 _ _ = _
    refine congrArg _ ?_
    funext a
    fin_cases a
    apply Fin.ext
    have h1 := (j 0).isLt
    have h2 : ∀ n : Fin 1, n.val = 0 := fun n => by omega
    exact (h2 _).trans (h2 (j 0)).symm
  rw [e1 (ValueIdx.ix1 (0 : Fin 1)), reduceFold]
  rw [Shape.foldl_filter_rowMajor_eq_fold]
  have f1 : (Finset.univ.filter fun i : S1x2x1024.Idx => reduces_S1x2x1024_S1.drop i = ValueIdx.ix1 (0 : Fin 1)) = Finset.univ := by
    apply Finset.filter_true_of_mem
    intro i _
    funext a
    fin_cases a
    apply Fin.ext
    have h2 : ∀ n : Fin 1, n.val = 0 := fun n => by omega
    exact (h2 _).trans (h2 _).symm
  have f2 : (Finset.univ.filter fun i : S2x1024.Idx => hP.reducesTo_S2x1024_S_d0_1.drop i = fun a => a.elim0) = Finset.univ := by
    apply Finset.filter_true_of_mem
    intro i _
    funext a
    exact a.elim0
  rw [f1, f2]
  have f3 : (Finset.univ : Finset S2x1024.Idx) = Finset.univ.image (Shape.reshapeEquiv shapeCasts_S2x1024_S1x2x1024) := by
    ext x
    simp only [Finset.mem_univ, Finset.mem_image, true_and, true_iff]
    exact ⟨(Shape.reshapeEquiv shapeCasts_S2x1024_S1x2x1024).symm x, Equiv.apply_symm_apply _ _⟩
  rw [f3, Finset.fold_image (fun k _ k' _ e => (Shape.reshapeEquiv shapeCasts_S2x1024_S1x2x1024).injective e)]
  rfl

theorem and_bits : ∀ x y : BitVec 1, IntOp.andi x y = 1#1 → x = 1#1 ∧ y = 1#1 := by decide
theorem or_bits : ∀ x y : BitVec 1, IntOp.ori x y = 1#1 → x = 1#1 ∨ y = 1#1 := by decide
theorem of_bool : ∀ b : Bool, BitVec.ofBool b = 1#1 → b = true := by decide

theorem cmp_le {x y : BitVec 32} (h : IntOp.cmpi .sle x y = 1#1) : x.toInt ≤ y.toInt := by
  have := of_bool _ h; rw [BitVec.sle_eq_decide] at this; exact of_decide_eq_true this
theorem cmp_ge {x y : BitVec 32} (h : IntOp.cmpi .sge x y = 1#1) : y.toInt ≤ x.toInt := by
  have := of_bool _ h; rw [BitVec.sle_eq_decide] at this; exact of_decide_eq_true this
theorem cmp_lt {x y : BitVec 32} (h : IntOp.cmpi .slt x y = 1#1) : x.toInt < y.toInt := by
  have := of_bool _ h; rw [BitVec.slt_eq_decide] at this; exact of_decide_eq_true this
theorem cmp_eq {x y : BitVec 32} (h : IntOp.cmpi .eq x y = 1#1) : x = y := eq_of_beq (of_bool _ h)

/-- The sorted ids, as the precondition gathers them. -/
abbrev idsSorted (ids : S2x1024.Idx → BitVec 32) (a3 : S2048.Idx → BitVec 32) : IVec S2048 32 :=
  Host.gather Cert.Pre_sorted_by_token.gather_S2048_S2048x1_S2048_n_0_n_n_0_1_1 (shapeCast Cert.Pre_sorted_by_token.S2048 (show IVec S2x1024 32 from ids) hP.shapeCasts_S2x1024_S2048)
    (broadcastInDim Cert.Pre_sorted_by_token.S2048x1 ![0] hP.bcast_S2048_S2048x1_0 (select (cmpi .slt (show IVec S2048 32 from a3) (fun _ => 0#32)) (addi a3 (fun _ => 2048#32)) a3))

/-- Where a block starts, as the precondition computes it. -/
abbrev startP (so : ℕ → BitVec 32) (np : BitVec 32) (b : ℕ) : BitVec 32 :=
  IntOp.maxsi (so (0 + 64 * b)) (Scalar.select (IntOp.cmpi .eq (BitVec.ofNat 32 b) 0#32) (IntOp.subi np 1#32) 0#32)

theorem pre_bits (cd : FVec F S2x1024x12288 .fp8e5m2) (scl : FVec F S2x1024 .f32) (ids : IVec S2x1024 32) (a3 : IVec S2048 32) (so : ℕ → BitVec 32) (i : S2048.Idx) :
    fn (F := F) cd scl ids a3 (fun x => so (x 0).val) i
      = IntOp.andi (IntOp.andi (IntOp.andi (IntOp.andi
          (IntOp.andi (IntOp.cmpi .sge (a3 i) 0#32) (IntOp.cmpi .slt (a3 i) 2048#32))
          (IntOp.ori (IntOp.cmpi .sge (BitVec.ofNat 32 (i 0).val) (IntOp.subi (padP ids) 1#32)) (IntOp.cmpi .eq (idsSorted ids a3 i) 0#32)))
          (IntOp.andi (IntOp.andi (IntOp.cmpi .sge (so (0 + (i 0).val)) 0#32) (IntOp.cmpi .sle (so (1 + (i 0).val)) 2048#32))
            (IntOp.ori (IntOp.cmpi .slt (so (0 + (i 0).val)) (so (1 + (i 0).val))) (IntOp.cmpi .eq (so (1 + (i 0).val)) 2048#32))))
          (IntOp.cmpi .sle (padP ids) (so 1)))
        (Host.reduce IntOp.andi (fun b : (⟨1, ![32]⟩ : Shape).Idx => IntOp.ori (IntOp.cmpi .sge (so (64 + 64 * (b 0).val)) 2048#32)
            (IntOp.cmpi .sle (IntOp.addi (startP so (padP ids) (b 0).val)
              (IntOp.muli (IntOp.shrsi .host (IntOp.addi (IntOp.subi (so (64 + 64 * (b 0).val)) (startP so (padP ids) (b 0).val)) 7#32) 3#32) 8#32)) 2048#32))
          (constantI (⟨0, ![]⟩ : Shape) 1 1#1) hP.reducesTo_S32_S_d0 hP.h_S_ (fun a => a.elim0)) := by
  have hj : ∀ j : (⟨0, ![]⟩ : Shape).Idx, j = fun a => a.elim0 := fun j => funext fun a => a.elim0
  have pj : ∀ j, Host.reduce IntOp.addi (extui 32 (cmpi .eq (show IVec S2x1024 32 from ids) (broadcast S2x1024 0#32)) natLt_1_32 : IVec S2x1024 32) (constantI (⟨0, ![]⟩ : Shape) 32 0#32)
    hP.reducesTo_S2x1024_S_d0_1 hP.h_S_ j = padP ids := fun j => congrArg _ (hj j)
  refine congrArg₂ IntOp.andi (congrArg₂ IntOp.andi (congrArg₂ IntOp.andi (congrArg₂ IntOp.andi rfl (congrArg₂ IntOp.ori (congrArg (fun p => IntOp.cmpi .sge (BitVec.ofNat 32 (i 0).val) (IntOp.subi p 1#32)) (pj _)) rfl)) rfl)
    (congrArg₂ (IntOp.cmpi .sle) (pj _) (congrArg so ?_))) ?_
  · show 1 + _ = 1
    have h2 : ∀ n : Fin 1, 1 + n.val = 1 := fun n => by omega
    exact h2 _
  · refine Eq.trans (congrArg (Host.reduce IntOp.andi _ (constantI (⟨0, ![]⟩ : Shape) 1 1#1) hP.reducesTo_S32_S_d0 hP.h_S_) (hj _)) ?_
    refine congrArg (fun f => Host.reduce IntOp.andi f (constantI (⟨0, ![]⟩ : Shape) 1 1#1) hP.reducesTo_S32_S_d0 hP.h_S_ (fun a => a.elim0)) ?_
    funext b
    have es : ∀ j, IntOp.maxsi (so (0 + 64 * (b 0).val)) (Scalar.select (IntOp.cmpi .eq (BitVec.ofNat 32 (b 0).val) 0#32) (IntOp.subi (Host.reduce IntOp.addi (extui 32 (cmpi .eq (show IVec S2x1024 32 from ids) (broadcast S2x1024 0#32)) natLt_1_32 : IVec S2x1024 32) (constantI (⟨0, ![]⟩ : Shape) 32 0#32)
      hP.reducesTo_S2x1024_S_d0_1 hP.h_S_ j) 1#32) 0#32) = startP so (padP ids) (b 0).val := fun j => by rw [pj j]
    exact congrArg₂ IntOp.ori rfl (congrArg (fun p => IntOp.cmpi .sle (IntOp.addi p
              (IntOp.muli (IntOp.shrsi .host (IntOp.addi (IntOp.subi (so (64 + 64 * (b 0).val)) p) 7#32) 3#32) 8#32)) 2048#32) (es _))

theorem reduce_and {s : Shape} {axes : List (Fin s.rank)} (x : s.Idx → BitVec 1) (init : (⟨0, ![]⟩ : Shape).Idx → BitVec 1) (h : s.ReducesTo axes (⟨0, ![]⟩ : Shape)) (hu : 0 < (⟨0, ![]⟩ : Shape).numel)
    (j : (⟨0, ![]⟩ : Shape).Idx) (e : Host.reduce IntOp.andi x init h hu j = 1#1) (b : s.Idx) : x b = 1#1 := by
  rw [Host.reduce_eq_fold] at e
  have f2 : (Finset.univ.filter fun i : s.Idx => h.drop i = j) = Finset.univ := by
    apply Finset.filter_true_of_mem
    intro i _
    funext a
    exact a.elim0
  rw [f2, ← Finset.insert_erase (Finset.mem_univ b), Finset.fold_insert (Finset.notMem_erase _ _)] at e
  exact (and_bits _ _ e).1

/-- The facts the precondition gives. -/
structure PreH (ids : S2x1024.Idx → BitVec 32) (a3 : S2048.Idx → BitVec 32) (so : ℕ → BitVec 32) (nu : ℕ) : Prop where
  seg : SegH so nu (padP ids).toNat
  perm : ∀ i, (a3 i).toNat < 2048
  pads : ∀ i : S2048.Idx, (i 0).val < (padP ids).toNat - 1 → idsSorted ids a3 i = 0#32

theorem shr_all (x : BitVec 32) (h : x.toNat < 2147483648) : (IntOp.shrsi .host x 3#32).toNat = x.toNat / 8 := by
  unfold IntOp.shrsi
  rw [if_pos (by decide)]
  show (x.sshiftRight 3).toNat = _
  rw [BitVec.sshiftRight_eq_of_msb_false (msb_small x h), BitVec.toNat_ushiftRight, Nat.shiftRight_eq_div_pow]

theorem toNat_of_toInt {x : BitVec 32} (h0 : 0 ≤ x.toInt) : (x.toNat : ℤ) = x.toInt ∧ x.toNat < 2147483648 := by
  have h1 := x.isLt
  rw [BitVec.toInt_eq_toNat_cond] at h0 ⊢
  split at h0 <;> rename_i hc
  · rw [if_pos hc]; omega
  · omega

theorem pre_facts (cd : FVec F S2x1024x12288 .fp8e5m2) (scl : FVec F S2x1024 .f32) (ids : IVec S2x1024 32) (a3 : IVec S2048 32) (a4 : IVec S2049 32)
    (e : fn (F := F) cd scl ids a3 a4 = fun _ => 1#1) : ∃ nu, PreH ids a3 (soW a4) nu := by
  have ea : a4 = fun x => soW a4 (x 0).val := funext (soW_idx a4)
  rw [ea] at e
  generalize soW a4 = so at e
  have hb := fun i => (pre_bits cd scl ids a3 so i).symm.trans (congrFun e i)
  have z0 : (0#32 : BitVec 32).toInt = 0 := by decide
  have z1 : (2048#32 : BitVec 32).toInt = 2048 := by decide
  have hperm : ∀ i, (a3 i).toNat < 2048 := fun i => by
    have h := and_bits _ _ (and_bits _ _ (and_bits _ _ (and_bits _ _ (and_bits _ _ (hb i)).1).1).1).1
    have h1 := cmp_ge h.1
    have h2 := cmp_lt h.2
    rw [z0] at h1
    rw [z1] at h2
    have := toNat_of_toInt h1
    omega
  have hoff : ∀ i, i < 2048 → (so i).toNat < 2147483648 ∧ ((so (i + 1)).toNat ≤ 2048) ∧ ((so i).toNat < (so (i + 1)).toNat ∨ (so (i + 1)).toNat = 2048) := fun i hi => by
    have h := and_bits _ _ (and_bits _ _ (and_bits _ _ (hb (ValueIdx.ix1 (⟨i, hi⟩ : Fin 2048)))).1).1 |>.2
    have h1 := and_bits _ _ h
    have h2 := and_bits _ _ h1.1
    have g1 := cmp_ge h2.1
    have g2 := cmp_le h2.2
    have g3 := or_bits _ _ h1.2
    have c0 : (0 : ℕ) + ((ValueIdx.ix1 (⟨i, hi⟩ : Fin 2048) : S2048.Idx) 0).val = i := Nat.zero_add _
    have c1 : (1 : ℕ) + ((ValueIdx.ix1 (⟨i, hi⟩ : Fin 2048) : S2048.Idx) 0).val = i + 1 := Nat.add_comm _ _
    rw [c0] at g1
    rw [c1] at g2
    rw [c0, c1] at g3
    rw [z0] at g1
    rw [z1] at g2
    have t1 := toNat_of_toInt g1
    have hpos : 0 ≤ (so (i + 1)).toInt := by
      rcases g3 with g3 | g3
      · have := cmp_lt g3; omega
      · rw [cmp_eq g3, z1]; omega
    have t2 := toNat_of_toInt hpos
    refine ⟨t1.2, by omega, ?_⟩
    rcases g3 with g3 | g3
    · have := cmp_lt g3; left; omega
    · right; rw [cmp_eq g3]; rfl
  have hlow : ∀ i, i ≤ 2048 → min i 2048 ≤ (so i).toNat := fun i hi => by
    induction i with
    | zero => simp
    | succ i ih =>
      have h1 := ih (by omega)
      have h2 := hoff i (by omega)
      omega
  have hex : ∃ i, 2048 ≤ (so i).toNat := ⟨2048, by have := hlow 2048 (le_refl _); simpa using this⟩
  classical
  have hnu := Nat.find_spec hex
  have hmin : ∀ i, i < Nat.find hex → (so i).toNat < 2048 := fun i hi => by have := Nat.find_min hex hi; omega
  have hnle : Nat.find hex ≤ 2048 := Nat.find_min' hex (by have := hlow 2048 (le_refl _); simpa using this)
  generalize Nat.find hex = nu at hnu hmin hnle
  have hge : ∀ i, nu ≤ i → i ≤ 2048 → 2048 ≤ (so i).toNat := fun i hi hi' => by
    induction i with
    | zero => have e0 : nu = 0 := by omega
              rw [e0] at hnu; exact hnu
    | succ i ih =>
      by_cases hc : nu = i + 1
      · rw [hc] at hnu; exact hnu
      · have h1 := ih (by omega) (by omega)
        have h2 := hoff i (by omega)
        omega
  have hd := cmp_le (and_bits _ _ (and_bits _ _ (hb (ValueIdx.ix1 (⟨0, by decide⟩ : Fin 2048)))).1).2
  have hple := padP_le ids
  have ho0 := hoff 0 (by decide)
  have hpad : (padP ids).toNat ≤ (so 1).toNat := by
    rw [toInt_small _ (by omega), toInt_small _ (by have := ho0.2.1; show (so (0 + 1)).toNat < _; omega)] at hd
    omega
  have hpos : ∀ i, i ≤ 2048 → (so i).toNat < 2147483648 := fun i hi => by
    by_cases hc : i = 0
    · rw [hc]; exact ho0.1
    · have h := hoff (i - 1) (by omega)
      rw [show i - 1 + 1 = i by omega] at h
      omega
  refine ⟨nu, ⟨⟨hnle, hmin, hge, hpos⟩, ?_, ?_, hple, hpad, ?_⟩, hperm, ?_⟩
  · intro i hi
    have h1 := hoff i (by omega)
    have h2 := hmin i hi
    omega
  · intro i h1 h2 h3
    have h4 := hge i h2 h3
    have h5 := hoff (i - 1) (by omega)
    rw [show i - 1 + 1 = i by omega] at h5
    omega
  · intro b hbn h01
    have hb' : b < 32 := by omega
    have h := reduce_and _ _ _ _ _ (and_bits _ _ (hb (ValueIdx.ix1 (⟨0, by decide⟩ : Fin 2048)))).2 (ValueIdx.ix1 (⟨b, hb'⟩ : Fin 32))
    have hs0 := hmin (64 * (b + 1)) hbn
    have c1 : (64 : ℕ) + 64 * ((ValueIdx.ix1 (⟨b, hb'⟩ : Fin 32) : (⟨1, ![32]⟩ : Shape).Idx) 0).val = 64 * (b + 1) := by show 64 + 64 * b = _; omega
    have c2 : startP so (padP ids) ((ValueIdx.ix1 (⟨b, hb'⟩ : Fin 32) : (⟨1, ![32]⟩ : Shape).Idx) 0).val = p0W (padP ids) b (so (64 * b)) := by
      show startP so (padP ids) b = _
      unfold p0W
      rw [show Scf.iv 0#32 1#32 b = BitVec.ofNat 32 b from by
        apply BitVec.eq_of_toNat_eq
        rw [iv_toNat _ _ (by simp; omega), ofNat_toNat (n := b) (by omega)]; exact Nat.zero_add _]
      unfold startP
      rw [Nat.zero_add]
      rfl
    simp only [c1, c2] at h
    have hP0 := p0_word (so := so) hb' (padP ids) hple (hpos _ (by omega))
    rcases or_bits _ _ h with h | h
    · have := cmp_ge h
      rw [z1, toInt_small _ (by omega)] at this
      omega
    · have h := cmp_le h
      unfold P1 at h01 ⊢
      have e1 : (IntOp.subi (so (64 * (b + 1))) (p0W (padP ids) b (so (64 * b)))).toNat = (so (64 * (b + 1))).toNat - P0 so (padP ids).toNat b :=
        (subi_toNat _ _ (by omega)).trans (by rw [hP0])
      have e2 : (IntOp.addi (IntOp.subi (so (64 * (b + 1))) (p0W (padP ids) b (so (64 * b)))) 7#32).toNat = (so (64 * (b + 1))).toNat - P0 so (padP ids).toNat b + 7 :=
        (addi_toNat _ 7#32 (by rw [e1]; simp; omega)).trans (by rw [e1]; rfl)
      have e3 := shr_all _ (by rw [e2]; omega)
      rw [e2] at e3
      have e4 := (muli_toNat _ 8#32 (by rw [e3]; simp; omega))
      rw [e3] at e4
      have e5 := addi_toNat (p0W (padP ids) b (so (64 * b))) _ (by rw [e4, hP0]; simp; omega)
      rw [e4, hP0] at e5
      have e6 : (8#32 : BitVec 32).toNat = 8 := rfl
      rw [e6] at e5
      rw [z1] at h
      have e7 := toInt_small _ (by rw [e5]; omega)
      rw [e5] at e7
      have h' := e7.symm.trans_le h
      omega
  · intro i hi
    have h := or_bits _ _ (and_bits _ _ (and_bits _ _ (and_bits _ _ (and_bits _ _ (hb i)).1).1).1).2
    rcases h with h | h
    · exfalso
      have h := cmp_ge h
      have e1 : (IntOp.subi (padP ids) 1#32).toNat = (padP ids).toNat - 1 := subi_toNat _ _ (by simp; omega)
      have hi2 : (i 0).val < 2048 := (i 0).isLt
      rw [toInt_small _ (by omega), e1, toInt_small _ (by rw [ofNat_toNat (by omega)]; omega), ofNat_toNat (by omega)] at h
      omega
    · exact cmp_eq h

end Cert.KernelIdeal.Emb
-- ==== Proof.KernelIdeal.Launch.lean ====
module

public import proofs.«01_k».proof.Proof.KernelIdeal.Pre
public import proofs.«01_k».proof.Proof.Gen.KernelIdeal.Launch
public import proofs.«01_k».proof.Proof.Gen.KernelIdeal.Frame
public import proofs.«01_k».proof.Proof.Gen.KernelIdeal.Points
public import Idealize.ShloMosaic.Lib.Pipeline.FrameBody
public import Idealize.ShloMosaic.Lib.Pipeline.ValueKit
public import Idealize.ShloMosaic.Lib.Pipeline.FrameSuffixV
public import Idealize.ShloMosaic.Lib.Tactic

@[expose] public section

set_option maxRecDepth 16384
noncomputable section

namespace Cert.KernelIdeal.Emb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]
local notation "𝕄" => MT nD τ sig Unit (Elt F) ℕ (UD sig nD τ) ℕ
variable (c : Dev nD)

/-! # The launch: the body on the buffers the region gives it -/

open Idealize.ShloMosaic.Rounds
open Idealize.ShloMosaic.Pipeline (Dat Cfg Window BodyObligation cellOf)

variable [hP : Cert.Pre_sorted_by_token.Facts]
variable (m : (ℓ : Loc nD τ sig) → Buf (Elt F) ℓ) (ρ : Dev nD → PrngReg)

set_option maxHeartbeats 800000 in
/-- The program around the region. -/
theorem hmain (𝒱₀ : Variants) : Pipeline.HMainK (Ix := Unit) (Name := ℕ) (U := UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-! ## The operands, as the region finds them -/

abbrev idsM : S2x1024.Idx → Elt F .i32 := V m c main_arg2
abbrev sclM : S2x1024.Idx → Elt F .f32 := V m c main_arg1
abbrev pmM : S16x128.Idx → Elt F .i32 := V m c main_v0
abbrev soM : ℕ → BitVec 32 := soW (V m c main_arg4)
/-- The codes by token and column. -/
def cdM (t j : ℕ) : F .fp8e5m2 :=
  (V m c main_arg0 : S2x1024x12288.Idx → Elt F .fp8e5m2) (ValueIdx.ix3 (⟨t / 1024 % 2, Nat.mod_lt _ (by decide)⟩ : Fin 2) (⟨t % 1024, Nat.mod_lt _ (by decide)⟩ : Fin 1024) (⟨j % 12288, Nat.mod_lt _ (by decide)⟩ : Fin 12288))
theorem codes_eq : (V m c main_arg0 : S2x1024x12288.Idx → Elt F .fp8e5m2) = codesV (cdM c m) := by
  funext x
  unfold codesV cdM
  refine congrArg (V m c main_arg0) ?_
  have h0 : (x 0).val < 2 := (x 0).isLt
  have h1 : (x 1).val < 1024 := (x 1).isLt
  have h2 : (x 2).val < 12288 := (x 2).isLt
  funext a
  apply Fin.ext
  fin_cases a
  · show (x 0).val = ((x 0).val * 1024 + (x 1).val) / 1024 % 2; omega
  · show (x 1).val = ((x 0).val * 1024 + (x 1).val) % 1024; omega
  · show (x 2).val = (x 2).val % 12288; omega

/-- What the launch is proved from: the offsets are sorted, the positions are in range. -/
structure LH (nu : Dev nD → ℕ) : Prop where
  seg : ∀ c, SegH (soM c m) (nu c) (padP (idsM c m)).toNat
  pm : ∀ c x, (show BitVec 32 from pmM c m x).toNat < 2048

variable (nu : Dev nD → ℕ)

/-- The rows the kernel leaves. -/
def OM : ℕ → ℕ → ℕ → F .f32 :=
  OW (soM c m) (nu c) (padP (idsM c m)).toNat (swW (soM c m) (nu c) (pmM c m)) (tkW (pmM c m)) (fun k => dqX (cdM c m) (scW (clrW (idsM c m) (sclM c m))) k)

theorem facts_M (h : LH m nu) : Facts (soM c m) (nu c) (pmM c m) (idsM c m) (sclM c m) (cdM c m) (swW (soM c m) (nu c) (pmM c m)) (dwW (soM c m) (nu c)) (tkW (pmM c m)) (OM c m nu) :=
  facts_of (sclM c m) (cdM c m) (congrArg BitVec.toNat (padW_eq (idsM c m))) (h.seg c) (h.pm c)

/-- The buffers as the region leaves them: the result at its rows. -/
def GM (c : Dev nD) (b : Ref sig .tc) : Buf (Elt F) ((c : Thread nD τ).loc b) :=
  Function.update (fun b : Ref sig .tc => (V m c b : b.ty.Contents (Elt F))) main_v1 (OutV (OM c m nu)) b
theorem GM_v1 (c : Dev nD) : GM m nu c main_v1 = OutV (OM c m nu) := by
  unfold GM
  exact Function.update_self (f := fun b : Ref sig .tc => (V m c b : b.ty.Contents (Elt F))) main_v1 (OutV (OM c m nu))

/-! ## The region's buffers and cells -/

abbrev osem0 : Fin 22 → SemLoc sig := fun j => (![SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25] : Fin 22 → SemLoc sig) j
theorem ownSemFacts0 : Pipeline.OwnSemFacts spec0 osem0 := by decide
theorem ownSems0_cells :
    (Pipeline.ownSems0 (Ix := Unit) (Name := ℕ) (U := UD sig nD τ) (Lvl := ℕ) (Val := Elt F) (τ := τ) osem0 c : sProp 𝕄)
      = iprop(Cell c (sem14 cc0_scratch8 0 0) ∗ Cell c (sem14 cc0_scratch8 0 1) ∗ Cell c (sem14 cc0_scratch8 0 2) ∗ Cell c (sem14 cc0_scratch8 0 3) ∗ Cell c (sem14 cc0_scratch8 0 4) ∗ Cell c (sem14 cc0_scratch8 0 5) ∗ Cell c (sem14 cc0_scratch8 0 6) ∗ Cell c (sem14 cc0_scratch8 0 7) ∗ Cell c (sem14 cc0_scratch8 1 0) ∗ Cell c (sem14 cc0_scratch8 1 1) ∗ Cell c (sem14 cc0_scratch8 1 2) ∗ Cell c (sem14 cc0_scratch8 1 3) ∗ Cell c (sem14 cc0_scratch8 1 4) ∗ Cell c (sem14 cc0_scratch8 1 5) ∗ Cell c (sem14 cc0_scratch8 1 6) ∗ Cell c (sem14 cc0_scratch8 1 7) ∗ Cell c (sem15 cc0_scratch9 0 (by decide)) ∗ Cell c (sem15 cc0_scratch9 1 (by decide)) ∗ Cell c (sem15 cc0_scratch9 2 (by decide)) ∗ Cell c (sem15 cc0_scratch9 3 (by decide)) ∗ Cell c cc0_scratch10.sem ∗ Cell c cc0_scratch11.sem) := by
  rw [Pipeline.ownSems0_eq_of_list c osem0 [0, 1, 2, 3, 4, 5, 6, 7, 8, 9, 10, 11, 12, 13, 14, 15, 16, 17, 18, 19, 20, 21] (by decide) (by decide)]; rfl

def H0 : Finset (Ref sig .tc) := {main_arg0}
def R0 : Finset (Ref sig .tc) := {main_v1}
theorem H0_sub : H0 ⊆ Pipeline.restRefs sig spec0 := by decide
theorem R0_sub : R0 ⊆ Pipeline.restRefs sig spec0 \ H0 := by decide

theorem Phi_eq (G : (c : Dev nD) → (b : Ref sig .tc) → Buf (Elt F) ((c : Thread nD τ).loc b)) :
    (Pipeline.ΦDRV osem0 spec0 H0 R0 (V m) G c : sProp 𝕄)
      = iprop(((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f) ∗ (∃ f : Buf (Elt F) ((c : Thread nD τ).loc cc0_scratch6), ((c : Thread nD τ).loc cc0_scratch6) ↦{fullShare} f) ∗ (∃ f : Buf (Elt F) ((c : Thread nD τ).loc cc0_scratch7), ((c : Thread nD τ).loc cc0_scratch7) ↦{fullShare} f)) ∗ (Cell c (sem14 cc0_scratch8 0 0) ∗ Cell c (sem14 cc0_scratch8 0 1) ∗ Cell c (sem14 cc0_scratch8 0 2) ∗ Cell c (sem14 cc0_scratch8 0 3) ∗ Cell c (sem14 cc0_scratch8 0 4) ∗ Cell c (sem14 cc0_scratch8 0 5) ∗ Cell c (sem14 cc0_scratch8 0 6) ∗ Cell c (sem14 cc0_scratch8 0 7) ∗ Cell c (sem14 cc0_scratch8 1 0) ∗ Cell c (sem14 cc0_scratch8 1 1) ∗ Cell c (sem14 cc0_scratch8 1 2) ∗ Cell c (sem14 cc0_scratch8 1 3) ∗ Cell c (sem14 cc0_scratch8 1 4) ∗ Cell c (sem14 cc0_scratch8 1 5) ∗ Cell c (sem14 cc0_scratch8 1 6) ∗ Cell c (sem14 cc0_scratch8 1 7) ∗ Cell c (sem15 cc0_scratch9 0 (by decide)) ∗ Cell c (sem15 cc0_scratch9 1 (by decide)) ∗ Cell c (sem15 cc0_scratch9 2 (by decide)) ∗ Cell c (sem15 cc0_scratch9 3 (by decide)) ∗ Cell c cc0_scratch10.sem ∗ Cell c cc0_scratch11.sem)
        ∗ (((c : Thread nD τ).loc main_arg0) ↦{fullShare} V m c main_arg0) ∗ (((c : Thread nD τ).loc main_v1) ↦{fullShare} G c main_v1)) := by
  unfold Pipeline.ΦDRV H0 R0
  rw [scopedRest0_eq, ownSems0_cells, BI.bigSep_eq_bigSepL_of_eq [main_arg0] (by decide) (by decide), BI.bigSep_eq_bigSepL_of_eq [main_v1] (by decide) (by decide)]
  rfl

def dats (_ : Fin 1) (c : Dev nD) : Dat τ (Elt F) Unit ℕ (UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ i := if i.val = 0 then Pipeline.ΦDRV osem0 spec0 H0 R0 (V m) (V m) c else Pipeline.ΦDRV osem0 spec0 H0 R0 (V m) (GM m nu) c
  q _ := fullShare
  owed _ := 0

theorem A_eq (c : Dev nD) (w : Fin cfg0.W) : (dats m nu 0 c).A w = V m c (Pipeline.arrRef spec0 w) := by dsimp only [dats]
theorem after0 (t : Fin cfg0.N) : (dats m nu 0 c).after 0 t = iblk m c 0 t := by dsimp only [dats]
theorem after1 (t : Fin cfg0.N) : (dats m nu 0 c).after 1 t = iblk m c 1 t := by dsimp only [dats]
theorem after2 (t : Fin cfg0.N) : (dats m nu 0 c).after 2 t = iblk m c 2 t := by dsimp only [dats]
theorem after3 (t : Fin cfg0.N) : (dats m nu 0 c).after 3 t = iblk m c 3 t := by dsimp only [dats]
theorem before0 (t : Fin cfg0.N) (d) : (dats m nu 0 c).before 0 t d = iblk m c 0 t :=
  ((dats m nu 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (t : Fin cfg0.N) (d) : (dats m nu 0 c).before 1 t d = iblk m c 1 t :=
  ((dats m nu 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (t : Fin cfg0.N) (d) : (dats m nu 0 c).before 2 t d = iblk m c 2 t :=
  ((dats m nu 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (t : Fin cfg0.N) (d) : (dats m nu 0 c).before 3 t d = iblk m c 3 t :=
  ((dats m nu 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

theorem idx0 : ∀ t : Fin cfg0.N, win0_0.index t = ![0] ∧ win0_1.index t = ![0, 0] ∧ win0_2.index t = ![0, 0] ∧ win0_3.index t = ![0, 0] :=
  (by decide +kernel : ∀ t : Fin grid0.N, _)
theorem iblk0 (t : Fin cfg0.N) : iblk m c 0 t = V m c main_arg4 := by blk_ext! [iblk, idx0 t]
theorem iblk1 (t : Fin cfg0.N) : iblk m c 1 t = V m c main_v0 := by blk_ext! [iblk, idx0 t]
theorem iblk2 (t : Fin cfg0.N) : iblk m c 2 t = V m c main_arg2 := by blk_ext! [iblk, idx0 t]
theorem iblk3 (t : Fin cfg0.N) : iblk m c 3 t = V m c main_arg1 := by blk_ext! [iblk, idx0 t]

def bodyPre (t : Fin cfg0.N) : sProp 𝕄 :=
  iprop((dats m nu 0 c).Φ t.castSucc ∗ (dats m nu 0 c).owesAt () t.castSucc
    ∗ (∃ d, owns (c : Thread nD τ) (st0_0 t) fullShare ((dats m nu 0 c).before 0 t d)) ∗ (∃ d, owns (c : Thread nD τ) (st0_1 t) fullShare ((dats m nu 0 c).before 1 t d))
    ∗ (∃ d, owns (c : Thread nD τ) (st0_2 t) fullShare ((dats m nu 0 c).before 2 t d)) ∗ (∃ d, owns (c : Thread nD τ) (st0_3 t) fullShare ((dats m nu 0 c).before 3 t d)))
def bodyPost (t : Fin cfg0.N) : sProp 𝕄 :=
  iprop((dats m nu 0 c).Φ t.succ ∗ (dats m nu 0 c).owesAt () t.succ
    ∗ owns (c : Thread nD τ) (st0_0 t) fullShare ((dats m nu 0 c).after 0 t) ∗ owns (c : Thread nD τ) (st0_1 t) fullShare ((dats m nu 0 c).after 1 t)
    ∗ owns (c : Thread nD τ) (st0_2 t) fullShare ((dats m nu 0 c).after 2 t) ∗ owns (c : Thread nD τ) (st0_3 t) fullShare ((dats m nu 0 c).after 3 t))

/-- A whole buffer at known contents, and at some. -/
theorem whole_own (b : Ref sig .tc) (X : b.ty.Contents (Elt F)) : (((c : Thread nD τ).loc b) ↦{fullShare} X : sProp 𝕄) ⊢ Own c (Memref.whole b) fullShare X :=
  (Entails.of_eq (owns_whole (c : Thread nD τ) b fullShare X).symm).trans (by
    unfold owns
    iintro ⟨%f, %h, H⟩
    ihave H := (Own.of_pointsTo (c := c) (m := Memref.whole b) f) $$ H
    rw [h]
    iexact H)
theorem own_whole (b : Ref sig .tc) (X : b.ty.Contents (Elt F)) : Own c (Memref.whole b) fullShare X ⊢ (((c : Thread nD τ).loc b) ↦{fullShare} X : sProp 𝕄) :=
  (show _ ⊢ (owns (c : Thread nD τ) (Memref.whole b) fullShare X : sProp 𝕄) from Own.to_pointsTo (c := c)).trans (Entails.of_eq (owns_whole (c : Thread nD τ) b fullShare X))
theorem whole_any (b : Ref sig .tc) : (iprop(∃ f : Buf (Elt F) ((c : Thread nD τ).loc b), ((c : Thread nD τ).loc b) ↦{fullShare} f) : sProp 𝕄) ⊢ Any (F := F) c (Memref.whole b) (fun _ => True) := by
  iintro ⟨%f, H⟩
  ihave H := (whole_own c b f) $$ H
  iapply own_any $$ H
theorem any_whole (b : Ref sig .tc) : Any (F := F) c (Memref.whole b) (fun _ => True) ⊢ (iprop(∃ f : Buf (Elt F) ((c : Thread nD τ).loc b), ((c : Thread nD τ).loc b) ↦{fullShare} f) : sProp 𝕄) := by
  iintro ⟨%g, H⟩
  ihave H := (own_whole c b g) $$ H
  iexists g
  iexact H
theorem owns_own {sp : Space} {s : Shape} {e : EltTy} (M : Memref sig .tc sp s e) (X : s.Idx → Elt F e) : (owns (c : Thread nD τ) M fullShare X : sProp 𝕄) ⊢ Own c M fullShare X := by
  unfold owns
  iintro ⟨%f, %h, H⟩
  ihave H := (Own.of_pointsTo (c := c) f) $$ H
  rw [h]
  iexact H
theorem own_owns {sp : Space} {s : Shape} {e : EltTy} (M : Memref sig .tc sp s e) (X : s.Idx → Elt F e) : Own c M fullShare X ⊢ (owns (c : Thread nD τ) M fullShare X : sProp 𝕄) :=
  Own.to_pointsTo (c := c)

theorem owns_pt {sp : Space} {s : Shape} {e : EltTy} (M : Memref sig .tc sp s e) (X : s.Idx → Elt F e) :
    (owns (c : Thread nD τ) M fullShare X : sProp 𝕄) ⊢ iprop(∃ f, ⌜M.view.read (Elt F) f = X⌝ ∗ (M.view.loc (c : Thread nD τ) ↦[M.view.set]{fullShare} f)) := by
  unfold owns
  exact .rfl

theorem sound_body (hL : LH m nu) (t : Fin cfg0.N) :
    bodyPre c m nu t ⊢ wp frame (wpE (defs₀ (F := F)) Variants.none (c : Thread nD τ) none) Set.univ (bodyAt0 t) (fun _ => bodyPost c m nu t) := by
  have e0 : t.castSucc.val = 0 := by rw [fin_N0 t]; rfl
  have e1 : t.succ.val ≠ 0 := by rw [Fin.val_succ]; omega
  unfold bodyPre bodyPost bodyAt0
  rw [show (dats m nu 0 c).Φ t.castSucc = Pipeline.ΦDRV osem0 spec0 H0 R0 (V m) (V m) c from if_pos e0, show (dats m nu 0 c).Φ t.succ = Pipeline.ΦDRV osem0 spec0 H0 R0 (V m) (GM m nu) c from if_neg e1, Phi_eq, Phi_eq, GM_v1]
  unfold Dat.owesAt Pipeline.owesWithin
  rw [show (dats m nu 0 c).owed t.castSucc = 0 from rfl, show (dats m nu 0 c).owed t.succ = 0 from rfl]
  rw [after0, after1, after2, after3]
  simp only [before0, before1, before2, before3]
  iintro ⟨⟨⟨A0, A1, A2, A3, A4, A5, A6, A7⟩, ⟨K0, K1, K2, K3, K4, K5, K6, K7, K8, K9, K10, K11, K12, K13, K14, K15, K16, K17, K18, K19, K20, K21⟩, Hc, Ho⟩, ⟨%W, -, HW⟩, ⟨%d0, S0⟩, ⟨%d1, S1⟩, ⟨%d2, S2⟩, ⟨%d3, S3⟩⟩
  ihave A0 := (whole_any c cc0_scratch0) $$ A0
  ihave A1 := (whole_any c cc0_scratch1) $$ A1
  ihave A2 := (whole_any c cc0_scratch2) $$ A2
  ihave A3 := (whole_any c cc0_scratch3) $$ A3
  ihave A4 := (whole_any c cc0_scratch4) $$ A4
  ihave A5 := (whole_any c cc0_scratch5) $$ A5
  ihave A6 := (whole_any c cc0_scratch6) $$ A6
  ihave A7 := (whole_any c cc0_scratch7) $$ A7
  ihave Hc := (whole_own c main_arg0 _) $$ Hc
  ihave Ho := (whole_own c main_v1 _) $$ Ho
  ihave Ho := own_any $$ Ho
  rw [codes_eq c m]
  ihave S0 := (owns_pt c (st0_0 t) _) $$ S0
  icases S0 with ⟨%Xs, %hXs, S0⟩
  ihave S1 := (owns_own c (st0_1 t) _) $$ S1
  ihave S2 := (owns_own c (st0_2 t) _) $$ S2
  ihave S3 := (owns_own c (st0_3 t) _) $$ S3
  iapply (body_spec Variants.none c (soM c m) (nu c) (pmM c m) (idsM c m) (sclM c m) (cdM c m) _ _ _ _ (facts_M c m nu hL) Xs (fun i => ?_)) $$ [A0 A1 A2 A3 A4 A5 A6 A7 K0 K1 K2 K3 K4 K5 K6 K7 K8 K9 K10 K11 K12 K13 K14 K15 K16 K17 K18 K19 K20 K21 Hc Ho HW S0 S1 S2 S3]
  · rw [hXs, iblk0]; exact soW_idx _ _
  · rw [iblk1, iblk2, iblk3]
    unfold Codes Ring Each8 Owes
    isplitl [S0]; · iexact S0
    isplitl [S1]; · iexact S1
    isplitl [S2]; · iexact S2
    isplitl [S3]; · iexact S3
    isplitl [Hc A0 K0 K1 K2 K3 K4 K5 K6 K7 K8 K9 K10 K11 K12 K13 K14 K15]
    · isplitl [Hc]; · iexact Hc
      isplitl [A0]; · iexact A0
      isplitl [K0 K1 K2 K3 K4 K5 K6 K7] <;> iframe
    isplitl [Ho]; · iexact Ho
    isplitl [A1]; · iexact A1
    isplitl [A2 K16 K17 K18 K19]; · iframe
    isplitl [A3]; · iexact A3
    isplitl [A4]; · iexact A4
    isplitl [A5]; · iexact A5
    isplitl [A6]; · iexact A6
    isplitl [A7]; · iexact A7
    isplitl [K20]; · iexact K20
    isplitl [K21]; · iexact K21
    iexists W; iexact HW
  unfold Codes Ring Each8 Owes
  iintro ⟨S0, S1, S2, S3, ⟨Hc, A0, ⟨K0, K1, K2, K3, K4, K5, K6, K7⟩, ⟨K8, K9, K10, K11, K12, K13, K14, K15⟩⟩, Ho, A1, ⟨A2, K16, K17, K18, K19⟩, A3, A4, A5, A6, A7, K20, K21, ⟨%W', HW⟩⟩
  ihave A0 := (any_whole c cc0_scratch0) $$ A0
  ihave A1 := (any_whole c cc0_scratch1) $$ A1
  ihave A2 := (any_whole c cc0_scratch2) $$ A2
  ihave A3 := (any_whole c cc0_scratch3) $$ A3
  ihave A4 := (any_whole c cc0_scratch4) $$ A4
  ihave A5 := (any_whole c cc0_scratch5) $$ A5
  ihave A6 := (any_whole c cc0_scratch6) $$ A6
  ihave A7 := (any_whole c cc0_scratch7) $$ A7
  ihave Hc := (own_whole c main_arg0 _) $$ Hc
  ihave Ho := (own_whole c main_v1 _) $$ Ho
  isplitl [A0 A1 A2 A3 A4 A5 A6 A7 K0 K1 K2 K3 K4 K5 K6 K7 K8 K9 K10 K11 K12 K13 K14 K15 K16 K17 K18 K19 K20 K21 Hc Ho]
  · isplitl [A0 A1 A2 A3 A4 A5 A6 A7]; · iframe
    isplitl [K0 K1 K2 K3 K4 K5 K6 K7 K8 K9 K10 K11 K12 K13 K14 K15 K16 K17 K18 K19 K20 K21]; · iframe
    isplitl [Hc]; · iexact Hc
    iexact Ho
  isplitl [HW]
  · iexists W'; isplitr; · ipureintro; exact fun _ _ => Or.inl trivial
    iexact HW
  isplitl [S0]
  · ihave S0 := (own_owns c (st0_0 t) _) $$ S0
    rw [iblk0, show (V m c main_arg4 : S2049.Idx → Elt F .i32) = fun i => soM c m (i 0).val from funext fun i => soW_idx _ _]
    iexact S0
  rw [iblk1, iblk2, iblk3]
  isplitl [S1]; · iapply (own_owns c (st0_1 t) _) $$ S1
  isplitl [S2]; · iapply (own_owns c (st0_2 t) _) $$ S2
  iapply (own_owns c (st0_3 t) _) $$ S3
  exact iprop(emp)

end Cert.KernelIdeal.Emb
-- ==== Proof.KernelIdeal.Run.lean ====
module

public import proofs.«01_k».proof.Proof.KernelIdeal.Launch

@[expose] public section

set_option maxRecDepth 16384
noncomputable section

namespace Cert.KernelIdeal.Emb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]
local notation "𝕄" => MT nD τ sig Unit (Elt F) ℕ (UD sig nD τ) ℕ
variable (c : Dev nD)

/-! # The run: the arguments end unchanged, the result is the rows -/

open Idealize.ShloMosaic.Rounds
open Idealize.ShloMosaic.Pipeline (Dat Cfg Window BodyObligation cellOf)

variable [hP : Cert.Pre_sorted_by_token.Facts]
variable (m : (ℓ : Loc nD τ sig) → Buf (Elt F) ℓ) (ρ : Dev nD → PrngReg)

/-- The permutation as the kernel gets it: the argument in rows of 128. -/
theorem pmM_eq (x : S16x128.Idx) (p : ℕ) (hp : p < 2048) (hx : p = (x 0).val * 128 + (x 1).val) :
    pmM c m x = (m ((c : Thread nD τ).loc main_arg3) : S2048.Idx → Elt F .i32) (ValueIdx.ix1 (⟨p, hp⟩ : Fin 2048)) := by
  have e : pmM c m = shapeCast S16x128 (m ((c : Thread nD τ).loc main_arg3) : S2048.Idx → Elt F .i32) shapeCasts_S2048_S16x128 := by
    show StableHlo.after hostOps0 _ (Proc.devRef .tc main_v0) = _
    after_results
    rfl
  rw [e]
  refine shapeCast_apply (s := S2048) _ _ _ _ ?_
  rw [Shape.rowMajor_val_one, Shape.rowMajor_val_two]
  exact hx

variable (nu : Dev nD → ℕ)

/-- What the launch needs, of the precondition's facts. -/
theorem lh_of (h : ∀ c : Dev nD, PreH (m ((c : Thread nD τ).loc main_arg2) : S2x1024.Idx → BitVec 32) (m ((c : Thread nD τ).loc main_arg3) : S2048.Idx → BitVec 32)
    (soW (m ((c : Thread nD τ).loc main_arg4) : S2049.Idx → BitVec 32)) (nu c)) : LH m nu where
  seg c := by
    have h1 := (h c).seg
    rw [← V_main_arg2 m c, ← V_main_arg4 m c] at h1
    exact h1
  pm c x := by
    have h0 : (x 0).val < 16 := (x 0).isLt
    have h1 : (x 1).val < 128 := (x 1).isLt
    rw [pmM_eq c m x ((x 0).val * 128 + (x 1).val) (by omega) rfl]
    exact (h c).perm _

theorem defs₀_row (t : Fin cfg0.N) : defs₀ (F := F) .tc cfg0.body (cfg0.bodyArgs t (cfg0.slots t)) = bodyAt0 t := by
  unfold defs₀; rw [Defs.onTc_tc]

theorem body_obligation (hL : LH m nu) (c : Dev nD) : BodyObligation (dats (F := F) m nu 0 c) (defs₀ (F := F)) Variants.none () Set.univ := fun t => by
  rw [bigSep_W0, bigSep_W0, defs₀_row]
  exact triple_restated (sound_body c m nu hL t) rfl .rfl fun _ => .rfl

/-- The result: row `r`, column `x` at tile `x / 128`, lane `x % 128`. -/
def outM (c : Dev nD) : S2048x12288.Idx → Elt F .f32 := fun x => OM c m nu (x 0).val ((x 1).val / 128) ((x 1).val % 128)

theorem after_v3 (W : Valuation τ sig (Elt F)) (hW : W (Proc.devRef .tc main_v1) = (OutV (OM c m nu) : S256x96x8x128.Idx → Elt F .f32)) :
    StableHlo.after (List.flatten [hostOps1]) W (Proc.devRef .tc main_v3) = outM m nu c := by
  have e : StableHlo.after (List.flatten [hostOps1]) W (Proc.devRef .tc main_v3)
      = shapeCast S2048x12288 (transpose S256x8x96x128 [0, 2, 1, 3] (W (Proc.devRef .tc main_v1) : S256x96x8x128.Idx → Elt F .f32) transposes_S256x96x8x128_S256x8x96x128_0_2_1_3)
        shapeCasts_S256x8x96x128_S2048x12288 := by
    show StableHlo.after hostOps1 _ (Proc.devRef .tc main_v3) = _
    after_results
    rfl
  rw [e, hW]
  funext x
  have h0 : (x 0).val < 2048 := (x 0).isLt
  have h1 : (x 1).val < 12288 := (x 1).isLt
  rw [shapeCast_apply _ _ x (ValueIdx.ix4 (⟨(x 0).val / 8, by omega⟩ : Fin 256) (⟨(x 0).val % 8, by omega⟩ : Fin 8) (⟨(x 1).val / 128, by omega⟩ : Fin 96) (⟨(x 1).val % 128, by omega⟩ : Fin 128))
      (by rw [Shape.rowMajor_val_four, Shape.rowMajor_val_two]
          show (((x 0).val / 8 * 8 + (x 0).val % 8) * 96 + (x 1).val / 128) * 128 + (x 1).val % 128 = (x 0).val * 12288 + (x 1).val
          omega),
    transpose_apply _ _ _ _ (ValueIdx.ix4 (⟨(x 0).val / 8, by omega⟩ : Fin 256) (⟨(x 1).val / 128, by omega⟩ : Fin 96) (⟨(x 0).val % 8, by omega⟩ : Fin 8) (⟨(x 1).val % 128, by omega⟩ : Fin 128))
      (fun b => by fin_cases b <;> rfl)]
  show OM c m nu ((x 0).val / 8 * 8 + (x 0).val % 8) ((x 1).val / 128) ((x 1).val % 128) = _
  rw [show (x 0).val / 8 * 8 + (x 0).val % 8 = (x 0).val by omega]
  rfl

/-- The contents after the region. -/
abbrev Wend (c : Dev nD) : Valuation τ sig (Elt F) :=
  Pipeline.withArrays (cfgs 0).spec c (Pipeline.withR (V0 m c) R0 c (GM m nu c)) fun w => (dats m nu 0 c).arrAt w (cfgs 0).N
theorem W_main_v3 (c : Dev nD) : StableHlo.after (List.flatten [hostOps1]) (Wend m nu c) (Proc.devRef .tc main_v3) = outM m nu c := by
  refine after_v3 c m nu _ ?_
  unfold Wend
  rw [Pipeline.withArrays_of_ne _ c _ _ main_v1 (by exact (by decide : ∀ w, Pipeline.arrRef spec0 w ≠ main_v1)), Pipeline.withR_of_mem _ _ _ _ main_v1 (by decide)]
  exact GM_v1 m nu c
theorem W_main_arg0' (c : Dev nD) : StableHlo.after (List.flatten [hostOps1]) (Wend m nu c) (Proc.devRef .tc main_arg0) = m ((c : Thread nD τ).loc main_arg0) := by
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))]
  unfold Wend
  rw [Pipeline.withArrays_of_ne _ c _ _ main_arg0 (by exact (by decide : ∀ w, Pipeline.arrRef spec0 w ≠ main_arg0)), Pipeline.withR_of_not_mem _ _ _ _ main_arg0 (by decide)]
  exact V_main_arg0 m c
theorem W_main_arg3' (c : Dev nD) : StableHlo.after (List.flatten [hostOps1]) (Wend m nu c) (Proc.devRef .tc main_arg3) = m ((c : Thread nD τ).loc main_arg3) := by
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))]
  unfold Wend
  rw [Pipeline.withArrays_of_ne _ c _ _ main_arg3 (by exact (by decide : ∀ w, Pipeline.arrRef spec0 w ≠ main_arg3)), Pipeline.withR_of_not_mem _ _ _ _ main_arg3 (by decide)]
  exact V_main_arg3 m c

theorem Phi_at (c : Dev nD) (i : Fin (cfg0.N + 1)) : (dats m nu 0 c).Φ i = if i.val = 0 then Pipeline.ΦDRV osem0 spec0 H0 R0 (V m) (V m) c else Pipeline.ΦDRV osem0 spec0 H0 R0 (V m) (GM m nu) c := by
  dsimp only [dats]
theorem Phi_first (c : Dev nD) : (dats m nu 0 c).Φ 0 = Pipeline.ΦDRV osem0 spec0 H0 R0 (V m) (V m) c := (Phi_at m nu c 0).trans (if_pos rfl)
theorem Phi_last (c : Dev nD) : (dats m nu 0 c).Φ (Fin.last cfg0.N) = Pipeline.ΦDRV osem0 spec0 H0 R0 (V m) (GM m nu) c :=
  (Phi_at m nu c _).trans (if_neg (by show ¬ (Fin.last grid0.N).val = 0; rw [Fin.val_last, N_0]; decide))

set_option backward.isDefEq.respectTransparency.types false in
/-- From the precondition's facts, the program ends with its arguments unchanged, its semaphores at zero and its result the rows. -/
theorem run_main (hL : LH m nu) : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.mem ((c.tc : Thread nD τ).loc main_v3) = outM m nu c)
      ∧ r.2.sem = fun _ => 0) :=
  Pipeline.θ_run_frame_dmaR_aroundV cfgs (dats m nu) (0 : Fin 1) launch0 osem0 defs₀ Variants.none ownSemFacts0 H0 R0 H0_sub R0_sub m ρ main
    (hbody := fun c => (body_obligation m nu hL c).loose) (hshare := fun c => (dats m nu 0 c).share_full fun _ => rfl)
    (howed := fun _ _ => rfl) (V₀ := V0 m) (opss := [hostOps1]) (hsub := sfx_sub) (hfresh := sfx_fresh) (hkeep := sfx_keeps)
    (G := GM m nu) (hmain := hmain m Variants.none) (hA := A_eq m nu)
    (hin := fun c => Entails.of_eq (Phi_first m nu c).symm) (hout := fun c => Entails.of_eq (Phi_last m nu c))
    (Q' := _) (hQ' := fun r h => ⟨fun c => ⟨⟨((h.1 c).2 main_arg0 (Pipeline.mem_restRefs_of main_arg0 (by decide) (by decide))).trans (W_main_arg0' m nu c),
      ((h.1 c).1 3).trans (((dats m nu 0 c).arrAt_in 3 rfl _).trans ((A_eq m nu c 3).trans (V_main_arg1 m c))),
      ((h.1 c).1 2).trans (((dats m nu 0 c).arrAt_in 2 rfl _).trans ((A_eq m nu c 2).trans (V_main_arg2 m c))),
      ((h.1 c).2 main_arg3 (Pipeline.mem_restRefs_of main_arg3 (by decide) (by decide))).trans (W_main_arg3' m nu c),
      ((h.1 c).1 0).trans (((dats m nu 0 c).arrAt_in 0 rfl _).trans ((A_eq m nu c 0).trans (V_main_arg4 m c)))⟩,
      ((h.1 c).2 main_v3 (Pipeline.mem_restRefs_of main_v3 (by decide) (by decide))).trans (W_main_v3 m nu c)⟩, h.2⟩)

end Cert.KernelIdeal.Emb
-- ==== Proof.PreFacts.lean ====
module

public import proofs.«01_k».proof.Proof.KernelIdeal.Run
public import proofs.«01_k».proof.Proof.Gen.KernelIdeal
public import proofs.«01_k».proof.Defs

@[expose] public section

set_option maxRecDepth 16384
noncomputable section

/-! # The precondition's side conditions, and the frame of the idealized kernel -/

namespace Cert.Pre_sorted_by_token

open Idealize.ShloMosaic

/-- The side conditions the precondition states: shapes and dimension numbers, each decided. -/
theorem facts : Facts where
  bcast_S_S2x1024 := by decide
  natLt_1_32 := by decide
  reducesTo_S2x1024_S_d0_1 := by decide
  h_S_ := by decide
  shapeCasts_S2x1024_S2048 := by decide
  bcast_S_S2048 := by decide
  bcast_S2048_S2048x1_0 := by decide
  slices_S2049_S2048_0 := by decide
  slices_S2049_S2048_1 := by decide
  slices_S2049_S1_1 := by decide
  shapeCasts_S1_S_ := by decide
  bcast_S_S32 := by decide
  slicesBy_S2049_S32_0s64 := by decide
  slicesBy_S2049_S32_64s64 := by decide
  reducesTo_S32_S_d0 := by decide
  gather_S2048_S2048x1_S2048_n_0_n_n_0_1_1_wf := by decide

end Cert.Pre_sorted_by_token

namespace Cert.KernelIdeal.Emb

open Cert.KernelIdeal Cert.KernelIdeal.Gen
open Idealize.ShloMosaic Idealize.ShloMosaic.TcCoe Idealize.SL.Sem

variable {F : FTy → Type} [FloatOps F] [hP : Cert.Pre_sorted_by_token.Facts]

/-- The precondition at every device gives, per device, the number of tokens' rows and the facts the run takes. -/
theorem preH_of (m : (ℓ : Loc nD τ sig) → Buf (Elt F) ℓ)
    (h : ∀ c : Dev nD, Cert.Pre_sorted_by_token.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) = (fun _ => 1#1)) :
    ∃ nu : Dev nD → ℕ, ∀ c : Dev nD, PreH (m ((c.tc : Thread nD τ).loc main_arg2)) (m ((c.tc : Thread nD τ).loc main_arg3)) (soW (m ((c.tc : Thread nD τ).loc main_arg4))) (nu c) :=
  ⟨fun c => (pre_facts _ _ _ _ _ (h c)).choose, fun c => (pre_facts _ _ _ _ _ (h c)).choose_spec⟩

/-- The frame at any float values: the program ends, its arguments unchanged and its semaphores at zero. -/
theorem frame (m : (ℓ : Loc nD τ sig) → Buf (Elt F) ℓ) (ρ : Dev nD → PrngReg)
    (h : ∀ c : Dev nD, Cert.Pre_sorted_by_token.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) = (fun _ => 1#1)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  obtain ⟨nu, hn⟩ := preH_of m h
  exact (θ_run defs _ _).mono (fun _ q => ⟨fun c => (q.1 c).1, q.2⟩) (run_main m ρ nu (lh_of m nu hn))

end Cert.KernelIdeal.Emb
end
-- ==== Proof.Kernel.Base.lean ====
module

public import proofs.«01_k».proof.Proof.Gen.Kernel.Skeleton
public import proofs.«01_k».proof.Proof.Gen.Kernel.Points
public import proofs.«01_k».proof.Proof.Gen.Kernel.Launch
public import Idealize.ShloMosaic.Lib.Pipeline.FrameBody
public import Idealize.ShloMosaic.Lib.Pipeline.FrameSuffix
public import Idealize.ShloMosaic.Lib.Ring
public import Idealize.ShloMosaic.Lib.Exec
public import Idealize.ShloMosaic.Lib.Tactic
public import Idealize.ShloMosaic.Lib.WordCmp
public import Idealize.ShloMosaic.Lib.Batch
public import Idealize.ShloMosaic.Lib.Transfers
-- ==== Proof.Kernel.Words.lean ====
module

public import proofs.«01_k».proof.Proof.Kernel.Base

@[expose] public section

noncomputable section

namespace Cert.Kernel.Emb

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]
local notation "𝕄" => MT nD τ sig Unit (Elt F) ℕ (UD sig nD τ) ℕ
variable (𝒱 : Variants) (c : Dev nD)
variable {arg0 : Memref sig .tc .smem S2049 .i32} {harg0 : arg0.IsWhole} {arg1 : Memref sig .tc .vmem S16x128 .i32} {harg1 : arg1.IsWhole} {arg2 : Memref sig .tc .vmem S2x1024 .i32} {harg2 : arg2.IsWhole} {arg3 : Memref sig .tc .vmem S2x1024 .f32} {harg3 : arg3.IsWhole} {arg4 : Memref sig .tc .hbm S2x1024x12288 .fp8e5m2} {harg4 : arg4.IsWhole} {arg5 : Memref sig .tc .hbm S256x96x8x128 .f32} {harg5 : arg5.IsWhole} {arg6 : Memref sig .tc .vmem S2x2048x3072 .fp8e5m2} {harg6 : arg6.IsWhole} {arg7 : Memref sig .tc .vmem S256x24x8x128 .f32} {harg7 : arg7.IsWhole} {arg8 : Memref sig .tc .vmem S4x9x24x8x128 .f32} {harg8 : arg8.IsWhole} {arg9 : Memref sig .tc .vmem S8x24x8x128 .f32} {harg9 : arg9.IsWhole} {arg10 : Memref sig .tc .vmem S2048x128 .f32} {harg10 : arg10.IsWhole} {arg11 : Memref sig .tc .vmem S2x17x128 .i32} {harg11 : arg11.IsWhole} {arg12 : Memref sig .tc .smem S2176 .i32} {harg12 : arg12.IsWhole} {arg13 : Memref sig .tc .smem S2176 .i32} {harg13 : arg13.IsWhole} {arg14 : DmaSems sig S2x8} {arg15 : DmaSems sig S4} {arg16 : DmaSems sig S_} {arg17 : DmaSems sig S_}

/-! # Word arithmetic: the operations of the kernel on small nonnegative words -/

theorem ofNat_toNat {n : ℕ} (h : n < 4294967296) : (BitVec.ofNat 32 n).toNat = n := by
  rw [BitVec.toNat_ofNat]; omega

theorem toInt_small (x : BitVec 32) (h : x.toNat < 2147483648) : x.toInt = x.toNat := by
  rw [BitVec.toInt_eq_toNat_cond]; split <;> omega

theorem msb_small (x : BitVec 32) (h : x.toNat < 2147483648) : x.msb = false := by
  rw [BitVec.msb_eq_false_iff_two_mul_lt]; omega

theorem sle_small (x y : BitVec 32) (hx : x.toNat < 2147483648) (hy : y.toNat < 2147483648) :
    x.sle y = decide (x.toNat ≤ y.toNat) := by
  rw [BitVec.sle_eq_decide, toInt_small x hx, toInt_small y hy]; simp

theorem slt_small (x y : BitVec 32) (hx : x.toNat < 2147483648) (hy : y.toNat < 2147483648) :
    x.slt y = decide (x.toNat < y.toNat) := by
  rw [BitVec.slt_eq_decide, toInt_small x hx, toInt_small y hy]; simp

/-- A conditional on a comparison word. -/
theorem select_ofBool {α : Type} (b : Bool) (x y : α) :
    Scalar.select (BitVec.ofBool b) x y = if b then x else y := by
  cases b <;> rfl

theorem addi_toNat (x y : BitVec 32) (h : x.toNat + y.toNat < 4294967296) :
    (Scalar.addi x y).toNat = x.toNat + y.toNat := by
  show (x + y).toNat = _
  rw [BitVec.toNat_add]; omega

theorem muli_toNat (x y : BitVec 32) (h : x.toNat * y.toNat < 4294967296) :
    (Scalar.muli x y).toNat = x.toNat * y.toNat := by
  show (x * y).toNat = _
  rw [BitVec.toNat_mul]; exact Nat.mod_eq_of_lt h

theorem subi_toNat (x y : BitVec 32) (h : y.toNat ≤ x.toNat) :
    (Scalar.subi x y).toNat = x.toNat - y.toNat := by
  show (x - y).toNat = _
  rw [BitVec.toNat_sub]; have := x.isLt; have := y.isLt; omega

theorem noCorner (x d : BitVec 32) (hx : x.toNat < 2147483648) (h0 : 0 < d.toNat) : ¬ IntOp.SDivCorner x d := by
  rintro (h | ⟨h, _⟩)
  · subst h; simp at h0
  · subst h; revert hx; decide

theorem divsi_toNat (x d : BitVec 32) (hx : x.toNat < 2147483648) (hd : d.toNat < 2147483648) (h0 : 0 < d.toNat) :
    (Scalar.divsi x d).toNat = x.toNat / d.toNat := by
  unfold Scalar.divsi IntOp.divsi
  rw [if_neg]
  · rw [BitVec.sdiv_eq, msb_small x hx, msb_small d hd]; exact BitVec.toNat_udiv
  · exact noCorner x d hx h0

theorem remsi_toNat (x d : BitVec 32) (hx : x.toNat < 2147483648) (hd : d.toNat < 2147483648) (h0 : 0 < d.toNat) :
    (Scalar.remsi x d).toNat = x.toNat % d.toNat := by
  unfold Scalar.remsi IntOp.remsi
  rw [if_neg]
  · rw [BitVec.srem_eq, msb_small x hx, msb_small d hd]; exact BitVec.toNat_umod
  · exact noCorner x d hx h0

/-- The floor division the kernel computes: a truncating quotient, one less where the signs differ and the
remainder is not zero. -/
def fdivW (x d : BitVec 32) : BitVec 32 :=
  Scalar.select (Scalar.andi
      (Scalar.cmpi .ne (Scalar.subi (Scalar.extui (Scalar.cmpi .sgt x 0#32)) (Scalar.extui (Scalar.cmpi .slt x 0#32)))
        (Scalar.subi (Scalar.extui (Scalar.cmpi .sgt d 0#32)) (Scalar.extui (Scalar.cmpi .slt d 0#32))))
      (Scalar.cmpi .ne (Scalar.remsi x d) 0#32))
    (Scalar.subi (Scalar.divsi x d) 1#32) (Scalar.divsi x d)

theorem fdivW_toNat (x d : BitVec 32) (hx : x.toNat < 2147483648) (hd : d.toNat < 2147483648) (h0 : 0 < d.toNat) :
    (fdivW x d).toNat = x.toNat / d.toNat := by
  unfold fdivW
  have hr := remsi_toNat x d hx hd h0
  have e : Scalar.andi
      (Scalar.cmpi .ne (Scalar.subi (Scalar.extui (Scalar.cmpi .sgt x 0#32)) (Scalar.extui (Scalar.cmpi .slt x 0#32)))
        (Scalar.subi (Scalar.extui (Scalar.cmpi .sgt d 0#32)) (Scalar.extui (Scalar.cmpi .slt d 0#32))))
      (Scalar.cmpi .ne (Scalar.remsi x d) 0#32) = 0#1 := by
    have h1 : Scalar.cmpi .slt x 0#32 = 0#1 := by
      show BitVec.ofBool (x.slt 0#32) = _
      rw [slt_small x _ hx (by decide)]; simp
    have h2 : Scalar.cmpi .slt d 0#32 = 0#1 := by
      show BitVec.ofBool (d.slt 0#32) = _
      rw [slt_small d _ hd (by decide)]; simp
    have h3 : Scalar.cmpi .sgt d 0#32 = 1#1 := by
      show BitVec.ofBool ((0#32).slt d) = _
      rw [slt_small _ d (by decide) hd]; simp [h0]
    rw [h1, h2, h3]
    by_cases hz : x.toNat = 0
    · have : Scalar.cmpi .ne (Scalar.remsi x d) 0#32 = 0#1 := by
        have : Scalar.remsi x d = 0#32 := by
          apply BitVec.eq_of_toNat_eq; rw [hr, hz]; simp
        rw [this]; decide
      rw [this]
      show _ &&& 0#1 = 0#1
      simp
    · have h4 : Scalar.cmpi .sgt x 0#32 = 1#1 := by
        show BitVec.ofBool ((0#32).slt x) = _
        rw [slt_small _ x (by decide) hx]
        have : (0#32).toNat < x.toNat := by simp; omega
        rw [decide_eq_true this]; rfl
      rw [h4]
      show Scalar.cmpi .ne (Scalar.subi (Scalar.extui 1#1) (Scalar.extui 0#1)) (Scalar.subi (Scalar.extui 1#1) (Scalar.extui 0#1)) &&& _ = 0#1
      have : Scalar.cmpi .ne (Scalar.subi (Scalar.extui 1#1) (Scalar.extui 0#1)) (Scalar.subi (Scalar.extui 1#1) (Scalar.extui 0#1)) = 0#1 := by decide
      rw [this]; simp
  rw [e]
  exact divsi_toNat x d hx hd h0

/-- A counted loop from zero by ones has as many trips as its upper bound. -/
theorem trips_zero_one (ub : BitVec 32) (h : ub.toNat < 2147483648) : Scf.trips 0#32 ub 1#32 = ub.toNat := by
  unfold Scf.trips
  rw [toInt_small ub h]; simp

theorem trips_self (lb : BitVec 32) : Scf.trips lb lb 1#32 = 0 := by
  unfold Scf.trips; simp

theorem trips_one (lb ub : BitVec 32) (h : ub.toNat < 2147483648) (h' : lb.toNat ≤ ub.toNat) :
    Scf.trips lb ub 1#32 = ub.toNat - lb.toNat := by
  unfold Scf.trips
  rw [toInt_small ub h, toInt_small lb (by omega)]; simp

theorem iv_toNat (lb : BitVec 32) (k : ℕ) (h : lb.toNat + k < 4294967296) : (Scf.iv lb 1#32 k).toNat = lb.toNat + k := by
  unfold Scf.iv
  simp only [BitVec.mul_one]
  rw [BitVec.toNat_add, BitVec.toNat_ofNat]; omega

end Cert.Kernel.Emb
-- ==== Proof.Kernel.Chk.lean ====
module

public import proofs.«01_k».proof.Proof.Kernel.Words

@[expose] public section

noncomputable section

namespace Cert.Kernel.Emb

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]
local notation "𝕄" => MT nD τ sig Unit (Elt F) ℕ (UD sig nD τ) ℕ
variable (𝒱 : Variants) (c : Dev nD)
variable {arg0 : Memref sig .tc .smem S2049 .i32} {harg0 : arg0.IsWhole} {arg1 : Memref sig .tc .vmem S16x128 .i32} {harg1 : arg1.IsWhole} {arg2 : Memref sig .tc .vmem S2x1024 .i32} {harg2 : arg2.IsWhole} {arg3 : Memref sig .tc .vmem S2x1024 .f32} {harg3 : arg3.IsWhole} {arg4 : Memref sig .tc .hbm S2x1024x12288 .fp8e5m2} {harg4 : arg4.IsWhole} {arg5 : Memref sig .tc .hbm S256x96x8x128 .f32} {harg5 : arg5.IsWhole} {arg6 : Memref sig .tc .vmem S2x2048x3072 .fp8e5m2} {harg6 : arg6.IsWhole} {arg7 : Memref sig .tc .vmem S256x24x8x128 .f32} {harg7 : arg7.IsWhole} {arg8 : Memref sig .tc .vmem S4x9x24x8x128 .f32} {harg8 : arg8.IsWhole} {arg9 : Memref sig .tc .vmem S8x24x8x128 .f32} {harg9 : arg9.IsWhole} {arg10 : Memref sig .tc .vmem S2048x128 .f32} {harg10 : arg10.IsWhole} {arg11 : Memref sig .tc .vmem S2x17x128 .i32} {harg11 : arg11.IsWhole} {arg12 : Memref sig .tc .smem S2176 .i32} {harg12 : arg12.IsWhole} {arg13 : Memref sig .tc .smem S2176 .i32} {harg13 : arg13.IsWhole} {arg14 : DmaSems sig S2x8} {arg15 : DmaSems sig S4} {arg16 : DmaSems sig S_} {arg17 : DmaSems sig S_}

/-! # The loop bounds and the side conditions that depend on the number of segments alone -/

/-- The bound of a counted loop as printed is the bound itself. -/
theorem bound_eq (lb ub : BitVec 32) (h : ub.toNat < 2147483648) (h' : lb.toNat ≤ ub.toNat) :
    Scalar.addi lb (Scalar.muli (Scalar.divsi (Scalar.subi ub lb) 1#32) 1#32) = ub := by
  apply BitVec.eq_of_toNat_eq
  have h1 := subi_toNat ub lb h'
  have h2 := divsi_toNat (Scalar.subi ub lb) 1#32 (by omega) (by decide) (by decide)
  have h2' : (Scalar.divsi (Scalar.subi ub lb) 1#32).toNat = ub.toNat - lb.toNat := by
    rw [h2, h1]; exact Nat.div_one _
  have h3 := muli_toNat (Scalar.divsi (Scalar.subi ub lb) 1#32) 1#32 (by rw [h2']; simp; omega)
  have h3' : (Scalar.muli (Scalar.divsi (Scalar.subi ub lb) 1#32) 1#32).toNat = ub.toNat - lb.toNat := by
    rw [h3, h2']; exact Nat.mul_one _
  rw [addi_toNat _ _ (by rw [h3']; omega), h3']; omega

/-- The number of blocks of 64 segments, as a word. -/
def nbW (v49 : BitVec 32) : BitVec 32 := fdivW (Scalar.subi (Scalar.addi v49 64#32) 1#32) 64#32

theorem nbW_toNat (v49 : BitVec 32) (h : v49.toNat ≤ 2048) : (nbW v49).toNat = (v49.toNat + 63) / 64 := by
  have h1 := addi_toNat v49 64#32 (by simp; omega)
  have h1' : (Scalar.addi v49 64#32).toNat = v49.toNat + 64 := h1
  have h2 := subi_toNat (Scalar.addi v49 64#32) 1#32 (by rw [h1']; simp)
  have h2' : (Scalar.subi (Scalar.addi v49 64#32) 1#32).toNat = v49.toNat + 63 := by rw [h2, h1']; simp
  unfold nbW
  rw [fdivW_toNat _ _ (by omega) (by decide) (by decide), h2']; rfl

/-- The number of trips of the counting loop, as a word. -/
def ctW (v49 : BitVec 32) : BitVec 32 := fdivW (Scalar.addi v49 15#32) 16#32

theorem ctW_toNat (v49 : BitVec 32) (h : v49.toNat ≤ 2048) : (ctW v49).toNat = (v49.toNat + 15) / 16 := by
  have h1 : (Scalar.addi v49 15#32).toNat = v49.toNat + 15 := addi_toNat v49 15#32 (by simp; omega)
  unfold ctW
  rw [fdivW_toNat _ _ (by omega) (by decide) (by decide), h1]; rfl

theorem t2_loop_eq (v49 : BitVec 32) (h : v49.toNat ≤ 2048) : k0_t2_loop v49 = ⟨0#32, ctW v49, 1#32⟩ := by
  have := bound_eq 0#32 (ctW v49) (by rw [ctW_toNat v49 h]; omega) (Nat.zero_le _)
  exact congrArg (fun x => (⟨0#32, x, 1#32⟩ : Scf.Loop 32)) this

theorem t3_loop_eq (v49 : BitVec 32) (h : v49.toNat ≤ 2048) : k0_t3_loop v49 = ⟨ctW v49, ctW v49, 1#32⟩ := by
  have h1 := bound_eq 0#32 (ctW v49) (by rw [ctW_toNat v49 h]; omega) (Nat.zero_le _)
  have h2 : Scalar.addi 0#32 (Scalar.subi (ctW v49) 0#32) = ctW v49 := by
    show 0#32 + (ctW v49 - 0#32) = _
    simp
  show (⟨_, _, 1#32⟩ : Scf.Loop 32) = _
  exact congrArg₂ (fun x y => (⟨x, y, 1#32⟩ : Scf.Loop 32)) h1 h2

theorem t5_loop_eq (v49 : BitVec 32) (h : v49.toNat ≤ 2048) : k0_t5_loop v49 = ⟨nbW v49, 32#32, 1#32⟩ := by
  have hn := nbW_toNat v49 h
  have := bound_eq (nbW v49) 32#32 (by decide) (by rw [hn]; simp; omega)
  exact congrArg (fun x => (⟨nbW v49, x, 1#32⟩ : Scf.Loop 32)) this

theorem t6_loop_eq (v49 : BitVec 32) (h : v49.toNat ≤ 2048) : k0_t6_loop v49 = ⟨32#32, 32#32, 1#32⟩ := by
  have hn := nbW_toNat v49 h
  have h1 := bound_eq (nbW v49) 32#32 (by decide) (by rw [hn]; simp; omega)
  have h2 : Scalar.addi (nbW v49) (Scalar.subi 32#32 (nbW v49)) = 32#32 := by
    show nbW v49 + (32#32 - nbW v49) = _
    apply BitVec.eq_of_toNat_eq; rw [BitVec.toNat_add, BitVec.toNat_sub, hn]; simp; omega
  exact congrArg₂ (fun x y => (⟨x, y, 1#32⟩ : Scf.Loop 32)) h1 h2

theorem t15_loop_eq (v49 : BitVec 32) (h : v49.toNat ≤ 2048) : k0_t15_loop v49 = ⟨0#32, nbW v49, 1#32⟩ := by
  have := bound_eq 0#32 (nbW v49) (by rw [nbW_toNat v49 h]; omega) (Nat.zero_le _)
  exact congrArg (fun x => (⟨0#32, x, 1#32⟩ : Scf.Loop 32)) this

theorem t18_loop_eq (v49 : BitVec 32) (h : v49.toNat ≤ 2048) : k0_t18_loop v49 = ⟨nbW v49, nbW v49, 1#32⟩ := by
  have h1 := bound_eq 0#32 (nbW v49) (by rw [nbW_toNat v49 h]; omega) (Nat.zero_le _)
  have h2 : Scalar.addi 0#32 (Scalar.subi (nbW v49) 0#32) = nbW v49 := by
    show 0#32 + (nbW v49 - 0#32) = _
    simp
  exact congrArg₂ (fun x y => (⟨x, y, 1#32⟩ : Scf.Loop 32)) h1 h2

theorem loop_ok (lb ub : BitVec 32) (h : ub.toNat < 2147483647) (h' : lb.toNat ≤ ub.toNat) :
    (⟨lb, ub, 1#32⟩ : Scf.Loop 32).OK := by
  refine ⟨by show 0 < (1#32 : BitVec 32).toInt; decide, ?_⟩
  show lb.toInt + (Scf.trips lb ub 1#32 : ℕ) * (1#32 : BitVec 32).toInt < 2 ^ 31
  rw [trips_one lb ub (by omega) h', toInt_small lb (by omega)]
  have : (1#32 : BitVec 32).toInt = 1 := by decide
  rw [this]; push_cast; omega

theorem t2_trips (v49 : BitVec 32) (h : v49.toNat ≤ 2048) : (k0_t2_loop v49).trips = (v49.toNat + 15) / 16 := by
  rw [t2_loop_eq v49 h, ← ctW_toNat v49 h]
  exact trips_zero_one _ (by rw [ctW_toNat v49 h]; omega)
theorem t3_trips (v49 : BitVec 32) (h : v49.toNat ≤ 2048) : (k0_t3_loop v49).trips = 0 := by
  rw [t3_loop_eq v49 h]; exact trips_self _
theorem t5_trips (v49 : BitVec 32) (h : v49.toNat ≤ 2048) : (k0_t5_loop v49).trips = 32 - (v49.toNat + 63) / 64 := by
  rw [t5_loop_eq v49 h, ← nbW_toNat v49 h]
  exact trips_one _ _ (by show (32#32 : BitVec 32).toNat < _; decide) (by rw [nbW_toNat v49 h]; simp; omega)
theorem t6_trips (v49 : BitVec 32) (h : v49.toNat ≤ 2048) : (k0_t6_loop v49).trips = 0 := by
  rw [t6_loop_eq v49 h]; exact trips_self _
theorem t15_trips (v49 : BitVec 32) (h : v49.toNat ≤ 2048) : (k0_t15_loop v49).trips = (v49.toNat + 63) / 64 := by
  rw [t15_loop_eq v49 h, ← nbW_toNat v49 h]
  exact trips_zero_one _ (by rw [nbW_toNat v49 h]; omega)
theorem t18_trips (v49 : BitVec 32) (h : v49.toNat ≤ 2048) : (k0_t18_loop v49).trips = 0 := by
  rw [t18_loop_eq v49 h]; exact trips_self _
theorem t4_trips : k0_t4_loop.trips = 4 := by decide

theorem iv0_toNat (k : ℕ) (h : k < 4294967296) : (Scf.iv 0#32 1#32 k).toNat = k := by
  rw [iv_toNat _ _ (by simpa using h)]; simp

theorem off2_eq (v49 : BitVec 32) (h : v49.toNat ≤ 2048) (t : Fin (k0_t2_loop v49).trips) (r : ℕ) (hr : r < 16) :
    k0_off2 v49 t (BitVec.ofNat 32 r) 0 = t.val * 16 + r := by
  have ht : t.val < 129 := by have := lt_of_lt_of_eq t.isLt (t2_trips v49 h); omega
  show (Scalar.addi (Scalar.muli (Scf.iv 0#32 1#32 t) 16#32) (BitVec.ofNat 32 r)).toNat = _
  have h1 : (Scalar.muli (Scf.iv 0#32 1#32 t) 16#32).toNat = t.val * 16 := by
    rw [muli_toNat _ _ (by rw [iv0_toNat _ (by omega)]; simp; omega), iv0_toNat _ (by omega)]; rfl
  rw [addi_toNat _ _ (by rw [h1, ofNat_toNat (by omega)]; omega), h1, ofNat_toNat (by omega)]

theorem off28_eq (v49 : BitVec 32) (h : v49.toNat ≤ 2048) (k : Fin k0_t4_loop.trips) (t : Fin (k0_t5_loop v49).trips) :
    k0_off28 v49 k t = ![((v49.toNat + 63) / 64 + t.val) * 8, k.val * 24, 0, 0] := by
  have ht := lt_of_lt_of_eq t.isLt (t5_trips v49 h)
  have hk := lt_of_lt_of_eq k.isLt t4_trips
  have h1 : (Scf.iv (nbW v49) 1#32 t).toNat = (v49.toNat + 63) / 64 + t.val := by
    rw [iv_toNat _ _ (by rw [nbW_toNat v49 h]; omega), nbW_toNat v49 h]
  show ![(Scalar.muli (Scf.iv (nbW v49) 1#32 t) 8#32).toNat, (Scalar.muli (Scf.iv 0#32 1#32 k) 24#32).toNat, 0, 0] = _
  rw [muli_toNat _ _ (by rw [h1]; simp; omega), h1, muli_toNat _ _ (by rw [iv0_toNat _ (by omega)]; simp; omega), iv0_toNat _ (by omega)]
  rfl

/-- The ring slot of a block. -/
def ringN (v49 : BitVec 32) (k b : ℕ) : ℕ := (k * ((v49.toNat + 63) / 64) + b) % 4

def stepW (v49 : BitVec 32) (k b : ℕ) : BitVec 32 :=
  Scalar.addi (Scalar.muli (Scf.iv 0#32 1#32 k) (nbW v49)) (Scf.iv 0#32 1#32 b)

theorem stepW_toNat (v49 : BitVec 32) (h : v49.toNat ≤ 2048) (k b : ℕ) (hk : k < 4) (hb : b < 33) :
    (stepW v49 k b).toNat = k * ((v49.toNat + 63) / 64) + b := by
  have hn := nbW_toNat v49 h
  have hm : k * ((v49.toNat + 63) / 64) ≤ 4 * 33 := Nat.mul_le_mul (by omega) (by omega)
  have h1 : (Scalar.muli (Scf.iv 0#32 1#32 k) (nbW v49)).toNat = k * ((v49.toNat + 63) / 64) := by
    rw [muli_toNat _ _ (by rw [iv0_toNat _ (by omega), hn]; omega), iv0_toNat _ (by omega), hn]
  unfold stepW
  rw [addi_toNat _ _ (by rw [h1, iv0_toNat _ (by omega)]; omega), h1, iv0_toNat _ (by omega)]

theorem ringW_toNat (v49 : BitVec 32) (h : v49.toNat ≤ 2048) (k b : ℕ) (hk : k < 4) (hb : b < 33) :
    (Scalar.remsi (stepW v49 k b) 4#32).toNat = ringN v49 k b := by
  have hm : k * ((v49.toNat + 63) / 64) ≤ 4 * 33 := Nat.mul_le_mul (by omega) (by omega)
  have h1 := stepW_toNat v49 h k b hk hb
  rw [remsi_toNat _ _ (by omega) (by decide) (by decide), h1]; rfl

theorem ringN_lt (v49 : BitVec 32) (k b : ℕ) : ringN v49 k b < 4 := Nat.mod_lt _ (by decide)

section offs
variable (v49 : BitVec 32) (h : v49.toNat ≤ 2048) (k : Fin k0_t4_loop.trips) (t : Fin (k0_t15_loop v49).trips)
include h

theorem t15_lt : t.val < (v49.toNat + 63) / 64 := by have ht := lt_of_lt_of_eq t.isLt (t15_trips v49 h); exact ht

theorem off446_eq : k0_off446 v49 k t = ![ringN v49 k t] := by
  have ht := t15_lt v49 h t
  have hk := lt_of_lt_of_eq k.isLt t4_trips
  rw [← ringW_toNat v49 h k t hk (by omega)]; rfl
theorem off516_eq : k0_off516 v49 k t = ![ringN v49 k t] := by
  have ht := t15_lt v49 h t
  have hk := lt_of_lt_of_eq k.isLt t4_trips
  rw [← ringW_toNat v49 h k t hk (by omega)]; rfl
theorem off448_eq : k0_off448 v49 k t = ![ringN v49 k t, 0, 0, 0, 0] := by
  have ht := t15_lt v49 h t
  have hk := lt_of_lt_of_eq k.isLt t4_trips
  rw [← ringW_toNat v49 h k t hk (by omega)]; rfl
theorem off449_eq : k0_off449 v49 k t = ![ringN v49 k t, 0, 0, 0, 0] := by
  have ht := t15_lt v49 h t
  have hk := lt_of_lt_of_eq k.isLt t4_trips
  rw [← ringW_toNat v49 h k t hk (by omega)]; rfl
theorem off518_eq : k0_off518 v49 k t = ![ringN v49 k t, 0, 0, 0, 0] := by
  have ht := t15_lt v49 h t
  have hk := lt_of_lt_of_eq k.isLt t4_trips
  rw [← ringW_toNat v49 h k t hk (by omega)]; rfl
theorem off447_eq : k0_off447 v49 k t = ![t.val * 8, k.val * 24, 0, 0] := by
  have ht := t15_lt v49 h t
  have hk := lt_of_lt_of_eq k.isLt t4_trips
  show ![(Scalar.muli (Scf.iv 0#32 1#32 t) 8#32).toNat, (Scalar.muli (Scf.iv 0#32 1#32 k) 24#32).toNat, 0, 0] = _
  rw [muli_toNat _ _ (by rw [iv0_toNat _ (by omega)]; simp; omega), iv0_toNat _ (by omega), muli_toNat _ _ (by rw [iv0_toNat _ (by omega)]; simp; omega), iv0_toNat _ (by omega)]
  rfl
theorem off517_eq : k0_off517 v49 k t = ![t.val * 8, k.val * 24, 0, 0] := off447_eq v49 h k t
theorem off450_eq : k0_off450 v49 t = ![t.val * 64] := by
  have ht := t15_lt v49 h t
  show ![(Scalar.muli (Scf.iv 0#32 1#32 t) 64#32).toNat] = _
  rw [muli_toNat _ _ (by rw [iv0_toNat _ (by omega)]; simp; omega), iv0_toNat _ (by omega)]; rfl
theorem off451_eq : k0_off451 v49 t = ![(t.val + 1) * 64] := by
  have ht := t15_lt v49 h t
  show ![(Scalar.minsi (Scalar.muli (Scalar.addi (Scf.iv 0#32 1#32 t) 1#32) 64#32) 2048#32).toNat] = _
  have h1 : (Scalar.addi (Scf.iv 0#32 1#32 t) 1#32).toNat = t.val + 1 := by
    rw [addi_toNat _ _ (by rw [iv0_toNat _ (by omega)]; simp; omega), iv0_toNat _ (by omega)]; rfl
  have h2 : (Scalar.muli (Scalar.addi (Scf.iv 0#32 1#32 t) 1#32) 64#32).toNat = (t.val + 1) * 64 := by
    rw [muli_toNat _ _ (by rw [h1]; simp; omega), h1]; rfl
  have h3 : Scalar.minsi (Scalar.muli (Scalar.addi (Scf.iv 0#32 1#32 t) 1#32) 64#32) 2048#32 = Scalar.muli (Scalar.addi (Scf.iv 0#32 1#32 t) 1#32) 64#32 := by
    show (if (Scalar.muli (Scalar.addi (Scf.iv 0#32 1#32 t) 1#32) 64#32).slt 2048#32 then _ else _) = _
    rw [slt_small _ _ (by rw [h2]; omega) (by decide), h2]
    split
    · rfl
    · rename_i hh
      apply BitVec.eq_of_toNat_eq
      rw [h2]
      have : (2048#32).toNat = 2048 := rfl
      simp at hh; omega
  rw [h3, h2]
end offs

theorem t21_loop_eq (v49 : BitVec 32) (h : v49.toNat ≤ 2048) :
    k0_t21_loop v49 = ⟨0#32, Scalar.muli 4#32 (Scalar.subi 32#32 (nbW v49)), 1#32⟩ := by
  have hn := nbW_toNat v49 h
  have h1 := subi_toNat 32#32 (nbW v49) (by rw [hn]; simp; omega)
  have h2 := muli_toNat 4#32 (Scalar.subi 32#32 (nbW v49)) (by rw [h1]; simp; omega)
  have h3 : (Scalar.muli 4#32 (Scalar.subi 32#32 (nbW v49))).toNat ≤ 128 := by rw [h2, h1]; simp; omega
  have := bound_eq 0#32 (Scalar.muli 4#32 (Scalar.subi 32#32 (nbW v49))) (by omega) (Nat.zero_le _)
  exact congrArg (fun x => (⟨0#32, x, 1#32⟩ : Scf.Loop 32)) this

theorem zdW_toNat (v49 : BitVec 32) (h : v49.toNat ≤ 2048) :
    (Scalar.muli 4#32 (Scalar.subi 32#32 (nbW v49))).toNat = 4 * (32 - (v49.toNat + 63) / 64) := by
  have hn := nbW_toNat v49 h
  have h1 := subi_toNat 32#32 (nbW v49) (by rw [hn]; simp; omega)
  have h2 := muli_toNat 4#32 (Scalar.subi 32#32 (nbW v49)) (by rw [h1]; simp; omega)
  rw [h2, h1, hn]; rfl

theorem t22_loop_eq (v49 : BitVec 32) (h : v49.toNat ≤ 2048) :
    k0_t22_loop v49 = ⟨Scalar.muli 4#32 (Scalar.subi 32#32 (nbW v49)), Scalar.muli 4#32 (Scalar.subi 32#32 (nbW v49)), 1#32⟩ := by
  have h3 := zdW_toNat v49 h
  have h1 := bound_eq 0#32 (Scalar.muli 4#32 (Scalar.subi 32#32 (nbW v49))) (by omega) (Nat.zero_le _)
  have h2 : Scalar.addi 0#32 (Scalar.subi (Scalar.muli 4#32 (Scalar.subi 32#32 (nbW v49))) 0#32) = Scalar.muli 4#32 (Scalar.subi 32#32 (nbW v49)) := by
    show 0#32 + (_ - 0#32) = _
    simp
  exact congrArg₂ (fun x y => (⟨x, y, 1#32⟩ : Scf.Loop 32)) h1 h2

theorem t21_trips (v49 : BitVec 32) (h : v49.toNat ≤ 2048) : (k0_t21_loop v49).trips = 4 * (32 - (v49.toNat + 63) / 64) := by
  rw [t21_loop_eq v49 h, ← zdW_toNat v49 h]
  exact trips_zero_one _ (by rw [zdW_toNat v49 h]; omega)
theorem t22_trips (v49 : BitVec 32) (h : v49.toNat ≤ 2048) : (k0_t22_loop v49).trips = 0 := by
  rw [t22_loop_eq v49 h]; exact trips_self _

theorem chk2_ok (v49 : BitVec 32) (h : v49.toNat ≤ 2048) : k0_chk2 v49 := by
  have hn := nbW_toNat v49 h
  have hc := ctW_toNat v49 h
  have no3 : ∀ t : Fin (k0_t3_loop v49).trips, False := fun t => by have := lt_of_lt_of_eq t.isLt (t3_trips v49 h); omega
  have no6 : ∀ t : Fin (k0_t6_loop v49).trips, False := fun t => by have := lt_of_lt_of_eq t.isLt (t6_trips v49 h); omega
  have no18 : ∀ t : Fin (k0_t18_loop v49).trips, False := fun t => by have := lt_of_lt_of_eq t.isLt (t18_trips v49 h); omega
  refine ⟨?_, ?_, ?_, fun t => (no3 t).elim, ?_, ?_, ?_, fun _ t => (no6 t).elim, ?_, ?_, ?_, ?_, ?_, ?_, ?_, ?_, ?_, ?_, ?_, fun _ t => (no18 t).elim, fun _ t => (no18 t).elim, fun _ t => (no18 t).elim, fun _ t => (no18 t).elim, fun t => (no18 t).elim, fun t => (no18 t).elim, fun _ t => (no18 t).elim, fun _ t => (no18 t).elim, fun _ t => (no18 t).elim, ?_, ?_⟩
  · rw [t2_loop_eq v49 h]; exact loop_ok _ _ (by omega) (Nat.zero_le _)
  · intro t r a; fin_cases a
    have ht := lt_of_lt_of_eq t.isLt (t2_trips v49 h)
    show k0_off2 v49 t (BitVec.ofNat 32 r.val) 0 + 1 ≤ 2049
    rw [off2_eq v49 h t r.val r.isLt]; omega
  · rw [t3_loop_eq v49 h]; exact loop_ok _ _ (by omega) (le_refl _)
  · rw [t5_loop_eq v49 h]; exact loop_ok _ _ (by decide) (by rw [hn]; simp; omega)
  · intro k t
    have ht := lt_of_lt_of_eq t.isLt (t5_trips v49 h)
    have hk := lt_of_lt_of_eq k.isLt t4_trips
    rw [off28_eq v49 h k t]
    intro a; fin_cases a <;> simp <;> omega
  · rw [t6_loop_eq v49 h]; exact loop_ok _ _ (by decide) (le_refl _)
  · rw [t15_loop_eq v49 h]; exact loop_ok _ _ (by omega) (Nat.zero_le _)
  · intro k t _
    have := ringN_lt v49 k t
    rw [off446_eq v49 h k t]
    intro a; fin_cases a; simp; omega
  · intro k t _
    have := t15_lt v49 h t
    have hk := lt_of_lt_of_eq k.isLt t4_trips
    rw [off447_eq v49 h k t]
    intro a; fin_cases a <;> simp <;> omega
  · intro k t _
    have := ringN_lt v49 k t
    rw [off448_eq v49 h k t]
    intro a; fin_cases a <;> simp <;> omega
  · intro k t _
    have := ringN_lt v49 k t
    rw [off449_eq v49 h k t]
    intro a; fin_cases a <;> simp <;> omega
  · intro t
    have := t15_lt v49 h t
    rw [off450_eq v49 h t]
    intro a; fin_cases a; simp; omega
  · intro t
    have := t15_lt v49 h t
    rw [off451_eq v49 h t]
    intro a; fin_cases a; simp; omega
  · intro k t
    have := ringN_lt v49 k t
    rw [off516_eq v49 h k t]
    intro a; fin_cases a; simp; omega
  · intro k t
    have := t15_lt v49 h t
    have hk := lt_of_lt_of_eq k.isLt t4_trips
    rw [off517_eq v49 h k t]
    intro a; fin_cases a <;> simp <;> omega
  · intro k t
    have := ringN_lt v49 k t
    rw [off518_eq v49 h k t]
    intro a; fin_cases a <;> simp <;> omega
  · rw [t18_loop_eq v49 h]; exact loop_ok _ _ (by omega) (le_refl _)
  · rw [t21_loop_eq v49 h]; exact loop_ok _ _ (by rw [zdW_toNat v49 h]; omega) (Nat.zero_le _)
  · rw [t22_loop_eq v49 h]; exact loop_ok _ _ (by rw [zdW_toNat v49 h]; omega) (le_refl _)

end Cert.Kernel.Emb
-- ==== Proof.Kernel.Own.lean ====
module

public import proofs.«01_k».proof.Proof.Kernel.Chk

@[expose] public section

noncomputable section

namespace Cert.Kernel.Emb

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]
local notation "𝕄" => MT nD τ sig Unit (Elt F) ℕ (UD sig nD τ) ℕ
variable (𝒱 : Variants) (c : Dev nD)
variable {arg0 : Memref sig .tc .smem S2049 .i32} {harg0 : arg0.IsWhole} {arg1 : Memref sig .tc .vmem S16x128 .i32} {harg1 : arg1.IsWhole} {arg2 : Memref sig .tc .vmem S2x1024 .i32} {harg2 : arg2.IsWhole} {arg3 : Memref sig .tc .vmem S2x1024 .f32} {harg3 : arg3.IsWhole} {arg4 : Memref sig .tc .hbm S2x1024x12288 .fp8e5m2} {harg4 : arg4.IsWhole} {arg5 : Memref sig .tc .hbm S256x96x8x128 .f32} {harg5 : arg5.IsWhole} {arg6 : Memref sig .tc .vmem S2x2048x3072 .fp8e5m2} {harg6 : arg6.IsWhole} {arg7 : Memref sig .tc .vmem S256x24x8x128 .f32} {harg7 : arg7.IsWhole} {arg8 : Memref sig .tc .vmem S4x9x24x8x128 .f32} {harg8 : arg8.IsWhole} {arg9 : Memref sig .tc .vmem S8x24x8x128 .f32} {harg9 : arg9.IsWhole} {arg10 : Memref sig .tc .vmem S2048x128 .f32} {harg10 : arg10.IsWhole} {arg11 : Memref sig .tc .vmem S2x17x128 .i32} {harg11 : arg11.IsWhole} {arg12 : Memref sig .tc .smem S2176 .i32} {harg12 : arg12.IsWhole} {arg13 : Memref sig .tc .smem S2176 .i32} {harg13 : arg13.IsWhole} {arg14 : DmaSems sig S2x8} {arg15 : DmaSems sig S4} {arg16 : DmaSems sig S_} {arg17 : DmaSems sig S_}

/-! # Ownership of a region of a buffer, at stated values -/

/-- The weakest precondition of a program of the kernel's core. -/
abbrev WP {α : Type} (p : Prog (TpuEff nD τ sig (Elt F) Λ₀ .tc) α) (Q : α → sProp 𝕄) : sProp 𝕄 :=
  wp frame (wpE (defs₀ (F := F)) 𝒱 (c : Thread nD τ) none) Set.univ p Q

theorem WP_bind {α β : Type} (p : Prog (TpuEff nD τ sig (Elt F) Λ₀ .tc) α) (k : α → Prog (TpuEff nD τ sig (Elt F) Λ₀ .tc) β) (Q : β → sProp 𝕄) :
    WP 𝒱 c (p >>= k) Q = WP 𝒱 c p (fun a => WP 𝒱 c (k a) Q) := wp_bind _ _ _ _ _ _

theorem WP_pure {α : Type} (a : α) (Q : α → sProp 𝕄) : Q a ⊢ WP 𝒱 c (pure a) Q := le_wp_ret _ _ _ _ _

/-- The indices of which `P` holds. -/
def rgn {s : Shape} (P : s.Idx → Prop) : Finset s.Idx := @Finset.filter _ P (Classical.decPred P) Finset.univ

theorem mem_rgn {s : Shape} {P : s.Idx → Prop} {i : s.Idx} : i ∈ rgn P ↔ P i := by
  unfold rgn; rw [@Finset.mem_filter]; simp

variable {sp sp' : Space} {s s' : Shape} {e : EltTy}

/-- The elements of `m` at the indices of which `P` holds, at share `q`, reading `g`. -/
def Has (m : Memref sig .tc sp s e) (P : s.Idx → Prop) (q : PosShare TreeShare) (g : s.Idx → Elt F e) : sProp 𝕄 :=
  iprop(∃ X, ⌜∀ i, P i → m.view.read (Elt F) X i = g i⌝ ∗ (m.view.loc (c : Thread nD τ) ↦[m.view.setOn (rgn P)]{q} X))

/-- All of `m`. -/
abbrev Own (m : Memref sig .tc sp s e) (q : PosShare TreeShare) (g : s.Idx → Elt F e) : sProp 𝕄 := Has c m (fun _ => True) q g
/-- All of `m`, at some contents. -/
abbrev Any (m : Memref sig .tc sp s e) (P : s.Idx → Prop) : sProp 𝕄 := iprop(∃ g, Has c m P fullShare g)

instance Has_storable (m : Memref sig .tc sp s e) (P : s.Idx → Prop) (q : PosShare TreeShare) (g : s.Idx → Elt F e) :
    BI.Storable (upEmb : UEmb _ 𝕄) (Has c m P q g) := by
  unfold Has; infer_instance

variable {c} {m : Memref sig .tc sp s e} {P R S : s.Idx → Prop} {q : PosShare TreeShare} {g g' : s.Idx → Elt F e}

theorem rgn_univ : rgn (fun _ : s.Idx => True) = Finset.univ := by ext i; simp [mem_rgn]

theorem Has.congr (hP : ∀ i, P i ↔ R i) (hg : ∀ i, P i → g i = g' i) : Has c m P q g ⊢ Has c m R q g' := by
  have e : P = R := funext fun i => propext (hP i)
  subst e
  unfold Has
  iintro ⟨%X, %hX, H⟩
  iexists X
  iframe
  ipureintro
  exact fun i hi => (hX i hi).trans (hg i hi)

theorem Own.of_pointsTo (X : BufTy.Contents (Elt F) m.view.ty) :
    (m.view.loc (c : Thread nD τ) ↦[m.view.set]{q} X : sProp 𝕄) ⊢ Own c m q (m.view.read (Elt F) X) := by
  unfold Own Has
  iintro H
  iexists X
  rw [rgn_univ, View.setOn_univ]
  iframe
  ipureintro
  exact fun _ _ => rfl

theorem Own.to_pointsTo : Own c m q g ⊢ (iprop(∃ X, ⌜m.view.read (Elt F) X = g⌝ ∗ (m.view.loc (c : Thread nD τ) ↦[m.view.set]{q} X)) : sProp 𝕄) := by
  unfold Own Has
  iintro ⟨%X, %hX, H⟩
  iexists X
  rw [rgn_univ, View.setOn_univ]
  iframe
  ipureintro
  exact funext fun i => hX i trivial

/-- A part of a region, and the rest. -/
theorem Has.split (hS : ∀ i, P i ↔ (R i ∨ S i)) (hd : ∀ i, R i → ¬ S i) : Has c m P q g ⊢ iprop(Has c m R q g ∗ Has c m S q g) := by
  unfold Has
  iintro ⟨%X, %hX, H⟩
  have e : m.view.setOn (rgn P) = m.view.setOn (rgn R) ∪ m.view.setOn (rgn S) := by
    unfold View.setOn
    rw [← Finset.map_union]
    congr 1
    ext i; rw [Finset.mem_union, mem_rgn, mem_rgn, mem_rgn, hS i]
  have hdj : Disjoint (m.view.setOn (rgn R)) (m.view.setOn (rgn S)) := by
    unfold View.setOn
    rw [Finset.disjoint_map, Finset.disjoint_left]
    intro i hi hj
    exact hd i (mem_rgn.mp hi) (mem_rgn.mp hj)
  rw [e]
  ihave H := (pointsTo_union hdj).1 $$ H
  icases H with ⟨H1, H2⟩
  isplitl [H1]
  · iexists X; iframe; ipureintro; exact fun i hi => hX i ((hS i).mpr (.inl hi))
  · iexists X; iframe; ipureintro; exact fun i hi => hX i ((hS i).mpr (.inr hi))

/-- Two regions with no common index, together. -/
theorem Has.join (hS : ∀ i, P i ↔ (R i ∨ S i)) (hd : ∀ i, R i → ¬ S i) : iprop(Has c m R q g ∗ Has c m S q g) ⊢ Has c m P q g := by
  unfold Has
  iintro ⟨⟨%X, %hX, H1⟩, ⟨%Y, %hY, H2⟩⟩
  have e : m.view.setOn (rgn P) = m.view.setOn (rgn R) ∪ m.view.setOn (rgn S) := by
    unfold View.setOn
    rw [← Finset.map_union]
    congr 1
    ext i; rw [Finset.mem_union, mem_rgn, mem_rgn, mem_rgn, hS i]
  have hdj : Disjoint (m.view.setOn (rgn R)) (m.view.setOn (rgn S)) := by
    unfold View.setOn
    rw [Finset.disjoint_map, Finset.disjoint_left]
    intro i hi hj
    exact hd i (mem_rgn.mp hi) (mem_rgn.mp hj)
  classical
  let Z : BufTy.Contents (Elt F) m.view.ty := fun x => if x ∈ m.view.setOn (rgn R) then X x else Y x
  have hZ1 : ∀ x ∈ m.view.setOn (rgn R), X x = Z x := fun x hx => (if_pos hx).symm
  have hZ2 : ∀ x ∈ m.view.setOn (rgn S), Y x = Z x := fun x hx => (if_neg (fun h => Finset.disjoint_left.mp hdj h hx)).symm
  ihave H1 := (Entails.of_eq (pointsTo_congr hZ1)) $$ H1
  ihave H2 := (Entails.of_eq (pointsTo_congr hZ2)) $$ H2
  iexists Z
  rw [e]
  ihave H := (pointsTo_union (ℓ := m.view.loc (c : Thread nD τ)) (f := Z) (q := q) hdj).2 $$ [H1 H2]
  · isplitl [H1] <;> iassumption
  iframe
  ipureintro
  intro i hi
  rcases (hS i).mp hi with h | h
  · rw [← hX i h]
    exact View.read_congr_at i (hZ1 _ (View.mem_setOn _ |>.mpr (mem_rgn.mpr h))).symm
  · rw [← hY i h]
    exact View.read_congr_at i (hZ2 _ (View.mem_setOn _ |>.mpr (mem_rgn.mpr h))).symm

/-- Two regions, at values of their own. -/
theorem Any.join (hS : ∀ i, P i ↔ (R i ∨ S i)) (hd : ∀ i, R i → ¬ S i) : iprop(Any (F := F) c m R ∗ Any (F := F) c m S) ⊢ Any (F := F) c m P := by
  classical
  iintro ⟨⟨%g1, H1⟩, ⟨%g2, H2⟩⟩
  iexists (fun i => if R i then g1 i else g2 i)
  iapply (Has.join hS hd)
  isplitl [H1]
  · iapply (Has.congr (fun _ => Iff.rfl) (fun i hi => (if_pos hi).symm)) $$ H1
  · iapply (Has.congr (fun _ => Iff.rfl) (fun i hi => (if_neg (fun h => hd i h hi)).symm)) $$ H2

theorem Any.split (hS : ∀ i, P i ↔ (R i ∨ S i)) (hd : ∀ i, R i → ¬ S i) : Any (F := F) c m P ⊢ iprop(Any (F := F) c m R ∗ Any (F := F) c m S) := by
  iintro ⟨%g, H⟩
  ihave H := (Has.split hS hd) $$ H
  icases H with ⟨H1, H2⟩
  isplitl [H1]
  · iexists g; iexact H1
  · iexists g; iexact H2

theorem Elt.nonempty (e : EltTy) : Nonempty (Elt F e) := by
  cases e
  all_goals first
    | exact ⟨(0 : BitVec _)⟩
    | exact ⟨(FloatOps.ofBits .f32 0 : F .f32)⟩
    | exact ⟨(FloatOps.ofBits .bf16 0 : F .bf16)⟩
    | exact ⟨(FloatOps.ofBits .f16 0 : F .f16)⟩
    | exact ⟨(FloatOps.ofBits .fp8e4m3 0 : F .fp8e4m3)⟩
    | exact ⟨(FloatOps.ofBits .fp8e5m2 0 : F .fp8e5m2)⟩

theorem Has.empty (hP : ∀ i, ¬ P i) : (emp : sProp 𝕄) ⊢ Has c m P q g := by
  unfold Has
  iintro _
  obtain ⟨x⟩ := Elt.nonempty (F := F) m.view.ty.elt
  iexists (fun _ => x)
  have e : rgn P = ∅ := by ext i; simp [mem_rgn, hP i]
  rw [e]; unfold View.setOn; rw [Finset.map_empty, pointsTo_empty]
  isplitr
  · ipureintro; exact fun i hi => absurd hi (hP i)
  · iempintro

/-! ## Through slices and reshapes -/

theorem setOn_slice (r : Rect s) {P' : r.shape.Idx → Prop} (hP : ∀ i, P i ↔ ∃ j, P' j ∧ r.emb j = i) :
    (m.view.slice r).setOn (rgn P') = m.view.setOn (rgn P) := by
  unfold View.setOn
  rw [View.emb_slice, ← Finset.map_map]
  congr 1
  ext i
  rw [Finset.mem_map, mem_rgn, hP i]
  constructor
  · rintro ⟨j, hj, rfl⟩; exact ⟨j, mem_rgn.mp hj, rfl⟩
  · rintro ⟨j, hj, rfl⟩; exact ⟨j, mem_rgn.mpr hj, rfl⟩

theorem Has.to_slice (r : Rect s) (hr : ∀ a, r.stride a = 1) {P' : r.shape.Idx → Prop} {g' : r.shape.Idx → Elt F e}
    (hP : ∀ i, P i ↔ ∃ j, P' j ∧ r.emb j = i) (hg : ∀ j, P' j → g (r.emb j) = g' j) : Has c m P q g ⊢ Has c (m.slice r hr) P' q g' := by
  unfold Has
  rw [show (m.slice r hr).view.setOn (rgn P') = m.view.setOn (rgn P) from setOn_slice r hP]
  iintro ⟨%X, %hX, H⟩
  iexists X
  iframe
  ipureintro
  exact fun j hj => (hX (r.emb j) ((hP _).mpr ⟨j, hj, rfl⟩)).trans (hg j hj)

theorem Has.of_slice (r : Rect s) (hr : ∀ a, r.stride a = 1) {P' : r.shape.Idx → Prop} {g' : r.shape.Idx → Elt F e}
    (hP : ∀ i, P i ↔ ∃ j, P' j ∧ r.emb j = i) (hg : ∀ j, P' j → g (r.emb j) = g' j) : Has c (m.slice r hr) P' q g' ⊢ Has c m P q g := by
  unfold Has
  rw [show (m.slice r hr).view.setOn (rgn P') = m.view.setOn (rgn P) from setOn_slice r hP]
  iintro ⟨%X, %hX, H⟩
  iexists X
  iframe
  ipureintro
  intro i hi
  obtain ⟨j, hj, rfl⟩ := (hP i).mp hi
  exact (hX j hj).trans (hg j hj).symm

theorem setOn_reshape (h : s'.numel = s.numel) {P' : s'.Idx → Prop} (hP : ∀ j, P' j ↔ P (Shape.reshapeEquiv h j)) :
    (m.view.reshape s' h).setOn (rgn P') = m.view.setOn (rgn P) := by
  unfold View.setOn
  rw [View.emb_reshape, ← Finset.map_map]
  congr 1
  ext i
  rw [Finset.mem_map, mem_rgn]
  constructor
  · rintro ⟨j, hj, rfl⟩; exact (hP j).mp (mem_rgn.mp hj)
  · intro hi
    refine ⟨(Shape.reshapeEquiv h).symm i, mem_rgn.mpr ((hP _).mpr ?_), ?_⟩
    · rw [Equiv.apply_symm_apply]; exact hi
    · exact Equiv.apply_symm_apply _ _

/-- A memref over the reshaped view holds what the original does. -/
theorem Has.to_reshape (h : s'.numel = s.numel) (hm : (m.view.reshape s' h).Mosaic) {P' : s'.Idx → Prop} {g' : s'.Idx → Elt F e}
    (hP : ∀ j, P' j ↔ P (Shape.reshapeEquiv h j)) (hg : ∀ j, P' j → g (Shape.reshapeEquiv h j) = g' j) :
    Has c m P q g ⊢ Has c (⟨m.view.reshape s' h, hm⟩ : Memref sig .tc sp s' e) P' q g' := by
  unfold Has
  rw [show (⟨m.view.reshape s' h, hm⟩ : Memref sig .tc sp s' e).view.setOn (rgn P') = m.view.setOn (rgn P) from setOn_reshape h hP]
  iintro ⟨%X, %hX, H⟩
  iexists X
  iframe
  ipureintro
  exact fun j hj => (hX _ ((hP _).mp hj)).trans (hg j hj)

theorem Has.of_reshape (h : s'.numel = s.numel) (hm : (m.view.reshape s' h).Mosaic) {P' : s'.Idx → Prop} {g' : s'.Idx → Elt F e}
    (hP : ∀ j, P' j ↔ P (Shape.reshapeEquiv h j)) (hg : ∀ j, P' j → g (Shape.reshapeEquiv h j) = g' j) :
    Has c (⟨m.view.reshape s' h, hm⟩ : Memref sig .tc sp s' e) P' q g' ⊢ Has c m P q g := by
  unfold Has
  rw [show (⟨m.view.reshape s' h, hm⟩ : Memref sig .tc sp s' e).view.setOn (rgn P') = m.view.setOn (rgn P) from setOn_reshape h hP]
  iintro ⟨%X, %hX, H⟩
  iexists X
  iframe
  ipureintro
  intro i hi
  have e : Shape.reshapeEquiv h ((Shape.reshapeEquiv h).symm i) = i := Equiv.apply_symm_apply _ _
  have hj : P' ((Shape.reshapeEquiv h).symm i) := (hP _).mpr (e.symm ▸ hi)
  have := (hX _ hj).trans (hg _ hj).symm
  have e2 : (m.view.reshape s' h).read (Elt F) X ((Shape.reshapeEquiv h).symm i) = m.view.read (Elt F) X (Shape.reshapeEquiv h ((Shape.reshapeEquiv h).symm i)) := rfl
  rw [e] at e2
  rw [← e2]
  exact this.trans (congrArg g e)

/-- A slice with some axes of size one dropped, from the region it covers. -/
theorem Has.to_window (r : Rect s) (hr : ∀ a, r.stride a = 1) (hs : r.shape.Squeezes s')
    (hP : ∀ i, P i ↔ i ∈ r.set) {g' : s'.Idx → Elt F e} (hg : ∀ j, g (r.emb (Shape.reshapeEquiv hs.numel_eq j)) = g' j) :
    Has c m P q g ⊢ Own c ((m.slice r hr).squeeze s' hs) q g' := by
  refine (Has.to_slice r hr (P' := fun _ => True) (g' := fun j => g (r.emb j)) (fun i => ?_) (fun j _ => rfl)).trans ?_
  · rw [hP i, ← Rect.map_emb_univ, Finset.mem_map]; simp
  · exact Has.to_reshape hs.numel_eq _ (fun _ => Iff.rfl) (fun j _ => hg j)

theorem Has.of_window (r : Rect s) (hr : ∀ a, r.stride a = 1) (hs : r.shape.Squeezes s')
    (hP : ∀ i, P i ↔ i ∈ r.set) {g' : s'.Idx → Elt F e} (hg : ∀ j, g (r.emb (Shape.reshapeEquiv hs.numel_eq j)) = g' j) :
    Own c ((m.slice r hr).squeeze s' hs) q g' ⊢ Has c m P q g := by
  refine BIBase.Entails.trans ?_ (Has.of_slice r hr (P' := fun _ => True) (g' := fun j => g (r.emb j)) (fun i => ?_) (fun j _ => rfl))
  · exact Has.of_reshape hs.numel_eq _ (fun _ => Iff.rfl) (fun j _ => hg j)
  · rw [hP i, ← Rect.map_emb_univ, Finset.mem_map]; simp

theorem Has.to_window' (r : Rect s) (hr : ∀ a, r.stride a = 1)
    (hP : ∀ i, P i ↔ i ∈ r.set) {g' : r.shape.Idx → Elt F e} (hg : ∀ j, g (r.emb j) = g' j) :
    Has c m P q g ⊢ Own c (m.slice r hr) q g' := by
  refine (Has.to_slice r hr (P' := fun _ => True) (g' := g') (fun i => ?_) (fun j _ => hg j))
  rw [hP i, ← Rect.map_emb_univ, Finset.mem_map]; simp

theorem Has.of_window' (r : Rect s) (hr : ∀ a, r.stride a = 1)
    (hP : ∀ i, P i ↔ i ∈ r.set) {g' : r.shape.Idx → Elt F e} (hg : ∀ j, g (r.emb j) = g' j) :
    Own c (m.slice r hr) q g' ⊢ Has c m P q g := by
  refine (Has.of_slice r hr (P' := fun _ => True) (g' := g') (fun i => ?_) (fun j _ => hg j))
  rw [hP i, ← Rect.map_emb_univ, Finset.mem_map]; simp

/-! ## Loads and stores -/

theorem set_sub (r : Rect s) (hP : ∀ j, P (r.emb j)) : (m.access r).set ⊆ m.view.setOn (rgn P) := by
  intro x hx
  obtain ⟨j, -, rfl⟩ := Finset.mem_map.mp hx
  exact (View.mem_setOn m.view (x := r.emb j)).mpr (mem_rgn.mpr (hP j))

theorem load_rule {cs : CoreSpace} {m : Memref sig .tc cs s e} {r : Rect s} {hl : m.view.LoadsAt r.toLoadRect} {Q : (r.shape.Idx → Elt F e) → sProp 𝕄}
    (hP : ∀ j, P (r.emb j)) :
    Has c m P q g ⊢ iprop((Has c m P q g -∗ Q (fun j => g (r.emb j))) -∗ WP 𝒱 c (Prog.lift (.load m r.toLoadRect hl)) Q) := by
  unfold Has
  iintro ⟨%X, %hX, H⟩ HQ
  iapply (wp_load_rect 𝒱 (c : Thread nD τ) none Set.univ (m := m) (r := r) (hl := hl) (f := X) (q := q) (set_sub r hP)) $$ H
  iintro H
  iapply (le_wp_ret _ _ _ _ _)
  have e : (m.access r).read (Elt F) X = fun j => g (r.emb j) := funext fun j => hX _ (hP j)
  rw [e]
  iapply HQ
  iexists X
  iframe
  ipureintro
  exact hX

theorem smem_rule {m : Memref sig .tc .smem s e} {r : Rect s} {h1 : r.shape.numel = 1} {hp : e.packing = 1} {Q : Elt F e → sProp 𝕄}
    (hP : ∀ j, P (r.emb j)) (j : r.shape.Idx) :
    Has c m P q g ⊢ iprop((Has c m P q g -∗ Q (g (r.emb j))) -∗ WP 𝒱 c (smemLoad m r h1 hp) Q) := by
  unfold Has
  iintro ⟨%X, %hX, H⟩ HQ
  unfold smemLoad
  iapply (wp_smemLoadElt 𝒱 (c : Thread nD τ) none Set.univ (m := m) (r := r) (f := X) (q := q) (set_sub r hP)) $$ H
  iintro H
  iapply (le_wp_ret _ _ _ _ _)
  have hj : Shape.Idx.first (h1.symm ▸ Nat.one_pos) = j := by
    have : Subsingleton r.shape.Idx := by
      have hc : Fintype.card r.shape.Idx = 1 := by rw [Shape.card_idx, h1]
      exact (Fintype.card_le_one_iff_subsingleton.mp hc.le)
    exact Subsingleton.elim _ _
  have e : (m.access r).read (Elt F) X (Shape.Idx.first (h1.symm ▸ Nat.one_pos)) = g (r.emb j) := by
    rw [hj]; exact hX _ (hP j)
  rw [e]
  iapply HQ
  iexists X
  iframe
  ipureintro
  exact hX

theorem store_rule {cs : CoreSpace} {m : Memref sig .tc cs s e} {r : Rect s} {w : r.shape.Idx → Elt F e} {hx : (m.access r).Stores Finset.univ}
    {hm : (Finset.univ : Finset r.shape.Idx) = Finset.univ ∨ ∀ a, r.stride a = 1} {Q : PUnit → sProp 𝕄}
    (hP : ∀ j, P (r.emb j)) (h1 : ∀ j, g' (r.emb j) = w j) (h2 : ∀ i, P i → (∀ j, r.emb j ≠ i) → g' i = g i) :
    Has c m P fullShare g ⊢ iprop((Has c m P fullShare g' -∗ Q ⟨⟩) -∗ WP 𝒱 c (Prog.lift (.store m r w Finset.univ hx hm)) Q) := by
  unfold Has
  iintro ⟨%X, %hX, H⟩ HQ
  iapply (wp_store 𝒱 (c : Thread nD τ) none Set.univ (m := m) (r := r) (w := w) (Mk := Finset.univ) (hx := hx) (hm := hm) (f := X) (set_sub r hP)) $$ H
  iintro H
  iapply (le_wp_ret _ _ _ _ _)
  iapply HQ
  iexists _
  iframe
  ipureintro
  intro i hi
  by_cases hj : ∃ j, r.emb j = i
  · obtain ⟨j, rfl⟩ := hj
    rw [h1 j]
    exact View.read_slice_write_emb r X w (Finset.mem_univ j)
  · rw [h2 i hi (fun j hh => hj ⟨j, hh⟩), ← hX i hi]
    refine View.read_slice_write_of_not_mem r X w _ ?_
    rw [Finset.mem_map]
    rintro ⟨j, -, hh⟩
    exact hj ⟨j, hh⟩

theorem assume_rule {p : Prop} {d : Decidable p} {Q : PLift p → sProp 𝕄} (h : p) :
    Q ⟨h⟩ ⊢ WP 𝒱 c (Prog.lift (.assume p d)) Q :=
  (le_wp_ret _ _ _ _ _).trans (wp_assume 𝒱 (c : Thread nD τ) none Set.univ h)

/-! ## Copies -/

/-- The counters of the copies. -/
local notation "ECn" => (countersEmb (U := UD sig nD τ) : UEmb Counters 𝕄)

/-- A copy in flight on cell `sm`, delivering `D` when waited for. -/
abbrev Fly (c : Dev nD) (sm : DmaSem sig) (N : ℕ) (D : sProp 𝕄) : sProp 𝕄 :=
  Transfers.Flight (countersEmb (U := UD sig nD τ)) (c : Thread nD τ) (SemLoc.dma sm) () N D
/-- A cell at zero. -/
abbrev Cell (c : Dev nD) (sm : DmaSem sig) : sProp 𝕄 := semVal ((c : Thread nD τ), SemLoc.dma sm) 0

theorem landed {src : Memref sig .tc sp s e} {dst : Memref sig .tc sp' s e} {q : PosShare TreeShare} {g : s.Idx → Elt F e}
    (X : BufTy.Contents (Elt F) src.view.ty) (Y : BufTy.Contents (Elt F) dst.view.ty) (hX : src.view.read (Elt F) X = g) :
    (iprop((dst.view.loc (c : Thread nD τ) ↦[dst.view.set]{fullShare} (dst.view.write (Elt F) Y ((ReadAs.same : ReadAs (Elt F) s e s e).apply (src.view.read (Elt F) X)) Finset.univ))
      ∗ (src.view.loc (c : Thread nD τ) ↦[src.view.set]{q} X)) : sProp 𝕄) ⊢ iprop(Own c dst fullShare g ∗ Own c src q g) := by
  subst hX
  refine BIClass.sep_mono ((Own.of_pointsTo _).trans (Entails.of_eq ?_)) (Own.of_pointsTo _)
  rw [View.read_write_univ]

theorem start_rule {src : Memref sig .tc sp s e} {dst : Memref sig .tc sp' s e} {sm : DmaSem sig}
    {hsrc : src.view.WordExact} {hdst : dst.view.WordExact} {hsem : (DmaTarget.here dst : DmaTarget nD τ sig (.tc : Proc τ) sp' s e).Typed sp (.dma sm)}
    {Q : PUnit → sProp 𝕄} (N : ℕ) (hN : dst.view.dmaCredit = N) (hN0 : 0 < N) {g0 g : s.Idx → Elt F e} :
    iprop(Own c src q g ∗ Own c dst fullShare g0 ∗ Cell c sm)
      ⊢ iprop((Fly c sm N iprop(Own c dst fullShare g ∗ Own c src q g) -∗ Q ⟨⟩)
        -∗ WP 𝒱 c (Prog.lift (.enqueueDma src (.here dst) (.dma sm) hsrc hdst hsem)) Q) := by
  iintro ⟨Hs, Hd, Hv⟩ HQ
  ihave Hs := Own.to_pointsTo $$ Hs
  icases Hs with ⟨%X, %hX, Hs⟩
  ihave Hd := Own.to_pointsTo $$ Hd
  icases Hd with ⟨%Y, %hY, Hd⟩
  iapply (Transfers.wp_dmaLocal (countersEmb (U := UD sig nD τ)) 𝒱 (c : Thread nD τ) none (src := src) (dst := dst) (sm := .dma sm) () N hN hN0 (Finset.Subset.refl _)) $$ [Hs Hd Hv]
  · isplitl [Hs]; · iexact Hs
    isplitl [Hd]; · iexact Hd
    iexact Hv
  iintro HF
  iapply (le_wp_ret _ _ _ _ _)
  iapply HQ
  iapply (Transfers.Flight_mono (countersEmb (U := UD sig nD τ)) (c : Thread nD τ) (landed X Y hX)) $$ HF

theorem wait_rule {srcw : Memref sig .tc sp s e} {dstw : Memref sig .tc sp' s e} {sm : DmaSem sig}
    {hsrc : srcw.view.WordExact} {hdst : dstw.view.WordExact} {Q : PUnit → sProp 𝕄} {N : ℕ} (hN : dstw.view.dmaCredit = N) {D : sProp 𝕄} :
    iprop(Fly c sm N D ∗ (∃ W, owes (c : Thread nD τ) 0 W))
      ⊢ iprop((iprop(D ∗ Cell c sm ∗ (∃ W, owes (c : Thread nD τ) 0 W)) -∗ Q ⟨⟩)
        -∗ WP 𝒱 c (Prog.lift (.waitDma2 sm srcw dstw hsrc hdst)) Q) := by
  iintro ⟨HF, ⟨%W, HO⟩⟩ HQ
  iapply (Transfers.wp_waitLocal (countersEmb (U := UD sig nD τ)) 𝒱 (c : Thread nD τ) none () hN) $$ [HF HO]
  · isplitl [HF]; · iexact HF
    iexact HO
  iintro ⟨HD, Hv, HO⟩
  iapply (le_wp_ret _ _ _ _ _)
  iapply HQ
  iframe
  iexists _
  iexact HO

theorem Fly.mono {sm : DmaSem sig} {N : ℕ} {D D' : sProp 𝕄} (h : D ⊢ D') : Fly c sm N D ⊢ Fly c sm N D' :=
  Transfers.Flight_mono (countersEmb (U := UD sig nD τ)) (c : Thread nD τ) h

/-- A batch of copies on one cell: `k` of them issued, `u` units waited for. -/
abbrev Bat {n : ℕ} (c : Dev nD) (sm : DmaSem sig) (N : ℕ) (D : Fin n → sProp 𝕄) (k u : ℕ) : sProp 𝕄 :=
  Transfers.Batch (countersEmb (U := UD sig nD τ)) (c : Thread nD τ) (SemLoc.dma sm) () N D k u

/-- The thread's record of its waits. -/
abbrev Owes (c : Dev nD) : sProp 𝕄 := iprop(∃ W, owes (c : Thread nD τ) 0 W)

theorem Bat.alloc {n : ℕ} {sm : DmaSem sig} (N : ℕ) (D : Fin n → sProp 𝕄) [∀ t, BI.Storable (upEmb : UEmb _ 𝕄) (D t)] :
    Cell c sm ⊢ iprop(|={Set.univ}=> Bat c sm N D 0 0) :=
  Transfers.batch_alloc' (countersEmb (U := UD sig nD τ)) (c : Thread nD τ) () N D

theorem batch_start_rule {n : ℕ} {D : Fin n → sProp 𝕄} {src : Memref sig .tc sp s e} {dst : Memref sig .tc sp' s e} {sm : DmaSem sig}
    {hsrc : src.view.WordExact} {hdst : dst.view.WordExact} {hsem : (DmaTarget.here dst : DmaTarget nD τ sig (.tc : Proc τ) sp' s e).Typed sp (.dma sm)}
    {Q : PUnit → sProp 𝕄} (N : ℕ) (hN : dst.view.dmaCredit = N) {g0 g : s.Idx → Elt F e} {j u : ℕ} (hj : j < n) (hu : u ≤ j * N)
    (hD : iprop(Own c dst fullShare g ∗ Own c src q g) ⊢ D ⟨j, hj⟩) :
    iprop(Own c src q g ∗ Own c dst fullShare g0 ∗ Bat c sm N D j u)
      ⊢ iprop((Bat c sm N D (j + 1) u -∗ Q ⟨⟩)
        -∗ WP 𝒱 c (Prog.lift (.enqueueDma src (.here dst) (.dma sm) hsrc hdst hsem)) Q) := by
  iintro ⟨Hs, Hd, Hv⟩ HQ
  ihave Hs := Own.to_pointsTo $$ Hs
  icases Hs with ⟨%X, %hX, Hs⟩
  ihave Hd := Own.to_pointsTo $$ Hd
  icases Hd with ⟨%Y, %hY, Hd⟩
  iapply (Transfers.wp_dmaBatch (countersEmb (U := UD sig nD τ)) 𝒱 (c : Thread nD τ) none (src := src) (dst := dst) (sm := .dma sm) () N hN (Finset.Subset.refl _) hj hu
    ((landed X Y hX).trans hD)) $$ [Hs Hd Hv]
  · isplitl [Hs]; · iexact Hs
    isplitl [Hd]; · iexact Hd
    iexact Hv
  iintro HF
  iapply (le_wp_ret _ _ _ _ _)
  iapply HQ
  iexact HF

theorem batch_wait_rule {n : ℕ} {D : Fin n → sProp 𝕄} {srcw : Memref sig .tc sp s e} {dstw : Memref sig .tc sp' s e} {sm : DmaSem sig}
    {hsrc : srcw.view.WordExact} {hdst : dstw.view.WordExact} {Q : PUnit → sProp 𝕄} {N : ℕ} (hN : dstw.view.dmaCredit = N) {u : ℕ} (hu : u + N < N * n) :
    iprop(Bat c sm N D n u ∗ Owes c)
      ⊢ iprop((iprop(Bat c sm N D n (u + N) ∗ Owes c) -∗ Q ⟨⟩)
        -∗ WP 𝒱 c (Prog.lift (.waitDma2 sm srcw dstw hsrc hdst)) Q) := by
  iintro ⟨HF, ⟨%W, HO⟩⟩ HQ
  iapply (Transfers.wp_waitBatch (countersEmb (U := UD sig nD τ)) 𝒱 (c : Thread nD τ) none () hN hu) $$ [HF HO]
  · isplitl [HF]; · iexact HF
    iexact HO
  iintro ⟨HD, HO⟩
  iapply (le_wp_ret _ _ _ _ _)
  iapply HQ
  iframe
  iexists _
  iexact HO

theorem batch_wait_last_rule {n : ℕ} {D : Fin n → sProp 𝕄} {srcw : Memref sig .tc sp s e} {dstw : Memref sig .tc sp' s e} {sm : DmaSem sig}
    {hsrc : srcw.view.WordExact} {hdst : dstw.view.WordExact} {Q : PUnit → sProp 𝕄} {N : ℕ} (hN : dstw.view.dmaCredit = N) (hN0 : 0 < N) {u : ℕ} (hu : u + N = N * n) :
    iprop(Bat c sm N D n u ∗ Owes c)
      ⊢ iprop((iprop(bigSep Finset.univ D ∗ Cell c sm ∗ Owes c) -∗ Q ⟨⟩)
        -∗ WP 𝒱 c (Prog.lift (.waitDma2 sm srcw dstw hsrc hdst)) Q) := by
  iintro ⟨HF, ⟨%W, HO⟩⟩ HQ
  iapply (Transfers.wp_waitBatchLast (countersEmb (U := UD sig nD τ)) 𝒱 (c : Thread nD τ) none () hN hN0 hu) $$ [HF HO]
  · isplitl [HF]; · iexact HF
    iexact HO
  iintro ⟨HD, Hv, HO⟩
  iapply (le_wp_ret _ _ _ _ _)
  iapply HQ
  iframe
  iexists _
  iexact HO

/-- Regions of one buffer gathered: if the pieces are the levels of `key`, together they are all of `P`. -/
theorem Has.gather {n : ℕ} (key : s.Idx → ℕ) (D : Fin n → s.Idx → Prop) (T : Finset (Fin n)) (hD : ∀ j i, D j i → key i = j.val)
    (hP : ∀ i, P i ↔ ∃ j ∈ T, D j i) :
    (bigSep T (fun j => Has c m (D j) q g) : sProp 𝕄) ⊢ Has c m P q g := by
  classical
  induction T using Finset.induction_on generalizing P with
  | empty =>
    rw [bigSep_empty]
    exact Has.empty (fun i hi => by obtain ⟨j, hj, _⟩ := (hP i).mp hi; exact absurd hj (Finset.notMem_empty j))
  | insert a T ha ih =>
    rw [bigSep_insert ha]
    refine (BIClass.sep_mono (BIBase.Entails.rfl) (ih (P := fun i => ∃ j ∈ T, D j i) (fun _ => Iff.rfl))).trans (Has.join (fun i => ?_) (fun i h1 h2 => ?_))
    · rw [hP i]
      constructor
      · rintro ⟨j, hj, h⟩
        rcases Finset.mem_insert.mp hj with rfl | hj
        · exact .inl h
        · exact .inr ⟨j, hj, h⟩
      · rintro (h | ⟨j, hj, h⟩)
        · exact ⟨a, Finset.mem_insert_self _ _, h⟩
        · exact ⟨j, Finset.mem_insert_of_mem hj, h⟩
    · obtain ⟨j, hj, h2⟩ := h2
      have : a = j := Fin.ext ((hD _ _ h1).symm.trans (hD _ _ h2))
      exact ha (this ▸ hj)

end Cert.Kernel.Emb
-- ==== Proof.Kernel.DqProg.lean ====
module

public import proofs.«01_k».proof.Proof.Kernel.Chk

@[expose] public section

noncomputable section

namespace Cert.Kernel.Emb

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]
local notation "𝕄" => MT nD τ sig Unit (Elt F) ℕ (UD sig nD τ) ℕ
variable (𝒱 : Variants) (c : Dev nD)
variable {arg0 : Memref sig .tc .smem S2049 .i32} {harg0 : arg0.IsWhole} {arg1 : Memref sig .tc .vmem S16x128 .i32} {harg1 : arg1.IsWhole} {arg2 : Memref sig .tc .vmem S2x1024 .i32} {harg2 : arg2.IsWhole} {arg3 : Memref sig .tc .vmem S2x1024 .f32} {harg3 : arg3.IsWhole} {arg4 : Memref sig .tc .hbm S2x1024x12288 .fp8e5m2} {harg4 : arg4.IsWhole} {arg5 : Memref sig .tc .hbm S256x96x8x128 .f32} {harg5 : arg5.IsWhole} {arg6 : Memref sig .tc .vmem S2x2048x3072 .fp8e5m2} {harg6 : arg6.IsWhole} {arg7 : Memref sig .tc .vmem S256x24x8x128 .f32} {harg7 : arg7.IsWhole} {arg8 : Memref sig .tc .vmem S4x9x24x8x128 .f32} {harg8 : arg8.IsWhole} {arg9 : Memref sig .tc .vmem S8x24x8x128 .f32} {harg9 : arg9.IsWhole} {arg10 : Memref sig .tc .vmem S2048x128 .f32} {harg10 : arg10.IsWhole} {arg11 : Memref sig .tc .vmem S2x17x128 .i32} {harg11 : arg11.IsWhole} {arg12 : Memref sig .tc .smem S2176 .i32} {harg12 : arg12.IsWhole} {arg13 : Memref sig .tc .smem S2176 .i32} {harg13 : arg13.IsWhole} {arg14 : DmaSems sig S2x8} {arg15 : DmaSems sig S4} {arg16 : DmaSems sig S_} {arg17 : DmaSems sig S_}

/-! # The dequantising loops: one trip as a load of scales and 24 column groups -/

/-- The slot of chunk `t4`, as a word. -/
def slotW (t4 : Fin k0_t4_loop.trips) : BitVec 32 := Scalar.remsi (Scf.iv 0#32 1#32 t4) 2#32
/-- The number of the 32-row group, as a word. -/
def grpW (i g : ℕ) : BitVec 32 := Scf.iv (BitVec.ofNat 32 (8 * i)) 1#32 g

theorem slotW_toNat : ∀ t4 : Fin k0_t4_loop.trips, (slotW t4).toNat = t4.val % 2 := by decide +kernel
theorem grp32_toNat : ∀ i < 8, ∀ g < 8, (Scalar.muli (grpW i g) 32#32).toNat = (8 * i + g) * 32 := by decide +kernel
theorem grp4_toNat : ∀ i < 8, ∀ g < 8, (Scalar.muli (grpW i g) 4#32).toNat = (8 * i + g) * 4 := by decide +kernel

def dOffS (i g : ℕ) : Fin 2 → Nat := ![(Scalar.indexCast (Scalar.muli (grpW i g) 32#32) : Index).toNat, 0]
def dOffC (t4 : Fin k0_t4_loop.trips) (i g : ℕ) (j : Fin 24) : Fin 3 → Nat :=
  ![(Scalar.indexCast (slotW t4) : Index).toNat, (Scalar.indexCast (Scalar.muli (grpW i g) 32#32) : Index).toNat, 128 * j.val]
def dOffD (i g : ℕ) (j : Fin 24) : Fin 4 → Nat := ![(Scalar.indexCast (Scalar.muli (grpW i g) 4#32) : Index).toNat, j.val, 0, 0]

theorem dOffS_eq (i : ℕ) (hi : i < 8) (g : ℕ) (hg : g < 8) : dOffS i g = ![(8 * i + g) * 32, 0] := by
  unfold dOffS; exact congrArg (fun x => ![x, 0]) (grp32_toNat i hi g hg)
theorem dOffC_eq (t4 : Fin k0_t4_loop.trips) (i : ℕ) (hi : i < 8) (g : ℕ) (hg : g < 8) (j : Fin 24) :
    dOffC t4 i g j = ![t4.val % 2, (8 * i + g) * 32, 128 * j.val] := by
  show ![(slotW t4).toNat, (Scalar.muli (grpW i g) 32#32).toNat, 128 * j.val] = _; rw [slotW_toNat t4, grp32_toNat i hi g hg]
theorem dOffD_eq (i : ℕ) (hi : i < 8) (g : ℕ) (hg : g < 8) (j : Fin 24) : dOffD i g j = ![(8 * i + g) * 4, j.val, 0, 0] := by
  unfold dOffD; exact congrArg (fun x => ![x, j.val, 0, 0]) (grp4_toNat i hi g hg)

theorem dOffS_inb (i : ℕ) (hi : i < 8) (g : ℕ) (hg : g < 8) : ∀ a, dOffS i g a + S32x128.size a ≤ S2048x128.size a := by
  rw [dOffS_eq i hi g hg]; intro a; fin_cases a
  · show (8 * i + g) * 32 + 32 ≤ 2048; omega
  · show 0 + 128 ≤ 128; omega
theorem dOffC_inb (t4 : Fin k0_t4_loop.trips) (i : ℕ) (hi : i < 8) (g : ℕ) (hg : g < 8) (j : Fin 24) :
    ∀ a, dOffC t4 i g j a + S1x32x128.size a ≤ S2x2048x3072.size a := by
  rw [dOffC_eq t4 i hi g hg]; intro a; have := j.isLt; fin_cases a
  · show t4.val % 2 + 1 ≤ 2; omega
  · show (8 * i + g) * 32 + 32 ≤ 2048; omega
  · show 128 * j.val + 128 ≤ 3072; omega
theorem dOffD_inb (i : ℕ) (hi : i < 8) (g : ℕ) (hg : g < 8) (j : Fin 24) : ∀ a, dOffD i g j a + S4x1x8x128.size a ≤ S256x24x8x128.size a := by
  rw [dOffD_eq i hi g hg]; intro a; have := j.isLt; fin_cases a
  · show (8 * i + g) * 4 + 4 ≤ 256; omega
  · show j.val + 1 ≤ 24; omega
  · show 0 + 8 ≤ 8; omega
  · show 0 + 128 ≤ 128; omega

/-- One column group: 32 rows of codes, converted and scaled. -/
def dqCol (arg6 : Memref sig .tc .vmem S2x2048x3072 .fp8e5m2) (arg7 : Memref sig .tc .vmem S256x24x8x128 .f32)
    (t4 : Fin k0_t4_loop.trips) (i : ℕ) (hi : i < 8) (g : ℕ) (hg : g < 8) (sc : FVec F S32x128 .f32) (j : Fin 24) :
    Prog (TpuEff nD τ sig (Elt F) Λ₀ .tc) PUnit := do
  let x : Vec F S1x32x128 .fp8e5m2 ← Prog.lift (.load arg6 (Rect.unit (s := S2x2048x3072) (dOffC t4 i g j) S1x32x128.size (dOffC_inb t4 i hi g hg j)).toLoadRect (View.loadsAt_vmem h_S1x32x128))
  let _d : Vec F S4x1x8x128 .f32 ← Prog.lift (.load arg7 (Rect.unit (s := S256x24x8x128) (dOffD i g j) S4x1x8x128.size (dOffD_inb i hi g hg j)).toLoadRect (View.loadsAt_vmem h_S4x1x8x128))
  Prog.lift (.store arg7 (Rect.unit (s := S256x24x8x128) (dOffD i g j) S4x1x8x128.size (dOffD_inb i hi g hg j))
    (shapeCast S4x1x8x128 (shapeCast S4x8x128 (mulf (extf .f32 (shapeCast S32x128 x shapeCasts_S1x32x128_S32x128 : FVec F S32x128 .fp8e5m2) bitsLt_fp8e5m2_f32) sc) shapeCasts_S32x128_S4x8x128) shapeCasts_S4x8x128_S4x1x8x128)
    Finset.univ (View.stores_vmem_bits_univ h_S4x1x8x128 rfl) (.inl rfl))

/-- Column groups one after another. -/
def dqCols (arg6 : Memref sig .tc .vmem S2x2048x3072 .fp8e5m2) (arg7 : Memref sig .tc .vmem S256x24x8x128 .f32)
    (t4 : Fin k0_t4_loop.trips) (i : ℕ) (hi : i < 8) (g : ℕ) (hg : g < 8) (sc : FVec F S32x128 .f32) :
    List (Fin 24) → Prog (TpuEff nD τ sig (Elt F) Λ₀ .tc) Unit
  | [] => pure ()
  | j :: l => dqCol arg6 arg7 t4 i hi g hg sc j >>= fun _ => dqCols arg6 arg7 t4 i hi g hg sc l

/-- The 24 column groups in order. -/
def cols24 : List (Fin 24) := [0, 1, 2, 3, 4, 5, 6, 7, 8, 9, 10, 11, 12, 13, 14, 15, 16, 17, 18, 19, 20, 21, 22, 23]

/-- One trip: 32 rows. -/
def dqTrip (arg6 : Memref sig .tc .vmem S2x2048x3072 .fp8e5m2) (arg7 : Memref sig .tc .vmem S256x24x8x128 .f32) (arg10 : Memref sig .tc .vmem S2048x128 .f32)
    (t4 : Fin k0_t4_loop.trips) (i : ℕ) (hi : i < 8) (g : ℕ) (hg : g < 8) : Prog (TpuEff nD τ sig (Elt F) Λ₀ .tc) Unit := do
  let sc : Vec F S32x128 .f32 ← Prog.lift (.load arg10 (Rect.unit (s := S2048x128) (dOffS i g) S32x128.size (dOffS_inb i hi g hg)).toLoadRect (View.loadsAt_vmem h_S32x128))
  dqCols arg6 arg7 t4 i hi g hg sc cols24

set_option maxHeartbeats 4000000 in
set_option maxRecDepth 100000 in
theorem t7_body_eq (t4 : Fin k0_t4_loop.trips) (v497 : BitVec 32) (a b : BitVec 32) (g : Fin k0_t7_loop.trips) :
    k0_t7_body (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 t4 v497 a b g () =
      dqTrip (F := F) arg6 arg7 arg10 t4 0 (by decide) g.val (lt_of_lt_of_eq g.isLt (by decide +kernel)) := by
  unfold k0_t7_body k0_part7 k0_part8 k0_part9 k0_part10 k0_part11 k0_part12 k0_part13 dqTrip dqCols dqCol
  delta cols24; rfl

set_option maxHeartbeats 4000000 in
set_option maxRecDepth 100000 in
theorem t8_body_eq (t4 : Fin k0_t4_loop.trips) (v497 : BitVec 32) (a b : BitVec 32) (g : Fin k0_t8_loop.trips) :
    k0_t8_body (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 t4 v497 a b g () =
      dqTrip (F := F) arg6 arg7 arg10 t4 1 (by decide) g.val (lt_of_lt_of_eq g.isLt (by decide +kernel)) := by
  unfold k0_t8_body k0_part14 k0_part15 k0_part16 k0_part17 k0_part18 k0_part19 k0_part20 dqTrip dqCols dqCol
  delta cols24; rfl

set_option maxHeartbeats 4000000 in
set_option maxRecDepth 100000 in
theorem t9_body_eq (t4 : Fin k0_t4_loop.trips) (v497 : BitVec 32) (a b : BitVec 32) (g : Fin k0_t9_loop.trips) :
    k0_t9_body (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 t4 v497 a b g () =
      dqTrip (F := F) arg6 arg7 arg10 t4 2 (by decide) g.val (lt_of_lt_of_eq g.isLt (by decide +kernel)) := by
  unfold k0_t9_body k0_part21 k0_part22 k0_part23 k0_part24 k0_part25 k0_part26 k0_part27 dqTrip dqCols dqCol
  delta cols24; rfl

set_option maxHeartbeats 4000000 in
set_option maxRecDepth 100000 in
theorem t10_body_eq (t4 : Fin k0_t4_loop.trips) (v497 : BitVec 32) (a b : BitVec 32) (g : Fin k0_t10_loop.trips) :
    k0_t10_body (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 t4 v497 a b g () =
      dqTrip (F := F) arg6 arg7 arg10 t4 3 (by decide) g.val (lt_of_lt_of_eq g.isLt (by decide +kernel)) := by
  unfold k0_t10_body k0_part28 k0_part29 k0_part30 k0_part31 k0_part32 k0_part33 k0_part34 dqTrip dqCols dqCol
  delta cols24; rfl

set_option maxHeartbeats 4000000 in
set_option maxRecDepth 100000 in
theorem t11_body_eq (t4 : Fin k0_t4_loop.trips) (v497 : BitVec 32) (a b : BitVec 32) (g : Fin k0_t11_loop.trips) :
    k0_t11_body (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 t4 v497 a b g () =
      dqTrip (F := F) arg6 arg7 arg10 t4 4 (by decide) g.val (lt_of_lt_of_eq g.isLt (by decide +kernel)) := by
  unfold k0_t11_body k0_part35 k0_part36 k0_part37 k0_part38 k0_part39 k0_part40 k0_part41 dqTrip dqCols dqCol
  delta cols24; rfl

set_option maxHeartbeats 4000000 in
set_option maxRecDepth 100000 in
theorem t12_body_eq (t4 : Fin k0_t4_loop.trips) (v497 : BitVec 32) (a b : BitVec 32) (g : Fin k0_t12_loop.trips) :
    k0_t12_body (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 t4 v497 a b g () =
      dqTrip (F := F) arg6 arg7 arg10 t4 5 (by decide) g.val (lt_of_lt_of_eq g.isLt (by decide +kernel)) := by
  unfold k0_t12_body k0_part42 k0_part43 k0_part44 k0_part45 k0_part46 k0_part47 k0_part48 dqTrip dqCols dqCol
  delta cols24; rfl

set_option maxHeartbeats 4000000 in
set_option maxRecDepth 100000 in
theorem t13_body_eq (t4 : Fin k0_t4_loop.trips) (v497 : BitVec 32) (a b : BitVec 32) (g : Fin k0_t13_loop.trips) :
    k0_t13_body (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 t4 v497 a b g () =
      dqTrip (F := F) arg6 arg7 arg10 t4 6 (by decide) g.val (lt_of_lt_of_eq g.isLt (by decide +kernel)) := by
  unfold k0_t13_body k0_part49 k0_part50 k0_part51 k0_part52 k0_part53 k0_part54 k0_part55 dqTrip dqCols dqCol
  delta cols24; rfl

set_option maxHeartbeats 4000000 in
set_option maxRecDepth 100000 in
theorem t14_body_eq (t4 : Fin k0_t4_loop.trips) (v497 : BitVec 32) (a b : BitVec 32) (g : Fin k0_t14_loop.trips) :
    k0_t14_body (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 t4 v497 a b g () =
      dqTrip (F := F) arg6 arg7 arg10 t4 7 (by decide) g.val (lt_of_lt_of_eq g.isLt (by decide +kernel)) := by
  unfold k0_t14_body k0_part56 k0_part57 k0_part58 k0_part59 k0_part60 k0_part61 k0_part62 dqTrip dqCols dqCol
  delta cols24; rfl

end Cert.Kernel.Emb
-- ==== Proof.Kernel.DqSpec.lean ====
module

public import proofs.«01_k».proof.Proof.Kernel.Own
public import proofs.«01_k».proof.Proof.Kernel.DqProg

public import Idealize.ShloMosaic.Lib.ValueIdxCore

@[expose] public section

noncomputable section

namespace Cert.Kernel.Emb

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]
local notation "𝕄" => MT nD τ sig Unit (Elt F) ℕ (UD sig nD τ) ℕ
variable (𝒱 : Variants) (c : Dev nD)
variable {arg0 : Memref sig .tc .smem S2049 .i32} {harg0 : arg0.IsWhole} {arg1 : Memref sig .tc .vmem S16x128 .i32} {harg1 : arg1.IsWhole} {arg2 : Memref sig .tc .vmem S2x1024 .i32} {harg2 : arg2.IsWhole} {arg3 : Memref sig .tc .vmem S2x1024 .f32} {harg3 : arg3.IsWhole} {arg4 : Memref sig .tc .hbm S2x1024x12288 .fp8e5m2} {harg4 : arg4.IsWhole} {arg5 : Memref sig .tc .hbm S256x96x8x128 .f32} {harg5 : arg5.IsWhole} {arg6 : Memref sig .tc .vmem S2x2048x3072 .fp8e5m2} {harg6 : arg6.IsWhole} {arg7 : Memref sig .tc .vmem S256x24x8x128 .f32} {harg7 : arg7.IsWhole} {arg8 : Memref sig .tc .vmem S4x9x24x8x128 .f32} {harg8 : arg8.IsWhole} {arg9 : Memref sig .tc .vmem S8x24x8x128 .f32} {harg9 : arg9.IsWhole} {arg10 : Memref sig .tc .vmem S2048x128 .f32} {harg10 : arg10.IsWhole} {arg11 : Memref sig .tc .vmem S2x17x128 .i32} {harg11 : arg11.IsWhole} {arg12 : Memref sig .tc .smem S2176 .i32} {harg12 : arg12.IsWhole} {arg13 : Memref sig .tc .smem S2176 .i32} {harg13 : arg13.IsWhole} {arg14 : DmaSems sig S2x8} {arg15 : DmaSems sig S4} {arg16 : DmaSems sig S_} {arg17 : DmaSems sig S_}

/-! # What the dequantising loops store -/

theorem loop_rule {σ : Type} (L : Scf.Loop 32) (ok : L.OK) (init : σ) (body : Fin L.trips → σ → Prog (TpuEff nD τ sig (Elt F) Λ₀ .tc) σ)
    (I : ℕ → σ → sProp 𝕄) (hbody : ∀ (k : Fin L.trips) (acc : σ), I k acc ⊢ WP 𝒱 c (body k acc) (I (k.val + 1))) {Q : σ → sProp 𝕄} :
    I 0 init ⊢ iprop((∀ acc, I L.trips acc -∗ Q acc) -∗ WP 𝒱 c (Scf.Loop.for L ok init body) Q) := by
  iintro H HQ
  iapply (Scf.wp_for frame (wpE (defs₀ (F := F)) 𝒱 (c : Thread nD τ) none) Set.univ _ _ _ ok init body I hbody)
  isplitl [H]
  · iexact H
  · iexact HQ

theorem unit_emb {s : Shape} {off size : Fin s.rank → ℕ} {h : ∀ a, off a + size a ≤ s.size a} (y : (Rect.unit (s := s) off size h).shape.Idx) (a : Fin s.rank) :
    ((Rect.unit (s := s) off size h).emb y a : ℕ) = off a + (y a).val := by
  rw [Rect.emb_apply]
  show off a + 1 * (y a).val = _
  rw [one_mul]

theorem unit_emb_of {s : Shape} {off off' size : Fin s.rank → ℕ} (e : off = off') {h : ∀ a, off a + size a ≤ s.size a} (y : (Rect.unit (s := s) off size h).shape.Idx) (a : Fin s.rank) :
    ((Rect.unit (s := s) off size h).emb y a : ℕ) = off' a + (y a).val := by
  subst e; exact unit_emb y a

/-- The row of the tokens that an element of the dequantised buffer belongs to. -/
def dqRow (x : S256x24x8x128.Idx) : Fin 2048 := ⟨8 * (x 0).val + (x 2).val, by
  have h0 : (x 0).val < 256 := (x 0).isLt
  have h2 : (x 2).val < 8 := (x 2).isLt
  omega⟩
/-- The column of the chunk it belongs to. -/
def dqColumn (x : S256x24x8x128.Idx) : Fin 3072 := ⟨128 * (x 1).val + (x 3).val, by
  have h0 : (x 1).val < 24 := (x 1).isLt
  have h2 : (x 3).val < 128 := (x 3).isLt
  omega⟩
def dqLane (x : S256x24x8x128.Idx) : Fin 128 := x 3

/-- The dequantised buffer: the code, converted, times the scale of its row. -/
def dqAt (cv : S2x2048x3072.Idx → F .fp8e5m2) (sb : S2048x128.Idx → F .f32) (slot : Fin 2) : S256x24x8x128.Idx → F .f32 := fun x =>
  FloatOps.mulf (FloatOps.extf .f32 bitsLt_fp8e5m2_f32 (cv (ValueIdx.ix3 slot (dqRow x) (dqColumn x)))) (sb (ValueIdx.ix2 (dqRow x) (dqLane x)))

def slotF (t4 : Fin k0_t4_loop.trips) : Fin 2 := ⟨t4.val % 2, Nat.mod_lt _ (by decide)⟩

/-- The dequantised buffer, known where `D` holds. -/
def DqTo (c : Dev nD) (arg7 : Memref sig .tc .vmem S256x24x8x128 .f32) (val : S256x24x8x128.Idx → F .f32) (D : S256x24x8x128.Idx → Prop) : sProp 𝕄 :=
  iprop(∃ g, ⌜∀ x, D x → g x = val x⌝ ∗ Own c arg7 fullShare (show S256x24x8x128.Idx → Elt F .f32 from g))

theorem DqTo.mono {val : S256x24x8x128.Idx → F .f32} {D D' : S256x24x8x128.Idx → Prop} (h : ∀ x, D' x → D x) :
    DqTo c arg7 val D ⊢ DqTo c arg7 val D' := by
  unfold DqTo
  iintro ⟨%g, %hg, H⟩
  iexists g
  iframe
  ipureintro
  exact fun x hx => hg x (h x hx)

theorem dq_value (t4 : Fin k0_t4_loop.trips) (i : ℕ) (hi : i < 8) (g : ℕ) (hg : g < 8) (j : Fin 24)
    (cv : S2x2048x3072.Idx → F .fp8e5m2) (sb : S2048x128.Idx → F .f32) (y : S4x1x8x128.Idx) :
    dqAt cv sb (slotF t4) ((Rect.unit (s := S256x24x8x128) (dOffD i g j) S4x1x8x128.size (dOffD_inb i hi g hg j)).emb y) =
    (shapeCast S4x1x8x128 (shapeCast S4x8x128 (mulf (extf .f32 (shapeCast S32x128
      (show S1x32x128.Idx → F .fp8e5m2 from fun z => cv ((Rect.unit (s := S2x2048x3072) (dOffC t4 i g j) S1x32x128.size (dOffC_inb t4 i hi g hg j)).emb z))
      shapeCasts_S1x32x128_S32x128 : FVec F S32x128 .fp8e5m2) bitsLt_fp8e5m2_f32)
      (show S32x128.Idx → F .f32 from fun z => sb ((Rect.unit (s := S2048x128) (dOffS i g) S32x128.size (dOffS_inb i hi g hg)).emb z))) shapeCasts_S32x128_S4x8x128) shapeCasts_S4x8x128_S4x1x8x128 : FVec F S4x1x8x128 .f32) y := by
  have hy0 : (y 0).val < 4 := (y 0).isLt
  have hy1 : (y 1).val < 1 := (y 1).isLt
  have hy2 : (y 2).val < 8 := (y 2).isLt
  have hy3 : (y 3).val < 128 := (y 3).isLt
  have e1 : Shape.reshapeEquiv shapeCasts_S32x128_S4x8x128 (Shape.reshapeEquiv shapeCasts_S4x8x128_S4x1x8x128 y)
      = (ValueIdx.ix2 (⟨8 * (y 0).val + (y 2).val, by omega⟩ : Fin 32) (⟨(y 3).val, hy3⟩ : Fin 128) : S32x128.Idx) := by
    rw [Shape.reshapeEquiv_reshapeEquiv]
    apply Shape.reshapeEquiv_eq_of_rowMajor
    rw [Shape.rowMajor_val_two, Shape.rowMajor_val_four]
    show (8 * (y 0).val + (y 2).val) * 128 + (y 3).val = (((y 0).val * 1 + (y 1).val) * 8 + (y 2).val) * 128 + (y 3).val
    omega
  have e2 : ∀ (a : Fin 32) (b : Fin 128), Shape.reshapeEquiv shapeCasts_S1x32x128_S32x128 (ValueIdx.ix2 a b : S32x128.Idx)
      = (ValueIdx.ix3 (0 : Fin 1) a b : S1x32x128.Idx) := by
    intro a b
    apply Shape.reshapeEquiv_eq_of_rowMajor
    rw [Shape.rowMajor_val_two, Shape.rowMajor_val_three]
    show (0 * 32 + a.val) * 128 + b.val = a.val * 128 + b.val
    omega
  show _ = FloatOps.mulf (FloatOps.extf .f32 bitsLt_fp8e5m2_f32 (cv ((Rect.unit (s := S2x2048x3072) (dOffC t4 i g j) S1x32x128.size (dOffC_inb t4 i hi g hg j)).emb (Shape.reshapeEquiv shapeCasts_S1x32x128_S32x128 (Shape.reshapeEquiv shapeCasts_S32x128_S4x8x128 (Shape.reshapeEquiv shapeCasts_S4x8x128_S4x1x8x128 y))))))
    (sb ((Rect.unit (s := S2048x128) (dOffS i g) S32x128.size (dOffS_inb i hi g hg)).emb (Shape.reshapeEquiv shapeCasts_S32x128_S4x8x128 (Shape.reshapeEquiv shapeCasts_S4x8x128_S4x1x8x128 y))))
  rw [e1, e2]
  unfold dqAt
  have hD := dOffD_eq i hi g hg j
  have hC := dOffC_eq t4 i hi g hg j
  have hS := dOffS_eq i hi g hg
  have d0 : ((Rect.unit (s := S256x24x8x128) (dOffD i g j) S4x1x8x128.size (dOffD_inb i hi g hg j)).emb y 0 : ℕ) = (8 * i + g) * 4 + (y 0).val := by
    rw [unit_emb_of hD]; rfl
  have d1 : ((Rect.unit (s := S256x24x8x128) (dOffD i g j) S4x1x8x128.size (dOffD_inb i hi g hg j)).emb y 1 : ℕ) = j.val + (y 1).val := by
    rw [unit_emb_of hD]; rfl
  have d2 : ((Rect.unit (s := S256x24x8x128) (dOffD i g j) S4x1x8x128.size (dOffD_inb i hi g hg j)).emb y 2 : ℕ) = 0 + (y 2).val := by
    rw [unit_emb_of hD]; rfl
  have d3 : ((Rect.unit (s := S256x24x8x128) (dOffD i g j) S4x1x8x128.size (dOffD_inb i hi g hg j)).emb y 3 : ℕ) = 0 + (y 3).val := by
    rw [unit_emb_of hD]; rfl
  refine congrArg₂ FloatOps.mulf (congrArg (fun z => FloatOps.extf .f32 bitsLt_fp8e5m2_f32 (cv z)) ?_) (congrArg sb ?_)
  · funext a
    apply Fin.ext
    rw [unit_emb_of hC]
    fin_cases a
    · show t4.val % 2 = t4.val % 2 + 0; omega
    · show 8 * _ + _ = (8 * i + g) * 32 + (8 * (y 0).val + (y 2).val); rw [d0, d2]; omega
    · show 128 * _ + _ = 128 * j.val + (y 3).val; rw [d1, d3]; omega
  · funext a
    apply Fin.ext
    rw [unit_emb_of hS]
    fin_cases a
    · show 8 * _ + _ = (8 * i + g) * 32 + (8 * (y 0).val + (y 2).val); rw [d0, d2]; omega
    · show _ = 0 + (y 3).val; exact d3

theorem dqCol_spec (t4 : Fin k0_t4_loop.trips) (i : ℕ) (hi : i < 8) (g : ℕ) (hg : g < 8) (j : Fin 24)
    (cv : S2x2048x3072.Idx → F .fp8e5m2) (sb : S2048x128.Idx → F .f32) {q6 : PosShare TreeShare} {P6 : S2x2048x3072.Idx → Prop}
    (hP6 : ∀ x, (x 0).val = t4.val % 2 → (8 * i + g) * 32 ≤ (x 1).val → (x 1).val < (8 * i + g) * 32 + 32 → P6 x)
    {D D' : S256x24x8x128.Idx → Prop} (hD : ∀ x, D' x → D x ∨ ((8 * i + g) * 4 ≤ (x 0).val ∧ (x 0).val < (8 * i + g) * 4 + 4 ∧ (x 1).val = j.val))
    {Q : PUnit → sProp 𝕄} :
    iprop(Has c arg6 P6 q6 cv ∗ DqTo c arg7 (dqAt cv sb (slotF t4)) D)
      ⊢ iprop((iprop(Has c arg6 P6 q6 cv ∗ DqTo c arg7 (dqAt cv sb (slotF t4)) D') -∗ Q ⟨⟩)
        -∗ WP 𝒱 c (dqCol arg6 arg7 t4 i hi g hg (show S32x128.Idx → F .f32 from fun z => sb ((Rect.unit (s := S2048x128) (dOffS i g) S32x128.size (dOffS_inb i hi g hg)).emb z)) j) Q) := by
  classical
  unfold dqCol DqTo
  rw [WP_bind]
  iintro ⟨H6, ⟨%g7, %hg7, H7⟩⟩ HQ
  have hDo := dOffD_eq i hi g hg j
  have hC := dOffC_eq t4 i hi g hg j
  iapply (load_rule 𝒱 (g := cv) (fun y => hP6 _ (by
      rw [unit_emb_of hC]; show t4.val % 2 + (y 0).val = _
      have : (y 0).val < 1 := (y 0).isLt
      omega) (by rw [unit_emb_of hC]; show _ ≤ (8 * i + g) * 32 + (y 1).val; omega) (by
      rw [unit_emb_of hC]; show (8 * i + g) * 32 + (y 1).val < _
      have : (y 1).val < 32 := (y 1).isLt
      omega))) $$ H6
  iintro H6
  rw [WP_bind]
  iapply (load_rule 𝒱 (fun _ => trivial)) $$ H7
  iintro H7
  iapply (store_rule 𝒱 (g' := fun x => if ((8 * i + g) * 4 ≤ (x 0).val ∧ (x 0).val < (8 * i + g) * 4 + 4 ∧ (x 1).val = j.val) then dqAt cv sb (slotF t4) x else g7 x)
    (fun _ => trivial) (fun y => ?_) (fun x _ hx => ?_)) $$ H7
  · have hy0 : (y 0).val < 4 := (y 0).isLt
    have hy1 : (y 1).val < 1 := (y 1).isLt
    rw [if_pos]
    · exact dq_value t4 i hi g hg j cv sb y
    · rw [unit_emb_of hDo, unit_emb_of hDo]
      refine ⟨?_, ?_, ?_⟩
      · show _ ≤ (8 * i + g) * 4 + (y 0).val; omega
      · show (8 * i + g) * 4 + (y 0).val < _; omega
      · show j.val + (y 1).val = _; omega
  · rw [if_neg]
    rintro ⟨h1, h2, h3⟩
    have hx2 : (x 2).val < 8 := (x 2).isLt
    have hx3 : (x 3).val < 128 := (x 3).isLt
    refine hx (ValueIdx.ix4 (⟨(x 0).val - (8 * i + g) * 4, by omega⟩ : Fin 4) (0 : Fin 1) (⟨(x 2).val, hx2⟩ : Fin 8) (⟨(x 3).val, hx3⟩ : Fin 128)) ?_
    funext a
    apply Fin.ext
    rw [unit_emb_of hDo]
    fin_cases a
    · show (8 * i + g) * 4 + ((x 0).val - (8 * i + g) * 4) = (x 0).val; omega
    · show j.val + 0 = (x 1).val; omega
    · show 0 + (x 2).val = (x 2).val; omega
    · show 0 + (x 3).val = (x 3).val; omega
  iintro H7
  iapply HQ
  iframe
  iexists _
  iframe
  ipureintro
  intro x hx
  dsimp only
  by_cases h : ((8 * i + g) * 4 ≤ (x 0).val ∧ (x 0).val < (8 * i + g) * 4 + 4 ∧ (x 1).val = j.val)
  · rw [if_pos h]
  · rw [if_neg h]; exact hg7 x ((hD x hx).resolve_right h)

theorem dqCols_spec (t4 : Fin k0_t4_loop.trips) (i : ℕ) (hi : i < 8) (g : ℕ) (hg : g < 8)
    (cv : S2x2048x3072.Idx → F .fp8e5m2) (sb : S2048x128.Idx → F .f32) {q6 : PosShare TreeShare} {P6 : S2x2048x3072.Idx → Prop}
    (hP6 : ∀ x, (x 0).val = t4.val % 2 → (8 * i + g) * 32 ≤ (x 1).val → (x 1).val < (8 * i + g) * 32 + 32 → P6 x) {Q : Unit → sProp 𝕄} (l : List (Fin 24)) :
    ∀ {D D' : S256x24x8x128.Idx → Prop} (hD : ∀ x, D' x → D x ∨ ((8 * i + g) * 4 ≤ (x 0).val ∧ (x 0).val < (8 * i + g) * 4 + 4 ∧ ∃ j ∈ l, (x 1).val = j.val)),
    iprop(Has c arg6 P6 q6 cv ∗ DqTo c arg7 (dqAt cv sb (slotF t4)) D)
      ⊢ iprop((iprop(Has c arg6 P6 q6 cv ∗ DqTo c arg7 (dqAt cv sb (slotF t4)) D') -∗ Q ())
        -∗ WP 𝒱 c (dqCols arg6 arg7 t4 i hi g hg (show S32x128.Idx → F .f32 from fun z => sb ((Rect.unit (s := S2048x128) (dOffS i g) S32x128.size (dOffS_inb i hi g hg)).emb z)) l) Q) := by
  induction l with
  | nil =>
    intro D D' hD
    unfold dqCols
    iintro ⟨H6, H7⟩ HQ
    iapply (WP_pure 𝒱 c)
    iapply HQ
    iframe
    iapply (DqTo.mono c (fun x hx => (hD x hx).resolve_right (fun h => by obtain ⟨_, _, j, hj, _⟩ := h; exact absurd hj (List.not_mem_nil)))) $$ H7
  | cons j l ih =>
    intro D D' hD
    unfold dqCols
    rw [WP_bind]
    iintro H HQ
    iapply (dqCol_spec 𝒱 c t4 i hi g hg j cv sb hP6 (D' := fun x => D x ∨ ((8 * i + g) * 4 ≤ (x 0).val ∧ (x 0).val < (8 * i + g) * 4 + 4 ∧ (x 1).val = j.val)) (fun x hx => hx)) $$ H
    iintro H
    iapply (ih (D' := D') (fun x hx => by
      rcases hD x hx with h | ⟨h1, h2, j', hj', h3⟩
      · exact .inl (.inl h)
      · rcases List.mem_cons.mp hj' with rfl | hj'
        · exact .inl (.inr ⟨h1, h2, h3⟩)
        · exact .inr ⟨h1, h2, j', hj', h3⟩)) $$ H
    iexact HQ

theorem mem_cols24 : ∀ j : Fin 24, j ∈ cols24 := by decide

theorem dqTrip_spec (t4 : Fin k0_t4_loop.trips) (i : ℕ) (hi : i < 8) (g : ℕ) (hg : g < 8)
    (cv : S2x2048x3072.Idx → F .fp8e5m2) (sb : S2048x128.Idx → F .f32) {q6 q10 : PosShare TreeShare} {P6 : S2x2048x3072.Idx → Prop}
    (hP6 : ∀ x, (x 0).val = t4.val % 2 → (8 * i + g) * 32 ≤ (x 1).val → (x 1).val < (8 * i + g) * 32 + 32 → P6 x) {Q : Unit → sProp 𝕄} :
    iprop(Has c arg6 P6 q6 cv ∗ Own c arg10 q10 sb ∗ DqTo c arg7 (dqAt cv sb (slotF t4)) (fun x => (x 0).val < (8 * i + g) * 4))
      ⊢ iprop((iprop(Has c arg6 P6 q6 cv ∗ Own c arg10 q10 sb ∗ DqTo c arg7 (dqAt cv sb (slotF t4)) (fun x => (x 0).val < (8 * i + (g + 1)) * 4)) -∗ Q ())
        -∗ WP 𝒱 c (dqTrip arg6 arg7 arg10 t4 i hi g hg) Q) := by
  unfold dqTrip
  rw [WP_bind]
  iintro ⟨H6, H10, H7⟩ HQ
  iapply (load_rule 𝒱 (fun _ => trivial)) $$ H10
  iintro H10
  iapply (dqCols_spec 𝒱 c t4 i hi g hg cv sb hP6 cols24 (D' := fun x => (x 0).val < (8 * i + (g + 1)) * 4) (fun x hx => by
    by_cases h : (x 0).val < (8 * i + g) * 4
    · exact .inl h
    · exact .inr ⟨by omega, by omega, ⟨(x 1).val, (x 1).isLt⟩, mem_cols24 _, rfl⟩)) $$ [H6 H7]
  · iframe
  iintro ⟨H6, H7⟩
  iapply HQ
  iframe

/-- All eight trips of a slab's loop. -/
theorem dqLoop_spec (t4 : Fin k0_t4_loop.trips) (i : ℕ) (hi : i < 8) (L : Scf.Loop 32) (hL : L.trips = 8) (ok : L.OK)
    (body : Fin L.trips → Unit → Prog (TpuEff nD τ sig (Elt F) Λ₀ .tc) Unit)
    (hb : ∀ k a, body k a = dqTrip (F := F) arg6 arg7 arg10 t4 i hi k.val (lt_of_lt_of_eq k.isLt hL))
    (cv : S2x2048x3072.Idx → F .fp8e5m2) (sb : S2048x128.Idx → F .f32) {q6 q10 : PosShare TreeShare} {P6 : S2x2048x3072.Idx → Prop}
    (hP6 : ∀ x, (x 0).val = t4.val % 2 → 256 * i ≤ (x 1).val → (x 1).val < 256 * i + 256 → P6 x) {Q : Unit → sProp 𝕄} :
    iprop(Has c arg6 P6 q6 cv ∗ Own c arg10 q10 sb ∗ DqTo c arg7 (dqAt cv sb (slotF t4)) (fun x => (x 0).val < 32 * i))
      ⊢ iprop((iprop(Has c arg6 P6 q6 cv ∗ Own c arg10 q10 sb ∗ DqTo c arg7 (dqAt cv sb (slotF t4)) (fun x => (x 0).val < 32 * (i + 1))) -∗ Q ())
        -∗ WP 𝒱 c (Scf.Loop.for L ok () body) Q) := by
  iintro ⟨H6, H10, H7⟩ HQ
  iapply (loop_rule 𝒱 c L ok () body (fun k _ => iprop(Has c arg6 P6 q6 cv ∗ Own c arg10 q10 sb ∗ DqTo c arg7 (dqAt cv sb (slotF t4)) (fun x => (x 0).val < (8 * i + k) * 4)))
    (fun k a => by
      have hk := lt_of_lt_of_eq k.isLt hL
      rw [hb k a]
      iintro H
      iapply (dqTrip_spec 𝒱 c t4 i hi k.val hk cv sb (fun x h1 h2 h3 => hP6 x h1 (by omega) (by omega))) $$ H
      iintro H
      iexact H)) $$ [H6 H10 H7]
  · iframe
    iapply (DqTo.mono c (fun x hx => by omega)) $$ H7
  iintro %acc ⟨H6, H10, H7⟩
  rw [hL]
  iapply HQ
  iframe
  iapply (DqTo.mono c (fun x hx => by omega)) $$ H7

end Cert.Kernel.Emb
-- ==== Proof.Kernel.TokProg.lean ====
module

public import proofs.«01_k».proof.Proof.Kernel.Chk

@[expose] public section

noncomputable section

namespace Cert.Kernel.Emb

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]
local notation "𝕄" => MT nD τ sig Unit (Elt F) ℕ (UD sig nD τ) ℕ
variable (𝒱 : Variants) (c : Dev nD)
variable {arg0 : Memref sig .tc .smem S2049 .i32} {harg0 : arg0.IsWhole} {arg1 : Memref sig .tc .vmem S16x128 .i32} {harg1 : arg1.IsWhole} {arg2 : Memref sig .tc .vmem S2x1024 .i32} {harg2 : arg2.IsWhole} {arg3 : Memref sig .tc .vmem S2x1024 .f32} {harg3 : arg3.IsWhole} {arg4 : Memref sig .tc .hbm S2x1024x12288 .fp8e5m2} {harg4 : arg4.IsWhole} {arg5 : Memref sig .tc .hbm S256x96x8x128 .f32} {harg5 : arg5.IsWhole} {arg6 : Memref sig .tc .vmem S2x2048x3072 .fp8e5m2} {harg6 : arg6.IsWhole} {arg7 : Memref sig .tc .vmem S256x24x8x128 .f32} {harg7 : arg7.IsWhole} {arg8 : Memref sig .tc .vmem S4x9x24x8x128 .f32} {harg8 : arg8.IsWhole} {arg9 : Memref sig .tc .vmem S8x24x8x128 .f32} {harg9 : arg9.IsWhole} {arg10 : Memref sig .tc .vmem S2048x128 .f32} {harg10 : arg10.IsWhole} {arg11 : Memref sig .tc .vmem S2x17x128 .i32} {harg11 : arg11.IsWhole} {arg12 : Memref sig .tc .smem S2176 .i32} {harg12 : arg12.IsWhole} {arg13 : Memref sig .tc .smem S2176 .i32} {harg13 : arg13.IsWhole} {arg14 : DmaSems sig S2x8} {arg15 : DmaSems sig S4} {arg16 : DmaSems sig S_} {arg17 : DmaSems sig S_}

/-! # One sorted position of the accumulation loop, and a trip as eight of them -/

theorem pack32 : EltTy.i32.packing = 1 := rfl

/-- One position: read its source and destination words, then for each of the three column groups add the source rows to
    the carried accumulator (or to zero where a segment begins) and store the sum at the destination rows. -/
def tokStep (arg7 : Memref sig .tc .vmem S256x24x8x128 .f32) (harg7 : arg7.IsWhole) (arg8 : Memref sig .tc .vmem S4x9x24x8x128 .f32) (harg8 : arg8.IsWhole)
    (arg12 : Memref sig .tc .smem S2176 .i32) (arg13 : Memref sig .tc .smem S2176 .i32)
    (v49 : BitVec 32) (t4 : Fin k0_t4_loop.trips) (t15 : Fin (k0_t15_loop v49).trips)
    (op : Fin 1 → Nat) (hop : ∀ a, op a + S1.size a ≤ S2176.size a)
    (acc : FVec F S8x128 .f32 × FVec F S8x128 .f32 × FVec F S8x128 .f32) :
    Prog (TpuEff nD τ sig (Elt F) Λ₀ .tc) (FVec F S8x128 .f32 × FVec F S8x128 .f32 × FVec F S8x128 .f32) := do
  let w : Elt F .i32 ← smemLoad arg12 (Rect.unit (s := S2176) op S1.size hop) numel1_S1 pack32
  have hs : k0_chk4 w := (← Prog.lift (TpuEff.assume (k0_chk4 w) (k0_chk4.dec w))).down
  let d : Elt F .i32 ← smemLoad arg13 (Rect.unit (s := S2176) op S1.size hop) numel1_S1 pack32
  have hd : k0_chk5 v49 t4 t15 d := (← Prog.lift (TpuEff.assume (k0_chk5 v49 t4 t15 d) (k0_chk5.dec v49 t4 t15 d))).down
  let dq : Memref sig .tc .vmem S49152x128 .f32 := arg7.reshape S49152x128 reshapes_S256x24x8x128_S49152x128.1 reshapes_S256x24x8x128_S49152x128.2 harg7.contiguous
  let st : Memref sig .tc .vmem S6912x128 .f32 := arg8.reshape S6912x128 reshapes_S4x9x24x8x128_S6912x128.1 reshapes_S4x9x24x8x128_S6912x128.2 harg8.contiguous
  let x0 : Vec F S8x128 .f32 ← Prog.lift (.load dq (⟨k0_off453 w, S8x128.size, ![8, 1], (k0_off453_inb w hs)⟩ : LoadRect S49152x128) (View.loadsAt_vmem h_S8x128))
  let y0 : FVec F S8x128 .f32 := addf (Scalar.select (Scalar.cmpi .ne (Scalar.shrsi w 31#32) 0#32) acc.1 (broadcast S8x128 (Scalar.ofBits .f32 0x00000000#32))) x0
  let _d0 : Vec F S8x128 .f32 ← Prog.lift (.load st (⟨k0_off454 v49 t4 t15 d 0#32, S8x128.size, ![8, 1], (k0_off454_inb v49 t4 t15 d hd 0)⟩ : LoadRect S6912x128) (View.loadsAt_vmem h_S8x128))
  Prog.lift (.store st ⟨(⟨k0_off454 v49 t4 t15 d 0#32, S8x128.size, ![8, 1], (k0_off454_inb v49 t4 t15 d hd 0)⟩ : LoadRect S6912x128), spos_8_1⟩ (shapeCast S8x128 y0 shapeCasts_S8x128_S8x128) Finset.univ (View.stores_vmem_bits_univ h_S8x128 rfl) (.inl rfl))
  let x1 : Vec F S8x128 .f32 ← Prog.lift (.load dq (⟨k0_off455 w 64#32, S8x128.size, ![8, 1], (k0_off455_inb w hs 0)⟩ : LoadRect S49152x128) (View.loadsAt_vmem h_S8x128))
  let y1 : FVec F S8x128 .f32 := addf (Scalar.select (Scalar.cmpi .ne (Scalar.shrsi w 31#32) 0#32) acc.2.1 (broadcast S8x128 (Scalar.ofBits .f32 0x00000000#32))) x1
  let _d1 : Vec F S8x128 .f32 ← Prog.lift (.load st (⟨k0_off454 v49 t4 t15 d 64#32, S8x128.size, ![8, 1], (k0_off454_inb v49 t4 t15 d hd 1)⟩ : LoadRect S6912x128) (View.loadsAt_vmem h_S8x128))
  Prog.lift (.store st ⟨(⟨k0_off454 v49 t4 t15 d 64#32, S8x128.size, ![8, 1], (k0_off454_inb v49 t4 t15 d hd 1)⟩ : LoadRect S6912x128), spos_8_1⟩ (shapeCast S8x128 y1 shapeCasts_S8x128_S8x128) Finset.univ (View.stores_vmem_bits_univ h_S8x128 rfl) (.inl rfl))
  let x2 : Vec F S8x128 .f32 ← Prog.lift (.load dq (⟨k0_off455 w 128#32, S8x128.size, ![8, 1], (k0_off455_inb w hs 1)⟩ : LoadRect S49152x128) (View.loadsAt_vmem h_S8x128))
  let y2 : FVec F S8x128 .f32 := addf (Scalar.select (Scalar.cmpi .ne (Scalar.shrsi w 31#32) 0#32) acc.2.2 (broadcast S8x128 (Scalar.ofBits .f32 0x00000000#32))) x2
  let _d2 : Vec F S8x128 .f32 ← Prog.lift (.load st (⟨k0_off454 v49 t4 t15 d 128#32, S8x128.size, ![8, 1], (k0_off454_inb v49 t4 t15 d hd 2)⟩ : LoadRect S6912x128) (View.loadsAt_vmem h_S8x128))
  Prog.lift (.store st ⟨(⟨k0_off454 v49 t4 t15 d 128#32, S8x128.size, ![8, 1], (k0_off454_inb v49 t4 t15 d hd 2)⟩ : LoadRect S6912x128), spos_8_1⟩ (shapeCast S8x128 y2 shapeCasts_S8x128_S8x128) Finset.univ (View.stores_vmem_bits_univ h_S8x128 rfl) (.inl rfl))
  pure (y0, y1, y2)

set_option maxHeartbeats 4000000 in
set_option maxRecDepth 100000 in
theorem t16_body_eq (v49 v370 : BitVec 32) (t4 : Fin k0_t4_loop.trips) (t15 : Fin (k0_t15_loop v49).trips) (v593 v597 v602 : BitVec 32)
    (hw3 : k0_chk3 v49 v370 t15 v593 v602) (v605 : BitVec 32) (v606 : FVec F S8x128 .f32) (c0 c1 : BitVec 32)
    (t16 : Fin (k0_t16_loop v49 v370 t15 v593 v602).trips) (a0 a1 a2 : FVec F S8x128 .f32) :
    k0_t16_body (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v49 v370 t4 t15 v593 v597 v602 hw3 v605 v606 c0 c1 t16 (a0, a1, a2) =
        (tokStep (F := F) arg7 harg7 arg8 harg8 arg12 arg13 v49 t4 t15 (k0_off452 v49 v370 t15 v593 v602 t16) (k0_off452_inb v49 v370 t15 v593 v602 hw3 t16) (a0, a1, a2) >>= fun b1 =>
        tokStep (F := F) arg7 harg7 arg8 harg8 arg12 arg13 v49 t4 t15 (k0_off456 v49 v370 t15 v593 v602 t16) (k0_off456_inb v49 v370 t15 v593 v602 hw3 t16) b1 >>= fun b2 =>
        tokStep (F := F) arg7 harg7 arg8 harg8 arg12 arg13 v49 t4 t15 (k0_off460 v49 v370 t15 v593 v602 t16) (k0_off460_inb v49 v370 t15 v593 v602 hw3 t16) b2 >>= fun b3 =>
        tokStep (F := F) arg7 harg7 arg8 harg8 arg12 arg13 v49 t4 t15 (k0_off464 v49 v370 t15 v593 v602 t16) (k0_off464_inb v49 v370 t15 v593 v602 hw3 t16) b3 >>= fun b4 =>
        tokStep (F := F) arg7 harg7 arg8 harg8 arg12 arg13 v49 t4 t15 (k0_off468 v49 v370 t15 v593 v602 t16) (k0_off468_inb v49 v370 t15 v593 v602 hw3 t16) b4 >>= fun b5 =>
        tokStep (F := F) arg7 harg7 arg8 harg8 arg12 arg13 v49 t4 t15 (k0_off472 v49 v370 t15 v593 v602 t16) (k0_off472_inb v49 v370 t15 v593 v602 hw3 t16) b5 >>= fun b6 =>
        tokStep (F := F) arg7 harg7 arg8 harg8 arg12 arg13 v49 t4 t15 (k0_off476 v49 v370 t15 v593 v602 t16) (k0_off476_inb v49 v370 t15 v593 v602 hw3 t16) b6 >>= fun b7 =>
        tokStep (F := F) arg7 harg7 arg8 harg8 arg12 arg13 v49 t4 t15 (k0_off480 v49 v370 t15 v593 v602 t16) (k0_off480_inb v49 v370 t15 v593 v602 hw3 t16) b7 >>= fun b8 => pure b8) := rfl

end Cert.Kernel.Emb
-- ==== Proof.Kernel.TokSpec.lean ====
module

public import proofs.«01_k».proof.Proof.Kernel.DqSpec
public import proofs.«01_k».proof.Proof.Kernel.TokProg

@[expose] public section

noncomputable section

namespace Cert.Kernel.Emb

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]
local notation "𝕄" => MT nD τ sig Unit (Elt F) ℕ (UD sig nD τ) ℕ
variable (𝒱 : Variants) (c : Dev nD)
variable {arg0 : Memref sig .tc .smem S2049 .i32} {harg0 : arg0.IsWhole} {arg1 : Memref sig .tc .vmem S16x128 .i32} {harg1 : arg1.IsWhole} {arg2 : Memref sig .tc .vmem S2x1024 .i32} {harg2 : arg2.IsWhole} {arg3 : Memref sig .tc .vmem S2x1024 .f32} {harg3 : arg3.IsWhole} {arg4 : Memref sig .tc .hbm S2x1024x12288 .fp8e5m2} {harg4 : arg4.IsWhole} {arg5 : Memref sig .tc .hbm S256x96x8x128 .f32} {harg5 : arg5.IsWhole} {arg6 : Memref sig .tc .vmem S2x2048x3072 .fp8e5m2} {harg6 : arg6.IsWhole} {arg7 : Memref sig .tc .vmem S256x24x8x128 .f32} {harg7 : arg7.IsWhole} {arg8 : Memref sig .tc .vmem S4x9x24x8x128 .f32} {harg8 : arg8.IsWhole} {arg9 : Memref sig .tc .vmem S8x24x8x128 .f32} {harg9 : arg9.IsWhole} {arg10 : Memref sig .tc .vmem S2048x128 .f32} {harg10 : arg10.IsWhole} {arg11 : Memref sig .tc .vmem S2x17x128 .i32} {harg11 : arg11.IsWhole} {arg12 : Memref sig .tc .smem S2176 .i32} {harg12 : arg12.IsWhole} {arg13 : Memref sig .tc .smem S2176 .i32} {harg13 : arg13.IsWhole} {arg14 : DmaSems sig S2x8} {arg15 : DmaSems sig S4} {arg16 : DmaSems sig S_} {arg17 : DmaSems sig S_}

/-! # What one position of the accumulation loop does -/

section To
variable {sp : Space} {s : Shape} {e : EltTy}

/-- The elements of `m` where `P` holds, known to be `V` where `D` holds as well. -/
def To (c : Dev nD) (m : Memref sig .tc sp s e) (P : s.Idx → Prop) (V : s.Idx → Elt F e) (D : s.Idx → Prop) : sProp 𝕄 :=
  iprop(∃ g, ⌜∀ z, P z → D z → g z = V z⌝ ∗ Has c m P fullShare g)

theorem To.mono {m : Memref sig .tc sp s e} {P D D' : s.Idx → Prop} {V V' : s.Idx → Elt F e} (h : ∀ z, P z → D' z → D z ∧ V z = V' z) :
    To c m P V D ⊢ To c m P V' D' := by
  unfold To
  iintro ⟨%g, %hg, H⟩
  iexists g
  iframe
  ipureintro
  exact fun z hz hd => (hg z hz (h z hz hd).1).trans (h z hz hd).2

theorem To.load {cs : CoreSpace} {m : Memref sig .tc cs s e} {P D : s.Idx → Prop} {V : s.Idx → Elt F e} {r : Rect s} {hl : m.view.LoadsAt r.toLoadRect}
    {Q : (r.shape.Idx → Elt F e) → sProp 𝕄} (hP : ∀ j, P (r.emb j)) :
    To c m P V D ⊢ iprop((∀ v, To c m P V D -∗ Q v) -∗ WP 𝒱 c (Prog.lift (.load m r.toLoadRect hl)) Q) := by
  unfold To
  iintro ⟨%g, %hg, H⟩ HQ
  iapply (load_rule 𝒱 hP) $$ H
  iintro H
  iapply HQ
  iexists g
  iframe
  ipureintro
  exact hg

theorem To.store {cs : CoreSpace} {m : Memref sig .tc cs s e} {P D D' : s.Idx → Prop} {V V' : s.Idx → Elt F e} {r : Rect s} {w : r.shape.Idx → Elt F e}
    {hx : (m.access r).Stores Finset.univ}
    {hm : (Finset.univ : Finset r.shape.Idx) = Finset.univ ∨ ∀ a, r.stride a = 1} {Q : PUnit → sProp 𝕄}
    (hP : ∀ j, P (r.emb j)) (h1 : ∀ j, V' (r.emb j) = w j) (h2 : ∀ z, P z → D' z → (∀ j, r.emb j ≠ z) → D z ∧ V z = V' z) :
    To c m P V D ⊢ iprop((To c m P V' D' -∗ Q ⟨⟩) -∗ WP 𝒱 c (Prog.lift (.store m r w Finset.univ hx hm)) Q) := by
  classical
  unfold To
  iintro ⟨%g, %hg, H⟩ HQ
  iapply (store_rule 𝒱 (g' := fun z => if ∃ j, r.emb j = z then V' z else g z) hP (fun j => by rw [if_pos ⟨j, rfl⟩]; exact h1 j)
    (fun z _ hz => by rw [if_neg]; rintro ⟨j, hj⟩; exact hz j hj)) $$ H
  iintro H
  iapply HQ
  iexists _
  iframe
  ipureintro
  intro z hz hd
  by_cases h : ∃ j, r.emb j = z
  · rw [if_pos h]
  · rw [if_neg h]
    have := h2 z hz hd (fun j hj => h ⟨j, hj⟩)
    exact (hg z hz this.1).trans this.2
end To

/-- The output row, within a slot's 72, that a row of the flat accumulation buffer belongs to. -/
def zRow (z : S6912x128.Idx) : ℕ := (z 0).val % 1728 / 192 * 8 + (z 0).val % 8
/-- The tile, of the chunk's 24. -/
def zTile (z : S6912x128.Idx) : ℕ := (z 0).val % 192 / 8
def zSlot (z : S6912x128.Idx) : ℕ := (z 0).val / 1728

/-- Column group `k` of a row of 24 tiles. -/
def triA (R : ℕ → ℕ → F .f32) (k : ℕ) : FVec F S8x128 .f32 := fun y => R (8 * k + (y 0).val) (y 1).val
def tri (R : ℕ → ℕ → F .f32) : FVec F S8x128 .f32 × FVec F S8x128 .f32 × FVec F S8x128 .f32 := (triA R 0, triA R 1, triA R 2)

/-- Whether a position continues its segment, as the kernel asks. -/
def keepW (w : BitVec 32) : BitVec 1 := Scalar.cmpi .ne (Scalar.shrsi w 31#32) 0#32
/-- The accumulator after one more position. -/
def tokNext (kw : BitVec 1) (R X : ℕ → ℕ → F .f32) : ℕ → ℕ → F .f32 := fun v l =>
  FloatOps.addf (Scalar.select kw (R v l) (Scalar.ofBits .f32 0x00000000#32)) (X v l)

/-- The flat dequantised buffer: token, tile, lane. -/
def dqFlat (X : ℕ → ℕ → ℕ → F .f32) : S49152x128.Idx → Elt F .f32 := fun z => X ((z 0).val / 192 * 8 + (z 0).val % 8) ((z 0).val % 192 / 8) (z 1).val

theorem tri_next (kw : BitVec 1) (R X : ℕ → ℕ → F .f32) (k : ℕ) :
    addf (Scalar.select kw (triA R k) (broadcast S8x128 (Scalar.ofBits .f32 0x00000000#32))) (triA X k) = triA (tokNext kw R X) k := by
  funext y
  show FloatOps.addf ((if kw = 1 then triA R k else _) y) _ = FloatOps.addf (if kw = 1 then _ else _) _
  split <;> rfl

section step
variable {dqm : Memref sig .tc .vmem S49152x128 .f32} {stm : Memref sig .tc .vmem S6912x128 .f32}

/-- One column group of one position. -/
theorem tokCol_spec (k : ℕ) (hk : k < 3) (ring a b ra rb : ℕ) (hb : b < 8) (hring : ring < 4) (hra : ra < 9) (hrb : rb < 8)
    (X : ℕ → ℕ → ℕ → F .f32) (kw : BitVec 1) (R : ℕ → ℕ → F .f32) (V : S6912x128.Idx → Elt F .f32) (D : S6912x128.Idx → Prop) {q7 : PosShare TreeShare}
    {offR : Fin 2 → ℕ} (eR : offR = ![a * 192 + b + 64 * k, 0]) {offW : Fin 2 → ℕ} (eW : offW = ![ring * 1728 + ra * 192 + rb + 64 * k, 0])
    {inR : ∀ x, S8x128.size x = 0 ∨ offR x + (![8, 1] : Fin 2 → Nat) x * (S8x128.size x - 1) < S49152x128.size x}
    {inW : ∀ x, S8x128.size x = 0 ∨ offW x + (![8, 1] : Fin 2 → Nat) x * (S8x128.size x - 1) < S6912x128.size x}
    {hlR : dqm.view.LoadsAt (⟨offR, S8x128.size, ![8, 1], inR⟩ : LoadRect S49152x128)} {hlW : stm.view.LoadsAt (⟨offW, S8x128.size, ![8, 1], inW⟩ : LoadRect S6912x128)}
    {hsW : (stm.access ⟨(⟨offW, S8x128.size, ![8, 1], inW⟩ : LoadRect S6912x128), spos_8_1⟩).Stores Finset.univ}
    {hm : (Finset.univ : Finset (Rect.toLoadRect ⟨(⟨offW, S8x128.size, ![8, 1], inW⟩ : LoadRect S6912x128), spos_8_1⟩).shape.Idx) = Finset.univ ∨ ∀ a, (Rect.toLoadRect ⟨(⟨offW, S8x128.size, ![8, 1], inW⟩ : LoadRect S6912x128), spos_8_1⟩).stride a = 1}
    {β : Type} {K : Vec F S8x128 .f32 → Prog (TpuEff nD τ sig (Elt F) Λ₀ .tc) β} {Q : β → sProp 𝕄} :
    iprop(Own c dqm q7 (dqFlat X) ∗ To c stm (fun z => zSlot z = ring)
        (fun z => if zRow z = 8 * ra + rb ∧ zTile z < 8 * k then tokNext kw R (X (8 * a + b)) (zTile z) (z 1).val else V z) (fun z => (zRow z = 8 * ra + rb ∧ zTile z < 8 * k) ∨ D z))
      ⊢ iprop((iprop(Own c dqm q7 (dqFlat X) ∗ To c stm (fun z => zSlot z = ring)
        (fun z => if zRow z = 8 * ra + rb ∧ zTile z < 8 * (k + 1) then tokNext kw R (X (8 * a + b)) (zTile z) (z 1).val else V z) (fun z => (zRow z = 8 * ra + rb ∧ zTile z < 8 * (k + 1)) ∨ D z))
          -∗ WP 𝒱 c (K (triA (X (8 * a + b)) k)) Q)
        -∗ WP 𝒱 c (Prog.lift (.load dqm (⟨offR, S8x128.size, ![8, 1], inR⟩ : LoadRect S49152x128) hlR) >>= fun x : Vec F S8x128 .f32 =>
            Prog.lift (.load stm (⟨offW, S8x128.size, ![8, 1], inW⟩ : LoadRect S6912x128) hlW) >>= fun _ : Vec F S8x128 .f32 =>
            Prog.lift (.store stm ⟨(⟨offW, S8x128.size, ![8, 1], inW⟩ : LoadRect S6912x128), spos_8_1⟩
              (shapeCast S8x128 (addf (Scalar.select kw (triA R k) (broadcast S8x128 (Scalar.ofBits .f32 0x00000000#32))) x : FVec F S8x128 .f32) shapeCasts_S8x128_S8x128) Finset.univ hsW hm) >>= fun _ => K x) Q) := by
  subst eR eW
  rw [WP_bind]
  iintro ⟨H7, H8⟩ HQ
  iapply (load_rule 𝒱 (m := dqm) (P := fun _ => True) (q := q7) (g := dqFlat X) (r := ⟨⟨![a * 192 + b + 64 * k, 0], S8x128.size, ![8, 1], inR⟩, spos_8_1⟩) (hl := hlR) (fun _ => trivial)) $$ H7
  iintro H7
  have ex : (fun j => dqFlat X ((⟨⟨![a * 192 + b + 64 * k, 0], S8x128.size, ![8, 1], inR⟩, spos_8_1⟩ : Rect S49152x128).emb j)) = (triA (X (8 * a + b)) k : Vec F S8x128 .f32) := by
    funext y
    have hy0 : (y 0).val < 8 := (y 0).isLt
    show X _ _ _ = X (8 * a + b) (8 * k + (y 0).val) (y 1).val
    have e0 : ((⟨⟨![a * 192 + b + 64 * k, 0], S8x128.size, ![8, 1], inR⟩, spos_8_1⟩ : Rect S49152x128).emb y 0 : ℕ) = a * 192 + b + 64 * k + 8 * (y 0).val := rfl
    have e1 : ((⟨⟨![a * 192 + b + 64 * k, 0], S8x128.size, ![8, 1], inR⟩, spos_8_1⟩ : Rect S49152x128).emb y 1 : ℕ) = 0 + 1 * (y 1).val := rfl
    rw [e0, e1]
    have e3 : 0 + 1 * (y 1).val = (y 1).val := by omega
    have e4 : (a * 192 + b + 64 * k + 8 * (y 0).val) / 192 * 8 + (a * 192 + b + 64 * k + 8 * (y 0).val) % 8 = 8 * a + b := by omega
    have e5 : (a * 192 + b + 64 * k + 8 * (y 0).val) % 192 / 8 = 8 * k + (y 0).val := by omega
    rw [e3, e4, e5]
  rw [ex]
  rw [WP_bind]
  have he : ∀ y, ((⟨⟨![ring * 1728 + ra * 192 + rb + 64 * k, 0], S8x128.size, ![8, 1], inW⟩, spos_8_1⟩ : Rect S6912x128).emb y 0 : ℕ) = ring * 1728 + ra * 192 + rb + 64 * k + 8 * (y 0).val := fun _ => rfl
  have he1 : ∀ y, ((⟨⟨![ring * 1728 + ra * 192 + rb + 64 * k, 0], S8x128.size, ![8, 1], inW⟩, spos_8_1⟩ : Rect S6912x128).emb y 1 : ℕ) = 0 + 1 * (y 1).val := fun _ => rfl
  have hslot : ∀ y, zSlot ((⟨⟨![ring * 1728 + ra * 192 + rb + 64 * k, 0], S8x128.size, ![8, 1], inW⟩, spos_8_1⟩ : Rect S6912x128).emb y) = ring := by
    intro y
    have hy0 : (y 0).val < 8 := (y 0).isLt
    unfold zSlot; rw [he]; omega
  have hrow : ∀ y, zRow ((⟨⟨![ring * 1728 + ra * 192 + rb + 64 * k, 0], S8x128.size, ![8, 1], inW⟩, spos_8_1⟩ : Rect S6912x128).emb y) = 8 * ra + rb := by
    intro y
    have hy0 : (y 0).val < 8 := (y 0).isLt
    unfold zRow; rw [he]; omega
  have htile : ∀ y, zTile ((⟨⟨![ring * 1728 + ra * 192 + rb + 64 * k, 0], S8x128.size, ![8, 1], inW⟩, spos_8_1⟩ : Rect S6912x128).emb y) = 8 * k + (y 0).val := by
    intro y
    have hy0 : (y 0).val < 8 := (y 0).isLt
    unfold zTile; rw [he]; omega
  iapply (To.load 𝒱 c (m := stm) (P := fun z => zSlot z = ring) (hl := hlW) (r := ⟨⟨![ring * 1728 + ra * 192 + rb + 64 * k, 0], S8x128.size, ![8, 1], inW⟩, spos_8_1⟩) hslot) $$ H8
  iintro %v H8
  rw [WP_bind]
  iapply (To.store 𝒱 c (P := fun z => zSlot z = ring) (V' := fun z => if zRow z = 8 * ra + rb ∧ zTile z < 8 * (k + 1) then tokNext kw R (X (8 * a + b)) (zTile z) (z 1).val else V z)
    (D' := fun z => (zRow z = 8 * ra + rb ∧ zTile z < 8 * (k + 1)) ∨ D z) hslot (fun y => ?_) (fun z hz hd hn => ?_)) $$ H8
  · have hy0 : (y 0).val < 8 := (y 0).isLt
    show _ = (addf _ _ : FVec F S8x128 .f32) (Shape.reshapeEquiv _ y)
    rw [Shape.reshapeEquiv_self, tri_next]
    dsimp only
    rw [if_pos ⟨hrow y, by rw [htile]; omega⟩, htile, he1]
    show tokNext _ _ _ _ _ = tokNext _ _ _ (8 * k + (y 0).val) (y 1).val
    rw [Nat.zero_add, Nat.one_mul]
  · have key : ¬ (zRow z = 8 * ra + rb ∧ zTile z < 8 * (k + 1) ∧ 8 * k ≤ zTile z) := by
      rintro ⟨h1, h2, h3⟩
      have hz1 : (z 1).val < 128 := (z 1).isLt
      have hz0 : (z 0).val < 6912 := (z 0).isLt
      refine hn (ValueIdx.ix2 (⟨zTile z - 8 * k, by omega⟩ : Fin 8) (⟨(z 1).val, hz1⟩ : Fin 128)) ?_
      funext x
      apply Fin.ext
      fin_cases x
      · show ring * 1728 + ra * 192 + rb + 64 * k + 8 * (zTile z - 8 * k) = (z 0).val
        unfold zSlot at hz; unfold zRow at h1; unfold zTile at h2 h3 ⊢; omega
      · show 0 + 1 * (z 1).val = (z 1).val; omega
    dsimp only at hd ⊢
    by_cases h : zRow z = 8 * ra + rb ∧ zTile z < 8 * k
    · rw [if_pos h, if_pos ⟨h.1, by omega⟩]; exact ⟨.inl h, rfl⟩
    · have h' : ¬ (zRow z = 8 * ra + rb ∧ zTile z < 8 * (k + 1)) := fun h' => by
        by_cases h3 : 8 * k ≤ zTile z
        · exact key ⟨h'.1, h'.2, h3⟩
        · exact h ⟨h'.1, by omega⟩
      rw [if_neg h, if_neg h']
      exact ⟨.inr (hd.resolve_left h'), rfl⟩
  iintro H8
  iapply HQ
  iframe
end step

theorem off453_eq (w : BitVec 32) (a b : ℕ) (hs : (Scalar.andi w 65535#32).toNat = a * 192 + b) : k0_off453 w = ![a * 192 + b + 64 * 0, 0] := by
  show ![(Scalar.addi (Scalar.andi w 65535#32) 0#32).toNat, 0] = _
  have : (Scalar.addi (Scalar.andi w 65535#32) 0#32) = Scalar.andi w 65535#32 := BitVec.add_zero _
  rw [this, hs]; rfl

theorem off455_eq (w : BitVec 32) (a b : ℕ) (ha : a < 256) (hb : b < 8) (hs : (Scalar.andi w 65535#32).toNat = a * 192 + b) (k : ℕ) (hk : k < 3) :
    k0_off455 w (BitVec.ofNat 32 (64 * k)) = ![a * 192 + b + 64 * k, 0] := by
  show ![(Scalar.addi (Scalar.andi w 65535#32) (BitVec.ofNat 32 (64 * k))).toNat, 0] = _
  rw [addi_toNat _ _ (by rw [hs, ofNat_toNat (by omega)]; omega), hs, ofNat_toNat (by omega)]

theorem off454_eq (v49 : BitVec 32) (h : v49.toNat ≤ 2048) (t4 : Fin k0_t4_loop.trips) (t15 : Fin (k0_t15_loop v49).trips) (d : BitVec 32)
    (ra rb : ℕ) (hra : ra < 9) (hrb : rb < 8) (hd : d.toNat = t15.val * 1536 + ra * 192 + rb) (k : ℕ) (hk : k < 3) :
    k0_off454 v49 t4 t15 d (BitVec.ofNat 32 (64 * k)) = ![ringN v49 t4 t15 * 1728 + ra * 192 + rb + 64 * k, 0] := by
  have ht := t15_lt v49 h t15
  have hk4 := lt_of_lt_of_eq t4.isLt t4_trips
  have hr := ringW_toNat v49 h t4 t15 hk4 (by omega)
  have hrl := ringN_lt v49 t4 t15
  have h1 : (Scalar.muli (Scalar.remsi (stepW v49 t4 t15) 4#32) 1728#32).toNat = ringN v49 t4 t15 * 1728 := by
    rw [muli_toNat _ _ (by rw [hr]; simp; omega), hr]; rfl
  have h2 : (Scalar.muli (Scf.iv 0#32 1#32 t15) 1536#32).toNat = t15.val * 1536 := by
    rw [muli_toNat _ _ (by rw [iv0_toNat _ (by omega)]; simp; omega), iv0_toNat _ (by omega)]; rfl
  show ![(Scalar.addi (Scalar.addi d (Scalar.subi (Scalar.muli (Scalar.remsi (stepW v49 t4 t15) 4#32) 1728#32) (Scalar.muli (Scf.iv 0#32 1#32 t15) 1536#32))) (BitVec.ofNat 32 (64 * k))).toNat, 0] = _
  generalize Scalar.muli (Scalar.remsi (stepW v49 t4 t15) 4#32) 1728#32 = A at h1
  generalize Scalar.muli (Scf.iv 0#32 1#32 t15) 1536#32 = B at h2
  have e : (Scalar.addi (Scalar.addi d (Scalar.subi A B)) (BitVec.ofNat 32 (64 * k))).toNat = ringN v49 t4 t15 * 1728 + ra * 192 + rb + 64 * k := by
    show ((d + (A - B)) + BitVec.ofNat 32 (64 * k)).toNat = _
    rw [BitVec.toNat_add, BitVec.toNat_add, BitVec.toNat_sub, h1, h2, hd, ofNat_toNat (by omega)]
    omega
  rw [e]

theorem chk4_ok (w : BitVec 32) (a b : ℕ) (ha : a < 256) (hb : b < 8) (hs : (Scalar.andi w 65535#32).toNat = a * 192 + b) : k0_chk4 w := by
  refine ⟨?_, fun r => ?_⟩
  · rw [off453_eq w a b hs]
    intro x; fin_cases x
    · right; show a * 192 + b + 64 * 0 + 8 * (8 - 1) < 49152; omega
    · right; show 0 + 1 * (128 - 1) < 128; omega
  · have hr := r.isLt
    rw [show 64 + 64 * r.val = 64 * (r.val + 1) by omega, off455_eq w a b ha hb hs (r.val + 1) (by omega)]
    intro x; fin_cases x
    · right; show a * 192 + b + 64 * (r.val + 1) + 8 * (8 - 1) < 49152; omega
    · right; show 0 + 1 * (128 - 1) < 128; omega

theorem chk5_ok (v49 : BitVec 32) (h : v49.toNat ≤ 2048) (t4 : Fin k0_t4_loop.trips) (t15 : Fin (k0_t15_loop v49).trips) (d : BitVec 32)
    (ra rb : ℕ) (hra : ra < 9) (hrb : rb < 8) (hd : d.toNat = t15.val * 1536 + ra * 192 + rb) : k0_chk5 v49 t4 t15 d := by
  intro r
  have hrl := ringN_lt v49 t4 t15
  have hr := r.isLt
  rw [off454_eq v49 h t4 t15 d ra rb hra hrb hd r.val (by omega)]
  intro x; fin_cases x
  · right; show ringN v49 t4 t15 * 1728 + ra * 192 + rb + 64 * r.val + 8 * (8 - 1) < 6912; omega
  · right; show 0 + 1 * (128 - 1) < 128; omega

/-- The flat views of the two buffers. -/
abbrev dqM (arg7 : Memref sig .tc .vmem S256x24x8x128 .f32) (harg7 : arg7.IsWhole) : Memref sig .tc .vmem S49152x128 .f32 :=
  arg7.reshape S49152x128 reshapes_S256x24x8x128_S49152x128.1 reshapes_S256x24x8x128_S49152x128.2 harg7.contiguous
abbrev stM (arg8 : Memref sig .tc .vmem S4x9x24x8x128 .f32) (harg8 : arg8.IsWhole) : Memref sig .tc .vmem S6912x128 .f32 :=
  arg8.reshape S6912x128 reshapes_S4x9x24x8x128_S6912x128.1 reshapes_S4x9x24x8x128_S6912x128.2 harg8.contiguous

/-- Reading one word whose value is known. -/
theorem smem_val {s : Shape} {e : EltTy} {m : Memref sig .tc .smem s e} {r : Rect s} {P : s.Idx → Prop} {q : PosShare TreeShare} {g : s.Idx → Elt F e} {v : Elt F e}
    {h1 : r.shape.numel = 1} {hp : e.packing = 1} {Q : Elt F e → sProp 𝕄}
    (hP : ∀ j, P (r.emb j)) (j : r.shape.Idx) (hv : g (r.emb j) = v) :
    Has c m P q g ⊢ iprop((Has c m P q g -∗ Q v) -∗ WP 𝒱 c (smemLoad m r h1 hp) Q) := by
  subst hv
  exact smem_rule 𝒱 hP j

/-- A table of 2176 words, read at an index. -/
def wordsAt (w : ℕ → BitVec 32) : S2176.Idx → Elt F .i32 := fun i => w (i 0).val

theorem tokStep_spec (v49 : BitVec 32) (h : v49.toNat ≤ 2048) (t4 : Fin k0_t4_loop.trips) (t15 : Fin (k0_t15_loop v49).trips)
    (op : Fin 1 → Nat) (hop : ∀ a, op a + S1.size a ≤ S2176.size a) (p : ℕ) (hp : op 0 = p) (sw dw : ℕ → BitVec 32) (a b ra rb : ℕ)
    (ha : a < 256) (hb : b < 8) (hs : (Scalar.andi (sw p) 65535#32).toNat = a * 192 + b)
    (hra : ra < 9) (hrb : rb < 8) (hd : (dw p).toNat = t15.val * 1536 + ra * 192 + rb)
    (X : ℕ → ℕ → ℕ → F .f32) (R : ℕ → ℕ → F .f32) (V : S6912x128.Idx → Elt F .f32) (D : S6912x128.Idx → Prop) {q7 q12 q13 : PosShare TreeShare}
    {Q : FVec F S8x128 .f32 × FVec F S8x128 .f32 × FVec F S8x128 .f32 → sProp 𝕄} :
    iprop(Own c arg12 q12 (wordsAt sw) ∗ Own c arg13 q13 (wordsAt dw)
        ∗ Own c (dqM arg7 harg7) q7 (dqFlat X) ∗ To c (stM arg8 harg8) (fun z => zSlot z = ringN v49 t4 t15) V D)
      ⊢ iprop((iprop(Own c arg12 q12 (wordsAt sw) ∗ Own c arg13 q13 (wordsAt dw)
        ∗ Own c (dqM arg7 harg7) q7 (dqFlat X) ∗ To c (stM arg8 harg8) (fun z => zSlot z = ringN v49 t4 t15)
          (fun z => if zRow z = 8 * ra + rb then tokNext (keepW (sw p)) R (X (8 * a + b)) (zTile z) (z 1).val else V z) (fun z => zRow z = 8 * ra + rb ∨ D z))
            -∗ Q (tri (tokNext (keepW (sw p)) R (X (8 * a + b)))))
        -∗ WP 𝒱 c (tokStep arg7 harg7 arg8 harg8 arg12 arg13 v49 t4 t15 op hop (tri R)) Q) := by
  unfold tokStep
  dsimp only
  rw [WP_bind]
  iintro ⟨H12, H13, H7, H8⟩ HQ
  have he : ∀ j : S1.Idx, ((Rect.unit (s := S2176) op S1.size hop).emb j 0 : ℕ) = p := by
    intro j
    rw [unit_emb, hp]
    have : (j 0).val < 1 := (j 0).isLt
    omega
  iapply (smem_val 𝒱 c (v := sw p) (fun _ => trivial) (ValueIdx.ix1 (0 : Fin 1)) (congrArg sw (he _))) $$ H12
  iintro H12
  rw [WP_bind]
  have hc4 := chk4_ok (sw p) a b ha hb hs
  iapply (assume_rule 𝒱 hc4)
  rw [WP_bind]
  iapply (smem_val 𝒱 c (v := dw p) (fun _ => trivial) (ValueIdx.ix1 (0 : Fin 1)) (congrArg dw (he _))) $$ H13
  iintro H13
  rw [WP_bind]
  have hc5 := chk5_ok v49 h t4 t15 (dw p) ra rb hra hrb hd
  iapply (assume_rule 𝒱 hc5)
  have hring := ringN_lt v49 t4 t15
  iapply (tokCol_spec 𝒱 c 0 (by decide) (ringN v49 t4 t15) a b ra rb hb hring hra hrb X (keepW (sw p)) R V D
    (off453_eq (sw p) a b hs) (off454_eq v49 h t4 t15 (dw p) ra rb hra hrb hd 0 (by decide))) $$ [H7 H8]
  · iframe
    iapply (To.mono c (fun z hz hd' => ⟨hd'.resolve_left (fun h => by omega), by rw [if_neg (fun h => by omega)]⟩)) $$ H8
  iintro ⟨H7, H8⟩
  iapply (tokCol_spec 𝒱 c 1 (by decide) (ringN v49 t4 t15) a b ra rb hb hring hra hrb X (keepW (sw p)) R V D
    (off455_eq (sw p) a b ha hb hs 1 (by decide)) (off454_eq v49 h t4 t15 (dw p) ra rb hra hrb hd 1 (by decide))) $$ [H7 H8]
  · iframe
  iintro ⟨H7, H8⟩
  iapply (tokCol_spec 𝒱 c 2 (by decide) (ringN v49 t4 t15) a b ra rb hb hring hra hrb X (keepW (sw p)) R V D
    (off455_eq (sw p) a b ha hb hs 2 (by decide)) (off454_eq v49 h t4 t15 (dw p) ra rb hra hrb hd 2 (by decide))) $$ [H7 H8]
  · iframe
  iintro ⟨H7, H8⟩
  iapply (WP_pure 𝒱 c)
  have er : tri (tokNext (keepW (sw p)) R (X (8 * a + b))) =
    (addf (Scalar.select (Scalar.cmpi .ne (Scalar.shrsi (sw p) 31#32) 0#32) (tri R).1 (broadcast S8x128 (FloatOps.ofBits FTy.f32 0#32))) (triA (X (8 * a + b)) 0),
     addf (Scalar.select (Scalar.cmpi .ne (Scalar.shrsi (sw p) 31#32) 0#32) (tri R).2.1 (broadcast S8x128 (FloatOps.ofBits FTy.f32 0#32))) (triA (X (8 * a + b)) 1),
     addf (Scalar.select (Scalar.cmpi .ne (Scalar.shrsi (sw p) 31#32) 0#32) (tri R).2.2 (broadcast S8x128 (FloatOps.ofBits FTy.f32 0#32))) (triA (X (8 * a + b)) 2)) := by
    show (_, _, _) = _
    rw [← tri_next, ← tri_next, ← tri_next]
    rfl
  rw [← er]
  iapply HQ
  iframe
  have ht : ∀ z, zTile z < 8 * (2 + 1) := fun z => by unfold zTile; omega
  iapply (To.mono c (fun z hz hd' => ⟨hd'.imp_left (fun h => ⟨h, ht z⟩), by
    dsimp only
    by_cases h : zRow z = 8 * ra + rb
    · rw [if_pos h, if_pos ⟨h, ht z⟩]
    · rw [if_neg h, if_neg (fun h' => h h'.1)]⟩)) $$ H8

end Cert.Kernel.Emb
-- ==== Proof.Kernel.TokLoop.lean ====
module

public import proofs.«01_k».proof.Proof.Kernel.TokSpec

@[expose] public section

noncomputable section

namespace Cert.Kernel.Emb

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]
local notation "𝕄" => MT nD τ sig Unit (Elt F) ℕ (UD sig nD τ) ℕ
variable (𝒱 : Variants) (c : Dev nD)
variable {arg0 : Memref sig .tc .smem S2049 .i32} {harg0 : arg0.IsWhole} {arg1 : Memref sig .tc .vmem S16x128 .i32} {harg1 : arg1.IsWhole} {arg2 : Memref sig .tc .vmem S2x1024 .i32} {harg2 : arg2.IsWhole} {arg3 : Memref sig .tc .vmem S2x1024 .f32} {harg3 : arg3.IsWhole} {arg4 : Memref sig .tc .hbm S2x1024x12288 .fp8e5m2} {harg4 : arg4.IsWhole} {arg5 : Memref sig .tc .hbm S256x96x8x128 .f32} {harg5 : arg5.IsWhole} {arg6 : Memref sig .tc .vmem S2x2048x3072 .fp8e5m2} {harg6 : arg6.IsWhole} {arg7 : Memref sig .tc .vmem S256x24x8x128 .f32} {harg7 : arg7.IsWhole} {arg8 : Memref sig .tc .vmem S4x9x24x8x128 .f32} {harg8 : arg8.IsWhole} {arg9 : Memref sig .tc .vmem S8x24x8x128 .f32} {harg9 : arg9.IsWhole} {arg10 : Memref sig .tc .vmem S2048x128 .f32} {harg10 : arg10.IsWhole} {arg11 : Memref sig .tc .vmem S2x17x128 .i32} {harg11 : arg11.IsWhole} {arg12 : Memref sig .tc .smem S2176 .i32} {harg12 : arg12.IsWhole} {arg13 : Memref sig .tc .smem S2176 .i32} {harg13 : arg13.IsWhole} {arg14 : DmaSems sig S2x8} {arg15 : DmaSems sig S4} {arg16 : DmaSems sig S_} {arg17 : DmaSems sig S_}

/-! # The accumulation loop of one block -/

/-- The first position of a block, as a word. -/
def p0W (v370 : BitVec 32) (b : ℕ) (v593 : BitVec 32) : BitVec 32 :=
  Scalar.maxsi v593 (Scalar.select (Scalar.cmpi .eq (Scf.iv 0#32 1#32 b) 0#32) (Scalar.subi v370 1#32) 0#32)
/-- The number of groups of eight positions, as a word. -/
def trW (v370 : BitVec 32) (b : ℕ) (v593 v602 : BitVec 32) : BitVec 32 :=
  fdivW (Scalar.subi (Scalar.addi (Scalar.subi v602 (p0W v370 b v593)) 8#32) 1#32) 8#32

section trips
variable (v49 v370 : BitVec 32) (t15 : Fin (k0_t15_loop v49).trips) (v593 v602 : BitVec 32) (p0 p1 : ℕ)
  (hp0 : (p0W v370 t15 v593).toNat = p0) (hp1 : v602.toNat = p1) (h01 : p0 ≤ p1) (h1 : p1 ≤ 2048)
include hp0 hp1 h01 h1

theorem trW_toNat : (trW v370 t15 v593 v602).toNat = (p1 - p0 + 7) / 8 := by
  have e1 := subi_toNat v602 (p0W v370 t15 v593) (by omega)
  have e2 : (Scalar.addi (Scalar.subi v602 (p0W v370 t15 v593)) 8#32).toNat = p1 - p0 + 8 := by
    rw [addi_toNat _ _ (by rw [e1]; simp; omega), e1, hp0, hp1]; rfl
  have e3 : (Scalar.subi (Scalar.addi (Scalar.subi v602 (p0W v370 t15 v593)) 8#32) 1#32).toNat = p1 - p0 + 7 := by
    rw [subi_toNat _ _ (by rw [e2]; simp), e2]; rfl
  unfold trW
  rw [fdivW_toNat _ _ (by omega) (by decide) (by decide), e3]; rfl

theorem t16_loop_eq : k0_t16_loop v49 v370 t15 v593 v602 = ⟨0#32, trW v370 t15 v593 v602, 1#32⟩ := by
  have ht := trW_toNat v49 v370 t15 v593 v602 p0 p1 hp0 hp1 h01 h1
  have := bound_eq 0#32 (trW v370 t15 v593 v602) (by omega) (Nat.zero_le _)
  exact congrArg (fun x => (⟨0#32, x, 1#32⟩ : Scf.Loop 32)) this

theorem t17_loop_eq : k0_t17_loop v49 v370 t15 v593 v602 = ⟨trW v370 t15 v593 v602, trW v370 t15 v593 v602, 1#32⟩ := by
  have ht := trW_toNat v49 v370 t15 v593 v602 p0 p1 hp0 hp1 h01 h1
  have h1 := bound_eq 0#32 (trW v370 t15 v593 v602) (by omega) (Nat.zero_le _)
  have h2 : Scalar.addi 0#32 (Scalar.subi (trW v370 t15 v593 v602) 0#32) = trW v370 t15 v593 v602 := by
    show 0#32 + (trW v370 t15 v593 v602 - 0#32) = _
    simp
  exact congrArg₂ (fun x y => (⟨x, y, 1#32⟩ : Scf.Loop 32)) h1 h2

theorem t16_trips : (k0_t16_loop v49 v370 t15 v593 v602).trips = (p1 - p0 + 7) / 8 := by
  have ht := trW_toNat v49 v370 t15 v593 v602 p0 p1 hp0 hp1 h01 h1
  rw [t16_loop_eq v49 v370 t15 v593 v602 p0 p1 hp0 hp1 h01 h1, ← ht]
  exact trips_zero_one _ (by show (trW v370 t15 v593 v602).toNat < _; omega)

theorem t17_trips : (k0_t17_loop v49 v370 t15 v593 v602).trips = 0 := by
  rw [t17_loop_eq v49 v370 t15 v593 v602 p0 p1 hp0 hp1 h01 h1]; exact trips_self _

theorem posW (t : ℕ) (ht : t < (p1 - p0 + 7) / 8) (j : ℕ) (hj : j < 8) :
    (Scalar.addi (Scalar.addi (p0W v370 t15 v593) (Scalar.muli (Scf.iv 0#32 1#32 t) 8#32)) (BitVec.ofNat 32 j)).toNat = p0 + (8 * t + j) := by
  have e1 : (Scalar.muli (Scf.iv 0#32 1#32 t) 8#32).toNat = t * 8 := by
    rw [muli_toNat _ _ (by rw [iv0_toNat _ (by omega)]; simp; omega), iv0_toNat _ (by omega)]; rfl
  have e2 : (Scalar.addi (p0W v370 t15 v593) (Scalar.muli (Scf.iv 0#32 1#32 t) 8#32)).toNat = p0 + t * 8 := by
    rw [addi_toNat _ _ (by rw [e1, hp0]; omega), e1, hp0]
  rw [addi_toNat _ _ (by rw [e2, ofNat_toNat (by omega)]; omega), e2, ofNat_toNat (by omega)]; omega

theorem off452_eq (t : Fin (k0_t16_loop v49 v370 t15 v593 v602).trips) : k0_off452 v49 v370 t15 v593 v602 t = ![p0 + (8 * t.val + 0)] := by
  have ht := lt_of_lt_of_eq t.isLt (t16_trips v49 v370 t15 v593 v602 p0 p1 hp0 hp1 h01 h1)
  rw [← posW v49 v370 t15 v593 v602 p0 p1 hp0 hp1 h01 h1 t ht 0 (by decide)]; rfl
theorem off456_eq (t : Fin (k0_t16_loop v49 v370 t15 v593 v602).trips) : k0_off456 v49 v370 t15 v593 v602 t = ![p0 + (8 * t.val + 1)] := by
  have ht := lt_of_lt_of_eq t.isLt (t16_trips v49 v370 t15 v593 v602 p0 p1 hp0 hp1 h01 h1)
  rw [← posW v49 v370 t15 v593 v602 p0 p1 hp0 hp1 h01 h1 t ht 1 (by decide)]; rfl
theorem off460_eq (t : Fin (k0_t16_loop v49 v370 t15 v593 v602).trips) : k0_off460 v49 v370 t15 v593 v602 t = ![p0 + (8 * t.val + 2)] := by
  have ht := lt_of_lt_of_eq t.isLt (t16_trips v49 v370 t15 v593 v602 p0 p1 hp0 hp1 h01 h1)
  rw [← posW v49 v370 t15 v593 v602 p0 p1 hp0 hp1 h01 h1 t ht 2 (by decide)]; rfl
theorem off464_eq (t : Fin (k0_t16_loop v49 v370 t15 v593 v602).trips) : k0_off464 v49 v370 t15 v593 v602 t = ![p0 + (8 * t.val + 3)] := by
  have ht := lt_of_lt_of_eq t.isLt (t16_trips v49 v370 t15 v593 v602 p0 p1 hp0 hp1 h01 h1)
  rw [← posW v49 v370 t15 v593 v602 p0 p1 hp0 hp1 h01 h1 t ht 3 (by decide)]; rfl
theorem off468_eq (t : Fin (k0_t16_loop v49 v370 t15 v593 v602).trips) : k0_off468 v49 v370 t15 v593 v602 t = ![p0 + (8 * t.val + 4)] := by
  have ht := lt_of_lt_of_eq t.isLt (t16_trips v49 v370 t15 v593 v602 p0 p1 hp0 hp1 h01 h1)
  rw [← posW v49 v370 t15 v593 v602 p0 p1 hp0 hp1 h01 h1 t ht 4 (by decide)]; rfl
theorem off472_eq (t : Fin (k0_t16_loop v49 v370 t15 v593 v602).trips) : k0_off472 v49 v370 t15 v593 v602 t = ![p0 + (8 * t.val + 5)] := by
  have ht := lt_of_lt_of_eq t.isLt (t16_trips v49 v370 t15 v593 v602 p0 p1 hp0 hp1 h01 h1)
  rw [← posW v49 v370 t15 v593 v602 p0 p1 hp0 hp1 h01 h1 t ht 5 (by decide)]; rfl
theorem off476_eq (t : Fin (k0_t16_loop v49 v370 t15 v593 v602).trips) : k0_off476 v49 v370 t15 v593 v602 t = ![p0 + (8 * t.val + 6)] := by
  have ht := lt_of_lt_of_eq t.isLt (t16_trips v49 v370 t15 v593 v602 p0 p1 hp0 hp1 h01 h1)
  rw [← posW v49 v370 t15 v593 v602 p0 p1 hp0 hp1 h01 h1 t ht 6 (by decide)]; rfl
theorem off480_eq (t : Fin (k0_t16_loop v49 v370 t15 v593 v602).trips) : k0_off480 v49 v370 t15 v593 v602 t = ![p0 + (8 * t.val + 7)] := by
  have ht := lt_of_lt_of_eq t.isLt (t16_trips v49 v370 t15 v593 v602 p0 p1 hp0 hp1 h01 h1)
  rw [← posW v49 v370 t15 v593 v602 p0 p1 hp0 hp1 h01 h1 t ht 7 (by decide)]; rfl

theorem pos_inb (n : ℕ) (h : n < p1 + 8) : ∀ a, (![n] : Fin 1 → ℕ) a + S1.size a ≤ S2176.size a := by
  intro a; fin_cases a; show n + 1 ≤ 2176; omega

theorem chk3_ok : k0_chk3 v49 v370 t15 v593 v602 := by
  have htr := trW_toNat v49 v370 t15 v593 v602 p0 p1 hp0 hp1 h01 h1
  have h16 := t16_trips v49 v370 t15 v593 v602 p0 p1 hp0 hp1 h01 h1
  have no17 : ∀ t : Fin (k0_t17_loop v49 v370 t15 v593 v602).trips, False := fun t => by
    have := lt_of_lt_of_eq t.isLt (t17_trips v49 v370 t15 v593 v602 p0 p1 hp0 hp1 h01 h1); omega
  refine ⟨?_, fun t => (off452_eq v49 v370 t15 v593 v602 p0 p1 hp0 hp1 h01 h1 t).symm ▸ pos_inb v49 v370 t15 v593 v602 p0 p1 hp0 hp1 h01 h1 _ (by have := lt_of_lt_of_eq t.isLt h16; omega), fun t => (off456_eq v49 v370 t15 v593 v602 p0 p1 hp0 hp1 h01 h1 t).symm ▸ pos_inb v49 v370 t15 v593 v602 p0 p1 hp0 hp1 h01 h1 _ (by have := lt_of_lt_of_eq t.isLt h16; omega), fun t => (off460_eq v49 v370 t15 v593 v602 p0 p1 hp0 hp1 h01 h1 t).symm ▸ pos_inb v49 v370 t15 v593 v602 p0 p1 hp0 hp1 h01 h1 _ (by have := lt_of_lt_of_eq t.isLt h16; omega), fun t => (off464_eq v49 v370 t15 v593 v602 p0 p1 hp0 hp1 h01 h1 t).symm ▸ pos_inb v49 v370 t15 v593 v602 p0 p1 hp0 hp1 h01 h1 _ (by have := lt_of_lt_of_eq t.isLt h16; omega), fun t => (off468_eq v49 v370 t15 v593 v602 p0 p1 hp0 hp1 h01 h1 t).symm ▸ pos_inb v49 v370 t15 v593 v602 p0 p1 hp0 hp1 h01 h1 _ (by have := lt_of_lt_of_eq t.isLt h16; omega), fun t => (off472_eq v49 v370 t15 v593 v602 p0 p1 hp0 hp1 h01 h1 t).symm ▸ pos_inb v49 v370 t15 v593 v602 p0 p1 hp0 hp1 h01 h1 _ (by have := lt_of_lt_of_eq t.isLt h16; omega), fun t => (off476_eq v49 v370 t15 v593 v602 p0 p1 hp0 hp1 h01 h1 t).symm ▸ pos_inb v49 v370 t15 v593 v602 p0 p1 hp0 hp1 h01 h1 _ (by have := lt_of_lt_of_eq t.isLt h16; omega), fun t => (off480_eq v49 v370 t15 v593 v602 p0 p1 hp0 hp1 h01 h1 t).symm ▸ pos_inb v49 v370 t15 v593 v602 p0 p1 hp0 hp1 h01 h1 _ (by have := lt_of_lt_of_eq t.isLt h16; omega), ?_, ?_⟩
  · rw [t16_loop_eq v49 v370 t15 v593 v602 p0 p1 hp0 hp1 h01 h1]; exact loop_ok _ _ (by omega) (Nat.zero_le _)
  · rw [t17_loop_eq v49 v370 t15 v593 v602 p0 p1 hp0 hp1 h01 h1]; exact loop_ok _ _ (by omega) (le_refl _)
  · refine ⟨fun t => (no17 t).elim, fun t => (no17 t).elim, fun t => (no17 t).elim, fun t => (no17 t).elim, fun t => (no17 t).elim, fun t => (no17 t).elim, fun t => (no17 t).elim, fun t => (no17 t).elim⟩
end trips

/-- The accumulator after `m` positions from `p0`. -/
def accT (sw : ℕ → BitVec 32) (tk : ℕ → ℕ) (X : ℕ → ℕ → ℕ → F .f32) (p0 : ℕ) : ℕ → ℕ → ℕ → F .f32
  | 0 => fun _ _ => Scalar.ofBits .f32 0x00000000#32
  | m + 1 => tokNext (keepW (sw (p0 + m))) (accT sw tk X p0 m) (X (tk (p0 + m)))

/-- A slot of the accumulation buffer after `m` positions. -/
def stV (sw : ℕ → BitVec 32) (tk lc : ℕ → ℕ) (X : ℕ → ℕ → ℕ → F .f32) (p0 : ℕ) (V0 : S6912x128.Idx → Elt F .f32) : ℕ → S6912x128.Idx → Elt F .f32
  | 0 => V0
  | m + 1 => fun z => if zRow z = lc (p0 + m) then accT sw tk X p0 (m + 1) (zTile z) (z 1).val else stV sw tk lc X p0 V0 m z
def stD (lc : ℕ → ℕ) (p0 : ℕ) (D0 : S6912x128.Idx → Prop) : ℕ → S6912x128.Idx → Prop
  | 0 => D0
  | m + 1 => fun z => zRow z = lc (p0 + m) ∨ stD lc p0 D0 m z

/-- What the two words of a position say, for block `b`: the token, and the row within the block's slot. -/
def PosOk (sw dw : ℕ → BitVec 32) (tk lc : ℕ → ℕ) (b q : ℕ) : Prop :=
  tk q < 2048 ∧ (Scalar.andi (sw q) 65535#32).toNat = tk q / 8 * 192 + tk q % 8 ∧ lc q < 72 ∧ (dw q).toNat = b * 1536 + lc q / 8 * 192 + lc q % 8

def TokS (arg7 : Memref sig .tc .vmem S256x24x8x128 .f32) (harg7 : arg7.IsWhole) (arg8 : Memref sig .tc .vmem S4x9x24x8x128 .f32) (harg8 : arg8.IsWhole)
    (arg12 : Memref sig .tc .smem S2176 .i32) (arg13 : Memref sig .tc .smem S2176 .i32) (sw dw : ℕ → BitVec 32) (X : ℕ → ℕ → ℕ → F .f32) (ring : ℕ)
    (V : S6912x128.Idx → Elt F .f32) (D : S6912x128.Idx → Prop) : sProp 𝕄 :=
  iprop(Own c arg12 fullShare (wordsAt sw) ∗ Own c arg13 fullShare (wordsAt dw) ∗ Own c (dqM arg7 harg7) fullShare (dqFlat X) ∗ To c (stM arg8 harg8) (fun z => zSlot z = ring) V D)

theorem tokStep_spec' (v49 : BitVec 32) (h : v49.toNat ≤ 2048) (t4 : Fin k0_t4_loop.trips) (t15 : Fin (k0_t15_loop v49).trips)
    (sw dw : ℕ → BitVec 32) (tk lc : ℕ → ℕ) (X : ℕ → ℕ → ℕ → F .f32) (p0 m : ℕ) (V0 : S6912x128.Idx → Elt F .f32) (D0 : S6912x128.Idx → Prop)
    (hq : PosOk sw dw tk lc t15 (p0 + m)) (op : Fin 1 → Nat) (hop : ∀ a, op a + S1.size a ≤ S2176.size a) (hp : op = ![p0 + m])
    {Q : FVec F S8x128 .f32 × FVec F S8x128 .f32 × FVec F S8x128 .f32 → sProp 𝕄} :
    TokS c arg7 harg7 arg8 harg8 arg12 arg13 sw dw X (ringN v49 t4 t15) (stV sw tk lc X p0 V0 m) (stD lc p0 D0 m)
      ⊢ iprop((TokS c arg7 harg7 arg8 harg8 arg12 arg13 sw dw X (ringN v49 t4 t15) (stV sw tk lc X p0 V0 (m + 1)) (stD lc p0 D0 (m + 1)) -∗ Q (tri (accT sw tk X p0 (m + 1))))
        -∗ WP 𝒱 c (tokStep arg7 harg7 arg8 harg8 arg12 arg13 v49 t4 t15 op hop (tri (accT sw tk X p0 m))) Q) := by
  obtain ⟨h1, h2, h3, h4⟩ := hq
  have e1 : 8 * (tk (p0 + m) / 8) + tk (p0 + m) % 8 = tk (p0 + m) := by omega
  have e2 : 8 * (lc (p0 + m) / 8) + lc (p0 + m) % 8 = lc (p0 + m) := by omega
  have := tokStep_spec 𝒱 c (arg7 := arg7) (harg7 := harg7) (arg8 := arg8) (harg8 := harg8) (arg12 := arg12) (arg13 := arg13) v49 h t4 t15 op hop (p0 + m) (by rw [hp]; rfl) sw dw
    (tk (p0 + m) / 8) (tk (p0 + m) % 8) (lc (p0 + m) / 8) (lc (p0 + m) % 8) (by omega) (by omega) h2 (by omega) (by omega) h4 X (accT sw tk X p0 m)
    (stV sw tk lc X p0 V0 m) (stD lc p0 D0 m) (q7 := fullShare) (q12 := fullShare) (q13 := fullShare) (Q := Q)
  rw [e1, e2] at this
  exact this

theorem tokLoop_spec (v49 : BitVec 32) (h : v49.toNat ≤ 2048) (v370 : BitVec 32) (t4 : Fin k0_t4_loop.trips) (t15 : Fin (k0_t15_loop v49).trips)
    (v593 v597 v602 : BitVec 32) (p0 p1 : ℕ) (hp0 : (p0W v370 t15 v593).toNat = p0) (hp1 : v602.toNat = p1) (h01 : p0 ≤ p1) (h1 : p1 ≤ 2048)
    (hw3 : k0_chk3 v49 v370 t15 v593 v602) (v605 : BitVec 32) (v606 : FVec F S8x128 .f32) (c0 c1 : BitVec 32)
    (sw dw : ℕ → BitVec 32) (tk lc : ℕ → ℕ) (X : ℕ → ℕ → ℕ → F .f32) (V0 : S6912x128.Idx → Elt F .f32) (D0 : S6912x128.Idx → Prop)
    (hq : ∀ q, p0 ≤ q → q < p0 + 8 * ((p1 - p0 + 7) / 8) → PosOk sw dw tk lc t15 q)
    (ok : (k0_t16_loop v49 v370 t15 v593 v602).OK)
    (body : Fin (k0_t16_loop v49 v370 t15 v593 v602).trips → FVec F S8x128 .f32 × FVec F S8x128 .f32 × FVec F S8x128 .f32 → Prog (TpuEff nD τ sig (Elt F) Λ₀ .tc) (FVec F S8x128 .f32 × FVec F S8x128 .f32 × FVec F S8x128 .f32))
    (hb : ∀ t acc, body t acc = k0_t16_body arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v49 v370 t4 t15 v593 v597 v602 hw3 v605 v606 c0 c1 t acc)
    {Q : FVec F S8x128 .f32 × FVec F S8x128 .f32 × FVec F S8x128 .f32 → sProp 𝕄} :
    TokS c arg7 harg7 arg8 harg8 arg12 arg13 sw dw X (ringN v49 t4 t15) V0 D0
      ⊢ iprop((∀ acc, TokS c arg7 harg7 arg8 harg8 arg12 arg13 sw dw X (ringN v49 t4 t15) (stV sw tk lc X p0 V0 (8 * ((p1 - p0 + 7) / 8))) (stD lc p0 D0 (8 * ((p1 - p0 + 7) / 8))) -∗ Q acc)
        -∗ WP 𝒱 c (Scf.Loop.for (k0_t16_loop v49 v370 t15 v593 v602) ok (broadcast S8x128 (Scalar.ofBits .f32 0x00000000#32), broadcast S8x128 (Scalar.ofBits .f32 0x00000000#32), broadcast S8x128 (Scalar.ofBits .f32 0x00000000#32)) body) Q) := by
  have htr := t16_trips v49 v370 t15 v593 v602 p0 p1 hp0 hp1 h01 h1
  iintro H HQ
  iapply (loop_rule 𝒱 c (k0_t16_loop v49 v370 t15 v593 v602) ok _ body
    (fun k acc => iprop(⌜acc = tri (accT sw tk X p0 (8 * k))⌝ ∗ TokS c arg7 harg7 arg8 harg8 arg12 arg13 sw dw X (ringN v49 t4 t15) (stV sw tk lc X p0 V0 (8 * k)) (stD lc p0 D0 (8 * k)))) ?_) $$ [H]
  · intro k acc
    have hk := lt_of_lt_of_eq k.isLt htr
    have hqk : ∀ j, j < 8 → PosOk sw dw tk lc t15 (p0 + (8 * k.val + j)) := fun j hj => hq _ (by omega) (by omega)
    iintro ⟨%ha, H⟩
    subst ha
    rw [hb]
    unfold tri
    rw [t16_body_eq]
    rw [show (triA (accT sw tk X p0 (8 * k.val)) 0, triA (accT sw tk X p0 (8 * k.val)) 1, triA (accT sw tk X p0 (8 * k.val)) 2) = tri (accT sw tk X p0 (8 * k.val)) from rfl]
    rw [WP_bind]
    iapply (tokStep_spec' 𝒱 c v49 h t4 t15 sw dw tk lc X p0 (8 * k.val + 0) V0 D0 (hqk 0 (by decide)) _ _ (off452_eq v49 v370 t15 v593 v602 p0 p1 hp0 hp1 h01 h1 k)) $$ H
    iintro H
    rw [WP_bind]
    iapply (tokStep_spec' 𝒱 c v49 h t4 t15 sw dw tk lc X p0 (8 * k.val + 1) V0 D0 (hqk 1 (by decide)) _ _ (off456_eq v49 v370 t15 v593 v602 p0 p1 hp0 hp1 h01 h1 k)) $$ H
    iintro H
    rw [WP_bind]
    iapply (tokStep_spec' 𝒱 c v49 h t4 t15 sw dw tk lc X p0 (8 * k.val + 2) V0 D0 (hqk 2 (by decide)) _ _ (off460_eq v49 v370 t15 v593 v602 p0 p1 hp0 hp1 h01 h1 k)) $$ H
    iintro H
    rw [WP_bind]
    iapply (tokStep_spec' 𝒱 c v49 h t4 t15 sw dw tk lc X p0 (8 * k.val + 3) V0 D0 (hqk 3 (by decide)) _ _ (off464_eq v49 v370 t15 v593 v602 p0 p1 hp0 hp1 h01 h1 k)) $$ H
    iintro H
    rw [WP_bind]
    iapply (tokStep_spec' 𝒱 c v49 h t4 t15 sw dw tk lc X p0 (8 * k.val + 4) V0 D0 (hqk 4 (by decide)) _ _ (off468_eq v49 v370 t15 v593 v602 p0 p1 hp0 hp1 h01 h1 k)) $$ H
    iintro H
    rw [WP_bind]
    iapply (tokStep_spec' 𝒱 c v49 h t4 t15 sw dw tk lc X p0 (8 * k.val + 5) V0 D0 (hqk 5 (by decide)) _ _ (off472_eq v49 v370 t15 v593 v602 p0 p1 hp0 hp1 h01 h1 k)) $$ H
    iintro H
    rw [WP_bind]
    iapply (tokStep_spec' 𝒱 c v49 h t4 t15 sw dw tk lc X p0 (8 * k.val + 6) V0 D0 (hqk 6 (by decide)) _ _ (off476_eq v49 v370 t15 v593 v602 p0 p1 hp0 hp1 h01 h1 k)) $$ H
    iintro H
    rw [WP_bind]
    iapply (tokStep_spec' 𝒱 c v49 h t4 t15 sw dw tk lc X p0 (8 * k.val + 7) V0 D0 (hqk 7 (by decide)) _ _ (off480_eq v49 v370 t15 v593 v602 p0 p1 hp0 hp1 h01 h1 k)) $$ H
    iintro H
    iapply (WP_pure 𝒱 c)
    isplitr [H]
    · ipureintro; rfl
    · iexact H
  · isplitr [H]
    · ipureintro; rfl
    · iexact H
  iintro %acc ⟨%ha, H⟩
  rw [htr]
  iapply HQ
  iexact H

end Cert.Kernel.Emb
-- ==== Proof.Kernel.Bisect.lean ====
module

public import proofs.«01_k».proof.Proof.Kernel.Words

@[expose] public section

noncomputable section

namespace Cert.Kernel.Emb

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]
local notation "𝕄" => MT nD τ sig Unit (Elt F) ℕ (UD sig nD τ) ℕ
variable (𝒱 : Variants) (c : Dev nD)
variable {arg0 : Memref sig .tc .smem S2049 .i32} {harg0 : arg0.IsWhole} {arg1 : Memref sig .tc .vmem S16x128 .i32} {harg1 : arg1.IsWhole} {arg2 : Memref sig .tc .vmem S2x1024 .i32} {harg2 : arg2.IsWhole} {arg3 : Memref sig .tc .vmem S2x1024 .f32} {harg3 : arg3.IsWhole} {arg4 : Memref sig .tc .hbm S2x1024x12288 .fp8e5m2} {harg4 : arg4.IsWhole} {arg5 : Memref sig .tc .hbm S256x96x8x128 .f32} {harg5 : arg5.IsWhole} {arg6 : Memref sig .tc .vmem S2x2048x3072 .fp8e5m2} {harg6 : arg6.IsWhole} {arg7 : Memref sig .tc .vmem S256x24x8x128 .f32} {harg7 : arg7.IsWhole} {arg8 : Memref sig .tc .vmem S4x9x24x8x128 .f32} {harg8 : arg8.IsWhole} {arg9 : Memref sig .tc .vmem S8x24x8x128 .f32} {harg9 : arg9.IsWhole} {arg10 : Memref sig .tc .vmem S2048x128 .f32} {harg10 : arg10.IsWhole} {arg11 : Memref sig .tc .vmem S2x17x128 .i32} {harg11 : arg11.IsWhole} {arg12 : Memref sig .tc .smem S2176 .i32} {harg12 : arg12.IsWhole} {arg13 : Memref sig .tc .smem S2176 .i32} {harg13 : arg13.IsWhole} {arg14 : DmaSems sig S2x8} {arg15 : DmaSems sig S4} {arg16 : DmaSems sig S_} {arg17 : DmaSems sig S_}

/-! # The bisection -/

/-- The first trip index at which the offsets reach 2048. -/
structure IsNu (so : ℕ → BitVec 32) (nu : ℕ) : Prop where
  le : nu ≤ 2048
  lt : ∀ i, i < nu → (so i).toNat < 2048
  ge : ∀ i, nu ≤ i → i ≤ 2048 → 2048 ≤ (so i).toNat
  pos : ∀ i, i ≤ 2048 → (so i).toNat < 2147483648

/-- What the bisection carries before trip `k`. -/
def BisInv (nu k : ℕ) (p : BitVec 32 × BitVec 32) : Prop :=
  p.1.toNat ≤ nu ∧ nu ≤ p.2.toNat ∧ p.2.toNat ≤ 2048 ∧ p.2.toNat - p.1.toNat ≤ 2048 / 2 ^ k

theorem mid_toNat (a b : BitVec 32) (ha : a.toNat ≤ 2048) (hb : b.toNat ≤ 2048) :
    k0_off1 a b 0 = (a.toNat + b.toNat) / 2 := by
  show (fdivW (Scalar.addi a b) 2#32).toNat = _
  have h := addi_toNat a b (by omega)
  rw [fdivW_toNat _ _ (by omega) (by decide) (by decide), h]; rfl

theorem bisect_spec (nu : ℕ) (X0 : BufTy.Contents (Elt F) arg0.view.ty) (so : ℕ → BitVec 32)
    (hso : ∀ i : S2049.Idx, arg0.view.read (Elt F) X0 i = so (i 0).val) (hnu : IsNu so nu) :
    (arg0.view.loc (c : Thread nD τ) ↦[arg0.view.set]{fullShare} X0 : sProp 𝕄)
    ⊢ wp frame (wpE (defs₀ (F := F)) 𝒱 (c : Thread nD τ) none) Set.univ
      (k0_part150 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 0#32 2048#32 0#32 1#32)
      (fun v => iprop(⌜v = BitVec.ofNat 32 nu⌝ ∗ (arg0.view.loc (c : Thread nD τ) ↦[arg0.view.set]{fullShare} X0))) := by
  simp only [k0_part150_eq_skeleton]; unfold k0_part150_skel
  iintro H
  iapply (Scf.wp_for_bind frame (wpE (defs₀ (F := F)) 𝒱 (c : Thread nD τ) none) Set.univ _ _ _ k0_t1_ok _ _
    (fun k acc => iprop(⌜BisInv nu k acc⌝ ∗ (arg0.view.loc (c : Thread nD τ) ↦[arg0.view.set]{fullShare} X0))) ?trip) $$ [H]
  case trip =>
    intro k acc
    obtain ⟨lo, hi⟩ := acc
    unfold k0_t1_body
    iintro ⟨%hI, H⟩
    have hchk : k0_chk1 lo hi := by
      intro i
      obtain ⟨h1, h2, h3, h4⟩ := hI
      have h5 : lo.toNat ≤ 2048 := le_trans h1 hnu.le
      have h6 : hi.toNat ≤ 2048 := h3
      fin_cases i
      show k0_off1 lo hi 0 < 2049
      rw [mid_toNat lo hi h5 h3]; omega
    sl_exec
    sl_step
    iframe
    ipureintro
    unfold bisect_spec.sl.v519 bisect_spec.sl.v520 bisect_spec.sl.v517
    have hr : bisect_spec.sl.r X0 lo hi hchk = so (k0_off1 lo hi 0) := by
      refine (hso _).trans (congrArg so ?_)
      exact Nat.add_zero _
    obtain ⟨h1, h2, h3, h4⟩ := hI
    have h1' : lo.toNat ≤ nu := h1
    have h2' : nu ≤ hi.toNat := h2
    have h3' : hi.toNat ≤ 2048 := h3
    have h4' : hi.toNat - lo.toNat ≤ 2048 / 2 ^ k.val := h4
    have hm := mid_toNat lo hi (by omega) h3'
    have hv : (bisect_spec.sl.v514 lo hi).toNat = k0_off1 lo hi 0 := rfl
    have hp : 2048 / 2 ^ (k.val + 1) = 2048 / 2 ^ k.val / 2 := by rw [pow_succ, Nat.div_div_eq_div_mul]
    have hs := hnu.pos (k0_off1 lo hi 0) (by omega)
    have h8 : (bisect_spec.sl.v518 lo hi).toNat = k0_off1 lo hi 0 + 1 := by
      have := addi_toNat (bisect_spec.sl.v514 lo hi) 1#32 (by rw [hv, hm]; simp; omega)
      rw [hv] at this; exact this
    rw [hr]
    have hc : Scalar.cmpi .sge (so (k0_off1 lo hi 0)) 2048#32 = BitVec.ofBool (decide (2048 ≤ (so (k0_off1 lo hi 0)).toNat)) := by
      show BitVec.ofBool ((2048#32).sle _) = _
      rw [sle_small _ _ (by decide) hs]; rfl
    rw [hc, select_ofBool, select_ofBool]
    have hlt := hnu.lt (k0_off1 lo hi 0)
    have hge := hnu.ge (k0_off1 lo hi 0)
    unfold BisInv
    rw [hp]
    by_cases hd : 2048 ≤ (so (k0_off1 lo hi 0)).toNat
    · simp only [decide_eq_true hd, if_true]
      rw [hv]; omega
    · simp only [decide_eq_false hd, Bool.false_eq_true, if_false]
      rw [h8]; omega
  · iframe
    ipureintro
    exact ⟨Nat.zero_le _, hnu.le, le_refl _, by decide⟩
  · iintro %acc ⟨%hI, H⟩
    obtain ⟨lo, hi⟩ := acc
    have hI' : BisInv nu 12 (lo, hi) := hI
    dsimp only
    sl_step
    iframe
    ipureintro
    obtain ⟨h1, h2, h3, h4⟩ := hI'
    have h4' : hi.toNat - lo.toNat ≤ 0 := h4
    have hle := hnu.le
    apply BitVec.eq_of_toNat_eq
    rw [ofNat_toNat (by omega)]
    show lo.toNat = nu
    have h1' : lo.toNat ≤ nu := h1
    have h2' : nu ≤ hi.toNat := h2
    omega

end Cert.Kernel.Emb
-- ==== Proof.Kernel.Count.lean ====
module

public import proofs.«01_k».proof.Proof.Kernel.Chk
public import proofs.«01_k».proof.Proof.Kernel.Bisect

@[expose] public section

noncomputable section

namespace Cert.Kernel.Emb

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]
local notation "𝕄" => MT nD τ sig Unit (Elt F) ℕ (UD sig nD τ) ℕ
variable (𝒱 : Variants) (c : Dev nD)
variable {arg0 : Memref sig .tc .smem S2049 .i32} {harg0 : arg0.IsWhole} {arg1 : Memref sig .tc .vmem S16x128 .i32} {harg1 : arg1.IsWhole} {arg2 : Memref sig .tc .vmem S2x1024 .i32} {harg2 : arg2.IsWhole} {arg3 : Memref sig .tc .vmem S2x1024 .f32} {harg3 : arg3.IsWhole} {arg4 : Memref sig .tc .hbm S2x1024x12288 .fp8e5m2} {harg4 : arg4.IsWhole} {arg5 : Memref sig .tc .hbm S256x96x8x128 .f32} {harg5 : arg5.IsWhole} {arg6 : Memref sig .tc .vmem S2x2048x3072 .fp8e5m2} {harg6 : arg6.IsWhole} {arg7 : Memref sig .tc .vmem S256x24x8x128 .f32} {harg7 : arg7.IsWhole} {arg8 : Memref sig .tc .vmem S4x9x24x8x128 .f32} {harg8 : arg8.IsWhole} {arg9 : Memref sig .tc .vmem S8x24x8x128 .f32} {harg9 : arg9.IsWhole} {arg10 : Memref sig .tc .vmem S2048x128 .f32} {harg10 : arg10.IsWhole} {arg11 : Memref sig .tc .vmem S2x17x128 .i32} {harg11 : arg11.IsWhole} {arg12 : Memref sig .tc .smem S2176 .i32} {harg12 : arg12.IsWhole} {arg13 : Memref sig .tc .smem S2176 .i32} {harg13 : arg13.IsWhole} {arg14 : DmaSems sig S2x8} {arg15 : DmaSems sig S4} {arg16 : DmaSems sig S_} {arg17 : DmaSems sig S_}

/-! # The counting loop: for every position, how many offsets it has reached -/

/-- One less than the number of the first `m` offsets that `x` has reached, as a word. -/
def cntW (so : ℕ → BitVec 32) (x : BitVec 32) : ℕ → BitVec 32
  | 0 => 4294967295#32
  | m + 1 => IntOp.addi (cntW so x m) ((IntOp.cmpi .sge x (so m)).setWidth 32)

theorem count_spec (v49 : BitVec 32) (h49 : v49.toNat ≤ 2048) (hw2 : k0_chk2 v49) (X0 : BufTy.Contents (Elt F) arg0.view.ty) (so : ℕ → BitVec 32)
    (hso : ∀ i : S2049.Idx, arg0.view.read (Elt F) X0 i = so (i 0).val) (v77 : IVec S16x128 32) :
    (arg0.view.loc (c : Thread nD τ) ↦[arg0.view.set]{fullShare} X0 : sProp 𝕄)
    ⊢ wp frame (wpE (defs₀ (F := F)) 𝒱 (c : Thread nD τ) none) Set.univ
      (k0_part153 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v49 hw2 v77 k0_pay439 0#32 1#32)
      (fun v => iprop(⌜∀ i, v i = cntW so (v77 i) ((v49.toNat + 15) / 16 * 16)⌝ ∗ (arg0.view.loc (c : Thread nD τ) ↦[arg0.view.set]{fullShare} X0))) := by
  simp only [k0_part153_eq_skeleton]; unfold k0_part153_skel
  iintro H
  iapply (Scf.wp_for frame (wpE (defs₀ (F := F)) 𝒱 (c : Thread nD τ) none) Set.univ _ _ _ (k0_t2_ok v49 hw2) _ _
    (fun k acc => iprop(⌜∀ i, acc i = cntW so (v77 i) (k * 16)⌝ ∗ (arg0.view.loc (c : Thread nD τ) ↦[arg0.view.set]{fullShare} X0))) ?trip)
  case trip =>
    intro k acc
    unfold k0_t2_body
    iintro ⟨%hI, H⟩
    sl_exec
    sl_step
    iframe
    ipureintro
    have e0 : count_spec.sl.r v49 hw2 X0 k = so (k.val * 16 + 0) :=
      (hso _).trans (congrArg so ((Nat.add_zero _).trans (off2_eq v49 h49 k 0 (by decide))))
    have e1 : count_spec.sl.r_1 v49 hw2 X0 k = so (k.val * 16 + 1) :=
      (hso _).trans (congrArg so ((Nat.add_zero _).trans (off2_eq v49 h49 k 1 (by decide))))
    have e2 : count_spec.sl.r_2 v49 hw2 X0 k = so (k.val * 16 + 2) :=
      (hso _).trans (congrArg so ((Nat.add_zero _).trans (off2_eq v49 h49 k 2 (by decide))))
    have e3 : count_spec.sl.r_3 v49 hw2 X0 k = so (k.val * 16 + 3) :=
      (hso _).trans (congrArg so ((Nat.add_zero _).trans (off2_eq v49 h49 k 3 (by decide))))
    have e4 : count_spec.sl.r_4 v49 hw2 X0 k = so (k.val * 16 + 4) :=
      (hso _).trans (congrArg so ((Nat.add_zero _).trans (off2_eq v49 h49 k 4 (by decide))))
    have e5 : count_spec.sl.r_5 v49 hw2 X0 k = so (k.val * 16 + 5) :=
      (hso _).trans (congrArg so ((Nat.add_zero _).trans (off2_eq v49 h49 k 5 (by decide))))
    have e6 : count_spec.sl.r_6 v49 hw2 X0 k = so (k.val * 16 + 6) :=
      (hso _).trans (congrArg so ((Nat.add_zero _).trans (off2_eq v49 h49 k 6 (by decide))))
    have e7 : count_spec.sl.r_7 v49 hw2 X0 k = so (k.val * 16 + 7) :=
      (hso _).trans (congrArg so ((Nat.add_zero _).trans (off2_eq v49 h49 k 7 (by decide))))
    have e8 : count_spec.sl.r_8 v49 hw2 X0 k = so (k.val * 16 + 8) :=
      (hso _).trans (congrArg so ((Nat.add_zero _).trans (off2_eq v49 h49 k 8 (by decide))))
    have e9 : count_spec.sl.r_9 v49 hw2 X0 k = so (k.val * 16 + 9) :=
      (hso _).trans (congrArg so ((Nat.add_zero _).trans (off2_eq v49 h49 k 9 (by decide))))
    have e10 : count_spec.sl.r_10 v49 hw2 X0 k = so (k.val * 16 + 10) :=
      (hso _).trans (congrArg so ((Nat.add_zero _).trans (off2_eq v49 h49 k 10 (by decide))))
    have e11 : count_spec.sl.r_11 v49 hw2 X0 k = so (k.val * 16 + 11) :=
      (hso _).trans (congrArg so ((Nat.add_zero _).trans (off2_eq v49 h49 k 11 (by decide))))
    have e12 : count_spec.sl.r_12 v49 hw2 X0 k = so (k.val * 16 + 12) :=
      (hso _).trans (congrArg so ((Nat.add_zero _).trans (off2_eq v49 h49 k 12 (by decide))))
    have e13 : count_spec.sl.r_13 v49 hw2 X0 k = so (k.val * 16 + 13) :=
      (hso _).trans (congrArg so ((Nat.add_zero _).trans (off2_eq v49 h49 k 13 (by decide))))
    have e14 : count_spec.sl.r_14 v49 hw2 X0 k = so (k.val * 16 + 14) :=
      (hso _).trans (congrArg so ((Nat.add_zero _).trans (off2_eq v49 h49 k 14 (by decide))))
    have e15 : count_spec.sl.r_15 v49 hw2 X0 k = so (k.val * 16 + 15) :=
      (hso _).trans (congrArg so ((Nat.add_zero _).trans (off2_eq v49 h49 k 15 (by decide))))
    intro i
    show k0_pay440 v77 (k0_pay3 v77 (k0_pay1 v77 acc (count_spec.sl.r v49 hw2 X0 k) (count_spec.sl.r_1 v49 hw2 X0 k) (count_spec.sl.r_2 v49 hw2 X0 k) (count_spec.sl.r_3 v49 hw2 X0 k) (count_spec.sl.r_4 v49 hw2 X0 k)) (k0_pay2 v77 (count_spec.sl.r_5 v49 hw2 X0 k)) (count_spec.sl.r_6 v49 hw2 X0 k) (count_spec.sl.r_7 v49 hw2 X0 k) (count_spec.sl.r_8 v49 hw2 X0 k) (count_spec.sl.r_9 v49 hw2 X0 k) (count_spec.sl.r_10 v49 hw2 X0 k)) (k0_pay4 v77 (count_spec.sl.r_11 v49 hw2 X0 k)) (count_spec.sl.r_12 v49 hw2 X0 k) (count_spec.sl.r_13 v49 hw2 X0 k) (count_spec.sl.r_14 v49 hw2 X0 k) (count_spec.sl.r_15 v49 hw2 X0 k) i = _
    rw [show (k.val + 1) * 16 = k.val * 16 + 16 by omega]
    rw [e0, e1, e2, e3, e4, e5, e6, e7, e8, e9, e10, e11, e12, e13, e14, e15]
    simp only [cntW]
    rw [← hI i]
    rfl
  isplitl [H]
  · iframe
    ipureintro
    intro i; rfl
  · iintro %acc ⟨%hI, H⟩
    iframe
    ipureintro
    intro i
    rw [← t2_trips v49 h49]
    exact hI i

end Cert.Kernel.Emb
-- ==== Proof.Kernel.BlkProg.lean ====
module

public import proofs.«01_k».proof.Proof.Kernel.TokLoop
public import proofs.«01_k».proof.Proof.Kernel.Count

@[expose] public section

noncomputable section

namespace Cert.Kernel.Emb

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]
local notation "𝕄" => MT nD τ sig Unit (Elt F) ℕ (UD sig nD τ) ℕ
variable (𝒱 : Variants) (c : Dev nD)
variable {arg0 : Memref sig .tc .smem S2049 .i32} {harg0 : arg0.IsWhole} {arg1 : Memref sig .tc .vmem S16x128 .i32} {harg1 : arg1.IsWhole} {arg2 : Memref sig .tc .vmem S2x1024 .i32} {harg2 : arg2.IsWhole} {arg3 : Memref sig .tc .vmem S2x1024 .f32} {harg3 : arg3.IsWhole} {arg4 : Memref sig .tc .hbm S2x1024x12288 .fp8e5m2} {harg4 : arg4.IsWhole} {arg5 : Memref sig .tc .hbm S256x96x8x128 .f32} {harg5 : arg5.IsWhole} {arg6 : Memref sig .tc .vmem S2x2048x3072 .fp8e5m2} {harg6 : arg6.IsWhole} {arg7 : Memref sig .tc .vmem S256x24x8x128 .f32} {harg7 : arg7.IsWhole} {arg8 : Memref sig .tc .vmem S4x9x24x8x128 .f32} {harg8 : arg8.IsWhole} {arg9 : Memref sig .tc .vmem S8x24x8x128 .f32} {harg9 : arg9.IsWhole} {arg10 : Memref sig .tc .vmem S2048x128 .f32} {harg10 : arg10.IsWhole} {arg11 : Memref sig .tc .vmem S2x17x128 .i32} {harg11 : arg11.IsWhole} {arg12 : Memref sig .tc .smem S2176 .i32} {harg12 : arg12.IsWhole} {arg13 : Memref sig .tc .smem S2176 .i32} {harg13 : arg13.IsWhole} {arg14 : DmaSems sig S2x8} {arg15 : DmaSems sig S4} {arg16 : DmaSems sig S_} {arg17 : DmaSems sig S_}

/-! # The program of one block, restated -/

/-- What a trip of the block loop does: free the ring slot, clear it if the block is the last, find the block's positions,
    accumulate, and start the copy out. -/
def blkProg (arg0 : Memref sig .tc .smem S2049 .i32) (harg0 : arg0.IsWhole) (arg1 : Memref sig .tc .vmem S16x128 .i32) (harg1 : arg1.IsWhole) (arg2 : Memref sig .tc .vmem S2x1024 .i32) (harg2 : arg2.IsWhole) (arg3 : Memref sig .tc .vmem S2x1024 .f32) (harg3 : arg3.IsWhole) (arg4 : Memref sig .tc .hbm S2x1024x12288 .fp8e5m2) (harg4 : arg4.IsWhole) (arg5 : Memref sig .tc .hbm S256x96x8x128 .f32) (harg5 : arg5.IsWhole) (arg6 : Memref sig .tc .vmem S2x2048x3072 .fp8e5m2) (harg6 : arg6.IsWhole) (arg7 : Memref sig .tc .vmem S256x24x8x128 .f32) (harg7 : arg7.IsWhole) (arg8 : Memref sig .tc .vmem S4x9x24x8x128 .f32) (harg8 : arg8.IsWhole) (arg9 : Memref sig .tc .vmem S8x24x8x128 .f32) (harg9 : arg9.IsWhole) (arg10 : Memref sig .tc .vmem S2048x128 .f32) (harg10 : arg10.IsWhole) (arg11 : Memref sig .tc .vmem S2x17x128 .i32) (harg11 : arg11.IsWhole) (arg12 : Memref sig .tc .smem S2176 .i32) (harg12 : arg12.IsWhole) (arg13 : Memref sig .tc .smem S2176 .i32) (harg13 : arg13.IsWhole) (arg14 : DmaSems sig S2x8) (arg15 : DmaSems sig S4) (arg16 : DmaSems sig S_) (arg17 : DmaSems sig S_) (v49 : BitVec 32) (hw2 : k0_chk2 v49) (v370 : BitVec 32) (t4 : Fin k0_t4_loop.trips) (a18 : BitVec 32)
    (t15 : Fin (k0_t15_loop v49).trips) : Prog (TpuEff nD τ sig (Elt F) Λ₀ .tc) (BitVec 32) := do
  k0_part84 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v49 hw2 t4 a18 t15 (Scf.iv 0#32 1#32 t15)
  k0_part86 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v49 hw2 t4 t15 (Scalar.remsi (Scalar.addi (Scalar.muli a18 (nbW v49)) (Scf.iv 0#32 1#32 t15)) 4#32)
  let v593 : Elt F .i32 ← smemLoad arg0 (Rect.unit (s := S2049) (k0_off450 v49 t15) S1.size (k0_off450_inb v49 hw2 t15)) numel1_S1 pack32
  let v602 : Elt F .i32 ← smemLoad arg0 (Rect.unit (s := S2049) (k0_off451 v49 t15) S1.size (k0_off451_inb v49 hw2 t15)) numel1_S1 pack32
  have hw3 : k0_chk3 v49 v370 t15 v593 v602 := (← Prog.lift (TpuEff.assume (k0_chk3 v49 v370 t15 v593 v602) (k0_chk3.dec v49 v370 t15 v593 v602))).down
  let x ← k0_part89 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v49 v370 t4 t15 v593 (p0W v370 t15 v593) v602 hw3 (Scalar.subi (Scalar.muli (Scalar.remsi (Scalar.addi (Scalar.muli a18 (nbW v49)) (Scf.iv 0#32 1#32 t15)) 4#32) 1728#32) (Scalar.muli (Scf.iv 0#32 1#32 t15) 1536#32))
    (broadcast S8x128 (Scalar.ofBits .f32 0x00000000#32)) 0#32 1#32
  k0_part91 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v49 v370 t4 t15 v593 (p0W v370 t15 v593) v602 hw3 (Scalar.subi (Scalar.muli (Scalar.remsi (Scalar.addi (Scalar.muli a18 (nbW v49)) (Scf.iv 0#32 1#32 t15)) 4#32) 1728#32) (Scalar.muli (Scf.iv 0#32 1#32 t15) 1536#32))
      (Scalar.addi 0#32 (Scalar.muli (Scalar.divsi (Scalar.subi (trW v370 t15 v593 v602) 0#32) 1#32) 1#32)) x.1 x.2.1 x.2.2 1#32
  Prog.lift (.enqueueDma ((arg8.slice (Rect.unit (s := S4x9x24x8x128) (k0_off518 v49 t4 t15) S1x8x24x8x128.size (k0_off518_inb v49 hw2 t4 t15)) (fun _ => rfl)).squeeze S8x24x8x128 squeezes_S1x8x24x8x128_S8x24x8x128)
    (.here (arg5.slice (Rect.unit (s := S256x96x8x128) (k0_off517 v49 t4 t15) S8x24x8x128.size (k0_off517_inb v49 hw2 t4 t15)) (fun _ => rfl)))
    (.dma ((arg15.slice (Rect.unit (s := S4) (k0_off516 v49 t4 t15) S1.size (k0_off516_inb v49 hw2 t4 t15))).squeeze S_ squeezes_S1_S_).sem)
    ((View.wordExact_bits rfl).reshape _ _) (View.wordExact_bits rfl) ⟨Or.inl rfl, trivial⟩)
  pure 0#32

/-- The loop over the blocks of one chunk. -/
def blkLoop (arg0 : Memref sig .tc .smem S2049 .i32) (harg0 : arg0.IsWhole) (arg1 : Memref sig .tc .vmem S16x128 .i32) (harg1 : arg1.IsWhole) (arg2 : Memref sig .tc .vmem S2x1024 .i32) (harg2 : arg2.IsWhole) (arg3 : Memref sig .tc .vmem S2x1024 .f32) (harg3 : arg3.IsWhole) (arg4 : Memref sig .tc .hbm S2x1024x12288 .fp8e5m2) (harg4 : arg4.IsWhole) (arg5 : Memref sig .tc .hbm S256x96x8x128 .f32) (harg5 : arg5.IsWhole) (arg6 : Memref sig .tc .vmem S2x2048x3072 .fp8e5m2) (harg6 : arg6.IsWhole) (arg7 : Memref sig .tc .vmem S256x24x8x128 .f32) (harg7 : arg7.IsWhole) (arg8 : Memref sig .tc .vmem S4x9x24x8x128 .f32) (harg8 : arg8.IsWhole) (arg9 : Memref sig .tc .vmem S8x24x8x128 .f32) (harg9 : arg9.IsWhole) (arg10 : Memref sig .tc .vmem S2048x128 .f32) (harg10 : arg10.IsWhole) (arg11 : Memref sig .tc .vmem S2x17x128 .i32) (harg11 : arg11.IsWhole) (arg12 : Memref sig .tc .smem S2176 .i32) (harg12 : arg12.IsWhole) (arg13 : Memref sig .tc .smem S2176 .i32) (harg13 : arg13.IsWhole) (arg14 : DmaSems sig S2x8) (arg15 : DmaSems sig S4) (arg16 : DmaSems sig S_) (arg17 : DmaSems sig S_) (v49 : BitVec 32) (hw2 : k0_chk2 v49) (v370 : BitVec 32) (t4 : Fin k0_t4_loop.trips) (a18 : BitVec 32) : Prog (TpuEff nD τ sig (Elt F) Λ₀ .tc) (BitVec 32) :=
  Scf.Loop.for (k0_t15_loop v49) (k0_t15_ok v49 hw2) 0#32 fun t15 _ => blkProg arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v49 hw2 v370 t4 a18 t15

set_option maxHeartbeats 4000000 in
set_option maxRecDepth 100000 in
theorem part144_eq (v49 : BitVec 32) (hw2 : k0_chk2 v49) (v370 : BitVec 32) (t4 : Fin k0_t4_loop.trips) (a18 : BitVec 32) :
    k0_part144 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v49 hw2 (nbW v49) v370 t4 a18 0#32 0#32 1#32 = blkLoop (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v49 hw2 v370 t4 a18 := by
  unfold k0_part144 blkLoop blkProg k0_part83 k0_part85 k0_part87 k0_part88 k0_part90
  rfl

set_option maxHeartbeats 4000000 in
set_option maxRecDepth 100000 in
theorem part89_eq (v49 v370 : BitVec 32) (t4 : Fin k0_t4_loop.trips) (t15 : Fin (k0_t15_loop v49).trips) (v593 v597 v602 : BitVec 32)
    (hw3 : k0_chk3 v49 v370 t15 v593 v602) (v605 : BitVec 32) (v606 : FVec F S8x128 .f32) (c0 c1 : BitVec 32) :
    k0_part89 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v49 v370 t4 t15 v593 v597 v602 hw3 v605 v606 c0 c1 =
      (Scf.Loop.for (k0_t16_loop v49 v370 t15 v593 v602) (k0_t16_ok v49 v370 t15 v593 v602 hw3) (v606, v606, v606)
        (fun t acc => k0_t16_body (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v49 v370 t4 t15 v593 v597 v602 hw3 v605 v606 c0 c1 t acc) >>= fun x => pure ⟨x.1, x.2.1, x.2.2⟩) := by
  unfold k0_part89
  rfl

theorem mem_unit {s : Shape} {off size : Fin s.rank → ℕ} {h : ∀ a, off a + size a ≤ s.size a} (i : s.Idx) :
    i ∈ (Rect.unit (s := s) off size h).set ↔ ∀ a, off a ≤ (i a).val ∧ (i a).val < off a + size a := by
  rw [← Rect.map_emb_univ, Finset.mem_map]
  constructor
  · rintro ⟨j, -, rfl⟩ a
    have e := unit_emb j a
    have : (j a).val < size a := (j a).isLt
    constructor
    · exact e ▸ Nat.le_add_right _ _
    · have : off a + (j a).val < off a + size a := by omega
      exact e ▸ this
  · intro hi
    refine ⟨fun a => ⟨(i a).val - off a, by show _ < size a; have := hi a; omega⟩, Finset.mem_univ _, ?_⟩
    funext a
    apply Fin.ext
    have e := unit_emb (h := h) (fun a => (⟨(i a).val - off a, by show _ < size a; have := hi a; omega⟩ : Fin (size a))) a
    refine e.trans ?_
    show off a + ((i a).val - off a) = _
    have := hi a
    omega

/-- The semaphore of ring slot `r`. -/
def sem15 (arg15 : DmaSems sig S4) (r : ℕ) (hr : r < 4) : DmaSem sig := arg15.ix (ValueIdx.ix1 (⟨r, hr⟩ : Fin 4))

theorem sem15_eq (arg15 : DmaSems sig S4) {off : Fin 1 → ℕ} {h : ∀ a, off a + S1.size a ≤ S4.size a} (r : ℕ) (hr : r < 4) (e : off = ![r]) :
    ((arg15.slice (Rect.unit (s := S4) off S1.size h)).squeeze S_ squeezes_S1_S_).sem = sem15 arg15 r hr := by
  subst e
  unfold sem15
  refine congrArg arg15.ix ?_
  funext a
  apply Fin.ext
  refine (unit_emb _ a).trans ?_
  fin_cases a
  have h0 : ∀ x : S1.Idx, (x 0).val = 0 := fun x => by have : (x 0).val < 1 := (x 0).isLt; omega
  exact congrArg (r + ·) (h0 _)

/-- The credit of a copy into a window of `m` of a given shape. -/
def cred {sp : Space} {s : Shape} {e : EltTy} (m : Memref sig .tc sp s e) (s' : Shape) : ℕ := sig.dmaCredit .tc _ m.view.buf s' e

theorem cred_pos {sp : Space} {s : Shape} {e : EltTy} (m : Memref sig .tc sp s e) (s' : Shape) (h : 0 < s'.numel) : 0 < cred m s' :=
  sig.dmaCredit_pos .tc _ m.view.buf s' e h

theorem cond2_iff (v49 : BitVec 32) (h : v49.toNat ≤ 2048) (t4 : Fin k0_t4_loop.trips) (t15 : Fin (k0_t15_loop v49).trips) :
    k0_cond2 v49 t4 t15 = 1#1 ↔ 4 ≤ t4.val * ((v49.toNat + 63) / 64) + t15.val := by
  have ht := t15_lt v49 h t15
  have hk := lt_of_lt_of_eq t4.isLt t4_trips
  have hs := stepW_toNat v49 h t4 t15 hk (by omega)
  have hm : t4.val * ((v49.toNat + 63) / 64) ≤ 4 * 33 := Nat.mul_le_mul (by omega) (by omega)
  show Scalar.cmpi .ne (Scalar.extui (Scalar.cmpi .sge (stepW v49 t4 t15) 4#32)) 0#32 = 1#1 ↔ _
  have e : Scalar.cmpi .sge (stepW v49 t4 t15) 4#32 = BitVec.ofBool (decide (4 ≤ t4.val * ((v49.toNat + 63) / 64) + t15.val)) := by
    show BitVec.ofBool ((4#32).sle (stepW v49 t4 t15)) = _
    rw [sle_small _ _ (by decide) (by omega), hs]; rfl
  rw [e]
  by_cases hd : 4 ≤ t4.val * ((v49.toNat + 63) / 64) + t15.val
  · simp [hd]; decide
  · simp [hd]; decide

theorem cond3_iff (v49 : BitVec 32) (h : v49.toNat ≤ 2048) (t15 : Fin (k0_t15_loop v49).trips) :
    k0_cond3 v49 t15 = 1#1 ↔ v49.toNat < (t15.val + 1) * 64 := by
  have ht := t15_lt v49 h t15
  have h1 : (Scalar.addi (Scf.iv 0#32 1#32 t15) 1#32).toNat = t15.val + 1 := by
    rw [addi_toNat _ _ (by rw [iv0_toNat _ (by omega)]; simp; omega), iv0_toNat _ (by omega)]; rfl
  have h2 : (Scalar.muli (Scalar.addi (Scf.iv 0#32 1#32 t15) 1#32) 64#32).toNat = (t15.val + 1) * 64 := by
    rw [muli_toNat _ _ (by rw [h1]; simp; omega), h1]; rfl
  show Scalar.cmpi .ne (Scalar.extui (Scalar.cmpi .sgt (Scalar.muli (Scalar.addi (Scf.iv 0#32 1#32 t15) 1#32) 64#32) v49)) 0#32 = 1#1 ↔ _
  have e : Scalar.cmpi .sgt (Scalar.muli (Scalar.addi (Scf.iv 0#32 1#32 t15) 1#32) 64#32) v49 = BitVec.ofBool (decide (v49.toNat < (t15.val + 1) * 64)) := by
    show BitVec.ofBool (v49.slt (Scalar.muli (Scalar.addi (Scf.iv 0#32 1#32 t15) 1#32) 64#32)) = _
    rw [slt_small _ _ (by omega) (by omega), h2]
  rw [e]
  by_cases hd : v49.toNat < (t15.val + 1) * 64
  · simp [hd]; decide
  · simp [hd]; decide

end Cert.Kernel.Emb
-- ==== Proof.Kernel.BlkSpec.lean ====
module

public import proofs.«01_k».proof.Proof.Kernel.BlkProg

@[expose] public section

noncomputable section

namespace Cert.Kernel.Emb

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]
local notation "𝕄" => MT nD τ sig Unit (Elt F) ℕ (UD sig nD τ) ℕ
variable (𝒱 : Variants) (c : Dev nD)
variable {arg0 : Memref sig .tc .smem S2049 .i32} {harg0 : arg0.IsWhole} {arg1 : Memref sig .tc .vmem S16x128 .i32} {harg1 : arg1.IsWhole} {arg2 : Memref sig .tc .vmem S2x1024 .i32} {harg2 : arg2.IsWhole} {arg3 : Memref sig .tc .vmem S2x1024 .f32} {harg3 : arg3.IsWhole} {arg4 : Memref sig .tc .hbm S2x1024x12288 .fp8e5m2} {harg4 : arg4.IsWhole} {arg5 : Memref sig .tc .hbm S256x96x8x128 .f32} {harg5 : arg5.IsWhole} {arg6 : Memref sig .tc .vmem S2x2048x3072 .fp8e5m2} {harg6 : arg6.IsWhole} {arg7 : Memref sig .tc .vmem S256x24x8x128 .f32} {harg7 : arg7.IsWhole} {arg8 : Memref sig .tc .vmem S4x9x24x8x128 .f32} {harg8 : arg8.IsWhole} {arg9 : Memref sig .tc .vmem S8x24x8x128 .f32} {harg9 : arg9.IsWhole} {arg10 : Memref sig .tc .vmem S2048x128 .f32} {harg10 : arg10.IsWhole} {arg11 : Memref sig .tc .vmem S2x17x128 .i32} {harg11 : arg11.IsWhole} {arg12 : Memref sig .tc .smem S2176 .i32} {harg12 : arg12.IsWhole} {arg13 : Memref sig .tc .smem S2176 .i32} {harg13 : arg13.IsWhole} {arg14 : DmaSems sig S2x8} {arg15 : DmaSems sig S4} {arg16 : DmaSems sig S_} {arg17 : DmaSems sig S_}

/-! # The output ring, and one block -/

section To2
variable {sp : Space} {s : Shape} {e : EltTy}

theorem To.of_any {m : Memref sig .tc sp s e} {P : s.Idx → Prop} {V : s.Idx → Elt F e} : Any (F := F) c m P ⊢ To c m P V (fun _ => False) := by
  unfold To
  iintro ⟨%g, H⟩
  iexists g
  iframe
  ipureintro
  exact fun _ _ h => h.elim

theorem To.of_has {m : Memref sig .tc sp s e} {P D : s.Idx → Prop} {V : s.Idx → Elt F e} : Has c m P fullShare V ⊢ To c m P V D := by
  unfold To
  iintro H
  iexists V
  iframe
  ipureintro
  exact fun _ _ _ => rfl

theorem To.to_has {m : Memref sig .tc sp s e} {P D : s.Idx → Prop} {V : s.Idx → Elt F e} (hD : ∀ z, P z → D z) : To c m P V D ⊢ Has c m P fullShare V := by
  unfold To
  iintro ⟨%g, %hg, H⟩
  iapply (Has.congr (fun _ => Iff.rfl) (fun z hz => hg z hz (hD z hz))) $$ H

theorem To.join {m : Memref sig .tc sp s e} {P R S D : s.Idx → Prop} {V : s.Idx → Elt F e} (hS : ∀ i, P i ↔ (R i ∨ S i)) (hd : ∀ i, R i → ¬ S i) :
    iprop(To c m R V D ∗ To c m S V D) ⊢ To c m P V D := by
  classical
  unfold To
  iintro ⟨⟨%g1, %h1, H1⟩, ⟨%g2, %h2, H2⟩⟩
  iexists (fun i => if R i then g1 i else g2 i)
  isplitr [H1 H2]
  · ipureintro
    intro z hz hD
    by_cases h : R z
    · exact (if_pos h).trans (h1 z h hD)
    · exact (if_neg h).trans (h2 z (((hS z).mp hz).resolve_left h) hD)
  · iapply (Has.join hS hd)
    isplitl [H1]
    · iapply (Has.congr (fun _ => Iff.rfl) (fun i hi => (if_pos hi).symm)) $$ H1
    · iapply (Has.congr (fun _ => Iff.rfl) (fun i hi => (if_neg (fun h => hd i h hi)).symm)) $$ H2

theorem To.congr {m : Memref sig .tc sp s e} {P R D : s.Idx → Prop} {V : s.Idx → Elt F e} (hS : ∀ i, P i ↔ R i) : To c m P V D ⊢ To c m R V D := by
  have e : P = R := funext fun i => propext (hS i)
  subst e
  exact BIBase.Entails.rfl

theorem To.empty {m : Memref sig .tc sp s e} {P D : s.Idx → Prop} {V : s.Idx → Elt F e} (hP : ∀ i, ¬ P i) : (emp : sProp 𝕄) ⊢ To c m P V D :=
  (Has.empty (c := c) (m := m) (q := fullShare) (g := V) hP).trans (To.of_has c)

/-- A region written as a window: the contents read off the window, whatever they are elsewhere. -/
theorem To.of_window' {m : Memref sig .tc sp s e} {P D : s.Idx → Prop} {V : s.Idx → Elt F e} (r : Rect s) (hr : ∀ a, r.stride a = 1)
    (hP : ∀ i, P i ↔ i ∈ r.set) {g' : r.shape.Idx → Elt F e} (hg : ∀ j, D (r.emb j) → g' j = V (r.emb j)) :
    Own c (m.slice r hr) fullShare g' ⊢ To c m P V D := by
  classical
  unfold To
  obtain ⟨x0⟩ := Elt.nonempty (F := F) e
  iintro H
  iexists (Function.extend r.emb g' (fun _ => x0))
  isplitr [H]
  · ipureintro
    intro z hz hD
    have hz' := (hP z).mp hz
    rw [← Rect.map_emb_univ, Finset.mem_map] at hz'
    obtain ⟨j, -, rfl⟩ := hz'
    rw [r.emb.injective.extend_apply]
    exact hg j hD
  · iapply (Has.of_window' r hr hP (fun j => r.emb.injective.extend_apply _ _ j)) $$ H
end To2

/-! ## Indices -/

theorem flat8_idx (z : S6912x128.Idx) : Shape.reshapeEquiv reshapes_S4x9x24x8x128_S6912x128.1 z
    = (ValueIdx.ix5 (⟨(z 0).val / 1728, by have : (z 0).val < 6912 := (z 0).isLt; omega⟩ : Fin 4) (⟨(z 0).val % 1728 / 192, by omega⟩ : Fin 9) (⟨(z 0).val % 192 / 8, by omega⟩ : Fin 24)
      (⟨(z 0).val % 8, by omega⟩ : Fin 8) (⟨(z 1).val, (z 1).isLt⟩ : Fin 128) : S4x9x24x8x128.Idx) := by
  apply Shape.reshapeEquiv_eq_of_rowMajor
  rw [Shape.rowMajor_val_five, Shape.rowMajor_val_two]
  show (((((z 0).val / 1728) * 9 + (z 0).val % 1728 / 192) * 24 + (z 0).val % 192 / 8) * 8 + (z 0).val % 8) * 128 + (z 1).val = (z 0).val * 128 + (z 1).val
  omega

theorem flat7_idx (z : S49152x128.Idx) : Shape.reshapeEquiv reshapes_S256x24x8x128_S49152x128.1 z
    = (ValueIdx.ix4 (⟨(z 0).val / 192, by have : (z 0).val < 49152 := (z 0).isLt; omega⟩ : Fin 256) (⟨(z 0).val % 192 / 8, by omega⟩ : Fin 24)
      (⟨(z 0).val % 8, by omega⟩ : Fin 8) (⟨(z 1).val, (z 1).isLt⟩ : Fin 128) : S256x24x8x128.Idx) := by
  apply Shape.reshapeEquiv_eq_of_rowMajor
  rw [Shape.rowMajor_val_four, Shape.rowMajor_val_two]
  show ((((z 0).val / 192) * 24 + (z 0).val % 192 / 8) * 8 + (z 0).val % 8) * 128 + (z 1).val = (z 0).val * 128 + (z 1).val
  omega

theorem sq8_idx (j : S8x24x8x128.Idx) : Shape.reshapeEquiv squeezes_S1x8x24x8x128_S8x24x8x128.numel_eq j
    = (ValueIdx.ix5 (0 : Fin 1) (⟨(j 0).val, (j 0).isLt⟩ : Fin 8) (⟨(j 1).val, (j 1).isLt⟩ : Fin 24) (⟨(j 2).val, (j 2).isLt⟩ : Fin 8) (⟨(j 3).val, (j 3).isLt⟩ : Fin 128) : S1x8x24x8x128.Idx) := by
  apply Shape.reshapeEquiv_eq_of_rowMajor
  rw [Shape.rowMajor_val_five, Shape.rowMajor_val_four]
  show ((((0 * 8 + (j 0).val) * 24 + (j 1).val) * 8 + (j 2).val) * 128 + (j 3).val) = (((j 0).val * 24 + (j 1).val) * 8 + (j 2).val) * 128 + (j 3).val
  omega

/-- A dequantised table laid out as the kernel's buffer. -/
def X4 (X : ℕ → ℕ → ℕ → F .f32) : S256x24x8x128.Idx → Elt F .f32 := fun x => X ((x 0).val * 8 + (x 2).val) (x 1).val (x 3).val
/-- The output laid out as the kernel's buffer. -/
def OutV (O : ℕ → ℕ → ℕ → F .f32) : S256x96x8x128.Idx → Elt F .f32 := fun x => O ((x 0).val * 8 + (x 2).val) (x 1).val (x 3).val

theorem dq_flat (harg7 : arg7.IsWhole) (X : ℕ → ℕ → ℕ → F .f32) : Own c arg7 fullShare (X4 X) ⊢ Own c (dqM arg7 harg7) fullShare (dqFlat X) :=
  Has.to_reshape _ _ (fun _ => Iff.rfl) (fun z _ => by rw [flat7_idx]; rfl)
theorem dq_unflat (harg7 : arg7.IsWhole) (X : ℕ → ℕ → ℕ → F .f32) : Own c (dqM arg7 harg7) fullShare (dqFlat X) ⊢ Own c arg7 fullShare (X4 X) :=
  Has.of_reshape _ _ (fun _ => Iff.rfl) (fun z _ => by rw [flat7_idx]; rfl)

/-! ## The ring -/

def blkP (k b : ℕ) : S256x96x8x128.Idx → Prop := fun z => (z 0).val / 8 = b ∧ (z 1).val / 24 = k
def slotP (r : ℕ) : S4x9x24x8x128.Idx → Prop := fun z => (z 0).val = r
def bodyP (r : ℕ) : S4x9x24x8x128.Idx → Prop := fun z => (z 0).val = r ∧ (z 1).val < 8
def dumpP (r : ℕ) : S4x9x24x8x128.Idx → Prop := fun z => (z 0).val = r ∧ 8 ≤ (z 1).val

/-- A ring slot with no copy under way. -/
def Idle (arg8 : Memref sig .tc .vmem S4x9x24x8x128 .f32) (arg15 : DmaSems sig S4) (r : Fin 4) : sProp 𝕄 :=
  iprop(Cell c (sem15 arg15 r.val r.isLt) ∗ Any (F := F) c arg8 (slotP r.val))
/-- A ring slot whose block is being copied out. -/
def Busy (arg5 : Memref sig .tc .hbm S256x96x8x128 .f32) (arg8 : Memref sig .tc .vmem S4x9x24x8x128 .f32) (arg15 : DmaSems sig S4) (O : ℕ → ℕ → ℕ → F .f32) (G : Prop) (r : Fin 4) (k b : ℕ) : sProp 𝕄 :=
  iprop(Fly c (sem15 arg15 r.val r.isLt) (cred arg5 S8x24x8x128) iprop(To c arg5 (blkP k b) (OutV O) (fun _ => G) ∗ Any (F := F) c arg8 (bodyP r.val)) ∗ Any (F := F) c arg8 (dumpP r.val))

/-- A ring slot once `s` blocks have been started. -/
def Slot (arg5 : Memref sig .tc .hbm S256x96x8x128 .f32) (arg8 : Memref sig .tc .vmem S4x9x24x8x128 .f32) (arg15 : DmaSems sig S4) (O : ℕ → ℕ → ℕ → F .f32) (G : Prop) (nb s : ℕ) (r : Fin 4) : sProp 𝕄 :=
  iprop((⌜s ≤ r.val⌝ ∗ Idle (F := F) c arg8 arg15 r) ∨ (∃ k, ∃ b, ⌜b < nb ∧ k * nb + b < s ∧ s ≤ k * nb + b + 4 ∧ (k * nb + b) % 4 = r.val⌝ ∗ Busy c arg5 arg8 arg15 O G r k b))

def doneP (nb s : ℕ) : S256x96x8x128.Idx → Prop := fun z => (z 0).val / 8 < nb ∧ (z 1).val / 24 * nb + (z 0).val / 8 + 4 < s
def undoneP (nb s : ℕ) : S256x96x8x128.Idx → Prop := fun z => (z 0).val / 8 < nb ∧ s ≤ (z 1).val / 24 * nb + (z 0).val / 8

/-- The ring and the output once `s` blocks have been started. -/
def RingS (arg5 : Memref sig .tc .hbm S256x96x8x128 .f32) (arg8 : Memref sig .tc .vmem S4x9x24x8x128 .f32) (arg15 : DmaSems sig S4) (O : ℕ → ℕ → ℕ → F .f32) (G : Prop) (nb s : ℕ) : sProp 𝕄 :=
  iprop(bigSep Finset.univ (Slot c arg5 arg8 arg15 O G nb s) ∗ To c arg5 (doneP nb s) (OutV O) (fun _ => G) ∗ Any (F := F) c arg5 (undoneP nb s))

theorem step_inj {nb k b k' b' : ℕ} (hb : b < nb) (hb' : b' < nb) (h : k * nb + b = k' * nb + b') : k = k' ∧ b = b' := by
  have e : b = b' := by
    have h1 : (k * nb + b) % nb = b := by rw [Nat.mul_comm, Nat.mul_add_mod, Nat.mod_eq_of_lt hb]
    have h2 : (k' * nb + b') % nb = b' := by rw [Nat.mul_comm, Nat.mul_add_mod, Nat.mod_eq_of_lt hb']
    rw [← h1, ← h2, h]
  subst e
  exact ⟨Nat.eq_of_mul_eq_mul_right (show 0 < nb by omega) (show k * nb = k' * nb by omega), rfl⟩

theorem Slot.step {O : ℕ → ℕ → ℕ → F .f32} {G : Prop} {nb s : ℕ} {r : Fin 4} (h : r.val ≠ s % 4) : Slot c arg5 arg8 arg15 O G nb s r ⊢ Slot c arg5 arg8 arg15 O G nb (s + 1) r := by
  unfold Slot
  iintro H
  icases H with (⟨%h1, H⟩ | ⟨%k, %b, %h1, H⟩)
  · ileft
    iframe
    ipureintro
    have := r.isLt
    omega
  · iright
    iexists k
    iexists b
    iframe
    ipureintro
    obtain ⟨h1, h2, h3, h4⟩ := h1
    exact ⟨h1, by omega, by omega, h4⟩

theorem Slots.step {O : ℕ → ℕ → ℕ → F .f32} {G : Prop} {nb s : ℕ} (T : Finset (Fin 4)) (h : ∀ r ∈ T, r.val ≠ s % 4) :
    (bigSep T (Slot c arg5 arg8 arg15 O G nb s) : sProp 𝕄) ⊢ bigSep T (Slot c arg5 arg8 arg15 O G nb (s + 1)) :=
  bigSep_mono (fun r hr => Slot.step c (h r hr))

theorem slot_split (r : ℕ) : ∀ z : S4x9x24x8x128.Idx, slotP r z ↔ (bodyP r z ∨ dumpP r z) := fun z => by unfold slotP bodyP dumpP; omega
theorem slot_disj (r : ℕ) : ∀ z : S4x9x24x8x128.Idx, bodyP r z → ¬ dumpP r z := fun z => by unfold bodyP dumpP; omega

theorem big_split {I : Type} [Fintype I] [DecidableEq I] (Φ : I → sProp 𝕄) (i : I) : (bigSep Finset.univ Φ : sProp 𝕄) = iprop(Φ i ∗ bigSep (Finset.univ.erase i) Φ) := BI.bigSep_univ_split i

/-- Freeing the slot of step `s`. -/
theorem part84_spec (v49 : BitVec 32) (h : v49.toNat ≤ 2048) (hw2 : k0_chk2 v49) (t4 : Fin k0_t4_loop.trips) (t15 : Fin (k0_t15_loop v49).trips) (a18 a19 : BitVec 32)
    (O : ℕ → ℕ → ℕ → F .f32) (G : Prop) (r : Fin 4) (hr : r.val = ringN v49 t4 t15) {Q : PUnit → sProp 𝕄} :
    iprop(Slot c arg5 arg8 arg15 O G ((v49.toNat + 63) / 64) (t4.val * ((v49.toNat + 63) / 64) + t15.val) r
        ∗ To c arg5 (doneP ((v49.toNat + 63) / 64) (t4.val * ((v49.toNat + 63) / 64) + t15.val)) (OutV O) (fun _ => G) ∗ Owes c)
      ⊢ iprop((iprop(Idle (F := F) c arg8 arg15 r
        ∗ To c arg5 (doneP ((v49.toNat + 63) / 64) (t4.val * ((v49.toNat + 63) / 64) + t15.val + 1)) (OutV O) (fun _ => G) ∗ Owes c) -∗ Q ⟨⟩)
        -∗ WP 𝒱 c (k0_part84 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v49 hw2 t4 a18 t15 a19) Q) := by
  have ht := t15_lt v49 h t15
  have hk := lt_of_lt_of_eq t4.isLt t4_trips
  generalize hnb : (v49.toNat + 63) / 64 = nb at *
  generalize hs : t4.val * nb + t15.val = s at *
  have hr4 : r.val = s % 4 := by rw [hr]; unfold ringN; rw [hnb, hs]
  have hlt := r.isLt
  have hc := cond2_iff v49 h t4 t15
  rw [hnb, hs] at hc
  unfold k0_part84
  dsimp only
  iintro ⟨HS, HD, HO⟩ HQ
  by_cases h4 : 4 ≤ s
  · rw [dif_pos (hc.mpr h4)]
    unfold Slot
    icases HS with (⟨%h1, H⟩ | ⟨%k, %b, %h1, H⟩)
    · exfalso; omega
    · obtain ⟨hb, h2, h3, h5⟩ := h1
      have hj : k * nb + b = s - 4 := by omega
      unfold Busy
      icases H with ⟨HF, Hdump⟩
      rw [WP_bind, sem15_eq arg15 r.val r.isLt (by rw [hr]; exact off446_eq v49 h t4 t15)]
      iapply (wait_rule 𝒱 (c := c) (N := cred arg5 S8x24x8x128) rfl) $$ [HF HO]
      · iframe
      iintro ⟨⟨HB, Hbody⟩, HC, HO⟩
      iapply (WP_pure 𝒱 c)
      iapply HQ
      unfold Idle
      iframe
      isplitl [Hbody Hdump]
      · iapply (Any.join (slot_split r.val) (slot_disj r.val)) $$ [Hbody Hdump]
        isplitl [Hbody]
        · iexact Hbody
        · iexact Hdump
      · iapply (To.join c (R := doneP nb s) (S := blkP k b) (fun z => ?_) (fun z => ?_)) $$ [HD HB]
        · unfold doneP blkP
          constructor
          · rintro ⟨h6, h7⟩
            by_cases h8 : (z 1).val / 24 * nb + (z 0).val / 8 + 4 < s
            · exact .inl ⟨h6, h8⟩
            · have := step_inj (k := (z 1).val / 24) (k' := k) h6 hb (by omega)
              exact .inr ⟨this.2, this.1⟩
          · rintro (⟨h6, h7⟩ | ⟨h6, h7⟩)
            · exact ⟨h6, by omega⟩
            · rw [h6, h7]; exact ⟨hb, by omega⟩
        · unfold doneP blkP
          rintro ⟨h6, h7⟩ ⟨h8, h9⟩
          rw [h8, h9] at h7
          omega
        · iframe
  · rw [dif_neg (fun hh => h4 (hc.mp hh))]
    unfold Slot
    icases HS with (⟨%h1, H⟩ | ⟨%k, %b, %h1, H⟩)
    · iapply (WP_pure 𝒱 c)
      iapply HQ
      iframe
      iapply (To.congr c (fun z => ?_)) $$ HD
      unfold doneP
      constructor
      · rintro ⟨h6, h7⟩; exact ⟨h6, by omega⟩
      · rintro ⟨h6, h7⟩; exact absurd h7 (by omega)
    · obtain ⟨hb, h2, h3, h5⟩ := h1
      exfalso; omega

/-- Clearing the slot when the block is the last. -/
theorem part86_spec (v49 : BitVec 32) (h : v49.toNat ≤ 2048) (hw2 : k0_chk2 v49) (t4 : Fin k0_t4_loop.trips) (t15 : Fin (k0_t15_loop v49).trips) (v582 : BitVec 32) {Q : PUnit → sProp 𝕄} :
    Any (F := F) c arg8 (slotP (ringN v49 t4 t15))
      ⊢ iprop((To c arg8 (slotP (ringN v49 t4 t15)) (fun _ => Scalar.ofBits .f32 0x00000000#32) (fun _ => k0_cond3 v49 t15 = 1#1) -∗ Q ⟨⟩)
        -∗ WP 𝒱 c (k0_part86 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v49 hw2 t4 t15 v582) Q) := by
  unfold k0_part86
  dsimp only
  iintro H HQ
  by_cases hc : k0_cond3 v49 t15 = 1#1
  · rw [dif_pos hc, WP_bind, WP_bind]
    have hin : ∀ (hb : ∀ a, (k0_off449 v49 t4 t15) a + S1x9x24x8x128.size a ≤ S4x9x24x8x128.size a) (j : S1x9x24x8x128.Idx), slotP (ringN v49 t4 t15) ((Rect.unit (s := S4x9x24x8x128) (k0_off449 v49 t4 t15) S1x9x24x8x128.size hb).emb j) := by
      intro hb j
      unfold slotP
      rw [unit_emb_of (off449_eq v49 h t4 t15)]
      show ringN v49 t4 t15 + (j 0).val = _
      have : (j 0).val < 1 := (j 0).isLt
      omega
    ihave H := (To.of_any c (V := fun _ => Scalar.ofBits .f32 0x00000000#32)) $$ H
    iapply (To.load 𝒱 c (P := slotP (ringN v49 t4 t15)) (hin _)) $$ H
    iintro %v H
    iapply (To.store 𝒱 c (P := slotP (ringN v49 t4 t15)) (V' := fun _ => Scalar.ofBits .f32 0x00000000#32) (D' := fun _ => k0_cond3 v49 t15 = 1#1) (hin _) ?_ (fun z hz _ hj => ?_)) $$ H
    · intro j; rfl
    · exfalso
      have hz0 : (z 0).val = ringN v49 t4 t15 := hz
      refine hj (ValueIdx.ix5 (0 : Fin 1) (⟨(z 1).val, (z 1).isLt⟩ : Fin 9) (⟨(z 2).val, (z 2).isLt⟩ : Fin 24) (⟨(z 3).val, (z 3).isLt⟩ : Fin 8) (⟨(z 4).val, (z 4).isLt⟩ : Fin 128)) ?_
      funext a
      apply Fin.ext
      rw [unit_emb_of (off449_eq v49 h t4 t15)]
      fin_cases a
      · show ringN v49 t4 t15 + 0 = (z 0).val; omega
      · show 0 + (z 1).val = (z 1).val; omega
      · show 0 + (z 2).val = (z 2).val; omega
      · show 0 + (z 3).val = (z 3).val; omega
      · show 0 + (z 4).val = (z 4).val; omega
    iintro H
    iapply (WP_pure 𝒱 c)
    iapply HQ
    iexact H
  · rw [dif_neg hc]
    iapply (WP_pure 𝒱 c)
    iapply HQ
    ihave H := (To.of_any c (V := fun _ => Scalar.ofBits .f32 0x00000000#32)) $$ H
    iapply (To.mono c (fun z _ hd => absurd hd hc)) $$ H

theorem loop_zero {σ : Type} (L : Scf.Loop 32) (ok : L.OK) (init : σ) (body : Fin L.trips → σ → Prog (TpuEff nD τ sig (Elt F) Λ₀ .tc) σ) (hL : L.trips = 0) {Q : σ → sProp 𝕄} :
    Q init ⊢ WP 𝒱 c (Scf.Loop.for L ok init body) Q := by
  iintro H
  iapply (loop_rule 𝒱 c L ok init body (fun _ acc => Q acc) (fun k _ => absurd (lt_of_lt_of_eq k.isLt hL) (Nat.not_lt_zero _))) $$ H
  iintro %acc H
  iexact H

theorem part91_spec (v49 v370 : BitVec 32) (t4 : Fin k0_t4_loop.trips) (t15 : Fin (k0_t15_loop v49).trips) (v593 v597 v602 : BitVec 32)
    (hw3 : k0_chk3 v49 v370 t15 v593 v602) (v605 v631 : BitVec 32) (x0 x1 x2 : FVec F S8x128 .f32) (c1 : BitVec 32)
    (hL : (k0_t17_loop v49 v370 t15 v593 v602).trips = 0) {Q : PUnit → sProp 𝕄} :
    Q ⟨⟩ ⊢ WP 𝒱 c (k0_part91 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v49 v370 t4 t15 v593 v597 v602 hw3 v605 v631 x0 x1 x2 c1) Q := by
  unfold k0_part91
  rw [WP_bind]
  iintro H
  iapply (loop_zero 𝒱 c _ _ _ _ hL)
  iapply (WP_pure 𝒱 c)
  iexact H

/-- One trip of the block loop. -/
theorem blk_spec (v49 : BitVec 32) (h : v49.toNat ≤ 2048) (hw2 : k0_chk2 v49) (v370 : BitVec 32) (t4 : Fin k0_t4_loop.trips) (a18 : BitVec 32) (t15 : Fin (k0_t15_loop v49).trips)
    {q0 : PosShare TreeShare} (so : S2049.Idx → Elt F .i32) (w593 w602 : BitVec 32)
    (hs1 : ∀ i : S2049.Idx, (i 0).val = t15.val * 64 → so i = w593) (hs2 : ∀ i : S2049.Idx, (i 0).val = (t15.val + 1) * 64 → so i = w602)
    (p0 p1 : ℕ) (hp0 : (p0W v370 t15 w593).toNat = p0) (hp1 : w602.toNat = p1) (h01 : p0 ≤ p1) (h1 : p1 ≤ 2048)
    (sw dw : ℕ → BitVec 32) (tk lc : ℕ → ℕ) (X : ℕ → ℕ → ℕ → F .f32)
    (hq : ∀ q, p0 ≤ q → q < p0 + 8 * ((p1 - p0 + 7) / 8) → PosOk sw dw tk lc t15 q)
    (O : ℕ → ℕ → ℕ → F .f32) (G : Prop)
    (hout : G → ∀ z : S6912x128.Idx, zRow z < 64 → stD lc p0 (fun _ => k0_cond3 v49 t15 = 1#1) (8 * ((p1 - p0 + 7) / 8)) z
      ∧ stV sw tk lc X p0 (fun _ => Scalar.ofBits .f32 0x00000000#32) (8 * ((p1 - p0 + 7) / 8)) z = O (64 * t15.val + zRow z) (24 * t4.val + zTile z) (z 1).val)
    {Q : BitVec 32 → sProp 𝕄} :
    iprop(Own c arg0 q0 so ∗ Own c arg12 fullShare (wordsAt sw) ∗ Own c arg13 fullShare (wordsAt dw) ∗ Own c arg7 fullShare (X4 X) ∗ Owes c
        ∗ RingS c arg5 arg8 arg15 O G ((v49.toNat + 63) / 64) (t4.val * ((v49.toNat + 63) / 64) + t15.val))
      ⊢ iprop((iprop(Own c arg0 q0 so ∗ Own c arg12 fullShare (wordsAt sw) ∗ Own c arg13 fullShare (wordsAt dw) ∗ Own c arg7 fullShare (X4 X) ∗ Owes c
        ∗ RingS c arg5 arg8 arg15 O G ((v49.toNat + 63) / 64) (t4.val * ((v49.toNat + 63) / 64) + t15.val + 1)) -∗ Q 0#32)
        -∗ WP 𝒱 c (blkProg (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v49 hw2 v370 t4 a18 t15) Q) := by
  classical
  have ht := t15_lt v49 h t15
  have hk := lt_of_lt_of_eq t4.isLt t4_trips
  have hr4 := ringN_lt v49 t4 t15
  let r : Fin 4 := ⟨ringN v49 t4 t15, hr4⟩
  unfold RingS
  rw [big_split _ r, big_split (Slot c arg5 arg8 arg15 O G ((v49.toNat + 63) / 64) (t4.val * ((v49.toNat + 63) / 64) + t15.val + 1)) r]
  unfold blkProg
  iintro ⟨H0, H12, H13, H7, HO, ⟨HS, HR⟩, HD, HU⟩ HQ
  rw [WP_bind]
  iapply (part84_spec 𝒱 c v49 h hw2 t4 t15 a18 _ O G r rfl) $$ [HS HD HO]
  · iframe
  iintro ⟨HI, HD, HO⟩
  unfold Idle
  icases HI with ⟨HC, H8⟩
  rw [WP_bind]
  iapply (part86_spec 𝒱 c v49 h hw2 t4 t15 _) $$ [H8]
  · iexact H8
  iintro H8
  rw [WP_bind]
  iapply (smem_val 𝒱 c (v := w593) (fun _ => trivial) (ValueIdx.ix1 (0 : Fin 1)) (hs1 _ ((unit_emb_of (off450_eq v49 h t15) _ 0).trans rfl))) $$ H0
  iintro H0
  rw [WP_bind]
  iapply (smem_val 𝒱 c (v := w602) (fun _ => trivial) (ValueIdx.ix1 (0 : Fin 1)) (hs2 _ ((unit_emb_of (off451_eq v49 h t15) _ 0).trans rfl))) $$ H0
  iintro H0
  rw [WP_bind]
  iapply (assume_rule 𝒱 (chk3_ok v49 v370 t15 w593 w602 p0 p1 hp0 hp1 h01 h1))
  rw [WP_bind, part89_eq, WP_bind]
  ihave H7 := (dq_flat c harg7 X) $$ H7
  ihave H8 : To c (stM arg8 harg8) (fun z => zSlot z = ringN v49 t4 t15) (fun _ => Scalar.ofBits .f32 0x00000000#32) (fun _ => k0_cond3 v49 t15 = 1#1) $$ [H8]
  · unfold To
    icases H8 with ⟨%g, %hg, H8⟩
    iexists (fun z => g (Shape.reshapeEquiv reshapes_S4x9x24x8x128_S6912x128.1 z))
    isplitr [H8]
    · ipureintro
      intro z hz hd
      refine hg _ ?_ hd
      rw [flat8_idx]
      exact hz
    · iapply (Has.to_reshape _ _ (fun z => by rw [flat8_idx]; exact Iff.rfl) (fun _ _ => rfl)) $$ H8
  iapply (tokLoop_spec (arg0 := arg0) (harg0 := harg0) (arg1 := arg1) (harg1 := harg1) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (arg15 := arg15) (arg16 := arg16) (arg17 := arg17)
    𝒱 c v49 h v370 t4 t15 w593 _ w602 p0 p1 hp0 hp1 h01 h1 _ _ _ _ _ sw dw tk lc X (fun _ => Scalar.ofBits .f32 0x00000000#32) (fun _ => k0_cond3 v49 t15 = 1#1) hq _ _ (fun _ _ => rfl)) $$ [H12 H13 H7 H8]
  · unfold TokS
    iframe
  iintro %acc HT
  iapply (WP_pure 𝒱 c)
  rw [WP_bind]
  iapply (part91_spec 𝒱 c v49 v370 t4 t15 w593 _ w602 _ _ _ _ _ _ _ (t17_trips v49 v370 t15 w593 w602 p0 p1 hp0 hp1 h01 h1))
  unfold TokS
  icases HT with ⟨H12, H13, H7, H8⟩
  ihave H7 := (dq_unflat c harg7 X) $$ H7
  unfold To
  icases H8 with ⟨%g, %hg, H8⟩
  generalize hn : 8 * ((p1 - p0 + 7) / 8) = n at *
  ihave H8 : Has c arg8 (slotP (ringN v49 t4 t15)) fullShare (fun y => g ((Shape.reshapeEquiv reshapes_S4x9x24x8x128_S6912x128.1).symm y)) $$ [H8]
  · iapply (Has.of_reshape _ _ (fun z => by rw [flat8_idx]; exact Iff.rfl) (fun z _ => by rw [Equiv.symm_apply_apply])) $$ H8
  ihave H8 := (Has.split (slot_split (ringN v49 t4 t15)) (slot_disj _)) $$ H8
  icases H8 with ⟨Hbody, Hdump⟩
  ihave HU := (Any.split (R := blkP t4 t15) (S := undoneP ((v49.toNat + 63) / 64) (t4.val * ((v49.toNat + 63) / 64) + t15.val + 1)) (fun z => ?_) (fun z => ?_)) $$ HU
  · unfold undoneP blkP
    constructor
    · rintro ⟨h6, h7⟩
      by_cases h8 : t4.val * ((v49.toNat + 63) / 64) + t15.val + 1 ≤ (z 1).val / 24 * ((v49.toNat + 63) / 64) + (z 0).val / 8
      · exact .inr ⟨h6, h8⟩
      · have := step_inj (k := (z 1).val / 24) (k' := t4.val) h6 ht (by omega)
        exact .inl ⟨this.2, this.1⟩
    · rintro (⟨h6, h7⟩ | ⟨h6, h7⟩)
      · rw [h6, h7]; exact ⟨ht, le_refl _⟩
      · exact ⟨h6, by omega⟩
  · unfold undoneP blkP
    rintro ⟨h6, h7⟩ ⟨h8, h9⟩
    rw [h6, h7] at h9
    omega
  icases HU with ⟨⟨%g5, Hblk⟩, HU⟩
  have emb8 : ∀ (hb : ∀ a, (k0_off518 v49 t4 t15) a + S1x8x24x8x128.size a ≤ S4x9x24x8x128.size a) (z : S4x9x24x8x128.Idx), bodyP (ringN v49 t4 t15) z ↔ z ∈ (Rect.unit (s := S4x9x24x8x128) (k0_off518 v49 t4 t15) S1x8x24x8x128.size hb).set := by
    intro hb z
    rw [mem_unit, off518_eq v49 h t4 t15]
    unfold bodyP
    constructor
    · rintro ⟨h6, h7⟩ a
      fin_cases a
      · show ringN v49 t4 t15 ≤ (z 0).val ∧ (z 0).val < ringN v49 t4 t15 + 1; omega
      · show 0 ≤ (z 1).val ∧ (z 1).val < 0 + 8; omega
      · show 0 ≤ (z 2).val ∧ (z 2).val < 0 + 24; have : (z 2).val < 24 := (z 2).isLt; omega
      · show 0 ≤ (z 3).val ∧ (z 3).val < 0 + 8; have : (z 3).val < 8 := (z 3).isLt; omega
      · show 0 ≤ (z 4).val ∧ (z 4).val < 0 + 128; have : (z 4).val < 128 := (z 4).isLt; omega
    · intro hh
      have h6 : ringN v49 t4 t15 ≤ (z 0).val ∧ (z 0).val < ringN v49 t4 t15 + 1 := hh 0
      have h7 : 0 ≤ (z 1).val ∧ (z 1).val < 0 + 8 := hh 1
      omega
  have emb5 : ∀ (hb : ∀ a, (k0_off517 v49 t4 t15) a + S8x24x8x128.size a ≤ S256x96x8x128.size a) (z : S256x96x8x128.Idx), blkP t4 t15 z ↔ z ∈ (Rect.unit (s := S256x96x8x128) (k0_off517 v49 t4 t15) S8x24x8x128.size hb).set := by
    intro hb z
    rw [mem_unit, off517_eq v49 h t4 t15]
    unfold blkP
    constructor
    · rintro ⟨h6, h7⟩ a
      fin_cases a
      · show t15.val * 8 ≤ (z 0).val ∧ (z 0).val < t15.val * 8 + 8; omega
      · show t4.val * 24 ≤ (z 1).val ∧ (z 1).val < t4.val * 24 + 24; omega
      · show 0 ≤ (z 2).val ∧ (z 2).val < 0 + 8; have : (z 2).val < 8 := (z 2).isLt; omega
      · show 0 ≤ (z 3).val ∧ (z 3).val < 0 + 128; have : (z 3).val < 128 := (z 3).isLt; omega
    · intro hh
      have h6 : t15.val * 8 ≤ (z 0).val ∧ (z 0).val < t15.val * 8 + 8 := hh 0
      have h7 : t4.val * 24 ≤ (z 1).val ∧ (z 1).val < t4.val * 24 + 24 := hh 1
      omega
  have hsm := sem15_eq arg15 (h := k0_off516_inb v49 hw2 t4 t15) r.val r.isLt (off516_eq v49 h t4 t15)
  rw [WP_bind]
  iapply (start_rule 𝒱 (c := c) (q := fullShare) (cred arg5 S8x24x8x128) rfl (cred_pos arg5 _ (by decide))
    (g := fun j => g ((Shape.reshapeEquiv reshapes_S4x9x24x8x128_S6912x128.1).symm ((Rect.unit (s := S4x9x24x8x128) (k0_off518 v49 t4 t15) S1x8x24x8x128.size (k0_off518_inb v49 hw2 t4 t15)).emb (Shape.reshapeEquiv squeezes_S1x8x24x8x128_S8x24x8x128.numel_eq j))))
    (g0 := fun j => g5 ((Rect.unit (s := S256x96x8x128) (k0_off517 v49 t4 t15) S8x24x8x128.size (k0_off517_inb v49 hw2 t4 t15)).emb j))) $$ [Hbody Hblk HC]
  · isplitl [Hbody]
    · iapply (Has.to_window _ _ squeezes_S1x8x24x8x128_S8x24x8x128 (emb8 _) (fun j => rfl)) $$ Hbody
    isplitl [Hblk]
    · iapply (Has.to_window' _ _ (emb5 _) (fun j => rfl)) $$ Hblk
    · rw [hsm]; iexact HC
  iintro HF
  iapply (WP_pure 𝒱 c)
  rw [hsm]
  iapply HQ
  iframe
  isplitl [HF Hdump]
  · unfold Slot
    iright
    iexists t4.val
    iexists t15.val
    isplitr [HF Hdump]
    · ipureintro
      exact ⟨ht, by omega, by omega, rfl⟩
    · unfold Busy
      isplitl [HF]
      · iapply (Fly.mono ?_) $$ HF
        iintro ⟨H1, H2⟩
        isplitl [H1]
        · iapply (To.of_window' c (m := arg5) (V := OutV O) (D := fun _ => G) _ _ (emb5 _) (fun j hG => ?_)) $$ H1
          obtain ⟨z, hz⟩ : ∃ z, z = (Shape.reshapeEquiv reshapes_S4x9x24x8x128_S6912x128.1).symm ((Rect.unit (s := S4x9x24x8x128) (k0_off518 v49 t4 t15) S1x8x24x8x128.size (k0_off518_inb v49 hw2 t4 t15)).emb (Shape.reshapeEquiv squeezes_S1x8x24x8x128_S8x24x8x128.numel_eq j)) := ⟨_, rfl⟩
          have hz' := (Equiv.apply_symm_apply (Shape.reshapeEquiv reshapes_S4x9x24x8x128_S6912x128.1) _).symm.trans (congrArg (Shape.reshapeEquiv reshapes_S4x9x24x8x128_S6912x128.1) hz.symm)
          rw [flat8_idx, sq8_idx] at hz'
          rw [← hz]
          have c0 : ringN v49 t4 t15 + 0 = (z 0).val / 1728 := (unit_emb_of (off518_eq v49 h t4 t15) (h := k0_off518_inb v49 hw2 t4 t15) _ 0).symm.trans (congrArg (fun x => (x 0).val) hz')
          have c1 : 0 + (j 0).val = (z 0).val % 1728 / 192 := (unit_emb_of (off518_eq v49 h t4 t15) (h := k0_off518_inb v49 hw2 t4 t15) _ 1).symm.trans (congrArg (fun x => (x 1).val) hz')
          have c2 : 0 + (j 1).val = (z 0).val % 192 / 8 := (unit_emb_of (off518_eq v49 h t4 t15) (h := k0_off518_inb v49 hw2 t4 t15) _ 2).symm.trans (congrArg (fun x => (x 2).val) hz')
          have c3 : 0 + (j 2).val = (z 0).val % 8 := (unit_emb_of (off518_eq v49 h t4 t15) (h := k0_off518_inb v49 hw2 t4 t15) _ 3).symm.trans (congrArg (fun x => (x 3).val) hz')
          have c4 : 0 + (j 3).val = (z 1).val := (unit_emb_of (off518_eq v49 h t4 t15) (h := k0_off518_inb v49 hw2 t4 t15) _ 4).symm.trans (congrArg (fun x => (x 4).val) hz')
          have j0 : (j 0).val < 8 := (j 0).isLt
          have j2 : (j 2).val < 8 := (j 2).isLt
          have hzr : zRow z = (j 0).val * 8 + (j 2).val := by unfold zRow; omega
          have hzt : zTile z = (j 1).val := by unfold zTile; omega
          have ho := hout hG z (by omega)
          rw [hg z (by unfold zSlot; omega) ho.1, ho.2]
          unfold OutV
          have e0 : ((Rect.unit (s := S256x96x8x128) (k0_off517 v49 t4 t15) S8x24x8x128.size (k0_off517_inb v49 hw2 t4 t15)).emb j 0).val = t15.val * 8 + (j 0).val := unit_emb_of (off517_eq v49 h t4 t15) (h := k0_off517_inb v49 hw2 t4 t15) j 0
          have e1 : ((Rect.unit (s := S256x96x8x128) (k0_off517 v49 t4 t15) S8x24x8x128.size (k0_off517_inb v49 hw2 t4 t15)).emb j 1).val = t4.val * 24 + (j 1).val := unit_emb_of (off517_eq v49 h t4 t15) (h := k0_off517_inb v49 hw2 t4 t15) j 1
          have e2 : ((Rect.unit (s := S256x96x8x128) (k0_off517 v49 t4 t15) S8x24x8x128.size (k0_off517_inb v49 hw2 t4 t15)).emb j 2).val = 0 + (j 2).val := unit_emb_of (off517_eq v49 h t4 t15) (h := k0_off517_inb v49 hw2 t4 t15) j 2
          have e3 : ((Rect.unit (s := S256x96x8x128) (k0_off517 v49 t4 t15) S8x24x8x128.size (k0_off517_inb v49 hw2 t4 t15)).emb j 3).val = 0 + (j 3).val := unit_emb_of (off517_eq v49 h t4 t15) (h := k0_off517_inb v49 hw2 t4 t15) j 3
          rw [e0, e1, e2, e3]
          congr 1 <;> omega
        · iexists (fun y => g ((Shape.reshapeEquiv reshapes_S4x9x24x8x128_S6912x128.1).symm y))
          iapply (Has.of_window (m := arg8) (g := fun y => g ((Shape.reshapeEquiv reshapes_S4x9x24x8x128_S6912x128.1).symm y)) _ _ squeezes_S1x8x24x8x128_S8x24x8x128 (emb8 _) (fun j => rfl)) $$ H2
      · iexists _
        iexact Hdump
  · iapply (Slots.step c (Finset.univ.erase r) (fun r' hr' hh => ?_)) $$ HR
    refine (Finset.mem_erase.mp hr').1 (Fin.ext ?_)
    exact hh

end Cert.Kernel.Emb
-- ==== Proof.Kernel.Slab.lean ====
module

public import proofs.«01_k».proof.Proof.Kernel.BlkSpec

@[expose] public section

noncomputable section

namespace Cert.Kernel.Emb

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]
local notation "𝕄" => MT nD τ sig Unit (Elt F) ℕ (UD sig nD τ) ℕ
variable (𝒱 : Variants) (c : Dev nD)
variable {arg0 : Memref sig .tc .smem S2049 .i32} {harg0 : arg0.IsWhole} {arg1 : Memref sig .tc .vmem S16x128 .i32} {harg1 : arg1.IsWhole} {arg2 : Memref sig .tc .vmem S2x1024 .i32} {harg2 : arg2.IsWhole} {arg3 : Memref sig .tc .vmem S2x1024 .f32} {harg3 : arg3.IsWhole} {arg4 : Memref sig .tc .hbm S2x1024x12288 .fp8e5m2} {harg4 : arg4.IsWhole} {arg5 : Memref sig .tc .hbm S256x96x8x128 .f32} {harg5 : arg5.IsWhole} {arg6 : Memref sig .tc .vmem S2x2048x3072 .fp8e5m2} {harg6 : arg6.IsWhole} {arg7 : Memref sig .tc .vmem S256x24x8x128 .f32} {harg7 : arg7.IsWhole} {arg8 : Memref sig .tc .vmem S4x9x24x8x128 .f32} {harg8 : arg8.IsWhole} {arg9 : Memref sig .tc .vmem S8x24x8x128 .f32} {harg9 : arg9.IsWhole} {arg10 : Memref sig .tc .vmem S2048x128 .f32} {harg10 : arg10.IsWhole} {arg11 : Memref sig .tc .vmem S2x17x128 .i32} {harg11 : arg11.IsWhole} {arg12 : Memref sig .tc .smem S2176 .i32} {harg12 : arg12.IsWhole} {arg13 : Memref sig .tc .smem S2176 .i32} {harg13 : arg13.IsWhole} {arg14 : DmaSems sig S2x8} {arg15 : DmaSems sig S4} {arg16 : DmaSems sig S_} {arg17 : DmaSems sig S_}

/-! # The code buffer: one slab's copy in, and its dequantisation -/

/-- The semaphore of slab `i` in the buffer chunk `k` uses. -/
def sem14 (arg14 : DmaSems sig S2x8) (k : ℕ) (i : Fin 8) : DmaSem sig := arg14.ix (ValueIdx.ix2 (⟨k % 2, Nat.mod_lt _ (by decide)⟩ : Fin 2) i)

theorem sem14_eq (arg14 : DmaSems sig S2x8) {off : Fin 2 → ℕ} {h : ∀ a, off a + S1x1.size a ≤ S2x8.size a} (k : ℕ) (i : Fin 8) (e : off = ![k % 2, i.val]) :
    ((arg14.slice (Rect.unit (s := S2x8) off S1x1.size h)).squeeze S_ squeezes_S1x1_S_).sem = sem14 arg14 k i := by
  subst e
  unfold sem14
  refine congrArg arg14.ix ?_
  funext a
  apply Fin.ext
  refine (unit_emb _ a).trans ?_
  have h0 : ∀ x : S1x1.Idx, (x 0).val = 0 := fun x => by have : (x 0).val < 1 := (x 0).isLt; omega
  have h1 : ∀ x : S1x1.Idx, (x 1).val = 0 := fun x => by have : (x 1).val < 1 := (x 1).isLt; omega
  fin_cases a
  · exact congrArg (k % 2 + ·) (h0 _)
  · exact congrArg (i.val + ·) (h1 _)

/-- Slab `i` of the buffer chunk `k` uses. -/
def slabP (k : ℕ) (i : Fin 8) : S2x2048x3072.Idx → Prop := fun x => (x 0).val = k % 2 ∧ (x 1).val / 256 = i.val
/-- The codes of slab `i`. -/
def rowP (i : Fin 8) : S2x1024x12288.Idx → Prop := fun x => (x 0).val * 4 + (x 1).val / 256 = i.val
/-- The codes of slab `i` in the columns of chunk `k`. -/
def regP (k : ℕ) (i : Fin 8) : S2x1024x12288.Idx → Prop := fun x => rowP i x ∧ (x 2).val / 3072 = k
/-- The codes, by row and column. -/
def codesV (cd : ℕ → ℕ → F .fp8e5m2) : S2x1024x12288.Idx → Elt F .fp8e5m2 := fun x => cd ((x 0).val * 1024 + (x 1).val) (x 2).val
/-- The codes of chunk `k`, as its buffer holds them. -/
def chV (cd : ℕ → ℕ → F .fp8e5m2) (k : ℕ) : S2x2048x3072.Idx → Elt F .fp8e5m2 := fun x => cd (x 1).val (k * 3072 + (x 2).val)

def Idle14 (arg6 : Memref sig .tc .vmem S2x2048x3072 .fp8e5m2) (arg14 : DmaSems sig S2x8) (k : ℕ) (i : Fin 8) : sProp 𝕄 :=
  iprop(Cell c (sem14 arg14 k i) ∗ Any (F := F) c arg6 (slabP k i))
def Fly14 (arg4 : Memref sig .tc .hbm S2x1024x12288 .fp8e5m2) (arg6 : Memref sig .tc .vmem S2x2048x3072 .fp8e5m2) (arg14 : DmaSems sig S2x8) (q4 : PosShare TreeShare) (cd : ℕ → ℕ → F .fp8e5m2) (k : ℕ) (i : Fin 8) : sProp 𝕄 :=
  iprop(Fly c (sem14 arg14 k i) (cred arg6 S256x3072) iprop(Has c arg6 (slabP k i) fullShare (chV cd k) ∗ Has c arg4 (regP k i) q4 (codesV cd)))

theorem sq6_idx (j : S256x3072.Idx) : Shape.reshapeEquiv squeezes_S1x256x3072_S256x3072.numel_eq j
    = (ValueIdx.ix3 (0 : Fin 1) (⟨(j 0).val, (j 0).isLt⟩ : Fin 256) (⟨(j 1).val, (j 1).isLt⟩ : Fin 3072) : S1x256x3072.Idx) := by
  apply Shape.reshapeEquiv_eq_of_rowMajor
  rw [Shape.rowMajor_val_three, Shape.rowMajor_val_two]
  show ((0 * 256 + (j 0).val) * 3072 + (j 1).val) = (j 0).val * 3072 + (j 1).val
  omega

theorem slab_mem (k : ℕ) (i : Fin 8) {off : Fin 3 → ℕ} {h : ∀ a, off a + S1x256x3072.size a ≤ S2x2048x3072.size a} (e : off = ![k % 2, 256 * i.val, 0]) (x : S2x2048x3072.Idx) :
    slabP k i x ↔ x ∈ (Rect.unit (s := S2x2048x3072) off S1x256x3072.size h).set := by
  subst e
  rw [mem_unit, Fin.forall_fin_succ, Fin.forall_fin_succ, Fin.forall_fin_succ]
  show _ ↔ (k % 2 ≤ (x 0).val ∧ (x 0).val < k % 2 + 1) ∧ (256 * i.val ≤ (x 1).val ∧ (x 1).val < 256 * i.val + 256) ∧ (0 ≤ (x 2).val ∧ (x 2).val < 0 + 3072) ∧ _
  have h2 : (x 2).val < 3072 := (x 2).isLt
  unfold slabP
  constructor
  · rintro ⟨h1, h3⟩
    exact ⟨by omega, by omega, by omega, fun a => a.elim0⟩
  · rintro ⟨h1, h3, _⟩
    exact ⟨by omega, by omega⟩

theorem reg_mem (k : ℕ) (i : Fin 8) {off : Fin 3 → ℕ} {h : ∀ a, off a + S1x256x3072.size a ≤ S2x1024x12288.size a} (e : off = ![i.val / 4, i.val % 4 * 256, k * 3072]) (x : S2x1024x12288.Idx) :
    regP k i x ↔ x ∈ (Rect.unit (s := S2x1024x12288) off S1x256x3072.size h).set := by
  subst e
  rw [mem_unit, Fin.forall_fin_succ, Fin.forall_fin_succ, Fin.forall_fin_succ]
  show _ ↔ (i.val / 4 ≤ (x 0).val ∧ (x 0).val < i.val / 4 + 1) ∧ (i.val % 4 * 256 ≤ (x 1).val ∧ (x 1).val < i.val % 4 * 256 + 256) ∧ (k * 3072 ≤ (x 2).val ∧ (x 2).val < k * 3072 + 3072) ∧ _
  have h1 : (x 1).val < 1024 := (x 1).isLt
  have h0 : (x 0).val < 2 := (x 0).isLt
  unfold regP rowP
  constructor
  · rintro ⟨h3, h4⟩
    exact ⟨by omega, by omega, by omega, fun a => a.elim0⟩
  · rintro ⟨h3, h4, h5, _⟩
    exact ⟨by omega, by omega⟩

/-- The copy of one slab's codes is started. -/
theorem slab_start (k : ℕ) (i : Fin 8) {offS : Fin 2 → ℕ} {off6 off4 : Fin 3 → ℕ}
    {hS : ∀ a, offS a + S1x1.size a ≤ S2x8.size a} {h6 : ∀ a, off6 a + S1x256x3072.size a ≤ S2x2048x3072.size a} {h4 : ∀ a, off4 a + S1x256x3072.size a ≤ S2x1024x12288.size a}
    (eS : offS = ![k % 2, i.val]) (e6 : off6 = ![k % 2, 256 * i.val, 0]) (e4 : off4 = ![i.val / 4, i.val % 4 * 256, k * 3072])
    {q4 : PosShare TreeShare} (cd : ℕ → ℕ → F .fp8e5m2) {hr4 : ∀ a, (Rect.unit (s := S2x1024x12288) off4 S1x256x3072.size h4).stride a = 1}
    {hr6 : ∀ a, (Rect.unit (s := S2x2048x3072) off6 S1x256x3072.size h6).stride a = 1}
    {hsrc : ((arg4.slice (Rect.unit (s := S2x1024x12288) off4 S1x256x3072.size h4) hr4).squeeze S256x3072 squeezes_S1x256x3072_S256x3072).view.WordExact}
    {hdst : ((arg6.slice (Rect.unit (s := S2x2048x3072) off6 S1x256x3072.size h6) hr6).squeeze S256x3072 squeezes_S1x256x3072_S256x3072).view.WordExact}
    {hsem : (DmaTarget.here ((arg6.slice (Rect.unit (s := S2x2048x3072) off6 S1x256x3072.size h6) hr6).squeeze S256x3072 squeezes_S1x256x3072_S256x3072) : DmaTarget nD τ sig (.tc : Proc τ) .vmem S256x3072 .fp8e5m2).Typed .hbm (.dma ((arg14.slice (Rect.unit (s := S2x8) offS S1x1.size hS)).squeeze S_ squeezes_S1x1_S_).sem)}
    {Q : PUnit → sProp 𝕄} :
    iprop(Idle14 (F := F) c arg6 arg14 k i ∗ Has c arg4 (regP k i) q4 (codesV cd))
      ⊢ iprop((Fly14 c arg4 arg6 arg14 q4 cd k i -∗ Q ⟨⟩)
        -∗ WP 𝒱 c (Prog.lift (.enqueueDma ((arg4.slice (Rect.unit (s := S2x1024x12288) off4 S1x256x3072.size h4) hr4).squeeze S256x3072 squeezes_S1x256x3072_S256x3072)
          (.here ((arg6.slice (Rect.unit (s := S2x2048x3072) off6 S1x256x3072.size h6) hr6).squeeze S256x3072 squeezes_S1x256x3072_S256x3072))
          (.dma ((arg14.slice (Rect.unit (s := S2x8) offS S1x1.size hS)).squeeze S_ squeezes_S1x1_S_).sem) hsrc hdst hsem)) Q) := by
  have hsm := sem14_eq arg14 (h := hS) k i eS
  unfold Idle14 Fly14
  iintro ⟨⟨HC, ⟨%g6, H6⟩⟩, H4⟩ HQ
  iapply (start_rule 𝒱 (c := c) (q := q4)
      (g := show S256x3072.Idx → Elt F .fp8e5m2 from fun j => cd (256 * i.val + (j 0).val) (k * 3072 + (j 1).val))
      (g0 := show S256x3072.Idx → Elt F .fp8e5m2 from fun j => g6 ((Rect.unit (s := S2x2048x3072) off6 S1x256x3072.size h6).emb (Shape.reshapeEquiv squeezes_S1x256x3072_S256x3072.numel_eq j)))
      (cred arg6 S256x3072) rfl (cred_pos _ _ (by decide))) $$ [HC H6 H4]
  · isplitl [H4]
    · iapply (Has.to_window (m := arg4) (Rect.unit (s := S2x1024x12288) off4 S1x256x3072.size h4) hr4 squeezes_S1x256x3072_S256x3072 (reg_mem k i e4) (fun j => ?_)) $$ H4
      unfold codesV
      rw [unit_emb_of e4 (h := h4), unit_emb_of e4 (h := h4), unit_emb_of e4 (h := h4)]
      rw [sq6_idx]
      refine congrArg₂ cd ?_ ?_
      · show (i.val / 4 + 0) * 1024 + (i.val % 4 * 256 + (j 0).val) = _
        omega
      · rfl
    isplitl [H6]
    · iapply (Has.to_window (m := arg6) (Rect.unit (s := S2x2048x3072) off6 S1x256x3072.size h6) hr6 squeezes_S1x256x3072_S256x3072 (slab_mem k i e6) (fun j => rfl)) $$ H6
    · rw [hsm]; iexact HC
  iintro HF
  rw [hsm]
  iapply HQ
  iapply (Fly.mono (c := c) ?_) $$ HF
  iintro ⟨H6, H4⟩
  isplitl [H6]
  · iapply (Has.of_window (m := arg6) (g := chV cd k) (Rect.unit (s := S2x2048x3072) off6 S1x256x3072.size h6) hr6 squeezes_S1x256x3072_S256x3072 (slab_mem k i e6) (fun j => ?_)) $$ H6
    unfold chV
    rw [unit_emb_of e6 (h := h6), unit_emb_of e6 (h := h6)]
    rw [sq6_idx]
    refine congrArg₂ cd ?_ ?_
    · rfl
    · show k * 3072 + (0 + (j 1).val) = _
      omega
  · iapply (Has.of_window (m := arg4) (g := codesV cd) (Rect.unit (s := S2x1024x12288) off4 S1x256x3072.size h4) hr4 squeezes_S1x256x3072_S256x3072 (reg_mem k i e4) (fun j => ?_)) $$ H4
    unfold codesV
    rw [unit_emb_of e4 (h := h4), unit_emb_of e4 (h := h4), unit_emb_of e4 (h := h4)]
    rw [sq6_idx]
    refine congrArg₂ cd ?_ ?_
    · show (i.val / 4 + 0) * 1024 + (i.val % 4 * 256 + (j 0).val) = _
      omega
    · rfl

/-! ## The offsets -/

theorem off4_eq : ∀ t4 : Fin k0_t4_loop.trips, k0_off4 t4 = ![(t4.val + 1) % 2, ((0 : Fin 8)).val] := by decide +kernel
theorem off5_eq : ∀ t4 : Fin k0_t4_loop.trips, k0_off5 t4 = ![(t4.val + 1) % 2, 256 * ((0 : Fin 8)).val, 0] := by decide +kernel
theorem off6_eq : ∀ t4 : Fin k0_t4_loop.trips, k0_off6 t4 = ![((0 : Fin 8)).val / 4, ((0 : Fin 8)).val % 4 * 256, (t4.val + 1) * 3072] := by decide +kernel
theorem off30_eq : ∀ t4 : Fin k0_t4_loop.trips, k0_off30 t4 = ![t4.val % 2, ((0 : Fin 8)).val] := by decide +kernel
theorem off7_eq : ∀ t4 : Fin k0_t4_loop.trips, k0_off7 t4 = ![(t4.val + 1) % 2, ((1 : Fin 8)).val] := by decide +kernel
theorem off8_eq : ∀ t4 : Fin k0_t4_loop.trips, k0_off8 t4 = ![(t4.val + 1) % 2, 256 * ((1 : Fin 8)).val, 0] := by decide +kernel
theorem off9_eq : ∀ t4 : Fin k0_t4_loop.trips, k0_off9 t4 = ![((1 : Fin 8)).val / 4, ((1 : Fin 8)).val % 4 * 256, (t4.val + 1) * 3072] := by decide +kernel
theorem off82_eq : ∀ t4 : Fin k0_t4_loop.trips, k0_off82 t4 = ![t4.val % 2, ((1 : Fin 8)).val] := by decide +kernel
theorem off10_eq : ∀ t4 : Fin k0_t4_loop.trips, k0_off10 t4 = ![(t4.val + 1) % 2, ((2 : Fin 8)).val] := by decide +kernel
theorem off11_eq : ∀ t4 : Fin k0_t4_loop.trips, k0_off11 t4 = ![(t4.val + 1) % 2, 256 * ((2 : Fin 8)).val, 0] := by decide +kernel
theorem off12_eq : ∀ t4 : Fin k0_t4_loop.trips, k0_off12 t4 = ![((2 : Fin 8)).val / 4, ((2 : Fin 8)).val % 4 * 256, (t4.val + 1) * 3072] := by decide +kernel
theorem off134_eq : ∀ t4 : Fin k0_t4_loop.trips, k0_off134 t4 = ![t4.val % 2, ((2 : Fin 8)).val] := by decide +kernel
theorem off13_eq : ∀ t4 : Fin k0_t4_loop.trips, k0_off13 t4 = ![(t4.val + 1) % 2, ((3 : Fin 8)).val] := by decide +kernel
theorem off14_eq : ∀ t4 : Fin k0_t4_loop.trips, k0_off14 t4 = ![(t4.val + 1) % 2, 256 * ((3 : Fin 8)).val, 0] := by decide +kernel
theorem off15_eq : ∀ t4 : Fin k0_t4_loop.trips, k0_off15 t4 = ![((3 : Fin 8)).val / 4, ((3 : Fin 8)).val % 4 * 256, (t4.val + 1) * 3072] := by decide +kernel
theorem off186_eq : ∀ t4 : Fin k0_t4_loop.trips, k0_off186 t4 = ![t4.val % 2, ((3 : Fin 8)).val] := by decide +kernel
theorem off16_eq : ∀ t4 : Fin k0_t4_loop.trips, k0_off16 t4 = ![(t4.val + 1) % 2, ((4 : Fin 8)).val] := by decide +kernel
theorem off17_eq : ∀ t4 : Fin k0_t4_loop.trips, k0_off17 t4 = ![(t4.val + 1) % 2, 256 * ((4 : Fin 8)).val, 0] := by decide +kernel
theorem off18_eq : ∀ t4 : Fin k0_t4_loop.trips, k0_off18 t4 = ![((4 : Fin 8)).val / 4, ((4 : Fin 8)).val % 4 * 256, (t4.val + 1) * 3072] := by decide +kernel
theorem off238_eq : ∀ t4 : Fin k0_t4_loop.trips, k0_off238 t4 = ![t4.val % 2, ((4 : Fin 8)).val] := by decide +kernel
theorem off19_eq : ∀ t4 : Fin k0_t4_loop.trips, k0_off19 t4 = ![(t4.val + 1) % 2, ((5 : Fin 8)).val] := by decide +kernel
theorem off20_eq : ∀ t4 : Fin k0_t4_loop.trips, k0_off20 t4 = ![(t4.val + 1) % 2, 256 * ((5 : Fin 8)).val, 0] := by decide +kernel
theorem off21_eq : ∀ t4 : Fin k0_t4_loop.trips, k0_off21 t4 = ![((5 : Fin 8)).val / 4, ((5 : Fin 8)).val % 4 * 256, (t4.val + 1) * 3072] := by decide +kernel
theorem off290_eq : ∀ t4 : Fin k0_t4_loop.trips, k0_off290 t4 = ![t4.val % 2, ((5 : Fin 8)).val] := by decide +kernel
theorem off22_eq : ∀ t4 : Fin k0_t4_loop.trips, k0_off22 t4 = ![(t4.val + 1) % 2, ((6 : Fin 8)).val] := by decide +kernel
theorem off23_eq : ∀ t4 : Fin k0_t4_loop.trips, k0_off23 t4 = ![(t4.val + 1) % 2, 256 * ((6 : Fin 8)).val, 0] := by decide +kernel
theorem off24_eq : ∀ t4 : Fin k0_t4_loop.trips, k0_off24 t4 = ![((6 : Fin 8)).val / 4, ((6 : Fin 8)).val % 4 * 256, (t4.val + 1) * 3072] := by decide +kernel
theorem off342_eq : ∀ t4 : Fin k0_t4_loop.trips, k0_off342 t4 = ![t4.val % 2, ((6 : Fin 8)).val] := by decide +kernel
theorem off25_eq : ∀ t4 : Fin k0_t4_loop.trips, k0_off25 t4 = ![(t4.val + 1) % 2, ((7 : Fin 8)).val] := by decide +kernel
theorem off26_eq : ∀ t4 : Fin k0_t4_loop.trips, k0_off26 t4 = ![(t4.val + 1) % 2, 256 * ((7 : Fin 8)).val, 0] := by decide +kernel
theorem off27_eq : ∀ t4 : Fin k0_t4_loop.trips, k0_off27 t4 = ![((7 : Fin 8)).val / 4, ((7 : Fin 8)).val % 4 * 256, (t4.val + 1) * 3072] := by decide +kernel
theorem off394_eq : ∀ t4 : Fin k0_t4_loop.trips, k0_off394 t4 = ![t4.val % 2, ((7 : Fin 8)).val] := by decide +kernel

theorem cond1_iff : ∀ t4 : Fin k0_t4_loop.trips, k0_cond1 t4 = 1#1 ↔ t4.val + 1 < 4 := by decide +kernel

/-! ## The eight slabs -/

/-- A statement for each of the eight slabs. -/
def Each8 (Φ : Fin 8 → sProp 𝕄) : sProp 𝕄 := iprop(Φ 0 ∗ Φ 1 ∗ Φ 2 ∗ Φ 3 ∗ Φ 4 ∗ Φ 5 ∗ Φ 6 ∗ Φ 7)

theorem Each8.mono {Φ Ψ : Fin 8 → sProp 𝕄} (h : ∀ i, Φ i ⊢ Ψ i) : Each8 Φ ⊢ Each8 Ψ := by
  unfold Each8
  exact BIClass.sep_mono (h 0) (BIClass.sep_mono (h 1) (BIClass.sep_mono (h 2) (BIClass.sep_mono (h 3) (BIClass.sep_mono (h 4) (BIClass.sep_mono (h 5) (BIClass.sep_mono (h 6) (h 7)))))))

/-- The copy for chunk `k`, if there is such a chunk. -/
def Fl14 (arg4 : Memref sig .tc .hbm S2x1024x12288 .fp8e5m2) (arg6 : Memref sig .tc .vmem S2x2048x3072 .fp8e5m2) (arg14 : DmaSems sig S2x8) (q4 : PosShare TreeShare) (cd : ℕ → ℕ → F .fp8e5m2) (k : ℕ) (i : Fin 8) : sProp 𝕄 :=
  if k < 4 then Fly14 c arg4 arg6 arg14 q4 cd k i else Idle14 (F := F) c arg6 arg14 k i

/-- A slab before chunk `k`. -/
def SlabA (arg4 : Memref sig .tc .hbm S2x1024x12288 .fp8e5m2) (arg6 : Memref sig .tc .vmem S2x2048x3072 .fp8e5m2) (arg14 : DmaSems sig S2x8) (q4 : PosShare TreeShare) (cd : ℕ → ℕ → F .fp8e5m2) (k : ℕ) (i : Fin 8) : sProp 𝕄 :=
  iprop(Fl14 c arg4 arg6 arg14 q4 cd k i ∗ Idle14 (F := F) c arg6 arg14 (k + 1) i ∗ Has c arg4 (fun x => rowP i x ∧ (x 2).val / 3072 ≠ k) q4 (codesV cd))
/-- A slab once the next chunk's copy is under way. -/
def SlabB (arg4 : Memref sig .tc .hbm S2x1024x12288 .fp8e5m2) (arg6 : Memref sig .tc .vmem S2x2048x3072 .fp8e5m2) (arg14 : DmaSems sig S2x8) (q4 : PosShare TreeShare) (cd : ℕ → ℕ → F .fp8e5m2) (k : ℕ) (i : Fin 8) : sProp 𝕄 :=
  iprop(Fl14 c arg4 arg6 arg14 q4 cd k i ∗ Fl14 c arg4 arg6 arg14 q4 cd (k + 1) i ∗ Has c arg4 (fun x => rowP i x ∧ (x 2).val / 3072 ≠ k ∧ (x 2).val / 3072 ≠ k + 1) q4 (codesV cd))

theorem slabA_split (q4 : PosShare TreeShare) (cd : ℕ → ℕ → F .fp8e5m2) (k : ℕ) (i : Fin 8) :
    SlabA c arg4 arg6 arg14 q4 cd k i ⊢ iprop((Idle14 (F := F) c arg6 arg14 (k + 1) i ∗ Has c arg4 (regP (k + 1) i) q4 (codesV cd))
      ∗ Fl14 c arg4 arg6 arg14 q4 cd k i ∗ Has c arg4 (fun x => rowP i x ∧ (x 2).val / 3072 ≠ k ∧ (x 2).val / 3072 ≠ k + 1) q4 (codesV cd)) := by
  unfold SlabA
  iintro ⟨HF, HI, H4⟩
  ihave H4 := (Has.split (R := regP (k + 1) i) (S := fun x => rowP i x ∧ (x 2).val / 3072 ≠ k ∧ (x 2).val / 3072 ≠ k + 1) (fun x => by
    unfold regP
    constructor
    · rintro ⟨h1, h2⟩
      by_cases h3 : (x 2).val / 3072 = k + 1
      · exact .inl ⟨h1, h3⟩
      · exact .inr ⟨h1, h2, h3⟩
    · rintro (⟨h1, h2⟩ | ⟨h1, h2, h3⟩)
      · exact ⟨h1, by omega⟩
      · exact ⟨h1, h2⟩) (fun x h1 h2 => h2.2.2 h1.2)) $$ H4
  icases H4 with ⟨H4, H4'⟩
  iframe

theorem slabA_last (q4 : PosShare TreeShare) (cd : ℕ → ℕ → F .fp8e5m2) (k : ℕ) (hk : ¬ k + 1 < 4) (i : Fin 8) :
    SlabA c arg4 arg6 arg14 q4 cd k i ⊢ SlabB c arg4 arg6 arg14 q4 cd k i := by
  unfold SlabA SlabB
  iintro ⟨HF, HI, H4⟩
  iframe
  isplitl [HI]
  · unfold Fl14
    rw [if_neg hk]
    iexact HI
  · iapply (Has.congr (fun x => ?_) (fun _ _ => rfl)) $$ H4
    have h2 : (x 2).val < 12288 := (x 2).isLt
    constructor
    · rintro ⟨h1, h3⟩; exact ⟨h1, h3, by omega⟩
    · rintro ⟨h1, h3, _⟩; exact ⟨h1, h3⟩

theorem part122_spec (t4 : Fin k0_t4_loop.trips) (a18 v497 : BitVec 32) (q4 : PosShare TreeShare) (cd : ℕ → ℕ → F .fp8e5m2) {Q : PUnit → sProp 𝕄} :
    Each8 (fun i => SlabA c arg4 arg6 arg14 q4 cd t4.val i)
      ⊢ iprop((Each8 (fun i => SlabB c arg4 arg6 arg14 q4 cd t4.val i) -∗ Q ⟨⟩)
        -∗ WP 𝒱 c (k0_part122 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 t4 a18 v497) Q) := by
  by_cases h1 : t4.val + 1 < 4
  · refine (Each8.mono (fun i => slabA_split c q4 cd t4.val i)).trans ?_
    have hc := (cond1_iff t4).mpr h1
    unfold k0_part122
    dsimp only
    rw [dif_pos hc]
    unfold Each8 SlabB
    have hF : ∀ i, Fly14 c arg4 arg6 arg14 q4 cd (t4.val + 1) i ⊢ Fl14 c arg4 arg6 arg14 q4 cd (t4.val + 1) i := fun i => by
      unfold Fl14; rw [if_pos h1]
    iintro ⟨⟨HA0, HR0⟩, ⟨HA1, HR1⟩, ⟨HA2, HR2⟩, ⟨HA3, HR3⟩, ⟨HA4, HR4⟩, ⟨HA5, HR5⟩, ⟨HA6, HR6⟩, ⟨HA7, HR7⟩⟩ HQ
    rw [WP_bind]
    unfold k0_part5
    dsimp only
    rw [WP_bind]
    iapply (slab_start 𝒱 c (t4.val + 1) 0 (off4_eq t4) (off5_eq t4) (off6_eq t4) cd) $$ HA0
    iintro HA0
    ihave HA0 := (hF 0) $$ HA0
    rw [WP_bind]
    iapply (slab_start 𝒱 c (t4.val + 1) 1 (off7_eq t4) (off8_eq t4) (off9_eq t4) cd) $$ HA1
    iintro HA1
    ihave HA1 := (hF 1) $$ HA1
    rw [WP_bind]
    iapply (slab_start 𝒱 c (t4.val + 1) 2 (off10_eq t4) (off11_eq t4) (off12_eq t4) cd) $$ HA2
    iintro HA2
    ihave HA2 := (hF 2) $$ HA2
    iapply (WP_pure 𝒱 c)
    rw [WP_bind]
    unfold k0_part6
    dsimp only
    rw [WP_bind]
    iapply (slab_start 𝒱 c (t4.val + 1) 3 (off13_eq t4) (off14_eq t4) (off15_eq t4) cd) $$ HA3
    iintro HA3
    ihave HA3 := (hF 3) $$ HA3
    rw [WP_bind]
    iapply (slab_start 𝒱 c (t4.val + 1) 4 (off16_eq t4) (off17_eq t4) (off18_eq t4) cd) $$ HA4
    iintro HA4
    ihave HA4 := (hF 4) $$ HA4
    rw [WP_bind]
    iapply (slab_start 𝒱 c (t4.val + 1) 5 (off19_eq t4) (off20_eq t4) (off21_eq t4) cd) $$ HA5
    iintro HA5
    ihave HA5 := (hF 5) $$ HA5
    iapply (WP_pure 𝒱 c)
    rw [WP_bind]
    iapply (slab_start 𝒱 c (t4.val + 1) 6 (off22_eq t4) (off23_eq t4) (off24_eq t4) cd) $$ HA6
    iintro HA6
    ihave HA6 := (hF 6) $$ HA6
    rw [WP_bind]
    iapply (slab_start 𝒱 c (t4.val + 1) 7 (off25_eq t4) (off26_eq t4) (off27_eq t4) cd) $$ HA7
    iintro HA7
    ihave HA7 := (hF 7) $$ HA7
    iapply (WP_pure 𝒱 c)
    iapply HQ
    icases HR0 with ⟨HR0, HS0⟩
    icases HR1 with ⟨HR1, HS1⟩
    icases HR2 with ⟨HR2, HS2⟩
    icases HR3 with ⟨HR3, HS3⟩
    icases HR4 with ⟨HR4, HS4⟩
    icases HR5 with ⟨HR5, HS5⟩
    icases HR6 with ⟨HR6, HS6⟩
    icases HR7 with ⟨HR7, HS7⟩
    isplitl [HA0 HR0 HS0]
    · iframe
    isplitl [HA1 HR1 HS1]
    · iframe
    isplitl [HA2 HR2 HS2]
    · iframe
    isplitl [HA3 HR3 HS3]
    · iframe
    isplitl [HA4 HR4 HS4]
    · iframe
    isplitl [HA5 HR5 HS5]
    · iframe
    isplitl [HA6 HR6 HS6]
    · iframe
    iframe
  · refine (Each8.mono (fun i => slabA_last c q4 cd t4.val h1 i)).trans ?_
    have hc : ¬ k0_cond1 t4 = 1#1 := fun h => h1 ((cond1_iff t4).mp h)
    unfold k0_part122
    dsimp only
    rw [dif_neg hc]
    iintro H HQ
    iapply (WP_pure 𝒱 c)
    iapply HQ
    iexact H

end Cert.Kernel.Emb
-- ==== Proof.Kernel.Chunk.lean ====
module

public import proofs.«01_k».proof.Proof.Kernel.Slab

@[expose] public section

noncomputable section

namespace Cert.Kernel.Emb

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]
local notation "𝕄" => MT nD τ sig Unit (Elt F) ℕ (UD sig nD τ) ℕ
variable (𝒱 : Variants) (c : Dev nD)
variable {arg0 : Memref sig .tc .smem S2049 .i32} {harg0 : arg0.IsWhole} {arg1 : Memref sig .tc .vmem S16x128 .i32} {harg1 : arg1.IsWhole} {arg2 : Memref sig .tc .vmem S2x1024 .i32} {harg2 : arg2.IsWhole} {arg3 : Memref sig .tc .vmem S2x1024 .f32} {harg3 : arg3.IsWhole} {arg4 : Memref sig .tc .hbm S2x1024x12288 .fp8e5m2} {harg4 : arg4.IsWhole} {arg5 : Memref sig .tc .hbm S256x96x8x128 .f32} {harg5 : arg5.IsWhole} {arg6 : Memref sig .tc .vmem S2x2048x3072 .fp8e5m2} {harg6 : arg6.IsWhole} {arg7 : Memref sig .tc .vmem S256x24x8x128 .f32} {harg7 : arg7.IsWhole} {arg8 : Memref sig .tc .vmem S4x9x24x8x128 .f32} {harg8 : arg8.IsWhole} {arg9 : Memref sig .tc .vmem S8x24x8x128 .f32} {harg9 : arg9.IsWhole} {arg10 : Memref sig .tc .vmem S2048x128 .f32} {harg10 : arg10.IsWhole} {arg11 : Memref sig .tc .vmem S2x17x128 .i32} {harg11 : arg11.IsWhole} {arg12 : Memref sig .tc .smem S2176 .i32} {harg12 : arg12.IsWhole} {arg13 : Memref sig .tc .smem S2176 .i32} {harg13 : arg13.IsWhole} {arg14 : DmaSems sig S2x8} {arg15 : DmaSems sig S4} {arg16 : DmaSems sig S_} {arg17 : DmaSems sig S_}

/-! # One chunk -/

theorem slab_wait (k : ℕ) (hk : k < 4) (i : Fin 8) {offS : Fin 2 → ℕ} {hS : ∀ a, offS a + S1x1.size a ≤ S2x8.size a} (eS : offS = ![k % 2, i.val])
    {off6 off4 : Fin 3 → ℕ} {h6 : ∀ a, off6 a + S1x256x3072.size a ≤ S2x2048x3072.size a} {h4 : ∀ a, off4 a + S1x256x3072.size a ≤ S2x1024x12288.size a}
    {q4 : PosShare TreeShare} (cd : ℕ → ℕ → F .fp8e5m2) {hr4 : ∀ a, (Rect.unit (s := S2x1024x12288) off4 S1x256x3072.size h4).stride a = 1}
    {hr6 : ∀ a, (Rect.unit (s := S2x2048x3072) off6 S1x256x3072.size h6).stride a = 1}
    {hsrc : ((arg4.slice (Rect.unit (s := S2x1024x12288) off4 S1x256x3072.size h4) hr4).squeeze S256x3072 squeezes_S1x256x3072_S256x3072).view.WordExact}
    {hdst : ((arg6.slice (Rect.unit (s := S2x2048x3072) off6 S1x256x3072.size h6) hr6).squeeze S256x3072 squeezes_S1x256x3072_S256x3072).view.WordExact}
    {Q : PUnit → sProp 𝕄} :
    iprop(SlabB c arg4 arg6 arg14 q4 cd k i ∗ Owes c)
      ⊢ iprop((iprop(Has c arg6 (slabP k i) fullShare (chV cd k) ∗ Owes c ∗ (Any (F := F) c arg6 (slabP k i) -∗ SlabA c arg4 arg6 arg14 q4 cd (k + 1) i)) -∗ Q ⟨⟩)
        -∗ WP 𝒱 c (Prog.lift (.waitDma2 ((arg14.slice (Rect.unit (s := S2x8) offS S1x1.size hS)).squeeze S_ squeezes_S1x1_S_).sem
          ((arg4.slice (Rect.unit (s := S2x1024x12288) off4 S1x256x3072.size h4) hr4).squeeze S256x3072 squeezes_S1x256x3072_S256x3072)
          ((arg6.slice (Rect.unit (s := S2x2048x3072) off6 S1x256x3072.size h6) hr6).squeeze S256x3072 squeezes_S1x256x3072_S256x3072) hsrc hdst)) Q) := by
  rw [sem14_eq arg14 k i eS]
  have hs2 : sem14 arg14 (k + 1 + 1) i = sem14 arg14 k i := by
    unfold sem14
    exact congrArg (fun z => arg14.ix (ValueIdx.ix2 z i)) (Fin.ext (show (k + 1 + 1) % 2 = k % 2 by omega))
  unfold SlabB
  have hF : Fl14 c arg4 arg6 arg14 q4 cd k i ⊢ Fly c (sem14 arg14 k i) (cred arg6 S256x3072) iprop(Has c arg6 (slabP k i) fullShare (chV cd k) ∗ Has c arg4 (regP k i) q4 (codesV cd)) := by
    unfold Fl14 Fly14; rw [if_pos hk]
  iintro ⟨⟨HF, HF', H4⟩, HO⟩ HQ
  ihave HF := hF $$ HF
  iapply (wait_rule 𝒱 (c := c) (N := cred arg6 S256x3072) rfl) $$ [HF HO]
  · iframe
  iintro ⟨⟨H6, H4'⟩, HC, HO⟩
  iapply HQ
  iframe
  iintro ⟨%g6, H6⟩
  unfold SlabA
  isplitl [HF']
  · iexact HF'
  isplitl [HC H6]
  · unfold Idle14
    isplitl [HC]
    · rw [hs2]; iexact HC
    · iexists g6
      iapply (Has.congr (fun x => ?_) (fun _ _ => rfl)) $$ H6
      unfold slabP
      rw [show (k + 1 + 1) % 2 = k % 2 by omega]
  · iapply (Has.join (R := regP k i) (S := fun x => rowP i x ∧ (x 2).val / 3072 ≠ k ∧ (x 2).val / 3072 ≠ k + 1) (fun x => ?_) (fun x h1 h2 => h2.2.1 h1.2)) $$ [H4' H4]
    · unfold regP
      constructor
      · rintro ⟨h1, h2⟩
        by_cases h3 : (x 2).val / 3072 = k
        · exact .inl ⟨h1, h3⟩
        · exact .inr ⟨h1, h3, h2⟩
      · rintro (⟨h1, h2⟩ | ⟨h1, h2, h3⟩)
        · exact ⟨h1, by omega⟩
        · exact ⟨h1, h3⟩
    · isplitl [H4'] <;> iassumption

/-- The scales, laid out as the kernel's buffer. -/
def scV (sc : ℕ → F .f32) : S2048x128.Idx → F .f32 := fun x => sc (x 0).val

/-- The dequantised table of chunk `k`. -/
def dqX (cd : ℕ → ℕ → F .fp8e5m2) (sc : ℕ → F .f32) (k : ℕ) : ℕ → ℕ → ℕ → F .f32 :=
  fun t v l => FloatOps.mulf (FloatOps.extf .f32 bitsLt_fp8e5m2_f32 (cd t (k * 3072 + (128 * v + l)))) (sc t)

theorem dq_all (cd : ℕ → ℕ → F .fp8e5m2) (sc : ℕ → F .f32) (t4 : Fin k0_t4_loop.trips) :
    DqTo c arg7 (dqAt (show S2x2048x3072.Idx → F .fp8e5m2 from chV cd t4.val) (scV sc) (slotF t4)) (fun x => (x 0).val < 32 * (7 + 1)) ⊢ Own c arg7 fullShare (X4 (dqX cd sc t4.val)) := by
  unfold DqTo
  iintro ⟨%g, %hg, H⟩
  iapply (Has.congr (fun _ => Iff.rfl) (fun x _ => ?_)) $$ H
  have h0 : (x 0).val < 256 := (x 0).isLt
  refine (hg x (by omega)).trans ?_
  show FloatOps.mulf (FloatOps.extf .f32 bitsLt_fp8e5m2_f32 (cd (8 * (x 0).val + (x 2).val) (t4.val * 3072 + (128 * (x 1).val + (x 3).val)))) (sc (8 * (x 0).val + (x 2).val)) = _
  rw [Nat.mul_comm 8]
  rfl

theorem slab0_spec (t4 : Fin k0_t4_loop.trips) (a18 v497 : BitVec 32) (q4 q10 : PosShare TreeShare) (cd : ℕ → ℕ → F .fp8e5m2) (sc : ℕ → F .f32) {Q : PUnit → sProp 𝕄} :
    iprop(SlabB c arg4 arg6 arg14 q4 cd t4.val 0 ∗ Owes c ∗ Own c arg10 q10 (scV sc)
        ∗ DqTo c arg7 (dqAt (show S2x2048x3072.Idx → F .fp8e5m2 from chV cd t4.val) (scV sc) (slotF t4)) (fun x => (x 0).val < 32 * 0))
      ⊢ iprop((iprop(SlabA c arg4 arg6 arg14 q4 cd (t4.val + 1) 0 ∗ Owes c ∗ Own c arg10 q10 (scV sc)
        ∗ DqTo c arg7 (dqAt (show S2x2048x3072.Idx → F .fp8e5m2 from chV cd t4.val) (scV sc) (slotF t4)) (fun x => (x 0).val < 32 * (0 + 1))) -∗ Q ⟨⟩)
        -∗ WP 𝒱 c (k0_part127 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 t4 a18) (fun x => WP 𝒱 c (k0_part128 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 t4 v497 x.1 x.2) Q)) := by
  have hk := lt_of_lt_of_eq t4.isLt t4_trips
  iintro ⟨HS, HO, H10, H7⟩ HQ
  unfold k0_part127
  dsimp only
  rw [WP_bind]
  iapply (slab_wait 𝒱 c t4.val hk 0 (off30_eq t4) cd) $$ [HS HO]
  · iframe
  iintro ⟨H6, HO, HS⟩
  iapply (WP_pure 𝒱 c)
  unfold k0_part128
  dsimp only
  rw [WP_bind]
  iapply (dqLoop_spec 𝒱 c (arg6 := arg6) (arg7 := arg7) (arg10 := arg10) t4 0 (by decide) k0_t7_loop (by decide +kernel) k0_t7_ok _ (fun k a => t7_body_eq t4 v497 _ _ k) (show S2x2048x3072.Idx → F .fp8e5m2 from chV cd t4.val) (scV sc)
    (P6 := slabP t4.val 0) (fun x h1 h2 h3 => ⟨h1, by show (x 1).val / 256 = 0; omega⟩)) $$ [H6 H10 H7]
  · iframe
  iintro ⟨H6, H10, H7⟩
  iapply (WP_pure 𝒱 c)
  iapply HQ
  iframe
  iapply HS
  iexists _
  iexact H6

theorem slab1_spec (t4 : Fin k0_t4_loop.trips) (a18 v497 : BitVec 32) (q4 q10 : PosShare TreeShare) (cd : ℕ → ℕ → F .fp8e5m2) (sc : ℕ → F .f32) {Q : PUnit → sProp 𝕄} :
    iprop(SlabB c arg4 arg6 arg14 q4 cd t4.val 1 ∗ Owes c ∗ Own c arg10 q10 (scV sc)
        ∗ DqTo c arg7 (dqAt (show S2x2048x3072.Idx → F .fp8e5m2 from chV cd t4.val) (scV sc) (slotF t4)) (fun x => (x 0).val < 32 * 1))
      ⊢ iprop((iprop(SlabA c arg4 arg6 arg14 q4 cd (t4.val + 1) 1 ∗ Owes c ∗ Own c arg10 q10 (scV sc)
        ∗ DqTo c arg7 (dqAt (show S2x2048x3072.Idx → F .fp8e5m2 from chV cd t4.val) (scV sc) (slotF t4)) (fun x => (x 0).val < 32 * (1 + 1))) -∗ Q ⟨⟩)
        -∗ WP 𝒱 c (k0_part129 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 t4 a18) (fun x => WP 𝒱 c (k0_part130 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 t4 v497 x.1 x.2) Q)) := by
  have hk := lt_of_lt_of_eq t4.isLt t4_trips
  iintro ⟨HS, HO, H10, H7⟩ HQ
  unfold k0_part129
  dsimp only
  rw [WP_bind]
  iapply (slab_wait 𝒱 c t4.val hk 1 (off82_eq t4) cd) $$ [HS HO]
  · iframe
  iintro ⟨H6, HO, HS⟩
  iapply (WP_pure 𝒱 c)
  unfold k0_part130
  dsimp only
  rw [WP_bind]
  iapply (dqLoop_spec 𝒱 c (arg6 := arg6) (arg7 := arg7) (arg10 := arg10) t4 1 (by decide) k0_t8_loop (by decide +kernel) k0_t8_ok _ (fun k a => t8_body_eq t4 v497 _ _ k) (show S2x2048x3072.Idx → F .fp8e5m2 from chV cd t4.val) (scV sc)
    (P6 := slabP t4.val 1) (fun x h1 h2 h3 => ⟨h1, by show (x 1).val / 256 = 1; omega⟩)) $$ [H6 H10 H7]
  · iframe
  iintro ⟨H6, H10, H7⟩
  iapply (WP_pure 𝒱 c)
  iapply HQ
  iframe
  iapply HS
  iexists _
  iexact H6

theorem slab2_spec (t4 : Fin k0_t4_loop.trips) (a18 v497 : BitVec 32) (q4 q10 : PosShare TreeShare) (cd : ℕ → ℕ → F .fp8e5m2) (sc : ℕ → F .f32) {Q : PUnit → sProp 𝕄} :
    iprop(SlabB c arg4 arg6 arg14 q4 cd t4.val 2 ∗ Owes c ∗ Own c arg10 q10 (scV sc)
        ∗ DqTo c arg7 (dqAt (show S2x2048x3072.Idx → F .fp8e5m2 from chV cd t4.val) (scV sc) (slotF t4)) (fun x => (x 0).val < 32 * 2))
      ⊢ iprop((iprop(SlabA c arg4 arg6 arg14 q4 cd (t4.val + 1) 2 ∗ Owes c ∗ Own c arg10 q10 (scV sc)
        ∗ DqTo c arg7 (dqAt (show S2x2048x3072.Idx → F .fp8e5m2 from chV cd t4.val) (scV sc) (slotF t4)) (fun x => (x 0).val < 32 * (2 + 1))) -∗ Q ⟨⟩)
        -∗ WP 𝒱 c (k0_part131 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 t4 a18) (fun x => WP 𝒱 c (k0_part132 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 t4 v497 x.1 x.2) Q)) := by
  have hk := lt_of_lt_of_eq t4.isLt t4_trips
  iintro ⟨HS, HO, H10, H7⟩ HQ
  unfold k0_part131
  dsimp only
  rw [WP_bind]
  iapply (slab_wait 𝒱 c t4.val hk 2 (off134_eq t4) cd) $$ [HS HO]
  · iframe
  iintro ⟨H6, HO, HS⟩
  iapply (WP_pure 𝒱 c)
  unfold k0_part132
  dsimp only
  rw [WP_bind]
  iapply (dqLoop_spec 𝒱 c (arg6 := arg6) (arg7 := arg7) (arg10 := arg10) t4 2 (by decide) k0_t9_loop (by decide +kernel) k0_t9_ok _ (fun k a => t9_body_eq t4 v497 _ _ k) (show S2x2048x3072.Idx → F .fp8e5m2 from chV cd t4.val) (scV sc)
    (P6 := slabP t4.val 2) (fun x h1 h2 h3 => ⟨h1, by show (x 1).val / 256 = 2; omega⟩)) $$ [H6 H10 H7]
  · iframe
  iintro ⟨H6, H10, H7⟩
  iapply (WP_pure 𝒱 c)
  iapply HQ
  iframe
  iapply HS
  iexists _
  iexact H6

theorem slab3_spec (t4 : Fin k0_t4_loop.trips) (a18 v497 : BitVec 32) (q4 q10 : PosShare TreeShare) (cd : ℕ → ℕ → F .fp8e5m2) (sc : ℕ → F .f32) {Q : PUnit → sProp 𝕄} :
    iprop(SlabB c arg4 arg6 arg14 q4 cd t4.val 3 ∗ Owes c ∗ Own c arg10 q10 (scV sc)
        ∗ DqTo c arg7 (dqAt (show S2x2048x3072.Idx → F .fp8e5m2 from chV cd t4.val) (scV sc) (slotF t4)) (fun x => (x 0).val < 32 * 3))
      ⊢ iprop((iprop(SlabA c arg4 arg6 arg14 q4 cd (t4.val + 1) 3 ∗ Owes c ∗ Own c arg10 q10 (scV sc)
        ∗ DqTo c arg7 (dqAt (show S2x2048x3072.Idx → F .fp8e5m2 from chV cd t4.val) (scV sc) (slotF t4)) (fun x => (x 0).val < 32 * (3 + 1))) -∗ Q ⟨⟩)
        -∗ WP 𝒱 c (k0_part133 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 t4 a18) (fun x => WP 𝒱 c (k0_part134 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 t4 v497 x.1 x.2) Q)) := by
  have hk := lt_of_lt_of_eq t4.isLt t4_trips
  iintro ⟨HS, HO, H10, H7⟩ HQ
  unfold k0_part133
  dsimp only
  rw [WP_bind]
  iapply (slab_wait 𝒱 c t4.val hk 3 (off186_eq t4) cd) $$ [HS HO]
  · iframe
  iintro ⟨H6, HO, HS⟩
  iapply (WP_pure 𝒱 c)
  unfold k0_part134
  dsimp only
  rw [WP_bind]
  iapply (dqLoop_spec 𝒱 c (arg6 := arg6) (arg7 := arg7) (arg10 := arg10) t4 3 (by decide) k0_t10_loop (by decide +kernel) k0_t10_ok _ (fun k a => t10_body_eq t4 v497 _ _ k) (show S2x2048x3072.Idx → F .fp8e5m2 from chV cd t4.val) (scV sc)
    (P6 := slabP t4.val 3) (fun x h1 h2 h3 => ⟨h1, by show (x 1).val / 256 = 3; omega⟩)) $$ [H6 H10 H7]
  · iframe
  iintro ⟨H6, H10, H7⟩
  iapply (WP_pure 𝒱 c)
  iapply HQ
  iframe
  iapply HS
  iexists _
  iexact H6

theorem slab4_spec (t4 : Fin k0_t4_loop.trips) (a18 v497 : BitVec 32) (q4 q10 : PosShare TreeShare) (cd : ℕ → ℕ → F .fp8e5m2) (sc : ℕ → F .f32) {Q : PUnit → sProp 𝕄} :
    iprop(SlabB c arg4 arg6 arg14 q4 cd t4.val 4 ∗ Owes c ∗ Own c arg10 q10 (scV sc)
        ∗ DqTo c arg7 (dqAt (show S2x2048x3072.Idx → F .fp8e5m2 from chV cd t4.val) (scV sc) (slotF t4)) (fun x => (x 0).val < 32 * 4))
      ⊢ iprop((iprop(SlabA c arg4 arg6 arg14 q4 cd (t4.val + 1) 4 ∗ Owes c ∗ Own c arg10 q10 (scV sc)
        ∗ DqTo c arg7 (dqAt (show S2x2048x3072.Idx → F .fp8e5m2 from chV cd t4.val) (scV sc) (slotF t4)) (fun x => (x 0).val < 32 * (4 + 1))) -∗ Q ⟨⟩)
        -∗ WP 𝒱 c (k0_part135 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 t4 a18) (fun x => WP 𝒱 c (k0_part136 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 t4 v497 x.1 x.2) Q)) := by
  have hk := lt_of_lt_of_eq t4.isLt t4_trips
  iintro ⟨HS, HO, H10, H7⟩ HQ
  unfold k0_part135
  dsimp only
  rw [WP_bind]
  iapply (slab_wait 𝒱 c t4.val hk 4 (off238_eq t4) cd) $$ [HS HO]
  · iframe
  iintro ⟨H6, HO, HS⟩
  iapply (WP_pure 𝒱 c)
  unfold k0_part136
  dsimp only
  rw [WP_bind]
  iapply (dqLoop_spec 𝒱 c (arg6 := arg6) (arg7 := arg7) (arg10 := arg10) t4 4 (by decide) k0_t11_loop (by decide +kernel) k0_t11_ok _ (fun k a => t11_body_eq t4 v497 _ _ k) (show S2x2048x3072.Idx → F .fp8e5m2 from chV cd t4.val) (scV sc)
    (P6 := slabP t4.val 4) (fun x h1 h2 h3 => ⟨h1, by show (x 1).val / 256 = 4; omega⟩)) $$ [H6 H10 H7]
  · iframe
  iintro ⟨H6, H10, H7⟩
  iapply (WP_pure 𝒱 c)
  iapply HQ
  iframe
  iapply HS
  iexists _
  iexact H6

theorem slab5_spec (t4 : Fin k0_t4_loop.trips) (a18 v497 : BitVec 32) (q4 q10 : PosShare TreeShare) (cd : ℕ → ℕ → F .fp8e5m2) (sc : ℕ → F .f32) {Q : PUnit → sProp 𝕄} :
    iprop(SlabB c arg4 arg6 arg14 q4 cd t4.val 5 ∗ Owes c ∗ Own c arg10 q10 (scV sc)
        ∗ DqTo c arg7 (dqAt (show S2x2048x3072.Idx → F .fp8e5m2 from chV cd t4.val) (scV sc) (slotF t4)) (fun x => (x 0).val < 32 * 5))
      ⊢ iprop((iprop(SlabA c arg4 arg6 arg14 q4 cd (t4.val + 1) 5 ∗ Owes c ∗ Own c arg10 q10 (scV sc)
        ∗ DqTo c arg7 (dqAt (show S2x2048x3072.Idx → F .fp8e5m2 from chV cd t4.val) (scV sc) (slotF t4)) (fun x => (x 0).val < 32 * (5 + 1))) -∗ Q ⟨⟩)
        -∗ WP 𝒱 c (k0_part137 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 t4 a18) (fun x => WP 𝒱 c (k0_part138 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 t4 v497 x.1 x.2) Q)) := by
  have hk := lt_of_lt_of_eq t4.isLt t4_trips
  iintro ⟨HS, HO, H10, H7⟩ HQ
  unfold k0_part137
  dsimp only
  rw [WP_bind]
  iapply (slab_wait 𝒱 c t4.val hk 5 (off290_eq t4) cd) $$ [HS HO]
  · iframe
  iintro ⟨H6, HO, HS⟩
  iapply (WP_pure 𝒱 c)
  unfold k0_part138
  dsimp only
  rw [WP_bind]
  iapply (dqLoop_spec 𝒱 c (arg6 := arg6) (arg7 := arg7) (arg10 := arg10) t4 5 (by decide) k0_t12_loop (by decide +kernel) k0_t12_ok _ (fun k a => t12_body_eq t4 v497 _ _ k) (show S2x2048x3072.Idx → F .fp8e5m2 from chV cd t4.val) (scV sc)
    (P6 := slabP t4.val 5) (fun x h1 h2 h3 => ⟨h1, by show (x 1).val / 256 = 5; omega⟩)) $$ [H6 H10 H7]
  · iframe
  iintro ⟨H6, H10, H7⟩
  iapply (WP_pure 𝒱 c)
  iapply HQ
  iframe
  iapply HS
  iexists _
  iexact H6

theorem slab6_spec (t4 : Fin k0_t4_loop.trips) (a18 v497 : BitVec 32) (q4 q10 : PosShare TreeShare) (cd : ℕ → ℕ → F .fp8e5m2) (sc : ℕ → F .f32) {Q : PUnit → sProp 𝕄} :
    iprop(SlabB c arg4 arg6 arg14 q4 cd t4.val 6 ∗ Owes c ∗ Own c arg10 q10 (scV sc)
        ∗ DqTo c arg7 (dqAt (show S2x2048x3072.Idx → F .fp8e5m2 from chV cd t4.val) (scV sc) (slotF t4)) (fun x => (x 0).val < 32 * 6))
      ⊢ iprop((iprop(SlabA c arg4 arg6 arg14 q4 cd (t4.val + 1) 6 ∗ Owes c ∗ Own c arg10 q10 (scV sc)
        ∗ DqTo c arg7 (dqAt (show S2x2048x3072.Idx → F .fp8e5m2 from chV cd t4.val) (scV sc) (slotF t4)) (fun x => (x 0).val < 32 * (6 + 1))) -∗ Q ⟨⟩)
        -∗ WP 𝒱 c (k0_part139 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 t4 a18) (fun x => WP 𝒱 c (k0_part140 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 t4 v497 x.1 x.2) Q)) := by
  have hk := lt_of_lt_of_eq t4.isLt t4_trips
  iintro ⟨HS, HO, H10, H7⟩ HQ
  unfold k0_part139
  dsimp only
  rw [WP_bind]
  iapply (slab_wait 𝒱 c t4.val hk 6 (off342_eq t4) cd) $$ [HS HO]
  · iframe
  iintro ⟨H6, HO, HS⟩
  iapply (WP_pure 𝒱 c)
  unfold k0_part140
  dsimp only
  rw [WP_bind]
  iapply (dqLoop_spec 𝒱 c (arg6 := arg6) (arg7 := arg7) (arg10 := arg10) t4 6 (by decide) k0_t13_loop (by decide +kernel) k0_t13_ok _ (fun k a => t13_body_eq t4 v497 _ _ k) (show S2x2048x3072.Idx → F .fp8e5m2 from chV cd t4.val) (scV sc)
    (P6 := slabP t4.val 6) (fun x h1 h2 h3 => ⟨h1, by show (x 1).val / 256 = 6; omega⟩)) $$ [H6 H10 H7]
  · iframe
  iintro ⟨H6, H10, H7⟩
  iapply (WP_pure 𝒱 c)
  iapply HQ
  iframe
  iapply HS
  iexists _
  iexact H6

theorem slab7_spec (t4 : Fin k0_t4_loop.trips) (a18 v497 : BitVec 32) (q4 q10 : PosShare TreeShare) (cd : ℕ → ℕ → F .fp8e5m2) (sc : ℕ → F .f32) {Q : PUnit → sProp 𝕄} :
    iprop(SlabB c arg4 arg6 arg14 q4 cd t4.val 7 ∗ Owes c ∗ Own c arg10 q10 (scV sc)
        ∗ DqTo c arg7 (dqAt (show S2x2048x3072.Idx → F .fp8e5m2 from chV cd t4.val) (scV sc) (slotF t4)) (fun x => (x 0).val < 32 * 7))
      ⊢ iprop((iprop(SlabA c arg4 arg6 arg14 q4 cd (t4.val + 1) 7 ∗ Owes c ∗ Own c arg10 q10 (scV sc)
        ∗ DqTo c arg7 (dqAt (show S2x2048x3072.Idx → F .fp8e5m2 from chV cd t4.val) (scV sc) (slotF t4)) (fun x => (x 0).val < 32 * (7 + 1))) -∗ Q ⟨⟩)
        -∗ WP 𝒱 c (k0_part141 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 t4 a18) (fun x => WP 𝒱 c (k0_part142 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 t4 v497 x.1 x.2) Q)) := by
  have hk := lt_of_lt_of_eq t4.isLt t4_trips
  iintro ⟨HS, HO, H10, H7⟩ HQ
  unfold k0_part141
  dsimp only
  rw [WP_bind]
  iapply (slab_wait 𝒱 c t4.val hk 7 (off394_eq t4) cd) $$ [HS HO]
  · iframe
  iintro ⟨H6, HO, HS⟩
  iapply (WP_pure 𝒱 c)
  unfold k0_part142
  dsimp only
  rw [WP_bind]
  iapply (dqLoop_spec 𝒱 c (arg6 := arg6) (arg7 := arg7) (arg10 := arg10) t4 7 (by decide) k0_t14_loop (by decide +kernel) k0_t14_ok _ (fun k a => t14_body_eq t4 v497 _ _ k) (show S2x2048x3072.Idx → F .fp8e5m2 from chV cd t4.val) (scV sc)
    (P6 := slabP t4.val 7) (fun x h1 h2 h3 => ⟨h1, by show (x 1).val / 256 = 7; omega⟩)) $$ [H6 H10 H7]
  · iframe
  iintro ⟨H6, H10, H7⟩
  iapply (WP_pure 𝒱 c)
  iapply HQ
  iframe
  iapply HS
  iexists _
  iexact H6

/-! ## The blocks past the last segment -/

def zeroV : S8x24x8x128.Idx → F .f32 := fun _ => Scalar.ofBits .f32 0x00000000#32
def zP (nb j : ℕ) : S256x96x8x128.Idx → Prop := fun z => (z 0).val / 8 = nb + j % (32 - nb) ∧ (z 1).val / 24 = j / (32 - nb)
def zU (nb n : ℕ) : S256x96x8x128.Idx → Prop := fun z => nb ≤ (z 0).val / 8 ∧ n ≤ (z 1).val / 24 * (32 - nb) + ((z 0).val / 8 - nb)

/-- What the copy of zero block number `j` delivers. -/
def zD (c : Dev nD) (arg5 : Memref sig .tc .hbm S256x96x8x128 .f32) (arg9 : Memref sig .tc .vmem S8x24x8x128 .f32) (X0 : BufTy.Contents (Elt F) arg9.view.ty) (nb : ℕ) (j : Fin (4 * (32 - nb))) : sProp 𝕄 :=
  iprop(Has c arg5 (zP nb j.val) fullShare (fun _ => Scalar.ofBits .f32 0x00000000#32) ∗ (arg9.view.loc (c : Thread nD τ) ↦[arg9.view.set]{Transfers.shareTokN fullShare j.val} X0))

instance zD_storable (c : Dev nD) (arg5 : Memref sig .tc .hbm S256x96x8x128 .f32) (arg9 : Memref sig .tc .vmem S8x24x8x128 .f32) (X0 : BufTy.Contents (Elt F) arg9.view.ty) (nb : ℕ) (j : Fin (4 * (32 - nb))) :
    BI.Storable (upEmb : UEmb _ 𝕄) (zD c arg5 arg9 X0 nb j) := by
  unfold zD; infer_instance

/-- The zero copies once `n` of them have been started. -/
def ZeroS (c : Dev nD) (arg5 : Memref sig .tc .hbm S256x96x8x128 .f32) (arg9 : Memref sig .tc .vmem S8x24x8x128 .f32) (arg16 : DmaSems sig S_) (X0 : BufTy.Contents (Elt F) arg9.view.ty) (nb n : ℕ) : sProp 𝕄 :=
  iprop((⌜32 ≤ nb⌝ ∗ Cell c arg16.sem ∗ (arg9.view.loc (c : Thread nD τ) ↦[arg9.view.set]{fullShare} X0))
    ∨ (⌜nb < 32⌝ ∗ Bat c arg16.sem (cred arg5 S8x24x8x128) (zD c arg5 arg9 X0 nb) n 0
        ∗ (arg9.view.loc (c : Thread nD τ) ↦[arg9.view.set]{Transfers.shareDrop fullShare n} X0) ∗ Any (F := F) c arg5 (zU nb n)))

section
variable {sp sp' : Space} {s : Shape} {e : EltTy}
theorem batch_start_src {n : ℕ} {D : Fin n → sProp 𝕄} {src : Memref sig .tc sp s e} {dst : Memref sig .tc sp' s e} {sm : DmaSem sig} {q : PosShare TreeShare}
    {hsrc : src.view.WordExact} {hdst : dst.view.WordExact} {hsem : (DmaTarget.here dst : DmaTarget nD τ sig (.tc : Proc τ) sp' s e).Typed sp (.dma sm)}
    {Q : PUnit → sProp 𝕄} (N : ℕ) (hN : dst.view.dmaCredit = N) (X : BufTy.Contents (Elt F) src.view.ty) {g0 g : s.Idx → Elt F e} (hX : src.view.read (Elt F) X = g) {j u : ℕ} (hj : j < n) (hu : u ≤ j * N)
    (hD : iprop(Own c dst fullShare g ∗ (src.view.loc (c : Thread nD τ) ↦[src.view.set]{q} X)) ⊢ D ⟨j, hj⟩) :
    iprop((src.view.loc (c : Thread nD τ) ↦[src.view.set]{q} X) ∗ Own c dst fullShare g0 ∗ Bat c sm N D j u)
      ⊢ iprop((Bat c sm N D (j + 1) u -∗ Q ⟨⟩)
        -∗ WP 𝒱 c (Prog.lift (.enqueueDma src (.here dst) (.dma sm) hsrc hdst hsem)) Q) := by
  subst hX
  iintro ⟨Hs, Hd, Hv⟩ HQ
  ihave Hd := Own.to_pointsTo $$ Hd
  icases Hd with ⟨%Y, %hY, Hd⟩
  have hl : (dst.view.loc (c : Thread nD τ) ↦[dst.view.set]{fullShare} (dst.view.write (Elt F) Y ((ReadAs.same : ReadAs (Elt F) s e s e).apply (src.view.read (Elt F) X)) Finset.univ) : sProp 𝕄) ⊢ Own c dst fullShare (src.view.read (Elt F) X) := by
    refine (Own.of_pointsTo _).trans (Entails.of_eq ?_)
    rw [View.read_write_univ]
  iapply (Transfers.wp_dmaBatch (countersEmb (U := UD sig nD τ)) 𝒱 (c : Thread nD τ) none (src := src) (dst := dst) (sm := .dma sm) () N hN (Finset.Subset.refl _) hj hu
    (BIBase.Entails.trans (BIClass.sep_mono hl BIBase.Entails.rfl) hD)) $$ [Hs Hd Hv]
  · isplitl [Hs]; · iexact Hs
    isplitl [Hd]; · iexact Hd
    iexact Hv
  iintro HF
  iapply (le_wp_ret _ _ _ _ _)
  iapply HQ
  iexact HF
end

theorem zdiv {m k t : ℕ} (h : t < m) : (k * m + t) % m = t ∧ (k * m + t) / m = k := by
  constructor
  · rw [Nat.mul_comm, Nat.mul_add_mod, Nat.mod_eq_of_lt h]
  · rw [Nat.mul_comm, Nat.mul_add_div (by omega), Nat.div_eq_of_lt h]; rfl

theorem zP_mem {nb k t : ℕ} (h : t < 32 - nb) {off : Fin 4 → ℕ} {hb : ∀ a, off a + S8x24x8x128.size a ≤ S256x96x8x128.size a} (e : off = ![(nb + t) * 8, k * 24, 0, 0]) (z : S256x96x8x128.Idx) :
    zP nb (k * (32 - nb) + t) z ↔ z ∈ (Rect.unit (s := S256x96x8x128) off S8x24x8x128.size hb).set := by
  subst e
  have hz := zdiv (k := k) h
  rw [mem_unit, Fin.forall_fin_succ, Fin.forall_fin_succ, Fin.forall_fin_succ, Fin.forall_fin_succ]
  show _ ↔ ((nb + t) * 8 ≤ (z 0).val ∧ (z 0).val < (nb + t) * 8 + 8) ∧ (k * 24 ≤ (z 1).val ∧ (z 1).val < k * 24 + 24) ∧ (0 ≤ (z 2).val ∧ (z 2).val < 0 + 8) ∧ (0 ≤ (z 3).val ∧ (z 3).val < 0 + 128) ∧ _
  have h2 : (z 2).val < 8 := (z 2).isLt
  have h3 : (z 3).val < 128 := (z 3).isLt
  unfold zP
  rw [hz.1, hz.2]
  constructor
  · rintro ⟨h4, h5⟩
    exact ⟨by omega, by omega, by omega, by omega, fun a => a.elim0⟩
  · rintro ⟨h4, h5, _⟩
    exact ⟨by omega, by omega⟩

theorem zU_split {nb k t : ℕ} (h : t < 32 - nb) (z : S256x96x8x128.Idx) :
    zU nb (k * (32 - nb) + t) z ↔ (zP nb (k * (32 - nb) + t) z ∨ zU nb (k * (32 - nb) + t + 1) z) := by
  have hz := zdiv (k := k) h
  unfold zU zP
  rw [hz.1, hz.2]
  have h0 : (z 0).val < 256 := (z 0).isLt
  constructor
  · rintro ⟨h1, h2⟩
    by_cases h3 : k * (32 - nb) + t + 1 ≤ (z 1).val / 24 * (32 - nb) + ((z 0).val / 8 - nb)
    · exact .inr ⟨h1, h3⟩
    · have := step_inj (nb := 32 - nb) (k := (z 1).val / 24) (k' := k) (b := (z 0).val / 8 - nb) (b' := t) (by omega) h (by omega)
      exact .inl ⟨by omega, this.1⟩
  · rintro (⟨h1, h2⟩ | ⟨h1, h2⟩)
    · rw [h2, h1]; exact ⟨by omega, by omega⟩
    · exact ⟨h1, by omega⟩

theorem part124_spec (v49 : BitVec 32) (h : v49.toNat ≤ 2048) (hw2 : k0_chk2 v49) (v68 : BitVec 32) (t4 : Fin k0_t4_loop.trips) (a18 c0 c1 : BitVec 32) (X0 : BufTy.Contents (Elt F) arg9.view.ty)
    (hX0 : arg9.view.read (Elt F) X0 = (show S8x24x8x128.Idx → Elt F .f32 from zeroV)) {Q : BitVec 32 → sProp 𝕄} :
    ZeroS c arg5 arg9 arg16 X0 ((v49.toNat + 63) / 64) (t4.val * (32 - (v49.toNat + 63) / 64))
      ⊢ iprop((∀ r, ZeroS c arg5 arg9 arg16 X0 ((v49.toNat + 63) / 64) ((t4.val + 1) * (32 - (v49.toNat + 63) / 64)) -∗ Q r)
        -∗ WP 𝒱 c (k0_part124 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v49 hw2 v68 t4 a18 c0 c1) Q) := by
  have hk := lt_of_lt_of_eq t4.isLt t4_trips
  unfold k0_part124
  dsimp only
  iintro H HQ
  iapply (loop_rule 𝒱 c (k0_t5_loop v49) (k0_t5_ok v49 hw2) c0 _
    (fun t _ => ZeroS c arg5 arg9 arg16 X0 ((v49.toNat + 63) / 64) (t4.val * (32 - (v49.toNat + 63) / 64) + t)) (fun t a => by
      have ht := lt_of_lt_of_eq t.isLt (t5_trips v49 h)
      have e := off28_eq v49 h t4 t
      generalize hnb : (v49.toNat + 63) / 64 = nb at *
      have hj : t4.val * (32 - nb) + t.val < 4 * (32 - nb) := by
        have : (t4.val + 1) * (32 - nb) ≤ 4 * (32 - nb) := Nat.mul_le_mul (by omega) (le_refl _)
        rw [Nat.succ_mul] at this
        omega
      unfold ZeroS
      iintro (⟨%h1, H⟩ | ⟨%h1, HB, H9, H5⟩)
      · exfalso; omega
      · rw [WP_bind]
        ihave H5 := (Any.split (zU_split ht) (fun z h2 h3 => by
          have hz := zdiv (k := t4.val) ht
          unfold zP zU at *
          rw [hz.1, hz.2] at h2
          rw [h2.2, h2.1] at h3
          omega)) $$ H5
        icases H5 with ⟨⟨%g5, H5⟩, H5'⟩
        ihave H9 := (pointsTo_share (PosShare.mem_left_op_right _)).1 $$ H9
        icases H9 with ⟨H9, H9t⟩
        iapply (batch_start_src 𝒱 c (n := 4 * (32 - nb)) (D := zD c arg5 arg9 X0 nb) (src := arg9) (g := show S8x24x8x128.Idx → Elt F .f32 from zeroV) (q := Transfers.shareTokN fullShare (t4.val * (32 - nb) + t.val))
          (g0 := show S8x24x8x128.Idx → Elt F .f32 from fun y => g5 ((Rect.unit (s := S256x96x8x128) (k0_off28 v49 t4 t) S8x24x8x128.size (k0_off28_inb v49 hw2 t4 t)).emb y)) (cred arg5 S8x24x8x128) rfl X0 hX0 hj (Nat.zero_le _) (by
            unfold zD
            refine BIClass.sep_mono ?_ BIBase.Entails.rfl
            exact Has.of_window' (m := arg5) _ (fun _ => rfl) (zP_mem ht e) (fun _ => rfl))) $$ [HB H9t H5]
        · isplitl [H9t]
          · iexact H9t
          isplitl [H5]
          · iapply (Has.to_window' (m := arg5) _ (fun _ => rfl) (zP_mem ht e) (fun _ => rfl)) $$ H5
          · iexact HB
        iintro HB
        iapply (WP_pure 𝒱 c)
        iright
        iframe
        isplitr [H9]
        · ipureintro; exact h1
        · iexact H9)) $$ [H]
  · iexact H
  · iintro %acc H
    iapply HQ
    rw [t5_trips v49 h, ← Nat.succ_mul]
    iexact H

/-! ## The blocks of one chunk -/

/-- What has to be known of the index lists for block `b` of chunk `t4`. -/
def BlkOk (v49 v370 : BitVec 32) (so : S2049.Idx → Elt F .i32) (sw dw : ℕ → BitVec 32) (tk : ℕ → ℕ) (X : ℕ → ℕ → ℕ → F .f32) (O : ℕ → ℕ → ℕ → F .f32) (G : Prop) (t4 : ℕ) (t15 : Fin (k0_t15_loop v49).trips) : Prop :=
  ∃ (w593 w602 : BitVec 32) (p0 p1 : ℕ) (lc : ℕ → ℕ), (∀ i : S2049.Idx, (i 0).val = t15.val * 64 → so i = w593) ∧ (∀ i : S2049.Idx, (i 0).val = (t15.val + 1) * 64 → so i = w602)
    ∧ (p0W v370 t15 w593).toNat = p0 ∧ w602.toNat = p1 ∧ p0 ≤ p1 ∧ p1 ≤ 2048
    ∧ (∀ q, p0 ≤ q → q < p0 + 8 * ((p1 - p0 + 7) / 8) → PosOk sw dw tk lc t15 q)
    ∧ (G → ∀ z : S6912x128.Idx, zRow z < 64 → stD lc p0 (fun _ => k0_cond3 v49 t15 = 1#1) (8 * ((p1 - p0 + 7) / 8)) z
      ∧ stV sw tk lc X p0 (fun _ => Scalar.ofBits .f32 0x00000000#32) (8 * ((p1 - p0 + 7) / 8)) z = O (64 * t15.val + zRow z) (24 * t4 + zTile z) (z 1).val)

theorem blkLoop_spec (v49 : BitVec 32) (h : v49.toNat ≤ 2048) (hw2 : k0_chk2 v49) (v370 : BitVec 32) (t4 : Fin k0_t4_loop.trips) (a18 : BitVec 32)
    {q0 : PosShare TreeShare} (so : S2049.Idx → Elt F .i32) (sw dw : ℕ → BitVec 32) (tk : ℕ → ℕ) (X : ℕ → ℕ → ℕ → F .f32) (O : ℕ → ℕ → ℕ → F .f32) (G : Prop)
    (hok : ∀ t15, BlkOk v49 v370 so sw dw tk X O G t4.val t15) {Q : BitVec 32 → sProp 𝕄} :
    iprop(Own c arg0 q0 so ∗ Own c arg12 fullShare (wordsAt sw) ∗ Own c arg13 fullShare (wordsAt dw) ∗ Own c arg7 fullShare (X4 X) ∗ Owes c
        ∗ RingS c arg5 arg8 arg15 O G ((v49.toNat + 63) / 64) (t4.val * ((v49.toNat + 63) / 64)))
      ⊢ iprop((∀ r, iprop(Own c arg0 q0 so ∗ Own c arg12 fullShare (wordsAt sw) ∗ Own c arg13 fullShare (wordsAt dw) ∗ Own c arg7 fullShare (X4 X) ∗ Owes c
        ∗ RingS c arg5 arg8 arg15 O G ((v49.toNat + 63) / 64) ((t4.val + 1) * ((v49.toNat + 63) / 64))) -∗ Q r)
        -∗ WP 𝒱 c (blkLoop (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v49 hw2 v370 t4 a18) Q) := by
  unfold blkLoop
  iintro H HQ
  iapply (loop_rule 𝒱 c (k0_t15_loop v49) (k0_t15_ok v49 hw2) 0#32 _
    (fun t _ => iprop(Own c arg0 q0 so ∗ Own c arg12 fullShare (wordsAt sw) ∗ Own c arg13 fullShare (wordsAt dw) ∗ Own c arg7 fullShare (X4 X) ∗ Owes c
        ∗ RingS c arg5 arg8 arg15 O G ((v49.toNat + 63) / 64) (t4.val * ((v49.toNat + 63) / 64) + t))) (fun t a => by
      obtain ⟨w593, w602, p0, p1, lc, e1, e2, e3, e4, e5, e6, e7, e8⟩ := hok t
      iintro H
      iapply (blk_spec 𝒱 c v49 h hw2 v370 t4 a18 t so w593 w602 e1 e2 p0 p1 e3 e4 e5 e6 sw dw tk lc X e7 O G e8) $$ H
      iintro H
      iexact H)) $$ [H]
  · iexact H
  · iintro %acc H
    iapply HQ
    rw [t15_trips v49 h, ← Nat.succ_mul]
    iexact H

end Cert.Kernel.Emb
-- ==== Proof.Kernel.ChunkLoop.lean ====
module

public import proofs.«01_k».proof.Proof.Kernel.Chunk

@[expose] public section

noncomputable section

namespace Cert.Kernel.Emb

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]
local notation "𝕄" => MT nD τ sig Unit (Elt F) ℕ (UD sig nD τ) ℕ
variable (𝒱 : Variants) (c : Dev nD)
variable {arg0 : Memref sig .tc .smem S2049 .i32} {harg0 : arg0.IsWhole} {arg1 : Memref sig .tc .vmem S16x128 .i32} {harg1 : arg1.IsWhole} {arg2 : Memref sig .tc .vmem S2x1024 .i32} {harg2 : arg2.IsWhole} {arg3 : Memref sig .tc .vmem S2x1024 .f32} {harg3 : arg3.IsWhole} {arg4 : Memref sig .tc .hbm S2x1024x12288 .fp8e5m2} {harg4 : arg4.IsWhole} {arg5 : Memref sig .tc .hbm S256x96x8x128 .f32} {harg5 : arg5.IsWhole} {arg6 : Memref sig .tc .vmem S2x2048x3072 .fp8e5m2} {harg6 : arg6.IsWhole} {arg7 : Memref sig .tc .vmem S256x24x8x128 .f32} {harg7 : arg7.IsWhole} {arg8 : Memref sig .tc .vmem S4x9x24x8x128 .f32} {harg8 : arg8.IsWhole} {arg9 : Memref sig .tc .vmem S8x24x8x128 .f32} {harg9 : arg9.IsWhole} {arg10 : Memref sig .tc .vmem S2048x128 .f32} {harg10 : arg10.IsWhole} {arg11 : Memref sig .tc .vmem S2x17x128 .i32} {harg11 : arg11.IsWhole} {arg12 : Memref sig .tc .smem S2176 .i32} {harg12 : arg12.IsWhole} {arg13 : Memref sig .tc .smem S2176 .i32} {harg13 : arg13.IsWhole} {arg14 : DmaSems sig S2x8} {arg15 : DmaSems sig S4} {arg16 : DmaSems sig S_} {arg17 : DmaSems sig S_}

/-! # The chunk loop, and the last waits -/

/-- The kernel's state before chunk `k`. -/
def ChunkS (c : Dev nD) (arg0 : Memref sig .tc .smem S2049 .i32) (arg4 : Memref sig .tc .hbm S2x1024x12288 .fp8e5m2) (arg5 : Memref sig .tc .hbm S256x96x8x128 .f32) (arg6 : Memref sig .tc .vmem S2x2048x3072 .fp8e5m2)
    (arg7 : Memref sig .tc .vmem S256x24x8x128 .f32) (arg8 : Memref sig .tc .vmem S4x9x24x8x128 .f32) (arg9 : Memref sig .tc .vmem S8x24x8x128 .f32) (arg10 : Memref sig .tc .vmem S2048x128 .f32)
    (arg12 arg13 : Memref sig .tc .smem S2176 .i32) (arg14 : DmaSems sig S2x8) (arg15 : DmaSems sig S4) (arg16 : DmaSems sig S_) (q0 q4 q10 : PosShare TreeShare) (so : S2049.Idx → Elt F .i32) (sw dw : ℕ → BitVec 32)
    (cd : ℕ → ℕ → F .fp8e5m2) (sc : ℕ → F .f32) (O : ℕ → ℕ → ℕ → F .f32) (G : Prop) (X0 : BufTy.Contents (Elt F) arg9.view.ty) (nb k : ℕ) : sProp 𝕄 :=
  iprop(Own c arg0 q0 so ∗ Own c arg12 fullShare (wordsAt sw) ∗ Own c arg13 fullShare (wordsAt dw) ∗ Own c arg10 q10 (scV sc) ∗ Any (F := F) c arg7 (fun _ => True) ∗ Owes c
    ∗ RingS c arg5 arg8 arg15 O G nb (k * nb) ∗ Each8 (fun i => SlabA c arg4 arg6 arg14 q4 cd k i) ∗ ZeroS c arg5 arg9 arg16 X0 nb (k * (32 - nb)))

theorem dq_none (val : S256x24x8x128.Idx → F .f32) : Any (F := F) c arg7 (fun _ => True) ⊢ DqTo c arg7 val (fun x => (x 0).val < 32 * 0) := by
  unfold DqTo
  iintro ⟨%g, H⟩
  iexists g
  iframe
  ipureintro
  intro x hx
  exact absurd hx (by omega)

set_option maxHeartbeats 4000000 in
theorem part170_spec (v49 : BitVec 32) (h : v49.toNat ≤ 2048) (hw2 : k0_chk2 v49) (v370 : BitVec 32) {q0 q4 q10 : PosShare TreeShare} (so : S2049.Idx → Elt F .i32) (sw dw : ℕ → BitVec 32) (tk : ℕ → ℕ)
    (cd : ℕ → ℕ → F .fp8e5m2) (sc : ℕ → F .f32) (O : ℕ → ℕ → ℕ → F .f32) (G : Prop) (X0 : BufTy.Contents (Elt F) arg9.view.ty) (hX0 : arg9.view.read (Elt F) X0 = (show S8x24x8x128.Idx → Elt F .f32 from zeroV))
    (hok : ∀ k, k < 4 → ∀ t15, BlkOk v49 v370 so sw dw tk (dqX cd sc k) O G k t15) {Q : PUnit → sProp 𝕄} :
    ChunkS c arg0 arg4 arg5 arg6 arg7 arg8 arg9 arg10 arg12 arg13 arg14 arg15 arg16 q0 q4 q10 so sw dw cd sc O G X0 ((v49.toNat + 63) / 64) 0
      ⊢ iprop((ChunkS c arg0 arg4 arg5 arg6 arg7 arg8 arg9 arg10 arg12 arg13 arg14 arg15 arg16 q0 q4 q10 so sw dw cd sc O G X0 ((v49.toNat + 63) / 64) 4 -∗ Q ⟨⟩)
        -∗ WP 𝒱 c (k0_part170 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v49 hw2 (nbW v49) v370 0#32 1#32) Q) := by
  unfold k0_part170
  rw [WP_bind]
  iintro H HQ
  iapply (loop_rule 𝒱 c k0_t4_loop k0_t4_ok ⟨⟩ _
    (fun k _ => ChunkS c arg0 arg4 arg5 arg6 arg7 arg8 arg9 arg10 arg12 arg13 arg14 arg15 arg16 q0 q4 q10 so sw dw cd sc O G X0 ((v49.toNat + 63) / 64) k) (fun t4 a => by
      have hk := lt_of_lt_of_eq t4.isLt t4_trips
      simp only [WP_bind]
      unfold ChunkS
      iintro ⟨H0, H12, H13, H10, H7, HO, HR, HS, HZ⟩
      unfold k0_part121
      dsimp only
      iapply (WP_pure 𝒱 c)
      iapply (part122_spec 𝒱 c t4 _ _ q4 cd) $$ HS
      iintro HS
      unfold k0_part123
      dsimp only
      iapply (WP_pure 𝒱 c)
      iapply (part124_spec 𝒱 c v49 h hw2 _ t4 _ _ _ X0 hX0) $$ HZ
      iintro %r HZ
      unfold k0_part125
      dsimp only
      iapply (WP_pure 𝒱 c)
      unfold k0_part126
      dsimp only
      rw [WP_bind]
      iapply (loop_zero 𝒱 c _ _ _ _ (t6_trips v49 h))
      iapply (WP_pure 𝒱 c)
      unfold Each8
      icases HS with ⟨HS0, HS1, HS2, HS3, HS4, HS5, HS6, HS7⟩
      ihave H7 := (dq_none c (dqAt (show S2x2048x3072.Idx → F .fp8e5m2 from chV cd t4.val) (scV sc) (slotF t4))) $$ H7
      iapply (slab0_spec 𝒱 c t4 _ _ q4 q10 cd sc) $$ [HS0 HO H10 H7]
      · iframe
      iintro ⟨HS0, HO, H10, H7⟩
      iapply (slab1_spec 𝒱 c t4 _ _ q4 q10 cd sc) $$ [HS1 HO H10 H7]
      · iframe
      iintro ⟨HS1, HO, H10, H7⟩
      iapply (slab2_spec 𝒱 c t4 _ _ q4 q10 cd sc) $$ [HS2 HO H10 H7]
      · iframe
      iintro ⟨HS2, HO, H10, H7⟩
      iapply (slab3_spec 𝒱 c t4 _ _ q4 q10 cd sc) $$ [HS3 HO H10 H7]
      · iframe
      iintro ⟨HS3, HO, H10, H7⟩
      iapply (slab4_spec 𝒱 c t4 _ _ q4 q10 cd sc) $$ [HS4 HO H10 H7]
      · iframe
      iintro ⟨HS4, HO, H10, H7⟩
      iapply (slab5_spec 𝒱 c t4 _ _ q4 q10 cd sc) $$ [HS5 HO H10 H7]
      · iframe
      iintro ⟨HS5, HO, H10, H7⟩
      iapply (slab6_spec 𝒱 c t4 _ _ q4 q10 cd sc) $$ [HS6 HO H10 H7]
      · iframe
      iintro ⟨HS6, HO, H10, H7⟩
      iapply (slab7_spec 𝒱 c t4 _ _ q4 q10 cd sc) $$ [HS7 HO H10 H7]
      · iframe
      iintro ⟨HS7, HO, H10, H7⟩
      unfold k0_part143
      dsimp only
      iapply (WP_pure 𝒱 c)
      rw [part144_eq]
      ihave H7 := (dq_all c cd sc t4) $$ H7
      iapply (blkLoop_spec 𝒱 c v49 h hw2 v370 t4 _ so sw dw tk (dqX cd sc t4.val) O G (hok t4.val hk)) $$ [H0 H12 H13 H7 HO HR]
      · iframe
      iintro %r2 ⟨H0, H12, H13, H7, HO, HR⟩
      unfold k0_part145
      dsimp only
      iapply (WP_pure 𝒱 c)
      unfold k0_part146
      dsimp only
      rw [WP_bind]
      iapply (loop_zero 𝒱 c _ _ _ _ (t18_trips v49 h))
      iapply (WP_pure 𝒱 c)
      iapply (WP_pure 𝒱 c)
      isplitl [H0]
      · iexact H0
      isplitl [H12]
      · iexact H12
      isplitl [H13]
      · iexact H13
      isplitl [H10]
      · iexact H10
      isplitl [H7]
      · iexists _
        iexact H7
      isplitl [HO]
      · iexact HO
      isplitl [HR]
      · iexact HR
      isplitr [HZ]
      · isplitl [HS0]
        · iexact HS0
        isplitl [HS1]
        · iexact HS1
        isplitl [HS2]
        · iexact HS2
        isplitl [HS3]
        · iexact HS3
        isplitl [HS4]
        · iexact HS4
        isplitl [HS5]
        · iexact HS5
        isplitl [HS6]
        · iexact HS6
        iexact HS7
      · iexact HZ)) $$ [H]
  · iexact H
  · iintro %acc H
    iapply (WP_pure 𝒱 c)
    iapply HQ
    rw [t4_trips]
    iexact H

/-! ## The last waits on the ring -/

theorem drW (v49 : BitVec 32) (h : v49.toNat ≤ 2048) (r : ℕ) (hr : r < 4) :
    Scalar.cmpi .ne (Scalar.extui (Scalar.cmpi .sgt (Scalar.muli 4#32 (nbW v49)) (BitVec.ofNat 32 r)) : BitVec 32) 0#32 = 1#1 ↔ r < 4 * ((v49.toNat + 63) / 64) := by
  have h1 : (Scalar.muli 4#32 (nbW v49)).toNat = 4 * ((v49.toNat + 63) / 64) := by
    rw [muli_toNat _ _ (by rw [nbW_toNat v49 h]; simp; omega), nbW_toNat v49 h]; rfl
  have h2 : (BitVec.ofNat 32 r).toNat = r := by rw [BitVec.toNat_ofNat]; omega
  have e : Scalar.cmpi .sgt (Scalar.muli 4#32 (nbW v49)) (BitVec.ofNat 32 r) = BitVec.ofBool (decide (r < 4 * ((v49.toNat + 63) / 64))) := by
    show BitVec.ofBool ((BitVec.ofNat 32 r).slt (Scalar.muli 4#32 (nbW v49))) = _
    rw [slt_small _ _ (by omega) (by omega), h1, h2]
  rw [e]
  by_cases hd : r < 4 * ((v49.toNat + 63) / 64)
  · simp [hd]; decide
  · simp [hd]; decide

theorem done_last {nb : ℕ} (r : ℕ) (h : nb = 0) (z : S256x96x8x128.Idx) (s s' : ℕ) : doneP nb s z ↔ doneP nb s' z := by
  unfold doneP
  subst h
  constructor <;> exact fun h => absurd h.1 (Nat.not_lt_zero _)

theorem done_next {nb k b r : ℕ} (hb : b < nb) (hr : r < 4) (h2 : k * nb + b < 4 * nb) (h3 : 4 * nb ≤ k * nb + b + 4) (h5 : (k * nb + b) % 4 = r) :
    (∀ z : S256x96x8x128.Idx, doneP nb (4 * nb + r + 1) z ↔ (doneP nb (4 * nb + r) z ∨ blkP k b z)) ∧ (∀ z : S256x96x8x128.Idx, doneP nb (4 * nb + r) z → ¬ blkP k b z) := by
  have hj : k * nb + b + 4 = 4 * nb + r := by omega
  unfold doneP blkP
  refine ⟨fun z => ?_, fun z => ?_⟩
  · constructor
    · rintro ⟨h6, h7⟩
      by_cases h8 : (z 1).val / 24 * nb + (z 0).val / 8 + 4 < 4 * nb + r
      · exact .inl ⟨h6, h8⟩
      · have := step_inj (k := (z 1).val / 24) (k' := k) h6 hb (by omega)
        exact .inr ⟨this.2, this.1⟩
    · rintro (⟨h6, h7⟩ | ⟨h6, h7⟩)
      · exact ⟨h6, by omega⟩
      · rw [h6, h7]; exact ⟨hb, by omega⟩
  · rintro ⟨h6, h7⟩ ⟨h8, h9⟩
    rw [h8, h9] at h7
    omega

theorem drain0_spec (v49 : BitVec 32) (h : v49.toNat ≤ 2048) (O : ℕ → ℕ → ℕ → F .f32) (G : Prop) {Q : PUnit → sProp 𝕄} :
    iprop(Slot c arg5 arg8 arg15 O G ((v49.toNat + 63) / 64) (4 * ((v49.toNat + 63) / 64)) 0 ∗ To c arg5 (doneP ((v49.toNat + 63) / 64) (4 * ((v49.toNat + 63) / 64) + 0)) (OutV O) (fun _ => G) ∗ Owes c)
      ⊢ iprop((iprop(Idle (F := F) c arg8 arg15 0 ∗ To c arg5 (doneP ((v49.toNat + 63) / 64) (4 * ((v49.toNat + 63) / 64) + 0 + 1)) (OutV O) (fun _ => G) ∗ Owes c) -∗ Q ⟨⟩)
        -∗ WP 𝒱 c (k0_part171 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 (nbW v49)) (fun v => WP 𝒱 c (k0_part172 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v) Q)) := by
  have hc := drW v49 h 0 (by decide)
  generalize hnb : (v49.toNat + 63) / 64 = nb at *
  iintro ⟨HS, HD, HO⟩ HQ
  unfold k0_part171
  dsimp only
  iapply (WP_pure 𝒱 c)
  unfold k0_part172
  dsimp only
  unfold Slot
  icases HS with (⟨%h1, H⟩ | ⟨%k, %b, %h1, H⟩)
  · have h1' : 4 * nb ≤ 0 := h1
    have hn : ¬ 0 < 4 * nb := by omega
    rw [if_neg (fun hh => hn (hc.mp hh))]
    iapply (WP_pure 𝒱 c)
    iapply HQ
    iframe
    iapply (To.congr c (fun z => done_last 0 (by omega) z _ _)) $$ HD
  · obtain ⟨hb, h2, h3, h5⟩ := h1
    have hn : 0 < 4 * nb := by omega
    have hD := done_next (r := 0) hb (by decide) h2 h3 h5
    rw [if_pos (hc.mpr hn)]
    unfold Busy
    icases H with ⟨HF, Hdump⟩
    have hsm : ∀ {hh : ∀ a, (![0] : Fin 1 → ℕ) a + S1.size a ≤ S4.size a}, ((arg15.slice (Rect.unit (s := S4) ![0] S1.size hh)).squeeze S_ squeezes_S1_S_).sem = sem15 arg15 (0 : Fin 4).val (Fin.isLt _) :=
      sem15_eq arg15 0 (by decide) rfl
    rw [WP_bind, hsm]
    iapply (wait_rule 𝒱 (c := c) (N := cred arg5 S8x24x8x128) rfl) $$ [HF HO]
    · iframe
    iintro ⟨⟨HB, Hbody⟩, HC, HO⟩
    iapply (WP_pure 𝒱 c)
    iapply HQ
    unfold Idle
    iframe
    isplitl [Hbody Hdump]
    · iapply (Any.join (slot_split 0) (slot_disj 0)) $$ [Hbody Hdump]
      isplitl [Hbody]
      · iexact Hbody
      · iexact Hdump
    · iapply (To.join c hD.1 hD.2) $$ [HD HB]
      iframe

theorem drain1_spec (v49 : BitVec 32) (h : v49.toNat ≤ 2048) (O : ℕ → ℕ → ℕ → F .f32) (G : Prop) {Q : PUnit → sProp 𝕄} :
    iprop(Slot c arg5 arg8 arg15 O G ((v49.toNat + 63) / 64) (4 * ((v49.toNat + 63) / 64)) 1 ∗ To c arg5 (doneP ((v49.toNat + 63) / 64) (4 * ((v49.toNat + 63) / 64) + 1)) (OutV O) (fun _ => G) ∗ Owes c)
      ⊢ iprop((iprop(Idle (F := F) c arg8 arg15 1 ∗ To c arg5 (doneP ((v49.toNat + 63) / 64) (4 * ((v49.toNat + 63) / 64) + 1 + 1)) (OutV O) (fun _ => G) ∗ Owes c) -∗ Q ⟨⟩)
        -∗ WP 𝒱 c (k0_part173 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 (nbW v49)) (fun v => WP 𝒱 c (k0_part174 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v) Q)) := by
  have hc := drW v49 h 1 (by decide)
  generalize hnb : (v49.toNat + 63) / 64 = nb at *
  iintro ⟨HS, HD, HO⟩ HQ
  unfold k0_part173
  dsimp only
  iapply (WP_pure 𝒱 c)
  unfold k0_part174
  dsimp only
  unfold Slot
  icases HS with (⟨%h1, H⟩ | ⟨%k, %b, %h1, H⟩)
  · have h1' : 4 * nb ≤ 1 := h1
    have hn : ¬ 1 < 4 * nb := by omega
    rw [if_neg (fun hh => hn (hc.mp hh))]
    iapply (WP_pure 𝒱 c)
    iapply HQ
    iframe
    iapply (To.congr c (fun z => done_last 1 (by omega) z _ _)) $$ HD
  · obtain ⟨hb, h2, h3, h5⟩ := h1
    have hn : 1 < 4 * nb := by omega
    have hD := done_next (r := 1) hb (by decide) h2 h3 h5
    rw [if_pos (hc.mpr hn)]
    unfold Busy
    icases H with ⟨HF, Hdump⟩
    have hsm : ∀ {hh : ∀ a, (![1] : Fin 1 → ℕ) a + S1.size a ≤ S4.size a}, ((arg15.slice (Rect.unit (s := S4) ![1] S1.size hh)).squeeze S_ squeezes_S1_S_).sem = sem15 arg15 (1 : Fin 4).val (Fin.isLt _) :=
      sem15_eq arg15 1 (by decide) rfl
    rw [WP_bind, hsm]
    iapply (wait_rule 𝒱 (c := c) (N := cred arg5 S8x24x8x128) rfl) $$ [HF HO]
    · iframe
    iintro ⟨⟨HB, Hbody⟩, HC, HO⟩
    iapply (WP_pure 𝒱 c)
    iapply HQ
    unfold Idle
    iframe
    isplitl [Hbody Hdump]
    · iapply (Any.join (slot_split 1) (slot_disj 1)) $$ [Hbody Hdump]
      isplitl [Hbody]
      · iexact Hbody
      · iexact Hdump
    · iapply (To.join c hD.1 hD.2) $$ [HD HB]
      iframe

theorem drain2_spec (v49 : BitVec 32) (h : v49.toNat ≤ 2048) (O : ℕ → ℕ → ℕ → F .f32) (G : Prop) {Q : PUnit → sProp 𝕄} :
    iprop(Slot c arg5 arg8 arg15 O G ((v49.toNat + 63) / 64) (4 * ((v49.toNat + 63) / 64)) 2 ∗ To c arg5 (doneP ((v49.toNat + 63) / 64) (4 * ((v49.toNat + 63) / 64) + 2)) (OutV O) (fun _ => G) ∗ Owes c)
      ⊢ iprop((iprop(Idle (F := F) c arg8 arg15 2 ∗ To c arg5 (doneP ((v49.toNat + 63) / 64) (4 * ((v49.toNat + 63) / 64) + 2 + 1)) (OutV O) (fun _ => G) ∗ Owes c) -∗ Q ⟨⟩)
        -∗ WP 𝒱 c (k0_part175 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 (nbW v49)) (fun v => WP 𝒱 c (k0_part176 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v) Q)) := by
  have hc := drW v49 h 2 (by decide)
  generalize hnb : (v49.toNat + 63) / 64 = nb at *
  iintro ⟨HS, HD, HO⟩ HQ
  unfold k0_part175
  dsimp only
  iapply (WP_pure 𝒱 c)
  unfold k0_part176
  dsimp only
  unfold Slot
  icases HS with (⟨%h1, H⟩ | ⟨%k, %b, %h1, H⟩)
  · have h1' : 4 * nb ≤ 2 := h1
    have hn : ¬ 2 < 4 * nb := by omega
    rw [if_neg (fun hh => hn (hc.mp hh))]
    iapply (WP_pure 𝒱 c)
    iapply HQ
    iframe
    iapply (To.congr c (fun z => done_last 2 (by omega) z _ _)) $$ HD
  · obtain ⟨hb, h2, h3, h5⟩ := h1
    have hn : 2 < 4 * nb := by omega
    have hD := done_next (r := 2) hb (by decide) h2 h3 h5
    rw [if_pos (hc.mpr hn)]
    unfold Busy
    icases H with ⟨HF, Hdump⟩
    have hsm : ∀ {hh : ∀ a, (![2] : Fin 1 → ℕ) a + S1.size a ≤ S4.size a}, ((arg15.slice (Rect.unit (s := S4) ![2] S1.size hh)).squeeze S_ squeezes_S1_S_).sem = sem15 arg15 (2 : Fin 4).val (Fin.isLt _) :=
      sem15_eq arg15 2 (by decide) rfl
    rw [WP_bind, hsm]
    iapply (wait_rule 𝒱 (c := c) (N := cred arg5 S8x24x8x128) rfl) $$ [HF HO]
    · iframe
    iintro ⟨⟨HB, Hbody⟩, HC, HO⟩
    iapply (WP_pure 𝒱 c)
    iapply HQ
    unfold Idle
    iframe
    isplitl [Hbody Hdump]
    · iapply (Any.join (slot_split 2) (slot_disj 2)) $$ [Hbody Hdump]
      isplitl [Hbody]
      · iexact Hbody
      · iexact Hdump
    · iapply (To.join c hD.1 hD.2) $$ [HD HB]
      iframe

theorem drain3_spec (v49 : BitVec 32) (h : v49.toNat ≤ 2048) (O : ℕ → ℕ → ℕ → F .f32) (G : Prop) {Q : PUnit → sProp 𝕄} :
    iprop(Slot c arg5 arg8 arg15 O G ((v49.toNat + 63) / 64) (4 * ((v49.toNat + 63) / 64)) 3 ∗ To c arg5 (doneP ((v49.toNat + 63) / 64) (4 * ((v49.toNat + 63) / 64) + 3)) (OutV O) (fun _ => G) ∗ Owes c)
      ⊢ iprop((iprop(Idle (F := F) c arg8 arg15 3 ∗ To c arg5 (doneP ((v49.toNat + 63) / 64) (4 * ((v49.toNat + 63) / 64) + 3 + 1)) (OutV O) (fun _ => G) ∗ Owes c) -∗ Q ⟨⟩)
        -∗ WP 𝒱 c (k0_part177 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 (nbW v49)) (fun v => WP 𝒱 c (k0_part178 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v) Q)) := by
  have hc := drW v49 h 3 (by decide)
  generalize hnb : (v49.toNat + 63) / 64 = nb at *
  iintro ⟨HS, HD, HO⟩ HQ
  unfold k0_part177
  dsimp only
  iapply (WP_pure 𝒱 c)
  unfold k0_part178
  dsimp only
  unfold Slot
  icases HS with (⟨%h1, H⟩ | ⟨%k, %b, %h1, H⟩)
  · have h1' : 4 * nb ≤ 3 := h1
    have hn : ¬ 3 < 4 * nb := by omega
    rw [if_neg (fun hh => hn (hc.mp hh))]
    iapply (WP_pure 𝒱 c)
    iapply HQ
    iframe
    iapply (To.congr c (fun z => done_last 3 (by omega) z _ _)) $$ HD
  · obtain ⟨hb, h2, h3, h5⟩ := h1
    have hn : 3 < 4 * nb := by omega
    have hD := done_next (r := 3) hb (by decide) h2 h3 h5
    rw [if_pos (hc.mpr hn)]
    unfold Busy
    icases H with ⟨HF, Hdump⟩
    have hsm : ∀ {hh : ∀ a, (![3] : Fin 1 → ℕ) a + S1.size a ≤ S4.size a}, ((arg15.slice (Rect.unit (s := S4) ![3] S1.size hh)).squeeze S_ squeezes_S1_S_).sem = sem15 arg15 (3 : Fin 4).val (Fin.isLt _) :=
      sem15_eq arg15 3 (by decide) rfl
    rw [WP_bind, hsm]
    iapply (wait_rule 𝒱 (c := c) (N := cred arg5 S8x24x8x128) rfl) $$ [HF HO]
    · iframe
    iintro ⟨⟨HB, Hbody⟩, HC, HO⟩
    iapply (WP_pure 𝒱 c)
    iapply HQ
    unfold Idle
    iframe
    isplitl [Hbody Hdump]
    · iapply (Any.join (slot_split 3) (slot_disj 3)) $$ [Hbody Hdump]
      isplitl [Hbody]
      · iexact Hbody
      · iexact Hdump
    · iapply (To.join c hD.1 hD.2) $$ [HD HB]
      iframe

/-! ## The last waits on the zero copies -/

/-- The rest of the output, at zero, with the zero buffer and its semaphore back. -/
def ZeroD (c : Dev nD) (arg5 : Memref sig .tc .hbm S256x96x8x128 .f32) (arg9 : Memref sig .tc .vmem S8x24x8x128 .f32) (arg16 : DmaSems sig S_) (X0 : BufTy.Contents (Elt F) arg9.view.ty) (nb : ℕ) : sProp 𝕄 :=
  iprop(Cell c arg16.sem ∗ (arg9.view.loc (c : Thread nD τ) ↦[arg9.view.set]{fullShare} X0) ∗ Has c arg5 (fun z => nb ≤ (z 0).val / 8) fullShare (fun _ => Scalar.ofBits .f32 0x00000000#32))

theorem zD_gather (X0 : BufTy.Contents (Elt F) arg9.view.ty) (nb : ℕ) (hnb : nb < 32) :
    iprop(bigSep Finset.univ (zD c arg5 arg9 X0 nb) ∗ (arg9.view.loc (c : Thread nD τ) ↦[arg9.view.set]{Transfers.shareDrop fullShare (4 * (32 - nb))} X0))
      ⊢ iprop((arg9.view.loc (c : Thread nD τ) ↦[arg9.view.set]{fullShare} X0) ∗ Has c arg5 (fun z => nb ≤ (z 0).val / 8) fullShare (fun _ => Scalar.ofBits .f32 0x00000000#32)) := by
  have e : (bigSep Finset.univ (zD c arg5 arg9 X0 nb) : sProp 𝕄) ⊢ iprop(bigSep Finset.univ (fun j : Fin (4 * (32 - nb)) => Has c arg5 (zP nb j.val) fullShare (fun _ => Scalar.ofBits .f32 0x00000000#32))
      ∗ bigSep Finset.univ (fun j : Fin (4 * (32 - nb)) => (arg9.view.loc (c : Thread nD τ) ↦[arg9.view.set]{Transfers.shareTok fullShare (4 * (32 - nb)) j} X0))) := by
    exact Entails.of_eq (BI.bigSep_sep Finset.univ _ _)
  iintro ⟨HD, H9⟩
  ihave HD := e $$ HD
  icases HD with ⟨H5, HT⟩
  isplitl [H9 HT]
  · iapply (Transfers.pointsTo_toks_join fullShare (4 * (32 - nb))) $$ [H9 HT]
    isplitl [H9] <;> iassumption
  · iapply (Has.gather (fun z : S256x96x8x128.Idx => (z 1).val / 24 * (32 - nb) + ((z 0).val / 8 - nb)) (fun j z => zP nb j.val z) Finset.univ (fun j z hz => ?_) (fun z => ?_)) $$ H5
    · unfold zP at hz
      rw [hz.2, hz.1, Nat.add_sub_cancel_left, Nat.mul_comm]
      exact Nat.div_add_mod _ _
    · have h0 : (z 0).val < 256 := (z 0).isLt
      have h1 : (z 1).val < 96 := (z 1).isLt
      constructor
      · intro h2
        have hz := zdiv (m := 32 - nb) (k := (z 1).val / 24) (t := (z 0).val / 8 - nb) (by omega)
        have hm : ((z 1).val / 24 + 1) * (32 - nb) ≤ 4 * (32 - nb) := Nat.mul_le_mul (by omega) (le_refl _)
        rw [Nat.succ_mul] at hm
        refine ⟨⟨(z 1).val / 24 * (32 - nb) + ((z 0).val / 8 - nb), by omega⟩, Finset.mem_univ _, ?_⟩
        unfold zP
        rw [hz.1, hz.2]
        exact ⟨by omega, rfl⟩
      · rintro ⟨j, _, hj⟩
        unfold zP at hj
        omega

theorem part180_spec (v49 : BitVec 32) (h : v49.toNat ≤ 2048) (hw2 : k0_chk2 v49) (c0 c1 : BitVec 32) (X0 : BufTy.Contents (Elt F) arg9.view.ty) {Q : PUnit → sProp 𝕄} :
    iprop(ZeroS c arg5 arg9 arg16 X0 ((v49.toNat + 63) / 64) (4 * (32 - (v49.toNat + 63) / 64)) ∗ Owes c)
      ⊢ iprop((iprop(ZeroD c arg5 arg9 arg16 X0 ((v49.toNat + 63) / 64) ∗ Owes c) -∗ Q ⟨⟩)
        -∗ WP 𝒱 c (k0_part180 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v49 hw2 c0 c1) Q) := by
  have ht := t21_trips v49 h
  unfold k0_part180
  dsimp only
  rw [WP_bind]
  iintro ⟨H, HO⟩ HQ
  generalize hnb : (v49.toNat + 63) / 64 = nb at *
  unfold ZeroS ZeroD
  icases H with (⟨%h1, HC, H9⟩ | ⟨%h1, HB, H9, H5⟩)
  · iapply (loop_zero 𝒱 c _ _ _ _ (by rw [ht]; omega))
    iapply (WP_pure 𝒱 c)
    iapply HQ
    iframe
    iapply (Has.empty (fun z hz => by have h0 : (z 0).val < 256 := (z 0).isLt; omega))
    iempintro
  · have hN := cred_pos arg5 S8x24x8x128 (by decide)
    iapply (loop_rule 𝒱 c (k0_t21_loop v49) (k0_t21_ok v49 hw2) ⟨⟩ _
      (fun t _ => iprop((⌜t < 4 * (32 - nb)⌝ ∗ Bat c arg16.sem (cred arg5 S8x24x8x128) (zD c arg5 arg9 X0 nb) (4 * (32 - nb)) (t * cred arg5 S8x24x8x128) ∗ Owes c)
        ∨ (⌜t = 4 * (32 - nb)⌝ ∗ bigSep Finset.univ (zD c arg5 arg9 X0 nb) ∗ Cell c arg16.sem ∗ Owes c))) (fun t a => by
        have htt := lt_of_lt_of_eq t.isLt ht
        iintro (⟨%h2, HB, HO⟩ | ⟨%h2, H⟩)
        · rw [WP_bind]
          by_cases hl : t.val + 1 < 4 * (32 - nb)
          · iapply (batch_wait_rule 𝒱 (c := c) (n := 4 * (32 - nb)) (D := zD c arg5 arg9 X0 nb) (u := t.val * cred arg5 S8x24x8x128) (N := cred arg5 S8x24x8x128) rfl (by
              rw [← Nat.succ_mul, Nat.mul_comm]; exact Nat.mul_lt_mul_of_pos_left hl hN)) $$ [HB HO]
            · iframe
            iintro ⟨HB, HO⟩
            iapply (WP_pure 𝒱 c)
            ileft
            rw [← Nat.succ_mul]
            iframe
            ipureintro
            exact hl
          · iapply (batch_wait_last_rule 𝒱 (c := c) (n := 4 * (32 - nb)) (D := zD c arg5 arg9 X0 nb) (u := t.val * cred arg5 S8x24x8x128) (N := cred arg5 S8x24x8x128) rfl hN (by
              rw [← Nat.succ_mul, Nat.mul_comm]; exact congrArg (cred arg5 S8x24x8x128 * ·) (by show t.val + 1 = _; omega))) $$ [HB HO]
            · iframe
            iintro ⟨HB, HC, HO⟩
            iapply (WP_pure 𝒱 c)
            iright
            iframe
            ipureintro
            omega
        · exfalso; omega)) $$ [HB HO]
    · ileft
      rw [Nat.zero_mul]
      iframe
      ipureintro
      omega
    · iintro %acc (⟨%h2, H⟩ | ⟨%h2, HD, HC, HO⟩)
      · exfalso; omega
      · iapply (WP_pure 𝒱 c)
        iapply HQ
        ihave H := (zD_gather c X0 nb h1) $$ [HD H9]
        · iframe
        icases H with ⟨H9, H5'⟩
        iframe

end Cert.Kernel.Emb
-- ==== Proof.Kernel.Idx.lean ====
module

public import proofs.«01_k».proof.Proof.Kernel.ChunkLoop

@[expose] public section

noncomputable section

namespace Cert.Kernel.Emb

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]
local notation "𝕄" => MT nD τ sig Unit (Elt F) ℕ (UD sig nD τ) ℕ
variable (𝒱 : Variants) (c : Dev nD)
variable {arg0 : Memref sig .tc .smem S2049 .i32} {harg0 : arg0.IsWhole} {arg1 : Memref sig .tc .vmem S16x128 .i32} {harg1 : arg1.IsWhole} {arg2 : Memref sig .tc .vmem S2x1024 .i32} {harg2 : arg2.IsWhole} {arg3 : Memref sig .tc .vmem S2x1024 .f32} {harg3 : arg3.IsWhole} {arg4 : Memref sig .tc .hbm S2x1024x12288 .fp8e5m2} {harg4 : arg4.IsWhole} {arg5 : Memref sig .tc .hbm S256x96x8x128 .f32} {harg5 : arg5.IsWhole} {arg6 : Memref sig .tc .vmem S2x2048x3072 .fp8e5m2} {harg6 : arg6.IsWhole} {arg7 : Memref sig .tc .vmem S256x24x8x128 .f32} {harg7 : arg7.IsWhole} {arg8 : Memref sig .tc .vmem S4x9x24x8x128 .f32} {harg8 : arg8.IsWhole} {arg9 : Memref sig .tc .vmem S8x24x8x128 .f32} {harg9 : arg9.IsWhole} {arg10 : Memref sig .tc .vmem S2048x128 .f32} {harg10 : arg10.IsWhole} {arg11 : Memref sig .tc .vmem S2x17x128 .i32} {harg11 : arg11.IsWhole} {arg12 : Memref sig .tc .smem S2176 .i32} {harg12 : arg12.IsWhole} {arg13 : Memref sig .tc .smem S2176 .i32} {harg13 : arg13.IsWhole} {arg14 : DmaSems sig S2x8} {arg15 : DmaSems sig S4} {arg16 : DmaSems sig S_} {arg17 : DmaSems sig S_}

/-! # The index rows and their copies into scalar memory -/

/-- The index words as they lie in vector memory: the source words in plane 0, the destination words in plane 1. -/
def idxV (sw dw : ℕ → BitVec 32) : S2x17x128.Idx → Elt F .i32 := fun x =>
  if (x 0).val = 0 then sw (128 * (x 1).val + (x 2).val) else dw (128 * (x 1).val + (x 2).val)

/-- What one copy of a row of index words brings. -/
def idxD (c : Dev nD) (arg11 : Memref sig .tc .vmem S2x17x128 .i32) (arg12 arg13 : Memref sig .tc .smem S2176 .i32) (sw dw : ℕ → BitVec 32) (j : Fin 34) : sProp 𝕄 :=
  iprop((if j.val % 2 = 0 then Has c arg12 (fun x => (x 0).val / 128 = j.val / 2) fullShare (wordsAt sw) else Has c arg13 (fun x => (x 0).val / 128 = j.val / 2) fullShare (wordsAt dw))
    ∗ Has c arg11 (fun x => 2 * (x 1).val + (x 0).val = j.val) fullShare (idxV sw dw))

instance idxD_storable (c : Dev nD) (arg11 : Memref sig .tc .vmem S2x17x128 .i32) (arg12 arg13 : Memref sig .tc .smem S2176 .i32) (sw dw : ℕ → BitVec 32) (j : Fin 34) :
    BI.Storable (upEmb : UEmb _ 𝕄) (idxD (F := F) c arg11 arg12 arg13 sw dw j) := by
  unfold idxD; split <;> infer_instance

/-- With `j` of the 34 copies started. -/
def IdxS (c : Dev nD) (arg11 : Memref sig .tc .vmem S2x17x128 .i32) (arg12 arg13 : Memref sig .tc .smem S2176 .i32) (arg17 : DmaSems sig S_) (sw dw : ℕ → BitVec 32) (j : ℕ) : sProp 𝕄 :=
  iprop(Bat c arg17.sem (cred arg12 S128) (idxD c arg11 arg12 arg13 sw dw) j 0
    ∗ Any (F := F) c arg12 (fun x => j ≤ 2 * ((x 0).val / 128)) ∗ Any (F := F) c arg13 (fun x => j ≤ 2 * ((x 0).val / 128) + 1)
    ∗ Has c arg11 (fun x => j ≤ 2 * (x 1).val + (x 0).val) fullShare (idxV sw dw))

/-- With all copies started and `k` of them waited for. -/
def IdxW (c : Dev nD) (arg11 : Memref sig .tc .vmem S2x17x128 .i32) (arg12 arg13 : Memref sig .tc .smem S2176 .i32) (arg17 : DmaSems sig S_) (sw dw : ℕ → BitVec 32) (k : ℕ) : sProp 𝕄 :=
  iprop(Bat (n := 34) c arg17.sem (cred arg12 S128) (idxD (F := F) c arg11 arg12 arg13 sw dw) 34 (k * cred arg12 S128) ∗ Owes c)

theorem sq11_idx (j : S128.Idx) : Shape.reshapeEquiv squeezes_S1x1x128_S128.numel_eq j
    = (ValueIdx.ix3 (0 : Fin 1) (0 : Fin 1) (⟨(j 0).val, (j 0).isLt⟩ : Fin 128) : S1x1x128.Idx) := by
  apply Shape.reshapeEquiv_eq_of_rowMajor
  rw [Shape.rowMajor_val_three, Shape.rowMajor_val_one]
  show ((0 * 1 + 0) * 128 + (j 0).val) = (j 0).val
  omega

theorem idx11_mem (p t : ℕ) (hp : p < 2) {off : Fin 3 → ℕ} {h : ∀ a, off a + S1x1x128.size a ≤ S2x17x128.size a} (e : off = ![p, t, 0]) (x : S2x17x128.Idx) :
    (2 * (x 1).val + (x 0).val = 2 * t + p) ↔ x ∈ (Rect.unit (s := S2x17x128) off S1x1x128.size h).set := by
  subst e
  rw [mem_unit, Fin.forall_fin_succ, Fin.forall_fin_succ, Fin.forall_fin_succ]
  show _ ↔ (p ≤ (x 0).val ∧ (x 0).val < p + 1) ∧ (t ≤ (x 1).val ∧ (x 1).val < t + 1) ∧ (0 ≤ (x 2).val ∧ (x 2).val < 0 + 128) ∧ _
  have h0 : (x 0).val < 2 := (x 0).isLt
  have h2 : (x 2).val < 128 := (x 2).isLt
  constructor
  · intro h3
    exact ⟨by omega, by omega, by omega, fun a => a.elim0⟩
  · rintro ⟨h3, h4, h5, _⟩
    omega

theorem idx12_mem (t : ℕ) {off : Fin 1 → ℕ} {h : ∀ a, off a + S128.size a ≤ S2176.size a} (e : off = ![128 * t]) (x : S2176.Idx) :
    ((x 0).val / 128 = t) ↔ x ∈ (Rect.unit (s := S2176) off S128.size h).set := by
  subst e
  rw [mem_unit, Fin.forall_fin_succ]
  show _ ↔ (128 * t ≤ (x 0).val ∧ (x 0).val < 128 * t + 128) ∧ _
  constructor
  · intro h3
    exact ⟨by omega, fun a => a.elim0⟩
  · rintro ⟨h3, _⟩
    omega

/-- One row of plane 0 is sent to scalar memory. -/
theorem idx_start0 (j j' t : ℕ) (ej : j = 2 * t + 0) (ej' : j' = j + 1) (ht : t < 17) {sw dw : ℕ → BitVec 32} {off11 : Fin 3 → ℕ} {off12 : Fin 1 → ℕ}
    {h11 : ∀ a, off11 a + S1x1x128.size a ≤ S2x17x128.size a} {h12 : ∀ a, off12 a + S128.size a ≤ S2176.size a}
    (e11 : off11 = ![0, t, 0]) (e12 : off12 = ![128 * t])
    {hr11 : ∀ a, (Rect.unit (s := S2x17x128) off11 S1x1x128.size h11).stride a = 1} {hr12 : ∀ a, (Rect.unit (s := S2176) off12 S128.size h12).stride a = 1}
    {hsrc : ((arg11.slice (Rect.unit (s := S2x17x128) off11 S1x1x128.size h11) hr11).squeeze S128 squeezes_S1x1x128_S128).view.WordExact}
    {hdst : (arg12.slice (Rect.unit (s := S2176) off12 S128.size h12) hr12).view.WordExact}
    {hsem : (DmaTarget.here (arg12.slice (Rect.unit (s := S2176) off12 S128.size h12) hr12) : DmaTarget nD τ sig (.tc : Proc τ) .smem S128 .i32).Typed .vmem (.dma arg17.sem)}
    {Q : PUnit → sProp 𝕄} :
    IdxS (F := F) c arg11 arg12 arg13 arg17 sw dw j
      ⊢ iprop((IdxS (F := F) c arg11 arg12 arg13 arg17 sw dw j' -∗ Q ⟨⟩)
        -∗ WP 𝒱 c (Prog.lift (.enqueueDma ((arg11.slice (Rect.unit (s := S2x17x128) off11 S1x1x128.size h11) hr11).squeeze S128 squeezes_S1x1x128_S128)
          (.here (arg12.slice (Rect.unit (s := S2176) off12 S128.size h12) hr12)) (.dma arg17.sem) hsrc hdst hsem)) Q) := by
  subst ej'
  have hj : j < 34 := by omega
  have hd : iprop(Own c (arg12.slice (Rect.unit (s := S2176) off12 S128.size h12) hr12) fullShare (show S128.Idx → Elt F .i32 from fun y => sw (128 * t + (y 0).val))
      ∗ Own c ((arg11.slice (Rect.unit (s := S2x17x128) off11 S1x1x128.size h11) hr11).squeeze S128 squeezes_S1x1x128_S128) fullShare (show S128.Idx → Elt F .i32 from fun y => sw (128 * t + (y 0).val)))
      ⊢ idxD (F := F) c arg11 arg12 arg13 sw dw ⟨j, hj⟩ := by
    unfold idxD
    refine BIClass.sep_mono ?_ ?_
    · rw [if_pos (show j % 2 = 0 by omega)]
      refine Has.of_window' (m := arg12) (g := wordsAt sw) (Rect.unit (s := S2176) off12 S128.size h12) hr12 (fun x => ?_) (fun y => ?_)
      · rw [← idx12_mem t e12]
        show (x 0).val / 128 = j / 2 ↔ _
        omega
      · unfold wordsAt
        rw [unit_emb_of e12 (h := h12)]
        rfl
    · refine Has.of_window (m := arg11) (g := idxV sw dw) (Rect.unit (s := S2x17x128) off11 S1x1x128.size h11) hr11 squeezes_S1x1x128_S128 (fun x => ?_) (fun y => ?_)
      · rw [← idx11_mem 0 t (by omega) e11]
        show 2 * (x 1).val + (x 0).val = j ↔ _
        omega
      · unfold idxV
        rw [unit_emb_of e11 (h := h11), unit_emb_of e11 (h := h11), unit_emb_of e11 (h := h11), sq11_idx]
        refine (if_pos (show 0 + 0 = 0 from rfl)).trans ?_
        refine congrArg sw ?_
        show 128 * (t + 0) + (0 + (y 0).val) = _
        omega
  unfold IdxS
  iintro ⟨HB, H12, H13, H11⟩ HQ
  ihave H12 := (Any.split (F := F) (c := c) (m := arg12) (R := fun x => (x 0).val / 128 = t) (S := fun x => j + 1 ≤ 2 * ((x 0).val / 128)) (fun x => by omega) (fun x => by omega)) $$ H12
  icases H12 with ⟨⟨%g, Hd⟩, H12⟩
  ihave H11 := (Has.split (c := c) (m := arg11) (R := fun x => 2 * (x 1).val + (x 0).val = j) (S := fun x => j + 1 ≤ 2 * (x 1).val + (x 0).val) (fun x => by omega) (fun x => by omega)) $$ H11
  icases H11 with ⟨Hs, H11⟩
  iapply (batch_start_rule 𝒱 (c := c) (n := 34) (D := idxD c arg11 arg12 arg13 sw dw) (q := fullShare) (u := 0)
    (g := show S128.Idx → Elt F .i32 from fun y => sw (128 * t + (y 0).val))
    (g0 := show S128.Idx → Elt F .i32 from fun y => g ((Rect.unit (s := S2176) off12 S128.size h12).emb y)) (cred arg12 S128) rfl (j := j) hj (Nat.zero_le _) hd) $$ [HB Hd Hs]
  · isplitl [Hs]
    · iapply (Has.to_window (m := arg11) (Rect.unit (s := S2x17x128) off11 S1x1x128.size h11) hr11 squeezes_S1x1x128_S128 (fun x => ?_) (fun y => ?_)) $$ Hs
      · rw [← idx11_mem 0 t (by omega) e11]
        omega
      · unfold idxV
        rw [unit_emb_of e11 (h := h11), unit_emb_of e11 (h := h11), unit_emb_of e11 (h := h11), sq11_idx]
        refine (if_pos (show 0 + 0 = 0 from rfl)).trans ?_
        refine congrArg sw ?_
        show 128 * (t + 0) + (0 + (y 0).val) = _
        omega
    isplitl [Hd]
    · iapply (Has.to_window' (m := arg12) (Rect.unit (s := S2176) off12 S128.size h12) hr12 (idx12_mem t e12) (fun y => rfl)) $$ Hd
    · iexact HB
  iintro HB
  iapply HQ
  iframe HB H12 H11
  icases H13 with ⟨%g', H⟩
  iexists g'
  iapply (Has.congr (c := c) (fun x => by omega) (fun x _ => rfl)) $$ H

/-- One row of plane 1 is sent to scalar memory. -/
theorem idx_start1 (j j' t : ℕ) (ej : j = 2 * t + 1) (ej' : j' = j + 1) (ht : t < 17) {sw dw : ℕ → BitVec 32} {off11 : Fin 3 → ℕ} {off12 : Fin 1 → ℕ}
    {h11 : ∀ a, off11 a + S1x1x128.size a ≤ S2x17x128.size a} {h12 : ∀ a, off12 a + S128.size a ≤ S2176.size a}
    (e11 : off11 = ![1, t, 0]) (e12 : off12 = ![128 * t])
    {hr11 : ∀ a, (Rect.unit (s := S2x17x128) off11 S1x1x128.size h11).stride a = 1} {hr12 : ∀ a, (Rect.unit (s := S2176) off12 S128.size h12).stride a = 1}
    {hsrc : ((arg11.slice (Rect.unit (s := S2x17x128) off11 S1x1x128.size h11) hr11).squeeze S128 squeezes_S1x1x128_S128).view.WordExact}
    {hdst : (arg13.slice (Rect.unit (s := S2176) off12 S128.size h12) hr12).view.WordExact}
    {hsem : (DmaTarget.here (arg13.slice (Rect.unit (s := S2176) off12 S128.size h12) hr12) : DmaTarget nD τ sig (.tc : Proc τ) .smem S128 .i32).Typed .vmem (.dma arg17.sem)}
    {Q : PUnit → sProp 𝕄} :
    IdxS (F := F) c arg11 arg12 arg13 arg17 sw dw j
      ⊢ iprop((IdxS (F := F) c arg11 arg12 arg13 arg17 sw dw j' -∗ Q ⟨⟩)
        -∗ WP 𝒱 c (Prog.lift (.enqueueDma ((arg11.slice (Rect.unit (s := S2x17x128) off11 S1x1x128.size h11) hr11).squeeze S128 squeezes_S1x1x128_S128)
          (.here (arg13.slice (Rect.unit (s := S2176) off12 S128.size h12) hr12)) (.dma arg17.sem) hsrc hdst hsem)) Q) := by
  subst ej'
  have hj : j < 34 := by omega
  have hd : iprop(Own c (arg13.slice (Rect.unit (s := S2176) off12 S128.size h12) hr12) fullShare (show S128.Idx → Elt F .i32 from fun y => dw (128 * t + (y 0).val))
      ∗ Own c ((arg11.slice (Rect.unit (s := S2x17x128) off11 S1x1x128.size h11) hr11).squeeze S128 squeezes_S1x1x128_S128) fullShare (show S128.Idx → Elt F .i32 from fun y => dw (128 * t + (y 0).val)))
      ⊢ idxD (F := F) c arg11 arg12 arg13 sw dw ⟨j, hj⟩ := by
    unfold idxD
    refine BIClass.sep_mono ?_ ?_
    · rw [if_neg (show ¬ j % 2 = 0 by omega)]
      refine Has.of_window' (m := arg13) (g := wordsAt dw) (Rect.unit (s := S2176) off12 S128.size h12) hr12 (fun x => ?_) (fun y => ?_)
      · rw [← idx12_mem t e12]
        show (x 0).val / 128 = j / 2 ↔ _
        omega
      · unfold wordsAt
        rw [unit_emb_of e12 (h := h12)]
        rfl
    · refine Has.of_window (m := arg11) (g := idxV sw dw) (Rect.unit (s := S2x17x128) off11 S1x1x128.size h11) hr11 squeezes_S1x1x128_S128 (fun x => ?_) (fun y => ?_)
      · rw [← idx11_mem 1 t (by omega) e11]
        show 2 * (x 1).val + (x 0).val = j ↔ _
        omega
      · unfold idxV
        rw [unit_emb_of e11 (h := h11), unit_emb_of e11 (h := h11), unit_emb_of e11 (h := h11), sq11_idx]
        refine (if_neg (show ¬ 1 + 0 = 0 by omega)).trans ?_
        refine congrArg dw ?_
        show 128 * (t + 0) + (0 + (y 0).val) = _
        omega
  unfold IdxS
  iintro ⟨HB, H12, H13, H11⟩ HQ
  ihave H13 := (Any.split (F := F) (c := c) (m := arg13) (R := fun x => (x 0).val / 128 = t) (S := fun x => j + 1 ≤ 2 * ((x 0).val / 128) + 1) (fun x => by omega) (fun x => by omega)) $$ H13
  icases H13 with ⟨⟨%g, Hd⟩, H13⟩
  ihave H11 := (Has.split (c := c) (m := arg11) (R := fun x => 2 * (x 1).val + (x 0).val = j) (S := fun x => j + 1 ≤ 2 * (x 1).val + (x 0).val) (fun x => by omega) (fun x => by omega)) $$ H11
  icases H11 with ⟨Hs, H11⟩
  iapply (batch_start_rule 𝒱 (c := c) (n := 34) (D := idxD c arg11 arg12 arg13 sw dw) (q := fullShare) (u := 0)
    (g := show S128.Idx → Elt F .i32 from fun y => dw (128 * t + (y 0).val))
    (g0 := show S128.Idx → Elt F .i32 from fun y => g ((Rect.unit (s := S2176) off12 S128.size h12).emb y)) (cred arg12 S128) rfl (j := j) hj (Nat.zero_le _) hd) $$ [HB Hd Hs]
  · isplitl [Hs]
    · iapply (Has.to_window (m := arg11) (Rect.unit (s := S2x17x128) off11 S1x1x128.size h11) hr11 squeezes_S1x1x128_S128 (fun x => ?_) (fun y => ?_)) $$ Hs
      · rw [← idx11_mem 1 t (by omega) e11]
        omega
      · unfold idxV
        rw [unit_emb_of e11 (h := h11), unit_emb_of e11 (h := h11), unit_emb_of e11 (h := h11), sq11_idx]
        refine (if_neg (show ¬ 1 + 0 = 0 by omega)).trans ?_
        refine congrArg dw ?_
        show 128 * (t + 0) + (0 + (y 0).val) = _
        omega
    isplitl [Hd]
    · iapply (Has.to_window' (m := arg13) (Rect.unit (s := S2176) off12 S128.size h12) hr12 (idx12_mem t e12) (fun y => rfl)) $$ Hd
    · iexact HB
  iintro HB
  iapply HQ
  iframe HB H13 H11
  icases H12 with ⟨%g', H⟩
  iexists g'
  iapply (Has.congr (c := c) (fun x => by omega) (fun x _ => rfl)) $$ H

/-- One of the copies is waited for, not the last. -/
theorem idx_wait (k k' : ℕ) (e : k' = k + 1) (hk : k' < 34) {sw dw : ℕ → BitVec 32} {srcw : Memref sig .tc .vmem S128 .i32} {dstw : Memref sig .tc .smem S128 .i32} (hN : dstw.view.dmaCredit = cred arg12 S128)
    {hsrc : srcw.view.WordExact} {hdst : dstw.view.WordExact} {Q : PUnit → sProp 𝕄} :
    IdxW (F := F) c arg11 arg12 arg13 arg17 sw dw k
      ⊢ iprop((IdxW (F := F) c arg11 arg12 arg13 arg17 sw dw k' -∗ Q ⟨⟩) -∗ WP 𝒱 c (Prog.lift (.waitDma2 arg17.sem srcw dstw hsrc hdst)) Q) := by
  subst e
  have hp : 0 < cred arg12 S128 := cred_pos arg12 S128 (by decide)
  have hu : k * cred arg12 S128 + cred arg12 S128 < cred arg12 S128 * 34 := by
    rw [← Nat.succ_mul, Nat.mul_comm]
    exact Nat.mul_lt_mul_of_pos_left hk hp
  have hs : (k + 1) * cred arg12 S128 = k * cred arg12 S128 + cred arg12 S128 := Nat.succ_mul _ _
  unfold IdxW
  rw [hs]
  exact batch_wait_rule 𝒱 (c := c) (n := 34) (D := idxD c arg11 arg12 arg13 sw dw) (u := k * cred arg12 S128) hN hu

/-- What the copies bring, together. -/
theorem idx_all (sw dw : ℕ → BitVec 32) : bigSep Finset.univ (idxD (F := F) c arg11 arg12 arg13 sw dw)
    ⊢ iprop(Own c arg12 fullShare (wordsAt sw) ∗ Own c arg13 fullShare (wordsAt dw) ∗ Own c arg11 fullShare (idxV sw dw)) := by
  have h1 : ∀ j : Fin 34, idxD (F := F) c arg11 arg12 arg13 sw dw j ⊢ (iprop(Has c arg12 (fun x => 2 * ((x 0).val / 128) = j.val) fullShare (wordsAt sw)
        ∗ (Has c arg13 (fun x => 2 * ((x 0).val / 128) + 1 = j.val) fullShare (wordsAt dw) ∗ Has c arg11 (fun x => 2 * (x 1).val + (x 0).val = j.val) fullShare (idxV sw dw))) : sProp 𝕄) := by
    intro j
    unfold idxD
    by_cases hj : j.val % 2 = 0
    · rw [if_pos hj]
      iintro ⟨H, H11⟩
      iframe H11
      isplitl [H]
      · iapply (Has.congr (c := c) (fun x => by omega) (fun x _ => rfl)) $$ H
      · iapply (Has.empty (c := c) (fun x => by omega))
        iempintro
    · rw [if_neg hj]
      iintro ⟨H, H11⟩
      iframe H11
      isplitr [H]
      · iapply (Has.empty (c := c) (fun x => by omega))
        iempintro
      · iapply (Has.congr (c := c) (fun x => by omega) (fun x _ => rfl)) $$ H
  refine BIBase.Entails.trans (bigSep_mono (fun j _ => h1 j)) ?_
  rw [bigSep_sep', bigSep_sep']
  refine BIClass.sep_mono ?_ (BIClass.sep_mono ?_ ?_)
  · refine Has.gather (c := c) (fun x : S2176.Idx => 2 * ((x 0).val / 128)) _ _ (fun j x hx => hx) (fun x => ?_)
    have h0 : (x 0).val < 2176 := (x 0).isLt
    exact ⟨fun _ => ⟨⟨2 * ((x 0).val / 128), by omega⟩, Finset.mem_univ _, rfl⟩, fun _ => trivial⟩
  · refine Has.gather (c := c) (fun x : S2176.Idx => 2 * ((x 0).val / 128) + 1) _ _ (fun j x hx => hx) (fun x => ?_)
    have h0 : (x 0).val < 2176 := (x 0).isLt
    exact ⟨fun _ => ⟨⟨2 * ((x 0).val / 128) + 1, by omega⟩, Finset.mem_univ _, rfl⟩, fun _ => trivial⟩
  · refine Has.gather (c := c) (fun x : S2x17x128.Idx => 2 * (x 1).val + (x 0).val) _ _ (fun j x hx => hx) (fun x => ?_)
    have h0 : (x 0).val < 2 := (x 0).isLt
    have h1 : (x 1).val < 17 := (x 1).isLt
    exact ⟨fun _ => ⟨⟨2 * (x 1).val + (x 0).val, by omega⟩, Finset.mem_univ _, rfl⟩, fun _ => trivial⟩

/-- The last copy is waited for. -/
theorem idx_wait_last {sw dw : ℕ → BitVec 32} {srcw : Memref sig .tc .vmem S128 .i32} {dstw : Memref sig .tc .smem S128 .i32} (hN : dstw.view.dmaCredit = cred arg12 S128)
    {hsrc : srcw.view.WordExact} {hdst : dstw.view.WordExact} {Q : PUnit → sProp 𝕄} :
    IdxW (F := F) c arg11 arg12 arg13 arg17 sw dw 33
      ⊢ iprop((iprop(Own c arg12 fullShare (wordsAt sw) ∗ Own c arg13 fullShare (wordsAt dw) ∗ Own c arg11 fullShare (idxV sw dw) ∗ Cell c arg17.sem ∗ Owes c) -∗ Q ⟨⟩)
        -∗ WP 𝒱 c (Prog.lift (.waitDma2 arg17.sem srcw dstw hsrc hdst)) Q) := by
  have hp : 0 < cred arg12 S128 := cred_pos arg12 S128 (by decide)
  have hu : 33 * cred arg12 S128 + cred arg12 S128 = cred arg12 S128 * 34 := by omega
  unfold IdxW
  iintro H HQ
  iapply (batch_wait_last_rule 𝒱 (c := c) (n := 34) (D := idxD c arg11 arg12 arg13 sw dw) (u := 33 * cred arg12 S128) hN hp hu) $$ H
  iintro ⟨HD, HC, HO⟩
  iapply HQ
  ihave HD := (idx_all c sw dw) $$ HD
  icases HD with ⟨H1, H2, H3⟩
  iframe

/-- The source words: the dequantised row of the token, with the mark of a token that adds to the row before it. -/
def srcW (v78 v104 v114 : IVec S16x128 32) : IVec S16x128 32 :=
  ori (addi (muli (shrsi (shapeCast S16x128 v114 shapeCasts_S16x128_S16x128) (broadcast S16x128 3#32)) (broadcast S16x128 192#32)) (andi (shapeCast S16x128 v114 shapeCasts_S16x128_S16x128) (broadcast S16x128 7#32)))
    (select (cmpi .eq v104 (select (cmpi .eq v78 (broadcast S16x128 0#32)) (dynamicRotate 0 1#32 none (dynamicRotate 1 1#32 none v104 rotates_S16x128_d1) rotates_S16x128_d0) (dynamicRotate 1 1#32 none v104 rotates_S16x128_d1)))
      (broadcast S16x128 2147483648#32) (broadcast S16x128 0#32))

/-- The destination words: the row of the result. -/
def dstW (v104 : IVec S16x128 32) : IVec S16x128 32 :=
  addi (muli (shrsi v104 (broadcast S16x128 3#32)) (broadcast S16x128 192#32)) (andi v104 (broadcast S16x128 7#32))

theorem sc11_idx (y : S1x16x128.Idx) : Shape.reshapeEquiv shapeCasts_S16x128_S1x16x128 y
    = (ValueIdx.ix2 (⟨(y 1).val, (y 1).isLt⟩ : Fin 16) (⟨(y 2).val, (y 2).isLt⟩ : Fin 128) : S16x128.Idx) := by
  apply Shape.reshapeEquiv_eq_of_rowMajor
  rw [Shape.rowMajor_val_three, Shape.rowMajor_val_two]
  have h0 : (y 0).val < 1 := (y 0).isLt
  show (y 1).val * 128 + (y 2).val = ((y 0).val * 16 + (y 1).val) * 128 + (y 2).val
  omega

theorem part156_spec (v78 v104 : IVec S16x128 32) (pm : S16x128.Idx → Elt F .i32) {q1 : PosShare TreeShare} (sw dw : ℕ → BitVec 32)
    (hsw : ∀ x : S16x128.Idx, srcW v78 v104 pm x = sw (128 * (x 0).val + (x 1).val)) (hdw : ∀ x : S16x128.Idx, dstW v104 x = dw (128 * (x 0).val + (x 1).val))
    {Q : IVec S1x128 32 → sProp 𝕄} :
    iprop(Own c arg1 q1 pm ∗ Any (F := F) c arg11 (fun _ => True))
      ⊢ iprop((iprop(Own c arg1 q1 pm ∗ ∃ g : S2x17x128.Idx → Elt F .i32, Own c arg11 fullShare (fun x => if (x 1).val < 16 then idxV sw dw x else g x)) -∗ Q (broadcast S1x128 0#32))
        -∗ WP 𝒱 c (k0_part156 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v78 v104) Q) := by
  unfold k0_part156
  dsimp only
  iintro ⟨H1, ⟨%g, H⟩⟩ HQ
  have epm : (fun j => pm ((Rect.unit (s := S16x128) ![0, 0] S16x128.size inb_S16x128_S16x128_0_0).emb j)) = pm := by
    funext j
    congr 1
    funext a
    apply Fin.ext
    rw [unit_emb]
    fin_cases a <;> exact Nat.zero_add _
  rw [WP_bind]
  iapply (load_rule 𝒱 (c := c) (fun _ => trivial)) $$ H1
  iintro H1
  rw [epm]
  rw [WP_bind]
  iapply (load_rule 𝒱 (c := c) (fun _ => trivial)) $$ H
  iintro H
  rw [WP_bind]
  iapply (store_rule 𝒱 (c := c) (g' := fun x => if (x 0).val = 0 ∧ (x 1).val < 16 then idxV sw dw x else g x) (fun _ => trivial) (fun y => ?_) (fun x _ hx => ?_)) $$ H
  · have h0 : (y 0).val < 1 := (y 0).isLt
    have h1 : (y 1).val < 16 := (y 1).isLt
    rw [unit_emb, unit_emb]
    refine (if_pos (show (0 + (y 0).val = 0 ∧ 0 + (y 1).val < 16) by omega)).trans ?_
    unfold idxV
    rw [unit_emb, unit_emb, unit_emb]
    refine (if_pos (show 0 + (y 0).val = 0 by omega)).trans ?_
    have hs := hsw (ValueIdx.ix2 (⟨(y 1).val, (y 1).isLt⟩ : Fin 16) (⟨(y 2).val, (y 2).isLt⟩ : Fin 128) : S16x128.Idx)
    unfold shapeCast
    rw [sc11_idx]
    refine Eq.trans ?_ hs.symm
    refine congrArg sw ?_
    show 128 * (0 + (y 1).val) + (0 + (y 2).val) = _
    rw [Nat.zero_add, Nat.zero_add]
  · refine if_neg (fun hh => hx (ValueIdx.ix3 (0 : Fin 1) (⟨(x 1).val, hh.2⟩ : Fin 16) (⟨(x 2).val, (x 2).isLt⟩ : Fin 128)) ?_)
    funext a
    apply Fin.ext
    rw [unit_emb]
    have h0 := hh.1
    fin_cases a
    · exact h0.symm
    · exact Nat.zero_add _
    · exact Nat.zero_add _
  iintro H
  rw [WP_bind]
  iapply (load_rule 𝒱 (c := c) (fun _ => trivial)) $$ H
  iintro H
  rw [WP_bind]
  iapply (store_rule 𝒱 (c := c) (g' := fun x => if (x 1).val < 16 then idxV sw dw x else g x) (fun _ => trivial) (fun y => ?_) (fun x _ hx => ?_)) $$ H
  · have h0 : (y 0).val < 1 := (y 0).isLt
    have h1 : (y 1).val < 16 := (y 1).isLt
    rw [unit_emb]
    refine (if_pos (show (0 + (y 1).val < 16) by omega)).trans ?_
    unfold idxV
    rw [unit_emb, unit_emb, unit_emb]
    refine (if_neg (show ¬ 1 + (y 0).val = 0 by omega)).trans ?_
    have hs := hdw (ValueIdx.ix2 (⟨(y 1).val, (y 1).isLt⟩ : Fin 16) (⟨(y 2).val, (y 2).isLt⟩ : Fin 128) : S16x128.Idx)
    unfold shapeCast
    rw [sc11_idx]
    refine Eq.trans ?_ hs.symm
    refine congrArg dw ?_
    show 128 * (0 + (y 1).val) + (0 + (y 2).val) = _
    rw [Nat.zero_add, Nat.zero_add]
  · by_cases h1 : (x 1).val < 16
    · have h00 : (x 0).val < 2 := (x 0).isLt
      have h0 : (x 0).val = 0 := by
        by_contra hc
        refine hx (ValueIdx.ix3 (0 : Fin 1) (⟨(x 1).val, h1⟩ : Fin 16) (⟨(x 2).val, (x 2).isLt⟩ : Fin 128)) ?_
        funext a
        apply Fin.ext
        rw [unit_emb]
        fin_cases a
        · show 1 + 0 = (x 0).val
          omega
        · exact Nat.zero_add _
        · exact Nat.zero_add _
      rw [if_pos h1, if_pos ⟨h0, h1⟩]
    · rw [if_neg h1, if_neg (fun hh => h1 hh.2)]
  iintro H
  rw [WP_bind]
  iapply (load_rule 𝒱 (c := c) (fun _ => trivial)) $$ H
  iintro H
  iapply (WP_pure 𝒱 c)
  iapply HQ
  iframe H1
  iexists g
  iexact H

theorem part157_spec (v68 : BitVec 32) (sw dw : ℕ → BitVec 32) (g : S2x17x128.Idx → Elt F .i32) (hs : ∀ p, 2048 ≤ p → sw p = 0#32) (hd : ∀ p, 2048 ≤ p → dw p = Scalar.muli v68 1536#32)
    {Q : PUnit → sProp 𝕄} :
    iprop(Own c arg11 fullShare (fun x => if (x 1).val < 16 then idxV sw dw x else g x)
      ∗ Bat c arg17.sem (cred arg12 S128) (idxD c arg11 arg12 arg13 sw dw) 0 0 ∗ Any (F := F) c arg12 (fun _ => True) ∗ Any (F := F) c arg13 (fun _ => True))
      ⊢ iprop((IdxS (F := F) c arg11 arg12 arg13 arg17 sw dw 6 -∗ Q ⟨⟩)
        -∗ WP 𝒱 c (k0_part157 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v68 (broadcast S1x128 0#32)) Q) := by
  unfold k0_part157
  dsimp only
  iintro ⟨H, HB, ⟨%g12, H12⟩, ⟨%g13, H13⟩⟩ HQ
  rw [WP_bind]
  iapply (store_rule 𝒱 (c := c) (g' := fun x => if (x 1).val < 16 ∨ (x 0).val = 0 then idxV sw dw x else g x) (fun _ => trivial) (fun y => ?_) (fun x _ hx => ?_)) $$ H
  · have h0 : (y 0).val < 1 := (y 0).isLt
    rw [unit_emb, unit_emb]
    refine (if_pos (show (16 + (y 1).val < 16 ∨ 0 + (y 0).val = 0) by omega)).trans ?_
    unfold idxV
    rw [unit_emb, unit_emb, unit_emb]
    refine (if_pos (show 0 + (y 0).val = 0 by omega)).trans ?_
    exact hs _ (show 2048 ≤ 128 * (16 + (y 1).val) + (0 + (y 2).val) by omega)
  · have h17 : (x 1).val < 17 := (x 1).isLt
    by_cases h1 : (x 1).val < 16
    · rw [if_pos h1, if_pos (Or.inl h1)]
    · by_cases h0 : (x 0).val = 0
      · refine absurd ?_ (hx (ValueIdx.ix3 (0 : Fin 1) (0 : Fin 1) (⟨(x 2).val, (x 2).isLt⟩ : Fin 128)))
        funext a
        apply Fin.ext
        rw [unit_emb]
        fin_cases a
        · exact h0.symm
        · show 16 + 0 = (x 1).val
          omega
        · exact Nat.zero_add _
      · rw [if_neg h1, if_neg (fun hh => hh.elim h1 h0)]
  iintro H
  rw [WP_bind]
  iapply (load_rule 𝒱 (c := c) (fun _ => trivial)) $$ H
  iintro H
  rw [WP_bind]
  iapply (store_rule 𝒱 (c := c) (g' := idxV sw dw) (fun _ => trivial) (fun y => ?_) (fun x _ hx => ?_)) $$ H
  · have h0 : (y 0).val < 1 := (y 0).isLt
    unfold idxV
    rw [unit_emb, unit_emb, unit_emb]
    refine (if_neg (show ¬ 1 + (y 0).val = 0 by omega)).trans ?_
    exact hd _ (show 2048 ≤ 128 * (16 + (y 1).val) + (0 + (y 2).val) by omega)
  · have h17 : (x 1).val < 17 := (x 1).isLt
    have h02 : (x 0).val < 2 := (x 0).isLt
    by_cases h1 : (x 1).val < 16 ∨ (x 0).val = 0
    · rw [if_pos h1]
    · refine absurd ?_ (hx (ValueIdx.ix3 (0 : Fin 1) (0 : Fin 1) (⟨(x 2).val, (x 2).isLt⟩ : Fin 128)))
      funext a
      apply Fin.ext
      rw [unit_emb]
      fin_cases a
      · show 1 + 0 = (x 0).val
        omega
      · show 16 + 0 = (x 1).val
        omega
      · exact Nat.zero_add _
  iintro H
  ihave H : IdxS (F := F) c arg11 arg12 arg13 arg17 sw dw 0 $$ [H HB H12 H13]
  · unfold IdxS
    iframe HB
    isplitl [H12]
    · iexists g12
      iapply (Has.congr (c := c) (fun x => ⟨fun _ => Nat.zero_le _, fun _ => trivial⟩) (fun x _ => rfl)) $$ H12
    isplitl [H13]
    · iexists g13
      iapply (Has.congr (c := c) (fun x => ⟨fun _ => Nat.zero_le _, fun _ => trivial⟩) (fun x _ => rfl)) $$ H13
    · iapply (Has.congr (c := c) (fun x => ⟨fun _ => Nat.zero_le _, fun _ => trivial⟩) (fun x _ => rfl)) $$ H
  rw [WP_bind]
  iapply (idx_start0 𝒱 c 0 1 0 rfl rfl (by decide) rfl rfl) $$ H
  iintro H
  rw [WP_bind]
  iapply (idx_start1 𝒱 c 1 2 0 rfl rfl (by decide) rfl rfl) $$ H
  iintro H
  rw [WP_bind]
  iapply (idx_start0 𝒱 c 2 3 1 rfl rfl (by decide) rfl rfl) $$ H
  iintro H
  rw [WP_bind]
  iapply (idx_start1 𝒱 c 3 4 1 rfl rfl (by decide) rfl rfl) $$ H
  iintro H
  rw [WP_bind]
  iapply (idx_start0 𝒱 c 4 5 2 rfl rfl (by decide) rfl rfl) $$ H
  iintro H
  rw [WP_bind]
  iapply (idx_start1 𝒱 c 5 6 2 rfl rfl (by decide) rfl rfl) $$ H
  iintro H
  iapply (WP_pure 𝒱 c)
  iapply HQ
  iexact H

theorem part158_spec (sw dw : ℕ → BitVec 32) {Q : PUnit → sProp 𝕄} :
    IdxS (F := F) c arg11 arg12 arg13 arg17 sw dw 6
      ⊢ iprop((IdxS (F := F) c arg11 arg12 arg13 arg17 sw dw 13 -∗ Q ⟨⟩) -∗ WP 𝒱 c (k0_part158 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17) Q) := by
  unfold k0_part158
  dsimp only
  iintro H HQ
  rw [WP_bind]
  iapply (idx_start0 𝒱 c 6 7 3 rfl rfl (by decide) rfl rfl) $$ H
  iintro H
  rw [WP_bind]
  iapply (idx_start1 𝒱 c 7 8 3 rfl rfl (by decide) rfl rfl) $$ H
  iintro H
  rw [WP_bind]
  iapply (idx_start0 𝒱 c 8 9 4 rfl rfl (by decide) rfl rfl) $$ H
  iintro H
  rw [WP_bind]
  iapply (idx_start1 𝒱 c 9 10 4 rfl rfl (by decide) rfl rfl) $$ H
  iintro H
  rw [WP_bind]
  iapply (idx_start0 𝒱 c 10 11 5 rfl rfl (by decide) rfl rfl) $$ H
  iintro H
  rw [WP_bind]
  iapply (idx_start1 𝒱 c 11 12 5 rfl rfl (by decide) rfl rfl) $$ H
  iintro H
  rw [WP_bind]
  iapply (idx_start0 𝒱 c 12 13 6 rfl rfl (by decide) rfl rfl) $$ H
  iintro H
  iapply (WP_pure 𝒱 c)
  iapply HQ
  iexact H

theorem part159_spec (sw dw : ℕ → BitVec 32) {Q : PUnit → sProp 𝕄} :
    IdxS (F := F) c arg11 arg12 arg13 arg17 sw dw 13
      ⊢ iprop((IdxS (F := F) c arg11 arg12 arg13 arg17 sw dw 21 -∗ Q ⟨⟩) -∗ WP 𝒱 c (k0_part159 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17) Q) := by
  unfold k0_part159
  dsimp only
  iintro H HQ
  rw [WP_bind]
  iapply (idx_start1 𝒱 c 13 14 6 rfl rfl (by decide) rfl rfl) $$ H
  iintro H
  rw [WP_bind]
  iapply (idx_start0 𝒱 c 14 15 7 rfl rfl (by decide) rfl rfl) $$ H
  iintro H
  rw [WP_bind]
  iapply (idx_start1 𝒱 c 15 16 7 rfl rfl (by decide) rfl rfl) $$ H
  iintro H
  rw [WP_bind]
  iapply (idx_start0 𝒱 c 16 17 8 rfl rfl (by decide) rfl rfl) $$ H
  iintro H
  rw [WP_bind]
  iapply (idx_start1 𝒱 c 17 18 8 rfl rfl (by decide) rfl rfl) $$ H
  iintro H
  rw [WP_bind]
  iapply (idx_start0 𝒱 c 18 19 9 rfl rfl (by decide) rfl rfl) $$ H
  iintro H
  rw [WP_bind]
  iapply (idx_start1 𝒱 c 19 20 9 rfl rfl (by decide) rfl rfl) $$ H
  iintro H
  rw [WP_bind]
  iapply (idx_start0 𝒱 c 20 21 10 rfl rfl (by decide) rfl rfl) $$ H
  iintro H
  iapply (WP_pure 𝒱 c)
  iapply HQ
  iexact H

theorem part160_spec (sw dw : ℕ → BitVec 32) {Q : PUnit → sProp 𝕄} :
    IdxS (F := F) c arg11 arg12 arg13 arg17 sw dw 21
      ⊢ iprop((IdxS (F := F) c arg11 arg12 arg13 arg17 sw dw 28 -∗ Q ⟨⟩) -∗ WP 𝒱 c (k0_part160 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17) Q) := by
  unfold k0_part160
  dsimp only
  iintro H HQ
  rw [WP_bind]
  iapply (idx_start1 𝒱 c 21 22 10 rfl rfl (by decide) rfl rfl) $$ H
  iintro H
  rw [WP_bind]
  iapply (idx_start0 𝒱 c 22 23 11 rfl rfl (by decide) rfl rfl) $$ H
  iintro H
  rw [WP_bind]
  iapply (idx_start1 𝒱 c 23 24 11 rfl rfl (by decide) rfl rfl) $$ H
  iintro H
  rw [WP_bind]
  iapply (idx_start0 𝒱 c 24 25 12 rfl rfl (by decide) rfl rfl) $$ H
  iintro H
  rw [WP_bind]
  iapply (idx_start1 𝒱 c 25 26 12 rfl rfl (by decide) rfl rfl) $$ H
  iintro H
  rw [WP_bind]
  iapply (idx_start0 𝒱 c 26 27 13 rfl rfl (by decide) rfl rfl) $$ H
  iintro H
  rw [WP_bind]
  iapply (idx_start1 𝒱 c 27 28 13 rfl rfl (by decide) rfl rfl) $$ H
  iintro H
  iapply (WP_pure 𝒱 c)
  iapply HQ
  iexact H

/-! ## The scales -/

/-- The scale of each row: none where the id is the padding id. -/
def scW (v253 : FVec F S2x1024 .f32) (p : ℕ) : F .f32 :=
  v253 (ValueIdx.ix2 (⟨p / 1024 % 2, Nat.mod_lt _ (by decide)⟩ : Fin 2) (⟨p % 1024, Nat.mod_lt _ (by decide)⟩ : Fin 1024))

theorem row_eq (v253 : FVec F S2x1024 .f32) (m : ℕ) (hm : m < 16) {off : Fin 2 → ℕ} (e : off = ![m / 8, 128 * (m % 8)]) (hs : S2x1024.Slices off S1x128) (y : S128x128.Idx) :
    (transpose S128x128 [1, 0] (broadcastTo S128x128 (shapeCast S1x128 (extractStridedSlice S1x128 off v253 hs) shapeCasts_S1x128_S1x128) broadcasts_S1x128_S128x128) transposes_S128x128_p1_0_S128x128 : FVec F S128x128 .f32) y
      = scW v253 (128 * m + (y 0).val) := by
  subst e
  have h0 : (y 0).val < 128 := (y 0).isLt
  unfold transpose broadcastTo shapeCast extractStridedSlice scW
  rw [show ∀ z : S1x128.Idx, Shape.reshapeEquiv shapeCasts_S1x128_S1x128 z = z from fun z => Shape.reshapeEquiv_eq_of_rowMajor _ rfl]
  refine congrArg v253 ?_
  funext a
  apply Fin.ext
  fin_cases a
  · show m / 8 + 0 = (128 * m + (y 0).val) / 1024 % 2
    omega
  · show 128 * (m % 8) + (y 0).val = (128 * m + (y 0).val) % 1024
    omega

/-- The scales of the first `128 m` rows are in place. -/
def ScS (c : Dev nD) (arg10 : Memref sig .tc .vmem S2048x128 .f32) (sc : ℕ → F .f32) (m : ℕ) : sProp 𝕄 :=
  iprop(∃ g : S2048x128.Idx → Elt F .f32, ⌜∀ x, (x 0).val < 128 * m → g x = scV sc x⌝ ∗ Own c arg10 fullShare g)

theorem sc_load (sc : ℕ → F .f32) (m : ℕ) {r : Rect S2048x128} {hl : arg10.view.LoadsAt r.toLoadRect} {Q : (r.shape.Idx → Elt F .f32) → sProp 𝕄} :
    ScS c arg10 sc m ⊢ iprop((∀ v, ScS c arg10 sc m -∗ Q v) -∗ WP 𝒱 c (Prog.lift (.load arg10 r.toLoadRect hl)) Q) := by
  unfold ScS
  iintro ⟨%g, %hg, H⟩ HQ
  iapply (load_rule 𝒱 (c := c) (fun _ => trivial)) $$ H
  iintro H
  iapply HQ
  iexists g
  iframe
  ipureintro
  exact hg

theorem sc_store (sc : ℕ → F .f32) (m m' : ℕ) (em : m' = m + 1) {off : Fin 2 → ℕ} {h : ∀ a, off a + S128x128.size a ≤ S2048x128.size a} (e : off = ![128 * m, 0])
    {w : S128x128.Idx → Elt F .f32} (hw : ∀ y, w y = sc (128 * m + (y 0).val))
    {hx : (arg10.access (Rect.unit (s := S2048x128) off S128x128.size h)).Stores Finset.univ}
    {hm : (Finset.univ : Finset (Rect.unit (s := S2048x128) off S128x128.size h).shape.Idx) = Finset.univ ∨ ∀ a, (Rect.unit (s := S2048x128) off S128x128.size h).stride a = 1}
    {Q : PUnit → sProp 𝕄} :
    ScS c arg10 sc m ⊢ iprop((ScS c arg10 sc m' -∗ Q ⟨⟩) -∗ WP 𝒱 c (Prog.lift (.store arg10 (Rect.unit (s := S2048x128) off S128x128.size h) w Finset.univ hx hm)) Q) := by
  subst em
  unfold ScS
  iintro ⟨%g, %hg, H⟩ HQ
  iapply (store_rule 𝒱 (c := c) (g' := fun x => if 128 * m ≤ (x 0).val ∧ (x 0).val < 128 * m + 128 then scV sc x else g x) (fun _ => trivial) (fun y => ?_) (fun x _ hx => ?_)) $$ H
  · have h0 : (y 0).val < 128 := (y 0).isLt
    rw [unit_emb_of e (h := h)]
    refine (if_pos (show 128 * m ≤ 128 * m + (y 0).val ∧ 128 * m + (y 0).val < 128 * m + 128 by omega)).trans ?_
    unfold scV
    rw [unit_emb_of e (h := h), hw]
    rfl
  · refine if_neg (fun hh => hx (ValueIdx.ix2 (⟨(x 0).val - 128 * m, by omega⟩ : Fin 128) (⟨(x 1).val, (x 1).isLt⟩ : Fin 128)) ?_)
    funext a
    apply Fin.ext
    rw [unit_emb_of e (h := h)]
    fin_cases a
    · show 128 * m + ((x 0).val - 128 * m) = (x 0).val
      omega
    · exact Nat.zero_add _
  iintro H
  iapply HQ
  iexists _
  iframe H
  ipureintro
  intro x hx
  by_cases h1 : 128 * m ≤ (x 0).val ∧ (x 0).val < 128 * m + 128
  · exact if_pos h1
  · exact (if_neg h1).trans (hg x (by omega))

theorem sc_all (sc : ℕ → F .f32) : ScS c arg10 sc 16 ⊢ Own c arg10 fullShare (scV sc) := by
  unfold ScS
  iintro ⟨%g, %hg, H⟩
  iapply (Has.congr (c := c) (fun x => Iff.rfl) (fun x _ => hg x (show (x 0).val < 2048 from (x 0).isLt))) $$ H

/-- The scales with those of the padding cleared. -/
abbrev clrW (ids : S2x1024.Idx → Elt F .i32) (scl : S2x1024.Idx → Elt F .f32) : FVec F S2x1024 .f32 :=
  select (cmpi .eq (show IVec S2x1024 32 from ids) (broadcast S2x1024 0#32)) (broadcast S2x1024 (Scalar.ofBits .f32 0x00000000#32 : F .f32)) scl

/-- The number of padding tokens, as the kernel counts them. -/
abbrev padW (v250 : IVec S2x1024 1) : BitVec 32 :=
  extractAt ![0, 0, 0] (shapeCast S1x1x1 (multiReductionI .add [1, 2] S1 (shapeCast S1x2x1024 (extui 32 v250 natLt_1_32) shapeCasts_S2x1024_S1x2x1024) 0#32 reduces_S1x2x1024_S1 rfl) shapeCasts_S1_S1x1x1) inpos_S1x1x1_p0_0_0

theorem part161_spec (sw dw : ℕ → BitVec 32) (ids : S2x1024.Idx → Elt F .i32) (scl : S2x1024.Idx → Elt F .f32) {q2 q3 : PosShare TreeShare}
    {Q : (Σ' (v250 : IVec S2x1024 1) (v253 : FVec F S2x1024 .f32), FVec F S128x128 .f32) → sProp 𝕄} :
    iprop(IdxS (F := F) c arg11 arg12 arg13 arg17 sw dw 28 ∗ Own c arg2 q2 ids ∗ Own c arg3 q3 scl ∗ Owes c)
      ⊢ iprop((∀ v257, iprop(⌜∀ y : S128x128.Idx, v257 y = scW (clrW ids scl) (128 * 0 + (y 0).val)⌝ ∗ IdxW (F := F) c arg11 arg12 arg13 arg17 sw dw 0 ∗ Own c arg2 q2 ids ∗ Own c arg3 q3 scl)
          -∗ Q ⟨cmpi .eq (show IVec S2x1024 32 from ids) (broadcast S2x1024 0#32), clrW ids scl, v257⟩)
        -∗ WP 𝒱 c (k0_part161 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17) Q) := by
  have eids : ∀ g : S2x1024.Idx → Elt F .i32, (fun j => g ((Rect.unit (s := S2x1024) ![0, 0] S2x1024.size inb_S2x1024_S2x1024_0_0).emb j)) = g := by
    intro g
    funext j
    congr 1
    funext a
    apply Fin.ext
    rw [unit_emb]
    fin_cases a <;> exact Nat.zero_add _
  have escl : ∀ g : S2x1024.Idx → Elt F .f32, (fun j => g ((Rect.unit (s := S2x1024) ![0, 0] S2x1024.size inb_S2x1024_S2x1024_0_0).emb j)) = g := by
    intro g
    funext j
    congr 1
    funext a
    apply Fin.ext
    rw [unit_emb]
    fin_cases a <;> exact Nat.zero_add _
  unfold k0_part161
  dsimp only
  iintro ⟨H, H2, H3, HO⟩ HQ
  rw [WP_bind]
  iapply (idx_start0 𝒱 c 28 29 14 rfl rfl (by decide) rfl rfl) $$ H
  iintro H
  rw [WP_bind]
  iapply (idx_start1 𝒱 c 29 30 14 rfl rfl (by decide) rfl rfl) $$ H
  iintro H
  rw [WP_bind]
  iapply (idx_start0 𝒱 c 30 31 15 rfl rfl (by decide) rfl rfl) $$ H
  iintro H
  rw [WP_bind]
  iapply (idx_start1 𝒱 c 31 32 15 rfl rfl (by decide) rfl rfl) $$ H
  iintro H
  rw [WP_bind]
  iapply (idx_start0 𝒱 c 32 33 16 rfl rfl (by decide) rfl rfl) $$ H
  iintro H
  rw [WP_bind]
  iapply (idx_start1 𝒱 c 33 34 16 rfl rfl (by decide) rfl rfl) $$ H
  iintro H
  rw [WP_bind]
  iapply (load_rule 𝒱 (c := c) (fun _ => trivial)) $$ H2
  iintro H2
  rw [WP_bind]
  iapply (load_rule 𝒱 (c := c) (fun _ => trivial)) $$ H3
  iintro H3
  iapply (WP_pure 𝒱 c)
  rw [eids, escl]
  iapply HQ
  iframe H2 H3
  isplitr [H HO]
  · ipureintro
    intro y
    exact row_eq (clrW ids scl) 0 (by decide) rfl _ y
  unfold IdxS IdxW
  icases H with ⟨H, H12, H13, H11⟩
  iframe HO
  rw [Nat.zero_mul]
  iexact H

theorem sc128_idx (y : S128x128.Idx) : Shape.reshapeEquiv shapeCasts_S128x128_S128x128 y = y := Shape.reshapeEquiv_eq_of_rowMajor _ rfl

theorem part162_spec (v253 : FVec F S2x1024 .f32) (v257 : FVec F S128x128 .f32) (h257 : ∀ y : S128x128.Idx, v257 y = scW v253 (128 * 0 + (y 0).val)) {Q : FVec F S128x128 .f32 → sProp 𝕄} :
    ScS c arg10 (scW v253) 0
      ⊢ iprop((∀ v, iprop(⌜∀ y : S128x128.Idx, v y = scW v253 (128 * 6 + (y 0).val)⌝ ∗ ScS c arg10 (scW v253) 6) -∗ Q v)
        -∗ WP 𝒱 c (k0_part162 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v253 v257) Q) := by
  unfold k0_part162
  dsimp only
  iintro H HQ
  rw [WP_bind]
  iapply (sc_load 𝒱 c (scW v253) 0) $$ H
  iintro %v0 H
  rw [WP_bind]
  iapply (sc_store 𝒱 c (scW v253) 0 1 rfl rfl (fun y => by
    unfold shapeCast
    rw [sc128_idx]
    exact h257 y)) $$ H
  iintro H
  rw [WP_bind]
  iapply (sc_load 𝒱 c (scW v253) 1) $$ H
  iintro %v1 H
  rw [WP_bind]
  iapply (sc_store 𝒱 c (scW v253) 1 2 rfl rfl (fun y => by
    unfold shapeCast
    rw [sc128_idx]
    exact (row_eq v253 1 (by decide) rfl _) y)) $$ H
  iintro H
  rw [WP_bind]
  iapply (sc_load 𝒱 c (scW v253) 2) $$ H
  iintro %v2 H
  rw [WP_bind]
  iapply (sc_store 𝒱 c (scW v253) 2 3 rfl rfl (fun y => by
    unfold shapeCast
    rw [sc128_idx]
    exact (row_eq v253 2 (by decide) rfl _) y)) $$ H
  iintro H
  rw [WP_bind]
  iapply (sc_load 𝒱 c (scW v253) 3) $$ H
  iintro %v3 H
  rw [WP_bind]
  iapply (sc_store 𝒱 c (scW v253) 3 4 rfl rfl (fun y => by
    unfold shapeCast
    rw [sc128_idx]
    exact (row_eq v253 3 (by decide) rfl _) y)) $$ H
  iintro H
  rw [WP_bind]
  iapply (sc_load 𝒱 c (scW v253) 4) $$ H
  iintro %v4 H
  rw [WP_bind]
  iapply (sc_store 𝒱 c (scW v253) 4 5 rfl rfl (fun y => by
    unfold shapeCast
    rw [sc128_idx]
    exact (row_eq v253 4 (by decide) rfl _) y)) $$ H
  iintro H
  rw [WP_bind]
  iapply (sc_load 𝒱 c (scW v253) 5) $$ H
  iintro %v5 H
  rw [WP_bind]
  iapply (sc_store 𝒱 c (scW v253) 5 6 rfl rfl (fun y => by
    unfold shapeCast
    rw [sc128_idx]
    exact (row_eq v253 5 (by decide) rfl _) y)) $$ H
  iintro H
  iapply (WP_pure 𝒱 c)
  iapply HQ
  iframe H
  ipureintro
  exact row_eq v253 6 (by decide) rfl _

theorem part163_spec (v253 : FVec F S2x1024 .f32) (v257 : FVec F S128x128 .f32) (h257 : ∀ y : S128x128.Idx, v257 y = scW v253 (128 * 6 + (y 0).val)) {Q : FVec F S128x128 .f32 → sProp 𝕄} :
    ScS c arg10 (scW v253) 6
      ⊢ iprop((∀ v, iprop(⌜∀ y : S128x128.Idx, v y = scW v253 (128 * 12 + (y 0).val)⌝ ∗ ScS c arg10 (scW v253) 12) -∗ Q v)
        -∗ WP 𝒱 c (k0_part163 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v253 v257) Q) := by
  unfold k0_part163
  dsimp only
  iintro H HQ
  rw [WP_bind]
  iapply (sc_load 𝒱 c (scW v253) 6) $$ H
  iintro %v6 H
  rw [WP_bind]
  iapply (sc_store 𝒱 c (scW v253) 6 7 rfl rfl (fun y => by
    unfold shapeCast
    rw [sc128_idx]
    exact h257 y)) $$ H
  iintro H
  rw [WP_bind]
  iapply (sc_load 𝒱 c (scW v253) 7) $$ H
  iintro %v7 H
  rw [WP_bind]
  iapply (sc_store 𝒱 c (scW v253) 7 8 rfl rfl (fun y => by
    unfold shapeCast
    rw [sc128_idx]
    exact (row_eq v253 7 (by decide) rfl _) y)) $$ H
  iintro H
  rw [WP_bind]
  iapply (sc_load 𝒱 c (scW v253) 8) $$ H
  iintro %v8 H
  rw [WP_bind]
  iapply (sc_store 𝒱 c (scW v253) 8 9 rfl rfl (fun y => by
    unfold shapeCast
    rw [sc128_idx]
    exact (row_eq v253 8 (by decide) rfl _) y)) $$ H
  iintro H
  rw [WP_bind]
  iapply (sc_load 𝒱 c (scW v253) 9) $$ H
  iintro %v9 H
  rw [WP_bind]
  iapply (sc_store 𝒱 c (scW v253) 9 10 rfl rfl (fun y => by
    unfold shapeCast
    rw [sc128_idx]
    exact (row_eq v253 9 (by decide) rfl _) y)) $$ H
  iintro H
  rw [WP_bind]
  iapply (sc_load 𝒱 c (scW v253) 10) $$ H
  iintro %v10 H
  rw [WP_bind]
  iapply (sc_store 𝒱 c (scW v253) 10 11 rfl rfl (fun y => by
    unfold shapeCast
    rw [sc128_idx]
    exact (row_eq v253 10 (by decide) rfl _) y)) $$ H
  iintro H
  rw [WP_bind]
  iapply (sc_load 𝒱 c (scW v253) 11) $$ H
  iintro %v11 H
  rw [WP_bind]
  iapply (sc_store 𝒱 c (scW v253) 11 12 rfl rfl (fun y => by
    unfold shapeCast
    rw [sc128_idx]
    exact (row_eq v253 11 (by decide) rfl _) y)) $$ H
  iintro H
  iapply (WP_pure 𝒱 c)
  iapply HQ
  iframe H
  ipureintro
  exact row_eq v253 12 (by decide) rfl _

theorem part164_spec (v250 : IVec S2x1024 1) (v253 : FVec F S2x1024 .f32) (v257 : FVec F S128x128 .f32) (h257 : ∀ y : S128x128.Idx, v257 y = scW v253 (128 * 12 + (y 0).val)) (sw dw : ℕ → BitVec 32) {Q : BitVec 32 → sProp 𝕄} :
    iprop(ScS c arg10 (scW v253) 12 ∗ IdxW (F := F) c arg11 arg12 arg13 arg17 sw dw 0)
      ⊢ iprop((iprop(Own c arg10 fullShare (scV (scW v253)) ∗ IdxW (F := F) c arg11 arg12 arg13 arg17 sw dw 2) -∗ Q (padW v250))
        -∗ WP 𝒱 c (k0_part164 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v250 v253 v257) Q) := by
  unfold k0_part164
  dsimp only
  iintro ⟨H, HW⟩ HQ
  rw [WP_bind]
  iapply (sc_load 𝒱 c (scW v253) 12) $$ H
  iintro %v12 H
  rw [WP_bind]
  iapply (sc_store 𝒱 c (scW v253) 12 13 rfl rfl (fun y => by
    unfold shapeCast
    rw [sc128_idx]
    exact h257 y)) $$ H
  iintro H
  rw [WP_bind]
  iapply (sc_load 𝒱 c (scW v253) 13) $$ H
  iintro %v13 H
  rw [WP_bind]
  iapply (sc_store 𝒱 c (scW v253) 13 14 rfl rfl (fun y => by
    unfold shapeCast
    rw [sc128_idx]
    exact (row_eq v253 13 (by decide) rfl _) y)) $$ H
  iintro H
  rw [WP_bind]
  iapply (sc_load 𝒱 c (scW v253) 14) $$ H
  iintro %v14 H
  rw [WP_bind]
  iapply (sc_store 𝒱 c (scW v253) 14 15 rfl rfl (fun y => by
    unfold shapeCast
    rw [sc128_idx]
    exact (row_eq v253 14 (by decide) rfl _) y)) $$ H
  iintro H
  rw [WP_bind]
  iapply (sc_load 𝒱 c (scW v253) 15) $$ H
  iintro %v15 H
  rw [WP_bind]
  iapply (sc_store 𝒱 c (scW v253) 15 16 rfl rfl (fun y => by
    unfold shapeCast
    rw [sc128_idx]
    exact (row_eq v253 15 (by decide) rfl _) y)) $$ H
  iintro H
  rw [WP_bind]
  iapply (idx_wait 𝒱 c 0 1 rfl (by decide) rfl) $$ HW
  iintro HW
  rw [WP_bind]
  iapply (idx_wait 𝒱 c 1 2 rfl (by decide) rfl) $$ HW
  iintro HW
  iapply (WP_pure 𝒱 c)
  iapply HQ
  iframe HW
  iapply (sc_all c (scW v253)) $$ H

theorem part165_spec (sw dw : ℕ → BitVec 32) {Q : PUnit → sProp 𝕄} :
    IdxW (F := F) c arg11 arg12 arg13 arg17 sw dw 2
      ⊢ iprop((IdxW (F := F) c arg11 arg12 arg13 arg17 sw dw 9 -∗ Q ⟨⟩) -∗ WP 𝒱 c (k0_part165 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17) Q) := by
  unfold k0_part165
  dsimp only
  iintro HW HQ
  rw [WP_bind]
  iapply (idx_wait 𝒱 c 2 3 rfl (by decide) rfl) $$ HW
  iintro HW
  rw [WP_bind]
  iapply (idx_wait 𝒱 c 3 4 rfl (by decide) rfl) $$ HW
  iintro HW
  rw [WP_bind]
  iapply (idx_wait 𝒱 c 4 5 rfl (by decide) rfl) $$ HW
  iintro HW
  rw [WP_bind]
  iapply (idx_wait 𝒱 c 5 6 rfl (by decide) rfl) $$ HW
  iintro HW
  rw [WP_bind]
  iapply (idx_wait 𝒱 c 6 7 rfl (by decide) rfl) $$ HW
  iintro HW
  rw [WP_bind]
  iapply (idx_wait 𝒱 c 7 8 rfl (by decide) rfl) $$ HW
  iintro HW
  rw [WP_bind]
  iapply (idx_wait 𝒱 c 8 9 rfl (by decide) rfl) $$ HW
  iintro HW
  iapply (WP_pure 𝒱 c)
  iapply HQ
  iexact HW

theorem part166_spec (sw dw : ℕ → BitVec 32) {Q : PUnit → sProp 𝕄} :
    IdxW (F := F) c arg11 arg12 arg13 arg17 sw dw 9
      ⊢ iprop((IdxW (F := F) c arg11 arg12 arg13 arg17 sw dw 17 -∗ Q ⟨⟩) -∗ WP 𝒱 c (k0_part166 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17) Q) := by
  unfold k0_part166
  dsimp only
  iintro HW HQ
  rw [WP_bind]
  iapply (idx_wait 𝒱 c 9 10 rfl (by decide) rfl) $$ HW
  iintro HW
  rw [WP_bind]
  iapply (idx_wait 𝒱 c 10 11 rfl (by decide) rfl) $$ HW
  iintro HW
  rw [WP_bind]
  iapply (idx_wait 𝒱 c 11 12 rfl (by decide) rfl) $$ HW
  iintro HW
  rw [WP_bind]
  iapply (idx_wait 𝒱 c 12 13 rfl (by decide) rfl) $$ HW
  iintro HW
  rw [WP_bind]
  iapply (idx_wait 𝒱 c 13 14 rfl (by decide) rfl) $$ HW
  iintro HW
  rw [WP_bind]
  iapply (idx_wait 𝒱 c 14 15 rfl (by decide) rfl) $$ HW
  iintro HW
  rw [WP_bind]
  iapply (idx_wait 𝒱 c 15 16 rfl (by decide) rfl) $$ HW
  iintro HW
  rw [WP_bind]
  iapply (idx_wait 𝒱 c 16 17 rfl (by decide) rfl) $$ HW
  iintro HW
  iapply (WP_pure 𝒱 c)
  iapply HQ
  iexact HW

theorem part167_spec (sw dw : ℕ → BitVec 32) {Q : PUnit → sProp 𝕄} :
    IdxW (F := F) c arg11 arg12 arg13 arg17 sw dw 17
      ⊢ iprop((IdxW (F := F) c arg11 arg12 arg13 arg17 sw dw 24 -∗ Q ⟨⟩) -∗ WP 𝒱 c (k0_part167 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17) Q) := by
  unfold k0_part167
  dsimp only
  iintro HW HQ
  rw [WP_bind]
  iapply (idx_wait 𝒱 c 17 18 rfl (by decide) rfl) $$ HW
  iintro HW
  rw [WP_bind]
  iapply (idx_wait 𝒱 c 18 19 rfl (by decide) rfl) $$ HW
  iintro HW
  rw [WP_bind]
  iapply (idx_wait 𝒱 c 19 20 rfl (by decide) rfl) $$ HW
  iintro HW
  rw [WP_bind]
  iapply (idx_wait 𝒱 c 20 21 rfl (by decide) rfl) $$ HW
  iintro HW
  rw [WP_bind]
  iapply (idx_wait 𝒱 c 21 22 rfl (by decide) rfl) $$ HW
  iintro HW
  rw [WP_bind]
  iapply (idx_wait 𝒱 c 22 23 rfl (by decide) rfl) $$ HW
  iintro HW
  rw [WP_bind]
  iapply (idx_wait 𝒱 c 23 24 rfl (by decide) rfl) $$ HW
  iintro HW
  iapply (WP_pure 𝒱 c)
  iapply HQ
  iexact HW

theorem part168_spec (sw dw : ℕ → BitVec 32) {Q : PUnit → sProp 𝕄} :
    IdxW (F := F) c arg11 arg12 arg13 arg17 sw dw 24
      ⊢ iprop((IdxW (F := F) c arg11 arg12 arg13 arg17 sw dw 32 -∗ Q ⟨⟩) -∗ WP 𝒱 c (k0_part168 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17) Q) := by
  unfold k0_part168
  dsimp only
  iintro HW HQ
  rw [WP_bind]
  iapply (idx_wait 𝒱 c 24 25 rfl (by decide) rfl) $$ HW
  iintro HW
  rw [WP_bind]
  iapply (idx_wait 𝒱 c 25 26 rfl (by decide) rfl) $$ HW
  iintro HW
  rw [WP_bind]
  iapply (idx_wait 𝒱 c 26 27 rfl (by decide) rfl) $$ HW
  iintro HW
  rw [WP_bind]
  iapply (idx_wait 𝒱 c 27 28 rfl (by decide) rfl) $$ HW
  iintro HW
  rw [WP_bind]
  iapply (idx_wait 𝒱 c 28 29 rfl (by decide) rfl) $$ HW
  iintro HW
  rw [WP_bind]
  iapply (idx_wait 𝒱 c 29 30 rfl (by decide) rfl) $$ HW
  iintro HW
  rw [WP_bind]
  iapply (idx_wait 𝒱 c 30 31 rfl (by decide) rfl) $$ HW
  iintro HW
  rw [WP_bind]
  iapply (idx_wait 𝒱 c 31 32 rfl (by decide) rfl) $$ HW
  iintro HW
  iapply (WP_pure 𝒱 c)
  iapply HQ
  iexact HW

theorem part169_spec (sw dw : ℕ → BitVec 32) {Q : (Σ' (c0_i32_379 : BitVec 32), BitVec 32) → sProp 𝕄} :
    IdxW (F := F) c arg11 arg12 arg13 arg17 sw dw 32
      ⊢ iprop((iprop(Own c arg12 fullShare (wordsAt sw) ∗ Own c arg13 fullShare (wordsAt dw) ∗ Own c arg11 fullShare (idxV sw dw) ∗ Cell c arg17.sem ∗ Owes c) -∗ Q ⟨0#32, 1#32⟩)
        -∗ WP 𝒱 c (k0_part169 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17) Q) := by
  unfold k0_part169
  dsimp only
  iintro HW HQ
  rw [WP_bind]
  iapply (idx_wait 𝒱 c 32 33 rfl (by decide) rfl) $$ HW
  iintro HW
  rw [WP_bind]
  iapply (idx_wait_last 𝒱 c rfl) $$ HW
  iintro HW
  iapply (WP_pure 𝒱 c)
  iapply HQ
  iexact HW

end Cert.Kernel.Emb
-- ==== Proof.Kernel.Init.lean ====
module

public import proofs.«01_k».proof.Proof.Kernel.Idx

@[expose] public section

noncomputable section

namespace Cert.Kernel.Emb

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]
local notation "𝕄" => MT nD τ sig Unit (Elt F) ℕ (UD sig nD τ) ℕ
variable (𝒱 : Variants) (c : Dev nD)
variable {arg0 : Memref sig .tc .smem S2049 .i32} {harg0 : arg0.IsWhole} {arg1 : Memref sig .tc .vmem S16x128 .i32} {harg1 : arg1.IsWhole} {arg2 : Memref sig .tc .vmem S2x1024 .i32} {harg2 : arg2.IsWhole} {arg3 : Memref sig .tc .vmem S2x1024 .f32} {harg3 : arg3.IsWhole} {arg4 : Memref sig .tc .hbm S2x1024x12288 .fp8e5m2} {harg4 : arg4.IsWhole} {arg5 : Memref sig .tc .hbm S256x96x8x128 .f32} {harg5 : arg5.IsWhole} {arg6 : Memref sig .tc .vmem S2x2048x3072 .fp8e5m2} {harg6 : arg6.IsWhole} {arg7 : Memref sig .tc .vmem S256x24x8x128 .f32} {harg7 : arg7.IsWhole} {arg8 : Memref sig .tc .vmem S4x9x24x8x128 .f32} {harg8 : arg8.IsWhole} {arg9 : Memref sig .tc .vmem S8x24x8x128 .f32} {harg9 : arg9.IsWhole} {arg10 : Memref sig .tc .vmem S2048x128 .f32} {harg10 : arg10.IsWhole} {arg11 : Memref sig .tc .vmem S2x17x128 .i32} {harg11 : arg11.IsWhole} {arg12 : Memref sig .tc .smem S2176 .i32} {harg12 : arg12.IsWhole} {arg13 : Memref sig .tc .smem S2176 .i32} {harg13 : arg13.IsWhole} {arg14 : DmaSems sig S2x8} {arg15 : DmaSems sig S4} {arg16 : DmaSems sig S_} {arg17 : DmaSems sig S_}

/-! # The kernel's first parts -/

/-! ## Splitting by a key -/

section
variable {s : Shape}
/-- A region splits into the eight values of a key. -/
theorem each8_split (T : (s.Idx → Prop) → sProp 𝕄) (hs : ∀ P R S : s.Idx → Prop, (∀ x, P x ↔ (R x ∨ S x)) → (∀ x, R x → ¬ S x) → T P ⊢ iprop(T R ∗ T S))
    (P : s.Idx → Prop) (key : s.Idx → ℕ) (hk : ∀ x, P x → key x < 8) : T P ⊢ Each8 (fun i => T (fun x => P x ∧ key x = i.val)) := by
  have st : ∀ n : ℕ, T (fun x => P x ∧ n ≤ key x) ⊢ iprop(T (fun x => P x ∧ key x = n) ∗ T (fun x => P x ∧ n + 1 ≤ key x)) := fun n =>
    hs _ _ _ (fun x => by
      constructor
      · rintro ⟨h, h'⟩
        by_cases e : key x = n
        · exact .inl ⟨h, e⟩
        · exact .inr ⟨h, by omega⟩
      · rintro (⟨h, h'⟩ | ⟨h, h'⟩)
        · exact ⟨h, by omega⟩
        · exact ⟨h, by omega⟩) (fun x h1 h2 => by omega)
  have e0 : P = (fun x => P x ∧ 0 ≤ key x) := funext fun x => propext ⟨fun h => ⟨h, Nat.zero_le _⟩, fun h => h.1⟩
  have e7 : (fun x => P x ∧ 7 ≤ key x) = fun x => P x ∧ key x = 7 := funext fun x => propext ⟨fun h => ⟨h.1, by have := hk x h.1; omega⟩, fun h => ⟨h.1, by omega⟩⟩
  unfold Each8
  exact (Entails.of_eq (congrArg T e0)).trans ((st 0).trans (BIClass.sep_mono BIBase.Entails.rfl ((st 1).trans (BIClass.sep_mono BIBase.Entails.rfl ((st 2).trans (BIClass.sep_mono BIBase.Entails.rfl ((st 3).trans (BIClass.sep_mono BIBase.Entails.rfl ((st 4).trans (BIClass.sep_mono BIBase.Entails.rfl ((st 5).trans (BIClass.sep_mono BIBase.Entails.rfl ((st 6).trans (BIClass.sep_mono BIBase.Entails.rfl (Entails.of_eq (congrArg T e7))))))))))))))))

/-- And is put together from them. -/
theorem each8_join (T : (s.Idx → Prop) → sProp 𝕄) (hs : ∀ P R S : s.Idx → Prop, (∀ x, P x ↔ (R x ∨ S x)) → (∀ x, R x → ¬ S x) → iprop(T R ∗ T S) ⊢ T P)
    (P : s.Idx → Prop) (key : s.Idx → ℕ) (hk : ∀ x, P x → key x < 8) : Each8 (fun i => T (fun x => P x ∧ key x = i.val)) ⊢ T P := by
  have st : ∀ n : ℕ, iprop(T (fun x => P x ∧ key x = n) ∗ T (fun x => P x ∧ n + 1 ≤ key x)) ⊢ T (fun x => P x ∧ n ≤ key x) := fun n =>
    hs _ _ _ (fun x => by
      constructor
      · rintro ⟨h, h'⟩
        by_cases e : key x = n
        · exact .inl ⟨h, e⟩
        · exact .inr ⟨h, by omega⟩
      · rintro (⟨h, h'⟩ | ⟨h, h'⟩)
        · exact ⟨h, by omega⟩
        · exact ⟨h, by omega⟩) (fun x h1 h2 => by omega)
  have e0 : (fun x => P x ∧ 0 ≤ key x) = P := funext fun x => propext ⟨fun h => h.1, fun h => ⟨h, Nat.zero_le _⟩⟩
  have e7 : (fun x => P x ∧ key x = 7) = fun x => P x ∧ 7 ≤ key x := funext fun x => propext ⟨fun h => ⟨h.1, by omega⟩, fun h => ⟨h.1, by have := hk x h.1; omega⟩⟩
  unfold Each8
  refine BIBase.Entails.trans ?_ (Entails.of_eq (congrArg T e0))
  refine (BIClass.sep_mono BIBase.Entails.rfl ((BIClass.sep_mono BIBase.Entails.rfl ((BIClass.sep_mono BIBase.Entails.rfl ((BIClass.sep_mono BIBase.Entails.rfl ((BIClass.sep_mono BIBase.Entails.rfl ((BIClass.sep_mono BIBase.Entails.rfl
    ((BIClass.sep_mono BIBase.Entails.rfl (Entails.of_eq (congrArg T e7))).trans (st 6))).trans (st 5))).trans (st 4))).trans (st 3))).trans (st 2))).trans (st 1))).trans (st 0)
end

/-! ## The first chunk's copies -/

/-- One slab before anything has started. -/
def Pre14 (arg4 : Memref sig .tc .hbm S2x1024x12288 .fp8e5m2) (arg6 : Memref sig .tc .vmem S2x2048x3072 .fp8e5m2) (arg14 : DmaSems sig S2x8) (q4 : PosShare TreeShare) (cd : ℕ → ℕ → F .fp8e5m2) (i : Fin 8) : sProp 𝕄 :=
  iprop(Idle14 (F := F) c arg6 arg14 0 i ∗ Idle14 (F := F) c arg6 arg14 1 i ∗ Has c arg4 (rowP i) q4 (codesV cd))

theorem pre14_split (q4 : PosShare TreeShare) (cd : ℕ → ℕ → F .fp8e5m2) (i : Fin 8) :
    Pre14 c arg4 arg6 arg14 q4 cd i ⊢ iprop((Idle14 (F := F) c arg6 arg14 0 i ∗ Has c arg4 (regP 0 i) q4 (codesV cd))
      ∗ Idle14 (F := F) c arg6 arg14 1 i ∗ Has c arg4 (fun x => rowP i x ∧ (x 2).val / 3072 ≠ 0) q4 (codesV cd)) := by
  unfold Pre14
  iintro ⟨HI, HJ, H4⟩
  ihave H4 := (Has.split (R := regP 0 i) (S := fun x => rowP i x ∧ (x 2).val / 3072 ≠ 0) (fun x => by
    unfold regP
    constructor
    · intro h1
      by_cases h3 : (x 2).val / 3072 = 0
      · exact .inl ⟨h1, h3⟩
      · exact .inr ⟨h1, h3⟩
    · rintro (⟨h1, h2⟩ | ⟨h1, h2⟩)
      · exact h1
      · exact h1) (fun x h1 h2 => h2.2 h1.2)) $$ H4
  icases H4 with ⟨H4, H4'⟩
  iframe

theorem slabA_zero (q4 : PosShare TreeShare) (cd : ℕ → ℕ → F .fp8e5m2) (i : Fin 8) :
    iprop(Fly14 c arg4 arg6 arg14 q4 cd 0 i ∗ Idle14 (F := F) c arg6 arg14 1 i ∗ Has c arg4 (fun x => rowP i x ∧ (x 2).val / 3072 ≠ 0) q4 (codesV cd))
      ⊢ SlabA c arg4 arg6 arg14 q4 cd 0 i := by
  unfold SlabA Fl14
  rw [if_pos (by decide)]

theorem part147_spec (q4 : PosShare TreeShare) (cd : ℕ → ℕ → F .fp8e5m2) {Q : PUnit → sProp 𝕄} :
    iprop(Pre14 c arg4 arg6 arg14 q4 cd 0 ∗ Pre14 c arg4 arg6 arg14 q4 cd 1 ∗ Pre14 c arg4 arg6 arg14 q4 cd 2 ∗ Pre14 c arg4 arg6 arg14 q4 cd 3)
      ⊢ iprop((iprop(SlabA c arg4 arg6 arg14 q4 cd 0 0 ∗ SlabA c arg4 arg6 arg14 q4 cd 0 1 ∗ SlabA c arg4 arg6 arg14 q4 cd 0 2 ∗ SlabA c arg4 arg6 arg14 q4 cd 0 3) -∗ Q ⟨⟩) -∗ WP 𝒱 c (k0_part147 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17) Q) := by
  unfold k0_part147
  dsimp only
  iintro ⟨P0, P1, P2, P3⟩ HQ
  ihave P0 := (pre14_split c q4 cd 0) $$ P0
  icases P0 with ⟨P0, R0⟩
  rw [WP_bind]
  iapply (slab_start 𝒱 c 0 0 rfl rfl rfl cd) $$ P0
  iintro P0
  ihave P0 := (slabA_zero c q4 cd 0) $$ [P0 R0]
  · iframe
  ihave P1 := (pre14_split c q4 cd 1) $$ P1
  icases P1 with ⟨P1, R1⟩
  rw [WP_bind]
  iapply (slab_start 𝒱 c 0 1 rfl rfl rfl cd) $$ P1
  iintro P1
  ihave P1 := (slabA_zero c q4 cd 1) $$ [P1 R1]
  · iframe
  ihave P2 := (pre14_split c q4 cd 2) $$ P2
  icases P2 with ⟨P2, R2⟩
  rw [WP_bind]
  iapply (slab_start 𝒱 c 0 2 rfl rfl rfl cd) $$ P2
  iintro P2
  ihave P2 := (slabA_zero c q4 cd 2) $$ [P2 R2]
  · iframe
  ihave P3 := (pre14_split c q4 cd 3) $$ P3
  icases P3 with ⟨P3, R3⟩
  rw [WP_bind]
  iapply (slab_start 𝒱 c 0 3 rfl rfl rfl cd) $$ P3
  iintro P3
  ihave P3 := (slabA_zero c q4 cd 3) $$ [P3 R3]
  · iframe
  iapply (WP_pure 𝒱 c)
  iapply HQ
  iframe

theorem part148_spec (q4 : PosShare TreeShare) (cd : ℕ → ℕ → F .fp8e5m2) {Q : PUnit → sProp 𝕄} :
    iprop(Pre14 c arg4 arg6 arg14 q4 cd 4 ∗ Pre14 c arg4 arg6 arg14 q4 cd 5 ∗ Pre14 c arg4 arg6 arg14 q4 cd 6 ∗ Pre14 c arg4 arg6 arg14 q4 cd 7)
      ⊢ iprop((iprop(SlabA c arg4 arg6 arg14 q4 cd 0 4 ∗ SlabA c arg4 arg6 arg14 q4 cd 0 5 ∗ SlabA c arg4 arg6 arg14 q4 cd 0 6 ∗ SlabA c arg4 arg6 arg14 q4 cd 0 7) -∗ Q ⟨⟩) -∗ WP 𝒱 c (k0_part148 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17) Q) := by
  unfold k0_part148
  dsimp only
  iintro ⟨P4, P5, P6, P7⟩ HQ
  ihave P4 := (pre14_split c q4 cd 4) $$ P4
  icases P4 with ⟨P4, R4⟩
  rw [WP_bind]
  iapply (slab_start 𝒱 c 0 4 rfl rfl rfl cd) $$ P4
  iintro P4
  ihave P4 := (slabA_zero c q4 cd 4) $$ [P4 R4]
  · iframe
  ihave P5 := (pre14_split c q4 cd 5) $$ P5
  icases P5 with ⟨P5, R5⟩
  rw [WP_bind]
  iapply (slab_start 𝒱 c 0 5 rfl rfl rfl cd) $$ P5
  iintro P5
  ihave P5 := (slabA_zero c q4 cd 5) $$ [P5 R5]
  · iframe
  ihave P6 := (pre14_split c q4 cd 6) $$ P6
  icases P6 with ⟨P6, R6⟩
  rw [WP_bind]
  iapply (slab_start 𝒱 c 0 6 rfl rfl rfl cd) $$ P6
  iintro P6
  ihave P6 := (slabA_zero c q4 cd 6) $$ [P6 R6]
  · iframe
  ihave P7 := (pre14_split c q4 cd 7) $$ P7
  icases P7 with ⟨P7, R7⟩
  rw [WP_bind]
  iapply (slab_start 𝒱 c 0 7 rfl rfl rfl cd) $$ P7
  iintro P7
  ihave P7 := (slabA_zero c q4 cd 7) $$ [P7 R7]
  · iframe
  iapply (WP_pure 𝒱 c)
  iapply HQ
  iframe

/-! ## The scalars -/

theorem part149_spec {Q : (Σ' (c0_i32_49 : BitVec 32) (c2048_i32 : BitVec 32) (c0_i32_50 : BitVec 32), BitVec 32) → sProp 𝕄} :
    Q ⟨0#32, 2048#32, 0#32, 1#32⟩ ⊢ WP 𝒱 c (k0_part149 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17) Q := by
  unfold k0_part149
  dsimp only
  exact WP_pure 𝒱 c _ _

/-- Every position, laid out in rows of 128. -/
def v77V : IVec S16x128 32 := addi (muli (iota .tc S16x128 32 [0] iota_S16x128_d0_w32) (broadcast S16x128 128#32)) (iota .tc S16x128 32 [1] iota_S16x128_d1_w32)
/-- Every position's lane. -/
def v78V : IVec S16x128 32 := iota .tc S16x128 32 [1] iota_S16x128_d1_w32

theorem whole9_emb {h : ∀ a, (![0, 0, 0, 0] : Fin 4 → ℕ) a + S8x24x8x128.size a ≤ S8x24x8x128.size a} (x : S8x24x8x128.Idx) :
    (Rect.unit (s := S8x24x8x128) ![0, 0, 0, 0] S8x24x8x128.size h).emb x = x := by
  funext a
  apply Fin.ext
  refine (unit_emb _ a).trans ?_
  fin_cases a <;> exact Nat.zero_add _

theorem part151_spec (v49 : BitVec 32) (hw2 : k0_chk2 v49)
    {Q : (Σ' (k0_hw2 : k0_chk2 v49) (v68 : BitVec 32) (v77 : IVec S16x128 32) (v78 : IVec S16x128 32) (v79 : BitVec 32) (c16_i32 : BitVec 32) (v80 : BitVec 32) (v85 : BitVec 32), BitVec 32) → sProp 𝕄} :
    Any (F := F) c arg9 (fun _ => True)
      ⊢ iprop((∀ (v79 v80 v85 v87 : BitVec 32), Own c arg9 fullShare (show S8x24x8x128.Idx → Elt F .f32 from zeroV) -∗ Q ⟨hw2, nbW v49, v77V, v78V, v79, 16#32, v80, v85, v87⟩)
        -∗ WP 𝒱 c (k0_part151 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v49) Q) := by
  unfold k0_part151 nbW fdivW v77V v78V
  dsimp only
  iintro ⟨%g, H⟩ HQ
  rw [WP_bind]
  iapply (assume_rule 𝒱 hw2)
  rw [WP_bind]
  iapply (load_rule 𝒱 (c := c) (fun _ => trivial)) $$ H
  iintro H
  rw [WP_bind]
  iapply (store_rule 𝒱 (c := c) (g' := show S8x24x8x128.Idx → Elt F .f32 from zeroV) (fun _ => trivial) (fun j => ?_) (fun i _ hi => ?_)) $$ H
  · rfl
  · exact (hi i (whole9_emb i)).elim
  iintro H
  iapply (WP_pure 𝒱 c)
  iapply HQ
  iexact H

theorem part152_spec (v79 c16 v80 v85 v87 : BitVec 32) {Q : (Σ' (v97 : IVec S16x128 32) (c0_i32_69 : BitVec 32) (v102 : BitVec 32), BitVec 32) → sProp 𝕄} :
    iprop(∀ v102, Q ⟨k0_pay439, 0#32, v102, 1#32⟩) ⊢ WP 𝒱 c (k0_part152 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v79 c16 v80 v85 v87) Q := by
  unfold k0_part152 k0_pay439
  dsimp only
  iintro HQ
  iapply (WP_pure 𝒱 c)
  iapply HQ

theorem part154_spec {Q : BitVec 32 → sProp 𝕄} : Q 1#32 ⊢ WP 𝒱 c (k0_part154 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17) Q := by
  unfold k0_part154
  exact WP_pure 𝒱 c _ _

theorem part155_spec (v49 : BitVec 32) (h : v49.toNat ≤ 2048) (hw2 : k0_chk2 v49) (v77 : IVec S16x128 32) (v102 : BitVec 32) (v103 : IVec S16x128 32) (c1 : BitVec 32) {Q : IVec S16x128 32 → sProp 𝕄} :
    Q v103 ⊢ WP 𝒱 c (k0_part155 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v49 hw2 v77 v102 v103 c1) Q := by
  unfold k0_part155
  iintro HQ
  iapply (loop_zero 𝒱 c _ _ _ _ (t3_trips v49 h))
  iexact HQ

theorem part179_spec (v68 : BitVec 32) {Q : (Σ' (c0_i32_397 : BitVec 32) (v496 : BitVec 32), BitVec 32) → sProp 𝕄} :
    iprop(∀ v496, Q ⟨0#32, v496, 1#32⟩) ⊢ WP 𝒱 c (k0_part179 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v68) Q := by
  unfold k0_part179
  dsimp only
  iintro HQ
  iapply (WP_pure 𝒱 c)
  iapply HQ

theorem part181_spec {Q : BitVec 32 → sProp 𝕄} : Q 1#32 ⊢ WP 𝒱 c (k0_part181 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17) Q := by
  unfold k0_part181
  exact WP_pure 𝒱 c _ _

theorem part182_spec (v49 : BitVec 32) (h : v49.toNat ≤ 2048) (hw2 : k0_chk2 v49) (v496 c1 : BitVec 32) {Q : PUnit → sProp 𝕄} :
    Q ⟨⟩ ⊢ WP 𝒱 c (k0_part182 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 v49 hw2 v496 c1) Q := by
  unfold k0_part182
  iintro HQ
  rw [WP_bind]
  iapply (loop_zero 𝒱 c _ _ _ _ (t22_trips v49 h))
  iapply (WP_pure 𝒱 c)
  iexact HQ

end Cert.Kernel.Emb
-- ==== Proof.Kernel.Body.lean ====
module

public import proofs.«01_k».proof.Proof.Kernel.Init

@[expose] public section

noncomputable section

namespace Cert.Kernel.Emb

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]
local notation "𝕄" => MT nD τ sig Unit (Elt F) ℕ (UD sig nD τ) ℕ
variable (𝒱 : Variants) (c : Dev nD)
variable {arg0 : Memref sig .tc .smem S2049 .i32} {harg0 : arg0.IsWhole} {arg1 : Memref sig .tc .vmem S16x128 .i32} {harg1 : arg1.IsWhole} {arg2 : Memref sig .tc .vmem S2x1024 .i32} {harg2 : arg2.IsWhole} {arg3 : Memref sig .tc .vmem S2x1024 .f32} {harg3 : arg3.IsWhole} {arg4 : Memref sig .tc .hbm S2x1024x12288 .fp8e5m2} {harg4 : arg4.IsWhole} {arg5 : Memref sig .tc .hbm S256x96x8x128 .f32} {harg5 : arg5.IsWhole} {arg6 : Memref sig .tc .vmem S2x2048x3072 .fp8e5m2} {harg6 : arg6.IsWhole} {arg7 : Memref sig .tc .vmem S256x24x8x128 .f32} {harg7 : arg7.IsWhole} {arg8 : Memref sig .tc .vmem S4x9x24x8x128 .f32} {harg8 : arg8.IsWhole} {arg9 : Memref sig .tc .vmem S8x24x8x128 .f32} {harg9 : arg9.IsWhole} {arg10 : Memref sig .tc .vmem S2048x128 .f32} {harg10 : arg10.IsWhole} {arg11 : Memref sig .tc .vmem S2x17x128 .i32} {harg11 : arg11.IsWhole} {arg12 : Memref sig .tc .smem S2176 .i32} {harg12 : arg12.IsWhole} {arg13 : Memref sig .tc .smem S2176 .i32} {harg13 : arg13.IsWhole} {arg14 : DmaSems sig S2x8} {arg15 : DmaSems sig S4} {arg16 : DmaSems sig S_} {arg17 : DmaSems sig S_}

/-! # The whole kernel -/

/-- For every position, how many segments start at or before it, less one. -/
def v104V (so : ℕ → BitVec 32) (nu : ℕ) : IVec S16x128 32 := fun i => cntW so (v77V i) (((BitVec.ofNat 32 nu).toNat + 15) / 16 * 16)

/-- The facts about the operands the kernel's run rests on. -/
structure Facts (so : ℕ → BitVec 32) (nu : ℕ) (pm : S16x128.Idx → Elt F .i32) (ids : S2x1024.Idx → Elt F .i32) (scl : S2x1024.Idx → Elt F .f32) (cd : ℕ → ℕ → F .fp8e5m2)
    (sw dw : ℕ → BitVec 32) (tk : ℕ → ℕ) (O : ℕ → ℕ → ℕ → F .f32) : Prop where
  hnu : IsNu so nu
  hsw : ∀ x : S16x128.Idx, srcW v78V (v104V so nu) pm x = sw (128 * (x 0).val + (x 1).val)
  hdw : ∀ x : S16x128.Idx, dstW (v104V so nu) x = dw (128 * (x 0).val + (x 1).val)
  hsw0 : ∀ p, 2048 ≤ p → sw p = 0#32
  hdw0 : ∀ p, 2048 ≤ p → dw p = Scalar.muli (nbW (BitVec.ofNat 32 nu)) 1536#32
  hblk : ∀ k, k < 4 → ∀ t15, BlkOk (BitVec.ofNat 32 nu) (padW (cmpi .eq (show IVec S2x1024 32 from ids) (broadcast S2x1024 0#32))) (fun i => so (i 0).val) sw dw tk (dqX cd (scW (clrW ids scl)) k) O True k t15
  hzero : ∀ row, 64 * (((BitVec.ofNat 32 nu).toNat + 63) / 64) ≤ row → ∀ tile lane, O row tile lane = Scalar.ofBits .f32 0x00000000#32

/-! ## The codes and their buffer -/

/-- The codes, the code buffer and its semaphores, whole. -/
def Codes (arg4 : Memref sig .tc .hbm S2x1024x12288 .fp8e5m2) (arg6 : Memref sig .tc .vmem S2x2048x3072 .fp8e5m2) (arg14 : DmaSems sig S2x8) (q4 : PosShare TreeShare) (cd : ℕ → ℕ → F .fp8e5m2) : sProp 𝕄 :=
  iprop(Own c arg4 q4 (codesV cd) ∗ Any (F := F) c arg6 (fun _ => True) ∗ Each8 (fun i => Cell c (sem14 arg14 0 i)) ∗ Each8 (fun i => Cell c (sem14 arg14 1 i)))

theorem key6_lt (x : S2x2048x3072.Idx) : (x 1).val / 256 < 8 := by have : (x 1).val < 2048 := (x 1).isLt; omega
theorem key4_lt (x : S2x1024x12288.Idx) : (x 0).val * 4 + (x 1).val / 256 < 8 := by
  have : (x 0).val < 2 := (x 0).isLt
  have : (x 1).val < 1024 := (x 1).isLt
  omega

theorem any6_split : Any (F := F) c arg6 (fun _ => True) ⊢ iprop(Each8 (fun i => Any (F := F) c arg6 (slabP 0 i)) ∗ Each8 (fun i => Any (F := F) c arg6 (slabP 1 i))) := by
  refine (Any.split (R := fun x : S2x2048x3072.Idx => (x 0).val = 0 % 2) (S := fun x : S2x2048x3072.Idx => (x 0).val = 1 % 2) (fun x => by
    have : (x 0).val < 2 := (x 0).isLt
    constructor
    · intro _; omega
    · intro _; trivial) (fun x h1 h2 => by omega)).trans ?_
  exact BIClass.sep_mono (each8_split (Any (F := F) c arg6) (fun P R S h1 h2 => Any.split h1 h2) _ (fun x => (x 1).val / 256) (fun x _ => key6_lt x))
    (each8_split (Any (F := F) c arg6) (fun P R S h1 h2 => Any.split h1 h2) _ (fun x => (x 1).val / 256) (fun x _ => key6_lt x))

theorem any6_join : iprop(Each8 (fun i => Any (F := F) c arg6 (slabP 0 i)) ∗ Each8 (fun i => Any (F := F) c arg6 (slabP 1 i))) ⊢ Any (F := F) c arg6 (fun _ => True) := by
  refine BIBase.Entails.trans ?_ (Any.join (R := fun x : S2x2048x3072.Idx => (x 0).val = 0 % 2) (S := fun x : S2x2048x3072.Idx => (x 0).val = 1 % 2) (fun x => by
    have : (x 0).val < 2 := (x 0).isLt
    constructor
    · intro _; omega
    · intro _; trivial) (fun x h1 h2 => by omega))
  exact BIClass.sep_mono (each8_join (Any (F := F) c arg6) (fun P R S h1 h2 => Any.join h1 h2) _ (fun x => (x 1).val / 256) (fun x _ => key6_lt x))
    (each8_join (Any (F := F) c arg6) (fun P R S h1 h2 => Any.join h1 h2) _ (fun x => (x 1).val / 256) (fun x _ => key6_lt x))

theorem own4_split (q4 : PosShare TreeShare) (cd : ℕ → ℕ → F .fp8e5m2) : Own c arg4 q4 (codesV cd) ⊢ Each8 (fun i => Has c arg4 (rowP i) q4 (codesV cd)) := by
  refine (each8_split (fun P => Has c arg4 P q4 (codesV cd)) (fun P R S h1 h2 => Has.split h1 h2) (fun _ => True) (fun x => (x 0).val * 4 + (x 1).val / 256) (fun x _ => key4_lt x)).trans ?_
  exact Each8.mono fun i => Has.congr (fun x => ⟨fun h => h.2, fun h => ⟨trivial, h⟩⟩) (fun _ _ => rfl)

theorem own4_join (q4 : PosShare TreeShare) (cd : ℕ → ℕ → F .fp8e5m2) : Each8 (fun i => Has c arg4 (rowP i) q4 (codesV cd)) ⊢ Own c arg4 q4 (codesV cd) := by
  refine BIBase.Entails.trans ?_ (each8_join (fun P => Has c arg4 P q4 (codesV cd)) (fun P R S h1 h2 => Has.join h1 h2) (fun _ => True) (fun x => (x 0).val * 4 + (x 1).val / 256) (fun x _ => key4_lt x))
  exact Each8.mono fun i => Has.congr (fun x => ⟨fun h => ⟨trivial, h⟩, fun h => h.2⟩) (fun _ _ => rfl)

theorem codes_split (q4 : PosShare TreeShare) (cd : ℕ → ℕ → F .fp8e5m2) : Codes c arg4 arg6 arg14 q4 cd ⊢ Each8 (Pre14 c arg4 arg6 arg14 q4 cd) := by
  unfold Codes
  iintro ⟨H4, H6, HC, HD⟩
  ihave H4 := (own4_split c q4 cd) $$ H4
  ihave H6 := (any6_split c) $$ H6
  icases H6 with ⟨HA, HB⟩
  unfold Each8 Pre14 Idle14
  icases H4 with ⟨r0, r1, r2, r3, r4, r5, r6, r7⟩
  icases HC with ⟨c0, c1, c2, c3, c4, c5, c6, c7⟩
  icases HD with ⟨d0, d1, d2, d3, d4, d5, d6, d7⟩
  icases HA with ⟨a0, a1, a2, a3, a4, a5, a6, a7⟩
  icases HB with ⟨b0, b1, b2, b3, b4, b5, b6, b7⟩
  isplitl [r0 c0 d0 a0 b0]
  · isplitl [c0 a0]
    · isplitl [c0]
      · iexact c0
      · iexact a0
    isplitl [d0 b0]
    · isplitl [d0]
      · iexact d0
      · iexact b0
    iexact r0
  isplitl [r1 c1 d1 a1 b1]
  · isplitl [c1 a1]
    · isplitl [c1]
      · iexact c1
      · iexact a1
    isplitl [d1 b1]
    · isplitl [d1]
      · iexact d1
      · iexact b1
    iexact r1
  isplitl [r2 c2 d2 a2 b2]
  · isplitl [c2 a2]
    · isplitl [c2]
      · iexact c2
      · iexact a2
    isplitl [d2 b2]
    · isplitl [d2]
      · iexact d2
      · iexact b2
    iexact r2
  isplitl [r3 c3 d3 a3 b3]
  · isplitl [c3 a3]
    · isplitl [c3]
      · iexact c3
      · iexact a3
    isplitl [d3 b3]
    · isplitl [d3]
      · iexact d3
      · iexact b3
    iexact r3
  isplitl [r4 c4 d4 a4 b4]
  · isplitl [c4 a4]
    · isplitl [c4]
      · iexact c4
      · iexact a4
    isplitl [d4 b4]
    · isplitl [d4]
      · iexact d4
      · iexact b4
    iexact r4
  isplitl [r5 c5 d5 a5 b5]
  · isplitl [c5 a5]
    · isplitl [c5]
      · iexact c5
      · iexact a5
    isplitl [d5 b5]
    · isplitl [d5]
      · iexact d5
      · iexact b5
    iexact r5
  isplitl [r6 c6 d6 a6 b6]
  · isplitl [c6 a6]
    · isplitl [c6]
      · iexact c6
      · iexact a6
    isplitl [d6 b6]
    · isplitl [d6]
      · iexact d6
      · iexact b6
    iexact r6
  isplitl [c7 a7]
  · isplitl [c7]
    · iexact c7
    · iexact a7
  isplitl [d7 b7]
  · isplitl [d7]
    · iexact d7
    · iexact b7
  iexact r7

theorem slabA_end (q4 : PosShare TreeShare) (cd : ℕ → ℕ → F .fp8e5m2) (i : Fin 8) :
    SlabA c arg4 arg6 arg14 q4 cd 4 i ⊢ Pre14 c arg4 arg6 arg14 q4 cd i := by
  unfold SlabA Fl14 Pre14
  rw [if_neg (by decide)]
  iintro ⟨HI, HJ, H4⟩
  isplitl [HI]
  · iexact HI
  isplitl [HJ]
  · iexact HJ
  iapply (Has.congr (fun x => ⟨fun h => h.1, fun h => ⟨h, by have : (x 2).val < 12288 := (x 2).isLt; omega⟩⟩) (fun _ _ => rfl)) $$ H4

theorem codes_join (q4 : PosShare TreeShare) (cd : ℕ → ℕ → F .fp8e5m2) : Each8 (SlabA c arg4 arg6 arg14 q4 cd 4) ⊢ Codes c arg4 arg6 arg14 q4 cd := by
  refine (Each8.mono (slabA_end c q4 cd)).trans ?_
  iintro H
  ihave H' : iprop(Each8 (fun i => Has c arg4 (rowP i) q4 (codesV cd)) ∗ (Each8 (fun i => Any (F := F) c arg6 (slabP 0 i)) ∗ Each8 (fun i => Any (F := F) c arg6 (slabP 1 i)))
      ∗ Each8 (fun i => Cell c (sem14 arg14 0 i)) ∗ Each8 (fun i => Cell c (sem14 arg14 1 i))) $$ [H]
  · unfold Each8 Pre14 Idle14
    icases H with ⟨⟨⟨c0, a0⟩, ⟨d0, b0⟩, r0⟩, ⟨⟨c1, a1⟩, ⟨d1, b1⟩, r1⟩, ⟨⟨c2, a2⟩, ⟨d2, b2⟩, r2⟩, ⟨⟨c3, a3⟩, ⟨d3, b3⟩, r3⟩, ⟨⟨c4, a4⟩, ⟨d4, b4⟩, r4⟩, ⟨⟨c5, a5⟩, ⟨d5, b5⟩, r5⟩, ⟨⟨c6, a6⟩, ⟨d6, b6⟩, r6⟩, ⟨⟨c7, a7⟩, ⟨d7, b7⟩, r7⟩⟩
    isplitl [r0 r1 r2 r3 r4 r5 r6 r7]
    · isplitl [r0]
      · iexact r0
      isplitl [r1]
      · iexact r1
      isplitl [r2]
      · iexact r2
      isplitl [r3]
      · iexact r3
      isplitl [r4]
      · iexact r4
      isplitl [r5]
      · iexact r5
      isplitl [r6]
      · iexact r6
      iexact r7
    isplitl [a0 a1 a2 a3 a4 a5 a6 a7 b0 b1 b2 b3 b4 b5 b6 b7]
    · isplitl [a0 a1 a2 a3 a4 a5 a6 a7]
      · isplitl [a0]
        · iexact a0
        isplitl [a1]
        · iexact a1
        isplitl [a2]
        · iexact a2
        isplitl [a3]
        · iexact a3
        isplitl [a4]
        · iexact a4
        isplitl [a5]
        · iexact a5
        isplitl [a6]
        · iexact a6
        iexact a7
      isplitl [b0]
      · iexact b0
      isplitl [b1]
      · iexact b1
      isplitl [b2]
      · iexact b2
      isplitl [b3]
      · iexact b3
      isplitl [b4]
      · iexact b4
      isplitl [b5]
      · iexact b5
      isplitl [b6]
      · iexact b6
      iexact b7
    isplitl [c0 c1 c2 c3 c4 c5 c6 c7]
    · isplitl [c0]
      · iexact c0
      isplitl [c1]
      · iexact c1
      isplitl [c2]
      · iexact c2
      isplitl [c3]
      · iexact c3
      isplitl [c4]
      · iexact c4
      isplitl [c5]
      · iexact c5
      isplitl [c6]
      · iexact c6
      iexact c7
    isplitl [d0]
    · iexact d0
    isplitl [d1]
    · iexact d1
    isplitl [d2]
    · iexact d2
    isplitl [d3]
    · iexact d3
    isplitl [d4]
    · iexact d4
    isplitl [d5]
    · iexact d5
    isplitl [d6]
    · iexact d6
    iexact d7
  icases H' with ⟨H4, H6, HC, HD⟩
  unfold Codes
  isplitl [H4]
  · iapply (own4_join c q4 cd) $$ H4
  isplitl [H6]
  · iapply (any6_join c) $$ H6
  iframe

/-! ## The ring and the zero blocks -/

/-- The staging ring and its semaphores, whole. -/
def Ring (arg8 : Memref sig .tc .vmem S4x9x24x8x128 .f32) (arg15 : DmaSems sig S4) : sProp 𝕄 :=
  iprop(Any (F := F) c arg8 (fun _ => True) ∗ Cell c (sem15 arg15 0 (by decide)) ∗ Cell c (sem15 arg15 1 (by decide)) ∗ Cell c (sem15 arg15 2 (by decide)) ∗ Cell c (sem15 arg15 3 (by decide)))

theorem any8_split : Any (F := F) c arg8 (fun _ => True) ⊢ iprop(Any (F := F) c arg8 (slotP 0) ∗ Any (F := F) c arg8 (slotP 1) ∗ Any (F := F) c arg8 (slotP 2) ∗ Any (F := F) c arg8 (slotP 3)) := by
  have hl : ∀ x : S4x9x24x8x128.Idx, (x 0).val < 4 := fun x => (x 0).isLt
  unfold slotP
  refine (Any.split (R := fun x : S4x9x24x8x128.Idx => (x 0).val = 0) (S := fun x => 1 ≤ (x 0).val) (fun x => ⟨fun _ => by omega, fun _ => trivial⟩) (fun x h1 h2 => by omega)).trans (BIClass.sep_mono BIBase.Entails.rfl ?_)
  refine (Any.split (R := fun x : S4x9x24x8x128.Idx => (x 0).val = 1) (S := fun x => 2 ≤ (x 0).val) (fun x => ⟨fun _ => by omega, fun h => by omega⟩) (fun x h1 h2 => by omega)).trans (BIClass.sep_mono BIBase.Entails.rfl ?_)
  exact (Any.split (R := fun x : S4x9x24x8x128.Idx => (x 0).val = 2) (S := fun x => (x 0).val = 3) (fun x => ⟨fun _ => by have := hl x; omega, fun h => by omega⟩) (fun x h1 h2 => by omega))

theorem any8_join : iprop(Any (F := F) c arg8 (slotP 0) ∗ Any (F := F) c arg8 (slotP 1) ∗ Any (F := F) c arg8 (slotP 2) ∗ Any (F := F) c arg8 (slotP 3)) ⊢ Any (F := F) c arg8 (fun _ => True) := by
  have hl : ∀ x : S4x9x24x8x128.Idx, (x 0).val < 4 := fun x => (x 0).isLt
  unfold slotP
  refine BIBase.Entails.trans (BIClass.sep_mono BIBase.Entails.rfl ?_) (Any.join (R := fun x : S4x9x24x8x128.Idx => (x 0).val = 0) (S := fun x => 1 ≤ (x 0).val) (fun x => ⟨fun _ => by omega, fun _ => trivial⟩) (fun x h1 h2 => by omega))
  refine BIBase.Entails.trans (BIClass.sep_mono BIBase.Entails.rfl ?_) (Any.join (R := fun x : S4x9x24x8x128.Idx => (x 0).val = 1) (S := fun x => 2 ≤ (x 0).val) (fun x => ⟨fun _ => by omega, fun h => by omega⟩) (fun x h1 h2 => by omega))
  exact (Any.join (R := fun x : S4x9x24x8x128.Idx => (x 0).val = 2) (S := fun x => (x 0).val = 3) (fun x => ⟨fun _ => by have := hl x; omega, fun h => by omega⟩) (fun x h1 h2 => by omega))

theorem univ4 (Φ : Fin 4 → sProp 𝕄) : bigSep Finset.univ Φ = iprop(Φ 0 ∗ Φ 1 ∗ Φ 2 ∗ Φ 3) := by
  rw [show (Finset.univ : Finset (Fin 4)) = insert 0 (insert 1 (insert 2 {3})) from by decide]
  rw [bigSep_insert (by decide), bigSep_insert (by decide), bigSep_insert (by decide), bigSep_singleton]
  rfl

theorem ring_init (O : ℕ → ℕ → ℕ → F .f32) (G : Prop) (nb : ℕ) :
    iprop(Ring (F := F) c arg8 arg15 ∗ Any (F := F) c arg5 (fun z => (z 0).val / 8 < nb)) ⊢ RingS c arg5 arg8 arg15 O G nb 0 := by
  have hI : ∀ r, Idle (F := F) c arg8 arg15 r ⊢ Slot c arg5 arg8 arg15 O G nb 0 r := fun r => by
    unfold Slot
    iintro H
    ileft
    iframe
    ipureintro
    exact Nat.zero_le _
  unfold Ring RingS
  rw [univ4]
  iintro ⟨⟨H8, C0, C1, C2, C3⟩, H5⟩
  ihave H8 := (any8_split c) $$ H8
  icases H8 with ⟨A0, A1, A2, A3⟩
  isplitl [C0 C1 C2 C3 A0 A1 A2 A3]
  · isplitl [C0 A0]
    · iapply (hI 0)
      unfold Idle
      isplitl [C0]
      · iexact C0
      · iexact A0
    isplitl [C1 A1]
    · iapply (hI 1)
      unfold Idle
      isplitl [C1]
      · iexact C1
      · iexact A1
    isplitl [C2 A2]
    · iapply (hI 2)
      unfold Idle
      isplitl [C2]
      · iexact C2
      · iexact A2
    iapply (hI 3)
    unfold Idle
    isplitl [C3]
    · iexact C3
    · iexact A3
  isplitr [H5]
  · iapply (To.empty c (m := arg5) (P := doneP nb 0) (fun z h => by unfold doneP at h; omega))
    iempintro
  icases H5 with ⟨%g, H5⟩
  iexists g
  iapply (Has.congr (fun z => by
    unfold undoneP
    exact ⟨fun h => ⟨h, Nat.zero_le _⟩, fun h => h.1⟩) (fun _ _ => rfl)) $$ H5

theorem ring_end : iprop(Idle (F := F) c arg8 arg15 0 ∗ Idle (F := F) c arg8 arg15 1 ∗ Idle (F := F) c arg8 arg15 2 ∗ Idle (F := F) c arg8 arg15 3) ⊢ Ring (F := F) c arg8 arg15 := by
  unfold Ring Idle
  iintro ⟨⟨C0, A0⟩, ⟨C1, A1⟩, ⟨C2, A2⟩, C3, A3⟩
  isplitl [A0 A1 A2 A3]
  · iapply (any8_join c)
    isplitl [A0]
    · iexact A0
    isplitl [A1]
    · iexact A1
    isplitl [A2]
    · iexact A2
    iexact A3
  isplitl [C0]
  · iexact C0
  isplitl [C1]
  · iexact C1
  isplitl [C2]
  · iexact C2
  iexact C3

theorem zero_init (X0 : BufTy.Contents (Elt F) arg9.view.ty) (nb : ℕ) :
    iprop(Cell c arg16.sem ∗ (arg9.view.loc (c : Thread nD τ) ↦[arg9.view.set]{fullShare} X0) ∗ Any (F := F) c arg5 (fun z => nb ≤ (z 0).val / 8))
      ⊢ iprop(|={Set.univ}=> ZeroS c arg5 arg9 arg16 X0 nb 0) := by
  iintro ⟨HC, H9, H5⟩
  unfold ZeroS
  by_cases h : 32 ≤ nb
  · imodintro
    ileft
    iframe
    ipureintro
    exact h
  · imod (Bat.alloc (c := c) (cred arg5 S8x24x8x128) (zD c arg5 arg9 X0 nb)) $$ HC with HB
    imodintro
    iright
    isplitr
    · ipureintro; omega
    isplitl [HB]
    · iexact HB
    isplitl [H9]
    · iexact H9
    icases H5 with ⟨%g, H5⟩
    iexists g
    iapply (Has.congr (fun z => by
      unfold zU
      exact ⟨fun h => ⟨h, Nat.zero_le _⟩, fun h => h.1⟩) (fun _ _ => rfl)) $$ H5

theorem out_end (O : ℕ → ℕ → ℕ → F .f32) (nb : ℕ) (hz : ∀ row, 64 * nb ≤ row → ∀ tile lane, O row tile lane = Scalar.ofBits .f32 0x00000000#32) :
    iprop(To c arg5 (doneP nb (4 * nb + 3 + 1)) (OutV O) (fun _ => True) ∗ Has c arg5 (fun z => nb ≤ (z 0).val / 8) fullShare (fun _ => Scalar.ofBits .f32 0x00000000#32))
      ⊢ Own c arg5 fullShare (OutV O) := by
  iintro ⟨H1, H2⟩
  ihave H1 := (To.to_has c (fun _ _ => trivial)) $$ H1
  ihave H2 := (Has.congr (R := fun z => nb ≤ (z 0).val / 8) (g' := OutV O) (fun _ => Iff.rfl) (fun z hz' => by
    unfold OutV
    exact (hz _ (by omega) _ _).symm)) $$ H2
  iapply (Has.join (R := doneP nb (4 * nb + 3 + 1)) (S := fun z => nb ≤ (z 0).val / 8) (fun z => by
    have h1 : (z 1).val < 96 := (z 1).isLt
    have h2 : (z 1).val / 24 * nb ≤ 3 * nb := Nat.mul_le_mul_right _ (by omega)
    unfold doneP
    constructor
    · intro _
      by_cases h : (z 0).val / 8 < nb
      · exact .inl ⟨h, by omega⟩
      · exact .inr (by omega)
    · intro _; trivial) (fun z h1 h2 => by
      unfold doneP at h1
      have := h1.1
      omega)) $$ [H1 H2]
  isplitl [H1]
  · iexact H1
  · iexact H2

/-! ## The run -/

theorem own_any {sp : Space} {s : Shape} {e : EltTy} {m : Memref sig .tc sp s e} {g : s.Idx → Elt F e} : Own c m fullShare g ⊢ Any (F := F) c m (fun _ => True) := by
  iintro H
  iexists g
  iexact H

theorem wp_bindW {α β : Type} (p : Prog (TpuEff nD τ sig (Elt F) Λ₀ .tc) α) (k : α → Prog (TpuEff nD τ sig (Elt F) Λ₀ .tc) β) (Q : β → sProp 𝕄) :
    wp frame (wpE (defs₀ (F := F)) 𝒱 (c : Thread nD τ) none) Set.univ (p >>= k) Q = WP 𝒱 c p (fun x => WP 𝒱 c (k x) Q) := WP_bind 𝒱 c p k Q

theorem body_spec (so : ℕ → BitVec 32) (nu : ℕ) (pm : S16x128.Idx → Elt F .i32) (ids : S2x1024.Idx → Elt F .i32) (scl : S2x1024.Idx → Elt F .f32) (cd : ℕ → ℕ → F .fp8e5m2)
    (sw dw : ℕ → BitVec 32) (tk : ℕ → ℕ) (O : ℕ → ℕ → ℕ → F .f32) (hf : Facts so nu pm ids scl cd sw dw tk O)
    (Xs : BufTy.Contents (Elt F) arg0.view.ty) (hso : ∀ i : S2049.Idx, arg0.view.read (Elt F) Xs i = so (i 0).val) {q1 q2 q3 q4 : PosShare TreeShare} {Q : PUnit → sProp 𝕄} :
    iprop((arg0.view.loc (c : Thread nD τ) ↦[arg0.view.set]{fullShare} Xs) ∗ Own c arg1 q1 pm ∗ Own c arg2 q2 ids ∗ Own c arg3 q3 scl ∗ Codes c arg4 arg6 arg14 q4 cd
      ∗ Any (F := F) c arg5 (fun _ => True) ∗ Any (F := F) c arg7 (fun _ => True) ∗ Ring (F := F) c arg8 arg15 ∗ Any (F := F) c arg9 (fun _ => True) ∗ Any (F := F) c arg10 (fun _ => True)
      ∗ Any (F := F) c arg11 (fun _ => True) ∗ Any (F := F) c arg12 (fun _ => True) ∗ Any (F := F) c arg13 (fun _ => True) ∗ Cell c arg16.sem ∗ Cell c arg17.sem ∗ Owes c)
    ⊢ iprop((iprop(Own c arg0 fullShare (fun i => so (i 0).val) ∗ Own c arg1 q1 pm ∗ Own c arg2 q2 ids ∗ Own c arg3 q3 scl ∗ Codes c arg4 arg6 arg14 q4 cd
      ∗ Own c arg5 fullShare (OutV O) ∗ Any (F := F) c arg7 (fun _ => True) ∗ Ring (F := F) c arg8 arg15 ∗ Any (F := F) c arg9 (fun _ => True) ∗ Any (F := F) c arg10 (fun _ => True)
      ∗ Any (F := F) c arg11 (fun _ => True) ∗ Any (F := F) c arg12 (fun _ => True) ∗ Any (F := F) c arg13 (fun _ => True) ∗ Cell c arg16.sem ∗ Cell c arg17.sem ∗ Owes c) -∗ Q ⟨⟩)
      -∗ WP 𝒱 c (cc0_embed_grad (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17) Q) := by
  have hle := hf.hnu.le
  have h49 : (BitVec.ofNat 32 nu).toNat = nu := by rw [BitVec.toNat_ofNat]; omega
  have h : (BitVec.ofNat 32 nu).toNat ≤ 2048 := by rw [h49]; exact hle
  have hw2 := chk2_ok _ h
  unfold cc0_embed_grad
  iintro ⟨H0, H1, H2, H3, H4, H5, H7, H8, H9, H10, H11, H12, H13, C16, C17, HO⟩ HQ
  ihave H4 := (codes_split c q4 cd) $$ H4
  unfold Each8
  icases H4 with ⟨P0, P1, P2, P3, P4, P5, P6, P7⟩
  rw [WP_bind]
  iapply (part147_spec 𝒱 c q4 cd) $$ [P0 P1 P2 P3]
  · iframe
  iintro ⟨P0, P1, P2, P3⟩
  rw [WP_bind]
  iapply (part148_spec 𝒱 c q4 cd) $$ [P4 P5 P6 P7]
  · iframe
  iintro ⟨P4, P5, P6, P7⟩
  rw [WP_bind]
  iapply (part149_spec 𝒱 c)
  dsimp only
  rw [WP_bind]
  iapply (wp_wand _ _ _) $$ [H0]
  · iapply (bisect_spec 𝒱 c nu Xs so hso hf.hnu) $$ H0
  iintro %v ⟨%hv, H0⟩
  subst hv
  rw [WP_bind]
  iapply (part151_spec 𝒱 c (BitVec.ofNat 32 nu) hw2) $$ H9
  iintro %v79 %v80 %v85 %v87 H9
  dsimp only
  rw [WP_bind]
  iapply (part152_spec 𝒱 c)
  iintro %v102
  dsimp only
  rw [WP_bind]
  iapply (wp_wand _ _ _) $$ [H0]
  · iapply (count_spec 𝒱 c (BitVec.ofNat 32 nu) h hw2 Xs so hso v77V) $$ H0
  iintro %v103 ⟨%hv, H0⟩
  have hv' : v103 = v104V so nu := funext hv
  subst hv'
  rw [WP_bind]
  iapply (part154_spec 𝒱 c)
  rw [WP_bind]
  iapply (part155_spec 𝒱 c (BitVec.ofNat 32 nu) h hw2)
  rw [WP_bind]
  iapply (part156_spec 𝒱 c v78V (v104V so nu) pm sw dw hf.hsw hf.hdw) $$ [H1 H11]
  · iframe
  iintro ⟨H1, ⟨%g11, H11⟩⟩
  imod (Bat.alloc (c := c) (cred arg12 S128) (idxD c arg11 arg12 arg13 sw dw)) $$ C17 with C17
  rw [wp_bindW]
  iapply (part157_spec 𝒱 c (nbW (BitVec.ofNat 32 nu)) sw dw g11 hf.hsw0 hf.hdw0) $$ [H11 C17 H12 H13]
  · iframe
  iintro HX
  rw [WP_bind]
  iapply (part158_spec 𝒱 c sw dw) $$ HX
  iintro HX
  rw [WP_bind]
  iapply (part159_spec 𝒱 c sw dw) $$ HX
  iintro HX
  rw [WP_bind]
  iapply (part160_spec 𝒱 c sw dw) $$ HX
  iintro HX
  rw [WP_bind]
  iapply (part161_spec 𝒱 c sw dw ids scl) $$ [HX H2 H3 HO]
  · iframe
  iintro %v257 ⟨%h257, HX, H2, H3⟩
  dsimp only
  rw [WP_bind]
  ihave H10 : ScS c arg10 (scW (clrW ids scl)) 0 $$ [H10]
  · unfold ScS
    icases H10 with ⟨%g, H10⟩
    iexists g
    iframe
    ipureintro
    intro x hx
    exact absurd hx (by omega)
  iapply (part162_spec 𝒱 c (clrW ids scl) v257 h257) $$ H10
  iintro %v299 ⟨%h299, H10⟩
  rw [WP_bind]
  iapply (part163_spec 𝒱 c (clrW ids scl) v299 h299) $$ H10
  iintro %v341 ⟨%h341, H10⟩
  rw [WP_bind]
  iapply (part164_spec 𝒱 c (cmpi .eq (show IVec S2x1024 32 from ids) (broadcast S2x1024 0#32)) (clrW ids scl) v341 h341 sw dw) $$ [H10 HX]
  · iframe
  iintro ⟨H10, HX⟩
  rw [WP_bind]
  iapply (part165_spec 𝒱 c sw dw) $$ HX
  iintro HX
  rw [WP_bind]
  iapply (part166_spec 𝒱 c sw dw) $$ HX
  iintro HX
  rw [WP_bind]
  iapply (part167_spec 𝒱 c sw dw) $$ HX
  iintro HX
  rw [WP_bind]
  iapply (part168_spec 𝒱 c sw dw) $$ HX
  iintro HX
  rw [WP_bind]
  iapply (part169_spec 𝒱 c sw dw) $$ HX
  iintro ⟨H12, H13, H11, C17, HO⟩
  dsimp only
  ihave H9 := (Own.to_pointsTo (c := c)) $$ H9
  icases H9 with ⟨%X0, %hX0, H9⟩
  ihave H5 := (Any.split (R := fun z : S256x96x8x128.Idx => (z 0).val / 8 < ((BitVec.ofNat 32 nu).toNat + 63) / 64) (S := fun z : S256x96x8x128.Idx => ((BitVec.ofNat 32 nu).toNat + 63) / 64 ≤ (z 0).val / 8)
    (fun z => ⟨fun _ => by omega, fun _ => trivial⟩) (fun z h1 h2 => by omega)) $$ H5
  icases H5 with ⟨H5, H5z⟩
  imod (zero_init c X0 (((BitVec.ofNat 32 nu).toNat + 63) / 64)) $$ [C16 H9 H5z] with HZ
  · iframe
  ihave HR := (ring_init c O True (((BitVec.ofNat 32 nu).toNat + 63) / 64)) $$ [H8 H5]
  · iframe
  ihave H0 := ((Own.of_pointsTo (c := c) Xs).trans (Has.congr (g' := fun i : S2049.Idx => so (i 0).val) (fun _ => Iff.rfl) (fun i _ => hso i))) $$ H0
  ihave HS : ChunkS c arg0 arg4 arg5 arg6 arg7 arg8 arg9 arg10 arg12 arg13 arg14 arg15 arg16 fullShare q4 fullShare (fun i => so (i 0).val) sw dw cd (scW (clrW ids scl)) O True X0 (((BitVec.ofNat 32 nu).toNat + 63) / 64) 0 $$ [H0 H12 H13 H10 H7 HO HR P0 P1 P2 P3 P4 P5 P6 P7 HZ]
  · unfold ChunkS Each8
    rw [Nat.zero_mul, Nat.zero_mul]
    iframe
  rw [wp_bindW]
  iapply (part170_spec 𝒱 c (BitVec.ofNat 32 nu) h hw2 _ (fun i => so (i 0).val) sw dw tk cd (scW (clrW ids scl)) O True X0 hX0 hf.hblk) $$ HS
  iintro HS
  unfold ChunkS RingS
  icases HS with ⟨H0, H12, H13, H10, H7, HO, ⟨HR, HD, -⟩, H4, HZ⟩
  ihave HR := (Entails.of_eq (univ4 _)) $$ HR
  icases HR with ⟨S0, S1, S2, S3⟩
  simp only [WP_bind]
  iapply (drain0_spec 𝒱 c (BitVec.ofNat 32 nu) h O True) $$ [S0 HD HO]
  · iframe
  iintro ⟨S0, HD, HO⟩
  iapply (drain1_spec 𝒱 c (BitVec.ofNat 32 nu) h O True) $$ [S1 HD HO]
  · iframe
  iintro ⟨S1, HD, HO⟩
  iapply (drain2_spec 𝒱 c (BitVec.ofNat 32 nu) h O True) $$ [S2 HD HO]
  · iframe
  iintro ⟨S2, HD, HO⟩
  iapply (drain3_spec 𝒱 c (BitVec.ofNat 32 nu) h O True) $$ [S3 HD HO]
  · iframe
  iintro ⟨S3, HD, HO⟩
  iapply (part179_spec 𝒱 c)
  iintro %v496
  dsimp only
  iapply (part180_spec 𝒱 c (BitVec.ofNat 32 nu) h hw2 _ _ X0) $$ [HZ HO]
  · iframe
  iintro ⟨HZ, HO⟩
  iapply (part181_spec 𝒱 c)
  iapply (part182_spec 𝒱 c (BitVec.ofNat 32 nu) h hw2)
  iapply (WP_pure 𝒱 c)
  iapply HQ
  unfold ZeroD
  icases HZ with ⟨C16, H9, H5⟩
  ihave H5 := (out_end c O _ hf.hzero) $$ [HD H5]
  · iframe
  ihave H4 := (codes_join c q4 cd) $$ H4
  ihave H8 := (ring_end c) $$ [S0 S1 S2 S3]
  · iframe
  ihave H9 := ((Own.of_pointsTo (c := c) X0).trans (Has.congr (g' := show S8x24x8x128.Idx → Elt F .f32 from zeroV) (fun _ => Iff.rfl) (fun i _ => congrFun hX0 i))) $$ H9
  ihave H9 := (own_any c) $$ H9
  ihave H10 := (own_any c) $$ H10
  ihave H11 := (own_any c) $$ H11
  ihave H12 := (own_any c) $$ H12
  ihave H13 := (own_any c) $$ H13
  iframe

end Cert.Kernel.Emb
-- ==== Proof.Kernel.Seg.lean ====
module

public import proofs.«01_k».proof.Proof.Kernel.Body

@[expose] public section

noncomputable section

namespace Cert.Kernel.Emb

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]
local notation "𝕄" => MT nD τ sig Unit (Elt F) ℕ (UD sig nD τ) ℕ
variable (𝒱 : Variants) (c : Dev nD)
variable {arg0 : Memref sig .tc .smem S2049 .i32} {harg0 : arg0.IsWhole} {arg1 : Memref sig .tc .vmem S16x128 .i32} {harg1 : arg1.IsWhole} {arg2 : Memref sig .tc .vmem S2x1024 .i32} {harg2 : arg2.IsWhole} {arg3 : Memref sig .tc .vmem S2x1024 .f32} {harg3 : arg3.IsWhole} {arg4 : Memref sig .tc .hbm S2x1024x12288 .fp8e5m2} {harg4 : arg4.IsWhole} {arg5 : Memref sig .tc .hbm S256x96x8x128 .f32} {harg5 : arg5.IsWhole} {arg6 : Memref sig .tc .vmem S2x2048x3072 .fp8e5m2} {harg6 : arg6.IsWhole} {arg7 : Memref sig .tc .vmem S256x24x8x128 .f32} {harg7 : arg7.IsWhole} {arg8 : Memref sig .tc .vmem S4x9x24x8x128 .f32} {harg8 : arg8.IsWhole} {arg9 : Memref sig .tc .vmem S8x24x8x128 .f32} {harg9 : arg9.IsWhole} {arg10 : Memref sig .tc .vmem S2048x128 .f32} {harg10 : arg10.IsWhole} {arg11 : Memref sig .tc .vmem S2x17x128 .i32} {harg11 : arg11.IsWhole} {arg12 : Memref sig .tc .smem S2176 .i32} {harg12 : arg12.IsWhole} {arg13 : Memref sig .tc .smem S2176 .i32} {harg13 : arg13.IsWhole} {arg14 : DmaSems sig S2x8} {arg15 : DmaSems sig S4} {arg16 : DmaSems sig S_} {arg17 : DmaSems sig S_}

/-! # Segments of positions: counting the offsets at or below a position -/

/-- How many of the first `m` offsets are at most `p`. -/
def cntN (so : ℕ → BitVec 32) (p : ℕ) : ℕ → ℕ
  | 0 => 0
  | m + 1 => cntN so p m + if (so m).toNat ≤ p then 1 else 0

/-- Where block `b` starts. -/
def P0 (so : ℕ → BitVec 32) (npad b : ℕ) : ℕ := max (so (64 * b)).toNat (if b = 0 then npad - 1 else 0)
/-- Where block `b` ends. -/
def P1 (so : ℕ → BitVec 32) (b : ℕ) : ℕ := (so (64 * (b + 1))).toNat

/-- What the offsets and the number of pads satisfy. -/
structure SegH (so : ℕ → BitVec 32) (nu npad : ℕ) : Prop where
  nuH : IsNu so nu
  inc : ∀ i, i < nu → (so i).toNat < (so (i + 1)).toNat
  top : ∀ i, 1 ≤ i → nu ≤ i → i ≤ 2048 → (so i).toNat = 2048
  padLe : npad ≤ 2048
  pad1 : npad ≤ (so 1).toNat
  tail : ∀ b, 64 * (b + 1) < nu → P0 so npad b ≤ P1 so b → P0 so npad b + 8 * ((P1 so b - P0 so npad b + 7) / 8) ≤ 2048

/-- The segment of a position; past the last position, the first row of the first block not run. -/
def rho (so : ℕ → BitVec 32) (nu q : ℕ) : ℕ := if q < 2048 then cntN so q nu - 1 else 64 * ((nu + 63) / 64)
/-- The row of a position within block `b`. -/
def lcB (so : ℕ → BitVec 32) (nu b q : ℕ) : ℕ := rho so nu q - 64 * b

section
variable {so : ℕ → BitVec 32} {nu npad : ℕ} (h : SegH so nu npad)
include h

theorem seg_add (i k : ℕ) (hk : i + k ≤ nu) : (so i).toNat + k ≤ (so (i + k)).toNat := by
  induction k with
  | zero => simp
  | succ k ih =>
    have h1 := ih (by omega)
    have h2 := h.inc (i + k) (by omega)
    have e : i + (k + 1) = i + k + 1 := by omega
    rw [e]; omega

theorem seg_mono {i j : ℕ} (hij : i ≤ j) (hj : j ≤ nu) : (so i).toNat + (j - i) ≤ (so j).toNat := by
  have := seg_add h i (j - i) (by omega)
  have e : i + (j - i) = j := by omega
  rwa [e] at this

theorem seg_le {i : ℕ} (hi : 1 ≤ i) (h2 : i ≤ 2048) : (so i).toNat ≤ 2048 := by
  by_cases hn : i < nu
  · have := h.nuH.lt i hn; omega
  · rw [h.top i hi (by omega) h2]

theorem cnt_facts (p m : ℕ) (hm : m ≤ nu) : cntN so p m ≤ m ∧ (∀ i, i < cntN so p m → (so i).toNat ≤ p) ∧ (∀ i, cntN so p m ≤ i → i < m → p < (so i).toNat) := by
  induction m with
  | zero => exact ⟨le_refl _, fun i hi => absurd hi (Nat.not_lt_zero _), fun i _ hi => absurd hi (Nat.not_lt_zero _)⟩
  | succ m ih =>
    obtain ⟨h1, h2, h3⟩ := ih (by omega)
    by_cases hs : (so m).toNat ≤ p
    · have e : cntN so p m = m := by
        by_contra hne
        have h4 := h3 (cntN so p m) (le_refl _) (by omega)
        have h5 := seg_mono h (i := cntN so p m) (j := m) (by omega) (by omega)
        omega
      have e' : cntN so p (m + 1) = m + 1 := by simp [cntN, hs, e]
      rw [e']
      refine ⟨le_refl _, fun i hi => ?_, fun i hi hi' => by omega⟩
      by_cases him : i = m
      · rw [him]; exact hs
      · exact h2 i (by omega)
    · have e' : cntN so p (m + 1) = cntN so p m := by simp [cntN, hs]
      rw [e']
      refine ⟨by omega, h2, fun i hi hi' => ?_⟩
      by_cases him : i = m
      · rw [him]; omega
      · exact h3 i hi (by omega)

theorem cnt_hi (p k : ℕ) (hp : p < 2048) (hk : nu + k ≤ 2048) : cntN so p (nu + k) = cntN so p nu := by
  induction k with
  | zero => rfl
  | succ k ih =>
    have h1 := h.nuH.ge (nu + k) (by omega) (by omega)
    have e : nu + (k + 1) = nu + k + 1 := by omega
    rw [e]
    simp only [cntN]
    rw [ih (by omega), if_neg (by omega)]; omega

theorem seg_next {r : ℕ} (hr : r < nu) : (so (r + 1)).toNat ≤ 2048 := seg_le h (by omega) (by have := h.nuH.le; omega)

theorem seg_eq {r q : ℕ} (hr : r < nu) (h1 : (so r).toNat ≤ q) (h2 : q < (so (r + 1)).toNat) : cntN so q nu = r + 1 := by
  obtain ⟨a1, a2, a3⟩ := cnt_facts h q nu (le_refl _)
  by_contra hne
  rcases Nat.lt_or_gt_of_ne hne with hl | hl
  · have := a3 r (by omega) hr; omega
  · have := a2 (r + 1) hl; omega

theorem seg_range {r q : ℕ} (hq : q < 2048) (hc : cntN so q nu = r + 1) : r < nu ∧ (so r).toNat ≤ q ∧ q < (so (r + 1)).toNat := by
  obtain ⟨a1, a2, a3⟩ := cnt_facts h q nu (le_refl _)
  have hr : r < nu := by omega
  refine ⟨hr, a2 r (by omega), ?_⟩
  by_cases hl : r + 1 < nu
  · exact a3 (r + 1) (by omega) hl
  · rw [h.top (r + 1) (by omega) (by omega) (by have := h.nuH.le; omega)]; exact hq

theorem blk_lt {b : ℕ} (hb : b < (nu + 63) / 64) : 64 * b < nu ∧ b < 32 := by
  have := h.nuH.le; omega

theorem P0_lt {b r : ℕ} (hb : b < (nu + 63) / 64) (hr : 64 * b + r < nu) : P0 so npad b < (so (64 * b + r + 1)).toNat := by
  have h1 := seg_mono h (i := 64 * b) (j := 64 * b + r + 1) (by omega) (by omega)
  unfold P0
  apply max_lt
  · omega
  · split
    · rename_i h0
      have h2 := seg_mono h (i := 1) (j := 64 * b + r + 1) (by omega) (by omega)
      have := h.pad1
      have h3 := h.inc 0 (by omega)
      have h4 : 0 + 1 = 1 := rfl
      rw [h4] at h3
      omega
    · omega

theorem P1_ge {b r : ℕ} (hb : b < (nu + 63) / 64) (hr : 64 * b + r < nu) (hr' : r < 64) : (so (64 * b + r + 1)).toNat ≤ P1 so b := by
  have hb' := blk_lt h hb
  unfold P1
  by_cases hn : 64 * (b + 1) ≤ nu
  · have := seg_mono h (i := 64 * b + r + 1) (j := 64 * (b + 1)) (by omega) hn; omega
  · rw [h.top (64 * (b + 1)) (by omega) (by omega) (by omega)]
    exact seg_next h hr

theorem P1_le {b : ℕ} (hb : b < (nu + 63) / 64) : P1 so b ≤ 2048 := seg_le h (by omega) (by have := blk_lt h hb; omega)

theorem P0_le {b : ℕ} (hb : b < (nu + 63) / 64) : P0 so npad b ≤ P1 so b := by
  have hb' := blk_lt h hb
  have h1 := P0_lt h (r := 0) hb hb'.1
  have h2 := P1_ge h (r := 0) hb hb'.1 (by omega)
  omega

/-- A position of block `b` before the end counts an offset of the block. -/
theorem cnt_blk {b q : ℕ} (hb : b < (nu + 63) / 64) (h0 : P0 so npad b ≤ q) : 64 * b + 1 ≤ cntN so q nu := by
  obtain ⟨a1, a2, a3⟩ := cnt_facts h q nu (le_refl _)
  have hb' := blk_lt h hb
  by_contra hl
  have h2 := a3 (64 * b) (by omega) hb'.1
  have h3 : (so (64 * b)).toNat ≤ P0 so npad b := le_max_left _ _
  omega

theorem lc_facts {b q : ℕ} (hb : b < (nu + 63) / 64) (h0 : P0 so npad b ≤ q) (h1 : q < P0 so npad b + 8 * ((P1 so b - P0 so npad b + 7) / 8)) :
    lcB so nu b q < 72 ∧ rho so nu q = 64 * b + lcB so nu b q := by
  have hb' := blk_lt h hb
  have h01 := P0_le h hb
  have hP := P1_le h hb
  unfold lcB rho
  by_cases hq : q < 2048
  · rw [if_pos hq]
    have hc := cnt_blk h hb h0
    obtain ⟨a1, a2, a3⟩ := cnt_facts h q nu (le_refl _)
    refine ⟨?_, by omega⟩
    by_contra hl
    have h2 := a2 (64 * b + 72) (by omega)
    have h3 := seg_mono h (i := 64 * (b + 1)) (j := 64 * b + 72) (by omega) (by omega)
    have h4 : P1 so b = (so (64 * (b + 1))).toNat := rfl
    omega
  · rw [if_neg hq]
    have hn : nu ≤ 64 * (b + 1) := by
      by_contra hl
      have := h.tail b (by omega) h01
      omega
    omega

theorem lc_last {b r : ℕ} (hb : b < (nu + 63) / 64) (hr : 64 * b + r < nu) (hr' : r < 64) :
    lcB so nu b ((so (64 * b + r + 1)).toNat - 1) = r := by
  have h1 := h.inc (64 * b + r) hr
  have h2 := seg_next h hr
  unfold lcB rho
  rw [if_pos (by omega), seg_eq h hr (by omega) (by omega)]; omega

theorem lc_after {b r q : ℕ} (hb : b < (nu + 63) / 64) (h0 : P0 so npad b ≤ q) (hr' : r < 64) (hq : (so (64 * b + r + 1)).toNat ≤ q) : lcB so nu b q ≠ r := by
  unfold lcB rho
  intro e
  by_cases hq2 : q < 2048
  · rw [if_pos hq2] at e
    have hc := cnt_blk h hb h0
    have := seg_range h hq2 (r := 64 * b + r) (by omega)
    omega
  · rw [if_neg hq2] at e
    omega

theorem lc_none {b r q : ℕ} (hb : b < (nu + 63) / 64) (h0 : P0 so npad b ≤ q) (hr' : r < 64) (hr : nu ≤ 64 * b + r) : lcB so nu b q ≠ r := by
  unfold lcB rho
  intro e
  by_cases hq2 : q < 2048
  · rw [if_pos hq2] at e
    have hc := cnt_blk h hb h0
    obtain ⟨a1, a2, a3⟩ := cnt_facts h q nu (le_refl _)
    omega
  · rw [if_neg hq2] at e
    omega
end

/-! # What a slot holds after the positions of a block -/

theorem st_none (sw : ℕ → BitVec 32) (tk lc : ℕ → ℕ) (X : ℕ → ℕ → ℕ → F .f32) (p0 : ℕ) (V0 : S6912x128.Idx → Elt F .f32) (D0 : S6912x128.Idx → Prop) (z : S6912x128.Idx) (m : ℕ)
    (hn : ∀ j, j < m → lc (p0 + j) ≠ zRow z) : stV sw tk lc X p0 V0 m z = V0 z ∧ (D0 z → stD lc p0 D0 m z) := by
  induction m with
  | zero => exact ⟨rfl, fun h => h⟩
  | succ m ih =>
    obtain ⟨h1, h2⟩ := ih fun j hj => hn j (by omega)
    refine ⟨?_, fun h => Or.inr (h2 h)⟩
    show (if zRow z = lc (p0 + m) then _ else _) = _
    rw [if_neg (Ne.symm (hn m (by omega))), h1]

theorem st_last (sw : ℕ → BitVec 32) (tk lc : ℕ → ℕ) (X : ℕ → ℕ → ℕ → F .f32) (p0 : ℕ) (V0 : S6912x128.Idx → Elt F .f32) (D0 : S6912x128.Idx → Prop) (z : S6912x128.Idx) (j m : ℕ)
    (hj : j < m) (he : lc (p0 + j) = zRow z) (hn : ∀ i, j < i → i < m → lc (p0 + i) ≠ zRow z) :
    stV sw tk lc X p0 V0 m z = accT sw tk X p0 (j + 1) (zTile z) (z 1).val ∧ stD lc p0 D0 m z := by
  induction m with
  | zero => exact absurd hj (Nat.not_lt_zero _)
  | succ m ih =>
    by_cases hm : j = m
    · subst hm
      refine ⟨?_, Or.inl he.symm⟩
      show (if zRow z = lc (p0 + j) then _ else _) = _
      rw [if_pos he.symm]
    · obtain ⟨h1, h2⟩ := ih (by omega) fun i hi hi' => hn i hi (by omega)
      refine ⟨?_, Or.inr h2⟩
      show (if zRow z = lc (p0 + m) then _ else _) = _
      rw [if_neg (Ne.symm (hn m (by omega) (by omega))), h1]

end Cert.Kernel.Emb
-- ==== Proof.Kernel.Word.lean ====
module

public import proofs.«01_k».proof.Proof.Kernel.Seg

@[expose] public section

noncomputable section

namespace Cert.Kernel.Emb

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]
local notation "𝕄" => MT nD τ sig Unit (Elt F) ℕ (UD sig nD τ) ℕ
variable (𝒱 : Variants) (c : Dev nD)
variable {arg0 : Memref sig .tc .smem S2049 .i32} {harg0 : arg0.IsWhole} {arg1 : Memref sig .tc .vmem S16x128 .i32} {harg1 : arg1.IsWhole} {arg2 : Memref sig .tc .vmem S2x1024 .i32} {harg2 : arg2.IsWhole} {arg3 : Memref sig .tc .vmem S2x1024 .f32} {harg3 : arg3.IsWhole} {arg4 : Memref sig .tc .hbm S2x1024x12288 .fp8e5m2} {harg4 : arg4.IsWhole} {arg5 : Memref sig .tc .hbm S256x96x8x128 .f32} {harg5 : arg5.IsWhole} {arg6 : Memref sig .tc .vmem S2x2048x3072 .fp8e5m2} {harg6 : arg6.IsWhole} {arg7 : Memref sig .tc .vmem S256x24x8x128 .f32} {harg7 : arg7.IsWhole} {arg8 : Memref sig .tc .vmem S4x9x24x8x128 .f32} {harg8 : arg8.IsWhole} {arg9 : Memref sig .tc .vmem S8x24x8x128 .f32} {harg9 : arg9.IsWhole} {arg10 : Memref sig .tc .vmem S2048x128 .f32} {harg10 : arg10.IsWhole} {arg11 : Memref sig .tc .vmem S2x17x128 .i32} {harg11 : arg11.IsWhole} {arg12 : Memref sig .tc .smem S2176 .i32} {harg12 : arg12.IsWhole} {arg13 : Memref sig .tc .smem S2176 .i32} {harg13 : arg13.IsWhole} {arg14 : DmaSems sig S2x8} {arg15 : DmaSems sig S4} {arg16 : DmaSems sig S_} {arg17 : DmaSems sig S_}

/-! # The words of the index rows, and the facts of a run -/

theorem cntW_eq (so : ℕ → BitVec 32) (p : ℕ) (hp : p < 2048) (m : ℕ) (hs : ∀ i, i < m → (so i).toNat < 2147483648) :
    cntW so (BitVec.ofNat 32 p) m + 1#32 = BitVec.ofNat 32 (cntN so p m) := by
  induction m with
  | zero => show (4294967295#32 : BitVec 32) + 1#32 = BitVec.ofNat 32 0; decide
  | succ m ih =>
    have h1 := ih fun i hi => hs i (by omega)
    have h2 : IntOp.cmpi .sge (BitVec.ofNat 32 p) (so m) = BitVec.ofBool (decide ((so m).toNat ≤ p)) := by
      show BitVec.ofBool ((so m).sle (BitVec.ofNat 32 p)) = _
      rw [sle_small _ _ (hs m (by omega)) (by rw [ofNat_toNat (by omega)]; omega), ofNat_toNat (by omega)]
    show cntW so (BitVec.ofNat 32 p) m + (IntOp.cmpi .sge (BitVec.ofNat 32 p) (so m)).setWidth 32 + 1#32 = BitVec.ofNat 32 (cntN so p m + _)
    rw [h2, BitVec.ofNat_add, ← h1]
    have e : ((BitVec.ofBool (decide ((so m).toNat ≤ p))).setWidth 32 : BitVec 32) = BitVec.ofNat 32 (if (so m).toNat ≤ p then 1 else 0) := by
      by_cases hc : (so m).toNat ≤ p
      · rw [if_pos hc, decide_eq_true hc]; rfl
      · rw [if_neg hc, decide_eq_false hc]; rfl
    rw [e, BitVec.add_assoc, BitVec.add_assoc, BitVec.add_comm (BitVec.ofNat 32 _) 1#32]

/-- The place of position `p` in the index rows. -/
def posIx (p : ℕ) : S16x128.Idx := ValueIdx.ix2 (⟨p / 128 % 16, Nat.mod_lt _ (by decide)⟩ : Fin 16) (⟨p % 128, Nat.mod_lt _ (by decide)⟩ : Fin 128)

theorem posIx_of (x : S16x128.Idx) : posIx (128 * (x 0).val + (x 1).val) = x := by
  have h0 : (x 0).val < 16 := (x 0).isLt
  have h1 : (x 1).val < 128 := (x 1).isLt
  funext a; apply Fin.ext; fin_cases a
  · show (128 * (x 0).val + (x 1).val) / 128 % 16 = (x 0).val; omega
  · show (128 * (x 0).val + (x 1).val) % 128 = (x 1).val; omega

theorem v77_eq (p : ℕ) (hp : p < 2048) : v77V (posIx p) = BitVec.ofNat 32 p := by
  show BitVec.ofNat 32 (0 * 16 + p / 128 % 16) * 128#32 + BitVec.ofNat 32 (0 * 128 + p % 128) = _
  apply BitVec.eq_of_toNat_eq
  rw [BitVec.toNat_add, BitVec.toNat_mul, BitVec.toNat_ofNat, BitVec.toNat_ofNat, BitVec.toNat_ofNat, BitVec.toNat_ofNat]
  omega

/-- The source word of a position, as the kernel stores it. -/
def swW (so : ℕ → BitVec 32) (nu : ℕ) (pm : S16x128.Idx → BitVec 32) (p : ℕ) : BitVec 32 := if p < 2048 then srcW v78V (v104V so nu) pm (posIx p) else 0#32
/-- The destination word of a position, as the kernel stores it. -/
def dwW (so : ℕ → BitVec 32) (nu p : ℕ) : BitVec 32 := if p < 2048 then dstW (v104V so nu) (posIx p) else Scalar.muli (nbW (BitVec.ofNat 32 nu)) 1536#32
/-- The token of a position. -/
def tkW (pm : S16x128.Idx → BitVec 32) (p : ℕ) : ℕ := if p < 2048 then (pm (posIx p)).toNat else 0

section
variable {so : ℕ → BitVec 32} {nu npad : ℕ} (h : SegH so nu npad)
include h

theorem v104_eq {p : ℕ} (hp : p < 2048) : v104V so nu (posIx p) + 1#32 = BitVec.ofNat 32 (cntN so p nu) := by
  have hn := h.nuH.le
  show cntW so (v77V (posIx p)) (((BitVec.ofNat 32 nu).toNat + 15) / 16 * 16) + 1#32 = _
  rw [v77_eq p hp, ofNat_toNat (by omega), cntW_eq so p hp _ fun i hi => h.nuH.pos i (by omega)]
  have e : (nu + 15) / 16 * 16 = nu + ((nu + 15) / 16 * 16 - nu) := by omega
  rw [e, cnt_hi h p _ hp (by omega)]

theorem v104_val {p s : ℕ} (hp : p < 2048) (hc : cntN so p nu = s + 1) : v104V so nu (posIx p) = BitVec.ofNat 32 s := by
  have h1 := v104_eq h hp
  rw [hc, BitVec.ofNat_add] at h1
  exact (BitVec.add_left_inj _).mp h1
end

theorem dst_all : ∀ s : Fin 2048, (IntOp.addi (IntOp.muli (IntOp.shrsi .vector (BitVec.ofNat 32 s.val) 3#32) 192#32) (IntOp.andi (BitVec.ofNat 32 s.val) 7#32)).toNat = s.val / 8 * 192 + s.val % 8 := by
  decide +kernel

theorem dst_word {v : IVec S16x128 32} {x : S16x128.Idx} {s : ℕ} (hs : s < 2048) (e : v x = BitVec.ofNat 32 s) : (dstW v x).toNat = s / 8 * 192 + s % 8 := by
  have := dst_all ⟨s, hs⟩
  show (IntOp.addi (IntOp.muli (IntOp.shrsi .vector (v x) 3#32) 192#32) (IntOp.andi (v x) 7#32)).toNat = _
  rw [e]; exact this

theorem sc_self (v : IVec S16x128 32) : (shapeCast S16x128 v shapeCasts_S16x128_S16x128 : IVec S16x128 32) = v := by
  funext x
  show v (Shape.reshapeEquiv shapeCasts_S16x128_S16x128 x) = v x
  exact congrArg v (Shape.reshapeEquiv_eq_of_rowMajor _ rfl)

/-- The word that says whether a position continues its segment. -/
def contW (v78 v104 : IVec S16x128 32) (x : S16x128.Idx) : BitVec 1 :=
  cmpi .eq v104 (select (cmpi .eq v78 (broadcast S16x128 0#32)) (dynamicRotate 0 1#32 none (dynamicRotate 1 1#32 none v104 rotates_S16x128_d1) rotates_S16x128_d0) (dynamicRotate 1 1#32 none v104 rotates_S16x128_d1)) x

theorem src_form (v78 v104 pm : IVec S16x128 32) (x : S16x128.Idx) :
    srcW v78 v104 pm x = IntOp.ori (dstW pm x) (Scalar.select (contW v78 v104 x) 2147483648#32 0#32) := by
  unfold srcW
  rw [sc_self]
  rfl

theorem low_bits (w : BitVec 32) (k : BitVec 1) (hw : w.toNat < 65536) : (Scalar.andi (IntOp.ori w (Scalar.select k 2147483648#32 0#32)) 65535#32).toNat = w.toNat := by
  have e : ∀ k : BitVec 1, (Scalar.select k 2147483648#32 0#32 : BitVec 32) &&& 65535#32 = 0#32 := by decide
  show ((w ||| Scalar.select k 2147483648#32 0#32) &&& 65535#32).toNat = _
  rw [BitVec.and_or_distrib_right, e k, BitVec.or_zero, BitVec.toNat_and]
  show w.toNat &&& (2 ^ 16 - 1) = _
  rw [Nat.and_two_pow_sub_one_eq_mod]; omega

theorem p0_word {so : ℕ → BitVec 32} {b : ℕ} (hb : b < 32) (v370 : BitVec 32) (hv : v370.toNat ≤ 2048) (hs : (so (64 * b)).toNat < 2147483648) :
    (p0W v370 b (so (64 * b))).toNat = P0 so v370.toNat b := by
  unfold p0W P0
  have hiv : Scf.iv 0#32 1#32 b = BitVec.ofNat 32 b := by
    apply BitVec.eq_of_toNat_eq
    rw [iv_toNat _ _ (by simp; omega), ofNat_toNat (n := b) (by omega)]; exact Nat.zero_add _
  rw [hiv]
  have hc : Scalar.cmpi .eq (BitVec.ofNat 32 b) 0#32 = BitVec.ofBool (decide (b = 0)) := by
    show BitVec.ofBool (BitVec.ofNat 32 b == 0#32) = _
    congr 1
    by_cases h0 : b = 0
    · subst h0; rfl
    · rw [decide_eq_false h0]
      apply beq_false_of_ne
      intro e
      have := congrArg BitVec.toNat e
      rw [ofNat_toNat (by omega)] at this
      exact h0 this
  rw [hc, select_ofBool]
  show (if BitVec.slt _ _ then _ else _ : BitVec 32).toNat = _
  by_cases h0 : b = 0
  · rw [decide_eq_true h0, if_pos rfl, if_pos h0]
    by_cases hz : v370.toNat = 0
    · have e : v370 = 0#32 := BitVec.eq_of_toNat_eq hz
      subst e
      have e2 : (Scalar.subi 0#32 1#32).slt (so (64 * b)) = true := by
        rw [BitVec.slt_eq_decide, toInt_small _ hs]
        have : (Scalar.subi 0#32 1#32).toInt = -1 := by decide
        rw [this]; simp; omega
      rw [if_pos e2]; simp
    · have e1 : (Scalar.subi v370 1#32).toNat = v370.toNat - 1 := subi_toNat _ _ (by simp; omega)
      rw [slt_small _ _ (by omega) hs, e1]
      by_cases hlt : v370.toNat - 1 < (so (64 * b)).toNat
      · rw [if_pos (decide_eq_true hlt), max_eq_left (by omega)]
      · rw [if_neg (by simpa using hlt), max_eq_right (by omega), e1]
  · rw [decide_eq_false h0, if_neg Bool.false_ne_true, if_neg h0, max_eq_left (Nat.zero_le _)]
    rw [slt_small _ _ (by decide) hs, show (0#32 : BitVec 32).toNat = 0 from rfl]
    by_cases hlt : 0 < (so (64 * b)).toNat
    · rw [if_pos (decide_eq_true hlt)]
    · have : (so (64 * b)).toNat = 0 := by omega
      rw [this]; rfl

theorem cond3_of {v49 : BitVec 32} (h : v49.toNat ≤ 2048) (t : Fin (k0_t15_loop v49).trips) (hn : v49.toNat < (t.val + 1) * 64) : k0_cond3 v49 t = 1#1 := by
  have ht := t15_lt v49 h t
  have h1 : (Scalar.addi (Scf.iv 0#32 1#32 t.val) 1#32).toNat = t.val + 1 := by
    rw [addi_toNat] <;> rw [iv_toNat _ _ (by simp; omega)] <;> simp <;> omega
  have h2 : (Scalar.muli (Scalar.addi (Scf.iv 0#32 1#32 t.val) 1#32) 64#32).toNat = (t.val + 1) * 64 := by
    rw [muli_toNat] <;> rw [h1] <;> simp <;> omega
  have h3 : Scalar.cmpi .sgt (Scalar.muli (Scalar.addi (Scf.iv 0#32 1#32 t.val) 1#32) 64#32) v49 = 1#1 := by
    show BitVec.ofBool (BitVec.slt _ _) = _
    rw [slt_small _ _ (by omega) (by omega), h2, decide_eq_true hn]; rfl
  unfold k0_cond3
  dsimp only
  rw [h3]; rfl

/-- The array the kernel leaves: each row before the last is its segment's accumulation, from its block's first position; every other row is zero. -/
def OW (so : ℕ → BitVec 32) (nu npad : ℕ) (sw : ℕ → BitVec 32) (tk : ℕ → ℕ) (X : ℕ → ℕ → ℕ → ℕ → F .f32) (row tile lane : ℕ) : F .f32 :=
  if row < nu then accT sw tk (X (tile / 24)) (P0 so npad (row / 64)) ((so (row + 1)).toNat - P0 so npad (row / 64)) (tile % 24) lane
  else Scalar.ofBits .f32 0x00000000#32

theorem facts_of {so : ℕ → BitVec 32} {nu npad : ℕ} {pm : S16x128.Idx → Elt F .i32} {ids : S2x1024.Idx → Elt F .i32} (scl : S2x1024.Idx → Elt F .f32) (cd : ℕ → ℕ → F .fp8e5m2)
    (hn : (padW (cmpi .eq (show IVec S2x1024 32 from ids) (broadcast S2x1024 0#32))).toNat = npad) (h : SegH so nu npad)
    (hpm : ∀ x, (show BitVec 32 from pm x).toNat < 2048) :
    Facts so nu pm ids scl cd (swW so nu pm) (dwW so nu) (tkW pm)
      (OW so nu npad (swW so nu pm) (tkW pm) (fun k => dqX cd (scW (clrW ids scl)) k)) := by
  have hle := h.nuH.le
  have e49 : (BitVec.ofNat 32 nu).toNat = nu := ofNat_toNat (by omega)
  refine ⟨h.nuH, ?_, ?_, ?_, ?_, ?_, ?_⟩
  · intro x
    have h0 : (x 0).val < 16 := (x 0).isLt
    have h1 : (x 1).val < 128 := (x 1).isLt
    unfold swW
    rw [if_pos (by omega), posIx_of]
  · intro x
    have h0 : (x 0).val < 16 := (x 0).isLt
    have h1 : (x 1).val < 128 := (x 1).isLt
    unfold dwW
    rw [if_pos (by omega), posIx_of]
  · intro p hp
    exact if_neg (by omega)
  · intro p hp
    exact if_neg (by omega)
  · intro k hk t
    have ht := t15_lt _ (by omega) t
    rw [e49] at ht
    have hb := blk_lt h ht
    have hs0 := h.nuH.pos (64 * t.val) (by omega)
    refine ⟨so (64 * t.val), so (64 * (t.val + 1)), P0 so npad t.val, P1 so t.val, lcB so nu t.val, ?_, ?_, hn ▸ p0_word (so := so) hb.2 _ (hn.symm ▸ h.padLe) hs0, rfl, P0_le h ht, P1_le h ht, ?_, ?_⟩
    · intro i hi; show so (i 0).val = _; rw [hi, Nat.mul_comm]
    · intro i hi; show so (i 0).val = _; rw [hi, Nat.mul_comm]
    · intro q hq hq'
      obtain ⟨l1, l2⟩ := lc_facts h ht hq hq'
      by_cases hq2 : q < 2048
      · have hc := cnt_blk h ht hq
        have er : cntN so q nu = rho so nu q + 1 := by unfold rho; rw [if_pos hq2]; omega
        have hr := (seg_range h hq2 er).1
        refine ⟨?_, ?_, l1, ?_⟩
        · unfold tkW; rw [if_pos hq2]; exact hpm _
        · unfold swW tkW
          rw [if_pos hq2, if_pos hq2, src_form]
          have hd := dst_word (v := pm) (x := posIx q) (hpm (posIx q)) (BitVec.ofNat_toNat _ _ |>.trans (by simp)).symm
          rw [low_bits _ _ (by rw [hd]; have := hpm (posIx q); omega), hd]
        · unfold dwW
          rw [if_pos hq2, dst_word (by omega) (v104_val h hq2 er), l2]
          omega
      · have er : rho so nu q = 64 * ((nu + 63) / 64) := if_neg hq2
        refine ⟨?_, ?_, l1, ?_⟩
        · unfold tkW; rw [if_neg hq2]; decide
        · unfold swW tkW; rw [if_neg hq2, if_neg hq2]; decide
        · unfold dwW
          rw [if_neg hq2, muli_toNat _ _ (by rw [nbW_toNat _ (by omega), e49]; simp; omega), nbW_toNat _ (by omega), e49]
          show (nu + 63) / 64 * 1536 = _
          omega
    · intro _ z hz
      have hT : zTile z < 24 := by unfold zTile; omega
      have d1 : (24 * k + zTile z) / 24 = k := by omega
      have d2 : (24 * k + zTile z) % 24 = zTile z := by omega
      have d3 : (64 * t.val + zRow z) / 64 = t.val := by omega
      unfold OW
      by_cases hr : 64 * t.val + zRow z < nu
      · rw [if_pos hr, d1, d2, d3]
        have g1 := P0_lt h ht hr
        have g2 := P1_ge h ht hr hz
        obtain ⟨a, b⟩ := st_last (swW so nu pm) (tkW pm) (lcB so nu t.val) (dqX cd (scW (clrW ids scl)) k) (P0 so npad t.val) (fun _ => Scalar.ofBits .f32 0x00000000#32) (fun _ => k0_cond3 (BitVec.ofNat 32 nu) t = 1#1) z
          ((so (64 * t.val + zRow z + 1)).toNat - 1 - P0 so npad t.val) (8 * ((P1 so t.val - P0 so npad t.val + 7) / 8)) (by omega)
          (by rw [show P0 so npad t.val + ((so (64 * t.val + zRow z + 1)).toNat - 1 - P0 so npad t.val) = (so (64 * t.val + zRow z + 1)).toNat - 1 by omega]; exact lc_last h ht hr hz)
          (fun i hi hi' => lc_after h ht (by omega) hz (by omega))
        refine ⟨b, a.trans ?_⟩
        rw [show (so (64 * t.val + zRow z + 1)).toNat - 1 - P0 so npad t.val + 1 = (so (64 * t.val + zRow z + 1)).toNat - P0 so npad t.val by omega]
      · rw [if_neg hr]
        obtain ⟨a, b⟩ := st_none (swW so nu pm) (tkW pm) (lcB so nu t.val) (dqX cd (scW (clrW ids scl)) k) (P0 so npad t.val) (fun _ => Scalar.ofBits .f32 0x00000000#32) (fun _ => k0_cond3 (BitVec.ofNat 32 nu) t = 1#1) z
          (8 * ((P1 so t.val - P0 so npad t.val + 7) / 8)) (fun j hj => lc_none h ht (by omega) hz (by omega))
        exact ⟨b (cond3_of (by omega) t (by omega)), a⟩
  · intro row hrow tile lane
    unfold OW
    rw [if_neg (by omega)]

end Cert.Kernel.Emb
-- ==== Proof.Kernel.Pre.lean ====
module

public import proofs.«01_k».proof.Proof.Kernel.Word
public import proofs.«01_k».proof.Pre_sorted_by_token
public import Idealize.ShloMosaic.PureOps.Reduce

@[expose] public section

noncomputable section

namespace Cert.Kernel.Emb

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]
local notation "𝕄" => MT nD τ sig Unit (Elt F) ℕ (UD sig nD τ) ℕ
variable (𝒱 : Variants) (c : Dev nD)
variable {arg0 : Memref sig .tc .smem S2049 .i32} {harg0 : arg0.IsWhole} {arg1 : Memref sig .tc .vmem S16x128 .i32} {harg1 : arg1.IsWhole} {arg2 : Memref sig .tc .vmem S2x1024 .i32} {harg2 : arg2.IsWhole} {arg3 : Memref sig .tc .vmem S2x1024 .f32} {harg3 : arg3.IsWhole} {arg4 : Memref sig .tc .hbm S2x1024x12288 .fp8e5m2} {harg4 : arg4.IsWhole} {arg5 : Memref sig .tc .hbm S256x96x8x128 .f32} {harg5 : arg5.IsWhole} {arg6 : Memref sig .tc .vmem S2x2048x3072 .fp8e5m2} {harg6 : arg6.IsWhole} {arg7 : Memref sig .tc .vmem S256x24x8x128 .f32} {harg7 : arg7.IsWhole} {arg8 : Memref sig .tc .vmem S4x9x24x8x128 .f32} {harg8 : arg8.IsWhole} {arg9 : Memref sig .tc .vmem S8x24x8x128 .f32} {harg9 : arg9.IsWhole} {arg10 : Memref sig .tc .vmem S2048x128 .f32} {harg10 : arg10.IsWhole} {arg11 : Memref sig .tc .vmem S2x17x128 .i32} {harg11 : arg11.IsWhole} {arg12 : Memref sig .tc .smem S2176 .i32} {harg12 : arg12.IsWhole} {arg13 : Memref sig .tc .smem S2176 .i32} {harg13 : arg13.IsWhole} {arg14 : DmaSems sig S2x8} {arg15 : DmaSems sig S4} {arg16 : DmaSems sig S_} {arg17 : DmaSems sig S_}

/-! # What the precondition says of the operands -/

open Cert.Pre_sorted_by_token (fn fn_part1 fn_part2 fn_part3 fn_where)

variable [hP : Cert.Pre_sorted_by_token.Facts]

/-- The offsets, as a list of words. -/
def soW (a4 : S2049.Idx → BitVec 32) (i : ℕ) : BitVec 32 := if h : i < 2049 then a4 (ValueIdx.ix1 (⟨i, h⟩ : Fin 2049)) else 0#32

theorem soW_idx (a4 : S2049.Idx → BitVec 32) (x : S2049.Idx) : a4 x = soW a4 (x 0).val := by
  unfold soW
  rw [dif_pos (show (x 0).val < 2049 from (x 0).isLt)]
  exact congrArg a4 (ValueIdx.eq_ix1 x)

/-- The number of pads, as the precondition counts them. -/
abbrev padP (ids : S2x1024.Idx → BitVec 32) : BitVec 32 :=
  Host.reduce IntOp.addi (extui 32 (cmpi .eq (show IVec S2x1024 32 from ids) (broadcast S2x1024 0#32)) natLt_1_32 : IVec S2x1024 32) (constantI (⟨0, ![]⟩ : Shape) 32 0#32)
    hP.reducesTo_S2x1024_S_d0_1 hP.h_S_ (fun a => a.elim0)

theorem fold_le {α : Type} (l : List α) (f : α → BitVec 32) (hf : ∀ x, (f x).toNat ≤ 1) (r : BitVec 32) (hr : r.toNat + l.length < 4294967296) :
    (l.foldl (fun r n => IntOp.addi r (f n)) r).toNat ≤ r.toNat + l.length := by
  induction l generalizing r with
  | nil => simp
  | cons x l ih =>
    have h1 := hf x
    simp only [List.length_cons] at hr
    have h2 : (IntOp.addi r (f x)).toNat ≤ r.toNat + 1 := by
      show (r + f x).toNat ≤ _
      rw [BitVec.toNat_add]; omega
    have h3 := ih (IntOp.addi r (f x)) (by omega)
    simp only [List.foldl_cons, List.length_cons]
    omega

theorem bit_le (b : BitVec 1) : (b.setWidth 32).toNat ≤ 1 := by
  rw [BitVec.toNat_setWidth]
  have := b.isLt
  omega

theorem padP_le (ids : S2x1024.Idx → BitVec 32) : (padP ids).toNat ≤ 2048 := by
  unfold padP Host.reduce
  have hl : ∀ p : Fin S2x1024.numel → Bool, ((List.finRange S2x1024.numel).filter p).length ≤ 2048 := fun p =>
    (List.length_filter_le _ _).trans (le_of_eq ((List.length_finRange).trans (by decide)))
  refine (fold_le _ _ (fun n => bit_le _) _ ?_).trans ?_
  · have := hl (fun n => decide (hP.reducesTo_S2x1024_S_d0_1.drop (S2x1024.rowMajor.symm n) = fun a => a.elim0))
    show 0 + _ < _
    omega
  · have := hl (fun n => decide (hP.reducesTo_S2x1024_S_d0_1.drop (S2x1024.rowMajor.symm n) = fun a => a.elim0))
    show 0 + _ ≤ _
    omega

theorem padW_eq (ids : S2x1024.Idx → BitVec 32) : padW (cmpi .eq (show IVec S2x1024 32 from ids) (broadcast S2x1024 0#32)) = padP ids := by
  unfold padP
  rw [Host.reduce_eq_fold]
  have e1 : ∀ j, padW (cmpi .eq (show IVec S2x1024 32 from ids) (broadcast S2x1024 0#32))
      = reduceFold reduces_S1x2x1024_S1 IntOp.addi 0#32 (shapeCast S1x2x1024 (extui 32 (cmpi .eq (show IVec S2x1024 32 from ids) (broadcast S2x1024 0#32)) natLt_1_32) shapeCasts_S2x1024_S1x2x1024) j := by
    intro j
    show reduceFold reduces_S1x2x1024_S1 IntOp.addi 0#32 _ _ = _
    refine congrArg _ ?_
    funext a
    fin_cases a
    apply Fin.ext
    have h1 := (j 0).isLt
    have h2 : ∀ n : Fin 1, n.val = 0 := fun n => by omega
    exact (h2 _).trans (h2 (j 0)).symm
  rw [e1 (ValueIdx.ix1 (0 : Fin 1)), reduceFold]
  rw [Shape.foldl_filter_rowMajor_eq_fold]
  have f1 : (Finset.univ.filter fun i : S1x2x1024.Idx => reduces_S1x2x1024_S1.drop i = ValueIdx.ix1 (0 : Fin 1)) = Finset.univ := by
    apply Finset.filter_true_of_mem
    intro i _
    funext a
    fin_cases a
    apply Fin.ext
    have h2 : ∀ n : Fin 1, n.val = 0 := fun n => by omega
    exact (h2 _).trans (h2 _).symm
  have f2 : (Finset.univ.filter fun i : S2x1024.Idx => hP.reducesTo_S2x1024_S_d0_1.drop i = fun a => a.elim0) = Finset.univ := by
    apply Finset.filter_true_of_mem
    intro i _
    funext a
    exact a.elim0
  rw [f1, f2]
  have f3 : (Finset.univ : Finset S2x1024.Idx) = Finset.univ.image (Shape.reshapeEquiv shapeCasts_S2x1024_S1x2x1024) := by
    ext x
    simp only [Finset.mem_univ, Finset.mem_image, true_and, true_iff]
    exact ⟨(Shape.reshapeEquiv shapeCasts_S2x1024_S1x2x1024).symm x, Equiv.apply_symm_apply _ _⟩
  rw [f3, Finset.fold_image (fun k _ k' _ e => (Shape.reshapeEquiv shapeCasts_S2x1024_S1x2x1024).injective e)]
  rfl

theorem and_bits : ∀ x y : BitVec 1, IntOp.andi x y = 1#1 → x = 1#1 ∧ y = 1#1 := by decide
theorem or_bits : ∀ x y : BitVec 1, IntOp.ori x y = 1#1 → x = 1#1 ∨ y = 1#1 := by decide
theorem of_bool : ∀ b : Bool, BitVec.ofBool b = 1#1 → b = true := by decide

theorem cmp_le {x y : BitVec 32} (h : IntOp.cmpi .sle x y = 1#1) : x.toInt ≤ y.toInt := by
  have := of_bool _ h; rw [BitVec.sle_eq_decide] at this; exact of_decide_eq_true this
theorem cmp_ge {x y : BitVec 32} (h : IntOp.cmpi .sge x y = 1#1) : y.toInt ≤ x.toInt := by
  have := of_bool _ h; rw [BitVec.sle_eq_decide] at this; exact of_decide_eq_true this
theorem cmp_lt {x y : BitVec 32} (h : IntOp.cmpi .slt x y = 1#1) : x.toInt < y.toInt := by
  have := of_bool _ h; rw [BitVec.slt_eq_decide] at this; exact of_decide_eq_true this
theorem cmp_eq {x y : BitVec 32} (h : IntOp.cmpi .eq x y = 1#1) : x = y := eq_of_beq (of_bool _ h)

/-- The sorted ids, as the precondition gathers them. -/
abbrev idsSorted (ids : S2x1024.Idx → BitVec 32) (a3 : S2048.Idx → BitVec 32) : IVec S2048 32 :=
  Host.gather Cert.Pre_sorted_by_token.gather_S2048_S2048x1_S2048_n_0_n_n_0_1_1 (shapeCast Cert.Pre_sorted_by_token.S2048 (show IVec S2x1024 32 from ids) hP.shapeCasts_S2x1024_S2048)
    (broadcastInDim Cert.Pre_sorted_by_token.S2048x1 ![0] hP.bcast_S2048_S2048x1_0 (select (cmpi .slt (show IVec S2048 32 from a3) (fun _ => 0#32)) (addi a3 (fun _ => 2048#32)) a3))

/-- Where a block starts, as the precondition computes it. -/
abbrev startP (so : ℕ → BitVec 32) (np : BitVec 32) (b : ℕ) : BitVec 32 :=
  IntOp.maxsi (so (0 + 64 * b)) (Scalar.select (IntOp.cmpi .eq (BitVec.ofNat 32 b) 0#32) (IntOp.subi np 1#32) 0#32)

theorem pre_bits (cd : FVec F S2x1024x12288 .fp8e5m2) (scl : FVec F S2x1024 .f32) (ids : IVec S2x1024 32) (a3 : IVec S2048 32) (so : ℕ → BitVec 32) (i : S2048.Idx) :
    fn (F := F) cd scl ids a3 (fun x => so (x 0).val) i
      = IntOp.andi (IntOp.andi (IntOp.andi (IntOp.andi
          (IntOp.andi (IntOp.cmpi .sge (a3 i) 0#32) (IntOp.cmpi .slt (a3 i) 2048#32))
          (IntOp.ori (IntOp.cmpi .sge (BitVec.ofNat 32 (i 0).val) (IntOp.subi (padP ids) 1#32)) (IntOp.cmpi .eq (idsSorted ids a3 i) 0#32)))
          (IntOp.andi (IntOp.andi (IntOp.cmpi .sge (so (0 + (i 0).val)) 0#32) (IntOp.cmpi .sle (so (1 + (i 0).val)) 2048#32))
            (IntOp.ori (IntOp.cmpi .slt (so (0 + (i 0).val)) (so (1 + (i 0).val))) (IntOp.cmpi .eq (so (1 + (i 0).val)) 2048#32))))
          (IntOp.cmpi .sle (padP ids) (so 1)))
        (Host.reduce IntOp.andi (fun b : (⟨1, ![32]⟩ : Shape).Idx => IntOp.ori (IntOp.cmpi .sge (so (64 + 64 * (b 0).val)) 2048#32)
            (IntOp.cmpi .sle (IntOp.addi (startP so (padP ids) (b 0).val)
              (IntOp.muli (IntOp.shrsi .host (IntOp.addi (IntOp.subi (so (64 + 64 * (b 0).val)) (startP so (padP ids) (b 0).val)) 7#32) 3#32) 8#32)) 2048#32))
          (constantI (⟨0, ![]⟩ : Shape) 1 1#1) hP.reducesTo_S32_S_d0 hP.h_S_ (fun a => a.elim0)) := by
  have hj : ∀ j : (⟨0, ![]⟩ : Shape).Idx, j = fun a => a.elim0 := fun j => funext fun a => a.elim0
  have pj : ∀ j, Host.reduce IntOp.addi (extui 32 (cmpi .eq (show IVec S2x1024 32 from ids) (broadcast S2x1024 0#32)) natLt_1_32 : IVec S2x1024 32) (constantI (⟨0, ![]⟩ : Shape) 32 0#32)
    hP.reducesTo_S2x1024_S_d0_1 hP.h_S_ j = padP ids := fun j => congrArg _ (hj j)
  refine congrArg₂ IntOp.andi (congrArg₂ IntOp.andi (congrArg₂ IntOp.andi (congrArg₂ IntOp.andi rfl (congrArg₂ IntOp.ori (congrArg (fun p => IntOp.cmpi .sge (BitVec.ofNat 32 (i 0).val) (IntOp.subi p 1#32)) (pj _)) rfl)) rfl)
    (congrArg₂ (IntOp.cmpi .sle) (pj _) (congrArg so ?_))) ?_
  · show 1 + _ = 1
    have h2 : ∀ n : Fin 1, 1 + n.val = 1 := fun n => by omega
    exact h2 _
  · refine Eq.trans (congrArg (Host.reduce IntOp.andi _ (constantI (⟨0, ![]⟩ : Shape) 1 1#1) hP.reducesTo_S32_S_d0 hP.h_S_) (hj _)) ?_
    refine congrArg (fun f => Host.reduce IntOp.andi f (constantI (⟨0, ![]⟩ : Shape) 1 1#1) hP.reducesTo_S32_S_d0 hP.h_S_ (fun a => a.elim0)) ?_
    funext b
    have es : ∀ j, IntOp.maxsi (so (0 + 64 * (b 0).val)) (Scalar.select (IntOp.cmpi .eq (BitVec.ofNat 32 (b 0).val) 0#32) (IntOp.subi (Host.reduce IntOp.addi (extui 32 (cmpi .eq (show IVec S2x1024 32 from ids) (broadcast S2x1024 0#32)) natLt_1_32 : IVec S2x1024 32) (constantI (⟨0, ![]⟩ : Shape) 32 0#32)
      hP.reducesTo_S2x1024_S_d0_1 hP.h_S_ j) 1#32) 0#32) = startP so (padP ids) (b 0).val := fun j => by rw [pj j]
    exact congrArg₂ IntOp.ori rfl (congrArg (fun p => IntOp.cmpi .sle (IntOp.addi p
              (IntOp.muli (IntOp.shrsi .host (IntOp.addi (IntOp.subi (so (64 + 64 * (b 0).val)) p) 7#32) 3#32) 8#32)) 2048#32) (es _))

theorem reduce_and {s : Shape} {axes : List (Fin s.rank)} (x : s.Idx → BitVec 1) (init : (⟨0, ![]⟩ : Shape).Idx → BitVec 1) (h : s.ReducesTo axes (⟨0, ![]⟩ : Shape)) (hu : 0 < (⟨0, ![]⟩ : Shape).numel)
    (j : (⟨0, ![]⟩ : Shape).Idx) (e : Host.reduce IntOp.andi x init h hu j = 1#1) (b : s.Idx) : x b = 1#1 := by
  rw [Host.reduce_eq_fold] at e
  have f2 : (Finset.univ.filter fun i : s.Idx => h.drop i = j) = Finset.univ := by
    apply Finset.filter_true_of_mem
    intro i _
    funext a
    exact a.elim0
  rw [f2, ← Finset.insert_erase (Finset.mem_univ b), Finset.fold_insert (Finset.notMem_erase _ _)] at e
  exact (and_bits _ _ e).1

/-- The facts the precondition gives. -/
structure PreH (ids : S2x1024.Idx → BitVec 32) (a3 : S2048.Idx → BitVec 32) (so : ℕ → BitVec 32) (nu : ℕ) : Prop where
  seg : SegH so nu (padP ids).toNat
  perm : ∀ i, (a3 i).toNat < 2048
  pads : ∀ i : S2048.Idx, (i 0).val < (padP ids).toNat - 1 → idsSorted ids a3 i = 0#32

theorem shr_all (x : BitVec 32) (h : x.toNat < 2147483648) : (IntOp.shrsi .host x 3#32).toNat = x.toNat / 8 := by
  unfold IntOp.shrsi
  rw [if_pos (by decide)]
  show (x.sshiftRight 3).toNat = _
  rw [BitVec.sshiftRight_eq_of_msb_false (msb_small x h), BitVec.toNat_ushiftRight, Nat.shiftRight_eq_div_pow]

theorem toNat_of_toInt {x : BitVec 32} (h0 : 0 ≤ x.toInt) : (x.toNat : ℤ) = x.toInt ∧ x.toNat < 2147483648 := by
  have h1 := x.isLt
  rw [BitVec.toInt_eq_toNat_cond] at h0 ⊢
  split at h0 <;> rename_i hc
  · rw [if_pos hc]; omega
  · omega

theorem pre_facts (cd : FVec F S2x1024x12288 .fp8e5m2) (scl : FVec F S2x1024 .f32) (ids : IVec S2x1024 32) (a3 : IVec S2048 32) (a4 : IVec S2049 32)
    (e : fn (F := F) cd scl ids a3 a4 = fun _ => 1#1) : ∃ nu, PreH ids a3 (soW a4) nu := by
  have ea : a4 = fun x => soW a4 (x 0).val := funext (soW_idx a4)
  rw [ea] at e
  generalize soW a4 = so at e
  have hb := fun i => (pre_bits cd scl ids a3 so i).symm.trans (congrFun e i)
  have z0 : (0#32 : BitVec 32).toInt = 0 := by decide
  have z1 : (2048#32 : BitVec 32).toInt = 2048 := by decide
  have hperm : ∀ i, (a3 i).toNat < 2048 := fun i => by
    have h := and_bits _ _ (and_bits _ _ (and_bits _ _ (and_bits _ _ (and_bits _ _ (hb i)).1).1).1).1
    have h1 := cmp_ge h.1
    have h2 := cmp_lt h.2
    rw [z0] at h1
    rw [z1] at h2
    have := toNat_of_toInt h1
    omega
  have hoff : ∀ i, i < 2048 → (so i).toNat < 2147483648 ∧ ((so (i + 1)).toNat ≤ 2048) ∧ ((so i).toNat < (so (i + 1)).toNat ∨ (so (i + 1)).toNat = 2048) := fun i hi => by
    have h := and_bits _ _ (and_bits _ _ (and_bits _ _ (hb (ValueIdx.ix1 (⟨i, hi⟩ : Fin 2048)))).1).1 |>.2
    have h1 := and_bits _ _ h
    have h2 := and_bits _ _ h1.1
    have g1 := cmp_ge h2.1
    have g2 := cmp_le h2.2
    have g3 := or_bits _ _ h1.2
    have c0 : (0 : ℕ) + ((ValueIdx.ix1 (⟨i, hi⟩ : Fin 2048) : S2048.Idx) 0).val = i := Nat.zero_add _
    have c1 : (1 : ℕ) + ((ValueIdx.ix1 (⟨i, hi⟩ : Fin 2048) : S2048.Idx) 0).val = i + 1 := Nat.add_comm _ _
    rw [c0] at g1
    rw [c1] at g2
    rw [c0, c1] at g3
    rw [z0] at g1
    rw [z1] at g2
    have t1 := toNat_of_toInt g1
    have hpos : 0 ≤ (so (i + 1)).toInt := by
      rcases g3 with g3 | g3
      · have := cmp_lt g3; omega
      · rw [cmp_eq g3, z1]; omega
    have t2 := toNat_of_toInt hpos
    refine ⟨t1.2, by omega, ?_⟩
    rcases g3 with g3 | g3
    · have := cmp_lt g3; left; omega
    · right; rw [cmp_eq g3]; rfl
  have hlow : ∀ i, i ≤ 2048 → min i 2048 ≤ (so i).toNat := fun i hi => by
    induction i with
    | zero => simp
    | succ i ih =>
      have h1 := ih (by omega)
      have h2 := hoff i (by omega)
      omega
  have hex : ∃ i, 2048 ≤ (so i).toNat := ⟨2048, by have := hlow 2048 (le_refl _); simpa using this⟩
  classical
  have hnu := Nat.find_spec hex
  have hmin : ∀ i, i < Nat.find hex → (so i).toNat < 2048 := fun i hi => by have := Nat.find_min hex hi; omega
  have hnle : Nat.find hex ≤ 2048 := Nat.find_min' hex (by have := hlow 2048 (le_refl _); simpa using this)
  generalize Nat.find hex = nu at hnu hmin hnle
  have hge : ∀ i, nu ≤ i → i ≤ 2048 → 2048 ≤ (so i).toNat := fun i hi hi' => by
    induction i with
    | zero => have e0 : nu = 0 := by omega
              rw [e0] at hnu; exact hnu
    | succ i ih =>
      by_cases hc : nu = i + 1
      · rw [hc] at hnu; exact hnu
      · have h1 := ih (by omega) (by omega)
        have h2 := hoff i (by omega)
        omega
  have hd := cmp_le (and_bits _ _ (and_bits _ _ (hb (ValueIdx.ix1 (⟨0, by decide⟩ : Fin 2048)))).1).2
  have hple := padP_le ids
  have ho0 := hoff 0 (by decide)
  have hpad : (padP ids).toNat ≤ (so 1).toNat := by
    rw [toInt_small _ (by omega), toInt_small _ (by have := ho0.2.1; show (so (0 + 1)).toNat < _; omega)] at hd
    omega
  have hpos : ∀ i, i ≤ 2048 → (so i).toNat < 2147483648 := fun i hi => by
    by_cases hc : i = 0
    · rw [hc]; exact ho0.1
    · have h := hoff (i - 1) (by omega)
      rw [show i - 1 + 1 = i by omega] at h
      omega
  refine ⟨nu, ⟨⟨hnle, hmin, hge, hpos⟩, ?_, ?_, hple, hpad, ?_⟩, hperm, ?_⟩
  · intro i hi
    have h1 := hoff i (by omega)
    have h2 := hmin i hi
    omega
  · intro i h1 h2 h3
    have h4 := hge i h2 h3
    have h5 := hoff (i - 1) (by omega)
    rw [show i - 1 + 1 = i by omega] at h5
    omega
  · intro b hbn h01
    have hb' : b < 32 := by omega
    have h := reduce_and _ _ _ _ _ (and_bits _ _ (hb (ValueIdx.ix1 (⟨0, by decide⟩ : Fin 2048)))).2 (ValueIdx.ix1 (⟨b, hb'⟩ : Fin 32))
    have hs0 := hmin (64 * (b + 1)) hbn
    have c1 : (64 : ℕ) + 64 * ((ValueIdx.ix1 (⟨b, hb'⟩ : Fin 32) : (⟨1, ![32]⟩ : Shape).Idx) 0).val = 64 * (b + 1) := by show 64 + 64 * b = _; omega
    have c2 : startP so (padP ids) ((ValueIdx.ix1 (⟨b, hb'⟩ : Fin 32) : (⟨1, ![32]⟩ : Shape).Idx) 0).val = p0W (padP ids) b (so (64 * b)) := by
      show startP so (padP ids) b = _
      unfold p0W
      rw [show Scf.iv 0#32 1#32 b = BitVec.ofNat 32 b from by
        apply BitVec.eq_of_toNat_eq
        rw [iv_toNat _ _ (by simp; omega), ofNat_toNat (n := b) (by omega)]; exact Nat.zero_add _]
      unfold startP
      rw [Nat.zero_add]
      rfl
    simp only [c1, c2] at h
    have hP0 := p0_word (so := so) hb' (padP ids) hple (hpos _ (by omega))
    rcases or_bits _ _ h with h | h
    · have := cmp_ge h
      rw [z1, toInt_small _ (by omega)] at this
      omega
    · have h := cmp_le h
      unfold P1 at h01 ⊢
      have e1 : (IntOp.subi (so (64 * (b + 1))) (p0W (padP ids) b (so (64 * b)))).toNat = (so (64 * (b + 1))).toNat - P0 so (padP ids).toNat b :=
        (subi_toNat _ _ (by omega)).trans (by rw [hP0])
      have e2 : (IntOp.addi (IntOp.subi (so (64 * (b + 1))) (p0W (padP ids) b (so (64 * b)))) 7#32).toNat = (so (64 * (b + 1))).toNat - P0 so (padP ids).toNat b + 7 :=
        (addi_toNat _ 7#32 (by rw [e1]; simp; omega)).trans (by rw [e1]; rfl)
      have e3 := shr_all _ (by rw [e2]; omega)
      rw [e2] at e3
      have e4 := (muli_toNat _ 8#32 (by rw [e3]; simp; omega))
      rw [e3] at e4
      have e5 := addi_toNat (p0W (padP ids) b (so (64 * b))) _ (by rw [e4, hP0]; simp; omega)
      rw [e4, hP0] at e5
      have e6 : (8#32 : BitVec 32).toNat = 8 := rfl
      rw [e6] at e5
      rw [z1] at h
      have e7 := toInt_small _ (by rw [e5]; omega)
      rw [e5] at e7
      have h' := e7.symm.trans_le h
      omega
  · intro i hi
    have h := or_bits _ _ (and_bits _ _ (and_bits _ _ (and_bits _ _ (and_bits _ _ (hb i)).1).1).1).2
    rcases h with h | h
    · exfalso
      have h := cmp_ge h
      have e1 : (IntOp.subi (padP ids) 1#32).toNat = (padP ids).toNat - 1 := subi_toNat _ _ (by simp; omega)
      have hi2 : (i 0).val < 2048 := (i 0).isLt
      rw [toInt_small _ (by omega), e1, toInt_small _ (by rw [ofNat_toNat (by omega)]; omega), ofNat_toNat (by omega)] at h
      omega
    · exact cmp_eq h

end Cert.Kernel.Emb
-- ==== Proof.Kernel.Launch.lean ====
module

public import proofs.«01_k».proof.Proof.Kernel.Pre
public import proofs.«01_k».proof.Proof.Gen.Kernel.Launch
public import proofs.«01_k».proof.Proof.Gen.Kernel.Frame
public import proofs.«01_k».proof.Proof.Gen.Kernel.Points
public import Idealize.ShloMosaic.Lib.Pipeline.FrameBody
public import Idealize.ShloMosaic.Lib.Pipeline.ValueKit
public import Idealize.ShloMosaic.Lib.Pipeline.FrameSuffixV
public import Idealize.ShloMosaic.Lib.Tactic

@[expose] public section

set_option maxRecDepth 16384
noncomputable section

namespace Cert.Kernel.Emb

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]
local notation "𝕄" => MT nD τ sig Unit (Elt F) ℕ (UD sig nD τ) ℕ
variable (c : Dev nD)

/-! # The launch: the body on the buffers the region gives it -/

open Idealize.ShloMosaic.Rounds
open Idealize.ShloMosaic.Pipeline (Dat Cfg Window BodyObligation cellOf)

variable [hP : Cert.Pre_sorted_by_token.Facts]
variable (m : (ℓ : Loc nD τ sig) → Buf (Elt F) ℓ) (ρ : Dev nD → PrngReg)

set_option maxHeartbeats 800000 in
/-- The program around the region. -/
theorem hmain (𝒱₀ : Variants) : Pipeline.HMainK (Ix := Unit) (Name := ℕ) (U := UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-! ## The operands, as the region finds them -/

abbrev idsM : S2x1024.Idx → Elt F .i32 := V m c main_arg2
abbrev sclM : S2x1024.Idx → Elt F .f32 := V m c main_arg1
abbrev pmM : S16x128.Idx → Elt F .i32 := V m c main_v0
abbrev soM : ℕ → BitVec 32 := soW (V m c main_arg4)
/-- The codes by token and column. -/
def cdM (t j : ℕ) : F .fp8e5m2 :=
  (V m c main_arg0 : S2x1024x12288.Idx → Elt F .fp8e5m2) (ValueIdx.ix3 (⟨t / 1024 % 2, Nat.mod_lt _ (by decide)⟩ : Fin 2) (⟨t % 1024, Nat.mod_lt _ (by decide)⟩ : Fin 1024) (⟨j % 12288, Nat.mod_lt _ (by decide)⟩ : Fin 12288))
theorem codes_eq : (V m c main_arg0 : S2x1024x12288.Idx → Elt F .fp8e5m2) = codesV (cdM c m) := by
  funext x
  unfold codesV cdM
  refine congrArg (V m c main_arg0) ?_
  have h0 : (x 0).val < 2 := (x 0).isLt
  have h1 : (x 1).val < 1024 := (x 1).isLt
  have h2 : (x 2).val < 12288 := (x 2).isLt
  funext a
  apply Fin.ext
  fin_cases a
  · show (x 0).val = ((x 0).val * 1024 + (x 1).val) / 1024 % 2; omega
  · show (x 1).val = ((x 0).val * 1024 + (x 1).val) % 1024; omega
  · show (x 2).val = (x 2).val % 12288; omega

/-- What the launch is proved from: the offsets are sorted, the positions are in range. -/
structure LH (nu : Dev nD → ℕ) : Prop where
  seg : ∀ c, SegH (soM c m) (nu c) (padP (idsM c m)).toNat
  pm : ∀ c x, (show BitVec 32 from pmM c m x).toNat < 2048

variable (nu : Dev nD → ℕ)

/-- The rows the kernel leaves. -/
def OM : ℕ → ℕ → ℕ → F .f32 :=
  OW (soM c m) (nu c) (padP (idsM c m)).toNat (swW (soM c m) (nu c) (pmM c m)) (tkW (pmM c m)) (fun k => dqX (cdM c m) (scW (clrW (idsM c m) (sclM c m))) k)

theorem facts_M (h : LH m nu) : Facts (soM c m) (nu c) (pmM c m) (idsM c m) (sclM c m) (cdM c m) (swW (soM c m) (nu c) (pmM c m)) (dwW (soM c m) (nu c)) (tkW (pmM c m)) (OM c m nu) :=
  facts_of (sclM c m) (cdM c m) (congrArg BitVec.toNat (padW_eq (idsM c m))) (h.seg c) (h.pm c)

/-- The buffers as the region leaves them: the result at its rows. -/
def GM (c : Dev nD) (b : Ref sig .tc) : Buf (Elt F) ((c : Thread nD τ).loc b) :=
  Function.update (fun b : Ref sig .tc => (V m c b : b.ty.Contents (Elt F))) main_v1 (OutV (OM c m nu)) b
theorem GM_v1 (c : Dev nD) : GM m nu c main_v1 = OutV (OM c m nu) := by
  unfold GM
  exact Function.update_self (f := fun b : Ref sig .tc => (V m c b : b.ty.Contents (Elt F))) main_v1 (OutV (OM c m nu))

/-! ## The region's buffers and cells -/

abbrev osem0 : Fin 22 → SemLoc sig := fun j => (![SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25] : Fin 22 → SemLoc sig) j
theorem ownSemFacts0 : Pipeline.OwnSemFacts spec0 osem0 := by decide
theorem ownSems0_cells :
    (Pipeline.ownSems0 (Ix := Unit) (Name := ℕ) (U := UD sig nD τ) (Lvl := ℕ) (Val := Elt F) (τ := τ) osem0 c : sProp 𝕄)
      = iprop(Cell c (sem14 cc0_scratch8 0 0) ∗ Cell c (sem14 cc0_scratch8 0 1) ∗ Cell c (sem14 cc0_scratch8 0 2) ∗ Cell c (sem14 cc0_scratch8 0 3) ∗ Cell c (sem14 cc0_scratch8 0 4) ∗ Cell c (sem14 cc0_scratch8 0 5) ∗ Cell c (sem14 cc0_scratch8 0 6) ∗ Cell c (sem14 cc0_scratch8 0 7) ∗ Cell c (sem14 cc0_scratch8 1 0) ∗ Cell c (sem14 cc0_scratch8 1 1) ∗ Cell c (sem14 cc0_scratch8 1 2) ∗ Cell c (sem14 cc0_scratch8 1 3) ∗ Cell c (sem14 cc0_scratch8 1 4) ∗ Cell c (sem14 cc0_scratch8 1 5) ∗ Cell c (sem14 cc0_scratch8 1 6) ∗ Cell c (sem14 cc0_scratch8 1 7) ∗ Cell c (sem15 cc0_scratch9 0 (by decide)) ∗ Cell c (sem15 cc0_scratch9 1 (by decide)) ∗ Cell c (sem15 cc0_scratch9 2 (by decide)) ∗ Cell c (sem15 cc0_scratch9 3 (by decide)) ∗ Cell c cc0_scratch10.sem ∗ Cell c cc0_scratch11.sem) := by
  rw [Pipeline.ownSems0_eq_of_list c osem0 [0, 1, 2, 3, 4, 5, 6, 7, 8, 9, 10, 11, 12, 13, 14, 15, 16, 17, 18, 19, 20, 21] (by decide) (by decide)]; rfl

def H0 : Finset (Ref sig .tc) := {main_arg0}
def R0 : Finset (Ref sig .tc) := {main_v1}
theorem H0_sub : H0 ⊆ Pipeline.restRefs sig spec0 := by decide
theorem R0_sub : R0 ⊆ Pipeline.restRefs sig spec0 \ H0 := by decide

theorem Phi_eq (G : (c : Dev nD) → (b : Ref sig .tc) → Buf (Elt F) ((c : Thread nD τ).loc b)) :
    (Pipeline.ΦDRV osem0 spec0 H0 R0 (V m) G c : sProp 𝕄)
      = iprop(((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f) ∗ (∃ f : Buf (Elt F) ((c : Thread nD τ).loc cc0_scratch6), ((c : Thread nD τ).loc cc0_scratch6) ↦{fullShare} f) ∗ (∃ f : Buf (Elt F) ((c : Thread nD τ).loc cc0_scratch7), ((c : Thread nD τ).loc cc0_scratch7) ↦{fullShare} f)) ∗ (Cell c (sem14 cc0_scratch8 0 0) ∗ Cell c (sem14 cc0_scratch8 0 1) ∗ Cell c (sem14 cc0_scratch8 0 2) ∗ Cell c (sem14 cc0_scratch8 0 3) ∗ Cell c (sem14 cc0_scratch8 0 4) ∗ Cell c (sem14 cc0_scratch8 0 5) ∗ Cell c (sem14 cc0_scratch8 0 6) ∗ Cell c (sem14 cc0_scratch8 0 7) ∗ Cell c (sem14 cc0_scratch8 1 0) ∗ Cell c (sem14 cc0_scratch8 1 1) ∗ Cell c (sem14 cc0_scratch8 1 2) ∗ Cell c (sem14 cc0_scratch8 1 3) ∗ Cell c (sem14 cc0_scratch8 1 4) ∗ Cell c (sem14 cc0_scratch8 1 5) ∗ Cell c (sem14 cc0_scratch8 1 6) ∗ Cell c (sem14 cc0_scratch8 1 7) ∗ Cell c (sem15 cc0_scratch9 0 (by decide)) ∗ Cell c (sem15 cc0_scratch9 1 (by decide)) ∗ Cell c (sem15 cc0_scratch9 2 (by decide)) ∗ Cell c (sem15 cc0_scratch9 3 (by decide)) ∗ Cell c cc0_scratch10.sem ∗ Cell c cc0_scratch11.sem)
        ∗ (((c : Thread nD τ).loc main_arg0) ↦{fullShare} V m c main_arg0) ∗ (((c : Thread nD τ).loc main_v1) ↦{fullShare} G c main_v1)) := by
  unfold Pipeline.ΦDRV H0 R0
  rw [scopedRest0_eq, ownSems0_cells, BI.bigSep_eq_bigSepL_of_eq [main_arg0] (by decide) (by decide), BI.bigSep_eq_bigSepL_of_eq [main_v1] (by decide) (by decide)]
  rfl

def dats (_ : Fin 1) (c : Dev nD) : Dat τ (Elt F) Unit ℕ (UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ i := if i.val = 0 then Pipeline.ΦDRV osem0 spec0 H0 R0 (V m) (V m) c else Pipeline.ΦDRV osem0 spec0 H0 R0 (V m) (GM m nu) c
  q _ := fullShare
  owed _ := 0

theorem A_eq (c : Dev nD) (w : Fin cfg0.W) : (dats m nu 0 c).A w = V m c (Pipeline.arrRef spec0 w) := by dsimp only [dats]
theorem after0 (t : Fin cfg0.N) : (dats m nu 0 c).after 0 t = iblk m c 0 t := by dsimp only [dats]
theorem after1 (t : Fin cfg0.N) : (dats m nu 0 c).after 1 t = iblk m c 1 t := by dsimp only [dats]
theorem after2 (t : Fin cfg0.N) : (dats m nu 0 c).after 2 t = iblk m c 2 t := by dsimp only [dats]
theorem after3 (t : Fin cfg0.N) : (dats m nu 0 c).after 3 t = iblk m c 3 t := by dsimp only [dats]
theorem before0 (t : Fin cfg0.N) (d) : (dats m nu 0 c).before 0 t d = iblk m c 0 t :=
  ((dats m nu 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (t : Fin cfg0.N) (d) : (dats m nu 0 c).before 1 t d = iblk m c 1 t :=
  ((dats m nu 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (t : Fin cfg0.N) (d) : (dats m nu 0 c).before 2 t d = iblk m c 2 t :=
  ((dats m nu 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (t : Fin cfg0.N) (d) : (dats m nu 0 c).before 3 t d = iblk m c 3 t :=
  ((dats m nu 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

theorem idx0 : ∀ t : Fin cfg0.N, win0_0.index t = ![0] ∧ win0_1.index t = ![0, 0] ∧ win0_2.index t = ![0, 0] ∧ win0_3.index t = ![0, 0] :=
  (by decide +kernel : ∀ t : Fin grid0.N, _)
theorem iblk0 (t : Fin cfg0.N) : iblk m c 0 t = V m c main_arg4 := by blk_ext! [iblk, idx0 t]
theorem iblk1 (t : Fin cfg0.N) : iblk m c 1 t = V m c main_v0 := by blk_ext! [iblk, idx0 t]
theorem iblk2 (t : Fin cfg0.N) : iblk m c 2 t = V m c main_arg2 := by blk_ext! [iblk, idx0 t]
theorem iblk3 (t : Fin cfg0.N) : iblk m c 3 t = V m c main_arg1 := by blk_ext! [iblk, idx0 t]

def bodyPre (t : Fin cfg0.N) : sProp 𝕄 :=
  iprop((dats m nu 0 c).Φ t.castSucc ∗ (dats m nu 0 c).owesAt () t.castSucc
    ∗ (∃ d, owns (c : Thread nD τ) (st0_0 t) fullShare ((dats m nu 0 c).before 0 t d)) ∗ (∃ d, owns (c : Thread nD τ) (st0_1 t) fullShare ((dats m nu 0 c).before 1 t d))
    ∗ (∃ d, owns (c : Thread nD τ) (st0_2 t) fullShare ((dats m nu 0 c).before 2 t d)) ∗ (∃ d, owns (c : Thread nD τ) (st0_3 t) fullShare ((dats m nu 0 c).before 3 t d)))
def bodyPost (t : Fin cfg0.N) : sProp 𝕄 :=
  iprop((dats m nu 0 c).Φ t.succ ∗ (dats m nu 0 c).owesAt () t.succ
    ∗ owns (c : Thread nD τ) (st0_0 t) fullShare ((dats m nu 0 c).after 0 t) ∗ owns (c : Thread nD τ) (st0_1 t) fullShare ((dats m nu 0 c).after 1 t)
    ∗ owns (c : Thread nD τ) (st0_2 t) fullShare ((dats m nu 0 c).after 2 t) ∗ owns (c : Thread nD τ) (st0_3 t) fullShare ((dats m nu 0 c).after 3 t))

/-- A whole buffer at known contents, and at some. -/
theorem whole_own (b : Ref sig .tc) (X : b.ty.Contents (Elt F)) : (((c : Thread nD τ).loc b) ↦{fullShare} X : sProp 𝕄) ⊢ Own c (Memref.whole b) fullShare X :=
  (Entails.of_eq (owns_whole (c : Thread nD τ) b fullShare X).symm).trans (by
    unfold owns
    iintro ⟨%f, %h, H⟩
    ihave H := (Own.of_pointsTo (c := c) (m := Memref.whole b) f) $$ H
    rw [h]
    iexact H)
theorem own_whole (b : Ref sig .tc) (X : b.ty.Contents (Elt F)) : Own c (Memref.whole b) fullShare X ⊢ (((c : Thread nD τ).loc b) ↦{fullShare} X : sProp 𝕄) :=
  (show _ ⊢ (owns (c : Thread nD τ) (Memref.whole b) fullShare X : sProp 𝕄) from Own.to_pointsTo (c := c)).trans (Entails.of_eq (owns_whole (c : Thread nD τ) b fullShare X))
theorem whole_any (b : Ref sig .tc) : (iprop(∃ f : Buf (Elt F) ((c : Thread nD τ).loc b), ((c : Thread nD τ).loc b) ↦{fullShare} f) : sProp 𝕄) ⊢ Any (F := F) c (Memref.whole b) (fun _ => True) := by
  iintro ⟨%f, H⟩
  ihave H := (whole_own c b f) $$ H
  iapply own_any $$ H
theorem any_whole (b : Ref sig .tc) : Any (F := F) c (Memref.whole b) (fun _ => True) ⊢ (iprop(∃ f : Buf (Elt F) ((c : Thread nD τ).loc b), ((c : Thread nD τ).loc b) ↦{fullShare} f) : sProp 𝕄) := by
  iintro ⟨%g, H⟩
  ihave H := (own_whole c b g) $$ H
  iexists g
  iexact H
theorem owns_own {sp : Space} {s : Shape} {e : EltTy} (M : Memref sig .tc sp s e) (X : s.Idx → Elt F e) : (owns (c : Thread nD τ) M fullShare X : sProp 𝕄) ⊢ Own c M fullShare X := by
  unfold owns
  iintro ⟨%f, %h, H⟩
  ihave H := (Own.of_pointsTo (c := c) f) $$ H
  rw [h]
  iexact H
theorem own_owns {sp : Space} {s : Shape} {e : EltTy} (M : Memref sig .tc sp s e) (X : s.Idx → Elt F e) : Own c M fullShare X ⊢ (owns (c : Thread nD τ) M fullShare X : sProp 𝕄) :=
  Own.to_pointsTo (c := c)

theorem owns_pt {sp : Space} {s : Shape} {e : EltTy} (M : Memref sig .tc sp s e) (X : s.Idx → Elt F e) :
    (owns (c : Thread nD τ) M fullShare X : sProp 𝕄) ⊢ iprop(∃ f, ⌜M.view.read (Elt F) f = X⌝ ∗ (M.view.loc (c : Thread nD τ) ↦[M.view.set]{fullShare} f)) := by
  unfold owns
  exact .rfl

theorem sound_body (hL : LH m nu) (t : Fin cfg0.N) :
    bodyPre c m nu t ⊢ wp frame (wpE (defs₀ (F := F)) Variants.none (c : Thread nD τ) none) Set.univ (bodyAt0 t) (fun _ => bodyPost c m nu t) := by
  have e0 : t.castSucc.val = 0 := by rw [fin_N0 t]; rfl
  have e1 : t.succ.val ≠ 0 := by rw [Fin.val_succ]; omega
  unfold bodyPre bodyPost bodyAt0
  rw [show (dats m nu 0 c).Φ t.castSucc = Pipeline.ΦDRV osem0 spec0 H0 R0 (V m) (V m) c from if_pos e0, show (dats m nu 0 c).Φ t.succ = Pipeline.ΦDRV osem0 spec0 H0 R0 (V m) (GM m nu) c from if_neg e1, Phi_eq, Phi_eq, GM_v1]
  unfold Dat.owesAt Pipeline.owesWithin
  rw [show (dats m nu 0 c).owed t.castSucc = 0 from rfl, show (dats m nu 0 c).owed t.succ = 0 from rfl]
  rw [after0, after1, after2, after3]
  simp only [before0, before1, before2, before3]
  iintro ⟨⟨⟨A0, A1, A2, A3, A4, A5, A6, A7⟩, ⟨K0, K1, K2, K3, K4, K5, K6, K7, K8, K9, K10, K11, K12, K13, K14, K15, K16, K17, K18, K19, K20, K21⟩, Hc, Ho⟩, ⟨%W, -, HW⟩, ⟨%d0, S0⟩, ⟨%d1, S1⟩, ⟨%d2, S2⟩, ⟨%d3, S3⟩⟩
  ihave A0 := (whole_any c cc0_scratch0) $$ A0
  ihave A1 := (whole_any c cc0_scratch1) $$ A1
  ihave A2 := (whole_any c cc0_scratch2) $$ A2
  ihave A3 := (whole_any c cc0_scratch3) $$ A3
  ihave A4 := (whole_any c cc0_scratch4) $$ A4
  ihave A5 := (whole_any c cc0_scratch5) $$ A5
  ihave A6 := (whole_any c cc0_scratch6) $$ A6
  ihave A7 := (whole_any c cc0_scratch7) $$ A7
  ihave Hc := (whole_own c main_arg0 _) $$ Hc
  ihave Ho := (whole_own c main_v1 _) $$ Ho
  ihave Ho := own_any $$ Ho
  rw [codes_eq c m]
  ihave S0 := (owns_pt c (st0_0 t) _) $$ S0
  icases S0 with ⟨%Xs, %hXs, S0⟩
  ihave S1 := (owns_own c (st0_1 t) _) $$ S1
  ihave S2 := (owns_own c (st0_2 t) _) $$ S2
  ihave S3 := (owns_own c (st0_3 t) _) $$ S3
  iapply (body_spec Variants.none c (soM c m) (nu c) (pmM c m) (idsM c m) (sclM c m) (cdM c m) _ _ _ _ (facts_M c m nu hL) Xs (fun i => ?_)) $$ [A0 A1 A2 A3 A4 A5 A6 A7 K0 K1 K2 K3 K4 K5 K6 K7 K8 K9 K10 K11 K12 K13 K14 K15 K16 K17 K18 K19 K20 K21 Hc Ho HW S0 S1 S2 S3]
  · rw [hXs, iblk0]; exact soW_idx _ _
  · rw [iblk1, iblk2, iblk3]
    unfold Codes Ring Each8 Owes
    isplitl [S0]; · iexact S0
    isplitl [S1]; · iexact S1
    isplitl [S2]; · iexact S2
    isplitl [S3]; · iexact S3
    isplitl [Hc A0 K0 K1 K2 K3 K4 K5 K6 K7 K8 K9 K10 K11 K12 K13 K14 K15]
    · isplitl [Hc]; · iexact Hc
      isplitl [A0]; · iexact A0
      isplitl [K0 K1 K2 K3 K4 K5 K6 K7] <;> iframe
    isplitl [Ho]; · iexact Ho
    isplitl [A1]; · iexact A1
    isplitl [A2 K16 K17 K18 K19]; · iframe
    isplitl [A3]; · iexact A3
    isplitl [A4]; · iexact A4
    isplitl [A5]; · iexact A5
    isplitl [A6]; · iexact A6
    isplitl [A7]; · iexact A7
    isplitl [K20]; · iexact K20
    isplitl [K21]; · iexact K21
    iexists W; iexact HW
  unfold Codes Ring Each8 Owes
  iintro ⟨S0, S1, S2, S3, ⟨Hc, A0, ⟨K0, K1, K2, K3, K4, K5, K6, K7⟩, ⟨K8, K9, K10, K11, K12, K13, K14, K15⟩⟩, Ho, A1, ⟨A2, K16, K17, K18, K19⟩, A3, A4, A5, A6, A7, K20, K21, ⟨%W', HW⟩⟩
  ihave A0 := (any_whole c cc0_scratch0) $$ A0
  ihave A1 := (any_whole c cc0_scratch1) $$ A1
  ihave A2 := (any_whole c cc0_scratch2) $$ A2
  ihave A3 := (any_whole c cc0_scratch3) $$ A3
  ihave A4 := (any_whole c cc0_scratch4) $$ A4
  ihave A5 := (any_whole c cc0_scratch5) $$ A5
  ihave A6 := (any_whole c cc0_scratch6) $$ A6
  ihave A7 := (any_whole c cc0_scratch7) $$ A7
  ihave Hc := (own_whole c main_arg0 _) $$ Hc
  ihave Ho := (own_whole c main_v1 _) $$ Ho
  isplitl [A0 A1 A2 A3 A4 A5 A6 A7 K0 K1 K2 K3 K4 K5 K6 K7 K8 K9 K10 K11 K12 K13 K14 K15 K16 K17 K18 K19 K20 K21 Hc Ho]
  · isplitl [A0 A1 A2 A3 A4 A5 A6 A7]; · iframe
    isplitl [K0 K1 K2 K3 K4 K5 K6 K7 K8 K9 K10 K11 K12 K13 K14 K15 K16 K17 K18 K19 K20 K21]; · iframe
    isplitl [Hc]; · iexact Hc
    iexact Ho
  isplitl [HW]
  · iexists W'; isplitr; · ipureintro; exact fun _ _ => Or.inl trivial
    iexact HW
  isplitl [S0]
  · ihave S0 := (own_owns c (st0_0 t) _) $$ S0
    rw [iblk0, show (V m c main_arg4 : S2049.Idx → Elt F .i32) = fun i => soM c m (i 0).val from funext fun i => soW_idx _ _]
    iexact S0
  rw [iblk1, iblk2, iblk3]
  isplitl [S1]; · iapply (own_owns c (st0_1 t) _) $$ S1
  isplitl [S2]; · iapply (own_owns c (st0_2 t) _) $$ S2
  iapply (own_owns c (st0_3 t) _) $$ S3
  exact iprop(emp)

end Cert.Kernel.Emb
-- ==== Proof.Kernel.Run.lean ====
module

public import proofs.«01_k».proof.Proof.Kernel.Launch

@[expose] public section

set_option maxRecDepth 16384
noncomputable section

namespace Cert.Kernel.Emb

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]
local notation "𝕄" => MT nD τ sig Unit (Elt F) ℕ (UD sig nD τ) ℕ
variable (c : Dev nD)

/-! # The run: the arguments end unchanged, the result is the rows -/

open Idealize.ShloMosaic.Rounds
open Idealize.ShloMosaic.Pipeline (Dat Cfg Window BodyObligation cellOf)

variable [hP : Cert.Pre_sorted_by_token.Facts]
variable (m : (ℓ : Loc nD τ sig) → Buf (Elt F) ℓ) (ρ : Dev nD → PrngReg)

/-- The permutation as the kernel gets it: the argument in rows of 128. -/
theorem pmM_eq (x : S16x128.Idx) (p : ℕ) (hp : p < 2048) (hx : p = (x 0).val * 128 + (x 1).val) :
    pmM c m x = (m ((c : Thread nD τ).loc main_arg3) : S2048.Idx → Elt F .i32) (ValueIdx.ix1 (⟨p, hp⟩ : Fin 2048)) := by
  have e : pmM c m = shapeCast S16x128 (m ((c : Thread nD τ).loc main_arg3) : S2048.Idx → Elt F .i32) shapeCasts_S2048_S16x128 := by
    show StableHlo.after hostOps0 _ (Proc.devRef .tc main_v0) = _
    after_results
    rfl
  rw [e]
  refine shapeCast_apply (s := S2048) _ _ _ _ ?_
  rw [Shape.rowMajor_val_one, Shape.rowMajor_val_two]
  exact hx

variable (nu : Dev nD → ℕ)

/-- What the launch needs, of the precondition's facts. -/
theorem lh_of (h : ∀ c : Dev nD, PreH (m ((c : Thread nD τ).loc main_arg2) : S2x1024.Idx → BitVec 32) (m ((c : Thread nD τ).loc main_arg3) : S2048.Idx → BitVec 32)
    (soW (m ((c : Thread nD τ).loc main_arg4) : S2049.Idx → BitVec 32)) (nu c)) : LH m nu where
  seg c := by
    have h1 := (h c).seg
    rw [← V_main_arg2 m c, ← V_main_arg4 m c] at h1
    exact h1
  pm c x := by
    have h0 : (x 0).val < 16 := (x 0).isLt
    have h1 : (x 1).val < 128 := (x 1).isLt
    rw [pmM_eq c m x ((x 0).val * 128 + (x 1).val) (by omega) rfl]
    exact (h c).perm _

theorem defs₀_row (t : Fin cfg0.N) : defs₀ (F := F) .tc cfg0.body (cfg0.bodyArgs t (cfg0.slots t)) = bodyAt0 t := by
  unfold defs₀; rw [Defs.onTc_tc]

theorem body_obligation (hL : LH m nu) (c : Dev nD) : BodyObligation (dats (F := F) m nu 0 c) (defs₀ (F := F)) Variants.none () Set.univ := fun t => by
  rw [bigSep_W0, bigSep_W0, defs₀_row]
  exact triple_restated (sound_body c m nu hL t) rfl .rfl fun _ => .rfl

/-- The result: row `r`, column `x` at tile `x / 128`, lane `x % 128`. -/
def outM (c : Dev nD) : S2048x12288.Idx → Elt F .f32 := fun x => OM c m nu (x 0).val ((x 1).val / 128) ((x 1).val % 128)

theorem after_v3 (W : Valuation τ sig (Elt F)) (hW : W (Proc.devRef .tc main_v1) = (OutV (OM c m nu) : S256x96x8x128.Idx → Elt F .f32)) :
    StableHlo.after (List.flatten [hostOps1]) W (Proc.devRef .tc main_v3) = outM m nu c := by
  have e : StableHlo.after (List.flatten [hostOps1]) W (Proc.devRef .tc main_v3)
      = shapeCast S2048x12288 (transpose S256x8x96x128 [0, 2, 1, 3] (W (Proc.devRef .tc main_v1) : S256x96x8x128.Idx → Elt F .f32) transposes_S256x96x8x128_S256x8x96x128_0_2_1_3)
        shapeCasts_S256x8x96x128_S2048x12288 := by
    show StableHlo.after hostOps1 _ (Proc.devRef .tc main_v3) = _
    after_results
    rfl
  rw [e, hW]
  funext x
  have h0 : (x 0).val < 2048 := (x 0).isLt
  have h1 : (x 1).val < 12288 := (x 1).isLt
  rw [shapeCast_apply _ _ x (ValueIdx.ix4 (⟨(x 0).val / 8, by omega⟩ : Fin 256) (⟨(x 0).val % 8, by omega⟩ : Fin 8) (⟨(x 1).val / 128, by omega⟩ : Fin 96) (⟨(x 1).val % 128, by omega⟩ : Fin 128))
      (by rw [Shape.rowMajor_val_four, Shape.rowMajor_val_two]
          show (((x 0).val / 8 * 8 + (x 0).val % 8) * 96 + (x 1).val / 128) * 128 + (x 1).val % 128 = (x 0).val * 12288 + (x 1).val
          omega),
    transpose_apply _ _ _ _ (ValueIdx.ix4 (⟨(x 0).val / 8, by omega⟩ : Fin 256) (⟨(x 1).val / 128, by omega⟩ : Fin 96) (⟨(x 0).val % 8, by omega⟩ : Fin 8) (⟨(x 1).val % 128, by omega⟩ : Fin 128))
      (fun b => by fin_cases b <;> rfl)]
  show OM c m nu ((x 0).val / 8 * 8 + (x 0).val % 8) ((x 1).val / 128) ((x 1).val % 128) = _
  rw [show (x 0).val / 8 * 8 + (x 0).val % 8 = (x 0).val by omega]
  rfl

/-- The contents after the region. -/
abbrev Wend (c : Dev nD) : Valuation τ sig (Elt F) :=
  Pipeline.withArrays (cfgs 0).spec c (Pipeline.withR (V0 m c) R0 c (GM m nu c)) fun w => (dats m nu 0 c).arrAt w (cfgs 0).N
theorem W_main_v3 (c : Dev nD) : StableHlo.after (List.flatten [hostOps1]) (Wend m nu c) (Proc.devRef .tc main_v3) = outM m nu c := by
  refine after_v3 c m nu _ ?_
  unfold Wend
  rw [Pipeline.withArrays_of_ne _ c _ _ main_v1 (by exact (by decide : ∀ w, Pipeline.arrRef spec0 w ≠ main_v1)), Pipeline.withR_of_mem _ _ _ _ main_v1 (by decide)]
  exact GM_v1 m nu c
theorem W_main_arg0' (c : Dev nD) : StableHlo.after (List.flatten [hostOps1]) (Wend m nu c) (Proc.devRef .tc main_arg0) = m ((c : Thread nD τ).loc main_arg0) := by
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))]
  unfold Wend
  rw [Pipeline.withArrays_of_ne _ c _ _ main_arg0 (by exact (by decide : ∀ w, Pipeline.arrRef spec0 w ≠ main_arg0)), Pipeline.withR_of_not_mem _ _ _ _ main_arg0 (by decide)]
  exact V_main_arg0 m c
theorem W_main_arg3' (c : Dev nD) : StableHlo.after (List.flatten [hostOps1]) (Wend m nu c) (Proc.devRef .tc main_arg3) = m ((c : Thread nD τ).loc main_arg3) := by
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))]
  unfold Wend
  rw [Pipeline.withArrays_of_ne _ c _ _ main_arg3 (by exact (by decide : ∀ w, Pipeline.arrRef spec0 w ≠ main_arg3)), Pipeline.withR_of_not_mem _ _ _ _ main_arg3 (by decide)]
  exact V_main_arg3 m c

theorem Phi_at (c : Dev nD) (i : Fin (cfg0.N + 1)) : (dats m nu 0 c).Φ i = if i.val = 0 then Pipeline.ΦDRV osem0 spec0 H0 R0 (V m) (V m) c else Pipeline.ΦDRV osem0 spec0 H0 R0 (V m) (GM m nu) c := by
  dsimp only [dats]
theorem Phi_first (c : Dev nD) : (dats m nu 0 c).Φ 0 = Pipeline.ΦDRV osem0 spec0 H0 R0 (V m) (V m) c := (Phi_at m nu c 0).trans (if_pos rfl)
theorem Phi_last (c : Dev nD) : (dats m nu 0 c).Φ (Fin.last cfg0.N) = Pipeline.ΦDRV osem0 spec0 H0 R0 (V m) (GM m nu) c :=
  (Phi_at m nu c _).trans (if_neg (by show ¬ (Fin.last grid0.N).val = 0; rw [Fin.val_last, N_0]; decide))

set_option backward.isDefEq.respectTransparency.types false in
/-- From the precondition's facts, the program ends with its arguments unchanged, its semaphores at zero and its result the rows. -/
theorem run_main (hL : LH m nu) : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.mem ((c.tc : Thread nD τ).loc main_v3) = outM m nu c)
      ∧ r.2.sem = fun _ => 0) :=
  Pipeline.θ_run_frame_dmaR_aroundV cfgs (dats m nu) (0 : Fin 1) launch0 osem0 defs₀ Variants.none ownSemFacts0 H0 R0 H0_sub R0_sub m ρ main
    (hbody := fun c => (body_obligation m nu hL c).loose) (hshare := fun c => (dats m nu 0 c).share_full fun _ => rfl)
    (howed := fun _ _ => rfl) (V₀ := V0 m) (opss := [hostOps1]) (hsub := sfx_sub) (hfresh := sfx_fresh) (hkeep := sfx_keeps)
    (G := GM m nu) (hmain := hmain m Variants.none) (hA := A_eq m nu)
    (hin := fun c => Entails.of_eq (Phi_first m nu c).symm) (hout := fun c => Entails.of_eq (Phi_last m nu c))
    (Q' := _) (hQ' := fun r h => ⟨fun c => ⟨⟨((h.1 c).2 main_arg0 (Pipeline.mem_restRefs_of main_arg0 (by decide) (by decide))).trans (W_main_arg0' m nu c),
      ((h.1 c).1 3).trans (((dats m nu 0 c).arrAt_in 3 rfl _).trans ((A_eq m nu c 3).trans (V_main_arg1 m c))),
      ((h.1 c).1 2).trans (((dats m nu 0 c).arrAt_in 2 rfl _).trans ((A_eq m nu c 2).trans (V_main_arg2 m c))),
      ((h.1 c).2 main_arg3 (Pipeline.mem_restRefs_of main_arg3 (by decide) (by decide))).trans (W_main_arg3' m nu c),
      ((h.1 c).1 0).trans (((dats m nu 0 c).arrAt_in 0 rfl _).trans ((A_eq m nu c 0).trans (V_main_arg4 m c)))⟩,
      ((h.1 c).2 main_v3 (Pipeline.mem_restRefs_of main_v3 (by decide) (by decide))).trans (W_main_v3 m nu c)⟩, h.2⟩)

end Cert.Kernel.Emb
-- ==== Proof.KernelFrame.lean ====
module

public import proofs.«01_k».proof.Proof.Kernel.Run
public import proofs.«01_k».proof.Proof.Gen.Kernel
public import proofs.«01_k».proof.Defs

@[expose] public section

set_option maxRecDepth 16384
noncomputable section

/-! # The frame of the kernel -/

namespace Cert.Kernel.Emb

open Cert.Kernel Cert.Kernel.Gen
open Idealize.ShloMosaic Idealize.ShloMosaic.TcCoe Idealize.SL.Sem

variable {F : FTy → Type} [FloatOps F] [hP : Cert.Pre_sorted_by_token.Facts]

/-- The precondition at every device gives, per device, the number of tokens' rows and the facts the run takes. -/
theorem preH_of (m : (ℓ : Loc nD τ sig) → Buf (Elt F) ℓ)
    (h : ∀ c : Dev nD, Cert.Pre_sorted_by_token.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) = (fun _ => 1#1)) :
    ∃ nu : Dev nD → ℕ, ∀ c : Dev nD, PreH (m ((c.tc : Thread nD τ).loc main_arg2)) (m ((c.tc : Thread nD τ).loc main_arg3)) (soW (m ((c.tc : Thread nD τ).loc main_arg4))) (nu c) :=
  ⟨fun c => (pre_facts _ _ _ _ _ (h c)).choose, fun c => (pre_facts _ _ _ _ _ (h c)).choose_spec⟩

/-- The frame at any float values: the program ends, its arguments unchanged and its semaphores at zero. -/
theorem frame (m : (ℓ : Loc nD τ sig) → Buf (Elt F) ℓ) (ρ : Dev nD → PrngReg)
    (h : ∀ c : Dev nD, Cert.Pre_sorted_by_token.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) = (fun _ => 1#1)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  obtain ⟨nu, hn⟩ := preH_of m h
  exact (θ_run defs _ _).mono (fun _ q => ⟨fun c => (q.1 c).1, q.2⟩) (run_main m ρ nu (lh_of m nu hn))

end Cert.Kernel.Emb
end
-- ==== Proof.KernelIdeal.Sum.lean ====
module

public import proofs.«01_k».proof.Proof.KernelIdeal.Word
public import Idealize.ShloMosaic.PureOps.Ideal

@[expose] public section

noncomputable section

namespace Cert.KernelIdeal.Emb

open Cert.KernelIdeal Cert.KernelIdeal.Gen
open Idealize.ShloMosaic Idealize.ShloMosaic.TcCoe

/-! # Over the extended reals, a row of the result is the sum over its segment

The kernel clears its running sum at the first position of a segment and adds one token's row at each position;
the row it keeps is the sum at the segment's last position. -/

/-- The bit that says whether to keep the running sum is the word's top bit. -/
theorem keepW_msb (w : BitVec 32) : keepW w = BitVec.ofBool w.msb := by
  show BitVec.ofBool (w.sshiftRight 31 != 0#32) = _
  congr 1
  cases hm : w.msb with
  | false =>
    rw [BitVec.sshiftRight_eq_of_msb_false hm]
    have : w.toNat < 2147483648 := by
      have := BitVec.msb_eq_false_iff_two_mul_lt.mp hm; omega
    have e : w >>> 31 = 0#32 := by
      apply BitVec.eq_of_toNat_eq
      rw [BitVec.toNat_ushiftRight, Nat.shiftRight_eq_div_pow]
      show w.toNat / 2147483648 = 0
      omega
    rw [e]; rfl
  | true =>
    rw [BitVec.sshiftRight_eq_of_msb_true hm]
    have hw : 2147483648 ≤ w.toNat := by
      have := BitVec.msb_eq_true_iff_two_mul_ge.mp hm; omega
    have hlt := w.isLt
    have e : ~~~w >>> 31 = 0#32 := by
      apply BitVec.eq_of_toNat_eq
      rw [BitVec.toNat_ushiftRight, Nat.shiftRight_eq_div_pow, BitVec.toNat_not]
      show (4294967296 - 1 - w.toNat) / 2147483648 = 0
      omega
    rw [e]; rfl

theorem keepW_or (w : BitVec 32) (k : BitVec 1) (hw : w.toNat < 65536) : keepW (IntOp.ori w (Scalar.select k 2147483648#32 0#32)) = k := by
  rw [keepW_msb]
  show BitVec.ofBool (w ||| Scalar.select k 2147483648#32 0#32).msb = k
  have h0 : w.msb = false := by rw [BitVec.msb_eq_false_iff_two_mul_lt]; omega
  rw [BitVec.msb_or, h0, Bool.false_or]
  revert k; decide

/-- The position before, in the index rows: one lane to the left, or the last lane of the row above. -/
theorem rot_prev (v : IVec S16x128 32) {q : ℕ} (h1 : 1 ≤ q) (hq : q < 2048) :
    select (cmpi .eq v78V (broadcast S16x128 0#32)) (dynamicRotate 0 1#32 none (dynamicRotate 1 1#32 none v rotates_S16x128_d1) rotates_S16x128_d0) (dynamicRotate 1 1#32 none v rotates_S16x128_d1) (posIx q)
      = v (posIx (q - 1)) := by
  have e : cmpi .eq v78V (broadcast S16x128 0#32) (posIx q) = BitVec.ofBool (decide (q % 128 = 0)) := by
    show BitVec.ofBool (BitVec.ofNat 32 (0 * 128 + q % 128) == 0#32) = _
    congr 1
    by_cases h0 : q % 128 = 0
    · rw [h0]; rfl
    · rw [decide_eq_false h0]
      apply beq_false_of_ne
      intro e
      have := congrArg BitVec.toNat e
      rw [ofNat_toNat (by omega)] at this
      have h2 : (0#32 : BitVec 32).toNat = 0 := rfl
      omega
  show (if cmpi .eq v78V (broadcast S16x128 0#32) (posIx q) = 1 then _ else _) = _
  rw [e]
  by_cases h0 : q % 128 = 0
  · rw [decide_eq_true h0, if_pos (by decide)]
    refine congrArg v ?_
    funext a
    apply Fin.ext
    fin_cases a
    · show (q / 128 % 16 + 16 - 1 % 16) % 16 = (q - 1) / 128 % 16; omega
    · show (q % 128 + 128 - 1 % 128) % 128 = (q - 1) % 128; omega
  · rw [decide_eq_false h0, if_neg (by decide)]
    refine congrArg v ?_
    funext a
    apply Fin.ext
    fin_cases a
    · show q / 128 % 16 = (q - 1) / 128 % 16; omega
    · show (q % 128 + 128 - 1 % 128) % 128 = (q - 1) % 128; omega

section
variable {so : ℕ → BitVec 32} {nu npad : ℕ} {pm : S16x128.Idx → BitVec 32} (h : SegH so nu npad) (hpm : ∀ x, (pm x).toNat < 2048)
include h hpm

/-- The running sum is kept exactly where the position before lies in the same segment. -/
theorem keep_swW {q : ℕ} (h1 : 1 ≤ q) (hq : q < 2048) : keepW (swW so nu pm q) = BitVec.ofBool (decide (cntN so q nu = cntN so (q - 1) nu)) := by
  unfold swW
  rw [if_pos hq, src_form, keepW_or _ _ (by
    have hp := hpm (posIx q)
    rw [dst_word (v := pm) (x := posIx q) hp (BitVec.eq_of_toNat_eq (by rw [ofNat_toNat (by omega)]))]
    omega)]
  show IntOp.cmpi .eq (v104V so nu (posIx q)) _ = _
  rw [rot_prev _ h1 hq]
  show BitVec.ofBool (v104V so nu (posIx q) == v104V so nu (posIx (q - 1))) = _
  congr 1
  have a := v104_eq h hq
  have b := v104_eq h (p := q - 1) (by omega)
  have c1 := (cnt_facts h q nu (le_refl _)).1
  have c2 := (cnt_facts h (q - 1) nu (le_refl _)).1
  have hn := h.nuH.le
  by_cases hc : cntN so q nu = cntN so (q - 1) nu
  · rw [decide_eq_true hc, beq_iff_eq]
    rw [hc, ← b] at a
    exact (BitVec.add_left_inj _).mp a
  · rw [decide_eq_false hc]
    apply beq_false_of_ne
    intro e
    rw [e, b] at a
    have := congrArg BitVec.toNat a
    rw [ofNat_toNat (by omega), ofNat_toNat (by omega)] at this
    exact hc this.symm
end

/-- One step of the running sum, over the extended reals. -/
theorem accT_succ (sw : ℕ → BitVec 32) (tk : ℕ → ℕ) (X : ℕ → ℕ → ℕ → Ideal .f32) (p0 m v l : ℕ) :
    accT (F := Ideal) sw tk X p0 (m + 1) v l = (if keepW (sw (p0 + m)) = 1 then accT (F := Ideal) sw tk X p0 m v l else 0) + X (tk (p0 + m)) v l := by
  show (if keepW (sw (p0 + m)) = 1 then accT (F := Ideal) sw tk X p0 m v l else Ideal.ofBits .f32 0x00000000#32) + X (tk (p0 + m)) v l = _
  rw [show Ideal.ofBits .f32 0x00000000#32 = 0 by simp [Ideal.ofBits, Ideal.ieee]]

theorem accT_zero (sw : ℕ → BitVec 32) (tk : ℕ → ℕ) (X : ℕ → ℕ → ℕ → Ideal .f32) (p0 v l : ℕ) : accT (F := Ideal) sw tk X p0 0 v l = 0 := by
  show Ideal.ofBits .f32 0x00000000#32 = 0
  simp [Ideal.ofBits, Ideal.ieee]

/-- The running sum since the position it was last cleared at. -/
theorem accT_sum (sw : ℕ → BitVec 32) (tk : ℕ → ℕ) (X : ℕ → ℕ → ℕ → Ideal .f32) (p0 a v l : ℕ)
    (ha : a = 0 ∨ keepW (sw (p0 + a)) ≠ 1) (m : ℕ) (hm : a < m) (hk : ∀ i, a < i → i < m → keepW (sw (p0 + i)) = 1) :
    accT (F := Ideal) sw tk X p0 m v l = ∑ q ∈ Finset.Ico (p0 + a) (p0 + m), X (tk q) v l := by
  induction m with
  | zero => exact absurd hm (Nat.not_lt_zero _)
  | succ m ih =>
    rw [accT_succ, show p0 + (m + 1) = p0 + m + 1 from rfl]
    by_cases hma : a = m
    · subst hma
      rw [Finset.sum_Ico_succ_top (le_refl _), Finset.Ico_self, Finset.sum_empty]
      congr 1
      rcases ha with h0 | h0
      · subst h0; rw [accT_zero]; exact ite_self _
      · exact if_neg h0
    · rw [Finset.sum_Ico_succ_top (by omega), if_pos (hk m (by omega) (by omega)), ih (by omega) fun i hi hi' => hk i hi (by omega)]

section
variable {so : ℕ → BitVec 32} {nu npad : ℕ} {pm : S16x128.Idx → BitVec 32} (h : SegH so nu npad) (hpm : ∀ x, (pm x).toNat < 2048)
include h hpm

/-- A row of the result is the sum of the rows of its segment, given that the positions the kernel skips hold zero rows. -/
theorem OW_seg (tk : ℕ → ℕ) (X : ℕ → ℕ → ℕ → ℕ → Ideal .f32) (hz : ∀ q, q < npad - 1 → ∀ k v l, X k (tk q) v l = 0) {r : ℕ} (hr : r < nu) (tile lane : ℕ) :
    OW (F := Ideal) so nu npad (swW so nu pm) tk X r tile lane = ∑ q ∈ Finset.Ico (so r).toNat (so (r + 1)).toNat, X (tile / 24) (tk q) (tile % 24) lane := by
  unfold OW
  rw [if_pos hr]
  have hn := h.nuH.le
  have hb : r / 64 < (nu + 63) / 64 := by omega
  have hrr : 64 * (r / 64) + r % 64 = r := by omega
  have h1 := P0_lt h (b := r / 64) (r := r % 64) hb (by omega)
  rw [hrr] at h1
  have h2 := h.inc r hr
  have h3 := seg_next h hr
  have h4 := seg_mono h (i := 64 * (r / 64)) (j := r) (by omega) (by omega)
  set p0 := P0 so npad (r / 64) with hp0
  have h5 : (so (64 * (r / 64))).toNat ≤ p0 := le_max_left _ _
  have key : accT (F := Ideal) (swW so nu pm) tk (X (tile / 24)) p0 ((so (r + 1)).toNat - p0) (tile % 24) lane
      = ∑ q ∈ Finset.Ico (max p0 (so r).toNat) (so (r + 1)).toNat, X (tile / 24) (tk q) (tile % 24) lane := by
    rw [accT_sum (swW so nu pm) tk (X (tile / 24)) p0 (max p0 (so r).toNat - p0) (tile % 24) lane ?_ _ (by omega) ?_]
    · rw [show p0 + (max p0 (so r).toNat - p0) = max p0 (so r).toNat by omega, show p0 + ((so (r + 1)).toNat - p0) = (so (r + 1)).toNat by omega]
    · by_cases hc : (so r).toNat ≤ p0
      · left; omega
      · right
        rw [show p0 + (max p0 (so r).toNat - p0) = (so r).toNat by omega, keep_swW h hpm (by omega) (by omega), seg_eq h hr (le_refl _) h2]
        rw [decide_eq_false (by
          intro e
          have := seg_range h (q := (so r).toNat - 1) (by omega) e.symm
          omega)]
        decide
    · intro i hi hi'
      rw [keep_swW h hpm (by omega) (by omega), seg_eq h hr (by omega) (by omega), seg_eq h hr (by omega) (by omega), decide_eq_true rfl]
      rfl
  rw [key]
  refine Finset.sum_subset (fun q hq => ?_) fun q hq hq' => ?_
  · rw [Finset.mem_Ico] at *; omega
  · rw [Finset.mem_Ico] at *
    refine hz q ?_ _ _ _
    have h6 : q < p0 := by omega
    rw [hp0] at h6
    unfold P0 at h6
    by_cases h0 : r / 64 = 0
    · rw [if_pos h0] at h6; omega
    · rw [if_neg h0] at h6; omega

/-- The same, over all positions: those whose count of offsets is the row's. -/
theorem OW_sum (tk : ℕ → ℕ) (X : ℕ → ℕ → ℕ → ℕ → Ideal .f32) (hz : ∀ q, q < npad - 1 → ∀ k v l, X k (tk q) v l = 0) (r tile lane : ℕ) :
    OW (F := Ideal) so nu npad (swW so nu pm) tk X r tile lane
      = ∑ p ∈ Finset.univ.filter (fun p : Fin 2048 => cntN so p.val nu = r + 1), X (tile / 24) (tk p.val) (tile % 24) lane := by
  rw [Finset.sum_filter, Fin.sum_univ_eq_sum_range (fun q => if cntN so q nu = r + 1 then X (tile / 24) (tk q) (tile % 24) lane else 0), ← Finset.sum_filter]
  by_cases hr : r < nu
  · rw [OW_seg h hpm tk X hz hr]
    refine Finset.sum_congr ?_ fun _ _ => rfl
    have h3 := seg_next h hr
    ext q
    rw [Finset.mem_Ico, Finset.mem_filter, Finset.mem_range]
    constructor
    · intro hq; exact ⟨by omega, seg_eq h hr hq.1 hq.2⟩
    · intro hq; exact (seg_range h hq.1 hq.2).2
  · unfold OW
    rw [if_neg hr, Finset.filter_false_of_mem, Finset.sum_empty]
    · show Ideal.ofBits .f32 0x00000000#32 = 0
      simp [Ideal.ofBits, Ideal.ieee]
    · intro q hq e
      exact hr (seg_range h (Finset.mem_range.mp hq) e).1
end

end Cert.KernelIdeal.Emb
-- ==== Proof.ReferenceIdeal.Value.lean ====
module

public import proofs.«01_k».proof.Proof.Gen.ReferenceIdeal.Frame
public import Idealize.ShloMosaic.Lib.Pipeline.ValueKit

@[expose] public section

set_option maxRecDepth 16384
noncomputable section

namespace Cert.ReferenceIdeal.Emb

open Cert.ReferenceIdeal Cert.ReferenceIdeal.Gen
open Idealize.ShloMosaic Idealize.ShloMosaic.TcCoe
open Idealize.SL Idealize.SL.Sem

variable {F : FTy → Type} [FloatOps F]

/-! # What the reference leaves in its result, as one expression of its arguments -/

/-- The permutation as a column, its negative entries wrapped. -/
def colV (a3 : S2048.Idx → BitVec 32) : S2048x1.Idx → BitVec 32 :=
  broadcastInDim S2048x1 ![0] bcast_S2048_S2048x1_0
    (select (cmpi .slt (show IVec S2048 32 from a3) (broadcastInDim S2048 ![] bcast_S_S2048 (constantI S_ 32 0#32)))
      (addi (show IVec S2048 32 from a3) (broadcastInDim S2048 ![] bcast_S_S2048 (constantI S_ 32 2048#32))) (show IVec S2048 32 from a3))

/-- The tokens' rows in sorted order: codes by scales, cleared where the id is the padding id. -/
def rowsV (v0 : S2x1024x12288.Idx → F .f32) (a1 : S2x1024.Idx → F .f32) (a2 : S2x1024.Idx → BitVec 32) (a3 : S2048.Idx → BitVec 32) : S2048x12288.Idx → F .f32 :=
  select
    (broadcastInDim S2048x12288 ![0, 1] bcast_S2048x1_S2048x12288_0_1 (broadcastInDim S2048x1 ![0] bcast_S2048_S2048x1_0
      (cmpi .eq (show IVec S2048 32 from Host.gather gather_S2048_S2048x1_S2048_n_0_n_n_0_1_1 (shapeCast S2048 a2 shapeCasts_S2x1024_S2048) (colV a3)) (broadcastInDim S2048 ![] bcast_S_S2048 (constantI S_ 32 0#32)))))
    (broadcastInDim S2048x12288 ![] bcast_S_S2048x12288 (constant (F := F) S_ .f32 0x00000000#32))
    (mulf (show FVec F S2048x12288 .f32 from Host.gather gather_S2048x12288_S2048x1_S2048x12288_1_0_n_n_0_1_112288 (shapeCast S2048x12288 v0 shapeCasts_S2x1024x12288_S2048x12288) (colV a3))
      (broadcastInDim S2048x12288 ![0, 1] bcast_S2048x1_S2048x12288_0_1 (broadcastInDim S2048x1 ![0] bcast_S2048_S2048x1_0
        (Host.gather gather_S2048_S2048x1_S2048_n_0_n_n_0_1_1 (shapeCast S2048 a1 shapeCasts_S2x1024_S2048) (colV a3)))))

/-- Of each position, how many offsets are at most the position. -/
def segV (a4 : S2049.Idx → BitVec 32) : S2048.Idx → BitVec 32 :=
  Host.reduce IntOp.addi
    (extui 32 (cmpi .sle (show IVec S2049x2048 32 from broadcastInDim S2049x2048 ![0, 1] bcast_S2049x1_S2049x2048_0_1 (broadcastInDim S2049x1 ![0] bcast_S2049_S2049x1_0 a4))
      (broadcastInDim S2049x2048 ![0, 1] bcast_S1x2048_S2049x2048_0_1 (broadcastInDim S1x2048 ![1] bcast_S2048_S1x2048_1 (iotaInDim S2048 32 0)))) natLt_1_32 : IVec S2049x2048 32)
    (constantI S_ 32 0#32) reducesTo_S2049x2048_S2048_d0 h_S_

/-- The segment sums. -/
def gradV (v0 : S2x1024x12288.Idx → F .f32) (a1 : S2x1024.Idx → F .f32) (a2 : S2x1024.Idx → BitVec 32) (a3 : S2048.Idx → BitVec 32) (a4 : S2049.Idx → BitVec 32) : S2048x12288.Idx → F .f32 :=
  Host.scatterAdd scatter_S2048x12288_S2048x1_S2048x12288_1_0_0_1
    (broadcastInDim S2048x12288 ![] bcast_S_S2048x12288 (constant (F := F) S_ .f32 0x00000000#32))
    (broadcastInDim S2048x1 ![0] bcast_S2048_S2048x1_0 (subi (show IVec S2048 32 from segV a4) (broadcastInDim S2048 ![] bcast_S_S2048 (constantI S_ 32 1#32))))
    (rowsV v0 a1 a2 a3)

set_option maxHeartbeats 2000000 in
set_option maxRecDepth 200000 in
/-- The host operations after the region leave the segment sums in the result. -/
theorem after_v38 (W : Valuation τ sig (Elt F)) :
    StableHlo.after (List.flatten [hostOps1, hostOps1_1, hostOps1_2, hostOps1_3, hostOps1_4]) W (Proc.devRef .tc main_v38)
      = gradV (W (Proc.devRef .tc main_v0) : S2x1024x12288.Idx → F .f32) (W (Proc.devRef .tc main_arg1)) (W (Proc.devRef .tc main_arg2)) (W (Proc.devRef .tc main_arg3)) (W (Proc.devRef .tc main_arg4)) := by
  simp only [List.flatten_cons, List.flatten_nil, List.append_nil, List.cons_append, List.nil_append]
  after_results
  simp only [StableHlo.TRef.ofBuf_toBuf]
  simp -implicitDefEqProofs only [StableHlo.TRef.toBuf, StableHlo.TRef.ofBuf, cast_cast, cast_eq]
  rfl

variable (m : (ℓ : Loc nD τ sig) → Buf (Elt F) ℓ) (ρ : Dev nD → PrngReg)

/-- The codes, widened. -/
def wideV (a0 : S2x1024x12288.Idx → F .fp8e5m2) : S2x1024x12288.Idx → F .f32 := fun i => FloatOps.extf .f32 bitsLt_fp8e5m2_f32 (a0 i)

/-- The cast's region leaves the widened codes. -/
theorem arr_v0 (c : Dev nD) : (dats m 0 c).arrAt 1 cfg0.N = (wideV (m ((c : Thread nD τ).loc main_arg0)) : S2x1024x12288.Idx → F .f32) := by
  refine (dats m 0 c).arrAt_eq_of_covers 1 _ (by decide +kernel) fun t hf y => ?_
  blk_simp
  rw [after0_1]
  frame_out
  have e : (((View.whole main_v0).slice (win0_1.rect t)).emb y : S2x1024x12288.Idx) = y := by
    funext a; apply Fin.ext
    exact Pipeline.Window.rect_emb_val_of_index_zero win0_1 t a (by fin_cases a <;> rfl) y
  rw [e]
  blk_simp [iblk]
  have e0 : (((cfg0.win 0).blk t).view.emb y : S2x1024x12288.Idx) = y := by
    funext a; apply Fin.ext
    exact Pipeline.Window.rect_emb_val_of_index_zero win0_0 t a (by fin_cases a <;> rfl) y
  show FloatOps.extf .f32 bitsLt_fp8e5m2_f32 ((V m c main_arg0 : S2x1024x12288.Idx → Elt F .fp8e5m2) (((cfg0.win 0).blk t).view.emb y)) = _
  rw [e0, V_main_arg0]
  rfl

/-- What the run leaves in the result. -/
theorem tail_v38 (c : Dev nD) : Pipeline.afterTail₀ cfgs (dats m) 0 (V0 m) [hostOps1, hostOps1_1, hostOps1_2, hostOps1_3, hostOps1_4] c main_v38
    = gradV (wideV (m ((c : Thread nD τ).loc main_arg0))) (m ((c : Thread nD τ).loc main_arg1)) (m ((c : Thread nD τ).loc main_arg2)) (m ((c : Thread nD τ).loc main_arg3)) (m ((c : Thread nD τ).loc main_arg4)) := by
  unfold Pipeline.afterTail₀
  rw [after_v38]
  rw [Pipeline.withArrays_of_ne _ c _ _ main_arg1 (by exact (by decide : ∀ w, Pipeline.arrRef spec0 w ≠ main_arg1)),
    Pipeline.withArrays_of_ne _ c _ _ main_arg2 (by exact (by decide : ∀ w, Pipeline.arrRef spec0 w ≠ main_arg2)),
    Pipeline.withArrays_of_ne _ c _ _ main_arg3 (by exact (by decide : ∀ w, Pipeline.arrRef spec0 w ≠ main_arg3)),
    Pipeline.withArrays_of_ne _ c _ _ main_arg4 (by exact (by decide : ∀ w, Pipeline.arrRef spec0 w ≠ main_arg4))]
  have e : Pipeline.withArrays (cfgs 0).spec c (V0 m c) (fun w => (dats m 0 c).arrAt w (cfgs 0).N) (Proc.devRef .tc main_v0)
      = (dats m 0 c).arrAt 1 cfg0.N := Pipeline.withArrays_arr spec0 (by decide) c (V0 m c) (fun w => (dats m 0 c).arrAt w cfg0.N) 1
  rw [e, arr_v0]
  rfl

/-- The reference's run: its result, and its arguments unchanged. -/
theorem run_v38 : θ_run defs (onTc (τ := τ) (main (F := F))) ⟨m, fun _ => 0, ρ⟩ (fun r => ∀ c : Dev nD,
      r.2.mem ((c.tc : Thread nD τ).loc main_v38) = gradV (wideV (m ((c : Thread nD τ).loc main_arg0))) (m ((c : Thread nD τ).loc main_arg1)) (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.2 c).2 main_v38 (Pipeline.mem_restRefs_of main_v38 (by decide) (by decide))).trans (tail_v38 m c), h.1 c⟩)
    (θ_run_and (unchanged m ρ) (run_main m ρ))

end Cert.ReferenceIdeal.Emb
-- ==== Proof.ReferenceIdeal.Sums.lean ====
module

public import proofs.«01_k».proof.Proof.ReferenceIdeal.Value
public import proofs.«01_k».proof.Proof.KernelIdeal.Words
public import Idealize.ShloMosaic.PureOps.Ideal
public import Idealize.ShloMosaic.Lib.Routing.Ops
public import Idealize.ShloMosaic.Lib.Routing.OpsSearch
public import Idealize.ShloMosaic.Lib.Routing.OpsPair

@[expose] public section

set_option maxRecDepth 16384
noncomputable section

namespace Cert.ReferenceIdeal.Emb

open Cert.ReferenceIdeal Cert.ReferenceIdeal.Gen
open Idealize.ShloMosaic Idealize.ShloMosaic.TcCoe Idealize.ShloMosaic.Routing
open Cert.KernelIdeal.Emb (ofNat_toNat toInt_small sle_small)

variable {F : FTy → Type} [FloatOps F]

/-! # The reference's result, element by element -/

/-- The permutation's column holds the permutation's entry, where the entry is a position. -/
theorem colV_ap (a3 : S2048.Idx → BitVec 32) (p : Fin 2048) (hp : (a3 (ValueIdx.ix1 p)).toNat < 2048) : colV a3 (ValueIdx.ix2 p (0 : Fin 1)) = a3 (ValueIdx.ix1 p) := by
  unfold colV
  rw [bcCol (n := 2048)]
  show Scalar.select (IntOp.cmpi .slt (a3 (ValueIdx.ix1 p)) (broadcastInDim S2048 ![] bcast_S_S2048 (constantI S_ 32 0#32) (ValueIdx.ix1 p))) _ (a3 (ValueIdx.ix1 p)) = _
  rw [bc0]
  exact wrap_of_lt _ _ (by show _ < 2147483648; omega)

/-- An entry of a per-token table taken through the permutation. -/
theorem take_tok {α : Type} (v : S2x1024.Idx → α) (a3 : S2048.Idx → BitVec 32) (p : Fin 2048) (hp : (a3 (ValueIdx.ix1 p)).toNat < 2048) :
    Host.gather gather_S2048_S2048x1_S2048_n_0_n_n_0_1_1 (shapeCast S2048 v shapeCasts_S2x1024_S2048) (colV a3) (ValueIdx.ix1 p)
      = v (ValueIdx.ix2 (⟨(a3 (ValueIdx.ix1 p)).toNat / 1024 % 2, Nat.mod_lt _ (by decide)⟩ : Fin 2) (⟨(a3 (ValueIdx.ix1 p)).toNat % 1024, Nat.mod_lt _ (by decide)⟩ : Fin 1024)) := by
  rw [take_ap (N := 2048) (n := 2048) _ rfl rfl rfl rfl _ _ p hp (by omega) (by rw [colV_ap a3 p hp]; simp)]
  refine shapeCast_apply (s := S2x1024) _ _ _ _ ?_
  rw [Shape.rowMajor_val_one, Shape.rowMajor_val_two]
  show (a3 (ValueIdx.ix1 p)).toNat / 1024 % 2 * 1024 + (a3 (ValueIdx.ix1 p)).toNat % 1024 = (a3 (ValueIdx.ix1 p)).toNat
  omega

/-- A row of the codes taken through the permutation. -/
theorem take_row {α : Type} (v : S2x1024x12288.Idx → α) (a3 : S2048.Idx → BitVec 32) (p : Fin 2048) (x : Fin 12288) (hp : (a3 (ValueIdx.ix1 p)).toNat < 2048) :
    Host.gather gather_S2048x12288_S2048x1_S2048x12288_1_0_n_n_0_1_112288 (shapeCast S2048x12288 v shapeCasts_S2x1024x12288_S2048x12288) (colV a3) (ValueIdx.ix2 p x)
      = v (ValueIdx.ix3 (⟨(a3 (ValueIdx.ix1 p)).toNat / 1024 % 2, Nat.mod_lt _ (by decide)⟩ : Fin 2) (⟨(a3 (ValueIdx.ix1 p)).toNat % 1024, Nat.mod_lt _ (by decide)⟩ : Fin 1024) x) := by
  rw [gather_row (nb := 2048) (B := 12288) (n := 2048) _ rfl rfl rfl rfl rfl _ _ p x ⟨(a3 (ValueIdx.ix1 p)).toNat, hp⟩ (by rw [colV_ap a3 p hp]; simp) (by omega)]
  refine shapeCast_apply (s := S2x1024x12288) _ _ _ _ ?_
  rw [Shape.rowMajor_val_two, Shape.rowMajor_val_three]
  show ((a3 (ValueIdx.ix1 p)).toNat / 1024 % 2 * 1024 + (a3 (ValueIdx.ix1 p)).toNat % 1024) * 12288 + x.val = (a3 (ValueIdx.ix1 p)).toNat * 12288 + x.val
  have : (a3 (ValueIdx.ix1 p)).toNat / 1024 % 2 * 1024 + (a3 (ValueIdx.ix1 p)).toNat % 1024 = (a3 (ValueIdx.ix1 p)).toNat := by omega
  rw [this]

/-- A token's row: its codes by its scale, zero at the padding id. -/
theorem rowsV_ap (v0 : S2x1024x12288.Idx → F .f32) (a1 : S2x1024.Idx → F .f32) (a2 : S2x1024.Idx → BitVec 32) (a3 : S2048.Idx → BitVec 32) (p : Fin 2048) (x : Fin 12288)
    (t : ℕ) (ht : (a3 (ValueIdx.ix1 p)).toNat = t) (hp : t < 2048) :
    rowsV v0 a1 a2 a3 (ValueIdx.ix2 p x)
      = Scalar.select (IntOp.cmpi .eq (a2 (ValueIdx.ix2 (⟨t / 1024 % 2, Nat.mod_lt _ (by decide)⟩ : Fin 2) (⟨t % 1024, Nat.mod_lt _ (by decide)⟩ : Fin 1024))) 0#32)
          (FloatOps.ofBits .f32 0x00000000#32)
          (FloatOps.mulf (v0 (ValueIdx.ix3 (⟨t / 1024 % 2, Nat.mod_lt _ (by decide)⟩ : Fin 2) (⟨t % 1024, Nat.mod_lt _ (by decide)⟩ : Fin 1024) x))
            (a1 (ValueIdx.ix2 (⟨t / 1024 % 2, Nat.mod_lt _ (by decide)⟩ : Fin 2) (⟨t % 1024, Nat.mod_lt _ (by decide)⟩ : Fin 1024)))) := by
  subst ht
  unfold rowsV
  show Scalar.select (broadcastInDim S2048x12288 ![0, 1] bcast_S2048x1_S2048x12288_0_1 (broadcastInDim S2048x1 ![0] bcast_S2048_S2048x1_0 (_ : S2048.Idx → BitVec 1)) (ValueIdx.ix2 p x))
    (broadcastInDim S2048x12288 ![] bcast_S_S2048x12288 (_ : S_.Idx → F .f32) (ValueIdx.ix2 p x))
    (FloatOps.mulf (Host.gather gather_S2048x12288_S2048x1_S2048x12288_1_0_n_n_0_1_112288 _ (colV a3) (ValueIdx.ix2 p x))
      (broadcastInDim S2048x12288 ![0, 1] bcast_S2048x1_S2048x12288_0_1 (broadcastInDim S2048x1 ![0] bcast_S2048_S2048x1_0 (_ : S2048.Idx → F .f32)) (ValueIdx.ix2 p x))) = _
  rw [bcRows (n := 2048) (m := 12288), bcRows (n := 2048) (m := 12288), bc0, take_row _ _ _ _ hp, take_tok _ _ _ hp]
  show Scalar.select (IntOp.cmpi .eq (Host.gather gather_S2048_S2048x1_S2048_n_0_n_n_0_1_1 _ (colV a3) (ValueIdx.ix1 p)) (broadcastInDim S2048 ![] bcast_S_S2048 (_ : S_.Idx → BitVec 32) (ValueIdx.ix1 p))) _ _ = _
  rw [bc0, take_tok _ _ _ hp]
  rfl

/-- The sum down the columns of a widened mask counts, at `p`, the rows whose bit is set there. -/
theorem count_rows {N a : Nat} (hN : N < 2 ^ 32) (msk : IVec (shape2 N a) 1) (hw : 1 < 32) (h : (shape2 N a).ReducesTo [0] (shape1 a))
    (hu : 0 < shape0.numel) (p : Fin a) (Q : Nat → Prop) [DecidablePred Q] (hQ : ∀ j : Fin N, msk (ValueIdx.ix2 j p) = 1#1 ↔ Q j.val) :
    Host.reduce IntOp.addi (extui 32 msk hw) (constantI shape0 32 0#32) h hu (ValueIdx.ix1 p) = BitVec.ofNat 32 (Nat.count Q N) := by
  classical
  have hval : ∀ i, (extui 32 msk hw i).toNat = if msk i = 1#1 then 1 else 0 := fun i => StableHlo.Predicate.toNat_setWidth_bit (msk i)
  have hdrop : ∀ i : (shape2 N a).Idx, h.drop i = ValueIdx.ix1 p ↔ i 1 = p := by
    intro i
    have hv0 : (h.drop i 0 : Nat) = i 1 := Shape.ReducesTo.drop_apply_val h i 0
    constructor
    · intro e
      rw [e] at hv0
      exact Fin.ext hv0.symm
    · rintro e1
      funext c
      match c with
      | ⟨0, _⟩ => exact Fin.ext (hv0.trans (congrArg Fin.val e1))
  have hback : ∀ i : (shape2 N a).Idx, i 1 = p → ValueIdx.ix2 (i 0) p = i := fun i hi => by
    funext c
    match c with
    | ⟨0, _⟩ => rfl
    | ⟨1, _⟩ => exact hi.symm
  have hsum : ∑ i ∈ Finset.univ.filter (fun i : (shape2 N a).Idx => h.drop i = ValueIdx.ix1 p), (extui 32 msk hw i).toNat
      = (Finset.univ.filter (fun j : Fin N => msk (ValueIdx.ix2 j p) = 1#1)).card := by
    rw [Finset.card_filter]
    refine Finset.sum_bij' (fun i _ => i 0) (fun j _ => ValueIdx.ix2 j p) (fun _ _ => Finset.mem_univ _)
      (fun j _ => Finset.mem_filter.2 ⟨Finset.mem_univ _, (hdrop _).2 rfl⟩)
      (fun i hi => hback i ((hdrop i).1 (Finset.mem_filter.1 hi).2)) (fun _ _ => rfl) ?_
    intro i hi
    rw [hval]
    exact (congrArg (fun x => if msk x = 1#1 then 1 else 0) (hback i ((hdrop i).1 (Finset.mem_filter.1 hi).2))).symm
  apply BitVec.eq_of_toNat_eq
  rw [Host.reduce_eq_fold]
  show (Finset.fold IntOp.addi 0#32 (extui 32 msk hw) (Finset.univ.filter fun i : (shape2 N a).Idx => h.drop i = ValueIdx.ix1 p)).toNat = _
  rw [StableHlo.Predicate.toNat_fold_addi _ _ (by rw [hsum]; exact lt_of_le_of_lt (Finset.card_le_univ _) (by simpa using hN)), hsum, BitVec.toNat_ofNat,
    Nat.mod_eq_of_lt (Nat.lt_of_le_of_lt (Nat.count_le _) hN), ← card_filter_fin N Q]
  exact congrArg Finset.card (Finset.filter_congr fun j _ => hQ j)

/-- The number of offsets at most a position. -/
theorem segV_ap (a4 : S2049.Idx → BitVec 32) (so : ℕ → BitVec 32) (hso : ∀ j : Fin 2049, a4 (ValueIdx.ix1 j) = so j.val) (hpos : ∀ i, i ≤ 2048 → (so i).toNat < 2147483648) (p : Fin 2048) :
    segV a4 (ValueIdx.ix1 p) = BitVec.ofNat 32 (Nat.count (fun j => (so j).toNat ≤ p.val) 2049) := by
  unfold segV
  refine count_rows (N := 2049) (a := 2048) (by decide) _ _ _ _ p _ fun j => ?_
  show IntOp.cmpi .sle (broadcastInDim S2049x2048 ![0, 1] bcast_S2049x1_S2049x2048_0_1 (broadcastInDim S2049x1 ![0] bcast_S2049_S2049x1_0 a4) (ValueIdx.ix2 j p))
    (broadcastInDim S2049x2048 ![0, 1] bcast_S1x2048_S2049x2048_0_1 (broadcastInDim S1x2048 ![1] bcast_S2048_S1x2048_1 (iotaInDim S2048 32 0)) (ValueIdx.ix2 j p)) = 1#1 ↔ _
  rw [bcRows (n := 2049) (m := 2048), bcCols (n := 2049) (m := 2048), hso]
  show BitVec.ofBool ((so j.val).sle (BitVec.ofNat 32 p.val)) = 1#1 ↔ _
  have hp := p.isLt
  have hj := j.isLt
  rw [sle_small _ _ (hpos _ (by omega)) (by rw [ofNat_toNat (by omega)]; omega), ofNat_toNat (by omega)]
  by_cases hq : (so j.val).toNat ≤ p.val
  · simp [hq]
  · simp [hq]

end Cert.ReferenceIdeal.Emb
-- ==== Proof.ReferenceIdeal.Lands.lean ====
module

public import proofs.«01_k».proof.Proof.ReferenceIdeal.Sums
public import proofs.«01_k».proof.Proof.KernelIdeal.Words
public import Idealize.ShloMosaic.PureOps.Ideal
public import Idealize.ShloMosaic.Lib.Routing.Ops
public import Idealize.ShloMosaic.Lib.Routing.OpsSearch
public import Idealize.ShloMosaic.Lib.Routing.OpsPair

@[expose] public section

set_option maxRecDepth 16384
noncomputable section

namespace Cert.ReferenceIdeal.Emb

open Cert.ReferenceIdeal Cert.ReferenceIdeal.Gen
open Idealize.ShloMosaic Idealize.ShloMosaic.TcCoe Idealize.ShloMosaic.Routing
open Cert.KernelIdeal.Emb (ofNat_toNat toInt_small sle_small)

/-- Where an update of the segment sums lands. -/
theorem lands (idx : IVec S2048x1 32) (p : Fin 2048) (y : Fin 12288) (r : Fin 2048) (x : Fin 12288) :
    scatter_S2048x12288_S2048x1_S2048x12288_1_0_0_1.resultIdx? (ValueIdx.ix2 p y) idx = some (ValueIdx.ix2 r x) ↔ (idx (ValueIdx.ix2 p (0 : Fin 1))).toInt = (r.val : Int) ∧ y = x := by
  have w0 : scatter_S2048x12288_S2048x1_S2048x12288_1_0_0_1.window (ValueIdx.ix2 p y) 0 = 0 := rfl
  have w1 : scatter_S2048x12288_S2048x1_S2048x12288_1_0_0_1.window (ValueIdx.ix2 p y) 1 = y.val := rfl
  have s1 : scatter_S2048x12288_S2048x1_S2048x12288_1_0_0_1.start (ValueIdx.ix2 p y) idx 1 = 0 := rfl
  have s0 : scatter_S2048x12288_S2048x1_S2048x12288_1_0_0_1.start (ValueIdx.ix2 p y) idx 0 = (idx (ValueIdx.ix2 p (0 : Fin 1))).toInt := by
    show (idx _).toInt = _
    refine congrArg (fun q => (idx q).toInt) ?_
    funext a
    match a with
    | ⟨0, _⟩ => rfl
    | ⟨1, _⟩ => exact Subsingleton.elim (α := Fin 1) _ _
  rw [resultIdx?_ix2 (R := 2048) (C := 12288), w0, w1, s0, s1, Fin.ext_iff]
  omega

/-- The same at an update index not written as its coordinates. -/
theorem lands' (idx : IVec S2048x1 32) (j : S2048x12288.Idx) (r : Fin 2048) (x : Fin 12288) :
    scatter_S2048x12288_S2048x1_S2048x12288_1_0_0_1.resultIdx? j idx = some (ValueIdx.ix2 r x)
      ↔ (idx (ValueIdx.ix2 (j 0 : Fin 2048) (0 : Fin 1))).toInt = (r.val : Int) ∧ (j 1 : Fin 12288) = x :=
  (iff_of_eq (congrArg (fun t : S2048x12288.Idx => scatter_S2048x12288_S2048x1_S2048x12288_1_0_0_1.resultIdx? t idx = some (ValueIdx.ix2 r x))
    (ValueIdx.eq_ix2 (n0 := 2048) (n1 := 12288) j))).trans (lands idx (j 0) (j 1) r x)

/-- A scatter that adds: the operand's element and the sum of the updates that land on it. -/
theorem scat_sum {s si su : Shape} (d : ScatterDims s si su) (x : FVec Ideal s .f32) (idx : IVec si 32) (upd : FVec Ideal su .f32) (i : s.Idx) :
    Host.scatterAdd d x idx upd i = (x i + ∑ j ∈ Finset.univ.filter (fun j => d.resultIdx? j idx = some i), upd j : EReal) := rfl

/-- A segment's sum: the sum of the rows of the positions that count one offset more than the segment's number. -/
theorem gradV_ap (v0 : S2x1024x12288.Idx → Ideal .f32) (a1 : S2x1024.Idx → Ideal .f32) (a2 : S2x1024.Idx → BitVec 32) (a3 : S2048.Idx → BitVec 32) (a4 : S2049.Idx → BitVec 32)
    (so : ℕ → BitVec 32) (hso : ∀ j : Fin 2049, a4 (ValueIdx.ix1 j) = so j.val) (hpos : ∀ i, i ≤ 2048 → (so i).toNat < 2147483648) (r : Fin 2048) (x : Fin 12288) :
    gradV v0 a1 a2 a3 a4 (ValueIdx.ix2 r x)
      = (∑ p ∈ Finset.univ.filter (fun p : Fin 2048 => Nat.count (fun j => (so j).toNat ≤ p.val) 2049 = r.val + 1), rowsV v0 a1 a2 a3 (ValueIdx.ix2 p x) : EReal) := by
  unfold gradV
  generalize hR : rowsV v0 a1 a2 a3 = R
  rw [scat_sum, bc0]
  have e0 : (constant (F := Ideal) S_ .f32 0x00000000#32 ValueIdx.ix0 : EReal) = 0 := by
    show Ideal.ofBits .f32 0x00000000#32 = 0
    simp [Ideal.ofBits, Ideal.ieee]
  rw [e0, zero_add]
  have hi : ∀ p : Fin 2048, (broadcastInDim S2048x1 ![0] bcast_S2048_S2048x1_0 (subi (show IVec S2048 32 from segV a4) (broadcastInDim S2048 ![] bcast_S_S2048 (constantI S_ 32 1#32))) (ValueIdx.ix2 p (0 : Fin 1))).toInt
      = (Nat.count (fun j => (so j).toNat ≤ p.val) 2049 : Int) - 1 := by
    intro p
    rw [bcCol (n := 2048)]
    show (segV a4 (ValueIdx.ix1 p) - broadcastInDim S2048 ![] bcast_S_S2048 (constantI S_ 32 1#32) (ValueIdx.ix1 p)).toInt = _
    rw [bc0, segV_ap a4 so hso hpos]
    have hc : Nat.count (fun j => (so j).toNat ≤ p.val) 2049 ≤ 2049 := Nat.count_le _
    generalize Nat.count (fun j => (so j).toNat ≤ p.val) 2049 = n at hc
    show (BitVec.ofNat 32 n - 1#32).toInt = _
    rw [BitVec.toInt_eq_toNat_cond, BitVec.toNat_sub, BitVec.toNat_ofNat]
    simp only [BitVec.toNat_ofNat]
    split <;> omega
  refine Finset.sum_bij' (fun j _ => (j 0 : Fin 2048)) (fun p _ => ValueIdx.ix2 p x) ?_ ?_ ?_ ?_ ?_
  · intro j hj
    have h1 := (Finset.mem_filter.1 hj).2
    rw [lands'] at h1
    have h2 := (hi (j 0)).symm.trans h1.1
    exact Finset.mem_filter.2 ⟨Finset.mem_univ _, by omega⟩
  · intro p hp
    have h1 := (Finset.mem_filter.1 hp).2
    refine Finset.mem_filter.2 ⟨Finset.mem_univ _, (lands _ p x r x).2 ⟨?_, rfl⟩⟩
    rw [hi]; omega
  · intro j hj
    have h1 := (Finset.mem_filter.1 hj).2
    rw [lands'] at h1
    exact (congrArg (fun t : Fin 12288 => ValueIdx.ix2 (j 0 : Fin 2048) t) h1.2.symm).trans (ValueIdx.eq_ix2 (n0 := 2048) (n1 := 12288) j).symm
  · intro p _; rfl
  · intro j hj
    have h1 := (Finset.mem_filter.1 hj).2
    rw [lands'] at h1
    exact congrArg R ((ValueIdx.eq_ix2 (n0 := 2048) (n1 := 12288) j).trans (congrArg (fun t : Fin 12288 => ValueIdx.ix2 (j 0 : Fin 2048) t) h1.2))

end Cert.ReferenceIdeal.Emb
-- ==== Proof.Algebraic.lean ====
module

public import proofs.«01_k».proof.Proof.PreFacts
public import proofs.«01_k».proof.Proof.KernelIdeal.Sum
public import proofs.«01_k».proof.Proof.ReferenceIdeal.Lands
public import proofs.«01_k».proof.Proof.Gen.ReferenceIdeal

@[expose] public section

set_option maxRecDepth 16384
noncomputable section

/-! # Over the extended reals the kernel's result is the reference's

Both are, at row `r` and column `q`, the sum over the positions of segment `r` of code by scale. The reference
drops the padding id by a select on the product; the kernel clears the scale, and a product with zero is zero. -/

namespace Cert.KernelIdeal.Emb

open Cert.KernelIdeal Cert.KernelIdeal.Gen
open Idealize.ShloMosaic Idealize.ShloMosaic.TcCoe Idealize.SL.Sem
open Cert.ReferenceIdeal.Emb (wideV rowsV rowsV_ap gradV gradV_ap take_tok colV)

variable [hP : Cert.Pre_sorted_by_token.Facts]
variable (m : (ℓ : Loc nD τ sig) → Buf (Elt Ideal) ℓ) (nu : Dev nD → ℕ) (c : Dev nD)

/-- The two ways of counting offsets. -/
theorem cnt_count (so : ℕ → BitVec 32) (p n : ℕ) : cntN so p n = Nat.count (fun j => (so j).toNat ≤ p) n := by
  induction n with
  | zero => rfl
  | succ n ih => rw [Nat.count_succ, ← ih]; rfl

/-- The offsets past the last token's count nothing. -/
theorem cnt_all {so : ℕ → BitVec 32} {nu npad : ℕ} (h : SegH so nu npad) (p : ℕ) (hp : p < 2048) :
    Nat.count (fun j => (so j).toNat ≤ p) 2049 = cntN so p nu := by
  have hn := h.nuH.le
  have h1 := h.nuH.ge 2048 hn (le_refl _)
  have h2 := cnt_hi h p (2048 - nu) hp (by omega)
  rw [show nu + (2048 - nu) = 2048 by omega] at h2
  rw [← cnt_count, ← h2]
  show cntN so p 2048 + (if (so 2048).toNat ≤ p then 1 else 0) = _
  rw [if_neg (by omega), Nat.add_zero]

/-- A select by zero within a product. -/
theorem mul_sel (b : BitVec 1) (x y : EReal) : x * Scalar.select b (0 : EReal) y = Scalar.select b (0 : EReal) (x * y) := by
  unfold Scalar.select
  split
  · exact mul_zero x
  · rfl

/-- The zero word reads as zero. -/
theorem zero_bits : (FloatOps.ofBits (F := Ideal) .f32 0x00000000#32 : EReal) = 0 := by
  show Ideal.ofBits .f32 0x00000000#32 = 0
  simp [Ideal.ofBits, Ideal.ieee]

/-- The token at a position. -/
theorem tk_eq (p : Fin 2048) : tkW (pmM c m) p.val = ((m ((c : Thread nD τ).loc main_arg3) : S2048.Idx → BitVec 32) (ValueIdx.ix1 p)).toNat := by
  have hp := p.isLt
  unfold tkW
  rw [if_pos hp, pmM_eq c m (posIx p.val) p.val hp (by
    show p.val = p.val / 128 % 16 * 128 + p.val % 128
    omega)]

/-- What the kernel adds for a token, at a column: the product, zero at the padding id. -/
theorem dq_term (t k v l : ℕ) (q : Fin 12288) (hq : k * 3072 + (128 * v + l) = q.val) :
    (dqX (cdM c m) (scW (clrW (idsM c m) (sclM c m))) k t v l : EReal)
      = Scalar.select (IntOp.cmpi .eq ((m ((c : Thread nD τ).loc main_arg2) : S2x1024.Idx → BitVec 32) (ValueIdx.ix2 (⟨t / 1024 % 2, Nat.mod_lt _ (by decide)⟩ : Fin 2) (⟨t % 1024, Nat.mod_lt _ (by decide)⟩ : Fin 1024))) 0#32) (0 : EReal)
          (((wideV (F := Ideal) (m ((c : Thread nD τ).loc main_arg0))) (ValueIdx.ix3 (⟨t / 1024 % 2, Nat.mod_lt _ (by decide)⟩ : Fin 2) (⟨t % 1024, Nat.mod_lt _ (by decide)⟩ : Fin 1024) q) : EReal)
            * ((m ((c : Thread nD τ).loc main_arg1) : S2x1024.Idx → EReal) (ValueIdx.ix2 (⟨t / 1024 % 2, Nat.mod_lt _ (by decide)⟩ : Fin 2) (⟨t % 1024, Nat.mod_lt _ (by decide)⟩ : Fin 1024)))) := by
  have hq' : (⟨(k * 3072 + (128 * v + l)) % 12288, Nat.mod_lt _ (by decide)⟩ : Fin 12288) = q := by
    apply Fin.ext
    show (k * 3072 + (128 * v + l)) % 12288 = q.val
    have := q.isLt
    omega
  rw [← mul_sel, ← hq', ← zero_bits]
  rfl

/-- A column of a row, in the kernel's tiles. -/
theorem row_term (p : Fin 2048) (q : Fin 12288) (hp : ((m ((c : Thread nD τ).loc main_arg3) : S2048.Idx → BitVec 32) (ValueIdx.ix1 p)).toNat < 2048) :
    (dqX (cdM c m) (scW (clrW (idsM c m) (sclM c m))) (q.val / 128 / 24) (tkW (pmM c m) p.val) (q.val / 128 % 24) (q.val % 128) : EReal)
      = rowsV (F := Ideal) (wideV (m ((c : Thread nD τ).loc main_arg0))) (m ((c : Thread nD τ).loc main_arg1)) (m ((c : Thread nD τ).loc main_arg2)) (m ((c : Thread nD τ).loc main_arg3)) (ValueIdx.ix2 p q) := by
  have ht := tk_eq m c p
  rw [rowsV_ap _ _ _ _ p q (tkW (pmM c m) p.val) ht.symm (by rw [ht]; exact hp), dq_term m c _ _ _ _ q (by omega), ← zero_bits]
  rfl

variable (h : ∀ c : Dev nD, PreH (m ((c : Thread nD τ).loc main_arg2) : S2x1024.Idx → BitVec 32) (m ((c : Thread nD τ).loc main_arg3) : S2048.Idx → BitVec 32)
    (soW (m ((c : Thread nD τ).loc main_arg4) : S2049.Idx → BitVec 32)) (nu c))
include h

/-- The kernel adds zero at the positions before the last pad. -/
theorem pad_zero (q : ℕ) (hq : q < (padP (idsM c m)).toNat - 1) (k v l : ℕ) :
    (dqX (cdM c m) (scW (clrW (idsM c m) (sclM c m))) k (tkW (pmM c m) q) v l : EReal) = 0 := by
  have hle := (h c).seg.padLe
  have hq1 : q < (padP (m ((c : Thread nD τ).loc main_arg2) : S2x1024.Idx → BitVec 32)).toNat - 1 := hq
  have hq2 : q < 2048 := by omega
  have ht := tk_eq m c ⟨q, hq2⟩
  have hp := (h c).perm (ValueIdx.ix1 (⟨q, hq2⟩ : Fin 2048))
  have h0 := (h c).pads (ValueIdx.ix1 (⟨q, hq2⟩ : Fin 2048)) hq1
  have h1 := (take_tok (m ((c : Thread nD τ).loc main_arg2) : S2x1024.Idx → BitVec 32) (m ((c : Thread nD τ).loc main_arg3) : S2048.Idx → BitVec 32) ⟨q, hq2⟩ hp).symm.trans h0
  simp only [← ht] at h1
  change (FloatOps.mulf (F := Ideal) _ (Scalar.select (IntOp.cmpi .eq ((m ((c : Thread nD τ).loc main_arg2) : S2x1024.Idx → BitVec 32) (ValueIdx.ix2 (⟨tkW (pmM c m) q / 1024 % 2, Nat.mod_lt _ (by decide)⟩ : Fin 2) (⟨tkW (pmM c m) q % 1024, Nat.mod_lt _ (by decide)⟩ : Fin 1024))) 0#32)
    (FloatOps.ofBits (F := Ideal) .f32 0x00000000#32) _) : EReal) = 0
  rw [h1]
  change (_ * (FloatOps.ofBits (F := Ideal) .f32 0x00000000#32 : EReal) : EReal) = 0
  rw [zero_bits, mul_zero]

/-- The kernel's result is the reference's. -/
theorem out_eq : outM m nu c = gradV (F := Ideal) (wideV (m ((c : Thread nD τ).loc main_arg0))) (m ((c : Thread nD τ).loc main_arg1)) (m ((c : Thread nD τ).loc main_arg2)) (m ((c : Thread nD τ).loc main_arg3)) (m ((c : Thread nD τ).loc main_arg4)) := by
  have key : ∀ (r : Fin 2048) (q : Fin 12288), outM m nu c (ValueIdx.ix2 r q)
      = gradV (F := Ideal) (wideV (m ((c : Thread nD τ).loc main_arg0))) (m ((c : Thread nD τ).loc main_arg1)) (m ((c : Thread nD τ).loc main_arg2)) (m ((c : Thread nD τ).loc main_arg3)) (m ((c : Thread nD τ).loc main_arg4)) (ValueIdx.ix2 r q) := by
    intro r q
    have hL := lh_of m nu h
    rw [gradV_ap _ _ _ _ _ (soW (m ((c : Thread nD τ).loc main_arg4) : S2049.Idx → BitVec 32)) (fun j => soW_idx _ (ValueIdx.ix1 j)) (h c).seg.nuH.pos r q]
    show OM c m nu r.val (q.val / 128) (q.val % 128) = _
    unfold OM
    rw [OW_sum (hL.seg c) (hL.pm c) (tkW (pmM c m)) (fun k => dqX (cdM c m) (scW (clrW (idsM c m) (sclM c m))) k) (fun q hq k v l => pad_zero m nu c h q hq k v l)]
    refine Finset.sum_congr ?_ fun p _ => row_term m c p q ((h c).perm _)
    refine Finset.filter_congr fun p _ => ?_
    rw [cnt_all (h c).seg p.val p.isLt]
    rfl
  funext x
  exact (congrArg (outM m nu c) (ValueIdx.eq_ix2 (n0 := 2048) (n1 := 12288) x)).trans ((key (x 0) (x 1)).trans (congrArg (gradV (F := Ideal) _ _ _ _ _) (ValueIdx.eq_ix2 (n0 := 2048) (n1 := 12288) x).symm))

end Cert.KernelIdeal.Emb

namespace Cert.Proof

open Idealize.ShloMosaic Idealize.SL.Sem

variable [hP : Cert.Pre_sorted_by_token.Facts]

/-- Both programs run, with equal results and unchanged arguments. -/
theorem algebraic : Cert.algebraic_KernelIdeal_ReferenceIdeal (hKernelIdeal := Cert.KernelIdeal.Gen.facts) (hReferenceIdeal := Cert.ReferenceIdeal.Gen.facts) := by
  intro m g m' g' hpre hm
  obtain ⟨nu, hn⟩ := Cert.KernelIdeal.Emb.preH_of m hpre
  refine ⟨fun c => Cert.KernelIdeal.Emb.outM m nu c, ?_, ?_⟩
  · exact (θ_run _ _ _).mono (fun _ q c => ⟨(q.1 c).2, (q.1 c).1⟩) (Cert.KernelIdeal.Emb.run_main m g nu (Cert.KernelIdeal.Emb.lh_of m nu hn))
  · refine (θ_run _ _ _).mono (fun _ q c => ⟨(q c).1.trans ?_, (q c).2⟩) (Cert.ReferenceIdeal.Emb.run_v38 m' g')
    obtain ⟨e0, e1, e2, e3, e4⟩ := hm c
    refine Eq.trans ?_ (Cert.KernelIdeal.Emb.out_eq m nu c hn).symm
    rw [e0, e1, e2, e3, e4]

end Cert.Proof
end
-- ==== Proof.lean ====
module

public import proofs.«01_k».proof.Proof.PreFacts
public import proofs.«01_k».proof.Proof.KernelFrame
public import proofs.«01_k».proof.Proof.Algebraic
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Defs

@[expose] public section

set_option maxRecDepth 16384

/-! # The certificate

The three frames, that the idealized kernel is the kernel's own text, and that over the extended reals the
idealized kernel's result is the reference's. -/

namespace Cert.Proof

open Idealize.ShloMosaic Idealize.SL.Sem

theorem claim : Cert.Claim :=
  ⟨Cert.Kernel.Gen.facts, Cert.KernelIdeal.Gen.facts, Cert.ReferenceIdeal.Gen.facts, Cert.Pre_sorted_by_token.facts,
    fun m g h => Cert.Kernel.Emb.frame (hP := Cert.Pre_sorted_by_token.facts) m g h,
    fun m g h => Cert.KernelIdeal.Emb.frame (hP := Cert.Pre_sorted_by_token.facts) m g h,
    fun m g _ => Cert.ReferenceIdeal.Gen.frame m g,
    fun m g _ => Cert.ReferenceIdeal.Gen.frame m g,
    trivial,
    Cert.Proof.algebraic (hP := Cert.Pre_sorted_by_token.facts)⟩

end Cert.Proof

end
